-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_KernelIdeal_csr [hPre_csr : Cert.Pre_csr.Facts] (m : (ℓ : Loc Cert.KernelIdeal.nD Cert.KernelIdeal.τ Cert.KernelIdeal.sig) → Buf (Elt Ideal) ℓ) : Prop :=
  ∀ c : Dev Cert.KernelIdeal.nD,
    (Cert.Pre_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_csr [hPre_csr : Cert.Pre_csr.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_csr [hKernelIdeal : Cert.KernelIdeal.Facts] [hPre_csr : Cert.Pre_csr.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_csr m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_csr [hReferenceIdeal : Cert.ReferenceIdeal.Facts] [hPre_csr : Cert.Pre_csr.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_csr m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_csr [hKernelIdeal : Cert.KernelIdeal.Facts] [hReferenceIdeal : Cert.ReferenceIdeal.Facts] [hPre_csr : Cert.Pre_csr.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_csr m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_csr : Cert.Pre_csr.Facts),
    quiescent_Kernel (hKernel := hKernel) (hPre_in_range := hPre_in_range)
    ∧ quiescent_KernelIdeal (hKernelIdeal := hKernelIdeal) (hPre_in_range := hPre_in_range)
    ∧ quiescent_KernelIdeal_pre_csr (hKernelIdeal := hKernelIdeal) (hPre_csr := hPre_csr)
    ∧ quiescent_ReferenceIdeal (hReferenceIdeal := hReferenceIdeal)
    ∧ quiescent_ReferenceIdeal_pre_csr (hReferenceIdeal := hReferenceIdeal) (hPre_csr := hPre_csr)
    ∧ preserves_Kernel_KernelIdeal
    ∧ algebraic_KernelIdeal_ReferenceIdeal_pre_csr (hKernelIdeal := hKernelIdeal) (hReferenceIdeal := hReferenceIdeal) (hPre_csr := hPre_csr)
-- ==== Pre_csr.lean ====
abbrev S2x4096x2048 : Shape := ⟨3, ![2, 4096, 2048]⟩
abbrev S1024x5632 : Shape := ⟨2, ![1024, 5632]⟩
abbrev S5632x16 : Shape := ⟨2, ![5632, 16]⟩
abbrev S5633 : Shape := ⟨1, ![5633]⟩
abbrev S51904 : Shape := ⟨1, ![51904]⟩
abbrev S51903 : Shape := ⟨1, ![51903]⟩
abbrev S5632 : Shape := ⟨1, ![5632]⟩
abbrev S5632x1 : Shape := ⟨2, ![5632, 1]⟩
abbrev S1x51903 : Shape := ⟨2, ![1, 51903]⟩
abbrev S5632x51903 : Shape := ⟨2, ![5632, 51903]⟩
abbrev S_ : Shape := ⟨0, ![]⟩

class Facts : Prop where
  slices_S5633_S5632_0 : S5633.Slices ![0] S5632
  bcast_S5632_S5632x1_0 : S5632.BroadcastsInDim S5632x1 (![0] : Fin 1 → Fin S5632x1.rank)
  bcast_S51903_S1x51903_1 : S51903.BroadcastsInDim S1x51903 (![1] : Fin 1 → Fin S1x51903.rank)
  bcast_S5632x1_S5632x51903_0_1 : S5632x1.BroadcastsInDim S5632x51903 (![0, 1] : Fin 2 → Fin S5632x51903.rank)
  bcast_S1x51903_S5632x51903_0_1 : S1x51903.BroadcastsInDim S5632x51903 (![0, 1] : Fin 2 → Fin S5632x51903.rank)
  bcast_S_S51903 : S_.BroadcastsInDim S51903 (![] : Fin 0 → Fin S51903.rank)
  slices_S5633_S5632_1 : S5633.Slices ![1] S5632
  bcast_S_S5633 : S_.BroadcastsInDim S5633 (![] : Fin 0 → Fin S5633.rank)
  bcast_S_S51904 : S_.BroadcastsInDim S51904 (![] : Fin 0 → Fin S51904.rank)
  slices_S51904_S51903_0 : S51904.Slices ![0] S51903
  slices_S51904_S51903_1 : S51904.Slices ![1] S51903

variable [Facts]

def fn_part1 {F : FTy → Type} [FloatOps F] (main_arg4 : IVec S51904 32) (main_v15 : IVec S5632x51903 1) (main_v20 : IVec S5633 1) : IVec S5633 1 × IVec S51904 1 × IVec S5632x51903 1 :=
  let main_c_2 : IVec S_ 32 := constantI S_ 32 0#32
  let main_v21 : IVec S51904 32 := broadcastInDim S51904 ![] bcast_S_S51904 main_c_2
  let main_v22 : IVec S51904 1 := cmpi .sge main_arg4 main_v21
  let main_c_3 : IVec S_ 32 := constantI S_ 32 2048#32
  let main_v23 : IVec S51904 32 := broadcastInDim S51904 ![] bcast_S_S51904 main_c_3
  let main_v24 : IVec S51904 1 := cmpi .slt main_arg4 main_v23
  let main_v25 : IVec S51904 1 := andi main_v22 main_v24
  let main_v26 : IVec S5632x51903 1 := noti main_v15
  let main_v27 : IVec S51903 32 := (extractStridedSlice S51903 ![0] · slices_S51904_S51903_0) main_arg4
  let main_v28 : IVec S51903 32 := (extractStridedSlice S51903 ![1] · slices_S51904_S51903_1) main_arg4
  let main_v29 : IVec S51903 1 := cmpi .slt main_v27 main_v28
  let main_v30 : IVec S1x51903 1 := broadcastInDim S1x51903 ![1] bcast_S51903_S1x51903_1 main_v29
  let main_v31 : IVec S5632x51903 1 := broadcastInDim S5632x51903 ![0, 1] bcast_S1x51903_S5632x51903_0_1 main_v30
  let main_v32 : IVec S5632x51903 1 := ori main_v26 main_v31
  (main_v20, main_v25, main_v32)

def fn {F : FTy → Type} [FloatOps F] (main_arg0 : FVec F S2x4096x2048 .bf16) (main_arg1 : IVec S1024x5632 8) (main_arg2 : IVec S5632x16 16) (main_arg3 : IVec S5633 32) (main_arg4 : IVec S51904 32) (main_arg5 : IVec S51904 16) : IVec S5633 1 × IVec S51904 1 × IVec S5632x51903 1 :=
  let main_v0 : IVec S51903 32 := iotaInDim S51903 32 0
  let main_v1 : IVec S5632 32 := (extractStridedSlice S5632 ![0] · slices_S5633_S5632_0) main_arg3
  let main_v2 : IVec S5632x1 32 := broadcastInDim S5632x1 ![0] bcast_S5632_S5632x1_0 main_v1
  let main_v3 : IVec S1x51903 32 := broadcastInDim S1x51903 ![1] bcast_S51903_S1x51903_1 main_v0
  let main_v4 : IVec S5632x51903 32 := broadcastInDim S5632x51903 ![0, 1] bcast_S5632x1_S5632x51903_0_1 main_v2
  let main_v5 : IVec S5632x51903 32 := broadcastInDim S5632x51903 ![0, 1] bcast_S1x51903_S5632x51903_0_1 main_v3
  let main_v6 : IVec S5632x51903 1 := cmpi .sle main_v4 main_v5
  let main_c : IVec S_ 32 := constantI S_ 32 1#32
  let main_v7 : IVec S51903 32 := broadcastInDim S51903 ![] bcast_S_S51903 main_c
  let main_v8 : IVec S51903 32 := addi main_v0 main_v7
  let main_v9 : IVec S5632 32 := (extractStridedSlice S5632 ![1] · slices_S5633_S5632_1) main_arg3
  let main_v10 : IVec S5632x1 32 := broadcastInDim S5632x1 ![0] bcast_S5632_S5632x1_0 main_v9
  let main_v11 : IVec S1x51903 32 := broadcastInDim S1x51903 ![1] bcast_S51903_S1x51903_1 main_v8
  let main_v12 : IVec S5632x51903 32 := broadcastInDim S5632x51903 ![0, 1] bcast_S1x51903_S5632x51903_0_1 main_v11
  let main_v13 : IVec S5632x51903 32 := broadcastInDim S5632x51903 ![0, 1] bcast_S5632x1_S5632x51903_0_1 main_v10
  let main_v14 : IVec S5632x51903 1 := cmpi .slt main_v12 main_v13
  let main_v15 : IVec S5632x51903 1 := andi main_v6 main_v14
  let main_c_0 : IVec S_ 32 := constantI S_ 32 0#32
  let main_v16 : IVec S5633 32 := broadcastInDim S5633 ![] bcast_S_S5633 main_c_0
  let main_v17 : IVec S5633 1 := cmpi .sge main_arg3 main_v16
  let main_c_1 : IVec S_ 32 := constantI S_ 32 51904#32
  let main_v18 : IVec S5633 32 := broadcastInDim S5633 ![] bcast_S_S5633 main_c_1
  let main_v19 : IVec S5633 1 := cmpi .sle main_arg3 main_v18
  let main_v20 : IVec S5633 1 := andi main_v17 main_v19
  fn_part1 (F := F) main_arg4 main_v15 main_v20
-- ==== Pre_in_range.lean ====
abbrev S2x4096x2048 : Shape := ⟨3, ![2, 4096, 2048]⟩
abbrev S1024x5632 : Shape := ⟨2, ![1024, 5632]⟩
abbrev S5632x16 : Shape := ⟨2, ![5632, 16]⟩
abbrev S5633 : Shape := ⟨1, ![5633]⟩
abbrev S51904 : Shape := ⟨1, ![51904]⟩
abbrev S_ : Shape := ⟨0, ![]⟩

class Facts : Prop where
  bcast_S_S5633 : S_.BroadcastsInDim S5633 (![] : Fin 0 → Fin S5633.rank)
  bcast_S_S51904 : S_.BroadcastsInDim S51904 (![] : Fin 0 → Fin S51904.rank)

variable [Facts]

def fn {F : FTy → Type} [FloatOps F] (main_arg0 : FVec F S2x4096x2048 .bf16) (main_arg1 : IVec S1024x5632 8) (main_arg2 : IVec S5632x16 16) (main_arg3 : IVec S5633 32) (main_arg4 : IVec S51904 32) (main_arg5 : IVec S51904 16) : IVec S5633 1 × IVec S51904 1 :=
  let main_c : IVec S_ 32 := constantI S_ 32 0#32
  let main_v0 : IVec S5633 32 := broadcastInDim S5633 ![] bcast_S_S5633 main_c
  let main_v1 : IVec S5633 1 := cmpi .sge main_arg3 main_v0
  let main_c_0 : IVec S_ 32 := constantI S_ 32 51904#32
  let main_v2 : IVec S5633 32 := broadcastInDim S5633 ![] bcast_S_S5633 main_c_0
  let main_v3 : IVec S5633 1 := cmpi .sle main_arg3 main_v2
  let main_v4 : IVec S5633 1 := andi main_v1 main_v3
  let main_c_1 : IVec S_ 32 := constantI S_ 32 0#32
  let main_v5 : IVec S51904 32 := broadcastInDim S51904 ![] bcast_S_S51904 main_c_1
  let main_v6 : IVec S51904 1 := cmpi .sge main_arg4 main_v5
  let main_c_2 : IVec S_ 32 := constantI S_ 32 2048#32
  let main_v7 : IVec S51904 32 := broadcastInDim S51904 ![] bcast_S_S51904 main_c_2
  let main_v8 : IVec S51904 1 := cmpi .slt main_arg4 main_v7
  let main_v9 : IVec S51904 1 := andi main_v6 main_v8
  (main_v4, main_v9)
-- ==== Kernel.lean ====
abbrev S2x4096x2048 : Shape := ⟨3, ![2, 4096, 2048]⟩
abbrev S1024x5632 : Shape := ⟨2, ![1024, 5632]⟩
abbrev S5632x16 : Shape := ⟨2, ![5632, 16]⟩
abbrev S5633 : Shape := ⟨1, ![5633]⟩
abbrev S51904 : Shape := ⟨1, ![51904]⟩
abbrev S5632x8x2 : Shape := ⟨3, ![5632, 8, 2]⟩
abbrev S5632x8 : Shape := ⟨2, ![5632, 8]⟩
abbrev S8x5632 : Shape := ⟨2, ![8, 5632]⟩
abbrev S_ : Shape := ⟨0, ![]⟩
abbrev S51920 : Shape := ⟨1, ![51920]⟩
abbrev S8192x2048 : Shape := ⟨2, ![8192, 2048]⟩
abbrev S8192x5632 : Shape := ⟨2, ![8192, 5632]⟩
abbrev S1024x512 : Shape := ⟨2, ![1024, 512]⟩
abbrev S64x512 : Shape := ⟨2, ![64, 512]⟩
abbrev S8x512 : Shape := ⟨2, ![8, 512]⟩
abbrev S512x2048 : Shape := ⟨2, ![512, 2048]⟩
abbrev S512x512 : Shape := ⟨2, ![512, 512]⟩
abbrev S8224x128 : Shape := ⟨2, ![8224, 128]⟩
abbrev S1x128 : Shape := ⟨2, ![1, 128]⟩
abbrev S8x128 : Shape := ⟨2, ![8, 128]⟩
abbrev S8x128x1 : Shape := ⟨3, ![8, 128, 1]⟩
abbrev S64x128 : Shape := ⟨2, ![64, 128]⟩
abbrev S1 : Shape := ⟨1, ![1]⟩
abbrev S1024x128 : Shape := ⟨2, ![1024, 128]⟩
abbrev S2048x512 : Shape := ⟨2, ![2048, 512]⟩
abbrev S2x4096x5632 : Shape := ⟨3, ![2, 4096, 5632]⟩

abbrev nBuf : Space → Nat
  | .hbm => 34
  | .vmem => 16
  | .smem => 2
  | _ => 0

abbrev bufTy : (tb : Table) → Fin (tcTables nBuf tb) → BufTy
  | .hbm, ⟨0, _⟩ => ⟨S2x4096x2048, .bf16⟩
  | .hbm, ⟨1, _⟩ => ⟨S1024x5632, .i8⟩
  | .hbm, ⟨2, _⟩ => ⟨S5632x16, .i16⟩
  | .hbm, ⟨3, _⟩ => ⟨S5633, .i32⟩
  | .hbm, ⟨4, _⟩ => ⟨S51904, .i32⟩
  | .hbm, ⟨5, _⟩ => ⟨S51904, .i16⟩
  | .hbm, ⟨6, _⟩ => ⟨S5632x8x2, .i16⟩
  | .hbm, ⟨7, _⟩ => ⟨S5632x8, .i32⟩
  | .hbm, ⟨8, _⟩ => ⟨S8x5632, .i32⟩
  | .hbm, ⟨9, _⟩ => ⟨S51904, .i32⟩
  | .hbm, ⟨10, _⟩ => ⟨S_, .i32⟩
  | .hbm, ⟨11, _⟩ => ⟨S51904, .i32⟩
  | .hbm, ⟨12, _⟩ => ⟨S51904, .i32⟩
  | .hbm, ⟨13, _⟩ => ⟨S_, .i32⟩
  | .hbm, ⟨14, _⟩ => ⟨S51904, .i32⟩
  | .hbm, ⟨15, _⟩ => ⟨S51904, .i32⟩
  | .hbm, ⟨16, _⟩ => ⟨S_, .i32⟩
  | .hbm, ⟨17, _⟩ => ⟨S51904, .i32⟩
  | .hbm, ⟨18, _⟩ => ⟨S51904, .i32⟩
  | .hbm, ⟨19, _⟩ => ⟨S_, .i32⟩
  | .hbm, ⟨20, _⟩ => ⟨S51904, .i32⟩
  | .hbm, ⟨21, _⟩ => ⟨S51904, .i32⟩
  | .hbm, ⟨22, _⟩ => ⟨S51904, .i32⟩
  | .hbm, ⟨23, _⟩ => ⟨S51904, .i32⟩
  | .hbm, ⟨24, _⟩ => ⟨S51904, .i32⟩
  | .hbm, ⟨25, _⟩ => ⟨S51904, .i32⟩
  | .hbm, ⟨26, _⟩ => ⟨S_, .i32⟩
  | .hbm, ⟨27, _⟩ => ⟨S_, .i32⟩
  | .hbm, ⟨28, _⟩ => ⟨S51920, .i32⟩
  | .hbm, ⟨29, _⟩ => ⟨S8192x2048, .bf16⟩
  | .hbm, ⟨30, _⟩ => ⟨S8192x5632, .bf16⟩
  | .hbm, ⟨31, _⟩ => ⟨S8192x5632, .f32⟩
  | .hbm, ⟨32, _⟩ => ⟨S2x4096x5632, .bf16⟩
  | .hbm, ⟨33, _⟩ => ⟨S2x4096x5632, .f32⟩
  | .local _ .vmem, ⟨0, _⟩ => ⟨S1024x512, .i8⟩
  | .local _ .vmem, ⟨1, _⟩ => ⟨S64x512, .i8⟩
  | .local _ .vmem, ⟨2, _⟩ => ⟨S64x512, .i8⟩
  | .local _ .vmem, ⟨3, _⟩ => ⟨S8x512, .i32⟩
  | .local _ .vmem, ⟨4, _⟩ => ⟨S8x512, .i32⟩
  | .local _ .vmem, ⟨5, _⟩ => ⟨S8x512, .i32⟩
  | .local _ .vmem, ⟨6, _⟩ => ⟨S512x2048, .bf16⟩
  | .local _ .vmem, ⟨7, _⟩ => ⟨S512x2048, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S1024x512, .i32⟩
  | .local _ .vmem, ⟨13, _⟩ => ⟨S1024x512, .i32⟩
  | .local _ .vmem, ⟨14, _⟩ => ⟨S8224x128, .i32⟩
  | .local _ .vmem, ⟨15, _⟩ => ⟨S1024x512, .i32⟩
  | .local _ .smem, ⟨0, _⟩ => ⟨S5633, .i32⟩
  | .local _ .smem, ⟨1, _⟩ => ⟨S51920, .i32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v19 : Ref sig .tc := ⟨.hbm, 32, rfl⟩
abbrev main_v20 : Ref sig .tc := ⟨.hbm, 33, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![11, 16], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_3744 : BitVec 32 := 0#32
  let c16_i32_3745 : BitVec 32 := 16#32
  let v9638 : BitVec 32 := Scalar.addi c0_i32_3744 c16_i32_3745
  let c1_i32_3746 : BitVec 32 := 1#32
  ⟨c0_i32_3744, v9638, c1_i32_3746⟩
def k0_mult1 (k0_t1 : Fin k0_t1_loop.trips) : BitVec 32 :=
  let c0_i32_3744 : BitVec 32 := 0#32
  let c1_i32_3746 : BitVec 32 := 1#32
  let arg15 : BitVec 32 := Scf.iv c0_i32_3744 c1_i32_3746 k0_t1
  let c64_i32_3748 : BitVec 32 := 64#32
  let v9639 : BitVec 32 := Scalar.muli arg15 c64_i32_3748
  v9639
def k0_off1 (k0_t1 : Fin k0_t1_loop.trips) : Fin 2 → Nat :=
  let c0_i32_3744 : BitVec 32 := 0#32
  let c1_i32_3746 : BitVec 32 := 1#32
  let arg15 : BitVec 32 := Scf.iv c0_i32_3744 c1_i32_3746 k0_t1
  let c64_i32_3748 : BitVec 32 := 64#32
  let v9639 : BitVec 32 := Scalar.muli arg15 c64_i32_3748
  let v9640 : BitVec 32 := v9639
  let v9641 : Index := Scalar.indexCast v9640
  let c0_3749 : Index := 0#32
  ![v9641.toNat, 0]
def k0_mult2 (k0_t1 : Fin k0_t1_loop.trips) : BitVec 32 :=
  let c0_i32_3744 : BitVec 32 := 0#32
  let c1_i32_3746 : BitVec 32 := 1#32
  let arg15 : BitVec 32 := Scf.iv c0_i32_3744 c1_i32_3746 k0_t1
  let c64_i32_4264 : BitVec 32 := 64#32
  let v11063 : BitVec 32 := Scalar.muli arg15 c64_i32_4264
  v11063
def k0_off2 (k0_t1 : Fin k0_t1_loop.trips) : Fin 1 → Nat :=
  let c0_i32_4275 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v11088 : BitVec 32 := Scalar.addi c0_i32_4275 v11069
  let c0_i32_4276 : BitVec 32 := 0#32
  let v11089 : BitVec 32 := Scalar.addi v11088 c0_i32_4276
  let v11090 : Index := Scalar.indexCast v11089
  ![v11090.toNat]
def k0_off3 (k0_t1 : Fin k0_t1_loop.trips) : Fin 1 → Nat :=
  let c0_i32_4275 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v11088 : BitVec 32 := Scalar.addi c0_i32_4275 v11069
  let c0_i32_4276 : BitVec 32 := 0#32
  let v11089 : BitVec 32 := Scalar.addi v11088 c0_i32_4276
  let c1_i32_4277 : BitVec 32 := 1#32
  let v11092 : BitVec 32 := Scalar.addi v11089 c1_i32_4277
  let v11093 : Index := Scalar.indexCast v11092
  ![v11093.toNat]
def k0_off4 (v11091 : BitVec 32) : Fin 1 → Nat :=
  let c0_i32_4281 : BitVec 32 := 0#32
  let v11102 : BitVec 32 := Scalar.addi v11091 c0_i32_4281
  let v11105 : Index := Scalar.indexCast v11102
  ![v11105.toNat]

def k0_off5 (k0_t1 : Fin k0_t1_loop.trips) (v11091 : BitVec 32) (v11094 : BitVec 32) (v11106 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_4282 : BitVec 32 := 0#32
  let v11103 : BitVec 32 := Scalar.addi v11091 c0_i32_4282
  let v11104 : BitVec 1 := Scalar.cmpi .slt v11103 v11094
  let c65535_i32_4283 : BitVec 32 := 65535#32
  let v11107 : BitVec 32 := Scalar.andi v11106 c65535_i32_4283
  let c2048_i32_4284 : BitVec 32 := 2048#32
  let v11108 : BitVec 32 := Scalar.select v11104 v11107 c2048_i32_4284
  let v11109 : BitVec 32 := Scalar.addi v11087 v11108
  let v11112 : Index := Scalar.indexCast v11109
  let c0_4286 : Index := 0#32
  ![v11112.toNat, 0]

def k0_chk2 (i : grid0.Coords) (k0_t1 : Fin k0_t1_loop.trips) (v11091 : BitVec 32) (v11094 : BitVec 32) (v11106 : BitVec 32) : Prop :=
  (∀ (k0_h1 : k0_cond1 i = 1#1), ∀ a, (k0_off5 k0_t1 v11091 v11094 v11106) a + S1x128.size a ≤ S8224x128.size a)
theorem k0_off5_inb : ∀ (i : grid0.Coords) (k0_t1 : Fin k0_t1_loop.trips) (v11091 : BitVec 32) (v11094 : BitVec 32) (v11106 : BitVec 32) (k0_hw2 : k0_chk2 i k0_t1 v11091 v11094 v11106), ∀ (k0_h1 : k0_cond1 i = 1#1), ∀ a, (k0_off5 k0_t1 v11091 v11094 v11106) a + S1x128.size a ≤ S8224x128.size a := fun i k0_t1 v11091 v11094 v11106 k0_hw2 k0_h1 => k0_hw2 k0_h1

def k0_off6 (v11091 : BitVec 32) : Fin 1 → Nat :=
  let c1_i32_4287 : BitVec 32 := 1#32
  let v11117 : BitVec 32 := Scalar.addi v11091 c1_i32_4287
  let v11120 : Index := Scalar.indexCast v11117
  ![v11120.toNat]
def k0_off7 (k0_t1 : Fin k0_t1_loop.trips) (v11091 : BitVec 32) (v11094 : BitVec 32) (v11121 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_4288 : BitVec 32 := 1#32
  let v11118 : BitVec 32 := Scalar.addi v11091 c1_i32_4288
  let v11119 : BitVec 1 := Scalar.cmpi .slt v11118 v11094
  let c65535_i32_4289 : BitVec 32 := 65535#32
  let v11122 : BitVec 32 := Scalar.andi v11121 c65535_i32_4289
  let c2048_i32_4290 : BitVec 32 := 2048#32
  let v11123 : BitVec 32 := Scalar.select v11119 v11122 c2048_i32_4290
  let v11124 : BitVec 32 := Scalar.addi v11087 v11123
  let v11127 : Index := Scalar.indexCast v11124
  let c0_4292 : Index := 0#32
  ![v11127.toNat, 0]

def k0_chk3 (i : grid0.Coords) (k0_t1 : Fin k0_t1_loop.trips) (v11091 : BitVec 32) (v11094 : BitVec 32) (v11121 : BitVec 32) : Prop :=
  (∀ (k0_h1 : k0_cond1 i = 1#1), ∀ a, (k0_off7 k0_t1 v11091 v11094 v11121) a + S1x128.size a ≤ S8224x128.size a)
theorem k0_off7_inb : ∀ (i : grid0.Coords) (k0_t1 : Fin k0_t1_loop.trips) (v11091 : BitVec 32) (v11094 : BitVec 32) (v11121 : BitVec 32) (k0_hw3 : k0_chk3 i k0_t1 v11091 v11094 v11121), ∀ (k0_h1 : k0_cond1 i = 1#1), ∀ a, (k0_off7 k0_t1 v11091 v11094 v11121) a + S1x128.size a ≤ S8224x128.size a := fun i k0_t1 v11091 v11094 v11121 k0_hw3 k0_h1 => k0_hw3 k0_h1

def k0_off8 (v11091 : BitVec 32) : Fin 1 → Nat :=
  let c2_i32_4293 : BitVec 32 := 2#32
  let v11132 : BitVec 32 := Scalar.addi v11091 c2_i32_4293
  let v11135 : Index := Scalar.indexCast v11132
  ![v11135.toNat]
def k0_off9 (k0_t1 : Fin k0_t1_loop.trips) (v11091 : BitVec 32) (v11094 : BitVec 32) (v11136 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_4294 : BitVec 32 := 2#32
  let v11133 : BitVec 32 := Scalar.addi v11091 c2_i32_4294
  let v11134 : BitVec 1 := Scalar.cmpi .slt v11133 v11094
  let c65535_i32_4295 : BitVec 32 := 65535#32
  let v11137 : BitVec 32 := Scalar.andi v11136 c65535_i32_4295
  let c2048_i32_4296 : BitVec 32 := 2048#32
  let v11138 : BitVec 32 := Scalar.select v11134 v11137 c2048_i32_4296
  let v11139 : BitVec 32 := Scalar.addi v11087 v11138
  let v11142 : Index := Scalar.indexCast v11139
  let c0_4298 : Index := 0#32
  ![v11142.toNat, 0]

def k0_chk4 (i : grid0.Coords) (k0_t1 : Fin k0_t1_loop.trips) (v11091 : BitVec 32) (v11094 : BitVec 32) (v11136 : BitVec 32) : Prop :=
  (∀ (k0_h1 : k0_cond1 i = 1#1), ∀ a, (k0_off9 k0_t1 v11091 v11094 v11136) a + S1x128.size a ≤ S8224x128.size a)
theorem k0_off9_inb : ∀ (i : grid0.Coords) (k0_t1 : Fin k0_t1_loop.trips) (v11091 : BitVec 32) (v11094 : BitVec 32) (v11136 : BitVec 32) (k0_hw4 : k0_chk4 i k0_t1 v11091 v11094 v11136), ∀ (k0_h1 : k0_cond1 i = 1#1), ∀ a, (k0_off9 k0_t1 v11091 v11094 v11136) a + S1x128.size a ≤ S8224x128.size a := fun i k0_t1 v11091 v11094 v11136 k0_hw4 k0_h1 => k0_hw4 k0_h1

def k0_off10 (v11091 : BitVec 32) : Fin 1 → Nat :=
  let c3_i32_4299 : BitVec 32 := 3#32
  let v11147 : BitVec 32 := Scalar.addi v11091 c3_i32_4299
  let v11150 : Index := Scalar.indexCast v11147
  ![v11150.toNat]
def k0_off11 (k0_t1 : Fin k0_t1_loop.trips) (v11091 : BitVec 32) (v11094 : BitVec 32) (v11151 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_4300 : BitVec 32 := 3#32
  let v11148 : BitVec 32 := Scalar.addi v11091 c3_i32_4300
  let v11149 : BitVec 1 := Scalar.cmpi .slt v11148 v11094
  let c65535_i32_4301 : BitVec 32 := 65535#32
  let v11152 : BitVec 32 := Scalar.andi v11151 c65535_i32_4301
  let c2048_i32_4302 : BitVec 32 := 2048#32
  let v11153 : BitVec 32 := Scalar.select v11149 v11152 c2048_i32_4302
  let v11154 : BitVec 32 := Scalar.addi v11087 v11153
  let v11157 : Index := Scalar.indexCast v11154
  let c0_4304 : Index := 0#32
  ![v11157.toNat, 0]

def k0_chk5 (i : grid0.Coords) (k0_t1 : Fin k0_t1_loop.trips) (v11091 : BitVec 32) (v11094 : BitVec 32) (v11151 : BitVec 32) : Prop :=
  (∀ (k0_h1 : k0_cond1 i = 1#1), ∀ a, (k0_off11 k0_t1 v11091 v11094 v11151) a + S1x128.size a ≤ S8224x128.size a)
theorem k0_off11_inb : ∀ (i : grid0.Coords) (k0_t1 : Fin k0_t1_loop.trips) (v11091 : BitVec 32) (v11094 : BitVec 32) (v11151 : BitVec 32) (k0_hw5 : k0_chk5 i k0_t1 v11091 v11094 v11151), ∀ (k0_h1 : k0_cond1 i = 1#1), ∀ a, (k0_off11 k0_t1 v11091 v11094 v11151) a + S1x128.size a ≤ S8224x128.size a := fun i k0_t1 v11091 v11094 v11151 k0_hw5 k0_h1 => k0_hw5 k0_h1

def k0_off12 (v11091 : BitVec 32) : Fin 1 → Nat :=
  let c4_i32_4305 : BitVec 32 := 4#32
  let v11162 : BitVec 32 := Scalar.addi v11091 c4_i32_4305
  let v11165 : Index := Scalar.indexCast v11162
  ![v11165.toNat]
def k0_off13 (k0_t1 : Fin k0_t1_loop.trips) (v11091 : BitVec 32) (v11094 : BitVec 32) (v11166 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_4306 : BitVec 32 := 4#32
  let v11163 : BitVec 32 := Scalar.addi v11091 c4_i32_4306
  let v11164 : BitVec 1 := Scalar.cmpi .slt v11163 v11094
  let c65535_i32_4307 : BitVec 32 := 65535#32
  let v11167 : BitVec 32 := Scalar.andi v11166 c65535_i32_4307
  let c2048_i32_4308 : BitVec 32 := 2048#32
  let v11168 : BitVec 32 := Scalar.select v11164 v11167 c2048_i32_4308
  let v11169 : BitVec 32 := Scalar.addi v11087 v11168
  let v11172 : Index := Scalar.indexCast v11169
  let c0_4310 : Index := 0#32
  ![v11172.toNat, 0]

def k0_chk6 (i : grid0.Coords) (k0_t1 : Fin k0_t1_loop.trips) (v11091 : BitVec 32) (v11094 : BitVec 32) (v11166 : BitVec 32) : Prop :=
  (∀ (k0_h1 : k0_cond1 i = 1#1), ∀ a, (k0_off13 k0_t1 v11091 v11094 v11166) a + S1x128.size a ≤ S8224x128.size a)
theorem k0_off13_inb : ∀ (i : grid0.Coords) (k0_t1 : Fin k0_t1_loop.trips) (v11091 : BitVec 32) (v11094 : BitVec 32) (v11166 : BitVec 32) (k0_hw6 : k0_chk6 i k0_t1 v11091 v11094 v11166), ∀ (k0_h1 : k0_cond1 i = 1#1), ∀ a, (k0_off13 k0_t1 v11091 v11094 v11166) a + S1x128.size a ≤ S8224x128.size a := fun i k0_t1 v11091 v11094 v11166 k0_hw6 k0_h1 => k0_hw6 k0_h1

def k0_off14 (v11091 : BitVec 32) : Fin 1 → Nat :=
  let c5_i32_4311 : BitVec 32 := 5#32
  let v11177 : BitVec 32 := Scalar.addi v11091 c5_i32_4311
  let v11180 : Index := Scalar.indexCast v11177
  ![v11180.toNat]
def k0_off15 (k0_t1 : Fin k0_t1_loop.trips) (v11091 : BitVec 32) (v11094 : BitVec 32) (v11181 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_4312 : BitVec 32 := 5#32
  let v11178 : BitVec 32 := Scalar.addi v11091 c5_i32_4312
  let v11179 : BitVec 1 := Scalar.cmpi .slt v11178 v11094
  let c65535_i32_4313 : BitVec 32 := 65535#32
  let v11182 : BitVec 32 := Scalar.andi v11181 c65535_i32_4313
  let c2048_i32_4314 : BitVec 32 := 2048#32
  let v11183 : BitVec 32 := Scalar.select v11179 v11182 c2048_i32_4314
  let v11184 : BitVec 32 := Scalar.addi v11087 v11183
  let v11187 : Index := Scalar.indexCast v11184
  let c0_4316 : Index := 0#32
  ![v11187.toNat, 0]

def k0_chk7 (i : grid0.Coords) (k0_t1 : Fin k0_t1_loop.trips) (v11091 : BitVec 32) (v11094 : BitVec 32) (v11181 : BitVec 32) : Prop :=
  (∀ (k0_h1 : k0_cond1 i = 1#1), ∀ a, (k0_off15 k0_t1 v11091 v11094 v11181) a + S1x128.size a ≤ S8224x128.size a)
theorem k0_off15_inb : ∀ (i : grid0.Coords) (k0_t1 : Fin k0_t1_loop.trips) (v11091 : BitVec 32) (v11094 : BitVec 32) (v11181 : BitVec 32) (k0_hw7 : k0_chk7 i k0_t1 v11091 v11094 v11181), ∀ (k0_h1 : k0_cond1 i = 1#1), ∀ a, (k0_off15 k0_t1 v11091 v11094 v11181) a + S1x128.size a ≤ S8224x128.size a := fun i k0_t1 v11091 v11094 v11181 k0_hw7 k0_h1 => k0_hw7 k0_h1

def k0_off16 (v11091 : BitVec 32) : Fin 1 → Nat :=
  let c6_i32_4317 : BitVec 32 := 6#32
  let v11192 : BitVec 32 := Scalar.addi v11091 c6_i32_4317
  let v11195 : Index := Scalar.indexCast v11192
  ![v11195.toNat]
def k0_off17 (k0_t1 : Fin k0_t1_loop.trips) (v11091 : BitVec 32) (v11094 : BitVec 32) (v11196 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_4318 : BitVec 32 := 6#32
  let v11193 : BitVec 32 := Scalar.addi v11091 c6_i32_4318
  let v11194 : BitVec 1 := Scalar.cmpi .slt v11193 v11094
  let c65535_i32_4319 : BitVec 32 := 65535#32
  let v11197 : BitVec 32 := Scalar.andi v11196 c65535_i32_4319
  let c2048_i32_4320 : BitVec 32 := 2048#32
  let v11198 : BitVec 32 := Scalar.select v11194 v11197 c2048_i32_4320
  let v11199 : BitVec 32 := Scalar.addi v11087 v11198
  let v11202 : Index := Scalar.indexCast v11199
  let c0_4322 : Index := 0#32
  ![v11202.toNat, 0]

def k0_chk8 (i : grid0.Coords) (k0_t1 : Fin k0_t1_loop.trips) (v11091 : BitVec 32) (v11094 : BitVec 32) (v11196 : BitVec 32) : Prop :=
  (∀ (k0_h1 : k0_cond1 i = 1#1), ∀ a, (k0_off17 k0_t1 v11091 v11094 v11196) a + S1x128.size a ≤ S8224x128.size a)
theorem k0_off17_inb : ∀ (i : grid0.Coords) (k0_t1 : Fin k0_t1_loop.trips) (v11091 : BitVec 32) (v11094 : BitVec 32) (v11196 : BitVec 32) (k0_hw8 : k0_chk8 i k0_t1 v11091 v11094 v11196), ∀ (k0_h1 : k0_cond1 i = 1#1), ∀ a, (k0_off17 k0_t1 v11091 v11094 v11196) a + S1x128.size a ≤ S8224x128.size a := fun i k0_t1 v11091 v11094 v11196 k0_hw8 k0_h1 => k0_hw8 k0_h1

def k0_off18 (v11091 : BitVec 32) : Fin 1 → Nat :=
  let c7_i32_4323 : BitVec 32 := 7#32
  let v11207 : BitVec 32 := Scalar.addi v11091 c7_i32_4323
  let v11210 : Index := Scalar.indexCast v11207
  ![v11210.toNat]
def k0_off19 (k0_t1 : Fin k0_t1_loop.trips) (v11091 : BitVec 32) (v11094 : BitVec 32) (v11211 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_4324 : BitVec 32 := 7#32
  let v11208 : BitVec 32 := Scalar.addi v11091 c7_i32_4324
  let v11209 : BitVec 1 := Scalar.cmpi .slt v11208 v11094
  let c65535_i32_4325 : BitVec 32 := 65535#32
  let v11212 : BitVec 32 := Scalar.andi v11211 c65535_i32_4325
  let c2048_i32_4326 : BitVec 32 := 2048#32
  let v11213 : BitVec 32 := Scalar.select v11209 v11212 c2048_i32_4326
  let v11214 : BitVec 32 := Scalar.addi v11087 v11213
  let v11217 : Index := Scalar.indexCast v11214
  let c0_4328 : Index := 0#32
  ![v11217.toNat, 0]

def k0_chk9 (i : grid0.Coords) (k0_t1 : Fin k0_t1_loop.trips) (v11091 : BitVec 32) (v11094 : BitVec 32) (v11211 : BitVec 32) : Prop :=
  (∀ (k0_h1 : k0_cond1 i = 1#1), ∀ a, (k0_off19 k0_t1 v11091 v11094 v11211) a + S1x128.size a ≤ S8224x128.size a)
theorem k0_off19_inb : ∀ (i : grid0.Coords) (k0_t1 : Fin k0_t1_loop.trips) (v11091 : BitVec 32) (v11094 : BitVec 32) (v11211 : BitVec 32) (k0_hw9 : k0_chk9 i k0_t1 v11091 v11094 v11211), ∀ (k0_h1 : k0_cond1 i = 1#1), ∀ a, (k0_off19 k0_t1 v11091 v11094 v11211) a + S1x128.size a ≤ S8224x128.size a := fun i k0_t1 v11091 v11094 v11211 k0_hw9 k0_h1 => k0_hw9 k0_h1

def k0_off20 (v11091 : BitVec 32) : Fin 1 → Nat :=
  let c8_i32_4329 : BitVec 32 := 8#32
  let v11222 : BitVec 32 := Scalar.addi v11091 c8_i32_4329
  let v11225 : Index := Scalar.indexCast v11222
  ![v11225.toNat]
def k0_off21 (k0_t1 : Fin k0_t1_loop.trips) (v11091 : BitVec 32) (v11094 : BitVec 32) (v11226 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_4330 : BitVec 32 := 8#32
  let v11223 : BitVec 32 := Scalar.addi v11091 c8_i32_4330
  let v11224 : BitVec 1 := Scalar.cmpi .slt v11223 v11094
  let c65535_i32_4331 : BitVec 32 := 65535#32
  let v11227 : BitVec 32 := Scalar.andi v11226 c65535_i32_4331
  let c2048_i32_4332 : BitVec 32 := 2048#32
  let v11228 : BitVec 32 := Scalar.select v11224 v11227 c2048_i32_4332
  let v11229 : BitVec 32 := Scalar.addi v11087 v11228
  let v11232 : Index := Scalar.indexCast v11229
  let c0_4334 : Index := 0#32
  ![v11232.toNat, 0]

def k0_chk10 (i : grid0.Coords) (k0_t1 : Fin k0_t1_loop.trips) (v11091 : BitVec 32) (v11094 : BitVec 32) (v11226 : BitVec 32) : Prop :=
  (∀ (k0_h1 : k0_cond1 i = 1#1), ∀ a, (k0_off21 k0_t1 v11091 v11094 v11226) a + S1x128.size a ≤ S8224x128.size a)
theorem k0_off21_inb : ∀ (i : grid0.Coords) (k0_t1 : Fin k0_t1_loop.trips) (v11091 : BitVec 32) (v11094 : BitVec 32) (v11226 : BitVec 32) (k0_hw10 : k0_chk10 i k0_t1 v11091 v11094 v11226), ∀ (k0_h1 : k0_cond1 i = 1#1), ∀ a, (k0_off21 k0_t1 v11091 v11094 v11226) a + S1x128.size a ≤ S8224x128.size a := fun i k0_t1 v11091 v11094 v11226 k0_hw10 k0_h1 => k0_hw10 k0_h1

def k0_off22 (v11091 : BitVec 32) : Fin 1 → Nat :=
  let c9_i32_4335 : BitVec 32 := 9#32
  let v11237 : BitVec 32 := Scalar.addi v11091 c9_i32_4335
  let v11240 : Index := Scalar.indexCast v11237
  ![v11240.toNat]
def k0_off23 (k0_t1 : Fin k0_t1_loop.trips) (v11091 : BitVec 32) (v11094 : BitVec 32) (v11241 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_4336 : BitVec 32 := 9#32
  let v11238 : BitVec 32 := Scalar.addi v11091 c9_i32_4336
  let v11239 : BitVec 1 := Scalar.cmpi .slt v11238 v11094
  let c65535_i32_4337 : BitVec 32 := 65535#32
  let v11242 : BitVec 32 := Scalar.andi v11241 c65535_i32_4337
  let c2048_i32_4338 : BitVec 32 := 2048#32
  let v11243 : BitVec 32 := Scalar.select v11239 v11242 c2048_i32_4338
  let v11244 : BitVec 32 := Scalar.addi v11087 v11243
  let v11247 : Index := Scalar.indexCast v11244
  let c0_4340 : Index := 0#32
  ![v11247.toNat, 0]

def k0_chk11 (i : grid0.Coords) (k0_t1 : Fin k0_t1_loop.trips) (v11091 : BitVec 32) (v11094 : BitVec 32) (v11241 : BitVec 32) : Prop :=
  (∀ (k0_h1 : k0_cond1 i = 1#1), ∀ a, (k0_off23 k0_t1 v11091 v11094 v11241) a + S1x128.size a ≤ S8224x128.size a)
theorem k0_off23_inb : ∀ (i : grid0.Coords) (k0_t1 : Fin k0_t1_loop.trips) (v11091 : BitVec 32) (v11094 : BitVec 32) (v11241 : BitVec 32) (k0_hw11 : k0_chk11 i k0_t1 v11091 v11094 v11241), ∀ (k0_h1 : k0_cond1 i = 1#1), ∀ a, (k0_off23 k0_t1 v11091 v11094 v11241) a + S1x128.size a ≤ S8224x128.size a := fun i k0_t1 v11091 v11094 v11241 k0_hw11 k0_h1 => k0_hw11 k0_h1

def k0_off24 (v11091 : BitVec 32) : Fin 1 → Nat :=
  let c10_i32_4341 : BitVec 32 := 10#32
  let v11252 : BitVec 32 := Scalar.addi v11091 c10_i32_4341
  let v11255 : Index := Scalar.indexCast v11252
  ![v11255.toNat]
def k0_off25 (k0_t1 : Fin k0_t1_loop.trips) (v11091 : BitVec 32) (v11094 : BitVec 32) (v11256 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_4342 : BitVec 32 := 10#32
  let v11253 : BitVec 32 := Scalar.addi v11091 c10_i32_4342
  let v11254 : BitVec 1 := Scalar.cmpi .slt v11253 v11094
  let c65535_i32_4343 : BitVec 32 := 65535#32
  let v11257 : BitVec 32 := Scalar.andi v11256 c65535_i32_4343
  let c2048_i32_4344 : BitVec 32 := 2048#32
  let v11258 : BitVec 32 := Scalar.select v11254 v11257 c2048_i32_4344
  let v11259 : BitVec 32 := Scalar.addi v11087 v11258
  let v11262 : Index := Scalar.indexCast v11259
  let c0_4346 : Index := 0#32
  ![v11262.toNat, 0]

def k0_chk12 (i : grid0.Coords) (k0_t1 : Fin k0_t1_loop.trips) (v11091 : BitVec 32) (v11094 : BitVec 32) (v11256 : BitVec 32) : Prop :=
  (∀ (k0_h1 : k0_cond1 i = 1#1), ∀ a, (k0_off25 k0_t1 v11091 v11094 v11256) a + S1x128.size a ≤ S8224x128.size a)
theorem k0_off25_inb : ∀ (i : grid0.Coords) (k0_t1 : Fin k0_t1_loop.trips) (v11091 : BitVec 32) (v11094 : BitVec 32) (v11256 : BitVec 32) (k0_hw12 : k0_chk12 i k0_t1 v11091 v11094 v11256), ∀ (k0_h1 : k0_cond1 i = 1#1), ∀ a, (k0_off25 k0_t1 v11091 v11094 v11256) a + S1x128.size a ≤ S8224x128.size a := fun i k0_t1 v11091 v11094 v11256 k0_hw12 k0_h1 => k0_hw12 k0_h1

def k0_off26 (v11091 : BitVec 32) : Fin 1 → Nat :=
  let c11_i32_4347 : BitVec 32 := 11#32
  let v11267 : BitVec 32 := Scalar.addi v11091 c11_i32_4347
  let v11270 : Index := Scalar.indexCast v11267
  ![v11270.toNat]
def k0_off27 (k0_t1 : Fin k0_t1_loop.trips) (v11091 : BitVec 32) (v11094 : BitVec 32) (v11271 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_4348 : BitVec 32 := 11#32
  let v11268 : BitVec 32 := Scalar.addi v11091 c11_i32_4348
  let v11269 : BitVec 1 := Scalar.cmpi .slt v11268 v11094
  let c65535_i32_4349 : BitVec 32 := 65535#32
  let v11272 : BitVec 32 := Scalar.andi v11271 c65535_i32_4349
  let c2048_i32_4350 : BitVec 32 := 2048#32
  let v11273 : BitVec 32 := Scalar.select v11269 v11272 c2048_i32_4350
  let v11274 : BitVec 32 := Scalar.addi v11087 v11273
  let v11277 : Index := Scalar.indexCast v11274
  let c0_4352 : Index := 0#32
  ![v11277.toNat, 0]

def k0_chk13 (i : grid0.Coords) (k0_t1 : Fin k0_t1_loop.trips) (v11091 : BitVec 32) (v11094 : BitVec 32) (v11271 : BitVec 32) : Prop :=
  (∀ (k0_h1 : k0_cond1 i = 1#1), ∀ a, (k0_off27 k0_t1 v11091 v11094 v11271) a + S1x128.size a ≤ S8224x128.size a)
theorem k0_off27_inb : ∀ (i : grid0.Coords) (k0_t1 : Fin k0_t1_loop.trips) (v11091 : BitVec 32) (v11094 : BitVec 32) (v11271 : BitVec 32) (k0_hw13 : k0_chk13 i k0_t1 v11091 v11094 v11271), ∀ (k0_h1 : k0_cond1 i = 1#1), ∀ a, (k0_off27 k0_t1 v11091 v11094 v11271) a + S1x128.size a ≤ S8224x128.size a := fun i k0_t1 v11091 v11094 v11271 k0_hw13 k0_h1 => k0_hw13 k0_h1

def k0_off28 (v11091 : BitVec 32) : Fin 1 → Nat :=
  let c12_i32_4353 : BitVec 32 := 12#32
  let v11282 : BitVec 32 := Scalar.addi v11091 c12_i32_4353
  let v11285 : Index := Scalar.indexCast v11282
  ![v11285.toNat]
def k0_off29 (k0_t1 : Fin k0_t1_loop.trips) (v11091 : BitVec 32) (v11094 : BitVec 32) (v11286 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_4354 : BitVec 32 := 12#32
  let v11283 : BitVec 32 := Scalar.addi v11091 c12_i32_4354
  let v11284 : BitVec 1 := Scalar.cmpi .slt v11283 v11094
  let c65535_i32_4355 : BitVec 32 := 65535#32
  let v11287 : BitVec 32 := Scalar.andi v11286 c65535_i32_4355
  let c2048_i32_4356 : BitVec 32 := 2048#32
  let v11288 : BitVec 32 := Scalar.select v11284 v11287 c2048_i32_4356
  let v11289 : BitVec 32 := Scalar.addi v11087 v11288
  let v11292 : Index := Scalar.indexCast v11289
  let c0_4358 : Index := 0#32
  ![v11292.toNat, 0]

def k0_chk14 (i : grid0.Coords) (k0_t1 : Fin k0_t1_loop.trips) (v11091 : BitVec 32) (v11094 : BitVec 32) (v11286 : BitVec 32) : Prop :=
  (∀ (k0_h1 : k0_cond1 i = 1#1), ∀ a, (k0_off29 k0_t1 v11091 v11094 v11286) a + S1x128.size a ≤ S8224x128.size a)
theorem k0_off29_inb : ∀ (i : grid0.Coords) (k0_t1 : Fin k0_t1_loop.trips) (v11091 : BitVec 32) (v11094 : BitVec 32) (v11286 : BitVec 32) (k0_hw14 : k0_chk14 i k0_t1 v11091 v11094 v11286), ∀ (k0_h1 : k0_cond1 i = 1#1), ∀ a, (k0_off29 k0_t1 v11091 v11094 v11286) a + S1x128.size a ≤ S8224x128.size a := fun i k0_t1 v11091 v11094 v11286 k0_hw14 k0_h1 => k0_hw14 k0_h1

def k0_off30 (v11091 : BitVec 32) : Fin 1 → Nat :=
  let c13_i32_4359 : BitVec 32 := 13#32
  let v11297 : BitVec 32 := Scalar.addi v11091 c13_i32_4359
  let v11300 : Index := Scalar.indexCast v11297
  ![v11300.toNat]
def k0_off31 (k0_t1 : Fin k0_t1_loop.trips) (v11091 : BitVec 32) (v11094 : BitVec 32) (v11301 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_4360 : BitVec 32 := 13#32
  let v11298 : BitVec 32 := Scalar.addi v11091 c13_i32_4360
  let v11299 : BitVec 1 := Scalar.cmpi .slt v11298 v11094
  let c65535_i32_4361 : BitVec 32 := 65535#32
  let v11302 : BitVec 32 := Scalar.andi v11301 c65535_i32_4361
  let c2048_i32_4362 : BitVec 32 := 2048#32
  let v11303 : BitVec 32 := Scalar.select v11299 v11302 c2048_i32_4362
  let v11304 : BitVec 32 := Scalar.addi v11087 v11303
  let v11307 : Index := Scalar.indexCast v11304
  let c0_4364 : Index := 0#32
  ![v11307.toNat, 0]

def k0_chk15 (i : grid0.Coords) (k0_t1 : Fin k0_t1_loop.trips) (v11091 : BitVec 32) (v11094 : BitVec 32) (v11301 : BitVec 32) : Prop :=
  (∀ (k0_h1 : k0_cond1 i = 1#1), ∀ a, (k0_off31 k0_t1 v11091 v11094 v11301) a + S1x128.size a ≤ S8224x128.size a)
theorem k0_off31_inb : ∀ (i : grid0.Coords) (k0_t1 : Fin k0_t1_loop.trips) (v11091 : BitVec 32) (v11094 : BitVec 32) (v11301 : BitVec 32) (k0_hw15 : k0_chk15 i k0_t1 v11091 v11094 v11301), ∀ (k0_h1 : k0_cond1 i = 1#1), ∀ a, (k0_off31 k0_t1 v11091 v11094 v11301) a + S1x128.size a ≤ S8224x128.size a := fun i k0_t1 v11091 v11094 v11301 k0_hw15 k0_h1 => k0_hw15 k0_h1

def k0_off32 (v11091 : BitVec 32) : Fin 1 → Nat :=
  let c14_i32_4365 : BitVec 32 := 14#32
  let v11312 : BitVec 32 := Scalar.addi v11091 c14_i32_4365
  let v11315 : Index := Scalar.indexCast v11312
  ![v11315.toNat]
def k0_off33 (k0_t1 : Fin k0_t1_loop.trips) (v11091 : BitVec 32) (v11094 : BitVec 32) (v11316 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_4366 : BitVec 32 := 14#32
  let v11313 : BitVec 32 := Scalar.addi v11091 c14_i32_4366
  let v11314 : BitVec 1 := Scalar.cmpi .slt v11313 v11094
  let c65535_i32_4367 : BitVec 32 := 65535#32
  let v11317 : BitVec 32 := Scalar.andi v11316 c65535_i32_4367
  let c2048_i32_4368 : BitVec 32 := 2048#32
  let v11318 : BitVec 32 := Scalar.select v11314 v11317 c2048_i32_4368
  let v11319 : BitVec 32 := Scalar.addi v11087 v11318
  let v11322 : Index := Scalar.indexCast v11319
  let c0_4370 : Index := 0#32
  ![v11322.toNat, 0]

def k0_chk16 (i : grid0.Coords) (k0_t1 : Fin k0_t1_loop.trips) (v11091 : BitVec 32) (v11094 : BitVec 32) (v11316 : BitVec 32) : Prop :=
  (∀ (k0_h1 : k0_cond1 i = 1#1), ∀ a, (k0_off33 k0_t1 v11091 v11094 v11316) a + S1x128.size a ≤ S8224x128.size a)
theorem k0_off33_inb : ∀ (i : grid0.Coords) (k0_t1 : Fin k0_t1_loop.trips) (v11091 : BitVec 32) (v11094 : BitVec 32) (v11316 : BitVec 32) (k0_hw16 : k0_chk16 i k0_t1 v11091 v11094 v11316), ∀ (k0_h1 : k0_cond1 i = 1#1), ∀ a, (k0_off33 k0_t1 v11091 v11094 v11316) a + S1x128.size a ≤ S8224x128.size a := fun i k0_t1 v11091 v11094 v11316 k0_hw16 k0_h1 => k0_hw16 k0_h1

def k0_off34 (v11091 : BitVec 32) : Fin 1 → Nat :=
  let c15_i32_4371 : BitVec 32 := 15#32
  let v11327 : BitVec 32 := Scalar.addi v11091 c15_i32_4371
  let v11330 : Index := Scalar.indexCast v11327
  ![v11330.toNat]

def k0_chk1 (i : grid0.Coords) (v11091 : BitVec 32) : Prop :=
  (∀ (k0_h1 : k0_cond1 i = 1#1), ∀ a, (k0_off4 v11091) a + S1.size a ≤ S51920.size a) ∧
  (∀ (k0_h1 : k0_cond1 i = 1#1), ∀ a, (k0_off6 v11091) a + S1.size a ≤ S51920.size a) ∧
  (∀ (k0_h1 : k0_cond1 i = 1#1), ∀ a, (k0_off8 v11091) a + S1.size a ≤ S51920.size a) ∧
  (∀ (k0_h1 : k0_cond1 i = 1#1), ∀ a, (k0_off10 v11091) a + S1.size a ≤ S51920.size a) ∧
  (∀ (k0_h1 : k0_cond1 i = 1#1), ∀ a, (k0_off12 v11091) a + S1.size a ≤ S51920.size a) ∧
  (∀ (k0_h1 : k0_cond1 i = 1#1), ∀ a, (k0_off14 v11091) a + S1.size a ≤ S51920.size a) ∧
  (∀ (k0_h1 : k0_cond1 i = 1#1), ∀ a, (k0_off16 v11091) a + S1.size a ≤ S51920.size a) ∧
  (∀ (k0_h1 : k0_cond1 i = 1#1), ∀ a, (k0_off18 v11091) a + S1.size a ≤ S51920.size a) ∧
  (∀ (k0_h1 : k0_cond1 i = 1#1), ∀ a, (k0_off20 v11091) a + S1.size a ≤ S51920.size a) ∧
  (∀ (k0_h1 : k0_cond1 i = 1#1), ∀ a, (k0_off22 v11091) a + S1.size a ≤ S51920.size a) ∧
  (∀ (k0_h1 : k0_cond1 i = 1#1), ∀ a, (k0_off24 v11091) a + S1.size a ≤ S51920.size a) ∧
  (∀ (k0_h1 : k0_cond1 i = 1#1), ∀ a, (k0_off26 v11091) a + S1.size a ≤ S51920.size a) ∧
  (∀ (k0_h1 : k0_cond1 i = 1#1), ∀ a, (k0_off28 v11091) a + S1.size a ≤ S51920.size a) ∧
  (∀ (k0_h1 : k0_cond1 i = 1#1), ∀ a, (k0_off30 v11091) a + S1.size a ≤ S51920.size a) ∧
  (∀ (k0_h1 : k0_cond1 i = 1#1), ∀ a, (k0_off32 v11091) a + S1.size a ≤ S51920.size a) ∧
  (∀ (k0_h1 : k0_cond1 i = 1#1), ∀ a, (k0_off34 v11091) a + S1.size a ≤ S51920.size a)
theorem k0_off4_inb : ∀ (i : grid0.Coords) (v11091 : BitVec 32) (k0_hw1 : k0_chk1 i v11091), ∀ (k0_h1 : k0_cond1 i = 1#1), ∀ a, (k0_off4 v11091) a + S1.size a ≤ S51920.size a := fun i v11091 k0_hw1 k0_h1 => k0_hw1.1 k0_h1
theorem k0_off6_inb : ∀ (i : grid0.Coords) (v11091 : BitVec 32) (k0_hw1 : k0_chk1 i v11091), ∀ (k0_h1 : k0_cond1 i = 1#1), ∀ a, (k0_off6 v11091) a + S1.size a ≤ S51920.size a := fun i v11091 k0_hw1 k0_h1 => k0_hw1.2.1 k0_h1
theorem k0_off8_inb : ∀ (i : grid0.Coords) (v11091 : BitVec 32) (k0_hw1 : k0_chk1 i v11091), ∀ (k0_h1 : k0_cond1 i = 1#1), ∀ a, (k0_off8 v11091) a + S1.size a ≤ S51920.size a := fun i v11091 k0_hw1 k0_h1 => k0_hw1.2.2.1 k0_h1
theorem k0_off10_inb : ∀ (i : grid0.Coords) (v11091 : BitVec 32) (k0_hw1 : k0_chk1 i v11091), ∀ (k0_h1 : k0_cond1 i = 1#1), ∀ a, (k0_off10 v11091) a + S1.size a ≤ S51920.size a := fun i v11091 k0_hw1 k0_h1 => k0_hw1.2.2.2.1 k0_h1
theorem k0_off12_inb : ∀ (i : grid0.Coords) (v11091 : BitVec 32) (k0_hw1 : k0_chk1 i v11091), ∀ (k0_h1 : k0_cond1 i = 1#1), ∀ a, (k0_off12 v11091) a + S1.size a ≤ S51920.size a := fun i v11091 k0_hw1 k0_h1 => k0_hw1.2.2.2.2.1 k0_h1
theorem k0_off14_inb : ∀ (i : grid0.Coords) (v11091 : BitVec 32) (k0_hw1 : k0_chk1 i v11091), ∀ (k0_h1 : k0_cond1 i = 1#1), ∀ a, (k0_off14 v11091) a + S1.size a ≤ S51920.size a := fun i v11091 k0_hw1 k0_h1 => k0_hw1.2.2.2.2.2.1 k0_h1
theorem k0_off16_inb : ∀ (i : grid0.Coords) (v11091 : BitVec 32) (k0_hw1 : k0_chk1 i v11091), ∀ (k0_h1 : k0_cond1 i = 1#1), ∀ a, (k0_off16 v11091) a + S1.size a ≤ S51920.size a := fun i v11091 k0_hw1 k0_h1 => k0_hw1.2.2.2.2.2.2.1 k0_h1
theorem k0_off18_inb : ∀ (i : grid0.Coords) (v11091 : BitVec 32) (k0_hw1 : k0_chk1 i v11091), ∀ (k0_h1 : k0_cond1 i = 1#1), ∀ a, (k0_off18 v11091) a + S1.size a ≤ S51920.size a := fun i v11091 k0_hw1 k0_h1 => k0_hw1.2.2.2.2.2.2.2.1 k0_h1
theorem k0_off20_inb : ∀ (i : grid0.Coords) (v11091 : BitVec 32) (k0_hw1 : k0_chk1 i v11091), ∀ (k0_h1 : k0_cond1 i = 1#1), ∀ a, (k0_off20 v11091) a + S1.size a ≤ S51920.size a := fun i v11091 k0_hw1 k0_h1 => k0_hw1.2.2.2.2.2.2.2.2.1 k0_h1
theorem k0_off22_inb : ∀ (i : grid0.Coords) (v11091 : BitVec 32) (k0_hw1 : k0_chk1 i v11091), ∀ (k0_h1 : k0_cond1 i = 1#1), ∀ a, (k0_off22 v11091) a + S1.size a ≤ S51920.size a := fun i v11091 k0_hw1 k0_h1 => k0_hw1.2.2.2.2.2.2.2.2.2.1 k0_h1
theorem k0_off24_inb : ∀ (i : grid0.Coords) (v11091 : BitVec 32) (k0_hw1 : k0_chk1 i v11091), ∀ (k0_h1 : k0_cond1 i = 1#1), ∀ a, (k0_off24 v11091) a + S1.size a ≤ S51920.size a := fun i v11091 k0_hw1 k0_h1 => k0_hw1.2.2.2.2.2.2.2.2.2.2.1 k0_h1
theorem k0_off26_inb : ∀ (i : grid0.Coords) (v11091 : BitVec 32) (k0_hw1 : k0_chk1 i v11091), ∀ (k0_h1 : k0_cond1 i = 1#1), ∀ a, (k0_off26 v11091) a + S1.size a ≤ S51920.size a := fun i v11091 k0_hw1 k0_h1 => k0_hw1.2.2.2.2.2.2.2.2.2.2.2.1 k0_h1
theorem k0_off28_inb : ∀ (i : grid0.Coords) (v11091 : BitVec 32) (k0_hw1 : k0_chk1 i v11091), ∀ (k0_h1 : k0_cond1 i = 1#1), ∀ a, (k0_off28 v11091) a + S1.size a ≤ S51920.size a := fun i v11091 k0_hw1 k0_h1 => k0_hw1.2.2.2.2.2.2.2.2.2.2.2.2.1 k0_h1
theorem k0_off30_inb : ∀ (i : grid0.Coords) (v11091 : BitVec 32) (k0_hw1 : k0_chk1 i v11091), ∀ (k0_h1 : k0_cond1 i = 1#1), ∀ a, (k0_off30 v11091) a + S1.size a ≤ S51920.size a := fun i v11091 k0_hw1 k0_h1 => k0_hw1.2.2.2.2.2.2.2.2.2.2.2.2.2.1 k0_h1
theorem k0_off32_inb : ∀ (i : grid0.Coords) (v11091 : BitVec 32) (k0_hw1 : k0_chk1 i v11091), ∀ (k0_h1 : k0_cond1 i = 1#1), ∀ a, (k0_off32 v11091) a + S1.size a ≤ S51920.size a := fun i v11091 k0_hw1 k0_h1 => k0_hw1.2.2.2.2.2.2.2.2.2.2.2.2.2.2.1 k0_h1
theorem k0_off34_inb : ∀ (i : grid0.Coords) (v11091 : BitVec 32) (k0_hw1 : k0_chk1 i v11091), ∀ (k0_h1 : k0_cond1 i = 1#1), ∀ a, (k0_off34 v11091) a + S1.size a ≤ S51920.size a := fun i v11091 k0_hw1 k0_h1 => k0_hw1.2.2.2.2.2.2.2.2.2.2.2.2.2.2.2 k0_h1

def k0_off35 (k0_t1 : Fin k0_t1_loop.trips) (v11091 : BitVec 32) (v11094 : BitVec 32) (v11331 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_4372 : BitVec 32 := 15#32
  let v11328 : BitVec 32 := Scalar.addi v11091 c15_i32_4372
  let v11329 : BitVec 1 := Scalar.cmpi .slt v11328 v11094
  let c65535_i32_4373 : BitVec 32 := 65535#32
  let v11332 : BitVec 32 := Scalar.andi v11331 c65535_i32_4373
  let c2048_i32_4374 : BitVec 32 := 2048#32
  let v11333 : BitVec 32 := Scalar.select v11329 v11332 c2048_i32_4374
  let v11334 : BitVec 32 := Scalar.addi v11087 v11333
  let v11337 : Index := Scalar.indexCast v11334
  let c0_4376 : Index := 0#32
  ![v11337.toNat, 0]

def k0_chk17 (i : grid0.Coords) (k0_t1 : Fin k0_t1_loop.trips) (v11091 : BitVec 32) (v11094 : BitVec 32) (v11331 : BitVec 32) : Prop :=
  (∀ (k0_h1 : k0_cond1 i = 1#1), ∀ a, (k0_off35 k0_t1 v11091 v11094 v11331) a + S1x128.size a ≤ S8224x128.size a)
theorem k0_off35_inb : ∀ (i : grid0.Coords) (k0_t1 : Fin k0_t1_loop.trips) (v11091 : BitVec 32) (v11094 : BitVec 32) (v11331 : BitVec 32) (k0_hw17 : k0_chk17 i k0_t1 v11091 v11094 v11331), ∀ (k0_h1 : k0_cond1 i = 1#1), ∀ a, (k0_off35 k0_t1 v11091 v11094 v11331) a + S1x128.size a ≤ S8224x128.size a := fun i k0_t1 v11091 v11094 v11331 k0_hw17 k0_h1 => k0_hw17 k0_h1

def k0_off36 (k0_t1 : Fin k0_t1_loop.trips) : Fin 1 → Nat :=
  let c0_i32_4377 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v11342 : BitVec 32 := Scalar.addi c0_i32_4377 v11069
  let c1_i32_4378 : BitVec 32 := 1#32
  let v11343 : BitVec 32 := Scalar.addi v11342 c1_i32_4378
  let v11344 : Index := Scalar.indexCast v11343
  ![v11344.toNat]
def k0_off37 (k0_t1 : Fin k0_t1_loop.trips) : Fin 1 → Nat :=
  let c0_i32_4377 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v11342 : BitVec 32 := Scalar.addi c0_i32_4377 v11069
  let c1_i32_4378 : BitVec 32 := 1#32
  let v11343 : BitVec 32 := Scalar.addi v11342 c1_i32_4378
  let c1_i32_4379 : BitVec 32 := 1#32
  let v11346 : BitVec 32 := Scalar.addi v11343 c1_i32_4379
  let v11347 : Index := Scalar.indexCast v11346
  ![v11347.toNat]
def k0_off38 (v11345 : BitVec 32) : Fin 1 → Nat :=
  let c0_i32_4382 : BitVec 32 := 0#32
  let v11356 : BitVec 32 := Scalar.addi v11345 c0_i32_4382
  let v11359 : Index := Scalar.indexCast v11356
  ![v11359.toNat]

def k0_off39 (k0_t1 : Fin k0_t1_loop.trips) (v11345 : BitVec 32) (v11348 : BitVec 32) (v11360 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_4383 : BitVec 32 := 0#32
  let v11357 : BitVec 32 := Scalar.addi v11345 c0_i32_4383
  let v11358 : BitVec 1 := Scalar.cmpi .slt v11357 v11348
  let c65535_i32_4384 : BitVec 32 := 65535#32
  let v11361 : BitVec 32 := Scalar.andi v11360 c65535_i32_4384
  let c2048_i32_4385 : BitVec 32 := 2048#32
  let v11362 : BitVec 32 := Scalar.select v11358 v11361 c2048_i32_4385
  let v11363 : BitVec 32 := Scalar.addi v11087 v11362
  let v11366 : Index := Scalar.indexCast v11363
  let c0_4387 : Index := 0#32
  ![v11366.toNat, 0]

def k0_chk19 (i : grid0.Coords) (k0_t1 : Fin k0_t1_loop.trips) (v11345 : BitVec 32) (v11348 : BitVec 32) (v11360 : BitVec 32) : Prop :=
  (∀ (k0_h1 : k0_cond1 i = 1#1), ∀ a, (k0_off39 k0_t1 v11345 v11348 v11360) a + S1x128.size a ≤ S8224x128.size a)
theorem k0_off39_inb : ∀ (i : grid0.Coords) (k0_t1 : Fin k0_t1_loop.trips) (v11345 : BitVec 32) (v11348 : BitVec 32) (v11360 : BitVec 32) (k0_hw19 : k0_chk19 i k0_t1 v11345 v11348 v11360), ∀ (k0_h1 : k0_cond1 i = 1#1), ∀ a, (k0_off39 k0_t1 v11345 v11348 v11360) a + S1x128.size a ≤ S8224x128.size a := fun i k0_t1 v11345 v11348 v11360 k0_hw19 k0_h1 => k0_hw19 k0_h1

def k0_off40 (v11345 : BitVec 32) : Fin 1 → Nat :=
  let c1_i32_4388 : BitVec 32 := 1#32
  let v11371 : BitVec 32 := Scalar.addi v11345 c1_i32_4388
  let v11374 : Index := Scalar.indexCast v11371
  ![v11374.toNat]
def k0_off41 (k0_t1 : Fin k0_t1_loop.trips) (v11345 : BitVec 32) (v11348 : BitVec 32) (v11375 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_4389 : BitVec 32 := 1#32
  let v11372 : BitVec 32 := Scalar.addi v11345 c1_i32_4389
  let v11373 : BitVec 1 := Scalar.cmpi .slt v11372 v11348
  let c65535_i32_4390 : BitVec 32 := 65535#32
  let v11376 : BitVec 32 := Scalar.andi v11375 c65535_i32_4390
  let c2048_i32_4391 : BitVec 32 := 2048#32
  let v11377 : BitVec 32 := Scalar.select v11373 v11376 c2048_i32_4391
  let v11378 : BitVec 32 := Scalar.addi v11087 v11377
  let v11381 : Index := Scalar.indexCast v11378
  let c0_4393 : Index := 0#32
  ![v11381.toNat, 0]

def k0_chk20 (i : grid0.Coords) (k0_t1 : Fin k0_t1_loop.trips) (v11345 : BitVec 32) (v11348 : BitVec 32) (v11375 : BitVec 32) : Prop :=
  (∀ (k0_h1 : k0_cond1 i = 1#1), ∀ a, (k0_off41 k0_t1 v11345 v11348 v11375) a + S1x128.size a ≤ S8224x128.size a)
theorem k0_off41_inb : ∀ (i : grid0.Coords) (k0_t1 : Fin k0_t1_loop.trips) (v11345 : BitVec 32) (v11348 : BitVec 32) (v11375 : BitVec 32) (k0_hw20 : k0_chk20 i k0_t1 v11345 v11348 v11375), ∀ (k0_h1 : k0_cond1 i = 1#1), ∀ a, (k0_off41 k0_t1 v11345 v11348 v11375) a + S1x128.size a ≤ S8224x128.size a := fun i k0_t1 v11345 v11348 v11375 k0_hw20 k0_h1 => k0_hw20 k0_h1

def k0_off42 (v11345 : BitVec 32) : Fin 1 → Nat :=
  let c2_i32_4394 : BitVec 32 := 2#32
  let v11386 : BitVec 32 := Scalar.addi v11345 c2_i32_4394
  let v11389 : Index := Scalar.indexCast v11386
  ![v11389.toNat]
def k0_off43 (k0_t1 : Fin k0_t1_loop.trips) (v11345 : BitVec 32) (v11348 : BitVec 32) (v11390 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_4395 : BitVec 32 := 2#32
  let v11387 : BitVec 32 := Scalar.addi v11345 c2_i32_4395
  let v11388 : BitVec 1 := Scalar.cmpi .slt v11387 v11348
  let c65535_i32_4396 : BitVec 32 := 65535#32
  let v11391 : BitVec 32 := Scalar.andi v11390 c65535_i32_4396
  let c2048_i32_4397 : BitVec 32 := 2048#32
  let v11392 : BitVec 32 := Scalar.select v11388 v11391 c2048_i32_4397
  let v11393 : BitVec 32 := Scalar.addi v11087 v11392
  let v11396 : Index := Scalar.indexCast v11393
  let c0_4399 : Index := 0#32
  ![v11396.toNat, 0]

def k0_chk21 (i : grid0.Coords) (k0_t1 : Fin k0_t1_loop.trips) (v11345 : BitVec 32) (v11348 : BitVec 32) (v11390 : BitVec 32) : Prop :=
  (∀ (k0_h1 : k0_cond1 i = 1#1), ∀ a, (k0_off43 k0_t1 v11345 v11348 v11390) a + S1x128.size a ≤ S8224x128.size a)
theorem k0_off43_inb : ∀ (i : grid0.Coords) (k0_t1 : Fin k0_t1_loop.trips) (v11345 : BitVec 32) (v11348 : BitVec 32) (v11390 : BitVec 32) (k0_hw21 : k0_chk21 i k0_t1 v11345 v11348 v11390), ∀ (k0_h1 : k0_cond1 i = 1#1), ∀ a, (k0_off43 k0_t1 v11345 v11348 v11390) a + S1x128.size a ≤ S8224x128.size a := fun i k0_t1 v11345 v11348 v11390 k0_hw21 k0_h1 => k0_hw21 k0_h1

def k0_off44 (v11345 : BitVec 32) : Fin 1 → Nat :=
  let c3_i32_4400 : BitVec 32 := 3#32
  let v11401 : BitVec 32 := Scalar.addi v11345 c3_i32_4400
  let v11404 : Index := Scalar.indexCast v11401
  ![v11404.toNat]
def k0_off45 (k0_t1 : Fin k0_t1_loop.trips) (v11345 : BitVec 32) (v11348 : BitVec 32) (v11405 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_4401 : BitVec 32 := 3#32
  let v11402 : BitVec 32 := Scalar.addi v11345 c3_i32_4401
  let v11403 : BitVec 1 := Scalar.cmpi .slt v11402 v11348
  let c65535_i32_4402 : BitVec 32 := 65535#32
  let v11406 : BitVec 32 := Scalar.andi v11405 c65535_i32_4402
  let c2048_i32_4403 : BitVec 32 := 2048#32
  let v11407 : BitVec 32 := Scalar.select v11403 v11406 c2048_i32_4403
  let v11408 : BitVec 32 := Scalar.addi v11087 v11407
  let v11411 : Index := Scalar.indexCast v11408
  let c0_4405 : Index := 0#32
  ![v11411.toNat, 0]

def k0_chk22 (i : grid0.Coords) (k0_t1 : Fin k0_t1_loop.trips) (v11345 : BitVec 32) (v11348 : BitVec 32) (v11405 : BitVec 32) : Prop :=
  (∀ (k0_h1 : k0_cond1 i = 1#1), ∀ a, (k0_off45 k0_t1 v11345 v11348 v11405) a + S1x128.size a ≤ S8224x128.size a)
theorem k0_off45_inb : ∀ (i : grid0.Coords) (k0_t1 : Fin k0_t1_loop.trips) (v11345 : BitVec 32) (v11348 : BitVec 32) (v11405 : BitVec 32) (k0_hw22 : k0_chk22 i k0_t1 v11345 v11348 v11405), ∀ (k0_h1 : k0_cond1 i = 1#1), ∀ a, (k0_off45 k0_t1 v11345 v11348 v11405) a + S1x128.size a ≤ S8224x128.size a := fun i k0_t1 v11345 v11348 v11405 k0_hw22 k0_h1 => k0_hw22 k0_h1

def k0_off46 (v11345 : BitVec 32) : Fin 1 → Nat :=
  let c4_i32_4406 : BitVec 32 := 4#32
  let v11416 : BitVec 32 := Scalar.addi v11345 c4_i32_4406
  let v11419 : Index := Scalar.indexCast v11416
  ![v11419.toNat]
def k0_off47 (k0_t1 : Fin k0_t1_loop.trips) (v11345 : BitVec 32) (v11348 : BitVec 32) (v11420 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_4407 : BitVec 32 := 4#32
  let v11417 : BitVec 32 := Scalar.addi v11345 c4_i32_4407
  let v11418 : BitVec 1 := Scalar.cmpi .slt v11417 v11348
  let c65535_i32_4408 : BitVec 32 := 65535#32
  let v11421 : BitVec 32 := Scalar.andi v11420 c65535_i32_4408
  let c2048_i32_4409 : BitVec 32 := 2048#32
  let v11422 : BitVec 32 := Scalar.select v11418 v11421 c2048_i32_4409
  let v11423 : BitVec 32 := Scalar.addi v11087 v11422
  let v11426 : Index := Scalar.indexCast v11423
  let c0_4411 : Index := 0#32
  ![v11426.toNat, 0]

def k0_chk23 (i : grid0.Coords) (k0_t1 : Fin k0_t1_loop.trips) (v11345 : BitVec 32) (v11348 : BitVec 32) (v11420 : BitVec 32) : Prop :=
  (∀ (k0_h1 : k0_cond1 i = 1#1), ∀ a, (k0_off47 k0_t1 v11345 v11348 v11420) a + S1x128.size a ≤ S8224x128.size a)
theorem k0_off47_inb : ∀ (i : grid0.Coords) (k0_t1 : Fin k0_t1_loop.trips) (v11345 : BitVec 32) (v11348 : BitVec 32) (v11420 : BitVec 32) (k0_hw23 : k0_chk23 i k0_t1 v11345 v11348 v11420), ∀ (k0_h1 : k0_cond1 i = 1#1), ∀ a, (k0_off47 k0_t1 v11345 v11348 v11420) a + S1x128.size a ≤ S8224x128.size a := fun i k0_t1 v11345 v11348 v11420 k0_hw23 k0_h1 => k0_hw23 k0_h1

def k0_off48 (v11345 : BitVec 32) : Fin 1 → Nat :=
  let c5_i32_4412 : BitVec 32 := 5#32
  let v11431 : BitVec 32 := Scalar.addi v11345 c5_i32_4412
  let v11434 : Index := Scalar.indexCast v11431
  ![v11434.toNat]
def k0_off49 (k0_t1 : Fin k0_t1_loop.trips) (v11345 : BitVec 32) (v11348 : BitVec 32) (v11435 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_4413 : BitVec 32 := 5#32
  let v11432 : BitVec 32 := Scalar.addi v11345 c5_i32_4413
  let v11433 : BitVec 1 := Scalar.cmpi .slt v11432 v11348
  let c65535_i32_4414 : BitVec 32 := 65535#32
  let v11436 : BitVec 32 := Scalar.andi v11435 c65535_i32_4414
  let c2048_i32_4415 : BitVec 32 := 2048#32
  let v11437 : BitVec 32 := Scalar.select v11433 v11436 c2048_i32_4415
  let v11438 : BitVec 32 := Scalar.addi v11087 v11437
  let v11441 : Index := Scalar.indexCast v11438
  let c0_4417 : Index := 0#32
  ![v11441.toNat, 0]

def k0_chk24 (i : grid0.Coords) (k0_t1 : Fin k0_t1_loop.trips) (v11345 : BitVec 32) (v11348 : BitVec 32) (v11435 : BitVec 32) : Prop :=
  (∀ (k0_h1 : k0_cond1 i = 1#1), ∀ a, (k0_off49 k0_t1 v11345 v11348 v11435) a + S1x128.size a ≤ S8224x128.size a)
theorem k0_off49_inb : ∀ (i : grid0.Coords) (k0_t1 : Fin k0_t1_loop.trips) (v11345 : BitVec 32) (v11348 : BitVec 32) (v11435 : BitVec 32) (k0_hw24 : k0_chk24 i k0_t1 v11345 v11348 v11435), ∀ (k0_h1 : k0_cond1 i = 1#1), ∀ a, (k0_off49 k0_t1 v11345 v11348 v11435) a + S1x128.size a ≤ S8224x128.size a := fun i k0_t1 v11345 v11348 v11435 k0_hw24 k0_h1 => k0_hw24 k0_h1

def k0_off50 (v11345 : BitVec 32) : Fin 1 → Nat :=
  let c6_i32_4418 : BitVec 32 := 6#32
  let v11446 : BitVec 32 := Scalar.addi v11345 c6_i32_4418
  let v11449 : Index := Scalar.indexCast v11446
  ![v11449.toNat]
def k0_off51 (k0_t1 : Fin k0_t1_loop.trips) (v11345 : BitVec 32) (v11348 : BitVec 32) (v11450 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_4419 : BitVec 32 := 6#32
  let v11447 : BitVec 32 := Scalar.addi v11345 c6_i32_4419
  let v11448 : BitVec 1 := Scalar.cmpi .slt v11447 v11348
  let c65535_i32_4420 : BitVec 32 := 65535#32
  let v11451 : BitVec 32 := Scalar.andi v11450 c65535_i32_4420
  let c2048_i32_4421 : BitVec 32 := 2048#32
  let v11452 : BitVec 32 := Scalar.select v11448 v11451 c2048_i32_4421
  let v11453 : BitVec 32 := Scalar.addi v11087 v11452
  let v11456 : Index := Scalar.indexCast v11453
  let c0_4423 : Index := 0#32
  ![v11456.toNat, 0]

def k0_chk25 (i : grid0.Coords) (k0_t1 : Fin k0_t1_loop.trips) (v11345 : BitVec 32) (v11348 : BitVec 32) (v11450 : BitVec 32) : Prop :=
  (∀ (k0_h1 : k0_cond1 i = 1#1), ∀ a, (k0_off51 k0_t1 v11345 v11348 v11450) a + S1x128.size a ≤ S8224x128.size a)
theorem k0_off51_inb : ∀ (i : grid0.Coords) (k0_t1 : Fin k0_t1_loop.trips) (v11345 : BitVec 32) (v11348 : BitVec 32) (v11450 : BitVec 32) (k0_hw25 : k0_chk25 i k0_t1 v11345 v11348 v11450), ∀ (k0_h1 : k0_cond1 i = 1#1), ∀ a, (k0_off51 k0_t1 v11345 v11348 v11450) a + S1x128.size a ≤ S8224x128.size a := fun i k0_t1 v11345 v11348 v11450 k0_hw25 k0_h1 => k0_hw25 k0_h1

def k0_off52 (v11345 : BitVec 32) : Fin 1 → Nat :=
  let c7_i32_4424 : BitVec 32 := 7#32
  let v11461 : BitVec 32 := Scalar.addi v11345 c7_i32_4424
  let v11464 : Index := Scalar.indexCast v11461
  ![v11464.toNat]
def k0_off53 (k0_t1 : Fin k0_t1_loop.trips) (v11345 : BitVec 32) (v11348 : BitVec 32) (v11465 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_4425 : BitVec 32 := 7#32
  let v11462 : BitVec 32 := Scalar.addi v11345 c7_i32_4425
  let v11463 : BitVec 1 := Scalar.cmpi .slt v11462 v11348
  let c65535_i32_4426 : BitVec 32 := 65535#32
  let v11466 : BitVec 32 := Scalar.andi v11465 c65535_i32_4426
  let c2048_i32_4427 : BitVec 32 := 2048#32
  let v11467 : BitVec 32 := Scalar.select v11463 v11466 c2048_i32_4427
  let v11468 : BitVec 32 := Scalar.addi v11087 v11467
  let v11471 : Index := Scalar.indexCast v11468
  let c0_4429 : Index := 0#32
  ![v11471.toNat, 0]

def k0_chk26 (i : grid0.Coords) (k0_t1 : Fin k0_t1_loop.trips) (v11345 : BitVec 32) (v11348 : BitVec 32) (v11465 : BitVec 32) : Prop :=
  (∀ (k0_h1 : k0_cond1 i = 1#1), ∀ a, (k0_off53 k0_t1 v11345 v11348 v11465) a + S1x128.size a ≤ S8224x128.size a)
theorem k0_off53_inb : ∀ (i : grid0.Coords) (k0_t1 : Fin k0_t1_loop.trips) (v11345 : BitVec 32) (v11348 : BitVec 32) (v11465 : BitVec 32) (k0_hw26 : k0_chk26 i k0_t1 v11345 v11348 v11465), ∀ (k0_h1 : k0_cond1 i = 1#1), ∀ a, (k0_off53 k0_t1 v11345 v11348 v11465) a + S1x128.size a ≤ S8224x128.size a := fun i k0_t1 v11345 v11348 v11465 k0_hw26 k0_h1 => k0_hw26 k0_h1

def k0_off54 (v11345 : BitVec 32) : Fin 1 → Nat :=
  let c8_i32_4430 : BitVec 32 := 8#32
  let v11476 : BitVec 32 := Scalar.addi v11345 c8_i32_4430
  let v11479 : Index := Scalar.indexCast v11476
  ![v11479.toNat]
def k0_off55 (k0_t1 : Fin k0_t1_loop.trips) (v11345 : BitVec 32) (v11348 : BitVec 32) (v11480 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_4431 : BitVec 32 := 8#32
  let v11477 : BitVec 32 := Scalar.addi v11345 c8_i32_4431
  let v11478 : BitVec 1 := Scalar.cmpi .slt v11477 v11348
  let c65535_i32_4432 : BitVec 32 := 65535#32
  let v11481 : BitVec 32 := Scalar.andi v11480 c65535_i32_4432
  let c2048_i32_4433 : BitVec 32 := 2048#32
  let v11482 : BitVec 32 := Scalar.select v11478 v11481 c2048_i32_4433
  let v11483 : BitVec 32 := Scalar.addi v11087 v11482
  let v11486 : Index := Scalar.indexCast v11483
  let c0_4435 : Index := 0#32
  ![v11486.toNat, 0]

def k0_chk27 (i : grid0.Coords) (k0_t1 : Fin k0_t1_loop.trips) (v11345 : BitVec 32) (v11348 : BitVec 32) (v11480 : BitVec 32) : Prop :=
  (∀ (k0_h1 : k0_cond1 i = 1#1), ∀ a, (k0_off55 k0_t1 v11345 v11348 v11480) a + S1x128.size a ≤ S8224x128.size a)
theorem k0_off55_inb : ∀ (i : grid0.Coords) (k0_t1 : Fin k0_t1_loop.trips) (v11345 : BitVec 32) (v11348 : BitVec 32) (v11480 : BitVec 32) (k0_hw27 : k0_chk27 i k0_t1 v11345 v11348 v11480), ∀ (k0_h1 : k0_cond1 i = 1#1), ∀ a, (k0_off55 k0_t1 v11345 v11348 v11480) a + S1x128.size a ≤ S8224x128.size a := fun i k0_t1 v11345 v11348 v11480 k0_hw27 k0_h1 => k0_hw27 k0_h1

def k0_off56 (v11345 : BitVec 32) : Fin 1 → Nat :=
  let c9_i32_4436 : BitVec 32 := 9#32
  let v11491 : BitVec 32 := Scalar.addi v11345 c9_i32_4436
  let v11494 : Index := Scalar.indexCast v11491
  ![v11494.toNat]
def k0_off57 (k0_t1 : Fin k0_t1_loop.trips) (v11345 : BitVec 32) (v11348 : BitVec 32) (v11495 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_4437 : BitVec 32 := 9#32
  let v11492 : BitVec 32 := Scalar.addi v11345 c9_i32_4437
  let v11493 : BitVec 1 := Scalar.cmpi .slt v11492 v11348
  let c65535_i32_4438 : BitVec 32 := 65535#32
  let v11496 : BitVec 32 := Scalar.andi v11495 c65535_i32_4438
  let c2048_i32_4439 : BitVec 32 := 2048#32
  let v11497 : BitVec 32 := Scalar.select v11493 v11496 c2048_i32_4439
  let v11498 : BitVec 32 := Scalar.addi v11087 v11497
  let v11501 : Index := Scalar.indexCast v11498
  let c0_4441 : Index := 0#32
  ![v11501.toNat, 0]

def k0_chk28 (i : grid0.Coords) (k0_t1 : Fin k0_t1_loop.trips) (v11345 : BitVec 32) (v11348 : BitVec 32) (v11495 : BitVec 32) : Prop :=
  (∀ (k0_h1 : k0_cond1 i = 1#1), ∀ a, (k0_off57 k0_t1 v11345 v11348 v11495) a + S1x128.size a ≤ S8224x128.size a)
theorem k0_off57_inb : ∀ (i : grid0.Coords) (k0_t1 : Fin k0_t1_loop.trips) (v11345 : BitVec 32) (v11348 : BitVec 32) (v11495 : BitVec 32) (k0_hw28 : k0_chk28 i k0_t1 v11345 v11348 v11495), ∀ (k0_h1 : k0_cond1 i = 1#1), ∀ a, (k0_off57 k0_t1 v11345 v11348 v11495) a + S1x128.size a ≤ S8224x128.size a := fun i k0_t1 v11345 v11348 v11495 k0_hw28 k0_h1 => k0_hw28 k0_h1

def k0_off58 (v11345 : BitVec 32) : Fin 1 → Nat :=
  let c10_i32_4442 : BitVec 32 := 10#32
  let v11506 : BitVec 32 := Scalar.addi v11345 c10_i32_4442
  let v11509 : Index := Scalar.indexCast v11506
  ![v11509.toNat]
def k0_off59 (k0_t1 : Fin k0_t1_loop.trips) (v11345 : BitVec 32) (v11348 : BitVec 32) (v11510 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_4443 : BitVec 32 := 10#32
  let v11507 : BitVec 32 := Scalar.addi v11345 c10_i32_4443
  let v11508 : BitVec 1 := Scalar.cmpi .slt v11507 v11348
  let c65535_i32_4444 : BitVec 32 := 65535#32
  let v11511 : BitVec 32 := Scalar.andi v11510 c65535_i32_4444
  let c2048_i32_4445 : BitVec 32 := 2048#32
  let v11512 : BitVec 32 := Scalar.select v11508 v11511 c2048_i32_4445
  let v11513 : BitVec 32 := Scalar.addi v11087 v11512
  let v11516 : Index := Scalar.indexCast v11513
  let c0_4447 : Index := 0#32
  ![v11516.toNat, 0]

def k0_chk29 (i : grid0.Coords) (k0_t1 : Fin k0_t1_loop.trips) (v11345 : BitVec 32) (v11348 : BitVec 32) (v11510 : BitVec 32) : Prop :=
  (∀ (k0_h1 : k0_cond1 i = 1#1), ∀ a, (k0_off59 k0_t1 v11345 v11348 v11510) a + S1x128.size a ≤ S8224x128.size a)
theorem k0_off59_inb : ∀ (i : grid0.Coords) (k0_t1 : Fin k0_t1_loop.trips) (v11345 : BitVec 32) (v11348 : BitVec 32) (v11510 : BitVec 32) (k0_hw29 : k0_chk29 i k0_t1 v11345 v11348 v11510), ∀ (k0_h1 : k0_cond1 i = 1#1), ∀ a, (k0_off59 k0_t1 v11345 v11348 v11510) a + S1x128.size a ≤ S8224x128.size a := fun i k0_t1 v11345 v11348 v11510 k0_hw29 k0_h1 => k0_hw29 k0_h1

def k0_off60 (v11345 : BitVec 32) : Fin 1 → Nat :=
  let c11_i32_4448 : BitVec 32 := 11#32
  let v11521 : BitVec 32 := Scalar.addi v11345 c11_i32_4448
  let v11524 : Index := Scalar.indexCast v11521
  ![v11524.toNat]
def k0_off61 (k0_t1 : Fin k0_t1_loop.trips) (v11345 : BitVec 32) (v11348 : BitVec 32) (v11525 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_4449 : BitVec 32 := 11#32
  let v11522 : BitVec 32 := Scalar.addi v11345 c11_i32_4449
  let v11523 : BitVec 1 := Scalar.cmpi .slt v11522 v11348
  let c65535_i32_4450 : BitVec 32 := 65535#32
  let v11526 : BitVec 32 := Scalar.andi v11525 c65535_i32_4450
  let c2048_i32_4451 : BitVec 32 := 2048#32
  let v11527 : BitVec 32 := Scalar.select v11523 v11526 c2048_i32_4451
  let v11528 : BitVec 32 := Scalar.addi v11087 v11527
  let v11531 : Index := Scalar.indexCast v11528
  let c0_4453 : Index := 0#32
  ![v11531.toNat, 0]

def k0_chk30 (i : grid0.Coords) (k0_t1 : Fin k0_t1_loop.trips) (v11345 : BitVec 32) (v11348 : BitVec 32) (v11525 : BitVec 32) : Prop :=
  (∀ (k0_h1 : k0_cond1 i = 1#1), ∀ a, (k0_off61 k0_t1 v11345 v11348 v11525) a + S1x128.size a ≤ S8224x128.size a)
theorem k0_off61_inb : ∀ (i : grid0.Coords) (k0_t1 : Fin k0_t1_loop.trips) (v11345 : BitVec 32) (v11348 : BitVec 32) (v11525 : BitVec 32) (k0_hw30 : k0_chk30 i k0_t1 v11345 v11348 v11525), ∀ (k0_h1 : k0_cond1 i = 1#1), ∀ a, (k0_off61 k0_t1 v11345 v11348 v11525) a + S1x128.size a ≤ S8224x128.size a := fun i k0_t1 v11345 v11348 v11525 k0_hw30 k0_h1 => k0_hw30 k0_h1

def k0_off62 (v11345 : BitVec 32) : Fin 1 → Nat :=
  let c12_i32_4454 : BitVec 32 := 12#32
  let v11536 : BitVec 32 := Scalar.addi v11345 c12_i32_4454
  let v11539 : Index := Scalar.indexCast v11536
  ![v11539.toNat]
def k0_off63 (k0_t1 : Fin k0_t1_loop.trips) (v11345 : BitVec 32) (v11348 : BitVec 32) (v11540 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_4455 : BitVec 32 := 12#32
  let v11537 : BitVec 32 := Scalar.addi v11345 c12_i32_4455
  let v11538 : BitVec 1 := Scalar.cmpi .slt v11537 v11348
  let c65535_i32_4456 : BitVec 32 := 65535#32
  let v11541 : BitVec 32 := Scalar.andi v11540 c65535_i32_4456
  let c2048_i32_4457 : BitVec 32 := 2048#32
  let v11542 : BitVec 32 := Scalar.select v11538 v11541 c2048_i32_4457
  let v11543 : BitVec 32 := Scalar.addi v11087 v11542
  let v11546 : Index := Scalar.indexCast v11543
  let c0_4459 : Index := 0#32
  ![v11546.toNat, 0]

def k0_chk31 (i : grid0.Coords) (k0_t1 : Fin k0_t1_loop.trips) (v11345 : BitVec 32) (v11348 : BitVec 32) (v11540 : BitVec 32) : Prop :=
  (∀ (k0_h1 : k0_cond1 i = 1#1), ∀ a, (k0_off63 k0_t1 v11345 v11348 v11540) a + S1x128.size a ≤ S8224x128.size a)
theorem k0_off63_inb : ∀ (i : grid0.Coords) (k0_t1 : Fin k0_t1_loop.trips) (v11345 : BitVec 32) (v11348 : BitVec 32) (v11540 : BitVec 32) (k0_hw31 : k0_chk31 i k0_t1 v11345 v11348 v11540), ∀ (k0_h1 : k0_cond1 i = 1#1), ∀ a, (k0_off63 k0_t1 v11345 v11348 v11540) a + S1x128.size a ≤ S8224x128.size a := fun i k0_t1 v11345 v11348 v11540 k0_hw31 k0_h1 => k0_hw31 k0_h1

def k0_off64 (v11345 : BitVec 32) : Fin 1 → Nat :=
  let c13_i32_4460 : BitVec 32 := 13#32
  let v11551 : BitVec 32 := Scalar.addi v11345 c13_i32_4460
  let v11554 : Index := Scalar.indexCast v11551
  ![v11554.toNat]
def k0_off65 (k0_t1 : Fin k0_t1_loop.trips) (v11345 : BitVec 32) (v11348 : BitVec 32) (v11555 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_4461 : BitVec 32 := 13#32
  let v11552 : BitVec 32 := Scalar.addi v11345 c13_i32_4461
  let v11553 : BitVec 1 := Scalar.cmpi .slt v11552 v11348
  let c65535_i32_4462 : BitVec 32 := 65535#32
  let v11556 : BitVec 32 := Scalar.andi v11555 c65535_i32_4462
  let c2048_i32_4463 : BitVec 32 := 2048#32
  let v11557 : BitVec 32 := Scalar.select v11553 v11556 c2048_i32_4463
  let v11558 : BitVec 32 := Scalar.addi v11087 v11557
  let v11561 : Index := Scalar.indexCast v11558
  let c0_4465 : Index := 0#32
  ![v11561.toNat, 0]

def k0_chk32 (i : grid0.Coords) (k0_t1 : Fin k0_t1_loop.trips) (v11345 : BitVec 32) (v11348 : BitVec 32) (v11555 : BitVec 32) : Prop :=
  (∀ (k0_h1 : k0_cond1 i = 1#1), ∀ a, (k0_off65 k0_t1 v11345 v11348 v11555) a + S1x128.size a ≤ S8224x128.size a)
theorem k0_off65_inb : ∀ (i : grid0.Coords) (k0_t1 : Fin k0_t1_loop.trips) (v11345 : BitVec 32) (v11348 : BitVec 32) (v11555 : BitVec 32) (k0_hw32 : k0_chk32 i k0_t1 v11345 v11348 v11555), ∀ (k0_h1 : k0_cond1 i = 1#1), ∀ a, (k0_off65 k0_t1 v11345 v11348 v11555) a + S1x128.size a ≤ S8224x128.size a := fun i k0_t1 v11345 v11348 v11555 k0_hw32 k0_h1 => k0_hw32 k0_h1

def k0_off66 (v11345 : BitVec 32) : Fin 1 → Nat :=
  let c14_i32_4466 : BitVec 32 := 14#32
  let v11566 : BitVec 32 := Scalar.addi v11345 c14_i32_4466
  let v11569 : Index := Scalar.indexCast v11566
  ![v11569.toNat]
def k0_off67 (k0_t1 : Fin k0_t1_loop.trips) (v11345 : BitVec 32) (v11348 : BitVec 32) (v11570 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_4467 : BitVec 32 := 14#32
  let v11567 : BitVec 32 := Scalar.addi v11345 c14_i32_4467
  let v11568 : BitVec 1 := Scalar.cmpi .slt v11567 v11348
  let c65535_i32_4468 : BitVec 32 := 65535#32
  let v11571 : BitVec 32 := Scalar.andi v11570 c65535_i32_4468
  let c2048_i32_4469 : BitVec 32 := 2048#32
  let v11572 : BitVec 32 := Scalar.select v11568 v11571 c2048_i32_4469
  let v11573 : BitVec 32 := Scalar.addi v11087 v11572
  let v11576 : Index := Scalar.indexCast v11573
  let c0_4471 : Index := 0#32
  ![v11576.toNat, 0]

def k0_chk33 (i : grid0.Coords) (k0_t1 : Fin k0_t1_loop.trips) (v11345 : BitVec 32) (v11348 : BitVec 32) (v11570 : BitVec 32) : Prop :=
  (∀ (k0_h1 : k0_cond1 i = 1#1), ∀ a, (k0_off67 k0_t1 v11345 v11348 v11570) a + S1x128.size a ≤ S8224x128.size a)
theorem k0_off67_inb : ∀ (i : grid0.Coords) (k0_t1 : Fin k0_t1_loop.trips) (v11345 : BitVec 32) (v11348 : BitVec 32) (v11570 : BitVec 32) (k0_hw33 : k0_chk33 i k0_t1 v11345 v11348 v11570), ∀ (k0_h1 : k0_cond1 i = 1#1), ∀ a, (k0_off67 k0_t1 v11345 v11348 v11570) a + S1x128.size a ≤ S8224x128.size a := fun i k0_t1 v11345 v11348 v11570 k0_hw33 k0_h1 => k0_hw33 k0_h1

def k0_off68 (v11345 : BitVec 32) : Fin 1 → Nat :=
  let c15_i32_4472 : BitVec 32 := 15#32
  let v11581 : BitVec 32 := Scalar.addi v11345 c15_i32_4472
  let v11584 : Index := Scalar.indexCast v11581
  ![v11584.toNat]

def k0_chk18 (i : grid0.Coords) (v11345 : BitVec 32) : Prop :=
  (∀ (k0_h1 : k0_cond1 i = 1#1), ∀ a, (k0_off38 v11345) a + S1.size a ≤ S51920.size a) ∧
  (∀ (k0_h1 : k0_cond1 i = 1#1), ∀ a, (k0_off40 v11345) a + S1.size a ≤ S51920.size a) ∧
  (∀ (k0_h1 : k0_cond1 i = 1#1), ∀ a, (k0_off42 v11345) a + S1.size a ≤ S51920.size a) ∧
  (∀ (k0_h1 : k0_cond1 i = 1#1), ∀ a, (k0_off44 v11345) a + S1.size a ≤ S51920.size a) ∧
  (∀ (k0_h1 : k0_cond1 i = 1#1), ∀ a, (k0_off46 v11345) a + S1.size a ≤ S51920.size a) ∧
  (∀ (k0_h1 : k0_cond1 i = 1#1), ∀ a, (k0_off48 v11345) a + S1.size a ≤ S51920.size a) ∧
  (∀ (k0_h1 : k0_cond1 i = 1#1), ∀ a, (k0_off50 v11345) a + S1.size a ≤ S51920.size a) ∧
  (∀ (k0_h1 : k0_cond1 i = 1#1), ∀ a, (k0_off52 v11345) a + S1.size a ≤ S51920.size a) ∧
  (∀ (k0_h1 : k0_cond1 i = 1#1), ∀ a, (k0_off54 v11345) a + S1.size a ≤ S51920.size a) ∧
  (∀ (k0_h1 : k0_cond1 i = 1#1), ∀ a, (k0_off56 v11345) a + S1.size a ≤ S51920.size a) ∧
  (∀ (k0_h1 : k0_cond1 i = 1#1), ∀ a, (k0_off58 v11345) a + S1.size a ≤ S51920.size a) ∧
  (∀ (k0_h1 : k0_cond1 i = 1#1), ∀ a, (k0_off60 v11345) a + S1.size a ≤ S51920.size a) ∧
  (∀ (k0_h1 : k0_cond1 i = 1#1), ∀ a, (k0_off62 v11345) a + S1.size a ≤ S51920.size a) ∧
  (∀ (k0_h1 : k0_cond1 i = 1#1), ∀ a, (k0_off64 v11345) a + S1.size a ≤ S51920.size a) ∧
  (∀ (k0_h1 : k0_cond1 i = 1#1), ∀ a, (k0_off66 v11345) a + S1.size a ≤ S51920.size a) ∧
  (∀ (k0_h1 : k0_cond1 i = 1#1), ∀ a, (k0_off68 v11345) a + S1.size a ≤ S51920.size a)
theorem k0_off38_inb : ∀ (i : grid0.Coords) (v11345 : BitVec 32) (k0_hw18 : k0_chk18 i v11345), ∀ (k0_h1 : k0_cond1 i = 1#1), ∀ a, (k0_off38 v11345) a + S1.size a ≤ S51920.size a := fun i v11345 k0_hw18 k0_h1 => k0_hw18.1 k0_h1
theorem k0_off40_inb : ∀ (i : grid0.Coords) (v11345 : BitVec 32) (k0_hw18 : k0_chk18 i v11345), ∀ (k0_h1 : k0_cond1 i = 1#1), ∀ a, (k0_off40 v11345) a + S1.size a ≤ S51920.size a := fun i v11345 k0_hw18 k0_h1 => k0_hw18.2.1 k0_h1
theorem k0_off42_inb : ∀ (i : grid0.Coords) (v11345 : BitVec 32) (k0_hw18 : k0_chk18 i v11345), ∀ (k0_h1 : k0_cond1 i = 1#1), ∀ a, (k0_off42 v11345) a + S1.size a ≤ S51920.size a := fun i v11345 k0_hw18 k0_h1 => k0_hw18.2.2.1 k0_h1
theorem k0_off44_inb : ∀ (i : grid0.Coords) (v11345 : BitVec 32) (k0_hw18 : k0_chk18 i v11345), ∀ (k0_h1 : k0_cond1 i = 1#1), ∀ a, (k0_off44 v11345) a + S1.size a ≤ S51920.size a := fun i v11345 k0_hw18 k0_h1 => k0_hw18.2.2.2.1 k0_h1
theorem k0_off46_inb : ∀ (i : grid0.Coords) (v11345 : BitVec 32) (k0_hw18 : k0_chk18 i v11345), ∀ (k0_h1 : k0_cond1 i = 1#1), ∀ a, (k0_off46 v11345) a + S1.size a ≤ S51920.size a := fun i v11345 k0_hw18 k0_h1 => k0_hw18.2.2.2.2.1 k0_h1
theorem k0_off48_inb : ∀ (i : grid0.Coords) (v11345 : BitVec 32) (k0_hw18 : k0_chk18 i v11345), ∀ (k0_h1 : k0_cond1 i = 1#1), ∀ a, (k0_off48 v11345) a + S1.size a ≤ S51920.size a := fun i v11345 k0_hw18 k0_h1 => k0_hw18.2.2.2.2.2.1 k0_h1
theorem k0_off50_inb : ∀ (i : grid0.Coords) (v11345 : BitVec 32) (k0_hw18 : k0_chk18 i v11345), ∀ (k0_h1 : k0_cond1 i = 1#1), ∀ a, (k0_off50 v11345) a + S1.size a ≤ S51920.size a := fun i v11345 k0_hw18 k0_h1 => k0_hw18.2.2.2.2.2.2.1 k0_h1
theorem k0_off52_inb : ∀ (i : grid0.Coords) (v11345 : BitVec 32) (k0_hw18 : k0_chk18 i v11345), ∀ (k0_h1 : k0_cond1 i = 1#1), ∀ a, (k0_off52 v11345) a + S1.size a ≤ S51920.size a := fun i v11345 k0_hw18 k0_h1 => k0_hw18.2.2.2.2.2.2.2.1 k0_h1
theorem k0_off54_inb : ∀ (i : grid0.Coords) (v11345 : BitVec 32) (k0_hw18 : k0_chk18 i v11345), ∀ (k0_h1 : k0_cond1 i = 1#1), ∀ a, (k0_off54 v11345) a + S1.size a ≤ S51920.size a := fun i v11345 k0_hw18 k0_h1 => k0_hw18.2.2.2.2.2.2.2.2.1 k0_h1
theorem k0_off56_inb : ∀ (i : grid0.Coords) (v11345 : BitVec 32) (k0_hw18 : k0_chk18 i v11345), ∀ (k0_h1 : k0_cond1 i = 1#1), ∀ a, (k0_off56 v11345) a + S1.size a ≤ S51920.size a := fun i v11345 k0_hw18 k0_h1 => k0_hw18.2.2.2.2.2.2.2.2.2.1 k0_h1
theorem k0_off58_inb : ∀ (i : grid0.Coords) (v11345 : BitVec 32) (k0_hw18 : k0_chk18 i v11345), ∀ (k0_h1 : k0_cond1 i = 1#1), ∀ a, (k0_off58 v11345) a + S1.size a ≤ S51920.size a := fun i v11345 k0_hw18 k0_h1 => k0_hw18.2.2.2.2.2.2.2.2.2.2.1 k0_h1
theorem k0_off60_inb : ∀ (i : grid0.Coords) (v11345 : BitVec 32) (k0_hw18 : k0_chk18 i v11345), ∀ (k0_h1 : k0_cond1 i = 1#1), ∀ a, (k0_off60 v11345) a + S1.size a ≤ S51920.size a := fun i v11345 k0_hw18 k0_h1 => k0_hw18.2.2.2.2.2.2.2.2.2.2.2.1 k0_h1
theorem k0_off62_inb : ∀ (i : grid0.Coords) (v11345 : BitVec 32) (k0_hw18 : k0_chk18 i v11345), ∀ (k0_h1 : k0_cond1 i = 1#1), ∀ a, (k0_off62 v11345) a + S1.size a ≤ S51920.size a := fun i v11345 k0_hw18 k0_h1 => k0_hw18.2.2.2.2.2.2.2.2.2.2.2.2.1 k0_h1
theorem k0_off64_inb : ∀ (i : grid0.Coords) (v11345 : BitVec 32) (k0_hw18 : k0_chk18 i v11345), ∀ (k0_h1 : k0_cond1 i = 1#1), ∀ a, (k0_off64 v11345) a + S1.size a ≤ S51920.size a := fun i v11345 k0_hw18 k0_h1 => k0_hw18.2.2.2.2.2.2.2.2.2.2.2.2.2.1 k0_h1
theorem k0_off66_inb : ∀ (i : grid0.Coords) (v11345 : BitVec 32) (k0_hw18 : k0_chk18 i v11345), ∀ (k0_h1 : k0_cond1 i = 1#1), ∀ a, (k0_off66 v11345) a + S1.size a ≤ S51920.size a := fun i v11345 k0_hw18 k0_h1 => k0_hw18.2.2.2.2.2.2.2.2.2.2.2.2.2.2.1 k0_h1
theorem k0_off68_inb : ∀ (i : grid0.Coords) (v11345 : BitVec 32) (k0_hw18 : k0_chk18 i v11345), ∀ (k0_h1 : k0_cond1 i = 1#1), ∀ a, (k0_off68 v11345) a + S1.size a ≤ S51920.size a := fun i v11345 k0_hw18 k0_h1 => k0_hw18.2.2.2.2.2.2.2.2.2.2.2.2.2.2.2 k0_h1

def k0_off69 (k0_t1 : Fin k0_t1_loop.trips) (v11345 : BitVec 32) (v11348 : BitVec 32) (v11585 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_4473 : BitVec 32 := 15#32
  let v11582 : BitVec 32 := Scalar.addi v11345 c15_i32_4473
  let v11583 : BitVec 1 := Scalar.cmpi .slt v11582 v11348
  let c65535_i32_4474 : BitVec 32 := 65535#32
  let v11586 : BitVec 32 := Scalar.andi v11585 c65535_i32_4474
  let c2048_i32_4475 : BitVec 32 := 2048#32
  let v11587 : BitVec 32 := Scalar.select v11583 v11586 c2048_i32_4475
  let v11588 : BitVec 32 := Scalar.addi v11087 v11587
  let v11591 : Index := Scalar.indexCast v11588
  let c0_4477 : Index := 0#32
  ![v11591.toNat, 0]

def k0_chk34 (i : grid0.Coords) (k0_t1 : Fin k0_t1_loop.trips) (v11345 : BitVec 32) (v11348 : BitVec 32) (v11585 : BitVec 32) : Prop :=
  (∀ (k0_h1 : k0_cond1 i = 1#1), ∀ a, (k0_off69 k0_t1 v11345 v11348 v11585) a + S1x128.size a ≤ S8224x128.size a)
theorem k0_off69_inb : ∀ (i : grid0.Coords) (k0_t1 : Fin k0_t1_loop.trips) (v11345 : BitVec 32) (v11348 : BitVec 32) (v11585 : BitVec 32) (k0_hw34 : k0_chk34 i k0_t1 v11345 v11348 v11585), ∀ (k0_h1 : k0_cond1 i = 1#1), ∀ a, (k0_off69 k0_t1 v11345 v11348 v11585) a + S1x128.size a ≤ S8224x128.size a := fun i k0_t1 v11345 v11348 v11585 k0_hw34 k0_h1 => k0_hw34 k0_h1

def k0_off70 (k0_t1 : Fin k0_t1_loop.trips) : Fin 1 → Nat :=
  let c0_i32_4478 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v11596 : BitVec 32 := Scalar.addi c0_i32_4478 v11069
  let c2_i32_4479 : BitVec 32 := 2#32
  let v11597 : BitVec 32 := Scalar.addi v11596 c2_i32_4479
  let v11598 : Index := Scalar.indexCast v11597
  ![v11598.toNat]
def k0_off71 (k0_t1 : Fin k0_t1_loop.trips) : Fin 1 → Nat :=
  let c0_i32_4478 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v11596 : BitVec 32 := Scalar.addi c0_i32_4478 v11069
  let c2_i32_4479 : BitVec 32 := 2#32
  let v11597 : BitVec 32 := Scalar.addi v11596 c2_i32_4479
  let c1_i32_4480 : BitVec 32 := 1#32
  let v11600 : BitVec 32 := Scalar.addi v11597 c1_i32_4480
  let v11601 : Index := Scalar.indexCast v11600
  ![v11601.toNat]
def k0_off72 (v11599 : BitVec 32) : Fin 1 → Nat :=
  let c0_i32_4483 : BitVec 32 := 0#32
  let v11610 : BitVec 32 := Scalar.addi v11599 c0_i32_4483
  let v11613 : Index := Scalar.indexCast v11610
  ![v11613.toNat]

def k0_off73 (k0_t1 : Fin k0_t1_loop.trips) (v11599 : BitVec 32) (v11602 : BitVec 32) (v11614 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_4484 : BitVec 32 := 0#32
  let v11611 : BitVec 32 := Scalar.addi v11599 c0_i32_4484
  let v11612 : BitVec 1 := Scalar.cmpi .slt v11611 v11602
  let c65535_i32_4485 : BitVec 32 := 65535#32
  let v11615 : BitVec 32 := Scalar.andi v11614 c65535_i32_4485
  let c2048_i32_4486 : BitVec 32 := 2048#32
  let v11616 : BitVec 32 := Scalar.select v11612 v11615 c2048_i32_4486
  let v11617 : BitVec 32 := Scalar.addi v11087 v11616
  let v11620 : Index := Scalar.indexCast v11617
  let c0_4488 : Index := 0#32
  ![v11620.toNat, 0]

def k0_chk36 (i : grid0.Coords) (k0_t1 : Fin k0_t1_loop.trips) (v11599 : BitVec 32) (v11602 : BitVec 32) (v11614 : BitVec 32) : Prop :=
  (∀ (k0_h1 : k0_cond1 i = 1#1), ∀ a, (k0_off73 k0_t1 v11599 v11602 v11614) a + S1x128.size a ≤ S8224x128.size a)
theorem k0_off73_inb : ∀ (i : grid0.Coords) (k0_t1 : Fin k0_t1_loop.trips) (v11599 : BitVec 32) (v11602 : BitVec 32) (v11614 : BitVec 32) (k0_hw36 : k0_chk36 i k0_t1 v11599 v11602 v11614), ∀ (k0_h1 : k0_cond1 i = 1#1), ∀ a, (k0_off73 k0_t1 v11599 v11602 v11614) a + S1x128.size a ≤ S8224x128.size a := fun i k0_t1 v11599 v11602 v11614 k0_hw36 k0_h1 => k0_hw36 k0_h1

def k0_off74 (v11599 : BitVec 32) : Fin 1 → Nat :=
  let c1_i32_4489 : BitVec 32 := 1#32
  let v11625 : BitVec 32 := Scalar.addi v11599 c1_i32_4489
  let v11628 : Index := Scalar.indexCast v11625
  ![v11628.toNat]
def k0_off75 (k0_t1 : Fin k0_t1_loop.trips) (v11599 : BitVec 32) (v11602 : BitVec 32) (v11629 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_4490 : BitVec 32 := 1#32
  let v11626 : BitVec 32 := Scalar.addi v11599 c1_i32_4490
  let v11627 : BitVec 1 := Scalar.cmpi .slt v11626 v11602
  let c65535_i32_4491 : BitVec 32 := 65535#32
  let v11630 : BitVec 32 := Scalar.andi v11629 c65535_i32_4491
  let c2048_i32_4492 : BitVec 32 := 2048#32
  let v11631 : BitVec 32 := Scalar.select v11627 v11630 c2048_i32_4492
  let v11632 : BitVec 32 := Scalar.addi v11087 v11631
  let v11635 : Index := Scalar.indexCast v11632
  let c0_4494 : Index := 0#32
  ![v11635.toNat, 0]

def k0_chk37 (i : grid0.Coords) (k0_t1 : Fin k0_t1_loop.trips) (v11599 : BitVec 32) (v11602 : BitVec 32) (v11629 : BitVec 32) : Prop :=
  (∀ (k0_h1 : k0_cond1 i = 1#1), ∀ a, (k0_off75 k0_t1 v11599 v11602 v11629) a + S1x128.size a ≤ S8224x128.size a)
theorem k0_off75_inb : ∀ (i : grid0.Coords) (k0_t1 : Fin k0_t1_loop.trips) (v11599 : BitVec 32) (v11602 : BitVec 32) (v11629 : BitVec 32) (k0_hw37 : k0_chk37 i k0_t1 v11599 v11602 v11629), ∀ (k0_h1 : k0_cond1 i = 1#1), ∀ a, (k0_off75 k0_t1 v11599 v11602 v11629) a + S1x128.size a ≤ S8224x128.size a := fun i k0_t1 v11599 v11602 v11629 k0_hw37 k0_h1 => k0_hw37 k0_h1

def k0_off76 (v11599 : BitVec 32) : Fin 1 → Nat :=
  let c2_i32_4495 : BitVec 32 := 2#32
  let v11640 : BitVec 32 := Scalar.addi v11599 c2_i32_4495
  let v11643 : Index := Scalar.indexCast v11640
  ![v11643.toNat]
def k0_off77 (k0_t1 : Fin k0_t1_loop.trips) (v11599 : BitVec 32) (v11602 : BitVec 32) (v11644 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_4496 : BitVec 32 := 2#32
  let v11641 : BitVec 32 := Scalar.addi v11599 c2_i32_4496
  let v11642 : BitVec 1 := Scalar.cmpi .slt v11641 v11602
  let c65535_i32_4497 : BitVec 32 := 65535#32
  let v11645 : BitVec 32 := Scalar.andi v11644 c65535_i32_4497
  let c2048_i32_4498 : BitVec 32 := 2048#32
  let v11646 : BitVec 32 := Scalar.select v11642 v11645 c2048_i32_4498
  let v11647 : BitVec 32 := Scalar.addi v11087 v11646
  let v11650 : Index := Scalar.indexCast v11647
  let c0_4500 : Index := 0#32
  ![v11650.toNat, 0]

def k0_chk38 (i : grid0.Coords) (k0_t1 : Fin k0_t1_loop.trips) (v11599 : BitVec 32) (v11602 : BitVec 32) (v11644 : BitVec 32) : Prop :=
  (∀ (k0_h1 : k0_cond1 i = 1#1), ∀ a, (k0_off77 k0_t1 v11599 v11602 v11644) a + S1x128.size a ≤ S8224x128.size a)
theorem k0_off77_inb : ∀ (i : grid0.Coords) (k0_t1 : Fin k0_t1_loop.trips) (v11599 : BitVec 32) (v11602 : BitVec 32) (v11644 : BitVec 32) (k0_hw38 : k0_chk38 i k0_t1 v11599 v11602 v11644), ∀ (k0_h1 : k0_cond1 i = 1#1), ∀ a, (k0_off77 k0_t1 v11599 v11602 v11644) a + S1x128.size a ≤ S8224x128.size a := fun i k0_t1 v11599 v11602 v11644 k0_hw38 k0_h1 => k0_hw38 k0_h1

def k0_off78 (v11599 : BitVec 32) : Fin 1 → Nat :=
  let c3_i32_4501 : BitVec 32 := 3#32
  let v11655 : BitVec 32 := Scalar.addi v11599 c3_i32_4501
  let v11658 : Index := Scalar.indexCast v11655
  ![v11658.toNat]
def k0_off79 (k0_t1 : Fin k0_t1_loop.trips) (v11599 : BitVec 32) (v11602 : BitVec 32) (v11659 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_4502 : BitVec 32 := 3#32
  let v11656 : BitVec 32 := Scalar.addi v11599 c3_i32_4502
  let v11657 : BitVec 1 := Scalar.cmpi .slt v11656 v11602
  let c65535_i32_4503 : BitVec 32 := 65535#32
  let v11660 : BitVec 32 := Scalar.andi v11659 c65535_i32_4503
  let c2048_i32_4504 : BitVec 32 := 2048#32
  let v11661 : BitVec 32 := Scalar.select v11657 v11660 c2048_i32_4504
  let v11662 : BitVec 32 := Scalar.addi v11087 v11661
  let v11665 : Index := Scalar.indexCast v11662
  let c0_4506 : Index := 0#32
  ![v11665.toNat, 0]

def k0_chk39 (i : grid0.Coords) (k0_t1 : Fin k0_t1_loop.trips) (v11599 : BitVec 32) (v11602 : BitVec 32) (v11659 : BitVec 32) : Prop :=
  (∀ (k0_h1 : k0_cond1 i = 1#1), ∀ a, (k0_off79 k0_t1 v11599 v11602 v11659) a + S1x128.size a ≤ S8224x128.size a)
theorem k0_off79_inb : ∀ (i : grid0.Coords) (k0_t1 : Fin k0_t1_loop.trips) (v11599 : BitVec 32) (v11602 : BitVec 32) (v11659 : BitVec 32) (k0_hw39 : k0_chk39 i k0_t1 v11599 v11602 v11659), ∀ (k0_h1 : k0_cond1 i = 1#1), ∀ a, (k0_off79 k0_t1 v11599 v11602 v11659) a + S1x128.size a ≤ S8224x128.size a := fun i k0_t1 v11599 v11602 v11659 k0_hw39 k0_h1 => k0_hw39 k0_h1

def k0_off80 (v11599 : BitVec 32) : Fin 1 → Nat :=
  let c4_i32_4507 : BitVec 32 := 4#32
  let v11670 : BitVec 32 := Scalar.addi v11599 c4_i32_4507
  let v11673 : Index := Scalar.indexCast v11670
  ![v11673.toNat]
def k0_off81 (k0_t1 : Fin k0_t1_loop.trips) (v11599 : BitVec 32) (v11602 : BitVec 32) (v11674 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_4508 : BitVec 32 := 4#32
  let v11671 : BitVec 32 := Scalar.addi v11599 c4_i32_4508
  let v11672 : BitVec 1 := Scalar.cmpi .slt v11671 v11602
  let c65535_i32_4509 : BitVec 32 := 65535#32
  let v11675 : BitVec 32 := Scalar.andi v11674 c65535_i32_4509
  let c2048_i32_4510 : BitVec 32 := 2048#32
  let v11676 : BitVec 32 := Scalar.select v11672 v11675 c2048_i32_4510
  let v11677 : BitVec 32 := Scalar.addi v11087 v11676
  let v11680 : Index := Scalar.indexCast v11677
  let c0_4512 : Index := 0#32
  ![v11680.toNat, 0]

def k0_chk40 (i : grid0.Coords) (k0_t1 : Fin k0_t1_loop.trips) (v11599 : BitVec 32) (v11602 : BitVec 32) (v11674 : BitVec 32) : Prop :=
  (∀ (k0_h1 : k0_cond1 i = 1#1), ∀ a, (k0_off81 k0_t1 v11599 v11602 v11674) a + S1x128.size a ≤ S8224x128.size a)
theorem k0_off81_inb : ∀ (i : grid0.Coords) (k0_t1 : Fin k0_t1_loop.trips) (v11599 : BitVec 32) (v11602 : BitVec 32) (v11674 : BitVec 32) (k0_hw40 : k0_chk40 i k0_t1 v11599 v11602 v11674), ∀ (k0_h1 : k0_cond1 i = 1#1), ∀ a, (k0_off81 k0_t1 v11599 v11602 v11674) a + S1x128.size a ≤ S8224x128.size a := fun i k0_t1 v11599 v11602 v11674 k0_hw40 k0_h1 => k0_hw40 k0_h1

def k0_off82 (v11599 : BitVec 32) : Fin 1 → Nat :=
  let c5_i32_4513 : BitVec 32 := 5#32
  let v11685 : BitVec 32 := Scalar.addi v11599 c5_i32_4513
  let v11688 : Index := Scalar.indexCast v11685
  ![v11688.toNat]
def k0_off83 (k0_t1 : Fin k0_t1_loop.trips) (v11599 : BitVec 32) (v11602 : BitVec 32) (v11689 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_4514 : BitVec 32 := 5#32
  let v11686 : BitVec 32 := Scalar.addi v11599 c5_i32_4514
  let v11687 : BitVec 1 := Scalar.cmpi .slt v11686 v11602
  let c65535_i32_4515 : BitVec 32 := 65535#32
  let v11690 : BitVec 32 := Scalar.andi v11689 c65535_i32_4515
  let c2048_i32_4516 : BitVec 32 := 2048#32
  let v11691 : BitVec 32 := Scalar.select v11687 v11690 c2048_i32_4516
  let v11692 : BitVec 32 := Scalar.addi v11087 v11691
  let v11695 : Index := Scalar.indexCast v11692
  let c0_4518 : Index := 0#32
  ![v11695.toNat, 0]

def k0_chk41 (i : grid0.Coords) (k0_t1 : Fin k0_t1_loop.trips) (v11599 : BitVec 32) (v11602 : BitVec 32) (v11689 : BitVec 32) : Prop :=
  (∀ (k0_h1 : k0_cond1 i = 1#1), ∀ a, (k0_off83 k0_t1 v11599 v11602 v11689) a + S1x128.size a ≤ S8224x128.size a)
theorem k0_off83_inb : ∀ (i : grid0.Coords) (k0_t1 : Fin k0_t1_loop.trips) (v11599 : BitVec 32) (v11602 : BitVec 32) (v11689 : BitVec 32) (k0_hw41 : k0_chk41 i k0_t1 v11599 v11602 v11689), ∀ (k0_h1 : k0_cond1 i = 1#1), ∀ a, (k0_off83 k0_t1 v11599 v11602 v11689) a + S1x128.size a ≤ S8224x128.size a := fun i k0_t1 v11599 v11602 v11689 k0_hw41 k0_h1 => k0_hw41 k0_h1

def k0_off84 (v11599 : BitVec 32) : Fin 1 → Nat :=
  let c6_i32_4519 : BitVec 32 := 6#32
  let v11700 : BitVec 32 := Scalar.addi v11599 c6_i32_4519
  let v11703 : Index := Scalar.indexCast v11700
  ![v11703.toNat]
def k0_off85 (k0_t1 : Fin k0_t1_loop.trips) (v11599 : BitVec 32) (v11602 : BitVec 32) (v11704 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_4520 : BitVec 32 := 6#32
  let v11701 : BitVec 32 := Scalar.addi v11599 c6_i32_4520
  let v11702 : BitVec 1 := Scalar.cmpi .slt v11701 v11602
  let c65535_i32_4521 : BitVec 32 := 65535#32
  let v11705 : BitVec 32 := Scalar.andi v11704 c65535_i32_4521
  let c2048_i32_4522 : BitVec 32 := 2048#32
  let v11706 : BitVec 32 := Scalar.select v11702 v11705 c2048_i32_4522
  let v11707 : BitVec 32 := Scalar.addi v11087 v11706
  let v11710 : Index := Scalar.indexCast v11707
  let c0_4524 : Index := 0#32
  ![v11710.toNat, 0]

def k0_chk42 (i : grid0.Coords) (k0_t1 : Fin k0_t1_loop.trips) (v11599 : BitVec 32) (v11602 : BitVec 32) (v11704 : BitVec 32) : Prop :=
  (∀ (k0_h1 : k0_cond1 i = 1#1), ∀ a, (k0_off85 k0_t1 v11599 v11602 v11704) a + S1x128.size a ≤ S8224x128.size a)
theorem k0_off85_inb : ∀ (i : grid0.Coords) (k0_t1 : Fin k0_t1_loop.trips) (v11599 : BitVec 32) (v11602 : BitVec 32) (v11704 : BitVec 32) (k0_hw42 : k0_chk42 i k0_t1 v11599 v11602 v11704), ∀ (k0_h1 : k0_cond1 i = 1#1), ∀ a, (k0_off85 k0_t1 v11599 v11602 v11704) a + S1x128.size a ≤ S8224x128.size a := fun i k0_t1 v11599 v11602 v11704 k0_hw42 k0_h1 => k0_hw42 k0_h1

def k0_off86 (v11599 : BitVec 32) : Fin 1 → Nat :=
  let c7_i32_4525 : BitVec 32 := 7#32
  let v11715 : BitVec 32 := Scalar.addi v11599 c7_i32_4525
  let v11718 : Index := Scalar.indexCast v11715
  ![v11718.toNat]
def k0_off87 (k0_t1 : Fin k0_t1_loop.trips) (v11599 : BitVec 32) (v11602 : BitVec 32) (v11719 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_4526 : BitVec 32 := 7#32
  let v11716 : BitVec 32 := Scalar.addi v11599 c7_i32_4526
  let v11717 : BitVec 1 := Scalar.cmpi .slt v11716 v11602
  let c65535_i32_4527 : BitVec 32 := 65535#32
  let v11720 : BitVec 32 := Scalar.andi v11719 c65535_i32_4527
  let c2048_i32_4528 : BitVec 32 := 2048#32
  let v11721 : BitVec 32 := Scalar.select v11717 v11720 c2048_i32_4528
  let v11722 : BitVec 32 := Scalar.addi v11087 v11721
  let v11725 : Index := Scalar.indexCast v11722
  let c0_4530 : Index := 0#32
  ![v11725.toNat, 0]

def k0_chk43 (i : grid0.Coords) (k0_t1 : Fin k0_t1_loop.trips) (v11599 : BitVec 32) (v11602 : BitVec 32) (v11719 : BitVec 32) : Prop :=
  (∀ (k0_h1 : k0_cond1 i = 1#1), ∀ a, (k0_off87 k0_t1 v11599 v11602 v11719) a + S1x128.size a ≤ S8224x128.size a)
theorem k0_off87_inb : ∀ (i : grid0.Coords) (k0_t1 : Fin k0_t1_loop.trips) (v11599 : BitVec 32) (v11602 : BitVec 32) (v11719 : BitVec 32) (k0_hw43 : k0_chk43 i k0_t1 v11599 v11602 v11719), ∀ (k0_h1 : k0_cond1 i = 1#1), ∀ a, (k0_off87 k0_t1 v11599 v11602 v11719) a + S1x128.size a ≤ S8224x128.size a := fun i k0_t1 v11599 v11602 v11719 k0_hw43 k0_h1 => k0_hw43 k0_h1

def k0_off88 (v11599 : BitVec 32) : Fin 1 → Nat :=
  let c8_i32_4531 : BitVec 32 := 8#32
  let v11730 : BitVec 32 := Scalar.addi v11599 c8_i32_4531
  let v11733 : Index := Scalar.indexCast v11730
  ![v11733.toNat]
def k0_off89 (k0_t1 : Fin k0_t1_loop.trips) (v11599 : BitVec 32) (v11602 : BitVec 32) (v11734 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_4532 : BitVec 32 := 8#32
  let v11731 : BitVec 32 := Scalar.addi v11599 c8_i32_4532
  let v11732 : BitVec 1 := Scalar.cmpi .slt v11731 v11602
  let c65535_i32_4533 : BitVec 32 := 65535#32
  let v11735 : BitVec 32 := Scalar.andi v11734 c65535_i32_4533
  let c2048_i32_4534 : BitVec 32 := 2048#32
  let v11736 : BitVec 32 := Scalar.select v11732 v11735 c2048_i32_4534
  let v11737 : BitVec 32 := Scalar.addi v11087 v11736
  let v11740 : Index := Scalar.indexCast v11737
  let c0_4536 : Index := 0#32
  ![v11740.toNat, 0]

def k0_chk44 (i : grid0.Coords) (k0_t1 : Fin k0_t1_loop.trips) (v11599 : BitVec 32) (v11602 : BitVec 32) (v11734 : BitVec 32) : Prop :=
  (∀ (k0_h1 : k0_cond1 i = 1#1), ∀ a, (k0_off89 k0_t1 v11599 v11602 v11734) a + S1x128.size a ≤ S8224x128.size a)
theorem k0_off89_inb : ∀ (i : grid0.Coords) (k0_t1 : Fin k0_t1_loop.trips) (v11599 : BitVec 32) (v11602 : BitVec 32) (v11734 : BitVec 32) (k0_hw44 : k0_chk44 i k0_t1 v11599 v11602 v11734), ∀ (k0_h1 : k0_cond1 i = 1#1), ∀ a, (k0_off89 k0_t1 v11599 v11602 v11734) a + S1x128.size a ≤ S8224x128.size a := fun i k0_t1 v11599 v11602 v11734 k0_hw44 k0_h1 => k0_hw44 k0_h1

def k0_off90 (v11599 : BitVec 32) : Fin 1 → Nat :=
  let c9_i32_4537 : BitVec 32 := 9#32
  let v11745 : BitVec 32 := Scalar.addi v11599 c9_i32_4537
  let v11748 : Index := Scalar.indexCast v11745
  ![v11748.toNat]
def k0_off91 (k0_t1 : Fin k0_t1_loop.trips) (v11599 : BitVec 32) (v11602 : BitVec 32) (v11749 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_4538 : BitVec 32 := 9#32
  let v11746 : BitVec 32 := Scalar.addi v11599 c9_i32_4538
  let v11747 : BitVec 1 := Scalar.cmpi .slt v11746 v11602
  let c65535_i32_4539 : BitVec 32 := 65535#32
  let v11750 : BitVec 32 := Scalar.andi v11749 c65535_i32_4539
  let c2048_i32_4540 : BitVec 32 := 2048#32
  let v11751 : BitVec 32 := Scalar.select v11747 v11750 c2048_i32_4540
  let v11752 : BitVec 32 := Scalar.addi v11087 v11751
  let v11755 : Index := Scalar.indexCast v11752
  let c0_4542 : Index := 0#32
  ![v11755.toNat, 0]

def k0_chk45 (i : grid0.Coords) (k0_t1 : Fin k0_t1_loop.trips) (v11599 : BitVec 32) (v11602 : BitVec 32) (v11749 : BitVec 32) : Prop :=
  (∀ (k0_h1 : k0_cond1 i = 1#1), ∀ a, (k0_off91 k0_t1 v11599 v11602 v11749) a + S1x128.size a ≤ S8224x128.size a)
theorem k0_off91_inb : ∀ (i : grid0.Coords) (k0_t1 : Fin k0_t1_loop.trips) (v11599 : BitVec 32) (v11602 : BitVec 32) (v11749 : BitVec 32) (k0_hw45 : k0_chk45 i k0_t1 v11599 v11602 v11749), ∀ (k0_h1 : k0_cond1 i = 1#1), ∀ a, (k0_off91 k0_t1 v11599 v11602 v11749) a + S1x128.size a ≤ S8224x128.size a := fun i k0_t1 v11599 v11602 v11749 k0_hw45 k0_h1 => k0_hw45 k0_h1

def k0_off92 (v11599 : BitVec 32) : Fin 1 → Nat :=
  let c10_i32_4543 : BitVec 32 := 10#32
  let v11760 : BitVec 32 := Scalar.addi v11599 c10_i32_4543
  let v11763 : Index := Scalar.indexCast v11760
  ![v11763.toNat]
def k0_off93 (k0_t1 : Fin k0_t1_loop.trips) (v11599 : BitVec 32) (v11602 : BitVec 32) (v11764 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_4544 : BitVec 32 := 10#32
  let v11761 : BitVec 32 := Scalar.addi v11599 c10_i32_4544
  let v11762 : BitVec 1 := Scalar.cmpi .slt v11761 v11602
  let c65535_i32_4545 : BitVec 32 := 65535#32
  let v11765 : BitVec 32 := Scalar.andi v11764 c65535_i32_4545
  let c2048_i32_4546 : BitVec 32 := 2048#32
  let v11766 : BitVec 32 := Scalar.select v11762 v11765 c2048_i32_4546
  let v11767 : BitVec 32 := Scalar.addi v11087 v11766
  let v11770 : Index := Scalar.indexCast v11767
  let c0_4548 : Index := 0#32
  ![v11770.toNat, 0]

def k0_chk46 (i : grid0.Coords) (k0_t1 : Fin k0_t1_loop.trips) (v11599 : BitVec 32) (v11602 : BitVec 32) (v11764 : BitVec 32) : Prop :=
  (∀ (k0_h1 : k0_cond1 i = 1#1), ∀ a, (k0_off93 k0_t1 v11599 v11602 v11764) a + S1x128.size a ≤ S8224x128.size a)
theorem k0_off93_inb : ∀ (i : grid0.Coords) (k0_t1 : Fin k0_t1_loop.trips) (v11599 : BitVec 32) (v11602 : BitVec 32) (v11764 : BitVec 32) (k0_hw46 : k0_chk46 i k0_t1 v11599 v11602 v11764), ∀ (k0_h1 : k0_cond1 i = 1#1), ∀ a, (k0_off93 k0_t1 v11599 v11602 v11764) a + S1x128.size a ≤ S8224x128.size a := fun i k0_t1 v11599 v11602 v11764 k0_hw46 k0_h1 => k0_hw46 k0_h1

def k0_off94 (v11599 : BitVec 32) : Fin 1 → Nat :=
  let c11_i32_4549 : BitVec 32 := 11#32
  let v11775 : BitVec 32 := Scalar.addi v11599 c11_i32_4549
  let v11778 : Index := Scalar.indexCast v11775
  ![v11778.toNat]
def k0_off95 (k0_t1 : Fin k0_t1_loop.trips) (v11599 : BitVec 32) (v11602 : BitVec 32) (v11779 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_4550 : BitVec 32 := 11#32
  let v11776 : BitVec 32 := Scalar.addi v11599 c11_i32_4550
  let v11777 : BitVec 1 := Scalar.cmpi .slt v11776 v11602
  let c65535_i32_4551 : BitVec 32 := 65535#32
  let v11780 : BitVec 32 := Scalar.andi v11779 c65535_i32_4551
  let c2048_i32_4552 : BitVec 32 := 2048#32
  let v11781 : BitVec 32 := Scalar.select v11777 v11780 c2048_i32_4552
  let v11782 : BitVec 32 := Scalar.addi v11087 v11781
  let v11785 : Index := Scalar.indexCast v11782
  let c0_4554 : Index := 0#32
  ![v11785.toNat, 0]

def k0_chk47 (i : grid0.Coords) (k0_t1 : Fin k0_t1_loop.trips) (v11599 : BitVec 32) (v11602 : BitVec 32) (v11779 : BitVec 32) : Prop :=
  (∀ (k0_h1 : k0_cond1 i = 1#1), ∀ a, (k0_off95 k0_t1 v11599 v11602 v11779) a + S1x128.size a ≤ S8224x128.size a)
theorem k0_off95_inb : ∀ (i : grid0.Coords) (k0_t1 : Fin k0_t1_loop.trips) (v11599 : BitVec 32) (v11602 : BitVec 32) (v11779 : BitVec 32) (k0_hw47 : k0_chk47 i k0_t1 v11599 v11602 v11779), ∀ (k0_h1 : k0_cond1 i = 1#1), ∀ a, (k0_off95 k0_t1 v11599 v11602 v11779) a + S1x128.size a ≤ S8224x128.size a := fun i k0_t1 v11599 v11602 v11779 k0_hw47 k0_h1 => k0_hw47 k0_h1

def k0_off96 (v11599 : BitVec 32) : Fin 1 → Nat :=
  let c12_i32_4555 : BitVec 32 := 12#32
  let v11790 : BitVec 32 := Scalar.addi v11599 c12_i32_4555
  let v11793 : Index := Scalar.indexCast v11790
  ![v11793.toNat]
def k0_off97 (k0_t1 : Fin k0_t1_loop.trips) (v11599 : BitVec 32) (v11602 : BitVec 32) (v11794 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_4556 : BitVec 32 := 12#32
  let v11791 : BitVec 32 := Scalar.addi v11599 c12_i32_4556
  let v11792 : BitVec 1 := Scalar.cmpi .slt v11791 v11602
  let c65535_i32_4557 : BitVec 32 := 65535#32
  let v11795 : BitVec 32 := Scalar.andi v11794 c65535_i32_4557
  let c2048_i32_4558 : BitVec 32 := 2048#32
  let v11796 : BitVec 32 := Scalar.select v11792 v11795 c2048_i32_4558
  let v11797 : BitVec 32 := Scalar.addi v11087 v11796
  let v11800 : Index := Scalar.indexCast v11797
  let c0_4560 : Index := 0#32
  ![v11800.toNat, 0]

def k0_chk48 (i : grid0.Coords) (k0_t1 : Fin k0_t1_loop.trips) (v11599 : BitVec 32) (v11602 : BitVec 32) (v11794 : BitVec 32) : Prop :=
  (∀ (k0_h1 : k0_cond1 i = 1#1), ∀ a, (k0_off97 k0_t1 v11599 v11602 v11794) a + S1x128.size a ≤ S8224x128.size a)
theorem k0_off97_inb : ∀ (i : grid0.Coords) (k0_t1 : Fin k0_t1_loop.trips) (v11599 : BitVec 32) (v11602 : BitVec 32) (v11794 : BitVec 32) (k0_hw48 : k0_chk48 i k0_t1 v11599 v11602 v11794), ∀ (k0_h1 : k0_cond1 i = 1#1), ∀ a, (k0_off97 k0_t1 v11599 v11602 v11794) a + S1x128.size a ≤ S8224x128.size a := fun i k0_t1 v11599 v11602 v11794 k0_hw48 k0_h1 => k0_hw48 k0_h1

def k0_off98 (v11599 : BitVec 32) : Fin 1 → Nat :=
  let c13_i32_4561 : BitVec 32 := 13#32
  let v11805 : BitVec 32 := Scalar.addi v11599 c13_i32_4561
  let v11808 : Index := Scalar.indexCast v11805
  ![v11808.toNat]
def k0_off99 (k0_t1 : Fin k0_t1_loop.trips) (v11599 : BitVec 32) (v11602 : BitVec 32) (v11809 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_4562 : BitVec 32 := 13#32
  let v11806 : BitVec 32 := Scalar.addi v11599 c13_i32_4562
  let v11807 : BitVec 1 := Scalar.cmpi .slt v11806 v11602
  let c65535_i32_4563 : BitVec 32 := 65535#32
  let v11810 : BitVec 32 := Scalar.andi v11809 c65535_i32_4563
  let c2048_i32_4564 : BitVec 32 := 2048#32
  let v11811 : BitVec 32 := Scalar.select v11807 v11810 c2048_i32_4564
  let v11812 : BitVec 32 := Scalar.addi v11087 v11811
  let v11815 : Index := Scalar.indexCast v11812
  let c0_4566 : Index := 0#32
  ![v11815.toNat, 0]

def k0_chk49 (i : grid0.Coords) (k0_t1 : Fin k0_t1_loop.trips) (v11599 : BitVec 32) (v11602 : BitVec 32) (v11809 : BitVec 32) : Prop :=
  (∀ (k0_h1 : k0_cond1 i = 1#1), ∀ a, (k0_off99 k0_t1 v11599 v11602 v11809) a + S1x128.size a ≤ S8224x128.size a)
theorem k0_off99_inb : ∀ (i : grid0.Coords) (k0_t1 : Fin k0_t1_loop.trips) (v11599 : BitVec 32) (v11602 : BitVec 32) (v11809 : BitVec 32) (k0_hw49 : k0_chk49 i k0_t1 v11599 v11602 v11809), ∀ (k0_h1 : k0_cond1 i = 1#1), ∀ a, (k0_off99 k0_t1 v11599 v11602 v11809) a + S1x128.size a ≤ S8224x128.size a := fun i k0_t1 v11599 v11602 v11809 k0_hw49 k0_h1 => k0_hw49 k0_h1

def k0_off100 (v11599 : BitVec 32) : Fin 1 → Nat :=
  let c14_i32_4567 : BitVec 32 := 14#32
  let v11820 : BitVec 32 := Scalar.addi v11599 c14_i32_4567
  let v11823 : Index := Scalar.indexCast v11820
  ![v11823.toNat]
def k0_off101 (k0_t1 : Fin k0_t1_loop.trips) (v11599 : BitVec 32) (v11602 : BitVec 32) (v11824 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_4568 : BitVec 32 := 14#32
  let v11821 : BitVec 32 := Scalar.addi v11599 c14_i32_4568
  let v11822 : BitVec 1 := Scalar.cmpi .slt v11821 v11602
  let c65535_i32_4569 : BitVec 32 := 65535#32
  let v11825 : BitVec 32 := Scalar.andi v11824 c65535_i32_4569
  let c2048_i32_4570 : BitVec 32 := 2048#32
  let v11826 : BitVec 32 := Scalar.select v11822 v11825 c2048_i32_4570
  let v11827 : BitVec 32 := Scalar.addi v11087 v11826
  let v11830 : Index := Scalar.indexCast v11827
  let c0_4572 : Index := 0#32
  ![v11830.toNat, 0]

def k0_chk50 (i : grid0.Coords) (k0_t1 : Fin k0_t1_loop.trips) (v11599 : BitVec 32) (v11602 : BitVec 32) (v11824 : BitVec 32) : Prop :=
  (∀ (k0_h1 : k0_cond1 i = 1#1), ∀ a, (k0_off101 k0_t1 v11599 v11602 v11824) a + S1x128.size a ≤ S8224x128.size a)
theorem k0_off101_inb : ∀ (i : grid0.Coords) (k0_t1 : Fin k0_t1_loop.trips) (v11599 : BitVec 32) (v11602 : BitVec 32) (v11824 : BitVec 32) (k0_hw50 : k0_chk50 i k0_t1 v11599 v11602 v11824), ∀ (k0_h1 : k0_cond1 i = 1#1), ∀ a, (k0_off101 k0_t1 v11599 v11602 v11824) a + S1x128.size a ≤ S8224x128.size a := fun i k0_t1 v11599 v11602 v11824 k0_hw50 k0_h1 => k0_hw50 k0_h1

def k0_off102 (v11599 : BitVec 32) : Fin 1 → Nat :=
  let c15_i32_4573 : BitVec 32 := 15#32
  let v11835 : BitVec 32 := Scalar.addi v11599 c15_i32_4573
  let v11838 : Index := Scalar.indexCast v11835
  ![v11838.toNat]

def k0_chk35 (i : grid0.Coords) (v11599 : BitVec 32) : Prop :=
  (∀ (k0_h1 : k0_cond1 i = 1#1), ∀ a, (k0_off72 v11599) a + S1.size a ≤ S51920.size a) ∧
  (∀ (k0_h1 : k0_cond1 i = 1#1), ∀ a, (k0_off74 v11599) a + S1.size a ≤ S51920.size a) ∧
  (∀ (k0_h1 : k0_cond1 i = 1#1), ∀ a, (k0_off76 v11599) a + S1.size a ≤ S51920.size a) ∧
  (∀ (k0_h1 : k0_cond1 i = 1#1), ∀ a, (k0_off78 v11599) a + S1.size a ≤ S51920.size a) ∧
  (∀ (k0_h1 : k0_cond1 i = 1#1), ∀ a, (k0_off80 v11599) a + S1.size a ≤ S51920.size a) ∧
  (∀ (k0_h1 : k0_cond1 i = 1#1), ∀ a, (k0_off82 v11599) a + S1.size a ≤ S51920.size a) ∧
  (∀ (k0_h1 : k0_cond1 i = 1#1), ∀ a, (k0_off84 v11599) a + S1.size a ≤ S51920.size a) ∧
  (∀ (k0_h1 : k0_cond1 i = 1#1), ∀ a, (k0_off86 v11599) a + S1.size a ≤ S51920.size a) ∧
  (∀ (k0_h1 : k0_cond1 i = 1#1), ∀ a, (k0_off88 v11599) a + S1.size a ≤ S51920.size a) ∧
  (∀ (k0_h1 : k0_cond1 i = 1#1), ∀ a, (k0_off90 v11599) a + S1.size a ≤ S51920.size a) ∧
  (∀ (k0_h1 : k0_cond1 i = 1#1), ∀ a, (k0_off92 v11599) a + S1.size a ≤ S51920.size a) ∧
  (∀ (k0_h1 : k0_cond1 i = 1#1), ∀ a, (k0_off94 v11599) a + S1.size a ≤ S51920.size a) ∧
  (∀ (k0_h1 : k0_cond1 i = 1#1), ∀ a, (k0_off96 v11599) a + S1.size a ≤ S51920.size a) ∧
  (∀ (k0_h1 : k0_cond1 i = 1#1), ∀ a, (k0_off98 v11599) a + S1.size a ≤ S51920.size a) ∧
  (∀ (k0_h1 : k0_cond1 i = 1#1), ∀ a, (k0_off100 v11599) a + S1.size a ≤ S51920.size a) ∧
  (∀ (k0_h1 : k0_cond1 i = 1#1), ∀ a, (k0_off102 v11599) a + S1.size a ≤ S51920.size a)
theorem k0_off72_inb : ∀ (i : grid0.Coords) (v11599 : BitVec 32) (k0_hw35 : k0_chk35 i v11599), ∀ (k0_h1 : k0_cond1 i = 1#1), ∀ a, (k0_off72 v11599) a + S1.size a ≤ S51920.size a := fun i v11599 k0_hw35 k0_h1 => k0_hw35.1 k0_h1
theorem k0_off74_inb : ∀ (i : grid0.Coords) (v11599 : BitVec 32) (k0_hw35 : k0_chk35 i v11599), ∀ (k0_h1 : k0_cond1 i = 1#1), ∀ a, (k0_off74 v11599) a + S1.size a ≤ S51920.size a := fun i v11599 k0_hw35 k0_h1 => k0_hw35.2.1 k0_h1
theorem k0_off76_inb : ∀ (i : grid0.Coords) (v11599 : BitVec 32) (k0_hw35 : k0_chk35 i v11599), ∀ (k0_h1 : k0_cond1 i = 1#1), ∀ a, (k0_off76 v11599) a + S1.size a ≤ S51920.size a := fun i v11599 k0_hw35 k0_h1 => k0_hw35.2.2.1 k0_h1
theorem k0_off78_inb : ∀ (i : grid0.Coords) (v11599 : BitVec 32) (k0_hw35 : k0_chk35 i v11599), ∀ (k0_h1 : k0_cond1 i = 1#1), ∀ a, (k0_off78 v11599) a + S1.size a ≤ S51920.size a := fun i v11599 k0_hw35 k0_h1 => k0_hw35.2.2.2.1 k0_h1
theorem k0_off80_inb : ∀ (i : grid0.Coords) (v11599 : BitVec 32) (k0_hw35 : k0_chk35 i v11599), ∀ (k0_h1 : k0_cond1 i = 1#1), ∀ a, (k0_off80 v11599) a + S1.size a ≤ S51920.size a := fun i v11599 k0_hw35 k0_h1 => k0_hw35.2.2.2.2.1 k0_h1
theorem k0_off82_inb : ∀ (i : grid0.Coords) (v11599 : BitVec 32) (k0_hw35 : k0_chk35 i v11599), ∀ (k0_h1 : k0_cond1 i = 1#1), ∀ a, (k0_off82 v11599) a + S1.size a ≤ S51920.size a := fun i v11599 k0_hw35 k0_h1 => k0_hw35.2.2.2.2.2.1 k0_h1
theorem k0_off84_inb : ∀ (i : grid0.Coords) (v11599 : BitVec 32) (k0_hw35 : k0_chk35 i v11599), ∀ (k0_h1 : k0_cond1 i = 1#1), ∀ a, (k0_off84 v11599) a + S1.size a ≤ S51920.size a := fun i v11599 k0_hw35 k0_h1 => k0_hw35.2.2.2.2.2.2.1 k0_h1
theorem k0_off86_inb : ∀ (i : grid0.Coords) (v11599 : BitVec 32) (k0_hw35 : k0_chk35 i v11599), ∀ (k0_h1 : k0_cond1 i = 1#1), ∀ a, (k0_off86 v11599) a + S1.size a ≤ S51920.size a := fun i v11599 k0_hw35 k0_h1 => k0_hw35.2.2.2.2.2.2.2.1 k0_h1
theorem k0_off88_inb : ∀ (i : grid0.Coords) (v11599 : BitVec 32) (k0_hw35 : k0_chk35 i v11599), ∀ (k0_h1 : k0_cond1 i = 1#1), ∀ a, (k0_off88 v11599) a + S1.size a ≤ S51920.size a := fun i v11599 k0_hw35 k0_h1 => k0_hw35.2.2.2.2.2.2.2.2.1 k0_h1
theorem k0_off90_inb : ∀ (i : grid0.Coords) (v11599 : BitVec 32) (k0_hw35 : k0_chk35 i v11599), ∀ (k0_h1 : k0_cond1 i = 1#1), ∀ a, (k0_off90 v11599) a + S1.size a ≤ S51920.size a := fun i v11599 k0_hw35 k0_h1 => k0_hw35.2.2.2.2.2.2.2.2.2.1 k0_h1
theorem k0_off92_inb : ∀ (i : grid0.Coords) (v11599 : BitVec 32) (k0_hw35 : k0_chk35 i v11599), ∀ (k0_h1 : k0_cond1 i = 1#1), ∀ a, (k0_off92 v11599) a + S1.size a ≤ S51920.size a := fun i v11599 k0_hw35 k0_h1 => k0_hw35.2.2.2.2.2.2.2.2.2.2.1 k0_h1
theorem k0_off94_inb : ∀ (i : grid0.Coords) (v11599 : BitVec 32) (k0_hw35 : k0_chk35 i v11599), ∀ (k0_h1 : k0_cond1 i = 1#1), ∀ a, (k0_off94 v11599) a + S1.size a ≤ S51920.size a := fun i v11599 k0_hw35 k0_h1 => k0_hw35.2.2.2.2.2.2.2.2.2.2.2.1 k0_h1
theorem k0_off96_inb : ∀ (i : grid0.Coords) (v11599 : BitVec 32) (k0_hw35 : k0_chk35 i v11599), ∀ (k0_h1 : k0_cond1 i = 1#1), ∀ a, (k0_off96 v11599) a + S1.size a ≤ S51920.size a := fun i v11599 k0_hw35 k0_h1 => k0_hw35.2.2.2.2.2.2.2.2.2.2.2.2.1 k0_h1
theorem k0_off98_inb : ∀ (i : grid0.Coords) (v11599 : BitVec 32) (k0_hw35 : k0_chk35 i v11599), ∀ (k0_h1 : k0_cond1 i = 1#1), ∀ a, (k0_off98 v11599) a + S1.size a ≤ S51920.size a := fun i v11599 k0_hw35 k0_h1 => k0_hw35.2.2.2.2.2.2.2.2.2.2.2.2.2.1 k0_h1
theorem k0_off100_inb : ∀ (i : grid0.Coords) (v11599 : BitVec 32) (k0_hw35 : k0_chk35 i v11599), ∀ (k0_h1 : k0_cond1 i = 1#1), ∀ a, (k0_off100 v11599) a + S1.size a ≤ S51920.size a := fun i v11599 k0_hw35 k0_h1 => k0_hw35.2.2.2.2.2.2.2.2.2.2.2.2.2.2.1 k0_h1
theorem k0_off102_inb : ∀ (i : grid0.Coords) (v11599 : BitVec 32) (k0_hw35 : k0_chk35 i v11599), ∀ (k0_h1 : k0_cond1 i = 1#1), ∀ a, (k0_off102 v11599) a + S1.size a ≤ S51920.size a := fun i v11599 k0_hw35 k0_h1 => k0_hw35.2.2.2.2.2.2.2.2.2.2.2.2.2.2.2 k0_h1

def k0_off103 (k0_t1 : Fin k0_t1_loop.trips) (v11599 : BitVec 32) (v11602 : BitVec 32) (v11839 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_4574 : BitVec 32 := 15#32
  let v11836 : BitVec 32 := Scalar.addi v11599 c15_i32_4574
  let v11837 : BitVec 1 := Scalar.cmpi .slt v11836 v11602
  let c65535_i32_4575 : BitVec 32 := 65535#32
  let v11840 : BitVec 32 := Scalar.andi v11839 c65535_i32_4575
  let c2048_i32_4576 : BitVec 32 := 2048#32
  let v11841 : BitVec 32 := Scalar.select v11837 v11840 c2048_i32_4576
  let v11842 : BitVec 32 := Scalar.addi v11087 v11841
  let v11845 : Index := Scalar.indexCast v11842
  let c0_4578 : Index := 0#32
  ![v11845.toNat, 0]

def k0_chk51 (i : grid0.Coords) (k0_t1 : Fin k0_t1_loop.trips) (v11599 : BitVec 32) (v11602 : BitVec 32) (v11839 : BitVec 32) : Prop :=
  (∀ (k0_h1 : k0_cond1 i = 1#1), ∀ a, (k0_off103 k0_t1 v11599 v11602 v11839) a + S1x128.size a ≤ S8224x128.size a)
theorem k0_off103_inb : ∀ (i : grid0.Coords) (k0_t1 : Fin k0_t1_loop.trips) (v11599 : BitVec 32) (v11602 : BitVec 32) (v11839 : BitVec 32) (k0_hw51 : k0_chk51 i k0_t1 v11599 v11602 v11839), ∀ (k0_h1 : k0_cond1 i = 1#1), ∀ a, (k0_off103 k0_t1 v11599 v11602 v11839) a + S1x128.size a ≤ S8224x128.size a := fun i k0_t1 v11599 v11602 v11839 k0_hw51 k0_h1 => k0_hw51 k0_h1

def k0_off104 (k0_t1 : Fin k0_t1_loop.trips) : Fin 1 → Nat :=
  let c0_i32_4579 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v11850 : BitVec 32 := Scalar.addi c0_i32_4579 v11069
  let c3_i32_4580 : BitVec 32 := 3#32
  let v11851 : BitVec 32 := Scalar.addi v11850 c3_i32_4580
  let v11852 : Index := Scalar.indexCast v11851
  ![v11852.toNat]
def k0_off105 (k0_t1 : Fin k0_t1_loop.trips) : Fin 1 → Nat :=
  let c0_i32_4579 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v11850 : BitVec 32 := Scalar.addi c0_i32_4579 v11069
  let c3_i32_4580 : BitVec 32 := 3#32
  let v11851 : BitVec 32 := Scalar.addi v11850 c3_i32_4580
  let c1_i32_4581 : BitVec 32 := 1#32
  let v11854 : BitVec 32 := Scalar.addi v11851 c1_i32_4581
  let v11855 : Index := Scalar.indexCast v11854
  ![v11855.toNat]
def k0_off106 (v11853 : BitVec 32) : Fin 1 → Nat :=
  let c0_i32_4584 : BitVec 32 := 0#32
  let v11864 : BitVec 32 := Scalar.addi v11853 c0_i32_4584
  let v11867 : Index := Scalar.indexCast v11864
  ![v11867.toNat]

def k0_off107 (k0_t1 : Fin k0_t1_loop.trips) (v11853 : BitVec 32) (v11856 : BitVec 32) (v11868 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_4585 : BitVec 32 := 0#32
  let v11865 : BitVec 32 := Scalar.addi v11853 c0_i32_4585
  let v11866 : BitVec 1 := Scalar.cmpi .slt v11865 v11856
  let c65535_i32_4586 : BitVec 32 := 65535#32
  let v11869 : BitVec 32 := Scalar.andi v11868 c65535_i32_4586
  let c2048_i32_4587 : BitVec 32 := 2048#32
  let v11870 : BitVec 32 := Scalar.select v11866 v11869 c2048_i32_4587
  let v11871 : BitVec 32 := Scalar.addi v11087 v11870
  let v11874 : Index := Scalar.indexCast v11871
  let c0_4589 : Index := 0#32
  ![v11874.toNat, 0]

def k0_chk53 (i : grid0.Coords) (k0_t1 : Fin k0_t1_loop.trips) (v11853 : BitVec 32) (v11856 : BitVec 32) (v11868 : BitVec 32) : Prop :=
  (∀ (k0_h1 : k0_cond1 i = 1#1), ∀ a, (k0_off107 k0_t1 v11853 v11856 v11868) a + S1x128.size a ≤ S8224x128.size a)
theorem k0_off107_inb : ∀ (i : grid0.Coords) (k0_t1 : Fin k0_t1_loop.trips) (v11853 : BitVec 32) (v11856 : BitVec 32) (v11868 : BitVec 32) (k0_hw53 : k0_chk53 i k0_t1 v11853 v11856 v11868), ∀ (k0_h1 : k0_cond1 i = 1#1), ∀ a, (k0_off107 k0_t1 v11853 v11856 v11868) a + S1x128.size a ≤ S8224x128.size a := fun i k0_t1 v11853 v11856 v11868 k0_hw53 k0_h1 => k0_hw53 k0_h1

def k0_off108 (v11853 : BitVec 32) : Fin 1 → Nat :=
  let c1_i32_4590 : BitVec 32 := 1#32
  let v11879 : BitVec 32 := Scalar.addi v11853 c1_i32_4590
  let v11882 : Index := Scalar.indexCast v11879
  ![v11882.toNat]
def k0_off109 (k0_t1 : Fin k0_t1_loop.trips) (v11853 : BitVec 32) (v11856 : BitVec 32) (v11883 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_4591 : BitVec 32 := 1#32
  let v11880 : BitVec 32 := Scalar.addi v11853 c1_i32_4591
  let v11881 : BitVec 1 := Scalar.cmpi .slt v11880 v11856
  let c65535_i32_4592 : BitVec 32 := 65535#32
  let v11884 : BitVec 32 := Scalar.andi v11883 c65535_i32_4592
  let c2048_i32_4593 : BitVec 32 := 2048#32
  let v11885 : BitVec 32 := Scalar.select v11881 v11884 c2048_i32_4593
  let v11886 : BitVec 32 := Scalar.addi v11087 v11885
  let v11889 : Index := Scalar.indexCast v11886
  let c0_4595 : Index := 0#32
  ![v11889.toNat, 0]

def k0_chk54 (i : grid0.Coords) (k0_t1 : Fin k0_t1_loop.trips) (v11853 : BitVec 32) (v11856 : BitVec 32) (v11883 : BitVec 32) : Prop :=
  (∀ (k0_h1 : k0_cond1 i = 1#1), ∀ a, (k0_off109 k0_t1 v11853 v11856 v11883) a + S1x128.size a ≤ S8224x128.size a)
theorem k0_off109_inb : ∀ (i : grid0.Coords) (k0_t1 : Fin k0_t1_loop.trips) (v11853 : BitVec 32) (v11856 : BitVec 32) (v11883 : BitVec 32) (k0_hw54 : k0_chk54 i k0_t1 v11853 v11856 v11883), ∀ (k0_h1 : k0_cond1 i = 1#1), ∀ a, (k0_off109 k0_t1 v11853 v11856 v11883) a + S1x128.size a ≤ S8224x128.size a := fun i k0_t1 v11853 v11856 v11883 k0_hw54 k0_h1 => k0_hw54 k0_h1

def k0_off110 (v11853 : BitVec 32) : Fin 1 → Nat :=
  let c2_i32_4596 : BitVec 32 := 2#32
  let v11894 : BitVec 32 := Scalar.addi v11853 c2_i32_4596
  let v11897 : Index := Scalar.indexCast v11894
  ![v11897.toNat]
def k0_off111 (k0_t1 : Fin k0_t1_loop.trips) (v11853 : BitVec 32) (v11856 : BitVec 32) (v11898 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_4597 : BitVec 32 := 2#32
  let v11895 : BitVec 32 := Scalar.addi v11853 c2_i32_4597
  let v11896 : BitVec 1 := Scalar.cmpi .slt v11895 v11856
  let c65535_i32_4598 : BitVec 32 := 65535#32
  let v11899 : BitVec 32 := Scalar.andi v11898 c65535_i32_4598
  let c2048_i32_4599 : BitVec 32 := 2048#32
  let v11900 : BitVec 32 := Scalar.select v11896 v11899 c2048_i32_4599
  let v11901 : BitVec 32 := Scalar.addi v11087 v11900
  let v11904 : Index := Scalar.indexCast v11901
  let c0_4601 : Index := 0#32
  ![v11904.toNat, 0]

def k0_chk55 (i : grid0.Coords) (k0_t1 : Fin k0_t1_loop.trips) (v11853 : BitVec 32) (v11856 : BitVec 32) (v11898 : BitVec 32) : Prop :=
  (∀ (k0_h1 : k0_cond1 i = 1#1), ∀ a, (k0_off111 k0_t1 v11853 v11856 v11898) a + S1x128.size a ≤ S8224x128.size a)
theorem k0_off111_inb : ∀ (i : grid0.Coords) (k0_t1 : Fin k0_t1_loop.trips) (v11853 : BitVec 32) (v11856 : BitVec 32) (v11898 : BitVec 32) (k0_hw55 : k0_chk55 i k0_t1 v11853 v11856 v11898), ∀ (k0_h1 : k0_cond1 i = 1#1), ∀ a, (k0_off111 k0_t1 v11853 v11856 v11898) a + S1x128.size a ≤ S8224x128.size a := fun i k0_t1 v11853 v11856 v11898 k0_hw55 k0_h1 => k0_hw55 k0_h1

def k0_off112 (v11853 : BitVec 32) : Fin 1 → Nat :=
  let c3_i32_4602 : BitVec 32 := 3#32
  let v11909 : BitVec 32 := Scalar.addi v11853 c3_i32_4602
  let v11912 : Index := Scalar.indexCast v11909
  ![v11912.toNat]
def k0_off113 (k0_t1 : Fin k0_t1_loop.trips) (v11853 : BitVec 32) (v11856 : BitVec 32) (v11913 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_4603 : BitVec 32 := 3#32
  let v11910 : BitVec 32 := Scalar.addi v11853 c3_i32_4603
  let v11911 : BitVec 1 := Scalar.cmpi .slt v11910 v11856
  let c65535_i32_4604 : BitVec 32 := 65535#32
  let v11914 : BitVec 32 := Scalar.andi v11913 c65535_i32_4604
  let c2048_i32_4605 : BitVec 32 := 2048#32
  let v11915 : BitVec 32 := Scalar.select v11911 v11914 c2048_i32_4605
  let v11916 : BitVec 32 := Scalar.addi v11087 v11915
  let v11919 : Index := Scalar.indexCast v11916
  let c0_4607 : Index := 0#32
  ![v11919.toNat, 0]

def k0_chk56 (i : grid0.Coords) (k0_t1 : Fin k0_t1_loop.trips) (v11853 : BitVec 32) (v11856 : BitVec 32) (v11913 : BitVec 32) : Prop :=
  (∀ (k0_h1 : k0_cond1 i = 1#1), ∀ a, (k0_off113 k0_t1 v11853 v11856 v11913) a + S1x128.size a ≤ S8224x128.size a)
theorem k0_off113_inb : ∀ (i : grid0.Coords) (k0_t1 : Fin k0_t1_loop.trips) (v11853 : BitVec 32) (v11856 : BitVec 32) (v11913 : BitVec 32) (k0_hw56 : k0_chk56 i k0_t1 v11853 v11856 v11913), ∀ (k0_h1 : k0_cond1 i = 1#1), ∀ a, (k0_off113 k0_t1 v11853 v11856 v11913) a + S1x128.size a ≤ S8224x128.size a := fun i k0_t1 v11853 v11856 v11913 k0_hw56 k0_h1 => k0_hw56 k0_h1

def k0_off114 (v11853 : BitVec 32) : Fin 1 → Nat :=
  let c4_i32_4608 : BitVec 32 := 4#32
  let v11924 : BitVec 32 := Scalar.addi v11853 c4_i32_4608
  let v11927 : Index := Scalar.indexCast v11924
  ![v11927.toNat]
def k0_off115 (k0_t1 : Fin k0_t1_loop.trips) (v11853 : BitVec 32) (v11856 : BitVec 32) (v11928 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_4609 : BitVec 32 := 4#32
  let v11925 : BitVec 32 := Scalar.addi v11853 c4_i32_4609
  let v11926 : BitVec 1 := Scalar.cmpi .slt v11925 v11856
  let c65535_i32_4610 : BitVec 32 := 65535#32
  let v11929 : BitVec 32 := Scalar.andi v11928 c65535_i32_4610
  let c2048_i32_4611 : BitVec 32 := 2048#32
  let v11930 : BitVec 32 := Scalar.select v11926 v11929 c2048_i32_4611
  let v11931 : BitVec 32 := Scalar.addi v11087 v11930
  let v11934 : Index := Scalar.indexCast v11931
  let c0_4613 : Index := 0#32
  ![v11934.toNat, 0]

def k0_chk57 (i : grid0.Coords) (k0_t1 : Fin k0_t1_loop.trips) (v11853 : BitVec 32) (v11856 : BitVec 32) (v11928 : BitVec 32) : Prop :=
  (∀ (k0_h1 : k0_cond1 i = 1#1), ∀ a, (k0_off115 k0_t1 v11853 v11856 v11928) a + S1x128.size a ≤ S8224x128.size a)
theorem k0_off115_inb : ∀ (i : grid0.Coords) (k0_t1 : Fin k0_t1_loop.trips) (v11853 : BitVec 32) (v11856 : BitVec 32) (v11928 : BitVec 32) (k0_hw57 : k0_chk57 i k0_t1 v11853 v11856 v11928), ∀ (k0_h1 : k0_cond1 i = 1#1), ∀ a, (k0_off115 k0_t1 v11853 v11856 v11928) a + S1x128.size a ≤ S8224x128.size a := fun i k0_t1 v11853 v11856 v11928 k0_hw57 k0_h1 => k0_hw57 k0_h1

def k0_off116 (v11853 : BitVec 32) : Fin 1 → Nat :=
  let c5_i32_4614 : BitVec 32 := 5#32
  let v11939 : BitVec 32 := Scalar.addi v11853 c5_i32_4614
  let v11942 : Index := Scalar.indexCast v11939
  ![v11942.toNat]
def k0_off117 (k0_t1 : Fin k0_t1_loop.trips) (v11853 : BitVec 32) (v11856 : BitVec 32) (v11943 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_4615 : BitVec 32 := 5#32
  let v11940 : BitVec 32 := Scalar.addi v11853 c5_i32_4615
  let v11941 : BitVec 1 := Scalar.cmpi .slt v11940 v11856
  let c65535_i32_4616 : BitVec 32 := 65535#32
  let v11944 : BitVec 32 := Scalar.andi v11943 c65535_i32_4616
  let c2048_i32_4617 : BitVec 32 := 2048#32
  let v11945 : BitVec 32 := Scalar.select v11941 v11944 c2048_i32_4617
  let v11946 : BitVec 32 := Scalar.addi v11087 v11945
  let v11949 : Index := Scalar.indexCast v11946
  let c0_4619 : Index := 0#32
  ![v11949.toNat, 0]

def k0_chk58 (i : grid0.Coords) (k0_t1 : Fin k0_t1_loop.trips) (v11853 : BitVec 32) (v11856 : BitVec 32) (v11943 : BitVec 32) : Prop :=
  (∀ (k0_h1 : k0_cond1 i = 1#1), ∀ a, (k0_off117 k0_t1 v11853 v11856 v11943) a + S1x128.size a ≤ S8224x128.size a)
theorem k0_off117_inb : ∀ (i : grid0.Coords) (k0_t1 : Fin k0_t1_loop.trips) (v11853 : BitVec 32) (v11856 : BitVec 32) (v11943 : BitVec 32) (k0_hw58 : k0_chk58 i k0_t1 v11853 v11856 v11943), ∀ (k0_h1 : k0_cond1 i = 1#1), ∀ a, (k0_off117 k0_t1 v11853 v11856 v11943) a + S1x128.size a ≤ S8224x128.size a := fun i k0_t1 v11853 v11856 v11943 k0_hw58 k0_h1 => k0_hw58 k0_h1

def k0_off118 (v11853 : BitVec 32) : Fin 1 → Nat :=
  let c6_i32_4620 : BitVec 32 := 6#32
  let v11954 : BitVec 32 := Scalar.addi v11853 c6_i32_4620
  let v11957 : Index := Scalar.indexCast v11954
  ![v11957.toNat]
def k0_off119 (k0_t1 : Fin k0_t1_loop.trips) (v11853 : BitVec 32) (v11856 : BitVec 32) (v11958 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_4621 : BitVec 32 := 6#32
  let v11955 : BitVec 32 := Scalar.addi v11853 c6_i32_4621
  let v11956 : BitVec 1 := Scalar.cmpi .slt v11955 v11856
  let c65535_i32_4622 : BitVec 32 := 65535#32
  let v11959 : BitVec 32 := Scalar.andi v11958 c65535_i32_4622
  let c2048_i32_4623 : BitVec 32 := 2048#32
  let v11960 : BitVec 32 := Scalar.select v11956 v11959 c2048_i32_4623
  let v11961 : BitVec 32 := Scalar.addi v11087 v11960
  let v11964 : Index := Scalar.indexCast v11961
  let c0_4625 : Index := 0#32
  ![v11964.toNat, 0]

def k0_chk59 (i : grid0.Coords) (k0_t1 : Fin k0_t1_loop.trips) (v11853 : BitVec 32) (v11856 : BitVec 32) (v11958 : BitVec 32) : Prop :=
  (∀ (k0_h1 : k0_cond1 i = 1#1), ∀ a, (k0_off119 k0_t1 v11853 v11856 v11958) a + S1x128.size a ≤ S8224x128.size a)
theorem k0_off119_inb : ∀ (i : grid0.Coords) (k0_t1 : Fin k0_t1_loop.trips) (v11853 : BitVec 32) (v11856 : BitVec 32) (v11958 : BitVec 32) (k0_hw59 : k0_chk59 i k0_t1 v11853 v11856 v11958), ∀ (k0_h1 : k0_cond1 i = 1#1), ∀ a, (k0_off119 k0_t1 v11853 v11856 v11958) a + S1x128.size a ≤ S8224x128.size a := fun i k0_t1 v11853 v11856 v11958 k0_hw59 k0_h1 => k0_hw59 k0_h1

def k0_off120 (v11853 : BitVec 32) : Fin 1 → Nat :=
  let c7_i32_4626 : BitVec 32 := 7#32
  let v11969 : BitVec 32 := Scalar.addi v11853 c7_i32_4626
  let v11972 : Index := Scalar.indexCast v11969
  ![v11972.toNat]
def k0_off121 (k0_t1 : Fin k0_t1_loop.trips) (v11853 : BitVec 32) (v11856 : BitVec 32) (v11973 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_4627 : BitVec 32 := 7#32
  let v11970 : BitVec 32 := Scalar.addi v11853 c7_i32_4627
  let v11971 : BitVec 1 := Scalar.cmpi .slt v11970 v11856
  let c65535_i32_4628 : BitVec 32 := 65535#32
  let v11974 : BitVec 32 := Scalar.andi v11973 c65535_i32_4628
  let c2048_i32_4629 : BitVec 32 := 2048#32
  let v11975 : BitVec 32 := Scalar.select v11971 v11974 c2048_i32_4629
  let v11976 : BitVec 32 := Scalar.addi v11087 v11975
  let v11979 : Index := Scalar.indexCast v11976
  let c0_4631 : Index := 0#32
  ![v11979.toNat, 0]

def k0_chk60 (i : grid0.Coords) (k0_t1 : Fin k0_t1_loop.trips) (v11853 : BitVec 32) (v11856 : BitVec 32) (v11973 : BitVec 32) : Prop :=
  (∀ (k0_h1 : k0_cond1 i = 1#1), ∀ a, (k0_off121 k0_t1 v11853 v11856 v11973) a + S1x128.size a ≤ S8224x128.size a)
theorem k0_off121_inb : ∀ (i : grid0.Coords) (k0_t1 : Fin k0_t1_loop.trips) (v11853 : BitVec 32) (v11856 : BitVec 32) (v11973 : BitVec 32) (k0_hw60 : k0_chk60 i k0_t1 v11853 v11856 v11973), ∀ (k0_h1 : k0_cond1 i = 1#1), ∀ a, (k0_off121 k0_t1 v11853 v11856 v11973) a + S1x128.size a ≤ S8224x128.size a := fun i k0_t1 v11853 v11856 v11973 k0_hw60 k0_h1 => k0_hw60 k0_h1

def k0_off122 (v11853 : BitVec 32) : Fin 1 → Nat :=
  let c8_i32_4632 : BitVec 32 := 8#32
  let v11984 : BitVec 32 := Scalar.addi v11853 c8_i32_4632
  let v11987 : Index := Scalar.indexCast v11984
  ![v11987.toNat]
def k0_off123 (k0_t1 : Fin k0_t1_loop.trips) (v11853 : BitVec 32) (v11856 : BitVec 32) (v11988 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_4633 : BitVec 32 := 8#32
  let v11985 : BitVec 32 := Scalar.addi v11853 c8_i32_4633
  let v11986 : BitVec 1 := Scalar.cmpi .slt v11985 v11856
  let c65535_i32_4634 : BitVec 32 := 65535#32
  let v11989 : BitVec 32 := Scalar.andi v11988 c65535_i32_4634
  let c2048_i32_4635 : BitVec 32 := 2048#32
  let v11990 : BitVec 32 := Scalar.select v11986 v11989 c2048_i32_4635
  let v11991 : BitVec 32 := Scalar.addi v11087 v11990
  let v11994 : Index := Scalar.indexCast v11991
  let c0_4637 : Index := 0#32
  ![v11994.toNat, 0]

def k0_chk61 (i : grid0.Coords) (k0_t1 : Fin k0_t1_loop.trips) (v11853 : BitVec 32) (v11856 : BitVec 32) (v11988 : BitVec 32) : Prop :=
  (∀ (k0_h1 : k0_cond1 i = 1#1), ∀ a, (k0_off123 k0_t1 v11853 v11856 v11988) a + S1x128.size a ≤ S8224x128.size a)
theorem k0_off123_inb : ∀ (i : grid0.Coords) (k0_t1 : Fin k0_t1_loop.trips) (v11853 : BitVec 32) (v11856 : BitVec 32) (v11988 : BitVec 32) (k0_hw61 : k0_chk61 i k0_t1 v11853 v11856 v11988), ∀ (k0_h1 : k0_cond1 i = 1#1), ∀ a, (k0_off123 k0_t1 v11853 v11856 v11988) a + S1x128.size a ≤ S8224x128.size a := fun i k0_t1 v11853 v11856 v11988 k0_hw61 k0_h1 => k0_hw61 k0_h1

def k0_off124 (v11853 : BitVec 32) : Fin 1 → Nat :=
  let c9_i32_4638 : BitVec 32 := 9#32
  let v11999 : BitVec 32 := Scalar.addi v11853 c9_i32_4638
  let v12002 : Index := Scalar.indexCast v11999
  ![v12002.toNat]
def k0_off125 (k0_t1 : Fin k0_t1_loop.trips) (v11853 : BitVec 32) (v11856 : BitVec 32) (v12003 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_4639 : BitVec 32 := 9#32
  let v12000 : BitVec 32 := Scalar.addi v11853 c9_i32_4639
  let v12001 : BitVec 1 := Scalar.cmpi .slt v12000 v11856
  let c65535_i32_4640 : BitVec 32 := 65535#32
  let v12004 : BitVec 32 := Scalar.andi v12003 c65535_i32_4640
  let c2048_i32_4641 : BitVec 32 := 2048#32
  let v12005 : BitVec 32 := Scalar.select v12001 v12004 c2048_i32_4641
  let v12006 : BitVec 32 := Scalar.addi v11087 v12005
  let v12009 : Index := Scalar.indexCast v12006
  let c0_4643 : Index := 0#32
  ![v12009.toNat, 0]

def k0_chk62 (i : grid0.Coords) (k0_t1 : Fin k0_t1_loop.trips) (v11853 : BitVec 32) (v11856 : BitVec 32) (v12003 : BitVec 32) : Prop :=
  (∀ (k0_h1 : k0_cond1 i = 1#1), ∀ a, (k0_off125 k0_t1 v11853 v11856 v12003) a + S1x128.size a ≤ S8224x128.size a)
theorem k0_off125_inb : ∀ (i : grid0.Coords) (k0_t1 : Fin k0_t1_loop.trips) (v11853 : BitVec 32) (v11856 : BitVec 32) (v12003 : BitVec 32) (k0_hw62 : k0_chk62 i k0_t1 v11853 v11856 v12003), ∀ (k0_h1 : k0_cond1 i = 1#1), ∀ a, (k0_off125 k0_t1 v11853 v11856 v12003) a + S1x128.size a ≤ S8224x128.size a := fun i k0_t1 v11853 v11856 v12003 k0_hw62 k0_h1 => k0_hw62 k0_h1

def k0_off126 (v11853 : BitVec 32) : Fin 1 → Nat :=
  let c10_i32_4644 : BitVec 32 := 10#32
  let v12014 : BitVec 32 := Scalar.addi v11853 c10_i32_4644
  let v12017 : Index := Scalar.indexCast v12014
  ![v12017.toNat]
def k0_off127 (k0_t1 : Fin k0_t1_loop.trips) (v11853 : BitVec 32) (v11856 : BitVec 32) (v12018 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_4645 : BitVec 32 := 10#32
  let v12015 : BitVec 32 := Scalar.addi v11853 c10_i32_4645
  let v12016 : BitVec 1 := Scalar.cmpi .slt v12015 v11856
  let c65535_i32_4646 : BitVec 32 := 65535#32
  let v12019 : BitVec 32 := Scalar.andi v12018 c65535_i32_4646
  let c2048_i32_4647 : BitVec 32 := 2048#32
  let v12020 : BitVec 32 := Scalar.select v12016 v12019 c2048_i32_4647
  let v12021 : BitVec 32 := Scalar.addi v11087 v12020
  let v12024 : Index := Scalar.indexCast v12021
  let c0_4649 : Index := 0#32
  ![v12024.toNat, 0]

def k0_chk63 (i : grid0.Coords) (k0_t1 : Fin k0_t1_loop.trips) (v11853 : BitVec 32) (v11856 : BitVec 32) (v12018 : BitVec 32) : Prop :=
  (∀ (k0_h1 : k0_cond1 i = 1#1), ∀ a, (k0_off127 k0_t1 v11853 v11856 v12018) a + S1x128.size a ≤ S8224x128.size a)
theorem k0_off127_inb : ∀ (i : grid0.Coords) (k0_t1 : Fin k0_t1_loop.trips) (v11853 : BitVec 32) (v11856 : BitVec 32) (v12018 : BitVec 32) (k0_hw63 : k0_chk63 i k0_t1 v11853 v11856 v12018), ∀ (k0_h1 : k0_cond1 i = 1#1), ∀ a, (k0_off127 k0_t1 v11853 v11856 v12018) a + S1x128.size a ≤ S8224x128.size a := fun i k0_t1 v11853 v11856 v12018 k0_hw63 k0_h1 => k0_hw63 k0_h1

def k0_off128 (v11853 : BitVec 32) : Fin 1 → Nat :=
  let c11_i32_4650 : BitVec 32 := 11#32
  let v12029 : BitVec 32 := Scalar.addi v11853 c11_i32_4650
  let v12032 : Index := Scalar.indexCast v12029
  ![v12032.toNat]
def k0_off129 (k0_t1 : Fin k0_t1_loop.trips) (v11853 : BitVec 32) (v11856 : BitVec 32) (v12033 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_4651 : BitVec 32 := 11#32
  let v12030 : BitVec 32 := Scalar.addi v11853 c11_i32_4651
  let v12031 : BitVec 1 := Scalar.cmpi .slt v12030 v11856
  let c65535_i32_4652 : BitVec 32 := 65535#32
  let v12034 : BitVec 32 := Scalar.andi v12033 c65535_i32_4652
  let c2048_i32_4653 : BitVec 32 := 2048#32
  let v12035 : BitVec 32 := Scalar.select v12031 v12034 c2048_i32_4653
  let v12036 : BitVec 32 := Scalar.addi v11087 v12035
  let v12039 : Index := Scalar.indexCast v12036
  let c0_4655 : Index := 0#32
  ![v12039.toNat, 0]

def k0_chk64 (i : grid0.Coords) (k0_t1 : Fin k0_t1_loop.trips) (v11853 : BitVec 32) (v11856 : BitVec 32) (v12033 : BitVec 32) : Prop :=
  (∀ (k0_h1 : k0_cond1 i = 1#1), ∀ a, (k0_off129 k0_t1 v11853 v11856 v12033) a + S1x128.size a ≤ S8224x128.size a)
theorem k0_off129_inb : ∀ (i : grid0.Coords) (k0_t1 : Fin k0_t1_loop.trips) (v11853 : BitVec 32) (v11856 : BitVec 32) (v12033 : BitVec 32) (k0_hw64 : k0_chk64 i k0_t1 v11853 v11856 v12033), ∀ (k0_h1 : k0_cond1 i = 1#1), ∀ a, (k0_off129 k0_t1 v11853 v11856 v12033) a + S1x128.size a ≤ S8224x128.size a := fun i k0_t1 v11853 v11856 v12033 k0_hw64 k0_h1 => k0_hw64 k0_h1

def k0_off130 (v11853 : BitVec 32) : Fin 1 → Nat :=
  let c12_i32_4656 : BitVec 32 := 12#32
  let v12044 : BitVec 32 := Scalar.addi v11853 c12_i32_4656
  let v12047 : Index := Scalar.indexCast v12044
  ![v12047.toNat]
def k0_off131 (k0_t1 : Fin k0_t1_loop.trips) (v11853 : BitVec 32) (v11856 : BitVec 32) (v12048 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_4657 : BitVec 32 := 12#32
  let v12045 : BitVec 32 := Scalar.addi v11853 c12_i32_4657
  let v12046 : BitVec 1 := Scalar.cmpi .slt v12045 v11856
  let c65535_i32_4658 : BitVec 32 := 65535#32
  let v12049 : BitVec 32 := Scalar.andi v12048 c65535_i32_4658
  let c2048_i32_4659 : BitVec 32 := 2048#32
  let v12050 : BitVec 32 := Scalar.select v12046 v12049 c2048_i32_4659
  let v12051 : BitVec 32 := Scalar.addi v11087 v12050
  let v12054 : Index := Scalar.indexCast v12051
  let c0_4661 : Index := 0#32
  ![v12054.toNat, 0]

def k0_chk65 (i : grid0.Coords) (k0_t1 : Fin k0_t1_loop.trips) (v11853 : BitVec 32) (v11856 : BitVec 32) (v12048 : BitVec 32) : Prop :=
  (∀ (k0_h1 : k0_cond1 i = 1#1), ∀ a, (k0_off131 k0_t1 v11853 v11856 v12048) a + S1x128.size a ≤ S8224x128.size a)
theorem k0_off131_inb : ∀ (i : grid0.Coords) (k0_t1 : Fin k0_t1_loop.trips) (v11853 : BitVec 32) (v11856 : BitVec 32) (v12048 : BitVec 32) (k0_hw65 : k0_chk65 i k0_t1 v11853 v11856 v12048), ∀ (k0_h1 : k0_cond1 i = 1#1), ∀ a, (k0_off131 k0_t1 v11853 v11856 v12048) a + S1x128.size a ≤ S8224x128.size a := fun i k0_t1 v11853 v11856 v12048 k0_hw65 k0_h1 => k0_hw65 k0_h1

def k0_off132 (v11853 : BitVec 32) : Fin 1 → Nat :=
  let c13_i32_4662 : BitVec 32 := 13#32
  let v12059 : BitVec 32 := Scalar.addi v11853 c13_i32_4662
  let v12062 : Index := Scalar.indexCast v12059
  ![v12062.toNat]
def k0_off133 (k0_t1 : Fin k0_t1_loop.trips) (v11853 : BitVec 32) (v11856 : BitVec 32) (v12063 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_4663 : BitVec 32 := 13#32
  let v12060 : BitVec 32 := Scalar.addi v11853 c13_i32_4663
  let v12061 : BitVec 1 := Scalar.cmpi .slt v12060 v11856
  let c65535_i32_4664 : BitVec 32 := 65535#32
  let v12064 : BitVec 32 := Scalar.andi v12063 c65535_i32_4664
  let c2048_i32_4665 : BitVec 32 := 2048#32
  let v12065 : BitVec 32 := Scalar.select v12061 v12064 c2048_i32_4665
  let v12066 : BitVec 32 := Scalar.addi v11087 v12065
  let v12069 : Index := Scalar.indexCast v12066
  let c0_4667 : Index := 0#32
  ![v12069.toNat, 0]

def k0_chk66 (i : grid0.Coords) (k0_t1 : Fin k0_t1_loop.trips) (v11853 : BitVec 32) (v11856 : BitVec 32) (v12063 : BitVec 32) : Prop :=
  (∀ (k0_h1 : k0_cond1 i = 1#1), ∀ a, (k0_off133 k0_t1 v11853 v11856 v12063) a + S1x128.size a ≤ S8224x128.size a)
theorem k0_off133_inb : ∀ (i : grid0.Coords) (k0_t1 : Fin k0_t1_loop.trips) (v11853 : BitVec 32) (v11856 : BitVec 32) (v12063 : BitVec 32) (k0_hw66 : k0_chk66 i k0_t1 v11853 v11856 v12063), ∀ (k0_h1 : k0_cond1 i = 1#1), ∀ a, (k0_off133 k0_t1 v11853 v11856 v12063) a + S1x128.size a ≤ S8224x128.size a := fun i k0_t1 v11853 v11856 v12063 k0_hw66 k0_h1 => k0_hw66 k0_h1

def k0_off134 (v11853 : BitVec 32) : Fin 1 → Nat :=
  let c14_i32_4668 : BitVec 32 := 14#32
  let v12074 : BitVec 32 := Scalar.addi v11853 c14_i32_4668
  let v12077 : Index := Scalar.indexCast v12074
  ![v12077.toNat]
def k0_off135 (k0_t1 : Fin k0_t1_loop.trips) (v11853 : BitVec 32) (v11856 : BitVec 32) (v12078 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_4669 : BitVec 32 := 14#32
  let v12075 : BitVec 32 := Scalar.addi v11853 c14_i32_4669
  let v12076 : BitVec 1 := Scalar.cmpi .slt v12075 v11856
  let c65535_i32_4670 : BitVec 32 := 65535#32
  let v12079 : BitVec 32 := Scalar.andi v12078 c65535_i32_4670
  let c2048_i32_4671 : BitVec 32 := 2048#32
  let v12080 : BitVec 32 := Scalar.select v12076 v12079 c2048_i32_4671
  let v12081 : BitVec 32 := Scalar.addi v11087 v12080
  let v12084 : Index := Scalar.indexCast v12081
  let c0_4673 : Index := 0#32
  ![v12084.toNat, 0]

def k0_chk67 (i : grid0.Coords) (k0_t1 : Fin k0_t1_loop.trips) (v11853 : BitVec 32) (v11856 : BitVec 32) (v12078 : BitVec 32) : Prop :=
  (∀ (k0_h1 : k0_cond1 i = 1#1), ∀ a, (k0_off135 k0_t1 v11853 v11856 v12078) a + S1x128.size a ≤ S8224x128.size a)
theorem k0_off135_inb : ∀ (i : grid0.Coords) (k0_t1 : Fin k0_t1_loop.trips) (v11853 : BitVec 32) (v11856 : BitVec 32) (v12078 : BitVec 32) (k0_hw67 : k0_chk67 i k0_t1 v11853 v11856 v12078), ∀ (k0_h1 : k0_cond1 i = 1#1), ∀ a, (k0_off135 k0_t1 v11853 v11856 v12078) a + S1x128.size a ≤ S8224x128.size a := fun i k0_t1 v11853 v11856 v12078 k0_hw67 k0_h1 => k0_hw67 k0_h1

def k0_off136 (v11853 : BitVec 32) : Fin 1 → Nat :=
  let c15_i32_4674 : BitVec 32 := 15#32
  let v12089 : BitVec 32 := Scalar.addi v11853 c15_i32_4674
  let v12092 : Index := Scalar.indexCast v12089
  ![v12092.toNat]

def k0_chk52 (i : grid0.Coords) (v11853 : BitVec 32) : Prop :=
  (∀ (k0_h1 : k0_cond1 i = 1#1), ∀ a, (k0_off106 v11853) a + S1.size a ≤ S51920.size a) ∧
  (∀ (k0_h1 : k0_cond1 i = 1#1), ∀ a, (k0_off108 v11853) a + S1.size a ≤ S51920.size a) ∧
  (∀ (k0_h1 : k0_cond1 i = 1#1), ∀ a, (k0_off110 v11853) a + S1.size a ≤ S51920.size a) ∧
  (∀ (k0_h1 : k0_cond1 i = 1#1), ∀ a, (k0_off112 v11853) a + S1.size a ≤ S51920.size a) ∧
  (∀ (k0_h1 : k0_cond1 i = 1#1), ∀ a, (k0_off114 v11853) a + S1.size a ≤ S51920.size a) ∧
  (∀ (k0_h1 : k0_cond1 i = 1#1), ∀ a, (k0_off116 v11853) a + S1.size a ≤ S51920.size a) ∧
  (∀ (k0_h1 : k0_cond1 i = 1#1), ∀ a, (k0_off118 v11853) a + S1.size a ≤ S51920.size a) ∧
  (∀ (k0_h1 : k0_cond1 i = 1#1), ∀ a, (k0_off120 v11853) a + S1.size a ≤ S51920.size a) ∧
  (∀ (k0_h1 : k0_cond1 i = 1#1), ∀ a, (k0_off122 v11853) a + S1.size a ≤ S51920.size a) ∧
  (∀ (k0_h1 : k0_cond1 i = 1#1), ∀ a, (k0_off124 v11853) a + S1.size a ≤ S51920.size a) ∧
  (∀ (k0_h1 : k0_cond1 i = 1#1), ∀ a, (k0_off126 v11853) a + S1.size a ≤ S51920.size a) ∧
  (∀ (k0_h1 : k0_cond1 i = 1#1), ∀ a, (k0_off128 v11853) a + S1.size a ≤ S51920.size a) ∧
  (∀ (k0_h1 : k0_cond1 i = 1#1), ∀ a, (k0_off130 v11853) a + S1.size a ≤ S51920.size a) ∧
  (∀ (k0_h1 : k0_cond1 i = 1#1), ∀ a, (k0_off132 v11853) a + S1.size a ≤ S51920.size a) ∧
  (∀ (k0_h1 : k0_cond1 i = 1#1), ∀ a, (k0_off134 v11853) a + S1.size a ≤ S51920.size a) ∧
  (∀ (k0_h1 : k0_cond1 i = 1#1), ∀ a, (k0_off136 v11853) a + S1.size a ≤ S51920.size a)
theorem k0_off106_inb : ∀ (i : grid0.Coords) (v11853 : BitVec 32) (k0_hw52 : k0_chk52 i v11853), ∀ (k0_h1 : k0_cond1 i = 1#1), ∀ a, (k0_off106 v11853) a + S1.size a ≤ S51920.size a := fun i v11853 k0_hw52 k0_h1 => k0_hw52.1 k0_h1
theorem k0_off108_inb : ∀ (i : grid0.Coords) (v11853 : BitVec 32) (k0_hw52 : k0_chk52 i v11853), ∀ (k0_h1 : k0_cond1 i = 1#1), ∀ a, (k0_off108 v11853) a + S1.size a ≤ S51920.size a := fun i v11853 k0_hw52 k0_h1 => k0_hw52.2.1 k0_h1
theorem k0_off110_inb : ∀ (i : grid0.Coords) (v11853 : BitVec 32) (k0_hw52 : k0_chk52 i v11853), ∀ (k0_h1 : k0_cond1 i = 1#1), ∀ a, (k0_off110 v11853) a + S1.size a ≤ S51920.size a := fun i v11853 k0_hw52 k0_h1 => k0_hw52.2.2.1 k0_h1
theorem k0_off112_inb : ∀ (i : grid0.Coords) (v11853 : BitVec 32) (k0_hw52 : k0_chk52 i v11853), ∀ (k0_h1 : k0_cond1 i = 1#1), ∀ a, (k0_off112 v11853) a + S1.size a ≤ S51920.size a := fun i v11853 k0_hw52 k0_h1 => k0_hw52.2.2.2.1 k0_h1
theorem k0_off114_inb : ∀ (i : grid0.Coords) (v11853 : BitVec 32) (k0_hw52 : k0_chk52 i v11853), ∀ (k0_h1 : k0_cond1 i = 1#1), ∀ a, (k0_off114 v11853) a + S1.size a ≤ S51920.size a := fun i v11853 k0_hw52 k0_h1 => k0_hw52.2.2.2.2.1 k0_h1
theorem k0_off116_inb : ∀ (i : grid0.Coords) (v11853 : BitVec 32) (k0_hw52 : k0_chk52 i v11853), ∀ (k0_h1 : k0_cond1 i = 1#1), ∀ a, (k0_off116 v11853) a + S1.size a ≤ S51920.size a := fun i v11853 k0_hw52 k0_h1 => k0_hw52.2.2.2.2.2.1 k0_h1
theorem k0_off118_inb : ∀ (i : grid0.Coords) (v11853 : BitVec 32) (k0_hw52 : k0_chk52 i v11853), ∀ (k0_h1 : k0_cond1 i = 1#1), ∀ a, (k0_off118 v11853) a + S1.size a ≤ S51920.size a := fun i v11853 k0_hw52 k0_h1 => k0_hw52.2.2.2.2.2.2.1 k0_h1
theorem k0_off120_inb : ∀ (i : grid0.Coords) (v11853 : BitVec 32) (k0_hw52 : k0_chk52 i v11853), ∀ (k0_h1 : k0_cond1 i = 1#1), ∀ a, (k0_off120 v11853) a + S1.size a ≤ S51920.size a := fun i v11853 k0_hw52 k0_h1 => k0_hw52.2.2.2.2.2.2.2.1 k0_h1
theorem k0_off122_inb : ∀ (i : grid0.Coords) (v11853 : BitVec 32) (k0_hw52 : k0_chk52 i v11853), ∀ (k0_h1 : k0_cond1 i = 1#1), ∀ a, (k0_off122 v11853) a + S1.size a ≤ S51920.size a := fun i v11853 k0_hw52 k0_h1 => k0_hw52.2.2.2.2.2.2.2.2.1 k0_h1
theorem k0_off124_inb : ∀ (i : grid0.Coords) (v11853 : BitVec 32) (k0_hw52 : k0_chk52 i v11853), ∀ (k0_h1 : k0_cond1 i = 1#1), ∀ a, (k0_off124 v11853) a + S1.size a ≤ S51920.size a := fun i v11853 k0_hw52 k0_h1 => k0_hw52.2.2.2.2.2.2.2.2.2.1 k0_h1
theorem k0_off126_inb : ∀ (i : grid0.Coords) (v11853 : BitVec 32) (k0_hw52 : k0_chk52 i v11853), ∀ (k0_h1 : k0_cond1 i = 1#1), ∀ a, (k0_off126 v11853) a + S1.size a ≤ S51920.size a := fun i v11853 k0_hw52 k0_h1 => k0_hw52.2.2.2.2.2.2.2.2.2.2.1 k0_h1
theorem k0_off128_inb : ∀ (i : grid0.Coords) (v11853 : BitVec 32) (k0_hw52 : k0_chk52 i v11853), ∀ (k0_h1 : k0_cond1 i = 1#1), ∀ a, (k0_off128 v11853) a + S1.size a ≤ S51920.size a := fun i v11853 k0_hw52 k0_h1 => k0_hw52.2.2.2.2.2.2.2.2.2.2.2.1 k0_h1
theorem k0_off130_inb : ∀ (i : grid0.Coords) (v11853 : BitVec 32) (k0_hw52 : k0_chk52 i v11853), ∀ (k0_h1 : k0_cond1 i = 1#1), ∀ a, (k0_off130 v11853) a + S1.size a ≤ S51920.size a := fun i v11853 k0_hw52 k0_h1 => k0_hw52.2.2.2.2.2.2.2.2.2.2.2.2.1 k0_h1
theorem k0_off132_inb : ∀ (i : grid0.Coords) (v11853 : BitVec 32) (k0_hw52 : k0_chk52 i v11853), ∀ (k0_h1 : k0_cond1 i = 1#1), ∀ a, (k0_off132 v11853) a + S1.size a ≤ S51920.size a := fun i v11853 k0_hw52 k0_h1 => k0_hw52.2.2.2.2.2.2.2.2.2.2.2.2.2.1 k0_h1
theorem k0_off134_inb : ∀ (i : grid0.Coords) (v11853 : BitVec 32) (k0_hw52 : k0_chk52 i v11853), ∀ (k0_h1 : k0_cond1 i = 1#1), ∀ a, (k0_off134 v11853) a + S1.size a ≤ S51920.size a := fun i v11853 k0_hw52 k0_h1 => k0_hw52.2.2.2.2.2.2.2.2.2.2.2.2.2.2.1 k0_h1
theorem k0_off136_inb : ∀ (i : grid0.Coords) (v11853 : BitVec 32) (k0_hw52 : k0_chk52 i v11853), ∀ (k0_h1 : k0_cond1 i = 1#1), ∀ a, (k0_off136 v11853) a + S1.size a ≤ S51920.size a := fun i v11853 k0_hw52 k0_h1 => k0_hw52.2.2.2.2.2.2.2.2.2.2.2.2.2.2.2 k0_h1

def k0_off137 (k0_t1 : Fin k0_t1_loop.trips) (v11853 : BitVec 32) (v11856 : BitVec 32) (v12093 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_4675 : BitVec 32 := 15#32
  let v12090 : BitVec 32 := Scalar.addi v11853 c15_i32_4675
  let v12091 : BitVec 1 := Scalar.cmpi .slt v12090 v11856
  let c65535_i32_4676 : BitVec 32 := 65535#32
  let v12094 : BitVec 32 := Scalar.andi v12093 c65535_i32_4676
  let c2048_i32_4677 : BitVec 32 := 2048#32
  let v12095 : BitVec 32 := Scalar.select v12091 v12094 c2048_i32_4677
  let v12096 : BitVec 32 := Scalar.addi v11087 v12095
  let v12099 : Index := Scalar.indexCast v12096
  let c0_4679 : Index := 0#32
  ![v12099.toNat, 0]

def k0_chk68 (i : grid0.Coords) (k0_t1 : Fin k0_t1_loop.trips) (v11853 : BitVec 32) (v11856 : BitVec 32) (v12093 : BitVec 32) : Prop :=
  (∀ (k0_h1 : k0_cond1 i = 1#1), ∀ a, (k0_off137 k0_t1 v11853 v11856 v12093) a + S1x128.size a ≤ S8224x128.size a)
theorem k0_off137_inb : ∀ (i : grid0.Coords) (k0_t1 : Fin k0_t1_loop.trips) (v11853 : BitVec 32) (v11856 : BitVec 32) (v12093 : BitVec 32) (k0_hw68 : k0_chk68 i k0_t1 v11853 v11856 v12093), ∀ (k0_h1 : k0_cond1 i = 1#1), ∀ a, (k0_off137 k0_t1 v11853 v11856 v12093) a + S1x128.size a ≤ S8224x128.size a := fun i k0_t1 v11853 v11856 v12093 k0_hw68 k0_h1 => k0_hw68 k0_h1

def k0_off138 (k0_t1 : Fin k0_t1_loop.trips) : Fin 1 → Nat :=
  let c0_i32_4680 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v12104 : BitVec 32 := Scalar.addi c0_i32_4680 v11069
  let c4_i32_4681 : BitVec 32 := 4#32
  let v12105 : BitVec 32 := Scalar.addi v12104 c4_i32_4681
  let v12106 : Index := Scalar.indexCast v12105
  ![v12106.toNat]
def k0_off139 (k0_t1 : Fin k0_t1_loop.trips) : Fin 1 → Nat :=
  let c0_i32_4680 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v12104 : BitVec 32 := Scalar.addi c0_i32_4680 v11069
  let c4_i32_4681 : BitVec 32 := 4#32
  let v12105 : BitVec 32 := Scalar.addi v12104 c4_i32_4681
  let c1_i32_4682 : BitVec 32 := 1#32
  let v12108 : BitVec 32 := Scalar.addi v12105 c1_i32_4682
  let v12109 : Index := Scalar.indexCast v12108
  ![v12109.toNat]
def k0_off140 (v12107 : BitVec 32) : Fin 1 → Nat :=
  let c0_i32_4685 : BitVec 32 := 0#32
  let v12118 : BitVec 32 := Scalar.addi v12107 c0_i32_4685
  let v12121 : Index := Scalar.indexCast v12118
  ![v12121.toNat]

def k0_off141 (k0_t1 : Fin k0_t1_loop.trips) (v12107 : BitVec 32) (v12110 : BitVec 32) (v12122 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_4686 : BitVec 32 := 0#32
  let v12119 : BitVec 32 := Scalar.addi v12107 c0_i32_4686
  let v12120 : BitVec 1 := Scalar.cmpi .slt v12119 v12110
  let c65535_i32_4687 : BitVec 32 := 65535#32
  let v12123 : BitVec 32 := Scalar.andi v12122 c65535_i32_4687
  let c2048_i32_4688 : BitVec 32 := 2048#32
  let v12124 : BitVec 32 := Scalar.select v12120 v12123 c2048_i32_4688
  let v12125 : BitVec 32 := Scalar.addi v11087 v12124
  let v12128 : Index := Scalar.indexCast v12125
  let c0_4690 : Index := 0#32
  ![v12128.toNat, 0]

def k0_chk70 (i : grid0.Coords) (k0_t1 : Fin k0_t1_loop.trips) (v12107 : BitVec 32) (v12110 : BitVec 32) (v12122 : BitVec 32) : Prop :=
  (∀ (k0_h1 : k0_cond1 i = 1#1), ∀ a, (k0_off141 k0_t1 v12107 v12110 v12122) a + S1x128.size a ≤ S8224x128.size a)
theorem k0_off141_inb : ∀ (i : grid0.Coords) (k0_t1 : Fin k0_t1_loop.trips) (v12107 : BitVec 32) (v12110 : BitVec 32) (v12122 : BitVec 32) (k0_hw70 : k0_chk70 i k0_t1 v12107 v12110 v12122), ∀ (k0_h1 : k0_cond1 i = 1#1), ∀ a, (k0_off141 k0_t1 v12107 v12110 v12122) a + S1x128.size a ≤ S8224x128.size a := fun i k0_t1 v12107 v12110 v12122 k0_hw70 k0_h1 => k0_hw70 k0_h1

def k0_off142 (v12107 : BitVec 32) : Fin 1 → Nat :=
  let c1_i32_4691 : BitVec 32 := 1#32
  let v12133 : BitVec 32 := Scalar.addi v12107 c1_i32_4691
  let v12136 : Index := Scalar.indexCast v12133
  ![v12136.toNat]
def k0_off143 (k0_t1 : Fin k0_t1_loop.trips) (v12107 : BitVec 32) (v12110 : BitVec 32) (v12137 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_4692 : BitVec 32 := 1#32
  let v12134 : BitVec 32 := Scalar.addi v12107 c1_i32_4692
  let v12135 : BitVec 1 := Scalar.cmpi .slt v12134 v12110
  let c65535_i32_4693 : BitVec 32 := 65535#32
  let v12138 : BitVec 32 := Scalar.andi v12137 c65535_i32_4693
  let c2048_i32_4694 : BitVec 32 := 2048#32
  let v12139 : BitVec 32 := Scalar.select v12135 v12138 c2048_i32_4694
  let v12140 : BitVec 32 := Scalar.addi v11087 v12139
  let v12143 : Index := Scalar.indexCast v12140
  let c0_4696 : Index := 0#32
  ![v12143.toNat, 0]

def k0_chk71 (i : grid0.Coords) (k0_t1 : Fin k0_t1_loop.trips) (v12107 : BitVec 32) (v12110 : BitVec 32) (v12137 : BitVec 32) : Prop :=
  (∀ (k0_h1 : k0_cond1 i = 1#1), ∀ a, (k0_off143 k0_t1 v12107 v12110 v12137) a + S1x128.size a ≤ S8224x128.size a)
theorem k0_off143_inb : ∀ (i : grid0.Coords) (k0_t1 : Fin k0_t1_loop.trips) (v12107 : BitVec 32) (v12110 : BitVec 32) (v12137 : BitVec 32) (k0_hw71 : k0_chk71 i k0_t1 v12107 v12110 v12137), ∀ (k0_h1 : k0_cond1 i = 1#1), ∀ a, (k0_off143 k0_t1 v12107 v12110 v12137) a + S1x128.size a ≤ S8224x128.size a := fun i k0_t1 v12107 v12110 v12137 k0_hw71 k0_h1 => k0_hw71 k0_h1

def k0_off144 (v12107 : BitVec 32) : Fin 1 → Nat :=
  let c2_i32_4697 : BitVec 32 := 2#32
  let v12148 : BitVec 32 := Scalar.addi v12107 c2_i32_4697
  let v12151 : Index := Scalar.indexCast v12148
  ![v12151.toNat]
def k0_off145 (k0_t1 : Fin k0_t1_loop.trips) (v12107 : BitVec 32) (v12110 : BitVec 32) (v12152 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_4698 : BitVec 32 := 2#32
  let v12149 : BitVec 32 := Scalar.addi v12107 c2_i32_4698
  let v12150 : BitVec 1 := Scalar.cmpi .slt v12149 v12110
  let c65535_i32_4699 : BitVec 32 := 65535#32
  let v12153 : BitVec 32 := Scalar.andi v12152 c65535_i32_4699
  let c2048_i32_4700 : BitVec 32 := 2048#32
  let v12154 : BitVec 32 := Scalar.select v12150 v12153 c2048_i32_4700
  let v12155 : BitVec 32 := Scalar.addi v11087 v12154
  let v12158 : Index := Scalar.indexCast v12155
  let c0_4702 : Index := 0#32
  ![v12158.toNat, 0]

def k0_chk72 (i : grid0.Coords) (k0_t1 : Fin k0_t1_loop.trips) (v12107 : BitVec 32) (v12110 : BitVec 32) (v12152 : BitVec 32) : Prop :=
  (∀ (k0_h1 : k0_cond1 i = 1#1), ∀ a, (k0_off145 k0_t1 v12107 v12110 v12152) a + S1x128.size a ≤ S8224x128.size a)
theorem k0_off145_inb : ∀ (i : grid0.Coords) (k0_t1 : Fin k0_t1_loop.trips) (v12107 : BitVec 32) (v12110 : BitVec 32) (v12152 : BitVec 32) (k0_hw72 : k0_chk72 i k0_t1 v12107 v12110 v12152), ∀ (k0_h1 : k0_cond1 i = 1#1), ∀ a, (k0_off145 k0_t1 v12107 v12110 v12152) a + S1x128.size a ≤ S8224x128.size a := fun i k0_t1 v12107 v12110 v12152 k0_hw72 k0_h1 => k0_hw72 k0_h1

def k0_off146 (v12107 : BitVec 32) : Fin 1 → Nat :=
  let c3_i32_4703 : BitVec 32 := 3#32
  let v12163 : BitVec 32 := Scalar.addi v12107 c3_i32_4703
  let v12166 : Index := Scalar.indexCast v12163
  ![v12166.toNat]
def k0_off147 (k0_t1 : Fin k0_t1_loop.trips) (v12107 : BitVec 32) (v12110 : BitVec 32) (v12167 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_4704 : BitVec 32 := 3#32
  let v12164 : BitVec 32 := Scalar.addi v12107 c3_i32_4704
  let v12165 : BitVec 1 := Scalar.cmpi .slt v12164 v12110
  let c65535_i32_4705 : BitVec 32 := 65535#32
  let v12168 : BitVec 32 := Scalar.andi v12167 c65535_i32_4705
  let c2048_i32_4706 : BitVec 32 := 2048#32
  let v12169 : BitVec 32 := Scalar.select v12165 v12168 c2048_i32_4706
  let v12170 : BitVec 32 := Scalar.addi v11087 v12169
  let v12173 : Index := Scalar.indexCast v12170
  let c0_4708 : Index := 0#32
  ![v12173.toNat, 0]

def k0_chk73 (i : grid0.Coords) (k0_t1 : Fin k0_t1_loop.trips) (v12107 : BitVec 32) (v12110 : BitVec 32) (v12167 : BitVec 32) : Prop :=
  (∀ (k0_h1 : k0_cond1 i = 1#1), ∀ a, (k0_off147 k0_t1 v12107 v12110 v12167) a + S1x128.size a ≤ S8224x128.size a)
theorem k0_off147_inb : ∀ (i : grid0.Coords) (k0_t1 : Fin k0_t1_loop.trips) (v12107 : BitVec 32) (v12110 : BitVec 32) (v12167 : BitVec 32) (k0_hw73 : k0_chk73 i k0_t1 v12107 v12110 v12167), ∀ (k0_h1 : k0_cond1 i = 1#1), ∀ a, (k0_off147 k0_t1 v12107 v12110 v12167) a + S1x128.size a ≤ S8224x128.size a := fun i k0_t1 v12107 v12110 v12167 k0_hw73 k0_h1 => k0_hw73 k0_h1

def k0_off148 (v12107 : BitVec 32) : Fin 1 → Nat :=
  let c4_i32_4709 : BitVec 32 := 4#32
  let v12178 : BitVec 32 := Scalar.addi v12107 c4_i32_4709
  let v12181 : Index := Scalar.indexCast v12178
  ![v12181.toNat]
def k0_off149 (k0_t1 : Fin k0_t1_loop.trips) (v12107 : BitVec 32) (v12110 : BitVec 32) (v12182 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_4710 : BitVec 32 := 4#32
  let v12179 : BitVec 32 := Scalar.addi v12107 c4_i32_4710
  let v12180 : BitVec 1 := Scalar.cmpi .slt v12179 v12110
  let c65535_i32_4711 : BitVec 32 := 65535#32
  let v12183 : BitVec 32 := Scalar.andi v12182 c65535_i32_4711
  let c2048_i32_4712 : BitVec 32 := 2048#32
  let v12184 : BitVec 32 := Scalar.select v12180 v12183 c2048_i32_4712
  let v12185 : BitVec 32 := Scalar.addi v11087 v12184
  let v12188 : Index := Scalar.indexCast v12185
  let c0_4714 : Index := 0#32
  ![v12188.toNat, 0]

def k0_chk74 (i : grid0.Coords) (k0_t1 : Fin k0_t1_loop.trips) (v12107 : BitVec 32) (v12110 : BitVec 32) (v12182 : BitVec 32) : Prop :=
  (∀ (k0_h1 : k0_cond1 i = 1#1), ∀ a, (k0_off149 k0_t1 v12107 v12110 v12182) a + S1x128.size a ≤ S8224x128.size a)
theorem k0_off149_inb : ∀ (i : grid0.Coords) (k0_t1 : Fin k0_t1_loop.trips) (v12107 : BitVec 32) (v12110 : BitVec 32) (v12182 : BitVec 32) (k0_hw74 : k0_chk74 i k0_t1 v12107 v12110 v12182), ∀ (k0_h1 : k0_cond1 i = 1#1), ∀ a, (k0_off149 k0_t1 v12107 v12110 v12182) a + S1x128.size a ≤ S8224x128.size a := fun i k0_t1 v12107 v12110 v12182 k0_hw74 k0_h1 => k0_hw74 k0_h1

def k0_off150 (v12107 : BitVec 32) : Fin 1 → Nat :=
  let c5_i32_4715 : BitVec 32 := 5#32
  let v12193 : BitVec 32 := Scalar.addi v12107 c5_i32_4715
  let v12196 : Index := Scalar.indexCast v12193
  ![v12196.toNat]
def k0_off151 (k0_t1 : Fin k0_t1_loop.trips) (v12107 : BitVec 32) (v12110 : BitVec 32) (v12197 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_4716 : BitVec 32 := 5#32
  let v12194 : BitVec 32 := Scalar.addi v12107 c5_i32_4716
  let v12195 : BitVec 1 := Scalar.cmpi .slt v12194 v12110
  let c65535_i32_4717 : BitVec 32 := 65535#32
  let v12198 : BitVec 32 := Scalar.andi v12197 c65535_i32_4717
  let c2048_i32_4718 : BitVec 32 := 2048#32
  let v12199 : BitVec 32 := Scalar.select v12195 v12198 c2048_i32_4718
  let v12200 : BitVec 32 := Scalar.addi v11087 v12199
  let v12203 : Index := Scalar.indexCast v12200
  let c0_4720 : Index := 0#32
  ![v12203.toNat, 0]

def k0_chk75 (i : grid0.Coords) (k0_t1 : Fin k0_t1_loop.trips) (v12107 : BitVec 32) (v12110 : BitVec 32) (v12197 : BitVec 32) : Prop :=
  (∀ (k0_h1 : k0_cond1 i = 1#1), ∀ a, (k0_off151 k0_t1 v12107 v12110 v12197) a + S1x128.size a ≤ S8224x128.size a)
theorem k0_off151_inb : ∀ (i : grid0.Coords) (k0_t1 : Fin k0_t1_loop.trips) (v12107 : BitVec 32) (v12110 : BitVec 32) (v12197 : BitVec 32) (k0_hw75 : k0_chk75 i k0_t1 v12107 v12110 v12197), ∀ (k0_h1 : k0_cond1 i = 1#1), ∀ a, (k0_off151 k0_t1 v12107 v12110 v12197) a + S1x128.size a ≤ S8224x128.size a := fun i k0_t1 v12107 v12110 v12197 k0_hw75 k0_h1 => k0_hw75 k0_h1

def k0_off152 (v12107 : BitVec 32) : Fin 1 → Nat :=
  let c6_i32_4721 : BitVec 32 := 6#32
  let v12208 : BitVec 32 := Scalar.addi v12107 c6_i32_4721
  let v12211 : Index := Scalar.indexCast v12208
  ![v12211.toNat]
def k0_off153 (k0_t1 : Fin k0_t1_loop.trips) (v12107 : BitVec 32) (v12110 : BitVec 32) (v12212 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_4722 : BitVec 32 := 6#32
  let v12209 : BitVec 32 := Scalar.addi v12107 c6_i32_4722
  let v12210 : BitVec 1 := Scalar.cmpi .slt v12209 v12110
  let c65535_i32_4723 : BitVec 32 := 65535#32
  let v12213 : BitVec 32 := Scalar.andi v12212 c65535_i32_4723
  let c2048_i32_4724 : BitVec 32 := 2048#32
  let v12214 : BitVec 32 := Scalar.select v12210 v12213 c2048_i32_4724
  let v12215 : BitVec 32 := Scalar.addi v11087 v12214
  let v12218 : Index := Scalar.indexCast v12215
  let c0_4726 : Index := 0#32
  ![v12218.toNat, 0]

def k0_chk76 (i : grid0.Coords) (k0_t1 : Fin k0_t1_loop.trips) (v12107 : BitVec 32) (v12110 : BitVec 32) (v12212 : BitVec 32) : Prop :=
  (∀ (k0_h1 : k0_cond1 i = 1#1), ∀ a, (k0_off153 k0_t1 v12107 v12110 v12212) a + S1x128.size a ≤ S8224x128.size a)
theorem k0_off153_inb : ∀ (i : grid0.Coords) (k0_t1 : Fin k0_t1_loop.trips) (v12107 : BitVec 32) (v12110 : BitVec 32) (v12212 : BitVec 32) (k0_hw76 : k0_chk76 i k0_t1 v12107 v12110 v12212), ∀ (k0_h1 : k0_cond1 i = 1#1), ∀ a, (k0_off153 k0_t1 v12107 v12110 v12212) a + S1x128.size a ≤ S8224x128.size a := fun i k0_t1 v12107 v12110 v12212 k0_hw76 k0_h1 => k0_hw76 k0_h1

def k0_off154 (v12107 : BitVec 32) : Fin 1 → Nat :=
  let c7_i32_4727 : BitVec 32 := 7#32
  let v12223 : BitVec 32 := Scalar.addi v12107 c7_i32_4727
  let v12226 : Index := Scalar.indexCast v12223
  ![v12226.toNat]
def k0_off155 (k0_t1 : Fin k0_t1_loop.trips) (v12107 : BitVec 32) (v12110 : BitVec 32) (v12227 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_4728 : BitVec 32 := 7#32
  let v12224 : BitVec 32 := Scalar.addi v12107 c7_i32_4728
  let v12225 : BitVec 1 := Scalar.cmpi .slt v12224 v12110
  let c65535_i32_4729 : BitVec 32 := 65535#32
  let v12228 : BitVec 32 := Scalar.andi v12227 c65535_i32_4729
  let c2048_i32_4730 : BitVec 32 := 2048#32
  let v12229 : BitVec 32 := Scalar.select v12225 v12228 c2048_i32_4730
  let v12230 : BitVec 32 := Scalar.addi v11087 v12229
  let v12233 : Index := Scalar.indexCast v12230
  let c0_4732 : Index := 0#32
  ![v12233.toNat, 0]

def k0_chk77 (i : grid0.Coords) (k0_t1 : Fin k0_t1_loop.trips) (v12107 : BitVec 32) (v12110 : BitVec 32) (v12227 : BitVec 32) : Prop :=
  (∀ (k0_h1 : k0_cond1 i = 1#1), ∀ a, (k0_off155 k0_t1 v12107 v12110 v12227) a + S1x128.size a ≤ S8224x128.size a)
theorem k0_off155_inb : ∀ (i : grid0.Coords) (k0_t1 : Fin k0_t1_loop.trips) (v12107 : BitVec 32) (v12110 : BitVec 32) (v12227 : BitVec 32) (k0_hw77 : k0_chk77 i k0_t1 v12107 v12110 v12227), ∀ (k0_h1 : k0_cond1 i = 1#1), ∀ a, (k0_off155 k0_t1 v12107 v12110 v12227) a + S1x128.size a ≤ S8224x128.size a := fun i k0_t1 v12107 v12110 v12227 k0_hw77 k0_h1 => k0_hw77 k0_h1

def k0_off156 (v12107 : BitVec 32) : Fin 1 → Nat :=
  let c8_i32_4733 : BitVec 32 := 8#32
  let v12238 : BitVec 32 := Scalar.addi v12107 c8_i32_4733
  let v12241 : Index := Scalar.indexCast v12238
  ![v12241.toNat]
def k0_off157 (k0_t1 : Fin k0_t1_loop.trips) (v12107 : BitVec 32) (v12110 : BitVec 32) (v12242 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_4734 : BitVec 32 := 8#32
  let v12239 : BitVec 32 := Scalar.addi v12107 c8_i32_4734
  let v12240 : BitVec 1 := Scalar.cmpi .slt v12239 v12110
  let c65535_i32_4735 : BitVec 32 := 65535#32
  let v12243 : BitVec 32 := Scalar.andi v12242 c65535_i32_4735
  let c2048_i32_4736 : BitVec 32 := 2048#32
  let v12244 : BitVec 32 := Scalar.select v12240 v12243 c2048_i32_4736
  let v12245 : BitVec 32 := Scalar.addi v11087 v12244
  let v12248 : Index := Scalar.indexCast v12245
  let c0_4738 : Index := 0#32
  ![v12248.toNat, 0]

def k0_chk78 (i : grid0.Coords) (k0_t1 : Fin k0_t1_loop.trips) (v12107 : BitVec 32) (v12110 : BitVec 32) (v12242 : BitVec 32) : Prop :=
  (∀ (k0_h1 : k0_cond1 i = 1#1), ∀ a, (k0_off157 k0_t1 v12107 v12110 v12242) a + S1x128.size a ≤ S8224x128.size a)
theorem k0_off157_inb : ∀ (i : grid0.Coords) (k0_t1 : Fin k0_t1_loop.trips) (v12107 : BitVec 32) (v12110 : BitVec 32) (v12242 : BitVec 32) (k0_hw78 : k0_chk78 i k0_t1 v12107 v12110 v12242), ∀ (k0_h1 : k0_cond1 i = 1#1), ∀ a, (k0_off157 k0_t1 v12107 v12110 v12242) a + S1x128.size a ≤ S8224x128.size a := fun i k0_t1 v12107 v12110 v12242 k0_hw78 k0_h1 => k0_hw78 k0_h1

def k0_off158 (v12107 : BitVec 32) : Fin 1 → Nat :=
  let c9_i32_4739 : BitVec 32 := 9#32
  let v12253 : BitVec 32 := Scalar.addi v12107 c9_i32_4739
  let v12256 : Index := Scalar.indexCast v12253
  ![v12256.toNat]
def k0_off159 (k0_t1 : Fin k0_t1_loop.trips) (v12107 : BitVec 32) (v12110 : BitVec 32) (v12257 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_4740 : BitVec 32 := 9#32
  let v12254 : BitVec 32 := Scalar.addi v12107 c9_i32_4740
  let v12255 : BitVec 1 := Scalar.cmpi .slt v12254 v12110
  let c65535_i32_4741 : BitVec 32 := 65535#32
  let v12258 : BitVec 32 := Scalar.andi v12257 c65535_i32_4741
  let c2048_i32_4742 : BitVec 32 := 2048#32
  let v12259 : BitVec 32 := Scalar.select v12255 v12258 c2048_i32_4742
  let v12260 : BitVec 32 := Scalar.addi v11087 v12259
  let v12263 : Index := Scalar.indexCast v12260
  let c0_4744 : Index := 0#32
  ![v12263.toNat, 0]

def k0_chk79 (i : grid0.Coords) (k0_t1 : Fin k0_t1_loop.trips) (v12107 : BitVec 32) (v12110 : BitVec 32) (v12257 : BitVec 32) : Prop :=
  (∀ (k0_h1 : k0_cond1 i = 1#1), ∀ a, (k0_off159 k0_t1 v12107 v12110 v12257) a + S1x128.size a ≤ S8224x128.size a)
theorem k0_off159_inb : ∀ (i : grid0.Coords) (k0_t1 : Fin k0_t1_loop.trips) (v12107 : BitVec 32) (v12110 : BitVec 32) (v12257 : BitVec 32) (k0_hw79 : k0_chk79 i k0_t1 v12107 v12110 v12257), ∀ (k0_h1 : k0_cond1 i = 1#1), ∀ a, (k0_off159 k0_t1 v12107 v12110 v12257) a + S1x128.size a ≤ S8224x128.size a := fun i k0_t1 v12107 v12110 v12257 k0_hw79 k0_h1 => k0_hw79 k0_h1

def k0_off160 (v12107 : BitVec 32) : Fin 1 → Nat :=
  let c10_i32_4745 : BitVec 32 := 10#32
  let v12268 : BitVec 32 := Scalar.addi v12107 c10_i32_4745
  let v12271 : Index := Scalar.indexCast v12268
  ![v12271.toNat]
def k0_off161 (k0_t1 : Fin k0_t1_loop.trips) (v12107 : BitVec 32) (v12110 : BitVec 32) (v12272 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_4746 : BitVec 32 := 10#32
  let v12269 : BitVec 32 := Scalar.addi v12107 c10_i32_4746
  let v12270 : BitVec 1 := Scalar.cmpi .slt v12269 v12110
  let c65535_i32_4747 : BitVec 32 := 65535#32
  let v12273 : BitVec 32 := Scalar.andi v12272 c65535_i32_4747
  let c2048_i32_4748 : BitVec 32 := 2048#32
  let v12274 : BitVec 32 := Scalar.select v12270 v12273 c2048_i32_4748
  let v12275 : BitVec 32 := Scalar.addi v11087 v12274
  let v12278 : Index := Scalar.indexCast v12275
  let c0_4750 : Index := 0#32
  ![v12278.toNat, 0]

def k0_chk80 (i : grid0.Coords) (k0_t1 : Fin k0_t1_loop.trips) (v12107 : BitVec 32) (v12110 : BitVec 32) (v12272 : BitVec 32) : Prop :=
  (∀ (k0_h1 : k0_cond1 i = 1#1), ∀ a, (k0_off161 k0_t1 v12107 v12110 v12272) a + S1x128.size a ≤ S8224x128.size a)
theorem k0_off161_inb : ∀ (i : grid0.Coords) (k0_t1 : Fin k0_t1_loop.trips) (v12107 : BitVec 32) (v12110 : BitVec 32) (v12272 : BitVec 32) (k0_hw80 : k0_chk80 i k0_t1 v12107 v12110 v12272), ∀ (k0_h1 : k0_cond1 i = 1#1), ∀ a, (k0_off161 k0_t1 v12107 v12110 v12272) a + S1x128.size a ≤ S8224x128.size a := fun i k0_t1 v12107 v12110 v12272 k0_hw80 k0_h1 => k0_hw80 k0_h1

def k0_off162 (v12107 : BitVec 32) : Fin 1 → Nat :=
  let c11_i32_4751 : BitVec 32 := 11#32
  let v12283 : BitVec 32 := Scalar.addi v12107 c11_i32_4751
  let v12286 : Index := Scalar.indexCast v12283
  ![v12286.toNat]
def k0_off163 (k0_t1 : Fin k0_t1_loop.trips) (v12107 : BitVec 32) (v12110 : BitVec 32) (v12287 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_4752 : BitVec 32 := 11#32
  let v12284 : BitVec 32 := Scalar.addi v12107 c11_i32_4752
  let v12285 : BitVec 1 := Scalar.cmpi .slt v12284 v12110
  let c65535_i32_4753 : BitVec 32 := 65535#32
  let v12288 : BitVec 32 := Scalar.andi v12287 c65535_i32_4753
  let c2048_i32_4754 : BitVec 32 := 2048#32
  let v12289 : BitVec 32 := Scalar.select v12285 v12288 c2048_i32_4754
  let v12290 : BitVec 32 := Scalar.addi v11087 v12289
  let v12293 : Index := Scalar.indexCast v12290
  let c0_4756 : Index := 0#32
  ![v12293.toNat, 0]

def k0_chk81 (i : grid0.Coords) (k0_t1 : Fin k0_t1_loop.trips) (v12107 : BitVec 32) (v12110 : BitVec 32) (v12287 : BitVec 32) : Prop :=
  (∀ (k0_h1 : k0_cond1 i = 1#1), ∀ a, (k0_off163 k0_t1 v12107 v12110 v12287) a + S1x128.size a ≤ S8224x128.size a)
theorem k0_off163_inb : ∀ (i : grid0.Coords) (k0_t1 : Fin k0_t1_loop.trips) (v12107 : BitVec 32) (v12110 : BitVec 32) (v12287 : BitVec 32) (k0_hw81 : k0_chk81 i k0_t1 v12107 v12110 v12287), ∀ (k0_h1 : k0_cond1 i = 1#1), ∀ a, (k0_off163 k0_t1 v12107 v12110 v12287) a + S1x128.size a ≤ S8224x128.size a := fun i k0_t1 v12107 v12110 v12287 k0_hw81 k0_h1 => k0_hw81 k0_h1

def k0_off164 (v12107 : BitVec 32) : Fin 1 → Nat :=
  let c12_i32_4757 : BitVec 32 := 12#32
  let v12298 : BitVec 32 := Scalar.addi v12107 c12_i32_4757
  let v12301 : Index := Scalar.indexCast v12298
  ![v12301.toNat]
def k0_off165 (k0_t1 : Fin k0_t1_loop.trips) (v12107 : BitVec 32) (v12110 : BitVec 32) (v12302 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_4758 : BitVec 32 := 12#32
  let v12299 : BitVec 32 := Scalar.addi v12107 c12_i32_4758
  let v12300 : BitVec 1 := Scalar.cmpi .slt v12299 v12110
  let c65535_i32_4759 : BitVec 32 := 65535#32
  let v12303 : BitVec 32 := Scalar.andi v12302 c65535_i32_4759
  let c2048_i32_4760 : BitVec 32 := 2048#32
  let v12304 : BitVec 32 := Scalar.select v12300 v12303 c2048_i32_4760
  let v12305 : BitVec 32 := Scalar.addi v11087 v12304
  let v12308 : Index := Scalar.indexCast v12305
  let c0_4762 : Index := 0#32
  ![v12308.toNat, 0]

def k0_chk82 (i : grid0.Coords) (k0_t1 : Fin k0_t1_loop.trips) (v12107 : BitVec 32) (v12110 : BitVec 32) (v12302 : BitVec 32) : Prop :=
  (∀ (k0_h1 : k0_cond1 i = 1#1), ∀ a, (k0_off165 k0_t1 v12107 v12110 v12302) a + S1x128.size a ≤ S8224x128.size a)
theorem k0_off165_inb : ∀ (i : grid0.Coords) (k0_t1 : Fin k0_t1_loop.trips) (v12107 : BitVec 32) (v12110 : BitVec 32) (v12302 : BitVec 32) (k0_hw82 : k0_chk82 i k0_t1 v12107 v12110 v12302), ∀ (k0_h1 : k0_cond1 i = 1#1), ∀ a, (k0_off165 k0_t1 v12107 v12110 v12302) a + S1x128.size a ≤ S8224x128.size a := fun i k0_t1 v12107 v12110 v12302 k0_hw82 k0_h1 => k0_hw82 k0_h1

def k0_off166 (v12107 : BitVec 32) : Fin 1 → Nat :=
  let c13_i32_4763 : BitVec 32 := 13#32
  let v12313 : BitVec 32 := Scalar.addi v12107 c13_i32_4763
  let v12316 : Index := Scalar.indexCast v12313
  ![v12316.toNat]
def k0_off167 (k0_t1 : Fin k0_t1_loop.trips) (v12107 : BitVec 32) (v12110 : BitVec 32) (v12317 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_4764 : BitVec 32 := 13#32
  let v12314 : BitVec 32 := Scalar.addi v12107 c13_i32_4764
  let v12315 : BitVec 1 := Scalar.cmpi .slt v12314 v12110
  let c65535_i32_4765 : BitVec 32 := 65535#32
  let v12318 : BitVec 32 := Scalar.andi v12317 c65535_i32_4765
  let c2048_i32_4766 : BitVec 32 := 2048#32
  let v12319 : BitVec 32 := Scalar.select v12315 v12318 c2048_i32_4766
  let v12320 : BitVec 32 := Scalar.addi v11087 v12319
  let v12323 : Index := Scalar.indexCast v12320
  let c0_4768 : Index := 0#32
  ![v12323.toNat, 0]

def k0_chk83 (i : grid0.Coords) (k0_t1 : Fin k0_t1_loop.trips) (v12107 : BitVec 32) (v12110 : BitVec 32) (v12317 : BitVec 32) : Prop :=
  (∀ (k0_h1 : k0_cond1 i = 1#1), ∀ a, (k0_off167 k0_t1 v12107 v12110 v12317) a + S1x128.size a ≤ S8224x128.size a)
theorem k0_off167_inb : ∀ (i : grid0.Coords) (k0_t1 : Fin k0_t1_loop.trips) (v12107 : BitVec 32) (v12110 : BitVec 32) (v12317 : BitVec 32) (k0_hw83 : k0_chk83 i k0_t1 v12107 v12110 v12317), ∀ (k0_h1 : k0_cond1 i = 1#1), ∀ a, (k0_off167 k0_t1 v12107 v12110 v12317) a + S1x128.size a ≤ S8224x128.size a := fun i k0_t1 v12107 v12110 v12317 k0_hw83 k0_h1 => k0_hw83 k0_h1

def k0_off168 (v12107 : BitVec 32) : Fin 1 → Nat :=
  let c14_i32_4769 : BitVec 32 := 14#32
  let v12328 : BitVec 32 := Scalar.addi v12107 c14_i32_4769
  let v12331 : Index := Scalar.indexCast v12328
  ![v12331.toNat]
def k0_off169 (k0_t1 : Fin k0_t1_loop.trips) (v12107 : BitVec 32) (v12110 : BitVec 32) (v12332 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_4770 : BitVec 32 := 14#32
  let v12329 : BitVec 32 := Scalar.addi v12107 c14_i32_4770
  let v12330 : BitVec 1 := Scalar.cmpi .slt v12329 v12110
  let c65535_i32_4771 : BitVec 32 := 65535#32
  let v12333 : BitVec 32 := Scalar.andi v12332 c65535_i32_4771
  let c2048_i32_4772 : BitVec 32 := 2048#32
  let v12334 : BitVec 32 := Scalar.select v12330 v12333 c2048_i32_4772
  let v12335 : BitVec 32 := Scalar.addi v11087 v12334
  let v12338 : Index := Scalar.indexCast v12335
  let c0_4774 : Index := 0#32
  ![v12338.toNat, 0]

def k0_chk84 (i : grid0.Coords) (k0_t1 : Fin k0_t1_loop.trips) (v12107 : BitVec 32) (v12110 : BitVec 32) (v12332 : BitVec 32) : Prop :=
  (∀ (k0_h1 : k0_cond1 i = 1#1), ∀ a, (k0_off169 k0_t1 v12107 v12110 v12332) a + S1x128.size a ≤ S8224x128.size a)
theorem k0_off169_inb : ∀ (i : grid0.Coords) (k0_t1 : Fin k0_t1_loop.trips) (v12107 : BitVec 32) (v12110 : BitVec 32) (v12332 : BitVec 32) (k0_hw84 : k0_chk84 i k0_t1 v12107 v12110 v12332), ∀ (k0_h1 : k0_cond1 i = 1#1), ∀ a, (k0_off169 k0_t1 v12107 v12110 v12332) a + S1x128.size a ≤ S8224x128.size a := fun i k0_t1 v12107 v12110 v12332 k0_hw84 k0_h1 => k0_hw84 k0_h1

def k0_off170 (v12107 : BitVec 32) : Fin 1 → Nat :=
  let c15_i32_4775 : BitVec 32 := 15#32
  let v12343 : BitVec 32 := Scalar.addi v12107 c15_i32_4775
  let v12346 : Index := Scalar.indexCast v12343
  ![v12346.toNat]

def k0_chk69 (i : grid0.Coords) (v12107 : BitVec 32) : Prop :=
  (∀ (k0_h1 : k0_cond1 i = 1#1), ∀ a, (k0_off140 v12107) a + S1.size a ≤ S51920.size a) ∧
  (∀ (k0_h1 : k0_cond1 i = 1#1), ∀ a, (k0_off142 v12107) a + S1.size a ≤ S51920.size a) ∧
  (∀ (k0_h1 : k0_cond1 i = 1#1), ∀ a, (k0_off144 v12107) a + S1.size a ≤ S51920.size a) ∧
  (∀ (k0_h1 : k0_cond1 i = 1#1), ∀ a, (k0_off146 v12107) a + S1.size a ≤ S51920.size a) ∧
  (∀ (k0_h1 : k0_cond1 i = 1#1), ∀ a, (k0_off148 v12107) a + S1.size a ≤ S51920.size a) ∧
  (∀ (k0_h1 : k0_cond1 i = 1#1), ∀ a, (k0_off150 v12107) a + S1.size a ≤ S51920.size a) ∧
  (∀ (k0_h1 : k0_cond1 i = 1#1), ∀ a, (k0_off152 v12107) a + S1.size a ≤ S51920.size a) ∧
  (∀ (k0_h1 : k0_cond1 i = 1#1), ∀ a, (k0_off154 v12107) a + S1.size a ≤ S51920.size a) ∧
  (∀ (k0_h1 : k0_cond1 i = 1#1), ∀ a, (k0_off156 v12107) a + S1.size a ≤ S51920.size a) ∧
  (∀ (k0_h1 : k0_cond1 i = 1#1), ∀ a, (k0_off158 v12107) a + S1.size a ≤ S51920.size a) ∧
  (∀ (k0_h1 : k0_cond1 i = 1#1), ∀ a, (k0_off160 v12107) a + S1.size a ≤ S51920.size a) ∧
  (∀ (k0_h1 : k0_cond1 i = 1#1), ∀ a, (k0_off162 v12107) a + S1.size a ≤ S51920.size a) ∧
  (∀ (k0_h1 : k0_cond1 i = 1#1), ∀ a, (k0_off164 v12107) a + S1.size a ≤ S51920.size a) ∧
  (∀ (k0_h1 : k0_cond1 i = 1#1), ∀ a, (k0_off166 v12107) a + S1.size a ≤ S51920.size a) ∧
  (∀ (k0_h1 : k0_cond1 i = 1#1), ∀ a, (k0_off168 v12107) a + S1.size a ≤ S51920.size a) ∧
  (∀ (k0_h1 : k0_cond1 i = 1#1), ∀ a, (k0_off170 v12107) a + S1.size a ≤ S51920.size a)
theorem k0_off140_inb : ∀ (i : grid0.Coords) (v12107 : BitVec 32) (k0_hw69 : k0_chk69 i v12107), ∀ (k0_h1 : k0_cond1 i = 1#1), ∀ a, (k0_off140 v12107) a + S1.size a ≤ S51920.size a := fun i v12107 k0_hw69 k0_h1 => k0_hw69.1 k0_h1
theorem k0_off142_inb : ∀ (i : grid0.Coords) (v12107 : BitVec 32) (k0_hw69 : k0_chk69 i v12107), ∀ (k0_h1 : k0_cond1 i = 1#1), ∀ a, (k0_off142 v12107) a + S1.size a ≤ S51920.size a := fun i v12107 k0_hw69 k0_h1 => k0_hw69.2.1 k0_h1
theorem k0_off144_inb : ∀ (i : grid0.Coords) (v12107 : BitVec 32) (k0_hw69 : k0_chk69 i v12107), ∀ (k0_h1 : k0_cond1 i = 1#1), ∀ a, (k0_off144 v12107) a + S1.size a ≤ S51920.size a := fun i v12107 k0_hw69 k0_h1 => k0_hw69.2.2.1 k0_h1
theorem k0_off146_inb : ∀ (i : grid0.Coords) (v12107 : BitVec 32) (k0_hw69 : k0_chk69 i v12107), ∀ (k0_h1 : k0_cond1 i = 1#1), ∀ a, (k0_off146 v12107) a + S1.size a ≤ S51920.size a := fun i v12107 k0_hw69 k0_h1 => k0_hw69.2.2.2.1 k0_h1
theorem k0_off148_inb : ∀ (i : grid0.Coords) (v12107 : BitVec 32) (k0_hw69 : k0_chk69 i v12107), ∀ (k0_h1 : k0_cond1 i = 1#1), ∀ a, (k0_off148 v12107) a + S1.size a ≤ S51920.size a := fun i v12107 k0_hw69 k0_h1 => k0_hw69.2.2.2.2.1 k0_h1
theorem k0_off150_inb : ∀ (i : grid0.Coords) (v12107 : BitVec 32) (k0_hw69 : k0_chk69 i v12107), ∀ (k0_h1 : k0_cond1 i = 1#1), ∀ a, (k0_off150 v12107) a + S1.size a ≤ S51920.size a := fun i v12107 k0_hw69 k0_h1 => k0_hw69.2.2.2.2.2.1 k0_h1
theorem k0_off152_inb : ∀ (i : grid0.Coords) (v12107 : BitVec 32) (k0_hw69 : k0_chk69 i v12107), ∀ (k0_h1 : k0_cond1 i = 1#1), ∀ a, (k0_off152 v12107) a + S1.size a ≤ S51920.size a := fun i v12107 k0_hw69 k0_h1 => k0_hw69.2.2.2.2.2.2.1 k0_h1
theorem k0_off154_inb : ∀ (i : grid0.Coords) (v12107 : BitVec 32) (k0_hw69 : k0_chk69 i v12107), ∀ (k0_h1 : k0_cond1 i = 1#1), ∀ a, (k0_off154 v12107) a + S1.size a ≤ S51920.size a := fun i v12107 k0_hw69 k0_h1 => k0_hw69.2.2.2.2.2.2.2.1 k0_h1
theorem k0_off156_inb : ∀ (i : grid0.Coords) (v12107 : BitVec 32) (k0_hw69 : k0_chk69 i v12107), ∀ (k0_h1 : k0_cond1 i = 1#1), ∀ a, (k0_off156 v12107) a + S1.size a ≤ S51920.size a := fun i v12107 k0_hw69 k0_h1 => k0_hw69.2.2.2.2.2.2.2.2.1 k0_h1
theorem k0_off158_inb : ∀ (i : grid0.Coords) (v12107 : BitVec 32) (k0_hw69 : k0_chk69 i v12107), ∀ (k0_h1 : k0_cond1 i = 1#1), ∀ a, (k0_off158 v12107) a + S1.size a ≤ S51920.size a := fun i v12107 k0_hw69 k0_h1 => k0_hw69.2.2.2.2.2.2.2.2.2.1 k0_h1
theorem k0_off160_inb : ∀ (i : grid0.Coords) (v12107 : BitVec 32) (k0_hw69 : k0_chk69 i v12107), ∀ (k0_h1 : k0_cond1 i = 1#1), ∀ a, (k0_off160 v12107) a + S1.size a ≤ S51920.size a := fun i v12107 k0_hw69 k0_h1 => k0_hw69.2.2.2.2.2.2.2.2.2.2.1 k0_h1
theorem k0_off162_inb : ∀ (i : grid0.Coords) (v12107 : BitVec 32) (k0_hw69 : k0_chk69 i v12107), ∀ (k0_h1 : k0_cond1 i = 1#1), ∀ a, (k0_off162 v12107) a + S1.size a ≤ S51920.size a := fun i v12107 k0_hw69 k0_h1 => k0_hw69.2.2.2.2.2.2.2.2.2.2.2.1 k0_h1
theorem k0_off164_inb : ∀ (i : grid0.Coords) (v12107 : BitVec 32) (k0_hw69 : k0_chk69 i v12107), ∀ (k0_h1 : k0_cond1 i = 1#1), ∀ a, (k0_off164 v12107) a + S1.size a ≤ S51920.size a := fun i v12107 k0_hw69 k0_h1 => k0_hw69.2.2.2.2.2.2.2.2.2.2.2.2.1 k0_h1
theorem k0_off166_inb : ∀ (i : grid0.Coords) (v12107 : BitVec 32) (k0_hw69 : k0_chk69 i v12107), ∀ (k0_h1 : k0_cond1 i = 1#1), ∀ a, (k0_off166 v12107) a + S1.size a ≤ S51920.size a := fun i v12107 k0_hw69 k0_h1 => k0_hw69.2.2.2.2.2.2.2.2.2.2.2.2.2.1 k0_h1
theorem k0_off168_inb : ∀ (i : grid0.Coords) (v12107 : BitVec 32) (k0_hw69 : k0_chk69 i v12107), ∀ (k0_h1 : k0_cond1 i = 1#1), ∀ a, (k0_off168 v12107) a + S1.size a ≤ S51920.size a := fun i v12107 k0_hw69 k0_h1 => k0_hw69.2.2.2.2.2.2.2.2.2.2.2.2.2.2.1 k0_h1
theorem k0_off170_inb : ∀ (i : grid0.Coords) (v12107 : BitVec 32) (k0_hw69 : k0_chk69 i v12107), ∀ (k0_h1 : k0_cond1 i = 1#1), ∀ a, (k0_off170 v12107) a + S1.size a ≤ S51920.size a := fun i v12107 k0_hw69 k0_h1 => k0_hw69.2.2.2.2.2.2.2.2.2.2.2.2.2.2.2 k0_h1

def k0_off171 (k0_t1 : Fin k0_t1_loop.trips) (v12107 : BitVec 32) (v12110 : BitVec 32) (v12347 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_4776 : BitVec 32 := 15#32
  let v12344 : BitVec 32 := Scalar.addi v12107 c15_i32_4776
  let v12345 : BitVec 1 := Scalar.cmpi .slt v12344 v12110
  let c65535_i32_4777 : BitVec 32 := 65535#32
  let v12348 : BitVec 32 := Scalar.andi v12347 c65535_i32_4777
  let c2048_i32_4778 : BitVec 32 := 2048#32
  let v12349 : BitVec 32 := Scalar.select v12345 v12348 c2048_i32_4778
  let v12350 : BitVec 32 := Scalar.addi v11087 v12349
  let v12353 : Index := Scalar.indexCast v12350
  let c0_4780 : Index := 0#32
  ![v12353.toNat, 0]

def k0_chk85 (i : grid0.Coords) (k0_t1 : Fin k0_t1_loop.trips) (v12107 : BitVec 32) (v12110 : BitVec 32) (v12347 : BitVec 32) : Prop :=
  (∀ (k0_h1 : k0_cond1 i = 1#1), ∀ a, (k0_off171 k0_t1 v12107 v12110 v12347) a + S1x128.size a ≤ S8224x128.size a)
theorem k0_off171_inb : ∀ (i : grid0.Coords) (k0_t1 : Fin k0_t1_loop.trips) (v12107 : BitVec 32) (v12110 : BitVec 32) (v12347 : BitVec 32) (k0_hw85 : k0_chk85 i k0_t1 v12107 v12110 v12347), ∀ (k0_h1 : k0_cond1 i = 1#1), ∀ a, (k0_off171 k0_t1 v12107 v12110 v12347) a + S1x128.size a ≤ S8224x128.size a := fun i k0_t1 v12107 v12110 v12347 k0_hw85 k0_h1 => k0_hw85 k0_h1

def k0_off172 (k0_t1 : Fin k0_t1_loop.trips) : Fin 1 → Nat :=
  let c0_i32_4781 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v12358 : BitVec 32 := Scalar.addi c0_i32_4781 v11069
  let c5_i32_4782 : BitVec 32 := 5#32
  let v12359 : BitVec 32 := Scalar.addi v12358 c5_i32_4782
  let v12360 : Index := Scalar.indexCast v12359
  ![v12360.toNat]
def k0_off173 (k0_t1 : Fin k0_t1_loop.trips) : Fin 1 → Nat :=
  let c0_i32_4781 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v12358 : BitVec 32 := Scalar.addi c0_i32_4781 v11069
  let c5_i32_4782 : BitVec 32 := 5#32
  let v12359 : BitVec 32 := Scalar.addi v12358 c5_i32_4782
  let c1_i32_4783 : BitVec 32 := 1#32
  let v12362 : BitVec 32 := Scalar.addi v12359 c1_i32_4783
  let v12363 : Index := Scalar.indexCast v12362
  ![v12363.toNat]
def k0_off174 (v12361 : BitVec 32) : Fin 1 → Nat :=
  let c0_i32_4786 : BitVec 32 := 0#32
  let v12372 : BitVec 32 := Scalar.addi v12361 c0_i32_4786
  let v12375 : Index := Scalar.indexCast v12372
  ![v12375.toNat]

def k0_off175 (k0_t1 : Fin k0_t1_loop.trips) (v12361 : BitVec 32) (v12364 : BitVec 32) (v12376 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_4787 : BitVec 32 := 0#32
  let v12373 : BitVec 32 := Scalar.addi v12361 c0_i32_4787
  let v12374 : BitVec 1 := Scalar.cmpi .slt v12373 v12364
  let c65535_i32_4788 : BitVec 32 := 65535#32
  let v12377 : BitVec 32 := Scalar.andi v12376 c65535_i32_4788
  let c2048_i32_4789 : BitVec 32 := 2048#32
  let v12378 : BitVec 32 := Scalar.select v12374 v12377 c2048_i32_4789
  let v12379 : BitVec 32 := Scalar.addi v11087 v12378
  let v12382 : Index := Scalar.indexCast v12379
  let c0_4791 : Index := 0#32
  ![v12382.toNat, 0]

def k0_chk87 (i : grid0.Coords) (k0_t1 : Fin k0_t1_loop.trips) (v12361 : BitVec 32) (v12364 : BitVec 32) (v12376 : BitVec 32) : Prop :=
  (∀ (k0_h1 : k0_cond1 i = 1#1), ∀ a, (k0_off175 k0_t1 v12361 v12364 v12376) a + S1x128.size a ≤ S8224x128.size a)
theorem k0_off175_inb : ∀ (i : grid0.Coords) (k0_t1 : Fin k0_t1_loop.trips) (v12361 : BitVec 32) (v12364 : BitVec 32) (v12376 : BitVec 32) (k0_hw87 : k0_chk87 i k0_t1 v12361 v12364 v12376), ∀ (k0_h1 : k0_cond1 i = 1#1), ∀ a, (k0_off175 k0_t1 v12361 v12364 v12376) a + S1x128.size a ≤ S8224x128.size a := fun i k0_t1 v12361 v12364 v12376 k0_hw87 k0_h1 => k0_hw87 k0_h1

def k0_off176 (v12361 : BitVec 32) : Fin 1 → Nat :=
  let c1_i32_4792 : BitVec 32 := 1#32
  let v12387 : BitVec 32 := Scalar.addi v12361 c1_i32_4792
  let v12390 : Index := Scalar.indexCast v12387
  ![v12390.toNat]
def k0_off177 (k0_t1 : Fin k0_t1_loop.trips) (v12361 : BitVec 32) (v12364 : BitVec 32) (v12391 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_4793 : BitVec 32 := 1#32
  let v12388 : BitVec 32 := Scalar.addi v12361 c1_i32_4793
  let v12389 : BitVec 1 := Scalar.cmpi .slt v12388 v12364
  let c65535_i32_4794 : BitVec 32 := 65535#32
  let v12392 : BitVec 32 := Scalar.andi v12391 c65535_i32_4794
  let c2048_i32_4795 : BitVec 32 := 2048#32
  let v12393 : BitVec 32 := Scalar.select v12389 v12392 c2048_i32_4795
  let v12394 : BitVec 32 := Scalar.addi v11087 v12393
  let v12397 : Index := Scalar.indexCast v12394
  let c0_4797 : Index := 0#32
  ![v12397.toNat, 0]

def k0_chk88 (i : grid0.Coords) (k0_t1 : Fin k0_t1_loop.trips) (v12361 : BitVec 32) (v12364 : BitVec 32) (v12391 : BitVec 32) : Prop :=
  (∀ (k0_h1 : k0_cond1 i = 1#1), ∀ a, (k0_off177 k0_t1 v12361 v12364 v12391) a + S1x128.size a ≤ S8224x128.size a)
theorem k0_off177_inb : ∀ (i : grid0.Coords) (k0_t1 : Fin k0_t1_loop.trips) (v12361 : BitVec 32) (v12364 : BitVec 32) (v12391 : BitVec 32) (k0_hw88 : k0_chk88 i k0_t1 v12361 v12364 v12391), ∀ (k0_h1 : k0_cond1 i = 1#1), ∀ a, (k0_off177 k0_t1 v12361 v12364 v12391) a + S1x128.size a ≤ S8224x128.size a := fun i k0_t1 v12361 v12364 v12391 k0_hw88 k0_h1 => k0_hw88 k0_h1

def k0_off178 (v12361 : BitVec 32) : Fin 1 → Nat :=
  let c2_i32_4798 : BitVec 32 := 2#32
  let v12402 : BitVec 32 := Scalar.addi v12361 c2_i32_4798
  let v12405 : Index := Scalar.indexCast v12402
  ![v12405.toNat]
def k0_off179 (k0_t1 : Fin k0_t1_loop.trips) (v12361 : BitVec 32) (v12364 : BitVec 32) (v12406 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_4799 : BitVec 32 := 2#32
  let v12403 : BitVec 32 := Scalar.addi v12361 c2_i32_4799
  let v12404 : BitVec 1 := Scalar.cmpi .slt v12403 v12364
  let c65535_i32_4800 : BitVec 32 := 65535#32
  let v12407 : BitVec 32 := Scalar.andi v12406 c65535_i32_4800
  let c2048_i32_4801 : BitVec 32 := 2048#32
  let v12408 : BitVec 32 := Scalar.select v12404 v12407 c2048_i32_4801
  let v12409 : BitVec 32 := Scalar.addi v11087 v12408
  let v12412 : Index := Scalar.indexCast v12409
  let c0_4803 : Index := 0#32
  ![v12412.toNat, 0]

def k0_chk89 (i : grid0.Coords) (k0_t1 : Fin k0_t1_loop.trips) (v12361 : BitVec 32) (v12364 : BitVec 32) (v12406 : BitVec 32) : Prop :=
  (∀ (k0_h1 : k0_cond1 i = 1#1), ∀ a, (k0_off179 k0_t1 v12361 v12364 v12406) a + S1x128.size a ≤ S8224x128.size a)
theorem k0_off179_inb : ∀ (i : grid0.Coords) (k0_t1 : Fin k0_t1_loop.trips) (v12361 : BitVec 32) (v12364 : BitVec 32) (v12406 : BitVec 32) (k0_hw89 : k0_chk89 i k0_t1 v12361 v12364 v12406), ∀ (k0_h1 : k0_cond1 i = 1#1), ∀ a, (k0_off179 k0_t1 v12361 v12364 v12406) a + S1x128.size a ≤ S8224x128.size a := fun i k0_t1 v12361 v12364 v12406 k0_hw89 k0_h1 => k0_hw89 k0_h1

def k0_off180 (v12361 : BitVec 32) : Fin 1 → Nat :=
  let c3_i32_4804 : BitVec 32 := 3#32
  let v12417 : BitVec 32 := Scalar.addi v12361 c3_i32_4804
  let v12420 : Index := Scalar.indexCast v12417
  ![v12420.toNat]
def k0_off181 (k0_t1 : Fin k0_t1_loop.trips) (v12361 : BitVec 32) (v12364 : BitVec 32) (v12421 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_4805 : BitVec 32 := 3#32
  let v12418 : BitVec 32 := Scalar.addi v12361 c3_i32_4805
  let v12419 : BitVec 1 := Scalar.cmpi .slt v12418 v12364
  let c65535_i32_4806 : BitVec 32 := 65535#32
  let v12422 : BitVec 32 := Scalar.andi v12421 c65535_i32_4806
  let c2048_i32_4807 : BitVec 32 := 2048#32
  let v12423 : BitVec 32 := Scalar.select v12419 v12422 c2048_i32_4807
  let v12424 : BitVec 32 := Scalar.addi v11087 v12423
  let v12427 : Index := Scalar.indexCast v12424
  let c0_4809 : Index := 0#32
  ![v12427.toNat, 0]

def k0_chk90 (i : grid0.Coords) (k0_t1 : Fin k0_t1_loop.trips) (v12361 : BitVec 32) (v12364 : BitVec 32) (v12421 : BitVec 32) : Prop :=
  (∀ (k0_h1 : k0_cond1 i = 1#1), ∀ a, (k0_off181 k0_t1 v12361 v12364 v12421) a + S1x128.size a ≤ S8224x128.size a)
theorem k0_off181_inb : ∀ (i : grid0.Coords) (k0_t1 : Fin k0_t1_loop.trips) (v12361 : BitVec 32) (v12364 : BitVec 32) (v12421 : BitVec 32) (k0_hw90 : k0_chk90 i k0_t1 v12361 v12364 v12421), ∀ (k0_h1 : k0_cond1 i = 1#1), ∀ a, (k0_off181 k0_t1 v12361 v12364 v12421) a + S1x128.size a ≤ S8224x128.size a := fun i k0_t1 v12361 v12364 v12421 k0_hw90 k0_h1 => k0_hw90 k0_h1

def k0_off182 (v12361 : BitVec 32) : Fin 1 → Nat :=
  let c4_i32_4810 : BitVec 32 := 4#32
  let v12432 : BitVec 32 := Scalar.addi v12361 c4_i32_4810
  let v12435 : Index := Scalar.indexCast v12432
  ![v12435.toNat]
def k0_off183 (k0_t1 : Fin k0_t1_loop.trips) (v12361 : BitVec 32) (v12364 : BitVec 32) (v12436 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_4811 : BitVec 32 := 4#32
  let v12433 : BitVec 32 := Scalar.addi v12361 c4_i32_4811
  let v12434 : BitVec 1 := Scalar.cmpi .slt v12433 v12364
  let c65535_i32_4812 : BitVec 32 := 65535#32
  let v12437 : BitVec 32 := Scalar.andi v12436 c65535_i32_4812
  let c2048_i32_4813 : BitVec 32 := 2048#32
  let v12438 : BitVec 32 := Scalar.select v12434 v12437 c2048_i32_4813
  let v12439 : BitVec 32 := Scalar.addi v11087 v12438
  let v12442 : Index := Scalar.indexCast v12439
  let c0_4815 : Index := 0#32
  ![v12442.toNat, 0]

def k0_chk91 (i : grid0.Coords) (k0_t1 : Fin k0_t1_loop.trips) (v12361 : BitVec 32) (v12364 : BitVec 32) (v12436 : BitVec 32) : Prop :=
  (∀ (k0_h1 : k0_cond1 i = 1#1), ∀ a, (k0_off183 k0_t1 v12361 v12364 v12436) a + S1x128.size a ≤ S8224x128.size a)
theorem k0_off183_inb : ∀ (i : grid0.Coords) (k0_t1 : Fin k0_t1_loop.trips) (v12361 : BitVec 32) (v12364 : BitVec 32) (v12436 : BitVec 32) (k0_hw91 : k0_chk91 i k0_t1 v12361 v12364 v12436), ∀ (k0_h1 : k0_cond1 i = 1#1), ∀ a, (k0_off183 k0_t1 v12361 v12364 v12436) a + S1x128.size a ≤ S8224x128.size a := fun i k0_t1 v12361 v12364 v12436 k0_hw91 k0_h1 => k0_hw91 k0_h1

def k0_off184 (v12361 : BitVec 32) : Fin 1 → Nat :=
  let c5_i32_4816 : BitVec 32 := 5#32
  let v12447 : BitVec 32 := Scalar.addi v12361 c5_i32_4816
  let v12450 : Index := Scalar.indexCast v12447
  ![v12450.toNat]
def k0_off185 (k0_t1 : Fin k0_t1_loop.trips) (v12361 : BitVec 32) (v12364 : BitVec 32) (v12451 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_4817 : BitVec 32 := 5#32
  let v12448 : BitVec 32 := Scalar.addi v12361 c5_i32_4817
  let v12449 : BitVec 1 := Scalar.cmpi .slt v12448 v12364
  let c65535_i32_4818 : BitVec 32 := 65535#32
  let v12452 : BitVec 32 := Scalar.andi v12451 c65535_i32_4818
  let c2048_i32_4819 : BitVec 32 := 2048#32
  let v12453 : BitVec 32 := Scalar.select v12449 v12452 c2048_i32_4819
  let v12454 : BitVec 32 := Scalar.addi v11087 v12453
  let v12457 : Index := Scalar.indexCast v12454
  let c0_4821 : Index := 0#32
  ![v12457.toNat, 0]

def k0_chk92 (i : grid0.Coords) (k0_t1 : Fin k0_t1_loop.trips) (v12361 : BitVec 32) (v12364 : BitVec 32) (v12451 : BitVec 32) : Prop :=
  (∀ (k0_h1 : k0_cond1 i = 1#1), ∀ a, (k0_off185 k0_t1 v12361 v12364 v12451) a + S1x128.size a ≤ S8224x128.size a)
theorem k0_off185_inb : ∀ (i : grid0.Coords) (k0_t1 : Fin k0_t1_loop.trips) (v12361 : BitVec 32) (v12364 : BitVec 32) (v12451 : BitVec 32) (k0_hw92 : k0_chk92 i k0_t1 v12361 v12364 v12451), ∀ (k0_h1 : k0_cond1 i = 1#1), ∀ a, (k0_off185 k0_t1 v12361 v12364 v12451) a + S1x128.size a ≤ S8224x128.size a := fun i k0_t1 v12361 v12364 v12451 k0_hw92 k0_h1 => k0_hw92 k0_h1

def k0_off186 (v12361 : BitVec 32) : Fin 1 → Nat :=
  let c6_i32_4822 : BitVec 32 := 6#32
  let v12462 : BitVec 32 := Scalar.addi v12361 c6_i32_4822
  let v12465 : Index := Scalar.indexCast v12462
  ![v12465.toNat]
def k0_off187 (k0_t1 : Fin k0_t1_loop.trips) (v12361 : BitVec 32) (v12364 : BitVec 32) (v12466 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_4823 : BitVec 32 := 6#32
  let v12463 : BitVec 32 := Scalar.addi v12361 c6_i32_4823
  let v12464 : BitVec 1 := Scalar.cmpi .slt v12463 v12364
  let c65535_i32_4824 : BitVec 32 := 65535#32
  let v12467 : BitVec 32 := Scalar.andi v12466 c65535_i32_4824
  let c2048_i32_4825 : BitVec 32 := 2048#32
  let v12468 : BitVec 32 := Scalar.select v12464 v12467 c2048_i32_4825
  let v12469 : BitVec 32 := Scalar.addi v11087 v12468
  let v12472 : Index := Scalar.indexCast v12469
  let c0_4827 : Index := 0#32
  ![v12472.toNat, 0]

def k0_chk93 (i : grid0.Coords) (k0_t1 : Fin k0_t1_loop.trips) (v12361 : BitVec 32) (v12364 : BitVec 32) (v12466 : BitVec 32) : Prop :=
  (∀ (k0_h1 : k0_cond1 i = 1#1), ∀ a, (k0_off187 k0_t1 v12361 v12364 v12466) a + S1x128.size a ≤ S8224x128.size a)
theorem k0_off187_inb : ∀ (i : grid0.Coords) (k0_t1 : Fin k0_t1_loop.trips) (v12361 : BitVec 32) (v12364 : BitVec 32) (v12466 : BitVec 32) (k0_hw93 : k0_chk93 i k0_t1 v12361 v12364 v12466), ∀ (k0_h1 : k0_cond1 i = 1#1), ∀ a, (k0_off187 k0_t1 v12361 v12364 v12466) a + S1x128.size a ≤ S8224x128.size a := fun i k0_t1 v12361 v12364 v12466 k0_hw93 k0_h1 => k0_hw93 k0_h1

def k0_off188 (v12361 : BitVec 32) : Fin 1 → Nat :=
  let c7_i32_4828 : BitVec 32 := 7#32
  let v12477 : BitVec 32 := Scalar.addi v12361 c7_i32_4828
  let v12480 : Index := Scalar.indexCast v12477
  ![v12480.toNat]
def k0_off189 (k0_t1 : Fin k0_t1_loop.trips) (v12361 : BitVec 32) (v12364 : BitVec 32) (v12481 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_4829 : BitVec 32 := 7#32
  let v12478 : BitVec 32 := Scalar.addi v12361 c7_i32_4829
  let v12479 : BitVec 1 := Scalar.cmpi .slt v12478 v12364
  let c65535_i32_4830 : BitVec 32 := 65535#32
  let v12482 : BitVec 32 := Scalar.andi v12481 c65535_i32_4830
  let c2048_i32_4831 : BitVec 32 := 2048#32
  let v12483 : BitVec 32 := Scalar.select v12479 v12482 c2048_i32_4831
  let v12484 : BitVec 32 := Scalar.addi v11087 v12483
  let v12487 : Index := Scalar.indexCast v12484
  let c0_4833 : Index := 0#32
  ![v12487.toNat, 0]

def k0_chk94 (i : grid0.Coords) (k0_t1 : Fin k0_t1_loop.trips) (v12361 : BitVec 32) (v12364 : BitVec 32) (v12481 : BitVec 32) : Prop :=
  (∀ (k0_h1 : k0_cond1 i = 1#1), ∀ a, (k0_off189 k0_t1 v12361 v12364 v12481) a + S1x128.size a ≤ S8224x128.size a)
theorem k0_off189_inb : ∀ (i : grid0.Coords) (k0_t1 : Fin k0_t1_loop.trips) (v12361 : BitVec 32) (v12364 : BitVec 32) (v12481 : BitVec 32) (k0_hw94 : k0_chk94 i k0_t1 v12361 v12364 v12481), ∀ (k0_h1 : k0_cond1 i = 1#1), ∀ a, (k0_off189 k0_t1 v12361 v12364 v12481) a + S1x128.size a ≤ S8224x128.size a := fun i k0_t1 v12361 v12364 v12481 k0_hw94 k0_h1 => k0_hw94 k0_h1

def k0_off190 (v12361 : BitVec 32) : Fin 1 → Nat :=
  let c8_i32_4834 : BitVec 32 := 8#32
  let v12492 : BitVec 32 := Scalar.addi v12361 c8_i32_4834
  let v12495 : Index := Scalar.indexCast v12492
  ![v12495.toNat]
def k0_off191 (k0_t1 : Fin k0_t1_loop.trips) (v12361 : BitVec 32) (v12364 : BitVec 32) (v12496 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_4835 : BitVec 32 := 8#32
  let v12493 : BitVec 32 := Scalar.addi v12361 c8_i32_4835
  let v12494 : BitVec 1 := Scalar.cmpi .slt v12493 v12364
  let c65535_i32_4836 : BitVec 32 := 65535#32
  let v12497 : BitVec 32 := Scalar.andi v12496 c65535_i32_4836
  let c2048_i32_4837 : BitVec 32 := 2048#32
  let v12498 : BitVec 32 := Scalar.select v12494 v12497 c2048_i32_4837
  let v12499 : BitVec 32 := Scalar.addi v11087 v12498
  let v12502 : Index := Scalar.indexCast v12499
  let c0_4839 : Index := 0#32
  ![v12502.toNat, 0]

def k0_chk95 (i : grid0.Coords) (k0_t1 : Fin k0_t1_loop.trips) (v12361 : BitVec 32) (v12364 : BitVec 32) (v12496 : BitVec 32) : Prop :=
  (∀ (k0_h1 : k0_cond1 i = 1#1), ∀ a, (k0_off191 k0_t1 v12361 v12364 v12496) a + S1x128.size a ≤ S8224x128.size a)
theorem k0_off191_inb : ∀ (i : grid0.Coords) (k0_t1 : Fin k0_t1_loop.trips) (v12361 : BitVec 32) (v12364 : BitVec 32) (v12496 : BitVec 32) (k0_hw95 : k0_chk95 i k0_t1 v12361 v12364 v12496), ∀ (k0_h1 : k0_cond1 i = 1#1), ∀ a, (k0_off191 k0_t1 v12361 v12364 v12496) a + S1x128.size a ≤ S8224x128.size a := fun i k0_t1 v12361 v12364 v12496 k0_hw95 k0_h1 => k0_hw95 k0_h1

def k0_off192 (v12361 : BitVec 32) : Fin 1 → Nat :=
  let c9_i32_4840 : BitVec 32 := 9#32
  let v12507 : BitVec 32 := Scalar.addi v12361 c9_i32_4840
  let v12510 : Index := Scalar.indexCast v12507
  ![v12510.toNat]
def k0_off193 (k0_t1 : Fin k0_t1_loop.trips) (v12361 : BitVec 32) (v12364 : BitVec 32) (v12511 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_4841 : BitVec 32 := 9#32
  let v12508 : BitVec 32 := Scalar.addi v12361 c9_i32_4841
  let v12509 : BitVec 1 := Scalar.cmpi .slt v12508 v12364
  let c65535_i32_4842 : BitVec 32 := 65535#32
  let v12512 : BitVec 32 := Scalar.andi v12511 c65535_i32_4842
  let c2048_i32_4843 : BitVec 32 := 2048#32
  let v12513 : BitVec 32 := Scalar.select v12509 v12512 c2048_i32_4843
  let v12514 : BitVec 32 := Scalar.addi v11087 v12513
  let v12517 : Index := Scalar.indexCast v12514
  let c0_4845 : Index := 0#32
  ![v12517.toNat, 0]

def k0_chk96 (i : grid0.Coords) (k0_t1 : Fin k0_t1_loop.trips) (v12361 : BitVec 32) (v12364 : BitVec 32) (v12511 : BitVec 32) : Prop :=
  (∀ (k0_h1 : k0_cond1 i = 1#1), ∀ a, (k0_off193 k0_t1 v12361 v12364 v12511) a + S1x128.size a ≤ S8224x128.size a)
theorem k0_off193_inb : ∀ (i : grid0.Coords) (k0_t1 : Fin k0_t1_loop.trips) (v12361 : BitVec 32) (v12364 : BitVec 32) (v12511 : BitVec 32) (k0_hw96 : k0_chk96 i k0_t1 v12361 v12364 v12511), ∀ (k0_h1 : k0_cond1 i = 1#1), ∀ a, (k0_off193 k0_t1 v12361 v12364 v12511) a + S1x128.size a ≤ S8224x128.size a := fun i k0_t1 v12361 v12364 v12511 k0_hw96 k0_h1 => k0_hw96 k0_h1

def k0_off194 (v12361 : BitVec 32) : Fin 1 → Nat :=
  let c10_i32_4846 : BitVec 32 := 10#32
  let v12522 : BitVec 32 := Scalar.addi v12361 c10_i32_4846
  let v12525 : Index := Scalar.indexCast v12522
  ![v12525.toNat]
def k0_off195 (k0_t1 : Fin k0_t1_loop.trips) (v12361 : BitVec 32) (v12364 : BitVec 32) (v12526 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_4847 : BitVec 32 := 10#32
  let v12523 : BitVec 32 := Scalar.addi v12361 c10_i32_4847
  let v12524 : BitVec 1 := Scalar.cmpi .slt v12523 v12364
  let c65535_i32_4848 : BitVec 32 := 65535#32
  let v12527 : BitVec 32 := Scalar.andi v12526 c65535_i32_4848
  let c2048_i32_4849 : BitVec 32 := 2048#32
  let v12528 : BitVec 32 := Scalar.select v12524 v12527 c2048_i32_4849
  let v12529 : BitVec 32 := Scalar.addi v11087 v12528
  let v12532 : Index := Scalar.indexCast v12529
  let c0_4851 : Index := 0#32
  ![v12532.toNat, 0]

def k0_chk97 (i : grid0.Coords) (k0_t1 : Fin k0_t1_loop.trips) (v12361 : BitVec 32) (v12364 : BitVec 32) (v12526 : BitVec 32) : Prop :=
  (∀ (k0_h1 : k0_cond1 i = 1#1), ∀ a, (k0_off195 k0_t1 v12361 v12364 v12526) a + S1x128.size a ≤ S8224x128.size a)
theorem k0_off195_inb : ∀ (i : grid0.Coords) (k0_t1 : Fin k0_t1_loop.trips) (v12361 : BitVec 32) (v12364 : BitVec 32) (v12526 : BitVec 32) (k0_hw97 : k0_chk97 i k0_t1 v12361 v12364 v12526), ∀ (k0_h1 : k0_cond1 i = 1#1), ∀ a, (k0_off195 k0_t1 v12361 v12364 v12526) a + S1x128.size a ≤ S8224x128.size a := fun i k0_t1 v12361 v12364 v12526 k0_hw97 k0_h1 => k0_hw97 k0_h1

def k0_off196 (v12361 : BitVec 32) : Fin 1 → Nat :=
  let c11_i32_4852 : BitVec 32 := 11#32
  let v12537 : BitVec 32 := Scalar.addi v12361 c11_i32_4852
  let v12540 : Index := Scalar.indexCast v12537
  ![v12540.toNat]
def k0_off197 (k0_t1 : Fin k0_t1_loop.trips) (v12361 : BitVec 32) (v12364 : BitVec 32) (v12541 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_4853 : BitVec 32 := 11#32
  let v12538 : BitVec 32 := Scalar.addi v12361 c11_i32_4853
  let v12539 : BitVec 1 := Scalar.cmpi .slt v12538 v12364
  let c65535_i32_4854 : BitVec 32 := 65535#32
  let v12542 : BitVec 32 := Scalar.andi v12541 c65535_i32_4854
  let c2048_i32_4855 : BitVec 32 := 2048#32
  let v12543 : BitVec 32 := Scalar.select v12539 v12542 c2048_i32_4855
  let v12544 : BitVec 32 := Scalar.addi v11087 v12543
  let v12547 : Index := Scalar.indexCast v12544
  let c0_4857 : Index := 0#32
  ![v12547.toNat, 0]

def k0_chk98 (i : grid0.Coords) (k0_t1 : Fin k0_t1_loop.trips) (v12361 : BitVec 32) (v12364 : BitVec 32) (v12541 : BitVec 32) : Prop :=
  (∀ (k0_h1 : k0_cond1 i = 1#1), ∀ a, (k0_off197 k0_t1 v12361 v12364 v12541) a + S1x128.size a ≤ S8224x128.size a)
theorem k0_off197_inb : ∀ (i : grid0.Coords) (k0_t1 : Fin k0_t1_loop.trips) (v12361 : BitVec 32) (v12364 : BitVec 32) (v12541 : BitVec 32) (k0_hw98 : k0_chk98 i k0_t1 v12361 v12364 v12541), ∀ (k0_h1 : k0_cond1 i = 1#1), ∀ a, (k0_off197 k0_t1 v12361 v12364 v12541) a + S1x128.size a ≤ S8224x128.size a := fun i k0_t1 v12361 v12364 v12541 k0_hw98 k0_h1 => k0_hw98 k0_h1

def k0_off198 (v12361 : BitVec 32) : Fin 1 → Nat :=
  let c12_i32_4858 : BitVec 32 := 12#32
  let v12552 : BitVec 32 := Scalar.addi v12361 c12_i32_4858
  let v12555 : Index := Scalar.indexCast v12552
  ![v12555.toNat]
def k0_off199 (k0_t1 : Fin k0_t1_loop.trips) (v12361 : BitVec 32) (v12364 : BitVec 32) (v12556 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_4859 : BitVec 32 := 12#32
  let v12553 : BitVec 32 := Scalar.addi v12361 c12_i32_4859
  let v12554 : BitVec 1 := Scalar.cmpi .slt v12553 v12364
  let c65535_i32_4860 : BitVec 32 := 65535#32
  let v12557 : BitVec 32 := Scalar.andi v12556 c65535_i32_4860
  let c2048_i32_4861 : BitVec 32 := 2048#32
  let v12558 : BitVec 32 := Scalar.select v12554 v12557 c2048_i32_4861
  let v12559 : BitVec 32 := Scalar.addi v11087 v12558
  let v12562 : Index := Scalar.indexCast v12559
  let c0_4863 : Index := 0#32
  ![v12562.toNat, 0]

def k0_chk99 (i : grid0.Coords) (k0_t1 : Fin k0_t1_loop.trips) (v12361 : BitVec 32) (v12364 : BitVec 32) (v12556 : BitVec 32) : Prop :=
  (∀ (k0_h1 : k0_cond1 i = 1#1), ∀ a, (k0_off199 k0_t1 v12361 v12364 v12556) a + S1x128.size a ≤ S8224x128.size a)
theorem k0_off199_inb : ∀ (i : grid0.Coords) (k0_t1 : Fin k0_t1_loop.trips) (v12361 : BitVec 32) (v12364 : BitVec 32) (v12556 : BitVec 32) (k0_hw99 : k0_chk99 i k0_t1 v12361 v12364 v12556), ∀ (k0_h1 : k0_cond1 i = 1#1), ∀ a, (k0_off199 k0_t1 v12361 v12364 v12556) a + S1x128.size a ≤ S8224x128.size a := fun i k0_t1 v12361 v12364 v12556 k0_hw99 k0_h1 => k0_hw99 k0_h1

def k0_off200 (v12361 : BitVec 32) : Fin 1 → Nat :=
  let c13_i32_4864 : BitVec 32 := 13#32
  let v12567 : BitVec 32 := Scalar.addi v12361 c13_i32_4864
  let v12570 : Index := Scalar.indexCast v12567
  ![v12570.toNat]
def k0_off201 (k0_t1 : Fin k0_t1_loop.trips) (v12361 : BitVec 32) (v12364 : BitVec 32) (v12571 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_4865 : BitVec 32 := 13#32
  let v12568 : BitVec 32 := Scalar.addi v12361 c13_i32_4865
  let v12569 : BitVec 1 := Scalar.cmpi .slt v12568 v12364
  let c65535_i32_4866 : BitVec 32 := 65535#32
  let v12572 : BitVec 32 := Scalar.andi v12571 c65535_i32_4866
  let c2048_i32_4867 : BitVec 32 := 2048#32
  let v12573 : BitVec 32 := Scalar.select v12569 v12572 c2048_i32_4867
  let v12574 : BitVec 32 := Scalar.addi v11087 v12573
  let v12577 : Index := Scalar.indexCast v12574
  let c0_4869 : Index := 0#32
  ![v12577.toNat, 0]

def k0_chk100 (i : grid0.Coords) (k0_t1 : Fin k0_t1_loop.trips) (v12361 : BitVec 32) (v12364 : BitVec 32) (v12571 : BitVec 32) : Prop :=
  (∀ (k0_h1 : k0_cond1 i = 1#1), ∀ a, (k0_off201 k0_t1 v12361 v12364 v12571) a + S1x128.size a ≤ S8224x128.size a)
theorem k0_off201_inb : ∀ (i : grid0.Coords) (k0_t1 : Fin k0_t1_loop.trips) (v12361 : BitVec 32) (v12364 : BitVec 32) (v12571 : BitVec 32) (k0_hw100 : k0_chk100 i k0_t1 v12361 v12364 v12571), ∀ (k0_h1 : k0_cond1 i = 1#1), ∀ a, (k0_off201 k0_t1 v12361 v12364 v12571) a + S1x128.size a ≤ S8224x128.size a := fun i k0_t1 v12361 v12364 v12571 k0_hw100 k0_h1 => k0_hw100 k0_h1

def k0_off202 (v12361 : BitVec 32) : Fin 1 → Nat :=
  let c14_i32_4870 : BitVec 32 := 14#32
  let v12582 : BitVec 32 := Scalar.addi v12361 c14_i32_4870
  let v12585 : Index := Scalar.indexCast v12582
  ![v12585.toNat]
def k0_off203 (k0_t1 : Fin k0_t1_loop.trips) (v12361 : BitVec 32) (v12364 : BitVec 32) (v12586 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_4871 : BitVec 32 := 14#32
  let v12583 : BitVec 32 := Scalar.addi v12361 c14_i32_4871
  let v12584 : BitVec 1 := Scalar.cmpi .slt v12583 v12364
  let c65535_i32_4872 : BitVec 32 := 65535#32
  let v12587 : BitVec 32 := Scalar.andi v12586 c65535_i32_4872
  let c2048_i32_4873 : BitVec 32 := 2048#32
  let v12588 : BitVec 32 := Scalar.select v12584 v12587 c2048_i32_4873
  let v12589 : BitVec 32 := Scalar.addi v11087 v12588
  let v12592 : Index := Scalar.indexCast v12589
  let c0_4875 : Index := 0#32
  ![v12592.toNat, 0]

def k0_chk101 (i : grid0.Coords) (k0_t1 : Fin k0_t1_loop.trips) (v12361 : BitVec 32) (v12364 : BitVec 32) (v12586 : BitVec 32) : Prop :=
  (∀ (k0_h1 : k0_cond1 i = 1#1), ∀ a, (k0_off203 k0_t1 v12361 v12364 v12586) a + S1x128.size a ≤ S8224x128.size a)
theorem k0_off203_inb : ∀ (i : grid0.Coords) (k0_t1 : Fin k0_t1_loop.trips) (v12361 : BitVec 32) (v12364 : BitVec 32) (v12586 : BitVec 32) (k0_hw101 : k0_chk101 i k0_t1 v12361 v12364 v12586), ∀ (k0_h1 : k0_cond1 i = 1#1), ∀ a, (k0_off203 k0_t1 v12361 v12364 v12586) a + S1x128.size a ≤ S8224x128.size a := fun i k0_t1 v12361 v12364 v12586 k0_hw101 k0_h1 => k0_hw101 k0_h1

def k0_off204 (v12361 : BitVec 32) : Fin 1 → Nat :=
  let c15_i32_4876 : BitVec 32 := 15#32
  let v12597 : BitVec 32 := Scalar.addi v12361 c15_i32_4876
  let v12600 : Index := Scalar.indexCast v12597
  ![v12600.toNat]

def k0_chk86 (i : grid0.Coords) (v12361 : BitVec 32) : Prop :=
  (∀ (k0_h1 : k0_cond1 i = 1#1), ∀ a, (k0_off174 v12361) a + S1.size a ≤ S51920.size a) ∧
  (∀ (k0_h1 : k0_cond1 i = 1#1), ∀ a, (k0_off176 v12361) a + S1.size a ≤ S51920.size a) ∧
  (∀ (k0_h1 : k0_cond1 i = 1#1), ∀ a, (k0_off178 v12361) a + S1.size a ≤ S51920.size a) ∧
  (∀ (k0_h1 : k0_cond1 i = 1#1), ∀ a, (k0_off180 v12361) a + S1.size a ≤ S51920.size a) ∧
  (∀ (k0_h1 : k0_cond1 i = 1#1), ∀ a, (k0_off182 v12361) a + S1.size a ≤ S51920.size a) ∧
  (∀ (k0_h1 : k0_cond1 i = 1#1), ∀ a, (k0_off184 v12361) a + S1.size a ≤ S51920.size a) ∧
  (∀ (k0_h1 : k0_cond1 i = 1#1), ∀ a, (k0_off186 v12361) a + S1.size a ≤ S51920.size a) ∧
  (∀ (k0_h1 : k0_cond1 i = 1#1), ∀ a, (k0_off188 v12361) a + S1.size a ≤ S51920.size a) ∧
  (∀ (k0_h1 : k0_cond1 i = 1#1), ∀ a, (k0_off190 v12361) a + S1.size a ≤ S51920.size a) ∧
  (∀ (k0_h1 : k0_cond1 i = 1#1), ∀ a, (k0_off192 v12361) a + S1.size a ≤ S51920.size a) ∧
  (∀ (k0_h1 : k0_cond1 i = 1#1), ∀ a, (k0_off194 v12361) a + S1.size a ≤ S51920.size a) ∧
  (∀ (k0_h1 : k0_cond1 i = 1#1), ∀ a, (k0_off196 v12361) a + S1.size a ≤ S51920.size a) ∧
  (∀ (k0_h1 : k0_cond1 i = 1#1), ∀ a, (k0_off198 v12361) a + S1.size a ≤ S51920.size a) ∧
  (∀ (k0_h1 : k0_cond1 i = 1#1), ∀ a, (k0_off200 v12361) a + S1.size a ≤ S51920.size a) ∧
  (∀ (k0_h1 : k0_cond1 i = 1#1), ∀ a, (k0_off202 v12361) a + S1.size a ≤ S51920.size a) ∧
  (∀ (k0_h1 : k0_cond1 i = 1#1), ∀ a, (k0_off204 v12361) a + S1.size a ≤ S51920.size a)
theorem k0_off174_inb : ∀ (i : grid0.Coords) (v12361 : BitVec 32) (k0_hw86 : k0_chk86 i v12361), ∀ (k0_h1 : k0_cond1 i = 1#1), ∀ a, (k0_off174 v12361) a + S1.size a ≤ S51920.size a := fun i v12361 k0_hw86 k0_h1 => k0_hw86.1 k0_h1
theorem k0_off176_inb : ∀ (i : grid0.Coords) (v12361 : BitVec 32) (k0_hw86 : k0_chk86 i v12361), ∀ (k0_h1 : k0_cond1 i = 1#1), ∀ a, (k0_off176 v12361) a + S1.size a ≤ S51920.size a := fun i v12361 k0_hw86 k0_h1 => k0_hw86.2.1 k0_h1
theorem k0_off178_inb : ∀ (i : grid0.Coords) (v12361 : BitVec 32) (k0_hw86 : k0_chk86 i v12361), ∀ (k0_h1 : k0_cond1 i = 1#1), ∀ a, (k0_off178 v12361) a + S1.size a ≤ S51920.size a := fun i v12361 k0_hw86 k0_h1 => k0_hw86.2.2.1 k0_h1
theorem k0_off180_inb : ∀ (i : grid0.Coords) (v12361 : BitVec 32) (k0_hw86 : k0_chk86 i v12361), ∀ (k0_h1 : k0_cond1 i = 1#1), ∀ a, (k0_off180 v12361) a + S1.size a ≤ S51920.size a := fun i v12361 k0_hw86 k0_h1 => k0_hw86.2.2.2.1 k0_h1
theorem k0_off182_inb : ∀ (i : grid0.Coords) (v12361 : BitVec 32) (k0_hw86 : k0_chk86 i v12361), ∀ (k0_h1 : k0_cond1 i = 1#1), ∀ a, (k0_off182 v12361) a + S1.size a ≤ S51920.size a := fun i v12361 k0_hw86 k0_h1 => k0_hw86.2.2.2.2.1 k0_h1
theorem k0_off184_inb : ∀ (i : grid0.Coords) (v12361 : BitVec 32) (k0_hw86 : k0_chk86 i v12361), ∀ (k0_h1 : k0_cond1 i = 1#1), ∀ a, (k0_off184 v12361) a + S1.size a ≤ S51920.size a := fun i v12361 k0_hw86 k0_h1 => k0_hw86.2.2.2.2.2.1 k0_h1
theorem k0_off186_inb : ∀ (i : grid0.Coords) (v12361 : BitVec 32) (k0_hw86 : k0_chk86 i v12361), ∀ (k0_h1 : k0_cond1 i = 1#1), ∀ a, (k0_off186 v12361) a + S1.size a ≤ S51920.size a := fun i v12361 k0_hw86 k0_h1 => k0_hw86.2.2.2.2.2.2.1 k0_h1
theorem k0_off188_inb : ∀ (i : grid0.Coords) (v12361 : BitVec 32) (k0_hw86 : k0_chk86 i v12361), ∀ (k0_h1 : k0_cond1 i = 1#1), ∀ a, (k0_off188 v12361) a + S1.size a ≤ S51920.size a := fun i v12361 k0_hw86 k0_h1 => k0_hw86.2.2.2.2.2.2.2.1 k0_h1
theorem k0_off190_inb : ∀ (i : grid0.Coords) (v12361 : BitVec 32) (k0_hw86 : k0_chk86 i v12361), ∀ (k0_h1 : k0_cond1 i = 1#1), ∀ a, (k0_off190 v12361) a + S1.size a ≤ S51920.size a := fun i v12361 k0_hw86 k0_h1 => k0_hw86.2.2.2.2.2.2.2.2.1 k0_h1
theorem k0_off192_inb : ∀ (i : grid0.Coords) (v12361 : BitVec 32) (k0_hw86 : k0_chk86 i v12361), ∀ (k0_h1 : k0_cond1 i = 1#1), ∀ a, (k0_off192 v12361) a + S1.size a ≤ S51920.size a := fun i v12361 k0_hw86 k0_h1 => k0_hw86.2.2.2.2.2.2.2.2.2.1 k0_h1
theorem k0_off194_inb : ∀ (i : grid0.Coords) (v12361 : BitVec 32) (k0_hw86 : k0_chk86 i v12361), ∀ (k0_h1 : k0_cond1 i = 1#1), ∀ a, (k0_off194 v12361) a + S1.size a ≤ S51920.size a := fun i v12361 k0_hw86 k0_h1 => k0_hw86.2.2.2.2.2.2.2.2.2.2.1 k0_h1
theorem k0_off196_inb : ∀ (i : grid0.Coords) (v12361 : BitVec 32) (k0_hw86 : k0_chk86 i v12361), ∀ (k0_h1 : k0_cond1 i = 1#1), ∀ a, (k0_off196 v12361) a + S1.size a ≤ S51920.size a := fun i v12361 k0_hw86 k0_h1 => k0_hw86.2.2.2.2.2.2.2.2.2.2.2.1 k0_h1
theorem k0_off198_inb : ∀ (i : grid0.Coords) (v12361 : BitVec 32) (k0_hw86 : k0_chk86 i v12361), ∀ (k0_h1 : k0_cond1 i = 1#1), ∀ a, (k0_off198 v12361) a + S1.size a ≤ S51920.size a := fun i v12361 k0_hw86 k0_h1 => k0_hw86.2.2.2.2.2.2.2.2.2.2.2.2.1 k0_h1
theorem k0_off200_inb : ∀ (i : grid0.Coords) (v12361 : BitVec 32) (k0_hw86 : k0_chk86 i v12361), ∀ (k0_h1 : k0_cond1 i = 1#1), ∀ a, (k0_off200 v12361) a + S1.size a ≤ S51920.size a := fun i v12361 k0_hw86 k0_h1 => k0_hw86.2.2.2.2.2.2.2.2.2.2.2.2.2.1 k0_h1
theorem k0_off202_inb : ∀ (i : grid0.Coords) (v12361 : BitVec 32) (k0_hw86 : k0_chk86 i v12361), ∀ (k0_h1 : k0_cond1 i = 1#1), ∀ a, (k0_off202 v12361) a + S1.size a ≤ S51920.size a := fun i v12361 k0_hw86 k0_h1 => k0_hw86.2.2.2.2.2.2.2.2.2.2.2.2.2.2.1 k0_h1
theorem k0_off204_inb : ∀ (i : grid0.Coords) (v12361 : BitVec 32) (k0_hw86 : k0_chk86 i v12361), ∀ (k0_h1 : k0_cond1 i = 1#1), ∀ a, (k0_off204 v12361) a + S1.size a ≤ S51920.size a := fun i v12361 k0_hw86 k0_h1 => k0_hw86.2.2.2.2.2.2.2.2.2.2.2.2.2.2.2 k0_h1

def k0_off205 (k0_t1 : Fin k0_t1_loop.trips) (v12361 : BitVec 32) (v12364 : BitVec 32) (v12601 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_4877 : BitVec 32 := 15#32
  let v12598 : BitVec 32 := Scalar.addi v12361 c15_i32_4877
  let v12599 : BitVec 1 := Scalar.cmpi .slt v12598 v12364
  let c65535_i32_4878 : BitVec 32 := 65535#32
  let v12602 : BitVec 32 := Scalar.andi v12601 c65535_i32_4878
  let c2048_i32_4879 : BitVec 32 := 2048#32
  let v12603 : BitVec 32 := Scalar.select v12599 v12602 c2048_i32_4879
  let v12604 : BitVec 32 := Scalar.addi v11087 v12603
  let v12607 : Index := Scalar.indexCast v12604
  let c0_4881 : Index := 0#32
  ![v12607.toNat, 0]

def k0_chk102 (i : grid0.Coords) (k0_t1 : Fin k0_t1_loop.trips) (v12361 : BitVec 32) (v12364 : BitVec 32) (v12601 : BitVec 32) : Prop :=
  (∀ (k0_h1 : k0_cond1 i = 1#1), ∀ a, (k0_off205 k0_t1 v12361 v12364 v12601) a + S1x128.size a ≤ S8224x128.size a)
theorem k0_off205_inb : ∀ (i : grid0.Coords) (k0_t1 : Fin k0_t1_loop.trips) (v12361 : BitVec 32) (v12364 : BitVec 32) (v12601 : BitVec 32) (k0_hw102 : k0_chk102 i k0_t1 v12361 v12364 v12601), ∀ (k0_h1 : k0_cond1 i = 1#1), ∀ a, (k0_off205 k0_t1 v12361 v12364 v12601) a + S1x128.size a ≤ S8224x128.size a := fun i k0_t1 v12361 v12364 v12601 k0_hw102 k0_h1 => k0_hw102 k0_h1

def k0_off206 (k0_t1 : Fin k0_t1_loop.trips) : Fin 1 → Nat :=
  let c0_i32_4882 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v12612 : BitVec 32 := Scalar.addi c0_i32_4882 v11069
  let c6_i32_4883 : BitVec 32 := 6#32
  let v12613 : BitVec 32 := Scalar.addi v12612 c6_i32_4883
  let v12614 : Index := Scalar.indexCast v12613
  ![v12614.toNat]
def k0_off207 (k0_t1 : Fin k0_t1_loop.trips) : Fin 1 → Nat :=
  let c0_i32_4882 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v12612 : BitVec 32 := Scalar.addi c0_i32_4882 v11069
  let c6_i32_4883 : BitVec 32 := 6#32
  let v12613 : BitVec 32 := Scalar.addi v12612 c6_i32_4883
  let c1_i32_4884 : BitVec 32 := 1#32
  let v12616 : BitVec 32 := Scalar.addi v12613 c1_i32_4884
  let v12617 : Index := Scalar.indexCast v12616
  ![v12617.toNat]
def k0_off208 (v12615 : BitVec 32) : Fin 1 → Nat :=
  let c0_i32_4887 : BitVec 32 := 0#32
  let v12626 : BitVec 32 := Scalar.addi v12615 c0_i32_4887
  let v12629 : Index := Scalar.indexCast v12626
  ![v12629.toNat]

def k0_off209 (k0_t1 : Fin k0_t1_loop.trips) (v12615 : BitVec 32) (v12618 : BitVec 32) (v12630 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_4888 : BitVec 32 := 0#32
  let v12627 : BitVec 32 := Scalar.addi v12615 c0_i32_4888
  let v12628 : BitVec 1 := Scalar.cmpi .slt v12627 v12618
  let c65535_i32_4889 : BitVec 32 := 65535#32
  let v12631 : BitVec 32 := Scalar.andi v12630 c65535_i32_4889
  let c2048_i32_4890 : BitVec 32 := 2048#32
  let v12632 : BitVec 32 := Scalar.select v12628 v12631 c2048_i32_4890
  let v12633 : BitVec 32 := Scalar.addi v11087 v12632
  let v12636 : Index := Scalar.indexCast v12633
  let c0_4892 : Index := 0#32
  ![v12636.toNat, 0]

def k0_chk104 (i : grid0.Coords) (k0_t1 : Fin k0_t1_loop.trips) (v12615 : BitVec 32) (v12618 : BitVec 32) (v12630 : BitVec 32) : Prop :=
  (∀ (k0_h1 : k0_cond1 i = 1#1), ∀ a, (k0_off209 k0_t1 v12615 v12618 v12630) a + S1x128.size a ≤ S8224x128.size a)
theorem k0_off209_inb : ∀ (i : grid0.Coords) (k0_t1 : Fin k0_t1_loop.trips) (v12615 : BitVec 32) (v12618 : BitVec 32) (v12630 : BitVec 32) (k0_hw104 : k0_chk104 i k0_t1 v12615 v12618 v12630), ∀ (k0_h1 : k0_cond1 i = 1#1), ∀ a, (k0_off209 k0_t1 v12615 v12618 v12630) a + S1x128.size a ≤ S8224x128.size a := fun i k0_t1 v12615 v12618 v12630 k0_hw104 k0_h1 => k0_hw104 k0_h1

def k0_off210 (v12615 : BitVec 32) : Fin 1 → Nat :=
  let c1_i32_4893 : BitVec 32 := 1#32
  let v12641 : BitVec 32 := Scalar.addi v12615 c1_i32_4893
  let v12644 : Index := Scalar.indexCast v12641
  ![v12644.toNat]
def k0_off211 (k0_t1 : Fin k0_t1_loop.trips) (v12615 : BitVec 32) (v12618 : BitVec 32) (v12645 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_4894 : BitVec 32 := 1#32
  let v12642 : BitVec 32 := Scalar.addi v12615 c1_i32_4894
  let v12643 : BitVec 1 := Scalar.cmpi .slt v12642 v12618
  let c65535_i32_4895 : BitVec 32 := 65535#32
  let v12646 : BitVec 32 := Scalar.andi v12645 c65535_i32_4895
  let c2048_i32_4896 : BitVec 32 := 2048#32
  let v12647 : BitVec 32 := Scalar.select v12643 v12646 c2048_i32_4896
  let v12648 : BitVec 32 := Scalar.addi v11087 v12647
  let v12651 : Index := Scalar.indexCast v12648
  let c0_4898 : Index := 0#32
  ![v12651.toNat, 0]

def k0_chk105 (i : grid0.Coords) (k0_t1 : Fin k0_t1_loop.trips) (v12615 : BitVec 32) (v12618 : BitVec 32) (v12645 : BitVec 32) : Prop :=
  (∀ (k0_h1 : k0_cond1 i = 1#1), ∀ a, (k0_off211 k0_t1 v12615 v12618 v12645) a + S1x128.size a ≤ S8224x128.size a)
theorem k0_off211_inb : ∀ (i : grid0.Coords) (k0_t1 : Fin k0_t1_loop.trips) (v12615 : BitVec 32) (v12618 : BitVec 32) (v12645 : BitVec 32) (k0_hw105 : k0_chk105 i k0_t1 v12615 v12618 v12645), ∀ (k0_h1 : k0_cond1 i = 1#1), ∀ a, (k0_off211 k0_t1 v12615 v12618 v12645) a + S1x128.size a ≤ S8224x128.size a := fun i k0_t1 v12615 v12618 v12645 k0_hw105 k0_h1 => k0_hw105 k0_h1

def k0_off212 (v12615 : BitVec 32) : Fin 1 → Nat :=
  let c2_i32_4899 : BitVec 32 := 2#32
  let v12656 : BitVec 32 := Scalar.addi v12615 c2_i32_4899
  let v12659 : Index := Scalar.indexCast v12656
  ![v12659.toNat]
def k0_off213 (k0_t1 : Fin k0_t1_loop.trips) (v12615 : BitVec 32) (v12618 : BitVec 32) (v12660 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_4900 : BitVec 32 := 2#32
  let v12657 : BitVec 32 := Scalar.addi v12615 c2_i32_4900
  let v12658 : BitVec 1 := Scalar.cmpi .slt v12657 v12618
  let c65535_i32_4901 : BitVec 32 := 65535#32
  let v12661 : BitVec 32 := Scalar.andi v12660 c65535_i32_4901
  let c2048_i32_4902 : BitVec 32 := 2048#32
  let v12662 : BitVec 32 := Scalar.select v12658 v12661 c2048_i32_4902
  let v12663 : BitVec 32 := Scalar.addi v11087 v12662
  let v12666 : Index := Scalar.indexCast v12663
  let c0_4904 : Index := 0#32
  ![v12666.toNat, 0]

def k0_chk106 (i : grid0.Coords) (k0_t1 : Fin k0_t1_loop.trips) (v12615 : BitVec 32) (v12618 : BitVec 32) (v12660 : BitVec 32) : Prop :=
  (∀ (k0_h1 : k0_cond1 i = 1#1), ∀ a, (k0_off213 k0_t1 v12615 v12618 v12660) a + S1x128.size a ≤ S8224x128.size a)
theorem k0_off213_inb : ∀ (i : grid0.Coords) (k0_t1 : Fin k0_t1_loop.trips) (v12615 : BitVec 32) (v12618 : BitVec 32) (v12660 : BitVec 32) (k0_hw106 : k0_chk106 i k0_t1 v12615 v12618 v12660), ∀ (k0_h1 : k0_cond1 i = 1#1), ∀ a, (k0_off213 k0_t1 v12615 v12618 v12660) a + S1x128.size a ≤ S8224x128.size a := fun i k0_t1 v12615 v12618 v12660 k0_hw106 k0_h1 => k0_hw106 k0_h1

def k0_off214 (v12615 : BitVec 32) : Fin 1 → Nat :=
  let c3_i32_4905 : BitVec 32 := 3#32
  let v12671 : BitVec 32 := Scalar.addi v12615 c3_i32_4905
  let v12674 : Index := Scalar.indexCast v12671
  ![v12674.toNat]
def k0_off215 (k0_t1 : Fin k0_t1_loop.trips) (v12615 : BitVec 32) (v12618 : BitVec 32) (v12675 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_4906 : BitVec 32 := 3#32
  let v12672 : BitVec 32 := Scalar.addi v12615 c3_i32_4906
  let v12673 : BitVec 1 := Scalar.cmpi .slt v12672 v12618
  let c65535_i32_4907 : BitVec 32 := 65535#32
  let v12676 : BitVec 32 := Scalar.andi v12675 c65535_i32_4907
  let c2048_i32_4908 : BitVec 32 := 2048#32
  let v12677 : BitVec 32 := Scalar.select v12673 v12676 c2048_i32_4908
  let v12678 : BitVec 32 := Scalar.addi v11087 v12677
  let v12681 : Index := Scalar.indexCast v12678
  let c0_4910 : Index := 0#32
  ![v12681.toNat, 0]

def k0_chk107 (i : grid0.Coords) (k0_t1 : Fin k0_t1_loop.trips) (v12615 : BitVec 32) (v12618 : BitVec 32) (v12675 : BitVec 32) : Prop :=
  (∀ (k0_h1 : k0_cond1 i = 1#1), ∀ a, (k0_off215 k0_t1 v12615 v12618 v12675) a + S1x128.size a ≤ S8224x128.size a)
theorem k0_off215_inb : ∀ (i : grid0.Coords) (k0_t1 : Fin k0_t1_loop.trips) (v12615 : BitVec 32) (v12618 : BitVec 32) (v12675 : BitVec 32) (k0_hw107 : k0_chk107 i k0_t1 v12615 v12618 v12675), ∀ (k0_h1 : k0_cond1 i = 1#1), ∀ a, (k0_off215 k0_t1 v12615 v12618 v12675) a + S1x128.size a ≤ S8224x128.size a := fun i k0_t1 v12615 v12618 v12675 k0_hw107 k0_h1 => k0_hw107 k0_h1

def k0_off216 (v12615 : BitVec 32) : Fin 1 → Nat :=
  let c4_i32_4911 : BitVec 32 := 4#32
  let v12686 : BitVec 32 := Scalar.addi v12615 c4_i32_4911
  let v12689 : Index := Scalar.indexCast v12686
  ![v12689.toNat]
def k0_off217 (k0_t1 : Fin k0_t1_loop.trips) (v12615 : BitVec 32) (v12618 : BitVec 32) (v12690 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_4912 : BitVec 32 := 4#32
  let v12687 : BitVec 32 := Scalar.addi v12615 c4_i32_4912
  let v12688 : BitVec 1 := Scalar.cmpi .slt v12687 v12618
  let c65535_i32_4913 : BitVec 32 := 65535#32
  let v12691 : BitVec 32 := Scalar.andi v12690 c65535_i32_4913
  let c2048_i32_4914 : BitVec 32 := 2048#32
  let v12692 : BitVec 32 := Scalar.select v12688 v12691 c2048_i32_4914
  let v12693 : BitVec 32 := Scalar.addi v11087 v12692
  let v12696 : Index := Scalar.indexCast v12693
  let c0_4916 : Index := 0#32
  ![v12696.toNat, 0]

def k0_chk108 (i : grid0.Coords) (k0_t1 : Fin k0_t1_loop.trips) (v12615 : BitVec 32) (v12618 : BitVec 32) (v12690 : BitVec 32) : Prop :=
  (∀ (k0_h1 : k0_cond1 i = 1#1), ∀ a, (k0_off217 k0_t1 v12615 v12618 v12690) a + S1x128.size a ≤ S8224x128.size a)
theorem k0_off217_inb : ∀ (i : grid0.Coords) (k0_t1 : Fin k0_t1_loop.trips) (v12615 : BitVec 32) (v12618 : BitVec 32) (v12690 : BitVec 32) (k0_hw108 : k0_chk108 i k0_t1 v12615 v12618 v12690), ∀ (k0_h1 : k0_cond1 i = 1#1), ∀ a, (k0_off217 k0_t1 v12615 v12618 v12690) a + S1x128.size a ≤ S8224x128.size a := fun i k0_t1 v12615 v12618 v12690 k0_hw108 k0_h1 => k0_hw108 k0_h1

def k0_off218 (v12615 : BitVec 32) : Fin 1 → Nat :=
  let c5_i32_4917 : BitVec 32 := 5#32
  let v12701 : BitVec 32 := Scalar.addi v12615 c5_i32_4917
  let v12704 : Index := Scalar.indexCast v12701
  ![v12704.toNat]
def k0_off219 (k0_t1 : Fin k0_t1_loop.trips) (v12615 : BitVec 32) (v12618 : BitVec 32) (v12705 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_4918 : BitVec 32 := 5#32
  let v12702 : BitVec 32 := Scalar.addi v12615 c5_i32_4918
  let v12703 : BitVec 1 := Scalar.cmpi .slt v12702 v12618
  let c65535_i32_4919 : BitVec 32 := 65535#32
  let v12706 : BitVec 32 := Scalar.andi v12705 c65535_i32_4919
  let c2048_i32_4920 : BitVec 32 := 2048#32
  let v12707 : BitVec 32 := Scalar.select v12703 v12706 c2048_i32_4920
  let v12708 : BitVec 32 := Scalar.addi v11087 v12707
  let v12711 : Index := Scalar.indexCast v12708
  let c0_4922 : Index := 0#32
  ![v12711.toNat, 0]

def k0_chk109 (i : grid0.Coords) (k0_t1 : Fin k0_t1_loop.trips) (v12615 : BitVec 32) (v12618 : BitVec 32) (v12705 : BitVec 32) : Prop :=
  (∀ (k0_h1 : k0_cond1 i = 1#1), ∀ a, (k0_off219 k0_t1 v12615 v12618 v12705) a + S1x128.size a ≤ S8224x128.size a)
theorem k0_off219_inb : ∀ (i : grid0.Coords) (k0_t1 : Fin k0_t1_loop.trips) (v12615 : BitVec 32) (v12618 : BitVec 32) (v12705 : BitVec 32) (k0_hw109 : k0_chk109 i k0_t1 v12615 v12618 v12705), ∀ (k0_h1 : k0_cond1 i = 1#1), ∀ a, (k0_off219 k0_t1 v12615 v12618 v12705) a + S1x128.size a ≤ S8224x128.size a := fun i k0_t1 v12615 v12618 v12705 k0_hw109 k0_h1 => k0_hw109 k0_h1

def k0_off220 (v12615 : BitVec 32) : Fin 1 → Nat :=
  let c6_i32_4923 : BitVec 32 := 6#32
  let v12716 : BitVec 32 := Scalar.addi v12615 c6_i32_4923
  let v12719 : Index := Scalar.indexCast v12716
  ![v12719.toNat]
def k0_off221 (k0_t1 : Fin k0_t1_loop.trips) (v12615 : BitVec 32) (v12618 : BitVec 32) (v12720 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_4924 : BitVec 32 := 6#32
  let v12717 : BitVec 32 := Scalar.addi v12615 c6_i32_4924
  let v12718 : BitVec 1 := Scalar.cmpi .slt v12717 v12618
  let c65535_i32_4925 : BitVec 32 := 65535#32
  let v12721 : BitVec 32 := Scalar.andi v12720 c65535_i32_4925
  let c2048_i32_4926 : BitVec 32 := 2048#32
  let v12722 : BitVec 32 := Scalar.select v12718 v12721 c2048_i32_4926
  let v12723 : BitVec 32 := Scalar.addi v11087 v12722
  let v12726 : Index := Scalar.indexCast v12723
  let c0_4928 : Index := 0#32
  ![v12726.toNat, 0]

def k0_chk110 (i : grid0.Coords) (k0_t1 : Fin k0_t1_loop.trips) (v12615 : BitVec 32) (v12618 : BitVec 32) (v12720 : BitVec 32) : Prop :=
  (∀ (k0_h1 : k0_cond1 i = 1#1), ∀ a, (k0_off221 k0_t1 v12615 v12618 v12720) a + S1x128.size a ≤ S8224x128.size a)
theorem k0_off221_inb : ∀ (i : grid0.Coords) (k0_t1 : Fin k0_t1_loop.trips) (v12615 : BitVec 32) (v12618 : BitVec 32) (v12720 : BitVec 32) (k0_hw110 : k0_chk110 i k0_t1 v12615 v12618 v12720), ∀ (k0_h1 : k0_cond1 i = 1#1), ∀ a, (k0_off221 k0_t1 v12615 v12618 v12720) a + S1x128.size a ≤ S8224x128.size a := fun i k0_t1 v12615 v12618 v12720 k0_hw110 k0_h1 => k0_hw110 k0_h1

def k0_off222 (v12615 : BitVec 32) : Fin 1 → Nat :=
  let c7_i32_4929 : BitVec 32 := 7#32
  let v12731 : BitVec 32 := Scalar.addi v12615 c7_i32_4929
  let v12734 : Index := Scalar.indexCast v12731
  ![v12734.toNat]
def k0_off223 (k0_t1 : Fin k0_t1_loop.trips) (v12615 : BitVec 32) (v12618 : BitVec 32) (v12735 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_4930 : BitVec 32 := 7#32
  let v12732 : BitVec 32 := Scalar.addi v12615 c7_i32_4930
  let v12733 : BitVec 1 := Scalar.cmpi .slt v12732 v12618
  let c65535_i32_4931 : BitVec 32 := 65535#32
  let v12736 : BitVec 32 := Scalar.andi v12735 c65535_i32_4931
  let c2048_i32_4932 : BitVec 32 := 2048#32
  let v12737 : BitVec 32 := Scalar.select v12733 v12736 c2048_i32_4932
  let v12738 : BitVec 32 := Scalar.addi v11087 v12737
  let v12741 : Index := Scalar.indexCast v12738
  let c0_4934 : Index := 0#32
  ![v12741.toNat, 0]

def k0_chk111 (i : grid0.Coords) (k0_t1 : Fin k0_t1_loop.trips) (v12615 : BitVec 32) (v12618 : BitVec 32) (v12735 : BitVec 32) : Prop :=
  (∀ (k0_h1 : k0_cond1 i = 1#1), ∀ a, (k0_off223 k0_t1 v12615 v12618 v12735) a + S1x128.size a ≤ S8224x128.size a)
theorem k0_off223_inb : ∀ (i : grid0.Coords) (k0_t1 : Fin k0_t1_loop.trips) (v12615 : BitVec 32) (v12618 : BitVec 32) (v12735 : BitVec 32) (k0_hw111 : k0_chk111 i k0_t1 v12615 v12618 v12735), ∀ (k0_h1 : k0_cond1 i = 1#1), ∀ a, (k0_off223 k0_t1 v12615 v12618 v12735) a + S1x128.size a ≤ S8224x128.size a := fun i k0_t1 v12615 v12618 v12735 k0_hw111 k0_h1 => k0_hw111 k0_h1

def k0_off224 (v12615 : BitVec 32) : Fin 1 → Nat :=
  let c8_i32_4935 : BitVec 32 := 8#32
  let v12746 : BitVec 32 := Scalar.addi v12615 c8_i32_4935
  let v12749 : Index := Scalar.indexCast v12746
  ![v12749.toNat]
def k0_off225 (k0_t1 : Fin k0_t1_loop.trips) (v12615 : BitVec 32) (v12618 : BitVec 32) (v12750 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_4936 : BitVec 32 := 8#32
  let v12747 : BitVec 32 := Scalar.addi v12615 c8_i32_4936
  let v12748 : BitVec 1 := Scalar.cmpi .slt v12747 v12618
  let c65535_i32_4937 : BitVec 32 := 65535#32
  let v12751 : BitVec 32 := Scalar.andi v12750 c65535_i32_4937
  let c2048_i32_4938 : BitVec 32 := 2048#32
  let v12752 : BitVec 32 := Scalar.select v12748 v12751 c2048_i32_4938
  let v12753 : BitVec 32 := Scalar.addi v11087 v12752
  let v12756 : Index := Scalar.indexCast v12753
  let c0_4940 : Index := 0#32
  ![v12756.toNat, 0]

def k0_chk112 (i : grid0.Coords) (k0_t1 : Fin k0_t1_loop.trips) (v12615 : BitVec 32) (v12618 : BitVec 32) (v12750 : BitVec 32) : Prop :=
  (∀ (k0_h1 : k0_cond1 i = 1#1), ∀ a, (k0_off225 k0_t1 v12615 v12618 v12750) a + S1x128.size a ≤ S8224x128.size a)
theorem k0_off225_inb : ∀ (i : grid0.Coords) (k0_t1 : Fin k0_t1_loop.trips) (v12615 : BitVec 32) (v12618 : BitVec 32) (v12750 : BitVec 32) (k0_hw112 : k0_chk112 i k0_t1 v12615 v12618 v12750), ∀ (k0_h1 : k0_cond1 i = 1#1), ∀ a, (k0_off225 k0_t1 v12615 v12618 v12750) a + S1x128.size a ≤ S8224x128.size a := fun i k0_t1 v12615 v12618 v12750 k0_hw112 k0_h1 => k0_hw112 k0_h1

def k0_off226 (v12615 : BitVec 32) : Fin 1 → Nat :=
  let c9_i32_4941 : BitVec 32 := 9#32
  let v12761 : BitVec 32 := Scalar.addi v12615 c9_i32_4941
  let v12764 : Index := Scalar.indexCast v12761
  ![v12764.toNat]
def k0_off227 (k0_t1 : Fin k0_t1_loop.trips) (v12615 : BitVec 32) (v12618 : BitVec 32) (v12765 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_4942 : BitVec 32 := 9#32
  let v12762 : BitVec 32 := Scalar.addi v12615 c9_i32_4942
  let v12763 : BitVec 1 := Scalar.cmpi .slt v12762 v12618
  let c65535_i32_4943 : BitVec 32 := 65535#32
  let v12766 : BitVec 32 := Scalar.andi v12765 c65535_i32_4943
  let c2048_i32_4944 : BitVec 32 := 2048#32
  let v12767 : BitVec 32 := Scalar.select v12763 v12766 c2048_i32_4944
  let v12768 : BitVec 32 := Scalar.addi v11087 v12767
  let v12771 : Index := Scalar.indexCast v12768
  let c0_4946 : Index := 0#32
  ![v12771.toNat, 0]

def k0_chk113 (i : grid0.Coords) (k0_t1 : Fin k0_t1_loop.trips) (v12615 : BitVec 32) (v12618 : BitVec 32) (v12765 : BitVec 32) : Prop :=
  (∀ (k0_h1 : k0_cond1 i = 1#1), ∀ a, (k0_off227 k0_t1 v12615 v12618 v12765) a + S1x128.size a ≤ S8224x128.size a)
theorem k0_off227_inb : ∀ (i : grid0.Coords) (k0_t1 : Fin k0_t1_loop.trips) (v12615 : BitVec 32) (v12618 : BitVec 32) (v12765 : BitVec 32) (k0_hw113 : k0_chk113 i k0_t1 v12615 v12618 v12765), ∀ (k0_h1 : k0_cond1 i = 1#1), ∀ a, (k0_off227 k0_t1 v12615 v12618 v12765) a + S1x128.size a ≤ S8224x128.size a := fun i k0_t1 v12615 v12618 v12765 k0_hw113 k0_h1 => k0_hw113 k0_h1

def k0_off228 (v12615 : BitVec 32) : Fin 1 → Nat :=
  let c10_i32_4947 : BitVec 32 := 10#32
  let v12776 : BitVec 32 := Scalar.addi v12615 c10_i32_4947
  let v12779 : Index := Scalar.indexCast v12776
  ![v12779.toNat]
def k0_off229 (k0_t1 : Fin k0_t1_loop.trips) (v12615 : BitVec 32) (v12618 : BitVec 32) (v12780 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_4948 : BitVec 32 := 10#32
  let v12777 : BitVec 32 := Scalar.addi v12615 c10_i32_4948
  let v12778 : BitVec 1 := Scalar.cmpi .slt v12777 v12618
  let c65535_i32_4949 : BitVec 32 := 65535#32
  let v12781 : BitVec 32 := Scalar.andi v12780 c65535_i32_4949
  let c2048_i32_4950 : BitVec 32 := 2048#32
  let v12782 : BitVec 32 := Scalar.select v12778 v12781 c2048_i32_4950
  let v12783 : BitVec 32 := Scalar.addi v11087 v12782
  let v12786 : Index := Scalar.indexCast v12783
  let c0_4952 : Index := 0#32
  ![v12786.toNat, 0]

def k0_chk114 (i : grid0.Coords) (k0_t1 : Fin k0_t1_loop.trips) (v12615 : BitVec 32) (v12618 : BitVec 32) (v12780 : BitVec 32) : Prop :=
  (∀ (k0_h1 : k0_cond1 i = 1#1), ∀ a, (k0_off229 k0_t1 v12615 v12618 v12780) a + S1x128.size a ≤ S8224x128.size a)
theorem k0_off229_inb : ∀ (i : grid0.Coords) (k0_t1 : Fin k0_t1_loop.trips) (v12615 : BitVec 32) (v12618 : BitVec 32) (v12780 : BitVec 32) (k0_hw114 : k0_chk114 i k0_t1 v12615 v12618 v12780), ∀ (k0_h1 : k0_cond1 i = 1#1), ∀ a, (k0_off229 k0_t1 v12615 v12618 v12780) a + S1x128.size a ≤ S8224x128.size a := fun i k0_t1 v12615 v12618 v12780 k0_hw114 k0_h1 => k0_hw114 k0_h1

def k0_off230 (v12615 : BitVec 32) : Fin 1 → Nat :=
  let c11_i32_4953 : BitVec 32 := 11#32
  let v12791 : BitVec 32 := Scalar.addi v12615 c11_i32_4953
  let v12794 : Index := Scalar.indexCast v12791
  ![v12794.toNat]
def k0_off231 (k0_t1 : Fin k0_t1_loop.trips) (v12615 : BitVec 32) (v12618 : BitVec 32) (v12795 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_4954 : BitVec 32 := 11#32
  let v12792 : BitVec 32 := Scalar.addi v12615 c11_i32_4954
  let v12793 : BitVec 1 := Scalar.cmpi .slt v12792 v12618
  let c65535_i32_4955 : BitVec 32 := 65535#32
  let v12796 : BitVec 32 := Scalar.andi v12795 c65535_i32_4955
  let c2048_i32_4956 : BitVec 32 := 2048#32
  let v12797 : BitVec 32 := Scalar.select v12793 v12796 c2048_i32_4956
  let v12798 : BitVec 32 := Scalar.addi v11087 v12797
  let v12801 : Index := Scalar.indexCast v12798
  let c0_4958 : Index := 0#32
  ![v12801.toNat, 0]

def k0_chk115 (i : grid0.Coords) (k0_t1 : Fin k0_t1_loop.trips) (v12615 : BitVec 32) (v12618 : BitVec 32) (v12795 : BitVec 32) : Prop :=
  (∀ (k0_h1 : k0_cond1 i = 1#1), ∀ a, (k0_off231 k0_t1 v12615 v12618 v12795) a + S1x128.size a ≤ S8224x128.size a)
theorem k0_off231_inb : ∀ (i : grid0.Coords) (k0_t1 : Fin k0_t1_loop.trips) (v12615 : BitVec 32) (v12618 : BitVec 32) (v12795 : BitVec 32) (k0_hw115 : k0_chk115 i k0_t1 v12615 v12618 v12795), ∀ (k0_h1 : k0_cond1 i = 1#1), ∀ a, (k0_off231 k0_t1 v12615 v12618 v12795) a + S1x128.size a ≤ S8224x128.size a := fun i k0_t1 v12615 v12618 v12795 k0_hw115 k0_h1 => k0_hw115 k0_h1

def k0_off232 (v12615 : BitVec 32) : Fin 1 → Nat :=
  let c12_i32_4959 : BitVec 32 := 12#32
  let v12806 : BitVec 32 := Scalar.addi v12615 c12_i32_4959
  let v12809 : Index := Scalar.indexCast v12806
  ![v12809.toNat]
def k0_off233 (k0_t1 : Fin k0_t1_loop.trips) (v12615 : BitVec 32) (v12618 : BitVec 32) (v12810 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_4960 : BitVec 32 := 12#32
  let v12807 : BitVec 32 := Scalar.addi v12615 c12_i32_4960
  let v12808 : BitVec 1 := Scalar.cmpi .slt v12807 v12618
  let c65535_i32_4961 : BitVec 32 := 65535#32
  let v12811 : BitVec 32 := Scalar.andi v12810 c65535_i32_4961
  let c2048_i32_4962 : BitVec 32 := 2048#32
  let v12812 : BitVec 32 := Scalar.select v12808 v12811 c2048_i32_4962
  let v12813 : BitVec 32 := Scalar.addi v11087 v12812
  let v12816 : Index := Scalar.indexCast v12813
  let c0_4964 : Index := 0#32
  ![v12816.toNat, 0]

def k0_chk116 (i : grid0.Coords) (k0_t1 : Fin k0_t1_loop.trips) (v12615 : BitVec 32) (v12618 : BitVec 32) (v12810 : BitVec 32) : Prop :=
  (∀ (k0_h1 : k0_cond1 i = 1#1), ∀ a, (k0_off233 k0_t1 v12615 v12618 v12810) a + S1x128.size a ≤ S8224x128.size a)
theorem k0_off233_inb : ∀ (i : grid0.Coords) (k0_t1 : Fin k0_t1_loop.trips) (v12615 : BitVec 32) (v12618 : BitVec 32) (v12810 : BitVec 32) (k0_hw116 : k0_chk116 i k0_t1 v12615 v12618 v12810), ∀ (k0_h1 : k0_cond1 i = 1#1), ∀ a, (k0_off233 k0_t1 v12615 v12618 v12810) a + S1x128.size a ≤ S8224x128.size a := fun i k0_t1 v12615 v12618 v12810 k0_hw116 k0_h1 => k0_hw116 k0_h1

def k0_off234 (v12615 : BitVec 32) : Fin 1 → Nat :=
  let c13_i32_4965 : BitVec 32 := 13#32
  let v12821 : BitVec 32 := Scalar.addi v12615 c13_i32_4965
  let v12824 : Index := Scalar.indexCast v12821
  ![v12824.toNat]
def k0_off235 (k0_t1 : Fin k0_t1_loop.trips) (v12615 : BitVec 32) (v12618 : BitVec 32) (v12825 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_4966 : BitVec 32 := 13#32
  let v12822 : BitVec 32 := Scalar.addi v12615 c13_i32_4966
  let v12823 : BitVec 1 := Scalar.cmpi .slt v12822 v12618
  let c65535_i32_4967 : BitVec 32 := 65535#32
  let v12826 : BitVec 32 := Scalar.andi v12825 c65535_i32_4967
  let c2048_i32_4968 : BitVec 32 := 2048#32
  let v12827 : BitVec 32 := Scalar.select v12823 v12826 c2048_i32_4968
  let v12828 : BitVec 32 := Scalar.addi v11087 v12827
  let v12831 : Index := Scalar.indexCast v12828
  let c0_4970 : Index := 0#32
  ![v12831.toNat, 0]

def k0_chk117 (i : grid0.Coords) (k0_t1 : Fin k0_t1_loop.trips) (v12615 : BitVec 32) (v12618 : BitVec 32) (v12825 : BitVec 32) : Prop :=
  (∀ (k0_h1 : k0_cond1 i = 1#1), ∀ a, (k0_off235 k0_t1 v12615 v12618 v12825) a + S1x128.size a ≤ S8224x128.size a)
theorem k0_off235_inb : ∀ (i : grid0.Coords) (k0_t1 : Fin k0_t1_loop.trips) (v12615 : BitVec 32) (v12618 : BitVec 32) (v12825 : BitVec 32) (k0_hw117 : k0_chk117 i k0_t1 v12615 v12618 v12825), ∀ (k0_h1 : k0_cond1 i = 1#1), ∀ a, (k0_off235 k0_t1 v12615 v12618 v12825) a + S1x128.size a ≤ S8224x128.size a := fun i k0_t1 v12615 v12618 v12825 k0_hw117 k0_h1 => k0_hw117 k0_h1

def k0_off236 (v12615 : BitVec 32) : Fin 1 → Nat :=
  let c14_i32_4971 : BitVec 32 := 14#32
  let v12836 : BitVec 32 := Scalar.addi v12615 c14_i32_4971
  let v12839 : Index := Scalar.indexCast v12836
  ![v12839.toNat]
def k0_off237 (k0_t1 : Fin k0_t1_loop.trips) (v12615 : BitVec 32) (v12618 : BitVec 32) (v12840 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_4972 : BitVec 32 := 14#32
  let v12837 : BitVec 32 := Scalar.addi v12615 c14_i32_4972
  let v12838 : BitVec 1 := Scalar.cmpi .slt v12837 v12618
  let c65535_i32_4973 : BitVec 32 := 65535#32
  let v12841 : BitVec 32 := Scalar.andi v12840 c65535_i32_4973
  let c2048_i32_4974 : BitVec 32 := 2048#32
  let v12842 : BitVec 32 := Scalar.select v12838 v12841 c2048_i32_4974
  let v12843 : BitVec 32 := Scalar.addi v11087 v12842
  let v12846 : Index := Scalar.indexCast v12843
  let c0_4976 : Index := 0#32
  ![v12846.toNat, 0]

def k0_chk118 (i : grid0.Coords) (k0_t1 : Fin k0_t1_loop.trips) (v12615 : BitVec 32) (v12618 : BitVec 32) (v12840 : BitVec 32) : Prop :=
  (∀ (k0_h1 : k0_cond1 i = 1#1), ∀ a, (k0_off237 k0_t1 v12615 v12618 v12840) a + S1x128.size a ≤ S8224x128.size a)
theorem k0_off237_inb : ∀ (i : grid0.Coords) (k0_t1 : Fin k0_t1_loop.trips) (v12615 : BitVec 32) (v12618 : BitVec 32) (v12840 : BitVec 32) (k0_hw118 : k0_chk118 i k0_t1 v12615 v12618 v12840), ∀ (k0_h1 : k0_cond1 i = 1#1), ∀ a, (k0_off237 k0_t1 v12615 v12618 v12840) a + S1x128.size a ≤ S8224x128.size a := fun i k0_t1 v12615 v12618 v12840 k0_hw118 k0_h1 => k0_hw118 k0_h1

def k0_off238 (v12615 : BitVec 32) : Fin 1 → Nat :=
  let c15_i32_4977 : BitVec 32 := 15#32
  let v12851 : BitVec 32 := Scalar.addi v12615 c15_i32_4977
  let v12854 : Index := Scalar.indexCast v12851
  ![v12854.toNat]

def k0_chk103 (i : grid0.Coords) (v12615 : BitVec 32) : Prop :=
  (∀ (k0_h1 : k0_cond1 i = 1#1), ∀ a, (k0_off208 v12615) a + S1.size a ≤ S51920.size a) ∧
  (∀ (k0_h1 : k0_cond1 i = 1#1), ∀ a, (k0_off210 v12615) a + S1.size a ≤ S51920.size a) ∧
  (∀ (k0_h1 : k0_cond1 i = 1#1), ∀ a, (k0_off212 v12615) a + S1.size a ≤ S51920.size a) ∧
  (∀ (k0_h1 : k0_cond1 i = 1#1), ∀ a, (k0_off214 v12615) a + S1.size a ≤ S51920.size a) ∧
  (∀ (k0_h1 : k0_cond1 i = 1#1), ∀ a, (k0_off216 v12615) a + S1.size a ≤ S51920.size a) ∧
  (∀ (k0_h1 : k0_cond1 i = 1#1), ∀ a, (k0_off218 v12615) a + S1.size a ≤ S51920.size a) ∧
  (∀ (k0_h1 : k0_cond1 i = 1#1), ∀ a, (k0_off220 v12615) a + S1.size a ≤ S51920.size a) ∧
  (∀ (k0_h1 : k0_cond1 i = 1#1), ∀ a, (k0_off222 v12615) a + S1.size a ≤ S51920.size a) ∧
  (∀ (k0_h1 : k0_cond1 i = 1#1), ∀ a, (k0_off224 v12615) a + S1.size a ≤ S51920.size a) ∧
  (∀ (k0_h1 : k0_cond1 i = 1#1), ∀ a, (k0_off226 v12615) a + S1.size a ≤ S51920.size a) ∧
  (∀ (k0_h1 : k0_cond1 i = 1#1), ∀ a, (k0_off228 v12615) a + S1.size a ≤ S51920.size a) ∧
  (∀ (k0_h1 : k0_cond1 i = 1#1), ∀ a, (k0_off230 v12615) a + S1.size a ≤ S51920.size a) ∧
  (∀ (k0_h1 : k0_cond1 i = 1#1), ∀ a, (k0_off232 v12615) a + S1.size a ≤ S51920.size a) ∧
  (∀ (k0_h1 : k0_cond1 i = 1#1), ∀ a, (k0_off234 v12615) a + S1.size a ≤ S51920.size a) ∧
  (∀ (k0_h1 : k0_cond1 i = 1#1), ∀ a, (k0_off236 v12615) a + S1.size a ≤ S51920.size a) ∧
  (∀ (k0_h1 : k0_cond1 i = 1#1), ∀ a, (k0_off238 v12615) a + S1.size a ≤ S51920.size a)
theorem k0_off208_inb : ∀ (i : grid0.Coords) (v12615 : BitVec 32) (k0_hw103 : k0_chk103 i v12615), ∀ (k0_h1 : k0_cond1 i = 1#1), ∀ a, (k0_off208 v12615) a + S1.size a ≤ S51920.size a := fun i v12615 k0_hw103 k0_h1 => k0_hw103.1 k0_h1
theorem k0_off210_inb : ∀ (i : grid0.Coords) (v12615 : BitVec 32) (k0_hw103 : k0_chk103 i v12615), ∀ (k0_h1 : k0_cond1 i = 1#1), ∀ a, (k0_off210 v12615) a + S1.size a ≤ S51920.size a := fun i v12615 k0_hw103 k0_h1 => k0_hw103.2.1 k0_h1
theorem k0_off212_inb : ∀ (i : grid0.Coords) (v12615 : BitVec 32) (k0_hw103 : k0_chk103 i v12615), ∀ (k0_h1 : k0_cond1 i = 1#1), ∀ a, (k0_off212 v12615) a + S1.size a ≤ S51920.size a := fun i v12615 k0_hw103 k0_h1 => k0_hw103.2.2.1 k0_h1
theorem k0_off214_inb : ∀ (i : grid0.Coords) (v12615 : BitVec 32) (k0_hw103 : k0_chk103 i v12615), ∀ (k0_h1 : k0_cond1 i = 1#1), ∀ a, (k0_off214 v12615) a + S1.size a ≤ S51920.size a := fun i v12615 k0_hw103 k0_h1 => k0_hw103.2.2.2.1 k0_h1
theorem k0_off216_inb : ∀ (i : grid0.Coords) (v12615 : BitVec 32) (k0_hw103 : k0_chk103 i v12615), ∀ (k0_h1 : k0_cond1 i = 1#1), ∀ a, (k0_off216 v12615) a + S1.size a ≤ S51920.size a := fun i v12615 k0_hw103 k0_h1 => k0_hw103.2.2.2.2.1 k0_h1
theorem k0_off218_inb : ∀ (i : grid0.Coords) (v12615 : BitVec 32) (k0_hw103 : k0_chk103 i v12615), ∀ (k0_h1 : k0_cond1 i = 1#1), ∀ a, (k0_off218 v12615) a + S1.size a ≤ S51920.size a := fun i v12615 k0_hw103 k0_h1 => k0_hw103.2.2.2.2.2.1 k0_h1
theorem k0_off220_inb : ∀ (i : grid0.Coords) (v12615 : BitVec 32) (k0_hw103 : k0_chk103 i v12615), ∀ (k0_h1 : k0_cond1 i = 1#1), ∀ a, (k0_off220 v12615) a + S1.size a ≤ S51920.size a := fun i v12615 k0_hw103 k0_h1 => k0_hw103.2.2.2.2.2.2.1 k0_h1
theorem k0_off222_inb : ∀ (i : grid0.Coords) (v12615 : BitVec 32) (k0_hw103 : k0_chk103 i v12615), ∀ (k0_h1 : k0_cond1 i = 1#1), ∀ a, (k0_off222 v12615) a + S1.size a ≤ S51920.size a := fun i v12615 k0_hw103 k0_h1 => k0_hw103.2.2.2.2.2.2.2.1 k0_h1
theorem k0_off224_inb : ∀ (i : grid0.Coords) (v12615 : BitVec 32) (k0_hw103 : k0_chk103 i v12615), ∀ (k0_h1 : k0_cond1 i = 1#1), ∀ a, (k0_off224 v12615) a + S1.size a ≤ S51920.size a := fun i v12615 k0_hw103 k0_h1 => k0_hw103.2.2.2.2.2.2.2.2.1 k0_h1
theorem k0_off226_inb : ∀ (i : grid0.Coords) (v12615 : BitVec 32) (k0_hw103 : k0_chk103 i v12615), ∀ (k0_h1 : k0_cond1 i = 1#1), ∀ a, (k0_off226 v12615) a + S1.size a ≤ S51920.size a := fun i v12615 k0_hw103 k0_h1 => k0_hw103.2.2.2.2.2.2.2.2.2.1 k0_h1
theorem k0_off228_inb : ∀ (i : grid0.Coords) (v12615 : BitVec 32) (k0_hw103 : k0_chk103 i v12615), ∀ (k0_h1 : k0_cond1 i = 1#1), ∀ a, (k0_off228 v12615) a + S1.size a ≤ S51920.size a := fun i v12615 k0_hw103 k0_h1 => k0_hw103.2.2.2.2.2.2.2.2.2.2.1 k0_h1
theorem k0_off230_inb : ∀ (i : grid0.Coords) (v12615 : BitVec 32) (k0_hw103 : k0_chk103 i v12615), ∀ (k0_h1 : k0_cond1 i = 1#1), ∀ a, (k0_off230 v12615) a + S1.size a ≤ S51920.size a := fun i v12615 k0_hw103 k0_h1 => k0_hw103.2.2.2.2.2.2.2.2.2.2.2.1 k0_h1
theorem k0_off232_inb : ∀ (i : grid0.Coords) (v12615 : BitVec 32) (k0_hw103 : k0_chk103 i v12615), ∀ (k0_h1 : k0_cond1 i = 1#1), ∀ a, (k0_off232 v12615) a + S1.size a ≤ S51920.size a := fun i v12615 k0_hw103 k0_h1 => k0_hw103.2.2.2.2.2.2.2.2.2.2.2.2.1 k0_h1
theorem k0_off234_inb : ∀ (i : grid0.Coords) (v12615 : BitVec 32) (k0_hw103 : k0_chk103 i v12615), ∀ (k0_h1 : k0_cond1 i = 1#1), ∀ a, (k0_off234 v12615) a + S1.size a ≤ S51920.size a := fun i v12615 k0_hw103 k0_h1 => k0_hw103.2.2.2.2.2.2.2.2.2.2.2.2.2.1 k0_h1
theorem k0_off236_inb : ∀ (i : grid0.Coords) (v12615 : BitVec 32) (k0_hw103 : k0_chk103 i v12615), ∀ (k0_h1 : k0_cond1 i = 1#1), ∀ a, (k0_off236 v12615) a + S1.size a ≤ S51920.size a := fun i v12615 k0_hw103 k0_h1 => k0_hw103.2.2.2.2.2.2.2.2.2.2.2.2.2.2.1 k0_h1
theorem k0_off238_inb : ∀ (i : grid0.Coords) (v12615 : BitVec 32) (k0_hw103 : k0_chk103 i v12615), ∀ (k0_h1 : k0_cond1 i = 1#1), ∀ a, (k0_off238 v12615) a + S1.size a ≤ S51920.size a := fun i v12615 k0_hw103 k0_h1 => k0_hw103.2.2.2.2.2.2.2.2.2.2.2.2.2.2.2 k0_h1

def k0_off239 (k0_t1 : Fin k0_t1_loop.trips) (v12615 : BitVec 32) (v12618 : BitVec 32) (v12855 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_4978 : BitVec 32 := 15#32
  let v12852 : BitVec 32 := Scalar.addi v12615 c15_i32_4978
  let v12853 : BitVec 1 := Scalar.cmpi .slt v12852 v12618
  let c65535_i32_4979 : BitVec 32 := 65535#32
  let v12856 : BitVec 32 := Scalar.andi v12855 c65535_i32_4979
  let c2048_i32_4980 : BitVec 32 := 2048#32
  let v12857 : BitVec 32 := Scalar.select v12853 v12856 c2048_i32_4980
  let v12858 : BitVec 32 := Scalar.addi v11087 v12857
  let v12861 : Index := Scalar.indexCast v12858
  let c0_4982 : Index := 0#32
  ![v12861.toNat, 0]

def k0_chk119 (i : grid0.Coords) (k0_t1 : Fin k0_t1_loop.trips) (v12615 : BitVec 32) (v12618 : BitVec 32) (v12855 : BitVec 32) : Prop :=
  (∀ (k0_h1 : k0_cond1 i = 1#1), ∀ a, (k0_off239 k0_t1 v12615 v12618 v12855) a + S1x128.size a ≤ S8224x128.size a)
theorem k0_off239_inb : ∀ (i : grid0.Coords) (k0_t1 : Fin k0_t1_loop.trips) (v12615 : BitVec 32) (v12618 : BitVec 32) (v12855 : BitVec 32) (k0_hw119 : k0_chk119 i k0_t1 v12615 v12618 v12855), ∀ (k0_h1 : k0_cond1 i = 1#1), ∀ a, (k0_off239 k0_t1 v12615 v12618 v12855) a + S1x128.size a ≤ S8224x128.size a := fun i k0_t1 v12615 v12618 v12855 k0_hw119 k0_h1 => k0_hw119 k0_h1

def k0_off240 (k0_t1 : Fin k0_t1_loop.trips) : Fin 1 → Nat :=
  let c0_i32_4983 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v12866 : BitVec 32 := Scalar.addi c0_i32_4983 v11069
  let c7_i32_4984 : BitVec 32 := 7#32
  let v12867 : BitVec 32 := Scalar.addi v12866 c7_i32_4984
  let v12868 : Index := Scalar.indexCast v12867
  ![v12868.toNat]
def k0_off241 (k0_t1 : Fin k0_t1_loop.trips) : Fin 1 → Nat :=
  let c0_i32_4983 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v12866 : BitVec 32 := Scalar.addi c0_i32_4983 v11069
  let c7_i32_4984 : BitVec 32 := 7#32
  let v12867 : BitVec 32 := Scalar.addi v12866 c7_i32_4984
  let c1_i32_4985 : BitVec 32 := 1#32
  let v12870 : BitVec 32 := Scalar.addi v12867 c1_i32_4985
  let v12871 : Index := Scalar.indexCast v12870
  ![v12871.toNat]
def k0_off242 (v12869 : BitVec 32) : Fin 1 → Nat :=
  let c0_i32_4988 : BitVec 32 := 0#32
  let v12880 : BitVec 32 := Scalar.addi v12869 c0_i32_4988
  let v12883 : Index := Scalar.indexCast v12880
  ![v12883.toNat]

def k0_off243 (k0_t1 : Fin k0_t1_loop.trips) (v12869 : BitVec 32) (v12872 : BitVec 32) (v12884 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_4989 : BitVec 32 := 0#32
  let v12881 : BitVec 32 := Scalar.addi v12869 c0_i32_4989
  let v12882 : BitVec 1 := Scalar.cmpi .slt v12881 v12872
  let c65535_i32_4990 : BitVec 32 := 65535#32
  let v12885 : BitVec 32 := Scalar.andi v12884 c65535_i32_4990
  let c2048_i32_4991 : BitVec 32 := 2048#32
  let v12886 : BitVec 32 := Scalar.select v12882 v12885 c2048_i32_4991
  let v12887 : BitVec 32 := Scalar.addi v11087 v12886
  let v12890 : Index := Scalar.indexCast v12887
  let c0_4993 : Index := 0#32
  ![v12890.toNat, 0]

def k0_chk121 (i : grid0.Coords) (k0_t1 : Fin k0_t1_loop.trips) (v12869 : BitVec 32) (v12872 : BitVec 32) (v12884 : BitVec 32) : Prop :=
  (∀ (k0_h1 : k0_cond1 i = 1#1), ∀ a, (k0_off243 k0_t1 v12869 v12872 v12884) a + S1x128.size a ≤ S8224x128.size a)
theorem k0_off243_inb : ∀ (i : grid0.Coords) (k0_t1 : Fin k0_t1_loop.trips) (v12869 : BitVec 32) (v12872 : BitVec 32) (v12884 : BitVec 32) (k0_hw121 : k0_chk121 i k0_t1 v12869 v12872 v12884), ∀ (k0_h1 : k0_cond1 i = 1#1), ∀ a, (k0_off243 k0_t1 v12869 v12872 v12884) a + S1x128.size a ≤ S8224x128.size a := fun i k0_t1 v12869 v12872 v12884 k0_hw121 k0_h1 => k0_hw121 k0_h1

def k0_off244 (v12869 : BitVec 32) : Fin 1 → Nat :=
  let c1_i32_4994 : BitVec 32 := 1#32
  let v12895 : BitVec 32 := Scalar.addi v12869 c1_i32_4994
  let v12898 : Index := Scalar.indexCast v12895
  ![v12898.toNat]
def k0_off245 (k0_t1 : Fin k0_t1_loop.trips) (v12869 : BitVec 32) (v12872 : BitVec 32) (v12899 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_4995 : BitVec 32 := 1#32
  let v12896 : BitVec 32 := Scalar.addi v12869 c1_i32_4995
  let v12897 : BitVec 1 := Scalar.cmpi .slt v12896 v12872
  let c65535_i32_4996 : BitVec 32 := 65535#32
  let v12900 : BitVec 32 := Scalar.andi v12899 c65535_i32_4996
  let c2048_i32_4997 : BitVec 32 := 2048#32
  let v12901 : BitVec 32 := Scalar.select v12897 v12900 c2048_i32_4997
  let v12902 : BitVec 32 := Scalar.addi v11087 v12901
  let v12905 : Index := Scalar.indexCast v12902
  let c0_4999 : Index := 0#32
  ![v12905.toNat, 0]

def k0_chk122 (i : grid0.Coords) (k0_t1 : Fin k0_t1_loop.trips) (v12869 : BitVec 32) (v12872 : BitVec 32) (v12899 : BitVec 32) : Prop :=
  (∀ (k0_h1 : k0_cond1 i = 1#1), ∀ a, (k0_off245 k0_t1 v12869 v12872 v12899) a + S1x128.size a ≤ S8224x128.size a)
theorem k0_off245_inb : ∀ (i : grid0.Coords) (k0_t1 : Fin k0_t1_loop.trips) (v12869 : BitVec 32) (v12872 : BitVec 32) (v12899 : BitVec 32) (k0_hw122 : k0_chk122 i k0_t1 v12869 v12872 v12899), ∀ (k0_h1 : k0_cond1 i = 1#1), ∀ a, (k0_off245 k0_t1 v12869 v12872 v12899) a + S1x128.size a ≤ S8224x128.size a := fun i k0_t1 v12869 v12872 v12899 k0_hw122 k0_h1 => k0_hw122 k0_h1

def k0_off246 (v12869 : BitVec 32) : Fin 1 → Nat :=
  let c2_i32_5000 : BitVec 32 := 2#32
  let v12910 : BitVec 32 := Scalar.addi v12869 c2_i32_5000
  let v12913 : Index := Scalar.indexCast v12910
  ![v12913.toNat]
def k0_off247 (k0_t1 : Fin k0_t1_loop.trips) (v12869 : BitVec 32) (v12872 : BitVec 32) (v12914 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_5001 : BitVec 32 := 2#32
  let v12911 : BitVec 32 := Scalar.addi v12869 c2_i32_5001
  let v12912 : BitVec 1 := Scalar.cmpi .slt v12911 v12872
  let c65535_i32_5002 : BitVec 32 := 65535#32
  let v12915 : BitVec 32 := Scalar.andi v12914 c65535_i32_5002
  let c2048_i32_5003 : BitVec 32 := 2048#32
  let v12916 : BitVec 32 := Scalar.select v12912 v12915 c2048_i32_5003
  let v12917 : BitVec 32 := Scalar.addi v11087 v12916
  let v12920 : Index := Scalar.indexCast v12917
  let c0_5005 : Index := 0#32
  ![v12920.toNat, 0]

def k0_chk123 (i : grid0.Coords) (k0_t1 : Fin k0_t1_loop.trips) (v12869 : BitVec 32) (v12872 : BitVec 32) (v12914 : BitVec 32) : Prop :=
  (∀ (k0_h1 : k0_cond1 i = 1#1), ∀ a, (k0_off247 k0_t1 v12869 v12872 v12914) a + S1x128.size a ≤ S8224x128.size a)
theorem k0_off247_inb : ∀ (i : grid0.Coords) (k0_t1 : Fin k0_t1_loop.trips) (v12869 : BitVec 32) (v12872 : BitVec 32) (v12914 : BitVec 32) (k0_hw123 : k0_chk123 i k0_t1 v12869 v12872 v12914), ∀ (k0_h1 : k0_cond1 i = 1#1), ∀ a, (k0_off247 k0_t1 v12869 v12872 v12914) a + S1x128.size a ≤ S8224x128.size a := fun i k0_t1 v12869 v12872 v12914 k0_hw123 k0_h1 => k0_hw123 k0_h1

def k0_off248 (v12869 : BitVec 32) : Fin 1 → Nat :=
  let c3_i32_5006 : BitVec 32 := 3#32
  let v12925 : BitVec 32 := Scalar.addi v12869 c3_i32_5006
  let v12928 : Index := Scalar.indexCast v12925
  ![v12928.toNat]
def k0_off249 (k0_t1 : Fin k0_t1_loop.trips) (v12869 : BitVec 32) (v12872 : BitVec 32) (v12929 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_5007 : BitVec 32 := 3#32
  let v12926 : BitVec 32 := Scalar.addi v12869 c3_i32_5007
  let v12927 : BitVec 1 := Scalar.cmpi .slt v12926 v12872
  let c65535_i32_5008 : BitVec 32 := 65535#32
  let v12930 : BitVec 32 := Scalar.andi v12929 c65535_i32_5008
  let c2048_i32_5009 : BitVec 32 := 2048#32
  let v12931 : BitVec 32 := Scalar.select v12927 v12930 c2048_i32_5009
  let v12932 : BitVec 32 := Scalar.addi v11087 v12931
  let v12935 : Index := Scalar.indexCast v12932
  let c0_5011 : Index := 0#32
  ![v12935.toNat, 0]

def k0_chk124 (i : grid0.Coords) (k0_t1 : Fin k0_t1_loop.trips) (v12869 : BitVec 32) (v12872 : BitVec 32) (v12929 : BitVec 32) : Prop :=
  (∀ (k0_h1 : k0_cond1 i = 1#1), ∀ a, (k0_off249 k0_t1 v12869 v12872 v12929) a + S1x128.size a ≤ S8224x128.size a)
theorem k0_off249_inb : ∀ (i : grid0.Coords) (k0_t1 : Fin k0_t1_loop.trips) (v12869 : BitVec 32) (v12872 : BitVec 32) (v12929 : BitVec 32) (k0_hw124 : k0_chk124 i k0_t1 v12869 v12872 v12929), ∀ (k0_h1 : k0_cond1 i = 1#1), ∀ a, (k0_off249 k0_t1 v12869 v12872 v12929) a + S1x128.size a ≤ S8224x128.size a := fun i k0_t1 v12869 v12872 v12929 k0_hw124 k0_h1 => k0_hw124 k0_h1

def k0_off250 (v12869 : BitVec 32) : Fin 1 → Nat :=
  let c4_i32_5012 : BitVec 32 := 4#32
  let v12940 : BitVec 32 := Scalar.addi v12869 c4_i32_5012
  let v12943 : Index := Scalar.indexCast v12940
  ![v12943.toNat]
def k0_off251 (k0_t1 : Fin k0_t1_loop.trips) (v12869 : BitVec 32) (v12872 : BitVec 32) (v12944 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_5013 : BitVec 32 := 4#32
  let v12941 : BitVec 32 := Scalar.addi v12869 c4_i32_5013
  let v12942 : BitVec 1 := Scalar.cmpi .slt v12941 v12872
  let c65535_i32_5014 : BitVec 32 := 65535#32
  let v12945 : BitVec 32 := Scalar.andi v12944 c65535_i32_5014
  let c2048_i32_5015 : BitVec 32 := 2048#32
  let v12946 : BitVec 32 := Scalar.select v12942 v12945 c2048_i32_5015
  let v12947 : BitVec 32 := Scalar.addi v11087 v12946
  let v12950 : Index := Scalar.indexCast v12947
  let c0_5017 : Index := 0#32
  ![v12950.toNat, 0]

def k0_chk125 (i : grid0.Coords) (k0_t1 : Fin k0_t1_loop.trips) (v12869 : BitVec 32) (v12872 : BitVec 32) (v12944 : BitVec 32) : Prop :=
  (∀ (k0_h1 : k0_cond1 i = 1#1), ∀ a, (k0_off251 k0_t1 v12869 v12872 v12944) a + S1x128.size a ≤ S8224x128.size a)
theorem k0_off251_inb : ∀ (i : grid0.Coords) (k0_t1 : Fin k0_t1_loop.trips) (v12869 : BitVec 32) (v12872 : BitVec 32) (v12944 : BitVec 32) (k0_hw125 : k0_chk125 i k0_t1 v12869 v12872 v12944), ∀ (k0_h1 : k0_cond1 i = 1#1), ∀ a, (k0_off251 k0_t1 v12869 v12872 v12944) a + S1x128.size a ≤ S8224x128.size a := fun i k0_t1 v12869 v12872 v12944 k0_hw125 k0_h1 => k0_hw125 k0_h1

def k0_off252 (v12869 : BitVec 32) : Fin 1 → Nat :=
  let c5_i32_5018 : BitVec 32 := 5#32
  let v12955 : BitVec 32 := Scalar.addi v12869 c5_i32_5018
  let v12958 : Index := Scalar.indexCast v12955
  ![v12958.toNat]
def k0_off253 (k0_t1 : Fin k0_t1_loop.trips) (v12869 : BitVec 32) (v12872 : BitVec 32) (v12959 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_5019 : BitVec 32 := 5#32
  let v12956 : BitVec 32 := Scalar.addi v12869 c5_i32_5019
  let v12957 : BitVec 1 := Scalar.cmpi .slt v12956 v12872
  let c65535_i32_5020 : BitVec 32 := 65535#32
  let v12960 : BitVec 32 := Scalar.andi v12959 c65535_i32_5020
  let c2048_i32_5021 : BitVec 32 := 2048#32
  let v12961 : BitVec 32 := Scalar.select v12957 v12960 c2048_i32_5021
  let v12962 : BitVec 32 := Scalar.addi v11087 v12961
  let v12965 : Index := Scalar.indexCast v12962
  let c0_5023 : Index := 0#32
  ![v12965.toNat, 0]

def k0_chk126 (i : grid0.Coords) (k0_t1 : Fin k0_t1_loop.trips) (v12869 : BitVec 32) (v12872 : BitVec 32) (v12959 : BitVec 32) : Prop :=
  (∀ (k0_h1 : k0_cond1 i = 1#1), ∀ a, (k0_off253 k0_t1 v12869 v12872 v12959) a + S1x128.size a ≤ S8224x128.size a)
theorem k0_off253_inb : ∀ (i : grid0.Coords) (k0_t1 : Fin k0_t1_loop.trips) (v12869 : BitVec 32) (v12872 : BitVec 32) (v12959 : BitVec 32) (k0_hw126 : k0_chk126 i k0_t1 v12869 v12872 v12959), ∀ (k0_h1 : k0_cond1 i = 1#1), ∀ a, (k0_off253 k0_t1 v12869 v12872 v12959) a + S1x128.size a ≤ S8224x128.size a := fun i k0_t1 v12869 v12872 v12959 k0_hw126 k0_h1 => k0_hw126 k0_h1

def k0_off254 (v12869 : BitVec 32) : Fin 1 → Nat :=
  let c6_i32_5024 : BitVec 32 := 6#32
  let v12970 : BitVec 32 := Scalar.addi v12869 c6_i32_5024
  let v12973 : Index := Scalar.indexCast v12970
  ![v12973.toNat]
def k0_off255 (k0_t1 : Fin k0_t1_loop.trips) (v12869 : BitVec 32) (v12872 : BitVec 32) (v12974 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_5025 : BitVec 32 := 6#32
  let v12971 : BitVec 32 := Scalar.addi v12869 c6_i32_5025
  let v12972 : BitVec 1 := Scalar.cmpi .slt v12971 v12872
  let c65535_i32_5026 : BitVec 32 := 65535#32
  let v12975 : BitVec 32 := Scalar.andi v12974 c65535_i32_5026
  let c2048_i32_5027 : BitVec 32 := 2048#32
  let v12976 : BitVec 32 := Scalar.select v12972 v12975 c2048_i32_5027
  let v12977 : BitVec 32 := Scalar.addi v11087 v12976
  let v12980 : Index := Scalar.indexCast v12977
  let c0_5029 : Index := 0#32
  ![v12980.toNat, 0]

def k0_chk127 (i : grid0.Coords) (k0_t1 : Fin k0_t1_loop.trips) (v12869 : BitVec 32) (v12872 : BitVec 32) (v12974 : BitVec 32) : Prop :=
  (∀ (k0_h1 : k0_cond1 i = 1#1), ∀ a, (k0_off255 k0_t1 v12869 v12872 v12974) a + S1x128.size a ≤ S8224x128.size a)
theorem k0_off255_inb : ∀ (i : grid0.Coords) (k0_t1 : Fin k0_t1_loop.trips) (v12869 : BitVec 32) (v12872 : BitVec 32) (v12974 : BitVec 32) (k0_hw127 : k0_chk127 i k0_t1 v12869 v12872 v12974), ∀ (k0_h1 : k0_cond1 i = 1#1), ∀ a, (k0_off255 k0_t1 v12869 v12872 v12974) a + S1x128.size a ≤ S8224x128.size a := fun i k0_t1 v12869 v12872 v12974 k0_hw127 k0_h1 => k0_hw127 k0_h1

def k0_off256 (v12869 : BitVec 32) : Fin 1 → Nat :=
  let c7_i32_5030 : BitVec 32 := 7#32
  let v12985 : BitVec 32 := Scalar.addi v12869 c7_i32_5030
  let v12988 : Index := Scalar.indexCast v12985
  ![v12988.toNat]
def k0_off257 (k0_t1 : Fin k0_t1_loop.trips) (v12869 : BitVec 32) (v12872 : BitVec 32) (v12989 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_5031 : BitVec 32 := 7#32
  let v12986 : BitVec 32 := Scalar.addi v12869 c7_i32_5031
  let v12987 : BitVec 1 := Scalar.cmpi .slt v12986 v12872
  let c65535_i32_5032 : BitVec 32 := 65535#32
  let v12990 : BitVec 32 := Scalar.andi v12989 c65535_i32_5032
  let c2048_i32_5033 : BitVec 32 := 2048#32
  let v12991 : BitVec 32 := Scalar.select v12987 v12990 c2048_i32_5033
  let v12992 : BitVec 32 := Scalar.addi v11087 v12991
  let v12995 : Index := Scalar.indexCast v12992
  let c0_5035 : Index := 0#32
  ![v12995.toNat, 0]

def k0_chk128 (i : grid0.Coords) (k0_t1 : Fin k0_t1_loop.trips) (v12869 : BitVec 32) (v12872 : BitVec 32) (v12989 : BitVec 32) : Prop :=
  (∀ (k0_h1 : k0_cond1 i = 1#1), ∀ a, (k0_off257 k0_t1 v12869 v12872 v12989) a + S1x128.size a ≤ S8224x128.size a)
theorem k0_off257_inb : ∀ (i : grid0.Coords) (k0_t1 : Fin k0_t1_loop.trips) (v12869 : BitVec 32) (v12872 : BitVec 32) (v12989 : BitVec 32) (k0_hw128 : k0_chk128 i k0_t1 v12869 v12872 v12989), ∀ (k0_h1 : k0_cond1 i = 1#1), ∀ a, (k0_off257 k0_t1 v12869 v12872 v12989) a + S1x128.size a ≤ S8224x128.size a := fun i k0_t1 v12869 v12872 v12989 k0_hw128 k0_h1 => k0_hw128 k0_h1

def k0_off258 (v12869 : BitVec 32) : Fin 1 → Nat :=
  let c8_i32_5036 : BitVec 32 := 8#32
  let v13000 : BitVec 32 := Scalar.addi v12869 c8_i32_5036
  let v13003 : Index := Scalar.indexCast v13000
  ![v13003.toNat]
def k0_off259 (k0_t1 : Fin k0_t1_loop.trips) (v12869 : BitVec 32) (v12872 : BitVec 32) (v13004 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_5037 : BitVec 32 := 8#32
  let v13001 : BitVec 32 := Scalar.addi v12869 c8_i32_5037
  let v13002 : BitVec 1 := Scalar.cmpi .slt v13001 v12872
  let c65535_i32_5038 : BitVec 32 := 65535#32
  let v13005 : BitVec 32 := Scalar.andi v13004 c65535_i32_5038
  let c2048_i32_5039 : BitVec 32 := 2048#32
  let v13006 : BitVec 32 := Scalar.select v13002 v13005 c2048_i32_5039
  let v13007 : BitVec 32 := Scalar.addi v11087 v13006
  let v13010 : Index := Scalar.indexCast v13007
  let c0_5041 : Index := 0#32
  ![v13010.toNat, 0]

def k0_chk129 (i : grid0.Coords) (k0_t1 : Fin k0_t1_loop.trips) (v12869 : BitVec 32) (v12872 : BitVec 32) (v13004 : BitVec 32) : Prop :=
  (∀ (k0_h1 : k0_cond1 i = 1#1), ∀ a, (k0_off259 k0_t1 v12869 v12872 v13004) a + S1x128.size a ≤ S8224x128.size a)
theorem k0_off259_inb : ∀ (i : grid0.Coords) (k0_t1 : Fin k0_t1_loop.trips) (v12869 : BitVec 32) (v12872 : BitVec 32) (v13004 : BitVec 32) (k0_hw129 : k0_chk129 i k0_t1 v12869 v12872 v13004), ∀ (k0_h1 : k0_cond1 i = 1#1), ∀ a, (k0_off259 k0_t1 v12869 v12872 v13004) a + S1x128.size a ≤ S8224x128.size a := fun i k0_t1 v12869 v12872 v13004 k0_hw129 k0_h1 => k0_hw129 k0_h1

def k0_off260 (v12869 : BitVec 32) : Fin 1 → Nat :=
  let c9_i32_5042 : BitVec 32 := 9#32
  let v13015 : BitVec 32 := Scalar.addi v12869 c9_i32_5042
  let v13018 : Index := Scalar.indexCast v13015
  ![v13018.toNat]
def k0_off261 (k0_t1 : Fin k0_t1_loop.trips) (v12869 : BitVec 32) (v12872 : BitVec 32) (v13019 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_5043 : BitVec 32 := 9#32
  let v13016 : BitVec 32 := Scalar.addi v12869 c9_i32_5043
  let v13017 : BitVec 1 := Scalar.cmpi .slt v13016 v12872
  let c65535_i32_5044 : BitVec 32 := 65535#32
  let v13020 : BitVec 32 := Scalar.andi v13019 c65535_i32_5044
  let c2048_i32_5045 : BitVec 32 := 2048#32
  let v13021 : BitVec 32 := Scalar.select v13017 v13020 c2048_i32_5045
  let v13022 : BitVec 32 := Scalar.addi v11087 v13021
  let v13025 : Index := Scalar.indexCast v13022
  let c0_5047 : Index := 0#32
  ![v13025.toNat, 0]

def k0_chk130 (i : grid0.Coords) (k0_t1 : Fin k0_t1_loop.trips) (v12869 : BitVec 32) (v12872 : BitVec 32) (v13019 : BitVec 32) : Prop :=
  (∀ (k0_h1 : k0_cond1 i = 1#1), ∀ a, (k0_off261 k0_t1 v12869 v12872 v13019) a + S1x128.size a ≤ S8224x128.size a)
theorem k0_off261_inb : ∀ (i : grid0.Coords) (k0_t1 : Fin k0_t1_loop.trips) (v12869 : BitVec 32) (v12872 : BitVec 32) (v13019 : BitVec 32) (k0_hw130 : k0_chk130 i k0_t1 v12869 v12872 v13019), ∀ (k0_h1 : k0_cond1 i = 1#1), ∀ a, (k0_off261 k0_t1 v12869 v12872 v13019) a + S1x128.size a ≤ S8224x128.size a := fun i k0_t1 v12869 v12872 v13019 k0_hw130 k0_h1 => k0_hw130 k0_h1

def k0_off262 (v12869 : BitVec 32) : Fin 1 → Nat :=
  let c10_i32_5048 : BitVec 32 := 10#32
  let v13030 : BitVec 32 := Scalar.addi v12869 c10_i32_5048
  let v13033 : Index := Scalar.indexCast v13030
  ![v13033.toNat]
def k0_off263 (k0_t1 : Fin k0_t1_loop.trips) (v12869 : BitVec 32) (v12872 : BitVec 32) (v13034 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_5049 : BitVec 32 := 10#32
  let v13031 : BitVec 32 := Scalar.addi v12869 c10_i32_5049
  let v13032 : BitVec 1 := Scalar.cmpi .slt v13031 v12872
  let c65535_i32_5050 : BitVec 32 := 65535#32
  let v13035 : BitVec 32 := Scalar.andi v13034 c65535_i32_5050
  let c2048_i32_5051 : BitVec 32 := 2048#32
  let v13036 : BitVec 32 := Scalar.select v13032 v13035 c2048_i32_5051
  let v13037 : BitVec 32 := Scalar.addi v11087 v13036
  let v13040 : Index := Scalar.indexCast v13037
  let c0_5053 : Index := 0#32
  ![v13040.toNat, 0]

def k0_chk131 (i : grid0.Coords) (k0_t1 : Fin k0_t1_loop.trips) (v12869 : BitVec 32) (v12872 : BitVec 32) (v13034 : BitVec 32) : Prop :=
  (∀ (k0_h1 : k0_cond1 i = 1#1), ∀ a, (k0_off263 k0_t1 v12869 v12872 v13034) a + S1x128.size a ≤ S8224x128.size a)
theorem k0_off263_inb : ∀ (i : grid0.Coords) (k0_t1 : Fin k0_t1_loop.trips) (v12869 : BitVec 32) (v12872 : BitVec 32) (v13034 : BitVec 32) (k0_hw131 : k0_chk131 i k0_t1 v12869 v12872 v13034), ∀ (k0_h1 : k0_cond1 i = 1#1), ∀ a, (k0_off263 k0_t1 v12869 v12872 v13034) a + S1x128.size a ≤ S8224x128.size a := fun i k0_t1 v12869 v12872 v13034 k0_hw131 k0_h1 => k0_hw131 k0_h1

def k0_off264 (v12869 : BitVec 32) : Fin 1 → Nat :=
  let c11_i32_5054 : BitVec 32 := 11#32
  let v13045 : BitVec 32 := Scalar.addi v12869 c11_i32_5054
  let v13048 : Index := Scalar.indexCast v13045
  ![v13048.toNat]
def k0_off265 (k0_t1 : Fin k0_t1_loop.trips) (v12869 : BitVec 32) (v12872 : BitVec 32) (v13049 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_5055 : BitVec 32 := 11#32
  let v13046 : BitVec 32 := Scalar.addi v12869 c11_i32_5055
  let v13047 : BitVec 1 := Scalar.cmpi .slt v13046 v12872
  let c65535_i32_5056 : BitVec 32 := 65535#32
  let v13050 : BitVec 32 := Scalar.andi v13049 c65535_i32_5056
  let c2048_i32_5057 : BitVec 32 := 2048#32
  let v13051 : BitVec 32 := Scalar.select v13047 v13050 c2048_i32_5057
  let v13052 : BitVec 32 := Scalar.addi v11087 v13051
  let v13055 : Index := Scalar.indexCast v13052
  let c0_5059 : Index := 0#32
  ![v13055.toNat, 0]

def k0_chk132 (i : grid0.Coords) (k0_t1 : Fin k0_t1_loop.trips) (v12869 : BitVec 32) (v12872 : BitVec 32) (v13049 : BitVec 32) : Prop :=
  (∀ (k0_h1 : k0_cond1 i = 1#1), ∀ a, (k0_off265 k0_t1 v12869 v12872 v13049) a + S1x128.size a ≤ S8224x128.size a)
theorem k0_off265_inb : ∀ (i : grid0.Coords) (k0_t1 : Fin k0_t1_loop.trips) (v12869 : BitVec 32) (v12872 : BitVec 32) (v13049 : BitVec 32) (k0_hw132 : k0_chk132 i k0_t1 v12869 v12872 v13049), ∀ (k0_h1 : k0_cond1 i = 1#1), ∀ a, (k0_off265 k0_t1 v12869 v12872 v13049) a + S1x128.size a ≤ S8224x128.size a := fun i k0_t1 v12869 v12872 v13049 k0_hw132 k0_h1 => k0_hw132 k0_h1

def k0_off266 (v12869 : BitVec 32) : Fin 1 → Nat :=
  let c12_i32_5060 : BitVec 32 := 12#32
  let v13060 : BitVec 32 := Scalar.addi v12869 c12_i32_5060
  let v13063 : Index := Scalar.indexCast v13060
  ![v13063.toNat]
def k0_off267 (k0_t1 : Fin k0_t1_loop.trips) (v12869 : BitVec 32) (v12872 : BitVec 32) (v13064 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_5061 : BitVec 32 := 12#32
  let v13061 : BitVec 32 := Scalar.addi v12869 c12_i32_5061
  let v13062 : BitVec 1 := Scalar.cmpi .slt v13061 v12872
  let c65535_i32_5062 : BitVec 32 := 65535#32
  let v13065 : BitVec 32 := Scalar.andi v13064 c65535_i32_5062
  let c2048_i32_5063 : BitVec 32 := 2048#32
  let v13066 : BitVec 32 := Scalar.select v13062 v13065 c2048_i32_5063
  let v13067 : BitVec 32 := Scalar.addi v11087 v13066
  let v13070 : Index := Scalar.indexCast v13067
  let c0_5065 : Index := 0#32
  ![v13070.toNat, 0]

def k0_chk133 (i : grid0.Coords) (k0_t1 : Fin k0_t1_loop.trips) (v12869 : BitVec 32) (v12872 : BitVec 32) (v13064 : BitVec 32) : Prop :=
  (∀ (k0_h1 : k0_cond1 i = 1#1), ∀ a, (k0_off267 k0_t1 v12869 v12872 v13064) a + S1x128.size a ≤ S8224x128.size a)
theorem k0_off267_inb : ∀ (i : grid0.Coords) (k0_t1 : Fin k0_t1_loop.trips) (v12869 : BitVec 32) (v12872 : BitVec 32) (v13064 : BitVec 32) (k0_hw133 : k0_chk133 i k0_t1 v12869 v12872 v13064), ∀ (k0_h1 : k0_cond1 i = 1#1), ∀ a, (k0_off267 k0_t1 v12869 v12872 v13064) a + S1x128.size a ≤ S8224x128.size a := fun i k0_t1 v12869 v12872 v13064 k0_hw133 k0_h1 => k0_hw133 k0_h1

def k0_off268 (v12869 : BitVec 32) : Fin 1 → Nat :=
  let c13_i32_5066 : BitVec 32 := 13#32
  let v13075 : BitVec 32 := Scalar.addi v12869 c13_i32_5066
  let v13078 : Index := Scalar.indexCast v13075
  ![v13078.toNat]
def k0_off269 (k0_t1 : Fin k0_t1_loop.trips) (v12869 : BitVec 32) (v12872 : BitVec 32) (v13079 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_5067 : BitVec 32 := 13#32
  let v13076 : BitVec 32 := Scalar.addi v12869 c13_i32_5067
  let v13077 : BitVec 1 := Scalar.cmpi .slt v13076 v12872
  let c65535_i32_5068 : BitVec 32 := 65535#32
  let v13080 : BitVec 32 := Scalar.andi v13079 c65535_i32_5068
  let c2048_i32_5069 : BitVec 32 := 2048#32
  let v13081 : BitVec 32 := Scalar.select v13077 v13080 c2048_i32_5069
  let v13082 : BitVec 32 := Scalar.addi v11087 v13081
  let v13085 : Index := Scalar.indexCast v13082
  let c0_5071 : Index := 0#32
  ![v13085.toNat, 0]

def k0_chk134 (i : grid0.Coords) (k0_t1 : Fin k0_t1_loop.trips) (v12869 : BitVec 32) (v12872 : BitVec 32) (v13079 : BitVec 32) : Prop :=
  (∀ (k0_h1 : k0_cond1 i = 1#1), ∀ a, (k0_off269 k0_t1 v12869 v12872 v13079) a + S1x128.size a ≤ S8224x128.size a)
theorem k0_off269_inb : ∀ (i : grid0.Coords) (k0_t1 : Fin k0_t1_loop.trips) (v12869 : BitVec 32) (v12872 : BitVec 32) (v13079 : BitVec 32) (k0_hw134 : k0_chk134 i k0_t1 v12869 v12872 v13079), ∀ (k0_h1 : k0_cond1 i = 1#1), ∀ a, (k0_off269 k0_t1 v12869 v12872 v13079) a + S1x128.size a ≤ S8224x128.size a := fun i k0_t1 v12869 v12872 v13079 k0_hw134 k0_h1 => k0_hw134 k0_h1

def k0_off270 (v12869 : BitVec 32) : Fin 1 → Nat :=
  let c14_i32_5072 : BitVec 32 := 14#32
  let v13090 : BitVec 32 := Scalar.addi v12869 c14_i32_5072
  let v13093 : Index := Scalar.indexCast v13090
  ![v13093.toNat]
def k0_off271 (k0_t1 : Fin k0_t1_loop.trips) (v12869 : BitVec 32) (v12872 : BitVec 32) (v13094 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_5073 : BitVec 32 := 14#32
  let v13091 : BitVec 32 := Scalar.addi v12869 c14_i32_5073
  let v13092 : BitVec 1 := Scalar.cmpi .slt v13091 v12872
  let c65535_i32_5074 : BitVec 32 := 65535#32
  let v13095 : BitVec 32 := Scalar.andi v13094 c65535_i32_5074
  let c2048_i32_5075 : BitVec 32 := 2048#32
  let v13096 : BitVec 32 := Scalar.select v13092 v13095 c2048_i32_5075
  let v13097 : BitVec 32 := Scalar.addi v11087 v13096
  let v13100 : Index := Scalar.indexCast v13097
  let c0_5077 : Index := 0#32
  ![v13100.toNat, 0]

def k0_chk135 (i : grid0.Coords) (k0_t1 : Fin k0_t1_loop.trips) (v12869 : BitVec 32) (v12872 : BitVec 32) (v13094 : BitVec 32) : Prop :=
  (∀ (k0_h1 : k0_cond1 i = 1#1), ∀ a, (k0_off271 k0_t1 v12869 v12872 v13094) a + S1x128.size a ≤ S8224x128.size a)
theorem k0_off271_inb : ∀ (i : grid0.Coords) (k0_t1 : Fin k0_t1_loop.trips) (v12869 : BitVec 32) (v12872 : BitVec 32) (v13094 : BitVec 32) (k0_hw135 : k0_chk135 i k0_t1 v12869 v12872 v13094), ∀ (k0_h1 : k0_cond1 i = 1#1), ∀ a, (k0_off271 k0_t1 v12869 v12872 v13094) a + S1x128.size a ≤ S8224x128.size a := fun i k0_t1 v12869 v12872 v13094 k0_hw135 k0_h1 => k0_hw135 k0_h1

def k0_off272 (v12869 : BitVec 32) : Fin 1 → Nat :=
  let c15_i32_5078 : BitVec 32 := 15#32
  let v13105 : BitVec 32 := Scalar.addi v12869 c15_i32_5078
  let v13108 : Index := Scalar.indexCast v13105
  ![v13108.toNat]

def k0_chk120 (i : grid0.Coords) (v12869 : BitVec 32) : Prop :=
  (∀ (k0_h1 : k0_cond1 i = 1#1), ∀ a, (k0_off242 v12869) a + S1.size a ≤ S51920.size a) ∧
  (∀ (k0_h1 : k0_cond1 i = 1#1), ∀ a, (k0_off244 v12869) a + S1.size a ≤ S51920.size a) ∧
  (∀ (k0_h1 : k0_cond1 i = 1#1), ∀ a, (k0_off246 v12869) a + S1.size a ≤ S51920.size a) ∧
  (∀ (k0_h1 : k0_cond1 i = 1#1), ∀ a, (k0_off248 v12869) a + S1.size a ≤ S51920.size a) ∧
  (∀ (k0_h1 : k0_cond1 i = 1#1), ∀ a, (k0_off250 v12869) a + S1.size a ≤ S51920.size a) ∧
  (∀ (k0_h1 : k0_cond1 i = 1#1), ∀ a, (k0_off252 v12869) a + S1.size a ≤ S51920.size a) ∧
  (∀ (k0_h1 : k0_cond1 i = 1#1), ∀ a, (k0_off254 v12869) a + S1.size a ≤ S51920.size a) ∧
  (∀ (k0_h1 : k0_cond1 i = 1#1), ∀ a, (k0_off256 v12869) a + S1.size a ≤ S51920.size a) ∧
  (∀ (k0_h1 : k0_cond1 i = 1#1), ∀ a, (k0_off258 v12869) a + S1.size a ≤ S51920.size a) ∧
  (∀ (k0_h1 : k0_cond1 i = 1#1), ∀ a, (k0_off260 v12869) a + S1.size a ≤ S51920.size a) ∧
  (∀ (k0_h1 : k0_cond1 i = 1#1), ∀ a, (k0_off262 v12869) a + S1.size a ≤ S51920.size a) ∧
  (∀ (k0_h1 : k0_cond1 i = 1#1), ∀ a, (k0_off264 v12869) a + S1.size a ≤ S51920.size a) ∧
  (∀ (k0_h1 : k0_cond1 i = 1#1), ∀ a, (k0_off266 v12869) a + S1.size a ≤ S51920.size a) ∧
  (∀ (k0_h1 : k0_cond1 i = 1#1), ∀ a, (k0_off268 v12869) a + S1.size a ≤ S51920.size a) ∧
  (∀ (k0_h1 : k0_cond1 i = 1#1), ∀ a, (k0_off270 v12869) a + S1.size a ≤ S51920.size a) ∧
  (∀ (k0_h1 : k0_cond1 i = 1#1), ∀ a, (k0_off272 v12869) a + S1.size a ≤ S51920.size a)
theorem k0_off242_inb : ∀ (i : grid0.Coords) (v12869 : BitVec 32) (k0_hw120 : k0_chk120 i v12869), ∀ (k0_h1 : k0_cond1 i = 1#1), ∀ a, (k0_off242 v12869) a + S1.size a ≤ S51920.size a := fun i v12869 k0_hw120 k0_h1 => k0_hw120.1 k0_h1
theorem k0_off244_inb : ∀ (i : grid0.Coords) (v12869 : BitVec 32) (k0_hw120 : k0_chk120 i v12869), ∀ (k0_h1 : k0_cond1 i = 1#1), ∀ a, (k0_off244 v12869) a + S1.size a ≤ S51920.size a := fun i v12869 k0_hw120 k0_h1 => k0_hw120.2.1 k0_h1
theorem k0_off246_inb : ∀ (i : grid0.Coords) (v12869 : BitVec 32) (k0_hw120 : k0_chk120 i v12869), ∀ (k0_h1 : k0_cond1 i = 1#1), ∀ a, (k0_off246 v12869) a + S1.size a ≤ S51920.size a := fun i v12869 k0_hw120 k0_h1 => k0_hw120.2.2.1 k0_h1
theorem k0_off248_inb : ∀ (i : grid0.Coords) (v12869 : BitVec 32) (k0_hw120 : k0_chk120 i v12869), ∀ (k0_h1 : k0_cond1 i = 1#1), ∀ a, (k0_off248 v12869) a + S1.size a ≤ S51920.size a := fun i v12869 k0_hw120 k0_h1 => k0_hw120.2.2.2.1 k0_h1
theorem k0_off250_inb : ∀ (i : grid0.Coords) (v12869 : BitVec 32) (k0_hw120 : k0_chk120 i v12869), ∀ (k0_h1 : k0_cond1 i = 1#1), ∀ a, (k0_off250 v12869) a + S1.size a ≤ S51920.size a := fun i v12869 k0_hw120 k0_h1 => k0_hw120.2.2.2.2.1 k0_h1
theorem k0_off252_inb : ∀ (i : grid0.Coords) (v12869 : BitVec 32) (k0_hw120 : k0_chk120 i v12869), ∀ (k0_h1 : k0_cond1 i = 1#1), ∀ a, (k0_off252 v12869) a + S1.size a ≤ S51920.size a := fun i v12869 k0_hw120 k0_h1 => k0_hw120.2.2.2.2.2.1 k0_h1
theorem k0_off254_inb : ∀ (i : grid0.Coords) (v12869 : BitVec 32) (k0_hw120 : k0_chk120 i v12869), ∀ (k0_h1 : k0_cond1 i = 1#1), ∀ a, (k0_off254 v12869) a + S1.size a ≤ S51920.size a := fun i v12869 k0_hw120 k0_h1 => k0_hw120.2.2.2.2.2.2.1 k0_h1
theorem k0_off256_inb : ∀ (i : grid0.Coords) (v12869 : BitVec 32) (k0_hw120 : k0_chk120 i v12869), ∀ (k0_h1 : k0_cond1 i = 1#1), ∀ a, (k0_off256 v12869) a + S1.size a ≤ S51920.size a := fun i v12869 k0_hw120 k0_h1 => k0_hw120.2.2.2.2.2.2.2.1 k0_h1
theorem k0_off258_inb : ∀ (i : grid0.Coords) (v12869 : BitVec 32) (k0_hw120 : k0_chk120 i v12869), ∀ (k0_h1 : k0_cond1 i = 1#1), ∀ a, (k0_off258 v12869) a + S1.size a ≤ S51920.size a := fun i v12869 k0_hw120 k0_h1 => k0_hw120.2.2.2.2.2.2.2.2.1 k0_h1
theorem k0_off260_inb : ∀ (i : grid0.Coords) (v12869 : BitVec 32) (k0_hw120 : k0_chk120 i v12869), ∀ (k0_h1 : k0_cond1 i = 1#1), ∀ a, (k0_off260 v12869) a + S1.size a ≤ S51920.size a := fun i v12869 k0_hw120 k0_h1 => k0_hw120.2.2.2.2.2.2.2.2.2.1 k0_h1
theorem k0_off262_inb : ∀ (i : grid0.Coords) (v12869 : BitVec 32) (k0_hw120 : k0_chk120 i v12869), ∀ (k0_h1 : k0_cond1 i = 1#1), ∀ a, (k0_off262 v12869) a + S1.size a ≤ S51920.size a := fun i v12869 k0_hw120 k0_h1 => k0_hw120.2.2.2.2.2.2.2.2.2.2.1 k0_h1
theorem k0_off264_inb : ∀ (i : grid0.Coords) (v12869 : BitVec 32) (k0_hw120 : k0_chk120 i v12869), ∀ (k0_h1 : k0_cond1 i = 1#1), ∀ a, (k0_off264 v12869) a + S1.size a ≤ S51920.size a := fun i v12869 k0_hw120 k0_h1 => k0_hw120.2.2.2.2.2.2.2.2.2.2.2.1 k0_h1
theorem k0_off266_inb : ∀ (i : grid0.Coords) (v12869 : BitVec 32) (k0_hw120 : k0_chk120 i v12869), ∀ (k0_h1 : k0_cond1 i = 1#1), ∀ a, (k0_off266 v12869) a + S1.size a ≤ S51920.size a := fun i v12869 k0_hw120 k0_h1 => k0_hw120.2.2.2.2.2.2.2.2.2.2.2.2.1 k0_h1
theorem k0_off268_inb : ∀ (i : grid0.Coords) (v12869 : BitVec 32) (k0_hw120 : k0_chk120 i v12869), ∀ (k0_h1 : k0_cond1 i = 1#1), ∀ a, (k0_off268 v12869) a + S1.size a ≤ S51920.size a := fun i v12869 k0_hw120 k0_h1 => k0_hw120.2.2.2.2.2.2.2.2.2.2.2.2.2.1 k0_h1
theorem k0_off270_inb : ∀ (i : grid0.Coords) (v12869 : BitVec 32) (k0_hw120 : k0_chk120 i v12869), ∀ (k0_h1 : k0_cond1 i = 1#1), ∀ a, (k0_off270 v12869) a + S1.size a ≤ S51920.size a := fun i v12869 k0_hw120 k0_h1 => k0_hw120.2.2.2.2.2.2.2.2.2.2.2.2.2.2.1 k0_h1
theorem k0_off272_inb : ∀ (i : grid0.Coords) (v12869 : BitVec 32) (k0_hw120 : k0_chk120 i v12869), ∀ (k0_h1 : k0_cond1 i = 1#1), ∀ a, (k0_off272 v12869) a + S1.size a ≤ S51920.size a := fun i v12869 k0_hw120 k0_h1 => k0_hw120.2.2.2.2.2.2.2.2.2.2.2.2.2.2.2 k0_h1

def k0_off273 (k0_t1 : Fin k0_t1_loop.trips) (v12869 : BitVec 32) (v12872 : BitVec 32) (v13109 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_5079 : BitVec 32 := 15#32
  let v13106 : BitVec 32 := Scalar.addi v12869 c15_i32_5079
  let v13107 : BitVec 1 := Scalar.cmpi .slt v13106 v12872
  let c65535_i32_5080 : BitVec 32 := 65535#32
  let v13110 : BitVec 32 := Scalar.andi v13109 c65535_i32_5080
  let c2048_i32_5081 : BitVec 32 := 2048#32
  let v13111 : BitVec 32 := Scalar.select v13107 v13110 c2048_i32_5081
  let v13112 : BitVec 32 := Scalar.addi v11087 v13111
  let v13115 : Index := Scalar.indexCast v13112
  let c0_5083 : Index := 0#32
  ![v13115.toNat, 0]

def k0_chk136 (i : grid0.Coords) (k0_t1 : Fin k0_t1_loop.trips) (v12869 : BitVec 32) (v12872 : BitVec 32) (v13109 : BitVec 32) : Prop :=
  (∀ (k0_h1 : k0_cond1 i = 1#1), ∀ a, (k0_off273 k0_t1 v12869 v12872 v13109) a + S1x128.size a ≤ S8224x128.size a)
theorem k0_off273_inb : ∀ (i : grid0.Coords) (k0_t1 : Fin k0_t1_loop.trips) (v12869 : BitVec 32) (v12872 : BitVec 32) (v13109 : BitVec 32) (k0_hw136 : k0_chk136 i k0_t1 v12869 v12872 v13109), ∀ (k0_h1 : k0_cond1 i = 1#1), ∀ a, (k0_off273 k0_t1 v12869 v12872 v13109) a + S1x128.size a ≤ S8224x128.size a := fun i k0_t1 v12869 v12872 v13109 k0_hw136 k0_h1 => k0_hw136 k0_h1

def k0_off274 (k0_t1 : Fin k0_t1_loop.trips) : Fin 1 → Nat :=
  let c0_i32_5084 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v13120 : BitVec 32 := Scalar.addi c0_i32_5084 v11069
  let c8_i32_5085 : BitVec 32 := 8#32
  let v13121 : BitVec 32 := Scalar.addi v13120 c8_i32_5085
  let v13122 : Index := Scalar.indexCast v13121
  ![v13122.toNat]
def k0_off275 (k0_t1 : Fin k0_t1_loop.trips) : Fin 1 → Nat :=
  let c0_i32_5084 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v13120 : BitVec 32 := Scalar.addi c0_i32_5084 v11069
  let c8_i32_5085 : BitVec 32 := 8#32
  let v13121 : BitVec 32 := Scalar.addi v13120 c8_i32_5085
  let c1_i32_5086 : BitVec 32 := 1#32
  let v13124 : BitVec 32 := Scalar.addi v13121 c1_i32_5086
  let v13125 : Index := Scalar.indexCast v13124
  ![v13125.toNat]
def k0_off276 (v13123 : BitVec 32) : Fin 1 → Nat :=
  let c0_i32_5089 : BitVec 32 := 0#32
  let v13134 : BitVec 32 := Scalar.addi v13123 c0_i32_5089
  let v13137 : Index := Scalar.indexCast v13134
  ![v13137.toNat]

def k0_off277 (k0_t1 : Fin k0_t1_loop.trips) (v13123 : BitVec 32) (v13126 : BitVec 32) (v13138 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_5090 : BitVec 32 := 0#32
  let v13135 : BitVec 32 := Scalar.addi v13123 c0_i32_5090
  let v13136 : BitVec 1 := Scalar.cmpi .slt v13135 v13126
  let c65535_i32_5091 : BitVec 32 := 65535#32
  let v13139 : BitVec 32 := Scalar.andi v13138 c65535_i32_5091
  let c2048_i32_5092 : BitVec 32 := 2048#32
  let v13140 : BitVec 32 := Scalar.select v13136 v13139 c2048_i32_5092
  let v13141 : BitVec 32 := Scalar.addi v11087 v13140
  let v13144 : Index := Scalar.indexCast v13141
  let c0_5094 : Index := 0#32
  ![v13144.toNat, 0]

def k0_chk138 (i : grid0.Coords) (k0_t1 : Fin k0_t1_loop.trips) (v13123 : BitVec 32) (v13126 : BitVec 32) (v13138 : BitVec 32) : Prop :=
  (∀ (k0_h1 : k0_cond1 i = 1#1), ∀ a, (k0_off277 k0_t1 v13123 v13126 v13138) a + S1x128.size a ≤ S8224x128.size a)
theorem k0_off277_inb : ∀ (i : grid0.Coords) (k0_t1 : Fin k0_t1_loop.trips) (v13123 : BitVec 32) (v13126 : BitVec 32) (v13138 : BitVec 32) (k0_hw138 : k0_chk138 i k0_t1 v13123 v13126 v13138), ∀ (k0_h1 : k0_cond1 i = 1#1), ∀ a, (k0_off277 k0_t1 v13123 v13126 v13138) a + S1x128.size a ≤ S8224x128.size a := fun i k0_t1 v13123 v13126 v13138 k0_hw138 k0_h1 => k0_hw138 k0_h1

def k0_off278 (v13123 : BitVec 32) : Fin 1 → Nat :=
  let c1_i32_5095 : BitVec 32 := 1#32
  let v13149 : BitVec 32 := Scalar.addi v13123 c1_i32_5095
  let v13152 : Index := Scalar.indexCast v13149
  ![v13152.toNat]
def k0_off279 (k0_t1 : Fin k0_t1_loop.trips) (v13123 : BitVec 32) (v13126 : BitVec 32) (v13153 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_5096 : BitVec 32 := 1#32
  let v13150 : BitVec 32 := Scalar.addi v13123 c1_i32_5096
  let v13151 : BitVec 1 := Scalar.cmpi .slt v13150 v13126
  let c65535_i32_5097 : BitVec 32 := 65535#32
  let v13154 : BitVec 32 := Scalar.andi v13153 c65535_i32_5097
  let c2048_i32_5098 : BitVec 32 := 2048#32
  let v13155 : BitVec 32 := Scalar.select v13151 v13154 c2048_i32_5098
  let v13156 : BitVec 32 := Scalar.addi v11087 v13155
  let v13159 : Index := Scalar.indexCast v13156
  let c0_5100 : Index := 0#32
  ![v13159.toNat, 0]

def k0_chk139 (i : grid0.Coords) (k0_t1 : Fin k0_t1_loop.trips) (v13123 : BitVec 32) (v13126 : BitVec 32) (v13153 : BitVec 32) : Prop :=
  (∀ (k0_h1 : k0_cond1 i = 1#1), ∀ a, (k0_off279 k0_t1 v13123 v13126 v13153) a + S1x128.size a ≤ S8224x128.size a)
theorem k0_off279_inb : ∀ (i : grid0.Coords) (k0_t1 : Fin k0_t1_loop.trips) (v13123 : BitVec 32) (v13126 : BitVec 32) (v13153 : BitVec 32) (k0_hw139 : k0_chk139 i k0_t1 v13123 v13126 v13153), ∀ (k0_h1 : k0_cond1 i = 1#1), ∀ a, (k0_off279 k0_t1 v13123 v13126 v13153) a + S1x128.size a ≤ S8224x128.size a := fun i k0_t1 v13123 v13126 v13153 k0_hw139 k0_h1 => k0_hw139 k0_h1

def k0_off280 (v13123 : BitVec 32) : Fin 1 → Nat :=
  let c2_i32_5101 : BitVec 32 := 2#32
  let v13164 : BitVec 32 := Scalar.addi v13123 c2_i32_5101
  let v13167 : Index := Scalar.indexCast v13164
  ![v13167.toNat]
def k0_off281 (k0_t1 : Fin k0_t1_loop.trips) (v13123 : BitVec 32) (v13126 : BitVec 32) (v13168 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_5102 : BitVec 32 := 2#32
  let v13165 : BitVec 32 := Scalar.addi v13123 c2_i32_5102
  let v13166 : BitVec 1 := Scalar.cmpi .slt v13165 v13126
  let c65535_i32_5103 : BitVec 32 := 65535#32
  let v13169 : BitVec 32 := Scalar.andi v13168 c65535_i32_5103
  let c2048_i32_5104 : BitVec 32 := 2048#32
  let v13170 : BitVec 32 := Scalar.select v13166 v13169 c2048_i32_5104
  let v13171 : BitVec 32 := Scalar.addi v11087 v13170
  let v13174 : Index := Scalar.indexCast v13171
  let c0_5106 : Index := 0#32
  ![v13174.toNat, 0]

def k0_chk140 (i : grid0.Coords) (k0_t1 : Fin k0_t1_loop.trips) (v13123 : BitVec 32) (v13126 : BitVec 32) (v13168 : BitVec 32) : Prop :=
  (∀ (k0_h1 : k0_cond1 i = 1#1), ∀ a, (k0_off281 k0_t1 v13123 v13126 v13168) a + S1x128.size a ≤ S8224x128.size a)
theorem k0_off281_inb : ∀ (i : grid0.Coords) (k0_t1 : Fin k0_t1_loop.trips) (v13123 : BitVec 32) (v13126 : BitVec 32) (v13168 : BitVec 32) (k0_hw140 : k0_chk140 i k0_t1 v13123 v13126 v13168), ∀ (k0_h1 : k0_cond1 i = 1#1), ∀ a, (k0_off281 k0_t1 v13123 v13126 v13168) a + S1x128.size a ≤ S8224x128.size a := fun i k0_t1 v13123 v13126 v13168 k0_hw140 k0_h1 => k0_hw140 k0_h1

def k0_off282 (v13123 : BitVec 32) : Fin 1 → Nat :=
  let c3_i32_5107 : BitVec 32 := 3#32
  let v13179 : BitVec 32 := Scalar.addi v13123 c3_i32_5107
  let v13182 : Index := Scalar.indexCast v13179
  ![v13182.toNat]
def k0_off283 (k0_t1 : Fin k0_t1_loop.trips) (v13123 : BitVec 32) (v13126 : BitVec 32) (v13183 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_5108 : BitVec 32 := 3#32
  let v13180 : BitVec 32 := Scalar.addi v13123 c3_i32_5108
  let v13181 : BitVec 1 := Scalar.cmpi .slt v13180 v13126
  let c65535_i32_5109 : BitVec 32 := 65535#32
  let v13184 : BitVec 32 := Scalar.andi v13183 c65535_i32_5109
  let c2048_i32_5110 : BitVec 32 := 2048#32
  let v13185 : BitVec 32 := Scalar.select v13181 v13184 c2048_i32_5110
  let v13186 : BitVec 32 := Scalar.addi v11087 v13185
  let v13189 : Index := Scalar.indexCast v13186
  let c0_5112 : Index := 0#32
  ![v13189.toNat, 0]

def k0_chk141 (i : grid0.Coords) (k0_t1 : Fin k0_t1_loop.trips) (v13123 : BitVec 32) (v13126 : BitVec 32) (v13183 : BitVec 32) : Prop :=
  (∀ (k0_h1 : k0_cond1 i = 1#1), ∀ a, (k0_off283 k0_t1 v13123 v13126 v13183) a + S1x128.size a ≤ S8224x128.size a)
theorem k0_off283_inb : ∀ (i : grid0.Coords) (k0_t1 : Fin k0_t1_loop.trips) (v13123 : BitVec 32) (v13126 : BitVec 32) (v13183 : BitVec 32) (k0_hw141 : k0_chk141 i k0_t1 v13123 v13126 v13183), ∀ (k0_h1 : k0_cond1 i = 1#1), ∀ a, (k0_off283 k0_t1 v13123 v13126 v13183) a + S1x128.size a ≤ S8224x128.size a := fun i k0_t1 v13123 v13126 v13183 k0_hw141 k0_h1 => k0_hw141 k0_h1

def k0_off284 (v13123 : BitVec 32) : Fin 1 → Nat :=
  let c4_i32_5113 : BitVec 32 := 4#32
  let v13194 : BitVec 32 := Scalar.addi v13123 c4_i32_5113
  let v13197 : Index := Scalar.indexCast v13194
  ![v13197.toNat]
def k0_off285 (k0_t1 : Fin k0_t1_loop.trips) (v13123 : BitVec 32) (v13126 : BitVec 32) (v13198 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_5114 : BitVec 32 := 4#32
  let v13195 : BitVec 32 := Scalar.addi v13123 c4_i32_5114
  let v13196 : BitVec 1 := Scalar.cmpi .slt v13195 v13126
  let c65535_i32_5115 : BitVec 32 := 65535#32
  let v13199 : BitVec 32 := Scalar.andi v13198 c65535_i32_5115
  let c2048_i32_5116 : BitVec 32 := 2048#32
  let v13200 : BitVec 32 := Scalar.select v13196 v13199 c2048_i32_5116
  let v13201 : BitVec 32 := Scalar.addi v11087 v13200
  let v13204 : Index := Scalar.indexCast v13201
  let c0_5118 : Index := 0#32
  ![v13204.toNat, 0]

def k0_chk142 (i : grid0.Coords) (k0_t1 : Fin k0_t1_loop.trips) (v13123 : BitVec 32) (v13126 : BitVec 32) (v13198 : BitVec 32) : Prop :=
  (∀ (k0_h1 : k0_cond1 i = 1#1), ∀ a, (k0_off285 k0_t1 v13123 v13126 v13198) a + S1x128.size a ≤ S8224x128.size a)
theorem k0_off285_inb : ∀ (i : grid0.Coords) (k0_t1 : Fin k0_t1_loop.trips) (v13123 : BitVec 32) (v13126 : BitVec 32) (v13198 : BitVec 32) (k0_hw142 : k0_chk142 i k0_t1 v13123 v13126 v13198), ∀ (k0_h1 : k0_cond1 i = 1#1), ∀ a, (k0_off285 k0_t1 v13123 v13126 v13198) a + S1x128.size a ≤ S8224x128.size a := fun i k0_t1 v13123 v13126 v13198 k0_hw142 k0_h1 => k0_hw142 k0_h1

def k0_off286 (v13123 : BitVec 32) : Fin 1 → Nat :=
  let c5_i32_5119 : BitVec 32 := 5#32
  let v13209 : BitVec 32 := Scalar.addi v13123 c5_i32_5119
  let v13212 : Index := Scalar.indexCast v13209
  ![v13212.toNat]
def k0_off287 (k0_t1 : Fin k0_t1_loop.trips) (v13123 : BitVec 32) (v13126 : BitVec 32) (v13213 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_5120 : BitVec 32 := 5#32
  let v13210 : BitVec 32 := Scalar.addi v13123 c5_i32_5120
  let v13211 : BitVec 1 := Scalar.cmpi .slt v13210 v13126
  let c65535_i32_5121 : BitVec 32 := 65535#32
  let v13214 : BitVec 32 := Scalar.andi v13213 c65535_i32_5121
  let c2048_i32_5122 : BitVec 32 := 2048#32
  let v13215 : BitVec 32 := Scalar.select v13211 v13214 c2048_i32_5122
  let v13216 : BitVec 32 := Scalar.addi v11087 v13215
  let v13219 : Index := Scalar.indexCast v13216
  let c0_5124 : Index := 0#32
  ![v13219.toNat, 0]

def k0_chk143 (i : grid0.Coords) (k0_t1 : Fin k0_t1_loop.trips) (v13123 : BitVec 32) (v13126 : BitVec 32) (v13213 : BitVec 32) : Prop :=
  (∀ (k0_h1 : k0_cond1 i = 1#1), ∀ a, (k0_off287 k0_t1 v13123 v13126 v13213) a + S1x128.size a ≤ S8224x128.size a)
theorem k0_off287_inb : ∀ (i : grid0.Coords) (k0_t1 : Fin k0_t1_loop.trips) (v13123 : BitVec 32) (v13126 : BitVec 32) (v13213 : BitVec 32) (k0_hw143 : k0_chk143 i k0_t1 v13123 v13126 v13213), ∀ (k0_h1 : k0_cond1 i = 1#1), ∀ a, (k0_off287 k0_t1 v13123 v13126 v13213) a + S1x128.size a ≤ S8224x128.size a := fun i k0_t1 v13123 v13126 v13213 k0_hw143 k0_h1 => k0_hw143 k0_h1

def k0_off288 (v13123 : BitVec 32) : Fin 1 → Nat :=
  let c6_i32_5125 : BitVec 32 := 6#32
  let v13224 : BitVec 32 := Scalar.addi v13123 c6_i32_5125
  let v13227 : Index := Scalar.indexCast v13224
  ![v13227.toNat]
def k0_off289 (k0_t1 : Fin k0_t1_loop.trips) (v13123 : BitVec 32) (v13126 : BitVec 32) (v13228 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_5126 : BitVec 32 := 6#32
  let v13225 : BitVec 32 := Scalar.addi v13123 c6_i32_5126
  let v13226 : BitVec 1 := Scalar.cmpi .slt v13225 v13126
  let c65535_i32_5127 : BitVec 32 := 65535#32
  let v13229 : BitVec 32 := Scalar.andi v13228 c65535_i32_5127
  let c2048_i32_5128 : BitVec 32 := 2048#32
  let v13230 : BitVec 32 := Scalar.select v13226 v13229 c2048_i32_5128
  let v13231 : BitVec 32 := Scalar.addi v11087 v13230
  let v13234 : Index := Scalar.indexCast v13231
  let c0_5130 : Index := 0#32
  ![v13234.toNat, 0]

def k0_chk144 (i : grid0.Coords) (k0_t1 : Fin k0_t1_loop.trips) (v13123 : BitVec 32) (v13126 : BitVec 32) (v13228 : BitVec 32) : Prop :=
  (∀ (k0_h1 : k0_cond1 i = 1#1), ∀ a, (k0_off289 k0_t1 v13123 v13126 v13228) a + S1x128.size a ≤ S8224x128.size a)
theorem k0_off289_inb : ∀ (i : grid0.Coords) (k0_t1 : Fin k0_t1_loop.trips) (v13123 : BitVec 32) (v13126 : BitVec 32) (v13228 : BitVec 32) (k0_hw144 : k0_chk144 i k0_t1 v13123 v13126 v13228), ∀ (k0_h1 : k0_cond1 i = 1#1), ∀ a, (k0_off289 k0_t1 v13123 v13126 v13228) a + S1x128.size a ≤ S8224x128.size a := fun i k0_t1 v13123 v13126 v13228 k0_hw144 k0_h1 => k0_hw144 k0_h1

def k0_off290 (v13123 : BitVec 32) : Fin 1 → Nat :=
  let c7_i32_5131 : BitVec 32 := 7#32
  let v13239 : BitVec 32 := Scalar.addi v13123 c7_i32_5131
  let v13242 : Index := Scalar.indexCast v13239
  ![v13242.toNat]
def k0_off291 (k0_t1 : Fin k0_t1_loop.trips) (v13123 : BitVec 32) (v13126 : BitVec 32) (v13243 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_5132 : BitVec 32 := 7#32
  let v13240 : BitVec 32 := Scalar.addi v13123 c7_i32_5132
  let v13241 : BitVec 1 := Scalar.cmpi .slt v13240 v13126
  let c65535_i32_5133 : BitVec 32 := 65535#32
  let v13244 : BitVec 32 := Scalar.andi v13243 c65535_i32_5133
  let c2048_i32_5134 : BitVec 32 := 2048#32
  let v13245 : BitVec 32 := Scalar.select v13241 v13244 c2048_i32_5134
  let v13246 : BitVec 32 := Scalar.addi v11087 v13245
  let v13249 : Index := Scalar.indexCast v13246
  let c0_5136 : Index := 0#32
  ![v13249.toNat, 0]

def k0_chk145 (i : grid0.Coords) (k0_t1 : Fin k0_t1_loop.trips) (v13123 : BitVec 32) (v13126 : BitVec 32) (v13243 : BitVec 32) : Prop :=
  (∀ (k0_h1 : k0_cond1 i = 1#1), ∀ a, (k0_off291 k0_t1 v13123 v13126 v13243) a + S1x128.size a ≤ S8224x128.size a)
theorem k0_off291_inb : ∀ (i : grid0.Coords) (k0_t1 : Fin k0_t1_loop.trips) (v13123 : BitVec 32) (v13126 : BitVec 32) (v13243 : BitVec 32) (k0_hw145 : k0_chk145 i k0_t1 v13123 v13126 v13243), ∀ (k0_h1 : k0_cond1 i = 1#1), ∀ a, (k0_off291 k0_t1 v13123 v13126 v13243) a + S1x128.size a ≤ S8224x128.size a := fun i k0_t1 v13123 v13126 v13243 k0_hw145 k0_h1 => k0_hw145 k0_h1

def k0_off292 (v13123 : BitVec 32) : Fin 1 → Nat :=
  let c8_i32_5137 : BitVec 32 := 8#32
  let v13254 : BitVec 32 := Scalar.addi v13123 c8_i32_5137
  let v13257 : Index := Scalar.indexCast v13254
  ![v13257.toNat]
def k0_off293 (k0_t1 : Fin k0_t1_loop.trips) (v13123 : BitVec 32) (v13126 : BitVec 32) (v13258 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_5138 : BitVec 32 := 8#32
  let v13255 : BitVec 32 := Scalar.addi v13123 c8_i32_5138
  let v13256 : BitVec 1 := Scalar.cmpi .slt v13255 v13126
  let c65535_i32_5139 : BitVec 32 := 65535#32
  let v13259 : BitVec 32 := Scalar.andi v13258 c65535_i32_5139
  let c2048_i32_5140 : BitVec 32 := 2048#32
  let v13260 : BitVec 32 := Scalar.select v13256 v13259 c2048_i32_5140
  let v13261 : BitVec 32 := Scalar.addi v11087 v13260
  let v13264 : Index := Scalar.indexCast v13261
  let c0_5142 : Index := 0#32
  ![v13264.toNat, 0]

def k0_chk146 (i : grid0.Coords) (k0_t1 : Fin k0_t1_loop.trips) (v13123 : BitVec 32) (v13126 : BitVec 32) (v13258 : BitVec 32) : Prop :=
  (∀ (k0_h1 : k0_cond1 i = 1#1), ∀ a, (k0_off293 k0_t1 v13123 v13126 v13258) a + S1x128.size a ≤ S8224x128.size a)
theorem k0_off293_inb : ∀ (i : grid0.Coords) (k0_t1 : Fin k0_t1_loop.trips) (v13123 : BitVec 32) (v13126 : BitVec 32) (v13258 : BitVec 32) (k0_hw146 : k0_chk146 i k0_t1 v13123 v13126 v13258), ∀ (k0_h1 : k0_cond1 i = 1#1), ∀ a, (k0_off293 k0_t1 v13123 v13126 v13258) a + S1x128.size a ≤ S8224x128.size a := fun i k0_t1 v13123 v13126 v13258 k0_hw146 k0_h1 => k0_hw146 k0_h1

def k0_off294 (v13123 : BitVec 32) : Fin 1 → Nat :=
  let c9_i32_5143 : BitVec 32 := 9#32
  let v13269 : BitVec 32 := Scalar.addi v13123 c9_i32_5143
  let v13272 : Index := Scalar.indexCast v13269
  ![v13272.toNat]
def k0_off295 (k0_t1 : Fin k0_t1_loop.trips) (v13123 : BitVec 32) (v13126 : BitVec 32) (v13273 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_5144 : BitVec 32 := 9#32
  let v13270 : BitVec 32 := Scalar.addi v13123 c9_i32_5144
  let v13271 : BitVec 1 := Scalar.cmpi .slt v13270 v13126
  let c65535_i32_5145 : BitVec 32 := 65535#32
  let v13274 : BitVec 32 := Scalar.andi v13273 c65535_i32_5145
  let c2048_i32_5146 : BitVec 32 := 2048#32
  let v13275 : BitVec 32 := Scalar.select v13271 v13274 c2048_i32_5146
  let v13276 : BitVec 32 := Scalar.addi v11087 v13275
  let v13279 : Index := Scalar.indexCast v13276
  let c0_5148 : Index := 0#32
  ![v13279.toNat, 0]

def k0_chk147 (i : grid0.Coords) (k0_t1 : Fin k0_t1_loop.trips) (v13123 : BitVec 32) (v13126 : BitVec 32) (v13273 : BitVec 32) : Prop :=
  (∀ (k0_h1 : k0_cond1 i = 1#1), ∀ a, (k0_off295 k0_t1 v13123 v13126 v13273) a + S1x128.size a ≤ S8224x128.size a)
theorem k0_off295_inb : ∀ (i : grid0.Coords) (k0_t1 : Fin k0_t1_loop.trips) (v13123 : BitVec 32) (v13126 : BitVec 32) (v13273 : BitVec 32) (k0_hw147 : k0_chk147 i k0_t1 v13123 v13126 v13273), ∀ (k0_h1 : k0_cond1 i = 1#1), ∀ a, (k0_off295 k0_t1 v13123 v13126 v13273) a + S1x128.size a ≤ S8224x128.size a := fun i k0_t1 v13123 v13126 v13273 k0_hw147 k0_h1 => k0_hw147 k0_h1

def k0_off296 (v13123 : BitVec 32) : Fin 1 → Nat :=
  let c10_i32_5149 : BitVec 32 := 10#32
  let v13284 : BitVec 32 := Scalar.addi v13123 c10_i32_5149
  let v13287 : Index := Scalar.indexCast v13284
  ![v13287.toNat]
def k0_off297 (k0_t1 : Fin k0_t1_loop.trips) (v13123 : BitVec 32) (v13126 : BitVec 32) (v13288 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_5150 : BitVec 32 := 10#32
  let v13285 : BitVec 32 := Scalar.addi v13123 c10_i32_5150
  let v13286 : BitVec 1 := Scalar.cmpi .slt v13285 v13126
  let c65535_i32_5151 : BitVec 32 := 65535#32
  let v13289 : BitVec 32 := Scalar.andi v13288 c65535_i32_5151
  let c2048_i32_5152 : BitVec 32 := 2048#32
  let v13290 : BitVec 32 := Scalar.select v13286 v13289 c2048_i32_5152
  let v13291 : BitVec 32 := Scalar.addi v11087 v13290
  let v13294 : Index := Scalar.indexCast v13291
  let c0_5154 : Index := 0#32
  ![v13294.toNat, 0]

def k0_chk148 (i : grid0.Coords) (k0_t1 : Fin k0_t1_loop.trips) (v13123 : BitVec 32) (v13126 : BitVec 32) (v13288 : BitVec 32) : Prop :=
  (∀ (k0_h1 : k0_cond1 i = 1#1), ∀ a, (k0_off297 k0_t1 v13123 v13126 v13288) a + S1x128.size a ≤ S8224x128.size a)
theorem k0_off297_inb : ∀ (i : grid0.Coords) (k0_t1 : Fin k0_t1_loop.trips) (v13123 : BitVec 32) (v13126 : BitVec 32) (v13288 : BitVec 32) (k0_hw148 : k0_chk148 i k0_t1 v13123 v13126 v13288), ∀ (k0_h1 : k0_cond1 i = 1#1), ∀ a, (k0_off297 k0_t1 v13123 v13126 v13288) a + S1x128.size a ≤ S8224x128.size a := fun i k0_t1 v13123 v13126 v13288 k0_hw148 k0_h1 => k0_hw148 k0_h1

def k0_off298 (v13123 : BitVec 32) : Fin 1 → Nat :=
  let c11_i32_5155 : BitVec 32 := 11#32
  let v13299 : BitVec 32 := Scalar.addi v13123 c11_i32_5155
  let v13302 : Index := Scalar.indexCast v13299
  ![v13302.toNat]
def k0_off299 (k0_t1 : Fin k0_t1_loop.trips) (v13123 : BitVec 32) (v13126 : BitVec 32) (v13303 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_5156 : BitVec 32 := 11#32
  let v13300 : BitVec 32 := Scalar.addi v13123 c11_i32_5156
  let v13301 : BitVec 1 := Scalar.cmpi .slt v13300 v13126
  let c65535_i32_5157 : BitVec 32 := 65535#32
  let v13304 : BitVec 32 := Scalar.andi v13303 c65535_i32_5157
  let c2048_i32_5158 : BitVec 32 := 2048#32
  let v13305 : BitVec 32 := Scalar.select v13301 v13304 c2048_i32_5158
  let v13306 : BitVec 32 := Scalar.addi v11087 v13305
  let v13309 : Index := Scalar.indexCast v13306
  let c0_5160 : Index := 0#32
  ![v13309.toNat, 0]

def k0_chk149 (i : grid0.Coords) (k0_t1 : Fin k0_t1_loop.trips) (v13123 : BitVec 32) (v13126 : BitVec 32) (v13303 : BitVec 32) : Prop :=
  (∀ (k0_h1 : k0_cond1 i = 1#1), ∀ a, (k0_off299 k0_t1 v13123 v13126 v13303) a + S1x128.size a ≤ S8224x128.size a)
theorem k0_off299_inb : ∀ (i : grid0.Coords) (k0_t1 : Fin k0_t1_loop.trips) (v13123 : BitVec 32) (v13126 : BitVec 32) (v13303 : BitVec 32) (k0_hw149 : k0_chk149 i k0_t1 v13123 v13126 v13303), ∀ (k0_h1 : k0_cond1 i = 1#1), ∀ a, (k0_off299 k0_t1 v13123 v13126 v13303) a + S1x128.size a ≤ S8224x128.size a := fun i k0_t1 v13123 v13126 v13303 k0_hw149 k0_h1 => k0_hw149 k0_h1

def k0_off300 (v13123 : BitVec 32) : Fin 1 → Nat :=
  let c12_i32_5161 : BitVec 32 := 12#32
  let v13314 : BitVec 32 := Scalar.addi v13123 c12_i32_5161
  let v13317 : Index := Scalar.indexCast v13314
  ![v13317.toNat]
def k0_off301 (k0_t1 : Fin k0_t1_loop.trips) (v13123 : BitVec 32) (v13126 : BitVec 32) (v13318 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_5162 : BitVec 32 := 12#32
  let v13315 : BitVec 32 := Scalar.addi v13123 c12_i32_5162
  let v13316 : BitVec 1 := Scalar.cmpi .slt v13315 v13126
  let c65535_i32_5163 : BitVec 32 := 65535#32
  let v13319 : BitVec 32 := Scalar.andi v13318 c65535_i32_5163
  let c2048_i32_5164 : BitVec 32 := 2048#32
  let v13320 : BitVec 32 := Scalar.select v13316 v13319 c2048_i32_5164
  let v13321 : BitVec 32 := Scalar.addi v11087 v13320
  let v13324 : Index := Scalar.indexCast v13321
  let c0_5166 : Index := 0#32
  ![v13324.toNat, 0]

def k0_chk150 (i : grid0.Coords) (k0_t1 : Fin k0_t1_loop.trips) (v13123 : BitVec 32) (v13126 : BitVec 32) (v13318 : BitVec 32) : Prop :=
  (∀ (k0_h1 : k0_cond1 i = 1#1), ∀ a, (k0_off301 k0_t1 v13123 v13126 v13318) a + S1x128.size a ≤ S8224x128.size a)
theorem k0_off301_inb : ∀ (i : grid0.Coords) (k0_t1 : Fin k0_t1_loop.trips) (v13123 : BitVec 32) (v13126 : BitVec 32) (v13318 : BitVec 32) (k0_hw150 : k0_chk150 i k0_t1 v13123 v13126 v13318), ∀ (k0_h1 : k0_cond1 i = 1#1), ∀ a, (k0_off301 k0_t1 v13123 v13126 v13318) a + S1x128.size a ≤ S8224x128.size a := fun i k0_t1 v13123 v13126 v13318 k0_hw150 k0_h1 => k0_hw150 k0_h1

def k0_off302 (v13123 : BitVec 32) : Fin 1 → Nat :=
  let c13_i32_5167 : BitVec 32 := 13#32
  let v13329 : BitVec 32 := Scalar.addi v13123 c13_i32_5167
  let v13332 : Index := Scalar.indexCast v13329
  ![v13332.toNat]
def k0_off303 (k0_t1 : Fin k0_t1_loop.trips) (v13123 : BitVec 32) (v13126 : BitVec 32) (v13333 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_5168 : BitVec 32 := 13#32
  let v13330 : BitVec 32 := Scalar.addi v13123 c13_i32_5168
  let v13331 : BitVec 1 := Scalar.cmpi .slt v13330 v13126
  let c65535_i32_5169 : BitVec 32 := 65535#32
  let v13334 : BitVec 32 := Scalar.andi v13333 c65535_i32_5169
  let c2048_i32_5170 : BitVec 32 := 2048#32
  let v13335 : BitVec 32 := Scalar.select v13331 v13334 c2048_i32_5170
  let v13336 : BitVec 32 := Scalar.addi v11087 v13335
  let v13339 : Index := Scalar.indexCast v13336
  let c0_5172 : Index := 0#32
  ![v13339.toNat, 0]

def k0_chk151 (i : grid0.Coords) (k0_t1 : Fin k0_t1_loop.trips) (v13123 : BitVec 32) (v13126 : BitVec 32) (v13333 : BitVec 32) : Prop :=
  (∀ (k0_h1 : k0_cond1 i = 1#1), ∀ a, (k0_off303 k0_t1 v13123 v13126 v13333) a + S1x128.size a ≤ S8224x128.size a)
theorem k0_off303_inb : ∀ (i : grid0.Coords) (k0_t1 : Fin k0_t1_loop.trips) (v13123 : BitVec 32) (v13126 : BitVec 32) (v13333 : BitVec 32) (k0_hw151 : k0_chk151 i k0_t1 v13123 v13126 v13333), ∀ (k0_h1 : k0_cond1 i = 1#1), ∀ a, (k0_off303 k0_t1 v13123 v13126 v13333) a + S1x128.size a ≤ S8224x128.size a := fun i k0_t1 v13123 v13126 v13333 k0_hw151 k0_h1 => k0_hw151 k0_h1

def k0_off304 (v13123 : BitVec 32) : Fin 1 → Nat :=
  let c14_i32_5173 : BitVec 32 := 14#32
  let v13344 : BitVec 32 := Scalar.addi v13123 c14_i32_5173
  let v13347 : Index := Scalar.indexCast v13344
  ![v13347.toNat]
def k0_off305 (k0_t1 : Fin k0_t1_loop.trips) (v13123 : BitVec 32) (v13126 : BitVec 32) (v13348 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_5174 : BitVec 32 := 14#32
  let v13345 : BitVec 32 := Scalar.addi v13123 c14_i32_5174
  let v13346 : BitVec 1 := Scalar.cmpi .slt v13345 v13126
  let c65535_i32_5175 : BitVec 32 := 65535#32
  let v13349 : BitVec 32 := Scalar.andi v13348 c65535_i32_5175
  let c2048_i32_5176 : BitVec 32 := 2048#32
  let v13350 : BitVec 32 := Scalar.select v13346 v13349 c2048_i32_5176
  let v13351 : BitVec 32 := Scalar.addi v11087 v13350
  let v13354 : Index := Scalar.indexCast v13351
  let c0_5178 : Index := 0#32
  ![v13354.toNat, 0]

def k0_chk152 (i : grid0.Coords) (k0_t1 : Fin k0_t1_loop.trips) (v13123 : BitVec 32) (v13126 : BitVec 32) (v13348 : BitVec 32) : Prop :=
  (∀ (k0_h1 : k0_cond1 i = 1#1), ∀ a, (k0_off305 k0_t1 v13123 v13126 v13348) a + S1x128.size a ≤ S8224x128.size a)
theorem k0_off305_inb : ∀ (i : grid0.Coords) (k0_t1 : Fin k0_t1_loop.trips) (v13123 : BitVec 32) (v13126 : BitVec 32) (v13348 : BitVec 32) (k0_hw152 : k0_chk152 i k0_t1 v13123 v13126 v13348), ∀ (k0_h1 : k0_cond1 i = 1#1), ∀ a, (k0_off305 k0_t1 v13123 v13126 v13348) a + S1x128.size a ≤ S8224x128.size a := fun i k0_t1 v13123 v13126 v13348 k0_hw152 k0_h1 => k0_hw152 k0_h1

def k0_off306 (v13123 : BitVec 32) : Fin 1 → Nat :=
  let c15_i32_5179 : BitVec 32 := 15#32
  let v13359 : BitVec 32 := Scalar.addi v13123 c15_i32_5179
  let v13362 : Index := Scalar.indexCast v13359
  ![v13362.toNat]

def k0_chk137 (i : grid0.Coords) (v13123 : BitVec 32) : Prop :=
  (∀ (k0_h1 : k0_cond1 i = 1#1), ∀ a, (k0_off276 v13123) a + S1.size a ≤ S51920.size a) ∧
  (∀ (k0_h1 : k0_cond1 i = 1#1), ∀ a, (k0_off278 v13123) a + S1.size a ≤ S51920.size a) ∧
  (∀ (k0_h1 : k0_cond1 i = 1#1), ∀ a, (k0_off280 v13123) a + S1.size a ≤ S51920.size a) ∧
  (∀ (k0_h1 : k0_cond1 i = 1#1), ∀ a, (k0_off282 v13123) a + S1.size a ≤ S51920.size a) ∧
  (∀ (k0_h1 : k0_cond1 i = 1#1), ∀ a, (k0_off284 v13123) a + S1.size a ≤ S51920.size a) ∧
  (∀ (k0_h1 : k0_cond1 i = 1#1), ∀ a, (k0_off286 v13123) a + S1.size a ≤ S51920.size a) ∧
  (∀ (k0_h1 : k0_cond1 i = 1#1), ∀ a, (k0_off288 v13123) a + S1.size a ≤ S51920.size a) ∧
  (∀ (k0_h1 : k0_cond1 i = 1#1), ∀ a, (k0_off290 v13123) a + S1.size a ≤ S51920.size a) ∧
  (∀ (k0_h1 : k0_cond1 i = 1#1), ∀ a, (k0_off292 v13123) a + S1.size a ≤ S51920.size a) ∧
  (∀ (k0_h1 : k0_cond1 i = 1#1), ∀ a, (k0_off294 v13123) a + S1.size a ≤ S51920.size a) ∧
  (∀ (k0_h1 : k0_cond1 i = 1#1), ∀ a, (k0_off296 v13123) a + S1.size a ≤ S51920.size a) ∧
  (∀ (k0_h1 : k0_cond1 i = 1#1), ∀ a, (k0_off298 v13123) a + S1.size a ≤ S51920.size a) ∧
  (∀ (k0_h1 : k0_cond1 i = 1#1), ∀ a, (k0_off300 v13123) a + S1.size a ≤ S51920.size a) ∧
  (∀ (k0_h1 : k0_cond1 i = 1#1), ∀ a, (k0_off302 v13123) a + S1.size a ≤ S51920.size a) ∧
  (∀ (k0_h1 : k0_cond1 i = 1#1), ∀ a, (k0_off304 v13123) a + S1.size a ≤ S51920.size a) ∧
  (∀ (k0_h1 : k0_cond1 i = 1#1), ∀ a, (k0_off306 v13123) a + S1.size a ≤ S51920.size a)
theorem k0_off276_inb : ∀ (i : grid0.Coords) (v13123 : BitVec 32) (k0_hw137 : k0_chk137 i v13123), ∀ (k0_h1 : k0_cond1 i = 1#1), ∀ a, (k0_off276 v13123) a + S1.size a ≤ S51920.size a := fun i v13123 k0_hw137 k0_h1 => k0_hw137.1 k0_h1
theorem k0_off278_inb : ∀ (i : grid0.Coords) (v13123 : BitVec 32) (k0_hw137 : k0_chk137 i v13123), ∀ (k0_h1 : k0_cond1 i = 1#1), ∀ a, (k0_off278 v13123) a + S1.size a ≤ S51920.size a := fun i v13123 k0_hw137 k0_h1 => k0_hw137.2.1 k0_h1
theorem k0_off280_inb : ∀ (i : grid0.Coords) (v13123 : BitVec 32) (k0_hw137 : k0_chk137 i v13123), ∀ (k0_h1 : k0_cond1 i = 1#1), ∀ a, (k0_off280 v13123) a + S1.size a ≤ S51920.size a := fun i v13123 k0_hw137 k0_h1 => k0_hw137.2.2.1 k0_h1
theorem k0_off282_inb : ∀ (i : grid0.Coords) (v13123 : BitVec 32) (k0_hw137 : k0_chk137 i v13123), ∀ (k0_h1 : k0_cond1 i = 1#1), ∀ a, (k0_off282 v13123) a + S1.size a ≤ S51920.size a := fun i v13123 k0_hw137 k0_h1 => k0_hw137.2.2.2.1 k0_h1
theorem k0_off284_inb : ∀ (i : grid0.Coords) (v13123 : BitVec 32) (k0_hw137 : k0_chk137 i v13123), ∀ (k0_h1 : k0_cond1 i = 1#1), ∀ a, (k0_off284 v13123) a + S1.size a ≤ S51920.size a := fun i v13123 k0_hw137 k0_h1 => k0_hw137.2.2.2.2.1 k0_h1
theorem k0_off286_inb : ∀ (i : grid0.Coords) (v13123 : BitVec 32) (k0_hw137 : k0_chk137 i v13123), ∀ (k0_h1 : k0_cond1 i = 1#1), ∀ a, (k0_off286 v13123) a + S1.size a ≤ S51920.size a := fun i v13123 k0_hw137 k0_h1 => k0_hw137.2.2.2.2.2.1 k0_h1
theorem k0_off288_inb : ∀ (i : grid0.Coords) (v13123 : BitVec 32) (k0_hw137 : k0_chk137 i v13123), ∀ (k0_h1 : k0_cond1 i = 1#1), ∀ a, (k0_off288 v13123) a + S1.size a ≤ S51920.size a := fun i v13123 k0_hw137 k0_h1 => k0_hw137.2.2.2.2.2.2.1 k0_h1
theorem k0_off290_inb : ∀ (i : grid0.Coords) (v13123 : BitVec 32) (k0_hw137 : k0_chk137 i v13123), ∀ (k0_h1 : k0_cond1 i = 1#1), ∀ a, (k0_off290 v13123) a + S1.size a ≤ S51920.size a := fun i v13123 k0_hw137 k0_h1 => k0_hw137.2.2.2.2.2.2.2.1 k0_h1
theorem k0_off292_inb : ∀ (i : grid0.Coords) (v13123 : BitVec 32) (k0_hw137 : k0_chk137 i v13123), ∀ (k0_h1 : k0_cond1 i = 1#1), ∀ a, (k0_off292 v13123) a + S1.size a ≤ S51920.size a := fun i v13123 k0_hw137 k0_h1 => k0_hw137.2.2.2.2.2.2.2.2.1 k0_h1
theorem k0_off294_inb : ∀ (i : grid0.Coords) (v13123 : BitVec 32) (k0_hw137 : k0_chk137 i v13123), ∀ (k0_h1 : k0_cond1 i = 1#1), ∀ a, (k0_off294 v13123) a + S1.size a ≤ S51920.size a := fun i v13123 k0_hw137 k0_h1 => k0_hw137.2.2.2.2.2.2.2.2.2.1 k0_h1
theorem k0_off296_inb : ∀ (i : grid0.Coords) (v13123 : BitVec 32) (k0_hw137 : k0_chk137 i v13123), ∀ (k0_h1 : k0_cond1 i = 1#1), ∀ a, (k0_off296 v13123) a + S1.size a ≤ S51920.size a := fun i v13123 k0_hw137 k0_h1 => k0_hw137.2.2.2.2.2.2.2.2.2.2.1 k0_h1
theorem k0_off298_inb : ∀ (i : grid0.Coords) (v13123 : BitVec 32) (k0_hw137 : k0_chk137 i v13123), ∀ (k0_h1 : k0_cond1 i = 1#1), ∀ a, (k0_off298 v13123) a + S1.size a ≤ S51920.size a := fun i v13123 k0_hw137 k0_h1 => k0_hw137.2.2.2.2.2.2.2.2.2.2.2.1 k0_h1
theorem k0_off300_inb : ∀ (i : grid0.Coords) (v13123 : BitVec 32) (k0_hw137 : k0_chk137 i v13123), ∀ (k0_h1 : k0_cond1 i = 1#1), ∀ a, (k0_off300 v13123) a + S1.size a ≤ S51920.size a := fun i v13123 k0_hw137 k0_h1 => k0_hw137.2.2.2.2.2.2.2.2.2.2.2.2.1 k0_h1
theorem k0_off302_inb : ∀ (i : grid0.Coords) (v13123 : BitVec 32) (k0_hw137 : k0_chk137 i v13123), ∀ (k0_h1 : k0_cond1 i = 1#1), ∀ a, (k0_off302 v13123) a + S1.size a ≤ S51920.size a := fun i v13123 k0_hw137 k0_h1 => k0_hw137.2.2.2.2.2.2.2.2.2.2.2.2.2.1 k0_h1
theorem k0_off304_inb : ∀ (i : grid0.Coords) (v13123 : BitVec 32) (k0_hw137 : k0_chk137 i v13123), ∀ (k0_h1 : k0_cond1 i = 1#1), ∀ a, (k0_off304 v13123) a + S1.size a ≤ S51920.size a := fun i v13123 k0_hw137 k0_h1 => k0_hw137.2.2.2.2.2.2.2.2.2.2.2.2.2.2.1 k0_h1
theorem k0_off306_inb : ∀ (i : grid0.Coords) (v13123 : BitVec 32) (k0_hw137 : k0_chk137 i v13123), ∀ (k0_h1 : k0_cond1 i = 1#1), ∀ a, (k0_off306 v13123) a + S1.size a ≤ S51920.size a := fun i v13123 k0_hw137 k0_h1 => k0_hw137.2.2.2.2.2.2.2.2.2.2.2.2.2.2.2 k0_h1

def k0_off307 (k0_t1 : Fin k0_t1_loop.trips) (v13123 : BitVec 32) (v13126 : BitVec 32) (v13363 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_5180 : BitVec 32 := 15#32
  let v13360 : BitVec 32 := Scalar.addi v13123 c15_i32_5180
  let v13361 : BitVec 1 := Scalar.cmpi .slt v13360 v13126
  let c65535_i32_5181 : BitVec 32 := 65535#32
  let v13364 : BitVec 32 := Scalar.andi v13363 c65535_i32_5181
  let c2048_i32_5182 : BitVec 32 := 2048#32
  let v13365 : BitVec 32 := Scalar.select v13361 v13364 c2048_i32_5182
  let v13366 : BitVec 32 := Scalar.addi v11087 v13365
  let v13369 : Index := Scalar.indexCast v13366
  let c0_5184 : Index := 0#32
  ![v13369.toNat, 0]

def k0_chk153 (i : grid0.Coords) (k0_t1 : Fin k0_t1_loop.trips) (v13123 : BitVec 32) (v13126 : BitVec 32) (v13363 : BitVec 32) : Prop :=
  (∀ (k0_h1 : k0_cond1 i = 1#1), ∀ a, (k0_off307 k0_t1 v13123 v13126 v13363) a + S1x128.size a ≤ S8224x128.size a)
theorem k0_off307_inb : ∀ (i : grid0.Coords) (k0_t1 : Fin k0_t1_loop.trips) (v13123 : BitVec 32) (v13126 : BitVec 32) (v13363 : BitVec 32) (k0_hw153 : k0_chk153 i k0_t1 v13123 v13126 v13363), ∀ (k0_h1 : k0_cond1 i = 1#1), ∀ a, (k0_off307 k0_t1 v13123 v13126 v13363) a + S1x128.size a ≤ S8224x128.size a := fun i k0_t1 v13123 v13126 v13363 k0_hw153 k0_h1 => k0_hw153 k0_h1

def k0_off308 (k0_t1 : Fin k0_t1_loop.trips) : Fin 1 → Nat :=
  let c0_i32_5185 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v13374 : BitVec 32 := Scalar.addi c0_i32_5185 v11069
  let c9_i32_5186 : BitVec 32 := 9#32
  let v13375 : BitVec 32 := Scalar.addi v13374 c9_i32_5186
  let v13376 : Index := Scalar.indexCast v13375
  ![v13376.toNat]
def k0_off309 (k0_t1 : Fin k0_t1_loop.trips) : Fin 1 → Nat :=
  let c0_i32_5185 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v13374 : BitVec 32 := Scalar.addi c0_i32_5185 v11069
  let c9_i32_5186 : BitVec 32 := 9#32
  let v13375 : BitVec 32 := Scalar.addi v13374 c9_i32_5186
  let c1_i32_5187 : BitVec 32 := 1#32
  let v13378 : BitVec 32 := Scalar.addi v13375 c1_i32_5187
  let v13379 : Index := Scalar.indexCast v13378
  ![v13379.toNat]
def k0_off310 (v13377 : BitVec 32) : Fin 1 → Nat :=
  let c0_i32_5190 : BitVec 32 := 0#32
  let v13388 : BitVec 32 := Scalar.addi v13377 c0_i32_5190
  let v13391 : Index := Scalar.indexCast v13388
  ![v13391.toNat]

def k0_off311 (k0_t1 : Fin k0_t1_loop.trips) (v13377 : BitVec 32) (v13380 : BitVec 32) (v13392 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_5191 : BitVec 32 := 0#32
  let v13389 : BitVec 32 := Scalar.addi v13377 c0_i32_5191
  let v13390 : BitVec 1 := Scalar.cmpi .slt v13389 v13380
  let c65535_i32_5192 : BitVec 32 := 65535#32
  let v13393 : BitVec 32 := Scalar.andi v13392 c65535_i32_5192
  let c2048_i32_5193 : BitVec 32 := 2048#32
  let v13394 : BitVec 32 := Scalar.select v13390 v13393 c2048_i32_5193
  let v13395 : BitVec 32 := Scalar.addi v11087 v13394
  let v13398 : Index := Scalar.indexCast v13395
  let c0_5195 : Index := 0#32
  ![v13398.toNat, 0]

def k0_chk155 (i : grid0.Coords) (k0_t1 : Fin k0_t1_loop.trips) (v13377 : BitVec 32) (v13380 : BitVec 32) (v13392 : BitVec 32) : Prop :=
  (∀ (k0_h1 : k0_cond1 i = 1#1), ∀ a, (k0_off311 k0_t1 v13377 v13380 v13392) a + S1x128.size a ≤ S8224x128.size a)
theorem k0_off311_inb : ∀ (i : grid0.Coords) (k0_t1 : Fin k0_t1_loop.trips) (v13377 : BitVec 32) (v13380 : BitVec 32) (v13392 : BitVec 32) (k0_hw155 : k0_chk155 i k0_t1 v13377 v13380 v13392), ∀ (k0_h1 : k0_cond1 i = 1#1), ∀ a, (k0_off311 k0_t1 v13377 v13380 v13392) a + S1x128.size a ≤ S8224x128.size a := fun i k0_t1 v13377 v13380 v13392 k0_hw155 k0_h1 => k0_hw155 k0_h1

def k0_off312 (v13377 : BitVec 32) : Fin 1 → Nat :=
  let c1_i32_5196 : BitVec 32 := 1#32
  let v13403 : BitVec 32 := Scalar.addi v13377 c1_i32_5196
  let v13406 : Index := Scalar.indexCast v13403
  ![v13406.toNat]
def k0_off313 (k0_t1 : Fin k0_t1_loop.trips) (v13377 : BitVec 32) (v13380 : BitVec 32) (v13407 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_5197 : BitVec 32 := 1#32
  let v13404 : BitVec 32 := Scalar.addi v13377 c1_i32_5197
  let v13405 : BitVec 1 := Scalar.cmpi .slt v13404 v13380
  let c65535_i32_5198 : BitVec 32 := 65535#32
  let v13408 : BitVec 32 := Scalar.andi v13407 c65535_i32_5198
  let c2048_i32_5199 : BitVec 32 := 2048#32
  let v13409 : BitVec 32 := Scalar.select v13405 v13408 c2048_i32_5199
  let v13410 : BitVec 32 := Scalar.addi v11087 v13409
  let v13413 : Index := Scalar.indexCast v13410
  let c0_5201 : Index := 0#32
  ![v13413.toNat, 0]

def k0_chk156 (i : grid0.Coords) (k0_t1 : Fin k0_t1_loop.trips) (v13377 : BitVec 32) (v13380 : BitVec 32) (v13407 : BitVec 32) : Prop :=
  (∀ (k0_h1 : k0_cond1 i = 1#1), ∀ a, (k0_off313 k0_t1 v13377 v13380 v13407) a + S1x128.size a ≤ S8224x128.size a)
theorem k0_off313_inb : ∀ (i : grid0.Coords) (k0_t1 : Fin k0_t1_loop.trips) (v13377 : BitVec 32) (v13380 : BitVec 32) (v13407 : BitVec 32) (k0_hw156 : k0_chk156 i k0_t1 v13377 v13380 v13407), ∀ (k0_h1 : k0_cond1 i = 1#1), ∀ a, (k0_off313 k0_t1 v13377 v13380 v13407) a + S1x128.size a ≤ S8224x128.size a := fun i k0_t1 v13377 v13380 v13407 k0_hw156 k0_h1 => k0_hw156 k0_h1

def k0_off314 (v13377 : BitVec 32) : Fin 1 → Nat :=
  let c2_i32_5202 : BitVec 32 := 2#32
  let v13418 : BitVec 32 := Scalar.addi v13377 c2_i32_5202
  let v13421 : Index := Scalar.indexCast v13418
  ![v13421.toNat]
def k0_off315 (k0_t1 : Fin k0_t1_loop.trips) (v13377 : BitVec 32) (v13380 : BitVec 32) (v13422 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_5203 : BitVec 32 := 2#32
  let v13419 : BitVec 32 := Scalar.addi v13377 c2_i32_5203
  let v13420 : BitVec 1 := Scalar.cmpi .slt v13419 v13380
  let c65535_i32_5204 : BitVec 32 := 65535#32
  let v13423 : BitVec 32 := Scalar.andi v13422 c65535_i32_5204
  let c2048_i32_5205 : BitVec 32 := 2048#32
  let v13424 : BitVec 32 := Scalar.select v13420 v13423 c2048_i32_5205
  let v13425 : BitVec 32 := Scalar.addi v11087 v13424
  let v13428 : Index := Scalar.indexCast v13425
  let c0_5207 : Index := 0#32
  ![v13428.toNat, 0]

def k0_chk157 (i : grid0.Coords) (k0_t1 : Fin k0_t1_loop.trips) (v13377 : BitVec 32) (v13380 : BitVec 32) (v13422 : BitVec 32) : Prop :=
  (∀ (k0_h1 : k0_cond1 i = 1#1), ∀ a, (k0_off315 k0_t1 v13377 v13380 v13422) a + S1x128.size a ≤ S8224x128.size a)
theorem k0_off315_inb : ∀ (i : grid0.Coords) (k0_t1 : Fin k0_t1_loop.trips) (v13377 : BitVec 32) (v13380 : BitVec 32) (v13422 : BitVec 32) (k0_hw157 : k0_chk157 i k0_t1 v13377 v13380 v13422), ∀ (k0_h1 : k0_cond1 i = 1#1), ∀ a, (k0_off315 k0_t1 v13377 v13380 v13422) a + S1x128.size a ≤ S8224x128.size a := fun i k0_t1 v13377 v13380 v13422 k0_hw157 k0_h1 => k0_hw157 k0_h1

def k0_off316 (v13377 : BitVec 32) : Fin 1 → Nat :=
  let c3_i32_5208 : BitVec 32 := 3#32
  let v13433 : BitVec 32 := Scalar.addi v13377 c3_i32_5208
  let v13436 : Index := Scalar.indexCast v13433
  ![v13436.toNat]
def k0_off317 (k0_t1 : Fin k0_t1_loop.trips) (v13377 : BitVec 32) (v13380 : BitVec 32) (v13437 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_5209 : BitVec 32 := 3#32
  let v13434 : BitVec 32 := Scalar.addi v13377 c3_i32_5209
  let v13435 : BitVec 1 := Scalar.cmpi .slt v13434 v13380
  let c65535_i32_5210 : BitVec 32 := 65535#32
  let v13438 : BitVec 32 := Scalar.andi v13437 c65535_i32_5210
  let c2048_i32_5211 : BitVec 32 := 2048#32
  let v13439 : BitVec 32 := Scalar.select v13435 v13438 c2048_i32_5211
  let v13440 : BitVec 32 := Scalar.addi v11087 v13439
  let v13443 : Index := Scalar.indexCast v13440
  let c0_5213 : Index := 0#32
  ![v13443.toNat, 0]

def k0_chk158 (i : grid0.Coords) (k0_t1 : Fin k0_t1_loop.trips) (v13377 : BitVec 32) (v13380 : BitVec 32) (v13437 : BitVec 32) : Prop :=
  (∀ (k0_h1 : k0_cond1 i = 1#1), ∀ a, (k0_off317 k0_t1 v13377 v13380 v13437) a + S1x128.size a ≤ S8224x128.size a)
theorem k0_off317_inb : ∀ (i : grid0.Coords) (k0_t1 : Fin k0_t1_loop.trips) (v13377 : BitVec 32) (v13380 : BitVec 32) (v13437 : BitVec 32) (k0_hw158 : k0_chk158 i k0_t1 v13377 v13380 v13437), ∀ (k0_h1 : k0_cond1 i = 1#1), ∀ a, (k0_off317 k0_t1 v13377 v13380 v13437) a + S1x128.size a ≤ S8224x128.size a := fun i k0_t1 v13377 v13380 v13437 k0_hw158 k0_h1 => k0_hw158 k0_h1

def k0_off318 (v13377 : BitVec 32) : Fin 1 → Nat :=
  let c4_i32_5214 : BitVec 32 := 4#32
  let v13448 : BitVec 32 := Scalar.addi v13377 c4_i32_5214
  let v13451 : Index := Scalar.indexCast v13448
  ![v13451.toNat]
def k0_off319 (k0_t1 : Fin k0_t1_loop.trips) (v13377 : BitVec 32) (v13380 : BitVec 32) (v13452 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_5215 : BitVec 32 := 4#32
  let v13449 : BitVec 32 := Scalar.addi v13377 c4_i32_5215
  let v13450 : BitVec 1 := Scalar.cmpi .slt v13449 v13380
  let c65535_i32_5216 : BitVec 32 := 65535#32
  let v13453 : BitVec 32 := Scalar.andi v13452 c65535_i32_5216
  let c2048_i32_5217 : BitVec 32 := 2048#32
  let v13454 : BitVec 32 := Scalar.select v13450 v13453 c2048_i32_5217
  let v13455 : BitVec 32 := Scalar.addi v11087 v13454
  let v13458 : Index := Scalar.indexCast v13455
  let c0_5219 : Index := 0#32
  ![v13458.toNat, 0]

def k0_chk159 (i : grid0.Coords) (k0_t1 : Fin k0_t1_loop.trips) (v13377 : BitVec 32) (v13380 : BitVec 32) (v13452 : BitVec 32) : Prop :=
  (∀ (k0_h1 : k0_cond1 i = 1#1), ∀ a, (k0_off319 k0_t1 v13377 v13380 v13452) a + S1x128.size a ≤ S8224x128.size a)
theorem k0_off319_inb : ∀ (i : grid0.Coords) (k0_t1 : Fin k0_t1_loop.trips) (v13377 : BitVec 32) (v13380 : BitVec 32) (v13452 : BitVec 32) (k0_hw159 : k0_chk159 i k0_t1 v13377 v13380 v13452), ∀ (k0_h1 : k0_cond1 i = 1#1), ∀ a, (k0_off319 k0_t1 v13377 v13380 v13452) a + S1x128.size a ≤ S8224x128.size a := fun i k0_t1 v13377 v13380 v13452 k0_hw159 k0_h1 => k0_hw159 k0_h1

def k0_off320 (v13377 : BitVec 32) : Fin 1 → Nat :=
  let c5_i32_5220 : BitVec 32 := 5#32
  let v13463 : BitVec 32 := Scalar.addi v13377 c5_i32_5220
  let v13466 : Index := Scalar.indexCast v13463
  ![v13466.toNat]
def k0_off321 (k0_t1 : Fin k0_t1_loop.trips) (v13377 : BitVec 32) (v13380 : BitVec 32) (v13467 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_5221 : BitVec 32 := 5#32
  let v13464 : BitVec 32 := Scalar.addi v13377 c5_i32_5221
  let v13465 : BitVec 1 := Scalar.cmpi .slt v13464 v13380
  let c65535_i32_5222 : BitVec 32 := 65535#32
  let v13468 : BitVec 32 := Scalar.andi v13467 c65535_i32_5222
  let c2048_i32_5223 : BitVec 32 := 2048#32
  let v13469 : BitVec 32 := Scalar.select v13465 v13468 c2048_i32_5223
  let v13470 : BitVec 32 := Scalar.addi v11087 v13469
  let v13473 : Index := Scalar.indexCast v13470
  let c0_5225 : Index := 0#32
  ![v13473.toNat, 0]

def k0_chk160 (i : grid0.Coords) (k0_t1 : Fin k0_t1_loop.trips) (v13377 : BitVec 32) (v13380 : BitVec 32) (v13467 : BitVec 32) : Prop :=
  (∀ (k0_h1 : k0_cond1 i = 1#1), ∀ a, (k0_off321 k0_t1 v13377 v13380 v13467) a + S1x128.size a ≤ S8224x128.size a)
theorem k0_off321_inb : ∀ (i : grid0.Coords) (k0_t1 : Fin k0_t1_loop.trips) (v13377 : BitVec 32) (v13380 : BitVec 32) (v13467 : BitVec 32) (k0_hw160 : k0_chk160 i k0_t1 v13377 v13380 v13467), ∀ (k0_h1 : k0_cond1 i = 1#1), ∀ a, (k0_off321 k0_t1 v13377 v13380 v13467) a + S1x128.size a ≤ S8224x128.size a := fun i k0_t1 v13377 v13380 v13467 k0_hw160 k0_h1 => k0_hw160 k0_h1

def k0_off322 (v13377 : BitVec 32) : Fin 1 → Nat :=
  let c6_i32_5226 : BitVec 32 := 6#32
  let v13478 : BitVec 32 := Scalar.addi v13377 c6_i32_5226
  let v13481 : Index := Scalar.indexCast v13478
  ![v13481.toNat]
def k0_off323 (k0_t1 : Fin k0_t1_loop.trips) (v13377 : BitVec 32) (v13380 : BitVec 32) (v13482 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_5227 : BitVec 32 := 6#32
  let v13479 : BitVec 32 := Scalar.addi v13377 c6_i32_5227
  let v13480 : BitVec 1 := Scalar.cmpi .slt v13479 v13380
  let c65535_i32_5228 : BitVec 32 := 65535#32
  let v13483 : BitVec 32 := Scalar.andi v13482 c65535_i32_5228
  let c2048_i32_5229 : BitVec 32 := 2048#32
  let v13484 : BitVec 32 := Scalar.select v13480 v13483 c2048_i32_5229
  let v13485 : BitVec 32 := Scalar.addi v11087 v13484
  let v13488 : Index := Scalar.indexCast v13485
  let c0_5231 : Index := 0#32
  ![v13488.toNat, 0]

def k0_chk161 (i : grid0.Coords) (k0_t1 : Fin k0_t1_loop.trips) (v13377 : BitVec 32) (v13380 : BitVec 32) (v13482 : BitVec 32) : Prop :=
  (∀ (k0_h1 : k0_cond1 i = 1#1), ∀ a, (k0_off323 k0_t1 v13377 v13380 v13482) a + S1x128.size a ≤ S8224x128.size a)
theorem k0_off323_inb : ∀ (i : grid0.Coords) (k0_t1 : Fin k0_t1_loop.trips) (v13377 : BitVec 32) (v13380 : BitVec 32) (v13482 : BitVec 32) (k0_hw161 : k0_chk161 i k0_t1 v13377 v13380 v13482), ∀ (k0_h1 : k0_cond1 i = 1#1), ∀ a, (k0_off323 k0_t1 v13377 v13380 v13482) a + S1x128.size a ≤ S8224x128.size a := fun i k0_t1 v13377 v13380 v13482 k0_hw161 k0_h1 => k0_hw161 k0_h1

def k0_off324 (v13377 : BitVec 32) : Fin 1 → Nat :=
  let c7_i32_5232 : BitVec 32 := 7#32
  let v13493 : BitVec 32 := Scalar.addi v13377 c7_i32_5232
  let v13496 : Index := Scalar.indexCast v13493
  ![v13496.toNat]
def k0_off325 (k0_t1 : Fin k0_t1_loop.trips) (v13377 : BitVec 32) (v13380 : BitVec 32) (v13497 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_5233 : BitVec 32 := 7#32
  let v13494 : BitVec 32 := Scalar.addi v13377 c7_i32_5233
  let v13495 : BitVec 1 := Scalar.cmpi .slt v13494 v13380
  let c65535_i32_5234 : BitVec 32 := 65535#32
  let v13498 : BitVec 32 := Scalar.andi v13497 c65535_i32_5234
  let c2048_i32_5235 : BitVec 32 := 2048#32
  let v13499 : BitVec 32 := Scalar.select v13495 v13498 c2048_i32_5235
  let v13500 : BitVec 32 := Scalar.addi v11087 v13499
  let v13503 : Index := Scalar.indexCast v13500
  let c0_5237 : Index := 0#32
  ![v13503.toNat, 0]

def k0_chk162 (i : grid0.Coords) (k0_t1 : Fin k0_t1_loop.trips) (v13377 : BitVec 32) (v13380 : BitVec 32) (v13497 : BitVec 32) : Prop :=
  (∀ (k0_h1 : k0_cond1 i = 1#1), ∀ a, (k0_off325 k0_t1 v13377 v13380 v13497) a + S1x128.size a ≤ S8224x128.size a)
theorem k0_off325_inb : ∀ (i : grid0.Coords) (k0_t1 : Fin k0_t1_loop.trips) (v13377 : BitVec 32) (v13380 : BitVec 32) (v13497 : BitVec 32) (k0_hw162 : k0_chk162 i k0_t1 v13377 v13380 v13497), ∀ (k0_h1 : k0_cond1 i = 1#1), ∀ a, (k0_off325 k0_t1 v13377 v13380 v13497) a + S1x128.size a ≤ S8224x128.size a := fun i k0_t1 v13377 v13380 v13497 k0_hw162 k0_h1 => k0_hw162 k0_h1

def k0_off326 (v13377 : BitVec 32) : Fin 1 → Nat :=
  let c8_i32_5238 : BitVec 32 := 8#32
  let v13508 : BitVec 32 := Scalar.addi v13377 c8_i32_5238
  let v13511 : Index := Scalar.indexCast v13508
  ![v13511.toNat]
def k0_off327 (k0_t1 : Fin k0_t1_loop.trips) (v13377 : BitVec 32) (v13380 : BitVec 32) (v13512 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_5239 : BitVec 32 := 8#32
  let v13509 : BitVec 32 := Scalar.addi v13377 c8_i32_5239
  let v13510 : BitVec 1 := Scalar.cmpi .slt v13509 v13380
  let c65535_i32_5240 : BitVec 32 := 65535#32
  let v13513 : BitVec 32 := Scalar.andi v13512 c65535_i32_5240
  let c2048_i32_5241 : BitVec 32 := 2048#32
  let v13514 : BitVec 32 := Scalar.select v13510 v13513 c2048_i32_5241
  let v13515 : BitVec 32 := Scalar.addi v11087 v13514
  let v13518 : Index := Scalar.indexCast v13515
  let c0_5243 : Index := 0#32
  ![v13518.toNat, 0]

def k0_chk163 (i : grid0.Coords) (k0_t1 : Fin k0_t1_loop.trips) (v13377 : BitVec 32) (v13380 : BitVec 32) (v13512 : BitVec 32) : Prop :=
  (∀ (k0_h1 : k0_cond1 i = 1#1), ∀ a, (k0_off327 k0_t1 v13377 v13380 v13512) a + S1x128.size a ≤ S8224x128.size a)
theorem k0_off327_inb : ∀ (i : grid0.Coords) (k0_t1 : Fin k0_t1_loop.trips) (v13377 : BitVec 32) (v13380 : BitVec 32) (v13512 : BitVec 32) (k0_hw163 : k0_chk163 i k0_t1 v13377 v13380 v13512), ∀ (k0_h1 : k0_cond1 i = 1#1), ∀ a, (k0_off327 k0_t1 v13377 v13380 v13512) a + S1x128.size a ≤ S8224x128.size a := fun i k0_t1 v13377 v13380 v13512 k0_hw163 k0_h1 => k0_hw163 k0_h1

def k0_off328 (v13377 : BitVec 32) : Fin 1 → Nat :=
  let c9_i32_5244 : BitVec 32 := 9#32
  let v13523 : BitVec 32 := Scalar.addi v13377 c9_i32_5244
  let v13526 : Index := Scalar.indexCast v13523
  ![v13526.toNat]
def k0_off329 (k0_t1 : Fin k0_t1_loop.trips) (v13377 : BitVec 32) (v13380 : BitVec 32) (v13527 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_5245 : BitVec 32 := 9#32
  let v13524 : BitVec 32 := Scalar.addi v13377 c9_i32_5245
  let v13525 : BitVec 1 := Scalar.cmpi .slt v13524 v13380
  let c65535_i32_5246 : BitVec 32 := 65535#32
  let v13528 : BitVec 32 := Scalar.andi v13527 c65535_i32_5246
  let c2048_i32_5247 : BitVec 32 := 2048#32
  let v13529 : BitVec 32 := Scalar.select v13525 v13528 c2048_i32_5247
  let v13530 : BitVec 32 := Scalar.addi v11087 v13529
  let v13533 : Index := Scalar.indexCast v13530
  let c0_5249 : Index := 0#32
  ![v13533.toNat, 0]

def k0_chk164 (i : grid0.Coords) (k0_t1 : Fin k0_t1_loop.trips) (v13377 : BitVec 32) (v13380 : BitVec 32) (v13527 : BitVec 32) : Prop :=
  (∀ (k0_h1 : k0_cond1 i = 1#1), ∀ a, (k0_off329 k0_t1 v13377 v13380 v13527) a + S1x128.size a ≤ S8224x128.size a)
theorem k0_off329_inb : ∀ (i : grid0.Coords) (k0_t1 : Fin k0_t1_loop.trips) (v13377 : BitVec 32) (v13380 : BitVec 32) (v13527 : BitVec 32) (k0_hw164 : k0_chk164 i k0_t1 v13377 v13380 v13527), ∀ (k0_h1 : k0_cond1 i = 1#1), ∀ a, (k0_off329 k0_t1 v13377 v13380 v13527) a + S1x128.size a ≤ S8224x128.size a := fun i k0_t1 v13377 v13380 v13527 k0_hw164 k0_h1 => k0_hw164 k0_h1

def k0_off330 (v13377 : BitVec 32) : Fin 1 → Nat :=
  let c10_i32_5250 : BitVec 32 := 10#32
  let v13538 : BitVec 32 := Scalar.addi v13377 c10_i32_5250
  let v13541 : Index := Scalar.indexCast v13538
  ![v13541.toNat]
def k0_off331 (k0_t1 : Fin k0_t1_loop.trips) (v13377 : BitVec 32) (v13380 : BitVec 32) (v13542 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_5251 : BitVec 32 := 10#32
  let v13539 : BitVec 32 := Scalar.addi v13377 c10_i32_5251
  let v13540 : BitVec 1 := Scalar.cmpi .slt v13539 v13380
  let c65535_i32_5252 : BitVec 32 := 65535#32
  let v13543 : BitVec 32 := Scalar.andi v13542 c65535_i32_5252
  let c2048_i32_5253 : BitVec 32 := 2048#32
  let v13544 : BitVec 32 := Scalar.select v13540 v13543 c2048_i32_5253
  let v13545 : BitVec 32 := Scalar.addi v11087 v13544
  let v13548 : Index := Scalar.indexCast v13545
  let c0_5255 : Index := 0#32
  ![v13548.toNat, 0]

def k0_chk165 (i : grid0.Coords) (k0_t1 : Fin k0_t1_loop.trips) (v13377 : BitVec 32) (v13380 : BitVec 32) (v13542 : BitVec 32) : Prop :=
  (∀ (k0_h1 : k0_cond1 i = 1#1), ∀ a, (k0_off331 k0_t1 v13377 v13380 v13542) a + S1x128.size a ≤ S8224x128.size a)
theorem k0_off331_inb : ∀ (i : grid0.Coords) (k0_t1 : Fin k0_t1_loop.trips) (v13377 : BitVec 32) (v13380 : BitVec 32) (v13542 : BitVec 32) (k0_hw165 : k0_chk165 i k0_t1 v13377 v13380 v13542), ∀ (k0_h1 : k0_cond1 i = 1#1), ∀ a, (k0_off331 k0_t1 v13377 v13380 v13542) a + S1x128.size a ≤ S8224x128.size a := fun i k0_t1 v13377 v13380 v13542 k0_hw165 k0_h1 => k0_hw165 k0_h1

def k0_off332 (v13377 : BitVec 32) : Fin 1 → Nat :=
  let c11_i32_5256 : BitVec 32 := 11#32
  let v13553 : BitVec 32 := Scalar.addi v13377 c11_i32_5256
  let v13556 : Index := Scalar.indexCast v13553
  ![v13556.toNat]
def k0_off333 (k0_t1 : Fin k0_t1_loop.trips) (v13377 : BitVec 32) (v13380 : BitVec 32) (v13557 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_5257 : BitVec 32 := 11#32
  let v13554 : BitVec 32 := Scalar.addi v13377 c11_i32_5257
  let v13555 : BitVec 1 := Scalar.cmpi .slt v13554 v13380
  let c65535_i32_5258 : BitVec 32 := 65535#32
  let v13558 : BitVec 32 := Scalar.andi v13557 c65535_i32_5258
  let c2048_i32_5259 : BitVec 32 := 2048#32
  let v13559 : BitVec 32 := Scalar.select v13555 v13558 c2048_i32_5259
  let v13560 : BitVec 32 := Scalar.addi v11087 v13559
  let v13563 : Index := Scalar.indexCast v13560
  let c0_5261 : Index := 0#32
  ![v13563.toNat, 0]

def k0_chk166 (i : grid0.Coords) (k0_t1 : Fin k0_t1_loop.trips) (v13377 : BitVec 32) (v13380 : BitVec 32) (v13557 : BitVec 32) : Prop :=
  (∀ (k0_h1 : k0_cond1 i = 1#1), ∀ a, (k0_off333 k0_t1 v13377 v13380 v13557) a + S1x128.size a ≤ S8224x128.size a)
theorem k0_off333_inb : ∀ (i : grid0.Coords) (k0_t1 : Fin k0_t1_loop.trips) (v13377 : BitVec 32) (v13380 : BitVec 32) (v13557 : BitVec 32) (k0_hw166 : k0_chk166 i k0_t1 v13377 v13380 v13557), ∀ (k0_h1 : k0_cond1 i = 1#1), ∀ a, (k0_off333 k0_t1 v13377 v13380 v13557) a + S1x128.size a ≤ S8224x128.size a := fun i k0_t1 v13377 v13380 v13557 k0_hw166 k0_h1 => k0_hw166 k0_h1

def k0_off334 (v13377 : BitVec 32) : Fin 1 → Nat :=
  let c12_i32_5262 : BitVec 32 := 12#32
  let v13568 : BitVec 32 := Scalar.addi v13377 c12_i32_5262
  let v13571 : Index := Scalar.indexCast v13568
  ![v13571.toNat]
def k0_off335 (k0_t1 : Fin k0_t1_loop.trips) (v13377 : BitVec 32) (v13380 : BitVec 32) (v13572 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_5263 : BitVec 32 := 12#32
  let v13569 : BitVec 32 := Scalar.addi v13377 c12_i32_5263
  let v13570 : BitVec 1 := Scalar.cmpi .slt v13569 v13380
  let c65535_i32_5264 : BitVec 32 := 65535#32
  let v13573 : BitVec 32 := Scalar.andi v13572 c65535_i32_5264
  let c2048_i32_5265 : BitVec 32 := 2048#32
  let v13574 : BitVec 32 := Scalar.select v13570 v13573 c2048_i32_5265
  let v13575 : BitVec 32 := Scalar.addi v11087 v13574
  let v13578 : Index := Scalar.indexCast v13575
  let c0_5267 : Index := 0#32
  ![v13578.toNat, 0]

def k0_chk167 (i : grid0.Coords) (k0_t1 : Fin k0_t1_loop.trips) (v13377 : BitVec 32) (v13380 : BitVec 32) (v13572 : BitVec 32) : Prop :=
  (∀ (k0_h1 : k0_cond1 i = 1#1), ∀ a, (k0_off335 k0_t1 v13377 v13380 v13572) a + S1x128.size a ≤ S8224x128.size a)
theorem k0_off335_inb : ∀ (i : grid0.Coords) (k0_t1 : Fin k0_t1_loop.trips) (v13377 : BitVec 32) (v13380 : BitVec 32) (v13572 : BitVec 32) (k0_hw167 : k0_chk167 i k0_t1 v13377 v13380 v13572), ∀ (k0_h1 : k0_cond1 i = 1#1), ∀ a, (k0_off335 k0_t1 v13377 v13380 v13572) a + S1x128.size a ≤ S8224x128.size a := fun i k0_t1 v13377 v13380 v13572 k0_hw167 k0_h1 => k0_hw167 k0_h1

def k0_off336 (v13377 : BitVec 32) : Fin 1 → Nat :=
  let c13_i32_5268 : BitVec 32 := 13#32
  let v13583 : BitVec 32 := Scalar.addi v13377 c13_i32_5268
  let v13586 : Index := Scalar.indexCast v13583
  ![v13586.toNat]
def k0_off337 (k0_t1 : Fin k0_t1_loop.trips) (v13377 : BitVec 32) (v13380 : BitVec 32) (v13587 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_5269 : BitVec 32 := 13#32
  let v13584 : BitVec 32 := Scalar.addi v13377 c13_i32_5269
  let v13585 : BitVec 1 := Scalar.cmpi .slt v13584 v13380
  let c65535_i32_5270 : BitVec 32 := 65535#32
  let v13588 : BitVec 32 := Scalar.andi v13587 c65535_i32_5270
  let c2048_i32_5271 : BitVec 32 := 2048#32
  let v13589 : BitVec 32 := Scalar.select v13585 v13588 c2048_i32_5271
  let v13590 : BitVec 32 := Scalar.addi v11087 v13589
  let v13593 : Index := Scalar.indexCast v13590
  let c0_5273 : Index := 0#32
  ![v13593.toNat, 0]

def k0_chk168 (i : grid0.Coords) (k0_t1 : Fin k0_t1_loop.trips) (v13377 : BitVec 32) (v13380 : BitVec 32) (v13587 : BitVec 32) : Prop :=
  (∀ (k0_h1 : k0_cond1 i = 1#1), ∀ a, (k0_off337 k0_t1 v13377 v13380 v13587) a + S1x128.size a ≤ S8224x128.size a)
theorem k0_off337_inb : ∀ (i : grid0.Coords) (k0_t1 : Fin k0_t1_loop.trips) (v13377 : BitVec 32) (v13380 : BitVec 32) (v13587 : BitVec 32) (k0_hw168 : k0_chk168 i k0_t1 v13377 v13380 v13587), ∀ (k0_h1 : k0_cond1 i = 1#1), ∀ a, (k0_off337 k0_t1 v13377 v13380 v13587) a + S1x128.size a ≤ S8224x128.size a := fun i k0_t1 v13377 v13380 v13587 k0_hw168 k0_h1 => k0_hw168 k0_h1

def k0_off338 (v13377 : BitVec 32) : Fin 1 → Nat :=
  let c14_i32_5274 : BitVec 32 := 14#32
  let v13598 : BitVec 32 := Scalar.addi v13377 c14_i32_5274
  let v13601 : Index := Scalar.indexCast v13598
  ![v13601.toNat]
def k0_off339 (k0_t1 : Fin k0_t1_loop.trips) (v13377 : BitVec 32) (v13380 : BitVec 32) (v13602 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_5275 : BitVec 32 := 14#32
  let v13599 : BitVec 32 := Scalar.addi v13377 c14_i32_5275
  let v13600 : BitVec 1 := Scalar.cmpi .slt v13599 v13380
  let c65535_i32_5276 : BitVec 32 := 65535#32
  let v13603 : BitVec 32 := Scalar.andi v13602 c65535_i32_5276
  let c2048_i32_5277 : BitVec 32 := 2048#32
  let v13604 : BitVec 32 := Scalar.select v13600 v13603 c2048_i32_5277
  let v13605 : BitVec 32 := Scalar.addi v11087 v13604
  let v13608 : Index := Scalar.indexCast v13605
  let c0_5279 : Index := 0#32
  ![v13608.toNat, 0]

def k0_chk169 (i : grid0.Coords) (k0_t1 : Fin k0_t1_loop.trips) (v13377 : BitVec 32) (v13380 : BitVec 32) (v13602 : BitVec 32) : Prop :=
  (∀ (k0_h1 : k0_cond1 i = 1#1), ∀ a, (k0_off339 k0_t1 v13377 v13380 v13602) a + S1x128.size a ≤ S8224x128.size a)
theorem k0_off339_inb : ∀ (i : grid0.Coords) (k0_t1 : Fin k0_t1_loop.trips) (v13377 : BitVec 32) (v13380 : BitVec 32) (v13602 : BitVec 32) (k0_hw169 : k0_chk169 i k0_t1 v13377 v13380 v13602), ∀ (k0_h1 : k0_cond1 i = 1#1), ∀ a, (k0_off339 k0_t1 v13377 v13380 v13602) a + S1x128.size a ≤ S8224x128.size a := fun i k0_t1 v13377 v13380 v13602 k0_hw169 k0_h1 => k0_hw169 k0_h1

def k0_off340 (v13377 : BitVec 32) : Fin 1 → Nat :=
  let c15_i32_5280 : BitVec 32 := 15#32
  let v13613 : BitVec 32 := Scalar.addi v13377 c15_i32_5280
  let v13616 : Index := Scalar.indexCast v13613
  ![v13616.toNat]

def k0_chk154 (i : grid0.Coords) (v13377 : BitVec 32) : Prop :=
  (∀ (k0_h1 : k0_cond1 i = 1#1), ∀ a, (k0_off310 v13377) a + S1.size a ≤ S51920.size a) ∧
  (∀ (k0_h1 : k0_cond1 i = 1#1), ∀ a, (k0_off312 v13377) a + S1.size a ≤ S51920.size a) ∧
  (∀ (k0_h1 : k0_cond1 i = 1#1), ∀ a, (k0_off314 v13377) a + S1.size a ≤ S51920.size a) ∧
  (∀ (k0_h1 : k0_cond1 i = 1#1), ∀ a, (k0_off316 v13377) a + S1.size a ≤ S51920.size a) ∧
  (∀ (k0_h1 : k0_cond1 i = 1#1), ∀ a, (k0_off318 v13377) a + S1.size a ≤ S51920.size a) ∧
  (∀ (k0_h1 : k0_cond1 i = 1#1), ∀ a, (k0_off320 v13377) a + S1.size a ≤ S51920.size a) ∧
  (∀ (k0_h1 : k0_cond1 i = 1#1), ∀ a, (k0_off322 v13377) a + S1.size a ≤ S51920.size a) ∧
  (∀ (k0_h1 : k0_cond1 i = 1#1), ∀ a, (k0_off324 v13377) a + S1.size a ≤ S51920.size a) ∧
  (∀ (k0_h1 : k0_cond1 i = 1#1), ∀ a, (k0_off326 v13377) a + S1.size a ≤ S51920.size a) ∧
  (∀ (k0_h1 : k0_cond1 i = 1#1), ∀ a, (k0_off328 v13377) a + S1.size a ≤ S51920.size a) ∧
  (∀ (k0_h1 : k0_cond1 i = 1#1), ∀ a, (k0_off330 v13377) a + S1.size a ≤ S51920.size a) ∧
  (∀ (k0_h1 : k0_cond1 i = 1#1), ∀ a, (k0_off332 v13377) a + S1.size a ≤ S51920.size a) ∧
  (∀ (k0_h1 : k0_cond1 i = 1#1), ∀ a, (k0_off334 v13377) a + S1.size a ≤ S51920.size a) ∧
  (∀ (k0_h1 : k0_cond1 i = 1#1), ∀ a, (k0_off336 v13377) a + S1.size a ≤ S51920.size a) ∧
  (∀ (k0_h1 : k0_cond1 i = 1#1), ∀ a, (k0_off338 v13377) a + S1.size a ≤ S51920.size a) ∧
  (∀ (k0_h1 : k0_cond1 i = 1#1), ∀ a, (k0_off340 v13377) a + S1.size a ≤ S51920.size a)
theorem k0_off310_inb : ∀ (i : grid0.Coords) (v13377 : BitVec 32) (k0_hw154 : k0_chk154 i v13377), ∀ (k0_h1 : k0_cond1 i = 1#1), ∀ a, (k0_off310 v13377) a + S1.size a ≤ S51920.size a := fun i v13377 k0_hw154 k0_h1 => k0_hw154.1 k0_h1
theorem k0_off312_inb : ∀ (i : grid0.Coords) (v13377 : BitVec 32) (k0_hw154 : k0_chk154 i v13377), ∀ (k0_h1 : k0_cond1 i = 1#1), ∀ a, (k0_off312 v13377) a + S1.size a ≤ S51920.size a := fun i v13377 k0_hw154 k0_h1 => k0_hw154.2.1 k0_h1
theorem k0_off314_inb : ∀ (i : grid0.Coords) (v13377 : BitVec 32) (k0_hw154 : k0_chk154 i v13377), ∀ (k0_h1 : k0_cond1 i = 1#1), ∀ a, (k0_off314 v13377) a + S1.size a ≤ S51920.size a := fun i v13377 k0_hw154 k0_h1 => k0_hw154.2.2.1 k0_h1
theorem k0_off316_inb : ∀ (i : grid0.Coords) (v13377 : BitVec 32) (k0_hw154 : k0_chk154 i v13377), ∀ (k0_h1 : k0_cond1 i = 1#1), ∀ a, (k0_off316 v13377) a + S1.size a ≤ S51920.size a := fun i v13377 k0_hw154 k0_h1 => k0_hw154.2.2.2.1 k0_h1
theorem k0_off318_inb : ∀ (i : grid0.Coords) (v13377 : BitVec 32) (k0_hw154 : k0_chk154 i v13377), ∀ (k0_h1 : k0_cond1 i = 1#1), ∀ a, (k0_off318 v13377) a + S1.size a ≤ S51920.size a := fun i v13377 k0_hw154 k0_h1 => k0_hw154.2.2.2.2.1 k0_h1
theorem k0_off320_inb : ∀ (i : grid0.Coords) (v13377 : BitVec 32) (k0_hw154 : k0_chk154 i v13377), ∀ (k0_h1 : k0_cond1 i = 1#1), ∀ a, (k0_off320 v13377) a + S1.size a ≤ S51920.size a := fun i v13377 k0_hw154 k0_h1 => k0_hw154.2.2.2.2.2.1 k0_h1
theorem k0_off322_inb : ∀ (i : grid0.Coords) (v13377 : BitVec 32) (k0_hw154 : k0_chk154 i v13377), ∀ (k0_h1 : k0_cond1 i = 1#1), ∀ a, (k0_off322 v13377) a + S1.size a ≤ S51920.size a := fun i v13377 k0_hw154 k0_h1 => k0_hw154.2.2.2.2.2.2.1 k0_h1
theorem k0_off324_inb : ∀ (i : grid0.Coords) (v13377 : BitVec 32) (k0_hw154 : k0_chk154 i v13377), ∀ (k0_h1 : k0_cond1 i = 1#1), ∀ a, (k0_off324 v13377) a + S1.size a ≤ S51920.size a := fun i v13377 k0_hw154 k0_h1 => k0_hw154.2.2.2.2.2.2.2.1 k0_h1
theorem k0_off326_inb : ∀ (i : grid0.Coords) (v13377 : BitVec 32) (k0_hw154 : k0_chk154 i v13377), ∀ (k0_h1 : k0_cond1 i = 1#1), ∀ a, (k0_off326 v13377) a + S1.size a ≤ S51920.size a := fun i v13377 k0_hw154 k0_h1 => k0_hw154.2.2.2.2.2.2.2.2.1 k0_h1
theorem k0_off328_inb : ∀ (i : grid0.Coords) (v13377 : BitVec 32) (k0_hw154 : k0_chk154 i v13377), ∀ (k0_h1 : k0_cond1 i = 1#1), ∀ a, (k0_off328 v13377) a + S1.size a ≤ S51920.size a := fun i v13377 k0_hw154 k0_h1 => k0_hw154.2.2.2.2.2.2.2.2.2.1 k0_h1
theorem k0_off330_inb : ∀ (i : grid0.Coords) (v13377 : BitVec 32) (k0_hw154 : k0_chk154 i v13377), ∀ (k0_h1 : k0_cond1 i = 1#1), ∀ a, (k0_off330 v13377) a + S1.size a ≤ S51920.size a := fun i v13377 k0_hw154 k0_h1 => k0_hw154.2.2.2.2.2.2.2.2.2.2.1 k0_h1
theorem k0_off332_inb : ∀ (i : grid0.Coords) (v13377 : BitVec 32) (k0_hw154 : k0_chk154 i v13377), ∀ (k0_h1 : k0_cond1 i = 1#1), ∀ a, (k0_off332 v13377) a + S1.size a ≤ S51920.size a := fun i v13377 k0_hw154 k0_h1 => k0_hw154.2.2.2.2.2.2.2.2.2.2.2.1 k0_h1
theorem k0_off334_inb : ∀ (i : grid0.Coords) (v13377 : BitVec 32) (k0_hw154 : k0_chk154 i v13377), ∀ (k0_h1 : k0_cond1 i = 1#1), ∀ a, (k0_off334 v13377) a + S1.size a ≤ S51920.size a := fun i v13377 k0_hw154 k0_h1 => k0_hw154.2.2.2.2.2.2.2.2.2.2.2.2.1 k0_h1
theorem k0_off336_inb : ∀ (i : grid0.Coords) (v13377 : BitVec 32) (k0_hw154 : k0_chk154 i v13377), ∀ (k0_h1 : k0_cond1 i = 1#1), ∀ a, (k0_off336 v13377) a + S1.size a ≤ S51920.size a := fun i v13377 k0_hw154 k0_h1 => k0_hw154.2.2.2.2.2.2.2.2.2.2.2.2.2.1 k0_h1
theorem k0_off338_inb : ∀ (i : grid0.Coords) (v13377 : BitVec 32) (k0_hw154 : k0_chk154 i v13377), ∀ (k0_h1 : k0_cond1 i = 1#1), ∀ a, (k0_off338 v13377) a + S1.size a ≤ S51920.size a := fun i v13377 k0_hw154 k0_h1 => k0_hw154.2.2.2.2.2.2.2.2.2.2.2.2.2.2.1 k0_h1
theorem k0_off340_inb : ∀ (i : grid0.Coords) (v13377 : BitVec 32) (k0_hw154 : k0_chk154 i v13377), ∀ (k0_h1 : k0_cond1 i = 1#1), ∀ a, (k0_off340 v13377) a + S1.size a ≤ S51920.size a := fun i v13377 k0_hw154 k0_h1 => k0_hw154.2.2.2.2.2.2.2.2.2.2.2.2.2.2.2 k0_h1

def k0_off341 (k0_t1 : Fin k0_t1_loop.trips) (v13377 : BitVec 32) (v13380 : BitVec 32) (v13617 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_5281 : BitVec 32 := 15#32
  let v13614 : BitVec 32 := Scalar.addi v13377 c15_i32_5281
  let v13615 : BitVec 1 := Scalar.cmpi .slt v13614 v13380
  let c65535_i32_5282 : BitVec 32 := 65535#32
  let v13618 : BitVec 32 := Scalar.andi v13617 c65535_i32_5282
  let c2048_i32_5283 : BitVec 32 := 2048#32
  let v13619 : BitVec 32 := Scalar.select v13615 v13618 c2048_i32_5283
  let v13620 : BitVec 32 := Scalar.addi v11087 v13619
  let v13623 : Index := Scalar.indexCast v13620
  let c0_5285 : Index := 0#32
  ![v13623.toNat, 0]

def k0_chk170 (i : grid0.Coords) (k0_t1 : Fin k0_t1_loop.trips) (v13377 : BitVec 32) (v13380 : BitVec 32) (v13617 : BitVec 32) : Prop :=
  (∀ (k0_h1 : k0_cond1 i = 1#1), ∀ a, (k0_off341 k0_t1 v13377 v13380 v13617) a + S1x128.size a ≤ S8224x128.size a)
theorem k0_off341_inb : ∀ (i : grid0.Coords) (k0_t1 : Fin k0_t1_loop.trips) (v13377 : BitVec 32) (v13380 : BitVec 32) (v13617 : BitVec 32) (k0_hw170 : k0_chk170 i k0_t1 v13377 v13380 v13617), ∀ (k0_h1 : k0_cond1 i = 1#1), ∀ a, (k0_off341 k0_t1 v13377 v13380 v13617) a + S1x128.size a ≤ S8224x128.size a := fun i k0_t1 v13377 v13380 v13617 k0_hw170 k0_h1 => k0_hw170 k0_h1

def k0_off342 (k0_t1 : Fin k0_t1_loop.trips) : Fin 1 → Nat :=
  let c0_i32_5286 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v13628 : BitVec 32 := Scalar.addi c0_i32_5286 v11069
  let c10_i32_5287 : BitVec 32 := 10#32
  let v13629 : BitVec 32 := Scalar.addi v13628 c10_i32_5287
  let v13630 : Index := Scalar.indexCast v13629
  ![v13630.toNat]
def k0_off343 (k0_t1 : Fin k0_t1_loop.trips) : Fin 1 → Nat :=
  let c0_i32_5286 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v13628 : BitVec 32 := Scalar.addi c0_i32_5286 v11069
  let c10_i32_5287 : BitVec 32 := 10#32
  let v13629 : BitVec 32 := Scalar.addi v13628 c10_i32_5287
  let c1_i32_5288 : BitVec 32 := 1#32
  let v13632 : BitVec 32 := Scalar.addi v13629 c1_i32_5288
  let v13633 : Index := Scalar.indexCast v13632
  ![v13633.toNat]
def k0_off344 (v13631 : BitVec 32) : Fin 1 → Nat :=
  let c0_i32_5291 : BitVec 32 := 0#32
  let v13642 : BitVec 32 := Scalar.addi v13631 c0_i32_5291
  let v13645 : Index := Scalar.indexCast v13642
  ![v13645.toNat]

def k0_off345 (k0_t1 : Fin k0_t1_loop.trips) (v13631 : BitVec 32) (v13634 : BitVec 32) (v13646 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_5292 : BitVec 32 := 0#32
  let v13643 : BitVec 32 := Scalar.addi v13631 c0_i32_5292
  let v13644 : BitVec 1 := Scalar.cmpi .slt v13643 v13634
  let c65535_i32_5293 : BitVec 32 := 65535#32
  let v13647 : BitVec 32 := Scalar.andi v13646 c65535_i32_5293
  let c2048_i32_5294 : BitVec 32 := 2048#32
  let v13648 : BitVec 32 := Scalar.select v13644 v13647 c2048_i32_5294
  let v13649 : BitVec 32 := Scalar.addi v11087 v13648
  let v13652 : Index := Scalar.indexCast v13649
  let c0_5296 : Index := 0#32
  ![v13652.toNat, 0]

def k0_chk172 (i : grid0.Coords) (k0_t1 : Fin k0_t1_loop.trips) (v13631 : BitVec 32) (v13634 : BitVec 32) (v13646 : BitVec 32) : Prop :=
  (∀ (k0_h1 : k0_cond1 i = 1#1), ∀ a, (k0_off345 k0_t1 v13631 v13634 v13646) a + S1x128.size a ≤ S8224x128.size a)
theorem k0_off345_inb : ∀ (i : grid0.Coords) (k0_t1 : Fin k0_t1_loop.trips) (v13631 : BitVec 32) (v13634 : BitVec 32) (v13646 : BitVec 32) (k0_hw172 : k0_chk172 i k0_t1 v13631 v13634 v13646), ∀ (k0_h1 : k0_cond1 i = 1#1), ∀ a, (k0_off345 k0_t1 v13631 v13634 v13646) a + S1x128.size a ≤ S8224x128.size a := fun i k0_t1 v13631 v13634 v13646 k0_hw172 k0_h1 => k0_hw172 k0_h1

def k0_off346 (v13631 : BitVec 32) : Fin 1 → Nat :=
  let c1_i32_5297 : BitVec 32 := 1#32
  let v13657 : BitVec 32 := Scalar.addi v13631 c1_i32_5297
  let v13660 : Index := Scalar.indexCast v13657
  ![v13660.toNat]
def k0_off347 (k0_t1 : Fin k0_t1_loop.trips) (v13631 : BitVec 32) (v13634 : BitVec 32) (v13661 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_5298 : BitVec 32 := 1#32
  let v13658 : BitVec 32 := Scalar.addi v13631 c1_i32_5298
  let v13659 : BitVec 1 := Scalar.cmpi .slt v13658 v13634
  let c65535_i32_5299 : BitVec 32 := 65535#32
  let v13662 : BitVec 32 := Scalar.andi v13661 c65535_i32_5299
  let c2048_i32_5300 : BitVec 32 := 2048#32
  let v13663 : BitVec 32 := Scalar.select v13659 v13662 c2048_i32_5300
  let v13664 : BitVec 32 := Scalar.addi v11087 v13663
  let v13667 : Index := Scalar.indexCast v13664
  let c0_5302 : Index := 0#32
  ![v13667.toNat, 0]

def k0_chk173 (i : grid0.Coords) (k0_t1 : Fin k0_t1_loop.trips) (v13631 : BitVec 32) (v13634 : BitVec 32) (v13661 : BitVec 32) : Prop :=
  (∀ (k0_h1 : k0_cond1 i = 1#1), ∀ a, (k0_off347 k0_t1 v13631 v13634 v13661) a + S1x128.size a ≤ S8224x128.size a)
theorem k0_off347_inb : ∀ (i : grid0.Coords) (k0_t1 : Fin k0_t1_loop.trips) (v13631 : BitVec 32) (v13634 : BitVec 32) (v13661 : BitVec 32) (k0_hw173 : k0_chk173 i k0_t1 v13631 v13634 v13661), ∀ (k0_h1 : k0_cond1 i = 1#1), ∀ a, (k0_off347 k0_t1 v13631 v13634 v13661) a + S1x128.size a ≤ S8224x128.size a := fun i k0_t1 v13631 v13634 v13661 k0_hw173 k0_h1 => k0_hw173 k0_h1

def k0_off348 (v13631 : BitVec 32) : Fin 1 → Nat :=
  let c2_i32_5303 : BitVec 32 := 2#32
  let v13672 : BitVec 32 := Scalar.addi v13631 c2_i32_5303
  let v13675 : Index := Scalar.indexCast v13672
  ![v13675.toNat]
def k0_off349 (k0_t1 : Fin k0_t1_loop.trips) (v13631 : BitVec 32) (v13634 : BitVec 32) (v13676 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_5304 : BitVec 32 := 2#32
  let v13673 : BitVec 32 := Scalar.addi v13631 c2_i32_5304
  let v13674 : BitVec 1 := Scalar.cmpi .slt v13673 v13634
  let c65535_i32_5305 : BitVec 32 := 65535#32
  let v13677 : BitVec 32 := Scalar.andi v13676 c65535_i32_5305
  let c2048_i32_5306 : BitVec 32 := 2048#32
  let v13678 : BitVec 32 := Scalar.select v13674 v13677 c2048_i32_5306
  let v13679 : BitVec 32 := Scalar.addi v11087 v13678
  let v13682 : Index := Scalar.indexCast v13679
  let c0_5308 : Index := 0#32
  ![v13682.toNat, 0]

def k0_chk174 (i : grid0.Coords) (k0_t1 : Fin k0_t1_loop.trips) (v13631 : BitVec 32) (v13634 : BitVec 32) (v13676 : BitVec 32) : Prop :=
  (∀ (k0_h1 : k0_cond1 i = 1#1), ∀ a, (k0_off349 k0_t1 v13631 v13634 v13676) a + S1x128.size a ≤ S8224x128.size a)
theorem k0_off349_inb : ∀ (i : grid0.Coords) (k0_t1 : Fin k0_t1_loop.trips) (v13631 : BitVec 32) (v13634 : BitVec 32) (v13676 : BitVec 32) (k0_hw174 : k0_chk174 i k0_t1 v13631 v13634 v13676), ∀ (k0_h1 : k0_cond1 i = 1#1), ∀ a, (k0_off349 k0_t1 v13631 v13634 v13676) a + S1x128.size a ≤ S8224x128.size a := fun i k0_t1 v13631 v13634 v13676 k0_hw174 k0_h1 => k0_hw174 k0_h1

def k0_off350 (v13631 : BitVec 32) : Fin 1 → Nat :=
  let c3_i32_5309 : BitVec 32 := 3#32
  let v13687 : BitVec 32 := Scalar.addi v13631 c3_i32_5309
  let v13690 : Index := Scalar.indexCast v13687
  ![v13690.toNat]
def k0_off351 (k0_t1 : Fin k0_t1_loop.trips) (v13631 : BitVec 32) (v13634 : BitVec 32) (v13691 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_5310 : BitVec 32 := 3#32
  let v13688 : BitVec 32 := Scalar.addi v13631 c3_i32_5310
  let v13689 : BitVec 1 := Scalar.cmpi .slt v13688 v13634
  let c65535_i32_5311 : BitVec 32 := 65535#32
  let v13692 : BitVec 32 := Scalar.andi v13691 c65535_i32_5311
  let c2048_i32_5312 : BitVec 32 := 2048#32
  let v13693 : BitVec 32 := Scalar.select v13689 v13692 c2048_i32_5312
  let v13694 : BitVec 32 := Scalar.addi v11087 v13693
  let v13697 : Index := Scalar.indexCast v13694
  let c0_5314 : Index := 0#32
  ![v13697.toNat, 0]

def k0_chk175 (i : grid0.Coords) (k0_t1 : Fin k0_t1_loop.trips) (v13631 : BitVec 32) (v13634 : BitVec 32) (v13691 : BitVec 32) : Prop :=
  (∀ (k0_h1 : k0_cond1 i = 1#1), ∀ a, (k0_off351 k0_t1 v13631 v13634 v13691) a + S1x128.size a ≤ S8224x128.size a)
theorem k0_off351_inb : ∀ (i : grid0.Coords) (k0_t1 : Fin k0_t1_loop.trips) (v13631 : BitVec 32) (v13634 : BitVec 32) (v13691 : BitVec 32) (k0_hw175 : k0_chk175 i k0_t1 v13631 v13634 v13691), ∀ (k0_h1 : k0_cond1 i = 1#1), ∀ a, (k0_off351 k0_t1 v13631 v13634 v13691) a + S1x128.size a ≤ S8224x128.size a := fun i k0_t1 v13631 v13634 v13691 k0_hw175 k0_h1 => k0_hw175 k0_h1

def k0_off352 (v13631 : BitVec 32) : Fin 1 → Nat :=
  let c4_i32_5315 : BitVec 32 := 4#32
  let v13702 : BitVec 32 := Scalar.addi v13631 c4_i32_5315
  let v13705 : Index := Scalar.indexCast v13702
  ![v13705.toNat]
def k0_off353 (k0_t1 : Fin k0_t1_loop.trips) (v13631 : BitVec 32) (v13634 : BitVec 32) (v13706 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_5316 : BitVec 32 := 4#32
  let v13703 : BitVec 32 := Scalar.addi v13631 c4_i32_5316
  let v13704 : BitVec 1 := Scalar.cmpi .slt v13703 v13634
  let c65535_i32_5317 : BitVec 32 := 65535#32
  let v13707 : BitVec 32 := Scalar.andi v13706 c65535_i32_5317
  let c2048_i32_5318 : BitVec 32 := 2048#32
  let v13708 : BitVec 32 := Scalar.select v13704 v13707 c2048_i32_5318
  let v13709 : BitVec 32 := Scalar.addi v11087 v13708
  let v13712 : Index := Scalar.indexCast v13709
  let c0_5320 : Index := 0#32
  ![v13712.toNat, 0]

def k0_chk176 (i : grid0.Coords) (k0_t1 : Fin k0_t1_loop.trips) (v13631 : BitVec 32) (v13634 : BitVec 32) (v13706 : BitVec 32) : Prop :=
  (∀ (k0_h1 : k0_cond1 i = 1#1), ∀ a, (k0_off353 k0_t1 v13631 v13634 v13706) a + S1x128.size a ≤ S8224x128.size a)
theorem k0_off353_inb : ∀ (i : grid0.Coords) (k0_t1 : Fin k0_t1_loop.trips) (v13631 : BitVec 32) (v13634 : BitVec 32) (v13706 : BitVec 32) (k0_hw176 : k0_chk176 i k0_t1 v13631 v13634 v13706), ∀ (k0_h1 : k0_cond1 i = 1#1), ∀ a, (k0_off353 k0_t1 v13631 v13634 v13706) a + S1x128.size a ≤ S8224x128.size a := fun i k0_t1 v13631 v13634 v13706 k0_hw176 k0_h1 => k0_hw176 k0_h1

def k0_off354 (v13631 : BitVec 32) : Fin 1 → Nat :=
  let c5_i32_5321 : BitVec 32 := 5#32
  let v13717 : BitVec 32 := Scalar.addi v13631 c5_i32_5321
  let v13720 : Index := Scalar.indexCast v13717
  ![v13720.toNat]
def k0_off355 (k0_t1 : Fin k0_t1_loop.trips) (v13631 : BitVec 32) (v13634 : BitVec 32) (v13721 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_5322 : BitVec 32 := 5#32
  let v13718 : BitVec 32 := Scalar.addi v13631 c5_i32_5322
  let v13719 : BitVec 1 := Scalar.cmpi .slt v13718 v13634
  let c65535_i32_5323 : BitVec 32 := 65535#32
  let v13722 : BitVec 32 := Scalar.andi v13721 c65535_i32_5323
  let c2048_i32_5324 : BitVec 32 := 2048#32
  let v13723 : BitVec 32 := Scalar.select v13719 v13722 c2048_i32_5324
  let v13724 : BitVec 32 := Scalar.addi v11087 v13723
  let v13727 : Index := Scalar.indexCast v13724
  let c0_5326 : Index := 0#32
  ![v13727.toNat, 0]

def k0_chk177 (i : grid0.Coords) (k0_t1 : Fin k0_t1_loop.trips) (v13631 : BitVec 32) (v13634 : BitVec 32) (v13721 : BitVec 32) : Prop :=
  (∀ (k0_h1 : k0_cond1 i = 1#1), ∀ a, (k0_off355 k0_t1 v13631 v13634 v13721) a + S1x128.size a ≤ S8224x128.size a)
theorem k0_off355_inb : ∀ (i : grid0.Coords) (k0_t1 : Fin k0_t1_loop.trips) (v13631 : BitVec 32) (v13634 : BitVec 32) (v13721 : BitVec 32) (k0_hw177 : k0_chk177 i k0_t1 v13631 v13634 v13721), ∀ (k0_h1 : k0_cond1 i = 1#1), ∀ a, (k0_off355 k0_t1 v13631 v13634 v13721) a + S1x128.size a ≤ S8224x128.size a := fun i k0_t1 v13631 v13634 v13721 k0_hw177 k0_h1 => k0_hw177 k0_h1

def k0_off356 (v13631 : BitVec 32) : Fin 1 → Nat :=
  let c6_i32_5327 : BitVec 32 := 6#32
  let v13732 : BitVec 32 := Scalar.addi v13631 c6_i32_5327
  let v13735 : Index := Scalar.indexCast v13732
  ![v13735.toNat]
def k0_off357 (k0_t1 : Fin k0_t1_loop.trips) (v13631 : BitVec 32) (v13634 : BitVec 32) (v13736 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_5328 : BitVec 32 := 6#32
  let v13733 : BitVec 32 := Scalar.addi v13631 c6_i32_5328
  let v13734 : BitVec 1 := Scalar.cmpi .slt v13733 v13634
  let c65535_i32_5329 : BitVec 32 := 65535#32
  let v13737 : BitVec 32 := Scalar.andi v13736 c65535_i32_5329
  let c2048_i32_5330 : BitVec 32 := 2048#32
  let v13738 : BitVec 32 := Scalar.select v13734 v13737 c2048_i32_5330
  let v13739 : BitVec 32 := Scalar.addi v11087 v13738
  let v13742 : Index := Scalar.indexCast v13739
  let c0_5332 : Index := 0#32
  ![v13742.toNat, 0]

def k0_chk178 (i : grid0.Coords) (k0_t1 : Fin k0_t1_loop.trips) (v13631 : BitVec 32) (v13634 : BitVec 32) (v13736 : BitVec 32) : Prop :=
  (∀ (k0_h1 : k0_cond1 i = 1#1), ∀ a, (k0_off357 k0_t1 v13631 v13634 v13736) a + S1x128.size a ≤ S8224x128.size a)
theorem k0_off357_inb : ∀ (i : grid0.Coords) (k0_t1 : Fin k0_t1_loop.trips) (v13631 : BitVec 32) (v13634 : BitVec 32) (v13736 : BitVec 32) (k0_hw178 : k0_chk178 i k0_t1 v13631 v13634 v13736), ∀ (k0_h1 : k0_cond1 i = 1#1), ∀ a, (k0_off357 k0_t1 v13631 v13634 v13736) a + S1x128.size a ≤ S8224x128.size a := fun i k0_t1 v13631 v13634 v13736 k0_hw178 k0_h1 => k0_hw178 k0_h1

def k0_off358 (v13631 : BitVec 32) : Fin 1 → Nat :=
  let c7_i32_5333 : BitVec 32 := 7#32
  let v13747 : BitVec 32 := Scalar.addi v13631 c7_i32_5333
  let v13750 : Index := Scalar.indexCast v13747
  ![v13750.toNat]
def k0_off359 (k0_t1 : Fin k0_t1_loop.trips) (v13631 : BitVec 32) (v13634 : BitVec 32) (v13751 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_5334 : BitVec 32 := 7#32
  let v13748 : BitVec 32 := Scalar.addi v13631 c7_i32_5334
  let v13749 : BitVec 1 := Scalar.cmpi .slt v13748 v13634
  let c65535_i32_5335 : BitVec 32 := 65535#32
  let v13752 : BitVec 32 := Scalar.andi v13751 c65535_i32_5335
  let c2048_i32_5336 : BitVec 32 := 2048#32
  let v13753 : BitVec 32 := Scalar.select v13749 v13752 c2048_i32_5336
  let v13754 : BitVec 32 := Scalar.addi v11087 v13753
  let v13757 : Index := Scalar.indexCast v13754
  let c0_5338 : Index := 0#32
  ![v13757.toNat, 0]

def k0_chk179 (i : grid0.Coords) (k0_t1 : Fin k0_t1_loop.trips) (v13631 : BitVec 32) (v13634 : BitVec 32) (v13751 : BitVec 32) : Prop :=
  (∀ (k0_h1 : k0_cond1 i = 1#1), ∀ a, (k0_off359 k0_t1 v13631 v13634 v13751) a + S1x128.size a ≤ S8224x128.size a)
theorem k0_off359_inb : ∀ (i : grid0.Coords) (k0_t1 : Fin k0_t1_loop.trips) (v13631 : BitVec 32) (v13634 : BitVec 32) (v13751 : BitVec 32) (k0_hw179 : k0_chk179 i k0_t1 v13631 v13634 v13751), ∀ (k0_h1 : k0_cond1 i = 1#1), ∀ a, (k0_off359 k0_t1 v13631 v13634 v13751) a + S1x128.size a ≤ S8224x128.size a := fun i k0_t1 v13631 v13634 v13751 k0_hw179 k0_h1 => k0_hw179 k0_h1

def k0_off360 (v13631 : BitVec 32) : Fin 1 → Nat :=
  let c8_i32_5339 : BitVec 32 := 8#32
  let v13762 : BitVec 32 := Scalar.addi v13631 c8_i32_5339
  let v13765 : Index := Scalar.indexCast v13762
  ![v13765.toNat]
def k0_off361 (k0_t1 : Fin k0_t1_loop.trips) (v13631 : BitVec 32) (v13634 : BitVec 32) (v13766 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_5340 : BitVec 32 := 8#32
  let v13763 : BitVec 32 := Scalar.addi v13631 c8_i32_5340
  let v13764 : BitVec 1 := Scalar.cmpi .slt v13763 v13634
  let c65535_i32_5341 : BitVec 32 := 65535#32
  let v13767 : BitVec 32 := Scalar.andi v13766 c65535_i32_5341
  let c2048_i32_5342 : BitVec 32 := 2048#32
  let v13768 : BitVec 32 := Scalar.select v13764 v13767 c2048_i32_5342
  let v13769 : BitVec 32 := Scalar.addi v11087 v13768
  let v13772 : Index := Scalar.indexCast v13769
  let c0_5344 : Index := 0#32
  ![v13772.toNat, 0]

def k0_chk180 (i : grid0.Coords) (k0_t1 : Fin k0_t1_loop.trips) (v13631 : BitVec 32) (v13634 : BitVec 32) (v13766 : BitVec 32) : Prop :=
  (∀ (k0_h1 : k0_cond1 i = 1#1), ∀ a, (k0_off361 k0_t1 v13631 v13634 v13766) a + S1x128.size a ≤ S8224x128.size a)
theorem k0_off361_inb : ∀ (i : grid0.Coords) (k0_t1 : Fin k0_t1_loop.trips) (v13631 : BitVec 32) (v13634 : BitVec 32) (v13766 : BitVec 32) (k0_hw180 : k0_chk180 i k0_t1 v13631 v13634 v13766), ∀ (k0_h1 : k0_cond1 i = 1#1), ∀ a, (k0_off361 k0_t1 v13631 v13634 v13766) a + S1x128.size a ≤ S8224x128.size a := fun i k0_t1 v13631 v13634 v13766 k0_hw180 k0_h1 => k0_hw180 k0_h1

def k0_off362 (v13631 : BitVec 32) : Fin 1 → Nat :=
  let c9_i32_5345 : BitVec 32 := 9#32
  let v13777 : BitVec 32 := Scalar.addi v13631 c9_i32_5345
  let v13780 : Index := Scalar.indexCast v13777
  ![v13780.toNat]
def k0_off363 (k0_t1 : Fin k0_t1_loop.trips) (v13631 : BitVec 32) (v13634 : BitVec 32) (v13781 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_5346 : BitVec 32 := 9#32
  let v13778 : BitVec 32 := Scalar.addi v13631 c9_i32_5346
  let v13779 : BitVec 1 := Scalar.cmpi .slt v13778 v13634
  let c65535_i32_5347 : BitVec 32 := 65535#32
  let v13782 : BitVec 32 := Scalar.andi v13781 c65535_i32_5347
  let c2048_i32_5348 : BitVec 32 := 2048#32
  let v13783 : BitVec 32 := Scalar.select v13779 v13782 c2048_i32_5348
  let v13784 : BitVec 32 := Scalar.addi v11087 v13783
  let v13787 : Index := Scalar.indexCast v13784
  let c0_5350 : Index := 0#32
  ![v13787.toNat, 0]

def k0_chk181 (i : grid0.Coords) (k0_t1 : Fin k0_t1_loop.trips) (v13631 : BitVec 32) (v13634 : BitVec 32) (v13781 : BitVec 32) : Prop :=
  (∀ (k0_h1 : k0_cond1 i = 1#1), ∀ a, (k0_off363 k0_t1 v13631 v13634 v13781) a + S1x128.size a ≤ S8224x128.size a)
theorem k0_off363_inb : ∀ (i : grid0.Coords) (k0_t1 : Fin k0_t1_loop.trips) (v13631 : BitVec 32) (v13634 : BitVec 32) (v13781 : BitVec 32) (k0_hw181 : k0_chk181 i k0_t1 v13631 v13634 v13781), ∀ (k0_h1 : k0_cond1 i = 1#1), ∀ a, (k0_off363 k0_t1 v13631 v13634 v13781) a + S1x128.size a ≤ S8224x128.size a := fun i k0_t1 v13631 v13634 v13781 k0_hw181 k0_h1 => k0_hw181 k0_h1

def k0_off364 (v13631 : BitVec 32) : Fin 1 → Nat :=
  let c10_i32_5351 : BitVec 32 := 10#32
  let v13792 : BitVec 32 := Scalar.addi v13631 c10_i32_5351
  let v13795 : Index := Scalar.indexCast v13792
  ![v13795.toNat]
def k0_off365 (k0_t1 : Fin k0_t1_loop.trips) (v13631 : BitVec 32) (v13634 : BitVec 32) (v13796 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_5352 : BitVec 32 := 10#32
  let v13793 : BitVec 32 := Scalar.addi v13631 c10_i32_5352
  let v13794 : BitVec 1 := Scalar.cmpi .slt v13793 v13634
  let c65535_i32_5353 : BitVec 32 := 65535#32
  let v13797 : BitVec 32 := Scalar.andi v13796 c65535_i32_5353
  let c2048_i32_5354 : BitVec 32 := 2048#32
  let v13798 : BitVec 32 := Scalar.select v13794 v13797 c2048_i32_5354
  let v13799 : BitVec 32 := Scalar.addi v11087 v13798
  let v13802 : Index := Scalar.indexCast v13799
  let c0_5356 : Index := 0#32
  ![v13802.toNat, 0]

def k0_chk182 (i : grid0.Coords) (k0_t1 : Fin k0_t1_loop.trips) (v13631 : BitVec 32) (v13634 : BitVec 32) (v13796 : BitVec 32) : Prop :=
  (∀ (k0_h1 : k0_cond1 i = 1#1), ∀ a, (k0_off365 k0_t1 v13631 v13634 v13796) a + S1x128.size a ≤ S8224x128.size a)
theorem k0_off365_inb : ∀ (i : grid0.Coords) (k0_t1 : Fin k0_t1_loop.trips) (v13631 : BitVec 32) (v13634 : BitVec 32) (v13796 : BitVec 32) (k0_hw182 : k0_chk182 i k0_t1 v13631 v13634 v13796), ∀ (k0_h1 : k0_cond1 i = 1#1), ∀ a, (k0_off365 k0_t1 v13631 v13634 v13796) a + S1x128.size a ≤ S8224x128.size a := fun i k0_t1 v13631 v13634 v13796 k0_hw182 k0_h1 => k0_hw182 k0_h1

def k0_off366 (v13631 : BitVec 32) : Fin 1 → Nat :=
  let c11_i32_5357 : BitVec 32 := 11#32
  let v13807 : BitVec 32 := Scalar.addi v13631 c11_i32_5357
  let v13810 : Index := Scalar.indexCast v13807
  ![v13810.toNat]
def k0_off367 (k0_t1 : Fin k0_t1_loop.trips) (v13631 : BitVec 32) (v13634 : BitVec 32) (v13811 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_5358 : BitVec 32 := 11#32
  let v13808 : BitVec 32 := Scalar.addi v13631 c11_i32_5358
  let v13809 : BitVec 1 := Scalar.cmpi .slt v13808 v13634
  let c65535_i32_5359 : BitVec 32 := 65535#32
  let v13812 : BitVec 32 := Scalar.andi v13811 c65535_i32_5359
  let c2048_i32_5360 : BitVec 32 := 2048#32
  let v13813 : BitVec 32 := Scalar.select v13809 v13812 c2048_i32_5360
  let v13814 : BitVec 32 := Scalar.addi v11087 v13813
  let v13817 : Index := Scalar.indexCast v13814
  let c0_5362 : Index := 0#32
  ![v13817.toNat, 0]

def k0_chk183 (i : grid0.Coords) (k0_t1 : Fin k0_t1_loop.trips) (v13631 : BitVec 32) (v13634 : BitVec 32) (v13811 : BitVec 32) : Prop :=
  (∀ (k0_h1 : k0_cond1 i = 1#1), ∀ a, (k0_off367 k0_t1 v13631 v13634 v13811) a + S1x128.size a ≤ S8224x128.size a)
theorem k0_off367_inb : ∀ (i : grid0.Coords) (k0_t1 : Fin k0_t1_loop.trips) (v13631 : BitVec 32) (v13634 : BitVec 32) (v13811 : BitVec 32) (k0_hw183 : k0_chk183 i k0_t1 v13631 v13634 v13811), ∀ (k0_h1 : k0_cond1 i = 1#1), ∀ a, (k0_off367 k0_t1 v13631 v13634 v13811) a + S1x128.size a ≤ S8224x128.size a := fun i k0_t1 v13631 v13634 v13811 k0_hw183 k0_h1 => k0_hw183 k0_h1

def k0_off368 (v13631 : BitVec 32) : Fin 1 → Nat :=
  let c12_i32_5363 : BitVec 32 := 12#32
  let v13822 : BitVec 32 := Scalar.addi v13631 c12_i32_5363
  let v13825 : Index := Scalar.indexCast v13822
  ![v13825.toNat]
def k0_off369 (k0_t1 : Fin k0_t1_loop.trips) (v13631 : BitVec 32) (v13634 : BitVec 32) (v13826 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_5364 : BitVec 32 := 12#32
  let v13823 : BitVec 32 := Scalar.addi v13631 c12_i32_5364
  let v13824 : BitVec 1 := Scalar.cmpi .slt v13823 v13634
  let c65535_i32_5365 : BitVec 32 := 65535#32
  let v13827 : BitVec 32 := Scalar.andi v13826 c65535_i32_5365
  let c2048_i32_5366 : BitVec 32 := 2048#32
  let v13828 : BitVec 32 := Scalar.select v13824 v13827 c2048_i32_5366
  let v13829 : BitVec 32 := Scalar.addi v11087 v13828
  let v13832 : Index := Scalar.indexCast v13829
  let c0_5368 : Index := 0#32
  ![v13832.toNat, 0]

def k0_chk184 (i : grid0.Coords) (k0_t1 : Fin k0_t1_loop.trips) (v13631 : BitVec 32) (v13634 : BitVec 32) (v13826 : BitVec 32) : Prop :=
  (∀ (k0_h1 : k0_cond1 i = 1#1), ∀ a, (k0_off369 k0_t1 v13631 v13634 v13826) a + S1x128.size a ≤ S8224x128.size a)
theorem k0_off369_inb : ∀ (i : grid0.Coords) (k0_t1 : Fin k0_t1_loop.trips) (v13631 : BitVec 32) (v13634 : BitVec 32) (v13826 : BitVec 32) (k0_hw184 : k0_chk184 i k0_t1 v13631 v13634 v13826), ∀ (k0_h1 : k0_cond1 i = 1#1), ∀ a, (k0_off369 k0_t1 v13631 v13634 v13826) a + S1x128.size a ≤ S8224x128.size a := fun i k0_t1 v13631 v13634 v13826 k0_hw184 k0_h1 => k0_hw184 k0_h1

def k0_off370 (v13631 : BitVec 32) : Fin 1 → Nat :=
  let c13_i32_5369 : BitVec 32 := 13#32
  let v13837 : BitVec 32 := Scalar.addi v13631 c13_i32_5369
  let v13840 : Index := Scalar.indexCast v13837
  ![v13840.toNat]
def k0_off371 (k0_t1 : Fin k0_t1_loop.trips) (v13631 : BitVec 32) (v13634 : BitVec 32) (v13841 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_5370 : BitVec 32 := 13#32
  let v13838 : BitVec 32 := Scalar.addi v13631 c13_i32_5370
  let v13839 : BitVec 1 := Scalar.cmpi .slt v13838 v13634
  let c65535_i32_5371 : BitVec 32 := 65535#32
  let v13842 : BitVec 32 := Scalar.andi v13841 c65535_i32_5371
  let c2048_i32_5372 : BitVec 32 := 2048#32
  let v13843 : BitVec 32 := Scalar.select v13839 v13842 c2048_i32_5372
  let v13844 : BitVec 32 := Scalar.addi v11087 v13843
  let v13847 : Index := Scalar.indexCast v13844
  let c0_5374 : Index := 0#32
  ![v13847.toNat, 0]

def k0_chk185 (i : grid0.Coords) (k0_t1 : Fin k0_t1_loop.trips) (v13631 : BitVec 32) (v13634 : BitVec 32) (v13841 : BitVec 32) : Prop :=
  (∀ (k0_h1 : k0_cond1 i = 1#1), ∀ a, (k0_off371 k0_t1 v13631 v13634 v13841) a + S1x128.size a ≤ S8224x128.size a)
theorem k0_off371_inb : ∀ (i : grid0.Coords) (k0_t1 : Fin k0_t1_loop.trips) (v13631 : BitVec 32) (v13634 : BitVec 32) (v13841 : BitVec 32) (k0_hw185 : k0_chk185 i k0_t1 v13631 v13634 v13841), ∀ (k0_h1 : k0_cond1 i = 1#1), ∀ a, (k0_off371 k0_t1 v13631 v13634 v13841) a + S1x128.size a ≤ S8224x128.size a := fun i k0_t1 v13631 v13634 v13841 k0_hw185 k0_h1 => k0_hw185 k0_h1

def k0_off372 (v13631 : BitVec 32) : Fin 1 → Nat :=
  let c14_i32_5375 : BitVec 32 := 14#32
  let v13852 : BitVec 32 := Scalar.addi v13631 c14_i32_5375
  let v13855 : Index := Scalar.indexCast v13852
  ![v13855.toNat]
def k0_off373 (k0_t1 : Fin k0_t1_loop.trips) (v13631 : BitVec 32) (v13634 : BitVec 32) (v13856 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_5376 : BitVec 32 := 14#32
  let v13853 : BitVec 32 := Scalar.addi v13631 c14_i32_5376
  let v13854 : BitVec 1 := Scalar.cmpi .slt v13853 v13634
  let c65535_i32_5377 : BitVec 32 := 65535#32
  let v13857 : BitVec 32 := Scalar.andi v13856 c65535_i32_5377
  let c2048_i32_5378 : BitVec 32 := 2048#32
  let v13858 : BitVec 32 := Scalar.select v13854 v13857 c2048_i32_5378
  let v13859 : BitVec 32 := Scalar.addi v11087 v13858
  let v13862 : Index := Scalar.indexCast v13859
  let c0_5380 : Index := 0#32
  ![v13862.toNat, 0]

def k0_chk186 (i : grid0.Coords) (k0_t1 : Fin k0_t1_loop.trips) (v13631 : BitVec 32) (v13634 : BitVec 32) (v13856 : BitVec 32) : Prop :=
  (∀ (k0_h1 : k0_cond1 i = 1#1), ∀ a, (k0_off373 k0_t1 v13631 v13634 v13856) a + S1x128.size a ≤ S8224x128.size a)
theorem k0_off373_inb : ∀ (i : grid0.Coords) (k0_t1 : Fin k0_t1_loop.trips) (v13631 : BitVec 32) (v13634 : BitVec 32) (v13856 : BitVec 32) (k0_hw186 : k0_chk186 i k0_t1 v13631 v13634 v13856), ∀ (k0_h1 : k0_cond1 i = 1#1), ∀ a, (k0_off373 k0_t1 v13631 v13634 v13856) a + S1x128.size a ≤ S8224x128.size a := fun i k0_t1 v13631 v13634 v13856 k0_hw186 k0_h1 => k0_hw186 k0_h1

def k0_off374 (v13631 : BitVec 32) : Fin 1 → Nat :=
  let c15_i32_5381 : BitVec 32 := 15#32
  let v13867 : BitVec 32 := Scalar.addi v13631 c15_i32_5381
  let v13870 : Index := Scalar.indexCast v13867
  ![v13870.toNat]

def k0_chk171 (i : grid0.Coords) (v13631 : BitVec 32) : Prop :=
  (∀ (k0_h1 : k0_cond1 i = 1#1), ∀ a, (k0_off344 v13631) a + S1.size a ≤ S51920.size a) ∧
  (∀ (k0_h1 : k0_cond1 i = 1#1), ∀ a, (k0_off346 v13631) a + S1.size a ≤ S51920.size a) ∧
  (∀ (k0_h1 : k0_cond1 i = 1#1), ∀ a, (k0_off348 v13631) a + S1.size a ≤ S51920.size a) ∧
  (∀ (k0_h1 : k0_cond1 i = 1#1), ∀ a, (k0_off350 v13631) a + S1.size a ≤ S51920.size a) ∧
  (∀ (k0_h1 : k0_cond1 i = 1#1), ∀ a, (k0_off352 v13631) a + S1.size a ≤ S51920.size a) ∧
  (∀ (k0_h1 : k0_cond1 i = 1#1), ∀ a, (k0_off354 v13631) a + S1.size a ≤ S51920.size a) ∧
  (∀ (k0_h1 : k0_cond1 i = 1#1), ∀ a, (k0_off356 v13631) a + S1.size a ≤ S51920.size a) ∧
  (∀ (k0_h1 : k0_cond1 i = 1#1), ∀ a, (k0_off358 v13631) a + S1.size a ≤ S51920.size a) ∧
  (∀ (k0_h1 : k0_cond1 i = 1#1), ∀ a, (k0_off360 v13631) a + S1.size a ≤ S51920.size a) ∧
  (∀ (k0_h1 : k0_cond1 i = 1#1), ∀ a, (k0_off362 v13631) a + S1.size a ≤ S51920.size a) ∧
  (∀ (k0_h1 : k0_cond1 i = 1#1), ∀ a, (k0_off364 v13631) a + S1.size a ≤ S51920.size a) ∧
  (∀ (k0_h1 : k0_cond1 i = 1#1), ∀ a, (k0_off366 v13631) a + S1.size a ≤ S51920.size a) ∧
  (∀ (k0_h1 : k0_cond1 i = 1#1), ∀ a, (k0_off368 v13631) a + S1.size a ≤ S51920.size a) ∧
  (∀ (k0_h1 : k0_cond1 i = 1#1), ∀ a, (k0_off370 v13631) a + S1.size a ≤ S51920.size a) ∧
  (∀ (k0_h1 : k0_cond1 i = 1#1), ∀ a, (k0_off372 v13631) a + S1.size a ≤ S51920.size a) ∧
  (∀ (k0_h1 : k0_cond1 i = 1#1), ∀ a, (k0_off374 v13631) a + S1.size a ≤ S51920.size a)
theorem k0_off344_inb : ∀ (i : grid0.Coords) (v13631 : BitVec 32) (k0_hw171 : k0_chk171 i v13631), ∀ (k0_h1 : k0_cond1 i = 1#1), ∀ a, (k0_off344 v13631) a + S1.size a ≤ S51920.size a := fun i v13631 k0_hw171 k0_h1 => k0_hw171.1 k0_h1
theorem k0_off346_inb : ∀ (i : grid0.Coords) (v13631 : BitVec 32) (k0_hw171 : k0_chk171 i v13631), ∀ (k0_h1 : k0_cond1 i = 1#1), ∀ a, (k0_off346 v13631) a + S1.size a ≤ S51920.size a := fun i v13631 k0_hw171 k0_h1 => k0_hw171.2.1 k0_h1
theorem k0_off348_inb : ∀ (i : grid0.Coords) (v13631 : BitVec 32) (k0_hw171 : k0_chk171 i v13631), ∀ (k0_h1 : k0_cond1 i = 1#1), ∀ a, (k0_off348 v13631) a + S1.size a ≤ S51920.size a := fun i v13631 k0_hw171 k0_h1 => k0_hw171.2.2.1 k0_h1
theorem k0_off350_inb : ∀ (i : grid0.Coords) (v13631 : BitVec 32) (k0_hw171 : k0_chk171 i v13631), ∀ (k0_h1 : k0_cond1 i = 1#1), ∀ a, (k0_off350 v13631) a + S1.size a ≤ S51920.size a := fun i v13631 k0_hw171 k0_h1 => k0_hw171.2.2.2.1 k0_h1
theorem k0_off352_inb : ∀ (i : grid0.Coords) (v13631 : BitVec 32) (k0_hw171 : k0_chk171 i v13631), ∀ (k0_h1 : k0_cond1 i = 1#1), ∀ a, (k0_off352 v13631) a + S1.size a ≤ S51920.size a := fun i v13631 k0_hw171 k0_h1 => k0_hw171.2.2.2.2.1 k0_h1
theorem k0_off354_inb : ∀ (i : grid0.Coords) (v13631 : BitVec 32) (k0_hw171 : k0_chk171 i v13631), ∀ (k0_h1 : k0_cond1 i = 1#1), ∀ a, (k0_off354 v13631) a + S1.size a ≤ S51920.size a := fun i v13631 k0_hw171 k0_h1 => k0_hw171.2.2.2.2.2.1 k0_h1
theorem k0_off356_inb : ∀ (i : grid0.Coords) (v13631 : BitVec 32) (k0_hw171 : k0_chk171 i v13631), ∀ (k0_h1 : k0_cond1 i = 1#1), ∀ a, (k0_off356 v13631) a + S1.size a ≤ S51920.size a := fun i v13631 k0_hw171 k0_h1 => k0_hw171.2.2.2.2.2.2.1 k0_h1
theorem k0_off358_inb : ∀ (i : grid0.Coords) (v13631 : BitVec 32) (k0_hw171 : k0_chk171 i v13631), ∀ (k0_h1 : k0_cond1 i = 1#1), ∀ a, (k0_off358 v13631) a + S1.size a ≤ S51920.size a := fun i v13631 k0_hw171 k0_h1 => k0_hw171.2.2.2.2.2.2.2.1 k0_h1
theorem k0_off360_inb : ∀ (i : grid0.Coords) (v13631 : BitVec 32) (k0_hw171 : k0_chk171 i v13631), ∀ (k0_h1 : k0_cond1 i = 1#1), ∀ a, (k0_off360 v13631) a + S1.size a ≤ S51920.size a := fun i v13631 k0_hw171 k0_h1 => k0_hw171.2.2.2.2.2.2.2.2.1 k0_h1
theorem k0_off362_inb : ∀ (i : grid0.Coords) (v13631 : BitVec 32) (k0_hw171 : k0_chk171 i v13631), ∀ (k0_h1 : k0_cond1 i = 1#1), ∀ a, (k0_off362 v13631) a + S1.size a ≤ S51920.size a := fun i v13631 k0_hw171 k0_h1 => k0_hw171.2.2.2.2.2.2.2.2.2.1 k0_h1
theorem k0_off364_inb : ∀ (i : grid0.Coords) (v13631 : BitVec 32) (k0_hw171 : k0_chk171 i v13631), ∀ (k0_h1 : k0_cond1 i = 1#1), ∀ a, (k0_off364 v13631) a + S1.size a ≤ S51920.size a := fun i v13631 k0_hw171 k0_h1 => k0_hw171.2.2.2.2.2.2.2.2.2.2.1 k0_h1
theorem k0_off366_inb : ∀ (i : grid0.Coords) (v13631 : BitVec 32) (k0_hw171 : k0_chk171 i v13631), ∀ (k0_h1 : k0_cond1 i = 1#1), ∀ a, (k0_off366 v13631) a + S1.size a ≤ S51920.size a := fun i v13631 k0_hw171 k0_h1 => k0_hw171.2.2.2.2.2.2.2.2.2.2.2.1 k0_h1
theorem k0_off368_inb : ∀ (i : grid0.Coords) (v13631 : BitVec 32) (k0_hw171 : k0_chk171 i v13631), ∀ (k0_h1 : k0_cond1 i = 1#1), ∀ a, (k0_off368 v13631) a + S1.size a ≤ S51920.size a := fun i v13631 k0_hw171 k0_h1 => k0_hw171.2.2.2.2.2.2.2.2.2.2.2.2.1 k0_h1
theorem k0_off370_inb : ∀ (i : grid0.Coords) (v13631 : BitVec 32) (k0_hw171 : k0_chk171 i v13631), ∀ (k0_h1 : k0_cond1 i = 1#1), ∀ a, (k0_off370 v13631) a + S1.size a ≤ S51920.size a := fun i v13631 k0_hw171 k0_h1 => k0_hw171.2.2.2.2.2.2.2.2.2.2.2.2.2.1 k0_h1
theorem k0_off372_inb : ∀ (i : grid0.Coords) (v13631 : BitVec 32) (k0_hw171 : k0_chk171 i v13631), ∀ (k0_h1 : k0_cond1 i = 1#1), ∀ a, (k0_off372 v13631) a + S1.size a ≤ S51920.size a := fun i v13631 k0_hw171 k0_h1 => k0_hw171.2.2.2.2.2.2.2.2.2.2.2.2.2.2.1 k0_h1
theorem k0_off374_inb : ∀ (i : grid0.Coords) (v13631 : BitVec 32) (k0_hw171 : k0_chk171 i v13631), ∀ (k0_h1 : k0_cond1 i = 1#1), ∀ a, (k0_off374 v13631) a + S1.size a ≤ S51920.size a := fun i v13631 k0_hw171 k0_h1 => k0_hw171.2.2.2.2.2.2.2.2.2.2.2.2.2.2.2 k0_h1

def k0_off375 (k0_t1 : Fin k0_t1_loop.trips) (v13631 : BitVec 32) (v13634 : BitVec 32) (v13871 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_5382 : BitVec 32 := 15#32
  let v13868 : BitVec 32 := Scalar.addi v13631 c15_i32_5382
  let v13869 : BitVec 1 := Scalar.cmpi .slt v13868 v13634
  let c65535_i32_5383 : BitVec 32 := 65535#32
  let v13872 : BitVec 32 := Scalar.andi v13871 c65535_i32_5383
  let c2048_i32_5384 : BitVec 32 := 2048#32
  let v13873 : BitVec 32 := Scalar.select v13869 v13872 c2048_i32_5384
  let v13874 : BitVec 32 := Scalar.addi v11087 v13873
  let v13877 : Index := Scalar.indexCast v13874
  let c0_5386 : Index := 0#32
  ![v13877.toNat, 0]

def k0_chk187 (i : grid0.Coords) (k0_t1 : Fin k0_t1_loop.trips) (v13631 : BitVec 32) (v13634 : BitVec 32) (v13871 : BitVec 32) : Prop :=
  (∀ (k0_h1 : k0_cond1 i = 1#1), ∀ a, (k0_off375 k0_t1 v13631 v13634 v13871) a + S1x128.size a ≤ S8224x128.size a)
theorem k0_off375_inb : ∀ (i : grid0.Coords) (k0_t1 : Fin k0_t1_loop.trips) (v13631 : BitVec 32) (v13634 : BitVec 32) (v13871 : BitVec 32) (k0_hw187 : k0_chk187 i k0_t1 v13631 v13634 v13871), ∀ (k0_h1 : k0_cond1 i = 1#1), ∀ a, (k0_off375 k0_t1 v13631 v13634 v13871) a + S1x128.size a ≤ S8224x128.size a := fun i k0_t1 v13631 v13634 v13871 k0_hw187 k0_h1 => k0_hw187 k0_h1

def k0_off376 (k0_t1 : Fin k0_t1_loop.trips) : Fin 1 → Nat :=
  let c0_i32_5387 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v13882 : BitVec 32 := Scalar.addi c0_i32_5387 v11069
  let c11_i32_5388 : BitVec 32 := 11#32
  let v13883 : BitVec 32 := Scalar.addi v13882 c11_i32_5388
  let v13884 : Index := Scalar.indexCast v13883
  ![v13884.toNat]
def k0_off377 (k0_t1 : Fin k0_t1_loop.trips) : Fin 1 → Nat :=
  let c0_i32_5387 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v13882 : BitVec 32 := Scalar.addi c0_i32_5387 v11069
  let c11_i32_5388 : BitVec 32 := 11#32
  let v13883 : BitVec 32 := Scalar.addi v13882 c11_i32_5388
  let c1_i32_5389 : BitVec 32 := 1#32
  let v13886 : BitVec 32 := Scalar.addi v13883 c1_i32_5389
  let v13887 : Index := Scalar.indexCast v13886
  ![v13887.toNat]
def k0_off378 (v13885 : BitVec 32) : Fin 1 → Nat :=
  let c0_i32_5392 : BitVec 32 := 0#32
  let v13896 : BitVec 32 := Scalar.addi v13885 c0_i32_5392
  let v13899 : Index := Scalar.indexCast v13896
  ![v13899.toNat]

def k0_off379 (k0_t1 : Fin k0_t1_loop.trips) (v13885 : BitVec 32) (v13888 : BitVec 32) (v13900 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_5393 : BitVec 32 := 0#32
  let v13897 : BitVec 32 := Scalar.addi v13885 c0_i32_5393
  let v13898 : BitVec 1 := Scalar.cmpi .slt v13897 v13888
  let c65535_i32_5394 : BitVec 32 := 65535#32
  let v13901 : BitVec 32 := Scalar.andi v13900 c65535_i32_5394
  let c2048_i32_5395 : BitVec 32 := 2048#32
  let v13902 : BitVec 32 := Scalar.select v13898 v13901 c2048_i32_5395
  let v13903 : BitVec 32 := Scalar.addi v11087 v13902
  let v13906 : Index := Scalar.indexCast v13903
  let c0_5397 : Index := 0#32
  ![v13906.toNat, 0]

def k0_chk189 (i : grid0.Coords) (k0_t1 : Fin k0_t1_loop.trips) (v13885 : BitVec 32) (v13888 : BitVec 32) (v13900 : BitVec 32) : Prop :=
  (∀ (k0_h1 : k0_cond1 i = 1#1), ∀ a, (k0_off379 k0_t1 v13885 v13888 v13900) a + S1x128.size a ≤ S8224x128.size a)
theorem k0_off379_inb : ∀ (i : grid0.Coords) (k0_t1 : Fin k0_t1_loop.trips) (v13885 : BitVec 32) (v13888 : BitVec 32) (v13900 : BitVec 32) (k0_hw189 : k0_chk189 i k0_t1 v13885 v13888 v13900), ∀ (k0_h1 : k0_cond1 i = 1#1), ∀ a, (k0_off379 k0_t1 v13885 v13888 v13900) a + S1x128.size a ≤ S8224x128.size a := fun i k0_t1 v13885 v13888 v13900 k0_hw189 k0_h1 => k0_hw189 k0_h1

def k0_off380 (v13885 : BitVec 32) : Fin 1 → Nat :=
  let c1_i32_5398 : BitVec 32 := 1#32
  let v13911 : BitVec 32 := Scalar.addi v13885 c1_i32_5398
  let v13914 : Index := Scalar.indexCast v13911
  ![v13914.toNat]
def k0_off381 (k0_t1 : Fin k0_t1_loop.trips) (v13885 : BitVec 32) (v13888 : BitVec 32) (v13915 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_5399 : BitVec 32 := 1#32
  let v13912 : BitVec 32 := Scalar.addi v13885 c1_i32_5399
  let v13913 : BitVec 1 := Scalar.cmpi .slt v13912 v13888
  let c65535_i32_5400 : BitVec 32 := 65535#32
  let v13916 : BitVec 32 := Scalar.andi v13915 c65535_i32_5400
  let c2048_i32_5401 : BitVec 32 := 2048#32
  let v13917 : BitVec 32 := Scalar.select v13913 v13916 c2048_i32_5401
  let v13918 : BitVec 32 := Scalar.addi v11087 v13917
  let v13921 : Index := Scalar.indexCast v13918
  let c0_5403 : Index := 0#32
  ![v13921.toNat, 0]

def k0_chk190 (i : grid0.Coords) (k0_t1 : Fin k0_t1_loop.trips) (v13885 : BitVec 32) (v13888 : BitVec 32) (v13915 : BitVec 32) : Prop :=
  (∀ (k0_h1 : k0_cond1 i = 1#1), ∀ a, (k0_off381 k0_t1 v13885 v13888 v13915) a + S1x128.size a ≤ S8224x128.size a)
theorem k0_off381_inb : ∀ (i : grid0.Coords) (k0_t1 : Fin k0_t1_loop.trips) (v13885 : BitVec 32) (v13888 : BitVec 32) (v13915 : BitVec 32) (k0_hw190 : k0_chk190 i k0_t1 v13885 v13888 v13915), ∀ (k0_h1 : k0_cond1 i = 1#1), ∀ a, (k0_off381 k0_t1 v13885 v13888 v13915) a + S1x128.size a ≤ S8224x128.size a := fun i k0_t1 v13885 v13888 v13915 k0_hw190 k0_h1 => k0_hw190 k0_h1

def k0_off382 (v13885 : BitVec 32) : Fin 1 → Nat :=
  let c2_i32_5404 : BitVec 32 := 2#32
  let v13926 : BitVec 32 := Scalar.addi v13885 c2_i32_5404
  let v13929 : Index := Scalar.indexCast v13926
  ![v13929.toNat]
def k0_off383 (k0_t1 : Fin k0_t1_loop.trips) (v13885 : BitVec 32) (v13888 : BitVec 32) (v13930 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_5405 : BitVec 32 := 2#32
  let v13927 : BitVec 32 := Scalar.addi v13885 c2_i32_5405
  let v13928 : BitVec 1 := Scalar.cmpi .slt v13927 v13888
  let c65535_i32_5406 : BitVec 32 := 65535#32
  let v13931 : BitVec 32 := Scalar.andi v13930 c65535_i32_5406
  let c2048_i32_5407 : BitVec 32 := 2048#32
  let v13932 : BitVec 32 := Scalar.select v13928 v13931 c2048_i32_5407
  let v13933 : BitVec 32 := Scalar.addi v11087 v13932
  let v13936 : Index := Scalar.indexCast v13933
  let c0_5409 : Index := 0#32
  ![v13936.toNat, 0]

def k0_chk191 (i : grid0.Coords) (k0_t1 : Fin k0_t1_loop.trips) (v13885 : BitVec 32) (v13888 : BitVec 32) (v13930 : BitVec 32) : Prop :=
  (∀ (k0_h1 : k0_cond1 i = 1#1), ∀ a, (k0_off383 k0_t1 v13885 v13888 v13930) a + S1x128.size a ≤ S8224x128.size a)
theorem k0_off383_inb : ∀ (i : grid0.Coords) (k0_t1 : Fin k0_t1_loop.trips) (v13885 : BitVec 32) (v13888 : BitVec 32) (v13930 : BitVec 32) (k0_hw191 : k0_chk191 i k0_t1 v13885 v13888 v13930), ∀ (k0_h1 : k0_cond1 i = 1#1), ∀ a, (k0_off383 k0_t1 v13885 v13888 v13930) a + S1x128.size a ≤ S8224x128.size a := fun i k0_t1 v13885 v13888 v13930 k0_hw191 k0_h1 => k0_hw191 k0_h1

def k0_off384 (v13885 : BitVec 32) : Fin 1 → Nat :=
  let c3_i32_5410 : BitVec 32 := 3#32
  let v13941 : BitVec 32 := Scalar.addi v13885 c3_i32_5410
  let v13944 : Index := Scalar.indexCast v13941
  ![v13944.toNat]
def k0_off385 (k0_t1 : Fin k0_t1_loop.trips) (v13885 : BitVec 32) (v13888 : BitVec 32) (v13945 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_5411 : BitVec 32 := 3#32
  let v13942 : BitVec 32 := Scalar.addi v13885 c3_i32_5411
  let v13943 : BitVec 1 := Scalar.cmpi .slt v13942 v13888
  let c65535_i32_5412 : BitVec 32 := 65535#32
  let v13946 : BitVec 32 := Scalar.andi v13945 c65535_i32_5412
  let c2048_i32_5413 : BitVec 32 := 2048#32
  let v13947 : BitVec 32 := Scalar.select v13943 v13946 c2048_i32_5413
  let v13948 : BitVec 32 := Scalar.addi v11087 v13947
  let v13951 : Index := Scalar.indexCast v13948
  let c0_5415 : Index := 0#32
  ![v13951.toNat, 0]

def k0_chk192 (i : grid0.Coords) (k0_t1 : Fin k0_t1_loop.trips) (v13885 : BitVec 32) (v13888 : BitVec 32) (v13945 : BitVec 32) : Prop :=
  (∀ (k0_h1 : k0_cond1 i = 1#1), ∀ a, (k0_off385 k0_t1 v13885 v13888 v13945) a + S1x128.size a ≤ S8224x128.size a)
theorem k0_off385_inb : ∀ (i : grid0.Coords) (k0_t1 : Fin k0_t1_loop.trips) (v13885 : BitVec 32) (v13888 : BitVec 32) (v13945 : BitVec 32) (k0_hw192 : k0_chk192 i k0_t1 v13885 v13888 v13945), ∀ (k0_h1 : k0_cond1 i = 1#1), ∀ a, (k0_off385 k0_t1 v13885 v13888 v13945) a + S1x128.size a ≤ S8224x128.size a := fun i k0_t1 v13885 v13888 v13945 k0_hw192 k0_h1 => k0_hw192 k0_h1

def k0_off386 (v13885 : BitVec 32) : Fin 1 → Nat :=
  let c4_i32_5416 : BitVec 32 := 4#32
  let v13956 : BitVec 32 := Scalar.addi v13885 c4_i32_5416
  let v13959 : Index := Scalar.indexCast v13956
  ![v13959.toNat]
def k0_off387 (k0_t1 : Fin k0_t1_loop.trips) (v13885 : BitVec 32) (v13888 : BitVec 32) (v13960 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_5417 : BitVec 32 := 4#32
  let v13957 : BitVec 32 := Scalar.addi v13885 c4_i32_5417
  let v13958 : BitVec 1 := Scalar.cmpi .slt v13957 v13888
  let c65535_i32_5418 : BitVec 32 := 65535#32
  let v13961 : BitVec 32 := Scalar.andi v13960 c65535_i32_5418
  let c2048_i32_5419 : BitVec 32 := 2048#32
  let v13962 : BitVec 32 := Scalar.select v13958 v13961 c2048_i32_5419
  let v13963 : BitVec 32 := Scalar.addi v11087 v13962
  let v13966 : Index := Scalar.indexCast v13963
  let c0_5421 : Index := 0#32
  ![v13966.toNat, 0]

def k0_chk193 (i : grid0.Coords) (k0_t1 : Fin k0_t1_loop.trips) (v13885 : BitVec 32) (v13888 : BitVec 32) (v13960 : BitVec 32) : Prop :=
  (∀ (k0_h1 : k0_cond1 i = 1#1), ∀ a, (k0_off387 k0_t1 v13885 v13888 v13960) a + S1x128.size a ≤ S8224x128.size a)
theorem k0_off387_inb : ∀ (i : grid0.Coords) (k0_t1 : Fin k0_t1_loop.trips) (v13885 : BitVec 32) (v13888 : BitVec 32) (v13960 : BitVec 32) (k0_hw193 : k0_chk193 i k0_t1 v13885 v13888 v13960), ∀ (k0_h1 : k0_cond1 i = 1#1), ∀ a, (k0_off387 k0_t1 v13885 v13888 v13960) a + S1x128.size a ≤ S8224x128.size a := fun i k0_t1 v13885 v13888 v13960 k0_hw193 k0_h1 => k0_hw193 k0_h1

def k0_off388 (v13885 : BitVec 32) : Fin 1 → Nat :=
  let c5_i32_5422 : BitVec 32 := 5#32
  let v13971 : BitVec 32 := Scalar.addi v13885 c5_i32_5422
  let v13974 : Index := Scalar.indexCast v13971
  ![v13974.toNat]
def k0_off389 (k0_t1 : Fin k0_t1_loop.trips) (v13885 : BitVec 32) (v13888 : BitVec 32) (v13975 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_5423 : BitVec 32 := 5#32
  let v13972 : BitVec 32 := Scalar.addi v13885 c5_i32_5423
  let v13973 : BitVec 1 := Scalar.cmpi .slt v13972 v13888
  let c65535_i32_5424 : BitVec 32 := 65535#32
  let v13976 : BitVec 32 := Scalar.andi v13975 c65535_i32_5424
  let c2048_i32_5425 : BitVec 32 := 2048#32
  let v13977 : BitVec 32 := Scalar.select v13973 v13976 c2048_i32_5425
  let v13978 : BitVec 32 := Scalar.addi v11087 v13977
  let v13981 : Index := Scalar.indexCast v13978
  let c0_5427 : Index := 0#32
  ![v13981.toNat, 0]

def k0_chk194 (i : grid0.Coords) (k0_t1 : Fin k0_t1_loop.trips) (v13885 : BitVec 32) (v13888 : BitVec 32) (v13975 : BitVec 32) : Prop :=
  (∀ (k0_h1 : k0_cond1 i = 1#1), ∀ a, (k0_off389 k0_t1 v13885 v13888 v13975) a + S1x128.size a ≤ S8224x128.size a)
theorem k0_off389_inb : ∀ (i : grid0.Coords) (k0_t1 : Fin k0_t1_loop.trips) (v13885 : BitVec 32) (v13888 : BitVec 32) (v13975 : BitVec 32) (k0_hw194 : k0_chk194 i k0_t1 v13885 v13888 v13975), ∀ (k0_h1 : k0_cond1 i = 1#1), ∀ a, (k0_off389 k0_t1 v13885 v13888 v13975) a + S1x128.size a ≤ S8224x128.size a := fun i k0_t1 v13885 v13888 v13975 k0_hw194 k0_h1 => k0_hw194 k0_h1

def k0_off390 (v13885 : BitVec 32) : Fin 1 → Nat :=
  let c6_i32_5428 : BitVec 32 := 6#32
  let v13986 : BitVec 32 := Scalar.addi v13885 c6_i32_5428
  let v13989 : Index := Scalar.indexCast v13986
  ![v13989.toNat]
def k0_off391 (k0_t1 : Fin k0_t1_loop.trips) (v13885 : BitVec 32) (v13888 : BitVec 32) (v13990 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_5429 : BitVec 32 := 6#32
  let v13987 : BitVec 32 := Scalar.addi v13885 c6_i32_5429
  let v13988 : BitVec 1 := Scalar.cmpi .slt v13987 v13888
  let c65535_i32_5430 : BitVec 32 := 65535#32
  let v13991 : BitVec 32 := Scalar.andi v13990 c65535_i32_5430
  let c2048_i32_5431 : BitVec 32 := 2048#32
  let v13992 : BitVec 32 := Scalar.select v13988 v13991 c2048_i32_5431
  let v13993 : BitVec 32 := Scalar.addi v11087 v13992
  let v13996 : Index := Scalar.indexCast v13993
  let c0_5433 : Index := 0#32
  ![v13996.toNat, 0]

def k0_chk195 (i : grid0.Coords) (k0_t1 : Fin k0_t1_loop.trips) (v13885 : BitVec 32) (v13888 : BitVec 32) (v13990 : BitVec 32) : Prop :=
  (∀ (k0_h1 : k0_cond1 i = 1#1), ∀ a, (k0_off391 k0_t1 v13885 v13888 v13990) a + S1x128.size a ≤ S8224x128.size a)
theorem k0_off391_inb : ∀ (i : grid0.Coords) (k0_t1 : Fin k0_t1_loop.trips) (v13885 : BitVec 32) (v13888 : BitVec 32) (v13990 : BitVec 32) (k0_hw195 : k0_chk195 i k0_t1 v13885 v13888 v13990), ∀ (k0_h1 : k0_cond1 i = 1#1), ∀ a, (k0_off391 k0_t1 v13885 v13888 v13990) a + S1x128.size a ≤ S8224x128.size a := fun i k0_t1 v13885 v13888 v13990 k0_hw195 k0_h1 => k0_hw195 k0_h1

def k0_off392 (v13885 : BitVec 32) : Fin 1 → Nat :=
  let c7_i32_5434 : BitVec 32 := 7#32
  let v14001 : BitVec 32 := Scalar.addi v13885 c7_i32_5434
  let v14004 : Index := Scalar.indexCast v14001
  ![v14004.toNat]
def k0_off393 (k0_t1 : Fin k0_t1_loop.trips) (v13885 : BitVec 32) (v13888 : BitVec 32) (v14005 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_5435 : BitVec 32 := 7#32
  let v14002 : BitVec 32 := Scalar.addi v13885 c7_i32_5435
  let v14003 : BitVec 1 := Scalar.cmpi .slt v14002 v13888
  let c65535_i32_5436 : BitVec 32 := 65535#32
  let v14006 : BitVec 32 := Scalar.andi v14005 c65535_i32_5436
  let c2048_i32_5437 : BitVec 32 := 2048#32
  let v14007 : BitVec 32 := Scalar.select v14003 v14006 c2048_i32_5437
  let v14008 : BitVec 32 := Scalar.addi v11087 v14007
  let v14011 : Index := Scalar.indexCast v14008
  let c0_5439 : Index := 0#32
  ![v14011.toNat, 0]

def k0_chk196 (i : grid0.Coords) (k0_t1 : Fin k0_t1_loop.trips) (v13885 : BitVec 32) (v13888 : BitVec 32) (v14005 : BitVec 32) : Prop :=
  (∀ (k0_h1 : k0_cond1 i = 1#1), ∀ a, (k0_off393 k0_t1 v13885 v13888 v14005) a + S1x128.size a ≤ S8224x128.size a)
theorem k0_off393_inb : ∀ (i : grid0.Coords) (k0_t1 : Fin k0_t1_loop.trips) (v13885 : BitVec 32) (v13888 : BitVec 32) (v14005 : BitVec 32) (k0_hw196 : k0_chk196 i k0_t1 v13885 v13888 v14005), ∀ (k0_h1 : k0_cond1 i = 1#1), ∀ a, (k0_off393 k0_t1 v13885 v13888 v14005) a + S1x128.size a ≤ S8224x128.size a := fun i k0_t1 v13885 v13888 v14005 k0_hw196 k0_h1 => k0_hw196 k0_h1

def k0_off394 (v13885 : BitVec 32) : Fin 1 → Nat :=
  let c8_i32_5440 : BitVec 32 := 8#32
  let v14016 : BitVec 32 := Scalar.addi v13885 c8_i32_5440
  let v14019 : Index := Scalar.indexCast v14016
  ![v14019.toNat]
def k0_off395 (k0_t1 : Fin k0_t1_loop.trips) (v13885 : BitVec 32) (v13888 : BitVec 32) (v14020 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_5441 : BitVec 32 := 8#32
  let v14017 : BitVec 32 := Scalar.addi v13885 c8_i32_5441
  let v14018 : BitVec 1 := Scalar.cmpi .slt v14017 v13888
  let c65535_i32_5442 : BitVec 32 := 65535#32
  let v14021 : BitVec 32 := Scalar.andi v14020 c65535_i32_5442
  let c2048_i32_5443 : BitVec 32 := 2048#32
  let v14022 : BitVec 32 := Scalar.select v14018 v14021 c2048_i32_5443
  let v14023 : BitVec 32 := Scalar.addi v11087 v14022
  let v14026 : Index := Scalar.indexCast v14023
  let c0_5445 : Index := 0#32
  ![v14026.toNat, 0]

def k0_chk197 (i : grid0.Coords) (k0_t1 : Fin k0_t1_loop.trips) (v13885 : BitVec 32) (v13888 : BitVec 32) (v14020 : BitVec 32) : Prop :=
  (∀ (k0_h1 : k0_cond1 i = 1#1), ∀ a, (k0_off395 k0_t1 v13885 v13888 v14020) a + S1x128.size a ≤ S8224x128.size a)
theorem k0_off395_inb : ∀ (i : grid0.Coords) (k0_t1 : Fin k0_t1_loop.trips) (v13885 : BitVec 32) (v13888 : BitVec 32) (v14020 : BitVec 32) (k0_hw197 : k0_chk197 i k0_t1 v13885 v13888 v14020), ∀ (k0_h1 : k0_cond1 i = 1#1), ∀ a, (k0_off395 k0_t1 v13885 v13888 v14020) a + S1x128.size a ≤ S8224x128.size a := fun i k0_t1 v13885 v13888 v14020 k0_hw197 k0_h1 => k0_hw197 k0_h1

def k0_off396 (v13885 : BitVec 32) : Fin 1 → Nat :=
  let c9_i32_5446 : BitVec 32 := 9#32
  let v14031 : BitVec 32 := Scalar.addi v13885 c9_i32_5446
  let v14034 : Index := Scalar.indexCast v14031
  ![v14034.toNat]
def k0_off397 (k0_t1 : Fin k0_t1_loop.trips) (v13885 : BitVec 32) (v13888 : BitVec 32) (v14035 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_5447 : BitVec 32 := 9#32
  let v14032 : BitVec 32 := Scalar.addi v13885 c9_i32_5447
  let v14033 : BitVec 1 := Scalar.cmpi .slt v14032 v13888
  let c65535_i32_5448 : BitVec 32 := 65535#32
  let v14036 : BitVec 32 := Scalar.andi v14035 c65535_i32_5448
  let c2048_i32_5449 : BitVec 32 := 2048#32
  let v14037 : BitVec 32 := Scalar.select v14033 v14036 c2048_i32_5449
  let v14038 : BitVec 32 := Scalar.addi v11087 v14037
  let v14041 : Index := Scalar.indexCast v14038
  let c0_5451 : Index := 0#32
  ![v14041.toNat, 0]

def k0_chk198 (i : grid0.Coords) (k0_t1 : Fin k0_t1_loop.trips) (v13885 : BitVec 32) (v13888 : BitVec 32) (v14035 : BitVec 32) : Prop :=
  (∀ (k0_h1 : k0_cond1 i = 1#1), ∀ a, (k0_off397 k0_t1 v13885 v13888 v14035) a + S1x128.size a ≤ S8224x128.size a)
theorem k0_off397_inb : ∀ (i : grid0.Coords) (k0_t1 : Fin k0_t1_loop.trips) (v13885 : BitVec 32) (v13888 : BitVec 32) (v14035 : BitVec 32) (k0_hw198 : k0_chk198 i k0_t1 v13885 v13888 v14035), ∀ (k0_h1 : k0_cond1 i = 1#1), ∀ a, (k0_off397 k0_t1 v13885 v13888 v14035) a + S1x128.size a ≤ S8224x128.size a := fun i k0_t1 v13885 v13888 v14035 k0_hw198 k0_h1 => k0_hw198 k0_h1

def k0_off398 (v13885 : BitVec 32) : Fin 1 → Nat :=
  let c10_i32_5452 : BitVec 32 := 10#32
  let v14046 : BitVec 32 := Scalar.addi v13885 c10_i32_5452
  let v14049 : Index := Scalar.indexCast v14046
  ![v14049.toNat]
def k0_off399 (k0_t1 : Fin k0_t1_loop.trips) (v13885 : BitVec 32) (v13888 : BitVec 32) (v14050 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_5453 : BitVec 32 := 10#32
  let v14047 : BitVec 32 := Scalar.addi v13885 c10_i32_5453
  let v14048 : BitVec 1 := Scalar.cmpi .slt v14047 v13888
  let c65535_i32_5454 : BitVec 32 := 65535#32
  let v14051 : BitVec 32 := Scalar.andi v14050 c65535_i32_5454
  let c2048_i32_5455 : BitVec 32 := 2048#32
  let v14052 : BitVec 32 := Scalar.select v14048 v14051 c2048_i32_5455
  let v14053 : BitVec 32 := Scalar.addi v11087 v14052
  let v14056 : Index := Scalar.indexCast v14053
  let c0_5457 : Index := 0#32
  ![v14056.toNat, 0]

def k0_chk199 (i : grid0.Coords) (k0_t1 : Fin k0_t1_loop.trips) (v13885 : BitVec 32) (v13888 : BitVec 32) (v14050 : BitVec 32) : Prop :=
  (∀ (k0_h1 : k0_cond1 i = 1#1), ∀ a, (k0_off399 k0_t1 v13885 v13888 v14050) a + S1x128.size a ≤ S8224x128.size a)
theorem k0_off399_inb : ∀ (i : grid0.Coords) (k0_t1 : Fin k0_t1_loop.trips) (v13885 : BitVec 32) (v13888 : BitVec 32) (v14050 : BitVec 32) (k0_hw199 : k0_chk199 i k0_t1 v13885 v13888 v14050), ∀ (k0_h1 : k0_cond1 i = 1#1), ∀ a, (k0_off399 k0_t1 v13885 v13888 v14050) a + S1x128.size a ≤ S8224x128.size a := fun i k0_t1 v13885 v13888 v14050 k0_hw199 k0_h1 => k0_hw199 k0_h1

def k0_off400 (v13885 : BitVec 32) : Fin 1 → Nat :=
  let c11_i32_5458 : BitVec 32 := 11#32
  let v14061 : BitVec 32 := Scalar.addi v13885 c11_i32_5458
  let v14064 : Index := Scalar.indexCast v14061
  ![v14064.toNat]
def k0_off401 (k0_t1 : Fin k0_t1_loop.trips) (v13885 : BitVec 32) (v13888 : BitVec 32) (v14065 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_5459 : BitVec 32 := 11#32
  let v14062 : BitVec 32 := Scalar.addi v13885 c11_i32_5459
  let v14063 : BitVec 1 := Scalar.cmpi .slt v14062 v13888
  let c65535_i32_5460 : BitVec 32 := 65535#32
  let v14066 : BitVec 32 := Scalar.andi v14065 c65535_i32_5460
  let c2048_i32_5461 : BitVec 32 := 2048#32
  let v14067 : BitVec 32 := Scalar.select v14063 v14066 c2048_i32_5461
  let v14068 : BitVec 32 := Scalar.addi v11087 v14067
  let v14071 : Index := Scalar.indexCast v14068
  let c0_5463 : Index := 0#32
  ![v14071.toNat, 0]

def k0_chk200 (i : grid0.Coords) (k0_t1 : Fin k0_t1_loop.trips) (v13885 : BitVec 32) (v13888 : BitVec 32) (v14065 : BitVec 32) : Prop :=
  (∀ (k0_h1 : k0_cond1 i = 1#1), ∀ a, (k0_off401 k0_t1 v13885 v13888 v14065) a + S1x128.size a ≤ S8224x128.size a)
theorem k0_off401_inb : ∀ (i : grid0.Coords) (k0_t1 : Fin k0_t1_loop.trips) (v13885 : BitVec 32) (v13888 : BitVec 32) (v14065 : BitVec 32) (k0_hw200 : k0_chk200 i k0_t1 v13885 v13888 v14065), ∀ (k0_h1 : k0_cond1 i = 1#1), ∀ a, (k0_off401 k0_t1 v13885 v13888 v14065) a + S1x128.size a ≤ S8224x128.size a := fun i k0_t1 v13885 v13888 v14065 k0_hw200 k0_h1 => k0_hw200 k0_h1

def k0_off402 (v13885 : BitVec 32) : Fin 1 → Nat :=
  let c12_i32_5464 : BitVec 32 := 12#32
  let v14076 : BitVec 32 := Scalar.addi v13885 c12_i32_5464
  let v14079 : Index := Scalar.indexCast v14076
  ![v14079.toNat]
def k0_off403 (k0_t1 : Fin k0_t1_loop.trips) (v13885 : BitVec 32) (v13888 : BitVec 32) (v14080 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_5465 : BitVec 32 := 12#32
  let v14077 : BitVec 32 := Scalar.addi v13885 c12_i32_5465
  let v14078 : BitVec 1 := Scalar.cmpi .slt v14077 v13888
  let c65535_i32_5466 : BitVec 32 := 65535#32
  let v14081 : BitVec 32 := Scalar.andi v14080 c65535_i32_5466
  let c2048_i32_5467 : BitVec 32 := 2048#32
  let v14082 : BitVec 32 := Scalar.select v14078 v14081 c2048_i32_5467
  let v14083 : BitVec 32 := Scalar.addi v11087 v14082
  let v14086 : Index := Scalar.indexCast v14083
  let c0_5469 : Index := 0#32
  ![v14086.toNat, 0]

def k0_chk201 (i : grid0.Coords) (k0_t1 : Fin k0_t1_loop.trips) (v13885 : BitVec 32) (v13888 : BitVec 32) (v14080 : BitVec 32) : Prop :=
  (∀ (k0_h1 : k0_cond1 i = 1#1), ∀ a, (k0_off403 k0_t1 v13885 v13888 v14080) a + S1x128.size a ≤ S8224x128.size a)
theorem k0_off403_inb : ∀ (i : grid0.Coords) (k0_t1 : Fin k0_t1_loop.trips) (v13885 : BitVec 32) (v13888 : BitVec 32) (v14080 : BitVec 32) (k0_hw201 : k0_chk201 i k0_t1 v13885 v13888 v14080), ∀ (k0_h1 : k0_cond1 i = 1#1), ∀ a, (k0_off403 k0_t1 v13885 v13888 v14080) a + S1x128.size a ≤ S8224x128.size a := fun i k0_t1 v13885 v13888 v14080 k0_hw201 k0_h1 => k0_hw201 k0_h1

def k0_off404 (v13885 : BitVec 32) : Fin 1 → Nat :=
  let c13_i32_5470 : BitVec 32 := 13#32
  let v14091 : BitVec 32 := Scalar.addi v13885 c13_i32_5470
  let v14094 : Index := Scalar.indexCast v14091
  ![v14094.toNat]
def k0_off405 (k0_t1 : Fin k0_t1_loop.trips) (v13885 : BitVec 32) (v13888 : BitVec 32) (v14095 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_5471 : BitVec 32 := 13#32
  let v14092 : BitVec 32 := Scalar.addi v13885 c13_i32_5471
  let v14093 : BitVec 1 := Scalar.cmpi .slt v14092 v13888
  let c65535_i32_5472 : BitVec 32 := 65535#32
  let v14096 : BitVec 32 := Scalar.andi v14095 c65535_i32_5472
  let c2048_i32_5473 : BitVec 32 := 2048#32
  let v14097 : BitVec 32 := Scalar.select v14093 v14096 c2048_i32_5473
  let v14098 : BitVec 32 := Scalar.addi v11087 v14097
  let v14101 : Index := Scalar.indexCast v14098
  let c0_5475 : Index := 0#32
  ![v14101.toNat, 0]

def k0_chk202 (i : grid0.Coords) (k0_t1 : Fin k0_t1_loop.trips) (v13885 : BitVec 32) (v13888 : BitVec 32) (v14095 : BitVec 32) : Prop :=
  (∀ (k0_h1 : k0_cond1 i = 1#1), ∀ a, (k0_off405 k0_t1 v13885 v13888 v14095) a + S1x128.size a ≤ S8224x128.size a)
theorem k0_off405_inb : ∀ (i : grid0.Coords) (k0_t1 : Fin k0_t1_loop.trips) (v13885 : BitVec 32) (v13888 : BitVec 32) (v14095 : BitVec 32) (k0_hw202 : k0_chk202 i k0_t1 v13885 v13888 v14095), ∀ (k0_h1 : k0_cond1 i = 1#1), ∀ a, (k0_off405 k0_t1 v13885 v13888 v14095) a + S1x128.size a ≤ S8224x128.size a := fun i k0_t1 v13885 v13888 v14095 k0_hw202 k0_h1 => k0_hw202 k0_h1

def k0_off406 (v13885 : BitVec 32) : Fin 1 → Nat :=
  let c14_i32_5476 : BitVec 32 := 14#32
  let v14106 : BitVec 32 := Scalar.addi v13885 c14_i32_5476
  let v14109 : Index := Scalar.indexCast v14106
  ![v14109.toNat]
def k0_off407 (k0_t1 : Fin k0_t1_loop.trips) (v13885 : BitVec 32) (v13888 : BitVec 32) (v14110 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_5477 : BitVec 32 := 14#32
  let v14107 : BitVec 32 := Scalar.addi v13885 c14_i32_5477
  let v14108 : BitVec 1 := Scalar.cmpi .slt v14107 v13888
  let c65535_i32_5478 : BitVec 32 := 65535#32
  let v14111 : BitVec 32 := Scalar.andi v14110 c65535_i32_5478
  let c2048_i32_5479 : BitVec 32 := 2048#32
  let v14112 : BitVec 32 := Scalar.select v14108 v14111 c2048_i32_5479
  let v14113 : BitVec 32 := Scalar.addi v11087 v14112
  let v14116 : Index := Scalar.indexCast v14113
  let c0_5481 : Index := 0#32
  ![v14116.toNat, 0]

def k0_chk203 (i : grid0.Coords) (k0_t1 : Fin k0_t1_loop.trips) (v13885 : BitVec 32) (v13888 : BitVec 32) (v14110 : BitVec 32) : Prop :=
  (∀ (k0_h1 : k0_cond1 i = 1#1), ∀ a, (k0_off407 k0_t1 v13885 v13888 v14110) a + S1x128.size a ≤ S8224x128.size a)
theorem k0_off407_inb : ∀ (i : grid0.Coords) (k0_t1 : Fin k0_t1_loop.trips) (v13885 : BitVec 32) (v13888 : BitVec 32) (v14110 : BitVec 32) (k0_hw203 : k0_chk203 i k0_t1 v13885 v13888 v14110), ∀ (k0_h1 : k0_cond1 i = 1#1), ∀ a, (k0_off407 k0_t1 v13885 v13888 v14110) a + S1x128.size a ≤ S8224x128.size a := fun i k0_t1 v13885 v13888 v14110 k0_hw203 k0_h1 => k0_hw203 k0_h1

def k0_off408 (v13885 : BitVec 32) : Fin 1 → Nat :=
  let c15_i32_5482 : BitVec 32 := 15#32
  let v14121 : BitVec 32 := Scalar.addi v13885 c15_i32_5482
  let v14124 : Index := Scalar.indexCast v14121
  ![v14124.toNat]

def k0_chk188 (i : grid0.Coords) (v13885 : BitVec 32) : Prop :=
  (∀ (k0_h1 : k0_cond1 i = 1#1), ∀ a, (k0_off378 v13885) a + S1.size a ≤ S51920.size a) ∧
  (∀ (k0_h1 : k0_cond1 i = 1#1), ∀ a, (k0_off380 v13885) a + S1.size a ≤ S51920.size a) ∧
  (∀ (k0_h1 : k0_cond1 i = 1#1), ∀ a, (k0_off382 v13885) a + S1.size a ≤ S51920.size a) ∧
  (∀ (k0_h1 : k0_cond1 i = 1#1), ∀ a, (k0_off384 v13885) a + S1.size a ≤ S51920.size a) ∧
  (∀ (k0_h1 : k0_cond1 i = 1#1), ∀ a, (k0_off386 v13885) a + S1.size a ≤ S51920.size a) ∧
  (∀ (k0_h1 : k0_cond1 i = 1#1), ∀ a, (k0_off388 v13885) a + S1.size a ≤ S51920.size a) ∧
  (∀ (k0_h1 : k0_cond1 i = 1#1), ∀ a, (k0_off390 v13885) a + S1.size a ≤ S51920.size a) ∧
  (∀ (k0_h1 : k0_cond1 i = 1#1), ∀ a, (k0_off392 v13885) a + S1.size a ≤ S51920.size a) ∧
  (∀ (k0_h1 : k0_cond1 i = 1#1), ∀ a, (k0_off394 v13885) a + S1.size a ≤ S51920.size a) ∧
  (∀ (k0_h1 : k0_cond1 i = 1#1), ∀ a, (k0_off396 v13885) a + S1.size a ≤ S51920.size a) ∧
  (∀ (k0_h1 : k0_cond1 i = 1#1), ∀ a, (k0_off398 v13885) a + S1.size a ≤ S51920.size a) ∧
  (∀ (k0_h1 : k0_cond1 i = 1#1), ∀ a, (k0_off400 v13885) a + S1.size a ≤ S51920.size a) ∧
  (∀ (k0_h1 : k0_cond1 i = 1#1), ∀ a, (k0_off402 v13885) a + S1.size a ≤ S51920.size a) ∧
  (∀ (k0_h1 : k0_cond1 i = 1#1), ∀ a, (k0_off404 v13885) a + S1.size a ≤ S51920.size a) ∧
  (∀ (k0_h1 : k0_cond1 i = 1#1), ∀ a, (k0_off406 v13885) a + S1.size a ≤ S51920.size a) ∧
  (∀ (k0_h1 : k0_cond1 i = 1#1), ∀ a, (k0_off408 v13885) a + S1.size a ≤ S51920.size a)
theorem k0_off378_inb : ∀ (i : grid0.Coords) (v13885 : BitVec 32) (k0_hw188 : k0_chk188 i v13885), ∀ (k0_h1 : k0_cond1 i = 1#1), ∀ a, (k0_off378 v13885) a + S1.size a ≤ S51920.size a := fun i v13885 k0_hw188 k0_h1 => k0_hw188.1 k0_h1
theorem k0_off380_inb : ∀ (i : grid0.Coords) (v13885 : BitVec 32) (k0_hw188 : k0_chk188 i v13885), ∀ (k0_h1 : k0_cond1 i = 1#1), ∀ a, (k0_off380 v13885) a + S1.size a ≤ S51920.size a := fun i v13885 k0_hw188 k0_h1 => k0_hw188.2.1 k0_h1
theorem k0_off382_inb : ∀ (i : grid0.Coords) (v13885 : BitVec 32) (k0_hw188 : k0_chk188 i v13885), ∀ (k0_h1 : k0_cond1 i = 1#1), ∀ a, (k0_off382 v13885) a + S1.size a ≤ S51920.size a := fun i v13885 k0_hw188 k0_h1 => k0_hw188.2.2.1 k0_h1
theorem k0_off384_inb : ∀ (i : grid0.Coords) (v13885 : BitVec 32) (k0_hw188 : k0_chk188 i v13885), ∀ (k0_h1 : k0_cond1 i = 1#1), ∀ a, (k0_off384 v13885) a + S1.size a ≤ S51920.size a := fun i v13885 k0_hw188 k0_h1 => k0_hw188.2.2.2.1 k0_h1
theorem k0_off386_inb : ∀ (i : grid0.Coords) (v13885 : BitVec 32) (k0_hw188 : k0_chk188 i v13885), ∀ (k0_h1 : k0_cond1 i = 1#1), ∀ a, (k0_off386 v13885) a + S1.size a ≤ S51920.size a := fun i v13885 k0_hw188 k0_h1 => k0_hw188.2.2.2.2.1 k0_h1
theorem k0_off388_inb : ∀ (i : grid0.Coords) (v13885 : BitVec 32) (k0_hw188 : k0_chk188 i v13885), ∀ (k0_h1 : k0_cond1 i = 1#1), ∀ a, (k0_off388 v13885) a + S1.size a ≤ S51920.size a := fun i v13885 k0_hw188 k0_h1 => k0_hw188.2.2.2.2.2.1 k0_h1
theorem k0_off390_inb : ∀ (i : grid0.Coords) (v13885 : BitVec 32) (k0_hw188 : k0_chk188 i v13885), ∀ (k0_h1 : k0_cond1 i = 1#1), ∀ a, (k0_off390 v13885) a + S1.size a ≤ S51920.size a := fun i v13885 k0_hw188 k0_h1 => k0_hw188.2.2.2.2.2.2.1 k0_h1
theorem k0_off392_inb : ∀ (i : grid0.Coords) (v13885 : BitVec 32) (k0_hw188 : k0_chk188 i v13885), ∀ (k0_h1 : k0_cond1 i = 1#1), ∀ a, (k0_off392 v13885) a + S1.size a ≤ S51920.size a := fun i v13885 k0_hw188 k0_h1 => k0_hw188.2.2.2.2.2.2.2.1 k0_h1
theorem k0_off394_inb : ∀ (i : grid0.Coords) (v13885 : BitVec 32) (k0_hw188 : k0_chk188 i v13885), ∀ (k0_h1 : k0_cond1 i = 1#1), ∀ a, (k0_off394 v13885) a + S1.size a ≤ S51920.size a := fun i v13885 k0_hw188 k0_h1 => k0_hw188.2.2.2.2.2.2.2.2.1 k0_h1
theorem k0_off396_inb : ∀ (i : grid0.Coords) (v13885 : BitVec 32) (k0_hw188 : k0_chk188 i v13885), ∀ (k0_h1 : k0_cond1 i = 1#1), ∀ a, (k0_off396 v13885) a + S1.size a ≤ S51920.size a := fun i v13885 k0_hw188 k0_h1 => k0_hw188.2.2.2.2.2.2.2.2.2.1 k0_h1
theorem k0_off398_inb : ∀ (i : grid0.Coords) (v13885 : BitVec 32) (k0_hw188 : k0_chk188 i v13885), ∀ (k0_h1 : k0_cond1 i = 1#1), ∀ a, (k0_off398 v13885) a + S1.size a ≤ S51920.size a := fun i v13885 k0_hw188 k0_h1 => k0_hw188.2.2.2.2.2.2.2.2.2.2.1 k0_h1
theorem k0_off400_inb : ∀ (i : grid0.Coords) (v13885 : BitVec 32) (k0_hw188 : k0_chk188 i v13885), ∀ (k0_h1 : k0_cond1 i = 1#1), ∀ a, (k0_off400 v13885) a + S1.size a ≤ S51920.size a := fun i v13885 k0_hw188 k0_h1 => k0_hw188.2.2.2.2.2.2.2.2.2.2.2.1 k0_h1
theorem k0_off402_inb : ∀ (i : grid0.Coords) (v13885 : BitVec 32) (k0_hw188 : k0_chk188 i v13885), ∀ (k0_h1 : k0_cond1 i = 1#1), ∀ a, (k0_off402 v13885) a + S1.size a ≤ S51920.size a := fun i v13885 k0_hw188 k0_h1 => k0_hw188.2.2.2.2.2.2.2.2.2.2.2.2.1 k0_h1
theorem k0_off404_inb : ∀ (i : grid0.Coords) (v13885 : BitVec 32) (k0_hw188 : k0_chk188 i v13885), ∀ (k0_h1 : k0_cond1 i = 1#1), ∀ a, (k0_off404 v13885) a + S1.size a ≤ S51920.size a := fun i v13885 k0_hw188 k0_h1 => k0_hw188.2.2.2.2.2.2.2.2.2.2.2.2.2.1 k0_h1
theorem k0_off406_inb : ∀ (i : grid0.Coords) (v13885 : BitVec 32) (k0_hw188 : k0_chk188 i v13885), ∀ (k0_h1 : k0_cond1 i = 1#1), ∀ a, (k0_off406 v13885) a + S1.size a ≤ S51920.size a := fun i v13885 k0_hw188 k0_h1 => k0_hw188.2.2.2.2.2.2.2.2.2.2.2.2.2.2.1 k0_h1
theorem k0_off408_inb : ∀ (i : grid0.Coords) (v13885 : BitVec 32) (k0_hw188 : k0_chk188 i v13885), ∀ (k0_h1 : k0_cond1 i = 1#1), ∀ a, (k0_off408 v13885) a + S1.size a ≤ S51920.size a := fun i v13885 k0_hw188 k0_h1 => k0_hw188.2.2.2.2.2.2.2.2.2.2.2.2.2.2.2 k0_h1

def k0_off409 (k0_t1 : Fin k0_t1_loop.trips) (v13885 : BitVec 32) (v13888 : BitVec 32) (v14125 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_5483 : BitVec 32 := 15#32
  let v14122 : BitVec 32 := Scalar.addi v13885 c15_i32_5483
  let v14123 : BitVec 1 := Scalar.cmpi .slt v14122 v13888
  let c65535_i32_5484 : BitVec 32 := 65535#32
  let v14126 : BitVec 32 := Scalar.andi v14125 c65535_i32_5484
  let c2048_i32_5485 : BitVec 32 := 2048#32
  let v14127 : BitVec 32 := Scalar.select v14123 v14126 c2048_i32_5485
  let v14128 : BitVec 32 := Scalar.addi v11087 v14127
  let v14131 : Index := Scalar.indexCast v14128
  let c0_5487 : Index := 0#32
  ![v14131.toNat, 0]

def k0_chk204 (i : grid0.Coords) (k0_t1 : Fin k0_t1_loop.trips) (v13885 : BitVec 32) (v13888 : BitVec 32) (v14125 : BitVec 32) : Prop :=
  (∀ (k0_h1 : k0_cond1 i = 1#1), ∀ a, (k0_off409 k0_t1 v13885 v13888 v14125) a + S1x128.size a ≤ S8224x128.size a)
theorem k0_off409_inb : ∀ (i : grid0.Coords) (k0_t1 : Fin k0_t1_loop.trips) (v13885 : BitVec 32) (v13888 : BitVec 32) (v14125 : BitVec 32) (k0_hw204 : k0_chk204 i k0_t1 v13885 v13888 v14125), ∀ (k0_h1 : k0_cond1 i = 1#1), ∀ a, (k0_off409 k0_t1 v13885 v13888 v14125) a + S1x128.size a ≤ S8224x128.size a := fun i k0_t1 v13885 v13888 v14125 k0_hw204 k0_h1 => k0_hw204 k0_h1

def k0_off410 (k0_t1 : Fin k0_t1_loop.trips) : Fin 1 → Nat :=
  let c0_i32_5488 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v14136 : BitVec 32 := Scalar.addi c0_i32_5488 v11069
  let c12_i32_5489 : BitVec 32 := 12#32
  let v14137 : BitVec 32 := Scalar.addi v14136 c12_i32_5489
  let v14138 : Index := Scalar.indexCast v14137
  ![v14138.toNat]
def k0_off411 (k0_t1 : Fin k0_t1_loop.trips) : Fin 1 → Nat :=
  let c0_i32_5488 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v14136 : BitVec 32 := Scalar.addi c0_i32_5488 v11069
  let c12_i32_5489 : BitVec 32 := 12#32
  let v14137 : BitVec 32 := Scalar.addi v14136 c12_i32_5489
  let c1_i32_5490 : BitVec 32 := 1#32
  let v14140 : BitVec 32 := Scalar.addi v14137 c1_i32_5490
  let v14141 : Index := Scalar.indexCast v14140
  ![v14141.toNat]
def k0_off412 (v14139 : BitVec 32) : Fin 1 → Nat :=
  let c0_i32_5493 : BitVec 32 := 0#32
  let v14150 : BitVec 32 := Scalar.addi v14139 c0_i32_5493
  let v14153 : Index := Scalar.indexCast v14150
  ![v14153.toNat]

def k0_off413 (k0_t1 : Fin k0_t1_loop.trips) (v14139 : BitVec 32) (v14142 : BitVec 32) (v14154 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_5494 : BitVec 32 := 0#32
  let v14151 : BitVec 32 := Scalar.addi v14139 c0_i32_5494
  let v14152 : BitVec 1 := Scalar.cmpi .slt v14151 v14142
  let c65535_i32_5495 : BitVec 32 := 65535#32
  let v14155 : BitVec 32 := Scalar.andi v14154 c65535_i32_5495
  let c2048_i32_5496 : BitVec 32 := 2048#32
  let v14156 : BitVec 32 := Scalar.select v14152 v14155 c2048_i32_5496
  let v14157 : BitVec 32 := Scalar.addi v11087 v14156
  let v14160 : Index := Scalar.indexCast v14157
  let c0_5498 : Index := 0#32
  ![v14160.toNat, 0]

def k0_chk206 (i : grid0.Coords) (k0_t1 : Fin k0_t1_loop.trips) (v14139 : BitVec 32) (v14142 : BitVec 32) (v14154 : BitVec 32) : Prop :=
  (∀ (k0_h1 : k0_cond1 i = 1#1), ∀ a, (k0_off413 k0_t1 v14139 v14142 v14154) a + S1x128.size a ≤ S8224x128.size a)
theorem k0_off413_inb : ∀ (i : grid0.Coords) (k0_t1 : Fin k0_t1_loop.trips) (v14139 : BitVec 32) (v14142 : BitVec 32) (v14154 : BitVec 32) (k0_hw206 : k0_chk206 i k0_t1 v14139 v14142 v14154), ∀ (k0_h1 : k0_cond1 i = 1#1), ∀ a, (k0_off413 k0_t1 v14139 v14142 v14154) a + S1x128.size a ≤ S8224x128.size a := fun i k0_t1 v14139 v14142 v14154 k0_hw206 k0_h1 => k0_hw206 k0_h1

def k0_off414 (v14139 : BitVec 32) : Fin 1 → Nat :=
  let c1_i32_5499 : BitVec 32 := 1#32
  let v14165 : BitVec 32 := Scalar.addi v14139 c1_i32_5499
  let v14168 : Index := Scalar.indexCast v14165
  ![v14168.toNat]
def k0_off415 (k0_t1 : Fin k0_t1_loop.trips) (v14139 : BitVec 32) (v14142 : BitVec 32) (v14169 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_5500 : BitVec 32 := 1#32
  let v14166 : BitVec 32 := Scalar.addi v14139 c1_i32_5500
  let v14167 : BitVec 1 := Scalar.cmpi .slt v14166 v14142
  let c65535_i32_5501 : BitVec 32 := 65535#32
  let v14170 : BitVec 32 := Scalar.andi v14169 c65535_i32_5501
  let c2048_i32_5502 : BitVec 32 := 2048#32
  let v14171 : BitVec 32 := Scalar.select v14167 v14170 c2048_i32_5502
  let v14172 : BitVec 32 := Scalar.addi v11087 v14171
  let v14175 : Index := Scalar.indexCast v14172
  let c0_5504 : Index := 0#32
  ![v14175.toNat, 0]

def k0_chk207 (i : grid0.Coords) (k0_t1 : Fin k0_t1_loop.trips) (v14139 : BitVec 32) (v14142 : BitVec 32) (v14169 : BitVec 32) : Prop :=
  (∀ (k0_h1 : k0_cond1 i = 1#1), ∀ a, (k0_off415 k0_t1 v14139 v14142 v14169) a + S1x128.size a ≤ S8224x128.size a)
theorem k0_off415_inb : ∀ (i : grid0.Coords) (k0_t1 : Fin k0_t1_loop.trips) (v14139 : BitVec 32) (v14142 : BitVec 32) (v14169 : BitVec 32) (k0_hw207 : k0_chk207 i k0_t1 v14139 v14142 v14169), ∀ (k0_h1 : k0_cond1 i = 1#1), ∀ a, (k0_off415 k0_t1 v14139 v14142 v14169) a + S1x128.size a ≤ S8224x128.size a := fun i k0_t1 v14139 v14142 v14169 k0_hw207 k0_h1 => k0_hw207 k0_h1

def k0_off416 (v14139 : BitVec 32) : Fin 1 → Nat :=
  let c2_i32_5505 : BitVec 32 := 2#32
  let v14180 : BitVec 32 := Scalar.addi v14139 c2_i32_5505
  let v14183 : Index := Scalar.indexCast v14180
  ![v14183.toNat]
def k0_off417 (k0_t1 : Fin k0_t1_loop.trips) (v14139 : BitVec 32) (v14142 : BitVec 32) (v14184 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_5506 : BitVec 32 := 2#32
  let v14181 : BitVec 32 := Scalar.addi v14139 c2_i32_5506
  let v14182 : BitVec 1 := Scalar.cmpi .slt v14181 v14142
  let c65535_i32_5507 : BitVec 32 := 65535#32
  let v14185 : BitVec 32 := Scalar.andi v14184 c65535_i32_5507
  let c2048_i32_5508 : BitVec 32 := 2048#32
  let v14186 : BitVec 32 := Scalar.select v14182 v14185 c2048_i32_5508
  let v14187 : BitVec 32 := Scalar.addi v11087 v14186
  let v14190 : Index := Scalar.indexCast v14187
  let c0_5510 : Index := 0#32
  ![v14190.toNat, 0]

def k0_chk208 (i : grid0.Coords) (k0_t1 : Fin k0_t1_loop.trips) (v14139 : BitVec 32) (v14142 : BitVec 32) (v14184 : BitVec 32) : Prop :=
  (∀ (k0_h1 : k0_cond1 i = 1#1), ∀ a, (k0_off417 k0_t1 v14139 v14142 v14184) a + S1x128.size a ≤ S8224x128.size a)
theorem k0_off417_inb : ∀ (i : grid0.Coords) (k0_t1 : Fin k0_t1_loop.trips) (v14139 : BitVec 32) (v14142 : BitVec 32) (v14184 : BitVec 32) (k0_hw208 : k0_chk208 i k0_t1 v14139 v14142 v14184), ∀ (k0_h1 : k0_cond1 i = 1#1), ∀ a, (k0_off417 k0_t1 v14139 v14142 v14184) a + S1x128.size a ≤ S8224x128.size a := fun i k0_t1 v14139 v14142 v14184 k0_hw208 k0_h1 => k0_hw208 k0_h1

def k0_off418 (v14139 : BitVec 32) : Fin 1 → Nat :=
  let c3_i32_5511 : BitVec 32 := 3#32
  let v14195 : BitVec 32 := Scalar.addi v14139 c3_i32_5511
  let v14198 : Index := Scalar.indexCast v14195
  ![v14198.toNat]
def k0_off419 (k0_t1 : Fin k0_t1_loop.trips) (v14139 : BitVec 32) (v14142 : BitVec 32) (v14199 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_5512 : BitVec 32 := 3#32
  let v14196 : BitVec 32 := Scalar.addi v14139 c3_i32_5512
  let v14197 : BitVec 1 := Scalar.cmpi .slt v14196 v14142
  let c65535_i32_5513 : BitVec 32 := 65535#32
  let v14200 : BitVec 32 := Scalar.andi v14199 c65535_i32_5513
  let c2048_i32_5514 : BitVec 32 := 2048#32
  let v14201 : BitVec 32 := Scalar.select v14197 v14200 c2048_i32_5514
  let v14202 : BitVec 32 := Scalar.addi v11087 v14201
  let v14205 : Index := Scalar.indexCast v14202
  let c0_5516 : Index := 0#32
  ![v14205.toNat, 0]

def k0_chk209 (i : grid0.Coords) (k0_t1 : Fin k0_t1_loop.trips) (v14139 : BitVec 32) (v14142 : BitVec 32) (v14199 : BitVec 32) : Prop :=
  (∀ (k0_h1 : k0_cond1 i = 1#1), ∀ a, (k0_off419 k0_t1 v14139 v14142 v14199) a + S1x128.size a ≤ S8224x128.size a)
theorem k0_off419_inb : ∀ (i : grid0.Coords) (k0_t1 : Fin k0_t1_loop.trips) (v14139 : BitVec 32) (v14142 : BitVec 32) (v14199 : BitVec 32) (k0_hw209 : k0_chk209 i k0_t1 v14139 v14142 v14199), ∀ (k0_h1 : k0_cond1 i = 1#1), ∀ a, (k0_off419 k0_t1 v14139 v14142 v14199) a + S1x128.size a ≤ S8224x128.size a := fun i k0_t1 v14139 v14142 v14199 k0_hw209 k0_h1 => k0_hw209 k0_h1

def k0_off420 (v14139 : BitVec 32) : Fin 1 → Nat :=
  let c4_i32_5517 : BitVec 32 := 4#32
  let v14210 : BitVec 32 := Scalar.addi v14139 c4_i32_5517
  let v14213 : Index := Scalar.indexCast v14210
  ![v14213.toNat]
def k0_off421 (k0_t1 : Fin k0_t1_loop.trips) (v14139 : BitVec 32) (v14142 : BitVec 32) (v14214 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_5518 : BitVec 32 := 4#32
  let v14211 : BitVec 32 := Scalar.addi v14139 c4_i32_5518
  let v14212 : BitVec 1 := Scalar.cmpi .slt v14211 v14142
  let c65535_i32_5519 : BitVec 32 := 65535#32
  let v14215 : BitVec 32 := Scalar.andi v14214 c65535_i32_5519
  let c2048_i32_5520 : BitVec 32 := 2048#32
  let v14216 : BitVec 32 := Scalar.select v14212 v14215 c2048_i32_5520
  let v14217 : BitVec 32 := Scalar.addi v11087 v14216
  let v14220 : Index := Scalar.indexCast v14217
  let c0_5522 : Index := 0#32
  ![v14220.toNat, 0]

def k0_chk210 (i : grid0.Coords) (k0_t1 : Fin k0_t1_loop.trips) (v14139 : BitVec 32) (v14142 : BitVec 32) (v14214 : BitVec 32) : Prop :=
  (∀ (k0_h1 : k0_cond1 i = 1#1), ∀ a, (k0_off421 k0_t1 v14139 v14142 v14214) a + S1x128.size a ≤ S8224x128.size a)
theorem k0_off421_inb : ∀ (i : grid0.Coords) (k0_t1 : Fin k0_t1_loop.trips) (v14139 : BitVec 32) (v14142 : BitVec 32) (v14214 : BitVec 32) (k0_hw210 : k0_chk210 i k0_t1 v14139 v14142 v14214), ∀ (k0_h1 : k0_cond1 i = 1#1), ∀ a, (k0_off421 k0_t1 v14139 v14142 v14214) a + S1x128.size a ≤ S8224x128.size a := fun i k0_t1 v14139 v14142 v14214 k0_hw210 k0_h1 => k0_hw210 k0_h1

def k0_off422 (v14139 : BitVec 32) : Fin 1 → Nat :=
  let c5_i32_5523 : BitVec 32 := 5#32
  let v14225 : BitVec 32 := Scalar.addi v14139 c5_i32_5523
  let v14228 : Index := Scalar.indexCast v14225
  ![v14228.toNat]
def k0_off423 (k0_t1 : Fin k0_t1_loop.trips) (v14139 : BitVec 32) (v14142 : BitVec 32) (v14229 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_5524 : BitVec 32 := 5#32
  let v14226 : BitVec 32 := Scalar.addi v14139 c5_i32_5524
  let v14227 : BitVec 1 := Scalar.cmpi .slt v14226 v14142
  let c65535_i32_5525 : BitVec 32 := 65535#32
  let v14230 : BitVec 32 := Scalar.andi v14229 c65535_i32_5525
  let c2048_i32_5526 : BitVec 32 := 2048#32
  let v14231 : BitVec 32 := Scalar.select v14227 v14230 c2048_i32_5526
  let v14232 : BitVec 32 := Scalar.addi v11087 v14231
  let v14235 : Index := Scalar.indexCast v14232
  let c0_5528 : Index := 0#32
  ![v14235.toNat, 0]

def k0_chk211 (i : grid0.Coords) (k0_t1 : Fin k0_t1_loop.trips) (v14139 : BitVec 32) (v14142 : BitVec 32) (v14229 : BitVec 32) : Prop :=
  (∀ (k0_h1 : k0_cond1 i = 1#1), ∀ a, (k0_off423 k0_t1 v14139 v14142 v14229) a + S1x128.size a ≤ S8224x128.size a)
theorem k0_off423_inb : ∀ (i : grid0.Coords) (k0_t1 : Fin k0_t1_loop.trips) (v14139 : BitVec 32) (v14142 : BitVec 32) (v14229 : BitVec 32) (k0_hw211 : k0_chk211 i k0_t1 v14139 v14142 v14229), ∀ (k0_h1 : k0_cond1 i = 1#1), ∀ a, (k0_off423 k0_t1 v14139 v14142 v14229) a + S1x128.size a ≤ S8224x128.size a := fun i k0_t1 v14139 v14142 v14229 k0_hw211 k0_h1 => k0_hw211 k0_h1

def k0_off424 (v14139 : BitVec 32) : Fin 1 → Nat :=
  let c6_i32_5529 : BitVec 32 := 6#32
  let v14240 : BitVec 32 := Scalar.addi v14139 c6_i32_5529
  let v14243 : Index := Scalar.indexCast v14240
  ![v14243.toNat]
def k0_off425 (k0_t1 : Fin k0_t1_loop.trips) (v14139 : BitVec 32) (v14142 : BitVec 32) (v14244 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_5530 : BitVec 32 := 6#32
  let v14241 : BitVec 32 := Scalar.addi v14139 c6_i32_5530
  let v14242 : BitVec 1 := Scalar.cmpi .slt v14241 v14142
  let c65535_i32_5531 : BitVec 32 := 65535#32
  let v14245 : BitVec 32 := Scalar.andi v14244 c65535_i32_5531
  let c2048_i32_5532 : BitVec 32 := 2048#32
  let v14246 : BitVec 32 := Scalar.select v14242 v14245 c2048_i32_5532
  let v14247 : BitVec 32 := Scalar.addi v11087 v14246
  let v14250 : Index := Scalar.indexCast v14247
  let c0_5534 : Index := 0#32
  ![v14250.toNat, 0]

def k0_chk212 (i : grid0.Coords) (k0_t1 : Fin k0_t1_loop.trips) (v14139 : BitVec 32) (v14142 : BitVec 32) (v14244 : BitVec 32) : Prop :=
  (∀ (k0_h1 : k0_cond1 i = 1#1), ∀ a, (k0_off425 k0_t1 v14139 v14142 v14244) a + S1x128.size a ≤ S8224x128.size a)
theorem k0_off425_inb : ∀ (i : grid0.Coords) (k0_t1 : Fin k0_t1_loop.trips) (v14139 : BitVec 32) (v14142 : BitVec 32) (v14244 : BitVec 32) (k0_hw212 : k0_chk212 i k0_t1 v14139 v14142 v14244), ∀ (k0_h1 : k0_cond1 i = 1#1), ∀ a, (k0_off425 k0_t1 v14139 v14142 v14244) a + S1x128.size a ≤ S8224x128.size a := fun i k0_t1 v14139 v14142 v14244 k0_hw212 k0_h1 => k0_hw212 k0_h1

def k0_off426 (v14139 : BitVec 32) : Fin 1 → Nat :=
  let c7_i32_5535 : BitVec 32 := 7#32
  let v14255 : BitVec 32 := Scalar.addi v14139 c7_i32_5535
  let v14258 : Index := Scalar.indexCast v14255
  ![v14258.toNat]
def k0_off427 (k0_t1 : Fin k0_t1_loop.trips) (v14139 : BitVec 32) (v14142 : BitVec 32) (v14259 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_5536 : BitVec 32 := 7#32
  let v14256 : BitVec 32 := Scalar.addi v14139 c7_i32_5536
  let v14257 : BitVec 1 := Scalar.cmpi .slt v14256 v14142
  let c65535_i32_5537 : BitVec 32 := 65535#32
  let v14260 : BitVec 32 := Scalar.andi v14259 c65535_i32_5537
  let c2048_i32_5538 : BitVec 32 := 2048#32
  let v14261 : BitVec 32 := Scalar.select v14257 v14260 c2048_i32_5538
  let v14262 : BitVec 32 := Scalar.addi v11087 v14261
  let v14265 : Index := Scalar.indexCast v14262
  let c0_5540 : Index := 0#32
  ![v14265.toNat, 0]

def k0_chk213 (i : grid0.Coords) (k0_t1 : Fin k0_t1_loop.trips) (v14139 : BitVec 32) (v14142 : BitVec 32) (v14259 : BitVec 32) : Prop :=
  (∀ (k0_h1 : k0_cond1 i = 1#1), ∀ a, (k0_off427 k0_t1 v14139 v14142 v14259) a + S1x128.size a ≤ S8224x128.size a)
theorem k0_off427_inb : ∀ (i : grid0.Coords) (k0_t1 : Fin k0_t1_loop.trips) (v14139 : BitVec 32) (v14142 : BitVec 32) (v14259 : BitVec 32) (k0_hw213 : k0_chk213 i k0_t1 v14139 v14142 v14259), ∀ (k0_h1 : k0_cond1 i = 1#1), ∀ a, (k0_off427 k0_t1 v14139 v14142 v14259) a + S1x128.size a ≤ S8224x128.size a := fun i k0_t1 v14139 v14142 v14259 k0_hw213 k0_h1 => k0_hw213 k0_h1

def k0_off428 (v14139 : BitVec 32) : Fin 1 → Nat :=
  let c8_i32_5541 : BitVec 32 := 8#32
  let v14270 : BitVec 32 := Scalar.addi v14139 c8_i32_5541
  let v14273 : Index := Scalar.indexCast v14270
  ![v14273.toNat]
def k0_off429 (k0_t1 : Fin k0_t1_loop.trips) (v14139 : BitVec 32) (v14142 : BitVec 32) (v14274 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_5542 : BitVec 32 := 8#32
  let v14271 : BitVec 32 := Scalar.addi v14139 c8_i32_5542
  let v14272 : BitVec 1 := Scalar.cmpi .slt v14271 v14142
  let c65535_i32_5543 : BitVec 32 := 65535#32
  let v14275 : BitVec 32 := Scalar.andi v14274 c65535_i32_5543
  let c2048_i32_5544 : BitVec 32 := 2048#32
  let v14276 : BitVec 32 := Scalar.select v14272 v14275 c2048_i32_5544
  let v14277 : BitVec 32 := Scalar.addi v11087 v14276
  let v14280 : Index := Scalar.indexCast v14277
  let c0_5546 : Index := 0#32
  ![v14280.toNat, 0]

def k0_chk214 (i : grid0.Coords) (k0_t1 : Fin k0_t1_loop.trips) (v14139 : BitVec 32) (v14142 : BitVec 32) (v14274 : BitVec 32) : Prop :=
  (∀ (k0_h1 : k0_cond1 i = 1#1), ∀ a, (k0_off429 k0_t1 v14139 v14142 v14274) a + S1x128.size a ≤ S8224x128.size a)
theorem k0_off429_inb : ∀ (i : grid0.Coords) (k0_t1 : Fin k0_t1_loop.trips) (v14139 : BitVec 32) (v14142 : BitVec 32) (v14274 : BitVec 32) (k0_hw214 : k0_chk214 i k0_t1 v14139 v14142 v14274), ∀ (k0_h1 : k0_cond1 i = 1#1), ∀ a, (k0_off429 k0_t1 v14139 v14142 v14274) a + S1x128.size a ≤ S8224x128.size a := fun i k0_t1 v14139 v14142 v14274 k0_hw214 k0_h1 => k0_hw214 k0_h1

def k0_off430 (v14139 : BitVec 32) : Fin 1 → Nat :=
  let c9_i32_5547 : BitVec 32 := 9#32
  let v14285 : BitVec 32 := Scalar.addi v14139 c9_i32_5547
  let v14288 : Index := Scalar.indexCast v14285
  ![v14288.toNat]
def k0_off431 (k0_t1 : Fin k0_t1_loop.trips) (v14139 : BitVec 32) (v14142 : BitVec 32) (v14289 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_5548 : BitVec 32 := 9#32
  let v14286 : BitVec 32 := Scalar.addi v14139 c9_i32_5548
  let v14287 : BitVec 1 := Scalar.cmpi .slt v14286 v14142
  let c65535_i32_5549 : BitVec 32 := 65535#32
  let v14290 : BitVec 32 := Scalar.andi v14289 c65535_i32_5549
  let c2048_i32_5550 : BitVec 32 := 2048#32
  let v14291 : BitVec 32 := Scalar.select v14287 v14290 c2048_i32_5550
  let v14292 : BitVec 32 := Scalar.addi v11087 v14291
  let v14295 : Index := Scalar.indexCast v14292
  let c0_5552 : Index := 0#32
  ![v14295.toNat, 0]

def k0_chk215 (i : grid0.Coords) (k0_t1 : Fin k0_t1_loop.trips) (v14139 : BitVec 32) (v14142 : BitVec 32) (v14289 : BitVec 32) : Prop :=
  (∀ (k0_h1 : k0_cond1 i = 1#1), ∀ a, (k0_off431 k0_t1 v14139 v14142 v14289) a + S1x128.size a ≤ S8224x128.size a)
theorem k0_off431_inb : ∀ (i : grid0.Coords) (k0_t1 : Fin k0_t1_loop.trips) (v14139 : BitVec 32) (v14142 : BitVec 32) (v14289 : BitVec 32) (k0_hw215 : k0_chk215 i k0_t1 v14139 v14142 v14289), ∀ (k0_h1 : k0_cond1 i = 1#1), ∀ a, (k0_off431 k0_t1 v14139 v14142 v14289) a + S1x128.size a ≤ S8224x128.size a := fun i k0_t1 v14139 v14142 v14289 k0_hw215 k0_h1 => k0_hw215 k0_h1

def k0_off432 (v14139 : BitVec 32) : Fin 1 → Nat :=
  let c10_i32_5553 : BitVec 32 := 10#32
  let v14300 : BitVec 32 := Scalar.addi v14139 c10_i32_5553
  let v14303 : Index := Scalar.indexCast v14300
  ![v14303.toNat]
def k0_off433 (k0_t1 : Fin k0_t1_loop.trips) (v14139 : BitVec 32) (v14142 : BitVec 32) (v14304 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_5554 : BitVec 32 := 10#32
  let v14301 : BitVec 32 := Scalar.addi v14139 c10_i32_5554
  let v14302 : BitVec 1 := Scalar.cmpi .slt v14301 v14142
  let c65535_i32_5555 : BitVec 32 := 65535#32
  let v14305 : BitVec 32 := Scalar.andi v14304 c65535_i32_5555
  let c2048_i32_5556 : BitVec 32 := 2048#32
  let v14306 : BitVec 32 := Scalar.select v14302 v14305 c2048_i32_5556
  let v14307 : BitVec 32 := Scalar.addi v11087 v14306
  let v14310 : Index := Scalar.indexCast v14307
  let c0_5558 : Index := 0#32
  ![v14310.toNat, 0]

def k0_chk216 (i : grid0.Coords) (k0_t1 : Fin k0_t1_loop.trips) (v14139 : BitVec 32) (v14142 : BitVec 32) (v14304 : BitVec 32) : Prop :=
  (∀ (k0_h1 : k0_cond1 i = 1#1), ∀ a, (k0_off433 k0_t1 v14139 v14142 v14304) a + S1x128.size a ≤ S8224x128.size a)
theorem k0_off433_inb : ∀ (i : grid0.Coords) (k0_t1 : Fin k0_t1_loop.trips) (v14139 : BitVec 32) (v14142 : BitVec 32) (v14304 : BitVec 32) (k0_hw216 : k0_chk216 i k0_t1 v14139 v14142 v14304), ∀ (k0_h1 : k0_cond1 i = 1#1), ∀ a, (k0_off433 k0_t1 v14139 v14142 v14304) a + S1x128.size a ≤ S8224x128.size a := fun i k0_t1 v14139 v14142 v14304 k0_hw216 k0_h1 => k0_hw216 k0_h1

def k0_off434 (v14139 : BitVec 32) : Fin 1 → Nat :=
  let c11_i32_5559 : BitVec 32 := 11#32
  let v14315 : BitVec 32 := Scalar.addi v14139 c11_i32_5559
  let v14318 : Index := Scalar.indexCast v14315
  ![v14318.toNat]
def k0_off435 (k0_t1 : Fin k0_t1_loop.trips) (v14139 : BitVec 32) (v14142 : BitVec 32) (v14319 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_5560 : BitVec 32 := 11#32
  let v14316 : BitVec 32 := Scalar.addi v14139 c11_i32_5560
  let v14317 : BitVec 1 := Scalar.cmpi .slt v14316 v14142
  let c65535_i32_5561 : BitVec 32 := 65535#32
  let v14320 : BitVec 32 := Scalar.andi v14319 c65535_i32_5561
  let c2048_i32_5562 : BitVec 32 := 2048#32
  let v14321 : BitVec 32 := Scalar.select v14317 v14320 c2048_i32_5562
  let v14322 : BitVec 32 := Scalar.addi v11087 v14321
  let v14325 : Index := Scalar.indexCast v14322
  let c0_5564 : Index := 0#32
  ![v14325.toNat, 0]

def k0_chk217 (i : grid0.Coords) (k0_t1 : Fin k0_t1_loop.trips) (v14139 : BitVec 32) (v14142 : BitVec 32) (v14319 : BitVec 32) : Prop :=
  (∀ (k0_h1 : k0_cond1 i = 1#1), ∀ a, (k0_off435 k0_t1 v14139 v14142 v14319) a + S1x128.size a ≤ S8224x128.size a)
theorem k0_off435_inb : ∀ (i : grid0.Coords) (k0_t1 : Fin k0_t1_loop.trips) (v14139 : BitVec 32) (v14142 : BitVec 32) (v14319 : BitVec 32) (k0_hw217 : k0_chk217 i k0_t1 v14139 v14142 v14319), ∀ (k0_h1 : k0_cond1 i = 1#1), ∀ a, (k0_off435 k0_t1 v14139 v14142 v14319) a + S1x128.size a ≤ S8224x128.size a := fun i k0_t1 v14139 v14142 v14319 k0_hw217 k0_h1 => k0_hw217 k0_h1

def k0_off436 (v14139 : BitVec 32) : Fin 1 → Nat :=
  let c12_i32_5565 : BitVec 32 := 12#32
  let v14330 : BitVec 32 := Scalar.addi v14139 c12_i32_5565
  let v14333 : Index := Scalar.indexCast v14330
  ![v14333.toNat]
def k0_off437 (k0_t1 : Fin k0_t1_loop.trips) (v14139 : BitVec 32) (v14142 : BitVec 32) (v14334 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_5566 : BitVec 32 := 12#32
  let v14331 : BitVec 32 := Scalar.addi v14139 c12_i32_5566
  let v14332 : BitVec 1 := Scalar.cmpi .slt v14331 v14142
  let c65535_i32_5567 : BitVec 32 := 65535#32
  let v14335 : BitVec 32 := Scalar.andi v14334 c65535_i32_5567
  let c2048_i32_5568 : BitVec 32 := 2048#32
  let v14336 : BitVec 32 := Scalar.select v14332 v14335 c2048_i32_5568
  let v14337 : BitVec 32 := Scalar.addi v11087 v14336
  let v14340 : Index := Scalar.indexCast v14337
  let c0_5570 : Index := 0#32
  ![v14340.toNat, 0]

def k0_chk218 (i : grid0.Coords) (k0_t1 : Fin k0_t1_loop.trips) (v14139 : BitVec 32) (v14142 : BitVec 32) (v14334 : BitVec 32) : Prop :=
  (∀ (k0_h1 : k0_cond1 i = 1#1), ∀ a, (k0_off437 k0_t1 v14139 v14142 v14334) a + S1x128.size a ≤ S8224x128.size a)
theorem k0_off437_inb : ∀ (i : grid0.Coords) (k0_t1 : Fin k0_t1_loop.trips) (v14139 : BitVec 32) (v14142 : BitVec 32) (v14334 : BitVec 32) (k0_hw218 : k0_chk218 i k0_t1 v14139 v14142 v14334), ∀ (k0_h1 : k0_cond1 i = 1#1), ∀ a, (k0_off437 k0_t1 v14139 v14142 v14334) a + S1x128.size a ≤ S8224x128.size a := fun i k0_t1 v14139 v14142 v14334 k0_hw218 k0_h1 => k0_hw218 k0_h1

def k0_off438 (v14139 : BitVec 32) : Fin 1 → Nat :=
  let c13_i32_5571 : BitVec 32 := 13#32
  let v14345 : BitVec 32 := Scalar.addi v14139 c13_i32_5571
  let v14348 : Index := Scalar.indexCast v14345
  ![v14348.toNat]
def k0_off439 (k0_t1 : Fin k0_t1_loop.trips) (v14139 : BitVec 32) (v14142 : BitVec 32) (v14349 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_5572 : BitVec 32 := 13#32
  let v14346 : BitVec 32 := Scalar.addi v14139 c13_i32_5572
  let v14347 : BitVec 1 := Scalar.cmpi .slt v14346 v14142
  let c65535_i32_5573 : BitVec 32 := 65535#32
  let v14350 : BitVec 32 := Scalar.andi v14349 c65535_i32_5573
  let c2048_i32_5574 : BitVec 32 := 2048#32
  let v14351 : BitVec 32 := Scalar.select v14347 v14350 c2048_i32_5574
  let v14352 : BitVec 32 := Scalar.addi v11087 v14351
  let v14355 : Index := Scalar.indexCast v14352
  let c0_5576 : Index := 0#32
  ![v14355.toNat, 0]

def k0_chk219 (i : grid0.Coords) (k0_t1 : Fin k0_t1_loop.trips) (v14139 : BitVec 32) (v14142 : BitVec 32) (v14349 : BitVec 32) : Prop :=
  (∀ (k0_h1 : k0_cond1 i = 1#1), ∀ a, (k0_off439 k0_t1 v14139 v14142 v14349) a + S1x128.size a ≤ S8224x128.size a)
theorem k0_off439_inb : ∀ (i : grid0.Coords) (k0_t1 : Fin k0_t1_loop.trips) (v14139 : BitVec 32) (v14142 : BitVec 32) (v14349 : BitVec 32) (k0_hw219 : k0_chk219 i k0_t1 v14139 v14142 v14349), ∀ (k0_h1 : k0_cond1 i = 1#1), ∀ a, (k0_off439 k0_t1 v14139 v14142 v14349) a + S1x128.size a ≤ S8224x128.size a := fun i k0_t1 v14139 v14142 v14349 k0_hw219 k0_h1 => k0_hw219 k0_h1

def k0_off440 (v14139 : BitVec 32) : Fin 1 → Nat :=
  let c14_i32_5577 : BitVec 32 := 14#32
  let v14360 : BitVec 32 := Scalar.addi v14139 c14_i32_5577
  let v14363 : Index := Scalar.indexCast v14360
  ![v14363.toNat]
def k0_off441 (k0_t1 : Fin k0_t1_loop.trips) (v14139 : BitVec 32) (v14142 : BitVec 32) (v14364 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_5578 : BitVec 32 := 14#32
  let v14361 : BitVec 32 := Scalar.addi v14139 c14_i32_5578
  let v14362 : BitVec 1 := Scalar.cmpi .slt v14361 v14142
  let c65535_i32_5579 : BitVec 32 := 65535#32
  let v14365 : BitVec 32 := Scalar.andi v14364 c65535_i32_5579
  let c2048_i32_5580 : BitVec 32 := 2048#32
  let v14366 : BitVec 32 := Scalar.select v14362 v14365 c2048_i32_5580
  let v14367 : BitVec 32 := Scalar.addi v11087 v14366
  let v14370 : Index := Scalar.indexCast v14367
  let c0_5582 : Index := 0#32
  ![v14370.toNat, 0]

def k0_chk220 (i : grid0.Coords) (k0_t1 : Fin k0_t1_loop.trips) (v14139 : BitVec 32) (v14142 : BitVec 32) (v14364 : BitVec 32) : Prop :=
  (∀ (k0_h1 : k0_cond1 i = 1#1), ∀ a, (k0_off441 k0_t1 v14139 v14142 v14364) a + S1x128.size a ≤ S8224x128.size a)
theorem k0_off441_inb : ∀ (i : grid0.Coords) (k0_t1 : Fin k0_t1_loop.trips) (v14139 : BitVec 32) (v14142 : BitVec 32) (v14364 : BitVec 32) (k0_hw220 : k0_chk220 i k0_t1 v14139 v14142 v14364), ∀ (k0_h1 : k0_cond1 i = 1#1), ∀ a, (k0_off441 k0_t1 v14139 v14142 v14364) a + S1x128.size a ≤ S8224x128.size a := fun i k0_t1 v14139 v14142 v14364 k0_hw220 k0_h1 => k0_hw220 k0_h1

def k0_off442 (v14139 : BitVec 32) : Fin 1 → Nat :=
  let c15_i32_5583 : BitVec 32 := 15#32
  let v14375 : BitVec 32 := Scalar.addi v14139 c15_i32_5583
  let v14378 : Index := Scalar.indexCast v14375
  ![v14378.toNat]

def k0_chk205 (i : grid0.Coords) (v14139 : BitVec 32) : Prop :=
  (∀ (k0_h1 : k0_cond1 i = 1#1), ∀ a, (k0_off412 v14139) a + S1.size a ≤ S51920.size a) ∧
  (∀ (k0_h1 : k0_cond1 i = 1#1), ∀ a, (k0_off414 v14139) a + S1.size a ≤ S51920.size a) ∧
  (∀ (k0_h1 : k0_cond1 i = 1#1), ∀ a, (k0_off416 v14139) a + S1.size a ≤ S51920.size a) ∧
  (∀ (k0_h1 : k0_cond1 i = 1#1), ∀ a, (k0_off418 v14139) a + S1.size a ≤ S51920.size a) ∧
  (∀ (k0_h1 : k0_cond1 i = 1#1), ∀ a, (k0_off420 v14139) a + S1.size a ≤ S51920.size a) ∧
  (∀ (k0_h1 : k0_cond1 i = 1#1), ∀ a, (k0_off422 v14139) a + S1.size a ≤ S51920.size a) ∧
  (∀ (k0_h1 : k0_cond1 i = 1#1), ∀ a, (k0_off424 v14139) a + S1.size a ≤ S51920.size a) ∧
  (∀ (k0_h1 : k0_cond1 i = 1#1), ∀ a, (k0_off426 v14139) a + S1.size a ≤ S51920.size a) ∧
  (∀ (k0_h1 : k0_cond1 i = 1#1), ∀ a, (k0_off428 v14139) a + S1.size a ≤ S51920.size a) ∧
  (∀ (k0_h1 : k0_cond1 i = 1#1), ∀ a, (k0_off430 v14139) a + S1.size a ≤ S51920.size a) ∧
  (∀ (k0_h1 : k0_cond1 i = 1#1), ∀ a, (k0_off432 v14139) a + S1.size a ≤ S51920.size a) ∧
  (∀ (k0_h1 : k0_cond1 i = 1#1), ∀ a, (k0_off434 v14139) a + S1.size a ≤ S51920.size a) ∧
  (∀ (k0_h1 : k0_cond1 i = 1#1), ∀ a, (k0_off436 v14139) a + S1.size a ≤ S51920.size a) ∧
  (∀ (k0_h1 : k0_cond1 i = 1#1), ∀ a, (k0_off438 v14139) a + S1.size a ≤ S51920.size a) ∧
  (∀ (k0_h1 : k0_cond1 i = 1#1), ∀ a, (k0_off440 v14139) a + S1.size a ≤ S51920.size a) ∧
  (∀ (k0_h1 : k0_cond1 i = 1#1), ∀ a, (k0_off442 v14139) a + S1.size a ≤ S51920.size a)
theorem k0_off412_inb : ∀ (i : grid0.Coords) (v14139 : BitVec 32) (k0_hw205 : k0_chk205 i v14139), ∀ (k0_h1 : k0_cond1 i = 1#1), ∀ a, (k0_off412 v14139) a + S1.size a ≤ S51920.size a := fun i v14139 k0_hw205 k0_h1 => k0_hw205.1 k0_h1
theorem k0_off414_inb : ∀ (i : grid0.Coords) (v14139 : BitVec 32) (k0_hw205 : k0_chk205 i v14139), ∀ (k0_h1 : k0_cond1 i = 1#1), ∀ a, (k0_off414 v14139) a + S1.size a ≤ S51920.size a := fun i v14139 k0_hw205 k0_h1 => k0_hw205.2.1 k0_h1
theorem k0_off416_inb : ∀ (i : grid0.Coords) (v14139 : BitVec 32) (k0_hw205 : k0_chk205 i v14139), ∀ (k0_h1 : k0_cond1 i = 1#1), ∀ a, (k0_off416 v14139) a + S1.size a ≤ S51920.size a := fun i v14139 k0_hw205 k0_h1 => k0_hw205.2.2.1 k0_h1
theorem k0_off418_inb : ∀ (i : grid0.Coords) (v14139 : BitVec 32) (k0_hw205 : k0_chk205 i v14139), ∀ (k0_h1 : k0_cond1 i = 1#1), ∀ a, (k0_off418 v14139) a + S1.size a ≤ S51920.size a := fun i v14139 k0_hw205 k0_h1 => k0_hw205.2.2.2.1 k0_h1
theorem k0_off420_inb : ∀ (i : grid0.Coords) (v14139 : BitVec 32) (k0_hw205 : k0_chk205 i v14139), ∀ (k0_h1 : k0_cond1 i = 1#1), ∀ a, (k0_off420 v14139) a + S1.size a ≤ S51920.size a := fun i v14139 k0_hw205 k0_h1 => k0_hw205.2.2.2.2.1 k0_h1
theorem k0_off422_inb : ∀ (i : grid0.Coords) (v14139 : BitVec 32) (k0_hw205 : k0_chk205 i v14139), ∀ (k0_h1 : k0_cond1 i = 1#1), ∀ a, (k0_off422 v14139) a + S1.size a ≤ S51920.size a := fun i v14139 k0_hw205 k0_h1 => k0_hw205.2.2.2.2.2.1 k0_h1
theorem k0_off424_inb : ∀ (i : grid0.Coords) (v14139 : BitVec 32) (k0_hw205 : k0_chk205 i v14139), ∀ (k0_h1 : k0_cond1 i = 1#1), ∀ a, (k0_off424 v14139) a + S1.size a ≤ S51920.size a := fun i v14139 k0_hw205 k0_h1 => k0_hw205.2.2.2.2.2.2.1 k0_h1
theorem k0_off426_inb : ∀ (i : grid0.Coords) (v14139 : BitVec 32) (k0_hw205 : k0_chk205 i v14139), ∀ (k0_h1 : k0_cond1 i = 1#1), ∀ a, (k0_off426 v14139) a + S1.size a ≤ S51920.size a := fun i v14139 k0_hw205 k0_h1 => k0_hw205.2.2.2.2.2.2.2.1 k0_h1
theorem k0_off428_inb : ∀ (i : grid0.Coords) (v14139 : BitVec 32) (k0_hw205 : k0_chk205 i v14139), ∀ (k0_h1 : k0_cond1 i = 1#1), ∀ a, (k0_off428 v14139) a + S1.size a ≤ S51920.size a := fun i v14139 k0_hw205 k0_h1 => k0_hw205.2.2.2.2.2.2.2.2.1 k0_h1
theorem k0_off430_inb : ∀ (i : grid0.Coords) (v14139 : BitVec 32) (k0_hw205 : k0_chk205 i v14139), ∀ (k0_h1 : k0_cond1 i = 1#1), ∀ a, (k0_off430 v14139) a + S1.size a ≤ S51920.size a := fun i v14139 k0_hw205 k0_h1 => k0_hw205.2.2.2.2.2.2.2.2.2.1 k0_h1
theorem k0_off432_inb : ∀ (i : grid0.Coords) (v14139 : BitVec 32) (k0_hw205 : k0_chk205 i v14139), ∀ (k0_h1 : k0_cond1 i = 1#1), ∀ a, (k0_off432 v14139) a + S1.size a ≤ S51920.size a := fun i v14139 k0_hw205 k0_h1 => k0_hw205.2.2.2.2.2.2.2.2.2.2.1 k0_h1
theorem k0_off434_inb : ∀ (i : grid0.Coords) (v14139 : BitVec 32) (k0_hw205 : k0_chk205 i v14139), ∀ (k0_h1 : k0_cond1 i = 1#1), ∀ a, (k0_off434 v14139) a + S1.size a ≤ S51920.size a := fun i v14139 k0_hw205 k0_h1 => k0_hw205.2.2.2.2.2.2.2.2.2.2.2.1 k0_h1
theorem k0_off436_inb : ∀ (i : grid0.Coords) (v14139 : BitVec 32) (k0_hw205 : k0_chk205 i v14139), ∀ (k0_h1 : k0_cond1 i = 1#1), ∀ a, (k0_off436 v14139) a + S1.size a ≤ S51920.size a := fun i v14139 k0_hw205 k0_h1 => k0_hw205.2.2.2.2.2.2.2.2.2.2.2.2.1 k0_h1
theorem k0_off438_inb : ∀ (i : grid0.Coords) (v14139 : BitVec 32) (k0_hw205 : k0_chk205 i v14139), ∀ (k0_h1 : k0_cond1 i = 1#1), ∀ a, (k0_off438 v14139) a + S1.size a ≤ S51920.size a := fun i v14139 k0_hw205 k0_h1 => k0_hw205.2.2.2.2.2.2.2.2.2.2.2.2.2.1 k0_h1
theorem k0_off440_inb : ∀ (i : grid0.Coords) (v14139 : BitVec 32) (k0_hw205 : k0_chk205 i v14139), ∀ (k0_h1 : k0_cond1 i = 1#1), ∀ a, (k0_off440 v14139) a + S1.size a ≤ S51920.size a := fun i v14139 k0_hw205 k0_h1 => k0_hw205.2.2.2.2.2.2.2.2.2.2.2.2.2.2.1 k0_h1
theorem k0_off442_inb : ∀ (i : grid0.Coords) (v14139 : BitVec 32) (k0_hw205 : k0_chk205 i v14139), ∀ (k0_h1 : k0_cond1 i = 1#1), ∀ a, (k0_off442 v14139) a + S1.size a ≤ S51920.size a := fun i v14139 k0_hw205 k0_h1 => k0_hw205.2.2.2.2.2.2.2.2.2.2.2.2.2.2.2 k0_h1

def k0_off443 (k0_t1 : Fin k0_t1_loop.trips) (v14139 : BitVec 32) (v14142 : BitVec 32) (v14379 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_5584 : BitVec 32 := 15#32
  let v14376 : BitVec 32 := Scalar.addi v14139 c15_i32_5584
  let v14377 : BitVec 1 := Scalar.cmpi .slt v14376 v14142
  let c65535_i32_5585 : BitVec 32 := 65535#32
  let v14380 : BitVec 32 := Scalar.andi v14379 c65535_i32_5585
  let c2048_i32_5586 : BitVec 32 := 2048#32
  let v14381 : BitVec 32 := Scalar.select v14377 v14380 c2048_i32_5586
  let v14382 : BitVec 32 := Scalar.addi v11087 v14381
  let v14385 : Index := Scalar.indexCast v14382
  let c0_5588 : Index := 0#32
  ![v14385.toNat, 0]

def k0_chk221 (i : grid0.Coords) (k0_t1 : Fin k0_t1_loop.trips) (v14139 : BitVec 32) (v14142 : BitVec 32) (v14379 : BitVec 32) : Prop :=
  (∀ (k0_h1 : k0_cond1 i = 1#1), ∀ a, (k0_off443 k0_t1 v14139 v14142 v14379) a + S1x128.size a ≤ S8224x128.size a)
theorem k0_off443_inb : ∀ (i : grid0.Coords) (k0_t1 : Fin k0_t1_loop.trips) (v14139 : BitVec 32) (v14142 : BitVec 32) (v14379 : BitVec 32) (k0_hw221 : k0_chk221 i k0_t1 v14139 v14142 v14379), ∀ (k0_h1 : k0_cond1 i = 1#1), ∀ a, (k0_off443 k0_t1 v14139 v14142 v14379) a + S1x128.size a ≤ S8224x128.size a := fun i k0_t1 v14139 v14142 v14379 k0_hw221 k0_h1 => k0_hw221 k0_h1

def k0_off444 (k0_t1 : Fin k0_t1_loop.trips) : Fin 1 → Nat :=
  let c0_i32_5589 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v14390 : BitVec 32 := Scalar.addi c0_i32_5589 v11069
  let c13_i32_5590 : BitVec 32 := 13#32
  let v14391 : BitVec 32 := Scalar.addi v14390 c13_i32_5590
  let v14392 : Index := Scalar.indexCast v14391
  ![v14392.toNat]
def k0_off445 (k0_t1 : Fin k0_t1_loop.trips) : Fin 1 → Nat :=
  let c0_i32_5589 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v14390 : BitVec 32 := Scalar.addi c0_i32_5589 v11069
  let c13_i32_5590 : BitVec 32 := 13#32
  let v14391 : BitVec 32 := Scalar.addi v14390 c13_i32_5590
  let c1_i32_5591 : BitVec 32 := 1#32
  let v14394 : BitVec 32 := Scalar.addi v14391 c1_i32_5591
  let v14395 : Index := Scalar.indexCast v14394
  ![v14395.toNat]
def k0_off446 (v14393 : BitVec 32) : Fin 1 → Nat :=
  let c0_i32_5594 : BitVec 32 := 0#32
  let v14404 : BitVec 32 := Scalar.addi v14393 c0_i32_5594
  let v14407 : Index := Scalar.indexCast v14404
  ![v14407.toNat]

def k0_off447 (k0_t1 : Fin k0_t1_loop.trips) (v14393 : BitVec 32) (v14396 : BitVec 32) (v14408 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_5595 : BitVec 32 := 0#32
  let v14405 : BitVec 32 := Scalar.addi v14393 c0_i32_5595
  let v14406 : BitVec 1 := Scalar.cmpi .slt v14405 v14396
  let c65535_i32_5596 : BitVec 32 := 65535#32
  let v14409 : BitVec 32 := Scalar.andi v14408 c65535_i32_5596
  let c2048_i32_5597 : BitVec 32 := 2048#32
  let v14410 : BitVec 32 := Scalar.select v14406 v14409 c2048_i32_5597
  let v14411 : BitVec 32 := Scalar.addi v11087 v14410
  let v14414 : Index := Scalar.indexCast v14411
  let c0_5599 : Index := 0#32
  ![v14414.toNat, 0]

def k0_chk223 (i : grid0.Coords) (k0_t1 : Fin k0_t1_loop.trips) (v14393 : BitVec 32) (v14396 : BitVec 32) (v14408 : BitVec 32) : Prop :=
  (∀ (k0_h1 : k0_cond1 i = 1#1), ∀ a, (k0_off447 k0_t1 v14393 v14396 v14408) a + S1x128.size a ≤ S8224x128.size a)
theorem k0_off447_inb : ∀ (i : grid0.Coords) (k0_t1 : Fin k0_t1_loop.trips) (v14393 : BitVec 32) (v14396 : BitVec 32) (v14408 : BitVec 32) (k0_hw223 : k0_chk223 i k0_t1 v14393 v14396 v14408), ∀ (k0_h1 : k0_cond1 i = 1#1), ∀ a, (k0_off447 k0_t1 v14393 v14396 v14408) a + S1x128.size a ≤ S8224x128.size a := fun i k0_t1 v14393 v14396 v14408 k0_hw223 k0_h1 => k0_hw223 k0_h1

def k0_off448 (v14393 : BitVec 32) : Fin 1 → Nat :=
  let c1_i32_5600 : BitVec 32 := 1#32
  let v14419 : BitVec 32 := Scalar.addi v14393 c1_i32_5600
  let v14422 : Index := Scalar.indexCast v14419
  ![v14422.toNat]
def k0_off449 (k0_t1 : Fin k0_t1_loop.trips) (v14393 : BitVec 32) (v14396 : BitVec 32) (v14423 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_5601 : BitVec 32 := 1#32
  let v14420 : BitVec 32 := Scalar.addi v14393 c1_i32_5601
  let v14421 : BitVec 1 := Scalar.cmpi .slt v14420 v14396
  let c65535_i32_5602 : BitVec 32 := 65535#32
  let v14424 : BitVec 32 := Scalar.andi v14423 c65535_i32_5602
  let c2048_i32_5603 : BitVec 32 := 2048#32
  let v14425 : BitVec 32 := Scalar.select v14421 v14424 c2048_i32_5603
  let v14426 : BitVec 32 := Scalar.addi v11087 v14425
  let v14429 : Index := Scalar.indexCast v14426
  let c0_5605 : Index := 0#32
  ![v14429.toNat, 0]

def k0_chk224 (i : grid0.Coords) (k0_t1 : Fin k0_t1_loop.trips) (v14393 : BitVec 32) (v14396 : BitVec 32) (v14423 : BitVec 32) : Prop :=
  (∀ (k0_h1 : k0_cond1 i = 1#1), ∀ a, (k0_off449 k0_t1 v14393 v14396 v14423) a + S1x128.size a ≤ S8224x128.size a)
theorem k0_off449_inb : ∀ (i : grid0.Coords) (k0_t1 : Fin k0_t1_loop.trips) (v14393 : BitVec 32) (v14396 : BitVec 32) (v14423 : BitVec 32) (k0_hw224 : k0_chk224 i k0_t1 v14393 v14396 v14423), ∀ (k0_h1 : k0_cond1 i = 1#1), ∀ a, (k0_off449 k0_t1 v14393 v14396 v14423) a + S1x128.size a ≤ S8224x128.size a := fun i k0_t1 v14393 v14396 v14423 k0_hw224 k0_h1 => k0_hw224 k0_h1

def k0_off450 (v14393 : BitVec 32) : Fin 1 → Nat :=
  let c2_i32_5606 : BitVec 32 := 2#32
  let v14434 : BitVec 32 := Scalar.addi v14393 c2_i32_5606
  let v14437 : Index := Scalar.indexCast v14434
  ![v14437.toNat]
def k0_off451 (k0_t1 : Fin k0_t1_loop.trips) (v14393 : BitVec 32) (v14396 : BitVec 32) (v14438 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_5607 : BitVec 32 := 2#32
  let v14435 : BitVec 32 := Scalar.addi v14393 c2_i32_5607
  let v14436 : BitVec 1 := Scalar.cmpi .slt v14435 v14396
  let c65535_i32_5608 : BitVec 32 := 65535#32
  let v14439 : BitVec 32 := Scalar.andi v14438 c65535_i32_5608
  let c2048_i32_5609 : BitVec 32 := 2048#32
  let v14440 : BitVec 32 := Scalar.select v14436 v14439 c2048_i32_5609
  let v14441 : BitVec 32 := Scalar.addi v11087 v14440
  let v14444 : Index := Scalar.indexCast v14441
  let c0_5611 : Index := 0#32
  ![v14444.toNat, 0]

def k0_chk225 (i : grid0.Coords) (k0_t1 : Fin k0_t1_loop.trips) (v14393 : BitVec 32) (v14396 : BitVec 32) (v14438 : BitVec 32) : Prop :=
  (∀ (k0_h1 : k0_cond1 i = 1#1), ∀ a, (k0_off451 k0_t1 v14393 v14396 v14438) a + S1x128.size a ≤ S8224x128.size a)
theorem k0_off451_inb : ∀ (i : grid0.Coords) (k0_t1 : Fin k0_t1_loop.trips) (v14393 : BitVec 32) (v14396 : BitVec 32) (v14438 : BitVec 32) (k0_hw225 : k0_chk225 i k0_t1 v14393 v14396 v14438), ∀ (k0_h1 : k0_cond1 i = 1#1), ∀ a, (k0_off451 k0_t1 v14393 v14396 v14438) a + S1x128.size a ≤ S8224x128.size a := fun i k0_t1 v14393 v14396 v14438 k0_hw225 k0_h1 => k0_hw225 k0_h1

def k0_off452 (v14393 : BitVec 32) : Fin 1 → Nat :=
  let c3_i32_5612 : BitVec 32 := 3#32
  let v14449 : BitVec 32 := Scalar.addi v14393 c3_i32_5612
  let v14452 : Index := Scalar.indexCast v14449
  ![v14452.toNat]
def k0_off453 (k0_t1 : Fin k0_t1_loop.trips) (v14393 : BitVec 32) (v14396 : BitVec 32) (v14453 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_5613 : BitVec 32 := 3#32
  let v14450 : BitVec 32 := Scalar.addi v14393 c3_i32_5613
  let v14451 : BitVec 1 := Scalar.cmpi .slt v14450 v14396
  let c65535_i32_5614 : BitVec 32 := 65535#32
  let v14454 : BitVec 32 := Scalar.andi v14453 c65535_i32_5614
  let c2048_i32_5615 : BitVec 32 := 2048#32
  let v14455 : BitVec 32 := Scalar.select v14451 v14454 c2048_i32_5615
  let v14456 : BitVec 32 := Scalar.addi v11087 v14455
  let v14459 : Index := Scalar.indexCast v14456
  let c0_5617 : Index := 0#32
  ![v14459.toNat, 0]

def k0_chk226 (i : grid0.Coords) (k0_t1 : Fin k0_t1_loop.trips) (v14393 : BitVec 32) (v14396 : BitVec 32) (v14453 : BitVec 32) : Prop :=
  (∀ (k0_h1 : k0_cond1 i = 1#1), ∀ a, (k0_off453 k0_t1 v14393 v14396 v14453) a + S1x128.size a ≤ S8224x128.size a)
theorem k0_off453_inb : ∀ (i : grid0.Coords) (k0_t1 : Fin k0_t1_loop.trips) (v14393 : BitVec 32) (v14396 : BitVec 32) (v14453 : BitVec 32) (k0_hw226 : k0_chk226 i k0_t1 v14393 v14396 v14453), ∀ (k0_h1 : k0_cond1 i = 1#1), ∀ a, (k0_off453 k0_t1 v14393 v14396 v14453) a + S1x128.size a ≤ S8224x128.size a := fun i k0_t1 v14393 v14396 v14453 k0_hw226 k0_h1 => k0_hw226 k0_h1

def k0_off454 (v14393 : BitVec 32) : Fin 1 → Nat :=
  let c4_i32_5618 : BitVec 32 := 4#32
  let v14464 : BitVec 32 := Scalar.addi v14393 c4_i32_5618
  let v14467 : Index := Scalar.indexCast v14464
  ![v14467.toNat]
def k0_off455 (k0_t1 : Fin k0_t1_loop.trips) (v14393 : BitVec 32) (v14396 : BitVec 32) (v14468 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_5619 : BitVec 32 := 4#32
  let v14465 : BitVec 32 := Scalar.addi v14393 c4_i32_5619
  let v14466 : BitVec 1 := Scalar.cmpi .slt v14465 v14396
  let c65535_i32_5620 : BitVec 32 := 65535#32
  let v14469 : BitVec 32 := Scalar.andi v14468 c65535_i32_5620
  let c2048_i32_5621 : BitVec 32 := 2048#32
  let v14470 : BitVec 32 := Scalar.select v14466 v14469 c2048_i32_5621
  let v14471 : BitVec 32 := Scalar.addi v11087 v14470
  let v14474 : Index := Scalar.indexCast v14471
  let c0_5623 : Index := 0#32
  ![v14474.toNat, 0]

def k0_chk227 (i : grid0.Coords) (k0_t1 : Fin k0_t1_loop.trips) (v14393 : BitVec 32) (v14396 : BitVec 32) (v14468 : BitVec 32) : Prop :=
  (∀ (k0_h1 : k0_cond1 i = 1#1), ∀ a, (k0_off455 k0_t1 v14393 v14396 v14468) a + S1x128.size a ≤ S8224x128.size a)
theorem k0_off455_inb : ∀ (i : grid0.Coords) (k0_t1 : Fin k0_t1_loop.trips) (v14393 : BitVec 32) (v14396 : BitVec 32) (v14468 : BitVec 32) (k0_hw227 : k0_chk227 i k0_t1 v14393 v14396 v14468), ∀ (k0_h1 : k0_cond1 i = 1#1), ∀ a, (k0_off455 k0_t1 v14393 v14396 v14468) a + S1x128.size a ≤ S8224x128.size a := fun i k0_t1 v14393 v14396 v14468 k0_hw227 k0_h1 => k0_hw227 k0_h1

def k0_off456 (v14393 : BitVec 32) : Fin 1 → Nat :=
  let c5_i32_5624 : BitVec 32 := 5#32
  let v14479 : BitVec 32 := Scalar.addi v14393 c5_i32_5624
  let v14482 : Index := Scalar.indexCast v14479
  ![v14482.toNat]
def k0_off457 (k0_t1 : Fin k0_t1_loop.trips) (v14393 : BitVec 32) (v14396 : BitVec 32) (v14483 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_5625 : BitVec 32 := 5#32
  let v14480 : BitVec 32 := Scalar.addi v14393 c5_i32_5625
  let v14481 : BitVec 1 := Scalar.cmpi .slt v14480 v14396
  let c65535_i32_5626 : BitVec 32 := 65535#32
  let v14484 : BitVec 32 := Scalar.andi v14483 c65535_i32_5626
  let c2048_i32_5627 : BitVec 32 := 2048#32
  let v14485 : BitVec 32 := Scalar.select v14481 v14484 c2048_i32_5627
  let v14486 : BitVec 32 := Scalar.addi v11087 v14485
  let v14489 : Index := Scalar.indexCast v14486
  let c0_5629 : Index := 0#32
  ![v14489.toNat, 0]

def k0_chk228 (i : grid0.Coords) (k0_t1 : Fin k0_t1_loop.trips) (v14393 : BitVec 32) (v14396 : BitVec 32) (v14483 : BitVec 32) : Prop :=
  (∀ (k0_h1 : k0_cond1 i = 1#1), ∀ a, (k0_off457 k0_t1 v14393 v14396 v14483) a + S1x128.size a ≤ S8224x128.size a)
theorem k0_off457_inb : ∀ (i : grid0.Coords) (k0_t1 : Fin k0_t1_loop.trips) (v14393 : BitVec 32) (v14396 : BitVec 32) (v14483 : BitVec 32) (k0_hw228 : k0_chk228 i k0_t1 v14393 v14396 v14483), ∀ (k0_h1 : k0_cond1 i = 1#1), ∀ a, (k0_off457 k0_t1 v14393 v14396 v14483) a + S1x128.size a ≤ S8224x128.size a := fun i k0_t1 v14393 v14396 v14483 k0_hw228 k0_h1 => k0_hw228 k0_h1

def k0_off458 (v14393 : BitVec 32) : Fin 1 → Nat :=
  let c6_i32_5630 : BitVec 32 := 6#32
  let v14494 : BitVec 32 := Scalar.addi v14393 c6_i32_5630
  let v14497 : Index := Scalar.indexCast v14494
  ![v14497.toNat]
def k0_off459 (k0_t1 : Fin k0_t1_loop.trips) (v14393 : BitVec 32) (v14396 : BitVec 32) (v14498 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_5631 : BitVec 32 := 6#32
  let v14495 : BitVec 32 := Scalar.addi v14393 c6_i32_5631
  let v14496 : BitVec 1 := Scalar.cmpi .slt v14495 v14396
  let c65535_i32_5632 : BitVec 32 := 65535#32
  let v14499 : BitVec 32 := Scalar.andi v14498 c65535_i32_5632
  let c2048_i32_5633 : BitVec 32 := 2048#32
  let v14500 : BitVec 32 := Scalar.select v14496 v14499 c2048_i32_5633
  let v14501 : BitVec 32 := Scalar.addi v11087 v14500
  let v14504 : Index := Scalar.indexCast v14501
  let c0_5635 : Index := 0#32
  ![v14504.toNat, 0]

def k0_chk229 (i : grid0.Coords) (k0_t1 : Fin k0_t1_loop.trips) (v14393 : BitVec 32) (v14396 : BitVec 32) (v14498 : BitVec 32) : Prop :=
  (∀ (k0_h1 : k0_cond1 i = 1#1), ∀ a, (k0_off459 k0_t1 v14393 v14396 v14498) a + S1x128.size a ≤ S8224x128.size a)
theorem k0_off459_inb : ∀ (i : grid0.Coords) (k0_t1 : Fin k0_t1_loop.trips) (v14393 : BitVec 32) (v14396 : BitVec 32) (v14498 : BitVec 32) (k0_hw229 : k0_chk229 i k0_t1 v14393 v14396 v14498), ∀ (k0_h1 : k0_cond1 i = 1#1), ∀ a, (k0_off459 k0_t1 v14393 v14396 v14498) a + S1x128.size a ≤ S8224x128.size a := fun i k0_t1 v14393 v14396 v14498 k0_hw229 k0_h1 => k0_hw229 k0_h1

def k0_off460 (v14393 : BitVec 32) : Fin 1 → Nat :=
  let c7_i32_5636 : BitVec 32 := 7#32
  let v14509 : BitVec 32 := Scalar.addi v14393 c7_i32_5636
  let v14512 : Index := Scalar.indexCast v14509
  ![v14512.toNat]
def k0_off461 (k0_t1 : Fin k0_t1_loop.trips) (v14393 : BitVec 32) (v14396 : BitVec 32) (v14513 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_5637 : BitVec 32 := 7#32
  let v14510 : BitVec 32 := Scalar.addi v14393 c7_i32_5637
  let v14511 : BitVec 1 := Scalar.cmpi .slt v14510 v14396
  let c65535_i32_5638 : BitVec 32 := 65535#32
  let v14514 : BitVec 32 := Scalar.andi v14513 c65535_i32_5638
  let c2048_i32_5639 : BitVec 32 := 2048#32
  let v14515 : BitVec 32 := Scalar.select v14511 v14514 c2048_i32_5639
  let v14516 : BitVec 32 := Scalar.addi v11087 v14515
  let v14519 : Index := Scalar.indexCast v14516
  let c0_5641 : Index := 0#32
  ![v14519.toNat, 0]

def k0_chk230 (i : grid0.Coords) (k0_t1 : Fin k0_t1_loop.trips) (v14393 : BitVec 32) (v14396 : BitVec 32) (v14513 : BitVec 32) : Prop :=
  (∀ (k0_h1 : k0_cond1 i = 1#1), ∀ a, (k0_off461 k0_t1 v14393 v14396 v14513) a + S1x128.size a ≤ S8224x128.size a)
theorem k0_off461_inb : ∀ (i : grid0.Coords) (k0_t1 : Fin k0_t1_loop.trips) (v14393 : BitVec 32) (v14396 : BitVec 32) (v14513 : BitVec 32) (k0_hw230 : k0_chk230 i k0_t1 v14393 v14396 v14513), ∀ (k0_h1 : k0_cond1 i = 1#1), ∀ a, (k0_off461 k0_t1 v14393 v14396 v14513) a + S1x128.size a ≤ S8224x128.size a := fun i k0_t1 v14393 v14396 v14513 k0_hw230 k0_h1 => k0_hw230 k0_h1

def k0_off462 (v14393 : BitVec 32) : Fin 1 → Nat :=
  let c8_i32_5642 : BitVec 32 := 8#32
  let v14524 : BitVec 32 := Scalar.addi v14393 c8_i32_5642
  let v14527 : Index := Scalar.indexCast v14524
  ![v14527.toNat]
def k0_off463 (k0_t1 : Fin k0_t1_loop.trips) (v14393 : BitVec 32) (v14396 : BitVec 32) (v14528 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_5643 : BitVec 32 := 8#32
  let v14525 : BitVec 32 := Scalar.addi v14393 c8_i32_5643
  let v14526 : BitVec 1 := Scalar.cmpi .slt v14525 v14396
  let c65535_i32_5644 : BitVec 32 := 65535#32
  let v14529 : BitVec 32 := Scalar.andi v14528 c65535_i32_5644
  let c2048_i32_5645 : BitVec 32 := 2048#32
  let v14530 : BitVec 32 := Scalar.select v14526 v14529 c2048_i32_5645
  let v14531 : BitVec 32 := Scalar.addi v11087 v14530
  let v14534 : Index := Scalar.indexCast v14531
  let c0_5647 : Index := 0#32
  ![v14534.toNat, 0]

def k0_chk231 (i : grid0.Coords) (k0_t1 : Fin k0_t1_loop.trips) (v14393 : BitVec 32) (v14396 : BitVec 32) (v14528 : BitVec 32) : Prop :=
  (∀ (k0_h1 : k0_cond1 i = 1#1), ∀ a, (k0_off463 k0_t1 v14393 v14396 v14528) a + S1x128.size a ≤ S8224x128.size a)
theorem k0_off463_inb : ∀ (i : grid0.Coords) (k0_t1 : Fin k0_t1_loop.trips) (v14393 : BitVec 32) (v14396 : BitVec 32) (v14528 : BitVec 32) (k0_hw231 : k0_chk231 i k0_t1 v14393 v14396 v14528), ∀ (k0_h1 : k0_cond1 i = 1#1), ∀ a, (k0_off463 k0_t1 v14393 v14396 v14528) a + S1x128.size a ≤ S8224x128.size a := fun i k0_t1 v14393 v14396 v14528 k0_hw231 k0_h1 => k0_hw231 k0_h1

def k0_off464 (v14393 : BitVec 32) : Fin 1 → Nat :=
  let c9_i32_5648 : BitVec 32 := 9#32
  let v14539 : BitVec 32 := Scalar.addi v14393 c9_i32_5648
  let v14542 : Index := Scalar.indexCast v14539
  ![v14542.toNat]
def k0_off465 (k0_t1 : Fin k0_t1_loop.trips) (v14393 : BitVec 32) (v14396 : BitVec 32) (v14543 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_5649 : BitVec 32 := 9#32
  let v14540 : BitVec 32 := Scalar.addi v14393 c9_i32_5649
  let v14541 : BitVec 1 := Scalar.cmpi .slt v14540 v14396
  let c65535_i32_5650 : BitVec 32 := 65535#32
  let v14544 : BitVec 32 := Scalar.andi v14543 c65535_i32_5650
  let c2048_i32_5651 : BitVec 32 := 2048#32
  let v14545 : BitVec 32 := Scalar.select v14541 v14544 c2048_i32_5651
  let v14546 : BitVec 32 := Scalar.addi v11087 v14545
  let v14549 : Index := Scalar.indexCast v14546
  let c0_5653 : Index := 0#32
  ![v14549.toNat, 0]

def k0_chk232 (i : grid0.Coords) (k0_t1 : Fin k0_t1_loop.trips) (v14393 : BitVec 32) (v14396 : BitVec 32) (v14543 : BitVec 32) : Prop :=
  (∀ (k0_h1 : k0_cond1 i = 1#1), ∀ a, (k0_off465 k0_t1 v14393 v14396 v14543) a + S1x128.size a ≤ S8224x128.size a)
theorem k0_off465_inb : ∀ (i : grid0.Coords) (k0_t1 : Fin k0_t1_loop.trips) (v14393 : BitVec 32) (v14396 : BitVec 32) (v14543 : BitVec 32) (k0_hw232 : k0_chk232 i k0_t1 v14393 v14396 v14543), ∀ (k0_h1 : k0_cond1 i = 1#1), ∀ a, (k0_off465 k0_t1 v14393 v14396 v14543) a + S1x128.size a ≤ S8224x128.size a := fun i k0_t1 v14393 v14396 v14543 k0_hw232 k0_h1 => k0_hw232 k0_h1

def k0_off466 (v14393 : BitVec 32) : Fin 1 → Nat :=
  let c10_i32_5654 : BitVec 32 := 10#32
  let v14554 : BitVec 32 := Scalar.addi v14393 c10_i32_5654
  let v14557 : Index := Scalar.indexCast v14554
  ![v14557.toNat]
def k0_off467 (k0_t1 : Fin k0_t1_loop.trips) (v14393 : BitVec 32) (v14396 : BitVec 32) (v14558 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_5655 : BitVec 32 := 10#32
  let v14555 : BitVec 32 := Scalar.addi v14393 c10_i32_5655
  let v14556 : BitVec 1 := Scalar.cmpi .slt v14555 v14396
  let c65535_i32_5656 : BitVec 32 := 65535#32
  let v14559 : BitVec 32 := Scalar.andi v14558 c65535_i32_5656
  let c2048_i32_5657 : BitVec 32 := 2048#32
  let v14560 : BitVec 32 := Scalar.select v14556 v14559 c2048_i32_5657
  let v14561 : BitVec 32 := Scalar.addi v11087 v14560
  let v14564 : Index := Scalar.indexCast v14561
  let c0_5659 : Index := 0#32
  ![v14564.toNat, 0]

def k0_chk233 (i : grid0.Coords) (k0_t1 : Fin k0_t1_loop.trips) (v14393 : BitVec 32) (v14396 : BitVec 32) (v14558 : BitVec 32) : Prop :=
  (∀ (k0_h1 : k0_cond1 i = 1#1), ∀ a, (k0_off467 k0_t1 v14393 v14396 v14558) a + S1x128.size a ≤ S8224x128.size a)
theorem k0_off467_inb : ∀ (i : grid0.Coords) (k0_t1 : Fin k0_t1_loop.trips) (v14393 : BitVec 32) (v14396 : BitVec 32) (v14558 : BitVec 32) (k0_hw233 : k0_chk233 i k0_t1 v14393 v14396 v14558), ∀ (k0_h1 : k0_cond1 i = 1#1), ∀ a, (k0_off467 k0_t1 v14393 v14396 v14558) a + S1x128.size a ≤ S8224x128.size a := fun i k0_t1 v14393 v14396 v14558 k0_hw233 k0_h1 => k0_hw233 k0_h1

def k0_off468 (v14393 : BitVec 32) : Fin 1 → Nat :=
  let c11_i32_5660 : BitVec 32 := 11#32
  let v14569 : BitVec 32 := Scalar.addi v14393 c11_i32_5660
  let v14572 : Index := Scalar.indexCast v14569
  ![v14572.toNat]
def k0_off469 (k0_t1 : Fin k0_t1_loop.trips) (v14393 : BitVec 32) (v14396 : BitVec 32) (v14573 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_5661 : BitVec 32 := 11#32
  let v14570 : BitVec 32 := Scalar.addi v14393 c11_i32_5661
  let v14571 : BitVec 1 := Scalar.cmpi .slt v14570 v14396
  let c65535_i32_5662 : BitVec 32 := 65535#32
  let v14574 : BitVec 32 := Scalar.andi v14573 c65535_i32_5662
  let c2048_i32_5663 : BitVec 32 := 2048#32
  let v14575 : BitVec 32 := Scalar.select v14571 v14574 c2048_i32_5663
  let v14576 : BitVec 32 := Scalar.addi v11087 v14575
  let v14579 : Index := Scalar.indexCast v14576
  let c0_5665 : Index := 0#32
  ![v14579.toNat, 0]

def k0_chk234 (i : grid0.Coords) (k0_t1 : Fin k0_t1_loop.trips) (v14393 : BitVec 32) (v14396 : BitVec 32) (v14573 : BitVec 32) : Prop :=
  (∀ (k0_h1 : k0_cond1 i = 1#1), ∀ a, (k0_off469 k0_t1 v14393 v14396 v14573) a + S1x128.size a ≤ S8224x128.size a)
theorem k0_off469_inb : ∀ (i : grid0.Coords) (k0_t1 : Fin k0_t1_loop.trips) (v14393 : BitVec 32) (v14396 : BitVec 32) (v14573 : BitVec 32) (k0_hw234 : k0_chk234 i k0_t1 v14393 v14396 v14573), ∀ (k0_h1 : k0_cond1 i = 1#1), ∀ a, (k0_off469 k0_t1 v14393 v14396 v14573) a + S1x128.size a ≤ S8224x128.size a := fun i k0_t1 v14393 v14396 v14573 k0_hw234 k0_h1 => k0_hw234 k0_h1

def k0_off470 (v14393 : BitVec 32) : Fin 1 → Nat :=
  let c12_i32_5666 : BitVec 32 := 12#32
  let v14584 : BitVec 32 := Scalar.addi v14393 c12_i32_5666
  let v14587 : Index := Scalar.indexCast v14584
  ![v14587.toNat]
def k0_off471 (k0_t1 : Fin k0_t1_loop.trips) (v14393 : BitVec 32) (v14396 : BitVec 32) (v14588 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_5667 : BitVec 32 := 12#32
  let v14585 : BitVec 32 := Scalar.addi v14393 c12_i32_5667
  let v14586 : BitVec 1 := Scalar.cmpi .slt v14585 v14396
  let c65535_i32_5668 : BitVec 32 := 65535#32
  let v14589 : BitVec 32 := Scalar.andi v14588 c65535_i32_5668
  let c2048_i32_5669 : BitVec 32 := 2048#32
  let v14590 : BitVec 32 := Scalar.select v14586 v14589 c2048_i32_5669
  let v14591 : BitVec 32 := Scalar.addi v11087 v14590
  let v14594 : Index := Scalar.indexCast v14591
  let c0_5671 : Index := 0#32
  ![v14594.toNat, 0]

def k0_chk235 (i : grid0.Coords) (k0_t1 : Fin k0_t1_loop.trips) (v14393 : BitVec 32) (v14396 : BitVec 32) (v14588 : BitVec 32) : Prop :=
  (∀ (k0_h1 : k0_cond1 i = 1#1), ∀ a, (k0_off471 k0_t1 v14393 v14396 v14588) a + S1x128.size a ≤ S8224x128.size a)
theorem k0_off471_inb : ∀ (i : grid0.Coords) (k0_t1 : Fin k0_t1_loop.trips) (v14393 : BitVec 32) (v14396 : BitVec 32) (v14588 : BitVec 32) (k0_hw235 : k0_chk235 i k0_t1 v14393 v14396 v14588), ∀ (k0_h1 : k0_cond1 i = 1#1), ∀ a, (k0_off471 k0_t1 v14393 v14396 v14588) a + S1x128.size a ≤ S8224x128.size a := fun i k0_t1 v14393 v14396 v14588 k0_hw235 k0_h1 => k0_hw235 k0_h1

def k0_off472 (v14393 : BitVec 32) : Fin 1 → Nat :=
  let c13_i32_5672 : BitVec 32 := 13#32
  let v14599 : BitVec 32 := Scalar.addi v14393 c13_i32_5672
  let v14602 : Index := Scalar.indexCast v14599
  ![v14602.toNat]
def k0_off473 (k0_t1 : Fin k0_t1_loop.trips) (v14393 : BitVec 32) (v14396 : BitVec 32) (v14603 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_5673 : BitVec 32 := 13#32
  let v14600 : BitVec 32 := Scalar.addi v14393 c13_i32_5673
  let v14601 : BitVec 1 := Scalar.cmpi .slt v14600 v14396
  let c65535_i32_5674 : BitVec 32 := 65535#32
  let v14604 : BitVec 32 := Scalar.andi v14603 c65535_i32_5674
  let c2048_i32_5675 : BitVec 32 := 2048#32
  let v14605 : BitVec 32 := Scalar.select v14601 v14604 c2048_i32_5675
  let v14606 : BitVec 32 := Scalar.addi v11087 v14605
  let v14609 : Index := Scalar.indexCast v14606
  let c0_5677 : Index := 0#32
  ![v14609.toNat, 0]

def k0_chk236 (i : grid0.Coords) (k0_t1 : Fin k0_t1_loop.trips) (v14393 : BitVec 32) (v14396 : BitVec 32) (v14603 : BitVec 32) : Prop :=
  (∀ (k0_h1 : k0_cond1 i = 1#1), ∀ a, (k0_off473 k0_t1 v14393 v14396 v14603) a + S1x128.size a ≤ S8224x128.size a)
theorem k0_off473_inb : ∀ (i : grid0.Coords) (k0_t1 : Fin k0_t1_loop.trips) (v14393 : BitVec 32) (v14396 : BitVec 32) (v14603 : BitVec 32) (k0_hw236 : k0_chk236 i k0_t1 v14393 v14396 v14603), ∀ (k0_h1 : k0_cond1 i = 1#1), ∀ a, (k0_off473 k0_t1 v14393 v14396 v14603) a + S1x128.size a ≤ S8224x128.size a := fun i k0_t1 v14393 v14396 v14603 k0_hw236 k0_h1 => k0_hw236 k0_h1

def k0_off474 (v14393 : BitVec 32) : Fin 1 → Nat :=
  let c14_i32_5678 : BitVec 32 := 14#32
  let v14614 : BitVec 32 := Scalar.addi v14393 c14_i32_5678
  let v14617 : Index := Scalar.indexCast v14614
  ![v14617.toNat]
def k0_off475 (k0_t1 : Fin k0_t1_loop.trips) (v14393 : BitVec 32) (v14396 : BitVec 32) (v14618 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_5679 : BitVec 32 := 14#32
  let v14615 : BitVec 32 := Scalar.addi v14393 c14_i32_5679
  let v14616 : BitVec 1 := Scalar.cmpi .slt v14615 v14396
  let c65535_i32_5680 : BitVec 32 := 65535#32
  let v14619 : BitVec 32 := Scalar.andi v14618 c65535_i32_5680
  let c2048_i32_5681 : BitVec 32 := 2048#32
  let v14620 : BitVec 32 := Scalar.select v14616 v14619 c2048_i32_5681
  let v14621 : BitVec 32 := Scalar.addi v11087 v14620
  let v14624 : Index := Scalar.indexCast v14621
  let c0_5683 : Index := 0#32
  ![v14624.toNat, 0]

def k0_chk237 (i : grid0.Coords) (k0_t1 : Fin k0_t1_loop.trips) (v14393 : BitVec 32) (v14396 : BitVec 32) (v14618 : BitVec 32) : Prop :=
  (∀ (k0_h1 : k0_cond1 i = 1#1), ∀ a, (k0_off475 k0_t1 v14393 v14396 v14618) a + S1x128.size a ≤ S8224x128.size a)
theorem k0_off475_inb : ∀ (i : grid0.Coords) (k0_t1 : Fin k0_t1_loop.trips) (v14393 : BitVec 32) (v14396 : BitVec 32) (v14618 : BitVec 32) (k0_hw237 : k0_chk237 i k0_t1 v14393 v14396 v14618), ∀ (k0_h1 : k0_cond1 i = 1#1), ∀ a, (k0_off475 k0_t1 v14393 v14396 v14618) a + S1x128.size a ≤ S8224x128.size a := fun i k0_t1 v14393 v14396 v14618 k0_hw237 k0_h1 => k0_hw237 k0_h1

def k0_off476 (v14393 : BitVec 32) : Fin 1 → Nat :=
  let c15_i32_5684 : BitVec 32 := 15#32
  let v14629 : BitVec 32 := Scalar.addi v14393 c15_i32_5684
  let v14632 : Index := Scalar.indexCast v14629
  ![v14632.toNat]

def k0_chk222 (i : grid0.Coords) (v14393 : BitVec 32) : Prop :=
  (∀ (k0_h1 : k0_cond1 i = 1#1), ∀ a, (k0_off446 v14393) a + S1.size a ≤ S51920.size a) ∧
  (∀ (k0_h1 : k0_cond1 i = 1#1), ∀ a, (k0_off448 v14393) a + S1.size a ≤ S51920.size a) ∧
  (∀ (k0_h1 : k0_cond1 i = 1#1), ∀ a, (k0_off450 v14393) a + S1.size a ≤ S51920.size a) ∧
  (∀ (k0_h1 : k0_cond1 i = 1#1), ∀ a, (k0_off452 v14393) a + S1.size a ≤ S51920.size a) ∧
  (∀ (k0_h1 : k0_cond1 i = 1#1), ∀ a, (k0_off454 v14393) a + S1.size a ≤ S51920.size a) ∧
  (∀ (k0_h1 : k0_cond1 i = 1#1), ∀ a, (k0_off456 v14393) a + S1.size a ≤ S51920.size a) ∧
  (∀ (k0_h1 : k0_cond1 i = 1#1), ∀ a, (k0_off458 v14393) a + S1.size a ≤ S51920.size a) ∧
  (∀ (k0_h1 : k0_cond1 i = 1#1), ∀ a, (k0_off460 v14393) a + S1.size a ≤ S51920.size a) ∧
  (∀ (k0_h1 : k0_cond1 i = 1#1), ∀ a, (k0_off462 v14393) a + S1.size a ≤ S51920.size a) ∧
  (∀ (k0_h1 : k0_cond1 i = 1#1), ∀ a, (k0_off464 v14393) a + S1.size a ≤ S51920.size a) ∧
  (∀ (k0_h1 : k0_cond1 i = 1#1), ∀ a, (k0_off466 v14393) a + S1.size a ≤ S51920.size a) ∧
  (∀ (k0_h1 : k0_cond1 i = 1#1), ∀ a, (k0_off468 v14393) a + S1.size a ≤ S51920.size a) ∧
  (∀ (k0_h1 : k0_cond1 i = 1#1), ∀ a, (k0_off470 v14393) a + S1.size a ≤ S51920.size a) ∧
  (∀ (k0_h1 : k0_cond1 i = 1#1), ∀ a, (k0_off472 v14393) a + S1.size a ≤ S51920.size a) ∧
  (∀ (k0_h1 : k0_cond1 i = 1#1), ∀ a, (k0_off474 v14393) a + S1.size a ≤ S51920.size a) ∧
  (∀ (k0_h1 : k0_cond1 i = 1#1), ∀ a, (k0_off476 v14393) a + S1.size a ≤ S51920.size a)
theorem k0_off446_inb : ∀ (i : grid0.Coords) (v14393 : BitVec 32) (k0_hw222 : k0_chk222 i v14393), ∀ (k0_h1 : k0_cond1 i = 1#1), ∀ a, (k0_off446 v14393) a + S1.size a ≤ S51920.size a := fun i v14393 k0_hw222 k0_h1 => k0_hw222.1 k0_h1
theorem k0_off448_inb : ∀ (i : grid0.Coords) (v14393 : BitVec 32) (k0_hw222 : k0_chk222 i v14393), ∀ (k0_h1 : k0_cond1 i = 1#1), ∀ a, (k0_off448 v14393) a + S1.size a ≤ S51920.size a := fun i v14393 k0_hw222 k0_h1 => k0_hw222.2.1 k0_h1
theorem k0_off450_inb : ∀ (i : grid0.Coords) (v14393 : BitVec 32) (k0_hw222 : k0_chk222 i v14393), ∀ (k0_h1 : k0_cond1 i = 1#1), ∀ a, (k0_off450 v14393) a + S1.size a ≤ S51920.size a := fun i v14393 k0_hw222 k0_h1 => k0_hw222.2.2.1 k0_h1
theorem k0_off452_inb : ∀ (i : grid0.Coords) (v14393 : BitVec 32) (k0_hw222 : k0_chk222 i v14393), ∀ (k0_h1 : k0_cond1 i = 1#1), ∀ a, (k0_off452 v14393) a + S1.size a ≤ S51920.size a := fun i v14393 k0_hw222 k0_h1 => k0_hw222.2.2.2.1 k0_h1
theorem k0_off454_inb : ∀ (i : grid0.Coords) (v14393 : BitVec 32) (k0_hw222 : k0_chk222 i v14393), ∀ (k0_h1 : k0_cond1 i = 1#1), ∀ a, (k0_off454 v14393) a + S1.size a ≤ S51920.size a := fun i v14393 k0_hw222 k0_h1 => k0_hw222.2.2.2.2.1 k0_h1
theorem k0_off456_inb : ∀ (i : grid0.Coords) (v14393 : BitVec 32) (k0_hw222 : k0_chk222 i v14393), ∀ (k0_h1 : k0_cond1 i = 1#1), ∀ a, (k0_off456 v14393) a + S1.size a ≤ S51920.size a := fun i v14393 k0_hw222 k0_h1 => k0_hw222.2.2.2.2.2.1 k0_h1
theorem k0_off458_inb : ∀ (i : grid0.Coords) (v14393 : BitVec 32) (k0_hw222 : k0_chk222 i v14393), ∀ (k0_h1 : k0_cond1 i = 1#1), ∀ a, (k0_off458 v14393) a + S1.size a ≤ S51920.size a := fun i v14393 k0_hw222 k0_h1 => k0_hw222.2.2.2.2.2.2.1 k0_h1
theorem k0_off460_inb : ∀ (i : grid0.Coords) (v14393 : BitVec 32) (k0_hw222 : k0_chk222 i v14393), ∀ (k0_h1 : k0_cond1 i = 1#1), ∀ a, (k0_off460 v14393) a + S1.size a ≤ S51920.size a := fun i v14393 k0_hw222 k0_h1 => k0_hw222.2.2.2.2.2.2.2.1 k0_h1
theorem k0_off462_inb : ∀ (i : grid0.Coords) (v14393 : BitVec 32) (k0_hw222 : k0_chk222 i v14393), ∀ (k0_h1 : k0_cond1 i = 1#1), ∀ a, (k0_off462 v14393) a + S1.size a ≤ S51920.size a := fun i v14393 k0_hw222 k0_h1 => k0_hw222.2.2.2.2.2.2.2.2.1 k0_h1
theorem k0_off464_inb : ∀ (i : grid0.Coords) (v14393 : BitVec 32) (k0_hw222 : k0_chk222 i v14393), ∀ (k0_h1 : k0_cond1 i = 1#1), ∀ a, (k0_off464 v14393) a + S1.size a ≤ S51920.size a := fun i v14393 k0_hw222 k0_h1 => k0_hw222.2.2.2.2.2.2.2.2.2.1 k0_h1
theorem k0_off466_inb : ∀ (i : grid0.Coords) (v14393 : BitVec 32) (k0_hw222 : k0_chk222 i v14393), ∀ (k0_h1 : k0_cond1 i = 1#1), ∀ a, (k0_off466 v14393) a + S1.size a ≤ S51920.size a := fun i v14393 k0_hw222 k0_h1 => k0_hw222.2.2.2.2.2.2.2.2.2.2.1 k0_h1
theorem k0_off468_inb : ∀ (i : grid0.Coords) (v14393 : BitVec 32) (k0_hw222 : k0_chk222 i v14393), ∀ (k0_h1 : k0_cond1 i = 1#1), ∀ a, (k0_off468 v14393) a + S1.size a ≤ S51920.size a := fun i v14393 k0_hw222 k0_h1 => k0_hw222.2.2.2.2.2.2.2.2.2.2.2.1 k0_h1
theorem k0_off470_inb : ∀ (i : grid0.Coords) (v14393 : BitVec 32) (k0_hw222 : k0_chk222 i v14393), ∀ (k0_h1 : k0_cond1 i = 1#1), ∀ a, (k0_off470 v14393) a + S1.size a ≤ S51920.size a := fun i v14393 k0_hw222 k0_h1 => k0_hw222.2.2.2.2.2.2.2.2.2.2.2.2.1 k0_h1
theorem k0_off472_inb : ∀ (i : grid0.Coords) (v14393 : BitVec 32) (k0_hw222 : k0_chk222 i v14393), ∀ (k0_h1 : k0_cond1 i = 1#1), ∀ a, (k0_off472 v14393) a + S1.size a ≤ S51920.size a := fun i v14393 k0_hw222 k0_h1 => k0_hw222.2.2.2.2.2.2.2.2.2.2.2.2.2.1 k0_h1
theorem k0_off474_inb : ∀ (i : grid0.Coords) (v14393 : BitVec 32) (k0_hw222 : k0_chk222 i v14393), ∀ (k0_h1 : k0_cond1 i = 1#1), ∀ a, (k0_off474 v14393) a + S1.size a ≤ S51920.size a := fun i v14393 k0_hw222 k0_h1 => k0_hw222.2.2.2.2.2.2.2.2.2.2.2.2.2.2.1 k0_h1
theorem k0_off476_inb : ∀ (i : grid0.Coords) (v14393 : BitVec 32) (k0_hw222 : k0_chk222 i v14393), ∀ (k0_h1 : k0_cond1 i = 1#1), ∀ a, (k0_off476 v14393) a + S1.size a ≤ S51920.size a := fun i v14393 k0_hw222 k0_h1 => k0_hw222.2.2.2.2.2.2.2.2.2.2.2.2.2.2.2 k0_h1

def k0_off477 (k0_t1 : Fin k0_t1_loop.trips) (v14393 : BitVec 32) (v14396 : BitVec 32) (v14633 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_5685 : BitVec 32 := 15#32
  let v14630 : BitVec 32 := Scalar.addi v14393 c15_i32_5685
  let v14631 : BitVec 1 := Scalar.cmpi .slt v14630 v14396
  let c65535_i32_5686 : BitVec 32 := 65535#32
  let v14634 : BitVec 32 := Scalar.andi v14633 c65535_i32_5686
  let c2048_i32_5687 : BitVec 32 := 2048#32
  let v14635 : BitVec 32 := Scalar.select v14631 v14634 c2048_i32_5687
  let v14636 : BitVec 32 := Scalar.addi v11087 v14635
  let v14639 : Index := Scalar.indexCast v14636
  let c0_5689 : Index := 0#32
  ![v14639.toNat, 0]

def k0_chk238 (i : grid0.Coords) (k0_t1 : Fin k0_t1_loop.trips) (v14393 : BitVec 32) (v14396 : BitVec 32) (v14633 : BitVec 32) : Prop :=
  (∀ (k0_h1 : k0_cond1 i = 1#1), ∀ a, (k0_off477 k0_t1 v14393 v14396 v14633) a + S1x128.size a ≤ S8224x128.size a)
theorem k0_off477_inb : ∀ (i : grid0.Coords) (k0_t1 : Fin k0_t1_loop.trips) (v14393 : BitVec 32) (v14396 : BitVec 32) (v14633 : BitVec 32) (k0_hw238 : k0_chk238 i k0_t1 v14393 v14396 v14633), ∀ (k0_h1 : k0_cond1 i = 1#1), ∀ a, (k0_off477 k0_t1 v14393 v14396 v14633) a + S1x128.size a ≤ S8224x128.size a := fun i k0_t1 v14393 v14396 v14633 k0_hw238 k0_h1 => k0_hw238 k0_h1

def k0_off478 (k0_t1 : Fin k0_t1_loop.trips) : Fin 1 → Nat :=
  let c0_i32_5690 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v14644 : BitVec 32 := Scalar.addi c0_i32_5690 v11069
  let c14_i32_5691 : BitVec 32 := 14#32
  let v14645 : BitVec 32 := Scalar.addi v14644 c14_i32_5691
  let v14646 : Index := Scalar.indexCast v14645
  ![v14646.toNat]
def k0_off479 (k0_t1 : Fin k0_t1_loop.trips) : Fin 1 → Nat :=
  let c0_i32_5690 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v14644 : BitVec 32 := Scalar.addi c0_i32_5690 v11069
  let c14_i32_5691 : BitVec 32 := 14#32
  let v14645 : BitVec 32 := Scalar.addi v14644 c14_i32_5691
  let c1_i32_5692 : BitVec 32 := 1#32
  let v14648 : BitVec 32 := Scalar.addi v14645 c1_i32_5692
  let v14649 : Index := Scalar.indexCast v14648
  ![v14649.toNat]
def k0_off480 (v14647 : BitVec 32) : Fin 1 → Nat :=
  let c0_i32_5695 : BitVec 32 := 0#32
  let v14658 : BitVec 32 := Scalar.addi v14647 c0_i32_5695
  let v14661 : Index := Scalar.indexCast v14658
  ![v14661.toNat]

def k0_off481 (k0_t1 : Fin k0_t1_loop.trips) (v14647 : BitVec 32) (v14650 : BitVec 32) (v14662 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_5696 : BitVec 32 := 0#32
  let v14659 : BitVec 32 := Scalar.addi v14647 c0_i32_5696
  let v14660 : BitVec 1 := Scalar.cmpi .slt v14659 v14650
  let c65535_i32_5697 : BitVec 32 := 65535#32
  let v14663 : BitVec 32 := Scalar.andi v14662 c65535_i32_5697
  let c2048_i32_5698 : BitVec 32 := 2048#32
  let v14664 : BitVec 32 := Scalar.select v14660 v14663 c2048_i32_5698
  let v14665 : BitVec 32 := Scalar.addi v11087 v14664
  let v14668 : Index := Scalar.indexCast v14665
  let c0_5700 : Index := 0#32
  ![v14668.toNat, 0]

def k0_chk240 (i : grid0.Coords) (k0_t1 : Fin k0_t1_loop.trips) (v14647 : BitVec 32) (v14650 : BitVec 32) (v14662 : BitVec 32) : Prop :=
  (∀ (k0_h1 : k0_cond1 i = 1#1), ∀ a, (k0_off481 k0_t1 v14647 v14650 v14662) a + S1x128.size a ≤ S8224x128.size a)
theorem k0_off481_inb : ∀ (i : grid0.Coords) (k0_t1 : Fin k0_t1_loop.trips) (v14647 : BitVec 32) (v14650 : BitVec 32) (v14662 : BitVec 32) (k0_hw240 : k0_chk240 i k0_t1 v14647 v14650 v14662), ∀ (k0_h1 : k0_cond1 i = 1#1), ∀ a, (k0_off481 k0_t1 v14647 v14650 v14662) a + S1x128.size a ≤ S8224x128.size a := fun i k0_t1 v14647 v14650 v14662 k0_hw240 k0_h1 => k0_hw240 k0_h1

def k0_off482 (v14647 : BitVec 32) : Fin 1 → Nat :=
  let c1_i32_5701 : BitVec 32 := 1#32
  let v14673 : BitVec 32 := Scalar.addi v14647 c1_i32_5701
  let v14676 : Index := Scalar.indexCast v14673
  ![v14676.toNat]
def k0_off483 (k0_t1 : Fin k0_t1_loop.trips) (v14647 : BitVec 32) (v14650 : BitVec 32) (v14677 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_5702 : BitVec 32 := 1#32
  let v14674 : BitVec 32 := Scalar.addi v14647 c1_i32_5702
  let v14675 : BitVec 1 := Scalar.cmpi .slt v14674 v14650
  let c65535_i32_5703 : BitVec 32 := 65535#32
  let v14678 : BitVec 32 := Scalar.andi v14677 c65535_i32_5703
  let c2048_i32_5704 : BitVec 32 := 2048#32
  let v14679 : BitVec 32 := Scalar.select v14675 v14678 c2048_i32_5704
  let v14680 : BitVec 32 := Scalar.addi v11087 v14679
  let v14683 : Index := Scalar.indexCast v14680
  let c0_5706 : Index := 0#32
  ![v14683.toNat, 0]

def k0_chk241 (i : grid0.Coords) (k0_t1 : Fin k0_t1_loop.trips) (v14647 : BitVec 32) (v14650 : BitVec 32) (v14677 : BitVec 32) : Prop :=
  (∀ (k0_h1 : k0_cond1 i = 1#1), ∀ a, (k0_off483 k0_t1 v14647 v14650 v14677) a + S1x128.size a ≤ S8224x128.size a)
theorem k0_off483_inb : ∀ (i : grid0.Coords) (k0_t1 : Fin k0_t1_loop.trips) (v14647 : BitVec 32) (v14650 : BitVec 32) (v14677 : BitVec 32) (k0_hw241 : k0_chk241 i k0_t1 v14647 v14650 v14677), ∀ (k0_h1 : k0_cond1 i = 1#1), ∀ a, (k0_off483 k0_t1 v14647 v14650 v14677) a + S1x128.size a ≤ S8224x128.size a := fun i k0_t1 v14647 v14650 v14677 k0_hw241 k0_h1 => k0_hw241 k0_h1

def k0_off484 (v14647 : BitVec 32) : Fin 1 → Nat :=
  let c2_i32_5707 : BitVec 32 := 2#32
  let v14688 : BitVec 32 := Scalar.addi v14647 c2_i32_5707
  let v14691 : Index := Scalar.indexCast v14688
  ![v14691.toNat]
def k0_off485 (k0_t1 : Fin k0_t1_loop.trips) (v14647 : BitVec 32) (v14650 : BitVec 32) (v14692 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_5708 : BitVec 32 := 2#32
  let v14689 : BitVec 32 := Scalar.addi v14647 c2_i32_5708
  let v14690 : BitVec 1 := Scalar.cmpi .slt v14689 v14650
  let c65535_i32_5709 : BitVec 32 := 65535#32
  let v14693 : BitVec 32 := Scalar.andi v14692 c65535_i32_5709
  let c2048_i32_5710 : BitVec 32 := 2048#32
  let v14694 : BitVec 32 := Scalar.select v14690 v14693 c2048_i32_5710
  let v14695 : BitVec 32 := Scalar.addi v11087 v14694
  let v14698 : Index := Scalar.indexCast v14695
  let c0_5712 : Index := 0#32
  ![v14698.toNat, 0]

def k0_chk242 (i : grid0.Coords) (k0_t1 : Fin k0_t1_loop.trips) (v14647 : BitVec 32) (v14650 : BitVec 32) (v14692 : BitVec 32) : Prop :=
  (∀ (k0_h1 : k0_cond1 i = 1#1), ∀ a, (k0_off485 k0_t1 v14647 v14650 v14692) a + S1x128.size a ≤ S8224x128.size a)
theorem k0_off485_inb : ∀ (i : grid0.Coords) (k0_t1 : Fin k0_t1_loop.trips) (v14647 : BitVec 32) (v14650 : BitVec 32) (v14692 : BitVec 32) (k0_hw242 : k0_chk242 i k0_t1 v14647 v14650 v14692), ∀ (k0_h1 : k0_cond1 i = 1#1), ∀ a, (k0_off485 k0_t1 v14647 v14650 v14692) a + S1x128.size a ≤ S8224x128.size a := fun i k0_t1 v14647 v14650 v14692 k0_hw242 k0_h1 => k0_hw242 k0_h1

def k0_off486 (v14647 : BitVec 32) : Fin 1 → Nat :=
  let c3_i32_5713 : BitVec 32 := 3#32
  let v14703 : BitVec 32 := Scalar.addi v14647 c3_i32_5713
  let v14706 : Index := Scalar.indexCast v14703
  ![v14706.toNat]
def k0_off487 (k0_t1 : Fin k0_t1_loop.trips) (v14647 : BitVec 32) (v14650 : BitVec 32) (v14707 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_5714 : BitVec 32 := 3#32
  let v14704 : BitVec 32 := Scalar.addi v14647 c3_i32_5714
  let v14705 : BitVec 1 := Scalar.cmpi .slt v14704 v14650
  let c65535_i32_5715 : BitVec 32 := 65535#32
  let v14708 : BitVec 32 := Scalar.andi v14707 c65535_i32_5715
  let c2048_i32_5716 : BitVec 32 := 2048#32
  let v14709 : BitVec 32 := Scalar.select v14705 v14708 c2048_i32_5716
  let v14710 : BitVec 32 := Scalar.addi v11087 v14709
  let v14713 : Index := Scalar.indexCast v14710
  let c0_5718 : Index := 0#32
  ![v14713.toNat, 0]

def k0_chk243 (i : grid0.Coords) (k0_t1 : Fin k0_t1_loop.trips) (v14647 : BitVec 32) (v14650 : BitVec 32) (v14707 : BitVec 32) : Prop :=
  (∀ (k0_h1 : k0_cond1 i = 1#1), ∀ a, (k0_off487 k0_t1 v14647 v14650 v14707) a + S1x128.size a ≤ S8224x128.size a)
theorem k0_off487_inb : ∀ (i : grid0.Coords) (k0_t1 : Fin k0_t1_loop.trips) (v14647 : BitVec 32) (v14650 : BitVec 32) (v14707 : BitVec 32) (k0_hw243 : k0_chk243 i k0_t1 v14647 v14650 v14707), ∀ (k0_h1 : k0_cond1 i = 1#1), ∀ a, (k0_off487 k0_t1 v14647 v14650 v14707) a + S1x128.size a ≤ S8224x128.size a := fun i k0_t1 v14647 v14650 v14707 k0_hw243 k0_h1 => k0_hw243 k0_h1

def k0_off488 (v14647 : BitVec 32) : Fin 1 → Nat :=
  let c4_i32_5719 : BitVec 32 := 4#32
  let v14718 : BitVec 32 := Scalar.addi v14647 c4_i32_5719
  let v14721 : Index := Scalar.indexCast v14718
  ![v14721.toNat]
def k0_off489 (k0_t1 : Fin k0_t1_loop.trips) (v14647 : BitVec 32) (v14650 : BitVec 32) (v14722 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_5720 : BitVec 32 := 4#32
  let v14719 : BitVec 32 := Scalar.addi v14647 c4_i32_5720
  let v14720 : BitVec 1 := Scalar.cmpi .slt v14719 v14650
  let c65535_i32_5721 : BitVec 32 := 65535#32
  let v14723 : BitVec 32 := Scalar.andi v14722 c65535_i32_5721
  let c2048_i32_5722 : BitVec 32 := 2048#32
  let v14724 : BitVec 32 := Scalar.select v14720 v14723 c2048_i32_5722
  let v14725 : BitVec 32 := Scalar.addi v11087 v14724
  let v14728 : Index := Scalar.indexCast v14725
  let c0_5724 : Index := 0#32
  ![v14728.toNat, 0]

def k0_chk244 (i : grid0.Coords) (k0_t1 : Fin k0_t1_loop.trips) (v14647 : BitVec 32) (v14650 : BitVec 32) (v14722 : BitVec 32) : Prop :=
  (∀ (k0_h1 : k0_cond1 i = 1#1), ∀ a, (k0_off489 k0_t1 v14647 v14650 v14722) a + S1x128.size a ≤ S8224x128.size a)
theorem k0_off489_inb : ∀ (i : grid0.Coords) (k0_t1 : Fin k0_t1_loop.trips) (v14647 : BitVec 32) (v14650 : BitVec 32) (v14722 : BitVec 32) (k0_hw244 : k0_chk244 i k0_t1 v14647 v14650 v14722), ∀ (k0_h1 : k0_cond1 i = 1#1), ∀ a, (k0_off489 k0_t1 v14647 v14650 v14722) a + S1x128.size a ≤ S8224x128.size a := fun i k0_t1 v14647 v14650 v14722 k0_hw244 k0_h1 => k0_hw244 k0_h1

def k0_off490 (v14647 : BitVec 32) : Fin 1 → Nat :=
  let c5_i32_5725 : BitVec 32 := 5#32
  let v14733 : BitVec 32 := Scalar.addi v14647 c5_i32_5725
  let v14736 : Index := Scalar.indexCast v14733
  ![v14736.toNat]
def k0_off491 (k0_t1 : Fin k0_t1_loop.trips) (v14647 : BitVec 32) (v14650 : BitVec 32) (v14737 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_5726 : BitVec 32 := 5#32
  let v14734 : BitVec 32 := Scalar.addi v14647 c5_i32_5726
  let v14735 : BitVec 1 := Scalar.cmpi .slt v14734 v14650
  let c65535_i32_5727 : BitVec 32 := 65535#32
  let v14738 : BitVec 32 := Scalar.andi v14737 c65535_i32_5727
  let c2048_i32_5728 : BitVec 32 := 2048#32
  let v14739 : BitVec 32 := Scalar.select v14735 v14738 c2048_i32_5728
  let v14740 : BitVec 32 := Scalar.addi v11087 v14739
  let v14743 : Index := Scalar.indexCast v14740
  let c0_5730 : Index := 0#32
  ![v14743.toNat, 0]

def k0_chk245 (i : grid0.Coords) (k0_t1 : Fin k0_t1_loop.trips) (v14647 : BitVec 32) (v14650 : BitVec 32) (v14737 : BitVec 32) : Prop :=
  (∀ (k0_h1 : k0_cond1 i = 1#1), ∀ a, (k0_off491 k0_t1 v14647 v14650 v14737) a + S1x128.size a ≤ S8224x128.size a)
theorem k0_off491_inb : ∀ (i : grid0.Coords) (k0_t1 : Fin k0_t1_loop.trips) (v14647 : BitVec 32) (v14650 : BitVec 32) (v14737 : BitVec 32) (k0_hw245 : k0_chk245 i k0_t1 v14647 v14650 v14737), ∀ (k0_h1 : k0_cond1 i = 1#1), ∀ a, (k0_off491 k0_t1 v14647 v14650 v14737) a + S1x128.size a ≤ S8224x128.size a := fun i k0_t1 v14647 v14650 v14737 k0_hw245 k0_h1 => k0_hw245 k0_h1

def k0_off492 (v14647 : BitVec 32) : Fin 1 → Nat :=
  let c6_i32_5731 : BitVec 32 := 6#32
  let v14748 : BitVec 32 := Scalar.addi v14647 c6_i32_5731
  let v14751 : Index := Scalar.indexCast v14748
  ![v14751.toNat]
def k0_off493 (k0_t1 : Fin k0_t1_loop.trips) (v14647 : BitVec 32) (v14650 : BitVec 32) (v14752 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_5732 : BitVec 32 := 6#32
  let v14749 : BitVec 32 := Scalar.addi v14647 c6_i32_5732
  let v14750 : BitVec 1 := Scalar.cmpi .slt v14749 v14650
  let c65535_i32_5733 : BitVec 32 := 65535#32
  let v14753 : BitVec 32 := Scalar.andi v14752 c65535_i32_5733
  let c2048_i32_5734 : BitVec 32 := 2048#32
  let v14754 : BitVec 32 := Scalar.select v14750 v14753 c2048_i32_5734
  let v14755 : BitVec 32 := Scalar.addi v11087 v14754
  let v14758 : Index := Scalar.indexCast v14755
  let c0_5736 : Index := 0#32
  ![v14758.toNat, 0]

def k0_chk246 (i : grid0.Coords) (k0_t1 : Fin k0_t1_loop.trips) (v14647 : BitVec 32) (v14650 : BitVec 32) (v14752 : BitVec 32) : Prop :=
  (∀ (k0_h1 : k0_cond1 i = 1#1), ∀ a, (k0_off493 k0_t1 v14647 v14650 v14752) a + S1x128.size a ≤ S8224x128.size a)
theorem k0_off493_inb : ∀ (i : grid0.Coords) (k0_t1 : Fin k0_t1_loop.trips) (v14647 : BitVec 32) (v14650 : BitVec 32) (v14752 : BitVec 32) (k0_hw246 : k0_chk246 i k0_t1 v14647 v14650 v14752), ∀ (k0_h1 : k0_cond1 i = 1#1), ∀ a, (k0_off493 k0_t1 v14647 v14650 v14752) a + S1x128.size a ≤ S8224x128.size a := fun i k0_t1 v14647 v14650 v14752 k0_hw246 k0_h1 => k0_hw246 k0_h1

def k0_off494 (v14647 : BitVec 32) : Fin 1 → Nat :=
  let c7_i32_5737 : BitVec 32 := 7#32
  let v14763 : BitVec 32 := Scalar.addi v14647 c7_i32_5737
  let v14766 : Index := Scalar.indexCast v14763
  ![v14766.toNat]
def k0_off495 (k0_t1 : Fin k0_t1_loop.trips) (v14647 : BitVec 32) (v14650 : BitVec 32) (v14767 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_5738 : BitVec 32 := 7#32
  let v14764 : BitVec 32 := Scalar.addi v14647 c7_i32_5738
  let v14765 : BitVec 1 := Scalar.cmpi .slt v14764 v14650
  let c65535_i32_5739 : BitVec 32 := 65535#32
  let v14768 : BitVec 32 := Scalar.andi v14767 c65535_i32_5739
  let c2048_i32_5740 : BitVec 32 := 2048#32
  let v14769 : BitVec 32 := Scalar.select v14765 v14768 c2048_i32_5740
  let v14770 : BitVec 32 := Scalar.addi v11087 v14769
  let v14773 : Index := Scalar.indexCast v14770
  let c0_5742 : Index := 0#32
  ![v14773.toNat, 0]

def k0_chk247 (i : grid0.Coords) (k0_t1 : Fin k0_t1_loop.trips) (v14647 : BitVec 32) (v14650 : BitVec 32) (v14767 : BitVec 32) : Prop :=
  (∀ (k0_h1 : k0_cond1 i = 1#1), ∀ a, (k0_off495 k0_t1 v14647 v14650 v14767) a + S1x128.size a ≤ S8224x128.size a)
theorem k0_off495_inb : ∀ (i : grid0.Coords) (k0_t1 : Fin k0_t1_loop.trips) (v14647 : BitVec 32) (v14650 : BitVec 32) (v14767 : BitVec 32) (k0_hw247 : k0_chk247 i k0_t1 v14647 v14650 v14767), ∀ (k0_h1 : k0_cond1 i = 1#1), ∀ a, (k0_off495 k0_t1 v14647 v14650 v14767) a + S1x128.size a ≤ S8224x128.size a := fun i k0_t1 v14647 v14650 v14767 k0_hw247 k0_h1 => k0_hw247 k0_h1

def k0_off496 (v14647 : BitVec 32) : Fin 1 → Nat :=
  let c8_i32_5743 : BitVec 32 := 8#32
  let v14778 : BitVec 32 := Scalar.addi v14647 c8_i32_5743
  let v14781 : Index := Scalar.indexCast v14778
  ![v14781.toNat]
def k0_off497 (k0_t1 : Fin k0_t1_loop.trips) (v14647 : BitVec 32) (v14650 : BitVec 32) (v14782 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_5744 : BitVec 32 := 8#32
  let v14779 : BitVec 32 := Scalar.addi v14647 c8_i32_5744
  let v14780 : BitVec 1 := Scalar.cmpi .slt v14779 v14650
  let c65535_i32_5745 : BitVec 32 := 65535#32
  let v14783 : BitVec 32 := Scalar.andi v14782 c65535_i32_5745
  let c2048_i32_5746 : BitVec 32 := 2048#32
  let v14784 : BitVec 32 := Scalar.select v14780 v14783 c2048_i32_5746
  let v14785 : BitVec 32 := Scalar.addi v11087 v14784
  let v14788 : Index := Scalar.indexCast v14785
  let c0_5748 : Index := 0#32
  ![v14788.toNat, 0]

def k0_chk248 (i : grid0.Coords) (k0_t1 : Fin k0_t1_loop.trips) (v14647 : BitVec 32) (v14650 : BitVec 32) (v14782 : BitVec 32) : Prop :=
  (∀ (k0_h1 : k0_cond1 i = 1#1), ∀ a, (k0_off497 k0_t1 v14647 v14650 v14782) a + S1x128.size a ≤ S8224x128.size a)
theorem k0_off497_inb : ∀ (i : grid0.Coords) (k0_t1 : Fin k0_t1_loop.trips) (v14647 : BitVec 32) (v14650 : BitVec 32) (v14782 : BitVec 32) (k0_hw248 : k0_chk248 i k0_t1 v14647 v14650 v14782), ∀ (k0_h1 : k0_cond1 i = 1#1), ∀ a, (k0_off497 k0_t1 v14647 v14650 v14782) a + S1x128.size a ≤ S8224x128.size a := fun i k0_t1 v14647 v14650 v14782 k0_hw248 k0_h1 => k0_hw248 k0_h1

def k0_off498 (v14647 : BitVec 32) : Fin 1 → Nat :=
  let c9_i32_5749 : BitVec 32 := 9#32
  let v14793 : BitVec 32 := Scalar.addi v14647 c9_i32_5749
  let v14796 : Index := Scalar.indexCast v14793
  ![v14796.toNat]
def k0_off499 (k0_t1 : Fin k0_t1_loop.trips) (v14647 : BitVec 32) (v14650 : BitVec 32) (v14797 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_5750 : BitVec 32 := 9#32
  let v14794 : BitVec 32 := Scalar.addi v14647 c9_i32_5750
  let v14795 : BitVec 1 := Scalar.cmpi .slt v14794 v14650
  let c65535_i32_5751 : BitVec 32 := 65535#32
  let v14798 : BitVec 32 := Scalar.andi v14797 c65535_i32_5751
  let c2048_i32_5752 : BitVec 32 := 2048#32
  let v14799 : BitVec 32 := Scalar.select v14795 v14798 c2048_i32_5752
  let v14800 : BitVec 32 := Scalar.addi v11087 v14799
  let v14803 : Index := Scalar.indexCast v14800
  let c0_5754 : Index := 0#32
  ![v14803.toNat, 0]

def k0_chk249 (i : grid0.Coords) (k0_t1 : Fin k0_t1_loop.trips) (v14647 : BitVec 32) (v14650 : BitVec 32) (v14797 : BitVec 32) : Prop :=
  (∀ (k0_h1 : k0_cond1 i = 1#1), ∀ a, (k0_off499 k0_t1 v14647 v14650 v14797) a + S1x128.size a ≤ S8224x128.size a)
theorem k0_off499_inb : ∀ (i : grid0.Coords) (k0_t1 : Fin k0_t1_loop.trips) (v14647 : BitVec 32) (v14650 : BitVec 32) (v14797 : BitVec 32) (k0_hw249 : k0_chk249 i k0_t1 v14647 v14650 v14797), ∀ (k0_h1 : k0_cond1 i = 1#1), ∀ a, (k0_off499 k0_t1 v14647 v14650 v14797) a + S1x128.size a ≤ S8224x128.size a := fun i k0_t1 v14647 v14650 v14797 k0_hw249 k0_h1 => k0_hw249 k0_h1

def k0_off500 (v14647 : BitVec 32) : Fin 1 → Nat :=
  let c10_i32_5755 : BitVec 32 := 10#32
  let v14808 : BitVec 32 := Scalar.addi v14647 c10_i32_5755
  let v14811 : Index := Scalar.indexCast v14808
  ![v14811.toNat]
def k0_off501 (k0_t1 : Fin k0_t1_loop.trips) (v14647 : BitVec 32) (v14650 : BitVec 32) (v14812 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_5756 : BitVec 32 := 10#32
  let v14809 : BitVec 32 := Scalar.addi v14647 c10_i32_5756
  let v14810 : BitVec 1 := Scalar.cmpi .slt v14809 v14650
  let c65535_i32_5757 : BitVec 32 := 65535#32
  let v14813 : BitVec 32 := Scalar.andi v14812 c65535_i32_5757
  let c2048_i32_5758 : BitVec 32 := 2048#32
  let v14814 : BitVec 32 := Scalar.select v14810 v14813 c2048_i32_5758
  let v14815 : BitVec 32 := Scalar.addi v11087 v14814
  let v14818 : Index := Scalar.indexCast v14815
  let c0_5760 : Index := 0#32
  ![v14818.toNat, 0]

def k0_chk250 (i : grid0.Coords) (k0_t1 : Fin k0_t1_loop.trips) (v14647 : BitVec 32) (v14650 : BitVec 32) (v14812 : BitVec 32) : Prop :=
  (∀ (k0_h1 : k0_cond1 i = 1#1), ∀ a, (k0_off501 k0_t1 v14647 v14650 v14812) a + S1x128.size a ≤ S8224x128.size a)
theorem k0_off501_inb : ∀ (i : grid0.Coords) (k0_t1 : Fin k0_t1_loop.trips) (v14647 : BitVec 32) (v14650 : BitVec 32) (v14812 : BitVec 32) (k0_hw250 : k0_chk250 i k0_t1 v14647 v14650 v14812), ∀ (k0_h1 : k0_cond1 i = 1#1), ∀ a, (k0_off501 k0_t1 v14647 v14650 v14812) a + S1x128.size a ≤ S8224x128.size a := fun i k0_t1 v14647 v14650 v14812 k0_hw250 k0_h1 => k0_hw250 k0_h1

def k0_off502 (v14647 : BitVec 32) : Fin 1 → Nat :=
  let c11_i32_5761 : BitVec 32 := 11#32
  let v14823 : BitVec 32 := Scalar.addi v14647 c11_i32_5761
  let v14826 : Index := Scalar.indexCast v14823
  ![v14826.toNat]
def k0_off503 (k0_t1 : Fin k0_t1_loop.trips) (v14647 : BitVec 32) (v14650 : BitVec 32) (v14827 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_5762 : BitVec 32 := 11#32
  let v14824 : BitVec 32 := Scalar.addi v14647 c11_i32_5762
  let v14825 : BitVec 1 := Scalar.cmpi .slt v14824 v14650
  let c65535_i32_5763 : BitVec 32 := 65535#32
  let v14828 : BitVec 32 := Scalar.andi v14827 c65535_i32_5763
  let c2048_i32_5764 : BitVec 32 := 2048#32
  let v14829 : BitVec 32 := Scalar.select v14825 v14828 c2048_i32_5764
  let v14830 : BitVec 32 := Scalar.addi v11087 v14829
  let v14833 : Index := Scalar.indexCast v14830
  let c0_5766 : Index := 0#32
  ![v14833.toNat, 0]

def k0_chk251 (i : grid0.Coords) (k0_t1 : Fin k0_t1_loop.trips) (v14647 : BitVec 32) (v14650 : BitVec 32) (v14827 : BitVec 32) : Prop :=
  (∀ (k0_h1 : k0_cond1 i = 1#1), ∀ a, (k0_off503 k0_t1 v14647 v14650 v14827) a + S1x128.size a ≤ S8224x128.size a)
theorem k0_off503_inb : ∀ (i : grid0.Coords) (k0_t1 : Fin k0_t1_loop.trips) (v14647 : BitVec 32) (v14650 : BitVec 32) (v14827 : BitVec 32) (k0_hw251 : k0_chk251 i k0_t1 v14647 v14650 v14827), ∀ (k0_h1 : k0_cond1 i = 1#1), ∀ a, (k0_off503 k0_t1 v14647 v14650 v14827) a + S1x128.size a ≤ S8224x128.size a := fun i k0_t1 v14647 v14650 v14827 k0_hw251 k0_h1 => k0_hw251 k0_h1

def k0_off504 (v14647 : BitVec 32) : Fin 1 → Nat :=
  let c12_i32_5767 : BitVec 32 := 12#32
  let v14838 : BitVec 32 := Scalar.addi v14647 c12_i32_5767
  let v14841 : Index := Scalar.indexCast v14838
  ![v14841.toNat]
def k0_off505 (k0_t1 : Fin k0_t1_loop.trips) (v14647 : BitVec 32) (v14650 : BitVec 32) (v14842 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_5768 : BitVec 32 := 12#32
  let v14839 : BitVec 32 := Scalar.addi v14647 c12_i32_5768
  let v14840 : BitVec 1 := Scalar.cmpi .slt v14839 v14650
  let c65535_i32_5769 : BitVec 32 := 65535#32
  let v14843 : BitVec 32 := Scalar.andi v14842 c65535_i32_5769
  let c2048_i32_5770 : BitVec 32 := 2048#32
  let v14844 : BitVec 32 := Scalar.select v14840 v14843 c2048_i32_5770
  let v14845 : BitVec 32 := Scalar.addi v11087 v14844
  let v14848 : Index := Scalar.indexCast v14845
  let c0_5772 : Index := 0#32
  ![v14848.toNat, 0]

def k0_chk252 (i : grid0.Coords) (k0_t1 : Fin k0_t1_loop.trips) (v14647 : BitVec 32) (v14650 : BitVec 32) (v14842 : BitVec 32) : Prop :=
  (∀ (k0_h1 : k0_cond1 i = 1#1), ∀ a, (k0_off505 k0_t1 v14647 v14650 v14842) a + S1x128.size a ≤ S8224x128.size a)
theorem k0_off505_inb : ∀ (i : grid0.Coords) (k0_t1 : Fin k0_t1_loop.trips) (v14647 : BitVec 32) (v14650 : BitVec 32) (v14842 : BitVec 32) (k0_hw252 : k0_chk252 i k0_t1 v14647 v14650 v14842), ∀ (k0_h1 : k0_cond1 i = 1#1), ∀ a, (k0_off505 k0_t1 v14647 v14650 v14842) a + S1x128.size a ≤ S8224x128.size a := fun i k0_t1 v14647 v14650 v14842 k0_hw252 k0_h1 => k0_hw252 k0_h1

def k0_off506 (v14647 : BitVec 32) : Fin 1 → Nat :=
  let c13_i32_5773 : BitVec 32 := 13#32
  let v14853 : BitVec 32 := Scalar.addi v14647 c13_i32_5773
  let v14856 : Index := Scalar.indexCast v14853
  ![v14856.toNat]
def k0_off507 (k0_t1 : Fin k0_t1_loop.trips) (v14647 : BitVec 32) (v14650 : BitVec 32) (v14857 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_5774 : BitVec 32 := 13#32
  let v14854 : BitVec 32 := Scalar.addi v14647 c13_i32_5774
  let v14855 : BitVec 1 := Scalar.cmpi .slt v14854 v14650
  let c65535_i32_5775 : BitVec 32 := 65535#32
  let v14858 : BitVec 32 := Scalar.andi v14857 c65535_i32_5775
  let c2048_i32_5776 : BitVec 32 := 2048#32
  let v14859 : BitVec 32 := Scalar.select v14855 v14858 c2048_i32_5776
  let v14860 : BitVec 32 := Scalar.addi v11087 v14859
  let v14863 : Index := Scalar.indexCast v14860
  let c0_5778 : Index := 0#32
  ![v14863.toNat, 0]

def k0_chk253 (i : grid0.Coords) (k0_t1 : Fin k0_t1_loop.trips) (v14647 : BitVec 32) (v14650 : BitVec 32) (v14857 : BitVec 32) : Prop :=
  (∀ (k0_h1 : k0_cond1 i = 1#1), ∀ a, (k0_off507 k0_t1 v14647 v14650 v14857) a + S1x128.size a ≤ S8224x128.size a)
theorem k0_off507_inb : ∀ (i : grid0.Coords) (k0_t1 : Fin k0_t1_loop.trips) (v14647 : BitVec 32) (v14650 : BitVec 32) (v14857 : BitVec 32) (k0_hw253 : k0_chk253 i k0_t1 v14647 v14650 v14857), ∀ (k0_h1 : k0_cond1 i = 1#1), ∀ a, (k0_off507 k0_t1 v14647 v14650 v14857) a + S1x128.size a ≤ S8224x128.size a := fun i k0_t1 v14647 v14650 v14857 k0_hw253 k0_h1 => k0_hw253 k0_h1

def k0_off508 (v14647 : BitVec 32) : Fin 1 → Nat :=
  let c14_i32_5779 : BitVec 32 := 14#32
  let v14868 : BitVec 32 := Scalar.addi v14647 c14_i32_5779
  let v14871 : Index := Scalar.indexCast v14868
  ![v14871.toNat]
def k0_off509 (k0_t1 : Fin k0_t1_loop.trips) (v14647 : BitVec 32) (v14650 : BitVec 32) (v14872 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_5780 : BitVec 32 := 14#32
  let v14869 : BitVec 32 := Scalar.addi v14647 c14_i32_5780
  let v14870 : BitVec 1 := Scalar.cmpi .slt v14869 v14650
  let c65535_i32_5781 : BitVec 32 := 65535#32
  let v14873 : BitVec 32 := Scalar.andi v14872 c65535_i32_5781
  let c2048_i32_5782 : BitVec 32 := 2048#32
  let v14874 : BitVec 32 := Scalar.select v14870 v14873 c2048_i32_5782
  let v14875 : BitVec 32 := Scalar.addi v11087 v14874
  let v14878 : Index := Scalar.indexCast v14875
  let c0_5784 : Index := 0#32
  ![v14878.toNat, 0]

def k0_chk254 (i : grid0.Coords) (k0_t1 : Fin k0_t1_loop.trips) (v14647 : BitVec 32) (v14650 : BitVec 32) (v14872 : BitVec 32) : Prop :=
  (∀ (k0_h1 : k0_cond1 i = 1#1), ∀ a, (k0_off509 k0_t1 v14647 v14650 v14872) a + S1x128.size a ≤ S8224x128.size a)
theorem k0_off509_inb : ∀ (i : grid0.Coords) (k0_t1 : Fin k0_t1_loop.trips) (v14647 : BitVec 32) (v14650 : BitVec 32) (v14872 : BitVec 32) (k0_hw254 : k0_chk254 i k0_t1 v14647 v14650 v14872), ∀ (k0_h1 : k0_cond1 i = 1#1), ∀ a, (k0_off509 k0_t1 v14647 v14650 v14872) a + S1x128.size a ≤ S8224x128.size a := fun i k0_t1 v14647 v14650 v14872 k0_hw254 k0_h1 => k0_hw254 k0_h1

def k0_off510 (v14647 : BitVec 32) : Fin 1 → Nat :=
  let c15_i32_5785 : BitVec 32 := 15#32
  let v14883 : BitVec 32 := Scalar.addi v14647 c15_i32_5785
  let v14886 : Index := Scalar.indexCast v14883
  ![v14886.toNat]

def k0_chk239 (i : grid0.Coords) (v14647 : BitVec 32) : Prop :=
  (∀ (k0_h1 : k0_cond1 i = 1#1), ∀ a, (k0_off480 v14647) a + S1.size a ≤ S51920.size a) ∧
  (∀ (k0_h1 : k0_cond1 i = 1#1), ∀ a, (k0_off482 v14647) a + S1.size a ≤ S51920.size a) ∧
  (∀ (k0_h1 : k0_cond1 i = 1#1), ∀ a, (k0_off484 v14647) a + S1.size a ≤ S51920.size a) ∧
  (∀ (k0_h1 : k0_cond1 i = 1#1), ∀ a, (k0_off486 v14647) a + S1.size a ≤ S51920.size a) ∧
  (∀ (k0_h1 : k0_cond1 i = 1#1), ∀ a, (k0_off488 v14647) a + S1.size a ≤ S51920.size a) ∧
  (∀ (k0_h1 : k0_cond1 i = 1#1), ∀ a, (k0_off490 v14647) a + S1.size a ≤ S51920.size a) ∧
  (∀ (k0_h1 : k0_cond1 i = 1#1), ∀ a, (k0_off492 v14647) a + S1.size a ≤ S51920.size a) ∧
  (∀ (k0_h1 : k0_cond1 i = 1#1), ∀ a, (k0_off494 v14647) a + S1.size a ≤ S51920.size a) ∧
  (∀ (k0_h1 : k0_cond1 i = 1#1), ∀ a, (k0_off496 v14647) a + S1.size a ≤ S51920.size a) ∧
  (∀ (k0_h1 : k0_cond1 i = 1#1), ∀ a, (k0_off498 v14647) a + S1.size a ≤ S51920.size a) ∧
  (∀ (k0_h1 : k0_cond1 i = 1#1), ∀ a, (k0_off500 v14647) a + S1.size a ≤ S51920.size a) ∧
  (∀ (k0_h1 : k0_cond1 i = 1#1), ∀ a, (k0_off502 v14647) a + S1.size a ≤ S51920.size a) ∧
  (∀ (k0_h1 : k0_cond1 i = 1#1), ∀ a, (k0_off504 v14647) a + S1.size a ≤ S51920.size a) ∧
  (∀ (k0_h1 : k0_cond1 i = 1#1), ∀ a, (k0_off506 v14647) a + S1.size a ≤ S51920.size a) ∧
  (∀ (k0_h1 : k0_cond1 i = 1#1), ∀ a, (k0_off508 v14647) a + S1.size a ≤ S51920.size a) ∧
  (∀ (k0_h1 : k0_cond1 i = 1#1), ∀ a, (k0_off510 v14647) a + S1.size a ≤ S51920.size a)
theorem k0_off480_inb : ∀ (i : grid0.Coords) (v14647 : BitVec 32) (k0_hw239 : k0_chk239 i v14647), ∀ (k0_h1 : k0_cond1 i = 1#1), ∀ a, (k0_off480 v14647) a + S1.size a ≤ S51920.size a := fun i v14647 k0_hw239 k0_h1 => k0_hw239.1 k0_h1
theorem k0_off482_inb : ∀ (i : grid0.Coords) (v14647 : BitVec 32) (k0_hw239 : k0_chk239 i v14647), ∀ (k0_h1 : k0_cond1 i = 1#1), ∀ a, (k0_off482 v14647) a + S1.size a ≤ S51920.size a := fun i v14647 k0_hw239 k0_h1 => k0_hw239.2.1 k0_h1
theorem k0_off484_inb : ∀ (i : grid0.Coords) (v14647 : BitVec 32) (k0_hw239 : k0_chk239 i v14647), ∀ (k0_h1 : k0_cond1 i = 1#1), ∀ a, (k0_off484 v14647) a + S1.size a ≤ S51920.size a := fun i v14647 k0_hw239 k0_h1 => k0_hw239.2.2.1 k0_h1
theorem k0_off486_inb : ∀ (i : grid0.Coords) (v14647 : BitVec 32) (k0_hw239 : k0_chk239 i v14647), ∀ (k0_h1 : k0_cond1 i = 1#1), ∀ a, (k0_off486 v14647) a + S1.size a ≤ S51920.size a := fun i v14647 k0_hw239 k0_h1 => k0_hw239.2.2.2.1 k0_h1
theorem k0_off488_inb : ∀ (i : grid0.Coords) (v14647 : BitVec 32) (k0_hw239 : k0_chk239 i v14647), ∀ (k0_h1 : k0_cond1 i = 1#1), ∀ a, (k0_off488 v14647) a + S1.size a ≤ S51920.size a := fun i v14647 k0_hw239 k0_h1 => k0_hw239.2.2.2.2.1 k0_h1
theorem k0_off490_inb : ∀ (i : grid0.Coords) (v14647 : BitVec 32) (k0_hw239 : k0_chk239 i v14647), ∀ (k0_h1 : k0_cond1 i = 1#1), ∀ a, (k0_off490 v14647) a + S1.size a ≤ S51920.size a := fun i v14647 k0_hw239 k0_h1 => k0_hw239.2.2.2.2.2.1 k0_h1
theorem k0_off492_inb : ∀ (i : grid0.Coords) (v14647 : BitVec 32) (k0_hw239 : k0_chk239 i v14647), ∀ (k0_h1 : k0_cond1 i = 1#1), ∀ a, (k0_off492 v14647) a + S1.size a ≤ S51920.size a := fun i v14647 k0_hw239 k0_h1 => k0_hw239.2.2.2.2.2.2.1 k0_h1
theorem k0_off494_inb : ∀ (i : grid0.Coords) (v14647 : BitVec 32) (k0_hw239 : k0_chk239 i v14647), ∀ (k0_h1 : k0_cond1 i = 1#1), ∀ a, (k0_off494 v14647) a + S1.size a ≤ S51920.size a := fun i v14647 k0_hw239 k0_h1 => k0_hw239.2.2.2.2.2.2.2.1 k0_h1
theorem k0_off496_inb : ∀ (i : grid0.Coords) (v14647 : BitVec 32) (k0_hw239 : k0_chk239 i v14647), ∀ (k0_h1 : k0_cond1 i = 1#1), ∀ a, (k0_off496 v14647) a + S1.size a ≤ S51920.size a := fun i v14647 k0_hw239 k0_h1 => k0_hw239.2.2.2.2.2.2.2.2.1 k0_h1
theorem k0_off498_inb : ∀ (i : grid0.Coords) (v14647 : BitVec 32) (k0_hw239 : k0_chk239 i v14647), ∀ (k0_h1 : k0_cond1 i = 1#1), ∀ a, (k0_off498 v14647) a + S1.size a ≤ S51920.size a := fun i v14647 k0_hw239 k0_h1 => k0_hw239.2.2.2.2.2.2.2.2.2.1 k0_h1
theorem k0_off500_inb : ∀ (i : grid0.Coords) (v14647 : BitVec 32) (k0_hw239 : k0_chk239 i v14647), ∀ (k0_h1 : k0_cond1 i = 1#1), ∀ a, (k0_off500 v14647) a + S1.size a ≤ S51920.size a := fun i v14647 k0_hw239 k0_h1 => k0_hw239.2.2.2.2.2.2.2.2.2.2.1 k0_h1
theorem k0_off502_inb : ∀ (i : grid0.Coords) (v14647 : BitVec 32) (k0_hw239 : k0_chk239 i v14647), ∀ (k0_h1 : k0_cond1 i = 1#1), ∀ a, (k0_off502 v14647) a + S1.size a ≤ S51920.size a := fun i v14647 k0_hw239 k0_h1 => k0_hw239.2.2.2.2.2.2.2.2.2.2.2.1 k0_h1
theorem k0_off504_inb : ∀ (i : grid0.Coords) (v14647 : BitVec 32) (k0_hw239 : k0_chk239 i v14647), ∀ (k0_h1 : k0_cond1 i = 1#1), ∀ a, (k0_off504 v14647) a + S1.size a ≤ S51920.size a := fun i v14647 k0_hw239 k0_h1 => k0_hw239.2.2.2.2.2.2.2.2.2.2.2.2.1 k0_h1
theorem k0_off506_inb : ∀ (i : grid0.Coords) (v14647 : BitVec 32) (k0_hw239 : k0_chk239 i v14647), ∀ (k0_h1 : k0_cond1 i = 1#1), ∀ a, (k0_off506 v14647) a + S1.size a ≤ S51920.size a := fun i v14647 k0_hw239 k0_h1 => k0_hw239.2.2.2.2.2.2.2.2.2.2.2.2.2.1 k0_h1
theorem k0_off508_inb : ∀ (i : grid0.Coords) (v14647 : BitVec 32) (k0_hw239 : k0_chk239 i v14647), ∀ (k0_h1 : k0_cond1 i = 1#1), ∀ a, (k0_off508 v14647) a + S1.size a ≤ S51920.size a := fun i v14647 k0_hw239 k0_h1 => k0_hw239.2.2.2.2.2.2.2.2.2.2.2.2.2.2.1 k0_h1
theorem k0_off510_inb : ∀ (i : grid0.Coords) (v14647 : BitVec 32) (k0_hw239 : k0_chk239 i v14647), ∀ (k0_h1 : k0_cond1 i = 1#1), ∀ a, (k0_off510 v14647) a + S1.size a ≤ S51920.size a := fun i v14647 k0_hw239 k0_h1 => k0_hw239.2.2.2.2.2.2.2.2.2.2.2.2.2.2.2 k0_h1

def k0_off511 (k0_t1 : Fin k0_t1_loop.trips) (v14647 : BitVec 32) (v14650 : BitVec 32) (v14887 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_5786 : BitVec 32 := 15#32
  let v14884 : BitVec 32 := Scalar.addi v14647 c15_i32_5786
  let v14885 : BitVec 1 := Scalar.cmpi .slt v14884 v14650
  let c65535_i32_5787 : BitVec 32 := 65535#32
  let v14888 : BitVec 32 := Scalar.andi v14887 c65535_i32_5787
  let c2048_i32_5788 : BitVec 32 := 2048#32
  let v14889 : BitVec 32 := Scalar.select v14885 v14888 c2048_i32_5788
  let v14890 : BitVec 32 := Scalar.addi v11087 v14889
  let v14893 : Index := Scalar.indexCast v14890
  let c0_5790 : Index := 0#32
  ![v14893.toNat, 0]

def k0_chk255 (i : grid0.Coords) (k0_t1 : Fin k0_t1_loop.trips) (v14647 : BitVec 32) (v14650 : BitVec 32) (v14887 : BitVec 32) : Prop :=
  (∀ (k0_h1 : k0_cond1 i = 1#1), ∀ a, (k0_off511 k0_t1 v14647 v14650 v14887) a + S1x128.size a ≤ S8224x128.size a)
theorem k0_off511_inb : ∀ (i : grid0.Coords) (k0_t1 : Fin k0_t1_loop.trips) (v14647 : BitVec 32) (v14650 : BitVec 32) (v14887 : BitVec 32) (k0_hw255 : k0_chk255 i k0_t1 v14647 v14650 v14887), ∀ (k0_h1 : k0_cond1 i = 1#1), ∀ a, (k0_off511 k0_t1 v14647 v14650 v14887) a + S1x128.size a ≤ S8224x128.size a := fun i k0_t1 v14647 v14650 v14887 k0_hw255 k0_h1 => k0_hw255 k0_h1

def k0_off512 (k0_t1 : Fin k0_t1_loop.trips) : Fin 1 → Nat :=
  let c0_i32_5791 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v14898 : BitVec 32 := Scalar.addi c0_i32_5791 v11069
  let c15_i32_5792 : BitVec 32 := 15#32
  let v14899 : BitVec 32 := Scalar.addi v14898 c15_i32_5792
  let v14900 : Index := Scalar.indexCast v14899
  ![v14900.toNat]
def k0_off513 (k0_t1 : Fin k0_t1_loop.trips) : Fin 1 → Nat :=
  let c0_i32_5791 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v14898 : BitVec 32 := Scalar.addi c0_i32_5791 v11069
  let c15_i32_5792 : BitVec 32 := 15#32
  let v14899 : BitVec 32 := Scalar.addi v14898 c15_i32_5792
  let c1_i32_5793 : BitVec 32 := 1#32
  let v14902 : BitVec 32 := Scalar.addi v14899 c1_i32_5793
  let v14903 : Index := Scalar.indexCast v14902
  ![v14903.toNat]
def k0_off514 (v14901 : BitVec 32) : Fin 1 → Nat :=
  let c0_i32_5796 : BitVec 32 := 0#32
  let v14912 : BitVec 32 := Scalar.addi v14901 c0_i32_5796
  let v14915 : Index := Scalar.indexCast v14912
  ![v14915.toNat]

def k0_off515 (k0_t1 : Fin k0_t1_loop.trips) (v14901 : BitVec 32) (v14904 : BitVec 32) (v14916 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_5797 : BitVec 32 := 0#32
  let v14913 : BitVec 32 := Scalar.addi v14901 c0_i32_5797
  let v14914 : BitVec 1 := Scalar.cmpi .slt v14913 v14904
  let c65535_i32_5798 : BitVec 32 := 65535#32
  let v14917 : BitVec 32 := Scalar.andi v14916 c65535_i32_5798
  let c2048_i32_5799 : BitVec 32 := 2048#32
  let v14918 : BitVec 32 := Scalar.select v14914 v14917 c2048_i32_5799
  let v14919 : BitVec 32 := Scalar.addi v11087 v14918
  let v14922 : Index := Scalar.indexCast v14919
  let c0_5801 : Index := 0#32
  ![v14922.toNat, 0]

def k0_chk257 (i : grid0.Coords) (k0_t1 : Fin k0_t1_loop.trips) (v14901 : BitVec 32) (v14904 : BitVec 32) (v14916 : BitVec 32) : Prop :=
  (∀ (k0_h1 : k0_cond1 i = 1#1), ∀ a, (k0_off515 k0_t1 v14901 v14904 v14916) a + S1x128.size a ≤ S8224x128.size a)
theorem k0_off515_inb : ∀ (i : grid0.Coords) (k0_t1 : Fin k0_t1_loop.trips) (v14901 : BitVec 32) (v14904 : BitVec 32) (v14916 : BitVec 32) (k0_hw257 : k0_chk257 i k0_t1 v14901 v14904 v14916), ∀ (k0_h1 : k0_cond1 i = 1#1), ∀ a, (k0_off515 k0_t1 v14901 v14904 v14916) a + S1x128.size a ≤ S8224x128.size a := fun i k0_t1 v14901 v14904 v14916 k0_hw257 k0_h1 => k0_hw257 k0_h1

def k0_off516 (v14901 : BitVec 32) : Fin 1 → Nat :=
  let c1_i32_5802 : BitVec 32 := 1#32
  let v14927 : BitVec 32 := Scalar.addi v14901 c1_i32_5802
  let v14930 : Index := Scalar.indexCast v14927
  ![v14930.toNat]
def k0_off517 (k0_t1 : Fin k0_t1_loop.trips) (v14901 : BitVec 32) (v14904 : BitVec 32) (v14931 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_5803 : BitVec 32 := 1#32
  let v14928 : BitVec 32 := Scalar.addi v14901 c1_i32_5803
  let v14929 : BitVec 1 := Scalar.cmpi .slt v14928 v14904
  let c65535_i32_5804 : BitVec 32 := 65535#32
  let v14932 : BitVec 32 := Scalar.andi v14931 c65535_i32_5804
  let c2048_i32_5805 : BitVec 32 := 2048#32
  let v14933 : BitVec 32 := Scalar.select v14929 v14932 c2048_i32_5805
  let v14934 : BitVec 32 := Scalar.addi v11087 v14933
  let v14937 : Index := Scalar.indexCast v14934
  let c0_5807 : Index := 0#32
  ![v14937.toNat, 0]

def k0_chk258 (i : grid0.Coords) (k0_t1 : Fin k0_t1_loop.trips) (v14901 : BitVec 32) (v14904 : BitVec 32) (v14931 : BitVec 32) : Prop :=
  (∀ (k0_h1 : k0_cond1 i = 1#1), ∀ a, (k0_off517 k0_t1 v14901 v14904 v14931) a + S1x128.size a ≤ S8224x128.size a)
theorem k0_off517_inb : ∀ (i : grid0.Coords) (k0_t1 : Fin k0_t1_loop.trips) (v14901 : BitVec 32) (v14904 : BitVec 32) (v14931 : BitVec 32) (k0_hw258 : k0_chk258 i k0_t1 v14901 v14904 v14931), ∀ (k0_h1 : k0_cond1 i = 1#1), ∀ a, (k0_off517 k0_t1 v14901 v14904 v14931) a + S1x128.size a ≤ S8224x128.size a := fun i k0_t1 v14901 v14904 v14931 k0_hw258 k0_h1 => k0_hw258 k0_h1

def k0_off518 (v14901 : BitVec 32) : Fin 1 → Nat :=
  let c2_i32_5808 : BitVec 32 := 2#32
  let v14942 : BitVec 32 := Scalar.addi v14901 c2_i32_5808
  let v14945 : Index := Scalar.indexCast v14942
  ![v14945.toNat]
def k0_off519 (k0_t1 : Fin k0_t1_loop.trips) (v14901 : BitVec 32) (v14904 : BitVec 32) (v14946 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_5809 : BitVec 32 := 2#32
  let v14943 : BitVec 32 := Scalar.addi v14901 c2_i32_5809
  let v14944 : BitVec 1 := Scalar.cmpi .slt v14943 v14904
  let c65535_i32_5810 : BitVec 32 := 65535#32
  let v14947 : BitVec 32 := Scalar.andi v14946 c65535_i32_5810
  let c2048_i32_5811 : BitVec 32 := 2048#32
  let v14948 : BitVec 32 := Scalar.select v14944 v14947 c2048_i32_5811
  let v14949 : BitVec 32 := Scalar.addi v11087 v14948
  let v14952 : Index := Scalar.indexCast v14949
  let c0_5813 : Index := 0#32
  ![v14952.toNat, 0]

def k0_chk259 (i : grid0.Coords) (k0_t1 : Fin k0_t1_loop.trips) (v14901 : BitVec 32) (v14904 : BitVec 32) (v14946 : BitVec 32) : Prop :=
  (∀ (k0_h1 : k0_cond1 i = 1#1), ∀ a, (k0_off519 k0_t1 v14901 v14904 v14946) a + S1x128.size a ≤ S8224x128.size a)
theorem k0_off519_inb : ∀ (i : grid0.Coords) (k0_t1 : Fin k0_t1_loop.trips) (v14901 : BitVec 32) (v14904 : BitVec 32) (v14946 : BitVec 32) (k0_hw259 : k0_chk259 i k0_t1 v14901 v14904 v14946), ∀ (k0_h1 : k0_cond1 i = 1#1), ∀ a, (k0_off519 k0_t1 v14901 v14904 v14946) a + S1x128.size a ≤ S8224x128.size a := fun i k0_t1 v14901 v14904 v14946 k0_hw259 k0_h1 => k0_hw259 k0_h1

def k0_off520 (v14901 : BitVec 32) : Fin 1 → Nat :=
  let c3_i32_5814 : BitVec 32 := 3#32
  let v14957 : BitVec 32 := Scalar.addi v14901 c3_i32_5814
  let v14960 : Index := Scalar.indexCast v14957
  ![v14960.toNat]
def k0_off521 (k0_t1 : Fin k0_t1_loop.trips) (v14901 : BitVec 32) (v14904 : BitVec 32) (v14961 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_5815 : BitVec 32 := 3#32
  let v14958 : BitVec 32 := Scalar.addi v14901 c3_i32_5815
  let v14959 : BitVec 1 := Scalar.cmpi .slt v14958 v14904
  let c65535_i32_5816 : BitVec 32 := 65535#32
  let v14962 : BitVec 32 := Scalar.andi v14961 c65535_i32_5816
  let c2048_i32_5817 : BitVec 32 := 2048#32
  let v14963 : BitVec 32 := Scalar.select v14959 v14962 c2048_i32_5817
  let v14964 : BitVec 32 := Scalar.addi v11087 v14963
  let v14967 : Index := Scalar.indexCast v14964
  let c0_5819 : Index := 0#32
  ![v14967.toNat, 0]

def k0_chk260 (i : grid0.Coords) (k0_t1 : Fin k0_t1_loop.trips) (v14901 : BitVec 32) (v14904 : BitVec 32) (v14961 : BitVec 32) : Prop :=
  (∀ (k0_h1 : k0_cond1 i = 1#1), ∀ a, (k0_off521 k0_t1 v14901 v14904 v14961) a + S1x128.size a ≤ S8224x128.size a)
theorem k0_off521_inb : ∀ (i : grid0.Coords) (k0_t1 : Fin k0_t1_loop.trips) (v14901 : BitVec 32) (v14904 : BitVec 32) (v14961 : BitVec 32) (k0_hw260 : k0_chk260 i k0_t1 v14901 v14904 v14961), ∀ (k0_h1 : k0_cond1 i = 1#1), ∀ a, (k0_off521 k0_t1 v14901 v14904 v14961) a + S1x128.size a ≤ S8224x128.size a := fun i k0_t1 v14901 v14904 v14961 k0_hw260 k0_h1 => k0_hw260 k0_h1

def k0_off522 (v14901 : BitVec 32) : Fin 1 → Nat :=
  let c4_i32_5820 : BitVec 32 := 4#32
  let v14972 : BitVec 32 := Scalar.addi v14901 c4_i32_5820
  let v14975 : Index := Scalar.indexCast v14972
  ![v14975.toNat]
def k0_off523 (k0_t1 : Fin k0_t1_loop.trips) (v14901 : BitVec 32) (v14904 : BitVec 32) (v14976 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_5821 : BitVec 32 := 4#32
  let v14973 : BitVec 32 := Scalar.addi v14901 c4_i32_5821
  let v14974 : BitVec 1 := Scalar.cmpi .slt v14973 v14904
  let c65535_i32_5822 : BitVec 32 := 65535#32
  let v14977 : BitVec 32 := Scalar.andi v14976 c65535_i32_5822
  let c2048_i32_5823 : BitVec 32 := 2048#32
  let v14978 : BitVec 32 := Scalar.select v14974 v14977 c2048_i32_5823
  let v14979 : BitVec 32 := Scalar.addi v11087 v14978
  let v14982 : Index := Scalar.indexCast v14979
  let c0_5825 : Index := 0#32
  ![v14982.toNat, 0]

def k0_chk261 (i : grid0.Coords) (k0_t1 : Fin k0_t1_loop.trips) (v14901 : BitVec 32) (v14904 : BitVec 32) (v14976 : BitVec 32) : Prop :=
  (∀ (k0_h1 : k0_cond1 i = 1#1), ∀ a, (k0_off523 k0_t1 v14901 v14904 v14976) a + S1x128.size a ≤ S8224x128.size a)
theorem k0_off523_inb : ∀ (i : grid0.Coords) (k0_t1 : Fin k0_t1_loop.trips) (v14901 : BitVec 32) (v14904 : BitVec 32) (v14976 : BitVec 32) (k0_hw261 : k0_chk261 i k0_t1 v14901 v14904 v14976), ∀ (k0_h1 : k0_cond1 i = 1#1), ∀ a, (k0_off523 k0_t1 v14901 v14904 v14976) a + S1x128.size a ≤ S8224x128.size a := fun i k0_t1 v14901 v14904 v14976 k0_hw261 k0_h1 => k0_hw261 k0_h1

def k0_off524 (v14901 : BitVec 32) : Fin 1 → Nat :=
  let c5_i32_5826 : BitVec 32 := 5#32
  let v14987 : BitVec 32 := Scalar.addi v14901 c5_i32_5826
  let v14990 : Index := Scalar.indexCast v14987
  ![v14990.toNat]
def k0_off525 (k0_t1 : Fin k0_t1_loop.trips) (v14901 : BitVec 32) (v14904 : BitVec 32) (v14991 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_5827 : BitVec 32 := 5#32
  let v14988 : BitVec 32 := Scalar.addi v14901 c5_i32_5827
  let v14989 : BitVec 1 := Scalar.cmpi .slt v14988 v14904
  let c65535_i32_5828 : BitVec 32 := 65535#32
  let v14992 : BitVec 32 := Scalar.andi v14991 c65535_i32_5828
  let c2048_i32_5829 : BitVec 32 := 2048#32
  let v14993 : BitVec 32 := Scalar.select v14989 v14992 c2048_i32_5829
  let v14994 : BitVec 32 := Scalar.addi v11087 v14993
  let v14997 : Index := Scalar.indexCast v14994
  let c0_5831 : Index := 0#32
  ![v14997.toNat, 0]

def k0_chk262 (i : grid0.Coords) (k0_t1 : Fin k0_t1_loop.trips) (v14901 : BitVec 32) (v14904 : BitVec 32) (v14991 : BitVec 32) : Prop :=
  (∀ (k0_h1 : k0_cond1 i = 1#1), ∀ a, (k0_off525 k0_t1 v14901 v14904 v14991) a + S1x128.size a ≤ S8224x128.size a)
theorem k0_off525_inb : ∀ (i : grid0.Coords) (k0_t1 : Fin k0_t1_loop.trips) (v14901 : BitVec 32) (v14904 : BitVec 32) (v14991 : BitVec 32) (k0_hw262 : k0_chk262 i k0_t1 v14901 v14904 v14991), ∀ (k0_h1 : k0_cond1 i = 1#1), ∀ a, (k0_off525 k0_t1 v14901 v14904 v14991) a + S1x128.size a ≤ S8224x128.size a := fun i k0_t1 v14901 v14904 v14991 k0_hw262 k0_h1 => k0_hw262 k0_h1

def k0_off526 (v14901 : BitVec 32) : Fin 1 → Nat :=
  let c6_i32_5832 : BitVec 32 := 6#32
  let v15002 : BitVec 32 := Scalar.addi v14901 c6_i32_5832
  let v15005 : Index := Scalar.indexCast v15002
  ![v15005.toNat]
def k0_off527 (k0_t1 : Fin k0_t1_loop.trips) (v14901 : BitVec 32) (v14904 : BitVec 32) (v15006 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_5833 : BitVec 32 := 6#32
  let v15003 : BitVec 32 := Scalar.addi v14901 c6_i32_5833
  let v15004 : BitVec 1 := Scalar.cmpi .slt v15003 v14904
  let c65535_i32_5834 : BitVec 32 := 65535#32
  let v15007 : BitVec 32 := Scalar.andi v15006 c65535_i32_5834
  let c2048_i32_5835 : BitVec 32 := 2048#32
  let v15008 : BitVec 32 := Scalar.select v15004 v15007 c2048_i32_5835
  let v15009 : BitVec 32 := Scalar.addi v11087 v15008
  let v15012 : Index := Scalar.indexCast v15009
  let c0_5837 : Index := 0#32
  ![v15012.toNat, 0]

def k0_chk263 (i : grid0.Coords) (k0_t1 : Fin k0_t1_loop.trips) (v14901 : BitVec 32) (v14904 : BitVec 32) (v15006 : BitVec 32) : Prop :=
  (∀ (k0_h1 : k0_cond1 i = 1#1), ∀ a, (k0_off527 k0_t1 v14901 v14904 v15006) a + S1x128.size a ≤ S8224x128.size a)
theorem k0_off527_inb : ∀ (i : grid0.Coords) (k0_t1 : Fin k0_t1_loop.trips) (v14901 : BitVec 32) (v14904 : BitVec 32) (v15006 : BitVec 32) (k0_hw263 : k0_chk263 i k0_t1 v14901 v14904 v15006), ∀ (k0_h1 : k0_cond1 i = 1#1), ∀ a, (k0_off527 k0_t1 v14901 v14904 v15006) a + S1x128.size a ≤ S8224x128.size a := fun i k0_t1 v14901 v14904 v15006 k0_hw263 k0_h1 => k0_hw263 k0_h1

def k0_off528 (v14901 : BitVec 32) : Fin 1 → Nat :=
  let c7_i32_5838 : BitVec 32 := 7#32
  let v15017 : BitVec 32 := Scalar.addi v14901 c7_i32_5838
  let v15020 : Index := Scalar.indexCast v15017
  ![v15020.toNat]
def k0_off529 (k0_t1 : Fin k0_t1_loop.trips) (v14901 : BitVec 32) (v14904 : BitVec 32) (v15021 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_5839 : BitVec 32 := 7#32
  let v15018 : BitVec 32 := Scalar.addi v14901 c7_i32_5839
  let v15019 : BitVec 1 := Scalar.cmpi .slt v15018 v14904
  let c65535_i32_5840 : BitVec 32 := 65535#32
  let v15022 : BitVec 32 := Scalar.andi v15021 c65535_i32_5840
  let c2048_i32_5841 : BitVec 32 := 2048#32
  let v15023 : BitVec 32 := Scalar.select v15019 v15022 c2048_i32_5841
  let v15024 : BitVec 32 := Scalar.addi v11087 v15023
  let v15027 : Index := Scalar.indexCast v15024
  let c0_5843 : Index := 0#32
  ![v15027.toNat, 0]

def k0_chk264 (i : grid0.Coords) (k0_t1 : Fin k0_t1_loop.trips) (v14901 : BitVec 32) (v14904 : BitVec 32) (v15021 : BitVec 32) : Prop :=
  (∀ (k0_h1 : k0_cond1 i = 1#1), ∀ a, (k0_off529 k0_t1 v14901 v14904 v15021) a + S1x128.size a ≤ S8224x128.size a)
theorem k0_off529_inb : ∀ (i : grid0.Coords) (k0_t1 : Fin k0_t1_loop.trips) (v14901 : BitVec 32) (v14904 : BitVec 32) (v15021 : BitVec 32) (k0_hw264 : k0_chk264 i k0_t1 v14901 v14904 v15021), ∀ (k0_h1 : k0_cond1 i = 1#1), ∀ a, (k0_off529 k0_t1 v14901 v14904 v15021) a + S1x128.size a ≤ S8224x128.size a := fun i k0_t1 v14901 v14904 v15021 k0_hw264 k0_h1 => k0_hw264 k0_h1

def k0_off530 (v14901 : BitVec 32) : Fin 1 → Nat :=
  let c8_i32_5844 : BitVec 32 := 8#32
  let v15032 : BitVec 32 := Scalar.addi v14901 c8_i32_5844
  let v15035 : Index := Scalar.indexCast v15032
  ![v15035.toNat]
def k0_off531 (k0_t1 : Fin k0_t1_loop.trips) (v14901 : BitVec 32) (v14904 : BitVec 32) (v15036 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_5845 : BitVec 32 := 8#32
  let v15033 : BitVec 32 := Scalar.addi v14901 c8_i32_5845
  let v15034 : BitVec 1 := Scalar.cmpi .slt v15033 v14904
  let c65535_i32_5846 : BitVec 32 := 65535#32
  let v15037 : BitVec 32 := Scalar.andi v15036 c65535_i32_5846
  let c2048_i32_5847 : BitVec 32 := 2048#32
  let v15038 : BitVec 32 := Scalar.select v15034 v15037 c2048_i32_5847
  let v15039 : BitVec 32 := Scalar.addi v11087 v15038
  let v15042 : Index := Scalar.indexCast v15039
  let c0_5849 : Index := 0#32
  ![v15042.toNat, 0]

def k0_chk265 (i : grid0.Coords) (k0_t1 : Fin k0_t1_loop.trips) (v14901 : BitVec 32) (v14904 : BitVec 32) (v15036 : BitVec 32) : Prop :=
  (∀ (k0_h1 : k0_cond1 i = 1#1), ∀ a, (k0_off531 k0_t1 v14901 v14904 v15036) a + S1x128.size a ≤ S8224x128.size a)
theorem k0_off531_inb : ∀ (i : grid0.Coords) (k0_t1 : Fin k0_t1_loop.trips) (v14901 : BitVec 32) (v14904 : BitVec 32) (v15036 : BitVec 32) (k0_hw265 : k0_chk265 i k0_t1 v14901 v14904 v15036), ∀ (k0_h1 : k0_cond1 i = 1#1), ∀ a, (k0_off531 k0_t1 v14901 v14904 v15036) a + S1x128.size a ≤ S8224x128.size a := fun i k0_t1 v14901 v14904 v15036 k0_hw265 k0_h1 => k0_hw265 k0_h1

def k0_off532 (v14901 : BitVec 32) : Fin 1 → Nat :=
  let c9_i32_5850 : BitVec 32 := 9#32
  let v15047 : BitVec 32 := Scalar.addi v14901 c9_i32_5850
  let v15050 : Index := Scalar.indexCast v15047
  ![v15050.toNat]
def k0_off533 (k0_t1 : Fin k0_t1_loop.trips) (v14901 : BitVec 32) (v14904 : BitVec 32) (v15051 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_5851 : BitVec 32 := 9#32
  let v15048 : BitVec 32 := Scalar.addi v14901 c9_i32_5851
  let v15049 : BitVec 1 := Scalar.cmpi .slt v15048 v14904
  let c65535_i32_5852 : BitVec 32 := 65535#32
  let v15052 : BitVec 32 := Scalar.andi v15051 c65535_i32_5852
  let c2048_i32_5853 : BitVec 32 := 2048#32
  let v15053 : BitVec 32 := Scalar.select v15049 v15052 c2048_i32_5853
  let v15054 : BitVec 32 := Scalar.addi v11087 v15053
  let v15057 : Index := Scalar.indexCast v15054
  let c0_5855 : Index := 0#32
  ![v15057.toNat, 0]

def k0_chk266 (i : grid0.Coords) (k0_t1 : Fin k0_t1_loop.trips) (v14901 : BitVec 32) (v14904 : BitVec 32) (v15051 : BitVec 32) : Prop :=
  (∀ (k0_h1 : k0_cond1 i = 1#1), ∀ a, (k0_off533 k0_t1 v14901 v14904 v15051) a + S1x128.size a ≤ S8224x128.size a)
theorem k0_off533_inb : ∀ (i : grid0.Coords) (k0_t1 : Fin k0_t1_loop.trips) (v14901 : BitVec 32) (v14904 : BitVec 32) (v15051 : BitVec 32) (k0_hw266 : k0_chk266 i k0_t1 v14901 v14904 v15051), ∀ (k0_h1 : k0_cond1 i = 1#1), ∀ a, (k0_off533 k0_t1 v14901 v14904 v15051) a + S1x128.size a ≤ S8224x128.size a := fun i k0_t1 v14901 v14904 v15051 k0_hw266 k0_h1 => k0_hw266 k0_h1

def k0_off534 (v14901 : BitVec 32) : Fin 1 → Nat :=
  let c10_i32_5856 : BitVec 32 := 10#32
  let v15062 : BitVec 32 := Scalar.addi v14901 c10_i32_5856
  let v15065 : Index := Scalar.indexCast v15062
  ![v15065.toNat]
def k0_off535 (k0_t1 : Fin k0_t1_loop.trips) (v14901 : BitVec 32) (v14904 : BitVec 32) (v15066 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_5857 : BitVec 32 := 10#32
  let v15063 : BitVec 32 := Scalar.addi v14901 c10_i32_5857
  let v15064 : BitVec 1 := Scalar.cmpi .slt v15063 v14904
  let c65535_i32_5858 : BitVec 32 := 65535#32
  let v15067 : BitVec 32 := Scalar.andi v15066 c65535_i32_5858
  let c2048_i32_5859 : BitVec 32 := 2048#32
  let v15068 : BitVec 32 := Scalar.select v15064 v15067 c2048_i32_5859
  let v15069 : BitVec 32 := Scalar.addi v11087 v15068
  let v15072 : Index := Scalar.indexCast v15069
  let c0_5861 : Index := 0#32
  ![v15072.toNat, 0]

def k0_chk267 (i : grid0.Coords) (k0_t1 : Fin k0_t1_loop.trips) (v14901 : BitVec 32) (v14904 : BitVec 32) (v15066 : BitVec 32) : Prop :=
  (∀ (k0_h1 : k0_cond1 i = 1#1), ∀ a, (k0_off535 k0_t1 v14901 v14904 v15066) a + S1x128.size a ≤ S8224x128.size a)
theorem k0_off535_inb : ∀ (i : grid0.Coords) (k0_t1 : Fin k0_t1_loop.trips) (v14901 : BitVec 32) (v14904 : BitVec 32) (v15066 : BitVec 32) (k0_hw267 : k0_chk267 i k0_t1 v14901 v14904 v15066), ∀ (k0_h1 : k0_cond1 i = 1#1), ∀ a, (k0_off535 k0_t1 v14901 v14904 v15066) a + S1x128.size a ≤ S8224x128.size a := fun i k0_t1 v14901 v14904 v15066 k0_hw267 k0_h1 => k0_hw267 k0_h1

def k0_off536 (v14901 : BitVec 32) : Fin 1 → Nat :=
  let c11_i32_5862 : BitVec 32 := 11#32
  let v15077 : BitVec 32 := Scalar.addi v14901 c11_i32_5862
  let v15080 : Index := Scalar.indexCast v15077
  ![v15080.toNat]
def k0_off537 (k0_t1 : Fin k0_t1_loop.trips) (v14901 : BitVec 32) (v14904 : BitVec 32) (v15081 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_5863 : BitVec 32 := 11#32
  let v15078 : BitVec 32 := Scalar.addi v14901 c11_i32_5863
  let v15079 : BitVec 1 := Scalar.cmpi .slt v15078 v14904
  let c65535_i32_5864 : BitVec 32 := 65535#32
  let v15082 : BitVec 32 := Scalar.andi v15081 c65535_i32_5864
  let c2048_i32_5865 : BitVec 32 := 2048#32
  let v15083 : BitVec 32 := Scalar.select v15079 v15082 c2048_i32_5865
  let v15084 : BitVec 32 := Scalar.addi v11087 v15083
  let v15087 : Index := Scalar.indexCast v15084
  let c0_5867 : Index := 0#32
  ![v15087.toNat, 0]

def k0_chk268 (i : grid0.Coords) (k0_t1 : Fin k0_t1_loop.trips) (v14901 : BitVec 32) (v14904 : BitVec 32) (v15081 : BitVec 32) : Prop :=
  (∀ (k0_h1 : k0_cond1 i = 1#1), ∀ a, (k0_off537 k0_t1 v14901 v14904 v15081) a + S1x128.size a ≤ S8224x128.size a)
theorem k0_off537_inb : ∀ (i : grid0.Coords) (k0_t1 : Fin k0_t1_loop.trips) (v14901 : BitVec 32) (v14904 : BitVec 32) (v15081 : BitVec 32) (k0_hw268 : k0_chk268 i k0_t1 v14901 v14904 v15081), ∀ (k0_h1 : k0_cond1 i = 1#1), ∀ a, (k0_off537 k0_t1 v14901 v14904 v15081) a + S1x128.size a ≤ S8224x128.size a := fun i k0_t1 v14901 v14904 v15081 k0_hw268 k0_h1 => k0_hw268 k0_h1

def k0_off538 (v14901 : BitVec 32) : Fin 1 → Nat :=
  let c12_i32_5868 : BitVec 32 := 12#32
  let v15092 : BitVec 32 := Scalar.addi v14901 c12_i32_5868
  let v15095 : Index := Scalar.indexCast v15092
  ![v15095.toNat]
def k0_off539 (k0_t1 : Fin k0_t1_loop.trips) (v14901 : BitVec 32) (v14904 : BitVec 32) (v15096 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_5869 : BitVec 32 := 12#32
  let v15093 : BitVec 32 := Scalar.addi v14901 c12_i32_5869
  let v15094 : BitVec 1 := Scalar.cmpi .slt v15093 v14904
  let c65535_i32_5870 : BitVec 32 := 65535#32
  let v15097 : BitVec 32 := Scalar.andi v15096 c65535_i32_5870
  let c2048_i32_5871 : BitVec 32 := 2048#32
  let v15098 : BitVec 32 := Scalar.select v15094 v15097 c2048_i32_5871
  let v15099 : BitVec 32 := Scalar.addi v11087 v15098
  let v15102 : Index := Scalar.indexCast v15099
  let c0_5873 : Index := 0#32
  ![v15102.toNat, 0]

def k0_chk269 (i : grid0.Coords) (k0_t1 : Fin k0_t1_loop.trips) (v14901 : BitVec 32) (v14904 : BitVec 32) (v15096 : BitVec 32) : Prop :=
  (∀ (k0_h1 : k0_cond1 i = 1#1), ∀ a, (k0_off539 k0_t1 v14901 v14904 v15096) a + S1x128.size a ≤ S8224x128.size a)
theorem k0_off539_inb : ∀ (i : grid0.Coords) (k0_t1 : Fin k0_t1_loop.trips) (v14901 : BitVec 32) (v14904 : BitVec 32) (v15096 : BitVec 32) (k0_hw269 : k0_chk269 i k0_t1 v14901 v14904 v15096), ∀ (k0_h1 : k0_cond1 i = 1#1), ∀ a, (k0_off539 k0_t1 v14901 v14904 v15096) a + S1x128.size a ≤ S8224x128.size a := fun i k0_t1 v14901 v14904 v15096 k0_hw269 k0_h1 => k0_hw269 k0_h1

def k0_off540 (v14901 : BitVec 32) : Fin 1 → Nat :=
  let c13_i32_5874 : BitVec 32 := 13#32
  let v15107 : BitVec 32 := Scalar.addi v14901 c13_i32_5874
  let v15110 : Index := Scalar.indexCast v15107
  ![v15110.toNat]
def k0_off541 (k0_t1 : Fin k0_t1_loop.trips) (v14901 : BitVec 32) (v14904 : BitVec 32) (v15111 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_5875 : BitVec 32 := 13#32
  let v15108 : BitVec 32 := Scalar.addi v14901 c13_i32_5875
  let v15109 : BitVec 1 := Scalar.cmpi .slt v15108 v14904
  let c65535_i32_5876 : BitVec 32 := 65535#32
  let v15112 : BitVec 32 := Scalar.andi v15111 c65535_i32_5876
  let c2048_i32_5877 : BitVec 32 := 2048#32
  let v15113 : BitVec 32 := Scalar.select v15109 v15112 c2048_i32_5877
  let v15114 : BitVec 32 := Scalar.addi v11087 v15113
  let v15117 : Index := Scalar.indexCast v15114
  let c0_5879 : Index := 0#32
  ![v15117.toNat, 0]

def k0_chk270 (i : grid0.Coords) (k0_t1 : Fin k0_t1_loop.trips) (v14901 : BitVec 32) (v14904 : BitVec 32) (v15111 : BitVec 32) : Prop :=
  (∀ (k0_h1 : k0_cond1 i = 1#1), ∀ a, (k0_off541 k0_t1 v14901 v14904 v15111) a + S1x128.size a ≤ S8224x128.size a)
theorem k0_off541_inb : ∀ (i : grid0.Coords) (k0_t1 : Fin k0_t1_loop.trips) (v14901 : BitVec 32) (v14904 : BitVec 32) (v15111 : BitVec 32) (k0_hw270 : k0_chk270 i k0_t1 v14901 v14904 v15111), ∀ (k0_h1 : k0_cond1 i = 1#1), ∀ a, (k0_off541 k0_t1 v14901 v14904 v15111) a + S1x128.size a ≤ S8224x128.size a := fun i k0_t1 v14901 v14904 v15111 k0_hw270 k0_h1 => k0_hw270 k0_h1

def k0_off542 (v14901 : BitVec 32) : Fin 1 → Nat :=
  let c14_i32_5880 : BitVec 32 := 14#32
  let v15122 : BitVec 32 := Scalar.addi v14901 c14_i32_5880
  let v15125 : Index := Scalar.indexCast v15122
  ![v15125.toNat]
def k0_off543 (k0_t1 : Fin k0_t1_loop.trips) (v14901 : BitVec 32) (v14904 : BitVec 32) (v15126 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_5881 : BitVec 32 := 14#32
  let v15123 : BitVec 32 := Scalar.addi v14901 c14_i32_5881
  let v15124 : BitVec 1 := Scalar.cmpi .slt v15123 v14904
  let c65535_i32_5882 : BitVec 32 := 65535#32
  let v15127 : BitVec 32 := Scalar.andi v15126 c65535_i32_5882
  let c2048_i32_5883 : BitVec 32 := 2048#32
  let v15128 : BitVec 32 := Scalar.select v15124 v15127 c2048_i32_5883
  let v15129 : BitVec 32 := Scalar.addi v11087 v15128
  let v15132 : Index := Scalar.indexCast v15129
  let c0_5885 : Index := 0#32
  ![v15132.toNat, 0]

def k0_chk271 (i : grid0.Coords) (k0_t1 : Fin k0_t1_loop.trips) (v14901 : BitVec 32) (v14904 : BitVec 32) (v15126 : BitVec 32) : Prop :=
  (∀ (k0_h1 : k0_cond1 i = 1#1), ∀ a, (k0_off543 k0_t1 v14901 v14904 v15126) a + S1x128.size a ≤ S8224x128.size a)
theorem k0_off543_inb : ∀ (i : grid0.Coords) (k0_t1 : Fin k0_t1_loop.trips) (v14901 : BitVec 32) (v14904 : BitVec 32) (v15126 : BitVec 32) (k0_hw271 : k0_chk271 i k0_t1 v14901 v14904 v15126), ∀ (k0_h1 : k0_cond1 i = 1#1), ∀ a, (k0_off543 k0_t1 v14901 v14904 v15126) a + S1x128.size a ≤ S8224x128.size a := fun i k0_t1 v14901 v14904 v15126 k0_hw271 k0_h1 => k0_hw271 k0_h1

def k0_off544 (v14901 : BitVec 32) : Fin 1 → Nat :=
  let c15_i32_5886 : BitVec 32 := 15#32
  let v15137 : BitVec 32 := Scalar.addi v14901 c15_i32_5886
  let v15140 : Index := Scalar.indexCast v15137
  ![v15140.toNat]

def k0_chk256 (i : grid0.Coords) (v14901 : BitVec 32) : Prop :=
  (∀ (k0_h1 : k0_cond1 i = 1#1), ∀ a, (k0_off514 v14901) a + S1.size a ≤ S51920.size a) ∧
  (∀ (k0_h1 : k0_cond1 i = 1#1), ∀ a, (k0_off516 v14901) a + S1.size a ≤ S51920.size a) ∧
  (∀ (k0_h1 : k0_cond1 i = 1#1), ∀ a, (k0_off518 v14901) a + S1.size a ≤ S51920.size a) ∧
  (∀ (k0_h1 : k0_cond1 i = 1#1), ∀ a, (k0_off520 v14901) a + S1.size a ≤ S51920.size a) ∧
  (∀ (k0_h1 : k0_cond1 i = 1#1), ∀ a, (k0_off522 v14901) a + S1.size a ≤ S51920.size a) ∧
  (∀ (k0_h1 : k0_cond1 i = 1#1), ∀ a, (k0_off524 v14901) a + S1.size a ≤ S51920.size a) ∧
  (∀ (k0_h1 : k0_cond1 i = 1#1), ∀ a, (k0_off526 v14901) a + S1.size a ≤ S51920.size a) ∧
  (∀ (k0_h1 : k0_cond1 i = 1#1), ∀ a, (k0_off528 v14901) a + S1.size a ≤ S51920.size a) ∧
  (∀ (k0_h1 : k0_cond1 i = 1#1), ∀ a, (k0_off530 v14901) a + S1.size a ≤ S51920.size a) ∧
  (∀ (k0_h1 : k0_cond1 i = 1#1), ∀ a, (k0_off532 v14901) a + S1.size a ≤ S51920.size a) ∧
  (∀ (k0_h1 : k0_cond1 i = 1#1), ∀ a, (k0_off534 v14901) a + S1.size a ≤ S51920.size a) ∧
  (∀ (k0_h1 : k0_cond1 i = 1#1), ∀ a, (k0_off536 v14901) a + S1.size a ≤ S51920.size a) ∧
  (∀ (k0_h1 : k0_cond1 i = 1#1), ∀ a, (k0_off538 v14901) a + S1.size a ≤ S51920.size a) ∧
  (∀ (k0_h1 : k0_cond1 i = 1#1), ∀ a, (k0_off540 v14901) a + S1.size a ≤ S51920.size a) ∧
  (∀ (k0_h1 : k0_cond1 i = 1#1), ∀ a, (k0_off542 v14901) a + S1.size a ≤ S51920.size a) ∧
  (∀ (k0_h1 : k0_cond1 i = 1#1), ∀ a, (k0_off544 v14901) a + S1.size a ≤ S51920.size a)
theorem k0_off514_inb : ∀ (i : grid0.Coords) (v14901 : BitVec 32) (k0_hw256 : k0_chk256 i v14901), ∀ (k0_h1 : k0_cond1 i = 1#1), ∀ a, (k0_off514 v14901) a + S1.size a ≤ S51920.size a := fun i v14901 k0_hw256 k0_h1 => k0_hw256.1 k0_h1
theorem k0_off516_inb : ∀ (i : grid0.Coords) (v14901 : BitVec 32) (k0_hw256 : k0_chk256 i v14901), ∀ (k0_h1 : k0_cond1 i = 1#1), ∀ a, (k0_off516 v14901) a + S1.size a ≤ S51920.size a := fun i v14901 k0_hw256 k0_h1 => k0_hw256.2.1 k0_h1
theorem k0_off518_inb : ∀ (i : grid0.Coords) (v14901 : BitVec 32) (k0_hw256 : k0_chk256 i v14901), ∀ (k0_h1 : k0_cond1 i = 1#1), ∀ a, (k0_off518 v14901) a + S1.size a ≤ S51920.size a := fun i v14901 k0_hw256 k0_h1 => k0_hw256.2.2.1 k0_h1
theorem k0_off520_inb : ∀ (i : grid0.Coords) (v14901 : BitVec 32) (k0_hw256 : k0_chk256 i v14901), ∀ (k0_h1 : k0_cond1 i = 1#1), ∀ a, (k0_off520 v14901) a + S1.size a ≤ S51920.size a := fun i v14901 k0_hw256 k0_h1 => k0_hw256.2.2.2.1 k0_h1
theorem k0_off522_inb : ∀ (i : grid0.Coords) (v14901 : BitVec 32) (k0_hw256 : k0_chk256 i v14901), ∀ (k0_h1 : k0_cond1 i = 1#1), ∀ a, (k0_off522 v14901) a + S1.size a ≤ S51920.size a := fun i v14901 k0_hw256 k0_h1 => k0_hw256.2.2.2.2.1 k0_h1
theorem k0_off524_inb : ∀ (i : grid0.Coords) (v14901 : BitVec 32) (k0_hw256 : k0_chk256 i v14901), ∀ (k0_h1 : k0_cond1 i = 1#1), ∀ a, (k0_off524 v14901) a + S1.size a ≤ S51920.size a := fun i v14901 k0_hw256 k0_h1 => k0_hw256.2.2.2.2.2.1 k0_h1
theorem k0_off526_inb : ∀ (i : grid0.Coords) (v14901 : BitVec 32) (k0_hw256 : k0_chk256 i v14901), ∀ (k0_h1 : k0_cond1 i = 1#1), ∀ a, (k0_off526 v14901) a + S1.size a ≤ S51920.size a := fun i v14901 k0_hw256 k0_h1 => k0_hw256.2.2.2.2.2.2.1 k0_h1
theorem k0_off528_inb : ∀ (i : grid0.Coords) (v14901 : BitVec 32) (k0_hw256 : k0_chk256 i v14901), ∀ (k0_h1 : k0_cond1 i = 1#1), ∀ a, (k0_off528 v14901) a + S1.size a ≤ S51920.size a := fun i v14901 k0_hw256 k0_h1 => k0_hw256.2.2.2.2.2.2.2.1 k0_h1
theorem k0_off530_inb : ∀ (i : grid0.Coords) (v14901 : BitVec 32) (k0_hw256 : k0_chk256 i v14901), ∀ (k0_h1 : k0_cond1 i = 1#1), ∀ a, (k0_off530 v14901) a + S1.size a ≤ S51920.size a := fun i v14901 k0_hw256 k0_h1 => k0_hw256.2.2.2.2.2.2.2.2.1 k0_h1
theorem k0_off532_inb : ∀ (i : grid0.Coords) (v14901 : BitVec 32) (k0_hw256 : k0_chk256 i v14901), ∀ (k0_h1 : k0_cond1 i = 1#1), ∀ a, (k0_off532 v14901) a + S1.size a ≤ S51920.size a := fun i v14901 k0_hw256 k0_h1 => k0_hw256.2.2.2.2.2.2.2.2.2.1 k0_h1
theorem k0_off534_inb : ∀ (i : grid0.Coords) (v14901 : BitVec 32) (k0_hw256 : k0_chk256 i v14901), ∀ (k0_h1 : k0_cond1 i = 1#1), ∀ a, (k0_off534 v14901) a + S1.size a ≤ S51920.size a := fun i v14901 k0_hw256 k0_h1 => k0_hw256.2.2.2.2.2.2.2.2.2.2.1 k0_h1
theorem k0_off536_inb : ∀ (i : grid0.Coords) (v14901 : BitVec 32) (k0_hw256 : k0_chk256 i v14901), ∀ (k0_h1 : k0_cond1 i = 1#1), ∀ a, (k0_off536 v14901) a + S1.size a ≤ S51920.size a := fun i v14901 k0_hw256 k0_h1 => k0_hw256.2.2.2.2.2.2.2.2.2.2.2.1 k0_h1
theorem k0_off538_inb : ∀ (i : grid0.Coords) (v14901 : BitVec 32) (k0_hw256 : k0_chk256 i v14901), ∀ (k0_h1 : k0_cond1 i = 1#1), ∀ a, (k0_off538 v14901) a + S1.size a ≤ S51920.size a := fun i v14901 k0_hw256 k0_h1 => k0_hw256.2.2.2.2.2.2.2.2.2.2.2.2.1 k0_h1
theorem k0_off540_inb : ∀ (i : grid0.Coords) (v14901 : BitVec 32) (k0_hw256 : k0_chk256 i v14901), ∀ (k0_h1 : k0_cond1 i = 1#1), ∀ a, (k0_off540 v14901) a + S1.size a ≤ S51920.size a := fun i v14901 k0_hw256 k0_h1 => k0_hw256.2.2.2.2.2.2.2.2.2.2.2.2.2.1 k0_h1
theorem k0_off542_inb : ∀ (i : grid0.Coords) (v14901 : BitVec 32) (k0_hw256 : k0_chk256 i v14901), ∀ (k0_h1 : k0_cond1 i = 1#1), ∀ a, (k0_off542 v14901) a + S1.size a ≤ S51920.size a := fun i v14901 k0_hw256 k0_h1 => k0_hw256.2.2.2.2.2.2.2.2.2.2.2.2.2.2.1 k0_h1
theorem k0_off544_inb : ∀ (i : grid0.Coords) (v14901 : BitVec 32) (k0_hw256 : k0_chk256 i v14901), ∀ (k0_h1 : k0_cond1 i = 1#1), ∀ a, (k0_off544 v14901) a + S1.size a ≤ S51920.size a := fun i v14901 k0_hw256 k0_h1 => k0_hw256.2.2.2.2.2.2.2.2.2.2.2.2.2.2.2 k0_h1

def k0_off545 (k0_t1 : Fin k0_t1_loop.trips) (v14901 : BitVec 32) (v14904 : BitVec 32) (v15141 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_5887 : BitVec 32 := 15#32
  let v15138 : BitVec 32 := Scalar.addi v14901 c15_i32_5887
  let v15139 : BitVec 1 := Scalar.cmpi .slt v15138 v14904
  let c65535_i32_5888 : BitVec 32 := 65535#32
  let v15142 : BitVec 32 := Scalar.andi v15141 c65535_i32_5888
  let c2048_i32_5889 : BitVec 32 := 2048#32
  let v15143 : BitVec 32 := Scalar.select v15139 v15142 c2048_i32_5889
  let v15144 : BitVec 32 := Scalar.addi v11087 v15143
  let v15147 : Index := Scalar.indexCast v15144
  let c0_5891 : Index := 0#32
  ![v15147.toNat, 0]

def k0_chk272 (i : grid0.Coords) (k0_t1 : Fin k0_t1_loop.trips) (v14901 : BitVec 32) (v14904 : BitVec 32) (v15141 : BitVec 32) : Prop :=
  (∀ (k0_h1 : k0_cond1 i = 1#1), ∀ a, (k0_off545 k0_t1 v14901 v14904 v15141) a + S1x128.size a ≤ S8224x128.size a)
theorem k0_off545_inb : ∀ (i : grid0.Coords) (k0_t1 : Fin k0_t1_loop.trips) (v14901 : BitVec 32) (v14904 : BitVec 32) (v15141 : BitVec 32) (k0_hw272 : k0_chk272 i k0_t1 v14901 v14904 v15141), ∀ (k0_h1 : k0_cond1 i = 1#1), ∀ a, (k0_off545 k0_t1 v14901 v14904 v15141) a + S1x128.size a ≤ S8224x128.size a := fun i k0_t1 v14901 v14904 v15141 k0_hw272 k0_h1 => k0_hw272 k0_h1

def k0_off546 (k0_t1 : Fin k0_t1_loop.trips) : Fin 1 → Nat :=
  let c0_i32_5892 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v15152 : BitVec 32 := Scalar.addi c0_i32_5892 v11069
  let c16_i32_5893 : BitVec 32 := 16#32
  let v15153 : BitVec 32 := Scalar.addi v15152 c16_i32_5893
  let v15154 : Index := Scalar.indexCast v15153
  ![v15154.toNat]
def k0_off547 (k0_t1 : Fin k0_t1_loop.trips) : Fin 1 → Nat :=
  let c0_i32_5892 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v15152 : BitVec 32 := Scalar.addi c0_i32_5892 v11069
  let c16_i32_5893 : BitVec 32 := 16#32
  let v15153 : BitVec 32 := Scalar.addi v15152 c16_i32_5893
  let c1_i32_5894 : BitVec 32 := 1#32
  let v15156 : BitVec 32 := Scalar.addi v15153 c1_i32_5894
  let v15157 : Index := Scalar.indexCast v15156
  ![v15157.toNat]
def k0_off548 (v15155 : BitVec 32) : Fin 1 → Nat :=
  let c0_i32_5897 : BitVec 32 := 0#32
  let v15166 : BitVec 32 := Scalar.addi v15155 c0_i32_5897
  let v15169 : Index := Scalar.indexCast v15166
  ![v15169.toNat]

def k0_off549 (k0_t1 : Fin k0_t1_loop.trips) (v15155 : BitVec 32) (v15158 : BitVec 32) (v15170 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_5898 : BitVec 32 := 0#32
  let v15167 : BitVec 32 := Scalar.addi v15155 c0_i32_5898
  let v15168 : BitVec 1 := Scalar.cmpi .slt v15167 v15158
  let c65535_i32_5899 : BitVec 32 := 65535#32
  let v15171 : BitVec 32 := Scalar.andi v15170 c65535_i32_5899
  let c2048_i32_5900 : BitVec 32 := 2048#32
  let v15172 : BitVec 32 := Scalar.select v15168 v15171 c2048_i32_5900
  let v15173 : BitVec 32 := Scalar.addi v11087 v15172
  let v15176 : Index := Scalar.indexCast v15173
  let c0_5902 : Index := 0#32
  ![v15176.toNat, 0]

def k0_chk274 (i : grid0.Coords) (k0_t1 : Fin k0_t1_loop.trips) (v15155 : BitVec 32) (v15158 : BitVec 32) (v15170 : BitVec 32) : Prop :=
  (∀ (k0_h1 : k0_cond1 i = 1#1), ∀ a, (k0_off549 k0_t1 v15155 v15158 v15170) a + S1x128.size a ≤ S8224x128.size a)
theorem k0_off549_inb : ∀ (i : grid0.Coords) (k0_t1 : Fin k0_t1_loop.trips) (v15155 : BitVec 32) (v15158 : BitVec 32) (v15170 : BitVec 32) (k0_hw274 : k0_chk274 i k0_t1 v15155 v15158 v15170), ∀ (k0_h1 : k0_cond1 i = 1#1), ∀ a, (k0_off549 k0_t1 v15155 v15158 v15170) a + S1x128.size a ≤ S8224x128.size a := fun i k0_t1 v15155 v15158 v15170 k0_hw274 k0_h1 => k0_hw274 k0_h1

def k0_off550 (v15155 : BitVec 32) : Fin 1 → Nat :=
  let c1_i32_5903 : BitVec 32 := 1#32
  let v15181 : BitVec 32 := Scalar.addi v15155 c1_i32_5903
  let v15184 : Index := Scalar.indexCast v15181
  ![v15184.toNat]
def k0_off551 (k0_t1 : Fin k0_t1_loop.trips) (v15155 : BitVec 32) (v15158 : BitVec 32) (v15185 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_5904 : BitVec 32 := 1#32
  let v15182 : BitVec 32 := Scalar.addi v15155 c1_i32_5904
  let v15183 : BitVec 1 := Scalar.cmpi .slt v15182 v15158
  let c65535_i32_5905 : BitVec 32 := 65535#32
  let v15186 : BitVec 32 := Scalar.andi v15185 c65535_i32_5905
  let c2048_i32_5906 : BitVec 32 := 2048#32
  let v15187 : BitVec 32 := Scalar.select v15183 v15186 c2048_i32_5906
  let v15188 : BitVec 32 := Scalar.addi v11087 v15187
  let v15191 : Index := Scalar.indexCast v15188
  let c0_5908 : Index := 0#32
  ![v15191.toNat, 0]

def k0_chk275 (i : grid0.Coords) (k0_t1 : Fin k0_t1_loop.trips) (v15155 : BitVec 32) (v15158 : BitVec 32) (v15185 : BitVec 32) : Prop :=
  (∀ (k0_h1 : k0_cond1 i = 1#1), ∀ a, (k0_off551 k0_t1 v15155 v15158 v15185) a + S1x128.size a ≤ S8224x128.size a)
theorem k0_off551_inb : ∀ (i : grid0.Coords) (k0_t1 : Fin k0_t1_loop.trips) (v15155 : BitVec 32) (v15158 : BitVec 32) (v15185 : BitVec 32) (k0_hw275 : k0_chk275 i k0_t1 v15155 v15158 v15185), ∀ (k0_h1 : k0_cond1 i = 1#1), ∀ a, (k0_off551 k0_t1 v15155 v15158 v15185) a + S1x128.size a ≤ S8224x128.size a := fun i k0_t1 v15155 v15158 v15185 k0_hw275 k0_h1 => k0_hw275 k0_h1

def k0_off552 (v15155 : BitVec 32) : Fin 1 → Nat :=
  let c2_i32_5909 : BitVec 32 := 2#32
  let v15196 : BitVec 32 := Scalar.addi v15155 c2_i32_5909
  let v15199 : Index := Scalar.indexCast v15196
  ![v15199.toNat]
def k0_off553 (k0_t1 : Fin k0_t1_loop.trips) (v15155 : BitVec 32) (v15158 : BitVec 32) (v15200 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_5910 : BitVec 32 := 2#32
  let v15197 : BitVec 32 := Scalar.addi v15155 c2_i32_5910
  let v15198 : BitVec 1 := Scalar.cmpi .slt v15197 v15158
  let c65535_i32_5911 : BitVec 32 := 65535#32
  let v15201 : BitVec 32 := Scalar.andi v15200 c65535_i32_5911
  let c2048_i32_5912 : BitVec 32 := 2048#32
  let v15202 : BitVec 32 := Scalar.select v15198 v15201 c2048_i32_5912
  let v15203 : BitVec 32 := Scalar.addi v11087 v15202
  let v15206 : Index := Scalar.indexCast v15203
  let c0_5914 : Index := 0#32
  ![v15206.toNat, 0]

def k0_chk276 (i : grid0.Coords) (k0_t1 : Fin k0_t1_loop.trips) (v15155 : BitVec 32) (v15158 : BitVec 32) (v15200 : BitVec 32) : Prop :=
  (∀ (k0_h1 : k0_cond1 i = 1#1), ∀ a, (k0_off553 k0_t1 v15155 v15158 v15200) a + S1x128.size a ≤ S8224x128.size a)
theorem k0_off553_inb : ∀ (i : grid0.Coords) (k0_t1 : Fin k0_t1_loop.trips) (v15155 : BitVec 32) (v15158 : BitVec 32) (v15200 : BitVec 32) (k0_hw276 : k0_chk276 i k0_t1 v15155 v15158 v15200), ∀ (k0_h1 : k0_cond1 i = 1#1), ∀ a, (k0_off553 k0_t1 v15155 v15158 v15200) a + S1x128.size a ≤ S8224x128.size a := fun i k0_t1 v15155 v15158 v15200 k0_hw276 k0_h1 => k0_hw276 k0_h1

def k0_off554 (v15155 : BitVec 32) : Fin 1 → Nat :=
  let c3_i32_5915 : BitVec 32 := 3#32
  let v15211 : BitVec 32 := Scalar.addi v15155 c3_i32_5915
  let v15214 : Index := Scalar.indexCast v15211
  ![v15214.toNat]
def k0_off555 (k0_t1 : Fin k0_t1_loop.trips) (v15155 : BitVec 32) (v15158 : BitVec 32) (v15215 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_5916 : BitVec 32 := 3#32
  let v15212 : BitVec 32 := Scalar.addi v15155 c3_i32_5916
  let v15213 : BitVec 1 := Scalar.cmpi .slt v15212 v15158
  let c65535_i32_5917 : BitVec 32 := 65535#32
  let v15216 : BitVec 32 := Scalar.andi v15215 c65535_i32_5917
  let c2048_i32_5918 : BitVec 32 := 2048#32
  let v15217 : BitVec 32 := Scalar.select v15213 v15216 c2048_i32_5918
  let v15218 : BitVec 32 := Scalar.addi v11087 v15217
  let v15221 : Index := Scalar.indexCast v15218
  let c0_5920 : Index := 0#32
  ![v15221.toNat, 0]

def k0_chk277 (i : grid0.Coords) (k0_t1 : Fin k0_t1_loop.trips) (v15155 : BitVec 32) (v15158 : BitVec 32) (v15215 : BitVec 32) : Prop :=
  (∀ (k0_h1 : k0_cond1 i = 1#1), ∀ a, (k0_off555 k0_t1 v15155 v15158 v15215) a + S1x128.size a ≤ S8224x128.size a)
theorem k0_off555_inb : ∀ (i : grid0.Coords) (k0_t1 : Fin k0_t1_loop.trips) (v15155 : BitVec 32) (v15158 : BitVec 32) (v15215 : BitVec 32) (k0_hw277 : k0_chk277 i k0_t1 v15155 v15158 v15215), ∀ (k0_h1 : k0_cond1 i = 1#1), ∀ a, (k0_off555 k0_t1 v15155 v15158 v15215) a + S1x128.size a ≤ S8224x128.size a := fun i k0_t1 v15155 v15158 v15215 k0_hw277 k0_h1 => k0_hw277 k0_h1

def k0_off556 (v15155 : BitVec 32) : Fin 1 → Nat :=
  let c4_i32_5921 : BitVec 32 := 4#32
  let v15226 : BitVec 32 := Scalar.addi v15155 c4_i32_5921
  let v15229 : Index := Scalar.indexCast v15226
  ![v15229.toNat]
def k0_off557 (k0_t1 : Fin k0_t1_loop.trips) (v15155 : BitVec 32) (v15158 : BitVec 32) (v15230 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_5922 : BitVec 32 := 4#32
  let v15227 : BitVec 32 := Scalar.addi v15155 c4_i32_5922
  let v15228 : BitVec 1 := Scalar.cmpi .slt v15227 v15158
  let c65535_i32_5923 : BitVec 32 := 65535#32
  let v15231 : BitVec 32 := Scalar.andi v15230 c65535_i32_5923
  let c2048_i32_5924 : BitVec 32 := 2048#32
  let v15232 : BitVec 32 := Scalar.select v15228 v15231 c2048_i32_5924
  let v15233 : BitVec 32 := Scalar.addi v11087 v15232
  let v15236 : Index := Scalar.indexCast v15233
  let c0_5926 : Index := 0#32
  ![v15236.toNat, 0]

def k0_chk278 (i : grid0.Coords) (k0_t1 : Fin k0_t1_loop.trips) (v15155 : BitVec 32) (v15158 : BitVec 32) (v15230 : BitVec 32) : Prop :=
  (∀ (k0_h1 : k0_cond1 i = 1#1), ∀ a, (k0_off557 k0_t1 v15155 v15158 v15230) a + S1x128.size a ≤ S8224x128.size a)
theorem k0_off557_inb : ∀ (i : grid0.Coords) (k0_t1 : Fin k0_t1_loop.trips) (v15155 : BitVec 32) (v15158 : BitVec 32) (v15230 : BitVec 32) (k0_hw278 : k0_chk278 i k0_t1 v15155 v15158 v15230), ∀ (k0_h1 : k0_cond1 i = 1#1), ∀ a, (k0_off557 k0_t1 v15155 v15158 v15230) a + S1x128.size a ≤ S8224x128.size a := fun i k0_t1 v15155 v15158 v15230 k0_hw278 k0_h1 => k0_hw278 k0_h1

def k0_off558 (v15155 : BitVec 32) : Fin 1 → Nat :=
  let c5_i32_5927 : BitVec 32 := 5#32
  let v15241 : BitVec 32 := Scalar.addi v15155 c5_i32_5927
  let v15244 : Index := Scalar.indexCast v15241
  ![v15244.toNat]
def k0_off559 (k0_t1 : Fin k0_t1_loop.trips) (v15155 : BitVec 32) (v15158 : BitVec 32) (v15245 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_5928 : BitVec 32 := 5#32
  let v15242 : BitVec 32 := Scalar.addi v15155 c5_i32_5928
  let v15243 : BitVec 1 := Scalar.cmpi .slt v15242 v15158
  let c65535_i32_5929 : BitVec 32 := 65535#32
  let v15246 : BitVec 32 := Scalar.andi v15245 c65535_i32_5929
  let c2048_i32_5930 : BitVec 32 := 2048#32
  let v15247 : BitVec 32 := Scalar.select v15243 v15246 c2048_i32_5930
  let v15248 : BitVec 32 := Scalar.addi v11087 v15247
  let v15251 : Index := Scalar.indexCast v15248
  let c0_5932 : Index := 0#32
  ![v15251.toNat, 0]

def k0_chk279 (i : grid0.Coords) (k0_t1 : Fin k0_t1_loop.trips) (v15155 : BitVec 32) (v15158 : BitVec 32) (v15245 : BitVec 32) : Prop :=
  (∀ (k0_h1 : k0_cond1 i = 1#1), ∀ a, (k0_off559 k0_t1 v15155 v15158 v15245) a + S1x128.size a ≤ S8224x128.size a)
theorem k0_off559_inb : ∀ (i : grid0.Coords) (k0_t1 : Fin k0_t1_loop.trips) (v15155 : BitVec 32) (v15158 : BitVec 32) (v15245 : BitVec 32) (k0_hw279 : k0_chk279 i k0_t1 v15155 v15158 v15245), ∀ (k0_h1 : k0_cond1 i = 1#1), ∀ a, (k0_off559 k0_t1 v15155 v15158 v15245) a + S1x128.size a ≤ S8224x128.size a := fun i k0_t1 v15155 v15158 v15245 k0_hw279 k0_h1 => k0_hw279 k0_h1

def k0_off560 (v15155 : BitVec 32) : Fin 1 → Nat :=
  let c6_i32_5933 : BitVec 32 := 6#32
  let v15256 : BitVec 32 := Scalar.addi v15155 c6_i32_5933
  let v15259 : Index := Scalar.indexCast v15256
  ![v15259.toNat]
def k0_off561 (k0_t1 : Fin k0_t1_loop.trips) (v15155 : BitVec 32) (v15158 : BitVec 32) (v15260 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_5934 : BitVec 32 := 6#32
  let v15257 : BitVec 32 := Scalar.addi v15155 c6_i32_5934
  let v15258 : BitVec 1 := Scalar.cmpi .slt v15257 v15158
  let c65535_i32_5935 : BitVec 32 := 65535#32
  let v15261 : BitVec 32 := Scalar.andi v15260 c65535_i32_5935
  let c2048_i32_5936 : BitVec 32 := 2048#32
  let v15262 : BitVec 32 := Scalar.select v15258 v15261 c2048_i32_5936
  let v15263 : BitVec 32 := Scalar.addi v11087 v15262
  let v15266 : Index := Scalar.indexCast v15263
  let c0_5938 : Index := 0#32
  ![v15266.toNat, 0]

def k0_chk280 (i : grid0.Coords) (k0_t1 : Fin k0_t1_loop.trips) (v15155 : BitVec 32) (v15158 : BitVec 32) (v15260 : BitVec 32) : Prop :=
  (∀ (k0_h1 : k0_cond1 i = 1#1), ∀ a, (k0_off561 k0_t1 v15155 v15158 v15260) a + S1x128.size a ≤ S8224x128.size a)
theorem k0_off561_inb : ∀ (i : grid0.Coords) (k0_t1 : Fin k0_t1_loop.trips) (v15155 : BitVec 32) (v15158 : BitVec 32) (v15260 : BitVec 32) (k0_hw280 : k0_chk280 i k0_t1 v15155 v15158 v15260), ∀ (k0_h1 : k0_cond1 i = 1#1), ∀ a, (k0_off561 k0_t1 v15155 v15158 v15260) a + S1x128.size a ≤ S8224x128.size a := fun i k0_t1 v15155 v15158 v15260 k0_hw280 k0_h1 => k0_hw280 k0_h1

def k0_off562 (v15155 : BitVec 32) : Fin 1 → Nat :=
  let c7_i32_5939 : BitVec 32 := 7#32
  let v15271 : BitVec 32 := Scalar.addi v15155 c7_i32_5939
  let v15274 : Index := Scalar.indexCast v15271
  ![v15274.toNat]
def k0_off563 (k0_t1 : Fin k0_t1_loop.trips) (v15155 : BitVec 32) (v15158 : BitVec 32) (v15275 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_5940 : BitVec 32 := 7#32
  let v15272 : BitVec 32 := Scalar.addi v15155 c7_i32_5940
  let v15273 : BitVec 1 := Scalar.cmpi .slt v15272 v15158
  let c65535_i32_5941 : BitVec 32 := 65535#32
  let v15276 : BitVec 32 := Scalar.andi v15275 c65535_i32_5941
  let c2048_i32_5942 : BitVec 32 := 2048#32
  let v15277 : BitVec 32 := Scalar.select v15273 v15276 c2048_i32_5942
  let v15278 : BitVec 32 := Scalar.addi v11087 v15277
  let v15281 : Index := Scalar.indexCast v15278
  let c0_5944 : Index := 0#32
  ![v15281.toNat, 0]

def k0_chk281 (i : grid0.Coords) (k0_t1 : Fin k0_t1_loop.trips) (v15155 : BitVec 32) (v15158 : BitVec 32) (v15275 : BitVec 32) : Prop :=
  (∀ (k0_h1 : k0_cond1 i = 1#1), ∀ a, (k0_off563 k0_t1 v15155 v15158 v15275) a + S1x128.size a ≤ S8224x128.size a)
theorem k0_off563_inb : ∀ (i : grid0.Coords) (k0_t1 : Fin k0_t1_loop.trips) (v15155 : BitVec 32) (v15158 : BitVec 32) (v15275 : BitVec 32) (k0_hw281 : k0_chk281 i k0_t1 v15155 v15158 v15275), ∀ (k0_h1 : k0_cond1 i = 1#1), ∀ a, (k0_off563 k0_t1 v15155 v15158 v15275) a + S1x128.size a ≤ S8224x128.size a := fun i k0_t1 v15155 v15158 v15275 k0_hw281 k0_h1 => k0_hw281 k0_h1

def k0_off564 (v15155 : BitVec 32) : Fin 1 → Nat :=
  let c8_i32_5945 : BitVec 32 := 8#32
  let v15286 : BitVec 32 := Scalar.addi v15155 c8_i32_5945
  let v15289 : Index := Scalar.indexCast v15286
  ![v15289.toNat]
def k0_off565 (k0_t1 : Fin k0_t1_loop.trips) (v15155 : BitVec 32) (v15158 : BitVec 32) (v15290 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_5946 : BitVec 32 := 8#32
  let v15287 : BitVec 32 := Scalar.addi v15155 c8_i32_5946
  let v15288 : BitVec 1 := Scalar.cmpi .slt v15287 v15158
  let c65535_i32_5947 : BitVec 32 := 65535#32
  let v15291 : BitVec 32 := Scalar.andi v15290 c65535_i32_5947
  let c2048_i32_5948 : BitVec 32 := 2048#32
  let v15292 : BitVec 32 := Scalar.select v15288 v15291 c2048_i32_5948
  let v15293 : BitVec 32 := Scalar.addi v11087 v15292
  let v15296 : Index := Scalar.indexCast v15293
  let c0_5950 : Index := 0#32
  ![v15296.toNat, 0]

def k0_chk282 (i : grid0.Coords) (k0_t1 : Fin k0_t1_loop.trips) (v15155 : BitVec 32) (v15158 : BitVec 32) (v15290 : BitVec 32) : Prop :=
  (∀ (k0_h1 : k0_cond1 i = 1#1), ∀ a, (k0_off565 k0_t1 v15155 v15158 v15290) a + S1x128.size a ≤ S8224x128.size a)
theorem k0_off565_inb : ∀ (i : grid0.Coords) (k0_t1 : Fin k0_t1_loop.trips) (v15155 : BitVec 32) (v15158 : BitVec 32) (v15290 : BitVec 32) (k0_hw282 : k0_chk282 i k0_t1 v15155 v15158 v15290), ∀ (k0_h1 : k0_cond1 i = 1#1), ∀ a, (k0_off565 k0_t1 v15155 v15158 v15290) a + S1x128.size a ≤ S8224x128.size a := fun i k0_t1 v15155 v15158 v15290 k0_hw282 k0_h1 => k0_hw282 k0_h1

def k0_off566 (v15155 : BitVec 32) : Fin 1 → Nat :=
  let c9_i32_5951 : BitVec 32 := 9#32
  let v15301 : BitVec 32 := Scalar.addi v15155 c9_i32_5951
  let v15304 : Index := Scalar.indexCast v15301
  ![v15304.toNat]
def k0_off567 (k0_t1 : Fin k0_t1_loop.trips) (v15155 : BitVec 32) (v15158 : BitVec 32) (v15305 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_5952 : BitVec 32 := 9#32
  let v15302 : BitVec 32 := Scalar.addi v15155 c9_i32_5952
  let v15303 : BitVec 1 := Scalar.cmpi .slt v15302 v15158
  let c65535_i32_5953 : BitVec 32 := 65535#32
  let v15306 : BitVec 32 := Scalar.andi v15305 c65535_i32_5953
  let c2048_i32_5954 : BitVec 32 := 2048#32
  let v15307 : BitVec 32 := Scalar.select v15303 v15306 c2048_i32_5954
  let v15308 : BitVec 32 := Scalar.addi v11087 v15307
  let v15311 : Index := Scalar.indexCast v15308
  let c0_5956 : Index := 0#32
  ![v15311.toNat, 0]

def k0_chk283 (i : grid0.Coords) (k0_t1 : Fin k0_t1_loop.trips) (v15155 : BitVec 32) (v15158 : BitVec 32) (v15305 : BitVec 32) : Prop :=
  (∀ (k0_h1 : k0_cond1 i = 1#1), ∀ a, (k0_off567 k0_t1 v15155 v15158 v15305) a + S1x128.size a ≤ S8224x128.size a)
theorem k0_off567_inb : ∀ (i : grid0.Coords) (k0_t1 : Fin k0_t1_loop.trips) (v15155 : BitVec 32) (v15158 : BitVec 32) (v15305 : BitVec 32) (k0_hw283 : k0_chk283 i k0_t1 v15155 v15158 v15305), ∀ (k0_h1 : k0_cond1 i = 1#1), ∀ a, (k0_off567 k0_t1 v15155 v15158 v15305) a + S1x128.size a ≤ S8224x128.size a := fun i k0_t1 v15155 v15158 v15305 k0_hw283 k0_h1 => k0_hw283 k0_h1

def k0_off568 (v15155 : BitVec 32) : Fin 1 → Nat :=
  let c10_i32_5957 : BitVec 32 := 10#32
  let v15316 : BitVec 32 := Scalar.addi v15155 c10_i32_5957
  let v15319 : Index := Scalar.indexCast v15316
  ![v15319.toNat]
def k0_off569 (k0_t1 : Fin k0_t1_loop.trips) (v15155 : BitVec 32) (v15158 : BitVec 32) (v15320 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_5958 : BitVec 32 := 10#32
  let v15317 : BitVec 32 := Scalar.addi v15155 c10_i32_5958
  let v15318 : BitVec 1 := Scalar.cmpi .slt v15317 v15158
  let c65535_i32_5959 : BitVec 32 := 65535#32
  let v15321 : BitVec 32 := Scalar.andi v15320 c65535_i32_5959
  let c2048_i32_5960 : BitVec 32 := 2048#32
  let v15322 : BitVec 32 := Scalar.select v15318 v15321 c2048_i32_5960
  let v15323 : BitVec 32 := Scalar.addi v11087 v15322
  let v15326 : Index := Scalar.indexCast v15323
  let c0_5962 : Index := 0#32
  ![v15326.toNat, 0]

def k0_chk284 (i : grid0.Coords) (k0_t1 : Fin k0_t1_loop.trips) (v15155 : BitVec 32) (v15158 : BitVec 32) (v15320 : BitVec 32) : Prop :=
  (∀ (k0_h1 : k0_cond1 i = 1#1), ∀ a, (k0_off569 k0_t1 v15155 v15158 v15320) a + S1x128.size a ≤ S8224x128.size a)
theorem k0_off569_inb : ∀ (i : grid0.Coords) (k0_t1 : Fin k0_t1_loop.trips) (v15155 : BitVec 32) (v15158 : BitVec 32) (v15320 : BitVec 32) (k0_hw284 : k0_chk284 i k0_t1 v15155 v15158 v15320), ∀ (k0_h1 : k0_cond1 i = 1#1), ∀ a, (k0_off569 k0_t1 v15155 v15158 v15320) a + S1x128.size a ≤ S8224x128.size a := fun i k0_t1 v15155 v15158 v15320 k0_hw284 k0_h1 => k0_hw284 k0_h1

def k0_off570 (v15155 : BitVec 32) : Fin 1 → Nat :=
  let c11_i32_5963 : BitVec 32 := 11#32
  let v15331 : BitVec 32 := Scalar.addi v15155 c11_i32_5963
  let v15334 : Index := Scalar.indexCast v15331
  ![v15334.toNat]
def k0_off571 (k0_t1 : Fin k0_t1_loop.trips) (v15155 : BitVec 32) (v15158 : BitVec 32) (v15335 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_5964 : BitVec 32 := 11#32
  let v15332 : BitVec 32 := Scalar.addi v15155 c11_i32_5964
  let v15333 : BitVec 1 := Scalar.cmpi .slt v15332 v15158
  let c65535_i32_5965 : BitVec 32 := 65535#32
  let v15336 : BitVec 32 := Scalar.andi v15335 c65535_i32_5965
  let c2048_i32_5966 : BitVec 32 := 2048#32
  let v15337 : BitVec 32 := Scalar.select v15333 v15336 c2048_i32_5966
  let v15338 : BitVec 32 := Scalar.addi v11087 v15337
  let v15341 : Index := Scalar.indexCast v15338
  let c0_5968 : Index := 0#32
  ![v15341.toNat, 0]

def k0_chk285 (i : grid0.Coords) (k0_t1 : Fin k0_t1_loop.trips) (v15155 : BitVec 32) (v15158 : BitVec 32) (v15335 : BitVec 32) : Prop :=
  (∀ (k0_h1 : k0_cond1 i = 1#1), ∀ a, (k0_off571 k0_t1 v15155 v15158 v15335) a + S1x128.size a ≤ S8224x128.size a)
theorem k0_off571_inb : ∀ (i : grid0.Coords) (k0_t1 : Fin k0_t1_loop.trips) (v15155 : BitVec 32) (v15158 : BitVec 32) (v15335 : BitVec 32) (k0_hw285 : k0_chk285 i k0_t1 v15155 v15158 v15335), ∀ (k0_h1 : k0_cond1 i = 1#1), ∀ a, (k0_off571 k0_t1 v15155 v15158 v15335) a + S1x128.size a ≤ S8224x128.size a := fun i k0_t1 v15155 v15158 v15335 k0_hw285 k0_h1 => k0_hw285 k0_h1

def k0_off572 (v15155 : BitVec 32) : Fin 1 → Nat :=
  let c12_i32_5969 : BitVec 32 := 12#32
  let v15346 : BitVec 32 := Scalar.addi v15155 c12_i32_5969
  let v15349 : Index := Scalar.indexCast v15346
  ![v15349.toNat]
def k0_off573 (k0_t1 : Fin k0_t1_loop.trips) (v15155 : BitVec 32) (v15158 : BitVec 32) (v15350 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_5970 : BitVec 32 := 12#32
  let v15347 : BitVec 32 := Scalar.addi v15155 c12_i32_5970
  let v15348 : BitVec 1 := Scalar.cmpi .slt v15347 v15158
  let c65535_i32_5971 : BitVec 32 := 65535#32
  let v15351 : BitVec 32 := Scalar.andi v15350 c65535_i32_5971
  let c2048_i32_5972 : BitVec 32 := 2048#32
  let v15352 : BitVec 32 := Scalar.select v15348 v15351 c2048_i32_5972
  let v15353 : BitVec 32 := Scalar.addi v11087 v15352
  let v15356 : Index := Scalar.indexCast v15353
  let c0_5974 : Index := 0#32
  ![v15356.toNat, 0]

def k0_chk286 (i : grid0.Coords) (k0_t1 : Fin k0_t1_loop.trips) (v15155 : BitVec 32) (v15158 : BitVec 32) (v15350 : BitVec 32) : Prop :=
  (∀ (k0_h1 : k0_cond1 i = 1#1), ∀ a, (k0_off573 k0_t1 v15155 v15158 v15350) a + S1x128.size a ≤ S8224x128.size a)
theorem k0_off573_inb : ∀ (i : grid0.Coords) (k0_t1 : Fin k0_t1_loop.trips) (v15155 : BitVec 32) (v15158 : BitVec 32) (v15350 : BitVec 32) (k0_hw286 : k0_chk286 i k0_t1 v15155 v15158 v15350), ∀ (k0_h1 : k0_cond1 i = 1#1), ∀ a, (k0_off573 k0_t1 v15155 v15158 v15350) a + S1x128.size a ≤ S8224x128.size a := fun i k0_t1 v15155 v15158 v15350 k0_hw286 k0_h1 => k0_hw286 k0_h1

def k0_off574 (v15155 : BitVec 32) : Fin 1 → Nat :=
  let c13_i32_5975 : BitVec 32 := 13#32
  let v15361 : BitVec 32 := Scalar.addi v15155 c13_i32_5975
  let v15364 : Index := Scalar.indexCast v15361
  ![v15364.toNat]
def k0_off575 (k0_t1 : Fin k0_t1_loop.trips) (v15155 : BitVec 32) (v15158 : BitVec 32) (v15365 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_5976 : BitVec 32 := 13#32
  let v15362 : BitVec 32 := Scalar.addi v15155 c13_i32_5976
  let v15363 : BitVec 1 := Scalar.cmpi .slt v15362 v15158
  let c65535_i32_5977 : BitVec 32 := 65535#32
  let v15366 : BitVec 32 := Scalar.andi v15365 c65535_i32_5977
  let c2048_i32_5978 : BitVec 32 := 2048#32
  let v15367 : BitVec 32 := Scalar.select v15363 v15366 c2048_i32_5978
  let v15368 : BitVec 32 := Scalar.addi v11087 v15367
  let v15371 : Index := Scalar.indexCast v15368
  let c0_5980 : Index := 0#32
  ![v15371.toNat, 0]

def k0_chk287 (i : grid0.Coords) (k0_t1 : Fin k0_t1_loop.trips) (v15155 : BitVec 32) (v15158 : BitVec 32) (v15365 : BitVec 32) : Prop :=
  (∀ (k0_h1 : k0_cond1 i = 1#1), ∀ a, (k0_off575 k0_t1 v15155 v15158 v15365) a + S1x128.size a ≤ S8224x128.size a)
theorem k0_off575_inb : ∀ (i : grid0.Coords) (k0_t1 : Fin k0_t1_loop.trips) (v15155 : BitVec 32) (v15158 : BitVec 32) (v15365 : BitVec 32) (k0_hw287 : k0_chk287 i k0_t1 v15155 v15158 v15365), ∀ (k0_h1 : k0_cond1 i = 1#1), ∀ a, (k0_off575 k0_t1 v15155 v15158 v15365) a + S1x128.size a ≤ S8224x128.size a := fun i k0_t1 v15155 v15158 v15365 k0_hw287 k0_h1 => k0_hw287 k0_h1

def k0_off576 (v15155 : BitVec 32) : Fin 1 → Nat :=
  let c14_i32_5981 : BitVec 32 := 14#32
  let v15376 : BitVec 32 := Scalar.addi v15155 c14_i32_5981
  let v15379 : Index := Scalar.indexCast v15376
  ![v15379.toNat]
def k0_off577 (k0_t1 : Fin k0_t1_loop.trips) (v15155 : BitVec 32) (v15158 : BitVec 32) (v15380 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_5982 : BitVec 32 := 14#32
  let v15377 : BitVec 32 := Scalar.addi v15155 c14_i32_5982
  let v15378 : BitVec 1 := Scalar.cmpi .slt v15377 v15158
  let c65535_i32_5983 : BitVec 32 := 65535#32
  let v15381 : BitVec 32 := Scalar.andi v15380 c65535_i32_5983
  let c2048_i32_5984 : BitVec 32 := 2048#32
  let v15382 : BitVec 32 := Scalar.select v15378 v15381 c2048_i32_5984
  let v15383 : BitVec 32 := Scalar.addi v11087 v15382
  let v15386 : Index := Scalar.indexCast v15383
  let c0_5986 : Index := 0#32
  ![v15386.toNat, 0]

def k0_chk288 (i : grid0.Coords) (k0_t1 : Fin k0_t1_loop.trips) (v15155 : BitVec 32) (v15158 : BitVec 32) (v15380 : BitVec 32) : Prop :=
  (∀ (k0_h1 : k0_cond1 i = 1#1), ∀ a, (k0_off577 k0_t1 v15155 v15158 v15380) a + S1x128.size a ≤ S8224x128.size a)
theorem k0_off577_inb : ∀ (i : grid0.Coords) (k0_t1 : Fin k0_t1_loop.trips) (v15155 : BitVec 32) (v15158 : BitVec 32) (v15380 : BitVec 32) (k0_hw288 : k0_chk288 i k0_t1 v15155 v15158 v15380), ∀ (k0_h1 : k0_cond1 i = 1#1), ∀ a, (k0_off577 k0_t1 v15155 v15158 v15380) a + S1x128.size a ≤ S8224x128.size a := fun i k0_t1 v15155 v15158 v15380 k0_hw288 k0_h1 => k0_hw288 k0_h1

def k0_off578 (v15155 : BitVec 32) : Fin 1 → Nat :=
  let c15_i32_5987 : BitVec 32 := 15#32
  let v15391 : BitVec 32 := Scalar.addi v15155 c15_i32_5987
  let v15394 : Index := Scalar.indexCast v15391
  ![v15394.toNat]

def k0_chk273 (i : grid0.Coords) (v15155 : BitVec 32) : Prop :=
  (∀ (k0_h1 : k0_cond1 i = 1#1), ∀ a, (k0_off548 v15155) a + S1.size a ≤ S51920.size a) ∧
  (∀ (k0_h1 : k0_cond1 i = 1#1), ∀ a, (k0_off550 v15155) a + S1.size a ≤ S51920.size a) ∧
  (∀ (k0_h1 : k0_cond1 i = 1#1), ∀ a, (k0_off552 v15155) a + S1.size a ≤ S51920.size a) ∧
  (∀ (k0_h1 : k0_cond1 i = 1#1), ∀ a, (k0_off554 v15155) a + S1.size a ≤ S51920.size a) ∧
  (∀ (k0_h1 : k0_cond1 i = 1#1), ∀ a, (k0_off556 v15155) a + S1.size a ≤ S51920.size a) ∧
  (∀ (k0_h1 : k0_cond1 i = 1#1), ∀ a, (k0_off558 v15155) a + S1.size a ≤ S51920.size a) ∧
  (∀ (k0_h1 : k0_cond1 i = 1#1), ∀ a, (k0_off560 v15155) a + S1.size a ≤ S51920.size a) ∧
  (∀ (k0_h1 : k0_cond1 i = 1#1), ∀ a, (k0_off562 v15155) a + S1.size a ≤ S51920.size a) ∧
  (∀ (k0_h1 : k0_cond1 i = 1#1), ∀ a, (k0_off564 v15155) a + S1.size a ≤ S51920.size a) ∧
  (∀ (k0_h1 : k0_cond1 i = 1#1), ∀ a, (k0_off566 v15155) a + S1.size a ≤ S51920.size a) ∧
  (∀ (k0_h1 : k0_cond1 i = 1#1), ∀ a, (k0_off568 v15155) a + S1.size a ≤ S51920.size a) ∧
  (∀ (k0_h1 : k0_cond1 i = 1#1), ∀ a, (k0_off570 v15155) a + S1.size a ≤ S51920.size a) ∧
  (∀ (k0_h1 : k0_cond1 i = 1#1), ∀ a, (k0_off572 v15155) a + S1.size a ≤ S51920.size a) ∧
  (∀ (k0_h1 : k0_cond1 i = 1#1), ∀ a, (k0_off574 v15155) a + S1.size a ≤ S51920.size a) ∧
  (∀ (k0_h1 : k0_cond1 i = 1#1), ∀ a, (k0_off576 v15155) a + S1.size a ≤ S51920.size a) ∧
  (∀ (k0_h1 : k0_cond1 i = 1#1), ∀ a, (k0_off578 v15155) a + S1.size a ≤ S51920.size a)
theorem k0_off548_inb : ∀ (i : grid0.Coords) (v15155 : BitVec 32) (k0_hw273 : k0_chk273 i v15155), ∀ (k0_h1 : k0_cond1 i = 1#1), ∀ a, (k0_off548 v15155) a + S1.size a ≤ S51920.size a := fun i v15155 k0_hw273 k0_h1 => k0_hw273.1 k0_h1
theorem k0_off550_inb : ∀ (i : grid0.Coords) (v15155 : BitVec 32) (k0_hw273 : k0_chk273 i v15155), ∀ (k0_h1 : k0_cond1 i = 1#1), ∀ a, (k0_off550 v15155) a + S1.size a ≤ S51920.size a := fun i v15155 k0_hw273 k0_h1 => k0_hw273.2.1 k0_h1
theorem k0_off552_inb : ∀ (i : grid0.Coords) (v15155 : BitVec 32) (k0_hw273 : k0_chk273 i v15155), ∀ (k0_h1 : k0_cond1 i = 1#1), ∀ a, (k0_off552 v15155) a + S1.size a ≤ S51920.size a := fun i v15155 k0_hw273 k0_h1 => k0_hw273.2.2.1 k0_h1
theorem k0_off554_inb : ∀ (i : grid0.Coords) (v15155 : BitVec 32) (k0_hw273 : k0_chk273 i v15155), ∀ (k0_h1 : k0_cond1 i = 1#1), ∀ a, (k0_off554 v15155) a + S1.size a ≤ S51920.size a := fun i v15155 k0_hw273 k0_h1 => k0_hw273.2.2.2.1 k0_h1
theorem k0_off556_inb : ∀ (i : grid0.Coords) (v15155 : BitVec 32) (k0_hw273 : k0_chk273 i v15155), ∀ (k0_h1 : k0_cond1 i = 1#1), ∀ a, (k0_off556 v15155) a + S1.size a ≤ S51920.size a := fun i v15155 k0_hw273 k0_h1 => k0_hw273.2.2.2.2.1 k0_h1
theorem k0_off558_inb : ∀ (i : grid0.Coords) (v15155 : BitVec 32) (k0_hw273 : k0_chk273 i v15155), ∀ (k0_h1 : k0_cond1 i = 1#1), ∀ a, (k0_off558 v15155) a + S1.size a ≤ S51920.size a := fun i v15155 k0_hw273 k0_h1 => k0_hw273.2.2.2.2.2.1 k0_h1
theorem k0_off560_inb : ∀ (i : grid0.Coords) (v15155 : BitVec 32) (k0_hw273 : k0_chk273 i v15155), ∀ (k0_h1 : k0_cond1 i = 1#1), ∀ a, (k0_off560 v15155) a + S1.size a ≤ S51920.size a := fun i v15155 k0_hw273 k0_h1 => k0_hw273.2.2.2.2.2.2.1 k0_h1
theorem k0_off562_inb : ∀ (i : grid0.Coords) (v15155 : BitVec 32) (k0_hw273 : k0_chk273 i v15155), ∀ (k0_h1 : k0_cond1 i = 1#1), ∀ a, (k0_off562 v15155) a + S1.size a ≤ S51920.size a := fun i v15155 k0_hw273 k0_h1 => k0_hw273.2.2.2.2.2.2.2.1 k0_h1
theorem k0_off564_inb : ∀ (i : grid0.Coords) (v15155 : BitVec 32) (k0_hw273 : k0_chk273 i v15155), ∀ (k0_h1 : k0_cond1 i = 1#1), ∀ a, (k0_off564 v15155) a + S1.size a ≤ S51920.size a := fun i v15155 k0_hw273 k0_h1 => k0_hw273.2.2.2.2.2.2.2.2.1 k0_h1
theorem k0_off566_inb : ∀ (i : grid0.Coords) (v15155 : BitVec 32) (k0_hw273 : k0_chk273 i v15155), ∀ (k0_h1 : k0_cond1 i = 1#1), ∀ a, (k0_off566 v15155) a + S1.size a ≤ S51920.size a := fun i v15155 k0_hw273 k0_h1 => k0_hw273.2.2.2.2.2.2.2.2.2.1 k0_h1
theorem k0_off568_inb : ∀ (i : grid0.Coords) (v15155 : BitVec 32) (k0_hw273 : k0_chk273 i v15155), ∀ (k0_h1 : k0_cond1 i = 1#1), ∀ a, (k0_off568 v15155) a + S1.size a ≤ S51920.size a := fun i v15155 k0_hw273 k0_h1 => k0_hw273.2.2.2.2.2.2.2.2.2.2.1 k0_h1
theorem k0_off570_inb : ∀ (i : grid0.Coords) (v15155 : BitVec 32) (k0_hw273 : k0_chk273 i v15155), ∀ (k0_h1 : k0_cond1 i = 1#1), ∀ a, (k0_off570 v15155) a + S1.size a ≤ S51920.size a := fun i v15155 k0_hw273 k0_h1 => k0_hw273.2.2.2.2.2.2.2.2.2.2.2.1 k0_h1
theorem k0_off572_inb : ∀ (i : grid0.Coords) (v15155 : BitVec 32) (k0_hw273 : k0_chk273 i v15155), ∀ (k0_h1 : k0_cond1 i = 1#1), ∀ a, (k0_off572 v15155) a + S1.size a ≤ S51920.size a := fun i v15155 k0_hw273 k0_h1 => k0_hw273.2.2.2.2.2.2.2.2.2.2.2.2.1 k0_h1
theorem k0_off574_inb : ∀ (i : grid0.Coords) (v15155 : BitVec 32) (k0_hw273 : k0_chk273 i v15155), ∀ (k0_h1 : k0_cond1 i = 1#1), ∀ a, (k0_off574 v15155) a + S1.size a ≤ S51920.size a := fun i v15155 k0_hw273 k0_h1 => k0_hw273.2.2.2.2.2.2.2.2.2.2.2.2.2.1 k0_h1
theorem k0_off576_inb : ∀ (i : grid0.Coords) (v15155 : BitVec 32) (k0_hw273 : k0_chk273 i v15155), ∀ (k0_h1 : k0_cond1 i = 1#1), ∀ a, (k0_off576 v15155) a + S1.size a ≤ S51920.size a := fun i v15155 k0_hw273 k0_h1 => k0_hw273.2.2.2.2.2.2.2.2.2.2.2.2.2.2.1 k0_h1
theorem k0_off578_inb : ∀ (i : grid0.Coords) (v15155 : BitVec 32) (k0_hw273 : k0_chk273 i v15155), ∀ (k0_h1 : k0_cond1 i = 1#1), ∀ a, (k0_off578 v15155) a + S1.size a ≤ S51920.size a := fun i v15155 k0_hw273 k0_h1 => k0_hw273.2.2.2.2.2.2.2.2.2.2.2.2.2.2.2 k0_h1

def k0_off579 (k0_t1 : Fin k0_t1_loop.trips) (v15155 : BitVec 32) (v15158 : BitVec 32) (v15395 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_5988 : BitVec 32 := 15#32
  let v15392 : BitVec 32 := Scalar.addi v15155 c15_i32_5988
  let v15393 : BitVec 1 := Scalar.cmpi .slt v15392 v15158
  let c65535_i32_5989 : BitVec 32 := 65535#32
  let v15396 : BitVec 32 := Scalar.andi v15395 c65535_i32_5989
  let c2048_i32_5990 : BitVec 32 := 2048#32
  let v15397 : BitVec 32 := Scalar.select v15393 v15396 c2048_i32_5990
  let v15398 : BitVec 32 := Scalar.addi v11087 v15397
  let v15401 : Index := Scalar.indexCast v15398
  let c0_5992 : Index := 0#32
  ![v15401.toNat, 0]

def k0_chk289 (i : grid0.Coords) (k0_t1 : Fin k0_t1_loop.trips) (v15155 : BitVec 32) (v15158 : BitVec 32) (v15395 : BitVec 32) : Prop :=
  (∀ (k0_h1 : k0_cond1 i = 1#1), ∀ a, (k0_off579 k0_t1 v15155 v15158 v15395) a + S1x128.size a ≤ S8224x128.size a)
theorem k0_off579_inb : ∀ (i : grid0.Coords) (k0_t1 : Fin k0_t1_loop.trips) (v15155 : BitVec 32) (v15158 : BitVec 32) (v15395 : BitVec 32) (k0_hw289 : k0_chk289 i k0_t1 v15155 v15158 v15395), ∀ (k0_h1 : k0_cond1 i = 1#1), ∀ a, (k0_off579 k0_t1 v15155 v15158 v15395) a + S1x128.size a ≤ S8224x128.size a := fun i k0_t1 v15155 v15158 v15395 k0_hw289 k0_h1 => k0_hw289 k0_h1

def k0_off580 (k0_t1 : Fin k0_t1_loop.trips) : Fin 1 → Nat :=
  let c0_i32_5993 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v15406 : BitVec 32 := Scalar.addi c0_i32_5993 v11069
  let c17_i32_5994 : BitVec 32 := 17#32
  let v15407 : BitVec 32 := Scalar.addi v15406 c17_i32_5994
  let v15408 : Index := Scalar.indexCast v15407
  ![v15408.toNat]
def k0_off581 (k0_t1 : Fin k0_t1_loop.trips) : Fin 1 → Nat :=
  let c0_i32_5993 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v15406 : BitVec 32 := Scalar.addi c0_i32_5993 v11069
  let c17_i32_5994 : BitVec 32 := 17#32
  let v15407 : BitVec 32 := Scalar.addi v15406 c17_i32_5994
  let c1_i32_5995 : BitVec 32 := 1#32
  let v15410 : BitVec 32 := Scalar.addi v15407 c1_i32_5995
  let v15411 : Index := Scalar.indexCast v15410
  ![v15411.toNat]
def k0_off582 (v15409 : BitVec 32) : Fin 1 → Nat :=
  let c0_i32_5998 : BitVec 32 := 0#32
  let v15420 : BitVec 32 := Scalar.addi v15409 c0_i32_5998
  let v15423 : Index := Scalar.indexCast v15420
  ![v15423.toNat]

def k0_off583 (k0_t1 : Fin k0_t1_loop.trips) (v15409 : BitVec 32) (v15412 : BitVec 32) (v15424 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_5999 : BitVec 32 := 0#32
  let v15421 : BitVec 32 := Scalar.addi v15409 c0_i32_5999
  let v15422 : BitVec 1 := Scalar.cmpi .slt v15421 v15412
  let c65535_i32_6000 : BitVec 32 := 65535#32
  let v15425 : BitVec 32 := Scalar.andi v15424 c65535_i32_6000
  let c2048_i32_6001 : BitVec 32 := 2048#32
  let v15426 : BitVec 32 := Scalar.select v15422 v15425 c2048_i32_6001
  let v15427 : BitVec 32 := Scalar.addi v11087 v15426
  let v15430 : Index := Scalar.indexCast v15427
  let c0_6003 : Index := 0#32
  ![v15430.toNat, 0]

def k0_chk291 (i : grid0.Coords) (k0_t1 : Fin k0_t1_loop.trips) (v15409 : BitVec 32) (v15412 : BitVec 32) (v15424 : BitVec 32) : Prop :=
  (∀ (k0_h1 : k0_cond1 i = 1#1), ∀ a, (k0_off583 k0_t1 v15409 v15412 v15424) a + S1x128.size a ≤ S8224x128.size a)
theorem k0_off583_inb : ∀ (i : grid0.Coords) (k0_t1 : Fin k0_t1_loop.trips) (v15409 : BitVec 32) (v15412 : BitVec 32) (v15424 : BitVec 32) (k0_hw291 : k0_chk291 i k0_t1 v15409 v15412 v15424), ∀ (k0_h1 : k0_cond1 i = 1#1), ∀ a, (k0_off583 k0_t1 v15409 v15412 v15424) a + S1x128.size a ≤ S8224x128.size a := fun i k0_t1 v15409 v15412 v15424 k0_hw291 k0_h1 => k0_hw291 k0_h1

def k0_off584 (v15409 : BitVec 32) : Fin 1 → Nat :=
  let c1_i32_6004 : BitVec 32 := 1#32
  let v15435 : BitVec 32 := Scalar.addi v15409 c1_i32_6004
  let v15438 : Index := Scalar.indexCast v15435
  ![v15438.toNat]
def k0_off585 (k0_t1 : Fin k0_t1_loop.trips) (v15409 : BitVec 32) (v15412 : BitVec 32) (v15439 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_6005 : BitVec 32 := 1#32
  let v15436 : BitVec 32 := Scalar.addi v15409 c1_i32_6005
  let v15437 : BitVec 1 := Scalar.cmpi .slt v15436 v15412
  let c65535_i32_6006 : BitVec 32 := 65535#32
  let v15440 : BitVec 32 := Scalar.andi v15439 c65535_i32_6006
  let c2048_i32_6007 : BitVec 32 := 2048#32
  let v15441 : BitVec 32 := Scalar.select v15437 v15440 c2048_i32_6007
  let v15442 : BitVec 32 := Scalar.addi v11087 v15441
  let v15445 : Index := Scalar.indexCast v15442
  let c0_6009 : Index := 0#32
  ![v15445.toNat, 0]

def k0_chk292 (i : grid0.Coords) (k0_t1 : Fin k0_t1_loop.trips) (v15409 : BitVec 32) (v15412 : BitVec 32) (v15439 : BitVec 32) : Prop :=
  (∀ (k0_h1 : k0_cond1 i = 1#1), ∀ a, (k0_off585 k0_t1 v15409 v15412 v15439) a + S1x128.size a ≤ S8224x128.size a)
theorem k0_off585_inb : ∀ (i : grid0.Coords) (k0_t1 : Fin k0_t1_loop.trips) (v15409 : BitVec 32) (v15412 : BitVec 32) (v15439 : BitVec 32) (k0_hw292 : k0_chk292 i k0_t1 v15409 v15412 v15439), ∀ (k0_h1 : k0_cond1 i = 1#1), ∀ a, (k0_off585 k0_t1 v15409 v15412 v15439) a + S1x128.size a ≤ S8224x128.size a := fun i k0_t1 v15409 v15412 v15439 k0_hw292 k0_h1 => k0_hw292 k0_h1

def k0_off586 (v15409 : BitVec 32) : Fin 1 → Nat :=
  let c2_i32_6010 : BitVec 32 := 2#32
  let v15450 : BitVec 32 := Scalar.addi v15409 c2_i32_6010
  let v15453 : Index := Scalar.indexCast v15450
  ![v15453.toNat]
def k0_off587 (k0_t1 : Fin k0_t1_loop.trips) (v15409 : BitVec 32) (v15412 : BitVec 32) (v15454 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_6011 : BitVec 32 := 2#32
  let v15451 : BitVec 32 := Scalar.addi v15409 c2_i32_6011
  let v15452 : BitVec 1 := Scalar.cmpi .slt v15451 v15412
  let c65535_i32_6012 : BitVec 32 := 65535#32
  let v15455 : BitVec 32 := Scalar.andi v15454 c65535_i32_6012
  let c2048_i32_6013 : BitVec 32 := 2048#32
  let v15456 : BitVec 32 := Scalar.select v15452 v15455 c2048_i32_6013
  let v15457 : BitVec 32 := Scalar.addi v11087 v15456
  let v15460 : Index := Scalar.indexCast v15457
  let c0_6015 : Index := 0#32
  ![v15460.toNat, 0]

def k0_chk293 (i : grid0.Coords) (k0_t1 : Fin k0_t1_loop.trips) (v15409 : BitVec 32) (v15412 : BitVec 32) (v15454 : BitVec 32) : Prop :=
  (∀ (k0_h1 : k0_cond1 i = 1#1), ∀ a, (k0_off587 k0_t1 v15409 v15412 v15454) a + S1x128.size a ≤ S8224x128.size a)
theorem k0_off587_inb : ∀ (i : grid0.Coords) (k0_t1 : Fin k0_t1_loop.trips) (v15409 : BitVec 32) (v15412 : BitVec 32) (v15454 : BitVec 32) (k0_hw293 : k0_chk293 i k0_t1 v15409 v15412 v15454), ∀ (k0_h1 : k0_cond1 i = 1#1), ∀ a, (k0_off587 k0_t1 v15409 v15412 v15454) a + S1x128.size a ≤ S8224x128.size a := fun i k0_t1 v15409 v15412 v15454 k0_hw293 k0_h1 => k0_hw293 k0_h1

def k0_off588 (v15409 : BitVec 32) : Fin 1 → Nat :=
  let c3_i32_6016 : BitVec 32 := 3#32
  let v15465 : BitVec 32 := Scalar.addi v15409 c3_i32_6016
  let v15468 : Index := Scalar.indexCast v15465
  ![v15468.toNat]
def k0_off589 (k0_t1 : Fin k0_t1_loop.trips) (v15409 : BitVec 32) (v15412 : BitVec 32) (v15469 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_6017 : BitVec 32 := 3#32
  let v15466 : BitVec 32 := Scalar.addi v15409 c3_i32_6017
  let v15467 : BitVec 1 := Scalar.cmpi .slt v15466 v15412
  let c65535_i32_6018 : BitVec 32 := 65535#32
  let v15470 : BitVec 32 := Scalar.andi v15469 c65535_i32_6018
  let c2048_i32_6019 : BitVec 32 := 2048#32
  let v15471 : BitVec 32 := Scalar.select v15467 v15470 c2048_i32_6019
  let v15472 : BitVec 32 := Scalar.addi v11087 v15471
  let v15475 : Index := Scalar.indexCast v15472
  let c0_6021 : Index := 0#32
  ![v15475.toNat, 0]

def k0_chk294 (i : grid0.Coords) (k0_t1 : Fin k0_t1_loop.trips) (v15409 : BitVec 32) (v15412 : BitVec 32) (v15469 : BitVec 32) : Prop :=
  (∀ (k0_h1 : k0_cond1 i = 1#1), ∀ a, (k0_off589 k0_t1 v15409 v15412 v15469) a + S1x128.size a ≤ S8224x128.size a)
theorem k0_off589_inb : ∀ (i : grid0.Coords) (k0_t1 : Fin k0_t1_loop.trips) (v15409 : BitVec 32) (v15412 : BitVec 32) (v15469 : BitVec 32) (k0_hw294 : k0_chk294 i k0_t1 v15409 v15412 v15469), ∀ (k0_h1 : k0_cond1 i = 1#1), ∀ a, (k0_off589 k0_t1 v15409 v15412 v15469) a + S1x128.size a ≤ S8224x128.size a := fun i k0_t1 v15409 v15412 v15469 k0_hw294 k0_h1 => k0_hw294 k0_h1

def k0_off590 (v15409 : BitVec 32) : Fin 1 → Nat :=
  let c4_i32_6022 : BitVec 32 := 4#32
  let v15480 : BitVec 32 := Scalar.addi v15409 c4_i32_6022
  let v15483 : Index := Scalar.indexCast v15480
  ![v15483.toNat]
def k0_off591 (k0_t1 : Fin k0_t1_loop.trips) (v15409 : BitVec 32) (v15412 : BitVec 32) (v15484 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_6023 : BitVec 32 := 4#32
  let v15481 : BitVec 32 := Scalar.addi v15409 c4_i32_6023
  let v15482 : BitVec 1 := Scalar.cmpi .slt v15481 v15412
  let c65535_i32_6024 : BitVec 32 := 65535#32
  let v15485 : BitVec 32 := Scalar.andi v15484 c65535_i32_6024
  let c2048_i32_6025 : BitVec 32 := 2048#32
  let v15486 : BitVec 32 := Scalar.select v15482 v15485 c2048_i32_6025
  let v15487 : BitVec 32 := Scalar.addi v11087 v15486
  let v15490 : Index := Scalar.indexCast v15487
  let c0_6027 : Index := 0#32
  ![v15490.toNat, 0]

def k0_chk295 (i : grid0.Coords) (k0_t1 : Fin k0_t1_loop.trips) (v15409 : BitVec 32) (v15412 : BitVec 32) (v15484 : BitVec 32) : Prop :=
  (∀ (k0_h1 : k0_cond1 i = 1#1), ∀ a, (k0_off591 k0_t1 v15409 v15412 v15484) a + S1x128.size a ≤ S8224x128.size a)
theorem k0_off591_inb : ∀ (i : grid0.Coords) (k0_t1 : Fin k0_t1_loop.trips) (v15409 : BitVec 32) (v15412 : BitVec 32) (v15484 : BitVec 32) (k0_hw295 : k0_chk295 i k0_t1 v15409 v15412 v15484), ∀ (k0_h1 : k0_cond1 i = 1#1), ∀ a, (k0_off591 k0_t1 v15409 v15412 v15484) a + S1x128.size a ≤ S8224x128.size a := fun i k0_t1 v15409 v15412 v15484 k0_hw295 k0_h1 => k0_hw295 k0_h1

def k0_off592 (v15409 : BitVec 32) : Fin 1 → Nat :=
  let c5_i32_6028 : BitVec 32 := 5#32
  let v15495 : BitVec 32 := Scalar.addi v15409 c5_i32_6028
  let v15498 : Index := Scalar.indexCast v15495
  ![v15498.toNat]
def k0_off593 (k0_t1 : Fin k0_t1_loop.trips) (v15409 : BitVec 32) (v15412 : BitVec 32) (v15499 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_6029 : BitVec 32 := 5#32
  let v15496 : BitVec 32 := Scalar.addi v15409 c5_i32_6029
  let v15497 : BitVec 1 := Scalar.cmpi .slt v15496 v15412
  let c65535_i32_6030 : BitVec 32 := 65535#32
  let v15500 : BitVec 32 := Scalar.andi v15499 c65535_i32_6030
  let c2048_i32_6031 : BitVec 32 := 2048#32
  let v15501 : BitVec 32 := Scalar.select v15497 v15500 c2048_i32_6031
  let v15502 : BitVec 32 := Scalar.addi v11087 v15501
  let v15505 : Index := Scalar.indexCast v15502
  let c0_6033 : Index := 0#32
  ![v15505.toNat, 0]

def k0_chk296 (i : grid0.Coords) (k0_t1 : Fin k0_t1_loop.trips) (v15409 : BitVec 32) (v15412 : BitVec 32) (v15499 : BitVec 32) : Prop :=
  (∀ (k0_h1 : k0_cond1 i = 1#1), ∀ a, (k0_off593 k0_t1 v15409 v15412 v15499) a + S1x128.size a ≤ S8224x128.size a)
theorem k0_off593_inb : ∀ (i : grid0.Coords) (k0_t1 : Fin k0_t1_loop.trips) (v15409 : BitVec 32) (v15412 : BitVec 32) (v15499 : BitVec 32) (k0_hw296 : k0_chk296 i k0_t1 v15409 v15412 v15499), ∀ (k0_h1 : k0_cond1 i = 1#1), ∀ a, (k0_off593 k0_t1 v15409 v15412 v15499) a + S1x128.size a ≤ S8224x128.size a := fun i k0_t1 v15409 v15412 v15499 k0_hw296 k0_h1 => k0_hw296 k0_h1

def k0_off594 (v15409 : BitVec 32) : Fin 1 → Nat :=
  let c6_i32_6034 : BitVec 32 := 6#32
  let v15510 : BitVec 32 := Scalar.addi v15409 c6_i32_6034
  let v15513 : Index := Scalar.indexCast v15510
  ![v15513.toNat]
def k0_off595 (k0_t1 : Fin k0_t1_loop.trips) (v15409 : BitVec 32) (v15412 : BitVec 32) (v15514 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_6035 : BitVec 32 := 6#32
  let v15511 : BitVec 32 := Scalar.addi v15409 c6_i32_6035
  let v15512 : BitVec 1 := Scalar.cmpi .slt v15511 v15412
  let c65535_i32_6036 : BitVec 32 := 65535#32
  let v15515 : BitVec 32 := Scalar.andi v15514 c65535_i32_6036
  let c2048_i32_6037 : BitVec 32 := 2048#32
  let v15516 : BitVec 32 := Scalar.select v15512 v15515 c2048_i32_6037
  let v15517 : BitVec 32 := Scalar.addi v11087 v15516
  let v15520 : Index := Scalar.indexCast v15517
  let c0_6039 : Index := 0#32
  ![v15520.toNat, 0]

def k0_chk297 (i : grid0.Coords) (k0_t1 : Fin k0_t1_loop.trips) (v15409 : BitVec 32) (v15412 : BitVec 32) (v15514 : BitVec 32) : Prop :=
  (∀ (k0_h1 : k0_cond1 i = 1#1), ∀ a, (k0_off595 k0_t1 v15409 v15412 v15514) a + S1x128.size a ≤ S8224x128.size a)
theorem k0_off595_inb : ∀ (i : grid0.Coords) (k0_t1 : Fin k0_t1_loop.trips) (v15409 : BitVec 32) (v15412 : BitVec 32) (v15514 : BitVec 32) (k0_hw297 : k0_chk297 i k0_t1 v15409 v15412 v15514), ∀ (k0_h1 : k0_cond1 i = 1#1), ∀ a, (k0_off595 k0_t1 v15409 v15412 v15514) a + S1x128.size a ≤ S8224x128.size a := fun i k0_t1 v15409 v15412 v15514 k0_hw297 k0_h1 => k0_hw297 k0_h1

def k0_off596 (v15409 : BitVec 32) : Fin 1 → Nat :=
  let c7_i32_6040 : BitVec 32 := 7#32
  let v15525 : BitVec 32 := Scalar.addi v15409 c7_i32_6040
  let v15528 : Index := Scalar.indexCast v15525
  ![v15528.toNat]
def k0_off597 (k0_t1 : Fin k0_t1_loop.trips) (v15409 : BitVec 32) (v15412 : BitVec 32) (v15529 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_6041 : BitVec 32 := 7#32
  let v15526 : BitVec 32 := Scalar.addi v15409 c7_i32_6041
  let v15527 : BitVec 1 := Scalar.cmpi .slt v15526 v15412
  let c65535_i32_6042 : BitVec 32 := 65535#32
  let v15530 : BitVec 32 := Scalar.andi v15529 c65535_i32_6042
  let c2048_i32_6043 : BitVec 32 := 2048#32
  let v15531 : BitVec 32 := Scalar.select v15527 v15530 c2048_i32_6043
  let v15532 : BitVec 32 := Scalar.addi v11087 v15531
  let v15535 : Index := Scalar.indexCast v15532
  let c0_6045 : Index := 0#32
  ![v15535.toNat, 0]

def k0_chk298 (i : grid0.Coords) (k0_t1 : Fin k0_t1_loop.trips) (v15409 : BitVec 32) (v15412 : BitVec 32) (v15529 : BitVec 32) : Prop :=
  (∀ (k0_h1 : k0_cond1 i = 1#1), ∀ a, (k0_off597 k0_t1 v15409 v15412 v15529) a + S1x128.size a ≤ S8224x128.size a)
theorem k0_off597_inb : ∀ (i : grid0.Coords) (k0_t1 : Fin k0_t1_loop.trips) (v15409 : BitVec 32) (v15412 : BitVec 32) (v15529 : BitVec 32) (k0_hw298 : k0_chk298 i k0_t1 v15409 v15412 v15529), ∀ (k0_h1 : k0_cond1 i = 1#1), ∀ a, (k0_off597 k0_t1 v15409 v15412 v15529) a + S1x128.size a ≤ S8224x128.size a := fun i k0_t1 v15409 v15412 v15529 k0_hw298 k0_h1 => k0_hw298 k0_h1

def k0_off598 (v15409 : BitVec 32) : Fin 1 → Nat :=
  let c8_i32_6046 : BitVec 32 := 8#32
  let v15540 : BitVec 32 := Scalar.addi v15409 c8_i32_6046
  let v15543 : Index := Scalar.indexCast v15540
  ![v15543.toNat]
def k0_off599 (k0_t1 : Fin k0_t1_loop.trips) (v15409 : BitVec 32) (v15412 : BitVec 32) (v15544 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_6047 : BitVec 32 := 8#32
  let v15541 : BitVec 32 := Scalar.addi v15409 c8_i32_6047
  let v15542 : BitVec 1 := Scalar.cmpi .slt v15541 v15412
  let c65535_i32_6048 : BitVec 32 := 65535#32
  let v15545 : BitVec 32 := Scalar.andi v15544 c65535_i32_6048
  let c2048_i32_6049 : BitVec 32 := 2048#32
  let v15546 : BitVec 32 := Scalar.select v15542 v15545 c2048_i32_6049
  let v15547 : BitVec 32 := Scalar.addi v11087 v15546
  let v15550 : Index := Scalar.indexCast v15547
  let c0_6051 : Index := 0#32
  ![v15550.toNat, 0]

def k0_chk299 (i : grid0.Coords) (k0_t1 : Fin k0_t1_loop.trips) (v15409 : BitVec 32) (v15412 : BitVec 32) (v15544 : BitVec 32) : Prop :=
  (∀ (k0_h1 : k0_cond1 i = 1#1), ∀ a, (k0_off599 k0_t1 v15409 v15412 v15544) a + S1x128.size a ≤ S8224x128.size a)
theorem k0_off599_inb : ∀ (i : grid0.Coords) (k0_t1 : Fin k0_t1_loop.trips) (v15409 : BitVec 32) (v15412 : BitVec 32) (v15544 : BitVec 32) (k0_hw299 : k0_chk299 i k0_t1 v15409 v15412 v15544), ∀ (k0_h1 : k0_cond1 i = 1#1), ∀ a, (k0_off599 k0_t1 v15409 v15412 v15544) a + S1x128.size a ≤ S8224x128.size a := fun i k0_t1 v15409 v15412 v15544 k0_hw299 k0_h1 => k0_hw299 k0_h1

def k0_off600 (v15409 : BitVec 32) : Fin 1 → Nat :=
  let c9_i32_6052 : BitVec 32 := 9#32
  let v15555 : BitVec 32 := Scalar.addi v15409 c9_i32_6052
  let v15558 : Index := Scalar.indexCast v15555
  ![v15558.toNat]
def k0_off601 (k0_t1 : Fin k0_t1_loop.trips) (v15409 : BitVec 32) (v15412 : BitVec 32) (v15559 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_6053 : BitVec 32 := 9#32
  let v15556 : BitVec 32 := Scalar.addi v15409 c9_i32_6053
  let v15557 : BitVec 1 := Scalar.cmpi .slt v15556 v15412
  let c65535_i32_6054 : BitVec 32 := 65535#32
  let v15560 : BitVec 32 := Scalar.andi v15559 c65535_i32_6054
  let c2048_i32_6055 : BitVec 32 := 2048#32
  let v15561 : BitVec 32 := Scalar.select v15557 v15560 c2048_i32_6055
  let v15562 : BitVec 32 := Scalar.addi v11087 v15561
  let v15565 : Index := Scalar.indexCast v15562
  let c0_6057 : Index := 0#32
  ![v15565.toNat, 0]

def k0_chk300 (i : grid0.Coords) (k0_t1 : Fin k0_t1_loop.trips) (v15409 : BitVec 32) (v15412 : BitVec 32) (v15559 : BitVec 32) : Prop :=
  (∀ (k0_h1 : k0_cond1 i = 1#1), ∀ a, (k0_off601 k0_t1 v15409 v15412 v15559) a + S1x128.size a ≤ S8224x128.size a)
theorem k0_off601_inb : ∀ (i : grid0.Coords) (k0_t1 : Fin k0_t1_loop.trips) (v15409 : BitVec 32) (v15412 : BitVec 32) (v15559 : BitVec 32) (k0_hw300 : k0_chk300 i k0_t1 v15409 v15412 v15559), ∀ (k0_h1 : k0_cond1 i = 1#1), ∀ a, (k0_off601 k0_t1 v15409 v15412 v15559) a + S1x128.size a ≤ S8224x128.size a := fun i k0_t1 v15409 v15412 v15559 k0_hw300 k0_h1 => k0_hw300 k0_h1

def k0_off602 (v15409 : BitVec 32) : Fin 1 → Nat :=
  let c10_i32_6058 : BitVec 32 := 10#32
  let v15570 : BitVec 32 := Scalar.addi v15409 c10_i32_6058
  let v15573 : Index := Scalar.indexCast v15570
  ![v15573.toNat]
def k0_off603 (k0_t1 : Fin k0_t1_loop.trips) (v15409 : BitVec 32) (v15412 : BitVec 32) (v15574 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_6059 : BitVec 32 := 10#32
  let v15571 : BitVec 32 := Scalar.addi v15409 c10_i32_6059
  let v15572 : BitVec 1 := Scalar.cmpi .slt v15571 v15412
  let c65535_i32_6060 : BitVec 32 := 65535#32
  let v15575 : BitVec 32 := Scalar.andi v15574 c65535_i32_6060
  let c2048_i32_6061 : BitVec 32 := 2048#32
  let v15576 : BitVec 32 := Scalar.select v15572 v15575 c2048_i32_6061
  let v15577 : BitVec 32 := Scalar.addi v11087 v15576
  let v15580 : Index := Scalar.indexCast v15577
  let c0_6063 : Index := 0#32
  ![v15580.toNat, 0]

def k0_chk301 (i : grid0.Coords) (k0_t1 : Fin k0_t1_loop.trips) (v15409 : BitVec 32) (v15412 : BitVec 32) (v15574 : BitVec 32) : Prop :=
  (∀ (k0_h1 : k0_cond1 i = 1#1), ∀ a, (k0_off603 k0_t1 v15409 v15412 v15574) a + S1x128.size a ≤ S8224x128.size a)
theorem k0_off603_inb : ∀ (i : grid0.Coords) (k0_t1 : Fin k0_t1_loop.trips) (v15409 : BitVec 32) (v15412 : BitVec 32) (v15574 : BitVec 32) (k0_hw301 : k0_chk301 i k0_t1 v15409 v15412 v15574), ∀ (k0_h1 : k0_cond1 i = 1#1), ∀ a, (k0_off603 k0_t1 v15409 v15412 v15574) a + S1x128.size a ≤ S8224x128.size a := fun i k0_t1 v15409 v15412 v15574 k0_hw301 k0_h1 => k0_hw301 k0_h1

def k0_off604 (v15409 : BitVec 32) : Fin 1 → Nat :=
  let c11_i32_6064 : BitVec 32 := 11#32
  let v15585 : BitVec 32 := Scalar.addi v15409 c11_i32_6064
  let v15588 : Index := Scalar.indexCast v15585
  ![v15588.toNat]
def k0_off605 (k0_t1 : Fin k0_t1_loop.trips) (v15409 : BitVec 32) (v15412 : BitVec 32) (v15589 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_6065 : BitVec 32 := 11#32
  let v15586 : BitVec 32 := Scalar.addi v15409 c11_i32_6065
  let v15587 : BitVec 1 := Scalar.cmpi .slt v15586 v15412
  let c65535_i32_6066 : BitVec 32 := 65535#32
  let v15590 : BitVec 32 := Scalar.andi v15589 c65535_i32_6066
  let c2048_i32_6067 : BitVec 32 := 2048#32
  let v15591 : BitVec 32 := Scalar.select v15587 v15590 c2048_i32_6067
  let v15592 : BitVec 32 := Scalar.addi v11087 v15591
  let v15595 : Index := Scalar.indexCast v15592
  let c0_6069 : Index := 0#32
  ![v15595.toNat, 0]

def k0_chk302 (i : grid0.Coords) (k0_t1 : Fin k0_t1_loop.trips) (v15409 : BitVec 32) (v15412 : BitVec 32) (v15589 : BitVec 32) : Prop :=
  (∀ (k0_h1 : k0_cond1 i = 1#1), ∀ a, (k0_off605 k0_t1 v15409 v15412 v15589) a + S1x128.size a ≤ S8224x128.size a)
theorem k0_off605_inb : ∀ (i : grid0.Coords) (k0_t1 : Fin k0_t1_loop.trips) (v15409 : BitVec 32) (v15412 : BitVec 32) (v15589 : BitVec 32) (k0_hw302 : k0_chk302 i k0_t1 v15409 v15412 v15589), ∀ (k0_h1 : k0_cond1 i = 1#1), ∀ a, (k0_off605 k0_t1 v15409 v15412 v15589) a + S1x128.size a ≤ S8224x128.size a := fun i k0_t1 v15409 v15412 v15589 k0_hw302 k0_h1 => k0_hw302 k0_h1

def k0_off606 (v15409 : BitVec 32) : Fin 1 → Nat :=
  let c12_i32_6070 : BitVec 32 := 12#32
  let v15600 : BitVec 32 := Scalar.addi v15409 c12_i32_6070
  let v15603 : Index := Scalar.indexCast v15600
  ![v15603.toNat]
def k0_off607 (k0_t1 : Fin k0_t1_loop.trips) (v15409 : BitVec 32) (v15412 : BitVec 32) (v15604 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_6071 : BitVec 32 := 12#32
  let v15601 : BitVec 32 := Scalar.addi v15409 c12_i32_6071
  let v15602 : BitVec 1 := Scalar.cmpi .slt v15601 v15412
  let c65535_i32_6072 : BitVec 32 := 65535#32
  let v15605 : BitVec 32 := Scalar.andi v15604 c65535_i32_6072
  let c2048_i32_6073 : BitVec 32 := 2048#32
  let v15606 : BitVec 32 := Scalar.select v15602 v15605 c2048_i32_6073
  let v15607 : BitVec 32 := Scalar.addi v11087 v15606
  let v15610 : Index := Scalar.indexCast v15607
  let c0_6075 : Index := 0#32
  ![v15610.toNat, 0]

def k0_chk303 (i : grid0.Coords) (k0_t1 : Fin k0_t1_loop.trips) (v15409 : BitVec 32) (v15412 : BitVec 32) (v15604 : BitVec 32) : Prop :=
  (∀ (k0_h1 : k0_cond1 i = 1#1), ∀ a, (k0_off607 k0_t1 v15409 v15412 v15604) a + S1x128.size a ≤ S8224x128.size a)
theorem k0_off607_inb : ∀ (i : grid0.Coords) (k0_t1 : Fin k0_t1_loop.trips) (v15409 : BitVec 32) (v15412 : BitVec 32) (v15604 : BitVec 32) (k0_hw303 : k0_chk303 i k0_t1 v15409 v15412 v15604), ∀ (k0_h1 : k0_cond1 i = 1#1), ∀ a, (k0_off607 k0_t1 v15409 v15412 v15604) a + S1x128.size a ≤ S8224x128.size a := fun i k0_t1 v15409 v15412 v15604 k0_hw303 k0_h1 => k0_hw303 k0_h1

def k0_off608 (v15409 : BitVec 32) : Fin 1 → Nat :=
  let c13_i32_6076 : BitVec 32 := 13#32
  let v15615 : BitVec 32 := Scalar.addi v15409 c13_i32_6076
  let v15618 : Index := Scalar.indexCast v15615
  ![v15618.toNat]
def k0_off609 (k0_t1 : Fin k0_t1_loop.trips) (v15409 : BitVec 32) (v15412 : BitVec 32) (v15619 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_6077 : BitVec 32 := 13#32
  let v15616 : BitVec 32 := Scalar.addi v15409 c13_i32_6077
  let v15617 : BitVec 1 := Scalar.cmpi .slt v15616 v15412
  let c65535_i32_6078 : BitVec 32 := 65535#32
  let v15620 : BitVec 32 := Scalar.andi v15619 c65535_i32_6078
  let c2048_i32_6079 : BitVec 32 := 2048#32
  let v15621 : BitVec 32 := Scalar.select v15617 v15620 c2048_i32_6079
  let v15622 : BitVec 32 := Scalar.addi v11087 v15621
  let v15625 : Index := Scalar.indexCast v15622
  let c0_6081 : Index := 0#32
  ![v15625.toNat, 0]

def k0_chk304 (i : grid0.Coords) (k0_t1 : Fin k0_t1_loop.trips) (v15409 : BitVec 32) (v15412 : BitVec 32) (v15619 : BitVec 32) : Prop :=
  (∀ (k0_h1 : k0_cond1 i = 1#1), ∀ a, (k0_off609 k0_t1 v15409 v15412 v15619) a + S1x128.size a ≤ S8224x128.size a)
theorem k0_off609_inb : ∀ (i : grid0.Coords) (k0_t1 : Fin k0_t1_loop.trips) (v15409 : BitVec 32) (v15412 : BitVec 32) (v15619 : BitVec 32) (k0_hw304 : k0_chk304 i k0_t1 v15409 v15412 v15619), ∀ (k0_h1 : k0_cond1 i = 1#1), ∀ a, (k0_off609 k0_t1 v15409 v15412 v15619) a + S1x128.size a ≤ S8224x128.size a := fun i k0_t1 v15409 v15412 v15619 k0_hw304 k0_h1 => k0_hw304 k0_h1

def k0_off610 (v15409 : BitVec 32) : Fin 1 → Nat :=
  let c14_i32_6082 : BitVec 32 := 14#32
  let v15630 : BitVec 32 := Scalar.addi v15409 c14_i32_6082
  let v15633 : Index := Scalar.indexCast v15630
  ![v15633.toNat]
def k0_off611 (k0_t1 : Fin k0_t1_loop.trips) (v15409 : BitVec 32) (v15412 : BitVec 32) (v15634 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_6083 : BitVec 32 := 14#32
  let v15631 : BitVec 32 := Scalar.addi v15409 c14_i32_6083
  let v15632 : BitVec 1 := Scalar.cmpi .slt v15631 v15412
  let c65535_i32_6084 : BitVec 32 := 65535#32
  let v15635 : BitVec 32 := Scalar.andi v15634 c65535_i32_6084
  let c2048_i32_6085 : BitVec 32 := 2048#32
  let v15636 : BitVec 32 := Scalar.select v15632 v15635 c2048_i32_6085
  let v15637 : BitVec 32 := Scalar.addi v11087 v15636
  let v15640 : Index := Scalar.indexCast v15637
  let c0_6087 : Index := 0#32
  ![v15640.toNat, 0]

def k0_chk305 (i : grid0.Coords) (k0_t1 : Fin k0_t1_loop.trips) (v15409 : BitVec 32) (v15412 : BitVec 32) (v15634 : BitVec 32) : Prop :=
  (∀ (k0_h1 : k0_cond1 i = 1#1), ∀ a, (k0_off611 k0_t1 v15409 v15412 v15634) a + S1x128.size a ≤ S8224x128.size a)
theorem k0_off611_inb : ∀ (i : grid0.Coords) (k0_t1 : Fin k0_t1_loop.trips) (v15409 : BitVec 32) (v15412 : BitVec 32) (v15634 : BitVec 32) (k0_hw305 : k0_chk305 i k0_t1 v15409 v15412 v15634), ∀ (k0_h1 : k0_cond1 i = 1#1), ∀ a, (k0_off611 k0_t1 v15409 v15412 v15634) a + S1x128.size a ≤ S8224x128.size a := fun i k0_t1 v15409 v15412 v15634 k0_hw305 k0_h1 => k0_hw305 k0_h1

def k0_off612 (v15409 : BitVec 32) : Fin 1 → Nat :=
  let c15_i32_6088 : BitVec 32 := 15#32
  let v15645 : BitVec 32 := Scalar.addi v15409 c15_i32_6088
  let v15648 : Index := Scalar.indexCast v15645
  ![v15648.toNat]

def k0_chk290 (i : grid0.Coords) (v15409 : BitVec 32) : Prop :=
  (∀ (k0_h1 : k0_cond1 i = 1#1), ∀ a, (k0_off582 v15409) a + S1.size a ≤ S51920.size a) ∧
  (∀ (k0_h1 : k0_cond1 i = 1#1), ∀ a, (k0_off584 v15409) a + S1.size a ≤ S51920.size a) ∧
  (∀ (k0_h1 : k0_cond1 i = 1#1), ∀ a, (k0_off586 v15409) a + S1.size a ≤ S51920.size a) ∧
  (∀ (k0_h1 : k0_cond1 i = 1#1), ∀ a, (k0_off588 v15409) a + S1.size a ≤ S51920.size a) ∧
  (∀ (k0_h1 : k0_cond1 i = 1#1), ∀ a, (k0_off590 v15409) a + S1.size a ≤ S51920.size a) ∧
  (∀ (k0_h1 : k0_cond1 i = 1#1), ∀ a, (k0_off592 v15409) a + S1.size a ≤ S51920.size a) ∧
  (∀ (k0_h1 : k0_cond1 i = 1#1), ∀ a, (k0_off594 v15409) a + S1.size a ≤ S51920.size a) ∧
  (∀ (k0_h1 : k0_cond1 i = 1#1), ∀ a, (k0_off596 v15409) a + S1.size a ≤ S51920.size a) ∧
  (∀ (k0_h1 : k0_cond1 i = 1#1), ∀ a, (k0_off598 v15409) a + S1.size a ≤ S51920.size a) ∧
  (∀ (k0_h1 : k0_cond1 i = 1#1), ∀ a, (k0_off600 v15409) a + S1.size a ≤ S51920.size a) ∧
  (∀ (k0_h1 : k0_cond1 i = 1#1), ∀ a, (k0_off602 v15409) a + S1.size a ≤ S51920.size a) ∧
  (∀ (k0_h1 : k0_cond1 i = 1#1), ∀ a, (k0_off604 v15409) a + S1.size a ≤ S51920.size a) ∧
  (∀ (k0_h1 : k0_cond1 i = 1#1), ∀ a, (k0_off606 v15409) a + S1.size a ≤ S51920.size a) ∧
  (∀ (k0_h1 : k0_cond1 i = 1#1), ∀ a, (k0_off608 v15409) a + S1.size a ≤ S51920.size a) ∧
  (∀ (k0_h1 : k0_cond1 i = 1#1), ∀ a, (k0_off610 v15409) a + S1.size a ≤ S51920.size a) ∧
  (∀ (k0_h1 : k0_cond1 i = 1#1), ∀ a, (k0_off612 v15409) a + S1.size a ≤ S51920.size a)
theorem k0_off582_inb : ∀ (i : grid0.Coords) (v15409 : BitVec 32) (k0_hw290 : k0_chk290 i v15409), ∀ (k0_h1 : k0_cond1 i = 1#1), ∀ a, (k0_off582 v15409) a + S1.size a ≤ S51920.size a := fun i v15409 k0_hw290 k0_h1 => k0_hw290.1 k0_h1
theorem k0_off584_inb : ∀ (i : grid0.Coords) (v15409 : BitVec 32) (k0_hw290 : k0_chk290 i v15409), ∀ (k0_h1 : k0_cond1 i = 1#1), ∀ a, (k0_off584 v15409) a + S1.size a ≤ S51920.size a := fun i v15409 k0_hw290 k0_h1 => k0_hw290.2.1 k0_h1
theorem k0_off586_inb : ∀ (i : grid0.Coords) (v15409 : BitVec 32) (k0_hw290 : k0_chk290 i v15409), ∀ (k0_h1 : k0_cond1 i = 1#1), ∀ a, (k0_off586 v15409) a + S1.size a ≤ S51920.size a := fun i v15409 k0_hw290 k0_h1 => k0_hw290.2.2.1 k0_h1
theorem k0_off588_inb : ∀ (i : grid0.Coords) (v15409 : BitVec 32) (k0_hw290 : k0_chk290 i v15409), ∀ (k0_h1 : k0_cond1 i = 1#1), ∀ a, (k0_off588 v15409) a + S1.size a ≤ S51920.size a := fun i v15409 k0_hw290 k0_h1 => k0_hw290.2.2.2.1 k0_h1
theorem k0_off590_inb : ∀ (i : grid0.Coords) (v15409 : BitVec 32) (k0_hw290 : k0_chk290 i v15409), ∀ (k0_h1 : k0_cond1 i = 1#1), ∀ a, (k0_off590 v15409) a + S1.size a ≤ S51920.size a := fun i v15409 k0_hw290 k0_h1 => k0_hw290.2.2.2.2.1 k0_h1
theorem k0_off592_inb : ∀ (i : grid0.Coords) (v15409 : BitVec 32) (k0_hw290 : k0_chk290 i v15409), ∀ (k0_h1 : k0_cond1 i = 1#1), ∀ a, (k0_off592 v15409) a + S1.size a ≤ S51920.size a := fun i v15409 k0_hw290 k0_h1 => k0_hw290.2.2.2.2.2.1 k0_h1
theorem k0_off594_inb : ∀ (i : grid0.Coords) (v15409 : BitVec 32) (k0_hw290 : k0_chk290 i v15409), ∀ (k0_h1 : k0_cond1 i = 1#1), ∀ a, (k0_off594 v15409) a + S1.size a ≤ S51920.size a := fun i v15409 k0_hw290 k0_h1 => k0_hw290.2.2.2.2.2.2.1 k0_h1
theorem k0_off596_inb : ∀ (i : grid0.Coords) (v15409 : BitVec 32) (k0_hw290 : k0_chk290 i v15409), ∀ (k0_h1 : k0_cond1 i = 1#1), ∀ a, (k0_off596 v15409) a + S1.size a ≤ S51920.size a := fun i v15409 k0_hw290 k0_h1 => k0_hw290.2.2.2.2.2.2.2.1 k0_h1
theorem k0_off598_inb : ∀ (i : grid0.Coords) (v15409 : BitVec 32) (k0_hw290 : k0_chk290 i v15409), ∀ (k0_h1 : k0_cond1 i = 1#1), ∀ a, (k0_off598 v15409) a + S1.size a ≤ S51920.size a := fun i v15409 k0_hw290 k0_h1 => k0_hw290.2.2.2.2.2.2.2.2.1 k0_h1
theorem k0_off600_inb : ∀ (i : grid0.Coords) (v15409 : BitVec 32) (k0_hw290 : k0_chk290 i v15409), ∀ (k0_h1 : k0_cond1 i = 1#1), ∀ a, (k0_off600 v15409) a + S1.size a ≤ S51920.size a := fun i v15409 k0_hw290 k0_h1 => k0_hw290.2.2.2.2.2.2.2.2.2.1 k0_h1
theorem k0_off602_inb : ∀ (i : grid0.Coords) (v15409 : BitVec 32) (k0_hw290 : k0_chk290 i v15409), ∀ (k0_h1 : k0_cond1 i = 1#1), ∀ a, (k0_off602 v15409) a + S1.size a ≤ S51920.size a := fun i v15409 k0_hw290 k0_h1 => k0_hw290.2.2.2.2.2.2.2.2.2.2.1 k0_h1
theorem k0_off604_inb : ∀ (i : grid0.Coords) (v15409 : BitVec 32) (k0_hw290 : k0_chk290 i v15409), ∀ (k0_h1 : k0_cond1 i = 1#1), ∀ a, (k0_off604 v15409) a + S1.size a ≤ S51920.size a := fun i v15409 k0_hw290 k0_h1 => k0_hw290.2.2.2.2.2.2.2.2.2.2.2.1 k0_h1
theorem k0_off606_inb : ∀ (i : grid0.Coords) (v15409 : BitVec 32) (k0_hw290 : k0_chk290 i v15409), ∀ (k0_h1 : k0_cond1 i = 1#1), ∀ a, (k0_off606 v15409) a + S1.size a ≤ S51920.size a := fun i v15409 k0_hw290 k0_h1 => k0_hw290.2.2.2.2.2.2.2.2.2.2.2.2.1 k0_h1
theorem k0_off608_inb : ∀ (i : grid0.Coords) (v15409 : BitVec 32) (k0_hw290 : k0_chk290 i v15409), ∀ (k0_h1 : k0_cond1 i = 1#1), ∀ a, (k0_off608 v15409) a + S1.size a ≤ S51920.size a := fun i v15409 k0_hw290 k0_h1 => k0_hw290.2.2.2.2.2.2.2.2.2.2.2.2.2.1 k0_h1
theorem k0_off610_inb : ∀ (i : grid0.Coords) (v15409 : BitVec 32) (k0_hw290 : k0_chk290 i v15409), ∀ (k0_h1 : k0_cond1 i = 1#1), ∀ a, (k0_off610 v15409) a + S1.size a ≤ S51920.size a := fun i v15409 k0_hw290 k0_h1 => k0_hw290.2.2.2.2.2.2.2.2.2.2.2.2.2.2.1 k0_h1
theorem k0_off612_inb : ∀ (i : grid0.Coords) (v15409 : BitVec 32) (k0_hw290 : k0_chk290 i v15409), ∀ (k0_h1 : k0_cond1 i = 1#1), ∀ a, (k0_off612 v15409) a + S1.size a ≤ S51920.size a := fun i v15409 k0_hw290 k0_h1 => k0_hw290.2.2.2.2.2.2.2.2.2.2.2.2.2.2.2 k0_h1

def k0_off613 (k0_t1 : Fin k0_t1_loop.trips) (v15409 : BitVec 32) (v15412 : BitVec 32) (v15649 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_6089 : BitVec 32 := 15#32
  let v15646 : BitVec 32 := Scalar.addi v15409 c15_i32_6089
  let v15647 : BitVec 1 := Scalar.cmpi .slt v15646 v15412
  let c65535_i32_6090 : BitVec 32 := 65535#32
  let v15650 : BitVec 32 := Scalar.andi v15649 c65535_i32_6090
  let c2048_i32_6091 : BitVec 32 := 2048#32
  let v15651 : BitVec 32 := Scalar.select v15647 v15650 c2048_i32_6091
  let v15652 : BitVec 32 := Scalar.addi v11087 v15651
  let v15655 : Index := Scalar.indexCast v15652
  let c0_6093 : Index := 0#32
  ![v15655.toNat, 0]

def k0_chk306 (i : grid0.Coords) (k0_t1 : Fin k0_t1_loop.trips) (v15409 : BitVec 32) (v15412 : BitVec 32) (v15649 : BitVec 32) : Prop :=
  (∀ (k0_h1 : k0_cond1 i = 1#1), ∀ a, (k0_off613 k0_t1 v15409 v15412 v15649) a + S1x128.size a ≤ S8224x128.size a)
theorem k0_off613_inb : ∀ (i : grid0.Coords) (k0_t1 : Fin k0_t1_loop.trips) (v15409 : BitVec 32) (v15412 : BitVec 32) (v15649 : BitVec 32) (k0_hw306 : k0_chk306 i k0_t1 v15409 v15412 v15649), ∀ (k0_h1 : k0_cond1 i = 1#1), ∀ a, (k0_off613 k0_t1 v15409 v15412 v15649) a + S1x128.size a ≤ S8224x128.size a := fun i k0_t1 v15409 v15412 v15649 k0_hw306 k0_h1 => k0_hw306 k0_h1

def k0_off614 (k0_t1 : Fin k0_t1_loop.trips) : Fin 1 → Nat :=
  let c0_i32_6094 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v15660 : BitVec 32 := Scalar.addi c0_i32_6094 v11069
  let c18_i32_6095 : BitVec 32 := 18#32
  let v15661 : BitVec 32 := Scalar.addi v15660 c18_i32_6095
  let v15662 : Index := Scalar.indexCast v15661
  ![v15662.toNat]
def k0_off615 (k0_t1 : Fin k0_t1_loop.trips) : Fin 1 → Nat :=
  let c0_i32_6094 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v15660 : BitVec 32 := Scalar.addi c0_i32_6094 v11069
  let c18_i32_6095 : BitVec 32 := 18#32
  let v15661 : BitVec 32 := Scalar.addi v15660 c18_i32_6095
  let c1_i32_6096 : BitVec 32 := 1#32
  let v15664 : BitVec 32 := Scalar.addi v15661 c1_i32_6096
  let v15665 : Index := Scalar.indexCast v15664
  ![v15665.toNat]
def k0_off616 (v15663 : BitVec 32) : Fin 1 → Nat :=
  let c0_i32_6099 : BitVec 32 := 0#32
  let v15674 : BitVec 32 := Scalar.addi v15663 c0_i32_6099
  let v15677 : Index := Scalar.indexCast v15674
  ![v15677.toNat]

def k0_off617 (k0_t1 : Fin k0_t1_loop.trips) (v15663 : BitVec 32) (v15666 : BitVec 32) (v15678 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_6100 : BitVec 32 := 0#32
  let v15675 : BitVec 32 := Scalar.addi v15663 c0_i32_6100
  let v15676 : BitVec 1 := Scalar.cmpi .slt v15675 v15666
  let c65535_i32_6101 : BitVec 32 := 65535#32
  let v15679 : BitVec 32 := Scalar.andi v15678 c65535_i32_6101
  let c2048_i32_6102 : BitVec 32 := 2048#32
  let v15680 : BitVec 32 := Scalar.select v15676 v15679 c2048_i32_6102
  let v15681 : BitVec 32 := Scalar.addi v11087 v15680
  let v15684 : Index := Scalar.indexCast v15681
  let c0_6104 : Index := 0#32
  ![v15684.toNat, 0]

def k0_chk308 (i : grid0.Coords) (k0_t1 : Fin k0_t1_loop.trips) (v15663 : BitVec 32) (v15666 : BitVec 32) (v15678 : BitVec 32) : Prop :=
  (∀ (k0_h1 : k0_cond1 i = 1#1), ∀ a, (k0_off617 k0_t1 v15663 v15666 v15678) a + S1x128.size a ≤ S8224x128.size a)
theorem k0_off617_inb : ∀ (i : grid0.Coords) (k0_t1 : Fin k0_t1_loop.trips) (v15663 : BitVec 32) (v15666 : BitVec 32) (v15678 : BitVec 32) (k0_hw308 : k0_chk308 i k0_t1 v15663 v15666 v15678), ∀ (k0_h1 : k0_cond1 i = 1#1), ∀ a, (k0_off617 k0_t1 v15663 v15666 v15678) a + S1x128.size a ≤ S8224x128.size a := fun i k0_t1 v15663 v15666 v15678 k0_hw308 k0_h1 => k0_hw308 k0_h1

def k0_off618 (v15663 : BitVec 32) : Fin 1 → Nat :=
  let c1_i32_6105 : BitVec 32 := 1#32
  let v15689 : BitVec 32 := Scalar.addi v15663 c1_i32_6105
  let v15692 : Index := Scalar.indexCast v15689
  ![v15692.toNat]
def k0_off619 (k0_t1 : Fin k0_t1_loop.trips) (v15663 : BitVec 32) (v15666 : BitVec 32) (v15693 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_6106 : BitVec 32 := 1#32
  let v15690 : BitVec 32 := Scalar.addi v15663 c1_i32_6106
  let v15691 : BitVec 1 := Scalar.cmpi .slt v15690 v15666
  let c65535_i32_6107 : BitVec 32 := 65535#32
  let v15694 : BitVec 32 := Scalar.andi v15693 c65535_i32_6107
  let c2048_i32_6108 : BitVec 32 := 2048#32
  let v15695 : BitVec 32 := Scalar.select v15691 v15694 c2048_i32_6108
  let v15696 : BitVec 32 := Scalar.addi v11087 v15695
  let v15699 : Index := Scalar.indexCast v15696
  let c0_6110 : Index := 0#32
  ![v15699.toNat, 0]

def k0_chk309 (i : grid0.Coords) (k0_t1 : Fin k0_t1_loop.trips) (v15663 : BitVec 32) (v15666 : BitVec 32) (v15693 : BitVec 32) : Prop :=
  (∀ (k0_h1 : k0_cond1 i = 1#1), ∀ a, (k0_off619 k0_t1 v15663 v15666 v15693) a + S1x128.size a ≤ S8224x128.size a)
theorem k0_off619_inb : ∀ (i : grid0.Coords) (k0_t1 : Fin k0_t1_loop.trips) (v15663 : BitVec 32) (v15666 : BitVec 32) (v15693 : BitVec 32) (k0_hw309 : k0_chk309 i k0_t1 v15663 v15666 v15693), ∀ (k0_h1 : k0_cond1 i = 1#1), ∀ a, (k0_off619 k0_t1 v15663 v15666 v15693) a + S1x128.size a ≤ S8224x128.size a := fun i k0_t1 v15663 v15666 v15693 k0_hw309 k0_h1 => k0_hw309 k0_h1

def k0_off620 (v15663 : BitVec 32) : Fin 1 → Nat :=
  let c2_i32_6111 : BitVec 32 := 2#32
  let v15704 : BitVec 32 := Scalar.addi v15663 c2_i32_6111
  let v15707 : Index := Scalar.indexCast v15704
  ![v15707.toNat]
def k0_off621 (k0_t1 : Fin k0_t1_loop.trips) (v15663 : BitVec 32) (v15666 : BitVec 32) (v15708 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_6112 : BitVec 32 := 2#32
  let v15705 : BitVec 32 := Scalar.addi v15663 c2_i32_6112
  let v15706 : BitVec 1 := Scalar.cmpi .slt v15705 v15666
  let c65535_i32_6113 : BitVec 32 := 65535#32
  let v15709 : BitVec 32 := Scalar.andi v15708 c65535_i32_6113
  let c2048_i32_6114 : BitVec 32 := 2048#32
  let v15710 : BitVec 32 := Scalar.select v15706 v15709 c2048_i32_6114
  let v15711 : BitVec 32 := Scalar.addi v11087 v15710
  let v15714 : Index := Scalar.indexCast v15711
  let c0_6116 : Index := 0#32
  ![v15714.toNat, 0]

def k0_chk310 (i : grid0.Coords) (k0_t1 : Fin k0_t1_loop.trips) (v15663 : BitVec 32) (v15666 : BitVec 32) (v15708 : BitVec 32) : Prop :=
  (∀ (k0_h1 : k0_cond1 i = 1#1), ∀ a, (k0_off621 k0_t1 v15663 v15666 v15708) a + S1x128.size a ≤ S8224x128.size a)
theorem k0_off621_inb : ∀ (i : grid0.Coords) (k0_t1 : Fin k0_t1_loop.trips) (v15663 : BitVec 32) (v15666 : BitVec 32) (v15708 : BitVec 32) (k0_hw310 : k0_chk310 i k0_t1 v15663 v15666 v15708), ∀ (k0_h1 : k0_cond1 i = 1#1), ∀ a, (k0_off621 k0_t1 v15663 v15666 v15708) a + S1x128.size a ≤ S8224x128.size a := fun i k0_t1 v15663 v15666 v15708 k0_hw310 k0_h1 => k0_hw310 k0_h1

def k0_off622 (v15663 : BitVec 32) : Fin 1 → Nat :=
  let c3_i32_6117 : BitVec 32 := 3#32
  let v15719 : BitVec 32 := Scalar.addi v15663 c3_i32_6117
  let v15722 : Index := Scalar.indexCast v15719
  ![v15722.toNat]
def k0_off623 (k0_t1 : Fin k0_t1_loop.trips) (v15663 : BitVec 32) (v15666 : BitVec 32) (v15723 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_6118 : BitVec 32 := 3#32
  let v15720 : BitVec 32 := Scalar.addi v15663 c3_i32_6118
  let v15721 : BitVec 1 := Scalar.cmpi .slt v15720 v15666
  let c65535_i32_6119 : BitVec 32 := 65535#32
  let v15724 : BitVec 32 := Scalar.andi v15723 c65535_i32_6119
  let c2048_i32_6120 : BitVec 32 := 2048#32
  let v15725 : BitVec 32 := Scalar.select v15721 v15724 c2048_i32_6120
  let v15726 : BitVec 32 := Scalar.addi v11087 v15725
  let v15729 : Index := Scalar.indexCast v15726
  let c0_6122 : Index := 0#32
  ![v15729.toNat, 0]

def k0_chk311 (i : grid0.Coords) (k0_t1 : Fin k0_t1_loop.trips) (v15663 : BitVec 32) (v15666 : BitVec 32) (v15723 : BitVec 32) : Prop :=
  (∀ (k0_h1 : k0_cond1 i = 1#1), ∀ a, (k0_off623 k0_t1 v15663 v15666 v15723) a + S1x128.size a ≤ S8224x128.size a)
theorem k0_off623_inb : ∀ (i : grid0.Coords) (k0_t1 : Fin k0_t1_loop.trips) (v15663 : BitVec 32) (v15666 : BitVec 32) (v15723 : BitVec 32) (k0_hw311 : k0_chk311 i k0_t1 v15663 v15666 v15723), ∀ (k0_h1 : k0_cond1 i = 1#1), ∀ a, (k0_off623 k0_t1 v15663 v15666 v15723) a + S1x128.size a ≤ S8224x128.size a := fun i k0_t1 v15663 v15666 v15723 k0_hw311 k0_h1 => k0_hw311 k0_h1

def k0_off624 (v15663 : BitVec 32) : Fin 1 → Nat :=
  let c4_i32_6123 : BitVec 32 := 4#32
  let v15734 : BitVec 32 := Scalar.addi v15663 c4_i32_6123
  let v15737 : Index := Scalar.indexCast v15734
  ![v15737.toNat]
def k0_off625 (k0_t1 : Fin k0_t1_loop.trips) (v15663 : BitVec 32) (v15666 : BitVec 32) (v15738 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_6124 : BitVec 32 := 4#32
  let v15735 : BitVec 32 := Scalar.addi v15663 c4_i32_6124
  let v15736 : BitVec 1 := Scalar.cmpi .slt v15735 v15666
  let c65535_i32_6125 : BitVec 32 := 65535#32
  let v15739 : BitVec 32 := Scalar.andi v15738 c65535_i32_6125
  let c2048_i32_6126 : BitVec 32 := 2048#32
  let v15740 : BitVec 32 := Scalar.select v15736 v15739 c2048_i32_6126
  let v15741 : BitVec 32 := Scalar.addi v11087 v15740
  let v15744 : Index := Scalar.indexCast v15741
  let c0_6128 : Index := 0#32
  ![v15744.toNat, 0]

def k0_chk312 (i : grid0.Coords) (k0_t1 : Fin k0_t1_loop.trips) (v15663 : BitVec 32) (v15666 : BitVec 32) (v15738 : BitVec 32) : Prop :=
  (∀ (k0_h1 : k0_cond1 i = 1#1), ∀ a, (k0_off625 k0_t1 v15663 v15666 v15738) a + S1x128.size a ≤ S8224x128.size a)
theorem k0_off625_inb : ∀ (i : grid0.Coords) (k0_t1 : Fin k0_t1_loop.trips) (v15663 : BitVec 32) (v15666 : BitVec 32) (v15738 : BitVec 32) (k0_hw312 : k0_chk312 i k0_t1 v15663 v15666 v15738), ∀ (k0_h1 : k0_cond1 i = 1#1), ∀ a, (k0_off625 k0_t1 v15663 v15666 v15738) a + S1x128.size a ≤ S8224x128.size a := fun i k0_t1 v15663 v15666 v15738 k0_hw312 k0_h1 => k0_hw312 k0_h1

def k0_off626 (v15663 : BitVec 32) : Fin 1 → Nat :=
  let c5_i32_6129 : BitVec 32 := 5#32
  let v15749 : BitVec 32 := Scalar.addi v15663 c5_i32_6129
  let v15752 : Index := Scalar.indexCast v15749
  ![v15752.toNat]
def k0_off627 (k0_t1 : Fin k0_t1_loop.trips) (v15663 : BitVec 32) (v15666 : BitVec 32) (v15753 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_6130 : BitVec 32 := 5#32
  let v15750 : BitVec 32 := Scalar.addi v15663 c5_i32_6130
  let v15751 : BitVec 1 := Scalar.cmpi .slt v15750 v15666
  let c65535_i32_6131 : BitVec 32 := 65535#32
  let v15754 : BitVec 32 := Scalar.andi v15753 c65535_i32_6131
  let c2048_i32_6132 : BitVec 32 := 2048#32
  let v15755 : BitVec 32 := Scalar.select v15751 v15754 c2048_i32_6132
  let v15756 : BitVec 32 := Scalar.addi v11087 v15755
  let v15759 : Index := Scalar.indexCast v15756
  let c0_6134 : Index := 0#32
  ![v15759.toNat, 0]

def k0_chk313 (i : grid0.Coords) (k0_t1 : Fin k0_t1_loop.trips) (v15663 : BitVec 32) (v15666 : BitVec 32) (v15753 : BitVec 32) : Prop :=
  (∀ (k0_h1 : k0_cond1 i = 1#1), ∀ a, (k0_off627 k0_t1 v15663 v15666 v15753) a + S1x128.size a ≤ S8224x128.size a)
theorem k0_off627_inb : ∀ (i : grid0.Coords) (k0_t1 : Fin k0_t1_loop.trips) (v15663 : BitVec 32) (v15666 : BitVec 32) (v15753 : BitVec 32) (k0_hw313 : k0_chk313 i k0_t1 v15663 v15666 v15753), ∀ (k0_h1 : k0_cond1 i = 1#1), ∀ a, (k0_off627 k0_t1 v15663 v15666 v15753) a + S1x128.size a ≤ S8224x128.size a := fun i k0_t1 v15663 v15666 v15753 k0_hw313 k0_h1 => k0_hw313 k0_h1

def k0_off628 (v15663 : BitVec 32) : Fin 1 → Nat :=
  let c6_i32_6135 : BitVec 32 := 6#32
  let v15764 : BitVec 32 := Scalar.addi v15663 c6_i32_6135
  let v15767 : Index := Scalar.indexCast v15764
  ![v15767.toNat]
def k0_off629 (k0_t1 : Fin k0_t1_loop.trips) (v15663 : BitVec 32) (v15666 : BitVec 32) (v15768 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_6136 : BitVec 32 := 6#32
  let v15765 : BitVec 32 := Scalar.addi v15663 c6_i32_6136
  let v15766 : BitVec 1 := Scalar.cmpi .slt v15765 v15666
  let c65535_i32_6137 : BitVec 32 := 65535#32
  let v15769 : BitVec 32 := Scalar.andi v15768 c65535_i32_6137
  let c2048_i32_6138 : BitVec 32 := 2048#32
  let v15770 : BitVec 32 := Scalar.select v15766 v15769 c2048_i32_6138
  let v15771 : BitVec 32 := Scalar.addi v11087 v15770
  let v15774 : Index := Scalar.indexCast v15771
  let c0_6140 : Index := 0#32
  ![v15774.toNat, 0]

def k0_chk314 (i : grid0.Coords) (k0_t1 : Fin k0_t1_loop.trips) (v15663 : BitVec 32) (v15666 : BitVec 32) (v15768 : BitVec 32) : Prop :=
  (∀ (k0_h1 : k0_cond1 i = 1#1), ∀ a, (k0_off629 k0_t1 v15663 v15666 v15768) a + S1x128.size a ≤ S8224x128.size a)
theorem k0_off629_inb : ∀ (i : grid0.Coords) (k0_t1 : Fin k0_t1_loop.trips) (v15663 : BitVec 32) (v15666 : BitVec 32) (v15768 : BitVec 32) (k0_hw314 : k0_chk314 i k0_t1 v15663 v15666 v15768), ∀ (k0_h1 : k0_cond1 i = 1#1), ∀ a, (k0_off629 k0_t1 v15663 v15666 v15768) a + S1x128.size a ≤ S8224x128.size a := fun i k0_t1 v15663 v15666 v15768 k0_hw314 k0_h1 => k0_hw314 k0_h1

def k0_off630 (v15663 : BitVec 32) : Fin 1 → Nat :=
  let c7_i32_6141 : BitVec 32 := 7#32
  let v15779 : BitVec 32 := Scalar.addi v15663 c7_i32_6141
  let v15782 : Index := Scalar.indexCast v15779
  ![v15782.toNat]
def k0_off631 (k0_t1 : Fin k0_t1_loop.trips) (v15663 : BitVec 32) (v15666 : BitVec 32) (v15783 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_6142 : BitVec 32 := 7#32
  let v15780 : BitVec 32 := Scalar.addi v15663 c7_i32_6142
  let v15781 : BitVec 1 := Scalar.cmpi .slt v15780 v15666
  let c65535_i32_6143 : BitVec 32 := 65535#32
  let v15784 : BitVec 32 := Scalar.andi v15783 c65535_i32_6143
  let c2048_i32_6144 : BitVec 32 := 2048#32
  let v15785 : BitVec 32 := Scalar.select v15781 v15784 c2048_i32_6144
  let v15786 : BitVec 32 := Scalar.addi v11087 v15785
  let v15789 : Index := Scalar.indexCast v15786
  let c0_6146 : Index := 0#32
  ![v15789.toNat, 0]

def k0_chk315 (i : grid0.Coords) (k0_t1 : Fin k0_t1_loop.trips) (v15663 : BitVec 32) (v15666 : BitVec 32) (v15783 : BitVec 32) : Prop :=
  (∀ (k0_h1 : k0_cond1 i = 1#1), ∀ a, (k0_off631 k0_t1 v15663 v15666 v15783) a + S1x128.size a ≤ S8224x128.size a)
theorem k0_off631_inb : ∀ (i : grid0.Coords) (k0_t1 : Fin k0_t1_loop.trips) (v15663 : BitVec 32) (v15666 : BitVec 32) (v15783 : BitVec 32) (k0_hw315 : k0_chk315 i k0_t1 v15663 v15666 v15783), ∀ (k0_h1 : k0_cond1 i = 1#1), ∀ a, (k0_off631 k0_t1 v15663 v15666 v15783) a + S1x128.size a ≤ S8224x128.size a := fun i k0_t1 v15663 v15666 v15783 k0_hw315 k0_h1 => k0_hw315 k0_h1

def k0_off632 (v15663 : BitVec 32) : Fin 1 → Nat :=
  let c8_i32_6147 : BitVec 32 := 8#32
  let v15794 : BitVec 32 := Scalar.addi v15663 c8_i32_6147
  let v15797 : Index := Scalar.indexCast v15794
  ![v15797.toNat]
def k0_off633 (k0_t1 : Fin k0_t1_loop.trips) (v15663 : BitVec 32) (v15666 : BitVec 32) (v15798 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_6148 : BitVec 32 := 8#32
  let v15795 : BitVec 32 := Scalar.addi v15663 c8_i32_6148
  let v15796 : BitVec 1 := Scalar.cmpi .slt v15795 v15666
  let c65535_i32_6149 : BitVec 32 := 65535#32
  let v15799 : BitVec 32 := Scalar.andi v15798 c65535_i32_6149
  let c2048_i32_6150 : BitVec 32 := 2048#32
  let v15800 : BitVec 32 := Scalar.select v15796 v15799 c2048_i32_6150
  let v15801 : BitVec 32 := Scalar.addi v11087 v15800
  let v15804 : Index := Scalar.indexCast v15801
  let c0_6152 : Index := 0#32
  ![v15804.toNat, 0]

def k0_chk316 (i : grid0.Coords) (k0_t1 : Fin k0_t1_loop.trips) (v15663 : BitVec 32) (v15666 : BitVec 32) (v15798 : BitVec 32) : Prop :=
  (∀ (k0_h1 : k0_cond1 i = 1#1), ∀ a, (k0_off633 k0_t1 v15663 v15666 v15798) a + S1x128.size a ≤ S8224x128.size a)
theorem k0_off633_inb : ∀ (i : grid0.Coords) (k0_t1 : Fin k0_t1_loop.trips) (v15663 : BitVec 32) (v15666 : BitVec 32) (v15798 : BitVec 32) (k0_hw316 : k0_chk316 i k0_t1 v15663 v15666 v15798), ∀ (k0_h1 : k0_cond1 i = 1#1), ∀ a, (k0_off633 k0_t1 v15663 v15666 v15798) a + S1x128.size a ≤ S8224x128.size a := fun i k0_t1 v15663 v15666 v15798 k0_hw316 k0_h1 => k0_hw316 k0_h1

def k0_off634 (v15663 : BitVec 32) : Fin 1 → Nat :=
  let c9_i32_6153 : BitVec 32 := 9#32
  let v15809 : BitVec 32 := Scalar.addi v15663 c9_i32_6153
  let v15812 : Index := Scalar.indexCast v15809
  ![v15812.toNat]
def k0_off635 (k0_t1 : Fin k0_t1_loop.trips) (v15663 : BitVec 32) (v15666 : BitVec 32) (v15813 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_6154 : BitVec 32 := 9#32
  let v15810 : BitVec 32 := Scalar.addi v15663 c9_i32_6154
  let v15811 : BitVec 1 := Scalar.cmpi .slt v15810 v15666
  let c65535_i32_6155 : BitVec 32 := 65535#32
  let v15814 : BitVec 32 := Scalar.andi v15813 c65535_i32_6155
  let c2048_i32_6156 : BitVec 32 := 2048#32
  let v15815 : BitVec 32 := Scalar.select v15811 v15814 c2048_i32_6156
  let v15816 : BitVec 32 := Scalar.addi v11087 v15815
  let v15819 : Index := Scalar.indexCast v15816
  let c0_6158 : Index := 0#32
  ![v15819.toNat, 0]

def k0_chk317 (i : grid0.Coords) (k0_t1 : Fin k0_t1_loop.trips) (v15663 : BitVec 32) (v15666 : BitVec 32) (v15813 : BitVec 32) : Prop :=
  (∀ (k0_h1 : k0_cond1 i = 1#1), ∀ a, (k0_off635 k0_t1 v15663 v15666 v15813) a + S1x128.size a ≤ S8224x128.size a)
theorem k0_off635_inb : ∀ (i : grid0.Coords) (k0_t1 : Fin k0_t1_loop.trips) (v15663 : BitVec 32) (v15666 : BitVec 32) (v15813 : BitVec 32) (k0_hw317 : k0_chk317 i k0_t1 v15663 v15666 v15813), ∀ (k0_h1 : k0_cond1 i = 1#1), ∀ a, (k0_off635 k0_t1 v15663 v15666 v15813) a + S1x128.size a ≤ S8224x128.size a := fun i k0_t1 v15663 v15666 v15813 k0_hw317 k0_h1 => k0_hw317 k0_h1

def k0_off636 (v15663 : BitVec 32) : Fin 1 → Nat :=
  let c10_i32_6159 : BitVec 32 := 10#32
  let v15824 : BitVec 32 := Scalar.addi v15663 c10_i32_6159
  let v15827 : Index := Scalar.indexCast v15824
  ![v15827.toNat]
def k0_off637 (k0_t1 : Fin k0_t1_loop.trips) (v15663 : BitVec 32) (v15666 : BitVec 32) (v15828 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_6160 : BitVec 32 := 10#32
  let v15825 : BitVec 32 := Scalar.addi v15663 c10_i32_6160
  let v15826 : BitVec 1 := Scalar.cmpi .slt v15825 v15666
  let c65535_i32_6161 : BitVec 32 := 65535#32
  let v15829 : BitVec 32 := Scalar.andi v15828 c65535_i32_6161
  let c2048_i32_6162 : BitVec 32 := 2048#32
  let v15830 : BitVec 32 := Scalar.select v15826 v15829 c2048_i32_6162
  let v15831 : BitVec 32 := Scalar.addi v11087 v15830
  let v15834 : Index := Scalar.indexCast v15831
  let c0_6164 : Index := 0#32
  ![v15834.toNat, 0]

def k0_chk318 (i : grid0.Coords) (k0_t1 : Fin k0_t1_loop.trips) (v15663 : BitVec 32) (v15666 : BitVec 32) (v15828 : BitVec 32) : Prop :=
  (∀ (k0_h1 : k0_cond1 i = 1#1), ∀ a, (k0_off637 k0_t1 v15663 v15666 v15828) a + S1x128.size a ≤ S8224x128.size a)
theorem k0_off637_inb : ∀ (i : grid0.Coords) (k0_t1 : Fin k0_t1_loop.trips) (v15663 : BitVec 32) (v15666 : BitVec 32) (v15828 : BitVec 32) (k0_hw318 : k0_chk318 i k0_t1 v15663 v15666 v15828), ∀ (k0_h1 : k0_cond1 i = 1#1), ∀ a, (k0_off637 k0_t1 v15663 v15666 v15828) a + S1x128.size a ≤ S8224x128.size a := fun i k0_t1 v15663 v15666 v15828 k0_hw318 k0_h1 => k0_hw318 k0_h1

def k0_off638 (v15663 : BitVec 32) : Fin 1 → Nat :=
  let c11_i32_6165 : BitVec 32 := 11#32
  let v15839 : BitVec 32 := Scalar.addi v15663 c11_i32_6165
  let v15842 : Index := Scalar.indexCast v15839
  ![v15842.toNat]
def k0_off639 (k0_t1 : Fin k0_t1_loop.trips) (v15663 : BitVec 32) (v15666 : BitVec 32) (v15843 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_6166 : BitVec 32 := 11#32
  let v15840 : BitVec 32 := Scalar.addi v15663 c11_i32_6166
  let v15841 : BitVec 1 := Scalar.cmpi .slt v15840 v15666
  let c65535_i32_6167 : BitVec 32 := 65535#32
  let v15844 : BitVec 32 := Scalar.andi v15843 c65535_i32_6167
  let c2048_i32_6168 : BitVec 32 := 2048#32
  let v15845 : BitVec 32 := Scalar.select v15841 v15844 c2048_i32_6168
  let v15846 : BitVec 32 := Scalar.addi v11087 v15845
  let v15849 : Index := Scalar.indexCast v15846
  let c0_6170 : Index := 0#32
  ![v15849.toNat, 0]

def k0_chk319 (i : grid0.Coords) (k0_t1 : Fin k0_t1_loop.trips) (v15663 : BitVec 32) (v15666 : BitVec 32) (v15843 : BitVec 32) : Prop :=
  (∀ (k0_h1 : k0_cond1 i = 1#1), ∀ a, (k0_off639 k0_t1 v15663 v15666 v15843) a + S1x128.size a ≤ S8224x128.size a)
theorem k0_off639_inb : ∀ (i : grid0.Coords) (k0_t1 : Fin k0_t1_loop.trips) (v15663 : BitVec 32) (v15666 : BitVec 32) (v15843 : BitVec 32) (k0_hw319 : k0_chk319 i k0_t1 v15663 v15666 v15843), ∀ (k0_h1 : k0_cond1 i = 1#1), ∀ a, (k0_off639 k0_t1 v15663 v15666 v15843) a + S1x128.size a ≤ S8224x128.size a := fun i k0_t1 v15663 v15666 v15843 k0_hw319 k0_h1 => k0_hw319 k0_h1

def k0_off640 (v15663 : BitVec 32) : Fin 1 → Nat :=
  let c12_i32_6171 : BitVec 32 := 12#32
  let v15854 : BitVec 32 := Scalar.addi v15663 c12_i32_6171
  let v15857 : Index := Scalar.indexCast v15854
  ![v15857.toNat]
def k0_off641 (k0_t1 : Fin k0_t1_loop.trips) (v15663 : BitVec 32) (v15666 : BitVec 32) (v15858 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_6172 : BitVec 32 := 12#32
  let v15855 : BitVec 32 := Scalar.addi v15663 c12_i32_6172
  let v15856 : BitVec 1 := Scalar.cmpi .slt v15855 v15666
  let c65535_i32_6173 : BitVec 32 := 65535#32
  let v15859 : BitVec 32 := Scalar.andi v15858 c65535_i32_6173
  let c2048_i32_6174 : BitVec 32 := 2048#32
  let v15860 : BitVec 32 := Scalar.select v15856 v15859 c2048_i32_6174
  let v15861 : BitVec 32 := Scalar.addi v11087 v15860
  let v15864 : Index := Scalar.indexCast v15861
  let c0_6176 : Index := 0#32
  ![v15864.toNat, 0]

def k0_chk320 (i : grid0.Coords) (k0_t1 : Fin k0_t1_loop.trips) (v15663 : BitVec 32) (v15666 : BitVec 32) (v15858 : BitVec 32) : Prop :=
  (∀ (k0_h1 : k0_cond1 i = 1#1), ∀ a, (k0_off641 k0_t1 v15663 v15666 v15858) a + S1x128.size a ≤ S8224x128.size a)
theorem k0_off641_inb : ∀ (i : grid0.Coords) (k0_t1 : Fin k0_t1_loop.trips) (v15663 : BitVec 32) (v15666 : BitVec 32) (v15858 : BitVec 32) (k0_hw320 : k0_chk320 i k0_t1 v15663 v15666 v15858), ∀ (k0_h1 : k0_cond1 i = 1#1), ∀ a, (k0_off641 k0_t1 v15663 v15666 v15858) a + S1x128.size a ≤ S8224x128.size a := fun i k0_t1 v15663 v15666 v15858 k0_hw320 k0_h1 => k0_hw320 k0_h1

def k0_off642 (v15663 : BitVec 32) : Fin 1 → Nat :=
  let c13_i32_6177 : BitVec 32 := 13#32
  let v15869 : BitVec 32 := Scalar.addi v15663 c13_i32_6177
  let v15872 : Index := Scalar.indexCast v15869
  ![v15872.toNat]
def k0_off643 (k0_t1 : Fin k0_t1_loop.trips) (v15663 : BitVec 32) (v15666 : BitVec 32) (v15873 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_6178 : BitVec 32 := 13#32
  let v15870 : BitVec 32 := Scalar.addi v15663 c13_i32_6178
  let v15871 : BitVec 1 := Scalar.cmpi .slt v15870 v15666
  let c65535_i32_6179 : BitVec 32 := 65535#32
  let v15874 : BitVec 32 := Scalar.andi v15873 c65535_i32_6179
  let c2048_i32_6180 : BitVec 32 := 2048#32
  let v15875 : BitVec 32 := Scalar.select v15871 v15874 c2048_i32_6180
  let v15876 : BitVec 32 := Scalar.addi v11087 v15875
  let v15879 : Index := Scalar.indexCast v15876
  let c0_6182 : Index := 0#32
  ![v15879.toNat, 0]

def k0_chk321 (i : grid0.Coords) (k0_t1 : Fin k0_t1_loop.trips) (v15663 : BitVec 32) (v15666 : BitVec 32) (v15873 : BitVec 32) : Prop :=
  (∀ (k0_h1 : k0_cond1 i = 1#1), ∀ a, (k0_off643 k0_t1 v15663 v15666 v15873) a + S1x128.size a ≤ S8224x128.size a)
theorem k0_off643_inb : ∀ (i : grid0.Coords) (k0_t1 : Fin k0_t1_loop.trips) (v15663 : BitVec 32) (v15666 : BitVec 32) (v15873 : BitVec 32) (k0_hw321 : k0_chk321 i k0_t1 v15663 v15666 v15873), ∀ (k0_h1 : k0_cond1 i = 1#1), ∀ a, (k0_off643 k0_t1 v15663 v15666 v15873) a + S1x128.size a ≤ S8224x128.size a := fun i k0_t1 v15663 v15666 v15873 k0_hw321 k0_h1 => k0_hw321 k0_h1

def k0_off644 (v15663 : BitVec 32) : Fin 1 → Nat :=
  let c14_i32_6183 : BitVec 32 := 14#32
  let v15884 : BitVec 32 := Scalar.addi v15663 c14_i32_6183
  let v15887 : Index := Scalar.indexCast v15884
  ![v15887.toNat]
def k0_off645 (k0_t1 : Fin k0_t1_loop.trips) (v15663 : BitVec 32) (v15666 : BitVec 32) (v15888 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_6184 : BitVec 32 := 14#32
  let v15885 : BitVec 32 := Scalar.addi v15663 c14_i32_6184
  let v15886 : BitVec 1 := Scalar.cmpi .slt v15885 v15666
  let c65535_i32_6185 : BitVec 32 := 65535#32
  let v15889 : BitVec 32 := Scalar.andi v15888 c65535_i32_6185
  let c2048_i32_6186 : BitVec 32 := 2048#32
  let v15890 : BitVec 32 := Scalar.select v15886 v15889 c2048_i32_6186
  let v15891 : BitVec 32 := Scalar.addi v11087 v15890
  let v15894 : Index := Scalar.indexCast v15891
  let c0_6188 : Index := 0#32
  ![v15894.toNat, 0]

def k0_chk322 (i : grid0.Coords) (k0_t1 : Fin k0_t1_loop.trips) (v15663 : BitVec 32) (v15666 : BitVec 32) (v15888 : BitVec 32) : Prop :=
  (∀ (k0_h1 : k0_cond1 i = 1#1), ∀ a, (k0_off645 k0_t1 v15663 v15666 v15888) a + S1x128.size a ≤ S8224x128.size a)
theorem k0_off645_inb : ∀ (i : grid0.Coords) (k0_t1 : Fin k0_t1_loop.trips) (v15663 : BitVec 32) (v15666 : BitVec 32) (v15888 : BitVec 32) (k0_hw322 : k0_chk322 i k0_t1 v15663 v15666 v15888), ∀ (k0_h1 : k0_cond1 i = 1#1), ∀ a, (k0_off645 k0_t1 v15663 v15666 v15888) a + S1x128.size a ≤ S8224x128.size a := fun i k0_t1 v15663 v15666 v15888 k0_hw322 k0_h1 => k0_hw322 k0_h1

def k0_off646 (v15663 : BitVec 32) : Fin 1 → Nat :=
  let c15_i32_6189 : BitVec 32 := 15#32
  let v15899 : BitVec 32 := Scalar.addi v15663 c15_i32_6189
  let v15902 : Index := Scalar.indexCast v15899
  ![v15902.toNat]

def k0_chk307 (i : grid0.Coords) (v15663 : BitVec 32) : Prop :=
  (∀ (k0_h1 : k0_cond1 i = 1#1), ∀ a, (k0_off616 v15663) a + S1.size a ≤ S51920.size a) ∧
  (∀ (k0_h1 : k0_cond1 i = 1#1), ∀ a, (k0_off618 v15663) a + S1.size a ≤ S51920.size a) ∧
  (∀ (k0_h1 : k0_cond1 i = 1#1), ∀ a, (k0_off620 v15663) a + S1.size a ≤ S51920.size a) ∧
  (∀ (k0_h1 : k0_cond1 i = 1#1), ∀ a, (k0_off622 v15663) a + S1.size a ≤ S51920.size a) ∧
  (∀ (k0_h1 : k0_cond1 i = 1#1), ∀ a, (k0_off624 v15663) a + S1.size a ≤ S51920.size a) ∧
  (∀ (k0_h1 : k0_cond1 i = 1#1), ∀ a, (k0_off626 v15663) a + S1.size a ≤ S51920.size a) ∧
  (∀ (k0_h1 : k0_cond1 i = 1#1), ∀ a, (k0_off628 v15663) a + S1.size a ≤ S51920.size a) ∧
  (∀ (k0_h1 : k0_cond1 i = 1#1), ∀ a, (k0_off630 v15663) a + S1.size a ≤ S51920.size a) ∧
  (∀ (k0_h1 : k0_cond1 i = 1#1), ∀ a, (k0_off632 v15663) a + S1.size a ≤ S51920.size a) ∧
  (∀ (k0_h1 : k0_cond1 i = 1#1), ∀ a, (k0_off634 v15663) a + S1.size a ≤ S51920.size a) ∧
  (∀ (k0_h1 : k0_cond1 i = 1#1), ∀ a, (k0_off636 v15663) a + S1.size a ≤ S51920.size a) ∧
  (∀ (k0_h1 : k0_cond1 i = 1#1), ∀ a, (k0_off638 v15663) a + S1.size a ≤ S51920.size a) ∧
  (∀ (k0_h1 : k0_cond1 i = 1#1), ∀ a, (k0_off640 v15663) a + S1.size a ≤ S51920.size a) ∧
  (∀ (k0_h1 : k0_cond1 i = 1#1), ∀ a, (k0_off642 v15663) a + S1.size a ≤ S51920.size a) ∧
  (∀ (k0_h1 : k0_cond1 i = 1#1), ∀ a, (k0_off644 v15663) a + S1.size a ≤ S51920.size a) ∧
  (∀ (k0_h1 : k0_cond1 i = 1#1), ∀ a, (k0_off646 v15663) a + S1.size a ≤ S51920.size a)
theorem k0_off616_inb : ∀ (i : grid0.Coords) (v15663 : BitVec 32) (k0_hw307 : k0_chk307 i v15663), ∀ (k0_h1 : k0_cond1 i = 1#1), ∀ a, (k0_off616 v15663) a + S1.size a ≤ S51920.size a := fun i v15663 k0_hw307 k0_h1 => k0_hw307.1 k0_h1
theorem k0_off618_inb : ∀ (i : grid0.Coords) (v15663 : BitVec 32) (k0_hw307 : k0_chk307 i v15663), ∀ (k0_h1 : k0_cond1 i = 1#1), ∀ a, (k0_off618 v15663) a + S1.size a ≤ S51920.size a := fun i v15663 k0_hw307 k0_h1 => k0_hw307.2.1 k0_h1
theorem k0_off620_inb : ∀ (i : grid0.Coords) (v15663 : BitVec 32) (k0_hw307 : k0_chk307 i v15663), ∀ (k0_h1 : k0_cond1 i = 1#1), ∀ a, (k0_off620 v15663) a + S1.size a ≤ S51920.size a := fun i v15663 k0_hw307 k0_h1 => k0_hw307.2.2.1 k0_h1
theorem k0_off622_inb : ∀ (i : grid0.Coords) (v15663 : BitVec 32) (k0_hw307 : k0_chk307 i v15663), ∀ (k0_h1 : k0_cond1 i = 1#1), ∀ a, (k0_off622 v15663) a + S1.size a ≤ S51920.size a := fun i v15663 k0_hw307 k0_h1 => k0_hw307.2.2.2.1 k0_h1
theorem k0_off624_inb : ∀ (i : grid0.Coords) (v15663 : BitVec 32) (k0_hw307 : k0_chk307 i v15663), ∀ (k0_h1 : k0_cond1 i = 1#1), ∀ a, (k0_off624 v15663) a + S1.size a ≤ S51920.size a := fun i v15663 k0_hw307 k0_h1 => k0_hw307.2.2.2.2.1 k0_h1
theorem k0_off626_inb : ∀ (i : grid0.Coords) (v15663 : BitVec 32) (k0_hw307 : k0_chk307 i v15663), ∀ (k0_h1 : k0_cond1 i = 1#1), ∀ a, (k0_off626 v15663) a + S1.size a ≤ S51920.size a := fun i v15663 k0_hw307 k0_h1 => k0_hw307.2.2.2.2.2.1 k0_h1
theorem k0_off628_inb : ∀ (i : grid0.Coords) (v15663 : BitVec 32) (k0_hw307 : k0_chk307 i v15663), ∀ (k0_h1 : k0_cond1 i = 1#1), ∀ a, (k0_off628 v15663) a + S1.size a ≤ S51920.size a := fun i v15663 k0_hw307 k0_h1 => k0_hw307.2.2.2.2.2.2.1 k0_h1
theorem k0_off630_inb : ∀ (i : grid0.Coords) (v15663 : BitVec 32) (k0_hw307 : k0_chk307 i v15663), ∀ (k0_h1 : k0_cond1 i = 1#1), ∀ a, (k0_off630 v15663) a + S1.size a ≤ S51920.size a := fun i v15663 k0_hw307 k0_h1 => k0_hw307.2.2.2.2.2.2.2.1 k0_h1
theorem k0_off632_inb : ∀ (i : grid0.Coords) (v15663 : BitVec 32) (k0_hw307 : k0_chk307 i v15663), ∀ (k0_h1 : k0_cond1 i = 1#1), ∀ a, (k0_off632 v15663) a + S1.size a ≤ S51920.size a := fun i v15663 k0_hw307 k0_h1 => k0_hw307.2.2.2.2.2.2.2.2.1 k0_h1
theorem k0_off634_inb : ∀ (i : grid0.Coords) (v15663 : BitVec 32) (k0_hw307 : k0_chk307 i v15663), ∀ (k0_h1 : k0_cond1 i = 1#1), ∀ a, (k0_off634 v15663) a + S1.size a ≤ S51920.size a := fun i v15663 k0_hw307 k0_h1 => k0_hw307.2.2.2.2.2.2.2.2.2.1 k0_h1
theorem k0_off636_inb : ∀ (i : grid0.Coords) (v15663 : BitVec 32) (k0_hw307 : k0_chk307 i v15663), ∀ (k0_h1 : k0_cond1 i = 1#1), ∀ a, (k0_off636 v15663) a + S1.size a ≤ S51920.size a := fun i v15663 k0_hw307 k0_h1 => k0_hw307.2.2.2.2.2.2.2.2.2.2.1 k0_h1
theorem k0_off638_inb : ∀ (i : grid0.Coords) (v15663 : BitVec 32) (k0_hw307 : k0_chk307 i v15663), ∀ (k0_h1 : k0_cond1 i = 1#1), ∀ a, (k0_off638 v15663) a + S1.size a ≤ S51920.size a := fun i v15663 k0_hw307 k0_h1 => k0_hw307.2.2.2.2.2.2.2.2.2.2.2.1 k0_h1
theorem k0_off640_inb : ∀ (i : grid0.Coords) (v15663 : BitVec 32) (k0_hw307 : k0_chk307 i v15663), ∀ (k0_h1 : k0_cond1 i = 1#1), ∀ a, (k0_off640 v15663) a + S1.size a ≤ S51920.size a := fun i v15663 k0_hw307 k0_h1 => k0_hw307.2.2.2.2.2.2.2.2.2.2.2.2.1 k0_h1
theorem k0_off642_inb : ∀ (i : grid0.Coords) (v15663 : BitVec 32) (k0_hw307 : k0_chk307 i v15663), ∀ (k0_h1 : k0_cond1 i = 1#1), ∀ a, (k0_off642 v15663) a + S1.size a ≤ S51920.size a := fun i v15663 k0_hw307 k0_h1 => k0_hw307.2.2.2.2.2.2.2.2.2.2.2.2.2.1 k0_h1
theorem k0_off644_inb : ∀ (i : grid0.Coords) (v15663 : BitVec 32) (k0_hw307 : k0_chk307 i v15663), ∀ (k0_h1 : k0_cond1 i = 1#1), ∀ a, (k0_off644 v15663) a + S1.size a ≤ S51920.size a := fun i v15663 k0_hw307 k0_h1 => k0_hw307.2.2.2.2.2.2.2.2.2.2.2.2.2.2.1 k0_h1
theorem k0_off646_inb : ∀ (i : grid0.Coords) (v15663 : BitVec 32) (k0_hw307 : k0_chk307 i v15663), ∀ (k0_h1 : k0_cond1 i = 1#1), ∀ a, (k0_off646 v15663) a + S1.size a ≤ S51920.size a := fun i v15663 k0_hw307 k0_h1 => k0_hw307.2.2.2.2.2.2.2.2.2.2.2.2.2.2.2 k0_h1

def k0_off647 (k0_t1 : Fin k0_t1_loop.trips) (v15663 : BitVec 32) (v15666 : BitVec 32) (v15903 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_6190 : BitVec 32 := 15#32
  let v15900 : BitVec 32 := Scalar.addi v15663 c15_i32_6190
  let v15901 : BitVec 1 := Scalar.cmpi .slt v15900 v15666
  let c65535_i32_6191 : BitVec 32 := 65535#32
  let v15904 : BitVec 32 := Scalar.andi v15903 c65535_i32_6191
  let c2048_i32_6192 : BitVec 32 := 2048#32
  let v15905 : BitVec 32 := Scalar.select v15901 v15904 c2048_i32_6192
  let v15906 : BitVec 32 := Scalar.addi v11087 v15905
  let v15909 : Index := Scalar.indexCast v15906
  let c0_6194 : Index := 0#32
  ![v15909.toNat, 0]

def k0_chk323 (i : grid0.Coords) (k0_t1 : Fin k0_t1_loop.trips) (v15663 : BitVec 32) (v15666 : BitVec 32) (v15903 : BitVec 32) : Prop :=
  (∀ (k0_h1 : k0_cond1 i = 1#1), ∀ a, (k0_off647 k0_t1 v15663 v15666 v15903) a + S1x128.size a ≤ S8224x128.size a)
theorem k0_off647_inb : ∀ (i : grid0.Coords) (k0_t1 : Fin k0_t1_loop.trips) (v15663 : BitVec 32) (v15666 : BitVec 32) (v15903 : BitVec 32) (k0_hw323 : k0_chk323 i k0_t1 v15663 v15666 v15903), ∀ (k0_h1 : k0_cond1 i = 1#1), ∀ a, (k0_off647 k0_t1 v15663 v15666 v15903) a + S1x128.size a ≤ S8224x128.size a := fun i k0_t1 v15663 v15666 v15903 k0_hw323 k0_h1 => k0_hw323 k0_h1

def k0_off648 (k0_t1 : Fin k0_t1_loop.trips) : Fin 1 → Nat :=
  let c0_i32_6195 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v15914 : BitVec 32 := Scalar.addi c0_i32_6195 v11069
  let c19_i32_6196 : BitVec 32 := 19#32
  let v15915 : BitVec 32 := Scalar.addi v15914 c19_i32_6196
  let v15916 : Index := Scalar.indexCast v15915
  ![v15916.toNat]
def k0_off649 (k0_t1 : Fin k0_t1_loop.trips) : Fin 1 → Nat :=
  let c0_i32_6195 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v15914 : BitVec 32 := Scalar.addi c0_i32_6195 v11069
  let c19_i32_6196 : BitVec 32 := 19#32
  let v15915 : BitVec 32 := Scalar.addi v15914 c19_i32_6196
  let c1_i32_6197 : BitVec 32 := 1#32
  let v15918 : BitVec 32 := Scalar.addi v15915 c1_i32_6197
  let v15919 : Index := Scalar.indexCast v15918
  ![v15919.toNat]
def k0_off650 (v15917 : BitVec 32) : Fin 1 → Nat :=
  let c0_i32_6200 : BitVec 32 := 0#32
  let v15928 : BitVec 32 := Scalar.addi v15917 c0_i32_6200
  let v15931 : Index := Scalar.indexCast v15928
  ![v15931.toNat]

def k0_off651 (k0_t1 : Fin k0_t1_loop.trips) (v15917 : BitVec 32) (v15920 : BitVec 32) (v15932 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_6201 : BitVec 32 := 0#32
  let v15929 : BitVec 32 := Scalar.addi v15917 c0_i32_6201
  let v15930 : BitVec 1 := Scalar.cmpi .slt v15929 v15920
  let c65535_i32_6202 : BitVec 32 := 65535#32
  let v15933 : BitVec 32 := Scalar.andi v15932 c65535_i32_6202
  let c2048_i32_6203 : BitVec 32 := 2048#32
  let v15934 : BitVec 32 := Scalar.select v15930 v15933 c2048_i32_6203
  let v15935 : BitVec 32 := Scalar.addi v11087 v15934
  let v15938 : Index := Scalar.indexCast v15935
  let c0_6205 : Index := 0#32
  ![v15938.toNat, 0]

def k0_chk325 (i : grid0.Coords) (k0_t1 : Fin k0_t1_loop.trips) (v15917 : BitVec 32) (v15920 : BitVec 32) (v15932 : BitVec 32) : Prop :=
  (∀ (k0_h1 : k0_cond1 i = 1#1), ∀ a, (k0_off651 k0_t1 v15917 v15920 v15932) a + S1x128.size a ≤ S8224x128.size a)
theorem k0_off651_inb : ∀ (i : grid0.Coords) (k0_t1 : Fin k0_t1_loop.trips) (v15917 : BitVec 32) (v15920 : BitVec 32) (v15932 : BitVec 32) (k0_hw325 : k0_chk325 i k0_t1 v15917 v15920 v15932), ∀ (k0_h1 : k0_cond1 i = 1#1), ∀ a, (k0_off651 k0_t1 v15917 v15920 v15932) a + S1x128.size a ≤ S8224x128.size a := fun i k0_t1 v15917 v15920 v15932 k0_hw325 k0_h1 => k0_hw325 k0_h1

def k0_off652 (v15917 : BitVec 32) : Fin 1 → Nat :=
  let c1_i32_6206 : BitVec 32 := 1#32
  let v15943 : BitVec 32 := Scalar.addi v15917 c1_i32_6206
  let v15946 : Index := Scalar.indexCast v15943
  ![v15946.toNat]
def k0_off653 (k0_t1 : Fin k0_t1_loop.trips) (v15917 : BitVec 32) (v15920 : BitVec 32) (v15947 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_6207 : BitVec 32 := 1#32
  let v15944 : BitVec 32 := Scalar.addi v15917 c1_i32_6207
  let v15945 : BitVec 1 := Scalar.cmpi .slt v15944 v15920
  let c65535_i32_6208 : BitVec 32 := 65535#32
  let v15948 : BitVec 32 := Scalar.andi v15947 c65535_i32_6208
  let c2048_i32_6209 : BitVec 32 := 2048#32
  let v15949 : BitVec 32 := Scalar.select v15945 v15948 c2048_i32_6209
  let v15950 : BitVec 32 := Scalar.addi v11087 v15949
  let v15953 : Index := Scalar.indexCast v15950
  let c0_6211 : Index := 0#32
  ![v15953.toNat, 0]

def k0_chk326 (i : grid0.Coords) (k0_t1 : Fin k0_t1_loop.trips) (v15917 : BitVec 32) (v15920 : BitVec 32) (v15947 : BitVec 32) : Prop :=
  (∀ (k0_h1 : k0_cond1 i = 1#1), ∀ a, (k0_off653 k0_t1 v15917 v15920 v15947) a + S1x128.size a ≤ S8224x128.size a)
theorem k0_off653_inb : ∀ (i : grid0.Coords) (k0_t1 : Fin k0_t1_loop.trips) (v15917 : BitVec 32) (v15920 : BitVec 32) (v15947 : BitVec 32) (k0_hw326 : k0_chk326 i k0_t1 v15917 v15920 v15947), ∀ (k0_h1 : k0_cond1 i = 1#1), ∀ a, (k0_off653 k0_t1 v15917 v15920 v15947) a + S1x128.size a ≤ S8224x128.size a := fun i k0_t1 v15917 v15920 v15947 k0_hw326 k0_h1 => k0_hw326 k0_h1

def k0_off654 (v15917 : BitVec 32) : Fin 1 → Nat :=
  let c2_i32_6212 : BitVec 32 := 2#32
  let v15958 : BitVec 32 := Scalar.addi v15917 c2_i32_6212
  let v15961 : Index := Scalar.indexCast v15958
  ![v15961.toNat]
def k0_off655 (k0_t1 : Fin k0_t1_loop.trips) (v15917 : BitVec 32) (v15920 : BitVec 32) (v15962 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_6213 : BitVec 32 := 2#32
  let v15959 : BitVec 32 := Scalar.addi v15917 c2_i32_6213
  let v15960 : BitVec 1 := Scalar.cmpi .slt v15959 v15920
  let c65535_i32_6214 : BitVec 32 := 65535#32
  let v15963 : BitVec 32 := Scalar.andi v15962 c65535_i32_6214
  let c2048_i32_6215 : BitVec 32 := 2048#32
  let v15964 : BitVec 32 := Scalar.select v15960 v15963 c2048_i32_6215
  let v15965 : BitVec 32 := Scalar.addi v11087 v15964
  let v15968 : Index := Scalar.indexCast v15965
  let c0_6217 : Index := 0#32
  ![v15968.toNat, 0]

def k0_chk327 (i : grid0.Coords) (k0_t1 : Fin k0_t1_loop.trips) (v15917 : BitVec 32) (v15920 : BitVec 32) (v15962 : BitVec 32) : Prop :=
  (∀ (k0_h1 : k0_cond1 i = 1#1), ∀ a, (k0_off655 k0_t1 v15917 v15920 v15962) a + S1x128.size a ≤ S8224x128.size a)
theorem k0_off655_inb : ∀ (i : grid0.Coords) (k0_t1 : Fin k0_t1_loop.trips) (v15917 : BitVec 32) (v15920 : BitVec 32) (v15962 : BitVec 32) (k0_hw327 : k0_chk327 i k0_t1 v15917 v15920 v15962), ∀ (k0_h1 : k0_cond1 i = 1#1), ∀ a, (k0_off655 k0_t1 v15917 v15920 v15962) a + S1x128.size a ≤ S8224x128.size a := fun i k0_t1 v15917 v15920 v15962 k0_hw327 k0_h1 => k0_hw327 k0_h1

def k0_off656 (v15917 : BitVec 32) : Fin 1 → Nat :=
  let c3_i32_6218 : BitVec 32 := 3#32
  let v15973 : BitVec 32 := Scalar.addi v15917 c3_i32_6218
  let v15976 : Index := Scalar.indexCast v15973
  ![v15976.toNat]
def k0_off657 (k0_t1 : Fin k0_t1_loop.trips) (v15917 : BitVec 32) (v15920 : BitVec 32) (v15977 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_6219 : BitVec 32 := 3#32
  let v15974 : BitVec 32 := Scalar.addi v15917 c3_i32_6219
  let v15975 : BitVec 1 := Scalar.cmpi .slt v15974 v15920
  let c65535_i32_6220 : BitVec 32 := 65535#32
  let v15978 : BitVec 32 := Scalar.andi v15977 c65535_i32_6220
  let c2048_i32_6221 : BitVec 32 := 2048#32
  let v15979 : BitVec 32 := Scalar.select v15975 v15978 c2048_i32_6221
  let v15980 : BitVec 32 := Scalar.addi v11087 v15979
  let v15983 : Index := Scalar.indexCast v15980
  let c0_6223 : Index := 0#32
  ![v15983.toNat, 0]

def k0_chk328 (i : grid0.Coords) (k0_t1 : Fin k0_t1_loop.trips) (v15917 : BitVec 32) (v15920 : BitVec 32) (v15977 : BitVec 32) : Prop :=
  (∀ (k0_h1 : k0_cond1 i = 1#1), ∀ a, (k0_off657 k0_t1 v15917 v15920 v15977) a + S1x128.size a ≤ S8224x128.size a)
theorem k0_off657_inb : ∀ (i : grid0.Coords) (k0_t1 : Fin k0_t1_loop.trips) (v15917 : BitVec 32) (v15920 : BitVec 32) (v15977 : BitVec 32) (k0_hw328 : k0_chk328 i k0_t1 v15917 v15920 v15977), ∀ (k0_h1 : k0_cond1 i = 1#1), ∀ a, (k0_off657 k0_t1 v15917 v15920 v15977) a + S1x128.size a ≤ S8224x128.size a := fun i k0_t1 v15917 v15920 v15977 k0_hw328 k0_h1 => k0_hw328 k0_h1

def k0_off658 (v15917 : BitVec 32) : Fin 1 → Nat :=
  let c4_i32_6224 : BitVec 32 := 4#32
  let v15988 : BitVec 32 := Scalar.addi v15917 c4_i32_6224
  let v15991 : Index := Scalar.indexCast v15988
  ![v15991.toNat]
def k0_off659 (k0_t1 : Fin k0_t1_loop.trips) (v15917 : BitVec 32) (v15920 : BitVec 32) (v15992 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_6225 : BitVec 32 := 4#32
  let v15989 : BitVec 32 := Scalar.addi v15917 c4_i32_6225
  let v15990 : BitVec 1 := Scalar.cmpi .slt v15989 v15920
  let c65535_i32_6226 : BitVec 32 := 65535#32
  let v15993 : BitVec 32 := Scalar.andi v15992 c65535_i32_6226
  let c2048_i32_6227 : BitVec 32 := 2048#32
  let v15994 : BitVec 32 := Scalar.select v15990 v15993 c2048_i32_6227
  let v15995 : BitVec 32 := Scalar.addi v11087 v15994
  let v15998 : Index := Scalar.indexCast v15995
  let c0_6229 : Index := 0#32
  ![v15998.toNat, 0]

def k0_chk329 (i : grid0.Coords) (k0_t1 : Fin k0_t1_loop.trips) (v15917 : BitVec 32) (v15920 : BitVec 32) (v15992 : BitVec 32) : Prop :=
  (∀ (k0_h1 : k0_cond1 i = 1#1), ∀ a, (k0_off659 k0_t1 v15917 v15920 v15992) a + S1x128.size a ≤ S8224x128.size a)
theorem k0_off659_inb : ∀ (i : grid0.Coords) (k0_t1 : Fin k0_t1_loop.trips) (v15917 : BitVec 32) (v15920 : BitVec 32) (v15992 : BitVec 32) (k0_hw329 : k0_chk329 i k0_t1 v15917 v15920 v15992), ∀ (k0_h1 : k0_cond1 i = 1#1), ∀ a, (k0_off659 k0_t1 v15917 v15920 v15992) a + S1x128.size a ≤ S8224x128.size a := fun i k0_t1 v15917 v15920 v15992 k0_hw329 k0_h1 => k0_hw329 k0_h1

def k0_off660 (v15917 : BitVec 32) : Fin 1 → Nat :=
  let c5_i32_6230 : BitVec 32 := 5#32
  let v16003 : BitVec 32 := Scalar.addi v15917 c5_i32_6230
  let v16006 : Index := Scalar.indexCast v16003
  ![v16006.toNat]
def k0_off661 (k0_t1 : Fin k0_t1_loop.trips) (v15917 : BitVec 32) (v15920 : BitVec 32) (v16007 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_6231 : BitVec 32 := 5#32
  let v16004 : BitVec 32 := Scalar.addi v15917 c5_i32_6231
  let v16005 : BitVec 1 := Scalar.cmpi .slt v16004 v15920
  let c65535_i32_6232 : BitVec 32 := 65535#32
  let v16008 : BitVec 32 := Scalar.andi v16007 c65535_i32_6232
  let c2048_i32_6233 : BitVec 32 := 2048#32
  let v16009 : BitVec 32 := Scalar.select v16005 v16008 c2048_i32_6233
  let v16010 : BitVec 32 := Scalar.addi v11087 v16009
  let v16013 : Index := Scalar.indexCast v16010
  let c0_6235 : Index := 0#32
  ![v16013.toNat, 0]

def k0_chk330 (i : grid0.Coords) (k0_t1 : Fin k0_t1_loop.trips) (v15917 : BitVec 32) (v15920 : BitVec 32) (v16007 : BitVec 32) : Prop :=
  (∀ (k0_h1 : k0_cond1 i = 1#1), ∀ a, (k0_off661 k0_t1 v15917 v15920 v16007) a + S1x128.size a ≤ S8224x128.size a)
theorem k0_off661_inb : ∀ (i : grid0.Coords) (k0_t1 : Fin k0_t1_loop.trips) (v15917 : BitVec 32) (v15920 : BitVec 32) (v16007 : BitVec 32) (k0_hw330 : k0_chk330 i k0_t1 v15917 v15920 v16007), ∀ (k0_h1 : k0_cond1 i = 1#1), ∀ a, (k0_off661 k0_t1 v15917 v15920 v16007) a + S1x128.size a ≤ S8224x128.size a := fun i k0_t1 v15917 v15920 v16007 k0_hw330 k0_h1 => k0_hw330 k0_h1

def k0_off662 (v15917 : BitVec 32) : Fin 1 → Nat :=
  let c6_i32_6236 : BitVec 32 := 6#32
  let v16018 : BitVec 32 := Scalar.addi v15917 c6_i32_6236
  let v16021 : Index := Scalar.indexCast v16018
  ![v16021.toNat]
def k0_off663 (k0_t1 : Fin k0_t1_loop.trips) (v15917 : BitVec 32) (v15920 : BitVec 32) (v16022 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_6237 : BitVec 32 := 6#32
  let v16019 : BitVec 32 := Scalar.addi v15917 c6_i32_6237
  let v16020 : BitVec 1 := Scalar.cmpi .slt v16019 v15920
  let c65535_i32_6238 : BitVec 32 := 65535#32
  let v16023 : BitVec 32 := Scalar.andi v16022 c65535_i32_6238
  let c2048_i32_6239 : BitVec 32 := 2048#32
  let v16024 : BitVec 32 := Scalar.select v16020 v16023 c2048_i32_6239
  let v16025 : BitVec 32 := Scalar.addi v11087 v16024
  let v16028 : Index := Scalar.indexCast v16025
  let c0_6241 : Index := 0#32
  ![v16028.toNat, 0]

def k0_chk331 (i : grid0.Coords) (k0_t1 : Fin k0_t1_loop.trips) (v15917 : BitVec 32) (v15920 : BitVec 32) (v16022 : BitVec 32) : Prop :=
  (∀ (k0_h1 : k0_cond1 i = 1#1), ∀ a, (k0_off663 k0_t1 v15917 v15920 v16022) a + S1x128.size a ≤ S8224x128.size a)
theorem k0_off663_inb : ∀ (i : grid0.Coords) (k0_t1 : Fin k0_t1_loop.trips) (v15917 : BitVec 32) (v15920 : BitVec 32) (v16022 : BitVec 32) (k0_hw331 : k0_chk331 i k0_t1 v15917 v15920 v16022), ∀ (k0_h1 : k0_cond1 i = 1#1), ∀ a, (k0_off663 k0_t1 v15917 v15920 v16022) a + S1x128.size a ≤ S8224x128.size a := fun i k0_t1 v15917 v15920 v16022 k0_hw331 k0_h1 => k0_hw331 k0_h1

def k0_off664 (v15917 : BitVec 32) : Fin 1 → Nat :=
  let c7_i32_6242 : BitVec 32 := 7#32
  let v16033 : BitVec 32 := Scalar.addi v15917 c7_i32_6242
  let v16036 : Index := Scalar.indexCast v16033
  ![v16036.toNat]
def k0_off665 (k0_t1 : Fin k0_t1_loop.trips) (v15917 : BitVec 32) (v15920 : BitVec 32) (v16037 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_6243 : BitVec 32 := 7#32
  let v16034 : BitVec 32 := Scalar.addi v15917 c7_i32_6243
  let v16035 : BitVec 1 := Scalar.cmpi .slt v16034 v15920
  let c65535_i32_6244 : BitVec 32 := 65535#32
  let v16038 : BitVec 32 := Scalar.andi v16037 c65535_i32_6244
  let c2048_i32_6245 : BitVec 32 := 2048#32
  let v16039 : BitVec 32 := Scalar.select v16035 v16038 c2048_i32_6245
  let v16040 : BitVec 32 := Scalar.addi v11087 v16039
  let v16043 : Index := Scalar.indexCast v16040
  let c0_6247 : Index := 0#32
  ![v16043.toNat, 0]

def k0_chk332 (i : grid0.Coords) (k0_t1 : Fin k0_t1_loop.trips) (v15917 : BitVec 32) (v15920 : BitVec 32) (v16037 : BitVec 32) : Prop :=
  (∀ (k0_h1 : k0_cond1 i = 1#1), ∀ a, (k0_off665 k0_t1 v15917 v15920 v16037) a + S1x128.size a ≤ S8224x128.size a)
theorem k0_off665_inb : ∀ (i : grid0.Coords) (k0_t1 : Fin k0_t1_loop.trips) (v15917 : BitVec 32) (v15920 : BitVec 32) (v16037 : BitVec 32) (k0_hw332 : k0_chk332 i k0_t1 v15917 v15920 v16037), ∀ (k0_h1 : k0_cond1 i = 1#1), ∀ a, (k0_off665 k0_t1 v15917 v15920 v16037) a + S1x128.size a ≤ S8224x128.size a := fun i k0_t1 v15917 v15920 v16037 k0_hw332 k0_h1 => k0_hw332 k0_h1

def k0_off666 (v15917 : BitVec 32) : Fin 1 → Nat :=
  let c8_i32_6248 : BitVec 32 := 8#32
  let v16048 : BitVec 32 := Scalar.addi v15917 c8_i32_6248
  let v16051 : Index := Scalar.indexCast v16048
  ![v16051.toNat]
def k0_off667 (k0_t1 : Fin k0_t1_loop.trips) (v15917 : BitVec 32) (v15920 : BitVec 32) (v16052 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_6249 : BitVec 32 := 8#32
  let v16049 : BitVec 32 := Scalar.addi v15917 c8_i32_6249
  let v16050 : BitVec 1 := Scalar.cmpi .slt v16049 v15920
  let c65535_i32_6250 : BitVec 32 := 65535#32
  let v16053 : BitVec 32 := Scalar.andi v16052 c65535_i32_6250
  let c2048_i32_6251 : BitVec 32 := 2048#32
  let v16054 : BitVec 32 := Scalar.select v16050 v16053 c2048_i32_6251
  let v16055 : BitVec 32 := Scalar.addi v11087 v16054
  let v16058 : Index := Scalar.indexCast v16055
  let c0_6253 : Index := 0#32
  ![v16058.toNat, 0]

def k0_chk333 (i : grid0.Coords) (k0_t1 : Fin k0_t1_loop.trips) (v15917 : BitVec 32) (v15920 : BitVec 32) (v16052 : BitVec 32) : Prop :=
  (∀ (k0_h1 : k0_cond1 i = 1#1), ∀ a, (k0_off667 k0_t1 v15917 v15920 v16052) a + S1x128.size a ≤ S8224x128.size a)
theorem k0_off667_inb : ∀ (i : grid0.Coords) (k0_t1 : Fin k0_t1_loop.trips) (v15917 : BitVec 32) (v15920 : BitVec 32) (v16052 : BitVec 32) (k0_hw333 : k0_chk333 i k0_t1 v15917 v15920 v16052), ∀ (k0_h1 : k0_cond1 i = 1#1), ∀ a, (k0_off667 k0_t1 v15917 v15920 v16052) a + S1x128.size a ≤ S8224x128.size a := fun i k0_t1 v15917 v15920 v16052 k0_hw333 k0_h1 => k0_hw333 k0_h1

def k0_off668 (v15917 : BitVec 32) : Fin 1 → Nat :=
  let c9_i32_6254 : BitVec 32 := 9#32
  let v16063 : BitVec 32 := Scalar.addi v15917 c9_i32_6254
  let v16066 : Index := Scalar.indexCast v16063
  ![v16066.toNat]
def k0_off669 (k0_t1 : Fin k0_t1_loop.trips) (v15917 : BitVec 32) (v15920 : BitVec 32) (v16067 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_6255 : BitVec 32 := 9#32
  let v16064 : BitVec 32 := Scalar.addi v15917 c9_i32_6255
  let v16065 : BitVec 1 := Scalar.cmpi .slt v16064 v15920
  let c65535_i32_6256 : BitVec 32 := 65535#32
  let v16068 : BitVec 32 := Scalar.andi v16067 c65535_i32_6256
  let c2048_i32_6257 : BitVec 32 := 2048#32
  let v16069 : BitVec 32 := Scalar.select v16065 v16068 c2048_i32_6257
  let v16070 : BitVec 32 := Scalar.addi v11087 v16069
  let v16073 : Index := Scalar.indexCast v16070
  let c0_6259 : Index := 0#32
  ![v16073.toNat, 0]

def k0_chk334 (i : grid0.Coords) (k0_t1 : Fin k0_t1_loop.trips) (v15917 : BitVec 32) (v15920 : BitVec 32) (v16067 : BitVec 32) : Prop :=
  (∀ (k0_h1 : k0_cond1 i = 1#1), ∀ a, (k0_off669 k0_t1 v15917 v15920 v16067) a + S1x128.size a ≤ S8224x128.size a)
theorem k0_off669_inb : ∀ (i : grid0.Coords) (k0_t1 : Fin k0_t1_loop.trips) (v15917 : BitVec 32) (v15920 : BitVec 32) (v16067 : BitVec 32) (k0_hw334 : k0_chk334 i k0_t1 v15917 v15920 v16067), ∀ (k0_h1 : k0_cond1 i = 1#1), ∀ a, (k0_off669 k0_t1 v15917 v15920 v16067) a + S1x128.size a ≤ S8224x128.size a := fun i k0_t1 v15917 v15920 v16067 k0_hw334 k0_h1 => k0_hw334 k0_h1

def k0_off670 (v15917 : BitVec 32) : Fin 1 → Nat :=
  let c10_i32_6260 : BitVec 32 := 10#32
  let v16078 : BitVec 32 := Scalar.addi v15917 c10_i32_6260
  let v16081 : Index := Scalar.indexCast v16078
  ![v16081.toNat]
def k0_off671 (k0_t1 : Fin k0_t1_loop.trips) (v15917 : BitVec 32) (v15920 : BitVec 32) (v16082 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_6261 : BitVec 32 := 10#32
  let v16079 : BitVec 32 := Scalar.addi v15917 c10_i32_6261
  let v16080 : BitVec 1 := Scalar.cmpi .slt v16079 v15920
  let c65535_i32_6262 : BitVec 32 := 65535#32
  let v16083 : BitVec 32 := Scalar.andi v16082 c65535_i32_6262
  let c2048_i32_6263 : BitVec 32 := 2048#32
  let v16084 : BitVec 32 := Scalar.select v16080 v16083 c2048_i32_6263
  let v16085 : BitVec 32 := Scalar.addi v11087 v16084
  let v16088 : Index := Scalar.indexCast v16085
  let c0_6265 : Index := 0#32
  ![v16088.toNat, 0]

def k0_chk335 (i : grid0.Coords) (k0_t1 : Fin k0_t1_loop.trips) (v15917 : BitVec 32) (v15920 : BitVec 32) (v16082 : BitVec 32) : Prop :=
  (∀ (k0_h1 : k0_cond1 i = 1#1), ∀ a, (k0_off671 k0_t1 v15917 v15920 v16082) a + S1x128.size a ≤ S8224x128.size a)
theorem k0_off671_inb : ∀ (i : grid0.Coords) (k0_t1 : Fin k0_t1_loop.trips) (v15917 : BitVec 32) (v15920 : BitVec 32) (v16082 : BitVec 32) (k0_hw335 : k0_chk335 i k0_t1 v15917 v15920 v16082), ∀ (k0_h1 : k0_cond1 i = 1#1), ∀ a, (k0_off671 k0_t1 v15917 v15920 v16082) a + S1x128.size a ≤ S8224x128.size a := fun i k0_t1 v15917 v15920 v16082 k0_hw335 k0_h1 => k0_hw335 k0_h1

def k0_off672 (v15917 : BitVec 32) : Fin 1 → Nat :=
  let c11_i32_6266 : BitVec 32 := 11#32
  let v16093 : BitVec 32 := Scalar.addi v15917 c11_i32_6266
  let v16096 : Index := Scalar.indexCast v16093
  ![v16096.toNat]
def k0_off673 (k0_t1 : Fin k0_t1_loop.trips) (v15917 : BitVec 32) (v15920 : BitVec 32) (v16097 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_6267 : BitVec 32 := 11#32
  let v16094 : BitVec 32 := Scalar.addi v15917 c11_i32_6267
  let v16095 : BitVec 1 := Scalar.cmpi .slt v16094 v15920
  let c65535_i32_6268 : BitVec 32 := 65535#32
  let v16098 : BitVec 32 := Scalar.andi v16097 c65535_i32_6268
  let c2048_i32_6269 : BitVec 32 := 2048#32
  let v16099 : BitVec 32 := Scalar.select v16095 v16098 c2048_i32_6269
  let v16100 : BitVec 32 := Scalar.addi v11087 v16099
  let v16103 : Index := Scalar.indexCast v16100
  let c0_6271 : Index := 0#32
  ![v16103.toNat, 0]

def k0_chk336 (i : grid0.Coords) (k0_t1 : Fin k0_t1_loop.trips) (v15917 : BitVec 32) (v15920 : BitVec 32) (v16097 : BitVec 32) : Prop :=
  (∀ (k0_h1 : k0_cond1 i = 1#1), ∀ a, (k0_off673 k0_t1 v15917 v15920 v16097) a + S1x128.size a ≤ S8224x128.size a)
theorem k0_off673_inb : ∀ (i : grid0.Coords) (k0_t1 : Fin k0_t1_loop.trips) (v15917 : BitVec 32) (v15920 : BitVec 32) (v16097 : BitVec 32) (k0_hw336 : k0_chk336 i k0_t1 v15917 v15920 v16097), ∀ (k0_h1 : k0_cond1 i = 1#1), ∀ a, (k0_off673 k0_t1 v15917 v15920 v16097) a + S1x128.size a ≤ S8224x128.size a := fun i k0_t1 v15917 v15920 v16097 k0_hw336 k0_h1 => k0_hw336 k0_h1

def k0_off674 (v15917 : BitVec 32) : Fin 1 → Nat :=
  let c12_i32_6272 : BitVec 32 := 12#32
  let v16108 : BitVec 32 := Scalar.addi v15917 c12_i32_6272
  let v16111 : Index := Scalar.indexCast v16108
  ![v16111.toNat]
def k0_off675 (k0_t1 : Fin k0_t1_loop.trips) (v15917 : BitVec 32) (v15920 : BitVec 32) (v16112 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_6273 : BitVec 32 := 12#32
  let v16109 : BitVec 32 := Scalar.addi v15917 c12_i32_6273
  let v16110 : BitVec 1 := Scalar.cmpi .slt v16109 v15920
  let c65535_i32_6274 : BitVec 32 := 65535#32
  let v16113 : BitVec 32 := Scalar.andi v16112 c65535_i32_6274
  let c2048_i32_6275 : BitVec 32 := 2048#32
  let v16114 : BitVec 32 := Scalar.select v16110 v16113 c2048_i32_6275
  let v16115 : BitVec 32 := Scalar.addi v11087 v16114
  let v16118 : Index := Scalar.indexCast v16115
  let c0_6277 : Index := 0#32
  ![v16118.toNat, 0]

def k0_chk337 (i : grid0.Coords) (k0_t1 : Fin k0_t1_loop.trips) (v15917 : BitVec 32) (v15920 : BitVec 32) (v16112 : BitVec 32) : Prop :=
  (∀ (k0_h1 : k0_cond1 i = 1#1), ∀ a, (k0_off675 k0_t1 v15917 v15920 v16112) a + S1x128.size a ≤ S8224x128.size a)
theorem k0_off675_inb : ∀ (i : grid0.Coords) (k0_t1 : Fin k0_t1_loop.trips) (v15917 : BitVec 32) (v15920 : BitVec 32) (v16112 : BitVec 32) (k0_hw337 : k0_chk337 i k0_t1 v15917 v15920 v16112), ∀ (k0_h1 : k0_cond1 i = 1#1), ∀ a, (k0_off675 k0_t1 v15917 v15920 v16112) a + S1x128.size a ≤ S8224x128.size a := fun i k0_t1 v15917 v15920 v16112 k0_hw337 k0_h1 => k0_hw337 k0_h1

def k0_off676 (v15917 : BitVec 32) : Fin 1 → Nat :=
  let c13_i32_6278 : BitVec 32 := 13#32
  let v16123 : BitVec 32 := Scalar.addi v15917 c13_i32_6278
  let v16126 : Index := Scalar.indexCast v16123
  ![v16126.toNat]
def k0_off677 (k0_t1 : Fin k0_t1_loop.trips) (v15917 : BitVec 32) (v15920 : BitVec 32) (v16127 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_6279 : BitVec 32 := 13#32
  let v16124 : BitVec 32 := Scalar.addi v15917 c13_i32_6279
  let v16125 : BitVec 1 := Scalar.cmpi .slt v16124 v15920
  let c65535_i32_6280 : BitVec 32 := 65535#32
  let v16128 : BitVec 32 := Scalar.andi v16127 c65535_i32_6280
  let c2048_i32_6281 : BitVec 32 := 2048#32
  let v16129 : BitVec 32 := Scalar.select v16125 v16128 c2048_i32_6281
  let v16130 : BitVec 32 := Scalar.addi v11087 v16129
  let v16133 : Index := Scalar.indexCast v16130
  let c0_6283 : Index := 0#32
  ![v16133.toNat, 0]

def k0_chk338 (i : grid0.Coords) (k0_t1 : Fin k0_t1_loop.trips) (v15917 : BitVec 32) (v15920 : BitVec 32) (v16127 : BitVec 32) : Prop :=
  (∀ (k0_h1 : k0_cond1 i = 1#1), ∀ a, (k0_off677 k0_t1 v15917 v15920 v16127) a + S1x128.size a ≤ S8224x128.size a)
theorem k0_off677_inb : ∀ (i : grid0.Coords) (k0_t1 : Fin k0_t1_loop.trips) (v15917 : BitVec 32) (v15920 : BitVec 32) (v16127 : BitVec 32) (k0_hw338 : k0_chk338 i k0_t1 v15917 v15920 v16127), ∀ (k0_h1 : k0_cond1 i = 1#1), ∀ a, (k0_off677 k0_t1 v15917 v15920 v16127) a + S1x128.size a ≤ S8224x128.size a := fun i k0_t1 v15917 v15920 v16127 k0_hw338 k0_h1 => k0_hw338 k0_h1

def k0_off678 (v15917 : BitVec 32) : Fin 1 → Nat :=
  let c14_i32_6284 : BitVec 32 := 14#32
  let v16138 : BitVec 32 := Scalar.addi v15917 c14_i32_6284
  let v16141 : Index := Scalar.indexCast v16138
  ![v16141.toNat]
def k0_off679 (k0_t1 : Fin k0_t1_loop.trips) (v15917 : BitVec 32) (v15920 : BitVec 32) (v16142 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_6285 : BitVec 32 := 14#32
  let v16139 : BitVec 32 := Scalar.addi v15917 c14_i32_6285
  let v16140 : BitVec 1 := Scalar.cmpi .slt v16139 v15920
  let c65535_i32_6286 : BitVec 32 := 65535#32
  let v16143 : BitVec 32 := Scalar.andi v16142 c65535_i32_6286
  let c2048_i32_6287 : BitVec 32 := 2048#32
  let v16144 : BitVec 32 := Scalar.select v16140 v16143 c2048_i32_6287
  let v16145 : BitVec 32 := Scalar.addi v11087 v16144
  let v16148 : Index := Scalar.indexCast v16145
  let c0_6289 : Index := 0#32
  ![v16148.toNat, 0]

def k0_chk339 (i : grid0.Coords) (k0_t1 : Fin k0_t1_loop.trips) (v15917 : BitVec 32) (v15920 : BitVec 32) (v16142 : BitVec 32) : Prop :=
  (∀ (k0_h1 : k0_cond1 i = 1#1), ∀ a, (k0_off679 k0_t1 v15917 v15920 v16142) a + S1x128.size a ≤ S8224x128.size a)
theorem k0_off679_inb : ∀ (i : grid0.Coords) (k0_t1 : Fin k0_t1_loop.trips) (v15917 : BitVec 32) (v15920 : BitVec 32) (v16142 : BitVec 32) (k0_hw339 : k0_chk339 i k0_t1 v15917 v15920 v16142), ∀ (k0_h1 : k0_cond1 i = 1#1), ∀ a, (k0_off679 k0_t1 v15917 v15920 v16142) a + S1x128.size a ≤ S8224x128.size a := fun i k0_t1 v15917 v15920 v16142 k0_hw339 k0_h1 => k0_hw339 k0_h1

def k0_off680 (v15917 : BitVec 32) : Fin 1 → Nat :=
  let c15_i32_6290 : BitVec 32 := 15#32
  let v16153 : BitVec 32 := Scalar.addi v15917 c15_i32_6290
  let v16156 : Index := Scalar.indexCast v16153
  ![v16156.toNat]

def k0_chk324 (i : grid0.Coords) (v15917 : BitVec 32) : Prop :=
  (∀ (k0_h1 : k0_cond1 i = 1#1), ∀ a, (k0_off650 v15917) a + S1.size a ≤ S51920.size a) ∧
  (∀ (k0_h1 : k0_cond1 i = 1#1), ∀ a, (k0_off652 v15917) a + S1.size a ≤ S51920.size a) ∧
  (∀ (k0_h1 : k0_cond1 i = 1#1), ∀ a, (k0_off654 v15917) a + S1.size a ≤ S51920.size a) ∧
  (∀ (k0_h1 : k0_cond1 i = 1#1), ∀ a, (k0_off656 v15917) a + S1.size a ≤ S51920.size a) ∧
  (∀ (k0_h1 : k0_cond1 i = 1#1), ∀ a, (k0_off658 v15917) a + S1.size a ≤ S51920.size a) ∧
  (∀ (k0_h1 : k0_cond1 i = 1#1), ∀ a, (k0_off660 v15917) a + S1.size a ≤ S51920.size a) ∧
  (∀ (k0_h1 : k0_cond1 i = 1#1), ∀ a, (k0_off662 v15917) a + S1.size a ≤ S51920.size a) ∧
  (∀ (k0_h1 : k0_cond1 i = 1#1), ∀ a, (k0_off664 v15917) a + S1.size a ≤ S51920.size a) ∧
  (∀ (k0_h1 : k0_cond1 i = 1#1), ∀ a, (k0_off666 v15917) a + S1.size a ≤ S51920.size a) ∧
  (∀ (k0_h1 : k0_cond1 i = 1#1), ∀ a, (k0_off668 v15917) a + S1.size a ≤ S51920.size a) ∧
  (∀ (k0_h1 : k0_cond1 i = 1#1), ∀ a, (k0_off670 v15917) a + S1.size a ≤ S51920.size a) ∧
  (∀ (k0_h1 : k0_cond1 i = 1#1), ∀ a, (k0_off672 v15917) a + S1.size a ≤ S51920.size a) ∧
  (∀ (k0_h1 : k0_cond1 i = 1#1), ∀ a, (k0_off674 v15917) a + S1.size a ≤ S51920.size a) ∧
  (∀ (k0_h1 : k0_cond1 i = 1#1), ∀ a, (k0_off676 v15917) a + S1.size a ≤ S51920.size a) ∧
  (∀ (k0_h1 : k0_cond1 i = 1#1), ∀ a, (k0_off678 v15917) a + S1.size a ≤ S51920.size a) ∧
  (∀ (k0_h1 : k0_cond1 i = 1#1), ∀ a, (k0_off680 v15917) a + S1.size a ≤ S51920.size a)
theorem k0_off650_inb : ∀ (i : grid0.Coords) (v15917 : BitVec 32) (k0_hw324 : k0_chk324 i v15917), ∀ (k0_h1 : k0_cond1 i = 1#1), ∀ a, (k0_off650 v15917) a + S1.size a ≤ S51920.size a := fun i v15917 k0_hw324 k0_h1 => k0_hw324.1 k0_h1
theorem k0_off652_inb : ∀ (i : grid0.Coords) (v15917 : BitVec 32) (k0_hw324 : k0_chk324 i v15917), ∀ (k0_h1 : k0_cond1 i = 1#1), ∀ a, (k0_off652 v15917) a + S1.size a ≤ S51920.size a := fun i v15917 k0_hw324 k0_h1 => k0_hw324.2.1 k0_h1
theorem k0_off654_inb : ∀ (i : grid0.Coords) (v15917 : BitVec 32) (k0_hw324 : k0_chk324 i v15917), ∀ (k0_h1 : k0_cond1 i = 1#1), ∀ a, (k0_off654 v15917) a + S1.size a ≤ S51920.size a := fun i v15917 k0_hw324 k0_h1 => k0_hw324.2.2.1 k0_h1
theorem k0_off656_inb : ∀ (i : grid0.Coords) (v15917 : BitVec 32) (k0_hw324 : k0_chk324 i v15917), ∀ (k0_h1 : k0_cond1 i = 1#1), ∀ a, (k0_off656 v15917) a + S1.size a ≤ S51920.size a := fun i v15917 k0_hw324 k0_h1 => k0_hw324.2.2.2.1 k0_h1
theorem k0_off658_inb : ∀ (i : grid0.Coords) (v15917 : BitVec 32) (k0_hw324 : k0_chk324 i v15917), ∀ (k0_h1 : k0_cond1 i = 1#1), ∀ a, (k0_off658 v15917) a + S1.size a ≤ S51920.size a := fun i v15917 k0_hw324 k0_h1 => k0_hw324.2.2.2.2.1 k0_h1
theorem k0_off660_inb : ∀ (i : grid0.Coords) (v15917 : BitVec 32) (k0_hw324 : k0_chk324 i v15917), ∀ (k0_h1 : k0_cond1 i = 1#1), ∀ a, (k0_off660 v15917) a + S1.size a ≤ S51920.size a := fun i v15917 k0_hw324 k0_h1 => k0_hw324.2.2.2.2.2.1 k0_h1
theorem k0_off662_inb : ∀ (i : grid0.Coords) (v15917 : BitVec 32) (k0_hw324 : k0_chk324 i v15917), ∀ (k0_h1 : k0_cond1 i = 1#1), ∀ a, (k0_off662 v15917) a + S1.size a ≤ S51920.size a := fun i v15917 k0_hw324 k0_h1 => k0_hw324.2.2.2.2.2.2.1 k0_h1
theorem k0_off664_inb : ∀ (i : grid0.Coords) (v15917 : BitVec 32) (k0_hw324 : k0_chk324 i v15917), ∀ (k0_h1 : k0_cond1 i = 1#1), ∀ a, (k0_off664 v15917) a + S1.size a ≤ S51920.size a := fun i v15917 k0_hw324 k0_h1 => k0_hw324.2.2.2.2.2.2.2.1 k0_h1
theorem k0_off666_inb : ∀ (i : grid0.Coords) (v15917 : BitVec 32) (k0_hw324 : k0_chk324 i v15917), ∀ (k0_h1 : k0_cond1 i = 1#1), ∀ a, (k0_off666 v15917) a + S1.size a ≤ S51920.size a := fun i v15917 k0_hw324 k0_h1 => k0_hw324.2.2.2.2.2.2.2.2.1 k0_h1
theorem k0_off668_inb : ∀ (i : grid0.Coords) (v15917 : BitVec 32) (k0_hw324 : k0_chk324 i v15917), ∀ (k0_h1 : k0_cond1 i = 1#1), ∀ a, (k0_off668 v15917) a + S1.size a ≤ S51920.size a := fun i v15917 k0_hw324 k0_h1 => k0_hw324.2.2.2.2.2.2.2.2.2.1 k0_h1
theorem k0_off670_inb : ∀ (i : grid0.Coords) (v15917 : BitVec 32) (k0_hw324 : k0_chk324 i v15917), ∀ (k0_h1 : k0_cond1 i = 1#1), ∀ a, (k0_off670 v15917) a + S1.size a ≤ S51920.size a := fun i v15917 k0_hw324 k0_h1 => k0_hw324.2.2.2.2.2.2.2.2.2.2.1 k0_h1
theorem k0_off672_inb : ∀ (i : grid0.Coords) (v15917 : BitVec 32) (k0_hw324 : k0_chk324 i v15917), ∀ (k0_h1 : k0_cond1 i = 1#1), ∀ a, (k0_off672 v15917) a + S1.size a ≤ S51920.size a := fun i v15917 k0_hw324 k0_h1 => k0_hw324.2.2.2.2.2.2.2.2.2.2.2.1 k0_h1
theorem k0_off674_inb : ∀ (i : grid0.Coords) (v15917 : BitVec 32) (k0_hw324 : k0_chk324 i v15917), ∀ (k0_h1 : k0_cond1 i = 1#1), ∀ a, (k0_off674 v15917) a + S1.size a ≤ S51920.size a := fun i v15917 k0_hw324 k0_h1 => k0_hw324.2.2.2.2.2.2.2.2.2.2.2.2.1 k0_h1
theorem k0_off676_inb : ∀ (i : grid0.Coords) (v15917 : BitVec 32) (k0_hw324 : k0_chk324 i v15917), ∀ (k0_h1 : k0_cond1 i = 1#1), ∀ a, (k0_off676 v15917) a + S1.size a ≤ S51920.size a := fun i v15917 k0_hw324 k0_h1 => k0_hw324.2.2.2.2.2.2.2.2.2.2.2.2.2.1 k0_h1
theorem k0_off678_inb : ∀ (i : grid0.Coords) (v15917 : BitVec 32) (k0_hw324 : k0_chk324 i v15917), ∀ (k0_h1 : k0_cond1 i = 1#1), ∀ a, (k0_off678 v15917) a + S1.size a ≤ S51920.size a := fun i v15917 k0_hw324 k0_h1 => k0_hw324.2.2.2.2.2.2.2.2.2.2.2.2.2.2.1 k0_h1
theorem k0_off680_inb : ∀ (i : grid0.Coords) (v15917 : BitVec 32) (k0_hw324 : k0_chk324 i v15917), ∀ (k0_h1 : k0_cond1 i = 1#1), ∀ a, (k0_off680 v15917) a + S1.size a ≤ S51920.size a := fun i v15917 k0_hw324 k0_h1 => k0_hw324.2.2.2.2.2.2.2.2.2.2.2.2.2.2.2 k0_h1

def k0_off681 (k0_t1 : Fin k0_t1_loop.trips) (v15917 : BitVec 32) (v15920 : BitVec 32) (v16157 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_6291 : BitVec 32 := 15#32
  let v16154 : BitVec 32 := Scalar.addi v15917 c15_i32_6291
  let v16155 : BitVec 1 := Scalar.cmpi .slt v16154 v15920
  let c65535_i32_6292 : BitVec 32 := 65535#32
  let v16158 : BitVec 32 := Scalar.andi v16157 c65535_i32_6292
  let c2048_i32_6293 : BitVec 32 := 2048#32
  let v16159 : BitVec 32 := Scalar.select v16155 v16158 c2048_i32_6293
  let v16160 : BitVec 32 := Scalar.addi v11087 v16159
  let v16163 : Index := Scalar.indexCast v16160
  let c0_6295 : Index := 0#32
  ![v16163.toNat, 0]

def k0_chk340 (i : grid0.Coords) (k0_t1 : Fin k0_t1_loop.trips) (v15917 : BitVec 32) (v15920 : BitVec 32) (v16157 : BitVec 32) : Prop :=
  (∀ (k0_h1 : k0_cond1 i = 1#1), ∀ a, (k0_off681 k0_t1 v15917 v15920 v16157) a + S1x128.size a ≤ S8224x128.size a)
theorem k0_off681_inb : ∀ (i : grid0.Coords) (k0_t1 : Fin k0_t1_loop.trips) (v15917 : BitVec 32) (v15920 : BitVec 32) (v16157 : BitVec 32) (k0_hw340 : k0_chk340 i k0_t1 v15917 v15920 v16157), ∀ (k0_h1 : k0_cond1 i = 1#1), ∀ a, (k0_off681 k0_t1 v15917 v15920 v16157) a + S1x128.size a ≤ S8224x128.size a := fun i k0_t1 v15917 v15920 v16157 k0_hw340 k0_h1 => k0_hw340 k0_h1

def k0_off682 (k0_t1 : Fin k0_t1_loop.trips) : Fin 1 → Nat :=
  let c0_i32_6296 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v16168 : BitVec 32 := Scalar.addi c0_i32_6296 v11069
  let c20_i32_6297 : BitVec 32 := 20#32
  let v16169 : BitVec 32 := Scalar.addi v16168 c20_i32_6297
  let v16170 : Index := Scalar.indexCast v16169
  ![v16170.toNat]
def k0_off683 (k0_t1 : Fin k0_t1_loop.trips) : Fin 1 → Nat :=
  let c0_i32_6296 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v16168 : BitVec 32 := Scalar.addi c0_i32_6296 v11069
  let c20_i32_6297 : BitVec 32 := 20#32
  let v16169 : BitVec 32 := Scalar.addi v16168 c20_i32_6297
  let c1_i32_6298 : BitVec 32 := 1#32
  let v16172 : BitVec 32 := Scalar.addi v16169 c1_i32_6298
  let v16173 : Index := Scalar.indexCast v16172
  ![v16173.toNat]
def k0_off684 (v16171 : BitVec 32) : Fin 1 → Nat :=
  let c0_i32_6301 : BitVec 32 := 0#32
  let v16182 : BitVec 32 := Scalar.addi v16171 c0_i32_6301
  let v16185 : Index := Scalar.indexCast v16182
  ![v16185.toNat]

def k0_off685 (k0_t1 : Fin k0_t1_loop.trips) (v16171 : BitVec 32) (v16174 : BitVec 32) (v16186 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_6302 : BitVec 32 := 0#32
  let v16183 : BitVec 32 := Scalar.addi v16171 c0_i32_6302
  let v16184 : BitVec 1 := Scalar.cmpi .slt v16183 v16174
  let c65535_i32_6303 : BitVec 32 := 65535#32
  let v16187 : BitVec 32 := Scalar.andi v16186 c65535_i32_6303
  let c2048_i32_6304 : BitVec 32 := 2048#32
  let v16188 : BitVec 32 := Scalar.select v16184 v16187 c2048_i32_6304
  let v16189 : BitVec 32 := Scalar.addi v11087 v16188
  let v16192 : Index := Scalar.indexCast v16189
  let c0_6306 : Index := 0#32
  ![v16192.toNat, 0]

def k0_chk342 (i : grid0.Coords) (k0_t1 : Fin k0_t1_loop.trips) (v16171 : BitVec 32) (v16174 : BitVec 32) (v16186 : BitVec 32) : Prop :=
  (∀ (k0_h1 : k0_cond1 i = 1#1), ∀ a, (k0_off685 k0_t1 v16171 v16174 v16186) a + S1x128.size a ≤ S8224x128.size a)
theorem k0_off685_inb : ∀ (i : grid0.Coords) (k0_t1 : Fin k0_t1_loop.trips) (v16171 : BitVec 32) (v16174 : BitVec 32) (v16186 : BitVec 32) (k0_hw342 : k0_chk342 i k0_t1 v16171 v16174 v16186), ∀ (k0_h1 : k0_cond1 i = 1#1), ∀ a, (k0_off685 k0_t1 v16171 v16174 v16186) a + S1x128.size a ≤ S8224x128.size a := fun i k0_t1 v16171 v16174 v16186 k0_hw342 k0_h1 => k0_hw342 k0_h1

def k0_off686 (v16171 : BitVec 32) : Fin 1 → Nat :=
  let c1_i32_6307 : BitVec 32 := 1#32
  let v16197 : BitVec 32 := Scalar.addi v16171 c1_i32_6307
  let v16200 : Index := Scalar.indexCast v16197
  ![v16200.toNat]
def k0_off687 (k0_t1 : Fin k0_t1_loop.trips) (v16171 : BitVec 32) (v16174 : BitVec 32) (v16201 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_6308 : BitVec 32 := 1#32
  let v16198 : BitVec 32 := Scalar.addi v16171 c1_i32_6308
  let v16199 : BitVec 1 := Scalar.cmpi .slt v16198 v16174
  let c65535_i32_6309 : BitVec 32 := 65535#32
  let v16202 : BitVec 32 := Scalar.andi v16201 c65535_i32_6309
  let c2048_i32_6310 : BitVec 32 := 2048#32
  let v16203 : BitVec 32 := Scalar.select v16199 v16202 c2048_i32_6310
  let v16204 : BitVec 32 := Scalar.addi v11087 v16203
  let v16207 : Index := Scalar.indexCast v16204
  let c0_6312 : Index := 0#32
  ![v16207.toNat, 0]

def k0_chk343 (i : grid0.Coords) (k0_t1 : Fin k0_t1_loop.trips) (v16171 : BitVec 32) (v16174 : BitVec 32) (v16201 : BitVec 32) : Prop :=
  (∀ (k0_h1 : k0_cond1 i = 1#1), ∀ a, (k0_off687 k0_t1 v16171 v16174 v16201) a + S1x128.size a ≤ S8224x128.size a)
theorem k0_off687_inb : ∀ (i : grid0.Coords) (k0_t1 : Fin k0_t1_loop.trips) (v16171 : BitVec 32) (v16174 : BitVec 32) (v16201 : BitVec 32) (k0_hw343 : k0_chk343 i k0_t1 v16171 v16174 v16201), ∀ (k0_h1 : k0_cond1 i = 1#1), ∀ a, (k0_off687 k0_t1 v16171 v16174 v16201) a + S1x128.size a ≤ S8224x128.size a := fun i k0_t1 v16171 v16174 v16201 k0_hw343 k0_h1 => k0_hw343 k0_h1

def k0_off688 (v16171 : BitVec 32) : Fin 1 → Nat :=
  let c2_i32_6313 : BitVec 32 := 2#32
  let v16212 : BitVec 32 := Scalar.addi v16171 c2_i32_6313
  let v16215 : Index := Scalar.indexCast v16212
  ![v16215.toNat]
def k0_off689 (k0_t1 : Fin k0_t1_loop.trips) (v16171 : BitVec 32) (v16174 : BitVec 32) (v16216 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_6314 : BitVec 32 := 2#32
  let v16213 : BitVec 32 := Scalar.addi v16171 c2_i32_6314
  let v16214 : BitVec 1 := Scalar.cmpi .slt v16213 v16174
  let c65535_i32_6315 : BitVec 32 := 65535#32
  let v16217 : BitVec 32 := Scalar.andi v16216 c65535_i32_6315
  let c2048_i32_6316 : BitVec 32 := 2048#32
  let v16218 : BitVec 32 := Scalar.select v16214 v16217 c2048_i32_6316
  let v16219 : BitVec 32 := Scalar.addi v11087 v16218
  let v16222 : Index := Scalar.indexCast v16219
  let c0_6318 : Index := 0#32
  ![v16222.toNat, 0]

def k0_chk344 (i : grid0.Coords) (k0_t1 : Fin k0_t1_loop.trips) (v16171 : BitVec 32) (v16174 : BitVec 32) (v16216 : BitVec 32) : Prop :=
  (∀ (k0_h1 : k0_cond1 i = 1#1), ∀ a, (k0_off689 k0_t1 v16171 v16174 v16216) a + S1x128.size a ≤ S8224x128.size a)
theorem k0_off689_inb : ∀ (i : grid0.Coords) (k0_t1 : Fin k0_t1_loop.trips) (v16171 : BitVec 32) (v16174 : BitVec 32) (v16216 : BitVec 32) (k0_hw344 : k0_chk344 i k0_t1 v16171 v16174 v16216), ∀ (k0_h1 : k0_cond1 i = 1#1), ∀ a, (k0_off689 k0_t1 v16171 v16174 v16216) a + S1x128.size a ≤ S8224x128.size a := fun i k0_t1 v16171 v16174 v16216 k0_hw344 k0_h1 => k0_hw344 k0_h1

def k0_off690 (v16171 : BitVec 32) : Fin 1 → Nat :=
  let c3_i32_6319 : BitVec 32 := 3#32
  let v16227 : BitVec 32 := Scalar.addi v16171 c3_i32_6319
  let v16230 : Index := Scalar.indexCast v16227
  ![v16230.toNat]
def k0_off691 (k0_t1 : Fin k0_t1_loop.trips) (v16171 : BitVec 32) (v16174 : BitVec 32) (v16231 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_6320 : BitVec 32 := 3#32
  let v16228 : BitVec 32 := Scalar.addi v16171 c3_i32_6320
  let v16229 : BitVec 1 := Scalar.cmpi .slt v16228 v16174
  let c65535_i32_6321 : BitVec 32 := 65535#32
  let v16232 : BitVec 32 := Scalar.andi v16231 c65535_i32_6321
  let c2048_i32_6322 : BitVec 32 := 2048#32
  let v16233 : BitVec 32 := Scalar.select v16229 v16232 c2048_i32_6322
  let v16234 : BitVec 32 := Scalar.addi v11087 v16233
  let v16237 : Index := Scalar.indexCast v16234
  let c0_6324 : Index := 0#32
  ![v16237.toNat, 0]

def k0_chk345 (i : grid0.Coords) (k0_t1 : Fin k0_t1_loop.trips) (v16171 : BitVec 32) (v16174 : BitVec 32) (v16231 : BitVec 32) : Prop :=
  (∀ (k0_h1 : k0_cond1 i = 1#1), ∀ a, (k0_off691 k0_t1 v16171 v16174 v16231) a + S1x128.size a ≤ S8224x128.size a)
theorem k0_off691_inb : ∀ (i : grid0.Coords) (k0_t1 : Fin k0_t1_loop.trips) (v16171 : BitVec 32) (v16174 : BitVec 32) (v16231 : BitVec 32) (k0_hw345 : k0_chk345 i k0_t1 v16171 v16174 v16231), ∀ (k0_h1 : k0_cond1 i = 1#1), ∀ a, (k0_off691 k0_t1 v16171 v16174 v16231) a + S1x128.size a ≤ S8224x128.size a := fun i k0_t1 v16171 v16174 v16231 k0_hw345 k0_h1 => k0_hw345 k0_h1

def k0_off692 (v16171 : BitVec 32) : Fin 1 → Nat :=
  let c4_i32_6325 : BitVec 32 := 4#32
  let v16242 : BitVec 32 := Scalar.addi v16171 c4_i32_6325
  let v16245 : Index := Scalar.indexCast v16242
  ![v16245.toNat]
def k0_off693 (k0_t1 : Fin k0_t1_loop.trips) (v16171 : BitVec 32) (v16174 : BitVec 32) (v16246 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_6326 : BitVec 32 := 4#32
  let v16243 : BitVec 32 := Scalar.addi v16171 c4_i32_6326
  let v16244 : BitVec 1 := Scalar.cmpi .slt v16243 v16174
  let c65535_i32_6327 : BitVec 32 := 65535#32
  let v16247 : BitVec 32 := Scalar.andi v16246 c65535_i32_6327
  let c2048_i32_6328 : BitVec 32 := 2048#32
  let v16248 : BitVec 32 := Scalar.select v16244 v16247 c2048_i32_6328
  let v16249 : BitVec 32 := Scalar.addi v11087 v16248
  let v16252 : Index := Scalar.indexCast v16249
  let c0_6330 : Index := 0#32
  ![v16252.toNat, 0]

def k0_chk346 (i : grid0.Coords) (k0_t1 : Fin k0_t1_loop.trips) (v16171 : BitVec 32) (v16174 : BitVec 32) (v16246 : BitVec 32) : Prop :=
  (∀ (k0_h1 : k0_cond1 i = 1#1), ∀ a, (k0_off693 k0_t1 v16171 v16174 v16246) a + S1x128.size a ≤ S8224x128.size a)
theorem k0_off693_inb : ∀ (i : grid0.Coords) (k0_t1 : Fin k0_t1_loop.trips) (v16171 : BitVec 32) (v16174 : BitVec 32) (v16246 : BitVec 32) (k0_hw346 : k0_chk346 i k0_t1 v16171 v16174 v16246), ∀ (k0_h1 : k0_cond1 i = 1#1), ∀ a, (k0_off693 k0_t1 v16171 v16174 v16246) a + S1x128.size a ≤ S8224x128.size a := fun i k0_t1 v16171 v16174 v16246 k0_hw346 k0_h1 => k0_hw346 k0_h1

def k0_off694 (v16171 : BitVec 32) : Fin 1 → Nat :=
  let c5_i32_6331 : BitVec 32 := 5#32
  let v16257 : BitVec 32 := Scalar.addi v16171 c5_i32_6331
  let v16260 : Index := Scalar.indexCast v16257
  ![v16260.toNat]
def k0_off695 (k0_t1 : Fin k0_t1_loop.trips) (v16171 : BitVec 32) (v16174 : BitVec 32) (v16261 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_6332 : BitVec 32 := 5#32
  let v16258 : BitVec 32 := Scalar.addi v16171 c5_i32_6332
  let v16259 : BitVec 1 := Scalar.cmpi .slt v16258 v16174
  let c65535_i32_6333 : BitVec 32 := 65535#32
  let v16262 : BitVec 32 := Scalar.andi v16261 c65535_i32_6333
  let c2048_i32_6334 : BitVec 32 := 2048#32
  let v16263 : BitVec 32 := Scalar.select v16259 v16262 c2048_i32_6334
  let v16264 : BitVec 32 := Scalar.addi v11087 v16263
  let v16267 : Index := Scalar.indexCast v16264
  let c0_6336 : Index := 0#32
  ![v16267.toNat, 0]

def k0_chk347 (i : grid0.Coords) (k0_t1 : Fin k0_t1_loop.trips) (v16171 : BitVec 32) (v16174 : BitVec 32) (v16261 : BitVec 32) : Prop :=
  (∀ (k0_h1 : k0_cond1 i = 1#1), ∀ a, (k0_off695 k0_t1 v16171 v16174 v16261) a + S1x128.size a ≤ S8224x128.size a)
theorem k0_off695_inb : ∀ (i : grid0.Coords) (k0_t1 : Fin k0_t1_loop.trips) (v16171 : BitVec 32) (v16174 : BitVec 32) (v16261 : BitVec 32) (k0_hw347 : k0_chk347 i k0_t1 v16171 v16174 v16261), ∀ (k0_h1 : k0_cond1 i = 1#1), ∀ a, (k0_off695 k0_t1 v16171 v16174 v16261) a + S1x128.size a ≤ S8224x128.size a := fun i k0_t1 v16171 v16174 v16261 k0_hw347 k0_h1 => k0_hw347 k0_h1

def k0_off696 (v16171 : BitVec 32) : Fin 1 → Nat :=
  let c6_i32_6337 : BitVec 32 := 6#32
  let v16272 : BitVec 32 := Scalar.addi v16171 c6_i32_6337
  let v16275 : Index := Scalar.indexCast v16272
  ![v16275.toNat]
def k0_off697 (k0_t1 : Fin k0_t1_loop.trips) (v16171 : BitVec 32) (v16174 : BitVec 32) (v16276 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_6338 : BitVec 32 := 6#32
  let v16273 : BitVec 32 := Scalar.addi v16171 c6_i32_6338
  let v16274 : BitVec 1 := Scalar.cmpi .slt v16273 v16174
  let c65535_i32_6339 : BitVec 32 := 65535#32
  let v16277 : BitVec 32 := Scalar.andi v16276 c65535_i32_6339
  let c2048_i32_6340 : BitVec 32 := 2048#32
  let v16278 : BitVec 32 := Scalar.select v16274 v16277 c2048_i32_6340
  let v16279 : BitVec 32 := Scalar.addi v11087 v16278
  let v16282 : Index := Scalar.indexCast v16279
  let c0_6342 : Index := 0#32
  ![v16282.toNat, 0]

def k0_chk348 (i : grid0.Coords) (k0_t1 : Fin k0_t1_loop.trips) (v16171 : BitVec 32) (v16174 : BitVec 32) (v16276 : BitVec 32) : Prop :=
  (∀ (k0_h1 : k0_cond1 i = 1#1), ∀ a, (k0_off697 k0_t1 v16171 v16174 v16276) a + S1x128.size a ≤ S8224x128.size a)
theorem k0_off697_inb : ∀ (i : grid0.Coords) (k0_t1 : Fin k0_t1_loop.trips) (v16171 : BitVec 32) (v16174 : BitVec 32) (v16276 : BitVec 32) (k0_hw348 : k0_chk348 i k0_t1 v16171 v16174 v16276), ∀ (k0_h1 : k0_cond1 i = 1#1), ∀ a, (k0_off697 k0_t1 v16171 v16174 v16276) a + S1x128.size a ≤ S8224x128.size a := fun i k0_t1 v16171 v16174 v16276 k0_hw348 k0_h1 => k0_hw348 k0_h1

def k0_off698 (v16171 : BitVec 32) : Fin 1 → Nat :=
  let c7_i32_6343 : BitVec 32 := 7#32
  let v16287 : BitVec 32 := Scalar.addi v16171 c7_i32_6343
  let v16290 : Index := Scalar.indexCast v16287
  ![v16290.toNat]
def k0_off699 (k0_t1 : Fin k0_t1_loop.trips) (v16171 : BitVec 32) (v16174 : BitVec 32) (v16291 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_6344 : BitVec 32 := 7#32
  let v16288 : BitVec 32 := Scalar.addi v16171 c7_i32_6344
  let v16289 : BitVec 1 := Scalar.cmpi .slt v16288 v16174
  let c65535_i32_6345 : BitVec 32 := 65535#32
  let v16292 : BitVec 32 := Scalar.andi v16291 c65535_i32_6345
  let c2048_i32_6346 : BitVec 32 := 2048#32
  let v16293 : BitVec 32 := Scalar.select v16289 v16292 c2048_i32_6346
  let v16294 : BitVec 32 := Scalar.addi v11087 v16293
  let v16297 : Index := Scalar.indexCast v16294
  let c0_6348 : Index := 0#32
  ![v16297.toNat, 0]

def k0_chk349 (i : grid0.Coords) (k0_t1 : Fin k0_t1_loop.trips) (v16171 : BitVec 32) (v16174 : BitVec 32) (v16291 : BitVec 32) : Prop :=
  (∀ (k0_h1 : k0_cond1 i = 1#1), ∀ a, (k0_off699 k0_t1 v16171 v16174 v16291) a + S1x128.size a ≤ S8224x128.size a)
theorem k0_off699_inb : ∀ (i : grid0.Coords) (k0_t1 : Fin k0_t1_loop.trips) (v16171 : BitVec 32) (v16174 : BitVec 32) (v16291 : BitVec 32) (k0_hw349 : k0_chk349 i k0_t1 v16171 v16174 v16291), ∀ (k0_h1 : k0_cond1 i = 1#1), ∀ a, (k0_off699 k0_t1 v16171 v16174 v16291) a + S1x128.size a ≤ S8224x128.size a := fun i k0_t1 v16171 v16174 v16291 k0_hw349 k0_h1 => k0_hw349 k0_h1

def k0_off700 (v16171 : BitVec 32) : Fin 1 → Nat :=
  let c8_i32_6349 : BitVec 32 := 8#32
  let v16302 : BitVec 32 := Scalar.addi v16171 c8_i32_6349
  let v16305 : Index := Scalar.indexCast v16302
  ![v16305.toNat]
def k0_off701 (k0_t1 : Fin k0_t1_loop.trips) (v16171 : BitVec 32) (v16174 : BitVec 32) (v16306 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_6350 : BitVec 32 := 8#32
  let v16303 : BitVec 32 := Scalar.addi v16171 c8_i32_6350
  let v16304 : BitVec 1 := Scalar.cmpi .slt v16303 v16174
  let c65535_i32_6351 : BitVec 32 := 65535#32
  let v16307 : BitVec 32 := Scalar.andi v16306 c65535_i32_6351
  let c2048_i32_6352 : BitVec 32 := 2048#32
  let v16308 : BitVec 32 := Scalar.select v16304 v16307 c2048_i32_6352
  let v16309 : BitVec 32 := Scalar.addi v11087 v16308
  let v16312 : Index := Scalar.indexCast v16309
  let c0_6354 : Index := 0#32
  ![v16312.toNat, 0]

def k0_chk350 (i : grid0.Coords) (k0_t1 : Fin k0_t1_loop.trips) (v16171 : BitVec 32) (v16174 : BitVec 32) (v16306 : BitVec 32) : Prop :=
  (∀ (k0_h1 : k0_cond1 i = 1#1), ∀ a, (k0_off701 k0_t1 v16171 v16174 v16306) a + S1x128.size a ≤ S8224x128.size a)
theorem k0_off701_inb : ∀ (i : grid0.Coords) (k0_t1 : Fin k0_t1_loop.trips) (v16171 : BitVec 32) (v16174 : BitVec 32) (v16306 : BitVec 32) (k0_hw350 : k0_chk350 i k0_t1 v16171 v16174 v16306), ∀ (k0_h1 : k0_cond1 i = 1#1), ∀ a, (k0_off701 k0_t1 v16171 v16174 v16306) a + S1x128.size a ≤ S8224x128.size a := fun i k0_t1 v16171 v16174 v16306 k0_hw350 k0_h1 => k0_hw350 k0_h1

def k0_off702 (v16171 : BitVec 32) : Fin 1 → Nat :=
  let c9_i32_6355 : BitVec 32 := 9#32
  let v16317 : BitVec 32 := Scalar.addi v16171 c9_i32_6355
  let v16320 : Index := Scalar.indexCast v16317
  ![v16320.toNat]
def k0_off703 (k0_t1 : Fin k0_t1_loop.trips) (v16171 : BitVec 32) (v16174 : BitVec 32) (v16321 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_6356 : BitVec 32 := 9#32
  let v16318 : BitVec 32 := Scalar.addi v16171 c9_i32_6356
  let v16319 : BitVec 1 := Scalar.cmpi .slt v16318 v16174
  let c65535_i32_6357 : BitVec 32 := 65535#32
  let v16322 : BitVec 32 := Scalar.andi v16321 c65535_i32_6357
  let c2048_i32_6358 : BitVec 32 := 2048#32
  let v16323 : BitVec 32 := Scalar.select v16319 v16322 c2048_i32_6358
  let v16324 : BitVec 32 := Scalar.addi v11087 v16323
  let v16327 : Index := Scalar.indexCast v16324
  let c0_6360 : Index := 0#32
  ![v16327.toNat, 0]

def k0_chk351 (i : grid0.Coords) (k0_t1 : Fin k0_t1_loop.trips) (v16171 : BitVec 32) (v16174 : BitVec 32) (v16321 : BitVec 32) : Prop :=
  (∀ (k0_h1 : k0_cond1 i = 1#1), ∀ a, (k0_off703 k0_t1 v16171 v16174 v16321) a + S1x128.size a ≤ S8224x128.size a)
theorem k0_off703_inb : ∀ (i : grid0.Coords) (k0_t1 : Fin k0_t1_loop.trips) (v16171 : BitVec 32) (v16174 : BitVec 32) (v16321 : BitVec 32) (k0_hw351 : k0_chk351 i k0_t1 v16171 v16174 v16321), ∀ (k0_h1 : k0_cond1 i = 1#1), ∀ a, (k0_off703 k0_t1 v16171 v16174 v16321) a + S1x128.size a ≤ S8224x128.size a := fun i k0_t1 v16171 v16174 v16321 k0_hw351 k0_h1 => k0_hw351 k0_h1

def k0_off704 (v16171 : BitVec 32) : Fin 1 → Nat :=
  let c10_i32_6361 : BitVec 32 := 10#32
  let v16332 : BitVec 32 := Scalar.addi v16171 c10_i32_6361
  let v16335 : Index := Scalar.indexCast v16332
  ![v16335.toNat]
def k0_off705 (k0_t1 : Fin k0_t1_loop.trips) (v16171 : BitVec 32) (v16174 : BitVec 32) (v16336 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_6362 : BitVec 32 := 10#32
  let v16333 : BitVec 32 := Scalar.addi v16171 c10_i32_6362
  let v16334 : BitVec 1 := Scalar.cmpi .slt v16333 v16174
  let c65535_i32_6363 : BitVec 32 := 65535#32
  let v16337 : BitVec 32 := Scalar.andi v16336 c65535_i32_6363
  let c2048_i32_6364 : BitVec 32 := 2048#32
  let v16338 : BitVec 32 := Scalar.select v16334 v16337 c2048_i32_6364
  let v16339 : BitVec 32 := Scalar.addi v11087 v16338
  let v16342 : Index := Scalar.indexCast v16339
  let c0_6366 : Index := 0#32
  ![v16342.toNat, 0]

def k0_chk352 (i : grid0.Coords) (k0_t1 : Fin k0_t1_loop.trips) (v16171 : BitVec 32) (v16174 : BitVec 32) (v16336 : BitVec 32) : Prop :=
  (∀ (k0_h1 : k0_cond1 i = 1#1), ∀ a, (k0_off705 k0_t1 v16171 v16174 v16336) a + S1x128.size a ≤ S8224x128.size a)
theorem k0_off705_inb : ∀ (i : grid0.Coords) (k0_t1 : Fin k0_t1_loop.trips) (v16171 : BitVec 32) (v16174 : BitVec 32) (v16336 : BitVec 32) (k0_hw352 : k0_chk352 i k0_t1 v16171 v16174 v16336), ∀ (k0_h1 : k0_cond1 i = 1#1), ∀ a, (k0_off705 k0_t1 v16171 v16174 v16336) a + S1x128.size a ≤ S8224x128.size a := fun i k0_t1 v16171 v16174 v16336 k0_hw352 k0_h1 => k0_hw352 k0_h1

def k0_off706 (v16171 : BitVec 32) : Fin 1 → Nat :=
  let c11_i32_6367 : BitVec 32 := 11#32
  let v16347 : BitVec 32 := Scalar.addi v16171 c11_i32_6367
  let v16350 : Index := Scalar.indexCast v16347
  ![v16350.toNat]
def k0_off707 (k0_t1 : Fin k0_t1_loop.trips) (v16171 : BitVec 32) (v16174 : BitVec 32) (v16351 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_6368 : BitVec 32 := 11#32
  let v16348 : BitVec 32 := Scalar.addi v16171 c11_i32_6368
  let v16349 : BitVec 1 := Scalar.cmpi .slt v16348 v16174
  let c65535_i32_6369 : BitVec 32 := 65535#32
  let v16352 : BitVec 32 := Scalar.andi v16351 c65535_i32_6369
  let c2048_i32_6370 : BitVec 32 := 2048#32
  let v16353 : BitVec 32 := Scalar.select v16349 v16352 c2048_i32_6370
  let v16354 : BitVec 32 := Scalar.addi v11087 v16353
  let v16357 : Index := Scalar.indexCast v16354
  let c0_6372 : Index := 0#32
  ![v16357.toNat, 0]

def k0_chk353 (i : grid0.Coords) (k0_t1 : Fin k0_t1_loop.trips) (v16171 : BitVec 32) (v16174 : BitVec 32) (v16351 : BitVec 32) : Prop :=
  (∀ (k0_h1 : k0_cond1 i = 1#1), ∀ a, (k0_off707 k0_t1 v16171 v16174 v16351) a + S1x128.size a ≤ S8224x128.size a)
theorem k0_off707_inb : ∀ (i : grid0.Coords) (k0_t1 : Fin k0_t1_loop.trips) (v16171 : BitVec 32) (v16174 : BitVec 32) (v16351 : BitVec 32) (k0_hw353 : k0_chk353 i k0_t1 v16171 v16174 v16351), ∀ (k0_h1 : k0_cond1 i = 1#1), ∀ a, (k0_off707 k0_t1 v16171 v16174 v16351) a + S1x128.size a ≤ S8224x128.size a := fun i k0_t1 v16171 v16174 v16351 k0_hw353 k0_h1 => k0_hw353 k0_h1

def k0_off708 (v16171 : BitVec 32) : Fin 1 → Nat :=
  let c12_i32_6373 : BitVec 32 := 12#32
  let v16362 : BitVec 32 := Scalar.addi v16171 c12_i32_6373
  let v16365 : Index := Scalar.indexCast v16362
  ![v16365.toNat]
def k0_off709 (k0_t1 : Fin k0_t1_loop.trips) (v16171 : BitVec 32) (v16174 : BitVec 32) (v16366 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_6374 : BitVec 32 := 12#32
  let v16363 : BitVec 32 := Scalar.addi v16171 c12_i32_6374
  let v16364 : BitVec 1 := Scalar.cmpi .slt v16363 v16174
  let c65535_i32_6375 : BitVec 32 := 65535#32
  let v16367 : BitVec 32 := Scalar.andi v16366 c65535_i32_6375
  let c2048_i32_6376 : BitVec 32 := 2048#32
  let v16368 : BitVec 32 := Scalar.select v16364 v16367 c2048_i32_6376
  let v16369 : BitVec 32 := Scalar.addi v11087 v16368
  let v16372 : Index := Scalar.indexCast v16369
  let c0_6378 : Index := 0#32
  ![v16372.toNat, 0]

def k0_chk354 (i : grid0.Coords) (k0_t1 : Fin k0_t1_loop.trips) (v16171 : BitVec 32) (v16174 : BitVec 32) (v16366 : BitVec 32) : Prop :=
  (∀ (k0_h1 : k0_cond1 i = 1#1), ∀ a, (k0_off709 k0_t1 v16171 v16174 v16366) a + S1x128.size a ≤ S8224x128.size a)
theorem k0_off709_inb : ∀ (i : grid0.Coords) (k0_t1 : Fin k0_t1_loop.trips) (v16171 : BitVec 32) (v16174 : BitVec 32) (v16366 : BitVec 32) (k0_hw354 : k0_chk354 i k0_t1 v16171 v16174 v16366), ∀ (k0_h1 : k0_cond1 i = 1#1), ∀ a, (k0_off709 k0_t1 v16171 v16174 v16366) a + S1x128.size a ≤ S8224x128.size a := fun i k0_t1 v16171 v16174 v16366 k0_hw354 k0_h1 => k0_hw354 k0_h1

def k0_off710 (v16171 : BitVec 32) : Fin 1 → Nat :=
  let c13_i32_6379 : BitVec 32 := 13#32
  let v16377 : BitVec 32 := Scalar.addi v16171 c13_i32_6379
  let v16380 : Index := Scalar.indexCast v16377
  ![v16380.toNat]
def k0_off711 (k0_t1 : Fin k0_t1_loop.trips) (v16171 : BitVec 32) (v16174 : BitVec 32) (v16381 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_6380 : BitVec 32 := 13#32
  let v16378 : BitVec 32 := Scalar.addi v16171 c13_i32_6380
  let v16379 : BitVec 1 := Scalar.cmpi .slt v16378 v16174
  let c65535_i32_6381 : BitVec 32 := 65535#32
  let v16382 : BitVec 32 := Scalar.andi v16381 c65535_i32_6381
  let c2048_i32_6382 : BitVec 32 := 2048#32
  let v16383 : BitVec 32 := Scalar.select v16379 v16382 c2048_i32_6382
  let v16384 : BitVec 32 := Scalar.addi v11087 v16383
  let v16387 : Index := Scalar.indexCast v16384
  let c0_6384 : Index := 0#32
  ![v16387.toNat, 0]

def k0_chk355 (i : grid0.Coords) (k0_t1 : Fin k0_t1_loop.trips) (v16171 : BitVec 32) (v16174 : BitVec 32) (v16381 : BitVec 32) : Prop :=
  (∀ (k0_h1 : k0_cond1 i = 1#1), ∀ a, (k0_off711 k0_t1 v16171 v16174 v16381) a + S1x128.size a ≤ S8224x128.size a)
theorem k0_off711_inb : ∀ (i : grid0.Coords) (k0_t1 : Fin k0_t1_loop.trips) (v16171 : BitVec 32) (v16174 : BitVec 32) (v16381 : BitVec 32) (k0_hw355 : k0_chk355 i k0_t1 v16171 v16174 v16381), ∀ (k0_h1 : k0_cond1 i = 1#1), ∀ a, (k0_off711 k0_t1 v16171 v16174 v16381) a + S1x128.size a ≤ S8224x128.size a := fun i k0_t1 v16171 v16174 v16381 k0_hw355 k0_h1 => k0_hw355 k0_h1

def k0_off712 (v16171 : BitVec 32) : Fin 1 → Nat :=
  let c14_i32_6385 : BitVec 32 := 14#32
  let v16392 : BitVec 32 := Scalar.addi v16171 c14_i32_6385
  let v16395 : Index := Scalar.indexCast v16392
  ![v16395.toNat]
def k0_off713 (k0_t1 : Fin k0_t1_loop.trips) (v16171 : BitVec 32) (v16174 : BitVec 32) (v16396 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_6386 : BitVec 32 := 14#32
  let v16393 : BitVec 32 := Scalar.addi v16171 c14_i32_6386
  let v16394 : BitVec 1 := Scalar.cmpi .slt v16393 v16174
  let c65535_i32_6387 : BitVec 32 := 65535#32
  let v16397 : BitVec 32 := Scalar.andi v16396 c65535_i32_6387
  let c2048_i32_6388 : BitVec 32 := 2048#32
  let v16398 : BitVec 32 := Scalar.select v16394 v16397 c2048_i32_6388
  let v16399 : BitVec 32 := Scalar.addi v11087 v16398
  let v16402 : Index := Scalar.indexCast v16399
  let c0_6390 : Index := 0#32
  ![v16402.toNat, 0]

def k0_chk356 (i : grid0.Coords) (k0_t1 : Fin k0_t1_loop.trips) (v16171 : BitVec 32) (v16174 : BitVec 32) (v16396 : BitVec 32) : Prop :=
  (∀ (k0_h1 : k0_cond1 i = 1#1), ∀ a, (k0_off713 k0_t1 v16171 v16174 v16396) a + S1x128.size a ≤ S8224x128.size a)
theorem k0_off713_inb : ∀ (i : grid0.Coords) (k0_t1 : Fin k0_t1_loop.trips) (v16171 : BitVec 32) (v16174 : BitVec 32) (v16396 : BitVec 32) (k0_hw356 : k0_chk356 i k0_t1 v16171 v16174 v16396), ∀ (k0_h1 : k0_cond1 i = 1#1), ∀ a, (k0_off713 k0_t1 v16171 v16174 v16396) a + S1x128.size a ≤ S8224x128.size a := fun i k0_t1 v16171 v16174 v16396 k0_hw356 k0_h1 => k0_hw356 k0_h1

def k0_off714 (v16171 : BitVec 32) : Fin 1 → Nat :=
  let c15_i32_6391 : BitVec 32 := 15#32
  let v16407 : BitVec 32 := Scalar.addi v16171 c15_i32_6391
  let v16410 : Index := Scalar.indexCast v16407
  ![v16410.toNat]

def k0_chk341 (i : grid0.Coords) (v16171 : BitVec 32) : Prop :=
  (∀ (k0_h1 : k0_cond1 i = 1#1), ∀ a, (k0_off684 v16171) a + S1.size a ≤ S51920.size a) ∧
  (∀ (k0_h1 : k0_cond1 i = 1#1), ∀ a, (k0_off686 v16171) a + S1.size a ≤ S51920.size a) ∧
  (∀ (k0_h1 : k0_cond1 i = 1#1), ∀ a, (k0_off688 v16171) a + S1.size a ≤ S51920.size a) ∧
  (∀ (k0_h1 : k0_cond1 i = 1#1), ∀ a, (k0_off690 v16171) a + S1.size a ≤ S51920.size a) ∧
  (∀ (k0_h1 : k0_cond1 i = 1#1), ∀ a, (k0_off692 v16171) a + S1.size a ≤ S51920.size a) ∧
  (∀ (k0_h1 : k0_cond1 i = 1#1), ∀ a, (k0_off694 v16171) a + S1.size a ≤ S51920.size a) ∧
  (∀ (k0_h1 : k0_cond1 i = 1#1), ∀ a, (k0_off696 v16171) a + S1.size a ≤ S51920.size a) ∧
  (∀ (k0_h1 : k0_cond1 i = 1#1), ∀ a, (k0_off698 v16171) a + S1.size a ≤ S51920.size a) ∧
  (∀ (k0_h1 : k0_cond1 i = 1#1), ∀ a, (k0_off700 v16171) a + S1.size a ≤ S51920.size a) ∧
  (∀ (k0_h1 : k0_cond1 i = 1#1), ∀ a, (k0_off702 v16171) a + S1.size a ≤ S51920.size a) ∧
  (∀ (k0_h1 : k0_cond1 i = 1#1), ∀ a, (k0_off704 v16171) a + S1.size a ≤ S51920.size a) ∧
  (∀ (k0_h1 : k0_cond1 i = 1#1), ∀ a, (k0_off706 v16171) a + S1.size a ≤ S51920.size a) ∧
  (∀ (k0_h1 : k0_cond1 i = 1#1), ∀ a, (k0_off708 v16171) a + S1.size a ≤ S51920.size a) ∧
  (∀ (k0_h1 : k0_cond1 i = 1#1), ∀ a, (k0_off710 v16171) a + S1.size a ≤ S51920.size a) ∧
  (∀ (k0_h1 : k0_cond1 i = 1#1), ∀ a, (k0_off712 v16171) a + S1.size a ≤ S51920.size a) ∧
  (∀ (k0_h1 : k0_cond1 i = 1#1), ∀ a, (k0_off714 v16171) a + S1.size a ≤ S51920.size a)
theorem k0_off684_inb : ∀ (i : grid0.Coords) (v16171 : BitVec 32) (k0_hw341 : k0_chk341 i v16171), ∀ (k0_h1 : k0_cond1 i = 1#1), ∀ a, (k0_off684 v16171) a + S1.size a ≤ S51920.size a := fun i v16171 k0_hw341 k0_h1 => k0_hw341.1 k0_h1
theorem k0_off686_inb : ∀ (i : grid0.Coords) (v16171 : BitVec 32) (k0_hw341 : k0_chk341 i v16171), ∀ (k0_h1 : k0_cond1 i = 1#1), ∀ a, (k0_off686 v16171) a + S1.size a ≤ S51920.size a := fun i v16171 k0_hw341 k0_h1 => k0_hw341.2.1 k0_h1
theorem k0_off688_inb : ∀ (i : grid0.Coords) (v16171 : BitVec 32) (k0_hw341 : k0_chk341 i v16171), ∀ (k0_h1 : k0_cond1 i = 1#1), ∀ a, (k0_off688 v16171) a + S1.size a ≤ S51920.size a := fun i v16171 k0_hw341 k0_h1 => k0_hw341.2.2.1 k0_h1
theorem k0_off690_inb : ∀ (i : grid0.Coords) (v16171 : BitVec 32) (k0_hw341 : k0_chk341 i v16171), ∀ (k0_h1 : k0_cond1 i = 1#1), ∀ a, (k0_off690 v16171) a + S1.size a ≤ S51920.size a := fun i v16171 k0_hw341 k0_h1 => k0_hw341.2.2.2.1 k0_h1
theorem k0_off692_inb : ∀ (i : grid0.Coords) (v16171 : BitVec 32) (k0_hw341 : k0_chk341 i v16171), ∀ (k0_h1 : k0_cond1 i = 1#1), ∀ a, (k0_off692 v16171) a + S1.size a ≤ S51920.size a := fun i v16171 k0_hw341 k0_h1 => k0_hw341.2.2.2.2.1 k0_h1
theorem k0_off694_inb : ∀ (i : grid0.Coords) (v16171 : BitVec 32) (k0_hw341 : k0_chk341 i v16171), ∀ (k0_h1 : k0_cond1 i = 1#1), ∀ a, (k0_off694 v16171) a + S1.size a ≤ S51920.size a := fun i v16171 k0_hw341 k0_h1 => k0_hw341.2.2.2.2.2.1 k0_h1
theorem k0_off696_inb : ∀ (i : grid0.Coords) (v16171 : BitVec 32) (k0_hw341 : k0_chk341 i v16171), ∀ (k0_h1 : k0_cond1 i = 1#1), ∀ a, (k0_off696 v16171) a + S1.size a ≤ S51920.size a := fun i v16171 k0_hw341 k0_h1 => k0_hw341.2.2.2.2.2.2.1 k0_h1
theorem k0_off698_inb : ∀ (i : grid0.Coords) (v16171 : BitVec 32) (k0_hw341 : k0_chk341 i v16171), ∀ (k0_h1 : k0_cond1 i = 1#1), ∀ a, (k0_off698 v16171) a + S1.size a ≤ S51920.size a := fun i v16171 k0_hw341 k0_h1 => k0_hw341.2.2.2.2.2.2.2.1 k0_h1
theorem k0_off700_inb : ∀ (i : grid0.Coords) (v16171 : BitVec 32) (k0_hw341 : k0_chk341 i v16171), ∀ (k0_h1 : k0_cond1 i = 1#1), ∀ a, (k0_off700 v16171) a + S1.size a ≤ S51920.size a := fun i v16171 k0_hw341 k0_h1 => k0_hw341.2.2.2.2.2.2.2.2.1 k0_h1
theorem k0_off702_inb : ∀ (i : grid0.Coords) (v16171 : BitVec 32) (k0_hw341 : k0_chk341 i v16171), ∀ (k0_h1 : k0_cond1 i = 1#1), ∀ a, (k0_off702 v16171) a + S1.size a ≤ S51920.size a := fun i v16171 k0_hw341 k0_h1 => k0_hw341.2.2.2.2.2.2.2.2.2.1 k0_h1
theorem k0_off704_inb : ∀ (i : grid0.Coords) (v16171 : BitVec 32) (k0_hw341 : k0_chk341 i v16171), ∀ (k0_h1 : k0_cond1 i = 1#1), ∀ a, (k0_off704 v16171) a + S1.size a ≤ S51920.size a := fun i v16171 k0_hw341 k0_h1 => k0_hw341.2.2.2.2.2.2.2.2.2.2.1 k0_h1
theorem k0_off706_inb : ∀ (i : grid0.Coords) (v16171 : BitVec 32) (k0_hw341 : k0_chk341 i v16171), ∀ (k0_h1 : k0_cond1 i = 1#1), ∀ a, (k0_off706 v16171) a + S1.size a ≤ S51920.size a := fun i v16171 k0_hw341 k0_h1 => k0_hw341.2.2.2.2.2.2.2.2.2.2.2.1 k0_h1
theorem k0_off708_inb : ∀ (i : grid0.Coords) (v16171 : BitVec 32) (k0_hw341 : k0_chk341 i v16171), ∀ (k0_h1 : k0_cond1 i = 1#1), ∀ a, (k0_off708 v16171) a + S1.size a ≤ S51920.size a := fun i v16171 k0_hw341 k0_h1 => k0_hw341.2.2.2.2.2.2.2.2.2.2.2.2.1 k0_h1
theorem k0_off710_inb : ∀ (i : grid0.Coords) (v16171 : BitVec 32) (k0_hw341 : k0_chk341 i v16171), ∀ (k0_h1 : k0_cond1 i = 1#1), ∀ a, (k0_off710 v16171) a + S1.size a ≤ S51920.size a := fun i v16171 k0_hw341 k0_h1 => k0_hw341.2.2.2.2.2.2.2.2.2.2.2.2.2.1 k0_h1
theorem k0_off712_inb : ∀ (i : grid0.Coords) (v16171 : BitVec 32) (k0_hw341 : k0_chk341 i v16171), ∀ (k0_h1 : k0_cond1 i = 1#1), ∀ a, (k0_off712 v16171) a + S1.size a ≤ S51920.size a := fun i v16171 k0_hw341 k0_h1 => k0_hw341.2.2.2.2.2.2.2.2.2.2.2.2.2.2.1 k0_h1
theorem k0_off714_inb : ∀ (i : grid0.Coords) (v16171 : BitVec 32) (k0_hw341 : k0_chk341 i v16171), ∀ (k0_h1 : k0_cond1 i = 1#1), ∀ a, (k0_off714 v16171) a + S1.size a ≤ S51920.size a := fun i v16171 k0_hw341 k0_h1 => k0_hw341.2.2.2.2.2.2.2.2.2.2.2.2.2.2.2 k0_h1

def k0_off715 (k0_t1 : Fin k0_t1_loop.trips) (v16171 : BitVec 32) (v16174 : BitVec 32) (v16411 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_6392 : BitVec 32 := 15#32
  let v16408 : BitVec 32 := Scalar.addi v16171 c15_i32_6392
  let v16409 : BitVec 1 := Scalar.cmpi .slt v16408 v16174
  let c65535_i32_6393 : BitVec 32 := 65535#32
  let v16412 : BitVec 32 := Scalar.andi v16411 c65535_i32_6393
  let c2048_i32_6394 : BitVec 32 := 2048#32
  let v16413 : BitVec 32 := Scalar.select v16409 v16412 c2048_i32_6394
  let v16414 : BitVec 32 := Scalar.addi v11087 v16413
  let v16417 : Index := Scalar.indexCast v16414
  let c0_6396 : Index := 0#32
  ![v16417.toNat, 0]

def k0_chk357 (i : grid0.Coords) (k0_t1 : Fin k0_t1_loop.trips) (v16171 : BitVec 32) (v16174 : BitVec 32) (v16411 : BitVec 32) : Prop :=
  (∀ (k0_h1 : k0_cond1 i = 1#1), ∀ a, (k0_off715 k0_t1 v16171 v16174 v16411) a + S1x128.size a ≤ S8224x128.size a)
theorem k0_off715_inb : ∀ (i : grid0.Coords) (k0_t1 : Fin k0_t1_loop.trips) (v16171 : BitVec 32) (v16174 : BitVec 32) (v16411 : BitVec 32) (k0_hw357 : k0_chk357 i k0_t1 v16171 v16174 v16411), ∀ (k0_h1 : k0_cond1 i = 1#1), ∀ a, (k0_off715 k0_t1 v16171 v16174 v16411) a + S1x128.size a ≤ S8224x128.size a := fun i k0_t1 v16171 v16174 v16411 k0_hw357 k0_h1 => k0_hw357 k0_h1

def k0_off716 (k0_t1 : Fin k0_t1_loop.trips) : Fin 1 → Nat :=
  let c0_i32_6397 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v16422 : BitVec 32 := Scalar.addi c0_i32_6397 v11069
  let c21_i32_6398 : BitVec 32 := 21#32
  let v16423 : BitVec 32 := Scalar.addi v16422 c21_i32_6398
  let v16424 : Index := Scalar.indexCast v16423
  ![v16424.toNat]
def k0_off717 (k0_t1 : Fin k0_t1_loop.trips) : Fin 1 → Nat :=
  let c0_i32_6397 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v16422 : BitVec 32 := Scalar.addi c0_i32_6397 v11069
  let c21_i32_6398 : BitVec 32 := 21#32
  let v16423 : BitVec 32 := Scalar.addi v16422 c21_i32_6398
  let c1_i32_6399 : BitVec 32 := 1#32
  let v16426 : BitVec 32 := Scalar.addi v16423 c1_i32_6399
  let v16427 : Index := Scalar.indexCast v16426
  ![v16427.toNat]
def k0_off718 (v16425 : BitVec 32) : Fin 1 → Nat :=
  let c0_i32_6402 : BitVec 32 := 0#32
  let v16436 : BitVec 32 := Scalar.addi v16425 c0_i32_6402
  let v16439 : Index := Scalar.indexCast v16436
  ![v16439.toNat]

def k0_off719 (k0_t1 : Fin k0_t1_loop.trips) (v16425 : BitVec 32) (v16428 : BitVec 32) (v16440 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_6403 : BitVec 32 := 0#32
  let v16437 : BitVec 32 := Scalar.addi v16425 c0_i32_6403
  let v16438 : BitVec 1 := Scalar.cmpi .slt v16437 v16428
  let c65535_i32_6404 : BitVec 32 := 65535#32
  let v16441 : BitVec 32 := Scalar.andi v16440 c65535_i32_6404
  let c2048_i32_6405 : BitVec 32 := 2048#32
  let v16442 : BitVec 32 := Scalar.select v16438 v16441 c2048_i32_6405
  let v16443 : BitVec 32 := Scalar.addi v11087 v16442
  let v16446 : Index := Scalar.indexCast v16443
  let c0_6407 : Index := 0#32
  ![v16446.toNat, 0]

def k0_chk359 (i : grid0.Coords) (k0_t1 : Fin k0_t1_loop.trips) (v16425 : BitVec 32) (v16428 : BitVec 32) (v16440 : BitVec 32) : Prop :=
  (∀ (k0_h1 : k0_cond1 i = 1#1), ∀ a, (k0_off719 k0_t1 v16425 v16428 v16440) a + S1x128.size a ≤ S8224x128.size a)
theorem k0_off719_inb : ∀ (i : grid0.Coords) (k0_t1 : Fin k0_t1_loop.trips) (v16425 : BitVec 32) (v16428 : BitVec 32) (v16440 : BitVec 32) (k0_hw359 : k0_chk359 i k0_t1 v16425 v16428 v16440), ∀ (k0_h1 : k0_cond1 i = 1#1), ∀ a, (k0_off719 k0_t1 v16425 v16428 v16440) a + S1x128.size a ≤ S8224x128.size a := fun i k0_t1 v16425 v16428 v16440 k0_hw359 k0_h1 => k0_hw359 k0_h1

def k0_off720 (v16425 : BitVec 32) : Fin 1 → Nat :=
  let c1_i32_6408 : BitVec 32 := 1#32
  let v16451 : BitVec 32 := Scalar.addi v16425 c1_i32_6408
  let v16454 : Index := Scalar.indexCast v16451
  ![v16454.toNat]
def k0_off721 (k0_t1 : Fin k0_t1_loop.trips) (v16425 : BitVec 32) (v16428 : BitVec 32) (v16455 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_6409 : BitVec 32 := 1#32
  let v16452 : BitVec 32 := Scalar.addi v16425 c1_i32_6409
  let v16453 : BitVec 1 := Scalar.cmpi .slt v16452 v16428
  let c65535_i32_6410 : BitVec 32 := 65535#32
  let v16456 : BitVec 32 := Scalar.andi v16455 c65535_i32_6410
  let c2048_i32_6411 : BitVec 32 := 2048#32
  let v16457 : BitVec 32 := Scalar.select v16453 v16456 c2048_i32_6411
  let v16458 : BitVec 32 := Scalar.addi v11087 v16457
  let v16461 : Index := Scalar.indexCast v16458
  let c0_6413 : Index := 0#32
  ![v16461.toNat, 0]

def k0_chk360 (i : grid0.Coords) (k0_t1 : Fin k0_t1_loop.trips) (v16425 : BitVec 32) (v16428 : BitVec 32) (v16455 : BitVec 32) : Prop :=
  (∀ (k0_h1 : k0_cond1 i = 1#1), ∀ a, (k0_off721 k0_t1 v16425 v16428 v16455) a + S1x128.size a ≤ S8224x128.size a)
theorem k0_off721_inb : ∀ (i : grid0.Coords) (k0_t1 : Fin k0_t1_loop.trips) (v16425 : BitVec 32) (v16428 : BitVec 32) (v16455 : BitVec 32) (k0_hw360 : k0_chk360 i k0_t1 v16425 v16428 v16455), ∀ (k0_h1 : k0_cond1 i = 1#1), ∀ a, (k0_off721 k0_t1 v16425 v16428 v16455) a + S1x128.size a ≤ S8224x128.size a := fun i k0_t1 v16425 v16428 v16455 k0_hw360 k0_h1 => k0_hw360 k0_h1

def k0_off722 (v16425 : BitVec 32) : Fin 1 → Nat :=
  let c2_i32_6414 : BitVec 32 := 2#32
  let v16466 : BitVec 32 := Scalar.addi v16425 c2_i32_6414
  let v16469 : Index := Scalar.indexCast v16466
  ![v16469.toNat]
def k0_off723 (k0_t1 : Fin k0_t1_loop.trips) (v16425 : BitVec 32) (v16428 : BitVec 32) (v16470 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_6415 : BitVec 32 := 2#32
  let v16467 : BitVec 32 := Scalar.addi v16425 c2_i32_6415
  let v16468 : BitVec 1 := Scalar.cmpi .slt v16467 v16428
  let c65535_i32_6416 : BitVec 32 := 65535#32
  let v16471 : BitVec 32 := Scalar.andi v16470 c65535_i32_6416
  let c2048_i32_6417 : BitVec 32 := 2048#32
  let v16472 : BitVec 32 := Scalar.select v16468 v16471 c2048_i32_6417
  let v16473 : BitVec 32 := Scalar.addi v11087 v16472
  let v16476 : Index := Scalar.indexCast v16473
  let c0_6419 : Index := 0#32
  ![v16476.toNat, 0]

def k0_chk361 (i : grid0.Coords) (k0_t1 : Fin k0_t1_loop.trips) (v16425 : BitVec 32) (v16428 : BitVec 32) (v16470 : BitVec 32) : Prop :=
  (∀ (k0_h1 : k0_cond1 i = 1#1), ∀ a, (k0_off723 k0_t1 v16425 v16428 v16470) a + S1x128.size a ≤ S8224x128.size a)
theorem k0_off723_inb : ∀ (i : grid0.Coords) (k0_t1 : Fin k0_t1_loop.trips) (v16425 : BitVec 32) (v16428 : BitVec 32) (v16470 : BitVec 32) (k0_hw361 : k0_chk361 i k0_t1 v16425 v16428 v16470), ∀ (k0_h1 : k0_cond1 i = 1#1), ∀ a, (k0_off723 k0_t1 v16425 v16428 v16470) a + S1x128.size a ≤ S8224x128.size a := fun i k0_t1 v16425 v16428 v16470 k0_hw361 k0_h1 => k0_hw361 k0_h1

def k0_off724 (v16425 : BitVec 32) : Fin 1 → Nat :=
  let c3_i32_6420 : BitVec 32 := 3#32
  let v16481 : BitVec 32 := Scalar.addi v16425 c3_i32_6420
  let v16484 : Index := Scalar.indexCast v16481
  ![v16484.toNat]
def k0_off725 (k0_t1 : Fin k0_t1_loop.trips) (v16425 : BitVec 32) (v16428 : BitVec 32) (v16485 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_6421 : BitVec 32 := 3#32
  let v16482 : BitVec 32 := Scalar.addi v16425 c3_i32_6421
  let v16483 : BitVec 1 := Scalar.cmpi .slt v16482 v16428
  let c65535_i32_6422 : BitVec 32 := 65535#32
  let v16486 : BitVec 32 := Scalar.andi v16485 c65535_i32_6422
  let c2048_i32_6423 : BitVec 32 := 2048#32
  let v16487 : BitVec 32 := Scalar.select v16483 v16486 c2048_i32_6423
  let v16488 : BitVec 32 := Scalar.addi v11087 v16487
  let v16491 : Index := Scalar.indexCast v16488
  let c0_6425 : Index := 0#32
  ![v16491.toNat, 0]

def k0_chk362 (i : grid0.Coords) (k0_t1 : Fin k0_t1_loop.trips) (v16425 : BitVec 32) (v16428 : BitVec 32) (v16485 : BitVec 32) : Prop :=
  (∀ (k0_h1 : k0_cond1 i = 1#1), ∀ a, (k0_off725 k0_t1 v16425 v16428 v16485) a + S1x128.size a ≤ S8224x128.size a)
theorem k0_off725_inb : ∀ (i : grid0.Coords) (k0_t1 : Fin k0_t1_loop.trips) (v16425 : BitVec 32) (v16428 : BitVec 32) (v16485 : BitVec 32) (k0_hw362 : k0_chk362 i k0_t1 v16425 v16428 v16485), ∀ (k0_h1 : k0_cond1 i = 1#1), ∀ a, (k0_off725 k0_t1 v16425 v16428 v16485) a + S1x128.size a ≤ S8224x128.size a := fun i k0_t1 v16425 v16428 v16485 k0_hw362 k0_h1 => k0_hw362 k0_h1

def k0_off726 (v16425 : BitVec 32) : Fin 1 → Nat :=
  let c4_i32_6426 : BitVec 32 := 4#32
  let v16496 : BitVec 32 := Scalar.addi v16425 c4_i32_6426
  let v16499 : Index := Scalar.indexCast v16496
  ![v16499.toNat]
def k0_off727 (k0_t1 : Fin k0_t1_loop.trips) (v16425 : BitVec 32) (v16428 : BitVec 32) (v16500 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_6427 : BitVec 32 := 4#32
  let v16497 : BitVec 32 := Scalar.addi v16425 c4_i32_6427
  let v16498 : BitVec 1 := Scalar.cmpi .slt v16497 v16428
  let c65535_i32_6428 : BitVec 32 := 65535#32
  let v16501 : BitVec 32 := Scalar.andi v16500 c65535_i32_6428
  let c2048_i32_6429 : BitVec 32 := 2048#32
  let v16502 : BitVec 32 := Scalar.select v16498 v16501 c2048_i32_6429
  let v16503 : BitVec 32 := Scalar.addi v11087 v16502
  let v16506 : Index := Scalar.indexCast v16503
  let c0_6431 : Index := 0#32
  ![v16506.toNat, 0]

def k0_chk363 (i : grid0.Coords) (k0_t1 : Fin k0_t1_loop.trips) (v16425 : BitVec 32) (v16428 : BitVec 32) (v16500 : BitVec 32) : Prop :=
  (∀ (k0_h1 : k0_cond1 i = 1#1), ∀ a, (k0_off727 k0_t1 v16425 v16428 v16500) a + S1x128.size a ≤ S8224x128.size a)
theorem k0_off727_inb : ∀ (i : grid0.Coords) (k0_t1 : Fin k0_t1_loop.trips) (v16425 : BitVec 32) (v16428 : BitVec 32) (v16500 : BitVec 32) (k0_hw363 : k0_chk363 i k0_t1 v16425 v16428 v16500), ∀ (k0_h1 : k0_cond1 i = 1#1), ∀ a, (k0_off727 k0_t1 v16425 v16428 v16500) a + S1x128.size a ≤ S8224x128.size a := fun i k0_t1 v16425 v16428 v16500 k0_hw363 k0_h1 => k0_hw363 k0_h1

def k0_off728 (v16425 : BitVec 32) : Fin 1 → Nat :=
  let c5_i32_6432 : BitVec 32 := 5#32
  let v16511 : BitVec 32 := Scalar.addi v16425 c5_i32_6432
  let v16514 : Index := Scalar.indexCast v16511
  ![v16514.toNat]
def k0_off729 (k0_t1 : Fin k0_t1_loop.trips) (v16425 : BitVec 32) (v16428 : BitVec 32) (v16515 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_6433 : BitVec 32 := 5#32
  let v16512 : BitVec 32 := Scalar.addi v16425 c5_i32_6433
  let v16513 : BitVec 1 := Scalar.cmpi .slt v16512 v16428
  let c65535_i32_6434 : BitVec 32 := 65535#32
  let v16516 : BitVec 32 := Scalar.andi v16515 c65535_i32_6434
  let c2048_i32_6435 : BitVec 32 := 2048#32
  let v16517 : BitVec 32 := Scalar.select v16513 v16516 c2048_i32_6435
  let v16518 : BitVec 32 := Scalar.addi v11087 v16517
  let v16521 : Index := Scalar.indexCast v16518
  let c0_6437 : Index := 0#32
  ![v16521.toNat, 0]

def k0_chk364 (i : grid0.Coords) (k0_t1 : Fin k0_t1_loop.trips) (v16425 : BitVec 32) (v16428 : BitVec 32) (v16515 : BitVec 32) : Prop :=
  (∀ (k0_h1 : k0_cond1 i = 1#1), ∀ a, (k0_off729 k0_t1 v16425 v16428 v16515) a + S1x128.size a ≤ S8224x128.size a)
theorem k0_off729_inb : ∀ (i : grid0.Coords) (k0_t1 : Fin k0_t1_loop.trips) (v16425 : BitVec 32) (v16428 : BitVec 32) (v16515 : BitVec 32) (k0_hw364 : k0_chk364 i k0_t1 v16425 v16428 v16515), ∀ (k0_h1 : k0_cond1 i = 1#1), ∀ a, (k0_off729 k0_t1 v16425 v16428 v16515) a + S1x128.size a ≤ S8224x128.size a := fun i k0_t1 v16425 v16428 v16515 k0_hw364 k0_h1 => k0_hw364 k0_h1

def k0_off730 (v16425 : BitVec 32) : Fin 1 → Nat :=
  let c6_i32_6438 : BitVec 32 := 6#32
  let v16526 : BitVec 32 := Scalar.addi v16425 c6_i32_6438
  let v16529 : Index := Scalar.indexCast v16526
  ![v16529.toNat]
def k0_off731 (k0_t1 : Fin k0_t1_loop.trips) (v16425 : BitVec 32) (v16428 : BitVec 32) (v16530 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_6439 : BitVec 32 := 6#32
  let v16527 : BitVec 32 := Scalar.addi v16425 c6_i32_6439
  let v16528 : BitVec 1 := Scalar.cmpi .slt v16527 v16428
  let c65535_i32_6440 : BitVec 32 := 65535#32
  let v16531 : BitVec 32 := Scalar.andi v16530 c65535_i32_6440
  let c2048_i32_6441 : BitVec 32 := 2048#32
  let v16532 : BitVec 32 := Scalar.select v16528 v16531 c2048_i32_6441
  let v16533 : BitVec 32 := Scalar.addi v11087 v16532
  let v16536 : Index := Scalar.indexCast v16533
  let c0_6443 : Index := 0#32
  ![v16536.toNat, 0]

def k0_chk365 (i : grid0.Coords) (k0_t1 : Fin k0_t1_loop.trips) (v16425 : BitVec 32) (v16428 : BitVec 32) (v16530 : BitVec 32) : Prop :=
  (∀ (k0_h1 : k0_cond1 i = 1#1), ∀ a, (k0_off731 k0_t1 v16425 v16428 v16530) a + S1x128.size a ≤ S8224x128.size a)
theorem k0_off731_inb : ∀ (i : grid0.Coords) (k0_t1 : Fin k0_t1_loop.trips) (v16425 : BitVec 32) (v16428 : BitVec 32) (v16530 : BitVec 32) (k0_hw365 : k0_chk365 i k0_t1 v16425 v16428 v16530), ∀ (k0_h1 : k0_cond1 i = 1#1), ∀ a, (k0_off731 k0_t1 v16425 v16428 v16530) a + S1x128.size a ≤ S8224x128.size a := fun i k0_t1 v16425 v16428 v16530 k0_hw365 k0_h1 => k0_hw365 k0_h1

def k0_off732 (v16425 : BitVec 32) : Fin 1 → Nat :=
  let c7_i32_6444 : BitVec 32 := 7#32
  let v16541 : BitVec 32 := Scalar.addi v16425 c7_i32_6444
  let v16544 : Index := Scalar.indexCast v16541
  ![v16544.toNat]
def k0_off733 (k0_t1 : Fin k0_t1_loop.trips) (v16425 : BitVec 32) (v16428 : BitVec 32) (v16545 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_6445 : BitVec 32 := 7#32
  let v16542 : BitVec 32 := Scalar.addi v16425 c7_i32_6445
  let v16543 : BitVec 1 := Scalar.cmpi .slt v16542 v16428
  let c65535_i32_6446 : BitVec 32 := 65535#32
  let v16546 : BitVec 32 := Scalar.andi v16545 c65535_i32_6446
  let c2048_i32_6447 : BitVec 32 := 2048#32
  let v16547 : BitVec 32 := Scalar.select v16543 v16546 c2048_i32_6447
  let v16548 : BitVec 32 := Scalar.addi v11087 v16547
  let v16551 : Index := Scalar.indexCast v16548
  let c0_6449 : Index := 0#32
  ![v16551.toNat, 0]

def k0_chk366 (i : grid0.Coords) (k0_t1 : Fin k0_t1_loop.trips) (v16425 : BitVec 32) (v16428 : BitVec 32) (v16545 : BitVec 32) : Prop :=
  (∀ (k0_h1 : k0_cond1 i = 1#1), ∀ a, (k0_off733 k0_t1 v16425 v16428 v16545) a + S1x128.size a ≤ S8224x128.size a)
theorem k0_off733_inb : ∀ (i : grid0.Coords) (k0_t1 : Fin k0_t1_loop.trips) (v16425 : BitVec 32) (v16428 : BitVec 32) (v16545 : BitVec 32) (k0_hw366 : k0_chk366 i k0_t1 v16425 v16428 v16545), ∀ (k0_h1 : k0_cond1 i = 1#1), ∀ a, (k0_off733 k0_t1 v16425 v16428 v16545) a + S1x128.size a ≤ S8224x128.size a := fun i k0_t1 v16425 v16428 v16545 k0_hw366 k0_h1 => k0_hw366 k0_h1

def k0_off734 (v16425 : BitVec 32) : Fin 1 → Nat :=
  let c8_i32_6450 : BitVec 32 := 8#32
  let v16556 : BitVec 32 := Scalar.addi v16425 c8_i32_6450
  let v16559 : Index := Scalar.indexCast v16556
  ![v16559.toNat]
def k0_off735 (k0_t1 : Fin k0_t1_loop.trips) (v16425 : BitVec 32) (v16428 : BitVec 32) (v16560 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_6451 : BitVec 32 := 8#32
  let v16557 : BitVec 32 := Scalar.addi v16425 c8_i32_6451
  let v16558 : BitVec 1 := Scalar.cmpi .slt v16557 v16428
  let c65535_i32_6452 : BitVec 32 := 65535#32
  let v16561 : BitVec 32 := Scalar.andi v16560 c65535_i32_6452
  let c2048_i32_6453 : BitVec 32 := 2048#32
  let v16562 : BitVec 32 := Scalar.select v16558 v16561 c2048_i32_6453
  let v16563 : BitVec 32 := Scalar.addi v11087 v16562
  let v16566 : Index := Scalar.indexCast v16563
  let c0_6455 : Index := 0#32
  ![v16566.toNat, 0]

def k0_chk367 (i : grid0.Coords) (k0_t1 : Fin k0_t1_loop.trips) (v16425 : BitVec 32) (v16428 : BitVec 32) (v16560 : BitVec 32) : Prop :=
  (∀ (k0_h1 : k0_cond1 i = 1#1), ∀ a, (k0_off735 k0_t1 v16425 v16428 v16560) a + S1x128.size a ≤ S8224x128.size a)
theorem k0_off735_inb : ∀ (i : grid0.Coords) (k0_t1 : Fin k0_t1_loop.trips) (v16425 : BitVec 32) (v16428 : BitVec 32) (v16560 : BitVec 32) (k0_hw367 : k0_chk367 i k0_t1 v16425 v16428 v16560), ∀ (k0_h1 : k0_cond1 i = 1#1), ∀ a, (k0_off735 k0_t1 v16425 v16428 v16560) a + S1x128.size a ≤ S8224x128.size a := fun i k0_t1 v16425 v16428 v16560 k0_hw367 k0_h1 => k0_hw367 k0_h1

def k0_off736 (v16425 : BitVec 32) : Fin 1 → Nat :=
  let c9_i32_6456 : BitVec 32 := 9#32
  let v16571 : BitVec 32 := Scalar.addi v16425 c9_i32_6456
  let v16574 : Index := Scalar.indexCast v16571
  ![v16574.toNat]
def k0_off737 (k0_t1 : Fin k0_t1_loop.trips) (v16425 : BitVec 32) (v16428 : BitVec 32) (v16575 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_6457 : BitVec 32 := 9#32
  let v16572 : BitVec 32 := Scalar.addi v16425 c9_i32_6457
  let v16573 : BitVec 1 := Scalar.cmpi .slt v16572 v16428
  let c65535_i32_6458 : BitVec 32 := 65535#32
  let v16576 : BitVec 32 := Scalar.andi v16575 c65535_i32_6458
  let c2048_i32_6459 : BitVec 32 := 2048#32
  let v16577 : BitVec 32 := Scalar.select v16573 v16576 c2048_i32_6459
  let v16578 : BitVec 32 := Scalar.addi v11087 v16577
  let v16581 : Index := Scalar.indexCast v16578
  let c0_6461 : Index := 0#32
  ![v16581.toNat, 0]

def k0_chk368 (i : grid0.Coords) (k0_t1 : Fin k0_t1_loop.trips) (v16425 : BitVec 32) (v16428 : BitVec 32) (v16575 : BitVec 32) : Prop :=
  (∀ (k0_h1 : k0_cond1 i = 1#1), ∀ a, (k0_off737 k0_t1 v16425 v16428 v16575) a + S1x128.size a ≤ S8224x128.size a)
theorem k0_off737_inb : ∀ (i : grid0.Coords) (k0_t1 : Fin k0_t1_loop.trips) (v16425 : BitVec 32) (v16428 : BitVec 32) (v16575 : BitVec 32) (k0_hw368 : k0_chk368 i k0_t1 v16425 v16428 v16575), ∀ (k0_h1 : k0_cond1 i = 1#1), ∀ a, (k0_off737 k0_t1 v16425 v16428 v16575) a + S1x128.size a ≤ S8224x128.size a := fun i k0_t1 v16425 v16428 v16575 k0_hw368 k0_h1 => k0_hw368 k0_h1

def k0_off738 (v16425 : BitVec 32) : Fin 1 → Nat :=
  let c10_i32_6462 : BitVec 32 := 10#32
  let v16586 : BitVec 32 := Scalar.addi v16425 c10_i32_6462
  let v16589 : Index := Scalar.indexCast v16586
  ![v16589.toNat]
def k0_off739 (k0_t1 : Fin k0_t1_loop.trips) (v16425 : BitVec 32) (v16428 : BitVec 32) (v16590 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_6463 : BitVec 32 := 10#32
  let v16587 : BitVec 32 := Scalar.addi v16425 c10_i32_6463
  let v16588 : BitVec 1 := Scalar.cmpi .slt v16587 v16428
  let c65535_i32_6464 : BitVec 32 := 65535#32
  let v16591 : BitVec 32 := Scalar.andi v16590 c65535_i32_6464
  let c2048_i32_6465 : BitVec 32 := 2048#32
  let v16592 : BitVec 32 := Scalar.select v16588 v16591 c2048_i32_6465
  let v16593 : BitVec 32 := Scalar.addi v11087 v16592
  let v16596 : Index := Scalar.indexCast v16593
  let c0_6467 : Index := 0#32
  ![v16596.toNat, 0]

def k0_chk369 (i : grid0.Coords) (k0_t1 : Fin k0_t1_loop.trips) (v16425 : BitVec 32) (v16428 : BitVec 32) (v16590 : BitVec 32) : Prop :=
  (∀ (k0_h1 : k0_cond1 i = 1#1), ∀ a, (k0_off739 k0_t1 v16425 v16428 v16590) a + S1x128.size a ≤ S8224x128.size a)
theorem k0_off739_inb : ∀ (i : grid0.Coords) (k0_t1 : Fin k0_t1_loop.trips) (v16425 : BitVec 32) (v16428 : BitVec 32) (v16590 : BitVec 32) (k0_hw369 : k0_chk369 i k0_t1 v16425 v16428 v16590), ∀ (k0_h1 : k0_cond1 i = 1#1), ∀ a, (k0_off739 k0_t1 v16425 v16428 v16590) a + S1x128.size a ≤ S8224x128.size a := fun i k0_t1 v16425 v16428 v16590 k0_hw369 k0_h1 => k0_hw369 k0_h1

def k0_off740 (v16425 : BitVec 32) : Fin 1 → Nat :=
  let c11_i32_6468 : BitVec 32 := 11#32
  let v16601 : BitVec 32 := Scalar.addi v16425 c11_i32_6468
  let v16604 : Index := Scalar.indexCast v16601
  ![v16604.toNat]
def k0_off741 (k0_t1 : Fin k0_t1_loop.trips) (v16425 : BitVec 32) (v16428 : BitVec 32) (v16605 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_6469 : BitVec 32 := 11#32
  let v16602 : BitVec 32 := Scalar.addi v16425 c11_i32_6469
  let v16603 : BitVec 1 := Scalar.cmpi .slt v16602 v16428
  let c65535_i32_6470 : BitVec 32 := 65535#32
  let v16606 : BitVec 32 := Scalar.andi v16605 c65535_i32_6470
  let c2048_i32_6471 : BitVec 32 := 2048#32
  let v16607 : BitVec 32 := Scalar.select v16603 v16606 c2048_i32_6471
  let v16608 : BitVec 32 := Scalar.addi v11087 v16607
  let v16611 : Index := Scalar.indexCast v16608
  let c0_6473 : Index := 0#32
  ![v16611.toNat, 0]

def k0_chk370 (i : grid0.Coords) (k0_t1 : Fin k0_t1_loop.trips) (v16425 : BitVec 32) (v16428 : BitVec 32) (v16605 : BitVec 32) : Prop :=
  (∀ (k0_h1 : k0_cond1 i = 1#1), ∀ a, (k0_off741 k0_t1 v16425 v16428 v16605) a + S1x128.size a ≤ S8224x128.size a)
theorem k0_off741_inb : ∀ (i : grid0.Coords) (k0_t1 : Fin k0_t1_loop.trips) (v16425 : BitVec 32) (v16428 : BitVec 32) (v16605 : BitVec 32) (k0_hw370 : k0_chk370 i k0_t1 v16425 v16428 v16605), ∀ (k0_h1 : k0_cond1 i = 1#1), ∀ a, (k0_off741 k0_t1 v16425 v16428 v16605) a + S1x128.size a ≤ S8224x128.size a := fun i k0_t1 v16425 v16428 v16605 k0_hw370 k0_h1 => k0_hw370 k0_h1

def k0_off742 (v16425 : BitVec 32) : Fin 1 → Nat :=
  let c12_i32_6474 : BitVec 32 := 12#32
  let v16616 : BitVec 32 := Scalar.addi v16425 c12_i32_6474
  let v16619 : Index := Scalar.indexCast v16616
  ![v16619.toNat]
def k0_off743 (k0_t1 : Fin k0_t1_loop.trips) (v16425 : BitVec 32) (v16428 : BitVec 32) (v16620 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_6475 : BitVec 32 := 12#32
  let v16617 : BitVec 32 := Scalar.addi v16425 c12_i32_6475
  let v16618 : BitVec 1 := Scalar.cmpi .slt v16617 v16428
  let c65535_i32_6476 : BitVec 32 := 65535#32
  let v16621 : BitVec 32 := Scalar.andi v16620 c65535_i32_6476
  let c2048_i32_6477 : BitVec 32 := 2048#32
  let v16622 : BitVec 32 := Scalar.select v16618 v16621 c2048_i32_6477
  let v16623 : BitVec 32 := Scalar.addi v11087 v16622
  let v16626 : Index := Scalar.indexCast v16623
  let c0_6479 : Index := 0#32
  ![v16626.toNat, 0]

def k0_chk371 (i : grid0.Coords) (k0_t1 : Fin k0_t1_loop.trips) (v16425 : BitVec 32) (v16428 : BitVec 32) (v16620 : BitVec 32) : Prop :=
  (∀ (k0_h1 : k0_cond1 i = 1#1), ∀ a, (k0_off743 k0_t1 v16425 v16428 v16620) a + S1x128.size a ≤ S8224x128.size a)
theorem k0_off743_inb : ∀ (i : grid0.Coords) (k0_t1 : Fin k0_t1_loop.trips) (v16425 : BitVec 32) (v16428 : BitVec 32) (v16620 : BitVec 32) (k0_hw371 : k0_chk371 i k0_t1 v16425 v16428 v16620), ∀ (k0_h1 : k0_cond1 i = 1#1), ∀ a, (k0_off743 k0_t1 v16425 v16428 v16620) a + S1x128.size a ≤ S8224x128.size a := fun i k0_t1 v16425 v16428 v16620 k0_hw371 k0_h1 => k0_hw371 k0_h1

def k0_off744 (v16425 : BitVec 32) : Fin 1 → Nat :=
  let c13_i32_6480 : BitVec 32 := 13#32
  let v16631 : BitVec 32 := Scalar.addi v16425 c13_i32_6480
  let v16634 : Index := Scalar.indexCast v16631
  ![v16634.toNat]
def k0_off745 (k0_t1 : Fin k0_t1_loop.trips) (v16425 : BitVec 32) (v16428 : BitVec 32) (v16635 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_6481 : BitVec 32 := 13#32
  let v16632 : BitVec 32 := Scalar.addi v16425 c13_i32_6481
  let v16633 : BitVec 1 := Scalar.cmpi .slt v16632 v16428
  let c65535_i32_6482 : BitVec 32 := 65535#32
  let v16636 : BitVec 32 := Scalar.andi v16635 c65535_i32_6482
  let c2048_i32_6483 : BitVec 32 := 2048#32
  let v16637 : BitVec 32 := Scalar.select v16633 v16636 c2048_i32_6483
  let v16638 : BitVec 32 := Scalar.addi v11087 v16637
  let v16641 : Index := Scalar.indexCast v16638
  let c0_6485 : Index := 0#32
  ![v16641.toNat, 0]

def k0_chk372 (i : grid0.Coords) (k0_t1 : Fin k0_t1_loop.trips) (v16425 : BitVec 32) (v16428 : BitVec 32) (v16635 : BitVec 32) : Prop :=
  (∀ (k0_h1 : k0_cond1 i = 1#1), ∀ a, (k0_off745 k0_t1 v16425 v16428 v16635) a + S1x128.size a ≤ S8224x128.size a)
theorem k0_off745_inb : ∀ (i : grid0.Coords) (k0_t1 : Fin k0_t1_loop.trips) (v16425 : BitVec 32) (v16428 : BitVec 32) (v16635 : BitVec 32) (k0_hw372 : k0_chk372 i k0_t1 v16425 v16428 v16635), ∀ (k0_h1 : k0_cond1 i = 1#1), ∀ a, (k0_off745 k0_t1 v16425 v16428 v16635) a + S1x128.size a ≤ S8224x128.size a := fun i k0_t1 v16425 v16428 v16635 k0_hw372 k0_h1 => k0_hw372 k0_h1

def k0_off746 (v16425 : BitVec 32) : Fin 1 → Nat :=
  let c14_i32_6486 : BitVec 32 := 14#32
  let v16646 : BitVec 32 := Scalar.addi v16425 c14_i32_6486
  let v16649 : Index := Scalar.indexCast v16646
  ![v16649.toNat]
def k0_off747 (k0_t1 : Fin k0_t1_loop.trips) (v16425 : BitVec 32) (v16428 : BitVec 32) (v16650 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_6487 : BitVec 32 := 14#32
  let v16647 : BitVec 32 := Scalar.addi v16425 c14_i32_6487
  let v16648 : BitVec 1 := Scalar.cmpi .slt v16647 v16428
  let c65535_i32_6488 : BitVec 32 := 65535#32
  let v16651 : BitVec 32 := Scalar.andi v16650 c65535_i32_6488
  let c2048_i32_6489 : BitVec 32 := 2048#32
  let v16652 : BitVec 32 := Scalar.select v16648 v16651 c2048_i32_6489
  let v16653 : BitVec 32 := Scalar.addi v11087 v16652
  let v16656 : Index := Scalar.indexCast v16653
  let c0_6491 : Index := 0#32
  ![v16656.toNat, 0]

def k0_chk373 (i : grid0.Coords) (k0_t1 : Fin k0_t1_loop.trips) (v16425 : BitVec 32) (v16428 : BitVec 32) (v16650 : BitVec 32) : Prop :=
  (∀ (k0_h1 : k0_cond1 i = 1#1), ∀ a, (k0_off747 k0_t1 v16425 v16428 v16650) a + S1x128.size a ≤ S8224x128.size a)
theorem k0_off747_inb : ∀ (i : grid0.Coords) (k0_t1 : Fin k0_t1_loop.trips) (v16425 : BitVec 32) (v16428 : BitVec 32) (v16650 : BitVec 32) (k0_hw373 : k0_chk373 i k0_t1 v16425 v16428 v16650), ∀ (k0_h1 : k0_cond1 i = 1#1), ∀ a, (k0_off747 k0_t1 v16425 v16428 v16650) a + S1x128.size a ≤ S8224x128.size a := fun i k0_t1 v16425 v16428 v16650 k0_hw373 k0_h1 => k0_hw373 k0_h1

def k0_off748 (v16425 : BitVec 32) : Fin 1 → Nat :=
  let c15_i32_6492 : BitVec 32 := 15#32
  let v16661 : BitVec 32 := Scalar.addi v16425 c15_i32_6492
  let v16664 : Index := Scalar.indexCast v16661
  ![v16664.toNat]

def k0_chk358 (i : grid0.Coords) (v16425 : BitVec 32) : Prop :=
  (∀ (k0_h1 : k0_cond1 i = 1#1), ∀ a, (k0_off718 v16425) a + S1.size a ≤ S51920.size a) ∧
  (∀ (k0_h1 : k0_cond1 i = 1#1), ∀ a, (k0_off720 v16425) a + S1.size a ≤ S51920.size a) ∧
  (∀ (k0_h1 : k0_cond1 i = 1#1), ∀ a, (k0_off722 v16425) a + S1.size a ≤ S51920.size a) ∧
  (∀ (k0_h1 : k0_cond1 i = 1#1), ∀ a, (k0_off724 v16425) a + S1.size a ≤ S51920.size a) ∧
  (∀ (k0_h1 : k0_cond1 i = 1#1), ∀ a, (k0_off726 v16425) a + S1.size a ≤ S51920.size a) ∧
  (∀ (k0_h1 : k0_cond1 i = 1#1), ∀ a, (k0_off728 v16425) a + S1.size a ≤ S51920.size a) ∧
  (∀ (k0_h1 : k0_cond1 i = 1#1), ∀ a, (k0_off730 v16425) a + S1.size a ≤ S51920.size a) ∧
  (∀ (k0_h1 : k0_cond1 i = 1#1), ∀ a, (k0_off732 v16425) a + S1.size a ≤ S51920.size a) ∧
  (∀ (k0_h1 : k0_cond1 i = 1#1), ∀ a, (k0_off734 v16425) a + S1.size a ≤ S51920.size a) ∧
  (∀ (k0_h1 : k0_cond1 i = 1#1), ∀ a, (k0_off736 v16425) a + S1.size a ≤ S51920.size a) ∧
  (∀ (k0_h1 : k0_cond1 i = 1#1), ∀ a, (k0_off738 v16425) a + S1.size a ≤ S51920.size a) ∧
  (∀ (k0_h1 : k0_cond1 i = 1#1), ∀ a, (k0_off740 v16425) a + S1.size a ≤ S51920.size a) ∧
  (∀ (k0_h1 : k0_cond1 i = 1#1), ∀ a, (k0_off742 v16425) a + S1.size a ≤ S51920.size a) ∧
  (∀ (k0_h1 : k0_cond1 i = 1#1), ∀ a, (k0_off744 v16425) a + S1.size a ≤ S51920.size a) ∧
  (∀ (k0_h1 : k0_cond1 i = 1#1), ∀ a, (k0_off746 v16425) a + S1.size a ≤ S51920.size a) ∧
  (∀ (k0_h1 : k0_cond1 i = 1#1), ∀ a, (k0_off748 v16425) a + S1.size a ≤ S51920.size a)
theorem k0_off718_inb : ∀ (i : grid0.Coords) (v16425 : BitVec 32) (k0_hw358 : k0_chk358 i v16425), ∀ (k0_h1 : k0_cond1 i = 1#1), ∀ a, (k0_off718 v16425) a + S1.size a ≤ S51920.size a := fun i v16425 k0_hw358 k0_h1 => k0_hw358.1 k0_h1
theorem k0_off720_inb : ∀ (i : grid0.Coords) (v16425 : BitVec 32) (k0_hw358 : k0_chk358 i v16425), ∀ (k0_h1 : k0_cond1 i = 1#1), ∀ a, (k0_off720 v16425) a + S1.size a ≤ S51920.size a := fun i v16425 k0_hw358 k0_h1 => k0_hw358.2.1 k0_h1
theorem k0_off722_inb : ∀ (i : grid0.Coords) (v16425 : BitVec 32) (k0_hw358 : k0_chk358 i v16425), ∀ (k0_h1 : k0_cond1 i = 1#1), ∀ a, (k0_off722 v16425) a + S1.size a ≤ S51920.size a := fun i v16425 k0_hw358 k0_h1 => k0_hw358.2.2.1 k0_h1
theorem k0_off724_inb : ∀ (i : grid0.Coords) (v16425 : BitVec 32) (k0_hw358 : k0_chk358 i v16425), ∀ (k0_h1 : k0_cond1 i = 1#1), ∀ a, (k0_off724 v16425) a + S1.size a ≤ S51920.size a := fun i v16425 k0_hw358 k0_h1 => k0_hw358.2.2.2.1 k0_h1
theorem k0_off726_inb : ∀ (i : grid0.Coords) (v16425 : BitVec 32) (k0_hw358 : k0_chk358 i v16425), ∀ (k0_h1 : k0_cond1 i = 1#1), ∀ a, (k0_off726 v16425) a + S1.size a ≤ S51920.size a := fun i v16425 k0_hw358 k0_h1 => k0_hw358.2.2.2.2.1 k0_h1
theorem k0_off728_inb : ∀ (i : grid0.Coords) (v16425 : BitVec 32) (k0_hw358 : k0_chk358 i v16425), ∀ (k0_h1 : k0_cond1 i = 1#1), ∀ a, (k0_off728 v16425) a + S1.size a ≤ S51920.size a := fun i v16425 k0_hw358 k0_h1 => k0_hw358.2.2.2.2.2.1 k0_h1
theorem k0_off730_inb : ∀ (i : grid0.Coords) (v16425 : BitVec 32) (k0_hw358 : k0_chk358 i v16425), ∀ (k0_h1 : k0_cond1 i = 1#1), ∀ a, (k0_off730 v16425) a + S1.size a ≤ S51920.size a := fun i v16425 k0_hw358 k0_h1 => k0_hw358.2.2.2.2.2.2.1 k0_h1
theorem k0_off732_inb : ∀ (i : grid0.Coords) (v16425 : BitVec 32) (k0_hw358 : k0_chk358 i v16425), ∀ (k0_h1 : k0_cond1 i = 1#1), ∀ a, (k0_off732 v16425) a + S1.size a ≤ S51920.size a := fun i v16425 k0_hw358 k0_h1 => k0_hw358.2.2.2.2.2.2.2.1 k0_h1
theorem k0_off734_inb : ∀ (i : grid0.Coords) (v16425 : BitVec 32) (k0_hw358 : k0_chk358 i v16425), ∀ (k0_h1 : k0_cond1 i = 1#1), ∀ a, (k0_off734 v16425) a + S1.size a ≤ S51920.size a := fun i v16425 k0_hw358 k0_h1 => k0_hw358.2.2.2.2.2.2.2.2.1 k0_h1
theorem k0_off736_inb : ∀ (i : grid0.Coords) (v16425 : BitVec 32) (k0_hw358 : k0_chk358 i v16425), ∀ (k0_h1 : k0_cond1 i = 1#1), ∀ a, (k0_off736 v16425) a + S1.size a ≤ S51920.size a := fun i v16425 k0_hw358 k0_h1 => k0_hw358.2.2.2.2.2.2.2.2.2.1 k0_h1
theorem k0_off738_inb : ∀ (i : grid0.Coords) (v16425 : BitVec 32) (k0_hw358 : k0_chk358 i v16425), ∀ (k0_h1 : k0_cond1 i = 1#1), ∀ a, (k0_off738 v16425) a + S1.size a ≤ S51920.size a := fun i v16425 k0_hw358 k0_h1 => k0_hw358.2.2.2.2.2.2.2.2.2.2.1 k0_h1
theorem k0_off740_inb : ∀ (i : grid0.Coords) (v16425 : BitVec 32) (k0_hw358 : k0_chk358 i v16425), ∀ (k0_h1 : k0_cond1 i = 1#1), ∀ a, (k0_off740 v16425) a + S1.size a ≤ S51920.size a := fun i v16425 k0_hw358 k0_h1 => k0_hw358.2.2.2.2.2.2.2.2.2.2.2.1 k0_h1
theorem k0_off742_inb : ∀ (i : grid0.Coords) (v16425 : BitVec 32) (k0_hw358 : k0_chk358 i v16425), ∀ (k0_h1 : k0_cond1 i = 1#1), ∀ a, (k0_off742 v16425) a + S1.size a ≤ S51920.size a := fun i v16425 k0_hw358 k0_h1 => k0_hw358.2.2.2.2.2.2.2.2.2.2.2.2.1 k0_h1
theorem k0_off744_inb : ∀ (i : grid0.Coords) (v16425 : BitVec 32) (k0_hw358 : k0_chk358 i v16425), ∀ (k0_h1 : k0_cond1 i = 1#1), ∀ a, (k0_off744 v16425) a + S1.size a ≤ S51920.size a := fun i v16425 k0_hw358 k0_h1 => k0_hw358.2.2.2.2.2.2.2.2.2.2.2.2.2.1 k0_h1
theorem k0_off746_inb : ∀ (i : grid0.Coords) (v16425 : BitVec 32) (k0_hw358 : k0_chk358 i v16425), ∀ (k0_h1 : k0_cond1 i = 1#1), ∀ a, (k0_off746 v16425) a + S1.size a ≤ S51920.size a := fun i v16425 k0_hw358 k0_h1 => k0_hw358.2.2.2.2.2.2.2.2.2.2.2.2.2.2.1 k0_h1
theorem k0_off748_inb : ∀ (i : grid0.Coords) (v16425 : BitVec 32) (k0_hw358 : k0_chk358 i v16425), ∀ (k0_h1 : k0_cond1 i = 1#1), ∀ a, (k0_off748 v16425) a + S1.size a ≤ S51920.size a := fun i v16425 k0_hw358 k0_h1 => k0_hw358.2.2.2.2.2.2.2.2.2.2.2.2.2.2.2 k0_h1

def k0_off749 (k0_t1 : Fin k0_t1_loop.trips) (v16425 : BitVec 32) (v16428 : BitVec 32) (v16665 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_6493 : BitVec 32 := 15#32
  let v16662 : BitVec 32 := Scalar.addi v16425 c15_i32_6493
  let v16663 : BitVec 1 := Scalar.cmpi .slt v16662 v16428
  let c65535_i32_6494 : BitVec 32 := 65535#32
  let v16666 : BitVec 32 := Scalar.andi v16665 c65535_i32_6494
  let c2048_i32_6495 : BitVec 32 := 2048#32
  let v16667 : BitVec 32 := Scalar.select v16663 v16666 c2048_i32_6495
  let v16668 : BitVec 32 := Scalar.addi v11087 v16667
  let v16671 : Index := Scalar.indexCast v16668
  let c0_6497 : Index := 0#32
  ![v16671.toNat, 0]

def k0_chk374 (i : grid0.Coords) (k0_t1 : Fin k0_t1_loop.trips) (v16425 : BitVec 32) (v16428 : BitVec 32) (v16665 : BitVec 32) : Prop :=
  (∀ (k0_h1 : k0_cond1 i = 1#1), ∀ a, (k0_off749 k0_t1 v16425 v16428 v16665) a + S1x128.size a ≤ S8224x128.size a)
theorem k0_off749_inb : ∀ (i : grid0.Coords) (k0_t1 : Fin k0_t1_loop.trips) (v16425 : BitVec 32) (v16428 : BitVec 32) (v16665 : BitVec 32) (k0_hw374 : k0_chk374 i k0_t1 v16425 v16428 v16665), ∀ (k0_h1 : k0_cond1 i = 1#1), ∀ a, (k0_off749 k0_t1 v16425 v16428 v16665) a + S1x128.size a ≤ S8224x128.size a := fun i k0_t1 v16425 v16428 v16665 k0_hw374 k0_h1 => k0_hw374 k0_h1

def k0_off750 (k0_t1 : Fin k0_t1_loop.trips) : Fin 1 → Nat :=
  let c0_i32_6498 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v16676 : BitVec 32 := Scalar.addi c0_i32_6498 v11069
  let c22_i32_6499 : BitVec 32 := 22#32
  let v16677 : BitVec 32 := Scalar.addi v16676 c22_i32_6499
  let v16678 : Index := Scalar.indexCast v16677
  ![v16678.toNat]
def k0_off751 (k0_t1 : Fin k0_t1_loop.trips) : Fin 1 → Nat :=
  let c0_i32_6498 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v16676 : BitVec 32 := Scalar.addi c0_i32_6498 v11069
  let c22_i32_6499 : BitVec 32 := 22#32
  let v16677 : BitVec 32 := Scalar.addi v16676 c22_i32_6499
  let c1_i32_6500 : BitVec 32 := 1#32
  let v16680 : BitVec 32 := Scalar.addi v16677 c1_i32_6500
  let v16681 : Index := Scalar.indexCast v16680
  ![v16681.toNat]
def k0_off752 (v16679 : BitVec 32) : Fin 1 → Nat :=
  let c0_i32_6503 : BitVec 32 := 0#32
  let v16690 : BitVec 32 := Scalar.addi v16679 c0_i32_6503
  let v16693 : Index := Scalar.indexCast v16690
  ![v16693.toNat]

def k0_off753 (k0_t1 : Fin k0_t1_loop.trips) (v16679 : BitVec 32) (v16682 : BitVec 32) (v16694 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_6504 : BitVec 32 := 0#32
  let v16691 : BitVec 32 := Scalar.addi v16679 c0_i32_6504
  let v16692 : BitVec 1 := Scalar.cmpi .slt v16691 v16682
  let c65535_i32_6505 : BitVec 32 := 65535#32
  let v16695 : BitVec 32 := Scalar.andi v16694 c65535_i32_6505
  let c2048_i32_6506 : BitVec 32 := 2048#32
  let v16696 : BitVec 32 := Scalar.select v16692 v16695 c2048_i32_6506
  let v16697 : BitVec 32 := Scalar.addi v11087 v16696
  let v16700 : Index := Scalar.indexCast v16697
  let c0_6508 : Index := 0#32
  ![v16700.toNat, 0]

def k0_chk376 (i : grid0.Coords) (k0_t1 : Fin k0_t1_loop.trips) (v16679 : BitVec 32) (v16682 : BitVec 32) (v16694 : BitVec 32) : Prop :=
  (∀ (k0_h1 : k0_cond1 i = 1#1), ∀ a, (k0_off753 k0_t1 v16679 v16682 v16694) a + S1x128.size a ≤ S8224x128.size a)
theorem k0_off753_inb : ∀ (i : grid0.Coords) (k0_t1 : Fin k0_t1_loop.trips) (v16679 : BitVec 32) (v16682 : BitVec 32) (v16694 : BitVec 32) (k0_hw376 : k0_chk376 i k0_t1 v16679 v16682 v16694), ∀ (k0_h1 : k0_cond1 i = 1#1), ∀ a, (k0_off753 k0_t1 v16679 v16682 v16694) a + S1x128.size a ≤ S8224x128.size a := fun i k0_t1 v16679 v16682 v16694 k0_hw376 k0_h1 => k0_hw376 k0_h1

def k0_off754 (v16679 : BitVec 32) : Fin 1 → Nat :=
  let c1_i32_6509 : BitVec 32 := 1#32
  let v16705 : BitVec 32 := Scalar.addi v16679 c1_i32_6509
  let v16708 : Index := Scalar.indexCast v16705
  ![v16708.toNat]
def k0_off755 (k0_t1 : Fin k0_t1_loop.trips) (v16679 : BitVec 32) (v16682 : BitVec 32) (v16709 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_6510 : BitVec 32 := 1#32
  let v16706 : BitVec 32 := Scalar.addi v16679 c1_i32_6510
  let v16707 : BitVec 1 := Scalar.cmpi .slt v16706 v16682
  let c65535_i32_6511 : BitVec 32 := 65535#32
  let v16710 : BitVec 32 := Scalar.andi v16709 c65535_i32_6511
  let c2048_i32_6512 : BitVec 32 := 2048#32
  let v16711 : BitVec 32 := Scalar.select v16707 v16710 c2048_i32_6512
  let v16712 : BitVec 32 := Scalar.addi v11087 v16711
  let v16715 : Index := Scalar.indexCast v16712
  let c0_6514 : Index := 0#32
  ![v16715.toNat, 0]

def k0_chk377 (i : grid0.Coords) (k0_t1 : Fin k0_t1_loop.trips) (v16679 : BitVec 32) (v16682 : BitVec 32) (v16709 : BitVec 32) : Prop :=
  (∀ (k0_h1 : k0_cond1 i = 1#1), ∀ a, (k0_off755 k0_t1 v16679 v16682 v16709) a + S1x128.size a ≤ S8224x128.size a)
theorem k0_off755_inb : ∀ (i : grid0.Coords) (k0_t1 : Fin k0_t1_loop.trips) (v16679 : BitVec 32) (v16682 : BitVec 32) (v16709 : BitVec 32) (k0_hw377 : k0_chk377 i k0_t1 v16679 v16682 v16709), ∀ (k0_h1 : k0_cond1 i = 1#1), ∀ a, (k0_off755 k0_t1 v16679 v16682 v16709) a + S1x128.size a ≤ S8224x128.size a := fun i k0_t1 v16679 v16682 v16709 k0_hw377 k0_h1 => k0_hw377 k0_h1

def k0_off756 (v16679 : BitVec 32) : Fin 1 → Nat :=
  let c2_i32_6515 : BitVec 32 := 2#32
  let v16720 : BitVec 32 := Scalar.addi v16679 c2_i32_6515
  let v16723 : Index := Scalar.indexCast v16720
  ![v16723.toNat]
def k0_off757 (k0_t1 : Fin k0_t1_loop.trips) (v16679 : BitVec 32) (v16682 : BitVec 32) (v16724 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_6516 : BitVec 32 := 2#32
  let v16721 : BitVec 32 := Scalar.addi v16679 c2_i32_6516
  let v16722 : BitVec 1 := Scalar.cmpi .slt v16721 v16682
  let c65535_i32_6517 : BitVec 32 := 65535#32
  let v16725 : BitVec 32 := Scalar.andi v16724 c65535_i32_6517
  let c2048_i32_6518 : BitVec 32 := 2048#32
  let v16726 : BitVec 32 := Scalar.select v16722 v16725 c2048_i32_6518
  let v16727 : BitVec 32 := Scalar.addi v11087 v16726
  let v16730 : Index := Scalar.indexCast v16727
  let c0_6520 : Index := 0#32
  ![v16730.toNat, 0]

def k0_chk378 (i : grid0.Coords) (k0_t1 : Fin k0_t1_loop.trips) (v16679 : BitVec 32) (v16682 : BitVec 32) (v16724 : BitVec 32) : Prop :=
  (∀ (k0_h1 : k0_cond1 i = 1#1), ∀ a, (k0_off757 k0_t1 v16679 v16682 v16724) a + S1x128.size a ≤ S8224x128.size a)
theorem k0_off757_inb : ∀ (i : grid0.Coords) (k0_t1 : Fin k0_t1_loop.trips) (v16679 : BitVec 32) (v16682 : BitVec 32) (v16724 : BitVec 32) (k0_hw378 : k0_chk378 i k0_t1 v16679 v16682 v16724), ∀ (k0_h1 : k0_cond1 i = 1#1), ∀ a, (k0_off757 k0_t1 v16679 v16682 v16724) a + S1x128.size a ≤ S8224x128.size a := fun i k0_t1 v16679 v16682 v16724 k0_hw378 k0_h1 => k0_hw378 k0_h1

def k0_off758 (v16679 : BitVec 32) : Fin 1 → Nat :=
  let c3_i32_6521 : BitVec 32 := 3#32
  let v16735 : BitVec 32 := Scalar.addi v16679 c3_i32_6521
  let v16738 : Index := Scalar.indexCast v16735
  ![v16738.toNat]
def k0_off759 (k0_t1 : Fin k0_t1_loop.trips) (v16679 : BitVec 32) (v16682 : BitVec 32) (v16739 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_6522 : BitVec 32 := 3#32
  let v16736 : BitVec 32 := Scalar.addi v16679 c3_i32_6522
  let v16737 : BitVec 1 := Scalar.cmpi .slt v16736 v16682
  let c65535_i32_6523 : BitVec 32 := 65535#32
  let v16740 : BitVec 32 := Scalar.andi v16739 c65535_i32_6523
  let c2048_i32_6524 : BitVec 32 := 2048#32
  let v16741 : BitVec 32 := Scalar.select v16737 v16740 c2048_i32_6524
  let v16742 : BitVec 32 := Scalar.addi v11087 v16741
  let v16745 : Index := Scalar.indexCast v16742
  let c0_6526 : Index := 0#32
  ![v16745.toNat, 0]

def k0_chk379 (i : grid0.Coords) (k0_t1 : Fin k0_t1_loop.trips) (v16679 : BitVec 32) (v16682 : BitVec 32) (v16739 : BitVec 32) : Prop :=
  (∀ (k0_h1 : k0_cond1 i = 1#1), ∀ a, (k0_off759 k0_t1 v16679 v16682 v16739) a + S1x128.size a ≤ S8224x128.size a)
theorem k0_off759_inb : ∀ (i : grid0.Coords) (k0_t1 : Fin k0_t1_loop.trips) (v16679 : BitVec 32) (v16682 : BitVec 32) (v16739 : BitVec 32) (k0_hw379 : k0_chk379 i k0_t1 v16679 v16682 v16739), ∀ (k0_h1 : k0_cond1 i = 1#1), ∀ a, (k0_off759 k0_t1 v16679 v16682 v16739) a + S1x128.size a ≤ S8224x128.size a := fun i k0_t1 v16679 v16682 v16739 k0_hw379 k0_h1 => k0_hw379 k0_h1

def k0_off760 (v16679 : BitVec 32) : Fin 1 → Nat :=
  let c4_i32_6527 : BitVec 32 := 4#32
  let v16750 : BitVec 32 := Scalar.addi v16679 c4_i32_6527
  let v16753 : Index := Scalar.indexCast v16750
  ![v16753.toNat]
def k0_off761 (k0_t1 : Fin k0_t1_loop.trips) (v16679 : BitVec 32) (v16682 : BitVec 32) (v16754 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_6528 : BitVec 32 := 4#32
  let v16751 : BitVec 32 := Scalar.addi v16679 c4_i32_6528
  let v16752 : BitVec 1 := Scalar.cmpi .slt v16751 v16682
  let c65535_i32_6529 : BitVec 32 := 65535#32
  let v16755 : BitVec 32 := Scalar.andi v16754 c65535_i32_6529
  let c2048_i32_6530 : BitVec 32 := 2048#32
  let v16756 : BitVec 32 := Scalar.select v16752 v16755 c2048_i32_6530
  let v16757 : BitVec 32 := Scalar.addi v11087 v16756
  let v16760 : Index := Scalar.indexCast v16757
  let c0_6532 : Index := 0#32
  ![v16760.toNat, 0]

def k0_chk380 (i : grid0.Coords) (k0_t1 : Fin k0_t1_loop.trips) (v16679 : BitVec 32) (v16682 : BitVec 32) (v16754 : BitVec 32) : Prop :=
  (∀ (k0_h1 : k0_cond1 i = 1#1), ∀ a, (k0_off761 k0_t1 v16679 v16682 v16754) a + S1x128.size a ≤ S8224x128.size a)
theorem k0_off761_inb : ∀ (i : grid0.Coords) (k0_t1 : Fin k0_t1_loop.trips) (v16679 : BitVec 32) (v16682 : BitVec 32) (v16754 : BitVec 32) (k0_hw380 : k0_chk380 i k0_t1 v16679 v16682 v16754), ∀ (k0_h1 : k0_cond1 i = 1#1), ∀ a, (k0_off761 k0_t1 v16679 v16682 v16754) a + S1x128.size a ≤ S8224x128.size a := fun i k0_t1 v16679 v16682 v16754 k0_hw380 k0_h1 => k0_hw380 k0_h1

def k0_off762 (v16679 : BitVec 32) : Fin 1 → Nat :=
  let c5_i32_6533 : BitVec 32 := 5#32
  let v16765 : BitVec 32 := Scalar.addi v16679 c5_i32_6533
  let v16768 : Index := Scalar.indexCast v16765
  ![v16768.toNat]
def k0_off763 (k0_t1 : Fin k0_t1_loop.trips) (v16679 : BitVec 32) (v16682 : BitVec 32) (v16769 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_6534 : BitVec 32 := 5#32
  let v16766 : BitVec 32 := Scalar.addi v16679 c5_i32_6534
  let v16767 : BitVec 1 := Scalar.cmpi .slt v16766 v16682
  let c65535_i32_6535 : BitVec 32 := 65535#32
  let v16770 : BitVec 32 := Scalar.andi v16769 c65535_i32_6535
  let c2048_i32_6536 : BitVec 32 := 2048#32
  let v16771 : BitVec 32 := Scalar.select v16767 v16770 c2048_i32_6536
  let v16772 : BitVec 32 := Scalar.addi v11087 v16771
  let v16775 : Index := Scalar.indexCast v16772
  let c0_6538 : Index := 0#32
  ![v16775.toNat, 0]

def k0_chk381 (i : grid0.Coords) (k0_t1 : Fin k0_t1_loop.trips) (v16679 : BitVec 32) (v16682 : BitVec 32) (v16769 : BitVec 32) : Prop :=
  (∀ (k0_h1 : k0_cond1 i = 1#1), ∀ a, (k0_off763 k0_t1 v16679 v16682 v16769) a + S1x128.size a ≤ S8224x128.size a)
theorem k0_off763_inb : ∀ (i : grid0.Coords) (k0_t1 : Fin k0_t1_loop.trips) (v16679 : BitVec 32) (v16682 : BitVec 32) (v16769 : BitVec 32) (k0_hw381 : k0_chk381 i k0_t1 v16679 v16682 v16769), ∀ (k0_h1 : k0_cond1 i = 1#1), ∀ a, (k0_off763 k0_t1 v16679 v16682 v16769) a + S1x128.size a ≤ S8224x128.size a := fun i k0_t1 v16679 v16682 v16769 k0_hw381 k0_h1 => k0_hw381 k0_h1

def k0_off764 (v16679 : BitVec 32) : Fin 1 → Nat :=
  let c6_i32_6539 : BitVec 32 := 6#32
  let v16780 : BitVec 32 := Scalar.addi v16679 c6_i32_6539
  let v16783 : Index := Scalar.indexCast v16780
  ![v16783.toNat]
def k0_off765 (k0_t1 : Fin k0_t1_loop.trips) (v16679 : BitVec 32) (v16682 : BitVec 32) (v16784 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_6540 : BitVec 32 := 6#32
  let v16781 : BitVec 32 := Scalar.addi v16679 c6_i32_6540
  let v16782 : BitVec 1 := Scalar.cmpi .slt v16781 v16682
  let c65535_i32_6541 : BitVec 32 := 65535#32
  let v16785 : BitVec 32 := Scalar.andi v16784 c65535_i32_6541
  let c2048_i32_6542 : BitVec 32 := 2048#32
  let v16786 : BitVec 32 := Scalar.select v16782 v16785 c2048_i32_6542
  let v16787 : BitVec 32 := Scalar.addi v11087 v16786
  let v16790 : Index := Scalar.indexCast v16787
  let c0_6544 : Index := 0#32
  ![v16790.toNat, 0]

def k0_chk382 (i : grid0.Coords) (k0_t1 : Fin k0_t1_loop.trips) (v16679 : BitVec 32) (v16682 : BitVec 32) (v16784 : BitVec 32) : Prop :=
  (∀ (k0_h1 : k0_cond1 i = 1#1), ∀ a, (k0_off765 k0_t1 v16679 v16682 v16784) a + S1x128.size a ≤ S8224x128.size a)
theorem k0_off765_inb : ∀ (i : grid0.Coords) (k0_t1 : Fin k0_t1_loop.trips) (v16679 : BitVec 32) (v16682 : BitVec 32) (v16784 : BitVec 32) (k0_hw382 : k0_chk382 i k0_t1 v16679 v16682 v16784), ∀ (k0_h1 : k0_cond1 i = 1#1), ∀ a, (k0_off765 k0_t1 v16679 v16682 v16784) a + S1x128.size a ≤ S8224x128.size a := fun i k0_t1 v16679 v16682 v16784 k0_hw382 k0_h1 => k0_hw382 k0_h1

def k0_off766 (v16679 : BitVec 32) : Fin 1 → Nat :=
  let c7_i32_6545 : BitVec 32 := 7#32
  let v16795 : BitVec 32 := Scalar.addi v16679 c7_i32_6545
  let v16798 : Index := Scalar.indexCast v16795
  ![v16798.toNat]
def k0_off767 (k0_t1 : Fin k0_t1_loop.trips) (v16679 : BitVec 32) (v16682 : BitVec 32) (v16799 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_6546 : BitVec 32 := 7#32
  let v16796 : BitVec 32 := Scalar.addi v16679 c7_i32_6546
  let v16797 : BitVec 1 := Scalar.cmpi .slt v16796 v16682
  let c65535_i32_6547 : BitVec 32 := 65535#32
  let v16800 : BitVec 32 := Scalar.andi v16799 c65535_i32_6547
  let c2048_i32_6548 : BitVec 32 := 2048#32
  let v16801 : BitVec 32 := Scalar.select v16797 v16800 c2048_i32_6548
  let v16802 : BitVec 32 := Scalar.addi v11087 v16801
  let v16805 : Index := Scalar.indexCast v16802
  let c0_6550 : Index := 0#32
  ![v16805.toNat, 0]

def k0_chk383 (i : grid0.Coords) (k0_t1 : Fin k0_t1_loop.trips) (v16679 : BitVec 32) (v16682 : BitVec 32) (v16799 : BitVec 32) : Prop :=
  (∀ (k0_h1 : k0_cond1 i = 1#1), ∀ a, (k0_off767 k0_t1 v16679 v16682 v16799) a + S1x128.size a ≤ S8224x128.size a)
theorem k0_off767_inb : ∀ (i : grid0.Coords) (k0_t1 : Fin k0_t1_loop.trips) (v16679 : BitVec 32) (v16682 : BitVec 32) (v16799 : BitVec 32) (k0_hw383 : k0_chk383 i k0_t1 v16679 v16682 v16799), ∀ (k0_h1 : k0_cond1 i = 1#1), ∀ a, (k0_off767 k0_t1 v16679 v16682 v16799) a + S1x128.size a ≤ S8224x128.size a := fun i k0_t1 v16679 v16682 v16799 k0_hw383 k0_h1 => k0_hw383 k0_h1

def k0_off768 (v16679 : BitVec 32) : Fin 1 → Nat :=
  let c8_i32_6551 : BitVec 32 := 8#32
  let v16810 : BitVec 32 := Scalar.addi v16679 c8_i32_6551
  let v16813 : Index := Scalar.indexCast v16810
  ![v16813.toNat]
def k0_off769 (k0_t1 : Fin k0_t1_loop.trips) (v16679 : BitVec 32) (v16682 : BitVec 32) (v16814 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_6552 : BitVec 32 := 8#32
  let v16811 : BitVec 32 := Scalar.addi v16679 c8_i32_6552
  let v16812 : BitVec 1 := Scalar.cmpi .slt v16811 v16682
  let c65535_i32_6553 : BitVec 32 := 65535#32
  let v16815 : BitVec 32 := Scalar.andi v16814 c65535_i32_6553
  let c2048_i32_6554 : BitVec 32 := 2048#32
  let v16816 : BitVec 32 := Scalar.select v16812 v16815 c2048_i32_6554
  let v16817 : BitVec 32 := Scalar.addi v11087 v16816
  let v16820 : Index := Scalar.indexCast v16817
  let c0_6556 : Index := 0#32
  ![v16820.toNat, 0]

def k0_chk384 (i : grid0.Coords) (k0_t1 : Fin k0_t1_loop.trips) (v16679 : BitVec 32) (v16682 : BitVec 32) (v16814 : BitVec 32) : Prop :=
  (∀ (k0_h1 : k0_cond1 i = 1#1), ∀ a, (k0_off769 k0_t1 v16679 v16682 v16814) a + S1x128.size a ≤ S8224x128.size a)
theorem k0_off769_inb : ∀ (i : grid0.Coords) (k0_t1 : Fin k0_t1_loop.trips) (v16679 : BitVec 32) (v16682 : BitVec 32) (v16814 : BitVec 32) (k0_hw384 : k0_chk384 i k0_t1 v16679 v16682 v16814), ∀ (k0_h1 : k0_cond1 i = 1#1), ∀ a, (k0_off769 k0_t1 v16679 v16682 v16814) a + S1x128.size a ≤ S8224x128.size a := fun i k0_t1 v16679 v16682 v16814 k0_hw384 k0_h1 => k0_hw384 k0_h1

def k0_off770 (v16679 : BitVec 32) : Fin 1 → Nat :=
  let c9_i32_6557 : BitVec 32 := 9#32
  let v16825 : BitVec 32 := Scalar.addi v16679 c9_i32_6557
  let v16828 : Index := Scalar.indexCast v16825
  ![v16828.toNat]
def k0_off771 (k0_t1 : Fin k0_t1_loop.trips) (v16679 : BitVec 32) (v16682 : BitVec 32) (v16829 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_6558 : BitVec 32 := 9#32
  let v16826 : BitVec 32 := Scalar.addi v16679 c9_i32_6558
  let v16827 : BitVec 1 := Scalar.cmpi .slt v16826 v16682
  let c65535_i32_6559 : BitVec 32 := 65535#32
  let v16830 : BitVec 32 := Scalar.andi v16829 c65535_i32_6559
  let c2048_i32_6560 : BitVec 32 := 2048#32
  let v16831 : BitVec 32 := Scalar.select v16827 v16830 c2048_i32_6560
  let v16832 : BitVec 32 := Scalar.addi v11087 v16831
  let v16835 : Index := Scalar.indexCast v16832
  let c0_6562 : Index := 0#32
  ![v16835.toNat, 0]

def k0_chk385 (i : grid0.Coords) (k0_t1 : Fin k0_t1_loop.trips) (v16679 : BitVec 32) (v16682 : BitVec 32) (v16829 : BitVec 32) : Prop :=
  (∀ (k0_h1 : k0_cond1 i = 1#1), ∀ a, (k0_off771 k0_t1 v16679 v16682 v16829) a + S1x128.size a ≤ S8224x128.size a)
theorem k0_off771_inb : ∀ (i : grid0.Coords) (k0_t1 : Fin k0_t1_loop.trips) (v16679 : BitVec 32) (v16682 : BitVec 32) (v16829 : BitVec 32) (k0_hw385 : k0_chk385 i k0_t1 v16679 v16682 v16829), ∀ (k0_h1 : k0_cond1 i = 1#1), ∀ a, (k0_off771 k0_t1 v16679 v16682 v16829) a + S1x128.size a ≤ S8224x128.size a := fun i k0_t1 v16679 v16682 v16829 k0_hw385 k0_h1 => k0_hw385 k0_h1

def k0_off772 (v16679 : BitVec 32) : Fin 1 → Nat :=
  let c10_i32_6563 : BitVec 32 := 10#32
  let v16840 : BitVec 32 := Scalar.addi v16679 c10_i32_6563
  let v16843 : Index := Scalar.indexCast v16840
  ![v16843.toNat]
def k0_off773 (k0_t1 : Fin k0_t1_loop.trips) (v16679 : BitVec 32) (v16682 : BitVec 32) (v16844 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_6564 : BitVec 32 := 10#32
  let v16841 : BitVec 32 := Scalar.addi v16679 c10_i32_6564
  let v16842 : BitVec 1 := Scalar.cmpi .slt v16841 v16682
  let c65535_i32_6565 : BitVec 32 := 65535#32
  let v16845 : BitVec 32 := Scalar.andi v16844 c65535_i32_6565
  let c2048_i32_6566 : BitVec 32 := 2048#32
  let v16846 : BitVec 32 := Scalar.select v16842 v16845 c2048_i32_6566
  let v16847 : BitVec 32 := Scalar.addi v11087 v16846
  let v16850 : Index := Scalar.indexCast v16847
  let c0_6568 : Index := 0#32
  ![v16850.toNat, 0]

def k0_chk386 (i : grid0.Coords) (k0_t1 : Fin k0_t1_loop.trips) (v16679 : BitVec 32) (v16682 : BitVec 32) (v16844 : BitVec 32) : Prop :=
  (∀ (k0_h1 : k0_cond1 i = 1#1), ∀ a, (k0_off773 k0_t1 v16679 v16682 v16844) a + S1x128.size a ≤ S8224x128.size a)
theorem k0_off773_inb : ∀ (i : grid0.Coords) (k0_t1 : Fin k0_t1_loop.trips) (v16679 : BitVec 32) (v16682 : BitVec 32) (v16844 : BitVec 32) (k0_hw386 : k0_chk386 i k0_t1 v16679 v16682 v16844), ∀ (k0_h1 : k0_cond1 i = 1#1), ∀ a, (k0_off773 k0_t1 v16679 v16682 v16844) a + S1x128.size a ≤ S8224x128.size a := fun i k0_t1 v16679 v16682 v16844 k0_hw386 k0_h1 => k0_hw386 k0_h1

def k0_off774 (v16679 : BitVec 32) : Fin 1 → Nat :=
  let c11_i32_6569 : BitVec 32 := 11#32
  let v16855 : BitVec 32 := Scalar.addi v16679 c11_i32_6569
  let v16858 : Index := Scalar.indexCast v16855
  ![v16858.toNat]
def k0_off775 (k0_t1 : Fin k0_t1_loop.trips) (v16679 : BitVec 32) (v16682 : BitVec 32) (v16859 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_6570 : BitVec 32 := 11#32
  let v16856 : BitVec 32 := Scalar.addi v16679 c11_i32_6570
  let v16857 : BitVec 1 := Scalar.cmpi .slt v16856 v16682
  let c65535_i32_6571 : BitVec 32 := 65535#32
  let v16860 : BitVec 32 := Scalar.andi v16859 c65535_i32_6571
  let c2048_i32_6572 : BitVec 32 := 2048#32
  let v16861 : BitVec 32 := Scalar.select v16857 v16860 c2048_i32_6572
  let v16862 : BitVec 32 := Scalar.addi v11087 v16861
  let v16865 : Index := Scalar.indexCast v16862
  let c0_6574 : Index := 0#32
  ![v16865.toNat, 0]

def k0_chk387 (i : grid0.Coords) (k0_t1 : Fin k0_t1_loop.trips) (v16679 : BitVec 32) (v16682 : BitVec 32) (v16859 : BitVec 32) : Prop :=
  (∀ (k0_h1 : k0_cond1 i = 1#1), ∀ a, (k0_off775 k0_t1 v16679 v16682 v16859) a + S1x128.size a ≤ S8224x128.size a)
theorem k0_off775_inb : ∀ (i : grid0.Coords) (k0_t1 : Fin k0_t1_loop.trips) (v16679 : BitVec 32) (v16682 : BitVec 32) (v16859 : BitVec 32) (k0_hw387 : k0_chk387 i k0_t1 v16679 v16682 v16859), ∀ (k0_h1 : k0_cond1 i = 1#1), ∀ a, (k0_off775 k0_t1 v16679 v16682 v16859) a + S1x128.size a ≤ S8224x128.size a := fun i k0_t1 v16679 v16682 v16859 k0_hw387 k0_h1 => k0_hw387 k0_h1

def k0_off776 (v16679 : BitVec 32) : Fin 1 → Nat :=
  let c12_i32_6575 : BitVec 32 := 12#32
  let v16870 : BitVec 32 := Scalar.addi v16679 c12_i32_6575
  let v16873 : Index := Scalar.indexCast v16870
  ![v16873.toNat]
def k0_off777 (k0_t1 : Fin k0_t1_loop.trips) (v16679 : BitVec 32) (v16682 : BitVec 32) (v16874 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_6576 : BitVec 32 := 12#32
  let v16871 : BitVec 32 := Scalar.addi v16679 c12_i32_6576
  let v16872 : BitVec 1 := Scalar.cmpi .slt v16871 v16682
  let c65535_i32_6577 : BitVec 32 := 65535#32
  let v16875 : BitVec 32 := Scalar.andi v16874 c65535_i32_6577
  let c2048_i32_6578 : BitVec 32 := 2048#32
  let v16876 : BitVec 32 := Scalar.select v16872 v16875 c2048_i32_6578
  let v16877 : BitVec 32 := Scalar.addi v11087 v16876
  let v16880 : Index := Scalar.indexCast v16877
  let c0_6580 : Index := 0#32
  ![v16880.toNat, 0]

def k0_chk388 (i : grid0.Coords) (k0_t1 : Fin k0_t1_loop.trips) (v16679 : BitVec 32) (v16682 : BitVec 32) (v16874 : BitVec 32) : Prop :=
  (∀ (k0_h1 : k0_cond1 i = 1#1), ∀ a, (k0_off777 k0_t1 v16679 v16682 v16874) a + S1x128.size a ≤ S8224x128.size a)
theorem k0_off777_inb : ∀ (i : grid0.Coords) (k0_t1 : Fin k0_t1_loop.trips) (v16679 : BitVec 32) (v16682 : BitVec 32) (v16874 : BitVec 32) (k0_hw388 : k0_chk388 i k0_t1 v16679 v16682 v16874), ∀ (k0_h1 : k0_cond1 i = 1#1), ∀ a, (k0_off777 k0_t1 v16679 v16682 v16874) a + S1x128.size a ≤ S8224x128.size a := fun i k0_t1 v16679 v16682 v16874 k0_hw388 k0_h1 => k0_hw388 k0_h1

def k0_off778 (v16679 : BitVec 32) : Fin 1 → Nat :=
  let c13_i32_6581 : BitVec 32 := 13#32
  let v16885 : BitVec 32 := Scalar.addi v16679 c13_i32_6581
  let v16888 : Index := Scalar.indexCast v16885
  ![v16888.toNat]
def k0_off779 (k0_t1 : Fin k0_t1_loop.trips) (v16679 : BitVec 32) (v16682 : BitVec 32) (v16889 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_6582 : BitVec 32 := 13#32
  let v16886 : BitVec 32 := Scalar.addi v16679 c13_i32_6582
  let v16887 : BitVec 1 := Scalar.cmpi .slt v16886 v16682
  let c65535_i32_6583 : BitVec 32 := 65535#32
  let v16890 : BitVec 32 := Scalar.andi v16889 c65535_i32_6583
  let c2048_i32_6584 : BitVec 32 := 2048#32
  let v16891 : BitVec 32 := Scalar.select v16887 v16890 c2048_i32_6584
  let v16892 : BitVec 32 := Scalar.addi v11087 v16891
  let v16895 : Index := Scalar.indexCast v16892
  let c0_6586 : Index := 0#32
  ![v16895.toNat, 0]

def k0_chk389 (i : grid0.Coords) (k0_t1 : Fin k0_t1_loop.trips) (v16679 : BitVec 32) (v16682 : BitVec 32) (v16889 : BitVec 32) : Prop :=
  (∀ (k0_h1 : k0_cond1 i = 1#1), ∀ a, (k0_off779 k0_t1 v16679 v16682 v16889) a + S1x128.size a ≤ S8224x128.size a)
theorem k0_off779_inb : ∀ (i : grid0.Coords) (k0_t1 : Fin k0_t1_loop.trips) (v16679 : BitVec 32) (v16682 : BitVec 32) (v16889 : BitVec 32) (k0_hw389 : k0_chk389 i k0_t1 v16679 v16682 v16889), ∀ (k0_h1 : k0_cond1 i = 1#1), ∀ a, (k0_off779 k0_t1 v16679 v16682 v16889) a + S1x128.size a ≤ S8224x128.size a := fun i k0_t1 v16679 v16682 v16889 k0_hw389 k0_h1 => k0_hw389 k0_h1

def k0_off780 (v16679 : BitVec 32) : Fin 1 → Nat :=
  let c14_i32_6587 : BitVec 32 := 14#32
  let v16900 : BitVec 32 := Scalar.addi v16679 c14_i32_6587
  let v16903 : Index := Scalar.indexCast v16900
  ![v16903.toNat]
def k0_off781 (k0_t1 : Fin k0_t1_loop.trips) (v16679 : BitVec 32) (v16682 : BitVec 32) (v16904 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_6588 : BitVec 32 := 14#32
  let v16901 : BitVec 32 := Scalar.addi v16679 c14_i32_6588
  let v16902 : BitVec 1 := Scalar.cmpi .slt v16901 v16682
  let c65535_i32_6589 : BitVec 32 := 65535#32
  let v16905 : BitVec 32 := Scalar.andi v16904 c65535_i32_6589
  let c2048_i32_6590 : BitVec 32 := 2048#32
  let v16906 : BitVec 32 := Scalar.select v16902 v16905 c2048_i32_6590
  let v16907 : BitVec 32 := Scalar.addi v11087 v16906
  let v16910 : Index := Scalar.indexCast v16907
  let c0_6592 : Index := 0#32
  ![v16910.toNat, 0]

def k0_chk390 (i : grid0.Coords) (k0_t1 : Fin k0_t1_loop.trips) (v16679 : BitVec 32) (v16682 : BitVec 32) (v16904 : BitVec 32) : Prop :=
  (∀ (k0_h1 : k0_cond1 i = 1#1), ∀ a, (k0_off781 k0_t1 v16679 v16682 v16904) a + S1x128.size a ≤ S8224x128.size a)
theorem k0_off781_inb : ∀ (i : grid0.Coords) (k0_t1 : Fin k0_t1_loop.trips) (v16679 : BitVec 32) (v16682 : BitVec 32) (v16904 : BitVec 32) (k0_hw390 : k0_chk390 i k0_t1 v16679 v16682 v16904), ∀ (k0_h1 : k0_cond1 i = 1#1), ∀ a, (k0_off781 k0_t1 v16679 v16682 v16904) a + S1x128.size a ≤ S8224x128.size a := fun i k0_t1 v16679 v16682 v16904 k0_hw390 k0_h1 => k0_hw390 k0_h1

def k0_off782 (v16679 : BitVec 32) : Fin 1 → Nat :=
  let c15_i32_6593 : BitVec 32 := 15#32
  let v16915 : BitVec 32 := Scalar.addi v16679 c15_i32_6593
  let v16918 : Index := Scalar.indexCast v16915
  ![v16918.toNat]

def k0_chk375 (i : grid0.Coords) (v16679 : BitVec 32) : Prop :=
  (∀ (k0_h1 : k0_cond1 i = 1#1), ∀ a, (k0_off752 v16679) a + S1.size a ≤ S51920.size a) ∧
  (∀ (k0_h1 : k0_cond1 i = 1#1), ∀ a, (k0_off754 v16679) a + S1.size a ≤ S51920.size a) ∧
  (∀ (k0_h1 : k0_cond1 i = 1#1), ∀ a, (k0_off756 v16679) a + S1.size a ≤ S51920.size a) ∧
  (∀ (k0_h1 : k0_cond1 i = 1#1), ∀ a, (k0_off758 v16679) a + S1.size a ≤ S51920.size a) ∧
  (∀ (k0_h1 : k0_cond1 i = 1#1), ∀ a, (k0_off760 v16679) a + S1.size a ≤ S51920.size a) ∧
  (∀ (k0_h1 : k0_cond1 i = 1#1), ∀ a, (k0_off762 v16679) a + S1.size a ≤ S51920.size a) ∧
  (∀ (k0_h1 : k0_cond1 i = 1#1), ∀ a, (k0_off764 v16679) a + S1.size a ≤ S51920.size a) ∧
  (∀ (k0_h1 : k0_cond1 i = 1#1), ∀ a, (k0_off766 v16679) a + S1.size a ≤ S51920.size a) ∧
  (∀ (k0_h1 : k0_cond1 i = 1#1), ∀ a, (k0_off768 v16679) a + S1.size a ≤ S51920.size a) ∧
  (∀ (k0_h1 : k0_cond1 i = 1#1), ∀ a, (k0_off770 v16679) a + S1.size a ≤ S51920.size a) ∧
  (∀ (k0_h1 : k0_cond1 i = 1#1), ∀ a, (k0_off772 v16679) a + S1.size a ≤ S51920.size a) ∧
  (∀ (k0_h1 : k0_cond1 i = 1#1), ∀ a, (k0_off774 v16679) a + S1.size a ≤ S51920.size a) ∧
  (∀ (k0_h1 : k0_cond1 i = 1#1), ∀ a, (k0_off776 v16679) a + S1.size a ≤ S51920.size a) ∧
  (∀ (k0_h1 : k0_cond1 i = 1#1), ∀ a, (k0_off778 v16679) a + S1.size a ≤ S51920.size a) ∧
  (∀ (k0_h1 : k0_cond1 i = 1#1), ∀ a, (k0_off780 v16679) a + S1.size a ≤ S51920.size a) ∧
  (∀ (k0_h1 : k0_cond1 i = 1#1), ∀ a, (k0_off782 v16679) a + S1.size a ≤ S51920.size a)
theorem k0_off752_inb : ∀ (i : grid0.Coords) (v16679 : BitVec 32) (k0_hw375 : k0_chk375 i v16679), ∀ (k0_h1 : k0_cond1 i = 1#1), ∀ a, (k0_off752 v16679) a + S1.size a ≤ S51920.size a := fun i v16679 k0_hw375 k0_h1 => k0_hw375.1 k0_h1
theorem k0_off754_inb : ∀ (i : grid0.Coords) (v16679 : BitVec 32) (k0_hw375 : k0_chk375 i v16679), ∀ (k0_h1 : k0_cond1 i = 1#1), ∀ a, (k0_off754 v16679) a + S1.size a ≤ S51920.size a := fun i v16679 k0_hw375 k0_h1 => k0_hw375.2.1 k0_h1
theorem k0_off756_inb : ∀ (i : grid0.Coords) (v16679 : BitVec 32) (k0_hw375 : k0_chk375 i v16679), ∀ (k0_h1 : k0_cond1 i = 1#1), ∀ a, (k0_off756 v16679) a + S1.size a ≤ S51920.size a := fun i v16679 k0_hw375 k0_h1 => k0_hw375.2.2.1 k0_h1
theorem k0_off758_inb : ∀ (i : grid0.Coords) (v16679 : BitVec 32) (k0_hw375 : k0_chk375 i v16679), ∀ (k0_h1 : k0_cond1 i = 1#1), ∀ a, (k0_off758 v16679) a + S1.size a ≤ S51920.size a := fun i v16679 k0_hw375 k0_h1 => k0_hw375.2.2.2.1 k0_h1
theorem k0_off760_inb : ∀ (i : grid0.Coords) (v16679 : BitVec 32) (k0_hw375 : k0_chk375 i v16679), ∀ (k0_h1 : k0_cond1 i = 1#1), ∀ a, (k0_off760 v16679) a + S1.size a ≤ S51920.size a := fun i v16679 k0_hw375 k0_h1 => k0_hw375.2.2.2.2.1 k0_h1
theorem k0_off762_inb : ∀ (i : grid0.Coords) (v16679 : BitVec 32) (k0_hw375 : k0_chk375 i v16679), ∀ (k0_h1 : k0_cond1 i = 1#1), ∀ a, (k0_off762 v16679) a + S1.size a ≤ S51920.size a := fun i v16679 k0_hw375 k0_h1 => k0_hw375.2.2.2.2.2.1 k0_h1
theorem k0_off764_inb : ∀ (i : grid0.Coords) (v16679 : BitVec 32) (k0_hw375 : k0_chk375 i v16679), ∀ (k0_h1 : k0_cond1 i = 1#1), ∀ a, (k0_off764 v16679) a + S1.size a ≤ S51920.size a := fun i v16679 k0_hw375 k0_h1 => k0_hw375.2.2.2.2.2.2.1 k0_h1
theorem k0_off766_inb : ∀ (i : grid0.Coords) (v16679 : BitVec 32) (k0_hw375 : k0_chk375 i v16679), ∀ (k0_h1 : k0_cond1 i = 1#1), ∀ a, (k0_off766 v16679) a + S1.size a ≤ S51920.size a := fun i v16679 k0_hw375 k0_h1 => k0_hw375.2.2.2.2.2.2.2.1 k0_h1
theorem k0_off768_inb : ∀ (i : grid0.Coords) (v16679 : BitVec 32) (k0_hw375 : k0_chk375 i v16679), ∀ (k0_h1 : k0_cond1 i = 1#1), ∀ a, (k0_off768 v16679) a + S1.size a ≤ S51920.size a := fun i v16679 k0_hw375 k0_h1 => k0_hw375.2.2.2.2.2.2.2.2.1 k0_h1
theorem k0_off770_inb : ∀ (i : grid0.Coords) (v16679 : BitVec 32) (k0_hw375 : k0_chk375 i v16679), ∀ (k0_h1 : k0_cond1 i = 1#1), ∀ a, (k0_off770 v16679) a + S1.size a ≤ S51920.size a := fun i v16679 k0_hw375 k0_h1 => k0_hw375.2.2.2.2.2.2.2.2.2.1 k0_h1
theorem k0_off772_inb : ∀ (i : grid0.Coords) (v16679 : BitVec 32) (k0_hw375 : k0_chk375 i v16679), ∀ (k0_h1 : k0_cond1 i = 1#1), ∀ a, (k0_off772 v16679) a + S1.size a ≤ S51920.size a := fun i v16679 k0_hw375 k0_h1 => k0_hw375.2.2.2.2.2.2.2.2.2.2.1 k0_h1
theorem k0_off774_inb : ∀ (i : grid0.Coords) (v16679 : BitVec 32) (k0_hw375 : k0_chk375 i v16679), ∀ (k0_h1 : k0_cond1 i = 1#1), ∀ a, (k0_off774 v16679) a + S1.size a ≤ S51920.size a := fun i v16679 k0_hw375 k0_h1 => k0_hw375.2.2.2.2.2.2.2.2.2.2.2.1 k0_h1
theorem k0_off776_inb : ∀ (i : grid0.Coords) (v16679 : BitVec 32) (k0_hw375 : k0_chk375 i v16679), ∀ (k0_h1 : k0_cond1 i = 1#1), ∀ a, (k0_off776 v16679) a + S1.size a ≤ S51920.size a := fun i v16679 k0_hw375 k0_h1 => k0_hw375.2.2.2.2.2.2.2.2.2.2.2.2.1 k0_h1
theorem k0_off778_inb : ∀ (i : grid0.Coords) (v16679 : BitVec 32) (k0_hw375 : k0_chk375 i v16679), ∀ (k0_h1 : k0_cond1 i = 1#1), ∀ a, (k0_off778 v16679) a + S1.size a ≤ S51920.size a := fun i v16679 k0_hw375 k0_h1 => k0_hw375.2.2.2.2.2.2.2.2.2.2.2.2.2.1 k0_h1
theorem k0_off780_inb : ∀ (i : grid0.Coords) (v16679 : BitVec 32) (k0_hw375 : k0_chk375 i v16679), ∀ (k0_h1 : k0_cond1 i = 1#1), ∀ a, (k0_off780 v16679) a + S1.size a ≤ S51920.size a := fun i v16679 k0_hw375 k0_h1 => k0_hw375.2.2.2.2.2.2.2.2.2.2.2.2.2.2.1 k0_h1
theorem k0_off782_inb : ∀ (i : grid0.Coords) (v16679 : BitVec 32) (k0_hw375 : k0_chk375 i v16679), ∀ (k0_h1 : k0_cond1 i = 1#1), ∀ a, (k0_off782 v16679) a + S1.size a ≤ S51920.size a := fun i v16679 k0_hw375 k0_h1 => k0_hw375.2.2.2.2.2.2.2.2.2.2.2.2.2.2.2 k0_h1

def k0_off783 (k0_t1 : Fin k0_t1_loop.trips) (v16679 : BitVec 32) (v16682 : BitVec 32) (v16919 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_6594 : BitVec 32 := 15#32
  let v16916 : BitVec 32 := Scalar.addi v16679 c15_i32_6594
  let v16917 : BitVec 1 := Scalar.cmpi .slt v16916 v16682
  let c65535_i32_6595 : BitVec 32 := 65535#32
  let v16920 : BitVec 32 := Scalar.andi v16919 c65535_i32_6595
  let c2048_i32_6596 : BitVec 32 := 2048#32
  let v16921 : BitVec 32 := Scalar.select v16917 v16920 c2048_i32_6596
  let v16922 : BitVec 32 := Scalar.addi v11087 v16921
  let v16925 : Index := Scalar.indexCast v16922
  let c0_6598 : Index := 0#32
  ![v16925.toNat, 0]

def k0_chk391 (i : grid0.Coords) (k0_t1 : Fin k0_t1_loop.trips) (v16679 : BitVec 32) (v16682 : BitVec 32) (v16919 : BitVec 32) : Prop :=
  (∀ (k0_h1 : k0_cond1 i = 1#1), ∀ a, (k0_off783 k0_t1 v16679 v16682 v16919) a + S1x128.size a ≤ S8224x128.size a)
theorem k0_off783_inb : ∀ (i : grid0.Coords) (k0_t1 : Fin k0_t1_loop.trips) (v16679 : BitVec 32) (v16682 : BitVec 32) (v16919 : BitVec 32) (k0_hw391 : k0_chk391 i k0_t1 v16679 v16682 v16919), ∀ (k0_h1 : k0_cond1 i = 1#1), ∀ a, (k0_off783 k0_t1 v16679 v16682 v16919) a + S1x128.size a ≤ S8224x128.size a := fun i k0_t1 v16679 v16682 v16919 k0_hw391 k0_h1 => k0_hw391 k0_h1

def k0_off784 (k0_t1 : Fin k0_t1_loop.trips) : Fin 1 → Nat :=
  let c0_i32_6599 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v16930 : BitVec 32 := Scalar.addi c0_i32_6599 v11069
  let c23_i32_6600 : BitVec 32 := 23#32
  let v16931 : BitVec 32 := Scalar.addi v16930 c23_i32_6600
  let v16932 : Index := Scalar.indexCast v16931
  ![v16932.toNat]
def k0_off785 (k0_t1 : Fin k0_t1_loop.trips) : Fin 1 → Nat :=
  let c0_i32_6599 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v16930 : BitVec 32 := Scalar.addi c0_i32_6599 v11069
  let c23_i32_6600 : BitVec 32 := 23#32
  let v16931 : BitVec 32 := Scalar.addi v16930 c23_i32_6600
  let c1_i32_6601 : BitVec 32 := 1#32
  let v16934 : BitVec 32 := Scalar.addi v16931 c1_i32_6601
  let v16935 : Index := Scalar.indexCast v16934
  ![v16935.toNat]
def k0_off786 (v16933 : BitVec 32) : Fin 1 → Nat :=
  let c0_i32_6604 : BitVec 32 := 0#32
  let v16944 : BitVec 32 := Scalar.addi v16933 c0_i32_6604
  let v16947 : Index := Scalar.indexCast v16944
  ![v16947.toNat]

def k0_off787 (k0_t1 : Fin k0_t1_loop.trips) (v16933 : BitVec 32) (v16936 : BitVec 32) (v16948 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_6605 : BitVec 32 := 0#32
  let v16945 : BitVec 32 := Scalar.addi v16933 c0_i32_6605
  let v16946 : BitVec 1 := Scalar.cmpi .slt v16945 v16936
  let c65535_i32_6606 : BitVec 32 := 65535#32
  let v16949 : BitVec 32 := Scalar.andi v16948 c65535_i32_6606
  let c2048_i32_6607 : BitVec 32 := 2048#32
  let v16950 : BitVec 32 := Scalar.select v16946 v16949 c2048_i32_6607
  let v16951 : BitVec 32 := Scalar.addi v11087 v16950
  let v16954 : Index := Scalar.indexCast v16951
  let c0_6609 : Index := 0#32
  ![v16954.toNat, 0]

def k0_chk393 (i : grid0.Coords) (k0_t1 : Fin k0_t1_loop.trips) (v16933 : BitVec 32) (v16936 : BitVec 32) (v16948 : BitVec 32) : Prop :=
  (∀ (k0_h1 : k0_cond1 i = 1#1), ∀ a, (k0_off787 k0_t1 v16933 v16936 v16948) a + S1x128.size a ≤ S8224x128.size a)
theorem k0_off787_inb : ∀ (i : grid0.Coords) (k0_t1 : Fin k0_t1_loop.trips) (v16933 : BitVec 32) (v16936 : BitVec 32) (v16948 : BitVec 32) (k0_hw393 : k0_chk393 i k0_t1 v16933 v16936 v16948), ∀ (k0_h1 : k0_cond1 i = 1#1), ∀ a, (k0_off787 k0_t1 v16933 v16936 v16948) a + S1x128.size a ≤ S8224x128.size a := fun i k0_t1 v16933 v16936 v16948 k0_hw393 k0_h1 => k0_hw393 k0_h1

def k0_off788 (v16933 : BitVec 32) : Fin 1 → Nat :=
  let c1_i32_6610 : BitVec 32 := 1#32
  let v16959 : BitVec 32 := Scalar.addi v16933 c1_i32_6610
  let v16962 : Index := Scalar.indexCast v16959
  ![v16962.toNat]
def k0_off789 (k0_t1 : Fin k0_t1_loop.trips) (v16933 : BitVec 32) (v16936 : BitVec 32) (v16963 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_6611 : BitVec 32 := 1#32
  let v16960 : BitVec 32 := Scalar.addi v16933 c1_i32_6611
  let v16961 : BitVec 1 := Scalar.cmpi .slt v16960 v16936
  let c65535_i32_6612 : BitVec 32 := 65535#32
  let v16964 : BitVec 32 := Scalar.andi v16963 c65535_i32_6612
  let c2048_i32_6613 : BitVec 32 := 2048#32
  let v16965 : BitVec 32 := Scalar.select v16961 v16964 c2048_i32_6613
  let v16966 : BitVec 32 := Scalar.addi v11087 v16965
  let v16969 : Index := Scalar.indexCast v16966
  let c0_6615 : Index := 0#32
  ![v16969.toNat, 0]

def k0_chk394 (i : grid0.Coords) (k0_t1 : Fin k0_t1_loop.trips) (v16933 : BitVec 32) (v16936 : BitVec 32) (v16963 : BitVec 32) : Prop :=
  (∀ (k0_h1 : k0_cond1 i = 1#1), ∀ a, (k0_off789 k0_t1 v16933 v16936 v16963) a + S1x128.size a ≤ S8224x128.size a)
theorem k0_off789_inb : ∀ (i : grid0.Coords) (k0_t1 : Fin k0_t1_loop.trips) (v16933 : BitVec 32) (v16936 : BitVec 32) (v16963 : BitVec 32) (k0_hw394 : k0_chk394 i k0_t1 v16933 v16936 v16963), ∀ (k0_h1 : k0_cond1 i = 1#1), ∀ a, (k0_off789 k0_t1 v16933 v16936 v16963) a + S1x128.size a ≤ S8224x128.size a := fun i k0_t1 v16933 v16936 v16963 k0_hw394 k0_h1 => k0_hw394 k0_h1

def k0_off790 (v16933 : BitVec 32) : Fin 1 → Nat :=
  let c2_i32_6616 : BitVec 32 := 2#32
  let v16974 : BitVec 32 := Scalar.addi v16933 c2_i32_6616
  let v16977 : Index := Scalar.indexCast v16974
  ![v16977.toNat]
def k0_off791 (k0_t1 : Fin k0_t1_loop.trips) (v16933 : BitVec 32) (v16936 : BitVec 32) (v16978 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_6617 : BitVec 32 := 2#32
  let v16975 : BitVec 32 := Scalar.addi v16933 c2_i32_6617
  let v16976 : BitVec 1 := Scalar.cmpi .slt v16975 v16936
  let c65535_i32_6618 : BitVec 32 := 65535#32
  let v16979 : BitVec 32 := Scalar.andi v16978 c65535_i32_6618
  let c2048_i32_6619 : BitVec 32 := 2048#32
  let v16980 : BitVec 32 := Scalar.select v16976 v16979 c2048_i32_6619
  let v16981 : BitVec 32 := Scalar.addi v11087 v16980
  let v16984 : Index := Scalar.indexCast v16981
  let c0_6621 : Index := 0#32
  ![v16984.toNat, 0]

def k0_chk395 (i : grid0.Coords) (k0_t1 : Fin k0_t1_loop.trips) (v16933 : BitVec 32) (v16936 : BitVec 32) (v16978 : BitVec 32) : Prop :=
  (∀ (k0_h1 : k0_cond1 i = 1#1), ∀ a, (k0_off791 k0_t1 v16933 v16936 v16978) a + S1x128.size a ≤ S8224x128.size a)
theorem k0_off791_inb : ∀ (i : grid0.Coords) (k0_t1 : Fin k0_t1_loop.trips) (v16933 : BitVec 32) (v16936 : BitVec 32) (v16978 : BitVec 32) (k0_hw395 : k0_chk395 i k0_t1 v16933 v16936 v16978), ∀ (k0_h1 : k0_cond1 i = 1#1), ∀ a, (k0_off791 k0_t1 v16933 v16936 v16978) a + S1x128.size a ≤ S8224x128.size a := fun i k0_t1 v16933 v16936 v16978 k0_hw395 k0_h1 => k0_hw395 k0_h1

def k0_off792 (v16933 : BitVec 32) : Fin 1 → Nat :=
  let c3_i32_6622 : BitVec 32 := 3#32
  let v16989 : BitVec 32 := Scalar.addi v16933 c3_i32_6622
  let v16992 : Index := Scalar.indexCast v16989
  ![v16992.toNat]
def k0_off793 (k0_t1 : Fin k0_t1_loop.trips) (v16933 : BitVec 32) (v16936 : BitVec 32) (v16993 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_6623 : BitVec 32 := 3#32
  let v16990 : BitVec 32 := Scalar.addi v16933 c3_i32_6623
  let v16991 : BitVec 1 := Scalar.cmpi .slt v16990 v16936
  let c65535_i32_6624 : BitVec 32 := 65535#32
  let v16994 : BitVec 32 := Scalar.andi v16993 c65535_i32_6624
  let c2048_i32_6625 : BitVec 32 := 2048#32
  let v16995 : BitVec 32 := Scalar.select v16991 v16994 c2048_i32_6625
  let v16996 : BitVec 32 := Scalar.addi v11087 v16995
  let v16999 : Index := Scalar.indexCast v16996
  let c0_6627 : Index := 0#32
  ![v16999.toNat, 0]

def k0_chk396 (i : grid0.Coords) (k0_t1 : Fin k0_t1_loop.trips) (v16933 : BitVec 32) (v16936 : BitVec 32) (v16993 : BitVec 32) : Prop :=
  (∀ (k0_h1 : k0_cond1 i = 1#1), ∀ a, (k0_off793 k0_t1 v16933 v16936 v16993) a + S1x128.size a ≤ S8224x128.size a)
theorem k0_off793_inb : ∀ (i : grid0.Coords) (k0_t1 : Fin k0_t1_loop.trips) (v16933 : BitVec 32) (v16936 : BitVec 32) (v16993 : BitVec 32) (k0_hw396 : k0_chk396 i k0_t1 v16933 v16936 v16993), ∀ (k0_h1 : k0_cond1 i = 1#1), ∀ a, (k0_off793 k0_t1 v16933 v16936 v16993) a + S1x128.size a ≤ S8224x128.size a := fun i k0_t1 v16933 v16936 v16993 k0_hw396 k0_h1 => k0_hw396 k0_h1

def k0_off794 (v16933 : BitVec 32) : Fin 1 → Nat :=
  let c4_i32_6628 : BitVec 32 := 4#32
  let v17004 : BitVec 32 := Scalar.addi v16933 c4_i32_6628
  let v17007 : Index := Scalar.indexCast v17004
  ![v17007.toNat]
def k0_off795 (k0_t1 : Fin k0_t1_loop.trips) (v16933 : BitVec 32) (v16936 : BitVec 32) (v17008 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_6629 : BitVec 32 := 4#32
  let v17005 : BitVec 32 := Scalar.addi v16933 c4_i32_6629
  let v17006 : BitVec 1 := Scalar.cmpi .slt v17005 v16936
  let c65535_i32_6630 : BitVec 32 := 65535#32
  let v17009 : BitVec 32 := Scalar.andi v17008 c65535_i32_6630
  let c2048_i32_6631 : BitVec 32 := 2048#32
  let v17010 : BitVec 32 := Scalar.select v17006 v17009 c2048_i32_6631
  let v17011 : BitVec 32 := Scalar.addi v11087 v17010
  let v17014 : Index := Scalar.indexCast v17011
  let c0_6633 : Index := 0#32
  ![v17014.toNat, 0]

def k0_chk397 (i : grid0.Coords) (k0_t1 : Fin k0_t1_loop.trips) (v16933 : BitVec 32) (v16936 : BitVec 32) (v17008 : BitVec 32) : Prop :=
  (∀ (k0_h1 : k0_cond1 i = 1#1), ∀ a, (k0_off795 k0_t1 v16933 v16936 v17008) a + S1x128.size a ≤ S8224x128.size a)
theorem k0_off795_inb : ∀ (i : grid0.Coords) (k0_t1 : Fin k0_t1_loop.trips) (v16933 : BitVec 32) (v16936 : BitVec 32) (v17008 : BitVec 32) (k0_hw397 : k0_chk397 i k0_t1 v16933 v16936 v17008), ∀ (k0_h1 : k0_cond1 i = 1#1), ∀ a, (k0_off795 k0_t1 v16933 v16936 v17008) a + S1x128.size a ≤ S8224x128.size a := fun i k0_t1 v16933 v16936 v17008 k0_hw397 k0_h1 => k0_hw397 k0_h1

def k0_off796 (v16933 : BitVec 32) : Fin 1 → Nat :=
  let c5_i32_6634 : BitVec 32 := 5#32
  let v17019 : BitVec 32 := Scalar.addi v16933 c5_i32_6634
  let v17022 : Index := Scalar.indexCast v17019
  ![v17022.toNat]
def k0_off797 (k0_t1 : Fin k0_t1_loop.trips) (v16933 : BitVec 32) (v16936 : BitVec 32) (v17023 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_6635 : BitVec 32 := 5#32
  let v17020 : BitVec 32 := Scalar.addi v16933 c5_i32_6635
  let v17021 : BitVec 1 := Scalar.cmpi .slt v17020 v16936
  let c65535_i32_6636 : BitVec 32 := 65535#32
  let v17024 : BitVec 32 := Scalar.andi v17023 c65535_i32_6636
  let c2048_i32_6637 : BitVec 32 := 2048#32
  let v17025 : BitVec 32 := Scalar.select v17021 v17024 c2048_i32_6637
  let v17026 : BitVec 32 := Scalar.addi v11087 v17025
  let v17029 : Index := Scalar.indexCast v17026
  let c0_6639 : Index := 0#32
  ![v17029.toNat, 0]

def k0_chk398 (i : grid0.Coords) (k0_t1 : Fin k0_t1_loop.trips) (v16933 : BitVec 32) (v16936 : BitVec 32) (v17023 : BitVec 32) : Prop :=
  (∀ (k0_h1 : k0_cond1 i = 1#1), ∀ a, (k0_off797 k0_t1 v16933 v16936 v17023) a + S1x128.size a ≤ S8224x128.size a)
theorem k0_off797_inb : ∀ (i : grid0.Coords) (k0_t1 : Fin k0_t1_loop.trips) (v16933 : BitVec 32) (v16936 : BitVec 32) (v17023 : BitVec 32) (k0_hw398 : k0_chk398 i k0_t1 v16933 v16936 v17023), ∀ (k0_h1 : k0_cond1 i = 1#1), ∀ a, (k0_off797 k0_t1 v16933 v16936 v17023) a + S1x128.size a ≤ S8224x128.size a := fun i k0_t1 v16933 v16936 v17023 k0_hw398 k0_h1 => k0_hw398 k0_h1

def k0_off798 (v16933 : BitVec 32) : Fin 1 → Nat :=
  let c6_i32_6640 : BitVec 32 := 6#32
  let v17034 : BitVec 32 := Scalar.addi v16933 c6_i32_6640
  let v17037 : Index := Scalar.indexCast v17034
  ![v17037.toNat]
def k0_off799 (k0_t1 : Fin k0_t1_loop.trips) (v16933 : BitVec 32) (v16936 : BitVec 32) (v17038 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_6641 : BitVec 32 := 6#32
  let v17035 : BitVec 32 := Scalar.addi v16933 c6_i32_6641
  let v17036 : BitVec 1 := Scalar.cmpi .slt v17035 v16936
  let c65535_i32_6642 : BitVec 32 := 65535#32
  let v17039 : BitVec 32 := Scalar.andi v17038 c65535_i32_6642
  let c2048_i32_6643 : BitVec 32 := 2048#32
  let v17040 : BitVec 32 := Scalar.select v17036 v17039 c2048_i32_6643
  let v17041 : BitVec 32 := Scalar.addi v11087 v17040
  let v17044 : Index := Scalar.indexCast v17041
  let c0_6645 : Index := 0#32
  ![v17044.toNat, 0]

def k0_chk399 (i : grid0.Coords) (k0_t1 : Fin k0_t1_loop.trips) (v16933 : BitVec 32) (v16936 : BitVec 32) (v17038 : BitVec 32) : Prop :=
  (∀ (k0_h1 : k0_cond1 i = 1#1), ∀ a, (k0_off799 k0_t1 v16933 v16936 v17038) a + S1x128.size a ≤ S8224x128.size a)
theorem k0_off799_inb : ∀ (i : grid0.Coords) (k0_t1 : Fin k0_t1_loop.trips) (v16933 : BitVec 32) (v16936 : BitVec 32) (v17038 : BitVec 32) (k0_hw399 : k0_chk399 i k0_t1 v16933 v16936 v17038), ∀ (k0_h1 : k0_cond1 i = 1#1), ∀ a, (k0_off799 k0_t1 v16933 v16936 v17038) a + S1x128.size a ≤ S8224x128.size a := fun i k0_t1 v16933 v16936 v17038 k0_hw399 k0_h1 => k0_hw399 k0_h1

def k0_off800 (v16933 : BitVec 32) : Fin 1 → Nat :=
  let c7_i32_6646 : BitVec 32 := 7#32
  let v17049 : BitVec 32 := Scalar.addi v16933 c7_i32_6646
  let v17052 : Index := Scalar.indexCast v17049
  ![v17052.toNat]
def k0_off801 (k0_t1 : Fin k0_t1_loop.trips) (v16933 : BitVec 32) (v16936 : BitVec 32) (v17053 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_6647 : BitVec 32 := 7#32
  let v17050 : BitVec 32 := Scalar.addi v16933 c7_i32_6647
  let v17051 : BitVec 1 := Scalar.cmpi .slt v17050 v16936
  let c65535_i32_6648 : BitVec 32 := 65535#32
  let v17054 : BitVec 32 := Scalar.andi v17053 c65535_i32_6648
  let c2048_i32_6649 : BitVec 32 := 2048#32
  let v17055 : BitVec 32 := Scalar.select v17051 v17054 c2048_i32_6649
  let v17056 : BitVec 32 := Scalar.addi v11087 v17055
  let v17059 : Index := Scalar.indexCast v17056
  let c0_6651 : Index := 0#32
  ![v17059.toNat, 0]

def k0_chk400 (i : grid0.Coords) (k0_t1 : Fin k0_t1_loop.trips) (v16933 : BitVec 32) (v16936 : BitVec 32) (v17053 : BitVec 32) : Prop :=
  (∀ (k0_h1 : k0_cond1 i = 1#1), ∀ a, (k0_off801 k0_t1 v16933 v16936 v17053) a + S1x128.size a ≤ S8224x128.size a)
theorem k0_off801_inb : ∀ (i : grid0.Coords) (k0_t1 : Fin k0_t1_loop.trips) (v16933 : BitVec 32) (v16936 : BitVec 32) (v17053 : BitVec 32) (k0_hw400 : k0_chk400 i k0_t1 v16933 v16936 v17053), ∀ (k0_h1 : k0_cond1 i = 1#1), ∀ a, (k0_off801 k0_t1 v16933 v16936 v17053) a + S1x128.size a ≤ S8224x128.size a := fun i k0_t1 v16933 v16936 v17053 k0_hw400 k0_h1 => k0_hw400 k0_h1

def k0_off802 (v16933 : BitVec 32) : Fin 1 → Nat :=
  let c8_i32_6652 : BitVec 32 := 8#32
  let v17064 : BitVec 32 := Scalar.addi v16933 c8_i32_6652
  let v17067 : Index := Scalar.indexCast v17064
  ![v17067.toNat]
def k0_off803 (k0_t1 : Fin k0_t1_loop.trips) (v16933 : BitVec 32) (v16936 : BitVec 32) (v17068 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_6653 : BitVec 32 := 8#32
  let v17065 : BitVec 32 := Scalar.addi v16933 c8_i32_6653
  let v17066 : BitVec 1 := Scalar.cmpi .slt v17065 v16936
  let c65535_i32_6654 : BitVec 32 := 65535#32
  let v17069 : BitVec 32 := Scalar.andi v17068 c65535_i32_6654
  let c2048_i32_6655 : BitVec 32 := 2048#32
  let v17070 : BitVec 32 := Scalar.select v17066 v17069 c2048_i32_6655
  let v17071 : BitVec 32 := Scalar.addi v11087 v17070
  let v17074 : Index := Scalar.indexCast v17071
  let c0_6657 : Index := 0#32
  ![v17074.toNat, 0]

def k0_chk401 (i : grid0.Coords) (k0_t1 : Fin k0_t1_loop.trips) (v16933 : BitVec 32) (v16936 : BitVec 32) (v17068 : BitVec 32) : Prop :=
  (∀ (k0_h1 : k0_cond1 i = 1#1), ∀ a, (k0_off803 k0_t1 v16933 v16936 v17068) a + S1x128.size a ≤ S8224x128.size a)
theorem k0_off803_inb : ∀ (i : grid0.Coords) (k0_t1 : Fin k0_t1_loop.trips) (v16933 : BitVec 32) (v16936 : BitVec 32) (v17068 : BitVec 32) (k0_hw401 : k0_chk401 i k0_t1 v16933 v16936 v17068), ∀ (k0_h1 : k0_cond1 i = 1#1), ∀ a, (k0_off803 k0_t1 v16933 v16936 v17068) a + S1x128.size a ≤ S8224x128.size a := fun i k0_t1 v16933 v16936 v17068 k0_hw401 k0_h1 => k0_hw401 k0_h1

def k0_off804 (v16933 : BitVec 32) : Fin 1 → Nat :=
  let c9_i32_6658 : BitVec 32 := 9#32
  let v17079 : BitVec 32 := Scalar.addi v16933 c9_i32_6658
  let v17082 : Index := Scalar.indexCast v17079
  ![v17082.toNat]
def k0_off805 (k0_t1 : Fin k0_t1_loop.trips) (v16933 : BitVec 32) (v16936 : BitVec 32) (v17083 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_6659 : BitVec 32 := 9#32
  let v17080 : BitVec 32 := Scalar.addi v16933 c9_i32_6659
  let v17081 : BitVec 1 := Scalar.cmpi .slt v17080 v16936
  let c65535_i32_6660 : BitVec 32 := 65535#32
  let v17084 : BitVec 32 := Scalar.andi v17083 c65535_i32_6660
  let c2048_i32_6661 : BitVec 32 := 2048#32
  let v17085 : BitVec 32 := Scalar.select v17081 v17084 c2048_i32_6661
  let v17086 : BitVec 32 := Scalar.addi v11087 v17085
  let v17089 : Index := Scalar.indexCast v17086
  let c0_6663 : Index := 0#32
  ![v17089.toNat, 0]

def k0_chk402 (i : grid0.Coords) (k0_t1 : Fin k0_t1_loop.trips) (v16933 : BitVec 32) (v16936 : BitVec 32) (v17083 : BitVec 32) : Prop :=
  (∀ (k0_h1 : k0_cond1 i = 1#1), ∀ a, (k0_off805 k0_t1 v16933 v16936 v17083) a + S1x128.size a ≤ S8224x128.size a)
theorem k0_off805_inb : ∀ (i : grid0.Coords) (k0_t1 : Fin k0_t1_loop.trips) (v16933 : BitVec 32) (v16936 : BitVec 32) (v17083 : BitVec 32) (k0_hw402 : k0_chk402 i k0_t1 v16933 v16936 v17083), ∀ (k0_h1 : k0_cond1 i = 1#1), ∀ a, (k0_off805 k0_t1 v16933 v16936 v17083) a + S1x128.size a ≤ S8224x128.size a := fun i k0_t1 v16933 v16936 v17083 k0_hw402 k0_h1 => k0_hw402 k0_h1

def k0_off806 (v16933 : BitVec 32) : Fin 1 → Nat :=
  let c10_i32_6664 : BitVec 32 := 10#32
  let v17094 : BitVec 32 := Scalar.addi v16933 c10_i32_6664
  let v17097 : Index := Scalar.indexCast v17094
  ![v17097.toNat]
def k0_off807 (k0_t1 : Fin k0_t1_loop.trips) (v16933 : BitVec 32) (v16936 : BitVec 32) (v17098 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_6665 : BitVec 32 := 10#32
  let v17095 : BitVec 32 := Scalar.addi v16933 c10_i32_6665
  let v17096 : BitVec 1 := Scalar.cmpi .slt v17095 v16936
  let c65535_i32_6666 : BitVec 32 := 65535#32
  let v17099 : BitVec 32 := Scalar.andi v17098 c65535_i32_6666
  let c2048_i32_6667 : BitVec 32 := 2048#32
  let v17100 : BitVec 32 := Scalar.select v17096 v17099 c2048_i32_6667
  let v17101 : BitVec 32 := Scalar.addi v11087 v17100
  let v17104 : Index := Scalar.indexCast v17101
  let c0_6669 : Index := 0#32
  ![v17104.toNat, 0]

def k0_chk403 (i : grid0.Coords) (k0_t1 : Fin k0_t1_loop.trips) (v16933 : BitVec 32) (v16936 : BitVec 32) (v17098 : BitVec 32) : Prop :=
  (∀ (k0_h1 : k0_cond1 i = 1#1), ∀ a, (k0_off807 k0_t1 v16933 v16936 v17098) a + S1x128.size a ≤ S8224x128.size a)
theorem k0_off807_inb : ∀ (i : grid0.Coords) (k0_t1 : Fin k0_t1_loop.trips) (v16933 : BitVec 32) (v16936 : BitVec 32) (v17098 : BitVec 32) (k0_hw403 : k0_chk403 i k0_t1 v16933 v16936 v17098), ∀ (k0_h1 : k0_cond1 i = 1#1), ∀ a, (k0_off807 k0_t1 v16933 v16936 v17098) a + S1x128.size a ≤ S8224x128.size a := fun i k0_t1 v16933 v16936 v17098 k0_hw403 k0_h1 => k0_hw403 k0_h1

def k0_off808 (v16933 : BitVec 32) : Fin 1 → Nat :=
  let c11_i32_6670 : BitVec 32 := 11#32
  let v17109 : BitVec 32 := Scalar.addi v16933 c11_i32_6670
  let v17112 : Index := Scalar.indexCast v17109
  ![v17112.toNat]
def k0_off809 (k0_t1 : Fin k0_t1_loop.trips) (v16933 : BitVec 32) (v16936 : BitVec 32) (v17113 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_6671 : BitVec 32 := 11#32
  let v17110 : BitVec 32 := Scalar.addi v16933 c11_i32_6671
  let v17111 : BitVec 1 := Scalar.cmpi .slt v17110 v16936
  let c65535_i32_6672 : BitVec 32 := 65535#32
  let v17114 : BitVec 32 := Scalar.andi v17113 c65535_i32_6672
  let c2048_i32_6673 : BitVec 32 := 2048#32
  let v17115 : BitVec 32 := Scalar.select v17111 v17114 c2048_i32_6673
  let v17116 : BitVec 32 := Scalar.addi v11087 v17115
  let v17119 : Index := Scalar.indexCast v17116
  let c0_6675 : Index := 0#32
  ![v17119.toNat, 0]

def k0_chk404 (i : grid0.Coords) (k0_t1 : Fin k0_t1_loop.trips) (v16933 : BitVec 32) (v16936 : BitVec 32) (v17113 : BitVec 32) : Prop :=
  (∀ (k0_h1 : k0_cond1 i = 1#1), ∀ a, (k0_off809 k0_t1 v16933 v16936 v17113) a + S1x128.size a ≤ S8224x128.size a)
theorem k0_off809_inb : ∀ (i : grid0.Coords) (k0_t1 : Fin k0_t1_loop.trips) (v16933 : BitVec 32) (v16936 : BitVec 32) (v17113 : BitVec 32) (k0_hw404 : k0_chk404 i k0_t1 v16933 v16936 v17113), ∀ (k0_h1 : k0_cond1 i = 1#1), ∀ a, (k0_off809 k0_t1 v16933 v16936 v17113) a + S1x128.size a ≤ S8224x128.size a := fun i k0_t1 v16933 v16936 v17113 k0_hw404 k0_h1 => k0_hw404 k0_h1

def k0_off810 (v16933 : BitVec 32) : Fin 1 → Nat :=
  let c12_i32_6676 : BitVec 32 := 12#32
  let v17124 : BitVec 32 := Scalar.addi v16933 c12_i32_6676
  let v17127 : Index := Scalar.indexCast v17124
  ![v17127.toNat]
def k0_off811 (k0_t1 : Fin k0_t1_loop.trips) (v16933 : BitVec 32) (v16936 : BitVec 32) (v17128 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_6677 : BitVec 32 := 12#32
  let v17125 : BitVec 32 := Scalar.addi v16933 c12_i32_6677
  let v17126 : BitVec 1 := Scalar.cmpi .slt v17125 v16936
  let c65535_i32_6678 : BitVec 32 := 65535#32
  let v17129 : BitVec 32 := Scalar.andi v17128 c65535_i32_6678
  let c2048_i32_6679 : BitVec 32 := 2048#32
  let v17130 : BitVec 32 := Scalar.select v17126 v17129 c2048_i32_6679
  let v17131 : BitVec 32 := Scalar.addi v11087 v17130
  let v17134 : Index := Scalar.indexCast v17131
  let c0_6681 : Index := 0#32
  ![v17134.toNat, 0]

def k0_chk405 (i : grid0.Coords) (k0_t1 : Fin k0_t1_loop.trips) (v16933 : BitVec 32) (v16936 : BitVec 32) (v17128 : BitVec 32) : Prop :=
  (∀ (k0_h1 : k0_cond1 i = 1#1), ∀ a, (k0_off811 k0_t1 v16933 v16936 v17128) a + S1x128.size a ≤ S8224x128.size a)
theorem k0_off811_inb : ∀ (i : grid0.Coords) (k0_t1 : Fin k0_t1_loop.trips) (v16933 : BitVec 32) (v16936 : BitVec 32) (v17128 : BitVec 32) (k0_hw405 : k0_chk405 i k0_t1 v16933 v16936 v17128), ∀ (k0_h1 : k0_cond1 i = 1#1), ∀ a, (k0_off811 k0_t1 v16933 v16936 v17128) a + S1x128.size a ≤ S8224x128.size a := fun i k0_t1 v16933 v16936 v17128 k0_hw405 k0_h1 => k0_hw405 k0_h1

def k0_off812 (v16933 : BitVec 32) : Fin 1 → Nat :=
  let c13_i32_6682 : BitVec 32 := 13#32
  let v17139 : BitVec 32 := Scalar.addi v16933 c13_i32_6682
  let v17142 : Index := Scalar.indexCast v17139
  ![v17142.toNat]
def k0_off813 (k0_t1 : Fin k0_t1_loop.trips) (v16933 : BitVec 32) (v16936 : BitVec 32) (v17143 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_6683 : BitVec 32 := 13#32
  let v17140 : BitVec 32 := Scalar.addi v16933 c13_i32_6683
  let v17141 : BitVec 1 := Scalar.cmpi .slt v17140 v16936
  let c65535_i32_6684 : BitVec 32 := 65535#32
  let v17144 : BitVec 32 := Scalar.andi v17143 c65535_i32_6684
  let c2048_i32_6685 : BitVec 32 := 2048#32
  let v17145 : BitVec 32 := Scalar.select v17141 v17144 c2048_i32_6685
  let v17146 : BitVec 32 := Scalar.addi v11087 v17145
  let v17149 : Index := Scalar.indexCast v17146
  let c0_6687 : Index := 0#32
  ![v17149.toNat, 0]

def k0_chk406 (i : grid0.Coords) (k0_t1 : Fin k0_t1_loop.trips) (v16933 : BitVec 32) (v16936 : BitVec 32) (v17143 : BitVec 32) : Prop :=
  (∀ (k0_h1 : k0_cond1 i = 1#1), ∀ a, (k0_off813 k0_t1 v16933 v16936 v17143) a + S1x128.size a ≤ S8224x128.size a)
theorem k0_off813_inb : ∀ (i : grid0.Coords) (k0_t1 : Fin k0_t1_loop.trips) (v16933 : BitVec 32) (v16936 : BitVec 32) (v17143 : BitVec 32) (k0_hw406 : k0_chk406 i k0_t1 v16933 v16936 v17143), ∀ (k0_h1 : k0_cond1 i = 1#1), ∀ a, (k0_off813 k0_t1 v16933 v16936 v17143) a + S1x128.size a ≤ S8224x128.size a := fun i k0_t1 v16933 v16936 v17143 k0_hw406 k0_h1 => k0_hw406 k0_h1

def k0_off814 (v16933 : BitVec 32) : Fin 1 → Nat :=
  let c14_i32_6688 : BitVec 32 := 14#32
  let v17154 : BitVec 32 := Scalar.addi v16933 c14_i32_6688
  let v17157 : Index := Scalar.indexCast v17154
  ![v17157.toNat]
def k0_off815 (k0_t1 : Fin k0_t1_loop.trips) (v16933 : BitVec 32) (v16936 : BitVec 32) (v17158 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_6689 : BitVec 32 := 14#32
  let v17155 : BitVec 32 := Scalar.addi v16933 c14_i32_6689
  let v17156 : BitVec 1 := Scalar.cmpi .slt v17155 v16936
  let c65535_i32_6690 : BitVec 32 := 65535#32
  let v17159 : BitVec 32 := Scalar.andi v17158 c65535_i32_6690
  let c2048_i32_6691 : BitVec 32 := 2048#32
  let v17160 : BitVec 32 := Scalar.select v17156 v17159 c2048_i32_6691
  let v17161 : BitVec 32 := Scalar.addi v11087 v17160
  let v17164 : Index := Scalar.indexCast v17161
  let c0_6693 : Index := 0#32
  ![v17164.toNat, 0]

def k0_chk407 (i : grid0.Coords) (k0_t1 : Fin k0_t1_loop.trips) (v16933 : BitVec 32) (v16936 : BitVec 32) (v17158 : BitVec 32) : Prop :=
  (∀ (k0_h1 : k0_cond1 i = 1#1), ∀ a, (k0_off815 k0_t1 v16933 v16936 v17158) a + S1x128.size a ≤ S8224x128.size a)
theorem k0_off815_inb : ∀ (i : grid0.Coords) (k0_t1 : Fin k0_t1_loop.trips) (v16933 : BitVec 32) (v16936 : BitVec 32) (v17158 : BitVec 32) (k0_hw407 : k0_chk407 i k0_t1 v16933 v16936 v17158), ∀ (k0_h1 : k0_cond1 i = 1#1), ∀ a, (k0_off815 k0_t1 v16933 v16936 v17158) a + S1x128.size a ≤ S8224x128.size a := fun i k0_t1 v16933 v16936 v17158 k0_hw407 k0_h1 => k0_hw407 k0_h1

def k0_off816 (v16933 : BitVec 32) : Fin 1 → Nat :=
  let c15_i32_6694 : BitVec 32 := 15#32
  let v17169 : BitVec 32 := Scalar.addi v16933 c15_i32_6694
  let v17172 : Index := Scalar.indexCast v17169
  ![v17172.toNat]

def k0_chk392 (i : grid0.Coords) (v16933 : BitVec 32) : Prop :=
  (∀ (k0_h1 : k0_cond1 i = 1#1), ∀ a, (k0_off786 v16933) a + S1.size a ≤ S51920.size a) ∧
  (∀ (k0_h1 : k0_cond1 i = 1#1), ∀ a, (k0_off788 v16933) a + S1.size a ≤ S51920.size a) ∧
  (∀ (k0_h1 : k0_cond1 i = 1#1), ∀ a, (k0_off790 v16933) a + S1.size a ≤ S51920.size a) ∧
  (∀ (k0_h1 : k0_cond1 i = 1#1), ∀ a, (k0_off792 v16933) a + S1.size a ≤ S51920.size a) ∧
  (∀ (k0_h1 : k0_cond1 i = 1#1), ∀ a, (k0_off794 v16933) a + S1.size a ≤ S51920.size a) ∧
  (∀ (k0_h1 : k0_cond1 i = 1#1), ∀ a, (k0_off796 v16933) a + S1.size a ≤ S51920.size a) ∧
  (∀ (k0_h1 : k0_cond1 i = 1#1), ∀ a, (k0_off798 v16933) a + S1.size a ≤ S51920.size a) ∧
  (∀ (k0_h1 : k0_cond1 i = 1#1), ∀ a, (k0_off800 v16933) a + S1.size a ≤ S51920.size a) ∧
  (∀ (k0_h1 : k0_cond1 i = 1#1), ∀ a, (k0_off802 v16933) a + S1.size a ≤ S51920.size a) ∧
  (∀ (k0_h1 : k0_cond1 i = 1#1), ∀ a, (k0_off804 v16933) a + S1.size a ≤ S51920.size a) ∧
  (∀ (k0_h1 : k0_cond1 i = 1#1), ∀ a, (k0_off806 v16933) a + S1.size a ≤ S51920.size a) ∧
  (∀ (k0_h1 : k0_cond1 i = 1#1), ∀ a, (k0_off808 v16933) a + S1.size a ≤ S51920.size a) ∧
  (∀ (k0_h1 : k0_cond1 i = 1#1), ∀ a, (k0_off810 v16933) a + S1.size a ≤ S51920.size a) ∧
  (∀ (k0_h1 : k0_cond1 i = 1#1), ∀ a, (k0_off812 v16933) a + S1.size a ≤ S51920.size a) ∧
  (∀ (k0_h1 : k0_cond1 i = 1#1), ∀ a, (k0_off814 v16933) a + S1.size a ≤ S51920.size a) ∧
  (∀ (k0_h1 : k0_cond1 i = 1#1), ∀ a, (k0_off816 v16933) a + S1.size a ≤ S51920.size a)
theorem k0_off786_inb : ∀ (i : grid0.Coords) (v16933 : BitVec 32) (k0_hw392 : k0_chk392 i v16933), ∀ (k0_h1 : k0_cond1 i = 1#1), ∀ a, (k0_off786 v16933) a + S1.size a ≤ S51920.size a := fun i v16933 k0_hw392 k0_h1 => k0_hw392.1 k0_h1
theorem k0_off788_inb : ∀ (i : grid0.Coords) (v16933 : BitVec 32) (k0_hw392 : k0_chk392 i v16933), ∀ (k0_h1 : k0_cond1 i = 1#1), ∀ a, (k0_off788 v16933) a + S1.size a ≤ S51920.size a := fun i v16933 k0_hw392 k0_h1 => k0_hw392.2.1 k0_h1
theorem k0_off790_inb : ∀ (i : grid0.Coords) (v16933 : BitVec 32) (k0_hw392 : k0_chk392 i v16933), ∀ (k0_h1 : k0_cond1 i = 1#1), ∀ a, (k0_off790 v16933) a + S1.size a ≤ S51920.size a := fun i v16933 k0_hw392 k0_h1 => k0_hw392.2.2.1 k0_h1
theorem k0_off792_inb : ∀ (i : grid0.Coords) (v16933 : BitVec 32) (k0_hw392 : k0_chk392 i v16933), ∀ (k0_h1 : k0_cond1 i = 1#1), ∀ a, (k0_off792 v16933) a + S1.size a ≤ S51920.size a := fun i v16933 k0_hw392 k0_h1 => k0_hw392.2.2.2.1 k0_h1
theorem k0_off794_inb : ∀ (i : grid0.Coords) (v16933 : BitVec 32) (k0_hw392 : k0_chk392 i v16933), ∀ (k0_h1 : k0_cond1 i = 1#1), ∀ a, (k0_off794 v16933) a + S1.size a ≤ S51920.size a := fun i v16933 k0_hw392 k0_h1 => k0_hw392.2.2.2.2.1 k0_h1
theorem k0_off796_inb : ∀ (i : grid0.Coords) (v16933 : BitVec 32) (k0_hw392 : k0_chk392 i v16933), ∀ (k0_h1 : k0_cond1 i = 1#1), ∀ a, (k0_off796 v16933) a + S1.size a ≤ S51920.size a := fun i v16933 k0_hw392 k0_h1 => k0_hw392.2.2.2.2.2.1 k0_h1
theorem k0_off798_inb : ∀ (i : grid0.Coords) (v16933 : BitVec 32) (k0_hw392 : k0_chk392 i v16933), ∀ (k0_h1 : k0_cond1 i = 1#1), ∀ a, (k0_off798 v16933) a + S1.size a ≤ S51920.size a := fun i v16933 k0_hw392 k0_h1 => k0_hw392.2.2.2.2.2.2.1 k0_h1
theorem k0_off800_inb : ∀ (i : grid0.Coords) (v16933 : BitVec 32) (k0_hw392 : k0_chk392 i v16933), ∀ (k0_h1 : k0_cond1 i = 1#1), ∀ a, (k0_off800 v16933) a + S1.size a ≤ S51920.size a := fun i v16933 k0_hw392 k0_h1 => k0_hw392.2.2.2.2.2.2.2.1 k0_h1
theorem k0_off802_inb : ∀ (i : grid0.Coords) (v16933 : BitVec 32) (k0_hw392 : k0_chk392 i v16933), ∀ (k0_h1 : k0_cond1 i = 1#1), ∀ a, (k0_off802 v16933) a + S1.size a ≤ S51920.size a := fun i v16933 k0_hw392 k0_h1 => k0_hw392.2.2.2.2.2.2.2.2.1 k0_h1
theorem k0_off804_inb : ∀ (i : grid0.Coords) (v16933 : BitVec 32) (k0_hw392 : k0_chk392 i v16933), ∀ (k0_h1 : k0_cond1 i = 1#1), ∀ a, (k0_off804 v16933) a + S1.size a ≤ S51920.size a := fun i v16933 k0_hw392 k0_h1 => k0_hw392.2.2.2.2.2.2.2.2.2.1 k0_h1
theorem k0_off806_inb : ∀ (i : grid0.Coords) (v16933 : BitVec 32) (k0_hw392 : k0_chk392 i v16933), ∀ (k0_h1 : k0_cond1 i = 1#1), ∀ a, (k0_off806 v16933) a + S1.size a ≤ S51920.size a := fun i v16933 k0_hw392 k0_h1 => k0_hw392.2.2.2.2.2.2.2.2.2.2.1 k0_h1
theorem k0_off808_inb : ∀ (i : grid0.Coords) (v16933 : BitVec 32) (k0_hw392 : k0_chk392 i v16933), ∀ (k0_h1 : k0_cond1 i = 1#1), ∀ a, (k0_off808 v16933) a + S1.size a ≤ S51920.size a := fun i v16933 k0_hw392 k0_h1 => k0_hw392.2.2.2.2.2.2.2.2.2.2.2.1 k0_h1
theorem k0_off810_inb : ∀ (i : grid0.Coords) (v16933 : BitVec 32) (k0_hw392 : k0_chk392 i v16933), ∀ (k0_h1 : k0_cond1 i = 1#1), ∀ a, (k0_off810 v16933) a + S1.size a ≤ S51920.size a := fun i v16933 k0_hw392 k0_h1 => k0_hw392.2.2.2.2.2.2.2.2.2.2.2.2.1 k0_h1
theorem k0_off812_inb : ∀ (i : grid0.Coords) (v16933 : BitVec 32) (k0_hw392 : k0_chk392 i v16933), ∀ (k0_h1 : k0_cond1 i = 1#1), ∀ a, (k0_off812 v16933) a + S1.size a ≤ S51920.size a := fun i v16933 k0_hw392 k0_h1 => k0_hw392.2.2.2.2.2.2.2.2.2.2.2.2.2.1 k0_h1
theorem k0_off814_inb : ∀ (i : grid0.Coords) (v16933 : BitVec 32) (k0_hw392 : k0_chk392 i v16933), ∀ (k0_h1 : k0_cond1 i = 1#1), ∀ a, (k0_off814 v16933) a + S1.size a ≤ S51920.size a := fun i v16933 k0_hw392 k0_h1 => k0_hw392.2.2.2.2.2.2.2.2.2.2.2.2.2.2.1 k0_h1
theorem k0_off816_inb : ∀ (i : grid0.Coords) (v16933 : BitVec 32) (k0_hw392 : k0_chk392 i v16933), ∀ (k0_h1 : k0_cond1 i = 1#1), ∀ a, (k0_off816 v16933) a + S1.size a ≤ S51920.size a := fun i v16933 k0_hw392 k0_h1 => k0_hw392.2.2.2.2.2.2.2.2.2.2.2.2.2.2.2 k0_h1

def k0_off817 (k0_t1 : Fin k0_t1_loop.trips) (v16933 : BitVec 32) (v16936 : BitVec 32) (v17173 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_6695 : BitVec 32 := 15#32
  let v17170 : BitVec 32 := Scalar.addi v16933 c15_i32_6695
  let v17171 : BitVec 1 := Scalar.cmpi .slt v17170 v16936
  let c65535_i32_6696 : BitVec 32 := 65535#32
  let v17174 : BitVec 32 := Scalar.andi v17173 c65535_i32_6696
  let c2048_i32_6697 : BitVec 32 := 2048#32
  let v17175 : BitVec 32 := Scalar.select v17171 v17174 c2048_i32_6697
  let v17176 : BitVec 32 := Scalar.addi v11087 v17175
  let v17179 : Index := Scalar.indexCast v17176
  let c0_6699 : Index := 0#32
  ![v17179.toNat, 0]

def k0_chk408 (i : grid0.Coords) (k0_t1 : Fin k0_t1_loop.trips) (v16933 : BitVec 32) (v16936 : BitVec 32) (v17173 : BitVec 32) : Prop :=
  (∀ (k0_h1 : k0_cond1 i = 1#1), ∀ a, (k0_off817 k0_t1 v16933 v16936 v17173) a + S1x128.size a ≤ S8224x128.size a)
theorem k0_off817_inb : ∀ (i : grid0.Coords) (k0_t1 : Fin k0_t1_loop.trips) (v16933 : BitVec 32) (v16936 : BitVec 32) (v17173 : BitVec 32) (k0_hw408 : k0_chk408 i k0_t1 v16933 v16936 v17173), ∀ (k0_h1 : k0_cond1 i = 1#1), ∀ a, (k0_off817 k0_t1 v16933 v16936 v17173) a + S1x128.size a ≤ S8224x128.size a := fun i k0_t1 v16933 v16936 v17173 k0_hw408 k0_h1 => k0_hw408 k0_h1

def k0_off818 (k0_t1 : Fin k0_t1_loop.trips) : Fin 1 → Nat :=
  let c0_i32_6700 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v17184 : BitVec 32 := Scalar.addi c0_i32_6700 v11069
  let c24_i32_6701 : BitVec 32 := 24#32
  let v17185 : BitVec 32 := Scalar.addi v17184 c24_i32_6701
  let v17186 : Index := Scalar.indexCast v17185
  ![v17186.toNat]
def k0_off819 (k0_t1 : Fin k0_t1_loop.trips) : Fin 1 → Nat :=
  let c0_i32_6700 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v17184 : BitVec 32 := Scalar.addi c0_i32_6700 v11069
  let c24_i32_6701 : BitVec 32 := 24#32
  let v17185 : BitVec 32 := Scalar.addi v17184 c24_i32_6701
  let c1_i32_6702 : BitVec 32 := 1#32
  let v17188 : BitVec 32 := Scalar.addi v17185 c1_i32_6702
  let v17189 : Index := Scalar.indexCast v17188
  ![v17189.toNat]
def k0_off820 (v17187 : BitVec 32) : Fin 1 → Nat :=
  let c0_i32_6705 : BitVec 32 := 0#32
  let v17198 : BitVec 32 := Scalar.addi v17187 c0_i32_6705
  let v17201 : Index := Scalar.indexCast v17198
  ![v17201.toNat]

def k0_off821 (k0_t1 : Fin k0_t1_loop.trips) (v17187 : BitVec 32) (v17190 : BitVec 32) (v17202 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_6706 : BitVec 32 := 0#32
  let v17199 : BitVec 32 := Scalar.addi v17187 c0_i32_6706
  let v17200 : BitVec 1 := Scalar.cmpi .slt v17199 v17190
  let c65535_i32_6707 : BitVec 32 := 65535#32
  let v17203 : BitVec 32 := Scalar.andi v17202 c65535_i32_6707
  let c2048_i32_6708 : BitVec 32 := 2048#32
  let v17204 : BitVec 32 := Scalar.select v17200 v17203 c2048_i32_6708
  let v17205 : BitVec 32 := Scalar.addi v11087 v17204
  let v17208 : Index := Scalar.indexCast v17205
  let c0_6710 : Index := 0#32
  ![v17208.toNat, 0]

def k0_chk410 (i : grid0.Coords) (k0_t1 : Fin k0_t1_loop.trips) (v17187 : BitVec 32) (v17190 : BitVec 32) (v17202 : BitVec 32) : Prop :=
  (∀ (k0_h1 : k0_cond1 i = 1#1), ∀ a, (k0_off821 k0_t1 v17187 v17190 v17202) a + S1x128.size a ≤ S8224x128.size a)
theorem k0_off821_inb : ∀ (i : grid0.Coords) (k0_t1 : Fin k0_t1_loop.trips) (v17187 : BitVec 32) (v17190 : BitVec 32) (v17202 : BitVec 32) (k0_hw410 : k0_chk410 i k0_t1 v17187 v17190 v17202), ∀ (k0_h1 : k0_cond1 i = 1#1), ∀ a, (k0_off821 k0_t1 v17187 v17190 v17202) a + S1x128.size a ≤ S8224x128.size a := fun i k0_t1 v17187 v17190 v17202 k0_hw410 k0_h1 => k0_hw410 k0_h1

def k0_off822 (v17187 : BitVec 32) : Fin 1 → Nat :=
  let c1_i32_6711 : BitVec 32 := 1#32
  let v17213 : BitVec 32 := Scalar.addi v17187 c1_i32_6711
  let v17216 : Index := Scalar.indexCast v17213
  ![v17216.toNat]
def k0_off823 (k0_t1 : Fin k0_t1_loop.trips) (v17187 : BitVec 32) (v17190 : BitVec 32) (v17217 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_6712 : BitVec 32 := 1#32
  let v17214 : BitVec 32 := Scalar.addi v17187 c1_i32_6712
  let v17215 : BitVec 1 := Scalar.cmpi .slt v17214 v17190
  let c65535_i32_6713 : BitVec 32 := 65535#32
  let v17218 : BitVec 32 := Scalar.andi v17217 c65535_i32_6713
  let c2048_i32_6714 : BitVec 32 := 2048#32
  let v17219 : BitVec 32 := Scalar.select v17215 v17218 c2048_i32_6714
  let v17220 : BitVec 32 := Scalar.addi v11087 v17219
  let v17223 : Index := Scalar.indexCast v17220
  let c0_6716 : Index := 0#32
  ![v17223.toNat, 0]

def k0_chk411 (i : grid0.Coords) (k0_t1 : Fin k0_t1_loop.trips) (v17187 : BitVec 32) (v17190 : BitVec 32) (v17217 : BitVec 32) : Prop :=
  (∀ (k0_h1 : k0_cond1 i = 1#1), ∀ a, (k0_off823 k0_t1 v17187 v17190 v17217) a + S1x128.size a ≤ S8224x128.size a)
theorem k0_off823_inb : ∀ (i : grid0.Coords) (k0_t1 : Fin k0_t1_loop.trips) (v17187 : BitVec 32) (v17190 : BitVec 32) (v17217 : BitVec 32) (k0_hw411 : k0_chk411 i k0_t1 v17187 v17190 v17217), ∀ (k0_h1 : k0_cond1 i = 1#1), ∀ a, (k0_off823 k0_t1 v17187 v17190 v17217) a + S1x128.size a ≤ S8224x128.size a := fun i k0_t1 v17187 v17190 v17217 k0_hw411 k0_h1 => k0_hw411 k0_h1

def k0_off824 (v17187 : BitVec 32) : Fin 1 → Nat :=
  let c2_i32_6717 : BitVec 32 := 2#32
  let v17228 : BitVec 32 := Scalar.addi v17187 c2_i32_6717
  let v17231 : Index := Scalar.indexCast v17228
  ![v17231.toNat]
def k0_off825 (k0_t1 : Fin k0_t1_loop.trips) (v17187 : BitVec 32) (v17190 : BitVec 32) (v17232 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_6718 : BitVec 32 := 2#32
  let v17229 : BitVec 32 := Scalar.addi v17187 c2_i32_6718
  let v17230 : BitVec 1 := Scalar.cmpi .slt v17229 v17190
  let c65535_i32_6719 : BitVec 32 := 65535#32
  let v17233 : BitVec 32 := Scalar.andi v17232 c65535_i32_6719
  let c2048_i32_6720 : BitVec 32 := 2048#32
  let v17234 : BitVec 32 := Scalar.select v17230 v17233 c2048_i32_6720
  let v17235 : BitVec 32 := Scalar.addi v11087 v17234
  let v17238 : Index := Scalar.indexCast v17235
  let c0_6722 : Index := 0#32
  ![v17238.toNat, 0]

def k0_chk412 (i : grid0.Coords) (k0_t1 : Fin k0_t1_loop.trips) (v17187 : BitVec 32) (v17190 : BitVec 32) (v17232 : BitVec 32) : Prop :=
  (∀ (k0_h1 : k0_cond1 i = 1#1), ∀ a, (k0_off825 k0_t1 v17187 v17190 v17232) a + S1x128.size a ≤ S8224x128.size a)
theorem k0_off825_inb : ∀ (i : grid0.Coords) (k0_t1 : Fin k0_t1_loop.trips) (v17187 : BitVec 32) (v17190 : BitVec 32) (v17232 : BitVec 32) (k0_hw412 : k0_chk412 i k0_t1 v17187 v17190 v17232), ∀ (k0_h1 : k0_cond1 i = 1#1), ∀ a, (k0_off825 k0_t1 v17187 v17190 v17232) a + S1x128.size a ≤ S8224x128.size a := fun i k0_t1 v17187 v17190 v17232 k0_hw412 k0_h1 => k0_hw412 k0_h1

def k0_off826 (v17187 : BitVec 32) : Fin 1 → Nat :=
  let c3_i32_6723 : BitVec 32 := 3#32
  let v17243 : BitVec 32 := Scalar.addi v17187 c3_i32_6723
  let v17246 : Index := Scalar.indexCast v17243
  ![v17246.toNat]
def k0_off827 (k0_t1 : Fin k0_t1_loop.trips) (v17187 : BitVec 32) (v17190 : BitVec 32) (v17247 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_6724 : BitVec 32 := 3#32
  let v17244 : BitVec 32 := Scalar.addi v17187 c3_i32_6724
  let v17245 : BitVec 1 := Scalar.cmpi .slt v17244 v17190
  let c65535_i32_6725 : BitVec 32 := 65535#32
  let v17248 : BitVec 32 := Scalar.andi v17247 c65535_i32_6725
  let c2048_i32_6726 : BitVec 32 := 2048#32
  let v17249 : BitVec 32 := Scalar.select v17245 v17248 c2048_i32_6726
  let v17250 : BitVec 32 := Scalar.addi v11087 v17249
  let v17253 : Index := Scalar.indexCast v17250
  let c0_6728 : Index := 0#32
  ![v17253.toNat, 0]

def k0_chk413 (i : grid0.Coords) (k0_t1 : Fin k0_t1_loop.trips) (v17187 : BitVec 32) (v17190 : BitVec 32) (v17247 : BitVec 32) : Prop :=
  (∀ (k0_h1 : k0_cond1 i = 1#1), ∀ a, (k0_off827 k0_t1 v17187 v17190 v17247) a + S1x128.size a ≤ S8224x128.size a)
theorem k0_off827_inb : ∀ (i : grid0.Coords) (k0_t1 : Fin k0_t1_loop.trips) (v17187 : BitVec 32) (v17190 : BitVec 32) (v17247 : BitVec 32) (k0_hw413 : k0_chk413 i k0_t1 v17187 v17190 v17247), ∀ (k0_h1 : k0_cond1 i = 1#1), ∀ a, (k0_off827 k0_t1 v17187 v17190 v17247) a + S1x128.size a ≤ S8224x128.size a := fun i k0_t1 v17187 v17190 v17247 k0_hw413 k0_h1 => k0_hw413 k0_h1

def k0_off828 (v17187 : BitVec 32) : Fin 1 → Nat :=
  let c4_i32_6729 : BitVec 32 := 4#32
  let v17258 : BitVec 32 := Scalar.addi v17187 c4_i32_6729
  let v17261 : Index := Scalar.indexCast v17258
  ![v17261.toNat]
def k0_off829 (k0_t1 : Fin k0_t1_loop.trips) (v17187 : BitVec 32) (v17190 : BitVec 32) (v17262 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_6730 : BitVec 32 := 4#32
  let v17259 : BitVec 32 := Scalar.addi v17187 c4_i32_6730
  let v17260 : BitVec 1 := Scalar.cmpi .slt v17259 v17190
  let c65535_i32_6731 : BitVec 32 := 65535#32
  let v17263 : BitVec 32 := Scalar.andi v17262 c65535_i32_6731
  let c2048_i32_6732 : BitVec 32 := 2048#32
  let v17264 : BitVec 32 := Scalar.select v17260 v17263 c2048_i32_6732
  let v17265 : BitVec 32 := Scalar.addi v11087 v17264
  let v17268 : Index := Scalar.indexCast v17265
  let c0_6734 : Index := 0#32
  ![v17268.toNat, 0]

def k0_chk414 (i : grid0.Coords) (k0_t1 : Fin k0_t1_loop.trips) (v17187 : BitVec 32) (v17190 : BitVec 32) (v17262 : BitVec 32) : Prop :=
  (∀ (k0_h1 : k0_cond1 i = 1#1), ∀ a, (k0_off829 k0_t1 v17187 v17190 v17262) a + S1x128.size a ≤ S8224x128.size a)
theorem k0_off829_inb : ∀ (i : grid0.Coords) (k0_t1 : Fin k0_t1_loop.trips) (v17187 : BitVec 32) (v17190 : BitVec 32) (v17262 : BitVec 32) (k0_hw414 : k0_chk414 i k0_t1 v17187 v17190 v17262), ∀ (k0_h1 : k0_cond1 i = 1#1), ∀ a, (k0_off829 k0_t1 v17187 v17190 v17262) a + S1x128.size a ≤ S8224x128.size a := fun i k0_t1 v17187 v17190 v17262 k0_hw414 k0_h1 => k0_hw414 k0_h1

def k0_off830 (v17187 : BitVec 32) : Fin 1 → Nat :=
  let c5_i32_6735 : BitVec 32 := 5#32
  let v17273 : BitVec 32 := Scalar.addi v17187 c5_i32_6735
  let v17276 : Index := Scalar.indexCast v17273
  ![v17276.toNat]
def k0_off831 (k0_t1 : Fin k0_t1_loop.trips) (v17187 : BitVec 32) (v17190 : BitVec 32) (v17277 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_6736 : BitVec 32 := 5#32
  let v17274 : BitVec 32 := Scalar.addi v17187 c5_i32_6736
  let v17275 : BitVec 1 := Scalar.cmpi .slt v17274 v17190
  let c65535_i32_6737 : BitVec 32 := 65535#32
  let v17278 : BitVec 32 := Scalar.andi v17277 c65535_i32_6737
  let c2048_i32_6738 : BitVec 32 := 2048#32
  let v17279 : BitVec 32 := Scalar.select v17275 v17278 c2048_i32_6738
  let v17280 : BitVec 32 := Scalar.addi v11087 v17279
  let v17283 : Index := Scalar.indexCast v17280
  let c0_6740 : Index := 0#32
  ![v17283.toNat, 0]

def k0_chk415 (i : grid0.Coords) (k0_t1 : Fin k0_t1_loop.trips) (v17187 : BitVec 32) (v17190 : BitVec 32) (v17277 : BitVec 32) : Prop :=
  (∀ (k0_h1 : k0_cond1 i = 1#1), ∀ a, (k0_off831 k0_t1 v17187 v17190 v17277) a + S1x128.size a ≤ S8224x128.size a)
theorem k0_off831_inb : ∀ (i : grid0.Coords) (k0_t1 : Fin k0_t1_loop.trips) (v17187 : BitVec 32) (v17190 : BitVec 32) (v17277 : BitVec 32) (k0_hw415 : k0_chk415 i k0_t1 v17187 v17190 v17277), ∀ (k0_h1 : k0_cond1 i = 1#1), ∀ a, (k0_off831 k0_t1 v17187 v17190 v17277) a + S1x128.size a ≤ S8224x128.size a := fun i k0_t1 v17187 v17190 v17277 k0_hw415 k0_h1 => k0_hw415 k0_h1

def k0_off832 (v17187 : BitVec 32) : Fin 1 → Nat :=
  let c6_i32_6741 : BitVec 32 := 6#32
  let v17288 : BitVec 32 := Scalar.addi v17187 c6_i32_6741
  let v17291 : Index := Scalar.indexCast v17288
  ![v17291.toNat]
def k0_off833 (k0_t1 : Fin k0_t1_loop.trips) (v17187 : BitVec 32) (v17190 : BitVec 32) (v17292 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_6742 : BitVec 32 := 6#32
  let v17289 : BitVec 32 := Scalar.addi v17187 c6_i32_6742
  let v17290 : BitVec 1 := Scalar.cmpi .slt v17289 v17190
  let c65535_i32_6743 : BitVec 32 := 65535#32
  let v17293 : BitVec 32 := Scalar.andi v17292 c65535_i32_6743
  let c2048_i32_6744 : BitVec 32 := 2048#32
  let v17294 : BitVec 32 := Scalar.select v17290 v17293 c2048_i32_6744
  let v17295 : BitVec 32 := Scalar.addi v11087 v17294
  let v17298 : Index := Scalar.indexCast v17295
  let c0_6746 : Index := 0#32
  ![v17298.toNat, 0]

def k0_chk416 (i : grid0.Coords) (k0_t1 : Fin k0_t1_loop.trips) (v17187 : BitVec 32) (v17190 : BitVec 32) (v17292 : BitVec 32) : Prop :=
  (∀ (k0_h1 : k0_cond1 i = 1#1), ∀ a, (k0_off833 k0_t1 v17187 v17190 v17292) a + S1x128.size a ≤ S8224x128.size a)
theorem k0_off833_inb : ∀ (i : grid0.Coords) (k0_t1 : Fin k0_t1_loop.trips) (v17187 : BitVec 32) (v17190 : BitVec 32) (v17292 : BitVec 32) (k0_hw416 : k0_chk416 i k0_t1 v17187 v17190 v17292), ∀ (k0_h1 : k0_cond1 i = 1#1), ∀ a, (k0_off833 k0_t1 v17187 v17190 v17292) a + S1x128.size a ≤ S8224x128.size a := fun i k0_t1 v17187 v17190 v17292 k0_hw416 k0_h1 => k0_hw416 k0_h1

def k0_off834 (v17187 : BitVec 32) : Fin 1 → Nat :=
  let c7_i32_6747 : BitVec 32 := 7#32
  let v17303 : BitVec 32 := Scalar.addi v17187 c7_i32_6747
  let v17306 : Index := Scalar.indexCast v17303
  ![v17306.toNat]
def k0_off835 (k0_t1 : Fin k0_t1_loop.trips) (v17187 : BitVec 32) (v17190 : BitVec 32) (v17307 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_6748 : BitVec 32 := 7#32
  let v17304 : BitVec 32 := Scalar.addi v17187 c7_i32_6748
  let v17305 : BitVec 1 := Scalar.cmpi .slt v17304 v17190
  let c65535_i32_6749 : BitVec 32 := 65535#32
  let v17308 : BitVec 32 := Scalar.andi v17307 c65535_i32_6749
  let c2048_i32_6750 : BitVec 32 := 2048#32
  let v17309 : BitVec 32 := Scalar.select v17305 v17308 c2048_i32_6750
  let v17310 : BitVec 32 := Scalar.addi v11087 v17309
  let v17313 : Index := Scalar.indexCast v17310
  let c0_6752 : Index := 0#32
  ![v17313.toNat, 0]

def k0_chk417 (i : grid0.Coords) (k0_t1 : Fin k0_t1_loop.trips) (v17187 : BitVec 32) (v17190 : BitVec 32) (v17307 : BitVec 32) : Prop :=
  (∀ (k0_h1 : k0_cond1 i = 1#1), ∀ a, (k0_off835 k0_t1 v17187 v17190 v17307) a + S1x128.size a ≤ S8224x128.size a)
theorem k0_off835_inb : ∀ (i : grid0.Coords) (k0_t1 : Fin k0_t1_loop.trips) (v17187 : BitVec 32) (v17190 : BitVec 32) (v17307 : BitVec 32) (k0_hw417 : k0_chk417 i k0_t1 v17187 v17190 v17307), ∀ (k0_h1 : k0_cond1 i = 1#1), ∀ a, (k0_off835 k0_t1 v17187 v17190 v17307) a + S1x128.size a ≤ S8224x128.size a := fun i k0_t1 v17187 v17190 v17307 k0_hw417 k0_h1 => k0_hw417 k0_h1

def k0_off836 (v17187 : BitVec 32) : Fin 1 → Nat :=
  let c8_i32_6753 : BitVec 32 := 8#32
  let v17318 : BitVec 32 := Scalar.addi v17187 c8_i32_6753
  let v17321 : Index := Scalar.indexCast v17318
  ![v17321.toNat]
def k0_off837 (k0_t1 : Fin k0_t1_loop.trips) (v17187 : BitVec 32) (v17190 : BitVec 32) (v17322 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_6754 : BitVec 32 := 8#32
  let v17319 : BitVec 32 := Scalar.addi v17187 c8_i32_6754
  let v17320 : BitVec 1 := Scalar.cmpi .slt v17319 v17190
  let c65535_i32_6755 : BitVec 32 := 65535#32
  let v17323 : BitVec 32 := Scalar.andi v17322 c65535_i32_6755
  let c2048_i32_6756 : BitVec 32 := 2048#32
  let v17324 : BitVec 32 := Scalar.select v17320 v17323 c2048_i32_6756
  let v17325 : BitVec 32 := Scalar.addi v11087 v17324
  let v17328 : Index := Scalar.indexCast v17325
  let c0_6758 : Index := 0#32
  ![v17328.toNat, 0]

def k0_chk418 (i : grid0.Coords) (k0_t1 : Fin k0_t1_loop.trips) (v17187 : BitVec 32) (v17190 : BitVec 32) (v17322 : BitVec 32) : Prop :=
  (∀ (k0_h1 : k0_cond1 i = 1#1), ∀ a, (k0_off837 k0_t1 v17187 v17190 v17322) a + S1x128.size a ≤ S8224x128.size a)
theorem k0_off837_inb : ∀ (i : grid0.Coords) (k0_t1 : Fin k0_t1_loop.trips) (v17187 : BitVec 32) (v17190 : BitVec 32) (v17322 : BitVec 32) (k0_hw418 : k0_chk418 i k0_t1 v17187 v17190 v17322), ∀ (k0_h1 : k0_cond1 i = 1#1), ∀ a, (k0_off837 k0_t1 v17187 v17190 v17322) a + S1x128.size a ≤ S8224x128.size a := fun i k0_t1 v17187 v17190 v17322 k0_hw418 k0_h1 => k0_hw418 k0_h1

def k0_off838 (v17187 : BitVec 32) : Fin 1 → Nat :=
  let c9_i32_6759 : BitVec 32 := 9#32
  let v17333 : BitVec 32 := Scalar.addi v17187 c9_i32_6759
  let v17336 : Index := Scalar.indexCast v17333
  ![v17336.toNat]
def k0_off839 (k0_t1 : Fin k0_t1_loop.trips) (v17187 : BitVec 32) (v17190 : BitVec 32) (v17337 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_6760 : BitVec 32 := 9#32
  let v17334 : BitVec 32 := Scalar.addi v17187 c9_i32_6760
  let v17335 : BitVec 1 := Scalar.cmpi .slt v17334 v17190
  let c65535_i32_6761 : BitVec 32 := 65535#32
  let v17338 : BitVec 32 := Scalar.andi v17337 c65535_i32_6761
  let c2048_i32_6762 : BitVec 32 := 2048#32
  let v17339 : BitVec 32 := Scalar.select v17335 v17338 c2048_i32_6762
  let v17340 : BitVec 32 := Scalar.addi v11087 v17339
  let v17343 : Index := Scalar.indexCast v17340
  let c0_6764 : Index := 0#32
  ![v17343.toNat, 0]

def k0_chk419 (i : grid0.Coords) (k0_t1 : Fin k0_t1_loop.trips) (v17187 : BitVec 32) (v17190 : BitVec 32) (v17337 : BitVec 32) : Prop :=
  (∀ (k0_h1 : k0_cond1 i = 1#1), ∀ a, (k0_off839 k0_t1 v17187 v17190 v17337) a + S1x128.size a ≤ S8224x128.size a)
theorem k0_off839_inb : ∀ (i : grid0.Coords) (k0_t1 : Fin k0_t1_loop.trips) (v17187 : BitVec 32) (v17190 : BitVec 32) (v17337 : BitVec 32) (k0_hw419 : k0_chk419 i k0_t1 v17187 v17190 v17337), ∀ (k0_h1 : k0_cond1 i = 1#1), ∀ a, (k0_off839 k0_t1 v17187 v17190 v17337) a + S1x128.size a ≤ S8224x128.size a := fun i k0_t1 v17187 v17190 v17337 k0_hw419 k0_h1 => k0_hw419 k0_h1

def k0_off840 (v17187 : BitVec 32) : Fin 1 → Nat :=
  let c10_i32_6765 : BitVec 32 := 10#32
  let v17348 : BitVec 32 := Scalar.addi v17187 c10_i32_6765
  let v17351 : Index := Scalar.indexCast v17348
  ![v17351.toNat]
def k0_off841 (k0_t1 : Fin k0_t1_loop.trips) (v17187 : BitVec 32) (v17190 : BitVec 32) (v17352 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_6766 : BitVec 32 := 10#32
  let v17349 : BitVec 32 := Scalar.addi v17187 c10_i32_6766
  let v17350 : BitVec 1 := Scalar.cmpi .slt v17349 v17190
  let c65535_i32_6767 : BitVec 32 := 65535#32
  let v17353 : BitVec 32 := Scalar.andi v17352 c65535_i32_6767
  let c2048_i32_6768 : BitVec 32 := 2048#32
  let v17354 : BitVec 32 := Scalar.select v17350 v17353 c2048_i32_6768
  let v17355 : BitVec 32 := Scalar.addi v11087 v17354
  let v17358 : Index := Scalar.indexCast v17355
  let c0_6770 : Index := 0#32
  ![v17358.toNat, 0]

def k0_chk420 (i : grid0.Coords) (k0_t1 : Fin k0_t1_loop.trips) (v17187 : BitVec 32) (v17190 : BitVec 32) (v17352 : BitVec 32) : Prop :=
  (∀ (k0_h1 : k0_cond1 i = 1#1), ∀ a, (k0_off841 k0_t1 v17187 v17190 v17352) a + S1x128.size a ≤ S8224x128.size a)
theorem k0_off841_inb : ∀ (i : grid0.Coords) (k0_t1 : Fin k0_t1_loop.trips) (v17187 : BitVec 32) (v17190 : BitVec 32) (v17352 : BitVec 32) (k0_hw420 : k0_chk420 i k0_t1 v17187 v17190 v17352), ∀ (k0_h1 : k0_cond1 i = 1#1), ∀ a, (k0_off841 k0_t1 v17187 v17190 v17352) a + S1x128.size a ≤ S8224x128.size a := fun i k0_t1 v17187 v17190 v17352 k0_hw420 k0_h1 => k0_hw420 k0_h1

def k0_off842 (v17187 : BitVec 32) : Fin 1 → Nat :=
  let c11_i32_6771 : BitVec 32 := 11#32
  let v17363 : BitVec 32 := Scalar.addi v17187 c11_i32_6771
  let v17366 : Index := Scalar.indexCast v17363
  ![v17366.toNat]
def k0_off843 (k0_t1 : Fin k0_t1_loop.trips) (v17187 : BitVec 32) (v17190 : BitVec 32) (v17367 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_6772 : BitVec 32 := 11#32
  let v17364 : BitVec 32 := Scalar.addi v17187 c11_i32_6772
  let v17365 : BitVec 1 := Scalar.cmpi .slt v17364 v17190
  let c65535_i32_6773 : BitVec 32 := 65535#32
  let v17368 : BitVec 32 := Scalar.andi v17367 c65535_i32_6773
  let c2048_i32_6774 : BitVec 32 := 2048#32
  let v17369 : BitVec 32 := Scalar.select v17365 v17368 c2048_i32_6774
  let v17370 : BitVec 32 := Scalar.addi v11087 v17369
  let v17373 : Index := Scalar.indexCast v17370
  let c0_6776 : Index := 0#32
  ![v17373.toNat, 0]

def k0_chk421 (i : grid0.Coords) (k0_t1 : Fin k0_t1_loop.trips) (v17187 : BitVec 32) (v17190 : BitVec 32) (v17367 : BitVec 32) : Prop :=
  (∀ (k0_h1 : k0_cond1 i = 1#1), ∀ a, (k0_off843 k0_t1 v17187 v17190 v17367) a + S1x128.size a ≤ S8224x128.size a)
theorem k0_off843_inb : ∀ (i : grid0.Coords) (k0_t1 : Fin k0_t1_loop.trips) (v17187 : BitVec 32) (v17190 : BitVec 32) (v17367 : BitVec 32) (k0_hw421 : k0_chk421 i k0_t1 v17187 v17190 v17367), ∀ (k0_h1 : k0_cond1 i = 1#1), ∀ a, (k0_off843 k0_t1 v17187 v17190 v17367) a + S1x128.size a ≤ S8224x128.size a := fun i k0_t1 v17187 v17190 v17367 k0_hw421 k0_h1 => k0_hw421 k0_h1

def k0_off844 (v17187 : BitVec 32) : Fin 1 → Nat :=
  let c12_i32_6777 : BitVec 32 := 12#32
  let v17378 : BitVec 32 := Scalar.addi v17187 c12_i32_6777
  let v17381 : Index := Scalar.indexCast v17378
  ![v17381.toNat]
def k0_off845 (k0_t1 : Fin k0_t1_loop.trips) (v17187 : BitVec 32) (v17190 : BitVec 32) (v17382 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_6778 : BitVec 32 := 12#32
  let v17379 : BitVec 32 := Scalar.addi v17187 c12_i32_6778
  let v17380 : BitVec 1 := Scalar.cmpi .slt v17379 v17190
  let c65535_i32_6779 : BitVec 32 := 65535#32
  let v17383 : BitVec 32 := Scalar.andi v17382 c65535_i32_6779
  let c2048_i32_6780 : BitVec 32 := 2048#32
  let v17384 : BitVec 32 := Scalar.select v17380 v17383 c2048_i32_6780
  let v17385 : BitVec 32 := Scalar.addi v11087 v17384
  let v17388 : Index := Scalar.indexCast v17385
  let c0_6782 : Index := 0#32
  ![v17388.toNat, 0]

def k0_chk422 (i : grid0.Coords) (k0_t1 : Fin k0_t1_loop.trips) (v17187 : BitVec 32) (v17190 : BitVec 32) (v17382 : BitVec 32) : Prop :=
  (∀ (k0_h1 : k0_cond1 i = 1#1), ∀ a, (k0_off845 k0_t1 v17187 v17190 v17382) a + S1x128.size a ≤ S8224x128.size a)
theorem k0_off845_inb : ∀ (i : grid0.Coords) (k0_t1 : Fin k0_t1_loop.trips) (v17187 : BitVec 32) (v17190 : BitVec 32) (v17382 : BitVec 32) (k0_hw422 : k0_chk422 i k0_t1 v17187 v17190 v17382), ∀ (k0_h1 : k0_cond1 i = 1#1), ∀ a, (k0_off845 k0_t1 v17187 v17190 v17382) a + S1x128.size a ≤ S8224x128.size a := fun i k0_t1 v17187 v17190 v17382 k0_hw422 k0_h1 => k0_hw422 k0_h1

def k0_off846 (v17187 : BitVec 32) : Fin 1 → Nat :=
  let c13_i32_6783 : BitVec 32 := 13#32
  let v17393 : BitVec 32 := Scalar.addi v17187 c13_i32_6783
  let v17396 : Index := Scalar.indexCast v17393
  ![v17396.toNat]
def k0_off847 (k0_t1 : Fin k0_t1_loop.trips) (v17187 : BitVec 32) (v17190 : BitVec 32) (v17397 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_6784 : BitVec 32 := 13#32
  let v17394 : BitVec 32 := Scalar.addi v17187 c13_i32_6784
  let v17395 : BitVec 1 := Scalar.cmpi .slt v17394 v17190
  let c65535_i32_6785 : BitVec 32 := 65535#32
  let v17398 : BitVec 32 := Scalar.andi v17397 c65535_i32_6785
  let c2048_i32_6786 : BitVec 32 := 2048#32
  let v17399 : BitVec 32 := Scalar.select v17395 v17398 c2048_i32_6786
  let v17400 : BitVec 32 := Scalar.addi v11087 v17399
  let v17403 : Index := Scalar.indexCast v17400
  let c0_6788 : Index := 0#32
  ![v17403.toNat, 0]

def k0_chk423 (i : grid0.Coords) (k0_t1 : Fin k0_t1_loop.trips) (v17187 : BitVec 32) (v17190 : BitVec 32) (v17397 : BitVec 32) : Prop :=
  (∀ (k0_h1 : k0_cond1 i = 1#1), ∀ a, (k0_off847 k0_t1 v17187 v17190 v17397) a + S1x128.size a ≤ S8224x128.size a)
theorem k0_off847_inb : ∀ (i : grid0.Coords) (k0_t1 : Fin k0_t1_loop.trips) (v17187 : BitVec 32) (v17190 : BitVec 32) (v17397 : BitVec 32) (k0_hw423 : k0_chk423 i k0_t1 v17187 v17190 v17397), ∀ (k0_h1 : k0_cond1 i = 1#1), ∀ a, (k0_off847 k0_t1 v17187 v17190 v17397) a + S1x128.size a ≤ S8224x128.size a := fun i k0_t1 v17187 v17190 v17397 k0_hw423 k0_h1 => k0_hw423 k0_h1

def k0_off848 (v17187 : BitVec 32) : Fin 1 → Nat :=
  let c14_i32_6789 : BitVec 32 := 14#32
  let v17408 : BitVec 32 := Scalar.addi v17187 c14_i32_6789
  let v17411 : Index := Scalar.indexCast v17408
  ![v17411.toNat]
def k0_off849 (k0_t1 : Fin k0_t1_loop.trips) (v17187 : BitVec 32) (v17190 : BitVec 32) (v17412 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_6790 : BitVec 32 := 14#32
  let v17409 : BitVec 32 := Scalar.addi v17187 c14_i32_6790
  let v17410 : BitVec 1 := Scalar.cmpi .slt v17409 v17190
  let c65535_i32_6791 : BitVec 32 := 65535#32
  let v17413 : BitVec 32 := Scalar.andi v17412 c65535_i32_6791
  let c2048_i32_6792 : BitVec 32 := 2048#32
  let v17414 : BitVec 32 := Scalar.select v17410 v17413 c2048_i32_6792
  let v17415 : BitVec 32 := Scalar.addi v11087 v17414
  let v17418 : Index := Scalar.indexCast v17415
  let c0_6794 : Index := 0#32
  ![v17418.toNat, 0]

def k0_chk424 (i : grid0.Coords) (k0_t1 : Fin k0_t1_loop.trips) (v17187 : BitVec 32) (v17190 : BitVec 32) (v17412 : BitVec 32) : Prop :=
  (∀ (k0_h1 : k0_cond1 i = 1#1), ∀ a, (k0_off849 k0_t1 v17187 v17190 v17412) a + S1x128.size a ≤ S8224x128.size a)
theorem k0_off849_inb : ∀ (i : grid0.Coords) (k0_t1 : Fin k0_t1_loop.trips) (v17187 : BitVec 32) (v17190 : BitVec 32) (v17412 : BitVec 32) (k0_hw424 : k0_chk424 i k0_t1 v17187 v17190 v17412), ∀ (k0_h1 : k0_cond1 i = 1#1), ∀ a, (k0_off849 k0_t1 v17187 v17190 v17412) a + S1x128.size a ≤ S8224x128.size a := fun i k0_t1 v17187 v17190 v17412 k0_hw424 k0_h1 => k0_hw424 k0_h1

def k0_off850 (v17187 : BitVec 32) : Fin 1 → Nat :=
  let c15_i32_6795 : BitVec 32 := 15#32
  let v17423 : BitVec 32 := Scalar.addi v17187 c15_i32_6795
  let v17426 : Index := Scalar.indexCast v17423
  ![v17426.toNat]

def k0_chk409 (i : grid0.Coords) (v17187 : BitVec 32) : Prop :=
  (∀ (k0_h1 : k0_cond1 i = 1#1), ∀ a, (k0_off820 v17187) a + S1.size a ≤ S51920.size a) ∧
  (∀ (k0_h1 : k0_cond1 i = 1#1), ∀ a, (k0_off822 v17187) a + S1.size a ≤ S51920.size a) ∧
  (∀ (k0_h1 : k0_cond1 i = 1#1), ∀ a, (k0_off824 v17187) a + S1.size a ≤ S51920.size a) ∧
  (∀ (k0_h1 : k0_cond1 i = 1#1), ∀ a, (k0_off826 v17187) a + S1.size a ≤ S51920.size a) ∧
  (∀ (k0_h1 : k0_cond1 i = 1#1), ∀ a, (k0_off828 v17187) a + S1.size a ≤ S51920.size a) ∧
  (∀ (k0_h1 : k0_cond1 i = 1#1), ∀ a, (k0_off830 v17187) a + S1.size a ≤ S51920.size a) ∧
  (∀ (k0_h1 : k0_cond1 i = 1#1), ∀ a, (k0_off832 v17187) a + S1.size a ≤ S51920.size a) ∧
  (∀ (k0_h1 : k0_cond1 i = 1#1), ∀ a, (k0_off834 v17187) a + S1.size a ≤ S51920.size a) ∧
  (∀ (k0_h1 : k0_cond1 i = 1#1), ∀ a, (k0_off836 v17187) a + S1.size a ≤ S51920.size a) ∧
  (∀ (k0_h1 : k0_cond1 i = 1#1), ∀ a, (k0_off838 v17187) a + S1.size a ≤ S51920.size a) ∧
  (∀ (k0_h1 : k0_cond1 i = 1#1), ∀ a, (k0_off840 v17187) a + S1.size a ≤ S51920.size a) ∧
  (∀ (k0_h1 : k0_cond1 i = 1#1), ∀ a, (k0_off842 v17187) a + S1.size a ≤ S51920.size a) ∧
  (∀ (k0_h1 : k0_cond1 i = 1#1), ∀ a, (k0_off844 v17187) a + S1.size a ≤ S51920.size a) ∧
  (∀ (k0_h1 : k0_cond1 i = 1#1), ∀ a, (k0_off846 v17187) a + S1.size a ≤ S51920.size a) ∧
  (∀ (k0_h1 : k0_cond1 i = 1#1), ∀ a, (k0_off848 v17187) a + S1.size a ≤ S51920.size a) ∧
  (∀ (k0_h1 : k0_cond1 i = 1#1), ∀ a, (k0_off850 v17187) a + S1.size a ≤ S51920.size a)
theorem k0_off820_inb : ∀ (i : grid0.Coords) (v17187 : BitVec 32) (k0_hw409 : k0_chk409 i v17187), ∀ (k0_h1 : k0_cond1 i = 1#1), ∀ a, (k0_off820 v17187) a + S1.size a ≤ S51920.size a := fun i v17187 k0_hw409 k0_h1 => k0_hw409.1 k0_h1
theorem k0_off822_inb : ∀ (i : grid0.Coords) (v17187 : BitVec 32) (k0_hw409 : k0_chk409 i v17187), ∀ (k0_h1 : k0_cond1 i = 1#1), ∀ a, (k0_off822 v17187) a + S1.size a ≤ S51920.size a := fun i v17187 k0_hw409 k0_h1 => k0_hw409.2.1 k0_h1
theorem k0_off824_inb : ∀ (i : grid0.Coords) (v17187 : BitVec 32) (k0_hw409 : k0_chk409 i v17187), ∀ (k0_h1 : k0_cond1 i = 1#1), ∀ a, (k0_off824 v17187) a + S1.size a ≤ S51920.size a := fun i v17187 k0_hw409 k0_h1 => k0_hw409.2.2.1 k0_h1
theorem k0_off826_inb : ∀ (i : grid0.Coords) (v17187 : BitVec 32) (k0_hw409 : k0_chk409 i v17187), ∀ (k0_h1 : k0_cond1 i = 1#1), ∀ a, (k0_off826 v17187) a + S1.size a ≤ S51920.size a := fun i v17187 k0_hw409 k0_h1 => k0_hw409.2.2.2.1 k0_h1
theorem k0_off828_inb : ∀ (i : grid0.Coords) (v17187 : BitVec 32) (k0_hw409 : k0_chk409 i v17187), ∀ (k0_h1 : k0_cond1 i = 1#1), ∀ a, (k0_off828 v17187) a + S1.size a ≤ S51920.size a := fun i v17187 k0_hw409 k0_h1 => k0_hw409.2.2.2.2.1 k0_h1
theorem k0_off830_inb : ∀ (i : grid0.Coords) (v17187 : BitVec 32) (k0_hw409 : k0_chk409 i v17187), ∀ (k0_h1 : k0_cond1 i = 1#1), ∀ a, (k0_off830 v17187) a + S1.size a ≤ S51920.size a := fun i v17187 k0_hw409 k0_h1 => k0_hw409.2.2.2.2.2.1 k0_h1
theorem k0_off832_inb : ∀ (i : grid0.Coords) (v17187 : BitVec 32) (k0_hw409 : k0_chk409 i v17187), ∀ (k0_h1 : k0_cond1 i = 1#1), ∀ a, (k0_off832 v17187) a + S1.size a ≤ S51920.size a := fun i v17187 k0_hw409 k0_h1 => k0_hw409.2.2.2.2.2.2.1 k0_h1
theorem k0_off834_inb : ∀ (i : grid0.Coords) (v17187 : BitVec 32) (k0_hw409 : k0_chk409 i v17187), ∀ (k0_h1 : k0_cond1 i = 1#1), ∀ a, (k0_off834 v17187) a + S1.size a ≤ S51920.size a := fun i v17187 k0_hw409 k0_h1 => k0_hw409.2.2.2.2.2.2.2.1 k0_h1
theorem k0_off836_inb : ∀ (i : grid0.Coords) (v17187 : BitVec 32) (k0_hw409 : k0_chk409 i v17187), ∀ (k0_h1 : k0_cond1 i = 1#1), ∀ a, (k0_off836 v17187) a + S1.size a ≤ S51920.size a := fun i v17187 k0_hw409 k0_h1 => k0_hw409.2.2.2.2.2.2.2.2.1 k0_h1
theorem k0_off838_inb : ∀ (i : grid0.Coords) (v17187 : BitVec 32) (k0_hw409 : k0_chk409 i v17187), ∀ (k0_h1 : k0_cond1 i = 1#1), ∀ a, (k0_off838 v17187) a + S1.size a ≤ S51920.size a := fun i v17187 k0_hw409 k0_h1 => k0_hw409.2.2.2.2.2.2.2.2.2.1 k0_h1
theorem k0_off840_inb : ∀ (i : grid0.Coords) (v17187 : BitVec 32) (k0_hw409 : k0_chk409 i v17187), ∀ (k0_h1 : k0_cond1 i = 1#1), ∀ a, (k0_off840 v17187) a + S1.size a ≤ S51920.size a := fun i v17187 k0_hw409 k0_h1 => k0_hw409.2.2.2.2.2.2.2.2.2.2.1 k0_h1
theorem k0_off842_inb : ∀ (i : grid0.Coords) (v17187 : BitVec 32) (k0_hw409 : k0_chk409 i v17187), ∀ (k0_h1 : k0_cond1 i = 1#1), ∀ a, (k0_off842 v17187) a + S1.size a ≤ S51920.size a := fun i v17187 k0_hw409 k0_h1 => k0_hw409.2.2.2.2.2.2.2.2.2.2.2.1 k0_h1
theorem k0_off844_inb : ∀ (i : grid0.Coords) (v17187 : BitVec 32) (k0_hw409 : k0_chk409 i v17187), ∀ (k0_h1 : k0_cond1 i = 1#1), ∀ a, (k0_off844 v17187) a + S1.size a ≤ S51920.size a := fun i v17187 k0_hw409 k0_h1 => k0_hw409.2.2.2.2.2.2.2.2.2.2.2.2.1 k0_h1
theorem k0_off846_inb : ∀ (i : grid0.Coords) (v17187 : BitVec 32) (k0_hw409 : k0_chk409 i v17187), ∀ (k0_h1 : k0_cond1 i = 1#1), ∀ a, (k0_off846 v17187) a + S1.size a ≤ S51920.size a := fun i v17187 k0_hw409 k0_h1 => k0_hw409.2.2.2.2.2.2.2.2.2.2.2.2.2.1 k0_h1
theorem k0_off848_inb : ∀ (i : grid0.Coords) (v17187 : BitVec 32) (k0_hw409 : k0_chk409 i v17187), ∀ (k0_h1 : k0_cond1 i = 1#1), ∀ a, (k0_off848 v17187) a + S1.size a ≤ S51920.size a := fun i v17187 k0_hw409 k0_h1 => k0_hw409.2.2.2.2.2.2.2.2.2.2.2.2.2.2.1 k0_h1
theorem k0_off850_inb : ∀ (i : grid0.Coords) (v17187 : BitVec 32) (k0_hw409 : k0_chk409 i v17187), ∀ (k0_h1 : k0_cond1 i = 1#1), ∀ a, (k0_off850 v17187) a + S1.size a ≤ S51920.size a := fun i v17187 k0_hw409 k0_h1 => k0_hw409.2.2.2.2.2.2.2.2.2.2.2.2.2.2.2 k0_h1

def k0_off851 (k0_t1 : Fin k0_t1_loop.trips) (v17187 : BitVec 32) (v17190 : BitVec 32) (v17427 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_6796 : BitVec 32 := 15#32
  let v17424 : BitVec 32 := Scalar.addi v17187 c15_i32_6796
  let v17425 : BitVec 1 := Scalar.cmpi .slt v17424 v17190
  let c65535_i32_6797 : BitVec 32 := 65535#32
  let v17428 : BitVec 32 := Scalar.andi v17427 c65535_i32_6797
  let c2048_i32_6798 : BitVec 32 := 2048#32
  let v17429 : BitVec 32 := Scalar.select v17425 v17428 c2048_i32_6798
  let v17430 : BitVec 32 := Scalar.addi v11087 v17429
  let v17433 : Index := Scalar.indexCast v17430
  let c0_6800 : Index := 0#32
  ![v17433.toNat, 0]

def k0_chk425 (i : grid0.Coords) (k0_t1 : Fin k0_t1_loop.trips) (v17187 : BitVec 32) (v17190 : BitVec 32) (v17427 : BitVec 32) : Prop :=
  (∀ (k0_h1 : k0_cond1 i = 1#1), ∀ a, (k0_off851 k0_t1 v17187 v17190 v17427) a + S1x128.size a ≤ S8224x128.size a)
theorem k0_off851_inb : ∀ (i : grid0.Coords) (k0_t1 : Fin k0_t1_loop.trips) (v17187 : BitVec 32) (v17190 : BitVec 32) (v17427 : BitVec 32) (k0_hw425 : k0_chk425 i k0_t1 v17187 v17190 v17427), ∀ (k0_h1 : k0_cond1 i = 1#1), ∀ a, (k0_off851 k0_t1 v17187 v17190 v17427) a + S1x128.size a ≤ S8224x128.size a := fun i k0_t1 v17187 v17190 v17427 k0_hw425 k0_h1 => k0_hw425 k0_h1

def k0_off852 (k0_t1 : Fin k0_t1_loop.trips) : Fin 1 → Nat :=
  let c0_i32_6801 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v17438 : BitVec 32 := Scalar.addi c0_i32_6801 v11069
  let c25_i32_6802 : BitVec 32 := 25#32
  let v17439 : BitVec 32 := Scalar.addi v17438 c25_i32_6802
  let v17440 : Index := Scalar.indexCast v17439
  ![v17440.toNat]
def k0_off853 (k0_t1 : Fin k0_t1_loop.trips) : Fin 1 → Nat :=
  let c0_i32_6801 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v17438 : BitVec 32 := Scalar.addi c0_i32_6801 v11069
  let c25_i32_6802 : BitVec 32 := 25#32
  let v17439 : BitVec 32 := Scalar.addi v17438 c25_i32_6802
  let c1_i32_6803 : BitVec 32 := 1#32
  let v17442 : BitVec 32 := Scalar.addi v17439 c1_i32_6803
  let v17443 : Index := Scalar.indexCast v17442
  ![v17443.toNat]
def k0_off854 (v17441 : BitVec 32) : Fin 1 → Nat :=
  let c0_i32_6806 : BitVec 32 := 0#32
  let v17452 : BitVec 32 := Scalar.addi v17441 c0_i32_6806
  let v17455 : Index := Scalar.indexCast v17452
  ![v17455.toNat]

def k0_off855 (k0_t1 : Fin k0_t1_loop.trips) (v17441 : BitVec 32) (v17444 : BitVec 32) (v17456 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_6807 : BitVec 32 := 0#32
  let v17453 : BitVec 32 := Scalar.addi v17441 c0_i32_6807
  let v17454 : BitVec 1 := Scalar.cmpi .slt v17453 v17444
  let c65535_i32_6808 : BitVec 32 := 65535#32
  let v17457 : BitVec 32 := Scalar.andi v17456 c65535_i32_6808
  let c2048_i32_6809 : BitVec 32 := 2048#32
  let v17458 : BitVec 32 := Scalar.select v17454 v17457 c2048_i32_6809
  let v17459 : BitVec 32 := Scalar.addi v11087 v17458
  let v17462 : Index := Scalar.indexCast v17459
  let c0_6811 : Index := 0#32
  ![v17462.toNat, 0]

def k0_chk427 (i : grid0.Coords) (k0_t1 : Fin k0_t1_loop.trips) (v17441 : BitVec 32) (v17444 : BitVec 32) (v17456 : BitVec 32) : Prop :=
  (∀ (k0_h1 : k0_cond1 i = 1#1), ∀ a, (k0_off855 k0_t1 v17441 v17444 v17456) a + S1x128.size a ≤ S8224x128.size a)
theorem k0_off855_inb : ∀ (i : grid0.Coords) (k0_t1 : Fin k0_t1_loop.trips) (v17441 : BitVec 32) (v17444 : BitVec 32) (v17456 : BitVec 32) (k0_hw427 : k0_chk427 i k0_t1 v17441 v17444 v17456), ∀ (k0_h1 : k0_cond1 i = 1#1), ∀ a, (k0_off855 k0_t1 v17441 v17444 v17456) a + S1x128.size a ≤ S8224x128.size a := fun i k0_t1 v17441 v17444 v17456 k0_hw427 k0_h1 => k0_hw427 k0_h1

def k0_off856 (v17441 : BitVec 32) : Fin 1 → Nat :=
  let c1_i32_6812 : BitVec 32 := 1#32
  let v17467 : BitVec 32 := Scalar.addi v17441 c1_i32_6812
  let v17470 : Index := Scalar.indexCast v17467
  ![v17470.toNat]
def k0_off857 (k0_t1 : Fin k0_t1_loop.trips) (v17441 : BitVec 32) (v17444 : BitVec 32) (v17471 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_6813 : BitVec 32 := 1#32
  let v17468 : BitVec 32 := Scalar.addi v17441 c1_i32_6813
  let v17469 : BitVec 1 := Scalar.cmpi .slt v17468 v17444
  let c65535_i32_6814 : BitVec 32 := 65535#32
  let v17472 : BitVec 32 := Scalar.andi v17471 c65535_i32_6814
  let c2048_i32_6815 : BitVec 32 := 2048#32
  let v17473 : BitVec 32 := Scalar.select v17469 v17472 c2048_i32_6815
  let v17474 : BitVec 32 := Scalar.addi v11087 v17473
  let v17477 : Index := Scalar.indexCast v17474
  let c0_6817 : Index := 0#32
  ![v17477.toNat, 0]

def k0_chk428 (i : grid0.Coords) (k0_t1 : Fin k0_t1_loop.trips) (v17441 : BitVec 32) (v17444 : BitVec 32) (v17471 : BitVec 32) : Prop :=
  (∀ (k0_h1 : k0_cond1 i = 1#1), ∀ a, (k0_off857 k0_t1 v17441 v17444 v17471) a + S1x128.size a ≤ S8224x128.size a)
theorem k0_off857_inb : ∀ (i : grid0.Coords) (k0_t1 : Fin k0_t1_loop.trips) (v17441 : BitVec 32) (v17444 : BitVec 32) (v17471 : BitVec 32) (k0_hw428 : k0_chk428 i k0_t1 v17441 v17444 v17471), ∀ (k0_h1 : k0_cond1 i = 1#1), ∀ a, (k0_off857 k0_t1 v17441 v17444 v17471) a + S1x128.size a ≤ S8224x128.size a := fun i k0_t1 v17441 v17444 v17471 k0_hw428 k0_h1 => k0_hw428 k0_h1

def k0_off858 (v17441 : BitVec 32) : Fin 1 → Nat :=
  let c2_i32_6818 : BitVec 32 := 2#32
  let v17482 : BitVec 32 := Scalar.addi v17441 c2_i32_6818
  let v17485 : Index := Scalar.indexCast v17482
  ![v17485.toNat]
def k0_off859 (k0_t1 : Fin k0_t1_loop.trips) (v17441 : BitVec 32) (v17444 : BitVec 32) (v17486 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_6819 : BitVec 32 := 2#32
  let v17483 : BitVec 32 := Scalar.addi v17441 c2_i32_6819
  let v17484 : BitVec 1 := Scalar.cmpi .slt v17483 v17444
  let c65535_i32_6820 : BitVec 32 := 65535#32
  let v17487 : BitVec 32 := Scalar.andi v17486 c65535_i32_6820
  let c2048_i32_6821 : BitVec 32 := 2048#32
  let v17488 : BitVec 32 := Scalar.select v17484 v17487 c2048_i32_6821
  let v17489 : BitVec 32 := Scalar.addi v11087 v17488
  let v17492 : Index := Scalar.indexCast v17489
  let c0_6823 : Index := 0#32
  ![v17492.toNat, 0]

def k0_chk429 (i : grid0.Coords) (k0_t1 : Fin k0_t1_loop.trips) (v17441 : BitVec 32) (v17444 : BitVec 32) (v17486 : BitVec 32) : Prop :=
  (∀ (k0_h1 : k0_cond1 i = 1#1), ∀ a, (k0_off859 k0_t1 v17441 v17444 v17486) a + S1x128.size a ≤ S8224x128.size a)
theorem k0_off859_inb : ∀ (i : grid0.Coords) (k0_t1 : Fin k0_t1_loop.trips) (v17441 : BitVec 32) (v17444 : BitVec 32) (v17486 : BitVec 32) (k0_hw429 : k0_chk429 i k0_t1 v17441 v17444 v17486), ∀ (k0_h1 : k0_cond1 i = 1#1), ∀ a, (k0_off859 k0_t1 v17441 v17444 v17486) a + S1x128.size a ≤ S8224x128.size a := fun i k0_t1 v17441 v17444 v17486 k0_hw429 k0_h1 => k0_hw429 k0_h1

def k0_off860 (v17441 : BitVec 32) : Fin 1 → Nat :=
  let c3_i32_6824 : BitVec 32 := 3#32
  let v17497 : BitVec 32 := Scalar.addi v17441 c3_i32_6824
  let v17500 : Index := Scalar.indexCast v17497
  ![v17500.toNat]
def k0_off861 (k0_t1 : Fin k0_t1_loop.trips) (v17441 : BitVec 32) (v17444 : BitVec 32) (v17501 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_6825 : BitVec 32 := 3#32
  let v17498 : BitVec 32 := Scalar.addi v17441 c3_i32_6825
  let v17499 : BitVec 1 := Scalar.cmpi .slt v17498 v17444
  let c65535_i32_6826 : BitVec 32 := 65535#32
  let v17502 : BitVec 32 := Scalar.andi v17501 c65535_i32_6826
  let c2048_i32_6827 : BitVec 32 := 2048#32
  let v17503 : BitVec 32 := Scalar.select v17499 v17502 c2048_i32_6827
  let v17504 : BitVec 32 := Scalar.addi v11087 v17503
  let v17507 : Index := Scalar.indexCast v17504
  let c0_6829 : Index := 0#32
  ![v17507.toNat, 0]

def k0_chk430 (i : grid0.Coords) (k0_t1 : Fin k0_t1_loop.trips) (v17441 : BitVec 32) (v17444 : BitVec 32) (v17501 : BitVec 32) : Prop :=
  (∀ (k0_h1 : k0_cond1 i = 1#1), ∀ a, (k0_off861 k0_t1 v17441 v17444 v17501) a + S1x128.size a ≤ S8224x128.size a)
theorem k0_off861_inb : ∀ (i : grid0.Coords) (k0_t1 : Fin k0_t1_loop.trips) (v17441 : BitVec 32) (v17444 : BitVec 32) (v17501 : BitVec 32) (k0_hw430 : k0_chk430 i k0_t1 v17441 v17444 v17501), ∀ (k0_h1 : k0_cond1 i = 1#1), ∀ a, (k0_off861 k0_t1 v17441 v17444 v17501) a + S1x128.size a ≤ S8224x128.size a := fun i k0_t1 v17441 v17444 v17501 k0_hw430 k0_h1 => k0_hw430 k0_h1

def k0_off862 (v17441 : BitVec 32) : Fin 1 → Nat :=
  let c4_i32_6830 : BitVec 32 := 4#32
  let v17512 : BitVec 32 := Scalar.addi v17441 c4_i32_6830
  let v17515 : Index := Scalar.indexCast v17512
  ![v17515.toNat]
def k0_off863 (k0_t1 : Fin k0_t1_loop.trips) (v17441 : BitVec 32) (v17444 : BitVec 32) (v17516 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_6831 : BitVec 32 := 4#32
  let v17513 : BitVec 32 := Scalar.addi v17441 c4_i32_6831
  let v17514 : BitVec 1 := Scalar.cmpi .slt v17513 v17444
  let c65535_i32_6832 : BitVec 32 := 65535#32
  let v17517 : BitVec 32 := Scalar.andi v17516 c65535_i32_6832
  let c2048_i32_6833 : BitVec 32 := 2048#32
  let v17518 : BitVec 32 := Scalar.select v17514 v17517 c2048_i32_6833
  let v17519 : BitVec 32 := Scalar.addi v11087 v17518
  let v17522 : Index := Scalar.indexCast v17519
  let c0_6835 : Index := 0#32
  ![v17522.toNat, 0]

def k0_chk431 (i : grid0.Coords) (k0_t1 : Fin k0_t1_loop.trips) (v17441 : BitVec 32) (v17444 : BitVec 32) (v17516 : BitVec 32) : Prop :=
  (∀ (k0_h1 : k0_cond1 i = 1#1), ∀ a, (k0_off863 k0_t1 v17441 v17444 v17516) a + S1x128.size a ≤ S8224x128.size a)
theorem k0_off863_inb : ∀ (i : grid0.Coords) (k0_t1 : Fin k0_t1_loop.trips) (v17441 : BitVec 32) (v17444 : BitVec 32) (v17516 : BitVec 32) (k0_hw431 : k0_chk431 i k0_t1 v17441 v17444 v17516), ∀ (k0_h1 : k0_cond1 i = 1#1), ∀ a, (k0_off863 k0_t1 v17441 v17444 v17516) a + S1x128.size a ≤ S8224x128.size a := fun i k0_t1 v17441 v17444 v17516 k0_hw431 k0_h1 => k0_hw431 k0_h1

def k0_off864 (v17441 : BitVec 32) : Fin 1 → Nat :=
  let c5_i32_6836 : BitVec 32 := 5#32
  let v17527 : BitVec 32 := Scalar.addi v17441 c5_i32_6836
  let v17530 : Index := Scalar.indexCast v17527
  ![v17530.toNat]
def k0_off865 (k0_t1 : Fin k0_t1_loop.trips) (v17441 : BitVec 32) (v17444 : BitVec 32) (v17531 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_6837 : BitVec 32 := 5#32
  let v17528 : BitVec 32 := Scalar.addi v17441 c5_i32_6837
  let v17529 : BitVec 1 := Scalar.cmpi .slt v17528 v17444
  let c65535_i32_6838 : BitVec 32 := 65535#32
  let v17532 : BitVec 32 := Scalar.andi v17531 c65535_i32_6838
  let c2048_i32_6839 : BitVec 32 := 2048#32
  let v17533 : BitVec 32 := Scalar.select v17529 v17532 c2048_i32_6839
  let v17534 : BitVec 32 := Scalar.addi v11087 v17533
  let v17537 : Index := Scalar.indexCast v17534
  let c0_6841 : Index := 0#32
  ![v17537.toNat, 0]

def k0_chk432 (i : grid0.Coords) (k0_t1 : Fin k0_t1_loop.trips) (v17441 : BitVec 32) (v17444 : BitVec 32) (v17531 : BitVec 32) : Prop :=
  (∀ (k0_h1 : k0_cond1 i = 1#1), ∀ a, (k0_off865 k0_t1 v17441 v17444 v17531) a + S1x128.size a ≤ S8224x128.size a)
theorem k0_off865_inb : ∀ (i : grid0.Coords) (k0_t1 : Fin k0_t1_loop.trips) (v17441 : BitVec 32) (v17444 : BitVec 32) (v17531 : BitVec 32) (k0_hw432 : k0_chk432 i k0_t1 v17441 v17444 v17531), ∀ (k0_h1 : k0_cond1 i = 1#1), ∀ a, (k0_off865 k0_t1 v17441 v17444 v17531) a + S1x128.size a ≤ S8224x128.size a := fun i k0_t1 v17441 v17444 v17531 k0_hw432 k0_h1 => k0_hw432 k0_h1

def k0_off866 (v17441 : BitVec 32) : Fin 1 → Nat :=
  let c6_i32_6842 : BitVec 32 := 6#32
  let v17542 : BitVec 32 := Scalar.addi v17441 c6_i32_6842
  let v17545 : Index := Scalar.indexCast v17542
  ![v17545.toNat]
def k0_off867 (k0_t1 : Fin k0_t1_loop.trips) (v17441 : BitVec 32) (v17444 : BitVec 32) (v17546 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_6843 : BitVec 32 := 6#32
  let v17543 : BitVec 32 := Scalar.addi v17441 c6_i32_6843
  let v17544 : BitVec 1 := Scalar.cmpi .slt v17543 v17444
  let c65535_i32_6844 : BitVec 32 := 65535#32
  let v17547 : BitVec 32 := Scalar.andi v17546 c65535_i32_6844
  let c2048_i32_6845 : BitVec 32 := 2048#32
  let v17548 : BitVec 32 := Scalar.select v17544 v17547 c2048_i32_6845
  let v17549 : BitVec 32 := Scalar.addi v11087 v17548
  let v17552 : Index := Scalar.indexCast v17549
  let c0_6847 : Index := 0#32
  ![v17552.toNat, 0]

def k0_chk433 (i : grid0.Coords) (k0_t1 : Fin k0_t1_loop.trips) (v17441 : BitVec 32) (v17444 : BitVec 32) (v17546 : BitVec 32) : Prop :=
  (∀ (k0_h1 : k0_cond1 i = 1#1), ∀ a, (k0_off867 k0_t1 v17441 v17444 v17546) a + S1x128.size a ≤ S8224x128.size a)
theorem k0_off867_inb : ∀ (i : grid0.Coords) (k0_t1 : Fin k0_t1_loop.trips) (v17441 : BitVec 32) (v17444 : BitVec 32) (v17546 : BitVec 32) (k0_hw433 : k0_chk433 i k0_t1 v17441 v17444 v17546), ∀ (k0_h1 : k0_cond1 i = 1#1), ∀ a, (k0_off867 k0_t1 v17441 v17444 v17546) a + S1x128.size a ≤ S8224x128.size a := fun i k0_t1 v17441 v17444 v17546 k0_hw433 k0_h1 => k0_hw433 k0_h1

def k0_off868 (v17441 : BitVec 32) : Fin 1 → Nat :=
  let c7_i32_6848 : BitVec 32 := 7#32
  let v17557 : BitVec 32 := Scalar.addi v17441 c7_i32_6848
  let v17560 : Index := Scalar.indexCast v17557
  ![v17560.toNat]
def k0_off869 (k0_t1 : Fin k0_t1_loop.trips) (v17441 : BitVec 32) (v17444 : BitVec 32) (v17561 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_6849 : BitVec 32 := 7#32
  let v17558 : BitVec 32 := Scalar.addi v17441 c7_i32_6849
  let v17559 : BitVec 1 := Scalar.cmpi .slt v17558 v17444
  let c65535_i32_6850 : BitVec 32 := 65535#32
  let v17562 : BitVec 32 := Scalar.andi v17561 c65535_i32_6850
  let c2048_i32_6851 : BitVec 32 := 2048#32
  let v17563 : BitVec 32 := Scalar.select v17559 v17562 c2048_i32_6851
  let v17564 : BitVec 32 := Scalar.addi v11087 v17563
  let v17567 : Index := Scalar.indexCast v17564
  let c0_6853 : Index := 0#32
  ![v17567.toNat, 0]

def k0_chk434 (i : grid0.Coords) (k0_t1 : Fin k0_t1_loop.trips) (v17441 : BitVec 32) (v17444 : BitVec 32) (v17561 : BitVec 32) : Prop :=
  (∀ (k0_h1 : k0_cond1 i = 1#1), ∀ a, (k0_off869 k0_t1 v17441 v17444 v17561) a + S1x128.size a ≤ S8224x128.size a)
theorem k0_off869_inb : ∀ (i : grid0.Coords) (k0_t1 : Fin k0_t1_loop.trips) (v17441 : BitVec 32) (v17444 : BitVec 32) (v17561 : BitVec 32) (k0_hw434 : k0_chk434 i k0_t1 v17441 v17444 v17561), ∀ (k0_h1 : k0_cond1 i = 1#1), ∀ a, (k0_off869 k0_t1 v17441 v17444 v17561) a + S1x128.size a ≤ S8224x128.size a := fun i k0_t1 v17441 v17444 v17561 k0_hw434 k0_h1 => k0_hw434 k0_h1

def k0_off870 (v17441 : BitVec 32) : Fin 1 → Nat :=
  let c8_i32_6854 : BitVec 32 := 8#32
  let v17572 : BitVec 32 := Scalar.addi v17441 c8_i32_6854
  let v17575 : Index := Scalar.indexCast v17572
  ![v17575.toNat]
def k0_off871 (k0_t1 : Fin k0_t1_loop.trips) (v17441 : BitVec 32) (v17444 : BitVec 32) (v17576 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_6855 : BitVec 32 := 8#32
  let v17573 : BitVec 32 := Scalar.addi v17441 c8_i32_6855
  let v17574 : BitVec 1 := Scalar.cmpi .slt v17573 v17444
  let c65535_i32_6856 : BitVec 32 := 65535#32
  let v17577 : BitVec 32 := Scalar.andi v17576 c65535_i32_6856
  let c2048_i32_6857 : BitVec 32 := 2048#32
  let v17578 : BitVec 32 := Scalar.select v17574 v17577 c2048_i32_6857
  let v17579 : BitVec 32 := Scalar.addi v11087 v17578
  let v17582 : Index := Scalar.indexCast v17579
  let c0_6859 : Index := 0#32
  ![v17582.toNat, 0]

def k0_chk435 (i : grid0.Coords) (k0_t1 : Fin k0_t1_loop.trips) (v17441 : BitVec 32) (v17444 : BitVec 32) (v17576 : BitVec 32) : Prop :=
  (∀ (k0_h1 : k0_cond1 i = 1#1), ∀ a, (k0_off871 k0_t1 v17441 v17444 v17576) a + S1x128.size a ≤ S8224x128.size a)
theorem k0_off871_inb : ∀ (i : grid0.Coords) (k0_t1 : Fin k0_t1_loop.trips) (v17441 : BitVec 32) (v17444 : BitVec 32) (v17576 : BitVec 32) (k0_hw435 : k0_chk435 i k0_t1 v17441 v17444 v17576), ∀ (k0_h1 : k0_cond1 i = 1#1), ∀ a, (k0_off871 k0_t1 v17441 v17444 v17576) a + S1x128.size a ≤ S8224x128.size a := fun i k0_t1 v17441 v17444 v17576 k0_hw435 k0_h1 => k0_hw435 k0_h1

def k0_off872 (v17441 : BitVec 32) : Fin 1 → Nat :=
  let c9_i32_6860 : BitVec 32 := 9#32
  let v17587 : BitVec 32 := Scalar.addi v17441 c9_i32_6860
  let v17590 : Index := Scalar.indexCast v17587
  ![v17590.toNat]
def k0_off873 (k0_t1 : Fin k0_t1_loop.trips) (v17441 : BitVec 32) (v17444 : BitVec 32) (v17591 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_6861 : BitVec 32 := 9#32
  let v17588 : BitVec 32 := Scalar.addi v17441 c9_i32_6861
  let v17589 : BitVec 1 := Scalar.cmpi .slt v17588 v17444
  let c65535_i32_6862 : BitVec 32 := 65535#32
  let v17592 : BitVec 32 := Scalar.andi v17591 c65535_i32_6862
  let c2048_i32_6863 : BitVec 32 := 2048#32
  let v17593 : BitVec 32 := Scalar.select v17589 v17592 c2048_i32_6863
  let v17594 : BitVec 32 := Scalar.addi v11087 v17593
  let v17597 : Index := Scalar.indexCast v17594
  let c0_6865 : Index := 0#32
  ![v17597.toNat, 0]

def k0_chk436 (i : grid0.Coords) (k0_t1 : Fin k0_t1_loop.trips) (v17441 : BitVec 32) (v17444 : BitVec 32) (v17591 : BitVec 32) : Prop :=
  (∀ (k0_h1 : k0_cond1 i = 1#1), ∀ a, (k0_off873 k0_t1 v17441 v17444 v17591) a + S1x128.size a ≤ S8224x128.size a)
theorem k0_off873_inb : ∀ (i : grid0.Coords) (k0_t1 : Fin k0_t1_loop.trips) (v17441 : BitVec 32) (v17444 : BitVec 32) (v17591 : BitVec 32) (k0_hw436 : k0_chk436 i k0_t1 v17441 v17444 v17591), ∀ (k0_h1 : k0_cond1 i = 1#1), ∀ a, (k0_off873 k0_t1 v17441 v17444 v17591) a + S1x128.size a ≤ S8224x128.size a := fun i k0_t1 v17441 v17444 v17591 k0_hw436 k0_h1 => k0_hw436 k0_h1

def k0_off874 (v17441 : BitVec 32) : Fin 1 → Nat :=
  let c10_i32_6866 : BitVec 32 := 10#32
  let v17602 : BitVec 32 := Scalar.addi v17441 c10_i32_6866
  let v17605 : Index := Scalar.indexCast v17602
  ![v17605.toNat]
def k0_off875 (k0_t1 : Fin k0_t1_loop.trips) (v17441 : BitVec 32) (v17444 : BitVec 32) (v17606 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_6867 : BitVec 32 := 10#32
  let v17603 : BitVec 32 := Scalar.addi v17441 c10_i32_6867
  let v17604 : BitVec 1 := Scalar.cmpi .slt v17603 v17444
  let c65535_i32_6868 : BitVec 32 := 65535#32
  let v17607 : BitVec 32 := Scalar.andi v17606 c65535_i32_6868
  let c2048_i32_6869 : BitVec 32 := 2048#32
  let v17608 : BitVec 32 := Scalar.select v17604 v17607 c2048_i32_6869
  let v17609 : BitVec 32 := Scalar.addi v11087 v17608
  let v17612 : Index := Scalar.indexCast v17609
  let c0_6871 : Index := 0#32
  ![v17612.toNat, 0]

def k0_chk437 (i : grid0.Coords) (k0_t1 : Fin k0_t1_loop.trips) (v17441 : BitVec 32) (v17444 : BitVec 32) (v17606 : BitVec 32) : Prop :=
  (∀ (k0_h1 : k0_cond1 i = 1#1), ∀ a, (k0_off875 k0_t1 v17441 v17444 v17606) a + S1x128.size a ≤ S8224x128.size a)
theorem k0_off875_inb : ∀ (i : grid0.Coords) (k0_t1 : Fin k0_t1_loop.trips) (v17441 : BitVec 32) (v17444 : BitVec 32) (v17606 : BitVec 32) (k0_hw437 : k0_chk437 i k0_t1 v17441 v17444 v17606), ∀ (k0_h1 : k0_cond1 i = 1#1), ∀ a, (k0_off875 k0_t1 v17441 v17444 v17606) a + S1x128.size a ≤ S8224x128.size a := fun i k0_t1 v17441 v17444 v17606 k0_hw437 k0_h1 => k0_hw437 k0_h1

def k0_off876 (v17441 : BitVec 32) : Fin 1 → Nat :=
  let c11_i32_6872 : BitVec 32 := 11#32
  let v17617 : BitVec 32 := Scalar.addi v17441 c11_i32_6872
  let v17620 : Index := Scalar.indexCast v17617
  ![v17620.toNat]
def k0_off877 (k0_t1 : Fin k0_t1_loop.trips) (v17441 : BitVec 32) (v17444 : BitVec 32) (v17621 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_6873 : BitVec 32 := 11#32
  let v17618 : BitVec 32 := Scalar.addi v17441 c11_i32_6873
  let v17619 : BitVec 1 := Scalar.cmpi .slt v17618 v17444
  let c65535_i32_6874 : BitVec 32 := 65535#32
  let v17622 : BitVec 32 := Scalar.andi v17621 c65535_i32_6874
  let c2048_i32_6875 : BitVec 32 := 2048#32
  let v17623 : BitVec 32 := Scalar.select v17619 v17622 c2048_i32_6875
  let v17624 : BitVec 32 := Scalar.addi v11087 v17623
  let v17627 : Index := Scalar.indexCast v17624
  let c0_6877 : Index := 0#32
  ![v17627.toNat, 0]

def k0_chk438 (i : grid0.Coords) (k0_t1 : Fin k0_t1_loop.trips) (v17441 : BitVec 32) (v17444 : BitVec 32) (v17621 : BitVec 32) : Prop :=
  (∀ (k0_h1 : k0_cond1 i = 1#1), ∀ a, (k0_off877 k0_t1 v17441 v17444 v17621) a + S1x128.size a ≤ S8224x128.size a)
theorem k0_off877_inb : ∀ (i : grid0.Coords) (k0_t1 : Fin k0_t1_loop.trips) (v17441 : BitVec 32) (v17444 : BitVec 32) (v17621 : BitVec 32) (k0_hw438 : k0_chk438 i k0_t1 v17441 v17444 v17621), ∀ (k0_h1 : k0_cond1 i = 1#1), ∀ a, (k0_off877 k0_t1 v17441 v17444 v17621) a + S1x128.size a ≤ S8224x128.size a := fun i k0_t1 v17441 v17444 v17621 k0_hw438 k0_h1 => k0_hw438 k0_h1

def k0_off878 (v17441 : BitVec 32) : Fin 1 → Nat :=
  let c12_i32_6878 : BitVec 32 := 12#32
  let v17632 : BitVec 32 := Scalar.addi v17441 c12_i32_6878
  let v17635 : Index := Scalar.indexCast v17632
  ![v17635.toNat]
def k0_off879 (k0_t1 : Fin k0_t1_loop.trips) (v17441 : BitVec 32) (v17444 : BitVec 32) (v17636 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_6879 : BitVec 32 := 12#32
  let v17633 : BitVec 32 := Scalar.addi v17441 c12_i32_6879
  let v17634 : BitVec 1 := Scalar.cmpi .slt v17633 v17444
  let c65535_i32_6880 : BitVec 32 := 65535#32
  let v17637 : BitVec 32 := Scalar.andi v17636 c65535_i32_6880
  let c2048_i32_6881 : BitVec 32 := 2048#32
  let v17638 : BitVec 32 := Scalar.select v17634 v17637 c2048_i32_6881
  let v17639 : BitVec 32 := Scalar.addi v11087 v17638
  let v17642 : Index := Scalar.indexCast v17639
  let c0_6883 : Index := 0#32
  ![v17642.toNat, 0]

def k0_chk439 (i : grid0.Coords) (k0_t1 : Fin k0_t1_loop.trips) (v17441 : BitVec 32) (v17444 : BitVec 32) (v17636 : BitVec 32) : Prop :=
  (∀ (k0_h1 : k0_cond1 i = 1#1), ∀ a, (k0_off879 k0_t1 v17441 v17444 v17636) a + S1x128.size a ≤ S8224x128.size a)
theorem k0_off879_inb : ∀ (i : grid0.Coords) (k0_t1 : Fin k0_t1_loop.trips) (v17441 : BitVec 32) (v17444 : BitVec 32) (v17636 : BitVec 32) (k0_hw439 : k0_chk439 i k0_t1 v17441 v17444 v17636), ∀ (k0_h1 : k0_cond1 i = 1#1), ∀ a, (k0_off879 k0_t1 v17441 v17444 v17636) a + S1x128.size a ≤ S8224x128.size a := fun i k0_t1 v17441 v17444 v17636 k0_hw439 k0_h1 => k0_hw439 k0_h1

def k0_off880 (v17441 : BitVec 32) : Fin 1 → Nat :=
  let c13_i32_6884 : BitVec 32 := 13#32
  let v17647 : BitVec 32 := Scalar.addi v17441 c13_i32_6884
  let v17650 : Index := Scalar.indexCast v17647
  ![v17650.toNat]
def k0_off881 (k0_t1 : Fin k0_t1_loop.trips) (v17441 : BitVec 32) (v17444 : BitVec 32) (v17651 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_6885 : BitVec 32 := 13#32
  let v17648 : BitVec 32 := Scalar.addi v17441 c13_i32_6885
  let v17649 : BitVec 1 := Scalar.cmpi .slt v17648 v17444
  let c65535_i32_6886 : BitVec 32 := 65535#32
  let v17652 : BitVec 32 := Scalar.andi v17651 c65535_i32_6886
  let c2048_i32_6887 : BitVec 32 := 2048#32
  let v17653 : BitVec 32 := Scalar.select v17649 v17652 c2048_i32_6887
  let v17654 : BitVec 32 := Scalar.addi v11087 v17653
  let v17657 : Index := Scalar.indexCast v17654
  let c0_6889 : Index := 0#32
  ![v17657.toNat, 0]

def k0_chk440 (i : grid0.Coords) (k0_t1 : Fin k0_t1_loop.trips) (v17441 : BitVec 32) (v17444 : BitVec 32) (v17651 : BitVec 32) : Prop :=
  (∀ (k0_h1 : k0_cond1 i = 1#1), ∀ a, (k0_off881 k0_t1 v17441 v17444 v17651) a + S1x128.size a ≤ S8224x128.size a)
theorem k0_off881_inb : ∀ (i : grid0.Coords) (k0_t1 : Fin k0_t1_loop.trips) (v17441 : BitVec 32) (v17444 : BitVec 32) (v17651 : BitVec 32) (k0_hw440 : k0_chk440 i k0_t1 v17441 v17444 v17651), ∀ (k0_h1 : k0_cond1 i = 1#1), ∀ a, (k0_off881 k0_t1 v17441 v17444 v17651) a + S1x128.size a ≤ S8224x128.size a := fun i k0_t1 v17441 v17444 v17651 k0_hw440 k0_h1 => k0_hw440 k0_h1

def k0_off882 (v17441 : BitVec 32) : Fin 1 → Nat :=
  let c14_i32_6890 : BitVec 32 := 14#32
  let v17662 : BitVec 32 := Scalar.addi v17441 c14_i32_6890
  let v17665 : Index := Scalar.indexCast v17662
  ![v17665.toNat]
def k0_off883 (k0_t1 : Fin k0_t1_loop.trips) (v17441 : BitVec 32) (v17444 : BitVec 32) (v17666 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_6891 : BitVec 32 := 14#32
  let v17663 : BitVec 32 := Scalar.addi v17441 c14_i32_6891
  let v17664 : BitVec 1 := Scalar.cmpi .slt v17663 v17444
  let c65535_i32_6892 : BitVec 32 := 65535#32
  let v17667 : BitVec 32 := Scalar.andi v17666 c65535_i32_6892
  let c2048_i32_6893 : BitVec 32 := 2048#32
  let v17668 : BitVec 32 := Scalar.select v17664 v17667 c2048_i32_6893
  let v17669 : BitVec 32 := Scalar.addi v11087 v17668
  let v17672 : Index := Scalar.indexCast v17669
  let c0_6895 : Index := 0#32
  ![v17672.toNat, 0]

def k0_chk441 (i : grid0.Coords) (k0_t1 : Fin k0_t1_loop.trips) (v17441 : BitVec 32) (v17444 : BitVec 32) (v17666 : BitVec 32) : Prop :=
  (∀ (k0_h1 : k0_cond1 i = 1#1), ∀ a, (k0_off883 k0_t1 v17441 v17444 v17666) a + S1x128.size a ≤ S8224x128.size a)
theorem k0_off883_inb : ∀ (i : grid0.Coords) (k0_t1 : Fin k0_t1_loop.trips) (v17441 : BitVec 32) (v17444 : BitVec 32) (v17666 : BitVec 32) (k0_hw441 : k0_chk441 i k0_t1 v17441 v17444 v17666), ∀ (k0_h1 : k0_cond1 i = 1#1), ∀ a, (k0_off883 k0_t1 v17441 v17444 v17666) a + S1x128.size a ≤ S8224x128.size a := fun i k0_t1 v17441 v17444 v17666 k0_hw441 k0_h1 => k0_hw441 k0_h1

def k0_off884 (v17441 : BitVec 32) : Fin 1 → Nat :=
  let c15_i32_6896 : BitVec 32 := 15#32
  let v17677 : BitVec 32 := Scalar.addi v17441 c15_i32_6896
  let v17680 : Index := Scalar.indexCast v17677
  ![v17680.toNat]

def k0_chk426 (i : grid0.Coords) (v17441 : BitVec 32) : Prop :=
  (∀ (k0_h1 : k0_cond1 i = 1#1), ∀ a, (k0_off854 v17441) a + S1.size a ≤ S51920.size a) ∧
  (∀ (k0_h1 : k0_cond1 i = 1#1), ∀ a, (k0_off856 v17441) a + S1.size a ≤ S51920.size a) ∧
  (∀ (k0_h1 : k0_cond1 i = 1#1), ∀ a, (k0_off858 v17441) a + S1.size a ≤ S51920.size a) ∧
  (∀ (k0_h1 : k0_cond1 i = 1#1), ∀ a, (k0_off860 v17441) a + S1.size a ≤ S51920.size a) ∧
  (∀ (k0_h1 : k0_cond1 i = 1#1), ∀ a, (k0_off862 v17441) a + S1.size a ≤ S51920.size a) ∧
  (∀ (k0_h1 : k0_cond1 i = 1#1), ∀ a, (k0_off864 v17441) a + S1.size a ≤ S51920.size a) ∧
  (∀ (k0_h1 : k0_cond1 i = 1#1), ∀ a, (k0_off866 v17441) a + S1.size a ≤ S51920.size a) ∧
  (∀ (k0_h1 : k0_cond1 i = 1#1), ∀ a, (k0_off868 v17441) a + S1.size a ≤ S51920.size a) ∧
  (∀ (k0_h1 : k0_cond1 i = 1#1), ∀ a, (k0_off870 v17441) a + S1.size a ≤ S51920.size a) ∧
  (∀ (k0_h1 : k0_cond1 i = 1#1), ∀ a, (k0_off872 v17441) a + S1.size a ≤ S51920.size a) ∧
  (∀ (k0_h1 : k0_cond1 i = 1#1), ∀ a, (k0_off874 v17441) a + S1.size a ≤ S51920.size a) ∧
  (∀ (k0_h1 : k0_cond1 i = 1#1), ∀ a, (k0_off876 v17441) a + S1.size a ≤ S51920.size a) ∧
  (∀ (k0_h1 : k0_cond1 i = 1#1), ∀ a, (k0_off878 v17441) a + S1.size a ≤ S51920.size a) ∧
  (∀ (k0_h1 : k0_cond1 i = 1#1), ∀ a, (k0_off880 v17441) a + S1.size a ≤ S51920.size a) ∧
  (∀ (k0_h1 : k0_cond1 i = 1#1), ∀ a, (k0_off882 v17441) a + S1.size a ≤ S51920.size a) ∧
  (∀ (k0_h1 : k0_cond1 i = 1#1), ∀ a, (k0_off884 v17441) a + S1.size a ≤ S51920.size a)
theorem k0_off854_inb : ∀ (i : grid0.Coords) (v17441 : BitVec 32) (k0_hw426 : k0_chk426 i v17441), ∀ (k0_h1 : k0_cond1 i = 1#1), ∀ a, (k0_off854 v17441) a + S1.size a ≤ S51920.size a := fun i v17441 k0_hw426 k0_h1 => k0_hw426.1 k0_h1
theorem k0_off856_inb : ∀ (i : grid0.Coords) (v17441 : BitVec 32) (k0_hw426 : k0_chk426 i v17441), ∀ (k0_h1 : k0_cond1 i = 1#1), ∀ a, (k0_off856 v17441) a + S1.size a ≤ S51920.size a := fun i v17441 k0_hw426 k0_h1 => k0_hw426.2.1 k0_h1
theorem k0_off858_inb : ∀ (i : grid0.Coords) (v17441 : BitVec 32) (k0_hw426 : k0_chk426 i v17441), ∀ (k0_h1 : k0_cond1 i = 1#1), ∀ a, (k0_off858 v17441) a + S1.size a ≤ S51920.size a := fun i v17441 k0_hw426 k0_h1 => k0_hw426.2.2.1 k0_h1
theorem k0_off860_inb : ∀ (i : grid0.Coords) (v17441 : BitVec 32) (k0_hw426 : k0_chk426 i v17441), ∀ (k0_h1 : k0_cond1 i = 1#1), ∀ a, (k0_off860 v17441) a + S1.size a ≤ S51920.size a := fun i v17441 k0_hw426 k0_h1 => k0_hw426.2.2.2.1 k0_h1
theorem k0_off862_inb : ∀ (i : grid0.Coords) (v17441 : BitVec 32) (k0_hw426 : k0_chk426 i v17441), ∀ (k0_h1 : k0_cond1 i = 1#1), ∀ a, (k0_off862 v17441) a + S1.size a ≤ S51920.size a := fun i v17441 k0_hw426 k0_h1 => k0_hw426.2.2.2.2.1 k0_h1
theorem k0_off864_inb : ∀ (i : grid0.Coords) (v17441 : BitVec 32) (k0_hw426 : k0_chk426 i v17441), ∀ (k0_h1 : k0_cond1 i = 1#1), ∀ a, (k0_off864 v17441) a + S1.size a ≤ S51920.size a := fun i v17441 k0_hw426 k0_h1 => k0_hw426.2.2.2.2.2.1 k0_h1
theorem k0_off866_inb : ∀ (i : grid0.Coords) (v17441 : BitVec 32) (k0_hw426 : k0_chk426 i v17441), ∀ (k0_h1 : k0_cond1 i = 1#1), ∀ a, (k0_off866 v17441) a + S1.size a ≤ S51920.size a := fun i v17441 k0_hw426 k0_h1 => k0_hw426.2.2.2.2.2.2.1 k0_h1
theorem k0_off868_inb : ∀ (i : grid0.Coords) (v17441 : BitVec 32) (k0_hw426 : k0_chk426 i v17441), ∀ (k0_h1 : k0_cond1 i = 1#1), ∀ a, (k0_off868 v17441) a + S1.size a ≤ S51920.size a := fun i v17441 k0_hw426 k0_h1 => k0_hw426.2.2.2.2.2.2.2.1 k0_h1
theorem k0_off870_inb : ∀ (i : grid0.Coords) (v17441 : BitVec 32) (k0_hw426 : k0_chk426 i v17441), ∀ (k0_h1 : k0_cond1 i = 1#1), ∀ a, (k0_off870 v17441) a + S1.size a ≤ S51920.size a := fun i v17441 k0_hw426 k0_h1 => k0_hw426.2.2.2.2.2.2.2.2.1 k0_h1
theorem k0_off872_inb : ∀ (i : grid0.Coords) (v17441 : BitVec 32) (k0_hw426 : k0_chk426 i v17441), ∀ (k0_h1 : k0_cond1 i = 1#1), ∀ a, (k0_off872 v17441) a + S1.size a ≤ S51920.size a := fun i v17441 k0_hw426 k0_h1 => k0_hw426.2.2.2.2.2.2.2.2.2.1 k0_h1
theorem k0_off874_inb : ∀ (i : grid0.Coords) (v17441 : BitVec 32) (k0_hw426 : k0_chk426 i v17441), ∀ (k0_h1 : k0_cond1 i = 1#1), ∀ a, (k0_off874 v17441) a + S1.size a ≤ S51920.size a := fun i v17441 k0_hw426 k0_h1 => k0_hw426.2.2.2.2.2.2.2.2.2.2.1 k0_h1
theorem k0_off876_inb : ∀ (i : grid0.Coords) (v17441 : BitVec 32) (k0_hw426 : k0_chk426 i v17441), ∀ (k0_h1 : k0_cond1 i = 1#1), ∀ a, (k0_off876 v17441) a + S1.size a ≤ S51920.size a := fun i v17441 k0_hw426 k0_h1 => k0_hw426.2.2.2.2.2.2.2.2.2.2.2.1 k0_h1
theorem k0_off878_inb : ∀ (i : grid0.Coords) (v17441 : BitVec 32) (k0_hw426 : k0_chk426 i v17441), ∀ (k0_h1 : k0_cond1 i = 1#1), ∀ a, (k0_off878 v17441) a + S1.size a ≤ S51920.size a := fun i v17441 k0_hw426 k0_h1 => k0_hw426.2.2.2.2.2.2.2.2.2.2.2.2.1 k0_h1
theorem k0_off880_inb : ∀ (i : grid0.Coords) (v17441 : BitVec 32) (k0_hw426 : k0_chk426 i v17441), ∀ (k0_h1 : k0_cond1 i = 1#1), ∀ a, (k0_off880 v17441) a + S1.size a ≤ S51920.size a := fun i v17441 k0_hw426 k0_h1 => k0_hw426.2.2.2.2.2.2.2.2.2.2.2.2.2.1 k0_h1
theorem k0_off882_inb : ∀ (i : grid0.Coords) (v17441 : BitVec 32) (k0_hw426 : k0_chk426 i v17441), ∀ (k0_h1 : k0_cond1 i = 1#1), ∀ a, (k0_off882 v17441) a + S1.size a ≤ S51920.size a := fun i v17441 k0_hw426 k0_h1 => k0_hw426.2.2.2.2.2.2.2.2.2.2.2.2.2.2.1 k0_h1
theorem k0_off884_inb : ∀ (i : grid0.Coords) (v17441 : BitVec 32) (k0_hw426 : k0_chk426 i v17441), ∀ (k0_h1 : k0_cond1 i = 1#1), ∀ a, (k0_off884 v17441) a + S1.size a ≤ S51920.size a := fun i v17441 k0_hw426 k0_h1 => k0_hw426.2.2.2.2.2.2.2.2.2.2.2.2.2.2.2 k0_h1

def k0_off885 (k0_t1 : Fin k0_t1_loop.trips) (v17441 : BitVec 32) (v17444 : BitVec 32) (v17681 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_6897 : BitVec 32 := 15#32
  let v17678 : BitVec 32 := Scalar.addi v17441 c15_i32_6897
  let v17679 : BitVec 1 := Scalar.cmpi .slt v17678 v17444
  let c65535_i32_6898 : BitVec 32 := 65535#32
  let v17682 : BitVec 32 := Scalar.andi v17681 c65535_i32_6898
  let c2048_i32_6899 : BitVec 32 := 2048#32
  let v17683 : BitVec 32 := Scalar.select v17679 v17682 c2048_i32_6899
  let v17684 : BitVec 32 := Scalar.addi v11087 v17683
  let v17687 : Index := Scalar.indexCast v17684
  let c0_6901 : Index := 0#32
  ![v17687.toNat, 0]

def k0_chk442 (i : grid0.Coords) (k0_t1 : Fin k0_t1_loop.trips) (v17441 : BitVec 32) (v17444 : BitVec 32) (v17681 : BitVec 32) : Prop :=
  (∀ (k0_h1 : k0_cond1 i = 1#1), ∀ a, (k0_off885 k0_t1 v17441 v17444 v17681) a + S1x128.size a ≤ S8224x128.size a)
theorem k0_off885_inb : ∀ (i : grid0.Coords) (k0_t1 : Fin k0_t1_loop.trips) (v17441 : BitVec 32) (v17444 : BitVec 32) (v17681 : BitVec 32) (k0_hw442 : k0_chk442 i k0_t1 v17441 v17444 v17681), ∀ (k0_h1 : k0_cond1 i = 1#1), ∀ a, (k0_off885 k0_t1 v17441 v17444 v17681) a + S1x128.size a ≤ S8224x128.size a := fun i k0_t1 v17441 v17444 v17681 k0_hw442 k0_h1 => k0_hw442 k0_h1

def k0_off886 (k0_t1 : Fin k0_t1_loop.trips) : Fin 1 → Nat :=
  let c0_i32_6902 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v17692 : BitVec 32 := Scalar.addi c0_i32_6902 v11069
  let c26_i32_6903 : BitVec 32 := 26#32
  let v17693 : BitVec 32 := Scalar.addi v17692 c26_i32_6903
  let v17694 : Index := Scalar.indexCast v17693
  ![v17694.toNat]
def k0_off887 (k0_t1 : Fin k0_t1_loop.trips) : Fin 1 → Nat :=
  let c0_i32_6902 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v17692 : BitVec 32 := Scalar.addi c0_i32_6902 v11069
  let c26_i32_6903 : BitVec 32 := 26#32
  let v17693 : BitVec 32 := Scalar.addi v17692 c26_i32_6903
  let c1_i32_6904 : BitVec 32 := 1#32
  let v17696 : BitVec 32 := Scalar.addi v17693 c1_i32_6904
  let v17697 : Index := Scalar.indexCast v17696
  ![v17697.toNat]
def k0_off888 (v17695 : BitVec 32) : Fin 1 → Nat :=
  let c0_i32_6907 : BitVec 32 := 0#32
  let v17706 : BitVec 32 := Scalar.addi v17695 c0_i32_6907
  let v17709 : Index := Scalar.indexCast v17706
  ![v17709.toNat]

def k0_off889 (k0_t1 : Fin k0_t1_loop.trips) (v17695 : BitVec 32) (v17698 : BitVec 32) (v17710 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_6908 : BitVec 32 := 0#32
  let v17707 : BitVec 32 := Scalar.addi v17695 c0_i32_6908
  let v17708 : BitVec 1 := Scalar.cmpi .slt v17707 v17698
  let c65535_i32_6909 : BitVec 32 := 65535#32
  let v17711 : BitVec 32 := Scalar.andi v17710 c65535_i32_6909
  let c2048_i32_6910 : BitVec 32 := 2048#32
  let v17712 : BitVec 32 := Scalar.select v17708 v17711 c2048_i32_6910
  let v17713 : BitVec 32 := Scalar.addi v11087 v17712
  let v17716 : Index := Scalar.indexCast v17713
  let c0_6912 : Index := 0#32
  ![v17716.toNat, 0]

def k0_chk444 (i : grid0.Coords) (k0_t1 : Fin k0_t1_loop.trips) (v17695 : BitVec 32) (v17698 : BitVec 32) (v17710 : BitVec 32) : Prop :=
  (∀ (k0_h1 : k0_cond1 i = 1#1), ∀ a, (k0_off889 k0_t1 v17695 v17698 v17710) a + S1x128.size a ≤ S8224x128.size a)
theorem k0_off889_inb : ∀ (i : grid0.Coords) (k0_t1 : Fin k0_t1_loop.trips) (v17695 : BitVec 32) (v17698 : BitVec 32) (v17710 : BitVec 32) (k0_hw444 : k0_chk444 i k0_t1 v17695 v17698 v17710), ∀ (k0_h1 : k0_cond1 i = 1#1), ∀ a, (k0_off889 k0_t1 v17695 v17698 v17710) a + S1x128.size a ≤ S8224x128.size a := fun i k0_t1 v17695 v17698 v17710 k0_hw444 k0_h1 => k0_hw444 k0_h1

def k0_off890 (v17695 : BitVec 32) : Fin 1 → Nat :=
  let c1_i32_6913 : BitVec 32 := 1#32
  let v17721 : BitVec 32 := Scalar.addi v17695 c1_i32_6913
  let v17724 : Index := Scalar.indexCast v17721
  ![v17724.toNat]
def k0_off891 (k0_t1 : Fin k0_t1_loop.trips) (v17695 : BitVec 32) (v17698 : BitVec 32) (v17725 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_6914 : BitVec 32 := 1#32
  let v17722 : BitVec 32 := Scalar.addi v17695 c1_i32_6914
  let v17723 : BitVec 1 := Scalar.cmpi .slt v17722 v17698
  let c65535_i32_6915 : BitVec 32 := 65535#32
  let v17726 : BitVec 32 := Scalar.andi v17725 c65535_i32_6915
  let c2048_i32_6916 : BitVec 32 := 2048#32
  let v17727 : BitVec 32 := Scalar.select v17723 v17726 c2048_i32_6916
  let v17728 : BitVec 32 := Scalar.addi v11087 v17727
  let v17731 : Index := Scalar.indexCast v17728
  let c0_6918 : Index := 0#32
  ![v17731.toNat, 0]

def k0_chk445 (i : grid0.Coords) (k0_t1 : Fin k0_t1_loop.trips) (v17695 : BitVec 32) (v17698 : BitVec 32) (v17725 : BitVec 32) : Prop :=
  (∀ (k0_h1 : k0_cond1 i = 1#1), ∀ a, (k0_off891 k0_t1 v17695 v17698 v17725) a + S1x128.size a ≤ S8224x128.size a)
theorem k0_off891_inb : ∀ (i : grid0.Coords) (k0_t1 : Fin k0_t1_loop.trips) (v17695 : BitVec 32) (v17698 : BitVec 32) (v17725 : BitVec 32) (k0_hw445 : k0_chk445 i k0_t1 v17695 v17698 v17725), ∀ (k0_h1 : k0_cond1 i = 1#1), ∀ a, (k0_off891 k0_t1 v17695 v17698 v17725) a + S1x128.size a ≤ S8224x128.size a := fun i k0_t1 v17695 v17698 v17725 k0_hw445 k0_h1 => k0_hw445 k0_h1

def k0_off892 (v17695 : BitVec 32) : Fin 1 → Nat :=
  let c2_i32_6919 : BitVec 32 := 2#32
  let v17736 : BitVec 32 := Scalar.addi v17695 c2_i32_6919
  let v17739 : Index := Scalar.indexCast v17736
  ![v17739.toNat]
def k0_off893 (k0_t1 : Fin k0_t1_loop.trips) (v17695 : BitVec 32) (v17698 : BitVec 32) (v17740 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_6920 : BitVec 32 := 2#32
  let v17737 : BitVec 32 := Scalar.addi v17695 c2_i32_6920
  let v17738 : BitVec 1 := Scalar.cmpi .slt v17737 v17698
  let c65535_i32_6921 : BitVec 32 := 65535#32
  let v17741 : BitVec 32 := Scalar.andi v17740 c65535_i32_6921
  let c2048_i32_6922 : BitVec 32 := 2048#32
  let v17742 : BitVec 32 := Scalar.select v17738 v17741 c2048_i32_6922
  let v17743 : BitVec 32 := Scalar.addi v11087 v17742
  let v17746 : Index := Scalar.indexCast v17743
  let c0_6924 : Index := 0#32
  ![v17746.toNat, 0]

def k0_chk446 (i : grid0.Coords) (k0_t1 : Fin k0_t1_loop.trips) (v17695 : BitVec 32) (v17698 : BitVec 32) (v17740 : BitVec 32) : Prop :=
  (∀ (k0_h1 : k0_cond1 i = 1#1), ∀ a, (k0_off893 k0_t1 v17695 v17698 v17740) a + S1x128.size a ≤ S8224x128.size a)
theorem k0_off893_inb : ∀ (i : grid0.Coords) (k0_t1 : Fin k0_t1_loop.trips) (v17695 : BitVec 32) (v17698 : BitVec 32) (v17740 : BitVec 32) (k0_hw446 : k0_chk446 i k0_t1 v17695 v17698 v17740), ∀ (k0_h1 : k0_cond1 i = 1#1), ∀ a, (k0_off893 k0_t1 v17695 v17698 v17740) a + S1x128.size a ≤ S8224x128.size a := fun i k0_t1 v17695 v17698 v17740 k0_hw446 k0_h1 => k0_hw446 k0_h1

def k0_off894 (v17695 : BitVec 32) : Fin 1 → Nat :=
  let c3_i32_6925 : BitVec 32 := 3#32
  let v17751 : BitVec 32 := Scalar.addi v17695 c3_i32_6925
  let v17754 : Index := Scalar.indexCast v17751
  ![v17754.toNat]
def k0_off895 (k0_t1 : Fin k0_t1_loop.trips) (v17695 : BitVec 32) (v17698 : BitVec 32) (v17755 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_6926 : BitVec 32 := 3#32
  let v17752 : BitVec 32 := Scalar.addi v17695 c3_i32_6926
  let v17753 : BitVec 1 := Scalar.cmpi .slt v17752 v17698
  let c65535_i32_6927 : BitVec 32 := 65535#32
  let v17756 : BitVec 32 := Scalar.andi v17755 c65535_i32_6927
  let c2048_i32_6928 : BitVec 32 := 2048#32
  let v17757 : BitVec 32 := Scalar.select v17753 v17756 c2048_i32_6928
  let v17758 : BitVec 32 := Scalar.addi v11087 v17757
  let v17761 : Index := Scalar.indexCast v17758
  let c0_6930 : Index := 0#32
  ![v17761.toNat, 0]

def k0_chk447 (i : grid0.Coords) (k0_t1 : Fin k0_t1_loop.trips) (v17695 : BitVec 32) (v17698 : BitVec 32) (v17755 : BitVec 32) : Prop :=
  (∀ (k0_h1 : k0_cond1 i = 1#1), ∀ a, (k0_off895 k0_t1 v17695 v17698 v17755) a + S1x128.size a ≤ S8224x128.size a)
theorem k0_off895_inb : ∀ (i : grid0.Coords) (k0_t1 : Fin k0_t1_loop.trips) (v17695 : BitVec 32) (v17698 : BitVec 32) (v17755 : BitVec 32) (k0_hw447 : k0_chk447 i k0_t1 v17695 v17698 v17755), ∀ (k0_h1 : k0_cond1 i = 1#1), ∀ a, (k0_off895 k0_t1 v17695 v17698 v17755) a + S1x128.size a ≤ S8224x128.size a := fun i k0_t1 v17695 v17698 v17755 k0_hw447 k0_h1 => k0_hw447 k0_h1

def k0_off896 (v17695 : BitVec 32) : Fin 1 → Nat :=
  let c4_i32_6931 : BitVec 32 := 4#32
  let v17766 : BitVec 32 := Scalar.addi v17695 c4_i32_6931
  let v17769 : Index := Scalar.indexCast v17766
  ![v17769.toNat]
def k0_off897 (k0_t1 : Fin k0_t1_loop.trips) (v17695 : BitVec 32) (v17698 : BitVec 32) (v17770 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_6932 : BitVec 32 := 4#32
  let v17767 : BitVec 32 := Scalar.addi v17695 c4_i32_6932
  let v17768 : BitVec 1 := Scalar.cmpi .slt v17767 v17698
  let c65535_i32_6933 : BitVec 32 := 65535#32
  let v17771 : BitVec 32 := Scalar.andi v17770 c65535_i32_6933
  let c2048_i32_6934 : BitVec 32 := 2048#32
  let v17772 : BitVec 32 := Scalar.select v17768 v17771 c2048_i32_6934
  let v17773 : BitVec 32 := Scalar.addi v11087 v17772
  let v17776 : Index := Scalar.indexCast v17773
  let c0_6936 : Index := 0#32
  ![v17776.toNat, 0]

def k0_chk448 (i : grid0.Coords) (k0_t1 : Fin k0_t1_loop.trips) (v17695 : BitVec 32) (v17698 : BitVec 32) (v17770 : BitVec 32) : Prop :=
  (∀ (k0_h1 : k0_cond1 i = 1#1), ∀ a, (k0_off897 k0_t1 v17695 v17698 v17770) a + S1x128.size a ≤ S8224x128.size a)
theorem k0_off897_inb : ∀ (i : grid0.Coords) (k0_t1 : Fin k0_t1_loop.trips) (v17695 : BitVec 32) (v17698 : BitVec 32) (v17770 : BitVec 32) (k0_hw448 : k0_chk448 i k0_t1 v17695 v17698 v17770), ∀ (k0_h1 : k0_cond1 i = 1#1), ∀ a, (k0_off897 k0_t1 v17695 v17698 v17770) a + S1x128.size a ≤ S8224x128.size a := fun i k0_t1 v17695 v17698 v17770 k0_hw448 k0_h1 => k0_hw448 k0_h1

def k0_off898 (v17695 : BitVec 32) : Fin 1 → Nat :=
  let c5_i32_6937 : BitVec 32 := 5#32
  let v17781 : BitVec 32 := Scalar.addi v17695 c5_i32_6937
  let v17784 : Index := Scalar.indexCast v17781
  ![v17784.toNat]
def k0_off899 (k0_t1 : Fin k0_t1_loop.trips) (v17695 : BitVec 32) (v17698 : BitVec 32) (v17785 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_6938 : BitVec 32 := 5#32
  let v17782 : BitVec 32 := Scalar.addi v17695 c5_i32_6938
  let v17783 : BitVec 1 := Scalar.cmpi .slt v17782 v17698
  let c65535_i32_6939 : BitVec 32 := 65535#32
  let v17786 : BitVec 32 := Scalar.andi v17785 c65535_i32_6939
  let c2048_i32_6940 : BitVec 32 := 2048#32
  let v17787 : BitVec 32 := Scalar.select v17783 v17786 c2048_i32_6940
  let v17788 : BitVec 32 := Scalar.addi v11087 v17787
  let v17791 : Index := Scalar.indexCast v17788
  let c0_6942 : Index := 0#32
  ![v17791.toNat, 0]

def k0_chk449 (i : grid0.Coords) (k0_t1 : Fin k0_t1_loop.trips) (v17695 : BitVec 32) (v17698 : BitVec 32) (v17785 : BitVec 32) : Prop :=
  (∀ (k0_h1 : k0_cond1 i = 1#1), ∀ a, (k0_off899 k0_t1 v17695 v17698 v17785) a + S1x128.size a ≤ S8224x128.size a)
theorem k0_off899_inb : ∀ (i : grid0.Coords) (k0_t1 : Fin k0_t1_loop.trips) (v17695 : BitVec 32) (v17698 : BitVec 32) (v17785 : BitVec 32) (k0_hw449 : k0_chk449 i k0_t1 v17695 v17698 v17785), ∀ (k0_h1 : k0_cond1 i = 1#1), ∀ a, (k0_off899 k0_t1 v17695 v17698 v17785) a + S1x128.size a ≤ S8224x128.size a := fun i k0_t1 v17695 v17698 v17785 k0_hw449 k0_h1 => k0_hw449 k0_h1

def k0_off900 (v17695 : BitVec 32) : Fin 1 → Nat :=
  let c6_i32_6943 : BitVec 32 := 6#32
  let v17796 : BitVec 32 := Scalar.addi v17695 c6_i32_6943
  let v17799 : Index := Scalar.indexCast v17796
  ![v17799.toNat]
def k0_off901 (k0_t1 : Fin k0_t1_loop.trips) (v17695 : BitVec 32) (v17698 : BitVec 32) (v17800 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_6944 : BitVec 32 := 6#32
  let v17797 : BitVec 32 := Scalar.addi v17695 c6_i32_6944
  let v17798 : BitVec 1 := Scalar.cmpi .slt v17797 v17698
  let c65535_i32_6945 : BitVec 32 := 65535#32
  let v17801 : BitVec 32 := Scalar.andi v17800 c65535_i32_6945
  let c2048_i32_6946 : BitVec 32 := 2048#32
  let v17802 : BitVec 32 := Scalar.select v17798 v17801 c2048_i32_6946
  let v17803 : BitVec 32 := Scalar.addi v11087 v17802
  let v17806 : Index := Scalar.indexCast v17803
  let c0_6948 : Index := 0#32
  ![v17806.toNat, 0]

def k0_chk450 (i : grid0.Coords) (k0_t1 : Fin k0_t1_loop.trips) (v17695 : BitVec 32) (v17698 : BitVec 32) (v17800 : BitVec 32) : Prop :=
  (∀ (k0_h1 : k0_cond1 i = 1#1), ∀ a, (k0_off901 k0_t1 v17695 v17698 v17800) a + S1x128.size a ≤ S8224x128.size a)
theorem k0_off901_inb : ∀ (i : grid0.Coords) (k0_t1 : Fin k0_t1_loop.trips) (v17695 : BitVec 32) (v17698 : BitVec 32) (v17800 : BitVec 32) (k0_hw450 : k0_chk450 i k0_t1 v17695 v17698 v17800), ∀ (k0_h1 : k0_cond1 i = 1#1), ∀ a, (k0_off901 k0_t1 v17695 v17698 v17800) a + S1x128.size a ≤ S8224x128.size a := fun i k0_t1 v17695 v17698 v17800 k0_hw450 k0_h1 => k0_hw450 k0_h1

def k0_off902 (v17695 : BitVec 32) : Fin 1 → Nat :=
  let c7_i32_6949 : BitVec 32 := 7#32
  let v17811 : BitVec 32 := Scalar.addi v17695 c7_i32_6949
  let v17814 : Index := Scalar.indexCast v17811
  ![v17814.toNat]
def k0_off903 (k0_t1 : Fin k0_t1_loop.trips) (v17695 : BitVec 32) (v17698 : BitVec 32) (v17815 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_6950 : BitVec 32 := 7#32
  let v17812 : BitVec 32 := Scalar.addi v17695 c7_i32_6950
  let v17813 : BitVec 1 := Scalar.cmpi .slt v17812 v17698
  let c65535_i32_6951 : BitVec 32 := 65535#32
  let v17816 : BitVec 32 := Scalar.andi v17815 c65535_i32_6951
  let c2048_i32_6952 : BitVec 32 := 2048#32
  let v17817 : BitVec 32 := Scalar.select v17813 v17816 c2048_i32_6952
  let v17818 : BitVec 32 := Scalar.addi v11087 v17817
  let v17821 : Index := Scalar.indexCast v17818
  let c0_6954 : Index := 0#32
  ![v17821.toNat, 0]

def k0_chk451 (i : grid0.Coords) (k0_t1 : Fin k0_t1_loop.trips) (v17695 : BitVec 32) (v17698 : BitVec 32) (v17815 : BitVec 32) : Prop :=
  (∀ (k0_h1 : k0_cond1 i = 1#1), ∀ a, (k0_off903 k0_t1 v17695 v17698 v17815) a + S1x128.size a ≤ S8224x128.size a)
theorem k0_off903_inb : ∀ (i : grid0.Coords) (k0_t1 : Fin k0_t1_loop.trips) (v17695 : BitVec 32) (v17698 : BitVec 32) (v17815 : BitVec 32) (k0_hw451 : k0_chk451 i k0_t1 v17695 v17698 v17815), ∀ (k0_h1 : k0_cond1 i = 1#1), ∀ a, (k0_off903 k0_t1 v17695 v17698 v17815) a + S1x128.size a ≤ S8224x128.size a := fun i k0_t1 v17695 v17698 v17815 k0_hw451 k0_h1 => k0_hw451 k0_h1

def k0_off904 (v17695 : BitVec 32) : Fin 1 → Nat :=
  let c8_i32_6955 : BitVec 32 := 8#32
  let v17826 : BitVec 32 := Scalar.addi v17695 c8_i32_6955
  let v17829 : Index := Scalar.indexCast v17826
  ![v17829.toNat]
def k0_off905 (k0_t1 : Fin k0_t1_loop.trips) (v17695 : BitVec 32) (v17698 : BitVec 32) (v17830 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_6956 : BitVec 32 := 8#32
  let v17827 : BitVec 32 := Scalar.addi v17695 c8_i32_6956
  let v17828 : BitVec 1 := Scalar.cmpi .slt v17827 v17698
  let c65535_i32_6957 : BitVec 32 := 65535#32
  let v17831 : BitVec 32 := Scalar.andi v17830 c65535_i32_6957
  let c2048_i32_6958 : BitVec 32 := 2048#32
  let v17832 : BitVec 32 := Scalar.select v17828 v17831 c2048_i32_6958
  let v17833 : BitVec 32 := Scalar.addi v11087 v17832
  let v17836 : Index := Scalar.indexCast v17833
  let c0_6960 : Index := 0#32
  ![v17836.toNat, 0]

def k0_chk452 (i : grid0.Coords) (k0_t1 : Fin k0_t1_loop.trips) (v17695 : BitVec 32) (v17698 : BitVec 32) (v17830 : BitVec 32) : Prop :=
  (∀ (k0_h1 : k0_cond1 i = 1#1), ∀ a, (k0_off905 k0_t1 v17695 v17698 v17830) a + S1x128.size a ≤ S8224x128.size a)
theorem k0_off905_inb : ∀ (i : grid0.Coords) (k0_t1 : Fin k0_t1_loop.trips) (v17695 : BitVec 32) (v17698 : BitVec 32) (v17830 : BitVec 32) (k0_hw452 : k0_chk452 i k0_t1 v17695 v17698 v17830), ∀ (k0_h1 : k0_cond1 i = 1#1), ∀ a, (k0_off905 k0_t1 v17695 v17698 v17830) a + S1x128.size a ≤ S8224x128.size a := fun i k0_t1 v17695 v17698 v17830 k0_hw452 k0_h1 => k0_hw452 k0_h1

def k0_off906 (v17695 : BitVec 32) : Fin 1 → Nat :=
  let c9_i32_6961 : BitVec 32 := 9#32
  let v17841 : BitVec 32 := Scalar.addi v17695 c9_i32_6961
  let v17844 : Index := Scalar.indexCast v17841
  ![v17844.toNat]
def k0_off907 (k0_t1 : Fin k0_t1_loop.trips) (v17695 : BitVec 32) (v17698 : BitVec 32) (v17845 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_6962 : BitVec 32 := 9#32
  let v17842 : BitVec 32 := Scalar.addi v17695 c9_i32_6962
  let v17843 : BitVec 1 := Scalar.cmpi .slt v17842 v17698
  let c65535_i32_6963 : BitVec 32 := 65535#32
  let v17846 : BitVec 32 := Scalar.andi v17845 c65535_i32_6963
  let c2048_i32_6964 : BitVec 32 := 2048#32
  let v17847 : BitVec 32 := Scalar.select v17843 v17846 c2048_i32_6964
  let v17848 : BitVec 32 := Scalar.addi v11087 v17847
  let v17851 : Index := Scalar.indexCast v17848
  let c0_6966 : Index := 0#32
  ![v17851.toNat, 0]

def k0_chk453 (i : grid0.Coords) (k0_t1 : Fin k0_t1_loop.trips) (v17695 : BitVec 32) (v17698 : BitVec 32) (v17845 : BitVec 32) : Prop :=
  (∀ (k0_h1 : k0_cond1 i = 1#1), ∀ a, (k0_off907 k0_t1 v17695 v17698 v17845) a + S1x128.size a ≤ S8224x128.size a)
theorem k0_off907_inb : ∀ (i : grid0.Coords) (k0_t1 : Fin k0_t1_loop.trips) (v17695 : BitVec 32) (v17698 : BitVec 32) (v17845 : BitVec 32) (k0_hw453 : k0_chk453 i k0_t1 v17695 v17698 v17845), ∀ (k0_h1 : k0_cond1 i = 1#1), ∀ a, (k0_off907 k0_t1 v17695 v17698 v17845) a + S1x128.size a ≤ S8224x128.size a := fun i k0_t1 v17695 v17698 v17845 k0_hw453 k0_h1 => k0_hw453 k0_h1

def k0_off908 (v17695 : BitVec 32) : Fin 1 → Nat :=
  let c10_i32_6967 : BitVec 32 := 10#32
  let v17856 : BitVec 32 := Scalar.addi v17695 c10_i32_6967
  let v17859 : Index := Scalar.indexCast v17856
  ![v17859.toNat]
def k0_off909 (k0_t1 : Fin k0_t1_loop.trips) (v17695 : BitVec 32) (v17698 : BitVec 32) (v17860 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_6968 : BitVec 32 := 10#32
  let v17857 : BitVec 32 := Scalar.addi v17695 c10_i32_6968
  let v17858 : BitVec 1 := Scalar.cmpi .slt v17857 v17698
  let c65535_i32_6969 : BitVec 32 := 65535#32
  let v17861 : BitVec 32 := Scalar.andi v17860 c65535_i32_6969
  let c2048_i32_6970 : BitVec 32 := 2048#32
  let v17862 : BitVec 32 := Scalar.select v17858 v17861 c2048_i32_6970
  let v17863 : BitVec 32 := Scalar.addi v11087 v17862
  let v17866 : Index := Scalar.indexCast v17863
  let c0_6972 : Index := 0#32
  ![v17866.toNat, 0]

def k0_chk454 (i : grid0.Coords) (k0_t1 : Fin k0_t1_loop.trips) (v17695 : BitVec 32) (v17698 : BitVec 32) (v17860 : BitVec 32) : Prop :=
  (∀ (k0_h1 : k0_cond1 i = 1#1), ∀ a, (k0_off909 k0_t1 v17695 v17698 v17860) a + S1x128.size a ≤ S8224x128.size a)
theorem k0_off909_inb : ∀ (i : grid0.Coords) (k0_t1 : Fin k0_t1_loop.trips) (v17695 : BitVec 32) (v17698 : BitVec 32) (v17860 : BitVec 32) (k0_hw454 : k0_chk454 i k0_t1 v17695 v17698 v17860), ∀ (k0_h1 : k0_cond1 i = 1#1), ∀ a, (k0_off909 k0_t1 v17695 v17698 v17860) a + S1x128.size a ≤ S8224x128.size a := fun i k0_t1 v17695 v17698 v17860 k0_hw454 k0_h1 => k0_hw454 k0_h1

def k0_off910 (v17695 : BitVec 32) : Fin 1 → Nat :=
  let c11_i32_6973 : BitVec 32 := 11#32
  let v17871 : BitVec 32 := Scalar.addi v17695 c11_i32_6973
  let v17874 : Index := Scalar.indexCast v17871
  ![v17874.toNat]
def k0_off911 (k0_t1 : Fin k0_t1_loop.trips) (v17695 : BitVec 32) (v17698 : BitVec 32) (v17875 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_6974 : BitVec 32 := 11#32
  let v17872 : BitVec 32 := Scalar.addi v17695 c11_i32_6974
  let v17873 : BitVec 1 := Scalar.cmpi .slt v17872 v17698
  let c65535_i32_6975 : BitVec 32 := 65535#32
  let v17876 : BitVec 32 := Scalar.andi v17875 c65535_i32_6975
  let c2048_i32_6976 : BitVec 32 := 2048#32
  let v17877 : BitVec 32 := Scalar.select v17873 v17876 c2048_i32_6976
  let v17878 : BitVec 32 := Scalar.addi v11087 v17877
  let v17881 : Index := Scalar.indexCast v17878
  let c0_6978 : Index := 0#32
  ![v17881.toNat, 0]

def k0_chk455 (i : grid0.Coords) (k0_t1 : Fin k0_t1_loop.trips) (v17695 : BitVec 32) (v17698 : BitVec 32) (v17875 : BitVec 32) : Prop :=
  (∀ (k0_h1 : k0_cond1 i = 1#1), ∀ a, (k0_off911 k0_t1 v17695 v17698 v17875) a + S1x128.size a ≤ S8224x128.size a)
theorem k0_off911_inb : ∀ (i : grid0.Coords) (k0_t1 : Fin k0_t1_loop.trips) (v17695 : BitVec 32) (v17698 : BitVec 32) (v17875 : BitVec 32) (k0_hw455 : k0_chk455 i k0_t1 v17695 v17698 v17875), ∀ (k0_h1 : k0_cond1 i = 1#1), ∀ a, (k0_off911 k0_t1 v17695 v17698 v17875) a + S1x128.size a ≤ S8224x128.size a := fun i k0_t1 v17695 v17698 v17875 k0_hw455 k0_h1 => k0_hw455 k0_h1

def k0_off912 (v17695 : BitVec 32) : Fin 1 → Nat :=
  let c12_i32_6979 : BitVec 32 := 12#32
  let v17886 : BitVec 32 := Scalar.addi v17695 c12_i32_6979
  let v17889 : Index := Scalar.indexCast v17886
  ![v17889.toNat]
def k0_off913 (k0_t1 : Fin k0_t1_loop.trips) (v17695 : BitVec 32) (v17698 : BitVec 32) (v17890 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_6980 : BitVec 32 := 12#32
  let v17887 : BitVec 32 := Scalar.addi v17695 c12_i32_6980
  let v17888 : BitVec 1 := Scalar.cmpi .slt v17887 v17698
  let c65535_i32_6981 : BitVec 32 := 65535#32
  let v17891 : BitVec 32 := Scalar.andi v17890 c65535_i32_6981
  let c2048_i32_6982 : BitVec 32 := 2048#32
  let v17892 : BitVec 32 := Scalar.select v17888 v17891 c2048_i32_6982
  let v17893 : BitVec 32 := Scalar.addi v11087 v17892
  let v17896 : Index := Scalar.indexCast v17893
  let c0_6984 : Index := 0#32
  ![v17896.toNat, 0]

def k0_chk456 (i : grid0.Coords) (k0_t1 : Fin k0_t1_loop.trips) (v17695 : BitVec 32) (v17698 : BitVec 32) (v17890 : BitVec 32) : Prop :=
  (∀ (k0_h1 : k0_cond1 i = 1#1), ∀ a, (k0_off913 k0_t1 v17695 v17698 v17890) a + S1x128.size a ≤ S8224x128.size a)
theorem k0_off913_inb : ∀ (i : grid0.Coords) (k0_t1 : Fin k0_t1_loop.trips) (v17695 : BitVec 32) (v17698 : BitVec 32) (v17890 : BitVec 32) (k0_hw456 : k0_chk456 i k0_t1 v17695 v17698 v17890), ∀ (k0_h1 : k0_cond1 i = 1#1), ∀ a, (k0_off913 k0_t1 v17695 v17698 v17890) a + S1x128.size a ≤ S8224x128.size a := fun i k0_t1 v17695 v17698 v17890 k0_hw456 k0_h1 => k0_hw456 k0_h1

def k0_off914 (v17695 : BitVec 32) : Fin 1 → Nat :=
  let c13_i32_6985 : BitVec 32 := 13#32
  let v17901 : BitVec 32 := Scalar.addi v17695 c13_i32_6985
  let v17904 : Index := Scalar.indexCast v17901
  ![v17904.toNat]
def k0_off915 (k0_t1 : Fin k0_t1_loop.trips) (v17695 : BitVec 32) (v17698 : BitVec 32) (v17905 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_6986 : BitVec 32 := 13#32
  let v17902 : BitVec 32 := Scalar.addi v17695 c13_i32_6986
  let v17903 : BitVec 1 := Scalar.cmpi .slt v17902 v17698
  let c65535_i32_6987 : BitVec 32 := 65535#32
  let v17906 : BitVec 32 := Scalar.andi v17905 c65535_i32_6987
  let c2048_i32_6988 : BitVec 32 := 2048#32
  let v17907 : BitVec 32 := Scalar.select v17903 v17906 c2048_i32_6988
  let v17908 : BitVec 32 := Scalar.addi v11087 v17907
  let v17911 : Index := Scalar.indexCast v17908
  let c0_6990 : Index := 0#32
  ![v17911.toNat, 0]

def k0_chk457 (i : grid0.Coords) (k0_t1 : Fin k0_t1_loop.trips) (v17695 : BitVec 32) (v17698 : BitVec 32) (v17905 : BitVec 32) : Prop :=
  (∀ (k0_h1 : k0_cond1 i = 1#1), ∀ a, (k0_off915 k0_t1 v17695 v17698 v17905) a + S1x128.size a ≤ S8224x128.size a)
theorem k0_off915_inb : ∀ (i : grid0.Coords) (k0_t1 : Fin k0_t1_loop.trips) (v17695 : BitVec 32) (v17698 : BitVec 32) (v17905 : BitVec 32) (k0_hw457 : k0_chk457 i k0_t1 v17695 v17698 v17905), ∀ (k0_h1 : k0_cond1 i = 1#1), ∀ a, (k0_off915 k0_t1 v17695 v17698 v17905) a + S1x128.size a ≤ S8224x128.size a := fun i k0_t1 v17695 v17698 v17905 k0_hw457 k0_h1 => k0_hw457 k0_h1

def k0_off916 (v17695 : BitVec 32) : Fin 1 → Nat :=
  let c14_i32_6991 : BitVec 32 := 14#32
  let v17916 : BitVec 32 := Scalar.addi v17695 c14_i32_6991
  let v17919 : Index := Scalar.indexCast v17916
  ![v17919.toNat]
def k0_off917 (k0_t1 : Fin k0_t1_loop.trips) (v17695 : BitVec 32) (v17698 : BitVec 32) (v17920 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_6992 : BitVec 32 := 14#32
  let v17917 : BitVec 32 := Scalar.addi v17695 c14_i32_6992
  let v17918 : BitVec 1 := Scalar.cmpi .slt v17917 v17698
  let c65535_i32_6993 : BitVec 32 := 65535#32
  let v17921 : BitVec 32 := Scalar.andi v17920 c65535_i32_6993
  let c2048_i32_6994 : BitVec 32 := 2048#32
  let v17922 : BitVec 32 := Scalar.select v17918 v17921 c2048_i32_6994
  let v17923 : BitVec 32 := Scalar.addi v11087 v17922
  let v17926 : Index := Scalar.indexCast v17923
  let c0_6996 : Index := 0#32
  ![v17926.toNat, 0]

def k0_chk458 (i : grid0.Coords) (k0_t1 : Fin k0_t1_loop.trips) (v17695 : BitVec 32) (v17698 : BitVec 32) (v17920 : BitVec 32) : Prop :=
  (∀ (k0_h1 : k0_cond1 i = 1#1), ∀ a, (k0_off917 k0_t1 v17695 v17698 v17920) a + S1x128.size a ≤ S8224x128.size a)
theorem k0_off917_inb : ∀ (i : grid0.Coords) (k0_t1 : Fin k0_t1_loop.trips) (v17695 : BitVec 32) (v17698 : BitVec 32) (v17920 : BitVec 32) (k0_hw458 : k0_chk458 i k0_t1 v17695 v17698 v17920), ∀ (k0_h1 : k0_cond1 i = 1#1), ∀ a, (k0_off917 k0_t1 v17695 v17698 v17920) a + S1x128.size a ≤ S8224x128.size a := fun i k0_t1 v17695 v17698 v17920 k0_hw458 k0_h1 => k0_hw458 k0_h1

def k0_off918 (v17695 : BitVec 32) : Fin 1 → Nat :=
  let c15_i32_6997 : BitVec 32 := 15#32
  let v17931 : BitVec 32 := Scalar.addi v17695 c15_i32_6997
  let v17934 : Index := Scalar.indexCast v17931
  ![v17934.toNat]

def k0_chk443 (i : grid0.Coords) (v17695 : BitVec 32) : Prop :=
  (∀ (k0_h1 : k0_cond1 i = 1#1), ∀ a, (k0_off888 v17695) a + S1.size a ≤ S51920.size a) ∧
  (∀ (k0_h1 : k0_cond1 i = 1#1), ∀ a, (k0_off890 v17695) a + S1.size a ≤ S51920.size a) ∧
  (∀ (k0_h1 : k0_cond1 i = 1#1), ∀ a, (k0_off892 v17695) a + S1.size a ≤ S51920.size a) ∧
  (∀ (k0_h1 : k0_cond1 i = 1#1), ∀ a, (k0_off894 v17695) a + S1.size a ≤ S51920.size a) ∧
  (∀ (k0_h1 : k0_cond1 i = 1#1), ∀ a, (k0_off896 v17695) a + S1.size a ≤ S51920.size a) ∧
  (∀ (k0_h1 : k0_cond1 i = 1#1), ∀ a, (k0_off898 v17695) a + S1.size a ≤ S51920.size a) ∧
  (∀ (k0_h1 : k0_cond1 i = 1#1), ∀ a, (k0_off900 v17695) a + S1.size a ≤ S51920.size a) ∧
  (∀ (k0_h1 : k0_cond1 i = 1#1), ∀ a, (k0_off902 v17695) a + S1.size a ≤ S51920.size a) ∧
  (∀ (k0_h1 : k0_cond1 i = 1#1), ∀ a, (k0_off904 v17695) a + S1.size a ≤ S51920.size a) ∧
  (∀ (k0_h1 : k0_cond1 i = 1#1), ∀ a, (k0_off906 v17695) a + S1.size a ≤ S51920.size a) ∧
  (∀ (k0_h1 : k0_cond1 i = 1#1), ∀ a, (k0_off908 v17695) a + S1.size a ≤ S51920.size a) ∧
  (∀ (k0_h1 : k0_cond1 i = 1#1), ∀ a, (k0_off910 v17695) a + S1.size a ≤ S51920.size a) ∧
  (∀ (k0_h1 : k0_cond1 i = 1#1), ∀ a, (k0_off912 v17695) a + S1.size a ≤ S51920.size a) ∧
  (∀ (k0_h1 : k0_cond1 i = 1#1), ∀ a, (k0_off914 v17695) a + S1.size a ≤ S51920.size a) ∧
  (∀ (k0_h1 : k0_cond1 i = 1#1), ∀ a, (k0_off916 v17695) a + S1.size a ≤ S51920.size a) ∧
  (∀ (k0_h1 : k0_cond1 i = 1#1), ∀ a, (k0_off918 v17695) a + S1.size a ≤ S51920.size a)
theorem k0_off888_inb : ∀ (i : grid0.Coords) (v17695 : BitVec 32) (k0_hw443 : k0_chk443 i v17695), ∀ (k0_h1 : k0_cond1 i = 1#1), ∀ a, (k0_off888 v17695) a + S1.size a ≤ S51920.size a := fun i v17695 k0_hw443 k0_h1 => k0_hw443.1 k0_h1
theorem k0_off890_inb : ∀ (i : grid0.Coords) (v17695 : BitVec 32) (k0_hw443 : k0_chk443 i v17695), ∀ (k0_h1 : k0_cond1 i = 1#1), ∀ a, (k0_off890 v17695) a + S1.size a ≤ S51920.size a := fun i v17695 k0_hw443 k0_h1 => k0_hw443.2.1 k0_h1
theorem k0_off892_inb : ∀ (i : grid0.Coords) (v17695 : BitVec 32) (k0_hw443 : k0_chk443 i v17695), ∀ (k0_h1 : k0_cond1 i = 1#1), ∀ a, (k0_off892 v17695) a + S1.size a ≤ S51920.size a := fun i v17695 k0_hw443 k0_h1 => k0_hw443.2.2.1 k0_h1
theorem k0_off894_inb : ∀ (i : grid0.Coords) (v17695 : BitVec 32) (k0_hw443 : k0_chk443 i v17695), ∀ (k0_h1 : k0_cond1 i = 1#1), ∀ a, (k0_off894 v17695) a + S1.size a ≤ S51920.size a := fun i v17695 k0_hw443 k0_h1 => k0_hw443.2.2.2.1 k0_h1
theorem k0_off896_inb : ∀ (i : grid0.Coords) (v17695 : BitVec 32) (k0_hw443 : k0_chk443 i v17695), ∀ (k0_h1 : k0_cond1 i = 1#1), ∀ a, (k0_off896 v17695) a + S1.size a ≤ S51920.size a := fun i v17695 k0_hw443 k0_h1 => k0_hw443.2.2.2.2.1 k0_h1
theorem k0_off898_inb : ∀ (i : grid0.Coords) (v17695 : BitVec 32) (k0_hw443 : k0_chk443 i v17695), ∀ (k0_h1 : k0_cond1 i = 1#1), ∀ a, (k0_off898 v17695) a + S1.size a ≤ S51920.size a := fun i v17695 k0_hw443 k0_h1 => k0_hw443.2.2.2.2.2.1 k0_h1
theorem k0_off900_inb : ∀ (i : grid0.Coords) (v17695 : BitVec 32) (k0_hw443 : k0_chk443 i v17695), ∀ (k0_h1 : k0_cond1 i = 1#1), ∀ a, (k0_off900 v17695) a + S1.size a ≤ S51920.size a := fun i v17695 k0_hw443 k0_h1 => k0_hw443.2.2.2.2.2.2.1 k0_h1
theorem k0_off902_inb : ∀ (i : grid0.Coords) (v17695 : BitVec 32) (k0_hw443 : k0_chk443 i v17695), ∀ (k0_h1 : k0_cond1 i = 1#1), ∀ a, (k0_off902 v17695) a + S1.size a ≤ S51920.size a := fun i v17695 k0_hw443 k0_h1 => k0_hw443.2.2.2.2.2.2.2.1 k0_h1
theorem k0_off904_inb : ∀ (i : grid0.Coords) (v17695 : BitVec 32) (k0_hw443 : k0_chk443 i v17695), ∀ (k0_h1 : k0_cond1 i = 1#1), ∀ a, (k0_off904 v17695) a + S1.size a ≤ S51920.size a := fun i v17695 k0_hw443 k0_h1 => k0_hw443.2.2.2.2.2.2.2.2.1 k0_h1
theorem k0_off906_inb : ∀ (i : grid0.Coords) (v17695 : BitVec 32) (k0_hw443 : k0_chk443 i v17695), ∀ (k0_h1 : k0_cond1 i = 1#1), ∀ a, (k0_off906 v17695) a + S1.size a ≤ S51920.size a := fun i v17695 k0_hw443 k0_h1 => k0_hw443.2.2.2.2.2.2.2.2.2.1 k0_h1
theorem k0_off908_inb : ∀ (i : grid0.Coords) (v17695 : BitVec 32) (k0_hw443 : k0_chk443 i v17695), ∀ (k0_h1 : k0_cond1 i = 1#1), ∀ a, (k0_off908 v17695) a + S1.size a ≤ S51920.size a := fun i v17695 k0_hw443 k0_h1 => k0_hw443.2.2.2.2.2.2.2.2.2.2.1 k0_h1
theorem k0_off910_inb : ∀ (i : grid0.Coords) (v17695 : BitVec 32) (k0_hw443 : k0_chk443 i v17695), ∀ (k0_h1 : k0_cond1 i = 1#1), ∀ a, (k0_off910 v17695) a + S1.size a ≤ S51920.size a := fun i v17695 k0_hw443 k0_h1 => k0_hw443.2.2.2.2.2.2.2.2.2.2.2.1 k0_h1
theorem k0_off912_inb : ∀ (i : grid0.Coords) (v17695 : BitVec 32) (k0_hw443 : k0_chk443 i v17695), ∀ (k0_h1 : k0_cond1 i = 1#1), ∀ a, (k0_off912 v17695) a + S1.size a ≤ S51920.size a := fun i v17695 k0_hw443 k0_h1 => k0_hw443.2.2.2.2.2.2.2.2.2.2.2.2.1 k0_h1
theorem k0_off914_inb : ∀ (i : grid0.Coords) (v17695 : BitVec 32) (k0_hw443 : k0_chk443 i v17695), ∀ (k0_h1 : k0_cond1 i = 1#1), ∀ a, (k0_off914 v17695) a + S1.size a ≤ S51920.size a := fun i v17695 k0_hw443 k0_h1 => k0_hw443.2.2.2.2.2.2.2.2.2.2.2.2.2.1 k0_h1
theorem k0_off916_inb : ∀ (i : grid0.Coords) (v17695 : BitVec 32) (k0_hw443 : k0_chk443 i v17695), ∀ (k0_h1 : k0_cond1 i = 1#1), ∀ a, (k0_off916 v17695) a + S1.size a ≤ S51920.size a := fun i v17695 k0_hw443 k0_h1 => k0_hw443.2.2.2.2.2.2.2.2.2.2.2.2.2.2.1 k0_h1
theorem k0_off918_inb : ∀ (i : grid0.Coords) (v17695 : BitVec 32) (k0_hw443 : k0_chk443 i v17695), ∀ (k0_h1 : k0_cond1 i = 1#1), ∀ a, (k0_off918 v17695) a + S1.size a ≤ S51920.size a := fun i v17695 k0_hw443 k0_h1 => k0_hw443.2.2.2.2.2.2.2.2.2.2.2.2.2.2.2 k0_h1

def k0_off919 (k0_t1 : Fin k0_t1_loop.trips) (v17695 : BitVec 32) (v17698 : BitVec 32) (v17935 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_6998 : BitVec 32 := 15#32
  let v17932 : BitVec 32 := Scalar.addi v17695 c15_i32_6998
  let v17933 : BitVec 1 := Scalar.cmpi .slt v17932 v17698
  let c65535_i32_6999 : BitVec 32 := 65535#32
  let v17936 : BitVec 32 := Scalar.andi v17935 c65535_i32_6999
  let c2048_i32_7000 : BitVec 32 := 2048#32
  let v17937 : BitVec 32 := Scalar.select v17933 v17936 c2048_i32_7000
  let v17938 : BitVec 32 := Scalar.addi v11087 v17937
  let v17941 : Index := Scalar.indexCast v17938
  let c0_7002 : Index := 0#32
  ![v17941.toNat, 0]

def k0_chk459 (i : grid0.Coords) (k0_t1 : Fin k0_t1_loop.trips) (v17695 : BitVec 32) (v17698 : BitVec 32) (v17935 : BitVec 32) : Prop :=
  (∀ (k0_h1 : k0_cond1 i = 1#1), ∀ a, (k0_off919 k0_t1 v17695 v17698 v17935) a + S1x128.size a ≤ S8224x128.size a)
theorem k0_off919_inb : ∀ (i : grid0.Coords) (k0_t1 : Fin k0_t1_loop.trips) (v17695 : BitVec 32) (v17698 : BitVec 32) (v17935 : BitVec 32) (k0_hw459 : k0_chk459 i k0_t1 v17695 v17698 v17935), ∀ (k0_h1 : k0_cond1 i = 1#1), ∀ a, (k0_off919 k0_t1 v17695 v17698 v17935) a + S1x128.size a ≤ S8224x128.size a := fun i k0_t1 v17695 v17698 v17935 k0_hw459 k0_h1 => k0_hw459 k0_h1

def k0_off920 (k0_t1 : Fin k0_t1_loop.trips) : Fin 1 → Nat :=
  let c0_i32_7003 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v17946 : BitVec 32 := Scalar.addi c0_i32_7003 v11069
  let c27_i32_7004 : BitVec 32 := 27#32
  let v17947 : BitVec 32 := Scalar.addi v17946 c27_i32_7004
  let v17948 : Index := Scalar.indexCast v17947
  ![v17948.toNat]
def k0_off921 (k0_t1 : Fin k0_t1_loop.trips) : Fin 1 → Nat :=
  let c0_i32_7003 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v17946 : BitVec 32 := Scalar.addi c0_i32_7003 v11069
  let c27_i32_7004 : BitVec 32 := 27#32
  let v17947 : BitVec 32 := Scalar.addi v17946 c27_i32_7004
  let c1_i32_7005 : BitVec 32 := 1#32
  let v17950 : BitVec 32 := Scalar.addi v17947 c1_i32_7005
  let v17951 : Index := Scalar.indexCast v17950
  ![v17951.toNat]
def k0_off922 (v17949 : BitVec 32) : Fin 1 → Nat :=
  let c0_i32_7008 : BitVec 32 := 0#32
  let v17960 : BitVec 32 := Scalar.addi v17949 c0_i32_7008
  let v17963 : Index := Scalar.indexCast v17960
  ![v17963.toNat]

variable {F : FTy → Type} [FloatOps F]

def k0_off923 (k0_t1 : Fin k0_t1_loop.trips) (v17949 : BitVec 32) (v17952 : BitVec 32) (v17964 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_7009 : BitVec 32 := 0#32
  let v17961 : BitVec 32 := Scalar.addi v17949 c0_i32_7009
  let v17962 : BitVec 1 := Scalar.cmpi .slt v17961 v17952
  let c65535_i32_7010 : BitVec 32 := 65535#32
  let v17965 : BitVec 32 := Scalar.andi v17964 c65535_i32_7010
  let c2048_i32_7011 : BitVec 32 := 2048#32
  let v17966 : BitVec 32 := Scalar.select v17962 v17965 c2048_i32_7011
  let v17967 : BitVec 32 := Scalar.addi v11087 v17966
  let v17970 : Index := Scalar.indexCast v17967
  let c0_7013 : Index := 0#32
  ![v17970.toNat, 0]

def k0_chk461 (i : grid0.Coords) (k0_t1 : Fin k0_t1_loop.trips) (v17949 : BitVec 32) (v17952 : BitVec 32) (v17964 : BitVec 32) : Prop :=
  (∀ (k0_h1 : k0_cond1 i = 1#1), ∀ a, (k0_off923 k0_t1 v17949 v17952 v17964) a + S1x128.size a ≤ S8224x128.size a)
theorem k0_off923_inb : ∀ (i : grid0.Coords) (k0_t1 : Fin k0_t1_loop.trips) (v17949 : BitVec 32) (v17952 : BitVec 32) (v17964 : BitVec 32) (k0_hw461 : k0_chk461 i k0_t1 v17949 v17952 v17964), ∀ (k0_h1 : k0_cond1 i = 1#1), ∀ a, (k0_off923 k0_t1 v17949 v17952 v17964) a + S1x128.size a ≤ S8224x128.size a := fun i k0_t1 v17949 v17952 v17964 k0_hw461 k0_h1 => k0_hw461 k0_h1

def k0_off924 (v17949 : BitVec 32) : Fin 1 → Nat :=
  let c1_i32_7014 : BitVec 32 := 1#32
  let v17975 : BitVec 32 := Scalar.addi v17949 c1_i32_7014
  let v17978 : Index := Scalar.indexCast v17975
  ![v17978.toNat]
def k0_off925 (k0_t1 : Fin k0_t1_loop.trips) (v17949 : BitVec 32) (v17952 : BitVec 32) (v17979 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_7015 : BitVec 32 := 1#32
  let v17976 : BitVec 32 := Scalar.addi v17949 c1_i32_7015
  let v17977 : BitVec 1 := Scalar.cmpi .slt v17976 v17952
  let c65535_i32_7016 : BitVec 32 := 65535#32
  let v17980 : BitVec 32 := Scalar.andi v17979 c65535_i32_7016
  let c2048_i32_7017 : BitVec 32 := 2048#32
  let v17981 : BitVec 32 := Scalar.select v17977 v17980 c2048_i32_7017
  let v17982 : BitVec 32 := Scalar.addi v11087 v17981
  let v17985 : Index := Scalar.indexCast v17982
  let c0_7019 : Index := 0#32
  ![v17985.toNat, 0]

def k0_chk462 (i : grid0.Coords) (k0_t1 : Fin k0_t1_loop.trips) (v17949 : BitVec 32) (v17952 : BitVec 32) (v17979 : BitVec 32) : Prop :=
  (∀ (k0_h1 : k0_cond1 i = 1#1), ∀ a, (k0_off925 k0_t1 v17949 v17952 v17979) a + S1x128.size a ≤ S8224x128.size a)
theorem k0_off925_inb : ∀ (i : grid0.Coords) (k0_t1 : Fin k0_t1_loop.trips) (v17949 : BitVec 32) (v17952 : BitVec 32) (v17979 : BitVec 32) (k0_hw462 : k0_chk462 i k0_t1 v17949 v17952 v17979), ∀ (k0_h1 : k0_cond1 i = 1#1), ∀ a, (k0_off925 k0_t1 v17949 v17952 v17979) a + S1x128.size a ≤ S8224x128.size a := fun i k0_t1 v17949 v17952 v17979 k0_hw462 k0_h1 => k0_hw462 k0_h1

def k0_off926 (v17949 : BitVec 32) : Fin 1 → Nat :=
  let c2_i32_7020 : BitVec 32 := 2#32
  let v17990 : BitVec 32 := Scalar.addi v17949 c2_i32_7020
  let v17993 : Index := Scalar.indexCast v17990
  ![v17993.toNat]
def k0_off927 (k0_t1 : Fin k0_t1_loop.trips) (v17949 : BitVec 32) (v17952 : BitVec 32) (v17994 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_7021 : BitVec 32 := 2#32
  let v17991 : BitVec 32 := Scalar.addi v17949 c2_i32_7021
  let v17992 : BitVec 1 := Scalar.cmpi .slt v17991 v17952
  let c65535_i32_7022 : BitVec 32 := 65535#32
  let v17995 : BitVec 32 := Scalar.andi v17994 c65535_i32_7022
  let c2048_i32_7023 : BitVec 32 := 2048#32
  let v17996 : BitVec 32 := Scalar.select v17992 v17995 c2048_i32_7023
  let v17997 : BitVec 32 := Scalar.addi v11087 v17996
  let v18000 : Index := Scalar.indexCast v17997
  let c0_7025 : Index := 0#32
  ![v18000.toNat, 0]

def k0_chk463 (i : grid0.Coords) (k0_t1 : Fin k0_t1_loop.trips) (v17949 : BitVec 32) (v17952 : BitVec 32) (v17994 : BitVec 32) : Prop :=
  (∀ (k0_h1 : k0_cond1 i = 1#1), ∀ a, (k0_off927 k0_t1 v17949 v17952 v17994) a + S1x128.size a ≤ S8224x128.size a)
theorem k0_off927_inb : ∀ (i : grid0.Coords) (k0_t1 : Fin k0_t1_loop.trips) (v17949 : BitVec 32) (v17952 : BitVec 32) (v17994 : BitVec 32) (k0_hw463 : k0_chk463 i k0_t1 v17949 v17952 v17994), ∀ (k0_h1 : k0_cond1 i = 1#1), ∀ a, (k0_off927 k0_t1 v17949 v17952 v17994) a + S1x128.size a ≤ S8224x128.size a := fun i k0_t1 v17949 v17952 v17994 k0_hw463 k0_h1 => k0_hw463 k0_h1

def k0_off928 (v17949 : BitVec 32) : Fin 1 → Nat :=
  let c3_i32_7026 : BitVec 32 := 3#32
  let v18005 : BitVec 32 := Scalar.addi v17949 c3_i32_7026
  let v18008 : Index := Scalar.indexCast v18005
  ![v18008.toNat]
def k0_off929 (k0_t1 : Fin k0_t1_loop.trips) (v17949 : BitVec 32) (v17952 : BitVec 32) (v18009 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_7027 : BitVec 32 := 3#32
  let v18006 : BitVec 32 := Scalar.addi v17949 c3_i32_7027
  let v18007 : BitVec 1 := Scalar.cmpi .slt v18006 v17952
  let c65535_i32_7028 : BitVec 32 := 65535#32
  let v18010 : BitVec 32 := Scalar.andi v18009 c65535_i32_7028
  let c2048_i32_7029 : BitVec 32 := 2048#32
  let v18011 : BitVec 32 := Scalar.select v18007 v18010 c2048_i32_7029
  let v18012 : BitVec 32 := Scalar.addi v11087 v18011
  let v18015 : Index := Scalar.indexCast v18012
  let c0_7031 : Index := 0#32
  ![v18015.toNat, 0]

def k0_chk464 (i : grid0.Coords) (k0_t1 : Fin k0_t1_loop.trips) (v17949 : BitVec 32) (v17952 : BitVec 32) (v18009 : BitVec 32) : Prop :=
  (∀ (k0_h1 : k0_cond1 i = 1#1), ∀ a, (k0_off929 k0_t1 v17949 v17952 v18009) a + S1x128.size a ≤ S8224x128.size a)
theorem k0_off929_inb : ∀ (i : grid0.Coords) (k0_t1 : Fin k0_t1_loop.trips) (v17949 : BitVec 32) (v17952 : BitVec 32) (v18009 : BitVec 32) (k0_hw464 : k0_chk464 i k0_t1 v17949 v17952 v18009), ∀ (k0_h1 : k0_cond1 i = 1#1), ∀ a, (k0_off929 k0_t1 v17949 v17952 v18009) a + S1x128.size a ≤ S8224x128.size a := fun i k0_t1 v17949 v17952 v18009 k0_hw464 k0_h1 => k0_hw464 k0_h1

def k0_off930 (v17949 : BitVec 32) : Fin 1 → Nat :=
  let c4_i32_7032 : BitVec 32 := 4#32
  let v18020 : BitVec 32 := Scalar.addi v17949 c4_i32_7032
  let v18023 : Index := Scalar.indexCast v18020
  ![v18023.toNat]
def k0_off931 (k0_t1 : Fin k0_t1_loop.trips) (v17949 : BitVec 32) (v17952 : BitVec 32) (v18024 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_7033 : BitVec 32 := 4#32
  let v18021 : BitVec 32 := Scalar.addi v17949 c4_i32_7033
  let v18022 : BitVec 1 := Scalar.cmpi .slt v18021 v17952
  let c65535_i32_7034 : BitVec 32 := 65535#32
  let v18025 : BitVec 32 := Scalar.andi v18024 c65535_i32_7034
  let c2048_i32_7035 : BitVec 32 := 2048#32
  let v18026 : BitVec 32 := Scalar.select v18022 v18025 c2048_i32_7035
  let v18027 : BitVec 32 := Scalar.addi v11087 v18026
  let v18030 : Index := Scalar.indexCast v18027
  let c0_7037 : Index := 0#32
  ![v18030.toNat, 0]

def k0_chk465 (i : grid0.Coords) (k0_t1 : Fin k0_t1_loop.trips) (v17949 : BitVec 32) (v17952 : BitVec 32) (v18024 : BitVec 32) : Prop :=
  (∀ (k0_h1 : k0_cond1 i = 1#1), ∀ a, (k0_off931 k0_t1 v17949 v17952 v18024) a + S1x128.size a ≤ S8224x128.size a)
theorem k0_off931_inb : ∀ (i : grid0.Coords) (k0_t1 : Fin k0_t1_loop.trips) (v17949 : BitVec 32) (v17952 : BitVec 32) (v18024 : BitVec 32) (k0_hw465 : k0_chk465 i k0_t1 v17949 v17952 v18024), ∀ (k0_h1 : k0_cond1 i = 1#1), ∀ a, (k0_off931 k0_t1 v17949 v17952 v18024) a + S1x128.size a ≤ S8224x128.size a := fun i k0_t1 v17949 v17952 v18024 k0_hw465 k0_h1 => k0_hw465 k0_h1

def k0_off932 (v17949 : BitVec 32) : Fin 1 → Nat :=
  let c5_i32_7038 : BitVec 32 := 5#32
  let v18035 : BitVec 32 := Scalar.addi v17949 c5_i32_7038
  let v18038 : Index := Scalar.indexCast v18035
  ![v18038.toNat]
def k0_off933 (k0_t1 : Fin k0_t1_loop.trips) (v17949 : BitVec 32) (v17952 : BitVec 32) (v18039 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_7039 : BitVec 32 := 5#32
  let v18036 : BitVec 32 := Scalar.addi v17949 c5_i32_7039
  let v18037 : BitVec 1 := Scalar.cmpi .slt v18036 v17952
  let c65535_i32_7040 : BitVec 32 := 65535#32
  let v18040 : BitVec 32 := Scalar.andi v18039 c65535_i32_7040
  let c2048_i32_7041 : BitVec 32 := 2048#32
  let v18041 : BitVec 32 := Scalar.select v18037 v18040 c2048_i32_7041
  let v18042 : BitVec 32 := Scalar.addi v11087 v18041
  let v18045 : Index := Scalar.indexCast v18042
  let c0_7043 : Index := 0#32
  ![v18045.toNat, 0]

def k0_chk466 (i : grid0.Coords) (k0_t1 : Fin k0_t1_loop.trips) (v17949 : BitVec 32) (v17952 : BitVec 32) (v18039 : BitVec 32) : Prop :=
  (∀ (k0_h1 : k0_cond1 i = 1#1), ∀ a, (k0_off933 k0_t1 v17949 v17952 v18039) a + S1x128.size a ≤ S8224x128.size a)
theorem k0_off933_inb : ∀ (i : grid0.Coords) (k0_t1 : Fin k0_t1_loop.trips) (v17949 : BitVec 32) (v17952 : BitVec 32) (v18039 : BitVec 32) (k0_hw466 : k0_chk466 i k0_t1 v17949 v17952 v18039), ∀ (k0_h1 : k0_cond1 i = 1#1), ∀ a, (k0_off933 k0_t1 v17949 v17952 v18039) a + S1x128.size a ≤ S8224x128.size a := fun i k0_t1 v17949 v17952 v18039 k0_hw466 k0_h1 => k0_hw466 k0_h1

def k0_off934 (v17949 : BitVec 32) : Fin 1 → Nat :=
  let c6_i32_7044 : BitVec 32 := 6#32
  let v18050 : BitVec 32 := Scalar.addi v17949 c6_i32_7044
  let v18053 : Index := Scalar.indexCast v18050
  ![v18053.toNat]
def k0_off935 (k0_t1 : Fin k0_t1_loop.trips) (v17949 : BitVec 32) (v17952 : BitVec 32) (v18054 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_7045 : BitVec 32 := 6#32
  let v18051 : BitVec 32 := Scalar.addi v17949 c6_i32_7045
  let v18052 : BitVec 1 := Scalar.cmpi .slt v18051 v17952
  let c65535_i32_7046 : BitVec 32 := 65535#32
  let v18055 : BitVec 32 := Scalar.andi v18054 c65535_i32_7046
  let c2048_i32_7047 : BitVec 32 := 2048#32
  let v18056 : BitVec 32 := Scalar.select v18052 v18055 c2048_i32_7047
  let v18057 : BitVec 32 := Scalar.addi v11087 v18056
  let v18060 : Index := Scalar.indexCast v18057
  let c0_7049 : Index := 0#32
  ![v18060.toNat, 0]

def k0_chk467 (i : grid0.Coords) (k0_t1 : Fin k0_t1_loop.trips) (v17949 : BitVec 32) (v17952 : BitVec 32) (v18054 : BitVec 32) : Prop :=
  (∀ (k0_h1 : k0_cond1 i = 1#1), ∀ a, (k0_off935 k0_t1 v17949 v17952 v18054) a + S1x128.size a ≤ S8224x128.size a)
theorem k0_off935_inb : ∀ (i : grid0.Coords) (k0_t1 : Fin k0_t1_loop.trips) (v17949 : BitVec 32) (v17952 : BitVec 32) (v18054 : BitVec 32) (k0_hw467 : k0_chk467 i k0_t1 v17949 v17952 v18054), ∀ (k0_h1 : k0_cond1 i = 1#1), ∀ a, (k0_off935 k0_t1 v17949 v17952 v18054) a + S1x128.size a ≤ S8224x128.size a := fun i k0_t1 v17949 v17952 v18054 k0_hw467 k0_h1 => k0_hw467 k0_h1

def k0_off936 (v17949 : BitVec 32) : Fin 1 → Nat :=
  let c7_i32_7050 : BitVec 32 := 7#32
  let v18065 : BitVec 32 := Scalar.addi v17949 c7_i32_7050
  let v18068 : Index := Scalar.indexCast v18065
  ![v18068.toNat]
def k0_off937 (k0_t1 : Fin k0_t1_loop.trips) (v17949 : BitVec 32) (v17952 : BitVec 32) (v18069 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_7051 : BitVec 32 := 7#32
  let v18066 : BitVec 32 := Scalar.addi v17949 c7_i32_7051
  let v18067 : BitVec 1 := Scalar.cmpi .slt v18066 v17952
  let c65535_i32_7052 : BitVec 32 := 65535#32
  let v18070 : BitVec 32 := Scalar.andi v18069 c65535_i32_7052
  let c2048_i32_7053 : BitVec 32 := 2048#32
  let v18071 : BitVec 32 := Scalar.select v18067 v18070 c2048_i32_7053
  let v18072 : BitVec 32 := Scalar.addi v11087 v18071
  let v18075 : Index := Scalar.indexCast v18072
  let c0_7055 : Index := 0#32
  ![v18075.toNat, 0]

def k0_chk468 (i : grid0.Coords) (k0_t1 : Fin k0_t1_loop.trips) (v17949 : BitVec 32) (v17952 : BitVec 32) (v18069 : BitVec 32) : Prop :=
  (∀ (k0_h1 : k0_cond1 i = 1#1), ∀ a, (k0_off937 k0_t1 v17949 v17952 v18069) a + S1x128.size a ≤ S8224x128.size a)
theorem k0_off937_inb : ∀ (i : grid0.Coords) (k0_t1 : Fin k0_t1_loop.trips) (v17949 : BitVec 32) (v17952 : BitVec 32) (v18069 : BitVec 32) (k0_hw468 : k0_chk468 i k0_t1 v17949 v17952 v18069), ∀ (k0_h1 : k0_cond1 i = 1#1), ∀ a, (k0_off937 k0_t1 v17949 v17952 v18069) a + S1x128.size a ≤ S8224x128.size a := fun i k0_t1 v17949 v17952 v18069 k0_hw468 k0_h1 => k0_hw468 k0_h1

def k0_off938 (v17949 : BitVec 32) : Fin 1 → Nat :=
  let c8_i32_7056 : BitVec 32 := 8#32
  let v18080 : BitVec 32 := Scalar.addi v17949 c8_i32_7056
  let v18083 : Index := Scalar.indexCast v18080
  ![v18083.toNat]
def k0_off939 (k0_t1 : Fin k0_t1_loop.trips) (v17949 : BitVec 32) (v17952 : BitVec 32) (v18084 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_7057 : BitVec 32 := 8#32
  let v18081 : BitVec 32 := Scalar.addi v17949 c8_i32_7057
  let v18082 : BitVec 1 := Scalar.cmpi .slt v18081 v17952
  let c65535_i32_7058 : BitVec 32 := 65535#32
  let v18085 : BitVec 32 := Scalar.andi v18084 c65535_i32_7058
  let c2048_i32_7059 : BitVec 32 := 2048#32
  let v18086 : BitVec 32 := Scalar.select v18082 v18085 c2048_i32_7059
  let v18087 : BitVec 32 := Scalar.addi v11087 v18086
  let v18090 : Index := Scalar.indexCast v18087
  let c0_7061 : Index := 0#32
  ![v18090.toNat, 0]

def k0_chk469 (i : grid0.Coords) (k0_t1 : Fin k0_t1_loop.trips) (v17949 : BitVec 32) (v17952 : BitVec 32) (v18084 : BitVec 32) : Prop :=
  (∀ (k0_h1 : k0_cond1 i = 1#1), ∀ a, (k0_off939 k0_t1 v17949 v17952 v18084) a + S1x128.size a ≤ S8224x128.size a)
theorem k0_off939_inb : ∀ (i : grid0.Coords) (k0_t1 : Fin k0_t1_loop.trips) (v17949 : BitVec 32) (v17952 : BitVec 32) (v18084 : BitVec 32) (k0_hw469 : k0_chk469 i k0_t1 v17949 v17952 v18084), ∀ (k0_h1 : k0_cond1 i = 1#1), ∀ a, (k0_off939 k0_t1 v17949 v17952 v18084) a + S1x128.size a ≤ S8224x128.size a := fun i k0_t1 v17949 v17952 v18084 k0_hw469 k0_h1 => k0_hw469 k0_h1

def k0_off940 (v17949 : BitVec 32) : Fin 1 → Nat :=
  let c9_i32_7062 : BitVec 32 := 9#32
  let v18095 : BitVec 32 := Scalar.addi v17949 c9_i32_7062
  let v18098 : Index := Scalar.indexCast v18095
  ![v18098.toNat]
def k0_off941 (k0_t1 : Fin k0_t1_loop.trips) (v17949 : BitVec 32) (v17952 : BitVec 32) (v18099 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_7063 : BitVec 32 := 9#32
  let v18096 : BitVec 32 := Scalar.addi v17949 c9_i32_7063
  let v18097 : BitVec 1 := Scalar.cmpi .slt v18096 v17952
  let c65535_i32_7064 : BitVec 32 := 65535#32
  let v18100 : BitVec 32 := Scalar.andi v18099 c65535_i32_7064
  let c2048_i32_7065 : BitVec 32 := 2048#32
  let v18101 : BitVec 32 := Scalar.select v18097 v18100 c2048_i32_7065
  let v18102 : BitVec 32 := Scalar.addi v11087 v18101
  let v18105 : Index := Scalar.indexCast v18102
  let c0_7067 : Index := 0#32
  ![v18105.toNat, 0]

def k0_chk470 (i : grid0.Coords) (k0_t1 : Fin k0_t1_loop.trips) (v17949 : BitVec 32) (v17952 : BitVec 32) (v18099 : BitVec 32) : Prop :=
  (∀ (k0_h1 : k0_cond1 i = 1#1), ∀ a, (k0_off941 k0_t1 v17949 v17952 v18099) a + S1x128.size a ≤ S8224x128.size a)
theorem k0_off941_inb : ∀ (i : grid0.Coords) (k0_t1 : Fin k0_t1_loop.trips) (v17949 : BitVec 32) (v17952 : BitVec 32) (v18099 : BitVec 32) (k0_hw470 : k0_chk470 i k0_t1 v17949 v17952 v18099), ∀ (k0_h1 : k0_cond1 i = 1#1), ∀ a, (k0_off941 k0_t1 v17949 v17952 v18099) a + S1x128.size a ≤ S8224x128.size a := fun i k0_t1 v17949 v17952 v18099 k0_hw470 k0_h1 => k0_hw470 k0_h1

def k0_off942 (v17949 : BitVec 32) : Fin 1 → Nat :=
  let c10_i32_7068 : BitVec 32 := 10#32
  let v18110 : BitVec 32 := Scalar.addi v17949 c10_i32_7068
  let v18113 : Index := Scalar.indexCast v18110
  ![v18113.toNat]
def k0_off943 (k0_t1 : Fin k0_t1_loop.trips) (v17949 : BitVec 32) (v17952 : BitVec 32) (v18114 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_7069 : BitVec 32 := 10#32
  let v18111 : BitVec 32 := Scalar.addi v17949 c10_i32_7069
  let v18112 : BitVec 1 := Scalar.cmpi .slt v18111 v17952
  let c65535_i32_7070 : BitVec 32 := 65535#32
  let v18115 : BitVec 32 := Scalar.andi v18114 c65535_i32_7070
  let c2048_i32_7071 : BitVec 32 := 2048#32
  let v18116 : BitVec 32 := Scalar.select v18112 v18115 c2048_i32_7071
  let v18117 : BitVec 32 := Scalar.addi v11087 v18116
  let v18120 : Index := Scalar.indexCast v18117
  let c0_7073 : Index := 0#32
  ![v18120.toNat, 0]

def k0_chk471 (i : grid0.Coords) (k0_t1 : Fin k0_t1_loop.trips) (v17949 : BitVec 32) (v17952 : BitVec 32) (v18114 : BitVec 32) : Prop :=
  (∀ (k0_h1 : k0_cond1 i = 1#1), ∀ a, (k0_off943 k0_t1 v17949 v17952 v18114) a + S1x128.size a ≤ S8224x128.size a)
theorem k0_off943_inb : ∀ (i : grid0.Coords) (k0_t1 : Fin k0_t1_loop.trips) (v17949 : BitVec 32) (v17952 : BitVec 32) (v18114 : BitVec 32) (k0_hw471 : k0_chk471 i k0_t1 v17949 v17952 v18114), ∀ (k0_h1 : k0_cond1 i = 1#1), ∀ a, (k0_off943 k0_t1 v17949 v17952 v18114) a + S1x128.size a ≤ S8224x128.size a := fun i k0_t1 v17949 v17952 v18114 k0_hw471 k0_h1 => k0_hw471 k0_h1

def k0_off944 (v17949 : BitVec 32) : Fin 1 → Nat :=
  let c11_i32_7074 : BitVec 32 := 11#32
  let v18125 : BitVec 32 := Scalar.addi v17949 c11_i32_7074
  let v18128 : Index := Scalar.indexCast v18125
  ![v18128.toNat]
def k0_off945 (k0_t1 : Fin k0_t1_loop.trips) (v17949 : BitVec 32) (v17952 : BitVec 32) (v18129 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_7075 : BitVec 32 := 11#32
  let v18126 : BitVec 32 := Scalar.addi v17949 c11_i32_7075
  let v18127 : BitVec 1 := Scalar.cmpi .slt v18126 v17952
  let c65535_i32_7076 : BitVec 32 := 65535#32
  let v18130 : BitVec 32 := Scalar.andi v18129 c65535_i32_7076
  let c2048_i32_7077 : BitVec 32 := 2048#32
  let v18131 : BitVec 32 := Scalar.select v18127 v18130 c2048_i32_7077
  let v18132 : BitVec 32 := Scalar.addi v11087 v18131
  let v18135 : Index := Scalar.indexCast v18132
  let c0_7079 : Index := 0#32
  ![v18135.toNat, 0]

def k0_chk472 (i : grid0.Coords) (k0_t1 : Fin k0_t1_loop.trips) (v17949 : BitVec 32) (v17952 : BitVec 32) (v18129 : BitVec 32) : Prop :=
  (∀ (k0_h1 : k0_cond1 i = 1#1), ∀ a, (k0_off945 k0_t1 v17949 v17952 v18129) a + S1x128.size a ≤ S8224x128.size a)
theorem k0_off945_inb : ∀ (i : grid0.Coords) (k0_t1 : Fin k0_t1_loop.trips) (v17949 : BitVec 32) (v17952 : BitVec 32) (v18129 : BitVec 32) (k0_hw472 : k0_chk472 i k0_t1 v17949 v17952 v18129), ∀ (k0_h1 : k0_cond1 i = 1#1), ∀ a, (k0_off945 k0_t1 v17949 v17952 v18129) a + S1x128.size a ≤ S8224x128.size a := fun i k0_t1 v17949 v17952 v18129 k0_hw472 k0_h1 => k0_hw472 k0_h1

def k0_off946 (v17949 : BitVec 32) : Fin 1 → Nat :=
  let c12_i32_7080 : BitVec 32 := 12#32
  let v18140 : BitVec 32 := Scalar.addi v17949 c12_i32_7080
  let v18143 : Index := Scalar.indexCast v18140
  ![v18143.toNat]
def k0_off947 (k0_t1 : Fin k0_t1_loop.trips) (v17949 : BitVec 32) (v17952 : BitVec 32) (v18144 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_7081 : BitVec 32 := 12#32
  let v18141 : BitVec 32 := Scalar.addi v17949 c12_i32_7081
  let v18142 : BitVec 1 := Scalar.cmpi .slt v18141 v17952
  let c65535_i32_7082 : BitVec 32 := 65535#32
  let v18145 : BitVec 32 := Scalar.andi v18144 c65535_i32_7082
  let c2048_i32_7083 : BitVec 32 := 2048#32
  let v18146 : BitVec 32 := Scalar.select v18142 v18145 c2048_i32_7083
  let v18147 : BitVec 32 := Scalar.addi v11087 v18146
  let v18150 : Index := Scalar.indexCast v18147
  let c0_7085 : Index := 0#32
  ![v18150.toNat, 0]

def k0_chk473 (i : grid0.Coords) (k0_t1 : Fin k0_t1_loop.trips) (v17949 : BitVec 32) (v17952 : BitVec 32) (v18144 : BitVec 32) : Prop :=
  (∀ (k0_h1 : k0_cond1 i = 1#1), ∀ a, (k0_off947 k0_t1 v17949 v17952 v18144) a + S1x128.size a ≤ S8224x128.size a)
theorem k0_off947_inb : ∀ (i : grid0.Coords) (k0_t1 : Fin k0_t1_loop.trips) (v17949 : BitVec 32) (v17952 : BitVec 32) (v18144 : BitVec 32) (k0_hw473 : k0_chk473 i k0_t1 v17949 v17952 v18144), ∀ (k0_h1 : k0_cond1 i = 1#1), ∀ a, (k0_off947 k0_t1 v17949 v17952 v18144) a + S1x128.size a ≤ S8224x128.size a := fun i k0_t1 v17949 v17952 v18144 k0_hw473 k0_h1 => k0_hw473 k0_h1

def k0_off948 (v17949 : BitVec 32) : Fin 1 → Nat :=
  let c13_i32_7086 : BitVec 32 := 13#32
  let v18155 : BitVec 32 := Scalar.addi v17949 c13_i32_7086
  let v18158 : Index := Scalar.indexCast v18155
  ![v18158.toNat]
def k0_off949 (k0_t1 : Fin k0_t1_loop.trips) (v17949 : BitVec 32) (v17952 : BitVec 32) (v18159 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_7087 : BitVec 32 := 13#32
  let v18156 : BitVec 32 := Scalar.addi v17949 c13_i32_7087
  let v18157 : BitVec 1 := Scalar.cmpi .slt v18156 v17952
  let c65535_i32_7088 : BitVec 32 := 65535#32
  let v18160 : BitVec 32 := Scalar.andi v18159 c65535_i32_7088
  let c2048_i32_7089 : BitVec 32 := 2048#32
  let v18161 : BitVec 32 := Scalar.select v18157 v18160 c2048_i32_7089
  let v18162 : BitVec 32 := Scalar.addi v11087 v18161
  let v18165 : Index := Scalar.indexCast v18162
  let c0_7091 : Index := 0#32
  ![v18165.toNat, 0]

def k0_chk474 (i : grid0.Coords) (k0_t1 : Fin k0_t1_loop.trips) (v17949 : BitVec 32) (v17952 : BitVec 32) (v18159 : BitVec 32) : Prop :=
  (∀ (k0_h1 : k0_cond1 i = 1#1), ∀ a, (k0_off949 k0_t1 v17949 v17952 v18159) a + S1x128.size a ≤ S8224x128.size a)
theorem k0_off949_inb : ∀ (i : grid0.Coords) (k0_t1 : Fin k0_t1_loop.trips) (v17949 : BitVec 32) (v17952 : BitVec 32) (v18159 : BitVec 32) (k0_hw474 : k0_chk474 i k0_t1 v17949 v17952 v18159), ∀ (k0_h1 : k0_cond1 i = 1#1), ∀ a, (k0_off949 k0_t1 v17949 v17952 v18159) a + S1x128.size a ≤ S8224x128.size a := fun i k0_t1 v17949 v17952 v18159 k0_hw474 k0_h1 => k0_hw474 k0_h1

def k0_off950 (v17949 : BitVec 32) : Fin 1 → Nat :=
  let c14_i32_7092 : BitVec 32 := 14#32
  let v18170 : BitVec 32 := Scalar.addi v17949 c14_i32_7092
  let v18173 : Index := Scalar.indexCast v18170
  ![v18173.toNat]
def k0_off951 (k0_t1 : Fin k0_t1_loop.trips) (v17949 : BitVec 32) (v17952 : BitVec 32) (v18174 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_7093 : BitVec 32 := 14#32
  let v18171 : BitVec 32 := Scalar.addi v17949 c14_i32_7093
  let v18172 : BitVec 1 := Scalar.cmpi .slt v18171 v17952
  let c65535_i32_7094 : BitVec 32 := 65535#32
  let v18175 : BitVec 32 := Scalar.andi v18174 c65535_i32_7094
  let c2048_i32_7095 : BitVec 32 := 2048#32
  let v18176 : BitVec 32 := Scalar.select v18172 v18175 c2048_i32_7095
  let v18177 : BitVec 32 := Scalar.addi v11087 v18176
  let v18180 : Index := Scalar.indexCast v18177
  let c0_7097 : Index := 0#32
  ![v18180.toNat, 0]

def k0_chk475 (i : grid0.Coords) (k0_t1 : Fin k0_t1_loop.trips) (v17949 : BitVec 32) (v17952 : BitVec 32) (v18174 : BitVec 32) : Prop :=
  (∀ (k0_h1 : k0_cond1 i = 1#1), ∀ a, (k0_off951 k0_t1 v17949 v17952 v18174) a + S1x128.size a ≤ S8224x128.size a)
theorem k0_off951_inb : ∀ (i : grid0.Coords) (k0_t1 : Fin k0_t1_loop.trips) (v17949 : BitVec 32) (v17952 : BitVec 32) (v18174 : BitVec 32) (k0_hw475 : k0_chk475 i k0_t1 v17949 v17952 v18174), ∀ (k0_h1 : k0_cond1 i = 1#1), ∀ a, (k0_off951 k0_t1 v17949 v17952 v18174) a + S1x128.size a ≤ S8224x128.size a := fun i k0_t1 v17949 v17952 v18174 k0_hw475 k0_h1 => k0_hw475 k0_h1

def k0_off952 (v17949 : BitVec 32) : Fin 1 → Nat :=
  let c15_i32_7098 : BitVec 32 := 15#32
  let v18185 : BitVec 32 := Scalar.addi v17949 c15_i32_7098
  let v18188 : Index := Scalar.indexCast v18185
  ![v18188.toNat]

def k0_chk460 (i : grid0.Coords) (v17949 : BitVec 32) : Prop :=
  (∀ (k0_h1 : k0_cond1 i = 1#1), ∀ a, (k0_off922 v17949) a + S1.size a ≤ S51920.size a) ∧
  (∀ (k0_h1 : k0_cond1 i = 1#1), ∀ a, (k0_off924 v17949) a + S1.size a ≤ S51920.size a) ∧
  (∀ (k0_h1 : k0_cond1 i = 1#1), ∀ a, (k0_off926 v17949) a + S1.size a ≤ S51920.size a) ∧
  (∀ (k0_h1 : k0_cond1 i = 1#1), ∀ a, (k0_off928 v17949) a + S1.size a ≤ S51920.size a) ∧
  (∀ (k0_h1 : k0_cond1 i = 1#1), ∀ a, (k0_off930 v17949) a + S1.size a ≤ S51920.size a) ∧
  (∀ (k0_h1 : k0_cond1 i = 1#1), ∀ a, (k0_off932 v17949) a + S1.size a ≤ S51920.size a) ∧
  (∀ (k0_h1 : k0_cond1 i = 1#1), ∀ a, (k0_off934 v17949) a + S1.size a ≤ S51920.size a) ∧
  (∀ (k0_h1 : k0_cond1 i = 1#1), ∀ a, (k0_off936 v17949) a + S1.size a ≤ S51920.size a) ∧
  (∀ (k0_h1 : k0_cond1 i = 1#1), ∀ a, (k0_off938 v17949) a + S1.size a ≤ S51920.size a) ∧
  (∀ (k0_h1 : k0_cond1 i = 1#1), ∀ a, (k0_off940 v17949) a + S1.size a ≤ S51920.size a) ∧
  (∀ (k0_h1 : k0_cond1 i = 1#1), ∀ a, (k0_off942 v17949) a + S1.size a ≤ S51920.size a) ∧
  (∀ (k0_h1 : k0_cond1 i = 1#1), ∀ a, (k0_off944 v17949) a + S1.size a ≤ S51920.size a) ∧
  (∀ (k0_h1 : k0_cond1 i = 1#1), ∀ a, (k0_off946 v17949) a + S1.size a ≤ S51920.size a) ∧
  (∀ (k0_h1 : k0_cond1 i = 1#1), ∀ a, (k0_off948 v17949) a + S1.size a ≤ S51920.size a) ∧
  (∀ (k0_h1 : k0_cond1 i = 1#1), ∀ a, (k0_off950 v17949) a + S1.size a ≤ S51920.size a) ∧
  (∀ (k0_h1 : k0_cond1 i = 1#1), ∀ a, (k0_off952 v17949) a + S1.size a ≤ S51920.size a)
theorem k0_off922_inb : ∀ (i : grid0.Coords) (v17949 : BitVec 32) (k0_hw460 : k0_chk460 i v17949), ∀ (k0_h1 : k0_cond1 i = 1#1), ∀ a, (k0_off922 v17949) a + S1.size a ≤ S51920.size a := fun i v17949 k0_hw460 k0_h1 => k0_hw460.1 k0_h1
theorem k0_off924_inb : ∀ (i : grid0.Coords) (v17949 : BitVec 32) (k0_hw460 : k0_chk460 i v17949), ∀ (k0_h1 : k0_cond1 i = 1#1), ∀ a, (k0_off924 v17949) a + S1.size a ≤ S51920.size a := fun i v17949 k0_hw460 k0_h1 => k0_hw460.2.1 k0_h1
theorem k0_off926_inb : ∀ (i : grid0.Coords) (v17949 : BitVec 32) (k0_hw460 : k0_chk460 i v17949), ∀ (k0_h1 : k0_cond1 i = 1#1), ∀ a, (k0_off926 v17949) a + S1.size a ≤ S51920.size a := fun i v17949 k0_hw460 k0_h1 => k0_hw460.2.2.1 k0_h1
theorem k0_off928_inb : ∀ (i : grid0.Coords) (v17949 : BitVec 32) (k0_hw460 : k0_chk460 i v17949), ∀ (k0_h1 : k0_cond1 i = 1#1), ∀ a, (k0_off928 v17949) a + S1.size a ≤ S51920.size a := fun i v17949 k0_hw460 k0_h1 => k0_hw460.2.2.2.1 k0_h1
theorem k0_off930_inb : ∀ (i : grid0.Coords) (v17949 : BitVec 32) (k0_hw460 : k0_chk460 i v17949), ∀ (k0_h1 : k0_cond1 i = 1#1), ∀ a, (k0_off930 v17949) a + S1.size a ≤ S51920.size a := fun i v17949 k0_hw460 k0_h1 => k0_hw460.2.2.2.2.1 k0_h1
theorem k0_off932_inb : ∀ (i : grid0.Coords) (v17949 : BitVec 32) (k0_hw460 : k0_chk460 i v17949), ∀ (k0_h1 : k0_cond1 i = 1#1), ∀ a, (k0_off932 v17949) a + S1.size a ≤ S51920.size a := fun i v17949 k0_hw460 k0_h1 => k0_hw460.2.2.2.2.2.1 k0_h1
theorem k0_off934_inb : ∀ (i : grid0.Coords) (v17949 : BitVec 32) (k0_hw460 : k0_chk460 i v17949), ∀ (k0_h1 : k0_cond1 i = 1#1), ∀ a, (k0_off934 v17949) a + S1.size a ≤ S51920.size a := fun i v17949 k0_hw460 k0_h1 => k0_hw460.2.2.2.2.2.2.1 k0_h1
theorem k0_off936_inb : ∀ (i : grid0.Coords) (v17949 : BitVec 32) (k0_hw460 : k0_chk460 i v17949), ∀ (k0_h1 : k0_cond1 i = 1#1), ∀ a, (k0_off936 v17949) a + S1.size a ≤ S51920.size a := fun i v17949 k0_hw460 k0_h1 => k0_hw460.2.2.2.2.2.2.2.1 k0_h1
theorem k0_off938_inb : ∀ (i : grid0.Coords) (v17949 : BitVec 32) (k0_hw460 : k0_chk460 i v17949), ∀ (k0_h1 : k0_cond1 i = 1#1), ∀ a, (k0_off938 v17949) a + S1.size a ≤ S51920.size a := fun i v17949 k0_hw460 k0_h1 => k0_hw460.2.2.2.2.2.2.2.2.1 k0_h1
theorem k0_off940_inb : ∀ (i : grid0.Coords) (v17949 : BitVec 32) (k0_hw460 : k0_chk460 i v17949), ∀ (k0_h1 : k0_cond1 i = 1#1), ∀ a, (k0_off940 v17949) a + S1.size a ≤ S51920.size a := fun i v17949 k0_hw460 k0_h1 => k0_hw460.2.2.2.2.2.2.2.2.2.1 k0_h1
theorem k0_off942_inb : ∀ (i : grid0.Coords) (v17949 : BitVec 32) (k0_hw460 : k0_chk460 i v17949), ∀ (k0_h1 : k0_cond1 i = 1#1), ∀ a, (k0_off942 v17949) a + S1.size a ≤ S51920.size a := fun i v17949 k0_hw460 k0_h1 => k0_hw460.2.2.2.2.2.2.2.2.2.2.1 k0_h1
theorem k0_off944_inb : ∀ (i : grid0.Coords) (v17949 : BitVec 32) (k0_hw460 : k0_chk460 i v17949), ∀ (k0_h1 : k0_cond1 i = 1#1), ∀ a, (k0_off944 v17949) a + S1.size a ≤ S51920.size a := fun i v17949 k0_hw460 k0_h1 => k0_hw460.2.2.2.2.2.2.2.2.2.2.2.1 k0_h1
theorem k0_off946_inb : ∀ (i : grid0.Coords) (v17949 : BitVec 32) (k0_hw460 : k0_chk460 i v17949), ∀ (k0_h1 : k0_cond1 i = 1#1), ∀ a, (k0_off946 v17949) a + S1.size a ≤ S51920.size a := fun i v17949 k0_hw460 k0_h1 => k0_hw460.2.2.2.2.2.2.2.2.2.2.2.2.1 k0_h1
theorem k0_off948_inb : ∀ (i : grid0.Coords) (v17949 : BitVec 32) (k0_hw460 : k0_chk460 i v17949), ∀ (k0_h1 : k0_cond1 i = 1#1), ∀ a, (k0_off948 v17949) a + S1.size a ≤ S51920.size a := fun i v17949 k0_hw460 k0_h1 => k0_hw460.2.2.2.2.2.2.2.2.2.2.2.2.2.1 k0_h1
theorem k0_off950_inb : ∀ (i : grid0.Coords) (v17949 : BitVec 32) (k0_hw460 : k0_chk460 i v17949), ∀ (k0_h1 : k0_cond1 i = 1#1), ∀ a, (k0_off950 v17949) a + S1.size a ≤ S51920.size a := fun i v17949 k0_hw460 k0_h1 => k0_hw460.2.2.2.2.2.2.2.2.2.2.2.2.2.2.1 k0_h1
theorem k0_off952_inb : ∀ (i : grid0.Coords) (v17949 : BitVec 32) (k0_hw460 : k0_chk460 i v17949), ∀ (k0_h1 : k0_cond1 i = 1#1), ∀ a, (k0_off952 v17949) a + S1.size a ≤ S51920.size a := fun i v17949 k0_hw460 k0_h1 => k0_hw460.2.2.2.2.2.2.2.2.2.2.2.2.2.2.2 k0_h1

def k0_off953 (k0_t1 : Fin k0_t1_loop.trips) (v17949 : BitVec 32) (v17952 : BitVec 32) (v18189 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_7099 : BitVec 32 := 15#32
  let v18186 : BitVec 32 := Scalar.addi v17949 c15_i32_7099
  let v18187 : BitVec 1 := Scalar.cmpi .slt v18186 v17952
  let c65535_i32_7100 : BitVec 32 := 65535#32
  let v18190 : BitVec 32 := Scalar.andi v18189 c65535_i32_7100
  let c2048_i32_7101 : BitVec 32 := 2048#32
  let v18191 : BitVec 32 := Scalar.select v18187 v18190 c2048_i32_7101
  let v18192 : BitVec 32 := Scalar.addi v11087 v18191
  let v18195 : Index := Scalar.indexCast v18192
  let c0_7103 : Index := 0#32
  ![v18195.toNat, 0]

def k0_chk476 (i : grid0.Coords) (k0_t1 : Fin k0_t1_loop.trips) (v17949 : BitVec 32) (v17952 : BitVec 32) (v18189 : BitVec 32) : Prop :=
  (∀ (k0_h1 : k0_cond1 i = 1#1), ∀ a, (k0_off953 k0_t1 v17949 v17952 v18189) a + S1x128.size a ≤ S8224x128.size a)
theorem k0_off953_inb : ∀ (i : grid0.Coords) (k0_t1 : Fin k0_t1_loop.trips) (v17949 : BitVec 32) (v17952 : BitVec 32) (v18189 : BitVec 32) (k0_hw476 : k0_chk476 i k0_t1 v17949 v17952 v18189), ∀ (k0_h1 : k0_cond1 i = 1#1), ∀ a, (k0_off953 k0_t1 v17949 v17952 v18189) a + S1x128.size a ≤ S8224x128.size a := fun i k0_t1 v17949 v17952 v18189 k0_hw476 k0_h1 => k0_hw476 k0_h1

def k0_off954 (k0_t1 : Fin k0_t1_loop.trips) : Fin 1 → Nat :=
  let c0_i32_7104 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v18200 : BitVec 32 := Scalar.addi c0_i32_7104 v11069
  let c28_i32_7105 : BitVec 32 := 28#32
  let v18201 : BitVec 32 := Scalar.addi v18200 c28_i32_7105
  let v18202 : Index := Scalar.indexCast v18201
  ![v18202.toNat]
def k0_off955 (k0_t1 : Fin k0_t1_loop.trips) : Fin 1 → Nat :=
  let c0_i32_7104 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v18200 : BitVec 32 := Scalar.addi c0_i32_7104 v11069
  let c28_i32_7105 : BitVec 32 := 28#32
  let v18201 : BitVec 32 := Scalar.addi v18200 c28_i32_7105
  let c1_i32_7106 : BitVec 32 := 1#32
  let v18204 : BitVec 32 := Scalar.addi v18201 c1_i32_7106
  let v18205 : Index := Scalar.indexCast v18204
  ![v18205.toNat]
def k0_off956 (v18203 : BitVec 32) : Fin 1 → Nat :=
  let c0_i32_7109 : BitVec 32 := 0#32
  let v18214 : BitVec 32 := Scalar.addi v18203 c0_i32_7109
  let v18217 : Index := Scalar.indexCast v18214
  ![v18217.toNat]

def k0_off957 (k0_t1 : Fin k0_t1_loop.trips) (v18203 : BitVec 32) (v18206 : BitVec 32) (v18218 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_7110 : BitVec 32 := 0#32
  let v18215 : BitVec 32 := Scalar.addi v18203 c0_i32_7110
  let v18216 : BitVec 1 := Scalar.cmpi .slt v18215 v18206
  let c65535_i32_7111 : BitVec 32 := 65535#32
  let v18219 : BitVec 32 := Scalar.andi v18218 c65535_i32_7111
  let c2048_i32_7112 : BitVec 32 := 2048#32
  let v18220 : BitVec 32 := Scalar.select v18216 v18219 c2048_i32_7112
  let v18221 : BitVec 32 := Scalar.addi v11087 v18220
  let v18224 : Index := Scalar.indexCast v18221
  let c0_7114 : Index := 0#32
  ![v18224.toNat, 0]

def k0_chk478 (i : grid0.Coords) (k0_t1 : Fin k0_t1_loop.trips) (v18203 : BitVec 32) (v18206 : BitVec 32) (v18218 : BitVec 32) : Prop :=
  (∀ (k0_h1 : k0_cond1 i = 1#1), ∀ a, (k0_off957 k0_t1 v18203 v18206 v18218) a + S1x128.size a ≤ S8224x128.size a)
theorem k0_off957_inb : ∀ (i : grid0.Coords) (k0_t1 : Fin k0_t1_loop.trips) (v18203 : BitVec 32) (v18206 : BitVec 32) (v18218 : BitVec 32) (k0_hw478 : k0_chk478 i k0_t1 v18203 v18206 v18218), ∀ (k0_h1 : k0_cond1 i = 1#1), ∀ a, (k0_off957 k0_t1 v18203 v18206 v18218) a + S1x128.size a ≤ S8224x128.size a := fun i k0_t1 v18203 v18206 v18218 k0_hw478 k0_h1 => k0_hw478 k0_h1

def k0_off958 (v18203 : BitVec 32) : Fin 1 → Nat :=
  let c1_i32_7115 : BitVec 32 := 1#32
  let v18229 : BitVec 32 := Scalar.addi v18203 c1_i32_7115
  let v18232 : Index := Scalar.indexCast v18229
  ![v18232.toNat]
def k0_off959 (k0_t1 : Fin k0_t1_loop.trips) (v18203 : BitVec 32) (v18206 : BitVec 32) (v18233 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_7116 : BitVec 32 := 1#32
  let v18230 : BitVec 32 := Scalar.addi v18203 c1_i32_7116
  let v18231 : BitVec 1 := Scalar.cmpi .slt v18230 v18206
  let c65535_i32_7117 : BitVec 32 := 65535#32
  let v18234 : BitVec 32 := Scalar.andi v18233 c65535_i32_7117
  let c2048_i32_7118 : BitVec 32 := 2048#32
  let v18235 : BitVec 32 := Scalar.select v18231 v18234 c2048_i32_7118
  let v18236 : BitVec 32 := Scalar.addi v11087 v18235
  let v18239 : Index := Scalar.indexCast v18236
  let c0_7120 : Index := 0#32
  ![v18239.toNat, 0]

def k0_chk479 (i : grid0.Coords) (k0_t1 : Fin k0_t1_loop.trips) (v18203 : BitVec 32) (v18206 : BitVec 32) (v18233 : BitVec 32) : Prop :=
  (∀ (k0_h1 : k0_cond1 i = 1#1), ∀ a, (k0_off959 k0_t1 v18203 v18206 v18233) a + S1x128.size a ≤ S8224x128.size a)
theorem k0_off959_inb : ∀ (i : grid0.Coords) (k0_t1 : Fin k0_t1_loop.trips) (v18203 : BitVec 32) (v18206 : BitVec 32) (v18233 : BitVec 32) (k0_hw479 : k0_chk479 i k0_t1 v18203 v18206 v18233), ∀ (k0_h1 : k0_cond1 i = 1#1), ∀ a, (k0_off959 k0_t1 v18203 v18206 v18233) a + S1x128.size a ≤ S8224x128.size a := fun i k0_t1 v18203 v18206 v18233 k0_hw479 k0_h1 => k0_hw479 k0_h1

def k0_off960 (v18203 : BitVec 32) : Fin 1 → Nat :=
  let c2_i32_7121 : BitVec 32 := 2#32
  let v18244 : BitVec 32 := Scalar.addi v18203 c2_i32_7121
  let v18247 : Index := Scalar.indexCast v18244
  ![v18247.toNat]
def k0_off961 (k0_t1 : Fin k0_t1_loop.trips) (v18203 : BitVec 32) (v18206 : BitVec 32) (v18248 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_7122 : BitVec 32 := 2#32
  let v18245 : BitVec 32 := Scalar.addi v18203 c2_i32_7122
  let v18246 : BitVec 1 := Scalar.cmpi .slt v18245 v18206
  let c65535_i32_7123 : BitVec 32 := 65535#32
  let v18249 : BitVec 32 := Scalar.andi v18248 c65535_i32_7123
  let c2048_i32_7124 : BitVec 32 := 2048#32
  let v18250 : BitVec 32 := Scalar.select v18246 v18249 c2048_i32_7124
  let v18251 : BitVec 32 := Scalar.addi v11087 v18250
  let v18254 : Index := Scalar.indexCast v18251
  let c0_7126 : Index := 0#32
  ![v18254.toNat, 0]

def k0_chk480 (i : grid0.Coords) (k0_t1 : Fin k0_t1_loop.trips) (v18203 : BitVec 32) (v18206 : BitVec 32) (v18248 : BitVec 32) : Prop :=
  (∀ (k0_h1 : k0_cond1 i = 1#1), ∀ a, (k0_off961 k0_t1 v18203 v18206 v18248) a + S1x128.size a ≤ S8224x128.size a)
theorem k0_off961_inb : ∀ (i : grid0.Coords) (k0_t1 : Fin k0_t1_loop.trips) (v18203 : BitVec 32) (v18206 : BitVec 32) (v18248 : BitVec 32) (k0_hw480 : k0_chk480 i k0_t1 v18203 v18206 v18248), ∀ (k0_h1 : k0_cond1 i = 1#1), ∀ a, (k0_off961 k0_t1 v18203 v18206 v18248) a + S1x128.size a ≤ S8224x128.size a := fun i k0_t1 v18203 v18206 v18248 k0_hw480 k0_h1 => k0_hw480 k0_h1

def k0_off962 (v18203 : BitVec 32) : Fin 1 → Nat :=
  let c3_i32_7127 : BitVec 32 := 3#32
  let v18259 : BitVec 32 := Scalar.addi v18203 c3_i32_7127
  let v18262 : Index := Scalar.indexCast v18259
  ![v18262.toNat]
def k0_off963 (k0_t1 : Fin k0_t1_loop.trips) (v18203 : BitVec 32) (v18206 : BitVec 32) (v18263 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_7128 : BitVec 32 := 3#32
  let v18260 : BitVec 32 := Scalar.addi v18203 c3_i32_7128
  let v18261 : BitVec 1 := Scalar.cmpi .slt v18260 v18206
  let c65535_i32_7129 : BitVec 32 := 65535#32
  let v18264 : BitVec 32 := Scalar.andi v18263 c65535_i32_7129
  let c2048_i32_7130 : BitVec 32 := 2048#32
  let v18265 : BitVec 32 := Scalar.select v18261 v18264 c2048_i32_7130
  let v18266 : BitVec 32 := Scalar.addi v11087 v18265
  let v18269 : Index := Scalar.indexCast v18266
  let c0_7132 : Index := 0#32
  ![v18269.toNat, 0]

def k0_chk481 (i : grid0.Coords) (k0_t1 : Fin k0_t1_loop.trips) (v18203 : BitVec 32) (v18206 : BitVec 32) (v18263 : BitVec 32) : Prop :=
  (∀ (k0_h1 : k0_cond1 i = 1#1), ∀ a, (k0_off963 k0_t1 v18203 v18206 v18263) a + S1x128.size a ≤ S8224x128.size a)
theorem k0_off963_inb : ∀ (i : grid0.Coords) (k0_t1 : Fin k0_t1_loop.trips) (v18203 : BitVec 32) (v18206 : BitVec 32) (v18263 : BitVec 32) (k0_hw481 : k0_chk481 i k0_t1 v18203 v18206 v18263), ∀ (k0_h1 : k0_cond1 i = 1#1), ∀ a, (k0_off963 k0_t1 v18203 v18206 v18263) a + S1x128.size a ≤ S8224x128.size a := fun i k0_t1 v18203 v18206 v18263 k0_hw481 k0_h1 => k0_hw481 k0_h1

def k0_off964 (v18203 : BitVec 32) : Fin 1 → Nat :=
  let c4_i32_7133 : BitVec 32 := 4#32
  let v18274 : BitVec 32 := Scalar.addi v18203 c4_i32_7133
  let v18277 : Index := Scalar.indexCast v18274
  ![v18277.toNat]
def k0_off965 (k0_t1 : Fin k0_t1_loop.trips) (v18203 : BitVec 32) (v18206 : BitVec 32) (v18278 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_7134 : BitVec 32 := 4#32
  let v18275 : BitVec 32 := Scalar.addi v18203 c4_i32_7134
  let v18276 : BitVec 1 := Scalar.cmpi .slt v18275 v18206
  let c65535_i32_7135 : BitVec 32 := 65535#32
  let v18279 : BitVec 32 := Scalar.andi v18278 c65535_i32_7135
  let c2048_i32_7136 : BitVec 32 := 2048#32
  let v18280 : BitVec 32 := Scalar.select v18276 v18279 c2048_i32_7136
  let v18281 : BitVec 32 := Scalar.addi v11087 v18280
  let v18284 : Index := Scalar.indexCast v18281
  let c0_7138 : Index := 0#32
  ![v18284.toNat, 0]

def k0_chk482 (i : grid0.Coords) (k0_t1 : Fin k0_t1_loop.trips) (v18203 : BitVec 32) (v18206 : BitVec 32) (v18278 : BitVec 32) : Prop :=
  (∀ (k0_h1 : k0_cond1 i = 1#1), ∀ a, (k0_off965 k0_t1 v18203 v18206 v18278) a + S1x128.size a ≤ S8224x128.size a)
theorem k0_off965_inb : ∀ (i : grid0.Coords) (k0_t1 : Fin k0_t1_loop.trips) (v18203 : BitVec 32) (v18206 : BitVec 32) (v18278 : BitVec 32) (k0_hw482 : k0_chk482 i k0_t1 v18203 v18206 v18278), ∀ (k0_h1 : k0_cond1 i = 1#1), ∀ a, (k0_off965 k0_t1 v18203 v18206 v18278) a + S1x128.size a ≤ S8224x128.size a := fun i k0_t1 v18203 v18206 v18278 k0_hw482 k0_h1 => k0_hw482 k0_h1

def k0_off966 (v18203 : BitVec 32) : Fin 1 → Nat :=
  let c5_i32_7139 : BitVec 32 := 5#32
  let v18289 : BitVec 32 := Scalar.addi v18203 c5_i32_7139
  let v18292 : Index := Scalar.indexCast v18289
  ![v18292.toNat]
def k0_off967 (k0_t1 : Fin k0_t1_loop.trips) (v18203 : BitVec 32) (v18206 : BitVec 32) (v18293 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_7140 : BitVec 32 := 5#32
  let v18290 : BitVec 32 := Scalar.addi v18203 c5_i32_7140
  let v18291 : BitVec 1 := Scalar.cmpi .slt v18290 v18206
  let c65535_i32_7141 : BitVec 32 := 65535#32
  let v18294 : BitVec 32 := Scalar.andi v18293 c65535_i32_7141
  let c2048_i32_7142 : BitVec 32 := 2048#32
  let v18295 : BitVec 32 := Scalar.select v18291 v18294 c2048_i32_7142
  let v18296 : BitVec 32 := Scalar.addi v11087 v18295
  let v18299 : Index := Scalar.indexCast v18296
  let c0_7144 : Index := 0#32
  ![v18299.toNat, 0]

def k0_chk483 (i : grid0.Coords) (k0_t1 : Fin k0_t1_loop.trips) (v18203 : BitVec 32) (v18206 : BitVec 32) (v18293 : BitVec 32) : Prop :=
  (∀ (k0_h1 : k0_cond1 i = 1#1), ∀ a, (k0_off967 k0_t1 v18203 v18206 v18293) a + S1x128.size a ≤ S8224x128.size a)
theorem k0_off967_inb : ∀ (i : grid0.Coords) (k0_t1 : Fin k0_t1_loop.trips) (v18203 : BitVec 32) (v18206 : BitVec 32) (v18293 : BitVec 32) (k0_hw483 : k0_chk483 i k0_t1 v18203 v18206 v18293), ∀ (k0_h1 : k0_cond1 i = 1#1), ∀ a, (k0_off967 k0_t1 v18203 v18206 v18293) a + S1x128.size a ≤ S8224x128.size a := fun i k0_t1 v18203 v18206 v18293 k0_hw483 k0_h1 => k0_hw483 k0_h1

def k0_off968 (v18203 : BitVec 32) : Fin 1 → Nat :=
  let c6_i32_7145 : BitVec 32 := 6#32
  let v18304 : BitVec 32 := Scalar.addi v18203 c6_i32_7145
  let v18307 : Index := Scalar.indexCast v18304
  ![v18307.toNat]
def k0_off969 (k0_t1 : Fin k0_t1_loop.trips) (v18203 : BitVec 32) (v18206 : BitVec 32) (v18308 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_7146 : BitVec 32 := 6#32
  let v18305 : BitVec 32 := Scalar.addi v18203 c6_i32_7146
  let v18306 : BitVec 1 := Scalar.cmpi .slt v18305 v18206
  let c65535_i32_7147 : BitVec 32 := 65535#32
  let v18309 : BitVec 32 := Scalar.andi v18308 c65535_i32_7147
  let c2048_i32_7148 : BitVec 32 := 2048#32
  let v18310 : BitVec 32 := Scalar.select v18306 v18309 c2048_i32_7148
  let v18311 : BitVec 32 := Scalar.addi v11087 v18310
  let v18314 : Index := Scalar.indexCast v18311
  let c0_7150 : Index := 0#32
  ![v18314.toNat, 0]

def k0_chk484 (i : grid0.Coords) (k0_t1 : Fin k0_t1_loop.trips) (v18203 : BitVec 32) (v18206 : BitVec 32) (v18308 : BitVec 32) : Prop :=
  (∀ (k0_h1 : k0_cond1 i = 1#1), ∀ a, (k0_off969 k0_t1 v18203 v18206 v18308) a + S1x128.size a ≤ S8224x128.size a)
theorem k0_off969_inb : ∀ (i : grid0.Coords) (k0_t1 : Fin k0_t1_loop.trips) (v18203 : BitVec 32) (v18206 : BitVec 32) (v18308 : BitVec 32) (k0_hw484 : k0_chk484 i k0_t1 v18203 v18206 v18308), ∀ (k0_h1 : k0_cond1 i = 1#1), ∀ a, (k0_off969 k0_t1 v18203 v18206 v18308) a + S1x128.size a ≤ S8224x128.size a := fun i k0_t1 v18203 v18206 v18308 k0_hw484 k0_h1 => k0_hw484 k0_h1

def k0_off970 (v18203 : BitVec 32) : Fin 1 → Nat :=
  let c7_i32_7151 : BitVec 32 := 7#32
  let v18319 : BitVec 32 := Scalar.addi v18203 c7_i32_7151
  let v18322 : Index := Scalar.indexCast v18319
  ![v18322.toNat]
def k0_off971 (k0_t1 : Fin k0_t1_loop.trips) (v18203 : BitVec 32) (v18206 : BitVec 32) (v18323 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_7152 : BitVec 32 := 7#32
  let v18320 : BitVec 32 := Scalar.addi v18203 c7_i32_7152
  let v18321 : BitVec 1 := Scalar.cmpi .slt v18320 v18206
  let c65535_i32_7153 : BitVec 32 := 65535#32
  let v18324 : BitVec 32 := Scalar.andi v18323 c65535_i32_7153
  let c2048_i32_7154 : BitVec 32 := 2048#32
  let v18325 : BitVec 32 := Scalar.select v18321 v18324 c2048_i32_7154
  let v18326 : BitVec 32 := Scalar.addi v11087 v18325
  let v18329 : Index := Scalar.indexCast v18326
  let c0_7156 : Index := 0#32
  ![v18329.toNat, 0]

def k0_chk485 (i : grid0.Coords) (k0_t1 : Fin k0_t1_loop.trips) (v18203 : BitVec 32) (v18206 : BitVec 32) (v18323 : BitVec 32) : Prop :=
  (∀ (k0_h1 : k0_cond1 i = 1#1), ∀ a, (k0_off971 k0_t1 v18203 v18206 v18323) a + S1x128.size a ≤ S8224x128.size a)
theorem k0_off971_inb : ∀ (i : grid0.Coords) (k0_t1 : Fin k0_t1_loop.trips) (v18203 : BitVec 32) (v18206 : BitVec 32) (v18323 : BitVec 32) (k0_hw485 : k0_chk485 i k0_t1 v18203 v18206 v18323), ∀ (k0_h1 : k0_cond1 i = 1#1), ∀ a, (k0_off971 k0_t1 v18203 v18206 v18323) a + S1x128.size a ≤ S8224x128.size a := fun i k0_t1 v18203 v18206 v18323 k0_hw485 k0_h1 => k0_hw485 k0_h1

def k0_off972 (v18203 : BitVec 32) : Fin 1 → Nat :=
  let c8_i32_7157 : BitVec 32 := 8#32
  let v18334 : BitVec 32 := Scalar.addi v18203 c8_i32_7157
  let v18337 : Index := Scalar.indexCast v18334
  ![v18337.toNat]
def k0_off973 (k0_t1 : Fin k0_t1_loop.trips) (v18203 : BitVec 32) (v18206 : BitVec 32) (v18338 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_7158 : BitVec 32 := 8#32
  let v18335 : BitVec 32 := Scalar.addi v18203 c8_i32_7158
  let v18336 : BitVec 1 := Scalar.cmpi .slt v18335 v18206
  let c65535_i32_7159 : BitVec 32 := 65535#32
  let v18339 : BitVec 32 := Scalar.andi v18338 c65535_i32_7159
  let c2048_i32_7160 : BitVec 32 := 2048#32
  let v18340 : BitVec 32 := Scalar.select v18336 v18339 c2048_i32_7160
  let v18341 : BitVec 32 := Scalar.addi v11087 v18340
  let v18344 : Index := Scalar.indexCast v18341
  let c0_7162 : Index := 0#32
  ![v18344.toNat, 0]

def k0_chk486 (i : grid0.Coords) (k0_t1 : Fin k0_t1_loop.trips) (v18203 : BitVec 32) (v18206 : BitVec 32) (v18338 : BitVec 32) : Prop :=
  (∀ (k0_h1 : k0_cond1 i = 1#1), ∀ a, (k0_off973 k0_t1 v18203 v18206 v18338) a + S1x128.size a ≤ S8224x128.size a)
theorem k0_off973_inb : ∀ (i : grid0.Coords) (k0_t1 : Fin k0_t1_loop.trips) (v18203 : BitVec 32) (v18206 : BitVec 32) (v18338 : BitVec 32) (k0_hw486 : k0_chk486 i k0_t1 v18203 v18206 v18338), ∀ (k0_h1 : k0_cond1 i = 1#1), ∀ a, (k0_off973 k0_t1 v18203 v18206 v18338) a + S1x128.size a ≤ S8224x128.size a := fun i k0_t1 v18203 v18206 v18338 k0_hw486 k0_h1 => k0_hw486 k0_h1

def k0_off974 (v18203 : BitVec 32) : Fin 1 → Nat :=
  let c9_i32_7163 : BitVec 32 := 9#32
  let v18349 : BitVec 32 := Scalar.addi v18203 c9_i32_7163
  let v18352 : Index := Scalar.indexCast v18349
  ![v18352.toNat]
def k0_off975 (k0_t1 : Fin k0_t1_loop.trips) (v18203 : BitVec 32) (v18206 : BitVec 32) (v18353 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_7164 : BitVec 32 := 9#32
  let v18350 : BitVec 32 := Scalar.addi v18203 c9_i32_7164
  let v18351 : BitVec 1 := Scalar.cmpi .slt v18350 v18206
  let c65535_i32_7165 : BitVec 32 := 65535#32
  let v18354 : BitVec 32 := Scalar.andi v18353 c65535_i32_7165
  let c2048_i32_7166 : BitVec 32 := 2048#32
  let v18355 : BitVec 32 := Scalar.select v18351 v18354 c2048_i32_7166
  let v18356 : BitVec 32 := Scalar.addi v11087 v18355
  let v18359 : Index := Scalar.indexCast v18356
  let c0_7168 : Index := 0#32
  ![v18359.toNat, 0]

def k0_chk487 (i : grid0.Coords) (k0_t1 : Fin k0_t1_loop.trips) (v18203 : BitVec 32) (v18206 : BitVec 32) (v18353 : BitVec 32) : Prop :=
  (∀ (k0_h1 : k0_cond1 i = 1#1), ∀ a, (k0_off975 k0_t1 v18203 v18206 v18353) a + S1x128.size a ≤ S8224x128.size a)
theorem k0_off975_inb : ∀ (i : grid0.Coords) (k0_t1 : Fin k0_t1_loop.trips) (v18203 : BitVec 32) (v18206 : BitVec 32) (v18353 : BitVec 32) (k0_hw487 : k0_chk487 i k0_t1 v18203 v18206 v18353), ∀ (k0_h1 : k0_cond1 i = 1#1), ∀ a, (k0_off975 k0_t1 v18203 v18206 v18353) a + S1x128.size a ≤ S8224x128.size a := fun i k0_t1 v18203 v18206 v18353 k0_hw487 k0_h1 => k0_hw487 k0_h1

def k0_off976 (v18203 : BitVec 32) : Fin 1 → Nat :=
  let c10_i32_7169 : BitVec 32 := 10#32
  let v18364 : BitVec 32 := Scalar.addi v18203 c10_i32_7169
  let v18367 : Index := Scalar.indexCast v18364
  ![v18367.toNat]
def k0_off977 (k0_t1 : Fin k0_t1_loop.trips) (v18203 : BitVec 32) (v18206 : BitVec 32) (v18368 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_7170 : BitVec 32 := 10#32
  let v18365 : BitVec 32 := Scalar.addi v18203 c10_i32_7170
  let v18366 : BitVec 1 := Scalar.cmpi .slt v18365 v18206
  let c65535_i32_7171 : BitVec 32 := 65535#32
  let v18369 : BitVec 32 := Scalar.andi v18368 c65535_i32_7171
  let c2048_i32_7172 : BitVec 32 := 2048#32
  let v18370 : BitVec 32 := Scalar.select v18366 v18369 c2048_i32_7172
  let v18371 : BitVec 32 := Scalar.addi v11087 v18370
  let v18374 : Index := Scalar.indexCast v18371
  let c0_7174 : Index := 0#32
  ![v18374.toNat, 0]

def k0_chk488 (i : grid0.Coords) (k0_t1 : Fin k0_t1_loop.trips) (v18203 : BitVec 32) (v18206 : BitVec 32) (v18368 : BitVec 32) : Prop :=
  (∀ (k0_h1 : k0_cond1 i = 1#1), ∀ a, (k0_off977 k0_t1 v18203 v18206 v18368) a + S1x128.size a ≤ S8224x128.size a)
theorem k0_off977_inb : ∀ (i : grid0.Coords) (k0_t1 : Fin k0_t1_loop.trips) (v18203 : BitVec 32) (v18206 : BitVec 32) (v18368 : BitVec 32) (k0_hw488 : k0_chk488 i k0_t1 v18203 v18206 v18368), ∀ (k0_h1 : k0_cond1 i = 1#1), ∀ a, (k0_off977 k0_t1 v18203 v18206 v18368) a + S1x128.size a ≤ S8224x128.size a := fun i k0_t1 v18203 v18206 v18368 k0_hw488 k0_h1 => k0_hw488 k0_h1

def k0_off978 (v18203 : BitVec 32) : Fin 1 → Nat :=
  let c11_i32_7175 : BitVec 32 := 11#32
  let v18379 : BitVec 32 := Scalar.addi v18203 c11_i32_7175
  let v18382 : Index := Scalar.indexCast v18379
  ![v18382.toNat]
def k0_off979 (k0_t1 : Fin k0_t1_loop.trips) (v18203 : BitVec 32) (v18206 : BitVec 32) (v18383 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_7176 : BitVec 32 := 11#32
  let v18380 : BitVec 32 := Scalar.addi v18203 c11_i32_7176
  let v18381 : BitVec 1 := Scalar.cmpi .slt v18380 v18206
  let c65535_i32_7177 : BitVec 32 := 65535#32
  let v18384 : BitVec 32 := Scalar.andi v18383 c65535_i32_7177
  let c2048_i32_7178 : BitVec 32 := 2048#32
  let v18385 : BitVec 32 := Scalar.select v18381 v18384 c2048_i32_7178
  let v18386 : BitVec 32 := Scalar.addi v11087 v18385
  let v18389 : Index := Scalar.indexCast v18386
  let c0_7180 : Index := 0#32
  ![v18389.toNat, 0]

def k0_chk489 (i : grid0.Coords) (k0_t1 : Fin k0_t1_loop.trips) (v18203 : BitVec 32) (v18206 : BitVec 32) (v18383 : BitVec 32) : Prop :=
  (∀ (k0_h1 : k0_cond1 i = 1#1), ∀ a, (k0_off979 k0_t1 v18203 v18206 v18383) a + S1x128.size a ≤ S8224x128.size a)
theorem k0_off979_inb : ∀ (i : grid0.Coords) (k0_t1 : Fin k0_t1_loop.trips) (v18203 : BitVec 32) (v18206 : BitVec 32) (v18383 : BitVec 32) (k0_hw489 : k0_chk489 i k0_t1 v18203 v18206 v18383), ∀ (k0_h1 : k0_cond1 i = 1#1), ∀ a, (k0_off979 k0_t1 v18203 v18206 v18383) a + S1x128.size a ≤ S8224x128.size a := fun i k0_t1 v18203 v18206 v18383 k0_hw489 k0_h1 => k0_hw489 k0_h1

def k0_off980 (v18203 : BitVec 32) : Fin 1 → Nat :=
  let c12_i32_7181 : BitVec 32 := 12#32
  let v18394 : BitVec 32 := Scalar.addi v18203 c12_i32_7181
  let v18397 : Index := Scalar.indexCast v18394
  ![v18397.toNat]
def k0_off981 (k0_t1 : Fin k0_t1_loop.trips) (v18203 : BitVec 32) (v18206 : BitVec 32) (v18398 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_7182 : BitVec 32 := 12#32
  let v18395 : BitVec 32 := Scalar.addi v18203 c12_i32_7182
  let v18396 : BitVec 1 := Scalar.cmpi .slt v18395 v18206
  let c65535_i32_7183 : BitVec 32 := 65535#32
  let v18399 : BitVec 32 := Scalar.andi v18398 c65535_i32_7183
  let c2048_i32_7184 : BitVec 32 := 2048#32
  let v18400 : BitVec 32 := Scalar.select v18396 v18399 c2048_i32_7184
  let v18401 : BitVec 32 := Scalar.addi v11087 v18400
  let v18404 : Index := Scalar.indexCast v18401
  let c0_7186 : Index := 0#32
  ![v18404.toNat, 0]

def k0_chk490 (i : grid0.Coords) (k0_t1 : Fin k0_t1_loop.trips) (v18203 : BitVec 32) (v18206 : BitVec 32) (v18398 : BitVec 32) : Prop :=
  (∀ (k0_h1 : k0_cond1 i = 1#1), ∀ a, (k0_off981 k0_t1 v18203 v18206 v18398) a + S1x128.size a ≤ S8224x128.size a)
theorem k0_off981_inb : ∀ (i : grid0.Coords) (k0_t1 : Fin k0_t1_loop.trips) (v18203 : BitVec 32) (v18206 : BitVec 32) (v18398 : BitVec 32) (k0_hw490 : k0_chk490 i k0_t1 v18203 v18206 v18398), ∀ (k0_h1 : k0_cond1 i = 1#1), ∀ a, (k0_off981 k0_t1 v18203 v18206 v18398) a + S1x128.size a ≤ S8224x128.size a := fun i k0_t1 v18203 v18206 v18398 k0_hw490 k0_h1 => k0_hw490 k0_h1

def k0_off982 (v18203 : BitVec 32) : Fin 1 → Nat :=
  let c13_i32_7187 : BitVec 32 := 13#32
  let v18409 : BitVec 32 := Scalar.addi v18203 c13_i32_7187
  let v18412 : Index := Scalar.indexCast v18409
  ![v18412.toNat]
def k0_off983 (k0_t1 : Fin k0_t1_loop.trips) (v18203 : BitVec 32) (v18206 : BitVec 32) (v18413 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_7188 : BitVec 32 := 13#32
  let v18410 : BitVec 32 := Scalar.addi v18203 c13_i32_7188
  let v18411 : BitVec 1 := Scalar.cmpi .slt v18410 v18206
  let c65535_i32_7189 : BitVec 32 := 65535#32
  let v18414 : BitVec 32 := Scalar.andi v18413 c65535_i32_7189
  let c2048_i32_7190 : BitVec 32 := 2048#32
  let v18415 : BitVec 32 := Scalar.select v18411 v18414 c2048_i32_7190
  let v18416 : BitVec 32 := Scalar.addi v11087 v18415
  let v18419 : Index := Scalar.indexCast v18416
  let c0_7192 : Index := 0#32
  ![v18419.toNat, 0]

def k0_chk491 (i : grid0.Coords) (k0_t1 : Fin k0_t1_loop.trips) (v18203 : BitVec 32) (v18206 : BitVec 32) (v18413 : BitVec 32) : Prop :=
  (∀ (k0_h1 : k0_cond1 i = 1#1), ∀ a, (k0_off983 k0_t1 v18203 v18206 v18413) a + S1x128.size a ≤ S8224x128.size a)
theorem k0_off983_inb : ∀ (i : grid0.Coords) (k0_t1 : Fin k0_t1_loop.trips) (v18203 : BitVec 32) (v18206 : BitVec 32) (v18413 : BitVec 32) (k0_hw491 : k0_chk491 i k0_t1 v18203 v18206 v18413), ∀ (k0_h1 : k0_cond1 i = 1#1), ∀ a, (k0_off983 k0_t1 v18203 v18206 v18413) a + S1x128.size a ≤ S8224x128.size a := fun i k0_t1 v18203 v18206 v18413 k0_hw491 k0_h1 => k0_hw491 k0_h1

def k0_off984 (v18203 : BitVec 32) : Fin 1 → Nat :=
  let c14_i32_7193 : BitVec 32 := 14#32
  let v18424 : BitVec 32 := Scalar.addi v18203 c14_i32_7193
  let v18427 : Index := Scalar.indexCast v18424
  ![v18427.toNat]
def k0_off985 (k0_t1 : Fin k0_t1_loop.trips) (v18203 : BitVec 32) (v18206 : BitVec 32) (v18428 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_7194 : BitVec 32 := 14#32
  let v18425 : BitVec 32 := Scalar.addi v18203 c14_i32_7194
  let v18426 : BitVec 1 := Scalar.cmpi .slt v18425 v18206
  let c65535_i32_7195 : BitVec 32 := 65535#32
  let v18429 : BitVec 32 := Scalar.andi v18428 c65535_i32_7195
  let c2048_i32_7196 : BitVec 32 := 2048#32
  let v18430 : BitVec 32 := Scalar.select v18426 v18429 c2048_i32_7196
  let v18431 : BitVec 32 := Scalar.addi v11087 v18430
  let v18434 : Index := Scalar.indexCast v18431
  let c0_7198 : Index := 0#32
  ![v18434.toNat, 0]

def k0_chk492 (i : grid0.Coords) (k0_t1 : Fin k0_t1_loop.trips) (v18203 : BitVec 32) (v18206 : BitVec 32) (v18428 : BitVec 32) : Prop :=
  (∀ (k0_h1 : k0_cond1 i = 1#1), ∀ a, (k0_off985 k0_t1 v18203 v18206 v18428) a + S1x128.size a ≤ S8224x128.size a)
theorem k0_off985_inb : ∀ (i : grid0.Coords) (k0_t1 : Fin k0_t1_loop.trips) (v18203 : BitVec 32) (v18206 : BitVec 32) (v18428 : BitVec 32) (k0_hw492 : k0_chk492 i k0_t1 v18203 v18206 v18428), ∀ (k0_h1 : k0_cond1 i = 1#1), ∀ a, (k0_off985 k0_t1 v18203 v18206 v18428) a + S1x128.size a ≤ S8224x128.size a := fun i k0_t1 v18203 v18206 v18428 k0_hw492 k0_h1 => k0_hw492 k0_h1

def k0_off986 (v18203 : BitVec 32) : Fin 1 → Nat :=
  let c15_i32_7199 : BitVec 32 := 15#32
  let v18439 : BitVec 32 := Scalar.addi v18203 c15_i32_7199
  let v18442 : Index := Scalar.indexCast v18439
  ![v18442.toNat]

def k0_chk477 (i : grid0.Coords) (v18203 : BitVec 32) : Prop :=
  (∀ (k0_h1 : k0_cond1 i = 1#1), ∀ a, (k0_off956 v18203) a + S1.size a ≤ S51920.size a) ∧
  (∀ (k0_h1 : k0_cond1 i = 1#1), ∀ a, (k0_off958 v18203) a + S1.size a ≤ S51920.size a) ∧
  (∀ (k0_h1 : k0_cond1 i = 1#1), ∀ a, (k0_off960 v18203) a + S1.size a ≤ S51920.size a) ∧
  (∀ (k0_h1 : k0_cond1 i = 1#1), ∀ a, (k0_off962 v18203) a + S1.size a ≤ S51920.size a) ∧
  (∀ (k0_h1 : k0_cond1 i = 1#1), ∀ a, (k0_off964 v18203) a + S1.size a ≤ S51920.size a) ∧
  (∀ (k0_h1 : k0_cond1 i = 1#1), ∀ a, (k0_off966 v18203) a + S1.size a ≤ S51920.size a) ∧
  (∀ (k0_h1 : k0_cond1 i = 1#1), ∀ a, (k0_off968 v18203) a + S1.size a ≤ S51920.size a) ∧
  (∀ (k0_h1 : k0_cond1 i = 1#1), ∀ a, (k0_off970 v18203) a + S1.size a ≤ S51920.size a) ∧
  (∀ (k0_h1 : k0_cond1 i = 1#1), ∀ a, (k0_off972 v18203) a + S1.size a ≤ S51920.size a) ∧
  (∀ (k0_h1 : k0_cond1 i = 1#1), ∀ a, (k0_off974 v18203) a + S1.size a ≤ S51920.size a) ∧
  (∀ (k0_h1 : k0_cond1 i = 1#1), ∀ a, (k0_off976 v18203) a + S1.size a ≤ S51920.size a) ∧
  (∀ (k0_h1 : k0_cond1 i = 1#1), ∀ a, (k0_off978 v18203) a + S1.size a ≤ S51920.size a) ∧
  (∀ (k0_h1 : k0_cond1 i = 1#1), ∀ a, (k0_off980 v18203) a + S1.size a ≤ S51920.size a) ∧
  (∀ (k0_h1 : k0_cond1 i = 1#1), ∀ a, (k0_off982 v18203) a + S1.size a ≤ S51920.size a) ∧
  (∀ (k0_h1 : k0_cond1 i = 1#1), ∀ a, (k0_off984 v18203) a + S1.size a ≤ S51920.size a) ∧
  (∀ (k0_h1 : k0_cond1 i = 1#1), ∀ a, (k0_off986 v18203) a + S1.size a ≤ S51920.size a)
theorem k0_off956_inb : ∀ (i : grid0.Coords) (v18203 : BitVec 32) (k0_hw477 : k0_chk477 i v18203), ∀ (k0_h1 : k0_cond1 i = 1#1), ∀ a, (k0_off956 v18203) a + S1.size a ≤ S51920.size a := fun i v18203 k0_hw477 k0_h1 => k0_hw477.1 k0_h1
theorem k0_off958_inb : ∀ (i : grid0.Coords) (v18203 : BitVec 32) (k0_hw477 : k0_chk477 i v18203), ∀ (k0_h1 : k0_cond1 i = 1#1), ∀ a, (k0_off958 v18203) a + S1.size a ≤ S51920.size a := fun i v18203 k0_hw477 k0_h1 => k0_hw477.2.1 k0_h1
theorem k0_off960_inb : ∀ (i : grid0.Coords) (v18203 : BitVec 32) (k0_hw477 : k0_chk477 i v18203), ∀ (k0_h1 : k0_cond1 i = 1#1), ∀ a, (k0_off960 v18203) a + S1.size a ≤ S51920.size a := fun i v18203 k0_hw477 k0_h1 => k0_hw477.2.2.1 k0_h1
theorem k0_off962_inb : ∀ (i : grid0.Coords) (v18203 : BitVec 32) (k0_hw477 : k0_chk477 i v18203), ∀ (k0_h1 : k0_cond1 i = 1#1), ∀ a, (k0_off962 v18203) a + S1.size a ≤ S51920.size a := fun i v18203 k0_hw477 k0_h1 => k0_hw477.2.2.2.1 k0_h1
theorem k0_off964_inb : ∀ (i : grid0.Coords) (v18203 : BitVec 32) (k0_hw477 : k0_chk477 i v18203), ∀ (k0_h1 : k0_cond1 i = 1#1), ∀ a, (k0_off964 v18203) a + S1.size a ≤ S51920.size a := fun i v18203 k0_hw477 k0_h1 => k0_hw477.2.2.2.2.1 k0_h1
theorem k0_off966_inb : ∀ (i : grid0.Coords) (v18203 : BitVec 32) (k0_hw477 : k0_chk477 i v18203), ∀ (k0_h1 : k0_cond1 i = 1#1), ∀ a, (k0_off966 v18203) a + S1.size a ≤ S51920.size a := fun i v18203 k0_hw477 k0_h1 => k0_hw477.2.2.2.2.2.1 k0_h1
theorem k0_off968_inb : ∀ (i : grid0.Coords) (v18203 : BitVec 32) (k0_hw477 : k0_chk477 i v18203), ∀ (k0_h1 : k0_cond1 i = 1#1), ∀ a, (k0_off968 v18203) a + S1.size a ≤ S51920.size a := fun i v18203 k0_hw477 k0_h1 => k0_hw477.2.2.2.2.2.2.1 k0_h1
theorem k0_off970_inb : ∀ (i : grid0.Coords) (v18203 : BitVec 32) (k0_hw477 : k0_chk477 i v18203), ∀ (k0_h1 : k0_cond1 i = 1#1), ∀ a, (k0_off970 v18203) a + S1.size a ≤ S51920.size a := fun i v18203 k0_hw477 k0_h1 => k0_hw477.2.2.2.2.2.2.2.1 k0_h1
theorem k0_off972_inb : ∀ (i : grid0.Coords) (v18203 : BitVec 32) (k0_hw477 : k0_chk477 i v18203), ∀ (k0_h1 : k0_cond1 i = 1#1), ∀ a, (k0_off972 v18203) a + S1.size a ≤ S51920.size a := fun i v18203 k0_hw477 k0_h1 => k0_hw477.2.2.2.2.2.2.2.2.1 k0_h1
theorem k0_off974_inb : ∀ (i : grid0.Coords) (v18203 : BitVec 32) (k0_hw477 : k0_chk477 i v18203), ∀ (k0_h1 : k0_cond1 i = 1#1), ∀ a, (k0_off974 v18203) a + S1.size a ≤ S51920.size a := fun i v18203 k0_hw477 k0_h1 => k0_hw477.2.2.2.2.2.2.2.2.2.1 k0_h1
theorem k0_off976_inb : ∀ (i : grid0.Coords) (v18203 : BitVec 32) (k0_hw477 : k0_chk477 i v18203), ∀ (k0_h1 : k0_cond1 i = 1#1), ∀ a, (k0_off976 v18203) a + S1.size a ≤ S51920.size a := fun i v18203 k0_hw477 k0_h1 => k0_hw477.2.2.2.2.2.2.2.2.2.2.1 k0_h1
theorem k0_off978_inb : ∀ (i : grid0.Coords) (v18203 : BitVec 32) (k0_hw477 : k0_chk477 i v18203), ∀ (k0_h1 : k0_cond1 i = 1#1), ∀ a, (k0_off978 v18203) a + S1.size a ≤ S51920.size a := fun i v18203 k0_hw477 k0_h1 => k0_hw477.2.2.2.2.2.2.2.2.2.2.2.1 k0_h1
theorem k0_off980_inb : ∀ (i : grid0.Coords) (v18203 : BitVec 32) (k0_hw477 : k0_chk477 i v18203), ∀ (k0_h1 : k0_cond1 i = 1#1), ∀ a, (k0_off980 v18203) a + S1.size a ≤ S51920.size a := fun i v18203 k0_hw477 k0_h1 => k0_hw477.2.2.2.2.2.2.2.2.2.2.2.2.1 k0_h1
theorem k0_off982_inb : ∀ (i : grid0.Coords) (v18203 : BitVec 32) (k0_hw477 : k0_chk477 i v18203), ∀ (k0_h1 : k0_cond1 i = 1#1), ∀ a, (k0_off982 v18203) a + S1.size a ≤ S51920.size a := fun i v18203 k0_hw477 k0_h1 => k0_hw477.2.2.2.2.2.2.2.2.2.2.2.2.2.1 k0_h1
theorem k0_off984_inb : ∀ (i : grid0.Coords) (v18203 : BitVec 32) (k0_hw477 : k0_chk477 i v18203), ∀ (k0_h1 : k0_cond1 i = 1#1), ∀ a, (k0_off984 v18203) a + S1.size a ≤ S51920.size a := fun i v18203 k0_hw477 k0_h1 => k0_hw477.2.2.2.2.2.2.2.2.2.2.2.2.2.2.1 k0_h1
theorem k0_off986_inb : ∀ (i : grid0.Coords) (v18203 : BitVec 32) (k0_hw477 : k0_chk477 i v18203), ∀ (k0_h1 : k0_cond1 i = 1#1), ∀ a, (k0_off986 v18203) a + S1.size a ≤ S51920.size a := fun i v18203 k0_hw477 k0_h1 => k0_hw477.2.2.2.2.2.2.2.2.2.2.2.2.2.2.2 k0_h1

def k0_off987 (k0_t1 : Fin k0_t1_loop.trips) (v18203 : BitVec 32) (v18206 : BitVec 32) (v18443 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_7200 : BitVec 32 := 15#32
  let v18440 : BitVec 32 := Scalar.addi v18203 c15_i32_7200
  let v18441 : BitVec 1 := Scalar.cmpi .slt v18440 v18206
  let c65535_i32_7201 : BitVec 32 := 65535#32
  let v18444 : BitVec 32 := Scalar.andi v18443 c65535_i32_7201
  let c2048_i32_7202 : BitVec 32 := 2048#32
  let v18445 : BitVec 32 := Scalar.select v18441 v18444 c2048_i32_7202
  let v18446 : BitVec 32 := Scalar.addi v11087 v18445
  let v18449 : Index := Scalar.indexCast v18446
  let c0_7204 : Index := 0#32
  ![v18449.toNat, 0]

def k0_chk493 (i : grid0.Coords) (k0_t1 : Fin k0_t1_loop.trips) (v18203 : BitVec 32) (v18206 : BitVec 32) (v18443 : BitVec 32) : Prop :=
  (∀ (k0_h1 : k0_cond1 i = 1#1), ∀ a, (k0_off987 k0_t1 v18203 v18206 v18443) a + S1x128.size a ≤ S8224x128.size a)
theorem k0_off987_inb : ∀ (i : grid0.Coords) (k0_t1 : Fin k0_t1_loop.trips) (v18203 : BitVec 32) (v18206 : BitVec 32) (v18443 : BitVec 32) (k0_hw493 : k0_chk493 i k0_t1 v18203 v18206 v18443), ∀ (k0_h1 : k0_cond1 i = 1#1), ∀ a, (k0_off987 k0_t1 v18203 v18206 v18443) a + S1x128.size a ≤ S8224x128.size a := fun i k0_t1 v18203 v18206 v18443 k0_hw493 k0_h1 => k0_hw493 k0_h1

def k0_off988 (k0_t1 : Fin k0_t1_loop.trips) : Fin 1 → Nat :=
  let c0_i32_7205 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v18454 : BitVec 32 := Scalar.addi c0_i32_7205 v11069
  let c29_i32_7206 : BitVec 32 := 29#32
  let v18455 : BitVec 32 := Scalar.addi v18454 c29_i32_7206
  let v18456 : Index := Scalar.indexCast v18455
  ![v18456.toNat]
def k0_off989 (k0_t1 : Fin k0_t1_loop.trips) : Fin 1 → Nat :=
  let c0_i32_7205 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v18454 : BitVec 32 := Scalar.addi c0_i32_7205 v11069
  let c29_i32_7206 : BitVec 32 := 29#32
  let v18455 : BitVec 32 := Scalar.addi v18454 c29_i32_7206
  let c1_i32_7207 : BitVec 32 := 1#32
  let v18458 : BitVec 32 := Scalar.addi v18455 c1_i32_7207
  let v18459 : Index := Scalar.indexCast v18458
  ![v18459.toNat]
def k0_off990 (v18457 : BitVec 32) : Fin 1 → Nat :=
  let c0_i32_7210 : BitVec 32 := 0#32
  let v18468 : BitVec 32 := Scalar.addi v18457 c0_i32_7210
  let v18471 : Index := Scalar.indexCast v18468
  ![v18471.toNat]

def k0_off991 (k0_t1 : Fin k0_t1_loop.trips) (v18457 : BitVec 32) (v18460 : BitVec 32) (v18472 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_7211 : BitVec 32 := 0#32
  let v18469 : BitVec 32 := Scalar.addi v18457 c0_i32_7211
  let v18470 : BitVec 1 := Scalar.cmpi .slt v18469 v18460
  let c65535_i32_7212 : BitVec 32 := 65535#32
  let v18473 : BitVec 32 := Scalar.andi v18472 c65535_i32_7212
  let c2048_i32_7213 : BitVec 32 := 2048#32
  let v18474 : BitVec 32 := Scalar.select v18470 v18473 c2048_i32_7213
  let v18475 : BitVec 32 := Scalar.addi v11087 v18474
  let v18478 : Index := Scalar.indexCast v18475
  let c0_7215 : Index := 0#32
  ![v18478.toNat, 0]

def k0_chk495 (i : grid0.Coords) (k0_t1 : Fin k0_t1_loop.trips) (v18457 : BitVec 32) (v18460 : BitVec 32) (v18472 : BitVec 32) : Prop :=
  (∀ (k0_h1 : k0_cond1 i = 1#1), ∀ a, (k0_off991 k0_t1 v18457 v18460 v18472) a + S1x128.size a ≤ S8224x128.size a)
theorem k0_off991_inb : ∀ (i : grid0.Coords) (k0_t1 : Fin k0_t1_loop.trips) (v18457 : BitVec 32) (v18460 : BitVec 32) (v18472 : BitVec 32) (k0_hw495 : k0_chk495 i k0_t1 v18457 v18460 v18472), ∀ (k0_h1 : k0_cond1 i = 1#1), ∀ a, (k0_off991 k0_t1 v18457 v18460 v18472) a + S1x128.size a ≤ S8224x128.size a := fun i k0_t1 v18457 v18460 v18472 k0_hw495 k0_h1 => k0_hw495 k0_h1

def k0_off992 (v18457 : BitVec 32) : Fin 1 → Nat :=
  let c1_i32_7216 : BitVec 32 := 1#32
  let v18483 : BitVec 32 := Scalar.addi v18457 c1_i32_7216
  let v18486 : Index := Scalar.indexCast v18483
  ![v18486.toNat]
def k0_off993 (k0_t1 : Fin k0_t1_loop.trips) (v18457 : BitVec 32) (v18460 : BitVec 32) (v18487 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_7217 : BitVec 32 := 1#32
  let v18484 : BitVec 32 := Scalar.addi v18457 c1_i32_7217
  let v18485 : BitVec 1 := Scalar.cmpi .slt v18484 v18460
  let c65535_i32_7218 : BitVec 32 := 65535#32
  let v18488 : BitVec 32 := Scalar.andi v18487 c65535_i32_7218
  let c2048_i32_7219 : BitVec 32 := 2048#32
  let v18489 : BitVec 32 := Scalar.select v18485 v18488 c2048_i32_7219
  let v18490 : BitVec 32 := Scalar.addi v11087 v18489
  let v18493 : Index := Scalar.indexCast v18490
  let c0_7221 : Index := 0#32
  ![v18493.toNat, 0]

def k0_chk496 (i : grid0.Coords) (k0_t1 : Fin k0_t1_loop.trips) (v18457 : BitVec 32) (v18460 : BitVec 32) (v18487 : BitVec 32) : Prop :=
  (∀ (k0_h1 : k0_cond1 i = 1#1), ∀ a, (k0_off993 k0_t1 v18457 v18460 v18487) a + S1x128.size a ≤ S8224x128.size a)
theorem k0_off993_inb : ∀ (i : grid0.Coords) (k0_t1 : Fin k0_t1_loop.trips) (v18457 : BitVec 32) (v18460 : BitVec 32) (v18487 : BitVec 32) (k0_hw496 : k0_chk496 i k0_t1 v18457 v18460 v18487), ∀ (k0_h1 : k0_cond1 i = 1#1), ∀ a, (k0_off993 k0_t1 v18457 v18460 v18487) a + S1x128.size a ≤ S8224x128.size a := fun i k0_t1 v18457 v18460 v18487 k0_hw496 k0_h1 => k0_hw496 k0_h1

def k0_off994 (v18457 : BitVec 32) : Fin 1 → Nat :=
  let c2_i32_7222 : BitVec 32 := 2#32
  let v18498 : BitVec 32 := Scalar.addi v18457 c2_i32_7222
  let v18501 : Index := Scalar.indexCast v18498
  ![v18501.toNat]
def k0_off995 (k0_t1 : Fin k0_t1_loop.trips) (v18457 : BitVec 32) (v18460 : BitVec 32) (v18502 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_7223 : BitVec 32 := 2#32
  let v18499 : BitVec 32 := Scalar.addi v18457 c2_i32_7223
  let v18500 : BitVec 1 := Scalar.cmpi .slt v18499 v18460
  let c65535_i32_7224 : BitVec 32 := 65535#32
  let v18503 : BitVec 32 := Scalar.andi v18502 c65535_i32_7224
  let c2048_i32_7225 : BitVec 32 := 2048#32
  let v18504 : BitVec 32 := Scalar.select v18500 v18503 c2048_i32_7225
  let v18505 : BitVec 32 := Scalar.addi v11087 v18504
  let v18508 : Index := Scalar.indexCast v18505
  let c0_7227 : Index := 0#32
  ![v18508.toNat, 0]

def k0_chk497 (i : grid0.Coords) (k0_t1 : Fin k0_t1_loop.trips) (v18457 : BitVec 32) (v18460 : BitVec 32) (v18502 : BitVec 32) : Prop :=
  (∀ (k0_h1 : k0_cond1 i = 1#1), ∀ a, (k0_off995 k0_t1 v18457 v18460 v18502) a + S1x128.size a ≤ S8224x128.size a)
theorem k0_off995_inb : ∀ (i : grid0.Coords) (k0_t1 : Fin k0_t1_loop.trips) (v18457 : BitVec 32) (v18460 : BitVec 32) (v18502 : BitVec 32) (k0_hw497 : k0_chk497 i k0_t1 v18457 v18460 v18502), ∀ (k0_h1 : k0_cond1 i = 1#1), ∀ a, (k0_off995 k0_t1 v18457 v18460 v18502) a + S1x128.size a ≤ S8224x128.size a := fun i k0_t1 v18457 v18460 v18502 k0_hw497 k0_h1 => k0_hw497 k0_h1

def k0_off996 (v18457 : BitVec 32) : Fin 1 → Nat :=
  let c3_i32_7228 : BitVec 32 := 3#32
  let v18513 : BitVec 32 := Scalar.addi v18457 c3_i32_7228
  let v18516 : Index := Scalar.indexCast v18513
  ![v18516.toNat]
def k0_off997 (k0_t1 : Fin k0_t1_loop.trips) (v18457 : BitVec 32) (v18460 : BitVec 32) (v18517 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_7229 : BitVec 32 := 3#32
  let v18514 : BitVec 32 := Scalar.addi v18457 c3_i32_7229
  let v18515 : BitVec 1 := Scalar.cmpi .slt v18514 v18460
  let c65535_i32_7230 : BitVec 32 := 65535#32
  let v18518 : BitVec 32 := Scalar.andi v18517 c65535_i32_7230
  let c2048_i32_7231 : BitVec 32 := 2048#32
  let v18519 : BitVec 32 := Scalar.select v18515 v18518 c2048_i32_7231
  let v18520 : BitVec 32 := Scalar.addi v11087 v18519
  let v18523 : Index := Scalar.indexCast v18520
  let c0_7233 : Index := 0#32
  ![v18523.toNat, 0]

def k0_chk498 (i : grid0.Coords) (k0_t1 : Fin k0_t1_loop.trips) (v18457 : BitVec 32) (v18460 : BitVec 32) (v18517 : BitVec 32) : Prop :=
  (∀ (k0_h1 : k0_cond1 i = 1#1), ∀ a, (k0_off997 k0_t1 v18457 v18460 v18517) a + S1x128.size a ≤ S8224x128.size a)
theorem k0_off997_inb : ∀ (i : grid0.Coords) (k0_t1 : Fin k0_t1_loop.trips) (v18457 : BitVec 32) (v18460 : BitVec 32) (v18517 : BitVec 32) (k0_hw498 : k0_chk498 i k0_t1 v18457 v18460 v18517), ∀ (k0_h1 : k0_cond1 i = 1#1), ∀ a, (k0_off997 k0_t1 v18457 v18460 v18517) a + S1x128.size a ≤ S8224x128.size a := fun i k0_t1 v18457 v18460 v18517 k0_hw498 k0_h1 => k0_hw498 k0_h1

def k0_off998 (v18457 : BitVec 32) : Fin 1 → Nat :=
  let c4_i32_7234 : BitVec 32 := 4#32
  let v18528 : BitVec 32 := Scalar.addi v18457 c4_i32_7234
  let v18531 : Index := Scalar.indexCast v18528
  ![v18531.toNat]
def k0_off999 (k0_t1 : Fin k0_t1_loop.trips) (v18457 : BitVec 32) (v18460 : BitVec 32) (v18532 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_7235 : BitVec 32 := 4#32
  let v18529 : BitVec 32 := Scalar.addi v18457 c4_i32_7235
  let v18530 : BitVec 1 := Scalar.cmpi .slt v18529 v18460
  let c65535_i32_7236 : BitVec 32 := 65535#32
  let v18533 : BitVec 32 := Scalar.andi v18532 c65535_i32_7236
  let c2048_i32_7237 : BitVec 32 := 2048#32
  let v18534 : BitVec 32 := Scalar.select v18530 v18533 c2048_i32_7237
  let v18535 : BitVec 32 := Scalar.addi v11087 v18534
  let v18538 : Index := Scalar.indexCast v18535
  let c0_7239 : Index := 0#32
  ![v18538.toNat, 0]

def k0_chk499 (i : grid0.Coords) (k0_t1 : Fin k0_t1_loop.trips) (v18457 : BitVec 32) (v18460 : BitVec 32) (v18532 : BitVec 32) : Prop :=
  (∀ (k0_h1 : k0_cond1 i = 1#1), ∀ a, (k0_off999 k0_t1 v18457 v18460 v18532) a + S1x128.size a ≤ S8224x128.size a)
theorem k0_off999_inb : ∀ (i : grid0.Coords) (k0_t1 : Fin k0_t1_loop.trips) (v18457 : BitVec 32) (v18460 : BitVec 32) (v18532 : BitVec 32) (k0_hw499 : k0_chk499 i k0_t1 v18457 v18460 v18532), ∀ (k0_h1 : k0_cond1 i = 1#1), ∀ a, (k0_off999 k0_t1 v18457 v18460 v18532) a + S1x128.size a ≤ S8224x128.size a := fun i k0_t1 v18457 v18460 v18532 k0_hw499 k0_h1 => k0_hw499 k0_h1

def k0_off1000 (v18457 : BitVec 32) : Fin 1 → Nat :=
  let c5_i32_7240 : BitVec 32 := 5#32
  let v18543 : BitVec 32 := Scalar.addi v18457 c5_i32_7240
  let v18546 : Index := Scalar.indexCast v18543
  ![v18546.toNat]
def k0_off1001 (k0_t1 : Fin k0_t1_loop.trips) (v18457 : BitVec 32) (v18460 : BitVec 32) (v18547 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_7241 : BitVec 32 := 5#32
  let v18544 : BitVec 32 := Scalar.addi v18457 c5_i32_7241
  let v18545 : BitVec 1 := Scalar.cmpi .slt v18544 v18460
  let c65535_i32_7242 : BitVec 32 := 65535#32
  let v18548 : BitVec 32 := Scalar.andi v18547 c65535_i32_7242
  let c2048_i32_7243 : BitVec 32 := 2048#32
  let v18549 : BitVec 32 := Scalar.select v18545 v18548 c2048_i32_7243
  let v18550 : BitVec 32 := Scalar.addi v11087 v18549
  let v18553 : Index := Scalar.indexCast v18550
  let c0_7245 : Index := 0#32
  ![v18553.toNat, 0]

def k0_chk500 (i : grid0.Coords) (k0_t1 : Fin k0_t1_loop.trips) (v18457 : BitVec 32) (v18460 : BitVec 32) (v18547 : BitVec 32) : Prop :=
  (∀ (k0_h1 : k0_cond1 i = 1#1), ∀ a, (k0_off1001 k0_t1 v18457 v18460 v18547) a + S1x128.size a ≤ S8224x128.size a)
theorem k0_off1001_inb : ∀ (i : grid0.Coords) (k0_t1 : Fin k0_t1_loop.trips) (v18457 : BitVec 32) (v18460 : BitVec 32) (v18547 : BitVec 32) (k0_hw500 : k0_chk500 i k0_t1 v18457 v18460 v18547), ∀ (k0_h1 : k0_cond1 i = 1#1), ∀ a, (k0_off1001 k0_t1 v18457 v18460 v18547) a + S1x128.size a ≤ S8224x128.size a := fun i k0_t1 v18457 v18460 v18547 k0_hw500 k0_h1 => k0_hw500 k0_h1

def k0_off1002 (v18457 : BitVec 32) : Fin 1 → Nat :=
  let c6_i32_7246 : BitVec 32 := 6#32
  let v18558 : BitVec 32 := Scalar.addi v18457 c6_i32_7246
  let v18561 : Index := Scalar.indexCast v18558
  ![v18561.toNat]
def k0_off1003 (k0_t1 : Fin k0_t1_loop.trips) (v18457 : BitVec 32) (v18460 : BitVec 32) (v18562 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_7247 : BitVec 32 := 6#32
  let v18559 : BitVec 32 := Scalar.addi v18457 c6_i32_7247
  let v18560 : BitVec 1 := Scalar.cmpi .slt v18559 v18460
  let c65535_i32_7248 : BitVec 32 := 65535#32
  let v18563 : BitVec 32 := Scalar.andi v18562 c65535_i32_7248
  let c2048_i32_7249 : BitVec 32 := 2048#32
  let v18564 : BitVec 32 := Scalar.select v18560 v18563 c2048_i32_7249
  let v18565 : BitVec 32 := Scalar.addi v11087 v18564
  let v18568 : Index := Scalar.indexCast v18565
  let c0_7251 : Index := 0#32
  ![v18568.toNat, 0]

def k0_chk501 (i : grid0.Coords) (k0_t1 : Fin k0_t1_loop.trips) (v18457 : BitVec 32) (v18460 : BitVec 32) (v18562 : BitVec 32) : Prop :=
  (∀ (k0_h1 : k0_cond1 i = 1#1), ∀ a, (k0_off1003 k0_t1 v18457 v18460 v18562) a + S1x128.size a ≤ S8224x128.size a)
theorem k0_off1003_inb : ∀ (i : grid0.Coords) (k0_t1 : Fin k0_t1_loop.trips) (v18457 : BitVec 32) (v18460 : BitVec 32) (v18562 : BitVec 32) (k0_hw501 : k0_chk501 i k0_t1 v18457 v18460 v18562), ∀ (k0_h1 : k0_cond1 i = 1#1), ∀ a, (k0_off1003 k0_t1 v18457 v18460 v18562) a + S1x128.size a ≤ S8224x128.size a := fun i k0_t1 v18457 v18460 v18562 k0_hw501 k0_h1 => k0_hw501 k0_h1

def k0_off1004 (v18457 : BitVec 32) : Fin 1 → Nat :=
  let c7_i32_7252 : BitVec 32 := 7#32
  let v18573 : BitVec 32 := Scalar.addi v18457 c7_i32_7252
  let v18576 : Index := Scalar.indexCast v18573
  ![v18576.toNat]
def k0_off1005 (k0_t1 : Fin k0_t1_loop.trips) (v18457 : BitVec 32) (v18460 : BitVec 32) (v18577 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_7253 : BitVec 32 := 7#32
  let v18574 : BitVec 32 := Scalar.addi v18457 c7_i32_7253
  let v18575 : BitVec 1 := Scalar.cmpi .slt v18574 v18460
  let c65535_i32_7254 : BitVec 32 := 65535#32
  let v18578 : BitVec 32 := Scalar.andi v18577 c65535_i32_7254
  let c2048_i32_7255 : BitVec 32 := 2048#32
  let v18579 : BitVec 32 := Scalar.select v18575 v18578 c2048_i32_7255
  let v18580 : BitVec 32 := Scalar.addi v11087 v18579
  let v18583 : Index := Scalar.indexCast v18580
  let c0_7257 : Index := 0#32
  ![v18583.toNat, 0]

def k0_chk502 (i : grid0.Coords) (k0_t1 : Fin k0_t1_loop.trips) (v18457 : BitVec 32) (v18460 : BitVec 32) (v18577 : BitVec 32) : Prop :=
  (∀ (k0_h1 : k0_cond1 i = 1#1), ∀ a, (k0_off1005 k0_t1 v18457 v18460 v18577) a + S1x128.size a ≤ S8224x128.size a)
theorem k0_off1005_inb : ∀ (i : grid0.Coords) (k0_t1 : Fin k0_t1_loop.trips) (v18457 : BitVec 32) (v18460 : BitVec 32) (v18577 : BitVec 32) (k0_hw502 : k0_chk502 i k0_t1 v18457 v18460 v18577), ∀ (k0_h1 : k0_cond1 i = 1#1), ∀ a, (k0_off1005 k0_t1 v18457 v18460 v18577) a + S1x128.size a ≤ S8224x128.size a := fun i k0_t1 v18457 v18460 v18577 k0_hw502 k0_h1 => k0_hw502 k0_h1

def k0_off1006 (v18457 : BitVec 32) : Fin 1 → Nat :=
  let c8_i32_7258 : BitVec 32 := 8#32
  let v18588 : BitVec 32 := Scalar.addi v18457 c8_i32_7258
  let v18591 : Index := Scalar.indexCast v18588
  ![v18591.toNat]
def k0_off1007 (k0_t1 : Fin k0_t1_loop.trips) (v18457 : BitVec 32) (v18460 : BitVec 32) (v18592 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_7259 : BitVec 32 := 8#32
  let v18589 : BitVec 32 := Scalar.addi v18457 c8_i32_7259
  let v18590 : BitVec 1 := Scalar.cmpi .slt v18589 v18460
  let c65535_i32_7260 : BitVec 32 := 65535#32
  let v18593 : BitVec 32 := Scalar.andi v18592 c65535_i32_7260
  let c2048_i32_7261 : BitVec 32 := 2048#32
  let v18594 : BitVec 32 := Scalar.select v18590 v18593 c2048_i32_7261
  let v18595 : BitVec 32 := Scalar.addi v11087 v18594
  let v18598 : Index := Scalar.indexCast v18595
  let c0_7263 : Index := 0#32
  ![v18598.toNat, 0]

def k0_chk503 (i : grid0.Coords) (k0_t1 : Fin k0_t1_loop.trips) (v18457 : BitVec 32) (v18460 : BitVec 32) (v18592 : BitVec 32) : Prop :=
  (∀ (k0_h1 : k0_cond1 i = 1#1), ∀ a, (k0_off1007 k0_t1 v18457 v18460 v18592) a + S1x128.size a ≤ S8224x128.size a)
theorem k0_off1007_inb : ∀ (i : grid0.Coords) (k0_t1 : Fin k0_t1_loop.trips) (v18457 : BitVec 32) (v18460 : BitVec 32) (v18592 : BitVec 32) (k0_hw503 : k0_chk503 i k0_t1 v18457 v18460 v18592), ∀ (k0_h1 : k0_cond1 i = 1#1), ∀ a, (k0_off1007 k0_t1 v18457 v18460 v18592) a + S1x128.size a ≤ S8224x128.size a := fun i k0_t1 v18457 v18460 v18592 k0_hw503 k0_h1 => k0_hw503 k0_h1

def k0_off1008 (v18457 : BitVec 32) : Fin 1 → Nat :=
  let c9_i32_7264 : BitVec 32 := 9#32
  let v18603 : BitVec 32 := Scalar.addi v18457 c9_i32_7264
  let v18606 : Index := Scalar.indexCast v18603
  ![v18606.toNat]
def k0_off1009 (k0_t1 : Fin k0_t1_loop.trips) (v18457 : BitVec 32) (v18460 : BitVec 32) (v18607 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_7265 : BitVec 32 := 9#32
  let v18604 : BitVec 32 := Scalar.addi v18457 c9_i32_7265
  let v18605 : BitVec 1 := Scalar.cmpi .slt v18604 v18460
  let c65535_i32_7266 : BitVec 32 := 65535#32
  let v18608 : BitVec 32 := Scalar.andi v18607 c65535_i32_7266
  let c2048_i32_7267 : BitVec 32 := 2048#32
  let v18609 : BitVec 32 := Scalar.select v18605 v18608 c2048_i32_7267
  let v18610 : BitVec 32 := Scalar.addi v11087 v18609
  let v18613 : Index := Scalar.indexCast v18610
  let c0_7269 : Index := 0#32
  ![v18613.toNat, 0]

def k0_chk504 (i : grid0.Coords) (k0_t1 : Fin k0_t1_loop.trips) (v18457 : BitVec 32) (v18460 : BitVec 32) (v18607 : BitVec 32) : Prop :=
  (∀ (k0_h1 : k0_cond1 i = 1#1), ∀ a, (k0_off1009 k0_t1 v18457 v18460 v18607) a + S1x128.size a ≤ S8224x128.size a)
theorem k0_off1009_inb : ∀ (i : grid0.Coords) (k0_t1 : Fin k0_t1_loop.trips) (v18457 : BitVec 32) (v18460 : BitVec 32) (v18607 : BitVec 32) (k0_hw504 : k0_chk504 i k0_t1 v18457 v18460 v18607), ∀ (k0_h1 : k0_cond1 i = 1#1), ∀ a, (k0_off1009 k0_t1 v18457 v18460 v18607) a + S1x128.size a ≤ S8224x128.size a := fun i k0_t1 v18457 v18460 v18607 k0_hw504 k0_h1 => k0_hw504 k0_h1

def k0_off1010 (v18457 : BitVec 32) : Fin 1 → Nat :=
  let c10_i32_7270 : BitVec 32 := 10#32
  let v18618 : BitVec 32 := Scalar.addi v18457 c10_i32_7270
  let v18621 : Index := Scalar.indexCast v18618
  ![v18621.toNat]
def k0_off1011 (k0_t1 : Fin k0_t1_loop.trips) (v18457 : BitVec 32) (v18460 : BitVec 32) (v18622 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_7271 : BitVec 32 := 10#32
  let v18619 : BitVec 32 := Scalar.addi v18457 c10_i32_7271
  let v18620 : BitVec 1 := Scalar.cmpi .slt v18619 v18460
  let c65535_i32_7272 : BitVec 32 := 65535#32
  let v18623 : BitVec 32 := Scalar.andi v18622 c65535_i32_7272
  let c2048_i32_7273 : BitVec 32 := 2048#32
  let v18624 : BitVec 32 := Scalar.select v18620 v18623 c2048_i32_7273
  let v18625 : BitVec 32 := Scalar.addi v11087 v18624
  let v18628 : Index := Scalar.indexCast v18625
  let c0_7275 : Index := 0#32
  ![v18628.toNat, 0]

def k0_chk505 (i : grid0.Coords) (k0_t1 : Fin k0_t1_loop.trips) (v18457 : BitVec 32) (v18460 : BitVec 32) (v18622 : BitVec 32) : Prop :=
  (∀ (k0_h1 : k0_cond1 i = 1#1), ∀ a, (k0_off1011 k0_t1 v18457 v18460 v18622) a + S1x128.size a ≤ S8224x128.size a)
theorem k0_off1011_inb : ∀ (i : grid0.Coords) (k0_t1 : Fin k0_t1_loop.trips) (v18457 : BitVec 32) (v18460 : BitVec 32) (v18622 : BitVec 32) (k0_hw505 : k0_chk505 i k0_t1 v18457 v18460 v18622), ∀ (k0_h1 : k0_cond1 i = 1#1), ∀ a, (k0_off1011 k0_t1 v18457 v18460 v18622) a + S1x128.size a ≤ S8224x128.size a := fun i k0_t1 v18457 v18460 v18622 k0_hw505 k0_h1 => k0_hw505 k0_h1

def k0_off1012 (v18457 : BitVec 32) : Fin 1 → Nat :=
  let c11_i32_7276 : BitVec 32 := 11#32
  let v18633 : BitVec 32 := Scalar.addi v18457 c11_i32_7276
  let v18636 : Index := Scalar.indexCast v18633
  ![v18636.toNat]
def k0_off1013 (k0_t1 : Fin k0_t1_loop.trips) (v18457 : BitVec 32) (v18460 : BitVec 32) (v18637 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_7277 : BitVec 32 := 11#32
  let v18634 : BitVec 32 := Scalar.addi v18457 c11_i32_7277
  let v18635 : BitVec 1 := Scalar.cmpi .slt v18634 v18460
  let c65535_i32_7278 : BitVec 32 := 65535#32
  let v18638 : BitVec 32 := Scalar.andi v18637 c65535_i32_7278
  let c2048_i32_7279 : BitVec 32 := 2048#32
  let v18639 : BitVec 32 := Scalar.select v18635 v18638 c2048_i32_7279
  let v18640 : BitVec 32 := Scalar.addi v11087 v18639
  let v18643 : Index := Scalar.indexCast v18640
  let c0_7281 : Index := 0#32
  ![v18643.toNat, 0]

def k0_chk506 (i : grid0.Coords) (k0_t1 : Fin k0_t1_loop.trips) (v18457 : BitVec 32) (v18460 : BitVec 32) (v18637 : BitVec 32) : Prop :=
  (∀ (k0_h1 : k0_cond1 i = 1#1), ∀ a, (k0_off1013 k0_t1 v18457 v18460 v18637) a + S1x128.size a ≤ S8224x128.size a)
theorem k0_off1013_inb : ∀ (i : grid0.Coords) (k0_t1 : Fin k0_t1_loop.trips) (v18457 : BitVec 32) (v18460 : BitVec 32) (v18637 : BitVec 32) (k0_hw506 : k0_chk506 i k0_t1 v18457 v18460 v18637), ∀ (k0_h1 : k0_cond1 i = 1#1), ∀ a, (k0_off1013 k0_t1 v18457 v18460 v18637) a + S1x128.size a ≤ S8224x128.size a := fun i k0_t1 v18457 v18460 v18637 k0_hw506 k0_h1 => k0_hw506 k0_h1

def k0_off1014 (v18457 : BitVec 32) : Fin 1 → Nat :=
  let c12_i32_7282 : BitVec 32 := 12#32
  let v18648 : BitVec 32 := Scalar.addi v18457 c12_i32_7282
  let v18651 : Index := Scalar.indexCast v18648
  ![v18651.toNat]
def k0_off1015 (k0_t1 : Fin k0_t1_loop.trips) (v18457 : BitVec 32) (v18460 : BitVec 32) (v18652 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_7283 : BitVec 32 := 12#32
  let v18649 : BitVec 32 := Scalar.addi v18457 c12_i32_7283
  let v18650 : BitVec 1 := Scalar.cmpi .slt v18649 v18460
  let c65535_i32_7284 : BitVec 32 := 65535#32
  let v18653 : BitVec 32 := Scalar.andi v18652 c65535_i32_7284
  let c2048_i32_7285 : BitVec 32 := 2048#32
  let v18654 : BitVec 32 := Scalar.select v18650 v18653 c2048_i32_7285
  let v18655 : BitVec 32 := Scalar.addi v11087 v18654
  let v18658 : Index := Scalar.indexCast v18655
  let c0_7287 : Index := 0#32
  ![v18658.toNat, 0]

def k0_chk507 (i : grid0.Coords) (k0_t1 : Fin k0_t1_loop.trips) (v18457 : BitVec 32) (v18460 : BitVec 32) (v18652 : BitVec 32) : Prop :=
  (∀ (k0_h1 : k0_cond1 i = 1#1), ∀ a, (k0_off1015 k0_t1 v18457 v18460 v18652) a + S1x128.size a ≤ S8224x128.size a)
theorem k0_off1015_inb : ∀ (i : grid0.Coords) (k0_t1 : Fin k0_t1_loop.trips) (v18457 : BitVec 32) (v18460 : BitVec 32) (v18652 : BitVec 32) (k0_hw507 : k0_chk507 i k0_t1 v18457 v18460 v18652), ∀ (k0_h1 : k0_cond1 i = 1#1), ∀ a, (k0_off1015 k0_t1 v18457 v18460 v18652) a + S1x128.size a ≤ S8224x128.size a := fun i k0_t1 v18457 v18460 v18652 k0_hw507 k0_h1 => k0_hw507 k0_h1

def k0_off1016 (v18457 : BitVec 32) : Fin 1 → Nat :=
  let c13_i32_7288 : BitVec 32 := 13#32
  let v18663 : BitVec 32 := Scalar.addi v18457 c13_i32_7288
  let v18666 : Index := Scalar.indexCast v18663
  ![v18666.toNat]
def k0_off1017 (k0_t1 : Fin k0_t1_loop.trips) (v18457 : BitVec 32) (v18460 : BitVec 32) (v18667 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_7289 : BitVec 32 := 13#32
  let v18664 : BitVec 32 := Scalar.addi v18457 c13_i32_7289
  let v18665 : BitVec 1 := Scalar.cmpi .slt v18664 v18460
  let c65535_i32_7290 : BitVec 32 := 65535#32
  let v18668 : BitVec 32 := Scalar.andi v18667 c65535_i32_7290
  let c2048_i32_7291 : BitVec 32 := 2048#32
  let v18669 : BitVec 32 := Scalar.select v18665 v18668 c2048_i32_7291
  let v18670 : BitVec 32 := Scalar.addi v11087 v18669
  let v18673 : Index := Scalar.indexCast v18670
  let c0_7293 : Index := 0#32
  ![v18673.toNat, 0]

def k0_chk508 (i : grid0.Coords) (k0_t1 : Fin k0_t1_loop.trips) (v18457 : BitVec 32) (v18460 : BitVec 32) (v18667 : BitVec 32) : Prop :=
  (∀ (k0_h1 : k0_cond1 i = 1#1), ∀ a, (k0_off1017 k0_t1 v18457 v18460 v18667) a + S1x128.size a ≤ S8224x128.size a)
theorem k0_off1017_inb : ∀ (i : grid0.Coords) (k0_t1 : Fin k0_t1_loop.trips) (v18457 : BitVec 32) (v18460 : BitVec 32) (v18667 : BitVec 32) (k0_hw508 : k0_chk508 i k0_t1 v18457 v18460 v18667), ∀ (k0_h1 : k0_cond1 i = 1#1), ∀ a, (k0_off1017 k0_t1 v18457 v18460 v18667) a + S1x128.size a ≤ S8224x128.size a := fun i k0_t1 v18457 v18460 v18667 k0_hw508 k0_h1 => k0_hw508 k0_h1

def k0_off1018 (v18457 : BitVec 32) : Fin 1 → Nat :=
  let c14_i32_7294 : BitVec 32 := 14#32
  let v18678 : BitVec 32 := Scalar.addi v18457 c14_i32_7294
  let v18681 : Index := Scalar.indexCast v18678
  ![v18681.toNat]
def k0_off1019 (k0_t1 : Fin k0_t1_loop.trips) (v18457 : BitVec 32) (v18460 : BitVec 32) (v18682 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_7295 : BitVec 32 := 14#32
  let v18679 : BitVec 32 := Scalar.addi v18457 c14_i32_7295
  let v18680 : BitVec 1 := Scalar.cmpi .slt v18679 v18460
  let c65535_i32_7296 : BitVec 32 := 65535#32
  let v18683 : BitVec 32 := Scalar.andi v18682 c65535_i32_7296
  let c2048_i32_7297 : BitVec 32 := 2048#32
  let v18684 : BitVec 32 := Scalar.select v18680 v18683 c2048_i32_7297
  let v18685 : BitVec 32 := Scalar.addi v11087 v18684
  let v18688 : Index := Scalar.indexCast v18685
  let c0_7299 : Index := 0#32
  ![v18688.toNat, 0]

def k0_chk509 (i : grid0.Coords) (k0_t1 : Fin k0_t1_loop.trips) (v18457 : BitVec 32) (v18460 : BitVec 32) (v18682 : BitVec 32) : Prop :=
  (∀ (k0_h1 : k0_cond1 i = 1#1), ∀ a, (k0_off1019 k0_t1 v18457 v18460 v18682) a + S1x128.size a ≤ S8224x128.size a)
theorem k0_off1019_inb : ∀ (i : grid0.Coords) (k0_t1 : Fin k0_t1_loop.trips) (v18457 : BitVec 32) (v18460 : BitVec 32) (v18682 : BitVec 32) (k0_hw509 : k0_chk509 i k0_t1 v18457 v18460 v18682), ∀ (k0_h1 : k0_cond1 i = 1#1), ∀ a, (k0_off1019 k0_t1 v18457 v18460 v18682) a + S1x128.size a ≤ S8224x128.size a := fun i k0_t1 v18457 v18460 v18682 k0_hw509 k0_h1 => k0_hw509 k0_h1

def k0_off1020 (v18457 : BitVec 32) : Fin 1 → Nat :=
  let c15_i32_7300 : BitVec 32 := 15#32
  let v18693 : BitVec 32 := Scalar.addi v18457 c15_i32_7300
  let v18696 : Index := Scalar.indexCast v18693
  ![v18696.toNat]

def k0_chk494 (i : grid0.Coords) (v18457 : BitVec 32) : Prop :=
  (∀ (k0_h1 : k0_cond1 i = 1#1), ∀ a, (k0_off990 v18457) a + S1.size a ≤ S51920.size a) ∧
  (∀ (k0_h1 : k0_cond1 i = 1#1), ∀ a, (k0_off992 v18457) a + S1.size a ≤ S51920.size a) ∧
  (∀ (k0_h1 : k0_cond1 i = 1#1), ∀ a, (k0_off994 v18457) a + S1.size a ≤ S51920.size a) ∧
  (∀ (k0_h1 : k0_cond1 i = 1#1), ∀ a, (k0_off996 v18457) a + S1.size a ≤ S51920.size a) ∧
  (∀ (k0_h1 : k0_cond1 i = 1#1), ∀ a, (k0_off998 v18457) a + S1.size a ≤ S51920.size a) ∧
  (∀ (k0_h1 : k0_cond1 i = 1#1), ∀ a, (k0_off1000 v18457) a + S1.size a ≤ S51920.size a) ∧
  (∀ (k0_h1 : k0_cond1 i = 1#1), ∀ a, (k0_off1002 v18457) a + S1.size a ≤ S51920.size a) ∧
  (∀ (k0_h1 : k0_cond1 i = 1#1), ∀ a, (k0_off1004 v18457) a + S1.size a ≤ S51920.size a) ∧
  (∀ (k0_h1 : k0_cond1 i = 1#1), ∀ a, (k0_off1006 v18457) a + S1.size a ≤ S51920.size a) ∧
  (∀ (k0_h1 : k0_cond1 i = 1#1), ∀ a, (k0_off1008 v18457) a + S1.size a ≤ S51920.size a) ∧
  (∀ (k0_h1 : k0_cond1 i = 1#1), ∀ a, (k0_off1010 v18457) a + S1.size a ≤ S51920.size a) ∧
  (∀ (k0_h1 : k0_cond1 i = 1#1), ∀ a, (k0_off1012 v18457) a + S1.size a ≤ S51920.size a) ∧
  (∀ (k0_h1 : k0_cond1 i = 1#1), ∀ a, (k0_off1014 v18457) a + S1.size a ≤ S51920.size a) ∧
  (∀ (k0_h1 : k0_cond1 i = 1#1), ∀ a, (k0_off1016 v18457) a + S1.size a ≤ S51920.size a) ∧
  (∀ (k0_h1 : k0_cond1 i = 1#1), ∀ a, (k0_off1018 v18457) a + S1.size a ≤ S51920.size a) ∧
  (∀ (k0_h1 : k0_cond1 i = 1#1), ∀ a, (k0_off1020 v18457) a + S1.size a ≤ S51920.size a)
theorem k0_off990_inb : ∀ (i : grid0.Coords) (v18457 : BitVec 32) (k0_hw494 : k0_chk494 i v18457), ∀ (k0_h1 : k0_cond1 i = 1#1), ∀ a, (k0_off990 v18457) a + S1.size a ≤ S51920.size a := fun i v18457 k0_hw494 k0_h1 => k0_hw494.1 k0_h1
theorem k0_off992_inb : ∀ (i : grid0.Coords) (v18457 : BitVec 32) (k0_hw494 : k0_chk494 i v18457), ∀ (k0_h1 : k0_cond1 i = 1#1), ∀ a, (k0_off992 v18457) a + S1.size a ≤ S51920.size a := fun i v18457 k0_hw494 k0_h1 => k0_hw494.2.1 k0_h1
theorem k0_off994_inb : ∀ (i : grid0.Coords) (v18457 : BitVec 32) (k0_hw494 : k0_chk494 i v18457), ∀ (k0_h1 : k0_cond1 i = 1#1), ∀ a, (k0_off994 v18457) a + S1.size a ≤ S51920.size a := fun i v18457 k0_hw494 k0_h1 => k0_hw494.2.2.1 k0_h1
theorem k0_off996_inb : ∀ (i : grid0.Coords) (v18457 : BitVec 32) (k0_hw494 : k0_chk494 i v18457), ∀ (k0_h1 : k0_cond1 i = 1#1), ∀ a, (k0_off996 v18457) a + S1.size a ≤ S51920.size a := fun i v18457 k0_hw494 k0_h1 => k0_hw494.2.2.2.1 k0_h1
theorem k0_off998_inb : ∀ (i : grid0.Coords) (v18457 : BitVec 32) (k0_hw494 : k0_chk494 i v18457), ∀ (k0_h1 : k0_cond1 i = 1#1), ∀ a, (k0_off998 v18457) a + S1.size a ≤ S51920.size a := fun i v18457 k0_hw494 k0_h1 => k0_hw494.2.2.2.2.1 k0_h1
theorem k0_off1000_inb : ∀ (i : grid0.Coords) (v18457 : BitVec 32) (k0_hw494 : k0_chk494 i v18457), ∀ (k0_h1 : k0_cond1 i = 1#1), ∀ a, (k0_off1000 v18457) a + S1.size a ≤ S51920.size a := fun i v18457 k0_hw494 k0_h1 => k0_hw494.2.2.2.2.2.1 k0_h1
theorem k0_off1002_inb : ∀ (i : grid0.Coords) (v18457 : BitVec 32) (k0_hw494 : k0_chk494 i v18457), ∀ (k0_h1 : k0_cond1 i = 1#1), ∀ a, (k0_off1002 v18457) a + S1.size a ≤ S51920.size a := fun i v18457 k0_hw494 k0_h1 => k0_hw494.2.2.2.2.2.2.1 k0_h1
theorem k0_off1004_inb : ∀ (i : grid0.Coords) (v18457 : BitVec 32) (k0_hw494 : k0_chk494 i v18457), ∀ (k0_h1 : k0_cond1 i = 1#1), ∀ a, (k0_off1004 v18457) a + S1.size a ≤ S51920.size a := fun i v18457 k0_hw494 k0_h1 => k0_hw494.2.2.2.2.2.2.2.1 k0_h1
theorem k0_off1006_inb : ∀ (i : grid0.Coords) (v18457 : BitVec 32) (k0_hw494 : k0_chk494 i v18457), ∀ (k0_h1 : k0_cond1 i = 1#1), ∀ a, (k0_off1006 v18457) a + S1.size a ≤ S51920.size a := fun i v18457 k0_hw494 k0_h1 => k0_hw494.2.2.2.2.2.2.2.2.1 k0_h1
theorem k0_off1008_inb : ∀ (i : grid0.Coords) (v18457 : BitVec 32) (k0_hw494 : k0_chk494 i v18457), ∀ (k0_h1 : k0_cond1 i = 1#1), ∀ a, (k0_off1008 v18457) a + S1.size a ≤ S51920.size a := fun i v18457 k0_hw494 k0_h1 => k0_hw494.2.2.2.2.2.2.2.2.2.1 k0_h1
theorem k0_off1010_inb : ∀ (i : grid0.Coords) (v18457 : BitVec 32) (k0_hw494 : k0_chk494 i v18457), ∀ (k0_h1 : k0_cond1 i = 1#1), ∀ a, (k0_off1010 v18457) a + S1.size a ≤ S51920.size a := fun i v18457 k0_hw494 k0_h1 => k0_hw494.2.2.2.2.2.2.2.2.2.2.1 k0_h1
theorem k0_off1012_inb : ∀ (i : grid0.Coords) (v18457 : BitVec 32) (k0_hw494 : k0_chk494 i v18457), ∀ (k0_h1 : k0_cond1 i = 1#1), ∀ a, (k0_off1012 v18457) a + S1.size a ≤ S51920.size a := fun i v18457 k0_hw494 k0_h1 => k0_hw494.2.2.2.2.2.2.2.2.2.2.2.1 k0_h1
theorem k0_off1014_inb : ∀ (i : grid0.Coords) (v18457 : BitVec 32) (k0_hw494 : k0_chk494 i v18457), ∀ (k0_h1 : k0_cond1 i = 1#1), ∀ a, (k0_off1014 v18457) a + S1.size a ≤ S51920.size a := fun i v18457 k0_hw494 k0_h1 => k0_hw494.2.2.2.2.2.2.2.2.2.2.2.2.1 k0_h1
theorem k0_off1016_inb : ∀ (i : grid0.Coords) (v18457 : BitVec 32) (k0_hw494 : k0_chk494 i v18457), ∀ (k0_h1 : k0_cond1 i = 1#1), ∀ a, (k0_off1016 v18457) a + S1.size a ≤ S51920.size a := fun i v18457 k0_hw494 k0_h1 => k0_hw494.2.2.2.2.2.2.2.2.2.2.2.2.2.1 k0_h1
theorem k0_off1018_inb : ∀ (i : grid0.Coords) (v18457 : BitVec 32) (k0_hw494 : k0_chk494 i v18457), ∀ (k0_h1 : k0_cond1 i = 1#1), ∀ a, (k0_off1018 v18457) a + S1.size a ≤ S51920.size a := fun i v18457 k0_hw494 k0_h1 => k0_hw494.2.2.2.2.2.2.2.2.2.2.2.2.2.2.1 k0_h1
theorem k0_off1020_inb : ∀ (i : grid0.Coords) (v18457 : BitVec 32) (k0_hw494 : k0_chk494 i v18457), ∀ (k0_h1 : k0_cond1 i = 1#1), ∀ a, (k0_off1020 v18457) a + S1.size a ≤ S51920.size a := fun i v18457 k0_hw494 k0_h1 => k0_hw494.2.2.2.2.2.2.2.2.2.2.2.2.2.2.2 k0_h1

def k0_off1021 (k0_t1 : Fin k0_t1_loop.trips) (v18457 : BitVec 32) (v18460 : BitVec 32) (v18697 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_7301 : BitVec 32 := 15#32
  let v18694 : BitVec 32 := Scalar.addi v18457 c15_i32_7301
  let v18695 : BitVec 1 := Scalar.cmpi .slt v18694 v18460
  let c65535_i32_7302 : BitVec 32 := 65535#32
  let v18698 : BitVec 32 := Scalar.andi v18697 c65535_i32_7302
  let c2048_i32_7303 : BitVec 32 := 2048#32
  let v18699 : BitVec 32 := Scalar.select v18695 v18698 c2048_i32_7303
  let v18700 : BitVec 32 := Scalar.addi v11087 v18699
  let v18703 : Index := Scalar.indexCast v18700
  let c0_7305 : Index := 0#32
  ![v18703.toNat, 0]

def k0_chk510 (i : grid0.Coords) (k0_t1 : Fin k0_t1_loop.trips) (v18457 : BitVec 32) (v18460 : BitVec 32) (v18697 : BitVec 32) : Prop :=
  (∀ (k0_h1 : k0_cond1 i = 1#1), ∀ a, (k0_off1021 k0_t1 v18457 v18460 v18697) a + S1x128.size a ≤ S8224x128.size a)
theorem k0_off1021_inb : ∀ (i : grid0.Coords) (k0_t1 : Fin k0_t1_loop.trips) (v18457 : BitVec 32) (v18460 : BitVec 32) (v18697 : BitVec 32) (k0_hw510 : k0_chk510 i k0_t1 v18457 v18460 v18697), ∀ (k0_h1 : k0_cond1 i = 1#1), ∀ a, (k0_off1021 k0_t1 v18457 v18460 v18697) a + S1x128.size a ≤ S8224x128.size a := fun i k0_t1 v18457 v18460 v18697 k0_hw510 k0_h1 => k0_hw510 k0_h1

def k0_off1022 (k0_t1 : Fin k0_t1_loop.trips) : Fin 1 → Nat :=
  let c0_i32_7306 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v18708 : BitVec 32 := Scalar.addi c0_i32_7306 v11069
  let c30_i32_7307 : BitVec 32 := 30#32
  let v18709 : BitVec 32 := Scalar.addi v18708 c30_i32_7307
  let v18710 : Index := Scalar.indexCast v18709
  ![v18710.toNat]
def k0_off1023 (k0_t1 : Fin k0_t1_loop.trips) : Fin 1 → Nat :=
  let c0_i32_7306 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v18708 : BitVec 32 := Scalar.addi c0_i32_7306 v11069
  let c30_i32_7307 : BitVec 32 := 30#32
  let v18709 : BitVec 32 := Scalar.addi v18708 c30_i32_7307
  let c1_i32_7308 : BitVec 32 := 1#32
  let v18712 : BitVec 32 := Scalar.addi v18709 c1_i32_7308
  let v18713 : Index := Scalar.indexCast v18712
  ![v18713.toNat]
def k0_off1024 (v18711 : BitVec 32) : Fin 1 → Nat :=
  let c0_i32_7311 : BitVec 32 := 0#32
  let v18722 : BitVec 32 := Scalar.addi v18711 c0_i32_7311
  let v18725 : Index := Scalar.indexCast v18722
  ![v18725.toNat]

def k0_off1025 (k0_t1 : Fin k0_t1_loop.trips) (v18711 : BitVec 32) (v18714 : BitVec 32) (v18726 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_7312 : BitVec 32 := 0#32
  let v18723 : BitVec 32 := Scalar.addi v18711 c0_i32_7312
  let v18724 : BitVec 1 := Scalar.cmpi .slt v18723 v18714
  let c65535_i32_7313 : BitVec 32 := 65535#32
  let v18727 : BitVec 32 := Scalar.andi v18726 c65535_i32_7313
  let c2048_i32_7314 : BitVec 32 := 2048#32
  let v18728 : BitVec 32 := Scalar.select v18724 v18727 c2048_i32_7314
  let v18729 : BitVec 32 := Scalar.addi v11087 v18728
  let v18732 : Index := Scalar.indexCast v18729
  let c0_7316 : Index := 0#32
  ![v18732.toNat, 0]

def k0_chk512 (i : grid0.Coords) (k0_t1 : Fin k0_t1_loop.trips) (v18711 : BitVec 32) (v18714 : BitVec 32) (v18726 : BitVec 32) : Prop :=
  (∀ (k0_h1 : k0_cond1 i = 1#1), ∀ a, (k0_off1025 k0_t1 v18711 v18714 v18726) a + S1x128.size a ≤ S8224x128.size a)
theorem k0_off1025_inb : ∀ (i : grid0.Coords) (k0_t1 : Fin k0_t1_loop.trips) (v18711 : BitVec 32) (v18714 : BitVec 32) (v18726 : BitVec 32) (k0_hw512 : k0_chk512 i k0_t1 v18711 v18714 v18726), ∀ (k0_h1 : k0_cond1 i = 1#1), ∀ a, (k0_off1025 k0_t1 v18711 v18714 v18726) a + S1x128.size a ≤ S8224x128.size a := fun i k0_t1 v18711 v18714 v18726 k0_hw512 k0_h1 => k0_hw512 k0_h1

def k0_off1026 (v18711 : BitVec 32) : Fin 1 → Nat :=
  let c1_i32_7317 : BitVec 32 := 1#32
  let v18737 : BitVec 32 := Scalar.addi v18711 c1_i32_7317
  let v18740 : Index := Scalar.indexCast v18737
  ![v18740.toNat]
def k0_off1027 (k0_t1 : Fin k0_t1_loop.trips) (v18711 : BitVec 32) (v18714 : BitVec 32) (v18741 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_7318 : BitVec 32 := 1#32
  let v18738 : BitVec 32 := Scalar.addi v18711 c1_i32_7318
  let v18739 : BitVec 1 := Scalar.cmpi .slt v18738 v18714
  let c65535_i32_7319 : BitVec 32 := 65535#32
  let v18742 : BitVec 32 := Scalar.andi v18741 c65535_i32_7319
  let c2048_i32_7320 : BitVec 32 := 2048#32
  let v18743 : BitVec 32 := Scalar.select v18739 v18742 c2048_i32_7320
  let v18744 : BitVec 32 := Scalar.addi v11087 v18743
  let v18747 : Index := Scalar.indexCast v18744
  let c0_7322 : Index := 0#32
  ![v18747.toNat, 0]

def k0_chk513 (i : grid0.Coords) (k0_t1 : Fin k0_t1_loop.trips) (v18711 : BitVec 32) (v18714 : BitVec 32) (v18741 : BitVec 32) : Prop :=
  (∀ (k0_h1 : k0_cond1 i = 1#1), ∀ a, (k0_off1027 k0_t1 v18711 v18714 v18741) a + S1x128.size a ≤ S8224x128.size a)
theorem k0_off1027_inb : ∀ (i : grid0.Coords) (k0_t1 : Fin k0_t1_loop.trips) (v18711 : BitVec 32) (v18714 : BitVec 32) (v18741 : BitVec 32) (k0_hw513 : k0_chk513 i k0_t1 v18711 v18714 v18741), ∀ (k0_h1 : k0_cond1 i = 1#1), ∀ a, (k0_off1027 k0_t1 v18711 v18714 v18741) a + S1x128.size a ≤ S8224x128.size a := fun i k0_t1 v18711 v18714 v18741 k0_hw513 k0_h1 => k0_hw513 k0_h1

def k0_off1028 (v18711 : BitVec 32) : Fin 1 → Nat :=
  let c2_i32_7323 : BitVec 32 := 2#32
  let v18752 : BitVec 32 := Scalar.addi v18711 c2_i32_7323
  let v18755 : Index := Scalar.indexCast v18752
  ![v18755.toNat]
def k0_off1029 (k0_t1 : Fin k0_t1_loop.trips) (v18711 : BitVec 32) (v18714 : BitVec 32) (v18756 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_7324 : BitVec 32 := 2#32
  let v18753 : BitVec 32 := Scalar.addi v18711 c2_i32_7324
  let v18754 : BitVec 1 := Scalar.cmpi .slt v18753 v18714
  let c65535_i32_7325 : BitVec 32 := 65535#32
  let v18757 : BitVec 32 := Scalar.andi v18756 c65535_i32_7325
  let c2048_i32_7326 : BitVec 32 := 2048#32
  let v18758 : BitVec 32 := Scalar.select v18754 v18757 c2048_i32_7326
  let v18759 : BitVec 32 := Scalar.addi v11087 v18758
  let v18762 : Index := Scalar.indexCast v18759
  let c0_7328 : Index := 0#32
  ![v18762.toNat, 0]

def k0_chk514 (i : grid0.Coords) (k0_t1 : Fin k0_t1_loop.trips) (v18711 : BitVec 32) (v18714 : BitVec 32) (v18756 : BitVec 32) : Prop :=
  (∀ (k0_h1 : k0_cond1 i = 1#1), ∀ a, (k0_off1029 k0_t1 v18711 v18714 v18756) a + S1x128.size a ≤ S8224x128.size a)
theorem k0_off1029_inb : ∀ (i : grid0.Coords) (k0_t1 : Fin k0_t1_loop.trips) (v18711 : BitVec 32) (v18714 : BitVec 32) (v18756 : BitVec 32) (k0_hw514 : k0_chk514 i k0_t1 v18711 v18714 v18756), ∀ (k0_h1 : k0_cond1 i = 1#1), ∀ a, (k0_off1029 k0_t1 v18711 v18714 v18756) a + S1x128.size a ≤ S8224x128.size a := fun i k0_t1 v18711 v18714 v18756 k0_hw514 k0_h1 => k0_hw514 k0_h1

def k0_off1030 (v18711 : BitVec 32) : Fin 1 → Nat :=
  let c3_i32_7329 : BitVec 32 := 3#32
  let v18767 : BitVec 32 := Scalar.addi v18711 c3_i32_7329
  let v18770 : Index := Scalar.indexCast v18767
  ![v18770.toNat]
def k0_off1031 (k0_t1 : Fin k0_t1_loop.trips) (v18711 : BitVec 32) (v18714 : BitVec 32) (v18771 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_7330 : BitVec 32 := 3#32
  let v18768 : BitVec 32 := Scalar.addi v18711 c3_i32_7330
  let v18769 : BitVec 1 := Scalar.cmpi .slt v18768 v18714
  let c65535_i32_7331 : BitVec 32 := 65535#32
  let v18772 : BitVec 32 := Scalar.andi v18771 c65535_i32_7331
  let c2048_i32_7332 : BitVec 32 := 2048#32
  let v18773 : BitVec 32 := Scalar.select v18769 v18772 c2048_i32_7332
  let v18774 : BitVec 32 := Scalar.addi v11087 v18773
  let v18777 : Index := Scalar.indexCast v18774
  let c0_7334 : Index := 0#32
  ![v18777.toNat, 0]

def k0_chk515 (i : grid0.Coords) (k0_t1 : Fin k0_t1_loop.trips) (v18711 : BitVec 32) (v18714 : BitVec 32) (v18771 : BitVec 32) : Prop :=
  (∀ (k0_h1 : k0_cond1 i = 1#1), ∀ a, (k0_off1031 k0_t1 v18711 v18714 v18771) a + S1x128.size a ≤ S8224x128.size a)
theorem k0_off1031_inb : ∀ (i : grid0.Coords) (k0_t1 : Fin k0_t1_loop.trips) (v18711 : BitVec 32) (v18714 : BitVec 32) (v18771 : BitVec 32) (k0_hw515 : k0_chk515 i k0_t1 v18711 v18714 v18771), ∀ (k0_h1 : k0_cond1 i = 1#1), ∀ a, (k0_off1031 k0_t1 v18711 v18714 v18771) a + S1x128.size a ≤ S8224x128.size a := fun i k0_t1 v18711 v18714 v18771 k0_hw515 k0_h1 => k0_hw515 k0_h1

def k0_off1032 (v18711 : BitVec 32) : Fin 1 → Nat :=
  let c4_i32_7335 : BitVec 32 := 4#32
  let v18782 : BitVec 32 := Scalar.addi v18711 c4_i32_7335
  let v18785 : Index := Scalar.indexCast v18782
  ![v18785.toNat]
def k0_off1033 (k0_t1 : Fin k0_t1_loop.trips) (v18711 : BitVec 32) (v18714 : BitVec 32) (v18786 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_7336 : BitVec 32 := 4#32
  let v18783 : BitVec 32 := Scalar.addi v18711 c4_i32_7336
  let v18784 : BitVec 1 := Scalar.cmpi .slt v18783 v18714
  let c65535_i32_7337 : BitVec 32 := 65535#32
  let v18787 : BitVec 32 := Scalar.andi v18786 c65535_i32_7337
  let c2048_i32_7338 : BitVec 32 := 2048#32
  let v18788 : BitVec 32 := Scalar.select v18784 v18787 c2048_i32_7338
  let v18789 : BitVec 32 := Scalar.addi v11087 v18788
  let v18792 : Index := Scalar.indexCast v18789
  let c0_7340 : Index := 0#32
  ![v18792.toNat, 0]

def k0_chk516 (i : grid0.Coords) (k0_t1 : Fin k0_t1_loop.trips) (v18711 : BitVec 32) (v18714 : BitVec 32) (v18786 : BitVec 32) : Prop :=
  (∀ (k0_h1 : k0_cond1 i = 1#1), ∀ a, (k0_off1033 k0_t1 v18711 v18714 v18786) a + S1x128.size a ≤ S8224x128.size a)
theorem k0_off1033_inb : ∀ (i : grid0.Coords) (k0_t1 : Fin k0_t1_loop.trips) (v18711 : BitVec 32) (v18714 : BitVec 32) (v18786 : BitVec 32) (k0_hw516 : k0_chk516 i k0_t1 v18711 v18714 v18786), ∀ (k0_h1 : k0_cond1 i = 1#1), ∀ a, (k0_off1033 k0_t1 v18711 v18714 v18786) a + S1x128.size a ≤ S8224x128.size a := fun i k0_t1 v18711 v18714 v18786 k0_hw516 k0_h1 => k0_hw516 k0_h1

def k0_off1034 (v18711 : BitVec 32) : Fin 1 → Nat :=
  let c5_i32_7341 : BitVec 32 := 5#32
  let v18797 : BitVec 32 := Scalar.addi v18711 c5_i32_7341
  let v18800 : Index := Scalar.indexCast v18797
  ![v18800.toNat]
def k0_off1035 (k0_t1 : Fin k0_t1_loop.trips) (v18711 : BitVec 32) (v18714 : BitVec 32) (v18801 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_7342 : BitVec 32 := 5#32
  let v18798 : BitVec 32 := Scalar.addi v18711 c5_i32_7342
  let v18799 : BitVec 1 := Scalar.cmpi .slt v18798 v18714
  let c65535_i32_7343 : BitVec 32 := 65535#32
  let v18802 : BitVec 32 := Scalar.andi v18801 c65535_i32_7343
  let c2048_i32_7344 : BitVec 32 := 2048#32
  let v18803 : BitVec 32 := Scalar.select v18799 v18802 c2048_i32_7344
  let v18804 : BitVec 32 := Scalar.addi v11087 v18803
  let v18807 : Index := Scalar.indexCast v18804
  let c0_7346 : Index := 0#32
  ![v18807.toNat, 0]

def k0_chk517 (i : grid0.Coords) (k0_t1 : Fin k0_t1_loop.trips) (v18711 : BitVec 32) (v18714 : BitVec 32) (v18801 : BitVec 32) : Prop :=
  (∀ (k0_h1 : k0_cond1 i = 1#1), ∀ a, (k0_off1035 k0_t1 v18711 v18714 v18801) a + S1x128.size a ≤ S8224x128.size a)
theorem k0_off1035_inb : ∀ (i : grid0.Coords) (k0_t1 : Fin k0_t1_loop.trips) (v18711 : BitVec 32) (v18714 : BitVec 32) (v18801 : BitVec 32) (k0_hw517 : k0_chk517 i k0_t1 v18711 v18714 v18801), ∀ (k0_h1 : k0_cond1 i = 1#1), ∀ a, (k0_off1035 k0_t1 v18711 v18714 v18801) a + S1x128.size a ≤ S8224x128.size a := fun i k0_t1 v18711 v18714 v18801 k0_hw517 k0_h1 => k0_hw517 k0_h1

def k0_off1036 (v18711 : BitVec 32) : Fin 1 → Nat :=
  let c6_i32_7347 : BitVec 32 := 6#32
  let v18812 : BitVec 32 := Scalar.addi v18711 c6_i32_7347
  let v18815 : Index := Scalar.indexCast v18812
  ![v18815.toNat]
def k0_off1037 (k0_t1 : Fin k0_t1_loop.trips) (v18711 : BitVec 32) (v18714 : BitVec 32) (v18816 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_7348 : BitVec 32 := 6#32
  let v18813 : BitVec 32 := Scalar.addi v18711 c6_i32_7348
  let v18814 : BitVec 1 := Scalar.cmpi .slt v18813 v18714
  let c65535_i32_7349 : BitVec 32 := 65535#32
  let v18817 : BitVec 32 := Scalar.andi v18816 c65535_i32_7349
  let c2048_i32_7350 : BitVec 32 := 2048#32
  let v18818 : BitVec 32 := Scalar.select v18814 v18817 c2048_i32_7350
  let v18819 : BitVec 32 := Scalar.addi v11087 v18818
  let v18822 : Index := Scalar.indexCast v18819
  let c0_7352 : Index := 0#32
  ![v18822.toNat, 0]

def k0_chk518 (i : grid0.Coords) (k0_t1 : Fin k0_t1_loop.trips) (v18711 : BitVec 32) (v18714 : BitVec 32) (v18816 : BitVec 32) : Prop :=
  (∀ (k0_h1 : k0_cond1 i = 1#1), ∀ a, (k0_off1037 k0_t1 v18711 v18714 v18816) a + S1x128.size a ≤ S8224x128.size a)
theorem k0_off1037_inb : ∀ (i : grid0.Coords) (k0_t1 : Fin k0_t1_loop.trips) (v18711 : BitVec 32) (v18714 : BitVec 32) (v18816 : BitVec 32) (k0_hw518 : k0_chk518 i k0_t1 v18711 v18714 v18816), ∀ (k0_h1 : k0_cond1 i = 1#1), ∀ a, (k0_off1037 k0_t1 v18711 v18714 v18816) a + S1x128.size a ≤ S8224x128.size a := fun i k0_t1 v18711 v18714 v18816 k0_hw518 k0_h1 => k0_hw518 k0_h1

def k0_off1038 (v18711 : BitVec 32) : Fin 1 → Nat :=
  let c7_i32_7353 : BitVec 32 := 7#32
  let v18827 : BitVec 32 := Scalar.addi v18711 c7_i32_7353
  let v18830 : Index := Scalar.indexCast v18827
  ![v18830.toNat]
def k0_off1039 (k0_t1 : Fin k0_t1_loop.trips) (v18711 : BitVec 32) (v18714 : BitVec 32) (v18831 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_7354 : BitVec 32 := 7#32
  let v18828 : BitVec 32 := Scalar.addi v18711 c7_i32_7354
  let v18829 : BitVec 1 := Scalar.cmpi .slt v18828 v18714
  let c65535_i32_7355 : BitVec 32 := 65535#32
  let v18832 : BitVec 32 := Scalar.andi v18831 c65535_i32_7355
  let c2048_i32_7356 : BitVec 32 := 2048#32
  let v18833 : BitVec 32 := Scalar.select v18829 v18832 c2048_i32_7356
  let v18834 : BitVec 32 := Scalar.addi v11087 v18833
  let v18837 : Index := Scalar.indexCast v18834
  let c0_7358 : Index := 0#32
  ![v18837.toNat, 0]

def k0_chk519 (i : grid0.Coords) (k0_t1 : Fin k0_t1_loop.trips) (v18711 : BitVec 32) (v18714 : BitVec 32) (v18831 : BitVec 32) : Prop :=
  (∀ (k0_h1 : k0_cond1 i = 1#1), ∀ a, (k0_off1039 k0_t1 v18711 v18714 v18831) a + S1x128.size a ≤ S8224x128.size a)
theorem k0_off1039_inb : ∀ (i : grid0.Coords) (k0_t1 : Fin k0_t1_loop.trips) (v18711 : BitVec 32) (v18714 : BitVec 32) (v18831 : BitVec 32) (k0_hw519 : k0_chk519 i k0_t1 v18711 v18714 v18831), ∀ (k0_h1 : k0_cond1 i = 1#1), ∀ a, (k0_off1039 k0_t1 v18711 v18714 v18831) a + S1x128.size a ≤ S8224x128.size a := fun i k0_t1 v18711 v18714 v18831 k0_hw519 k0_h1 => k0_hw519 k0_h1

def k0_off1040 (v18711 : BitVec 32) : Fin 1 → Nat :=
  let c8_i32_7359 : BitVec 32 := 8#32
  let v18842 : BitVec 32 := Scalar.addi v18711 c8_i32_7359
  let v18845 : Index := Scalar.indexCast v18842
  ![v18845.toNat]
def k0_off1041 (k0_t1 : Fin k0_t1_loop.trips) (v18711 : BitVec 32) (v18714 : BitVec 32) (v18846 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_7360 : BitVec 32 := 8#32
  let v18843 : BitVec 32 := Scalar.addi v18711 c8_i32_7360
  let v18844 : BitVec 1 := Scalar.cmpi .slt v18843 v18714
  let c65535_i32_7361 : BitVec 32 := 65535#32
  let v18847 : BitVec 32 := Scalar.andi v18846 c65535_i32_7361
  let c2048_i32_7362 : BitVec 32 := 2048#32
  let v18848 : BitVec 32 := Scalar.select v18844 v18847 c2048_i32_7362
  let v18849 : BitVec 32 := Scalar.addi v11087 v18848
  let v18852 : Index := Scalar.indexCast v18849
  let c0_7364 : Index := 0#32
  ![v18852.toNat, 0]

def k0_chk520 (i : grid0.Coords) (k0_t1 : Fin k0_t1_loop.trips) (v18711 : BitVec 32) (v18714 : BitVec 32) (v18846 : BitVec 32) : Prop :=
  (∀ (k0_h1 : k0_cond1 i = 1#1), ∀ a, (k0_off1041 k0_t1 v18711 v18714 v18846) a + S1x128.size a ≤ S8224x128.size a)
theorem k0_off1041_inb : ∀ (i : grid0.Coords) (k0_t1 : Fin k0_t1_loop.trips) (v18711 : BitVec 32) (v18714 : BitVec 32) (v18846 : BitVec 32) (k0_hw520 : k0_chk520 i k0_t1 v18711 v18714 v18846), ∀ (k0_h1 : k0_cond1 i = 1#1), ∀ a, (k0_off1041 k0_t1 v18711 v18714 v18846) a + S1x128.size a ≤ S8224x128.size a := fun i k0_t1 v18711 v18714 v18846 k0_hw520 k0_h1 => k0_hw520 k0_h1

def k0_off1042 (v18711 : BitVec 32) : Fin 1 → Nat :=
  let c9_i32_7365 : BitVec 32 := 9#32
  let v18857 : BitVec 32 := Scalar.addi v18711 c9_i32_7365
  let v18860 : Index := Scalar.indexCast v18857
  ![v18860.toNat]
def k0_off1043 (k0_t1 : Fin k0_t1_loop.trips) (v18711 : BitVec 32) (v18714 : BitVec 32) (v18861 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_7366 : BitVec 32 := 9#32
  let v18858 : BitVec 32 := Scalar.addi v18711 c9_i32_7366
  let v18859 : BitVec 1 := Scalar.cmpi .slt v18858 v18714
  let c65535_i32_7367 : BitVec 32 := 65535#32
  let v18862 : BitVec 32 := Scalar.andi v18861 c65535_i32_7367
  let c2048_i32_7368 : BitVec 32 := 2048#32
  let v18863 : BitVec 32 := Scalar.select v18859 v18862 c2048_i32_7368
  let v18864 : BitVec 32 := Scalar.addi v11087 v18863
  let v18867 : Index := Scalar.indexCast v18864
  let c0_7370 : Index := 0#32
  ![v18867.toNat, 0]

def k0_chk521 (i : grid0.Coords) (k0_t1 : Fin k0_t1_loop.trips) (v18711 : BitVec 32) (v18714 : BitVec 32) (v18861 : BitVec 32) : Prop :=
  (∀ (k0_h1 : k0_cond1 i = 1#1), ∀ a, (k0_off1043 k0_t1 v18711 v18714 v18861) a + S1x128.size a ≤ S8224x128.size a)
theorem k0_off1043_inb : ∀ (i : grid0.Coords) (k0_t1 : Fin k0_t1_loop.trips) (v18711 : BitVec 32) (v18714 : BitVec 32) (v18861 : BitVec 32) (k0_hw521 : k0_chk521 i k0_t1 v18711 v18714 v18861), ∀ (k0_h1 : k0_cond1 i = 1#1), ∀ a, (k0_off1043 k0_t1 v18711 v18714 v18861) a + S1x128.size a ≤ S8224x128.size a := fun i k0_t1 v18711 v18714 v18861 k0_hw521 k0_h1 => k0_hw521 k0_h1

def k0_off1044 (v18711 : BitVec 32) : Fin 1 → Nat :=
  let c10_i32_7371 : BitVec 32 := 10#32
  let v18872 : BitVec 32 := Scalar.addi v18711 c10_i32_7371
  let v18875 : Index := Scalar.indexCast v18872
  ![v18875.toNat]
def k0_off1045 (k0_t1 : Fin k0_t1_loop.trips) (v18711 : BitVec 32) (v18714 : BitVec 32) (v18876 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_7372 : BitVec 32 := 10#32
  let v18873 : BitVec 32 := Scalar.addi v18711 c10_i32_7372
  let v18874 : BitVec 1 := Scalar.cmpi .slt v18873 v18714
  let c65535_i32_7373 : BitVec 32 := 65535#32
  let v18877 : BitVec 32 := Scalar.andi v18876 c65535_i32_7373
  let c2048_i32_7374 : BitVec 32 := 2048#32
  let v18878 : BitVec 32 := Scalar.select v18874 v18877 c2048_i32_7374
  let v18879 : BitVec 32 := Scalar.addi v11087 v18878
  let v18882 : Index := Scalar.indexCast v18879
  let c0_7376 : Index := 0#32
  ![v18882.toNat, 0]

def k0_chk522 (i : grid0.Coords) (k0_t1 : Fin k0_t1_loop.trips) (v18711 : BitVec 32) (v18714 : BitVec 32) (v18876 : BitVec 32) : Prop :=
  (∀ (k0_h1 : k0_cond1 i = 1#1), ∀ a, (k0_off1045 k0_t1 v18711 v18714 v18876) a + S1x128.size a ≤ S8224x128.size a)
theorem k0_off1045_inb : ∀ (i : grid0.Coords) (k0_t1 : Fin k0_t1_loop.trips) (v18711 : BitVec 32) (v18714 : BitVec 32) (v18876 : BitVec 32) (k0_hw522 : k0_chk522 i k0_t1 v18711 v18714 v18876), ∀ (k0_h1 : k0_cond1 i = 1#1), ∀ a, (k0_off1045 k0_t1 v18711 v18714 v18876) a + S1x128.size a ≤ S8224x128.size a := fun i k0_t1 v18711 v18714 v18876 k0_hw522 k0_h1 => k0_hw522 k0_h1

def k0_off1046 (v18711 : BitVec 32) : Fin 1 → Nat :=
  let c11_i32_7377 : BitVec 32 := 11#32
  let v18887 : BitVec 32 := Scalar.addi v18711 c11_i32_7377
  let v18890 : Index := Scalar.indexCast v18887
  ![v18890.toNat]
def k0_off1047 (k0_t1 : Fin k0_t1_loop.trips) (v18711 : BitVec 32) (v18714 : BitVec 32) (v18891 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_7378 : BitVec 32 := 11#32
  let v18888 : BitVec 32 := Scalar.addi v18711 c11_i32_7378
  let v18889 : BitVec 1 := Scalar.cmpi .slt v18888 v18714
  let c65535_i32_7379 : BitVec 32 := 65535#32
  let v18892 : BitVec 32 := Scalar.andi v18891 c65535_i32_7379
  let c2048_i32_7380 : BitVec 32 := 2048#32
  let v18893 : BitVec 32 := Scalar.select v18889 v18892 c2048_i32_7380
  let v18894 : BitVec 32 := Scalar.addi v11087 v18893
  let v18897 : Index := Scalar.indexCast v18894
  let c0_7382 : Index := 0#32
  ![v18897.toNat, 0]

def k0_chk523 (i : grid0.Coords) (k0_t1 : Fin k0_t1_loop.trips) (v18711 : BitVec 32) (v18714 : BitVec 32) (v18891 : BitVec 32) : Prop :=
  (∀ (k0_h1 : k0_cond1 i = 1#1), ∀ a, (k0_off1047 k0_t1 v18711 v18714 v18891) a + S1x128.size a ≤ S8224x128.size a)
theorem k0_off1047_inb : ∀ (i : grid0.Coords) (k0_t1 : Fin k0_t1_loop.trips) (v18711 : BitVec 32) (v18714 : BitVec 32) (v18891 : BitVec 32) (k0_hw523 : k0_chk523 i k0_t1 v18711 v18714 v18891), ∀ (k0_h1 : k0_cond1 i = 1#1), ∀ a, (k0_off1047 k0_t1 v18711 v18714 v18891) a + S1x128.size a ≤ S8224x128.size a := fun i k0_t1 v18711 v18714 v18891 k0_hw523 k0_h1 => k0_hw523 k0_h1

def k0_off1048 (v18711 : BitVec 32) : Fin 1 → Nat :=
  let c12_i32_7383 : BitVec 32 := 12#32
  let v18902 : BitVec 32 := Scalar.addi v18711 c12_i32_7383
  let v18905 : Index := Scalar.indexCast v18902
  ![v18905.toNat]
def k0_off1049 (k0_t1 : Fin k0_t1_loop.trips) (v18711 : BitVec 32) (v18714 : BitVec 32) (v18906 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_7384 : BitVec 32 := 12#32
  let v18903 : BitVec 32 := Scalar.addi v18711 c12_i32_7384
  let v18904 : BitVec 1 := Scalar.cmpi .slt v18903 v18714
  let c65535_i32_7385 : BitVec 32 := 65535#32
  let v18907 : BitVec 32 := Scalar.andi v18906 c65535_i32_7385
  let c2048_i32_7386 : BitVec 32 := 2048#32
  let v18908 : BitVec 32 := Scalar.select v18904 v18907 c2048_i32_7386
  let v18909 : BitVec 32 := Scalar.addi v11087 v18908
  let v18912 : Index := Scalar.indexCast v18909
  let c0_7388 : Index := 0#32
  ![v18912.toNat, 0]

def k0_chk524 (i : grid0.Coords) (k0_t1 : Fin k0_t1_loop.trips) (v18711 : BitVec 32) (v18714 : BitVec 32) (v18906 : BitVec 32) : Prop :=
  (∀ (k0_h1 : k0_cond1 i = 1#1), ∀ a, (k0_off1049 k0_t1 v18711 v18714 v18906) a + S1x128.size a ≤ S8224x128.size a)
theorem k0_off1049_inb : ∀ (i : grid0.Coords) (k0_t1 : Fin k0_t1_loop.trips) (v18711 : BitVec 32) (v18714 : BitVec 32) (v18906 : BitVec 32) (k0_hw524 : k0_chk524 i k0_t1 v18711 v18714 v18906), ∀ (k0_h1 : k0_cond1 i = 1#1), ∀ a, (k0_off1049 k0_t1 v18711 v18714 v18906) a + S1x128.size a ≤ S8224x128.size a := fun i k0_t1 v18711 v18714 v18906 k0_hw524 k0_h1 => k0_hw524 k0_h1

def k0_off1050 (v18711 : BitVec 32) : Fin 1 → Nat :=
  let c13_i32_7389 : BitVec 32 := 13#32
  let v18917 : BitVec 32 := Scalar.addi v18711 c13_i32_7389
  let v18920 : Index := Scalar.indexCast v18917
  ![v18920.toNat]
def k0_off1051 (k0_t1 : Fin k0_t1_loop.trips) (v18711 : BitVec 32) (v18714 : BitVec 32) (v18921 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_7390 : BitVec 32 := 13#32
  let v18918 : BitVec 32 := Scalar.addi v18711 c13_i32_7390
  let v18919 : BitVec 1 := Scalar.cmpi .slt v18918 v18714
  let c65535_i32_7391 : BitVec 32 := 65535#32
  let v18922 : BitVec 32 := Scalar.andi v18921 c65535_i32_7391
  let c2048_i32_7392 : BitVec 32 := 2048#32
  let v18923 : BitVec 32 := Scalar.select v18919 v18922 c2048_i32_7392
  let v18924 : BitVec 32 := Scalar.addi v11087 v18923
  let v18927 : Index := Scalar.indexCast v18924
  let c0_7394 : Index := 0#32
  ![v18927.toNat, 0]

def k0_chk525 (i : grid0.Coords) (k0_t1 : Fin k0_t1_loop.trips) (v18711 : BitVec 32) (v18714 : BitVec 32) (v18921 : BitVec 32) : Prop :=
  (∀ (k0_h1 : k0_cond1 i = 1#1), ∀ a, (k0_off1051 k0_t1 v18711 v18714 v18921) a + S1x128.size a ≤ S8224x128.size a)
theorem k0_off1051_inb : ∀ (i : grid0.Coords) (k0_t1 : Fin k0_t1_loop.trips) (v18711 : BitVec 32) (v18714 : BitVec 32) (v18921 : BitVec 32) (k0_hw525 : k0_chk525 i k0_t1 v18711 v18714 v18921), ∀ (k0_h1 : k0_cond1 i = 1#1), ∀ a, (k0_off1051 k0_t1 v18711 v18714 v18921) a + S1x128.size a ≤ S8224x128.size a := fun i k0_t1 v18711 v18714 v18921 k0_hw525 k0_h1 => k0_hw525 k0_h1

def k0_off1052 (v18711 : BitVec 32) : Fin 1 → Nat :=
  let c14_i32_7395 : BitVec 32 := 14#32
  let v18932 : BitVec 32 := Scalar.addi v18711 c14_i32_7395
  let v18935 : Index := Scalar.indexCast v18932
  ![v18935.toNat]
def k0_off1053 (k0_t1 : Fin k0_t1_loop.trips) (v18711 : BitVec 32) (v18714 : BitVec 32) (v18936 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_7396 : BitVec 32 := 14#32
  let v18933 : BitVec 32 := Scalar.addi v18711 c14_i32_7396
  let v18934 : BitVec 1 := Scalar.cmpi .slt v18933 v18714
  let c65535_i32_7397 : BitVec 32 := 65535#32
  let v18937 : BitVec 32 := Scalar.andi v18936 c65535_i32_7397
  let c2048_i32_7398 : BitVec 32 := 2048#32
  let v18938 : BitVec 32 := Scalar.select v18934 v18937 c2048_i32_7398
  let v18939 : BitVec 32 := Scalar.addi v11087 v18938
  let v18942 : Index := Scalar.indexCast v18939
  let c0_7400 : Index := 0#32
  ![v18942.toNat, 0]

def k0_chk526 (i : grid0.Coords) (k0_t1 : Fin k0_t1_loop.trips) (v18711 : BitVec 32) (v18714 : BitVec 32) (v18936 : BitVec 32) : Prop :=
  (∀ (k0_h1 : k0_cond1 i = 1#1), ∀ a, (k0_off1053 k0_t1 v18711 v18714 v18936) a + S1x128.size a ≤ S8224x128.size a)
theorem k0_off1053_inb : ∀ (i : grid0.Coords) (k0_t1 : Fin k0_t1_loop.trips) (v18711 : BitVec 32) (v18714 : BitVec 32) (v18936 : BitVec 32) (k0_hw526 : k0_chk526 i k0_t1 v18711 v18714 v18936), ∀ (k0_h1 : k0_cond1 i = 1#1), ∀ a, (k0_off1053 k0_t1 v18711 v18714 v18936) a + S1x128.size a ≤ S8224x128.size a := fun i k0_t1 v18711 v18714 v18936 k0_hw526 k0_h1 => k0_hw526 k0_h1

def k0_off1054 (v18711 : BitVec 32) : Fin 1 → Nat :=
  let c15_i32_7401 : BitVec 32 := 15#32
  let v18947 : BitVec 32 := Scalar.addi v18711 c15_i32_7401
  let v18950 : Index := Scalar.indexCast v18947
  ![v18950.toNat]

def k0_chk511 (i : grid0.Coords) (v18711 : BitVec 32) : Prop :=
  (∀ (k0_h1 : k0_cond1 i = 1#1), ∀ a, (k0_off1024 v18711) a + S1.size a ≤ S51920.size a) ∧
  (∀ (k0_h1 : k0_cond1 i = 1#1), ∀ a, (k0_off1026 v18711) a + S1.size a ≤ S51920.size a) ∧
  (∀ (k0_h1 : k0_cond1 i = 1#1), ∀ a, (k0_off1028 v18711) a + S1.size a ≤ S51920.size a) ∧
  (∀ (k0_h1 : k0_cond1 i = 1#1), ∀ a, (k0_off1030 v18711) a + S1.size a ≤ S51920.size a) ∧
  (∀ (k0_h1 : k0_cond1 i = 1#1), ∀ a, (k0_off1032 v18711) a + S1.size a ≤ S51920.size a) ∧
  (∀ (k0_h1 : k0_cond1 i = 1#1), ∀ a, (k0_off1034 v18711) a + S1.size a ≤ S51920.size a) ∧
  (∀ (k0_h1 : k0_cond1 i = 1#1), ∀ a, (k0_off1036 v18711) a + S1.size a ≤ S51920.size a) ∧
  (∀ (k0_h1 : k0_cond1 i = 1#1), ∀ a, (k0_off1038 v18711) a + S1.size a ≤ S51920.size a) ∧
  (∀ (k0_h1 : k0_cond1 i = 1#1), ∀ a, (k0_off1040 v18711) a + S1.size a ≤ S51920.size a) ∧
  (∀ (k0_h1 : k0_cond1 i = 1#1), ∀ a, (k0_off1042 v18711) a + S1.size a ≤ S51920.size a) ∧
  (∀ (k0_h1 : k0_cond1 i = 1#1), ∀ a, (k0_off1044 v18711) a + S1.size a ≤ S51920.size a) ∧
  (∀ (k0_h1 : k0_cond1 i = 1#1), ∀ a, (k0_off1046 v18711) a + S1.size a ≤ S51920.size a) ∧
  (∀ (k0_h1 : k0_cond1 i = 1#1), ∀ a, (k0_off1048 v18711) a + S1.size a ≤ S51920.size a) ∧
  (∀ (k0_h1 : k0_cond1 i = 1#1), ∀ a, (k0_off1050 v18711) a + S1.size a ≤ S51920.size a) ∧
  (∀ (k0_h1 : k0_cond1 i = 1#1), ∀ a, (k0_off1052 v18711) a + S1.size a ≤ S51920.size a) ∧
  (∀ (k0_h1 : k0_cond1 i = 1#1), ∀ a, (k0_off1054 v18711) a + S1.size a ≤ S51920.size a)
theorem k0_off1024_inb : ∀ (i : grid0.Coords) (v18711 : BitVec 32) (k0_hw511 : k0_chk511 i v18711), ∀ (k0_h1 : k0_cond1 i = 1#1), ∀ a, (k0_off1024 v18711) a + S1.size a ≤ S51920.size a := fun i v18711 k0_hw511 k0_h1 => k0_hw511.1 k0_h1
theorem k0_off1026_inb : ∀ (i : grid0.Coords) (v18711 : BitVec 32) (k0_hw511 : k0_chk511 i v18711), ∀ (k0_h1 : k0_cond1 i = 1#1), ∀ a, (k0_off1026 v18711) a + S1.size a ≤ S51920.size a := fun i v18711 k0_hw511 k0_h1 => k0_hw511.2.1 k0_h1
theorem k0_off1028_inb : ∀ (i : grid0.Coords) (v18711 : BitVec 32) (k0_hw511 : k0_chk511 i v18711), ∀ (k0_h1 : k0_cond1 i = 1#1), ∀ a, (k0_off1028 v18711) a + S1.size a ≤ S51920.size a := fun i v18711 k0_hw511 k0_h1 => k0_hw511.2.2.1 k0_h1
theorem k0_off1030_inb : ∀ (i : grid0.Coords) (v18711 : BitVec 32) (k0_hw511 : k0_chk511 i v18711), ∀ (k0_h1 : k0_cond1 i = 1#1), ∀ a, (k0_off1030 v18711) a + S1.size a ≤ S51920.size a := fun i v18711 k0_hw511 k0_h1 => k0_hw511.2.2.2.1 k0_h1
theorem k0_off1032_inb : ∀ (i : grid0.Coords) (v18711 : BitVec 32) (k0_hw511 : k0_chk511 i v18711), ∀ (k0_h1 : k0_cond1 i = 1#1), ∀ a, (k0_off1032 v18711) a + S1.size a ≤ S51920.size a := fun i v18711 k0_hw511 k0_h1 => k0_hw511.2.2.2.2.1 k0_h1
theorem k0_off1034_inb : ∀ (i : grid0.Coords) (v18711 : BitVec 32) (k0_hw511 : k0_chk511 i v18711), ∀ (k0_h1 : k0_cond1 i = 1#1), ∀ a, (k0_off1034 v18711) a + S1.size a ≤ S51920.size a := fun i v18711 k0_hw511 k0_h1 => k0_hw511.2.2.2.2.2.1 k0_h1
theorem k0_off1036_inb : ∀ (i : grid0.Coords) (v18711 : BitVec 32) (k0_hw511 : k0_chk511 i v18711), ∀ (k0_h1 : k0_cond1 i = 1#1), ∀ a, (k0_off1036 v18711) a + S1.size a ≤ S51920.size a := fun i v18711 k0_hw511 k0_h1 => k0_hw511.2.2.2.2.2.2.1 k0_h1
theorem k0_off1038_inb : ∀ (i : grid0.Coords) (v18711 : BitVec 32) (k0_hw511 : k0_chk511 i v18711), ∀ (k0_h1 : k0_cond1 i = 1#1), ∀ a, (k0_off1038 v18711) a + S1.size a ≤ S51920.size a := fun i v18711 k0_hw511 k0_h1 => k0_hw511.2.2.2.2.2.2.2.1 k0_h1
theorem k0_off1040_inb : ∀ (i : grid0.Coords) (v18711 : BitVec 32) (k0_hw511 : k0_chk511 i v18711), ∀ (k0_h1 : k0_cond1 i = 1#1), ∀ a, (k0_off1040 v18711) a + S1.size a ≤ S51920.size a := fun i v18711 k0_hw511 k0_h1 => k0_hw511.2.2.2.2.2.2.2.2.1 k0_h1
theorem k0_off1042_inb : ∀ (i : grid0.Coords) (v18711 : BitVec 32) (k0_hw511 : k0_chk511 i v18711), ∀ (k0_h1 : k0_cond1 i = 1#1), ∀ a, (k0_off1042 v18711) a + S1.size a ≤ S51920.size a := fun i v18711 k0_hw511 k0_h1 => k0_hw511.2.2.2.2.2.2.2.2.2.1 k0_h1
theorem k0_off1044_inb : ∀ (i : grid0.Coords) (v18711 : BitVec 32) (k0_hw511 : k0_chk511 i v18711), ∀ (k0_h1 : k0_cond1 i = 1#1), ∀ a, (k0_off1044 v18711) a + S1.size a ≤ S51920.size a := fun i v18711 k0_hw511 k0_h1 => k0_hw511.2.2.2.2.2.2.2.2.2.2.1 k0_h1
theorem k0_off1046_inb : ∀ (i : grid0.Coords) (v18711 : BitVec 32) (k0_hw511 : k0_chk511 i v18711), ∀ (k0_h1 : k0_cond1 i = 1#1), ∀ a, (k0_off1046 v18711) a + S1.size a ≤ S51920.size a := fun i v18711 k0_hw511 k0_h1 => k0_hw511.2.2.2.2.2.2.2.2.2.2.2.1 k0_h1
theorem k0_off1048_inb : ∀ (i : grid0.Coords) (v18711 : BitVec 32) (k0_hw511 : k0_chk511 i v18711), ∀ (k0_h1 : k0_cond1 i = 1#1), ∀ a, (k0_off1048 v18711) a + S1.size a ≤ S51920.size a := fun i v18711 k0_hw511 k0_h1 => k0_hw511.2.2.2.2.2.2.2.2.2.2.2.2.1 k0_h1
theorem k0_off1050_inb : ∀ (i : grid0.Coords) (v18711 : BitVec 32) (k0_hw511 : k0_chk511 i v18711), ∀ (k0_h1 : k0_cond1 i = 1#1), ∀ a, (k0_off1050 v18711) a + S1.size a ≤ S51920.size a := fun i v18711 k0_hw511 k0_h1 => k0_hw511.2.2.2.2.2.2.2.2.2.2.2.2.2.1 k0_h1
theorem k0_off1052_inb : ∀ (i : grid0.Coords) (v18711 : BitVec 32) (k0_hw511 : k0_chk511 i v18711), ∀ (k0_h1 : k0_cond1 i = 1#1), ∀ a, (k0_off1052 v18711) a + S1.size a ≤ S51920.size a := fun i v18711 k0_hw511 k0_h1 => k0_hw511.2.2.2.2.2.2.2.2.2.2.2.2.2.2.1 k0_h1
theorem k0_off1054_inb : ∀ (i : grid0.Coords) (v18711 : BitVec 32) (k0_hw511 : k0_chk511 i v18711), ∀ (k0_h1 : k0_cond1 i = 1#1), ∀ a, (k0_off1054 v18711) a + S1.size a ≤ S51920.size a := fun i v18711 k0_hw511 k0_h1 => k0_hw511.2.2.2.2.2.2.2.2.2.2.2.2.2.2.2 k0_h1

def k0_off1055 (k0_t1 : Fin k0_t1_loop.trips) (v18711 : BitVec 32) (v18714 : BitVec 32) (v18951 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_7402 : BitVec 32 := 15#32
  let v18948 : BitVec 32 := Scalar.addi v18711 c15_i32_7402
  let v18949 : BitVec 1 := Scalar.cmpi .slt v18948 v18714
  let c65535_i32_7403 : BitVec 32 := 65535#32
  let v18952 : BitVec 32 := Scalar.andi v18951 c65535_i32_7403
  let c2048_i32_7404 : BitVec 32 := 2048#32
  let v18953 : BitVec 32 := Scalar.select v18949 v18952 c2048_i32_7404
  let v18954 : BitVec 32 := Scalar.addi v11087 v18953
  let v18957 : Index := Scalar.indexCast v18954
  let c0_7406 : Index := 0#32
  ![v18957.toNat, 0]

def k0_chk527 (i : grid0.Coords) (k0_t1 : Fin k0_t1_loop.trips) (v18711 : BitVec 32) (v18714 : BitVec 32) (v18951 : BitVec 32) : Prop :=
  (∀ (k0_h1 : k0_cond1 i = 1#1), ∀ a, (k0_off1055 k0_t1 v18711 v18714 v18951) a + S1x128.size a ≤ S8224x128.size a)
theorem k0_off1055_inb : ∀ (i : grid0.Coords) (k0_t1 : Fin k0_t1_loop.trips) (v18711 : BitVec 32) (v18714 : BitVec 32) (v18951 : BitVec 32) (k0_hw527 : k0_chk527 i k0_t1 v18711 v18714 v18951), ∀ (k0_h1 : k0_cond1 i = 1#1), ∀ a, (k0_off1055 k0_t1 v18711 v18714 v18951) a + S1x128.size a ≤ S8224x128.size a := fun i k0_t1 v18711 v18714 v18951 k0_hw527 k0_h1 => k0_hw527 k0_h1

def k0_off1056 (k0_t1 : Fin k0_t1_loop.trips) : Fin 1 → Nat :=
  let c0_i32_7407 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v18962 : BitVec 32 := Scalar.addi c0_i32_7407 v11069
  let c31_i32_7408 : BitVec 32 := 31#32
  let v18963 : BitVec 32 := Scalar.addi v18962 c31_i32_7408
  let v18964 : Index := Scalar.indexCast v18963
  ![v18964.toNat]
def k0_off1057 (k0_t1 : Fin k0_t1_loop.trips) : Fin 1 → Nat :=
  let c0_i32_7407 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v18962 : BitVec 32 := Scalar.addi c0_i32_7407 v11069
  let c31_i32_7408 : BitVec 32 := 31#32
  let v18963 : BitVec 32 := Scalar.addi v18962 c31_i32_7408
  let c1_i32_7409 : BitVec 32 := 1#32
  let v18966 : BitVec 32 := Scalar.addi v18963 c1_i32_7409
  let v18967 : Index := Scalar.indexCast v18966
  ![v18967.toNat]
def k0_off1058 (v18965 : BitVec 32) : Fin 1 → Nat :=
  let c0_i32_7412 : BitVec 32 := 0#32
  let v18976 : BitVec 32 := Scalar.addi v18965 c0_i32_7412
  let v18979 : Index := Scalar.indexCast v18976
  ![v18979.toNat]

def k0_off1059 (k0_t1 : Fin k0_t1_loop.trips) (v18965 : BitVec 32) (v18968 : BitVec 32) (v18980 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c0_i32_7413 : BitVec 32 := 0#32
  let v18977 : BitVec 32 := Scalar.addi v18965 c0_i32_7413
  let v18978 : BitVec 1 := Scalar.cmpi .slt v18977 v18968
  let c65535_i32_7414 : BitVec 32 := 65535#32
  let v18981 : BitVec 32 := Scalar.andi v18980 c65535_i32_7414
  let c2048_i32_7415 : BitVec 32 := 2048#32
  let v18982 : BitVec 32 := Scalar.select v18978 v18981 c2048_i32_7415
  let v18983 : BitVec 32 := Scalar.addi v11087 v18982
  let v18986 : Index := Scalar.indexCast v18983
  let c0_7417 : Index := 0#32
  ![v18986.toNat, 0]

def k0_chk529 (i : grid0.Coords) (k0_t1 : Fin k0_t1_loop.trips) (v18965 : BitVec 32) (v18968 : BitVec 32) (v18980 : BitVec 32) : Prop :=
  (∀ (k0_h1 : k0_cond1 i = 1#1), ∀ a, (k0_off1059 k0_t1 v18965 v18968 v18980) a + S1x128.size a ≤ S8224x128.size a)
theorem k0_off1059_inb : ∀ (i : grid0.Coords) (k0_t1 : Fin k0_t1_loop.trips) (v18965 : BitVec 32) (v18968 : BitVec 32) (v18980 : BitVec 32) (k0_hw529 : k0_chk529 i k0_t1 v18965 v18968 v18980), ∀ (k0_h1 : k0_cond1 i = 1#1), ∀ a, (k0_off1059 k0_t1 v18965 v18968 v18980) a + S1x128.size a ≤ S8224x128.size a := fun i k0_t1 v18965 v18968 v18980 k0_hw529 k0_h1 => k0_hw529 k0_h1

def k0_off1060 (v18965 : BitVec 32) : Fin 1 → Nat :=
  let c1_i32_7418 : BitVec 32 := 1#32
  let v18991 : BitVec 32 := Scalar.addi v18965 c1_i32_7418
  let v18994 : Index := Scalar.indexCast v18991
  ![v18994.toNat]
def k0_off1061 (k0_t1 : Fin k0_t1_loop.trips) (v18965 : BitVec 32) (v18968 : BitVec 32) (v18995 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c1_i32_7419 : BitVec 32 := 1#32
  let v18992 : BitVec 32 := Scalar.addi v18965 c1_i32_7419
  let v18993 : BitVec 1 := Scalar.cmpi .slt v18992 v18968
  let c65535_i32_7420 : BitVec 32 := 65535#32
  let v18996 : BitVec 32 := Scalar.andi v18995 c65535_i32_7420
  let c2048_i32_7421 : BitVec 32 := 2048#32
  let v18997 : BitVec 32 := Scalar.select v18993 v18996 c2048_i32_7421
  let v18998 : BitVec 32 := Scalar.addi v11087 v18997
  let v19001 : Index := Scalar.indexCast v18998
  let c0_7423 : Index := 0#32
  ![v19001.toNat, 0]

def k0_chk530 (i : grid0.Coords) (k0_t1 : Fin k0_t1_loop.trips) (v18965 : BitVec 32) (v18968 : BitVec 32) (v18995 : BitVec 32) : Prop :=
  (∀ (k0_h1 : k0_cond1 i = 1#1), ∀ a, (k0_off1061 k0_t1 v18965 v18968 v18995) a + S1x128.size a ≤ S8224x128.size a)
theorem k0_off1061_inb : ∀ (i : grid0.Coords) (k0_t1 : Fin k0_t1_loop.trips) (v18965 : BitVec 32) (v18968 : BitVec 32) (v18995 : BitVec 32) (k0_hw530 : k0_chk530 i k0_t1 v18965 v18968 v18995), ∀ (k0_h1 : k0_cond1 i = 1#1), ∀ a, (k0_off1061 k0_t1 v18965 v18968 v18995) a + S1x128.size a ≤ S8224x128.size a := fun i k0_t1 v18965 v18968 v18995 k0_hw530 k0_h1 => k0_hw530 k0_h1

def k0_off1062 (v18965 : BitVec 32) : Fin 1 → Nat :=
  let c2_i32_7424 : BitVec 32 := 2#32
  let v19006 : BitVec 32 := Scalar.addi v18965 c2_i32_7424
  let v19009 : Index := Scalar.indexCast v19006
  ![v19009.toNat]
def k0_off1063 (k0_t1 : Fin k0_t1_loop.trips) (v18965 : BitVec 32) (v18968 : BitVec 32) (v19010 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c2_i32_7425 : BitVec 32 := 2#32
  let v19007 : BitVec 32 := Scalar.addi v18965 c2_i32_7425
  let v19008 : BitVec 1 := Scalar.cmpi .slt v19007 v18968
  let c65535_i32_7426 : BitVec 32 := 65535#32
  let v19011 : BitVec 32 := Scalar.andi v19010 c65535_i32_7426
  let c2048_i32_7427 : BitVec 32 := 2048#32
  let v19012 : BitVec 32 := Scalar.select v19008 v19011 c2048_i32_7427
  let v19013 : BitVec 32 := Scalar.addi v11087 v19012
  let v19016 : Index := Scalar.indexCast v19013
  let c0_7429 : Index := 0#32
  ![v19016.toNat, 0]

def k0_chk531 (i : grid0.Coords) (k0_t1 : Fin k0_t1_loop.trips) (v18965 : BitVec 32) (v18968 : BitVec 32) (v19010 : BitVec 32) : Prop :=
  (∀ (k0_h1 : k0_cond1 i = 1#1), ∀ a, (k0_off1063 k0_t1 v18965 v18968 v19010) a + S1x128.size a ≤ S8224x128.size a)
theorem k0_off1063_inb : ∀ (i : grid0.Coords) (k0_t1 : Fin k0_t1_loop.trips) (v18965 : BitVec 32) (v18968 : BitVec 32) (v19010 : BitVec 32) (k0_hw531 : k0_chk531 i k0_t1 v18965 v18968 v19010), ∀ (k0_h1 : k0_cond1 i = 1#1), ∀ a, (k0_off1063 k0_t1 v18965 v18968 v19010) a + S1x128.size a ≤ S8224x128.size a := fun i k0_t1 v18965 v18968 v19010 k0_hw531 k0_h1 => k0_hw531 k0_h1

def k0_off1064 (v18965 : BitVec 32) : Fin 1 → Nat :=
  let c3_i32_7430 : BitVec 32 := 3#32
  let v19021 : BitVec 32 := Scalar.addi v18965 c3_i32_7430
  let v19024 : Index := Scalar.indexCast v19021
  ![v19024.toNat]
def k0_off1065 (k0_t1 : Fin k0_t1_loop.trips) (v18965 : BitVec 32) (v18968 : BitVec 32) (v19025 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c3_i32_7431 : BitVec 32 := 3#32
  let v19022 : BitVec 32 := Scalar.addi v18965 c3_i32_7431
  let v19023 : BitVec 1 := Scalar.cmpi .slt v19022 v18968
  let c65535_i32_7432 : BitVec 32 := 65535#32
  let v19026 : BitVec 32 := Scalar.andi v19025 c65535_i32_7432
  let c2048_i32_7433 : BitVec 32 := 2048#32
  let v19027 : BitVec 32 := Scalar.select v19023 v19026 c2048_i32_7433
  let v19028 : BitVec 32 := Scalar.addi v11087 v19027
  let v19031 : Index := Scalar.indexCast v19028
  let c0_7435 : Index := 0#32
  ![v19031.toNat, 0]

def k0_chk532 (i : grid0.Coords) (k0_t1 : Fin k0_t1_loop.trips) (v18965 : BitVec 32) (v18968 : BitVec 32) (v19025 : BitVec 32) : Prop :=
  (∀ (k0_h1 : k0_cond1 i = 1#1), ∀ a, (k0_off1065 k0_t1 v18965 v18968 v19025) a + S1x128.size a ≤ S8224x128.size a)
theorem k0_off1065_inb : ∀ (i : grid0.Coords) (k0_t1 : Fin k0_t1_loop.trips) (v18965 : BitVec 32) (v18968 : BitVec 32) (v19025 : BitVec 32) (k0_hw532 : k0_chk532 i k0_t1 v18965 v18968 v19025), ∀ (k0_h1 : k0_cond1 i = 1#1), ∀ a, (k0_off1065 k0_t1 v18965 v18968 v19025) a + S1x128.size a ≤ S8224x128.size a := fun i k0_t1 v18965 v18968 v19025 k0_hw532 k0_h1 => k0_hw532 k0_h1

def k0_off1066 (v18965 : BitVec 32) : Fin 1 → Nat :=
  let c4_i32_7436 : BitVec 32 := 4#32
  let v19036 : BitVec 32 := Scalar.addi v18965 c4_i32_7436
  let v19039 : Index := Scalar.indexCast v19036
  ![v19039.toNat]
def k0_off1067 (k0_t1 : Fin k0_t1_loop.trips) (v18965 : BitVec 32) (v18968 : BitVec 32) (v19040 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c4_i32_7437 : BitVec 32 := 4#32
  let v19037 : BitVec 32 := Scalar.addi v18965 c4_i32_7437
  let v19038 : BitVec 1 := Scalar.cmpi .slt v19037 v18968
  let c65535_i32_7438 : BitVec 32 := 65535#32
  let v19041 : BitVec 32 := Scalar.andi v19040 c65535_i32_7438
  let c2048_i32_7439 : BitVec 32 := 2048#32
  let v19042 : BitVec 32 := Scalar.select v19038 v19041 c2048_i32_7439
  let v19043 : BitVec 32 := Scalar.addi v11087 v19042
  let v19046 : Index := Scalar.indexCast v19043
  let c0_7441 : Index := 0#32
  ![v19046.toNat, 0]

def k0_chk533 (i : grid0.Coords) (k0_t1 : Fin k0_t1_loop.trips) (v18965 : BitVec 32) (v18968 : BitVec 32) (v19040 : BitVec 32) : Prop :=
  (∀ (k0_h1 : k0_cond1 i = 1#1), ∀ a, (k0_off1067 k0_t1 v18965 v18968 v19040) a + S1x128.size a ≤ S8224x128.size a)
theorem k0_off1067_inb : ∀ (i : grid0.Coords) (k0_t1 : Fin k0_t1_loop.trips) (v18965 : BitVec 32) (v18968 : BitVec 32) (v19040 : BitVec 32) (k0_hw533 : k0_chk533 i k0_t1 v18965 v18968 v19040), ∀ (k0_h1 : k0_cond1 i = 1#1), ∀ a, (k0_off1067 k0_t1 v18965 v18968 v19040) a + S1x128.size a ≤ S8224x128.size a := fun i k0_t1 v18965 v18968 v19040 k0_hw533 k0_h1 => k0_hw533 k0_h1

def k0_off1068 (v18965 : BitVec 32) : Fin 1 → Nat :=
  let c5_i32_7442 : BitVec 32 := 5#32
  let v19051 : BitVec 32 := Scalar.addi v18965 c5_i32_7442
  let v19054 : Index := Scalar.indexCast v19051
  ![v19054.toNat]
def k0_off1069 (k0_t1 : Fin k0_t1_loop.trips) (v18965 : BitVec 32) (v18968 : BitVec 32) (v19055 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c5_i32_7443 : BitVec 32 := 5#32
  let v19052 : BitVec 32 := Scalar.addi v18965 c5_i32_7443
  let v19053 : BitVec 1 := Scalar.cmpi .slt v19052 v18968
  let c65535_i32_7444 : BitVec 32 := 65535#32
  let v19056 : BitVec 32 := Scalar.andi v19055 c65535_i32_7444
  let c2048_i32_7445 : BitVec 32 := 2048#32
  let v19057 : BitVec 32 := Scalar.select v19053 v19056 c2048_i32_7445
  let v19058 : BitVec 32 := Scalar.addi v11087 v19057
  let v19061 : Index := Scalar.indexCast v19058
  let c0_7447 : Index := 0#32
  ![v19061.toNat, 0]

def k0_chk534 (i : grid0.Coords) (k0_t1 : Fin k0_t1_loop.trips) (v18965 : BitVec 32) (v18968 : BitVec 32) (v19055 : BitVec 32) : Prop :=
  (∀ (k0_h1 : k0_cond1 i = 1#1), ∀ a, (k0_off1069 k0_t1 v18965 v18968 v19055) a + S1x128.size a ≤ S8224x128.size a)
theorem k0_off1069_inb : ∀ (i : grid0.Coords) (k0_t1 : Fin k0_t1_loop.trips) (v18965 : BitVec 32) (v18968 : BitVec 32) (v19055 : BitVec 32) (k0_hw534 : k0_chk534 i k0_t1 v18965 v18968 v19055), ∀ (k0_h1 : k0_cond1 i = 1#1), ∀ a, (k0_off1069 k0_t1 v18965 v18968 v19055) a + S1x128.size a ≤ S8224x128.size a := fun i k0_t1 v18965 v18968 v19055 k0_hw534 k0_h1 => k0_hw534 k0_h1

def k0_off1070 (v18965 : BitVec 32) : Fin 1 → Nat :=
  let c6_i32_7448 : BitVec 32 := 6#32
  let v19066 : BitVec 32 := Scalar.addi v18965 c6_i32_7448
  let v19069 : Index := Scalar.indexCast v19066
  ![v19069.toNat]
def k0_off1071 (k0_t1 : Fin k0_t1_loop.trips) (v18965 : BitVec 32) (v18968 : BitVec 32) (v19070 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c6_i32_7449 : BitVec 32 := 6#32
  let v19067 : BitVec 32 := Scalar.addi v18965 c6_i32_7449
  let v19068 : BitVec 1 := Scalar.cmpi .slt v19067 v18968
  let c65535_i32_7450 : BitVec 32 := 65535#32
  let v19071 : BitVec 32 := Scalar.andi v19070 c65535_i32_7450
  let c2048_i32_7451 : BitVec 32 := 2048#32
  let v19072 : BitVec 32 := Scalar.select v19068 v19071 c2048_i32_7451
  let v19073 : BitVec 32 := Scalar.addi v11087 v19072
  let v19076 : Index := Scalar.indexCast v19073
  let c0_7453 : Index := 0#32
  ![v19076.toNat, 0]

def k0_chk535 (i : grid0.Coords) (k0_t1 : Fin k0_t1_loop.trips) (v18965 : BitVec 32) (v18968 : BitVec 32) (v19070 : BitVec 32) : Prop :=
  (∀ (k0_h1 : k0_cond1 i = 1#1), ∀ a, (k0_off1071 k0_t1 v18965 v18968 v19070) a + S1x128.size a ≤ S8224x128.size a)
theorem k0_off1071_inb : ∀ (i : grid0.Coords) (k0_t1 : Fin k0_t1_loop.trips) (v18965 : BitVec 32) (v18968 : BitVec 32) (v19070 : BitVec 32) (k0_hw535 : k0_chk535 i k0_t1 v18965 v18968 v19070), ∀ (k0_h1 : k0_cond1 i = 1#1), ∀ a, (k0_off1071 k0_t1 v18965 v18968 v19070) a + S1x128.size a ≤ S8224x128.size a := fun i k0_t1 v18965 v18968 v19070 k0_hw535 k0_h1 => k0_hw535 k0_h1

def k0_off1072 (v18965 : BitVec 32) : Fin 1 → Nat :=
  let c7_i32_7454 : BitVec 32 := 7#32
  let v19081 : BitVec 32 := Scalar.addi v18965 c7_i32_7454
  let v19084 : Index := Scalar.indexCast v19081
  ![v19084.toNat]
def k0_off1073 (k0_t1 : Fin k0_t1_loop.trips) (v18965 : BitVec 32) (v18968 : BitVec 32) (v19085 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c7_i32_7455 : BitVec 32 := 7#32
  let v19082 : BitVec 32 := Scalar.addi v18965 c7_i32_7455
  let v19083 : BitVec 1 := Scalar.cmpi .slt v19082 v18968
  let c65535_i32_7456 : BitVec 32 := 65535#32
  let v19086 : BitVec 32 := Scalar.andi v19085 c65535_i32_7456
  let c2048_i32_7457 : BitVec 32 := 2048#32
  let v19087 : BitVec 32 := Scalar.select v19083 v19086 c2048_i32_7457
  let v19088 : BitVec 32 := Scalar.addi v11087 v19087
  let v19091 : Index := Scalar.indexCast v19088
  let c0_7459 : Index := 0#32
  ![v19091.toNat, 0]

def k0_chk536 (i : grid0.Coords) (k0_t1 : Fin k0_t1_loop.trips) (v18965 : BitVec 32) (v18968 : BitVec 32) (v19085 : BitVec 32) : Prop :=
  (∀ (k0_h1 : k0_cond1 i = 1#1), ∀ a, (k0_off1073 k0_t1 v18965 v18968 v19085) a + S1x128.size a ≤ S8224x128.size a)
theorem k0_off1073_inb : ∀ (i : grid0.Coords) (k0_t1 : Fin k0_t1_loop.trips) (v18965 : BitVec 32) (v18968 : BitVec 32) (v19085 : BitVec 32) (k0_hw536 : k0_chk536 i k0_t1 v18965 v18968 v19085), ∀ (k0_h1 : k0_cond1 i = 1#1), ∀ a, (k0_off1073 k0_t1 v18965 v18968 v19085) a + S1x128.size a ≤ S8224x128.size a := fun i k0_t1 v18965 v18968 v19085 k0_hw536 k0_h1 => k0_hw536 k0_h1

def k0_off1074 (v18965 : BitVec 32) : Fin 1 → Nat :=
  let c8_i32_7460 : BitVec 32 := 8#32
  let v19096 : BitVec 32 := Scalar.addi v18965 c8_i32_7460
  let v19099 : Index := Scalar.indexCast v19096
  ![v19099.toNat]
def k0_off1075 (k0_t1 : Fin k0_t1_loop.trips) (v18965 : BitVec 32) (v18968 : BitVec 32) (v19100 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c8_i32_7461 : BitVec 32 := 8#32
  let v19097 : BitVec 32 := Scalar.addi v18965 c8_i32_7461
  let v19098 : BitVec 1 := Scalar.cmpi .slt v19097 v18968
  let c65535_i32_7462 : BitVec 32 := 65535#32
  let v19101 : BitVec 32 := Scalar.andi v19100 c65535_i32_7462
  let c2048_i32_7463 : BitVec 32 := 2048#32
  let v19102 : BitVec 32 := Scalar.select v19098 v19101 c2048_i32_7463
  let v19103 : BitVec 32 := Scalar.addi v11087 v19102
  let v19106 : Index := Scalar.indexCast v19103
  let c0_7465 : Index := 0#32
  ![v19106.toNat, 0]

def k0_chk537 (i : grid0.Coords) (k0_t1 : Fin k0_t1_loop.trips) (v18965 : BitVec 32) (v18968 : BitVec 32) (v19100 : BitVec 32) : Prop :=
  (∀ (k0_h1 : k0_cond1 i = 1#1), ∀ a, (k0_off1075 k0_t1 v18965 v18968 v19100) a + S1x128.size a ≤ S8224x128.size a)
theorem k0_off1075_inb : ∀ (i : grid0.Coords) (k0_t1 : Fin k0_t1_loop.trips) (v18965 : BitVec 32) (v18968 : BitVec 32) (v19100 : BitVec 32) (k0_hw537 : k0_chk537 i k0_t1 v18965 v18968 v19100), ∀ (k0_h1 : k0_cond1 i = 1#1), ∀ a, (k0_off1075 k0_t1 v18965 v18968 v19100) a + S1x128.size a ≤ S8224x128.size a := fun i k0_t1 v18965 v18968 v19100 k0_hw537 k0_h1 => k0_hw537 k0_h1

def k0_off1076 (v18965 : BitVec 32) : Fin 1 → Nat :=
  let c9_i32_7466 : BitVec 32 := 9#32
  let v19111 : BitVec 32 := Scalar.addi v18965 c9_i32_7466
  let v19114 : Index := Scalar.indexCast v19111
  ![v19114.toNat]
def k0_off1077 (k0_t1 : Fin k0_t1_loop.trips) (v18965 : BitVec 32) (v18968 : BitVec 32) (v19115 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c9_i32_7467 : BitVec 32 := 9#32
  let v19112 : BitVec 32 := Scalar.addi v18965 c9_i32_7467
  let v19113 : BitVec 1 := Scalar.cmpi .slt v19112 v18968
  let c65535_i32_7468 : BitVec 32 := 65535#32
  let v19116 : BitVec 32 := Scalar.andi v19115 c65535_i32_7468
  let c2048_i32_7469 : BitVec 32 := 2048#32
  let v19117 : BitVec 32 := Scalar.select v19113 v19116 c2048_i32_7469
  let v19118 : BitVec 32 := Scalar.addi v11087 v19117
  let v19121 : Index := Scalar.indexCast v19118
  let c0_7471 : Index := 0#32
  ![v19121.toNat, 0]

def k0_chk538 (i : grid0.Coords) (k0_t1 : Fin k0_t1_loop.trips) (v18965 : BitVec 32) (v18968 : BitVec 32) (v19115 : BitVec 32) : Prop :=
  (∀ (k0_h1 : k0_cond1 i = 1#1), ∀ a, (k0_off1077 k0_t1 v18965 v18968 v19115) a + S1x128.size a ≤ S8224x128.size a)
theorem k0_off1077_inb : ∀ (i : grid0.Coords) (k0_t1 : Fin k0_t1_loop.trips) (v18965 : BitVec 32) (v18968 : BitVec 32) (v19115 : BitVec 32) (k0_hw538 : k0_chk538 i k0_t1 v18965 v18968 v19115), ∀ (k0_h1 : k0_cond1 i = 1#1), ∀ a, (k0_off1077 k0_t1 v18965 v18968 v19115) a + S1x128.size a ≤ S8224x128.size a := fun i k0_t1 v18965 v18968 v19115 k0_hw538 k0_h1 => k0_hw538 k0_h1

def k0_off1078 (v18965 : BitVec 32) : Fin 1 → Nat :=
  let c10_i32_7472 : BitVec 32 := 10#32
  let v19126 : BitVec 32 := Scalar.addi v18965 c10_i32_7472
  let v19129 : Index := Scalar.indexCast v19126
  ![v19129.toNat]
def k0_off1079 (k0_t1 : Fin k0_t1_loop.trips) (v18965 : BitVec 32) (v18968 : BitVec 32) (v19130 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c10_i32_7473 : BitVec 32 := 10#32
  let v19127 : BitVec 32 := Scalar.addi v18965 c10_i32_7473
  let v19128 : BitVec 1 := Scalar.cmpi .slt v19127 v18968
  let c65535_i32_7474 : BitVec 32 := 65535#32
  let v19131 : BitVec 32 := Scalar.andi v19130 c65535_i32_7474
  let c2048_i32_7475 : BitVec 32 := 2048#32
  let v19132 : BitVec 32 := Scalar.select v19128 v19131 c2048_i32_7475
  let v19133 : BitVec 32 := Scalar.addi v11087 v19132
  let v19136 : Index := Scalar.indexCast v19133
  let c0_7477 : Index := 0#32
  ![v19136.toNat, 0]

def k0_chk539 (i : grid0.Coords) (k0_t1 : Fin k0_t1_loop.trips) (v18965 : BitVec 32) (v18968 : BitVec 32) (v19130 : BitVec 32) : Prop :=
  (∀ (k0_h1 : k0_cond1 i = 1#1), ∀ a, (k0_off1079 k0_t1 v18965 v18968 v19130) a + S1x128.size a ≤ S8224x128.size a)
theorem k0_off1079_inb : ∀ (i : grid0.Coords) (k0_t1 : Fin k0_t1_loop.trips) (v18965 : BitVec 32) (v18968 : BitVec 32) (v19130 : BitVec 32) (k0_hw539 : k0_chk539 i k0_t1 v18965 v18968 v19130), ∀ (k0_h1 : k0_cond1 i = 1#1), ∀ a, (k0_off1079 k0_t1 v18965 v18968 v19130) a + S1x128.size a ≤ S8224x128.size a := fun i k0_t1 v18965 v18968 v19130 k0_hw539 k0_h1 => k0_hw539 k0_h1

def k0_off1080 (v18965 : BitVec 32) : Fin 1 → Nat :=
  let c11_i32_7478 : BitVec 32 := 11#32
  let v19141 : BitVec 32 := Scalar.addi v18965 c11_i32_7478
  let v19144 : Index := Scalar.indexCast v19141
  ![v19144.toNat]
def k0_off1081 (k0_t1 : Fin k0_t1_loop.trips) (v18965 : BitVec 32) (v18968 : BitVec 32) (v19145 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c11_i32_7479 : BitVec 32 := 11#32
  let v19142 : BitVec 32 := Scalar.addi v18965 c11_i32_7479
  let v19143 : BitVec 1 := Scalar.cmpi .slt v19142 v18968
  let c65535_i32_7480 : BitVec 32 := 65535#32
  let v19146 : BitVec 32 := Scalar.andi v19145 c65535_i32_7480
  let c2048_i32_7481 : BitVec 32 := 2048#32
  let v19147 : BitVec 32 := Scalar.select v19143 v19146 c2048_i32_7481
  let v19148 : BitVec 32 := Scalar.addi v11087 v19147
  let v19151 : Index := Scalar.indexCast v19148
  let c0_7483 : Index := 0#32
  ![v19151.toNat, 0]

def k0_chk540 (i : grid0.Coords) (k0_t1 : Fin k0_t1_loop.trips) (v18965 : BitVec 32) (v18968 : BitVec 32) (v19145 : BitVec 32) : Prop :=
  (∀ (k0_h1 : k0_cond1 i = 1#1), ∀ a, (k0_off1081 k0_t1 v18965 v18968 v19145) a + S1x128.size a ≤ S8224x128.size a)
theorem k0_off1081_inb : ∀ (i : grid0.Coords) (k0_t1 : Fin k0_t1_loop.trips) (v18965 : BitVec 32) (v18968 : BitVec 32) (v19145 : BitVec 32) (k0_hw540 : k0_chk540 i k0_t1 v18965 v18968 v19145), ∀ (k0_h1 : k0_cond1 i = 1#1), ∀ a, (k0_off1081 k0_t1 v18965 v18968 v19145) a + S1x128.size a ≤ S8224x128.size a := fun i k0_t1 v18965 v18968 v19145 k0_hw540 k0_h1 => k0_hw540 k0_h1

def k0_off1082 (v18965 : BitVec 32) : Fin 1 → Nat :=
  let c12_i32_7484 : BitVec 32 := 12#32
  let v19156 : BitVec 32 := Scalar.addi v18965 c12_i32_7484
  let v19159 : Index := Scalar.indexCast v19156
  ![v19159.toNat]
def k0_off1083 (k0_t1 : Fin k0_t1_loop.trips) (v18965 : BitVec 32) (v18968 : BitVec 32) (v19160 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c12_i32_7485 : BitVec 32 := 12#32
  let v19157 : BitVec 32 := Scalar.addi v18965 c12_i32_7485
  let v19158 : BitVec 1 := Scalar.cmpi .slt v19157 v18968
  let c65535_i32_7486 : BitVec 32 := 65535#32
  let v19161 : BitVec 32 := Scalar.andi v19160 c65535_i32_7486
  let c2048_i32_7487 : BitVec 32 := 2048#32
  let v19162 : BitVec 32 := Scalar.select v19158 v19161 c2048_i32_7487
  let v19163 : BitVec 32 := Scalar.addi v11087 v19162
  let v19166 : Index := Scalar.indexCast v19163
  let c0_7489 : Index := 0#32
  ![v19166.toNat, 0]

def k0_chk541 (i : grid0.Coords) (k0_t1 : Fin k0_t1_loop.trips) (v18965 : BitVec 32) (v18968 : BitVec 32) (v19160 : BitVec 32) : Prop :=
  (∀ (k0_h1 : k0_cond1 i = 1#1), ∀ a, (k0_off1083 k0_t1 v18965 v18968 v19160) a + S1x128.size a ≤ S8224x128.size a)
theorem k0_off1083_inb : ∀ (i : grid0.Coords) (k0_t1 : Fin k0_t1_loop.trips) (v18965 : BitVec 32) (v18968 : BitVec 32) (v19160 : BitVec 32) (k0_hw541 : k0_chk541 i k0_t1 v18965 v18968 v19160), ∀ (k0_h1 : k0_cond1 i = 1#1), ∀ a, (k0_off1083 k0_t1 v18965 v18968 v19160) a + S1x128.size a ≤ S8224x128.size a := fun i k0_t1 v18965 v18968 v19160 k0_hw541 k0_h1 => k0_hw541 k0_h1

def k0_off1084 (v18965 : BitVec 32) : Fin 1 → Nat :=
  let c13_i32_7490 : BitVec 32 := 13#32
  let v19171 : BitVec 32 := Scalar.addi v18965 c13_i32_7490
  let v19174 : Index := Scalar.indexCast v19171
  ![v19174.toNat]
def k0_off1085 (k0_t1 : Fin k0_t1_loop.trips) (v18965 : BitVec 32) (v18968 : BitVec 32) (v19175 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c13_i32_7491 : BitVec 32 := 13#32
  let v19172 : BitVec 32 := Scalar.addi v18965 c13_i32_7491
  let v19173 : BitVec 1 := Scalar.cmpi .slt v19172 v18968
  let c65535_i32_7492 : BitVec 32 := 65535#32
  let v19176 : BitVec 32 := Scalar.andi v19175 c65535_i32_7492
  let c2048_i32_7493 : BitVec 32 := 2048#32
  let v19177 : BitVec 32 := Scalar.select v19173 v19176 c2048_i32_7493
  let v19178 : BitVec 32 := Scalar.addi v11087 v19177
  let v19181 : Index := Scalar.indexCast v19178
  let c0_7495 : Index := 0#32
  ![v19181.toNat, 0]

def k0_chk542 (i : grid0.Coords) (k0_t1 : Fin k0_t1_loop.trips) (v18965 : BitVec 32) (v18968 : BitVec 32) (v19175 : BitVec 32) : Prop :=
  (∀ (k0_h1 : k0_cond1 i = 1#1), ∀ a, (k0_off1085 k0_t1 v18965 v18968 v19175) a + S1x128.size a ≤ S8224x128.size a)
theorem k0_off1085_inb : ∀ (i : grid0.Coords) (k0_t1 : Fin k0_t1_loop.trips) (v18965 : BitVec 32) (v18968 : BitVec 32) (v19175 : BitVec 32) (k0_hw542 : k0_chk542 i k0_t1 v18965 v18968 v19175), ∀ (k0_h1 : k0_cond1 i = 1#1), ∀ a, (k0_off1085 k0_t1 v18965 v18968 v19175) a + S1x128.size a ≤ S8224x128.size a := fun i k0_t1 v18965 v18968 v19175 k0_hw542 k0_h1 => k0_hw542 k0_h1

def k0_off1086 (v18965 : BitVec 32) : Fin 1 → Nat :=
  let c14_i32_7496 : BitVec 32 := 14#32
  let v19186 : BitVec 32 := Scalar.addi v18965 c14_i32_7496
  let v19189 : Index := Scalar.indexCast v19186
  ![v19189.toNat]
def k0_off1087 (k0_t1 : Fin k0_t1_loop.trips) (v18965 : BitVec 32) (v18968 : BitVec 32) (v19190 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c14_i32_7497 : BitVec 32 := 14#32
  let v19187 : BitVec 32 := Scalar.addi v18965 c14_i32_7497
  let v19188 : BitVec 1 := Scalar.cmpi .slt v19187 v18968
  let c65535_i32_7498 : BitVec 32 := 65535#32
  let v19191 : BitVec 32 := Scalar.andi v19190 c65535_i32_7498
  let c2048_i32_7499 : BitVec 32 := 2048#32
  let v19192 : BitVec 32 := Scalar.select v19188 v19191 c2048_i32_7499
  let v19193 : BitVec 32 := Scalar.addi v11087 v19192
  let v19196 : Index := Scalar.indexCast v19193
  let c0_7501 : Index := 0#32
  ![v19196.toNat, 0]

def k0_chk543 (i : grid0.Coords) (k0_t1 : Fin k0_t1_loop.trips) (v18965 : BitVec 32) (v18968 : BitVec 32) (v19190 : BitVec 32) : Prop :=
  (∀ (k0_h1 : k0_cond1 i = 1#1), ∀ a, (k0_off1087 k0_t1 v18965 v18968 v19190) a + S1x128.size a ≤ S8224x128.size a)
theorem k0_off1087_inb : ∀ (i : grid0.Coords) (k0_t1 : Fin k0_t1_loop.trips) (v18965 : BitVec 32) (v18968 : BitVec 32) (v19190 : BitVec 32) (k0_hw543 : k0_chk543 i k0_t1 v18965 v18968 v19190), ∀ (k0_h1 : k0_cond1 i = 1#1), ∀ a, (k0_off1087 k0_t1 v18965 v18968 v19190) a + S1x128.size a ≤ S8224x128.size a := fun i k0_t1 v18965 v18968 v19190 k0_hw543 k0_h1 => k0_hw543 k0_h1

def k0_off1088 (v18965 : BitVec 32) : Fin 1 → Nat :=
  let c15_i32_7502 : BitVec 32 := 15#32
  let v19201 : BitVec 32 := Scalar.addi v18965 c15_i32_7502
  let v19204 : Index := Scalar.indexCast v19201
  ![v19204.toNat]

def k0_chk528 (i : grid0.Coords) (v18965 : BitVec 32) : Prop :=
  (∀ (k0_h1 : k0_cond1 i = 1#1), ∀ a, (k0_off1058 v18965) a + S1.size a ≤ S51920.size a) ∧
  (∀ (k0_h1 : k0_cond1 i = 1#1), ∀ a, (k0_off1060 v18965) a + S1.size a ≤ S51920.size a) ∧
  (∀ (k0_h1 : k0_cond1 i = 1#1), ∀ a, (k0_off1062 v18965) a + S1.size a ≤ S51920.size a) ∧
  (∀ (k0_h1 : k0_cond1 i = 1#1), ∀ a, (k0_off1064 v18965) a + S1.size a ≤ S51920.size a) ∧
  (∀ (k0_h1 : k0_cond1 i = 1#1), ∀ a, (k0_off1066 v18965) a + S1.size a ≤ S51920.size a) ∧
  (∀ (k0_h1 : k0_cond1 i = 1#1), ∀ a, (k0_off1068 v18965) a + S1.size a ≤ S51920.size a) ∧
  (∀ (k0_h1 : k0_cond1 i = 1#1), ∀ a, (k0_off1070 v18965) a + S1.size a ≤ S51920.size a) ∧
  (∀ (k0_h1 : k0_cond1 i = 1#1), ∀ a, (k0_off1072 v18965) a + S1.size a ≤ S51920.size a) ∧
  (∀ (k0_h1 : k0_cond1 i = 1#1), ∀ a, (k0_off1074 v18965) a + S1.size a ≤ S51920.size a) ∧
  (∀ (k0_h1 : k0_cond1 i = 1#1), ∀ a, (k0_off1076 v18965) a + S1.size a ≤ S51920.size a) ∧
  (∀ (k0_h1 : k0_cond1 i = 1#1), ∀ a, (k0_off1078 v18965) a + S1.size a ≤ S51920.size a) ∧
  (∀ (k0_h1 : k0_cond1 i = 1#1), ∀ a, (k0_off1080 v18965) a + S1.size a ≤ S51920.size a) ∧
  (∀ (k0_h1 : k0_cond1 i = 1#1), ∀ a, (k0_off1082 v18965) a + S1.size a ≤ S51920.size a) ∧
  (∀ (k0_h1 : k0_cond1 i = 1#1), ∀ a, (k0_off1084 v18965) a + S1.size a ≤ S51920.size a) ∧
  (∀ (k0_h1 : k0_cond1 i = 1#1), ∀ a, (k0_off1086 v18965) a + S1.size a ≤ S51920.size a) ∧
  (∀ (k0_h1 : k0_cond1 i = 1#1), ∀ a, (k0_off1088 v18965) a + S1.size a ≤ S51920.size a)
theorem k0_off1058_inb : ∀ (i : grid0.Coords) (v18965 : BitVec 32) (k0_hw528 : k0_chk528 i v18965), ∀ (k0_h1 : k0_cond1 i = 1#1), ∀ a, (k0_off1058 v18965) a + S1.size a ≤ S51920.size a := fun i v18965 k0_hw528 k0_h1 => k0_hw528.1 k0_h1
theorem k0_off1060_inb : ∀ (i : grid0.Coords) (v18965 : BitVec 32) (k0_hw528 : k0_chk528 i v18965), ∀ (k0_h1 : k0_cond1 i = 1#1), ∀ a, (k0_off1060 v18965) a + S1.size a ≤ S51920.size a := fun i v18965 k0_hw528 k0_h1 => k0_hw528.2.1 k0_h1
theorem k0_off1062_inb : ∀ (i : grid0.Coords) (v18965 : BitVec 32) (k0_hw528 : k0_chk528 i v18965), ∀ (k0_h1 : k0_cond1 i = 1#1), ∀ a, (k0_off1062 v18965) a + S1.size a ≤ S51920.size a := fun i v18965 k0_hw528 k0_h1 => k0_hw528.2.2.1 k0_h1
theorem k0_off1064_inb : ∀ (i : grid0.Coords) (v18965 : BitVec 32) (k0_hw528 : k0_chk528 i v18965), ∀ (k0_h1 : k0_cond1 i = 1#1), ∀ a, (k0_off1064 v18965) a + S1.size a ≤ S51920.size a := fun i v18965 k0_hw528 k0_h1 => k0_hw528.2.2.2.1 k0_h1
theorem k0_off1066_inb : ∀ (i : grid0.Coords) (v18965 : BitVec 32) (k0_hw528 : k0_chk528 i v18965), ∀ (k0_h1 : k0_cond1 i = 1#1), ∀ a, (k0_off1066 v18965) a + S1.size a ≤ S51920.size a := fun i v18965 k0_hw528 k0_h1 => k0_hw528.2.2.2.2.1 k0_h1
theorem k0_off1068_inb : ∀ (i : grid0.Coords) (v18965 : BitVec 32) (k0_hw528 : k0_chk528 i v18965), ∀ (k0_h1 : k0_cond1 i = 1#1), ∀ a, (k0_off1068 v18965) a + S1.size a ≤ S51920.size a := fun i v18965 k0_hw528 k0_h1 => k0_hw528.2.2.2.2.2.1 k0_h1
theorem k0_off1070_inb : ∀ (i : grid0.Coords) (v18965 : BitVec 32) (k0_hw528 : k0_chk528 i v18965), ∀ (k0_h1 : k0_cond1 i = 1#1), ∀ a, (k0_off1070 v18965) a + S1.size a ≤ S51920.size a := fun i v18965 k0_hw528 k0_h1 => k0_hw528.2.2.2.2.2.2.1 k0_h1
theorem k0_off1072_inb : ∀ (i : grid0.Coords) (v18965 : BitVec 32) (k0_hw528 : k0_chk528 i v18965), ∀ (k0_h1 : k0_cond1 i = 1#1), ∀ a, (k0_off1072 v18965) a + S1.size a ≤ S51920.size a := fun i v18965 k0_hw528 k0_h1 => k0_hw528.2.2.2.2.2.2.2.1 k0_h1
theorem k0_off1074_inb : ∀ (i : grid0.Coords) (v18965 : BitVec 32) (k0_hw528 : k0_chk528 i v18965), ∀ (k0_h1 : k0_cond1 i = 1#1), ∀ a, (k0_off1074 v18965) a + S1.size a ≤ S51920.size a := fun i v18965 k0_hw528 k0_h1 => k0_hw528.2.2.2.2.2.2.2.2.1 k0_h1
theorem k0_off1076_inb : ∀ (i : grid0.Coords) (v18965 : BitVec 32) (k0_hw528 : k0_chk528 i v18965), ∀ (k0_h1 : k0_cond1 i = 1#1), ∀ a, (k0_off1076 v18965) a + S1.size a ≤ S51920.size a := fun i v18965 k0_hw528 k0_h1 => k0_hw528.2.2.2.2.2.2.2.2.2.1 k0_h1
theorem k0_off1078_inb : ∀ (i : grid0.Coords) (v18965 : BitVec 32) (k0_hw528 : k0_chk528 i v18965), ∀ (k0_h1 : k0_cond1 i = 1#1), ∀ a, (k0_off1078 v18965) a + S1.size a ≤ S51920.size a := fun i v18965 k0_hw528 k0_h1 => k0_hw528.2.2.2.2.2.2.2.2.2.2.1 k0_h1
theorem k0_off1080_inb : ∀ (i : grid0.Coords) (v18965 : BitVec 32) (k0_hw528 : k0_chk528 i v18965), ∀ (k0_h1 : k0_cond1 i = 1#1), ∀ a, (k0_off1080 v18965) a + S1.size a ≤ S51920.size a := fun i v18965 k0_hw528 k0_h1 => k0_hw528.2.2.2.2.2.2.2.2.2.2.2.1 k0_h1
theorem k0_off1082_inb : ∀ (i : grid0.Coords) (v18965 : BitVec 32) (k0_hw528 : k0_chk528 i v18965), ∀ (k0_h1 : k0_cond1 i = 1#1), ∀ a, (k0_off1082 v18965) a + S1.size a ≤ S51920.size a := fun i v18965 k0_hw528 k0_h1 => k0_hw528.2.2.2.2.2.2.2.2.2.2.2.2.1 k0_h1
theorem k0_off1084_inb : ∀ (i : grid0.Coords) (v18965 : BitVec 32) (k0_hw528 : k0_chk528 i v18965), ∀ (k0_h1 : k0_cond1 i = 1#1), ∀ a, (k0_off1084 v18965) a + S1.size a ≤ S51920.size a := fun i v18965 k0_hw528 k0_h1 => k0_hw528.2.2.2.2.2.2.2.2.2.2.2.2.2.1 k0_h1
theorem k0_off1086_inb : ∀ (i : grid0.Coords) (v18965 : BitVec 32) (k0_hw528 : k0_chk528 i v18965), ∀ (k0_h1 : k0_cond1 i = 1#1), ∀ a, (k0_off1086 v18965) a + S1.size a ≤ S51920.size a := fun i v18965 k0_hw528 k0_h1 => k0_hw528.2.2.2.2.2.2.2.2.2.2.2.2.2.2.1 k0_h1
theorem k0_off1088_inb : ∀ (i : grid0.Coords) (v18965 : BitVec 32) (k0_hw528 : k0_chk528 i v18965), ∀ (k0_h1 : k0_cond1 i = 1#1), ∀ a, (k0_off1088 v18965) a + S1.size a ≤ S51920.size a := fun i v18965 k0_hw528 k0_h1 => k0_hw528.2.2.2.2.2.2.2.2.2.2.2.2.2.2.2 k0_h1

def k0_off1089 (k0_t1 : Fin k0_t1_loop.trips) (v18965 : BitVec 32) (v18968 : BitVec 32) (v19205 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let c15_i32_7503 : BitVec 32 := 15#32
  let v19202 : BitVec 32 := Scalar.addi v18965 c15_i32_7503
  let v19203 : BitVec 1 := Scalar.cmpi .slt v19202 v18968
  let c65535_i32_7504 : BitVec 32 := 65535#32
  let v19206 : BitVec 32 := Scalar.andi v19205 c65535_i32_7504
  let c2048_i32_7505 : BitVec 32 := 2048#32
  let v19207 : BitVec 32 := Scalar.select v19203 v19206 c2048_i32_7505
  let v19208 : BitVec 32 := Scalar.addi v11087 v19207
  let v19211 : Index := Scalar.indexCast v19208
  let c0_7507 : Index := 0#32
  ![v19211.toNat, 0]

def k0_chk544 (i : grid0.Coords) (k0_t1 : Fin k0_t1_loop.trips) (v18965 : BitVec 32) (v18968 : BitVec 32) (v19205 : BitVec 32) : Prop :=
  (∀ (k0_h1 : k0_cond1 i = 1#1), ∀ a, (k0_off1089 k0_t1 v18965 v18968 v19205) a + S1x128.size a ≤ S8224x128.size a)
theorem k0_off1089_inb : ∀ (i : grid0.Coords) (k0_t1 : Fin k0_t1_loop.trips) (v18965 : BitVec 32) (v18968 : BitVec 32) (v19205 : BitVec 32) (k0_hw544 : k0_chk544 i k0_t1 v18965 v18968 v19205), ∀ (k0_h1 : k0_cond1 i = 1#1), ∀ a, (k0_off1089 k0_t1 v18965 v18968 v19205) a + S1x128.size a ≤ S8224x128.size a := fun i k0_t1 v18965 v18968 v19205 k0_hw544 k0_h1 => k0_hw544 k0_h1

@[reducible] def k0_t2_loop : Scf.Loop 32 :=
  let c0_i32_7510 : BitVec 32 := 0#32
  let c32_i32_7511 : BitVec 32 := 32#32
  let v19219 : BitVec 32 := Scalar.addi c0_i32_7510 c32_i32_7511
  let c1_i32_7512 : BitVec 32 := 1#32
  ⟨c0_i32_7510, v19219, c1_i32_7512⟩
def k0_off1090 (k0_t1 : Fin k0_t1_loop.trips) (k0_t2 : Fin k0_t2_loop.trips) : Fin 1 → Nat :=
  let c0_i32_7514 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v19220 : BitVec 32 := Scalar.addi c0_i32_7514 v11069
  let c0_i32_7510 : BitVec 32 := 0#32
  let c1_i32_7512 : BitVec 32 := 1#32
  let arg16 : BitVec 32 := Scf.iv c0_i32_7510 c1_i32_7512 k0_t2
  let v19221 : BitVec 32 := Scalar.addi v19220 arg16
  let v19227 : Index := Scalar.indexCast v19221
  ![v19227.toNat]
def k0_off1091 (k0_t1 : Fin k0_t1_loop.trips) (k0_t2 : Fin k0_t2_loop.trips) : Fin 1 → Nat :=
  let c0_i32_7514 : BitVec 32 := 0#32
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let v19220 : BitVec 32 := Scalar.addi c0_i32_7514 v11069
  let c0_i32_7510 : BitVec 32 := 0#32
  let c1_i32_7512 : BitVec 32 := 1#32
  let arg16 : BitVec 32 := Scf.iv c0_i32_7510 c1_i32_7512 k0_t2
  let v19221 : BitVec 32 := Scalar.addi v19220 arg16
  let c1_i32_7517 : BitVec 32 := 1#32
  let v19230 : BitVec 32 := Scalar.addi v19221 c1_i32_7517
  let v19231 : Index := Scalar.indexCast v19230
  ![v19231.toNat]
@[reducible] def k0_t3_loop (v19228 : BitVec 32) (v19232 : BitVec 32) : Scf.Loop 32 :=
  let c16_i32_7516 : BitVec 32 := 16#32
  let v19229 : BitVec 32 := Scalar.addi v19228 c16_i32_7516
  let v19233 : BitVec 32 := Scalar.subi v19232 v19229
  let c1_i32_7519 : BitVec 32 := 1#32
  let v19235 : BitVec 32 := Scalar.divsi v19233 c1_i32_7519
  let v19236 : BitVec 32 := Scalar.muli v19235 c1_i32_7519
  let v19237 : BitVec 32 := Scalar.addi v19229 v19236
  let c1_i32_7520 : BitVec 32 := 1#32
  ⟨v19229, v19237, c1_i32_7520⟩
def k0_cond2 (v11091 : BitVec 32) (v11094 : BitVec 32) (v11345 : BitVec 32) (v11348 : BitVec 32) (v11599 : BitVec 32) (v11602 : BitVec 32) (v11853 : BitVec 32) (v11856 : BitVec 32) (v12107 : BitVec 32) (v12110 : BitVec 32) (v12361 : BitVec 32) (v12364 : BitVec 32) (v12615 : BitVec 32) (v12618 : BitVec 32) (v12869 : BitVec 32) (v12872 : BitVec 32) (v13123 : BitVec 32) (v13126 : BitVec 32) (v13377 : BitVec 32) (v13380 : BitVec 32) (v13631 : BitVec 32) (v13634 : BitVec 32) (v13885 : BitVec 32) (v13888 : BitVec 32) (v14139 : BitVec 32) (v14142 : BitVec 32) (v14393 : BitVec 32) (v14396 : BitVec 32) (v14647 : BitVec 32) (v14650 : BitVec 32) (v14901 : BitVec 32) (v14904 : BitVec 32) (v15155 : BitVec 32) (v15158 : BitVec 32) (v15409 : BitVec 32) (v15412 : BitVec 32) (v15663 : BitVec 32) (v15666 : BitVec 32) (v15917 : BitVec 32) (v15920 : BitVec 32) (v16171 : BitVec 32) (v16174 : BitVec 32) (v16425 : BitVec 32) (v16428 : BitVec 32) (v16679 : BitVec 32) (v16682 : BitVec 32) (v16933 : BitVec 32) (v16936 : BitVec 32) (v17187 : BitVec 32) (v17190 : BitVec 32) (v17441 : BitVec 32) (v17444 : BitVec 32) (v17695 : BitVec 32) (v17698 : BitVec 32) (v17949 : BitVec 32) (v17952 : BitVec 32) (v18203 : BitVec 32) (v18206 : BitVec 32) (v18457 : BitVec 32) (v18460 : BitVec 32) (v18711 : BitVec 32) (v18714 : BitVec 32) (v18965 : BitVec 32) (v18968 : BitVec 32) : BitVec 1 :=
  let c0_i32_4278 : BitVec 32 := 0#32
  let v11095 : BitVec 32 := Scalar.subi v11094 v11091
  let v11096 : BitVec 32 := Scalar.maxsi c0_i32_4278 v11095
  let v11349 : BitVec 32 := Scalar.subi v11348 v11345
  let v11350 : BitVec 32 := Scalar.maxsi v11096 v11349
  let v11603 : BitVec 32 := Scalar.subi v11602 v11599
  let v11604 : BitVec 32 := Scalar.maxsi v11350 v11603
  let v11857 : BitVec 32 := Scalar.subi v11856 v11853
  let v11858 : BitVec 32 := Scalar.maxsi v11604 v11857
  let v12111 : BitVec 32 := Scalar.subi v12110 v12107
  let v12112 : BitVec 32 := Scalar.maxsi v11858 v12111
  let v12365 : BitVec 32 := Scalar.subi v12364 v12361
  let v12366 : BitVec 32 := Scalar.maxsi v12112 v12365
  let v12619 : BitVec 32 := Scalar.subi v12618 v12615
  let v12620 : BitVec 32 := Scalar.maxsi v12366 v12619
  let v12873 : BitVec 32 := Scalar.subi v12872 v12869
  let v12874 : BitVec 32 := Scalar.maxsi v12620 v12873
  let v13127 : BitVec 32 := Scalar.subi v13126 v13123
  let v13128 : BitVec 32 := Scalar.maxsi v12874 v13127
  let v13381 : BitVec 32 := Scalar.subi v13380 v13377
  let v13382 : BitVec 32 := Scalar.maxsi v13128 v13381
  let v13635 : BitVec 32 := Scalar.subi v13634 v13631
  let v13636 : BitVec 32 := Scalar.maxsi v13382 v13635
  let v13889 : BitVec 32 := Scalar.subi v13888 v13885
  let v13890 : BitVec 32 := Scalar.maxsi v13636 v13889
  let v14143 : BitVec 32 := Scalar.subi v14142 v14139
  let v14144 : BitVec 32 := Scalar.maxsi v13890 v14143
  let v14397 : BitVec 32 := Scalar.subi v14396 v14393
  let v14398 : BitVec 32 := Scalar.maxsi v14144 v14397
  let v14651 : BitVec 32 := Scalar.subi v14650 v14647
  let v14652 : BitVec 32 := Scalar.maxsi v14398 v14651
  let v14905 : BitVec 32 := Scalar.subi v14904 v14901
  let v14906 : BitVec 32 := Scalar.maxsi v14652 v14905
  let v15159 : BitVec 32 := Scalar.subi v15158 v15155
  let v15160 : BitVec 32 := Scalar.maxsi v14906 v15159
  let v15413 : BitVec 32 := Scalar.subi v15412 v15409
  let v15414 : BitVec 32 := Scalar.maxsi v15160 v15413
  let v15667 : BitVec 32 := Scalar.subi v15666 v15663
  let v15668 : BitVec 32 := Scalar.maxsi v15414 v15667
  let v15921 : BitVec 32 := Scalar.subi v15920 v15917
  let v15922 : BitVec 32 := Scalar.maxsi v15668 v15921
  let v16175 : BitVec 32 := Scalar.subi v16174 v16171
  let v16176 : BitVec 32 := Scalar.maxsi v15922 v16175
  let v16429 : BitVec 32 := Scalar.subi v16428 v16425
  let v16430 : BitVec 32 := Scalar.maxsi v16176 v16429
  let v16683 : BitVec 32 := Scalar.subi v16682 v16679
  let v16684 : BitVec 32 := Scalar.maxsi v16430 v16683
  let v16937 : BitVec 32 := Scalar.subi v16936 v16933
  let v16938 : BitVec 32 := Scalar.maxsi v16684 v16937
  let v17191 : BitVec 32 := Scalar.subi v17190 v17187
  let v17192 : BitVec 32 := Scalar.maxsi v16938 v17191
  let v17445 : BitVec 32 := Scalar.subi v17444 v17441
  let v17446 : BitVec 32 := Scalar.maxsi v17192 v17445
  let v17699 : BitVec 32 := Scalar.subi v17698 v17695
  let v17700 : BitVec 32 := Scalar.maxsi v17446 v17699
  let v17953 : BitVec 32 := Scalar.subi v17952 v17949
  let v17954 : BitVec 32 := Scalar.maxsi v17700 v17953
  let v18207 : BitVec 32 := Scalar.subi v18206 v18203
  let v18208 : BitVec 32 := Scalar.maxsi v17954 v18207
  let v18461 : BitVec 32 := Scalar.subi v18460 v18457
  let v18462 : BitVec 32 := Scalar.maxsi v18208 v18461
  let v18715 : BitVec 32 := Scalar.subi v18714 v18711
  let v18716 : BitVec 32 := Scalar.maxsi v18462 v18715
  let v18969 : BitVec 32 := Scalar.subi v18968 v18965
  let v18970 : BitVec 32 := Scalar.maxsi v18716 v18969
  let c16_i32_7508 : BitVec 32 := 16#32
  let v19216 : BitVec 1 := Scalar.cmpi .sgt v18970 c16_i32_7508
  let v19217 : BitVec 32 := Scalar.extui v19216
  let c0_i32_7509 : BitVec 32 := 0#32
  let v19218 : BitVec 1 := Scalar.cmpi .ne v19217 c0_i32_7509
  v19218

def k0_off1092 (v19228 : BitVec 32) (v19232 : BitVec 32) (k0_t3 : Fin (k0_t3_loop v19228 v19232).trips) : Fin 1 → Nat :=
  let c16_i32_7516 : BitVec 32 := 16#32
  let v19229 : BitVec 32 := Scalar.addi v19228 c16_i32_7516
  let c1_i32_7520 : BitVec 32 := 1#32
  let arg17 : BitVec 32 := Scf.iv v19229 c1_i32_7520 k0_t3
  let v19240 : Index := Scalar.indexCast arg17
  ![v19240.toNat]
def k0_off1093 (k0_t1 : Fin k0_t1_loop.trips) (v19241 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let v_true : BitVec 1 := 1#1
  let c65535_i32_7522 : BitVec 32 := 65535#32
  let v19242 : BitVec 32 := Scalar.andi v19241 c65535_i32_7522
  let c2048_i32_7523 : BitVec 32 := 2048#32
  let v19243 : BitVec 32 := Scalar.select v_true v19242 c2048_i32_7523
  let v19244 : BitVec 32 := Scalar.addi v11087 v19243
  let v19247 : Index := Scalar.indexCast v19244
  let c0_7525 : Index := 0#32
  ![v19247.toNat, 0]

def k0_chk546 (i : grid0.Coords) (k0_t1 : Fin k0_t1_loop.trips) (v11091 : BitVec 32) (v11094 : BitVec 32) (v11345 : BitVec 32) (v11348 : BitVec 32) (v11599 : BitVec 32) (v11602 : BitVec 32) (v11853 : BitVec 32) (v11856 : BitVec 32) (v12107 : BitVec 32) (v12110 : BitVec 32) (v12361 : BitVec 32) (v12364 : BitVec 32) (v12615 : BitVec 32) (v12618 : BitVec 32) (v12869 : BitVec 32) (v12872 : BitVec 32) (v13123 : BitVec 32) (v13126 : BitVec 32) (v13377 : BitVec 32) (v13380 : BitVec 32) (v13631 : BitVec 32) (v13634 : BitVec 32) (v13885 : BitVec 32) (v13888 : BitVec 32) (v14139 : BitVec 32) (v14142 : BitVec 32) (v14393 : BitVec 32) (v14396 : BitVec 32) (v14647 : BitVec 32) (v14650 : BitVec 32) (v14901 : BitVec 32) (v14904 : BitVec 32) (v15155 : BitVec 32) (v15158 : BitVec 32) (v15409 : BitVec 32) (v15412 : BitVec 32) (v15663 : BitVec 32) (v15666 : BitVec 32) (v15917 : BitVec 32) (v15920 : BitVec 32) (v16171 : BitVec 32) (v16174 : BitVec 32) (v16425 : BitVec 32) (v16428 : BitVec 32) (v16679 : BitVec 32) (v16682 : BitVec 32) (v16933 : BitVec 32) (v16936 : BitVec 32) (v17187 : BitVec 32) (v17190 : BitVec 32) (v17441 : BitVec 32) (v17444 : BitVec 32) (v17695 : BitVec 32) (v17698 : BitVec 32) (v17949 : BitVec 32) (v17952 : BitVec 32) (v18203 : BitVec 32) (v18206 : BitVec 32) (v18457 : BitVec 32) (v18460 : BitVec 32) (v18711 : BitVec 32) (v18714 : BitVec 32) (v18965 : BitVec 32) (v18968 : BitVec 32) (v19241 : BitVec 32) : Prop :=
  (∀ (k0_h1 : k0_cond1 i = 1#1), ∀ (k0_h2 : k0_cond2 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 = 1#1), ∀ a, (k0_off1093 k0_t1 v19241) a + S1x128.size a ≤ S8224x128.size a)
theorem k0_off1093_inb : ∀ (i : grid0.Coords) (k0_t1 : Fin k0_t1_loop.trips) (v11091 : BitVec 32) (v11094 : BitVec 32) (v11345 : BitVec 32) (v11348 : BitVec 32) (v11599 : BitVec 32) (v11602 : BitVec 32) (v11853 : BitVec 32) (v11856 : BitVec 32) (v12107 : BitVec 32) (v12110 : BitVec 32) (v12361 : BitVec 32) (v12364 : BitVec 32) (v12615 : BitVec 32) (v12618 : BitVec 32) (v12869 : BitVec 32) (v12872 : BitVec 32) (v13123 : BitVec 32) (v13126 : BitVec 32) (v13377 : BitVec 32) (v13380 : BitVec 32) (v13631 : BitVec 32) (v13634 : BitVec 32) (v13885 : BitVec 32) (v13888 : BitVec 32) (v14139 : BitVec 32) (v14142 : BitVec 32) (v14393 : BitVec 32) (v14396 : BitVec 32) (v14647 : BitVec 32) (v14650 : BitVec 32) (v14901 : BitVec 32) (v14904 : BitVec 32) (v15155 : BitVec 32) (v15158 : BitVec 32) (v15409 : BitVec 32) (v15412 : BitVec 32) (v15663 : BitVec 32) (v15666 : BitVec 32) (v15917 : BitVec 32) (v15920 : BitVec 32) (v16171 : BitVec 32) (v16174 : BitVec 32) (v16425 : BitVec 32) (v16428 : BitVec 32) (v16679 : BitVec 32) (v16682 : BitVec 32) (v16933 : BitVec 32) (v16936 : BitVec 32) (v17187 : BitVec 32) (v17190 : BitVec 32) (v17441 : BitVec 32) (v17444 : BitVec 32) (v17695 : BitVec 32) (v17698 : BitVec 32) (v17949 : BitVec 32) (v17952 : BitVec 32) (v18203 : BitVec 32) (v18206 : BitVec 32) (v18457 : BitVec 32) (v18460 : BitVec 32) (v18711 : BitVec 32) (v18714 : BitVec 32) (v18965 : BitVec 32) (v18968 : BitVec 32) (v19241 : BitVec 32) (k0_hw546 : k0_chk546 i k0_t1 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 v19241), ∀ (k0_h1 : k0_cond1 i = 1#1), ∀ (k0_h2 : k0_cond2 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 = 1#1), ∀ a, (k0_off1093 k0_t1 v19241) a + S1x128.size a ≤ S8224x128.size a := fun i k0_t1 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 v19241 k0_hw546 k0_h1 k0_h2 => k0_hw546 k0_h1 k0_h2

@[reducible] def k0_t4_loop (v19228 : BitVec 32) (v19232 : BitVec 32) : Scf.Loop 32 :=
  let c16_i32_7516 : BitVec 32 := 16#32
  let v19229 : BitVec 32 := Scalar.addi v19228 c16_i32_7516
  let v19233 : BitVec 32 := Scalar.subi v19232 v19229
  let c1_i32_7519 : BitVec 32 := 1#32
  let v19235 : BitVec 32 := Scalar.divsi v19233 c1_i32_7519
  let v19236 : BitVec 32 := Scalar.muli v19235 c1_i32_7519
  let v19237 : BitVec 32 := Scalar.addi v19229 v19236
  let v19234 : BitVec 32 := Scalar.addi v19229 v19233
  let c1_i32_7521 : BitVec 32 := 1#32
  ⟨v19237, v19234, c1_i32_7521⟩
def k0_off1094 (v19228 : BitVec 32) (v19232 : BitVec 32) (k0_t4 : Fin (k0_t4_loop v19228 v19232).trips) : Fin 1 → Nat :=
  let c16_i32_7516 : BitVec 32 := 16#32
  let v19229 : BitVec 32 := Scalar.addi v19228 c16_i32_7516
  let v19233 : BitVec 32 := Scalar.subi v19232 v19229
  let c1_i32_7519 : BitVec 32 := 1#32
  let v19235 : BitVec 32 := Scalar.divsi v19233 c1_i32_7519
  let v19236 : BitVec 32 := Scalar.muli v19235 c1_i32_7519
  let v19237 : BitVec 32 := Scalar.addi v19229 v19236
  let c1_i32_7521 : BitVec 32 := 1#32
  let arg17 : BitVec 32 := Scf.iv v19237 c1_i32_7521 k0_t4
  let v19240 : Index := Scalar.indexCast arg17
  ![v19240.toNat]

def k0_chk545 (i : grid0.Coords) (v11091 : BitVec 32) (v11094 : BitVec 32) (v11345 : BitVec 32) (v11348 : BitVec 32) (v11599 : BitVec 32) (v11602 : BitVec 32) (v11853 : BitVec 32) (v11856 : BitVec 32) (v12107 : BitVec 32) (v12110 : BitVec 32) (v12361 : BitVec 32) (v12364 : BitVec 32) (v12615 : BitVec 32) (v12618 : BitVec 32) (v12869 : BitVec 32) (v12872 : BitVec 32) (v13123 : BitVec 32) (v13126 : BitVec 32) (v13377 : BitVec 32) (v13380 : BitVec 32) (v13631 : BitVec 32) (v13634 : BitVec 32) (v13885 : BitVec 32) (v13888 : BitVec 32) (v14139 : BitVec 32) (v14142 : BitVec 32) (v14393 : BitVec 32) (v14396 : BitVec 32) (v14647 : BitVec 32) (v14650 : BitVec 32) (v14901 : BitVec 32) (v14904 : BitVec 32) (v15155 : BitVec 32) (v15158 : BitVec 32) (v15409 : BitVec 32) (v15412 : BitVec 32) (v15663 : BitVec 32) (v15666 : BitVec 32) (v15917 : BitVec 32) (v15920 : BitVec 32) (v16171 : BitVec 32) (v16174 : BitVec 32) (v16425 : BitVec 32) (v16428 : BitVec 32) (v16679 : BitVec 32) (v16682 : BitVec 32) (v16933 : BitVec 32) (v16936 : BitVec 32) (v17187 : BitVec 32) (v17190 : BitVec 32) (v17441 : BitVec 32) (v17444 : BitVec 32) (v17695 : BitVec 32) (v17698 : BitVec 32) (v17949 : BitVec 32) (v17952 : BitVec 32) (v18203 : BitVec 32) (v18206 : BitVec 32) (v18457 : BitVec 32) (v18460 : BitVec 32) (v18711 : BitVec 32) (v18714 : BitVec 32) (v18965 : BitVec 32) (v18968 : BitVec 32) (v19228 : BitVec 32) (v19232 : BitVec 32) : Prop :=
  (∀ (k0_h1 : k0_cond1 i = 1#1), ∀ (k0_h2 : k0_cond2 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 = 1#1), (k0_t3_loop v19228 v19232).OK) ∧
  (∀ k0_t3 : Fin (k0_t3_loop v19228 v19232).trips, ∀ (k0_h1 : k0_cond1 i = 1#1), ∀ (k0_h2 : k0_cond2 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 = 1#1), ∀ a, (k0_off1092 v19228 v19232 k0_t3) a + S1.size a ≤ S51920.size a) ∧
  (∀ (k0_h1 : k0_cond1 i = 1#1), ∀ (k0_h2 : k0_cond2 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 = 1#1), (k0_t4_loop v19228 v19232).OK) ∧
  (∀ k0_t4 : Fin (k0_t4_loop v19228 v19232).trips, ∀ (k0_h1 : k0_cond1 i = 1#1), ∀ (k0_h2 : k0_cond2 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 = 1#1), ∀ a, (k0_off1094 v19228 v19232 k0_t4) a + S1.size a ≤ S51920.size a)
theorem k0_t3_ok : ∀ (i : grid0.Coords) (v11091 : BitVec 32) (v11094 : BitVec 32) (v11345 : BitVec 32) (v11348 : BitVec 32) (v11599 : BitVec 32) (v11602 : BitVec 32) (v11853 : BitVec 32) (v11856 : BitVec 32) (v12107 : BitVec 32) (v12110 : BitVec 32) (v12361 : BitVec 32) (v12364 : BitVec 32) (v12615 : BitVec 32) (v12618 : BitVec 32) (v12869 : BitVec 32) (v12872 : BitVec 32) (v13123 : BitVec 32) (v13126 : BitVec 32) (v13377 : BitVec 32) (v13380 : BitVec 32) (v13631 : BitVec 32) (v13634 : BitVec 32) (v13885 : BitVec 32) (v13888 : BitVec 32) (v14139 : BitVec 32) (v14142 : BitVec 32) (v14393 : BitVec 32) (v14396 : BitVec 32) (v14647 : BitVec 32) (v14650 : BitVec 32) (v14901 : BitVec 32) (v14904 : BitVec 32) (v15155 : BitVec 32) (v15158 : BitVec 32) (v15409 : BitVec 32) (v15412 : BitVec 32) (v15663 : BitVec 32) (v15666 : BitVec 32) (v15917 : BitVec 32) (v15920 : BitVec 32) (v16171 : BitVec 32) (v16174 : BitVec 32) (v16425 : BitVec 32) (v16428 : BitVec 32) (v16679 : BitVec 32) (v16682 : BitVec 32) (v16933 : BitVec 32) (v16936 : BitVec 32) (v17187 : BitVec 32) (v17190 : BitVec 32) (v17441 : BitVec 32) (v17444 : BitVec 32) (v17695 : BitVec 32) (v17698 : BitVec 32) (v17949 : BitVec 32) (v17952 : BitVec 32) (v18203 : BitVec 32) (v18206 : BitVec 32) (v18457 : BitVec 32) (v18460 : BitVec 32) (v18711 : BitVec 32) (v18714 : BitVec 32) (v18965 : BitVec 32) (v18968 : BitVec 32) (v19228 : BitVec 32) (v19232 : BitVec 32) (k0_hw545 : k0_chk545 i v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 v19228 v19232), ∀ (k0_h1 : k0_cond1 i = 1#1), ∀ (k0_h2 : k0_cond2 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 = 1#1), (k0_t3_loop v19228 v19232).OK := fun i v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 v19228 v19232 k0_hw545 k0_h1 k0_h2 => k0_hw545.1 k0_h1 k0_h2
theorem k0_off1092_inb : ∀ (i : grid0.Coords) (v11091 : BitVec 32) (v11094 : BitVec 32) (v11345 : BitVec 32) (v11348 : BitVec 32) (v11599 : BitVec 32) (v11602 : BitVec 32) (v11853 : BitVec 32) (v11856 : BitVec 32) (v12107 : BitVec 32) (v12110 : BitVec 32) (v12361 : BitVec 32) (v12364 : BitVec 32) (v12615 : BitVec 32) (v12618 : BitVec 32) (v12869 : BitVec 32) (v12872 : BitVec 32) (v13123 : BitVec 32) (v13126 : BitVec 32) (v13377 : BitVec 32) (v13380 : BitVec 32) (v13631 : BitVec 32) (v13634 : BitVec 32) (v13885 : BitVec 32) (v13888 : BitVec 32) (v14139 : BitVec 32) (v14142 : BitVec 32) (v14393 : BitVec 32) (v14396 : BitVec 32) (v14647 : BitVec 32) (v14650 : BitVec 32) (v14901 : BitVec 32) (v14904 : BitVec 32) (v15155 : BitVec 32) (v15158 : BitVec 32) (v15409 : BitVec 32) (v15412 : BitVec 32) (v15663 : BitVec 32) (v15666 : BitVec 32) (v15917 : BitVec 32) (v15920 : BitVec 32) (v16171 : BitVec 32) (v16174 : BitVec 32) (v16425 : BitVec 32) (v16428 : BitVec 32) (v16679 : BitVec 32) (v16682 : BitVec 32) (v16933 : BitVec 32) (v16936 : BitVec 32) (v17187 : BitVec 32) (v17190 : BitVec 32) (v17441 : BitVec 32) (v17444 : BitVec 32) (v17695 : BitVec 32) (v17698 : BitVec 32) (v17949 : BitVec 32) (v17952 : BitVec 32) (v18203 : BitVec 32) (v18206 : BitVec 32) (v18457 : BitVec 32) (v18460 : BitVec 32) (v18711 : BitVec 32) (v18714 : BitVec 32) (v18965 : BitVec 32) (v18968 : BitVec 32) (v19228 : BitVec 32) (v19232 : BitVec 32) (k0_hw545 : k0_chk545 i v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 v19228 v19232) (k0_t3 : Fin (k0_t3_loop v19228 v19232).trips), ∀ (k0_h1 : k0_cond1 i = 1#1), ∀ (k0_h2 : k0_cond2 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 = 1#1), ∀ a, (k0_off1092 v19228 v19232 k0_t3) a + S1.size a ≤ S51920.size a := fun i v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 v19228 v19232 k0_hw545 k0_t3 k0_h1 k0_h2 => k0_hw545.2.1 k0_t3 k0_h1 k0_h2
theorem k0_t4_ok : ∀ (i : grid0.Coords) (v11091 : BitVec 32) (v11094 : BitVec 32) (v11345 : BitVec 32) (v11348 : BitVec 32) (v11599 : BitVec 32) (v11602 : BitVec 32) (v11853 : BitVec 32) (v11856 : BitVec 32) (v12107 : BitVec 32) (v12110 : BitVec 32) (v12361 : BitVec 32) (v12364 : BitVec 32) (v12615 : BitVec 32) (v12618 : BitVec 32) (v12869 : BitVec 32) (v12872 : BitVec 32) (v13123 : BitVec 32) (v13126 : BitVec 32) (v13377 : BitVec 32) (v13380 : BitVec 32) (v13631 : BitVec 32) (v13634 : BitVec 32) (v13885 : BitVec 32) (v13888 : BitVec 32) (v14139 : BitVec 32) (v14142 : BitVec 32) (v14393 : BitVec 32) (v14396 : BitVec 32) (v14647 : BitVec 32) (v14650 : BitVec 32) (v14901 : BitVec 32) (v14904 : BitVec 32) (v15155 : BitVec 32) (v15158 : BitVec 32) (v15409 : BitVec 32) (v15412 : BitVec 32) (v15663 : BitVec 32) (v15666 : BitVec 32) (v15917 : BitVec 32) (v15920 : BitVec 32) (v16171 : BitVec 32) (v16174 : BitVec 32) (v16425 : BitVec 32) (v16428 : BitVec 32) (v16679 : BitVec 32) (v16682 : BitVec 32) (v16933 : BitVec 32) (v16936 : BitVec 32) (v17187 : BitVec 32) (v17190 : BitVec 32) (v17441 : BitVec 32) (v17444 : BitVec 32) (v17695 : BitVec 32) (v17698 : BitVec 32) (v17949 : BitVec 32) (v17952 : BitVec 32) (v18203 : BitVec 32) (v18206 : BitVec 32) (v18457 : BitVec 32) (v18460 : BitVec 32) (v18711 : BitVec 32) (v18714 : BitVec 32) (v18965 : BitVec 32) (v18968 : BitVec 32) (v19228 : BitVec 32) (v19232 : BitVec 32) (k0_hw545 : k0_chk545 i v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 v19228 v19232), ∀ (k0_h1 : k0_cond1 i = 1#1), ∀ (k0_h2 : k0_cond2 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 = 1#1), (k0_t4_loop v19228 v19232).OK := fun i v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 v19228 v19232 k0_hw545 k0_h1 k0_h2 => k0_hw545.2.2.1 k0_h1 k0_h2
theorem k0_off1094_inb : ∀ (i : grid0.Coords) (v11091 : BitVec 32) (v11094 : BitVec 32) (v11345 : BitVec 32) (v11348 : BitVec 32) (v11599 : BitVec 32) (v11602 : BitVec 32) (v11853 : BitVec 32) (v11856 : BitVec 32) (v12107 : BitVec 32) (v12110 : BitVec 32) (v12361 : BitVec 32) (v12364 : BitVec 32) (v12615 : BitVec 32) (v12618 : BitVec 32) (v12869 : BitVec 32) (v12872 : BitVec 32) (v13123 : BitVec 32) (v13126 : BitVec 32) (v13377 : BitVec 32) (v13380 : BitVec 32) (v13631 : BitVec 32) (v13634 : BitVec 32) (v13885 : BitVec 32) (v13888 : BitVec 32) (v14139 : BitVec 32) (v14142 : BitVec 32) (v14393 : BitVec 32) (v14396 : BitVec 32) (v14647 : BitVec 32) (v14650 : BitVec 32) (v14901 : BitVec 32) (v14904 : BitVec 32) (v15155 : BitVec 32) (v15158 : BitVec 32) (v15409 : BitVec 32) (v15412 : BitVec 32) (v15663 : BitVec 32) (v15666 : BitVec 32) (v15917 : BitVec 32) (v15920 : BitVec 32) (v16171 : BitVec 32) (v16174 : BitVec 32) (v16425 : BitVec 32) (v16428 : BitVec 32) (v16679 : BitVec 32) (v16682 : BitVec 32) (v16933 : BitVec 32) (v16936 : BitVec 32) (v17187 : BitVec 32) (v17190 : BitVec 32) (v17441 : BitVec 32) (v17444 : BitVec 32) (v17695 : BitVec 32) (v17698 : BitVec 32) (v17949 : BitVec 32) (v17952 : BitVec 32) (v18203 : BitVec 32) (v18206 : BitVec 32) (v18457 : BitVec 32) (v18460 : BitVec 32) (v18711 : BitVec 32) (v18714 : BitVec 32) (v18965 : BitVec 32) (v18968 : BitVec 32) (v19228 : BitVec 32) (v19232 : BitVec 32) (k0_hw545 : k0_chk545 i v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 v19228 v19232) (k0_t4 : Fin (k0_t4_loop v19228 v19232).trips), ∀ (k0_h1 : k0_cond1 i = 1#1), ∀ (k0_h2 : k0_cond2 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 = 1#1), ∀ a, (k0_off1094 v19228 v19232 k0_t4) a + S1.size a ≤ S51920.size a := fun i v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 v19228 v19232 k0_hw545 k0_t4 k0_h1 k0_h2 => k0_hw545.2.2.2 k0_t4 k0_h1 k0_h2

def k0_off1095 (k0_t1 : Fin k0_t1_loop.trips) (v19241 : BitVec 32) : Fin 2 → Nat :=
  let c0_i32_3744 : BitVec 32 := 0#32
  let c1_i32_3746 : BitVec 32 := 1#32
  let arg15 : BitVec 32 := Scf.iv c0_i32_3744 c1_i32_3746 k0_t1
  let c32_i32_4266 : BitVec 32 := 32#32
  let v11069 : BitVec 32 := Scalar.muli arg15 c32_i32_4266
  let c0_i32_4268 : BitVec 32 := 0#32
  let v11071 : BitVec 1 := Scalar.cmpi .sgt v11069 c0_i32_4268
  let v11072 : BitVec 32 := Scalar.extui v11071
  let c0_i32_4269 : BitVec 32 := 0#32
  let v11073 : BitVec 1 := Scalar.cmpi .slt v11069 c0_i32_4269
  let v11074 : BitVec 32 := Scalar.extui v11073
  let v11075 : BitVec 32 := Scalar.subi v11072 v11074
  let c128_i32_4267 : BitVec 32 := 128#32
  let c0_i32_4270 : BitVec 32 := 0#32
  let v11076 : BitVec 1 := Scalar.cmpi .sgt c128_i32_4267 c0_i32_4270
  let v11077 : BitVec 32 := Scalar.extui v11076
  let c0_i32_4271 : BitVec 32 := 0#32
  let v11078 : BitVec 1 := Scalar.cmpi .slt c128_i32_4267 c0_i32_4271
  let v11079 : BitVec 32 := Scalar.extui v11078
  let v11080 : BitVec 32 := Scalar.subi v11077 v11079
  let v11081 : BitVec 1 := Scalar.cmpi .ne v11075 v11080
  let v11082 : BitVec 32 := Scalar.remsi v11069 c128_i32_4267
  let c0_i32_4272 : BitVec 32 := 0#32
  let v11083 : BitVec 1 := Scalar.cmpi .ne v11082 c0_i32_4272
  let v11084 : BitVec 1 := Scalar.andi v11081 v11083
  let v11070 : BitVec 32 := Scalar.divsi v11069 c128_i32_4267
  let c1_i32_4273 : BitVec 32 := 1#32
  let v11085 : BitVec 32 := Scalar.subi v11070 c1_i32_4273
  let v11086 : BitVec 32 := Scalar.select v11084 v11085 v11070
  let c2056_i32_4274 : BitVec 32 := 2056#32
  let v11087 : BitVec 32 := Scalar.muli v11086 c2056_i32_4274
  let v_true : BitVec 1 := 1#1
  let c65535_i32_7522 : BitVec 32 := 65535#32
  let v19242 : BitVec 32 := Scalar.andi v19241 c65535_i32_7522
  let c2048_i32_7523 : BitVec 32 := 2048#32
  let v19243 : BitVec 32 := Scalar.select v_true v19242 c2048_i32_7523
  let v19244 : BitVec 32 := Scalar.addi v11087 v19243
  let v19247 : Index := Scalar.indexCast v19244
  let c0_7525 : Index := 0#32
  ![v19247.toNat, 0]

def k0_chk547 (i : grid0.Coords) (k0_t1 : Fin k0_t1_loop.trips) (v11091 : BitVec 32) (v11094 : BitVec 32) (v11345 : BitVec 32) (v11348 : BitVec 32) (v11599 : BitVec 32) (v11602 : BitVec 32) (v11853 : BitVec 32) (v11856 : BitVec 32) (v12107 : BitVec 32) (v12110 : BitVec 32) (v12361 : BitVec 32) (v12364 : BitVec 32) (v12615 : BitVec 32) (v12618 : BitVec 32) (v12869 : BitVec 32) (v12872 : BitVec 32) (v13123 : BitVec 32) (v13126 : BitVec 32) (v13377 : BitVec 32) (v13380 : BitVec 32) (v13631 : BitVec 32) (v13634 : BitVec 32) (v13885 : BitVec 32) (v13888 : BitVec 32) (v14139 : BitVec 32) (v14142 : BitVec 32) (v14393 : BitVec 32) (v14396 : BitVec 32) (v14647 : BitVec 32) (v14650 : BitVec 32) (v14901 : BitVec 32) (v14904 : BitVec 32) (v15155 : BitVec 32) (v15158 : BitVec 32) (v15409 : BitVec 32) (v15412 : BitVec 32) (v15663 : BitVec 32) (v15666 : BitVec 32) (v15917 : BitVec 32) (v15920 : BitVec 32) (v16171 : BitVec 32) (v16174 : BitVec 32) (v16425 : BitVec 32) (v16428 : BitVec 32) (v16679 : BitVec 32) (v16682 : BitVec 32) (v16933 : BitVec 32) (v16936 : BitVec 32) (v17187 : BitVec 32) (v17190 : BitVec 32) (v17441 : BitVec 32) (v17444 : BitVec 32) (v17695 : BitVec 32) (v17698 : BitVec 32) (v17949 : BitVec 32) (v17952 : BitVec 32) (v18203 : BitVec 32) (v18206 : BitVec 32) (v18457 : BitVec 32) (v18460 : BitVec 32) (v18711 : BitVec 32) (v18714 : BitVec 32) (v18965 : BitVec 32) (v18968 : BitVec 32) (v19241 : BitVec 32) : Prop :=
  (∀ (k0_h1 : k0_cond1 i = 1#1), ∀ (k0_h2 : k0_cond2 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 = 1#1), ∀ a, (k0_off1095 k0_t1 v19241) a + S1x128.size a ≤ S8224x128.size a)
theorem k0_off1095_inb : ∀ (i : grid0.Coords) (k0_t1 : Fin k0_t1_loop.trips) (v11091 : BitVec 32) (v11094 : BitVec 32) (v11345 : BitVec 32) (v11348 : BitVec 32) (v11599 : BitVec 32) (v11602 : BitVec 32) (v11853 : BitVec 32) (v11856 : BitVec 32) (v12107 : BitVec 32) (v12110 : BitVec 32) (v12361 : BitVec 32) (v12364 : BitVec 32) (v12615 : BitVec 32) (v12618 : BitVec 32) (v12869 : BitVec 32) (v12872 : BitVec 32) (v13123 : BitVec 32) (v13126 : BitVec 32) (v13377 : BitVec 32) (v13380 : BitVec 32) (v13631 : BitVec 32) (v13634 : BitVec 32) (v13885 : BitVec 32) (v13888 : BitVec 32) (v14139 : BitVec 32) (v14142 : BitVec 32) (v14393 : BitVec 32) (v14396 : BitVec 32) (v14647 : BitVec 32) (v14650 : BitVec 32) (v14901 : BitVec 32) (v14904 : BitVec 32) (v15155 : BitVec 32) (v15158 : BitVec 32) (v15409 : BitVec 32) (v15412 : BitVec 32) (v15663 : BitVec 32) (v15666 : BitVec 32) (v15917 : BitVec 32) (v15920 : BitVec 32) (v16171 : BitVec 32) (v16174 : BitVec 32) (v16425 : BitVec 32) (v16428 : BitVec 32) (v16679 : BitVec 32) (v16682 : BitVec 32) (v16933 : BitVec 32) (v16936 : BitVec 32) (v17187 : BitVec 32) (v17190 : BitVec 32) (v17441 : BitVec 32) (v17444 : BitVec 32) (v17695 : BitVec 32) (v17698 : BitVec 32) (v17949 : BitVec 32) (v17952 : BitVec 32) (v18203 : BitVec 32) (v18206 : BitVec 32) (v18457 : BitVec 32) (v18460 : BitVec 32) (v18711 : BitVec 32) (v18714 : BitVec 32) (v18965 : BitVec 32) (v18968 : BitVec 32) (v19241 : BitVec 32) (k0_hw547 : k0_chk547 i k0_t1 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 v19241), ∀ (k0_h1 : k0_cond1 i = 1#1), ∀ (k0_h2 : k0_cond2 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 = 1#1), ∀ a, (k0_off1095 k0_t1 v19241) a + S1x128.size a ≤ S8224x128.size a := fun i k0_t1 v11091 v11094 v11345 v11348 v11599 v11602 v11853 v11856 v12107 v12110 v12361 v12364 v12615 v12618 v12869 v12872 v13123 v13126 v13377 v13380 v13631 v13634 v13885 v13888 v14139 v14142 v14393 v14396 v14647 v14650 v14901 v14904 v15155 v15158 v15409 v15412 v15663 v15666 v15917 v15920 v16171 v16174 v16425 v16428 v16679 v16682 v16933 v16936 v17187 v17190 v17441 v17444 v17695 v17698 v17949 v17952 v18203 v18206 v18457 v18460 v18711 v18714 v18965 v18968 v19241 k0_hw547 k0_h1 k0_h2 => k0_hw547 k0_h1 k0_h2

def k0_mult3 (i : grid0.Coords) : BitVec 32 :=
  let arg1 : BitVec 32 := BitVec.ofNat 32 (i 1).val
  let c64_i32 : BitVec 32 := 64#32
  let v1446 : BitVec 32 := Scalar.muli arg1 c64_i32
  v1446
def k0_off1096 (i : grid0.Coords) : Fin 2 → Nat :=
  let arg1 : BitVec 32 := BitVec.ofNat 32 (i 1).val
  let c64_i32 : BitVec 32 := 64#32
  let v1446 : BitVec 32 := Scalar.muli arg1 c64_i32
  let v1447 : BitVec 32 := v1446
  let v1448 : Index := Scalar.indexCast v1447
  let c0_526 : Index := 0#32
  ![v1448.toNat, 0]
def k0_off1097 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32 : BitVec 32 := 512#32
  let v1471 : BitVec 32 := Scalar.muli v24 c512_i32
  let arg1 : BitVec 32 := BitVec.ofNat 32 (i 1).val
  let c32_i32 : BitVec 32 := 32#32
  let v1452 : BitVec 32 := Scalar.muli arg1 c32_i32
  let v1472 : BitVec 32 := Scalar.addi v1471 v1452
  let c0_i32_533 : BitVec 32 := 0#32
  let v1473 : BitVec 32 := Scalar.addi v1472 c0_i32_533
  let v1474 : Index := Scalar.indexCast v1473
  ![v1474.toNat]
def k0_off1098 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32 : BitVec 32 := 512#32
  let v1471 : BitVec 32 := Scalar.muli v24 c512_i32
  let arg1 : BitVec 32 := BitVec.ofNat 32 (i 1).val
  let c32_i32 : BitVec 32 := 32#32
  let v1452 : BitVec 32 := Scalar.muli arg1 c32_i32
  let v1472 : BitVec 32 := Scalar.addi v1471 v1452
  let c0_i32_533 : BitVec 32 := 0#32
  let v1473 : BitVec 32 := Scalar.addi v1472 c0_i32_533
  let c1_i32_534 : BitVec 32 := 1#32
  let v1476 : BitVec 32 := Scalar.addi v1473 c1_i32_534
  let v1477 : Index := Scalar.indexCast v1476
  ![v1477.toNat]
def k0_off1099 (v1475 : BitVec 32) : Fin 1 → Nat :=
  let c0_i32_538 : BitVec 32 := 0#32
  let v1486 : BitVec 32 := Scalar.addi v1475 c0_i32_538
  let v1489 : Index := Scalar.indexCast v1486
  ![v1489.toNat]

def k0_off1100 (i : grid0.Coords) (v1475 : BitVec 32) (v1478 : BitVec 32) (v1490 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_539 : BitVec 32 := 0#32
  let v1487 : BitVec 32 := Scalar.addi v1475 c0_i32_539
  let v1488 : BitVec 1 := Scalar.cmpi .slt v1487 v1478
  let c65535_i32_540 : BitVec 32 := 65535#32
  let v1491 : BitVec 32 := Scalar.andi v1490 c65535_i32_540
  let c2048_i32 : BitVec 32 := 2048#32
  let v1492 : BitVec 32 := Scalar.select v1488 v1491 c2048_i32
  let v1493 : BitVec 32 := Scalar.addi v1470 v1492
  let v1496 : Index := Scalar.indexCast v1493
  let c0_542 : Index := 0#32
  ![v1496.toNat, 0]

def k0_chk549 (i : grid0.Coords) (v1475 : BitVec 32) (v1478 : BitVec 32) (v1490 : BitVec 32) : Prop :=
  (∀ a, (k0_off1100 i v1475 v1478 v1490) a + S1x128.size a ≤ S8224x128.size a)
theorem k0_off1100_inb : ∀ (i : grid0.Coords) (v1475 : BitVec 32) (v1478 : BitVec 32) (v1490 : BitVec 32) (k0_hw549 : k0_chk549 i v1475 v1478 v1490), ∀ a, (k0_off1100 i v1475 v1478 v1490) a + S1x128.size a ≤ S8224x128.size a := fun i v1475 v1478 v1490 k0_hw549 => k0_hw549

def k0_off1101 (v1475 : BitVec 32) : Fin 1 → Nat :=
  let c1_i32_543 : BitVec 32 := 1#32
  let v1501 : BitVec 32 := Scalar.addi v1475 c1_i32_543
  let v1504 : Index := Scalar.indexCast v1501
  ![v1504.toNat]
def k0_off1102 (i : grid0.Coords) (v1475 : BitVec 32) (v1478 : BitVec 32) (v1505 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_544 : BitVec 32 := 1#32
  let v1502 : BitVec 32 := Scalar.addi v1475 c1_i32_544
  let v1503 : BitVec 1 := Scalar.cmpi .slt v1502 v1478
  let c65535_i32_545 : BitVec 32 := 65535#32
  let v1506 : BitVec 32 := Scalar.andi v1505 c65535_i32_545
  let c2048_i32_546 : BitVec 32 := 2048#32
  let v1507 : BitVec 32 := Scalar.select v1503 v1506 c2048_i32_546
  let v1508 : BitVec 32 := Scalar.addi v1470 v1507
  let v1511 : Index := Scalar.indexCast v1508
  let c0_548 : Index := 0#32
  ![v1511.toNat, 0]

def k0_chk550 (i : grid0.Coords) (v1475 : BitVec 32) (v1478 : BitVec 32) (v1505 : BitVec 32) : Prop :=
  (∀ a, (k0_off1102 i v1475 v1478 v1505) a + S1x128.size a ≤ S8224x128.size a)
theorem k0_off1102_inb : ∀ (i : grid0.Coords) (v1475 : BitVec 32) (v1478 : BitVec 32) (v1505 : BitVec 32) (k0_hw550 : k0_chk550 i v1475 v1478 v1505), ∀ a, (k0_off1102 i v1475 v1478 v1505) a + S1x128.size a ≤ S8224x128.size a := fun i v1475 v1478 v1505 k0_hw550 => k0_hw550

def k0_off1103 (v1475 : BitVec 32) : Fin 1 → Nat :=
  let c2_i32 : BitVec 32 := 2#32
  let v1516 : BitVec 32 := Scalar.addi v1475 c2_i32
  let v1519 : Index := Scalar.indexCast v1516
  ![v1519.toNat]
def k0_off1104 (i : grid0.Coords) (v1475 : BitVec 32) (v1478 : BitVec 32) (v1520 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_549 : BitVec 32 := 2#32
  let v1517 : BitVec 32 := Scalar.addi v1475 c2_i32_549
  let v1518 : BitVec 1 := Scalar.cmpi .slt v1517 v1478
  let c65535_i32_550 : BitVec 32 := 65535#32
  let v1521 : BitVec 32 := Scalar.andi v1520 c65535_i32_550
  let c2048_i32_551 : BitVec 32 := 2048#32
  let v1522 : BitVec 32 := Scalar.select v1518 v1521 c2048_i32_551
  let v1523 : BitVec 32 := Scalar.addi v1470 v1522
  let v1526 : Index := Scalar.indexCast v1523
  let c0_553 : Index := 0#32
  ![v1526.toNat, 0]

def k0_chk551 (i : grid0.Coords) (v1475 : BitVec 32) (v1478 : BitVec 32) (v1520 : BitVec 32) : Prop :=
  (∀ a, (k0_off1104 i v1475 v1478 v1520) a + S1x128.size a ≤ S8224x128.size a)
theorem k0_off1104_inb : ∀ (i : grid0.Coords) (v1475 : BitVec 32) (v1478 : BitVec 32) (v1520 : BitVec 32) (k0_hw551 : k0_chk551 i v1475 v1478 v1520), ∀ a, (k0_off1104 i v1475 v1478 v1520) a + S1x128.size a ≤ S8224x128.size a := fun i v1475 v1478 v1520 k0_hw551 => k0_hw551

def k0_off1105 (v1475 : BitVec 32) : Fin 1 → Nat :=
  let c3_i32 : BitVec 32 := 3#32
  let v1531 : BitVec 32 := Scalar.addi v1475 c3_i32
  let v1534 : Index := Scalar.indexCast v1531
  ![v1534.toNat]
def k0_off1106 (i : grid0.Coords) (v1475 : BitVec 32) (v1478 : BitVec 32) (v1535 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_554 : BitVec 32 := 3#32
  let v1532 : BitVec 32 := Scalar.addi v1475 c3_i32_554
  let v1533 : BitVec 1 := Scalar.cmpi .slt v1532 v1478
  let c65535_i32_555 : BitVec 32 := 65535#32
  let v1536 : BitVec 32 := Scalar.andi v1535 c65535_i32_555
  let c2048_i32_556 : BitVec 32 := 2048#32
  let v1537 : BitVec 32 := Scalar.select v1533 v1536 c2048_i32_556
  let v1538 : BitVec 32 := Scalar.addi v1470 v1537
  let v1541 : Index := Scalar.indexCast v1538
  let c0_558 : Index := 0#32
  ![v1541.toNat, 0]

def k0_chk552 (i : grid0.Coords) (v1475 : BitVec 32) (v1478 : BitVec 32) (v1535 : BitVec 32) : Prop :=
  (∀ a, (k0_off1106 i v1475 v1478 v1535) a + S1x128.size a ≤ S8224x128.size a)
theorem k0_off1106_inb : ∀ (i : grid0.Coords) (v1475 : BitVec 32) (v1478 : BitVec 32) (v1535 : BitVec 32) (k0_hw552 : k0_chk552 i v1475 v1478 v1535), ∀ a, (k0_off1106 i v1475 v1478 v1535) a + S1x128.size a ≤ S8224x128.size a := fun i v1475 v1478 v1535 k0_hw552 => k0_hw552

def k0_off1107 (v1475 : BitVec 32) : Fin 1 → Nat :=
  let c4_i32 : BitVec 32 := 4#32
  let v1546 : BitVec 32 := Scalar.addi v1475 c4_i32
  let v1549 : Index := Scalar.indexCast v1546
  ![v1549.toNat]
def k0_off1108 (i : grid0.Coords) (v1475 : BitVec 32) (v1478 : BitVec 32) (v1550 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_559 : BitVec 32 := 4#32
  let v1547 : BitVec 32 := Scalar.addi v1475 c4_i32_559
  let v1548 : BitVec 1 := Scalar.cmpi .slt v1547 v1478
  let c65535_i32_560 : BitVec 32 := 65535#32
  let v1551 : BitVec 32 := Scalar.andi v1550 c65535_i32_560
  let c2048_i32_561 : BitVec 32 := 2048#32
  let v1552 : BitVec 32 := Scalar.select v1548 v1551 c2048_i32_561
  let v1553 : BitVec 32 := Scalar.addi v1470 v1552
  let v1556 : Index := Scalar.indexCast v1553
  let c0_563 : Index := 0#32
  ![v1556.toNat, 0]

def k0_chk553 (i : grid0.Coords) (v1475 : BitVec 32) (v1478 : BitVec 32) (v1550 : BitVec 32) : Prop :=
  (∀ a, (k0_off1108 i v1475 v1478 v1550) a + S1x128.size a ≤ S8224x128.size a)
theorem k0_off1108_inb : ∀ (i : grid0.Coords) (v1475 : BitVec 32) (v1478 : BitVec 32) (v1550 : BitVec 32) (k0_hw553 : k0_chk553 i v1475 v1478 v1550), ∀ a, (k0_off1108 i v1475 v1478 v1550) a + S1x128.size a ≤ S8224x128.size a := fun i v1475 v1478 v1550 k0_hw553 => k0_hw553

def k0_off1109 (v1475 : BitVec 32) : Fin 1 → Nat :=
  let c5_i32_564 : BitVec 32 := 5#32
  let v1561 : BitVec 32 := Scalar.addi v1475 c5_i32_564
  let v1564 : Index := Scalar.indexCast v1561
  ![v1564.toNat]
def k0_off1110 (i : grid0.Coords) (v1475 : BitVec 32) (v1478 : BitVec 32) (v1565 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_565 : BitVec 32 := 5#32
  let v1562 : BitVec 32 := Scalar.addi v1475 c5_i32_565
  let v1563 : BitVec 1 := Scalar.cmpi .slt v1562 v1478
  let c65535_i32_566 : BitVec 32 := 65535#32
  let v1566 : BitVec 32 := Scalar.andi v1565 c65535_i32_566
  let c2048_i32_567 : BitVec 32 := 2048#32
  let v1567 : BitVec 32 := Scalar.select v1563 v1566 c2048_i32_567
  let v1568 : BitVec 32 := Scalar.addi v1470 v1567
  let v1571 : Index := Scalar.indexCast v1568
  let c0_569 : Index := 0#32
  ![v1571.toNat, 0]

def k0_chk554 (i : grid0.Coords) (v1475 : BitVec 32) (v1478 : BitVec 32) (v1565 : BitVec 32) : Prop :=
  (∀ a, (k0_off1110 i v1475 v1478 v1565) a + S1x128.size a ≤ S8224x128.size a)
theorem k0_off1110_inb : ∀ (i : grid0.Coords) (v1475 : BitVec 32) (v1478 : BitVec 32) (v1565 : BitVec 32) (k0_hw554 : k0_chk554 i v1475 v1478 v1565), ∀ a, (k0_off1110 i v1475 v1478 v1565) a + S1x128.size a ≤ S8224x128.size a := fun i v1475 v1478 v1565 k0_hw554 => k0_hw554

def k0_off1111 (v1475 : BitVec 32) : Fin 1 → Nat :=
  let c6_i32 : BitVec 32 := 6#32
  let v1576 : BitVec 32 := Scalar.addi v1475 c6_i32
  let v1579 : Index := Scalar.indexCast v1576
  ![v1579.toNat]
def k0_off1112 (i : grid0.Coords) (v1475 : BitVec 32) (v1478 : BitVec 32) (v1580 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_570 : BitVec 32 := 6#32
  let v1577 : BitVec 32 := Scalar.addi v1475 c6_i32_570
  let v1578 : BitVec 1 := Scalar.cmpi .slt v1577 v1478
  let c65535_i32_571 : BitVec 32 := 65535#32
  let v1581 : BitVec 32 := Scalar.andi v1580 c65535_i32_571
  let c2048_i32_572 : BitVec 32 := 2048#32
  let v1582 : BitVec 32 := Scalar.select v1578 v1581 c2048_i32_572
  let v1583 : BitVec 32 := Scalar.addi v1470 v1582
  let v1586 : Index := Scalar.indexCast v1583
  let c0_574 : Index := 0#32
  ![v1586.toNat, 0]

def k0_chk555 (i : grid0.Coords) (v1475 : BitVec 32) (v1478 : BitVec 32) (v1580 : BitVec 32) : Prop :=
  (∀ a, (k0_off1112 i v1475 v1478 v1580) a + S1x128.size a ≤ S8224x128.size a)
theorem k0_off1112_inb : ∀ (i : grid0.Coords) (v1475 : BitVec 32) (v1478 : BitVec 32) (v1580 : BitVec 32) (k0_hw555 : k0_chk555 i v1475 v1478 v1580), ∀ a, (k0_off1112 i v1475 v1478 v1580) a + S1x128.size a ≤ S8224x128.size a := fun i v1475 v1478 v1580 k0_hw555 => k0_hw555

def k0_off1113 (v1475 : BitVec 32) : Fin 1 → Nat :=
  let c7_i32_575 : BitVec 32 := 7#32
  let v1591 : BitVec 32 := Scalar.addi v1475 c7_i32_575
  let v1594 : Index := Scalar.indexCast v1591
  ![v1594.toNat]
def k0_off1114 (i : grid0.Coords) (v1475 : BitVec 32) (v1478 : BitVec 32) (v1595 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_576 : BitVec 32 := 7#32
  let v1592 : BitVec 32 := Scalar.addi v1475 c7_i32_576
  let v1593 : BitVec 1 := Scalar.cmpi .slt v1592 v1478
  let c65535_i32_577 : BitVec 32 := 65535#32
  let v1596 : BitVec 32 := Scalar.andi v1595 c65535_i32_577
  let c2048_i32_578 : BitVec 32 := 2048#32
  let v1597 : BitVec 32 := Scalar.select v1593 v1596 c2048_i32_578
  let v1598 : BitVec 32 := Scalar.addi v1470 v1597
  let v1601 : Index := Scalar.indexCast v1598
  let c0_580 : Index := 0#32
  ![v1601.toNat, 0]

def k0_chk556 (i : grid0.Coords) (v1475 : BitVec 32) (v1478 : BitVec 32) (v1595 : BitVec 32) : Prop :=
  (∀ a, (k0_off1114 i v1475 v1478 v1595) a + S1x128.size a ≤ S8224x128.size a)
theorem k0_off1114_inb : ∀ (i : grid0.Coords) (v1475 : BitVec 32) (v1478 : BitVec 32) (v1595 : BitVec 32) (k0_hw556 : k0_chk556 i v1475 v1478 v1595), ∀ a, (k0_off1114 i v1475 v1478 v1595) a + S1x128.size a ≤ S8224x128.size a := fun i v1475 v1478 v1595 k0_hw556 => k0_hw556

def k0_off1115 (v1475 : BitVec 32) : Fin 1 → Nat :=
  let c8_i32_581 : BitVec 32 := 8#32
  let v1606 : BitVec 32 := Scalar.addi v1475 c8_i32_581
  let v1609 : Index := Scalar.indexCast v1606
  ![v1609.toNat]
def k0_off1116 (i : grid0.Coords) (v1475 : BitVec 32) (v1478 : BitVec 32) (v1610 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_582 : BitVec 32 := 8#32
  let v1607 : BitVec 32 := Scalar.addi v1475 c8_i32_582
  let v1608 : BitVec 1 := Scalar.cmpi .slt v1607 v1478
  let c65535_i32_583 : BitVec 32 := 65535#32
  let v1611 : BitVec 32 := Scalar.andi v1610 c65535_i32_583
  let c2048_i32_584 : BitVec 32 := 2048#32
  let v1612 : BitVec 32 := Scalar.select v1608 v1611 c2048_i32_584
  let v1613 : BitVec 32 := Scalar.addi v1470 v1612
  let v1616 : Index := Scalar.indexCast v1613
  let c0_586 : Index := 0#32
  ![v1616.toNat, 0]

def k0_chk557 (i : grid0.Coords) (v1475 : BitVec 32) (v1478 : BitVec 32) (v1610 : BitVec 32) : Prop :=
  (∀ a, (k0_off1116 i v1475 v1478 v1610) a + S1x128.size a ≤ S8224x128.size a)
theorem k0_off1116_inb : ∀ (i : grid0.Coords) (v1475 : BitVec 32) (v1478 : BitVec 32) (v1610 : BitVec 32) (k0_hw557 : k0_chk557 i v1475 v1478 v1610), ∀ a, (k0_off1116 i v1475 v1478 v1610) a + S1x128.size a ≤ S8224x128.size a := fun i v1475 v1478 v1610 k0_hw557 => k0_hw557

def k0_off1117 (v1475 : BitVec 32) : Fin 1 → Nat :=
  let c9_i32 : BitVec 32 := 9#32
  let v1621 : BitVec 32 := Scalar.addi v1475 c9_i32
  let v1624 : Index := Scalar.indexCast v1621
  ![v1624.toNat]
def k0_off1118 (i : grid0.Coords) (v1475 : BitVec 32) (v1478 : BitVec 32) (v1625 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_587 : BitVec 32 := 9#32
  let v1622 : BitVec 32 := Scalar.addi v1475 c9_i32_587
  let v1623 : BitVec 1 := Scalar.cmpi .slt v1622 v1478
  let c65535_i32_588 : BitVec 32 := 65535#32
  let v1626 : BitVec 32 := Scalar.andi v1625 c65535_i32_588
  let c2048_i32_589 : BitVec 32 := 2048#32
  let v1627 : BitVec 32 := Scalar.select v1623 v1626 c2048_i32_589
  let v1628 : BitVec 32 := Scalar.addi v1470 v1627
  let v1631 : Index := Scalar.indexCast v1628
  let c0_591 : Index := 0#32
  ![v1631.toNat, 0]

def k0_chk558 (i : grid0.Coords) (v1475 : BitVec 32) (v1478 : BitVec 32) (v1625 : BitVec 32) : Prop :=
  (∀ a, (k0_off1118 i v1475 v1478 v1625) a + S1x128.size a ≤ S8224x128.size a)
theorem k0_off1118_inb : ∀ (i : grid0.Coords) (v1475 : BitVec 32) (v1478 : BitVec 32) (v1625 : BitVec 32) (k0_hw558 : k0_chk558 i v1475 v1478 v1625), ∀ a, (k0_off1118 i v1475 v1478 v1625) a + S1x128.size a ≤ S8224x128.size a := fun i v1475 v1478 v1625 k0_hw558 => k0_hw558

def k0_off1119 (v1475 : BitVec 32) : Fin 1 → Nat :=
  let c10_i32_592 : BitVec 32 := 10#32
  let v1636 : BitVec 32 := Scalar.addi v1475 c10_i32_592
  let v1639 : Index := Scalar.indexCast v1636
  ![v1639.toNat]
def k0_off1120 (i : grid0.Coords) (v1475 : BitVec 32) (v1478 : BitVec 32) (v1640 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_593 : BitVec 32 := 10#32
  let v1637 : BitVec 32 := Scalar.addi v1475 c10_i32_593
  let v1638 : BitVec 1 := Scalar.cmpi .slt v1637 v1478
  let c65535_i32_594 : BitVec 32 := 65535#32
  let v1641 : BitVec 32 := Scalar.andi v1640 c65535_i32_594
  let c2048_i32_595 : BitVec 32 := 2048#32
  let v1642 : BitVec 32 := Scalar.select v1638 v1641 c2048_i32_595
  let v1643 : BitVec 32 := Scalar.addi v1470 v1642
  let v1646 : Index := Scalar.indexCast v1643
  let c0_597 : Index := 0#32
  ![v1646.toNat, 0]

def k0_chk559 (i : grid0.Coords) (v1475 : BitVec 32) (v1478 : BitVec 32) (v1640 : BitVec 32) : Prop :=
  (∀ a, (k0_off1120 i v1475 v1478 v1640) a + S1x128.size a ≤ S8224x128.size a)
theorem k0_off1120_inb : ∀ (i : grid0.Coords) (v1475 : BitVec 32) (v1478 : BitVec 32) (v1640 : BitVec 32) (k0_hw559 : k0_chk559 i v1475 v1478 v1640), ∀ a, (k0_off1120 i v1475 v1478 v1640) a + S1x128.size a ≤ S8224x128.size a := fun i v1475 v1478 v1640 k0_hw559 => k0_hw559

def k0_off1121 (v1475 : BitVec 32) : Fin 1 → Nat :=
  let c11_i32 : BitVec 32 := 11#32
  let v1651 : BitVec 32 := Scalar.addi v1475 c11_i32
  let v1654 : Index := Scalar.indexCast v1651
  ![v1654.toNat]
def k0_off1122 (i : grid0.Coords) (v1475 : BitVec 32) (v1478 : BitVec 32) (v1655 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_598 : BitVec 32 := 11#32
  let v1652 : BitVec 32 := Scalar.addi v1475 c11_i32_598
  let v1653 : BitVec 1 := Scalar.cmpi .slt v1652 v1478
  let c65535_i32_599 : BitVec 32 := 65535#32
  let v1656 : BitVec 32 := Scalar.andi v1655 c65535_i32_599
  let c2048_i32_600 : BitVec 32 := 2048#32
  let v1657 : BitVec 32 := Scalar.select v1653 v1656 c2048_i32_600
  let v1658 : BitVec 32 := Scalar.addi v1470 v1657
  let v1661 : Index := Scalar.indexCast v1658
  let c0_602 : Index := 0#32
  ![v1661.toNat, 0]

def k0_chk560 (i : grid0.Coords) (v1475 : BitVec 32) (v1478 : BitVec 32) (v1655 : BitVec 32) : Prop :=
  (∀ a, (k0_off1122 i v1475 v1478 v1655) a + S1x128.size a ≤ S8224x128.size a)
theorem k0_off1122_inb : ∀ (i : grid0.Coords) (v1475 : BitVec 32) (v1478 : BitVec 32) (v1655 : BitVec 32) (k0_hw560 : k0_chk560 i v1475 v1478 v1655), ∀ a, (k0_off1122 i v1475 v1478 v1655) a + S1x128.size a ≤ S8224x128.size a := fun i v1475 v1478 v1655 k0_hw560 => k0_hw560

def k0_off1123 (v1475 : BitVec 32) : Fin 1 → Nat :=
  let c12_i32 : BitVec 32 := 12#32
  let v1666 : BitVec 32 := Scalar.addi v1475 c12_i32
  let v1669 : Index := Scalar.indexCast v1666
  ![v1669.toNat]
def k0_off1124 (i : grid0.Coords) (v1475 : BitVec 32) (v1478 : BitVec 32) (v1670 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_603 : BitVec 32 := 12#32
  let v1667 : BitVec 32 := Scalar.addi v1475 c12_i32_603
  let v1668 : BitVec 1 := Scalar.cmpi .slt v1667 v1478
  let c65535_i32_604 : BitVec 32 := 65535#32
  let v1671 : BitVec 32 := Scalar.andi v1670 c65535_i32_604
  let c2048_i32_605 : BitVec 32 := 2048#32
  let v1672 : BitVec 32 := Scalar.select v1668 v1671 c2048_i32_605
  let v1673 : BitVec 32 := Scalar.addi v1470 v1672
  let v1676 : Index := Scalar.indexCast v1673
  let c0_607 : Index := 0#32
  ![v1676.toNat, 0]

def k0_chk561 (i : grid0.Coords) (v1475 : BitVec 32) (v1478 : BitVec 32) (v1670 : BitVec 32) : Prop :=
  (∀ a, (k0_off1124 i v1475 v1478 v1670) a + S1x128.size a ≤ S8224x128.size a)
theorem k0_off1124_inb : ∀ (i : grid0.Coords) (v1475 : BitVec 32) (v1478 : BitVec 32) (v1670 : BitVec 32) (k0_hw561 : k0_chk561 i v1475 v1478 v1670), ∀ a, (k0_off1124 i v1475 v1478 v1670) a + S1x128.size a ≤ S8224x128.size a := fun i v1475 v1478 v1670 k0_hw561 => k0_hw561

def k0_off1125 (v1475 : BitVec 32) : Fin 1 → Nat :=
  let c13_i32 : BitVec 32 := 13#32
  let v1681 : BitVec 32 := Scalar.addi v1475 c13_i32
  let v1684 : Index := Scalar.indexCast v1681
  ![v1684.toNat]
def k0_off1126 (i : grid0.Coords) (v1475 : BitVec 32) (v1478 : BitVec 32) (v1685 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_608 : BitVec 32 := 13#32
  let v1682 : BitVec 32 := Scalar.addi v1475 c13_i32_608
  let v1683 : BitVec 1 := Scalar.cmpi .slt v1682 v1478
  let c65535_i32_609 : BitVec 32 := 65535#32
  let v1686 : BitVec 32 := Scalar.andi v1685 c65535_i32_609
  let c2048_i32_610 : BitVec 32 := 2048#32
  let v1687 : BitVec 32 := Scalar.select v1683 v1686 c2048_i32_610
  let v1688 : BitVec 32 := Scalar.addi v1470 v1687
  let v1691 : Index := Scalar.indexCast v1688
  let c0_612 : Index := 0#32
  ![v1691.toNat, 0]

def k0_chk562 (i : grid0.Coords) (v1475 : BitVec 32) (v1478 : BitVec 32) (v1685 : BitVec 32) : Prop :=
  (∀ a, (k0_off1126 i v1475 v1478 v1685) a + S1x128.size a ≤ S8224x128.size a)
theorem k0_off1126_inb : ∀ (i : grid0.Coords) (v1475 : BitVec 32) (v1478 : BitVec 32) (v1685 : BitVec 32) (k0_hw562 : k0_chk562 i v1475 v1478 v1685), ∀ a, (k0_off1126 i v1475 v1478 v1685) a + S1x128.size a ≤ S8224x128.size a := fun i v1475 v1478 v1685 k0_hw562 => k0_hw562

def k0_off1127 (v1475 : BitVec 32) : Fin 1 → Nat :=
  let c14_i32 : BitVec 32 := 14#32
  let v1696 : BitVec 32 := Scalar.addi v1475 c14_i32
  let v1699 : Index := Scalar.indexCast v1696
  ![v1699.toNat]
def k0_off1128 (i : grid0.Coords) (v1475 : BitVec 32) (v1478 : BitVec 32) (v1700 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_613 : BitVec 32 := 14#32
  let v1697 : BitVec 32 := Scalar.addi v1475 c14_i32_613
  let v1698 : BitVec 1 := Scalar.cmpi .slt v1697 v1478
  let c65535_i32_614 : BitVec 32 := 65535#32
  let v1701 : BitVec 32 := Scalar.andi v1700 c65535_i32_614
  let c2048_i32_615 : BitVec 32 := 2048#32
  let v1702 : BitVec 32 := Scalar.select v1698 v1701 c2048_i32_615
  let v1703 : BitVec 32 := Scalar.addi v1470 v1702
  let v1706 : Index := Scalar.indexCast v1703
  let c0_617 : Index := 0#32
  ![v1706.toNat, 0]

def k0_chk563 (i : grid0.Coords) (v1475 : BitVec 32) (v1478 : BitVec 32) (v1700 : BitVec 32) : Prop :=
  (∀ a, (k0_off1128 i v1475 v1478 v1700) a + S1x128.size a ≤ S8224x128.size a)
theorem k0_off1128_inb : ∀ (i : grid0.Coords) (v1475 : BitVec 32) (v1478 : BitVec 32) (v1700 : BitVec 32) (k0_hw563 : k0_chk563 i v1475 v1478 v1700), ∀ a, (k0_off1128 i v1475 v1478 v1700) a + S1x128.size a ≤ S8224x128.size a := fun i v1475 v1478 v1700 k0_hw563 => k0_hw563

def k0_off1129 (v1475 : BitVec 32) : Fin 1 → Nat :=
  let c15_i32 : BitVec 32 := 15#32
  let v1711 : BitVec 32 := Scalar.addi v1475 c15_i32
  let v1714 : Index := Scalar.indexCast v1711
  ![v1714.toNat]

def k0_chk548 (v1475 : BitVec 32) : Prop :=
  (∀ a, (k0_off1099 v1475) a + S1.size a ≤ S51920.size a) ∧
  (∀ a, (k0_off1101 v1475) a + S1.size a ≤ S51920.size a) ∧
  (∀ a, (k0_off1103 v1475) a + S1.size a ≤ S51920.size a) ∧
  (∀ a, (k0_off1105 v1475) a + S1.size a ≤ S51920.size a) ∧
  (∀ a, (k0_off1107 v1475) a + S1.size a ≤ S51920.size a) ∧
  (∀ a, (k0_off1109 v1475) a + S1.size a ≤ S51920.size a) ∧
  (∀ a, (k0_off1111 v1475) a + S1.size a ≤ S51920.size a) ∧
  (∀ a, (k0_off1113 v1475) a + S1.size a ≤ S51920.size a) ∧
  (∀ a, (k0_off1115 v1475) a + S1.size a ≤ S51920.size a) ∧
  (∀ a, (k0_off1117 v1475) a + S1.size a ≤ S51920.size a) ∧
  (∀ a, (k0_off1119 v1475) a + S1.size a ≤ S51920.size a) ∧
  (∀ a, (k0_off1121 v1475) a + S1.size a ≤ S51920.size a) ∧
  (∀ a, (k0_off1123 v1475) a + S1.size a ≤ S51920.size a) ∧
  (∀ a, (k0_off1125 v1475) a + S1.size a ≤ S51920.size a) ∧
  (∀ a, (k0_off1127 v1475) a + S1.size a ≤ S51920.size a) ∧
  (∀ a, (k0_off1129 v1475) a + S1.size a ≤ S51920.size a)
theorem k0_off1099_inb : ∀ (v1475 : BitVec 32) (k0_hw548 : k0_chk548 v1475), ∀ a, (k0_off1099 v1475) a + S1.size a ≤ S51920.size a := fun v1475 k0_hw548 => k0_hw548.1
theorem k0_off1101_inb : ∀ (v1475 : BitVec 32) (k0_hw548 : k0_chk548 v1475), ∀ a, (k0_off1101 v1475) a + S1.size a ≤ S51920.size a := fun v1475 k0_hw548 => k0_hw548.2.1
theorem k0_off1103_inb : ∀ (v1475 : BitVec 32) (k0_hw548 : k0_chk548 v1475), ∀ a, (k0_off1103 v1475) a + S1.size a ≤ S51920.size a := fun v1475 k0_hw548 => k0_hw548.2.2.1
theorem k0_off1105_inb : ∀ (v1475 : BitVec 32) (k0_hw548 : k0_chk548 v1475), ∀ a, (k0_off1105 v1475) a + S1.size a ≤ S51920.size a := fun v1475 k0_hw548 => k0_hw548.2.2.2.1
theorem k0_off1107_inb : ∀ (v1475 : BitVec 32) (k0_hw548 : k0_chk548 v1475), ∀ a, (k0_off1107 v1475) a + S1.size a ≤ S51920.size a := fun v1475 k0_hw548 => k0_hw548.2.2.2.2.1
theorem k0_off1109_inb : ∀ (v1475 : BitVec 32) (k0_hw548 : k0_chk548 v1475), ∀ a, (k0_off1109 v1475) a + S1.size a ≤ S51920.size a := fun v1475 k0_hw548 => k0_hw548.2.2.2.2.2.1
theorem k0_off1111_inb : ∀ (v1475 : BitVec 32) (k0_hw548 : k0_chk548 v1475), ∀ a, (k0_off1111 v1475) a + S1.size a ≤ S51920.size a := fun v1475 k0_hw548 => k0_hw548.2.2.2.2.2.2.1
theorem k0_off1113_inb : ∀ (v1475 : BitVec 32) (k0_hw548 : k0_chk548 v1475), ∀ a, (k0_off1113 v1475) a + S1.size a ≤ S51920.size a := fun v1475 k0_hw548 => k0_hw548.2.2.2.2.2.2.2.1
theorem k0_off1115_inb : ∀ (v1475 : BitVec 32) (k0_hw548 : k0_chk548 v1475), ∀ a, (k0_off1115 v1475) a + S1.size a ≤ S51920.size a := fun v1475 k0_hw548 => k0_hw548.2.2.2.2.2.2.2.2.1
theorem k0_off1117_inb : ∀ (v1475 : BitVec 32) (k0_hw548 : k0_chk548 v1475), ∀ a, (k0_off1117 v1475) a + S1.size a ≤ S51920.size a := fun v1475 k0_hw548 => k0_hw548.2.2.2.2.2.2.2.2.2.1
theorem k0_off1119_inb : ∀ (v1475 : BitVec 32) (k0_hw548 : k0_chk548 v1475), ∀ a, (k0_off1119 v1475) a + S1.size a ≤ S51920.size a := fun v1475 k0_hw548 => k0_hw548.2.2.2.2.2.2.2.2.2.2.1
theorem k0_off1121_inb : ∀ (v1475 : BitVec 32) (k0_hw548 : k0_chk548 v1475), ∀ a, (k0_off1121 v1475) a + S1.size a ≤ S51920.size a := fun v1475 k0_hw548 => k0_hw548.2.2.2.2.2.2.2.2.2.2.2.1
theorem k0_off1123_inb : ∀ (v1475 : BitVec 32) (k0_hw548 : k0_chk548 v1475), ∀ a, (k0_off1123 v1475) a + S1.size a ≤ S51920.size a := fun v1475 k0_hw548 => k0_hw548.2.2.2.2.2.2.2.2.2.2.2.2.1
theorem k0_off1125_inb : ∀ (v1475 : BitVec 32) (k0_hw548 : k0_chk548 v1475), ∀ a, (k0_off1125 v1475) a + S1.size a ≤ S51920.size a := fun v1475 k0_hw548 => k0_hw548.2.2.2.2.2.2.2.2.2.2.2.2.2.1
theorem k0_off1127_inb : ∀ (v1475 : BitVec 32) (k0_hw548 : k0_chk548 v1475), ∀ a, (k0_off1127 v1475) a + S1.size a ≤ S51920.size a := fun v1475 k0_hw548 => k0_hw548.2.2.2.2.2.2.2.2.2.2.2.2.2.2.1
theorem k0_off1129_inb : ∀ (v1475 : BitVec 32) (k0_hw548 : k0_chk548 v1475), ∀ a, (k0_off1129 v1475) a + S1.size a ≤ S51920.size a := fun v1475 k0_hw548 => k0_hw548.2.2.2.2.2.2.2.2.2.2.2.2.2.2.2

def k0_off1130 (i : grid0.Coords) (v1475 : BitVec 32) (v1478 : BitVec 32) (v1715 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_618 : BitVec 32 := 15#32
  let v1712 : BitVec 32 := Scalar.addi v1475 c15_i32_618
  let v1713 : BitVec 1 := Scalar.cmpi .slt v1712 v1478
  let c65535_i32_619 : BitVec 32 := 65535#32
  let v1716 : BitVec 32 := Scalar.andi v1715 c65535_i32_619
  let c2048_i32_620 : BitVec 32 := 2048#32
  let v1717 : BitVec 32 := Scalar.select v1713 v1716 c2048_i32_620
  let v1718 : BitVec 32 := Scalar.addi v1470 v1717
  let v1721 : Index := Scalar.indexCast v1718
  let c0_622 : Index := 0#32
  ![v1721.toNat, 0]

def k0_chk564 (i : grid0.Coords) (v1475 : BitVec 32) (v1478 : BitVec 32) (v1715 : BitVec 32) : Prop :=
  (∀ a, (k0_off1130 i v1475 v1478 v1715) a + S1x128.size a ≤ S8224x128.size a)
theorem k0_off1130_inb : ∀ (i : grid0.Coords) (v1475 : BitVec 32) (v1478 : BitVec 32) (v1715 : BitVec 32) (k0_hw564 : k0_chk564 i v1475 v1478 v1715), ∀ a, (k0_off1130 i v1475 v1478 v1715) a + S1x128.size a ≤ S8224x128.size a := fun i v1475 v1478 v1715 k0_hw564 => k0_hw564

def k0_off1131 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_623 : BitVec 32 := 512#32
  let v1726 : BitVec 32 := Scalar.muli v24 c512_i32_623
  let arg1 : BitVec 32 := BitVec.ofNat 32 (i 1).val
  let c32_i32 : BitVec 32 := 32#32
  let v1452 : BitVec 32 := Scalar.muli arg1 c32_i32
  let v1727 : BitVec 32 := Scalar.addi v1726 v1452
  let c1_i32_624 : BitVec 32 := 1#32
  let v1728 : BitVec 32 := Scalar.addi v1727 c1_i32_624
  let v1729 : Index := Scalar.indexCast v1728
  ![v1729.toNat]
def k0_off1132 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_623 : BitVec 32 := 512#32
  let v1726 : BitVec 32 := Scalar.muli v24 c512_i32_623
  let arg1 : BitVec 32 := BitVec.ofNat 32 (i 1).val
  let c32_i32 : BitVec 32 := 32#32
  let v1452 : BitVec 32 := Scalar.muli arg1 c32_i32
  let v1727 : BitVec 32 := Scalar.addi v1726 v1452
  let c1_i32_624 : BitVec 32 := 1#32
  let v1728 : BitVec 32 := Scalar.addi v1727 c1_i32_624
  let c1_i32_625 : BitVec 32 := 1#32
  let v1731 : BitVec 32 := Scalar.addi v1728 c1_i32_625
  let v1732 : Index := Scalar.indexCast v1731
  ![v1732.toNat]
def k0_off1133 (v1730 : BitVec 32) : Fin 1 → Nat :=
  let c0_i32_628 : BitVec 32 := 0#32
  let v1741 : BitVec 32 := Scalar.addi v1730 c0_i32_628
  let v1744 : Index := Scalar.indexCast v1741
  ![v1744.toNat]

def k0_off1134 (i : grid0.Coords) (v1730 : BitVec 32) (v1733 : BitVec 32) (v1745 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_629 : BitVec 32 := 0#32
  let v1742 : BitVec 32 := Scalar.addi v1730 c0_i32_629
  let v1743 : BitVec 1 := Scalar.cmpi .slt v1742 v1733
  let c65535_i32_630 : BitVec 32 := 65535#32
  let v1746 : BitVec 32 := Scalar.andi v1745 c65535_i32_630
  let c2048_i32_631 : BitVec 32 := 2048#32
  let v1747 : BitVec 32 := Scalar.select v1743 v1746 c2048_i32_631
  let v1748 : BitVec 32 := Scalar.addi v1470 v1747
  let v1751 : Index := Scalar.indexCast v1748
  let c0_633 : Index := 0#32
  ![v1751.toNat, 0]

def k0_chk566 (i : grid0.Coords) (v1730 : BitVec 32) (v1733 : BitVec 32) (v1745 : BitVec 32) : Prop :=
  (∀ a, (k0_off1134 i v1730 v1733 v1745) a + S1x128.size a ≤ S8224x128.size a)
theorem k0_off1134_inb : ∀ (i : grid0.Coords) (v1730 : BitVec 32) (v1733 : BitVec 32) (v1745 : BitVec 32) (k0_hw566 : k0_chk566 i v1730 v1733 v1745), ∀ a, (k0_off1134 i v1730 v1733 v1745) a + S1x128.size a ≤ S8224x128.size a := fun i v1730 v1733 v1745 k0_hw566 => k0_hw566

def k0_off1135 (v1730 : BitVec 32) : Fin 1 → Nat :=
  let c1_i32_634 : BitVec 32 := 1#32
  let v1756 : BitVec 32 := Scalar.addi v1730 c1_i32_634
  let v1759 : Index := Scalar.indexCast v1756
  ![v1759.toNat]
def k0_off1136 (i : grid0.Coords) (v1730 : BitVec 32) (v1733 : BitVec 32) (v1760 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_635 : BitVec 32 := 1#32
  let v1757 : BitVec 32 := Scalar.addi v1730 c1_i32_635
  let v1758 : BitVec 1 := Scalar.cmpi .slt v1757 v1733
  let c65535_i32_636 : BitVec 32 := 65535#32
  let v1761 : BitVec 32 := Scalar.andi v1760 c65535_i32_636
  let c2048_i32_637 : BitVec 32 := 2048#32
  let v1762 : BitVec 32 := Scalar.select v1758 v1761 c2048_i32_637
  let v1763 : BitVec 32 := Scalar.addi v1470 v1762
  let v1766 : Index := Scalar.indexCast v1763
  let c0_639 : Index := 0#32
  ![v1766.toNat, 0]

def k0_chk567 (i : grid0.Coords) (v1730 : BitVec 32) (v1733 : BitVec 32) (v1760 : BitVec 32) : Prop :=
  (∀ a, (k0_off1136 i v1730 v1733 v1760) a + S1x128.size a ≤ S8224x128.size a)
theorem k0_off1136_inb : ∀ (i : grid0.Coords) (v1730 : BitVec 32) (v1733 : BitVec 32) (v1760 : BitVec 32) (k0_hw567 : k0_chk567 i v1730 v1733 v1760), ∀ a, (k0_off1136 i v1730 v1733 v1760) a + S1x128.size a ≤ S8224x128.size a := fun i v1730 v1733 v1760 k0_hw567 => k0_hw567

def k0_off1137 (v1730 : BitVec 32) : Fin 1 → Nat :=
  let c2_i32_640 : BitVec 32 := 2#32
  let v1771 : BitVec 32 := Scalar.addi v1730 c2_i32_640
  let v1774 : Index := Scalar.indexCast v1771
  ![v1774.toNat]
def k0_off1138 (i : grid0.Coords) (v1730 : BitVec 32) (v1733 : BitVec 32) (v1775 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_641 : BitVec 32 := 2#32
  let v1772 : BitVec 32 := Scalar.addi v1730 c2_i32_641
  let v1773 : BitVec 1 := Scalar.cmpi .slt v1772 v1733
  let c65535_i32_642 : BitVec 32 := 65535#32
  let v1776 : BitVec 32 := Scalar.andi v1775 c65535_i32_642
  let c2048_i32_643 : BitVec 32 := 2048#32
  let v1777 : BitVec 32 := Scalar.select v1773 v1776 c2048_i32_643
  let v1778 : BitVec 32 := Scalar.addi v1470 v1777
  let v1781 : Index := Scalar.indexCast v1778
  let c0_645 : Index := 0#32
  ![v1781.toNat, 0]

def k0_chk568 (i : grid0.Coords) (v1730 : BitVec 32) (v1733 : BitVec 32) (v1775 : BitVec 32) : Prop :=
  (∀ a, (k0_off1138 i v1730 v1733 v1775) a + S1x128.size a ≤ S8224x128.size a)
theorem k0_off1138_inb : ∀ (i : grid0.Coords) (v1730 : BitVec 32) (v1733 : BitVec 32) (v1775 : BitVec 32) (k0_hw568 : k0_chk568 i v1730 v1733 v1775), ∀ a, (k0_off1138 i v1730 v1733 v1775) a + S1x128.size a ≤ S8224x128.size a := fun i v1730 v1733 v1775 k0_hw568 => k0_hw568

def k0_off1139 (v1730 : BitVec 32) : Fin 1 → Nat :=
  let c3_i32_646 : BitVec 32 := 3#32
  let v1786 : BitVec 32 := Scalar.addi v1730 c3_i32_646
  let v1789 : Index := Scalar.indexCast v1786
  ![v1789.toNat]
def k0_off1140 (i : grid0.Coords) (v1730 : BitVec 32) (v1733 : BitVec 32) (v1790 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_647 : BitVec 32 := 3#32
  let v1787 : BitVec 32 := Scalar.addi v1730 c3_i32_647
  let v1788 : BitVec 1 := Scalar.cmpi .slt v1787 v1733
  let c65535_i32_648 : BitVec 32 := 65535#32
  let v1791 : BitVec 32 := Scalar.andi v1790 c65535_i32_648
  let c2048_i32_649 : BitVec 32 := 2048#32
  let v1792 : BitVec 32 := Scalar.select v1788 v1791 c2048_i32_649
  let v1793 : BitVec 32 := Scalar.addi v1470 v1792
  let v1796 : Index := Scalar.indexCast v1793
  let c0_651 : Index := 0#32
  ![v1796.toNat, 0]

def k0_chk569 (i : grid0.Coords) (v1730 : BitVec 32) (v1733 : BitVec 32) (v1790 : BitVec 32) : Prop :=
  (∀ a, (k0_off1140 i v1730 v1733 v1790) a + S1x128.size a ≤ S8224x128.size a)
theorem k0_off1140_inb : ∀ (i : grid0.Coords) (v1730 : BitVec 32) (v1733 : BitVec 32) (v1790 : BitVec 32) (k0_hw569 : k0_chk569 i v1730 v1733 v1790), ∀ a, (k0_off1140 i v1730 v1733 v1790) a + S1x128.size a ≤ S8224x128.size a := fun i v1730 v1733 v1790 k0_hw569 => k0_hw569

def k0_off1141 (v1730 : BitVec 32) : Fin 1 → Nat :=
  let c4_i32_652 : BitVec 32 := 4#32
  let v1801 : BitVec 32 := Scalar.addi v1730 c4_i32_652
  let v1804 : Index := Scalar.indexCast v1801
  ![v1804.toNat]
def k0_off1142 (i : grid0.Coords) (v1730 : BitVec 32) (v1733 : BitVec 32) (v1805 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_653 : BitVec 32 := 4#32
  let v1802 : BitVec 32 := Scalar.addi v1730 c4_i32_653
  let v1803 : BitVec 1 := Scalar.cmpi .slt v1802 v1733
  let c65535_i32_654 : BitVec 32 := 65535#32
  let v1806 : BitVec 32 := Scalar.andi v1805 c65535_i32_654
  let c2048_i32_655 : BitVec 32 := 2048#32
  let v1807 : BitVec 32 := Scalar.select v1803 v1806 c2048_i32_655
  let v1808 : BitVec 32 := Scalar.addi v1470 v1807
  let v1811 : Index := Scalar.indexCast v1808
  let c0_657 : Index := 0#32
  ![v1811.toNat, 0]

def k0_chk570 (i : grid0.Coords) (v1730 : BitVec 32) (v1733 : BitVec 32) (v1805 : BitVec 32) : Prop :=
  (∀ a, (k0_off1142 i v1730 v1733 v1805) a + S1x128.size a ≤ S8224x128.size a)
theorem k0_off1142_inb : ∀ (i : grid0.Coords) (v1730 : BitVec 32) (v1733 : BitVec 32) (v1805 : BitVec 32) (k0_hw570 : k0_chk570 i v1730 v1733 v1805), ∀ a, (k0_off1142 i v1730 v1733 v1805) a + S1x128.size a ≤ S8224x128.size a := fun i v1730 v1733 v1805 k0_hw570 => k0_hw570

def k0_off1143 (v1730 : BitVec 32) : Fin 1 → Nat :=
  let c5_i32_658 : BitVec 32 := 5#32
  let v1816 : BitVec 32 := Scalar.addi v1730 c5_i32_658
  let v1819 : Index := Scalar.indexCast v1816
  ![v1819.toNat]
def k0_off1144 (i : grid0.Coords) (v1730 : BitVec 32) (v1733 : BitVec 32) (v1820 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_659 : BitVec 32 := 5#32
  let v1817 : BitVec 32 := Scalar.addi v1730 c5_i32_659
  let v1818 : BitVec 1 := Scalar.cmpi .slt v1817 v1733
  let c65535_i32_660 : BitVec 32 := 65535#32
  let v1821 : BitVec 32 := Scalar.andi v1820 c65535_i32_660
  let c2048_i32_661 : BitVec 32 := 2048#32
  let v1822 : BitVec 32 := Scalar.select v1818 v1821 c2048_i32_661
  let v1823 : BitVec 32 := Scalar.addi v1470 v1822
  let v1826 : Index := Scalar.indexCast v1823
  let c0_663 : Index := 0#32
  ![v1826.toNat, 0]

def k0_chk571 (i : grid0.Coords) (v1730 : BitVec 32) (v1733 : BitVec 32) (v1820 : BitVec 32) : Prop :=
  (∀ a, (k0_off1144 i v1730 v1733 v1820) a + S1x128.size a ≤ S8224x128.size a)
theorem k0_off1144_inb : ∀ (i : grid0.Coords) (v1730 : BitVec 32) (v1733 : BitVec 32) (v1820 : BitVec 32) (k0_hw571 : k0_chk571 i v1730 v1733 v1820), ∀ a, (k0_off1144 i v1730 v1733 v1820) a + S1x128.size a ≤ S8224x128.size a := fun i v1730 v1733 v1820 k0_hw571 => k0_hw571

def k0_off1145 (v1730 : BitVec 32) : Fin 1 → Nat :=
  let c6_i32_664 : BitVec 32 := 6#32
  let v1831 : BitVec 32 := Scalar.addi v1730 c6_i32_664
  let v1834 : Index := Scalar.indexCast v1831
  ![v1834.toNat]
def k0_off1146 (i : grid0.Coords) (v1730 : BitVec 32) (v1733 : BitVec 32) (v1835 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_665 : BitVec 32 := 6#32
  let v1832 : BitVec 32 := Scalar.addi v1730 c6_i32_665
  let v1833 : BitVec 1 := Scalar.cmpi .slt v1832 v1733
  let c65535_i32_666 : BitVec 32 := 65535#32
  let v1836 : BitVec 32 := Scalar.andi v1835 c65535_i32_666
  let c2048_i32_667 : BitVec 32 := 2048#32
  let v1837 : BitVec 32 := Scalar.select v1833 v1836 c2048_i32_667
  let v1838 : BitVec 32 := Scalar.addi v1470 v1837
  let v1841 : Index := Scalar.indexCast v1838
  let c0_669 : Index := 0#32
  ![v1841.toNat, 0]

def k0_chk572 (i : grid0.Coords) (v1730 : BitVec 32) (v1733 : BitVec 32) (v1835 : BitVec 32) : Prop :=
  (∀ a, (k0_off1146 i v1730 v1733 v1835) a + S1x128.size a ≤ S8224x128.size a)
theorem k0_off1146_inb : ∀ (i : grid0.Coords) (v1730 : BitVec 32) (v1733 : BitVec 32) (v1835 : BitVec 32) (k0_hw572 : k0_chk572 i v1730 v1733 v1835), ∀ a, (k0_off1146 i v1730 v1733 v1835) a + S1x128.size a ≤ S8224x128.size a := fun i v1730 v1733 v1835 k0_hw572 => k0_hw572

def k0_off1147 (v1730 : BitVec 32) : Fin 1 → Nat :=
  let c7_i32_670 : BitVec 32 := 7#32
  let v1846 : BitVec 32 := Scalar.addi v1730 c7_i32_670
  let v1849 : Index := Scalar.indexCast v1846
  ![v1849.toNat]
def k0_off1148 (i : grid0.Coords) (v1730 : BitVec 32) (v1733 : BitVec 32) (v1850 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_671 : BitVec 32 := 7#32
  let v1847 : BitVec 32 := Scalar.addi v1730 c7_i32_671
  let v1848 : BitVec 1 := Scalar.cmpi .slt v1847 v1733
  let c65535_i32_672 : BitVec 32 := 65535#32
  let v1851 : BitVec 32 := Scalar.andi v1850 c65535_i32_672
  let c2048_i32_673 : BitVec 32 := 2048#32
  let v1852 : BitVec 32 := Scalar.select v1848 v1851 c2048_i32_673
  let v1853 : BitVec 32 := Scalar.addi v1470 v1852
  let v1856 : Index := Scalar.indexCast v1853
  let c0_675 : Index := 0#32
  ![v1856.toNat, 0]

def k0_chk573 (i : grid0.Coords) (v1730 : BitVec 32) (v1733 : BitVec 32) (v1850 : BitVec 32) : Prop :=
  (∀ a, (k0_off1148 i v1730 v1733 v1850) a + S1x128.size a ≤ S8224x128.size a)
theorem k0_off1148_inb : ∀ (i : grid0.Coords) (v1730 : BitVec 32) (v1733 : BitVec 32) (v1850 : BitVec 32) (k0_hw573 : k0_chk573 i v1730 v1733 v1850), ∀ a, (k0_off1148 i v1730 v1733 v1850) a + S1x128.size a ≤ S8224x128.size a := fun i v1730 v1733 v1850 k0_hw573 => k0_hw573

def k0_off1149 (v1730 : BitVec 32) : Fin 1 → Nat :=
  let c8_i32_676 : BitVec 32 := 8#32
  let v1861 : BitVec 32 := Scalar.addi v1730 c8_i32_676
  let v1864 : Index := Scalar.indexCast v1861
  ![v1864.toNat]
def k0_off1150 (i : grid0.Coords) (v1730 : BitVec 32) (v1733 : BitVec 32) (v1865 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_677 : BitVec 32 := 8#32
  let v1862 : BitVec 32 := Scalar.addi v1730 c8_i32_677
  let v1863 : BitVec 1 := Scalar.cmpi .slt v1862 v1733
  let c65535_i32_678 : BitVec 32 := 65535#32
  let v1866 : BitVec 32 := Scalar.andi v1865 c65535_i32_678
  let c2048_i32_679 : BitVec 32 := 2048#32
  let v1867 : BitVec 32 := Scalar.select v1863 v1866 c2048_i32_679
  let v1868 : BitVec 32 := Scalar.addi v1470 v1867
  let v1871 : Index := Scalar.indexCast v1868
  let c0_681 : Index := 0#32
  ![v1871.toNat, 0]

def k0_chk574 (i : grid0.Coords) (v1730 : BitVec 32) (v1733 : BitVec 32) (v1865 : BitVec 32) : Prop :=
  (∀ a, (k0_off1150 i v1730 v1733 v1865) a + S1x128.size a ≤ S8224x128.size a)
theorem k0_off1150_inb : ∀ (i : grid0.Coords) (v1730 : BitVec 32) (v1733 : BitVec 32) (v1865 : BitVec 32) (k0_hw574 : k0_chk574 i v1730 v1733 v1865), ∀ a, (k0_off1150 i v1730 v1733 v1865) a + S1x128.size a ≤ S8224x128.size a := fun i v1730 v1733 v1865 k0_hw574 => k0_hw574

def k0_off1151 (v1730 : BitVec 32) : Fin 1 → Nat :=
  let c9_i32_682 : BitVec 32 := 9#32
  let v1876 : BitVec 32 := Scalar.addi v1730 c9_i32_682
  let v1879 : Index := Scalar.indexCast v1876
  ![v1879.toNat]
def k0_off1152 (i : grid0.Coords) (v1730 : BitVec 32) (v1733 : BitVec 32) (v1880 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_683 : BitVec 32 := 9#32
  let v1877 : BitVec 32 := Scalar.addi v1730 c9_i32_683
  let v1878 : BitVec 1 := Scalar.cmpi .slt v1877 v1733
  let c65535_i32_684 : BitVec 32 := 65535#32
  let v1881 : BitVec 32 := Scalar.andi v1880 c65535_i32_684
  let c2048_i32_685 : BitVec 32 := 2048#32
  let v1882 : BitVec 32 := Scalar.select v1878 v1881 c2048_i32_685
  let v1883 : BitVec 32 := Scalar.addi v1470 v1882
  let v1886 : Index := Scalar.indexCast v1883
  let c0_687 : Index := 0#32
  ![v1886.toNat, 0]

def k0_chk575 (i : grid0.Coords) (v1730 : BitVec 32) (v1733 : BitVec 32) (v1880 : BitVec 32) : Prop :=
  (∀ a, (k0_off1152 i v1730 v1733 v1880) a + S1x128.size a ≤ S8224x128.size a)
theorem k0_off1152_inb : ∀ (i : grid0.Coords) (v1730 : BitVec 32) (v1733 : BitVec 32) (v1880 : BitVec 32) (k0_hw575 : k0_chk575 i v1730 v1733 v1880), ∀ a, (k0_off1152 i v1730 v1733 v1880) a + S1x128.size a ≤ S8224x128.size a := fun i v1730 v1733 v1880 k0_hw575 => k0_hw575

def k0_off1153 (v1730 : BitVec 32) : Fin 1 → Nat :=
  let c10_i32_688 : BitVec 32 := 10#32
  let v1891 : BitVec 32 := Scalar.addi v1730 c10_i32_688
  let v1894 : Index := Scalar.indexCast v1891
  ![v1894.toNat]
def k0_off1154 (i : grid0.Coords) (v1730 : BitVec 32) (v1733 : BitVec 32) (v1895 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_689 : BitVec 32 := 10#32
  let v1892 : BitVec 32 := Scalar.addi v1730 c10_i32_689
  let v1893 : BitVec 1 := Scalar.cmpi .slt v1892 v1733
  let c65535_i32_690 : BitVec 32 := 65535#32
  let v1896 : BitVec 32 := Scalar.andi v1895 c65535_i32_690
  let c2048_i32_691 : BitVec 32 := 2048#32
  let v1897 : BitVec 32 := Scalar.select v1893 v1896 c2048_i32_691
  let v1898 : BitVec 32 := Scalar.addi v1470 v1897
  let v1901 : Index := Scalar.indexCast v1898
  let c0_693 : Index := 0#32
  ![v1901.toNat, 0]

def k0_chk576 (i : grid0.Coords) (v1730 : BitVec 32) (v1733 : BitVec 32) (v1895 : BitVec 32) : Prop :=
  (∀ a, (k0_off1154 i v1730 v1733 v1895) a + S1x128.size a ≤ S8224x128.size a)
theorem k0_off1154_inb : ∀ (i : grid0.Coords) (v1730 : BitVec 32) (v1733 : BitVec 32) (v1895 : BitVec 32) (k0_hw576 : k0_chk576 i v1730 v1733 v1895), ∀ a, (k0_off1154 i v1730 v1733 v1895) a + S1x128.size a ≤ S8224x128.size a := fun i v1730 v1733 v1895 k0_hw576 => k0_hw576

def k0_off1155 (v1730 : BitVec 32) : Fin 1 → Nat :=
  let c11_i32_694 : BitVec 32 := 11#32
  let v1906 : BitVec 32 := Scalar.addi v1730 c11_i32_694
  let v1909 : Index := Scalar.indexCast v1906
  ![v1909.toNat]
def k0_off1156 (i : grid0.Coords) (v1730 : BitVec 32) (v1733 : BitVec 32) (v1910 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_695 : BitVec 32 := 11#32
  let v1907 : BitVec 32 := Scalar.addi v1730 c11_i32_695
  let v1908 : BitVec 1 := Scalar.cmpi .slt v1907 v1733
  let c65535_i32_696 : BitVec 32 := 65535#32
  let v1911 : BitVec 32 := Scalar.andi v1910 c65535_i32_696
  let c2048_i32_697 : BitVec 32 := 2048#32
  let v1912 : BitVec 32 := Scalar.select v1908 v1911 c2048_i32_697
  let v1913 : BitVec 32 := Scalar.addi v1470 v1912
  let v1916 : Index := Scalar.indexCast v1913
  let c0_699 : Index := 0#32
  ![v1916.toNat, 0]

def k0_chk577 (i : grid0.Coords) (v1730 : BitVec 32) (v1733 : BitVec 32) (v1910 : BitVec 32) : Prop :=
  (∀ a, (k0_off1156 i v1730 v1733 v1910) a + S1x128.size a ≤ S8224x128.size a)
theorem k0_off1156_inb : ∀ (i : grid0.Coords) (v1730 : BitVec 32) (v1733 : BitVec 32) (v1910 : BitVec 32) (k0_hw577 : k0_chk577 i v1730 v1733 v1910), ∀ a, (k0_off1156 i v1730 v1733 v1910) a + S1x128.size a ≤ S8224x128.size a := fun i v1730 v1733 v1910 k0_hw577 => k0_hw577

def k0_off1157 (v1730 : BitVec 32) : Fin 1 → Nat :=
  let c12_i32_700 : BitVec 32 := 12#32
  let v1921 : BitVec 32 := Scalar.addi v1730 c12_i32_700
  let v1924 : Index := Scalar.indexCast v1921
  ![v1924.toNat]
def k0_off1158 (i : grid0.Coords) (v1730 : BitVec 32) (v1733 : BitVec 32) (v1925 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_701 : BitVec 32 := 12#32
  let v1922 : BitVec 32 := Scalar.addi v1730 c12_i32_701
  let v1923 : BitVec 1 := Scalar.cmpi .slt v1922 v1733
  let c65535_i32_702 : BitVec 32 := 65535#32
  let v1926 : BitVec 32 := Scalar.andi v1925 c65535_i32_702
  let c2048_i32_703 : BitVec 32 := 2048#32
  let v1927 : BitVec 32 := Scalar.select v1923 v1926 c2048_i32_703
  let v1928 : BitVec 32 := Scalar.addi v1470 v1927
  let v1931 : Index := Scalar.indexCast v1928
  let c0_705 : Index := 0#32
  ![v1931.toNat, 0]

def k0_chk578 (i : grid0.Coords) (v1730 : BitVec 32) (v1733 : BitVec 32) (v1925 : BitVec 32) : Prop :=
  (∀ a, (k0_off1158 i v1730 v1733 v1925) a + S1x128.size a ≤ S8224x128.size a)
theorem k0_off1158_inb : ∀ (i : grid0.Coords) (v1730 : BitVec 32) (v1733 : BitVec 32) (v1925 : BitVec 32) (k0_hw578 : k0_chk578 i v1730 v1733 v1925), ∀ a, (k0_off1158 i v1730 v1733 v1925) a + S1x128.size a ≤ S8224x128.size a := fun i v1730 v1733 v1925 k0_hw578 => k0_hw578

def k0_off1159 (v1730 : BitVec 32) : Fin 1 → Nat :=
  let c13_i32_706 : BitVec 32 := 13#32
  let v1936 : BitVec 32 := Scalar.addi v1730 c13_i32_706
  let v1939 : Index := Scalar.indexCast v1936
  ![v1939.toNat]
def k0_off1160 (i : grid0.Coords) (v1730 : BitVec 32) (v1733 : BitVec 32) (v1940 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_707 : BitVec 32 := 13#32
  let v1937 : BitVec 32 := Scalar.addi v1730 c13_i32_707
  let v1938 : BitVec 1 := Scalar.cmpi .slt v1937 v1733
  let c65535_i32_708 : BitVec 32 := 65535#32
  let v1941 : BitVec 32 := Scalar.andi v1940 c65535_i32_708
  let c2048_i32_709 : BitVec 32 := 2048#32
  let v1942 : BitVec 32 := Scalar.select v1938 v1941 c2048_i32_709
  let v1943 : BitVec 32 := Scalar.addi v1470 v1942
  let v1946 : Index := Scalar.indexCast v1943
  let c0_711 : Index := 0#32
  ![v1946.toNat, 0]

def k0_chk579 (i : grid0.Coords) (v1730 : BitVec 32) (v1733 : BitVec 32) (v1940 : BitVec 32) : Prop :=
  (∀ a, (k0_off1160 i v1730 v1733 v1940) a + S1x128.size a ≤ S8224x128.size a)
theorem k0_off1160_inb : ∀ (i : grid0.Coords) (v1730 : BitVec 32) (v1733 : BitVec 32) (v1940 : BitVec 32) (k0_hw579 : k0_chk579 i v1730 v1733 v1940), ∀ a, (k0_off1160 i v1730 v1733 v1940) a + S1x128.size a ≤ S8224x128.size a := fun i v1730 v1733 v1940 k0_hw579 => k0_hw579

def k0_off1161 (v1730 : BitVec 32) : Fin 1 → Nat :=
  let c14_i32_712 : BitVec 32 := 14#32
  let v1951 : BitVec 32 := Scalar.addi v1730 c14_i32_712
  let v1954 : Index := Scalar.indexCast v1951
  ![v1954.toNat]
def k0_off1162 (i : grid0.Coords) (v1730 : BitVec 32) (v1733 : BitVec 32) (v1955 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_713 : BitVec 32 := 14#32
  let v1952 : BitVec 32 := Scalar.addi v1730 c14_i32_713
  let v1953 : BitVec 1 := Scalar.cmpi .slt v1952 v1733
  let c65535_i32_714 : BitVec 32 := 65535#32
  let v1956 : BitVec 32 := Scalar.andi v1955 c65535_i32_714
  let c2048_i32_715 : BitVec 32 := 2048#32
  let v1957 : BitVec 32 := Scalar.select v1953 v1956 c2048_i32_715
  let v1958 : BitVec 32 := Scalar.addi v1470 v1957
  let v1961 : Index := Scalar.indexCast v1958
  let c0_717 : Index := 0#32
  ![v1961.toNat, 0]

def k0_chk580 (i : grid0.Coords) (v1730 : BitVec 32) (v1733 : BitVec 32) (v1955 : BitVec 32) : Prop :=
  (∀ a, (k0_off1162 i v1730 v1733 v1955) a + S1x128.size a ≤ S8224x128.size a)
theorem k0_off1162_inb : ∀ (i : grid0.Coords) (v1730 : BitVec 32) (v1733 : BitVec 32) (v1955 : BitVec 32) (k0_hw580 : k0_chk580 i v1730 v1733 v1955), ∀ a, (k0_off1162 i v1730 v1733 v1955) a + S1x128.size a ≤ S8224x128.size a := fun i v1730 v1733 v1955 k0_hw580 => k0_hw580

def k0_off1163 (v1730 : BitVec 32) : Fin 1 → Nat :=
  let c15_i32_718 : BitVec 32 := 15#32
  let v1966 : BitVec 32 := Scalar.addi v1730 c15_i32_718
  let v1969 : Index := Scalar.indexCast v1966
  ![v1969.toNat]

def k0_chk565 (v1730 : BitVec 32) : Prop :=
  (∀ a, (k0_off1133 v1730) a + S1.size a ≤ S51920.size a) ∧
  (∀ a, (k0_off1135 v1730) a + S1.size a ≤ S51920.size a) ∧
  (∀ a, (k0_off1137 v1730) a + S1.size a ≤ S51920.size a) ∧
  (∀ a, (k0_off1139 v1730) a + S1.size a ≤ S51920.size a) ∧
  (∀ a, (k0_off1141 v1730) a + S1.size a ≤ S51920.size a) ∧
  (∀ a, (k0_off1143 v1730) a + S1.size a ≤ S51920.size a) ∧
  (∀ a, (k0_off1145 v1730) a + S1.size a ≤ S51920.size a) ∧
  (∀ a, (k0_off1147 v1730) a + S1.size a ≤ S51920.size a) ∧
  (∀ a, (k0_off1149 v1730) a + S1.size a ≤ S51920.size a) ∧
  (∀ a, (k0_off1151 v1730) a + S1.size a ≤ S51920.size a) ∧
  (∀ a, (k0_off1153 v1730) a + S1.size a ≤ S51920.size a) ∧
  (∀ a, (k0_off1155 v1730) a + S1.size a ≤ S51920.size a) ∧
  (∀ a, (k0_off1157 v1730) a + S1.size a ≤ S51920.size a) ∧
  (∀ a, (k0_off1159 v1730) a + S1.size a ≤ S51920.size a) ∧
  (∀ a, (k0_off1161 v1730) a + S1.size a ≤ S51920.size a) ∧
  (∀ a, (k0_off1163 v1730) a + S1.size a ≤ S51920.size a)
theorem k0_off1133_inb : ∀ (v1730 : BitVec 32) (k0_hw565 : k0_chk565 v1730), ∀ a, (k0_off1133 v1730) a + S1.size a ≤ S51920.size a := fun v1730 k0_hw565 => k0_hw565.1
theorem k0_off1135_inb : ∀ (v1730 : BitVec 32) (k0_hw565 : k0_chk565 v1730), ∀ a, (k0_off1135 v1730) a + S1.size a ≤ S51920.size a := fun v1730 k0_hw565 => k0_hw565.2.1
theorem k0_off1137_inb : ∀ (v1730 : BitVec 32) (k0_hw565 : k0_chk565 v1730), ∀ a, (k0_off1137 v1730) a + S1.size a ≤ S51920.size a := fun v1730 k0_hw565 => k0_hw565.2.2.1
theorem k0_off1139_inb : ∀ (v1730 : BitVec 32) (k0_hw565 : k0_chk565 v1730), ∀ a, (k0_off1139 v1730) a + S1.size a ≤ S51920.size a := fun v1730 k0_hw565 => k0_hw565.2.2.2.1
theorem k0_off1141_inb : ∀ (v1730 : BitVec 32) (k0_hw565 : k0_chk565 v1730), ∀ a, (k0_off1141 v1730) a + S1.size a ≤ S51920.size a := fun v1730 k0_hw565 => k0_hw565.2.2.2.2.1
theorem k0_off1143_inb : ∀ (v1730 : BitVec 32) (k0_hw565 : k0_chk565 v1730), ∀ a, (k0_off1143 v1730) a + S1.size a ≤ S51920.size a := fun v1730 k0_hw565 => k0_hw565.2.2.2.2.2.1
theorem k0_off1145_inb : ∀ (v1730 : BitVec 32) (k0_hw565 : k0_chk565 v1730), ∀ a, (k0_off1145 v1730) a + S1.size a ≤ S51920.size a := fun v1730 k0_hw565 => k0_hw565.2.2.2.2.2.2.1
theorem k0_off1147_inb : ∀ (v1730 : BitVec 32) (k0_hw565 : k0_chk565 v1730), ∀ a, (k0_off1147 v1730) a + S1.size a ≤ S51920.size a := fun v1730 k0_hw565 => k0_hw565.2.2.2.2.2.2.2.1
theorem k0_off1149_inb : ∀ (v1730 : BitVec 32) (k0_hw565 : k0_chk565 v1730), ∀ a, (k0_off1149 v1730) a + S1.size a ≤ S51920.size a := fun v1730 k0_hw565 => k0_hw565.2.2.2.2.2.2.2.2.1
theorem k0_off1151_inb : ∀ (v1730 : BitVec 32) (k0_hw565 : k0_chk565 v1730), ∀ a, (k0_off1151 v1730) a + S1.size a ≤ S51920.size a := fun v1730 k0_hw565 => k0_hw565.2.2.2.2.2.2.2.2.2.1
theorem k0_off1153_inb : ∀ (v1730 : BitVec 32) (k0_hw565 : k0_chk565 v1730), ∀ a, (k0_off1153 v1730) a + S1.size a ≤ S51920.size a := fun v1730 k0_hw565 => k0_hw565.2.2.2.2.2.2.2.2.2.2.1
theorem k0_off1155_inb : ∀ (v1730 : BitVec 32) (k0_hw565 : k0_chk565 v1730), ∀ a, (k0_off1155 v1730) a + S1.size a ≤ S51920.size a := fun v1730 k0_hw565 => k0_hw565.2.2.2.2.2.2.2.2.2.2.2.1
theorem k0_off1157_inb : ∀ (v1730 : BitVec 32) (k0_hw565 : k0_chk565 v1730), ∀ a, (k0_off1157 v1730) a + S1.size a ≤ S51920.size a := fun v1730 k0_hw565 => k0_hw565.2.2.2.2.2.2.2.2.2.2.2.2.1
theorem k0_off1159_inb : ∀ (v1730 : BitVec 32) (k0_hw565 : k0_chk565 v1730), ∀ a, (k0_off1159 v1730) a + S1.size a ≤ S51920.size a := fun v1730 k0_hw565 => k0_hw565.2.2.2.2.2.2.2.2.2.2.2.2.2.1
theorem k0_off1161_inb : ∀ (v1730 : BitVec 32) (k0_hw565 : k0_chk565 v1730), ∀ a, (k0_off1161 v1730) a + S1.size a ≤ S51920.size a := fun v1730 k0_hw565 => k0_hw565.2.2.2.2.2.2.2.2.2.2.2.2.2.2.1
theorem k0_off1163_inb : ∀ (v1730 : BitVec 32) (k0_hw565 : k0_chk565 v1730), ∀ a, (k0_off1163 v1730) a + S1.size a ≤ S51920.size a := fun v1730 k0_hw565 => k0_hw565.2.2.2.2.2.2.2.2.2.2.2.2.2.2.2

def k0_off1164 (i : grid0.Coords) (v1730 : BitVec 32) (v1733 : BitVec 32) (v1970 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_719 : BitVec 32 := 15#32
  let v1967 : BitVec 32 := Scalar.addi v1730 c15_i32_719
  let v1968 : BitVec 1 := Scalar.cmpi .slt v1967 v1733
  let c65535_i32_720 : BitVec 32 := 65535#32
  let v1971 : BitVec 32 := Scalar.andi v1970 c65535_i32_720
  let c2048_i32_721 : BitVec 32 := 2048#32
  let v1972 : BitVec 32 := Scalar.select v1968 v1971 c2048_i32_721
  let v1973 : BitVec 32 := Scalar.addi v1470 v1972
  let v1976 : Index := Scalar.indexCast v1973
  let c0_723 : Index := 0#32
  ![v1976.toNat, 0]

def k0_chk581 (i : grid0.Coords) (v1730 : BitVec 32) (v1733 : BitVec 32) (v1970 : BitVec 32) : Prop :=
  (∀ a, (k0_off1164 i v1730 v1733 v1970) a + S1x128.size a ≤ S8224x128.size a)
theorem k0_off1164_inb : ∀ (i : grid0.Coords) (v1730 : BitVec 32) (v1733 : BitVec 32) (v1970 : BitVec 32) (k0_hw581 : k0_chk581 i v1730 v1733 v1970), ∀ a, (k0_off1164 i v1730 v1733 v1970) a + S1x128.size a ≤ S8224x128.size a := fun i v1730 v1733 v1970 k0_hw581 => k0_hw581

def k0_off1165 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_724 : BitVec 32 := 512#32
  let v1981 : BitVec 32 := Scalar.muli v24 c512_i32_724
  let arg1 : BitVec 32 := BitVec.ofNat 32 (i 1).val
  let c32_i32 : BitVec 32 := 32#32
  let v1452 : BitVec 32 := Scalar.muli arg1 c32_i32
  let v1982 : BitVec 32 := Scalar.addi v1981 v1452
  let c2_i32_725 : BitVec 32 := 2#32
  let v1983 : BitVec 32 := Scalar.addi v1982 c2_i32_725
  let v1984 : Index := Scalar.indexCast v1983
  ![v1984.toNat]
def k0_off1166 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_724 : BitVec 32 := 512#32
  let v1981 : BitVec 32 := Scalar.muli v24 c512_i32_724
  let arg1 : BitVec 32 := BitVec.ofNat 32 (i 1).val
  let c32_i32 : BitVec 32 := 32#32
  let v1452 : BitVec 32 := Scalar.muli arg1 c32_i32
  let v1982 : BitVec 32 := Scalar.addi v1981 v1452
  let c2_i32_725 : BitVec 32 := 2#32
  let v1983 : BitVec 32 := Scalar.addi v1982 c2_i32_725
  let c1_i32_726 : BitVec 32 := 1#32
  let v1986 : BitVec 32 := Scalar.addi v1983 c1_i32_726
  let v1987 : Index := Scalar.indexCast v1986
  ![v1987.toNat]
def k0_off1167 (v1985 : BitVec 32) : Fin 1 → Nat :=
  let c0_i32_729 : BitVec 32 := 0#32
  let v1996 : BitVec 32 := Scalar.addi v1985 c0_i32_729
  let v1999 : Index := Scalar.indexCast v1996
  ![v1999.toNat]

def k0_off1168 (i : grid0.Coords) (v1985 : BitVec 32) (v1988 : BitVec 32) (v2000 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_730 : BitVec 32 := 0#32
  let v1997 : BitVec 32 := Scalar.addi v1985 c0_i32_730
  let v1998 : BitVec 1 := Scalar.cmpi .slt v1997 v1988
  let c65535_i32_731 : BitVec 32 := 65535#32
  let v2001 : BitVec 32 := Scalar.andi v2000 c65535_i32_731
  let c2048_i32_732 : BitVec 32 := 2048#32
  let v2002 : BitVec 32 := Scalar.select v1998 v2001 c2048_i32_732
  let v2003 : BitVec 32 := Scalar.addi v1470 v2002
  let v2006 : Index := Scalar.indexCast v2003
  let c0_734 : Index := 0#32
  ![v2006.toNat, 0]

def k0_chk583 (i : grid0.Coords) (v1985 : BitVec 32) (v1988 : BitVec 32) (v2000 : BitVec 32) : Prop :=
  (∀ a, (k0_off1168 i v1985 v1988 v2000) a + S1x128.size a ≤ S8224x128.size a)
theorem k0_off1168_inb : ∀ (i : grid0.Coords) (v1985 : BitVec 32) (v1988 : BitVec 32) (v2000 : BitVec 32) (k0_hw583 : k0_chk583 i v1985 v1988 v2000), ∀ a, (k0_off1168 i v1985 v1988 v2000) a + S1x128.size a ≤ S8224x128.size a := fun i v1985 v1988 v2000 k0_hw583 => k0_hw583

def k0_off1169 (v1985 : BitVec 32) : Fin 1 → Nat :=
  let c1_i32_735 : BitVec 32 := 1#32
  let v2011 : BitVec 32 := Scalar.addi v1985 c1_i32_735
  let v2014 : Index := Scalar.indexCast v2011
  ![v2014.toNat]
def k0_off1170 (i : grid0.Coords) (v1985 : BitVec 32) (v1988 : BitVec 32) (v2015 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_736 : BitVec 32 := 1#32
  let v2012 : BitVec 32 := Scalar.addi v1985 c1_i32_736
  let v2013 : BitVec 1 := Scalar.cmpi .slt v2012 v1988
  let c65535_i32_737 : BitVec 32 := 65535#32
  let v2016 : BitVec 32 := Scalar.andi v2015 c65535_i32_737
  let c2048_i32_738 : BitVec 32 := 2048#32
  let v2017 : BitVec 32 := Scalar.select v2013 v2016 c2048_i32_738
  let v2018 : BitVec 32 := Scalar.addi v1470 v2017
  let v2021 : Index := Scalar.indexCast v2018
  let c0_740 : Index := 0#32
  ![v2021.toNat, 0]

def k0_chk584 (i : grid0.Coords) (v1985 : BitVec 32) (v1988 : BitVec 32) (v2015 : BitVec 32) : Prop :=
  (∀ a, (k0_off1170 i v1985 v1988 v2015) a + S1x128.size a ≤ S8224x128.size a)
theorem k0_off1170_inb : ∀ (i : grid0.Coords) (v1985 : BitVec 32) (v1988 : BitVec 32) (v2015 : BitVec 32) (k0_hw584 : k0_chk584 i v1985 v1988 v2015), ∀ a, (k0_off1170 i v1985 v1988 v2015) a + S1x128.size a ≤ S8224x128.size a := fun i v1985 v1988 v2015 k0_hw584 => k0_hw584

def k0_off1171 (v1985 : BitVec 32) : Fin 1 → Nat :=
  let c2_i32_741 : BitVec 32 := 2#32
  let v2026 : BitVec 32 := Scalar.addi v1985 c2_i32_741
  let v2029 : Index := Scalar.indexCast v2026
  ![v2029.toNat]
def k0_off1172 (i : grid0.Coords) (v1985 : BitVec 32) (v1988 : BitVec 32) (v2030 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_742 : BitVec 32 := 2#32
  let v2027 : BitVec 32 := Scalar.addi v1985 c2_i32_742
  let v2028 : BitVec 1 := Scalar.cmpi .slt v2027 v1988
  let c65535_i32_743 : BitVec 32 := 65535#32
  let v2031 : BitVec 32 := Scalar.andi v2030 c65535_i32_743
  let c2048_i32_744 : BitVec 32 := 2048#32
  let v2032 : BitVec 32 := Scalar.select v2028 v2031 c2048_i32_744
  let v2033 : BitVec 32 := Scalar.addi v1470 v2032
  let v2036 : Index := Scalar.indexCast v2033
  let c0_746 : Index := 0#32
  ![v2036.toNat, 0]

def k0_chk585 (i : grid0.Coords) (v1985 : BitVec 32) (v1988 : BitVec 32) (v2030 : BitVec 32) : Prop :=
  (∀ a, (k0_off1172 i v1985 v1988 v2030) a + S1x128.size a ≤ S8224x128.size a)
theorem k0_off1172_inb : ∀ (i : grid0.Coords) (v1985 : BitVec 32) (v1988 : BitVec 32) (v2030 : BitVec 32) (k0_hw585 : k0_chk585 i v1985 v1988 v2030), ∀ a, (k0_off1172 i v1985 v1988 v2030) a + S1x128.size a ≤ S8224x128.size a := fun i v1985 v1988 v2030 k0_hw585 => k0_hw585

def k0_off1173 (v1985 : BitVec 32) : Fin 1 → Nat :=
  let c3_i32_747 : BitVec 32 := 3#32
  let v2041 : BitVec 32 := Scalar.addi v1985 c3_i32_747
  let v2044 : Index := Scalar.indexCast v2041
  ![v2044.toNat]
def k0_off1174 (i : grid0.Coords) (v1985 : BitVec 32) (v1988 : BitVec 32) (v2045 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_748 : BitVec 32 := 3#32
  let v2042 : BitVec 32 := Scalar.addi v1985 c3_i32_748
  let v2043 : BitVec 1 := Scalar.cmpi .slt v2042 v1988
  let c65535_i32_749 : BitVec 32 := 65535#32
  let v2046 : BitVec 32 := Scalar.andi v2045 c65535_i32_749
  let c2048_i32_750 : BitVec 32 := 2048#32
  let v2047 : BitVec 32 := Scalar.select v2043 v2046 c2048_i32_750
  let v2048 : BitVec 32 := Scalar.addi v1470 v2047
  let v2051 : Index := Scalar.indexCast v2048
  let c0_752 : Index := 0#32
  ![v2051.toNat, 0]

def k0_chk586 (i : grid0.Coords) (v1985 : BitVec 32) (v1988 : BitVec 32) (v2045 : BitVec 32) : Prop :=
  (∀ a, (k0_off1174 i v1985 v1988 v2045) a + S1x128.size a ≤ S8224x128.size a)
theorem k0_off1174_inb : ∀ (i : grid0.Coords) (v1985 : BitVec 32) (v1988 : BitVec 32) (v2045 : BitVec 32) (k0_hw586 : k0_chk586 i v1985 v1988 v2045), ∀ a, (k0_off1174 i v1985 v1988 v2045) a + S1x128.size a ≤ S8224x128.size a := fun i v1985 v1988 v2045 k0_hw586 => k0_hw586

def k0_off1175 (v1985 : BitVec 32) : Fin 1 → Nat :=
  let c4_i32_753 : BitVec 32 := 4#32
  let v2056 : BitVec 32 := Scalar.addi v1985 c4_i32_753
  let v2059 : Index := Scalar.indexCast v2056
  ![v2059.toNat]
def k0_off1176 (i : grid0.Coords) (v1985 : BitVec 32) (v1988 : BitVec 32) (v2060 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_754 : BitVec 32 := 4#32
  let v2057 : BitVec 32 := Scalar.addi v1985 c4_i32_754
  let v2058 : BitVec 1 := Scalar.cmpi .slt v2057 v1988
  let c65535_i32_755 : BitVec 32 := 65535#32
  let v2061 : BitVec 32 := Scalar.andi v2060 c65535_i32_755
  let c2048_i32_756 : BitVec 32 := 2048#32
  let v2062 : BitVec 32 := Scalar.select v2058 v2061 c2048_i32_756
  let v2063 : BitVec 32 := Scalar.addi v1470 v2062
  let v2066 : Index := Scalar.indexCast v2063
  let c0_758 : Index := 0#32
  ![v2066.toNat, 0]

def k0_chk587 (i : grid0.Coords) (v1985 : BitVec 32) (v1988 : BitVec 32) (v2060 : BitVec 32) : Prop :=
  (∀ a, (k0_off1176 i v1985 v1988 v2060) a + S1x128.size a ≤ S8224x128.size a)
theorem k0_off1176_inb : ∀ (i : grid0.Coords) (v1985 : BitVec 32) (v1988 : BitVec 32) (v2060 : BitVec 32) (k0_hw587 : k0_chk587 i v1985 v1988 v2060), ∀ a, (k0_off1176 i v1985 v1988 v2060) a + S1x128.size a ≤ S8224x128.size a := fun i v1985 v1988 v2060 k0_hw587 => k0_hw587

def k0_off1177 (v1985 : BitVec 32) : Fin 1 → Nat :=
  let c5_i32_759 : BitVec 32 := 5#32
  let v2071 : BitVec 32 := Scalar.addi v1985 c5_i32_759
  let v2074 : Index := Scalar.indexCast v2071
  ![v2074.toNat]
def k0_off1178 (i : grid0.Coords) (v1985 : BitVec 32) (v1988 : BitVec 32) (v2075 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_760 : BitVec 32 := 5#32
  let v2072 : BitVec 32 := Scalar.addi v1985 c5_i32_760
  let v2073 : BitVec 1 := Scalar.cmpi .slt v2072 v1988
  let c65535_i32_761 : BitVec 32 := 65535#32
  let v2076 : BitVec 32 := Scalar.andi v2075 c65535_i32_761
  let c2048_i32_762 : BitVec 32 := 2048#32
  let v2077 : BitVec 32 := Scalar.select v2073 v2076 c2048_i32_762
  let v2078 : BitVec 32 := Scalar.addi v1470 v2077
  let v2081 : Index := Scalar.indexCast v2078
  let c0_764 : Index := 0#32
  ![v2081.toNat, 0]

def k0_chk588 (i : grid0.Coords) (v1985 : BitVec 32) (v1988 : BitVec 32) (v2075 : BitVec 32) : Prop :=
  (∀ a, (k0_off1178 i v1985 v1988 v2075) a + S1x128.size a ≤ S8224x128.size a)
theorem k0_off1178_inb : ∀ (i : grid0.Coords) (v1985 : BitVec 32) (v1988 : BitVec 32) (v2075 : BitVec 32) (k0_hw588 : k0_chk588 i v1985 v1988 v2075), ∀ a, (k0_off1178 i v1985 v1988 v2075) a + S1x128.size a ≤ S8224x128.size a := fun i v1985 v1988 v2075 k0_hw588 => k0_hw588

def k0_off1179 (v1985 : BitVec 32) : Fin 1 → Nat :=
  let c6_i32_765 : BitVec 32 := 6#32
  let v2086 : BitVec 32 := Scalar.addi v1985 c6_i32_765
  let v2089 : Index := Scalar.indexCast v2086
  ![v2089.toNat]
def k0_off1180 (i : grid0.Coords) (v1985 : BitVec 32) (v1988 : BitVec 32) (v2090 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_766 : BitVec 32 := 6#32
  let v2087 : BitVec 32 := Scalar.addi v1985 c6_i32_766
  let v2088 : BitVec 1 := Scalar.cmpi .slt v2087 v1988
  let c65535_i32_767 : BitVec 32 := 65535#32
  let v2091 : BitVec 32 := Scalar.andi v2090 c65535_i32_767
  let c2048_i32_768 : BitVec 32 := 2048#32
  let v2092 : BitVec 32 := Scalar.select v2088 v2091 c2048_i32_768
  let v2093 : BitVec 32 := Scalar.addi v1470 v2092
  let v2096 : Index := Scalar.indexCast v2093
  let c0_770 : Index := 0#32
  ![v2096.toNat, 0]

def k0_chk589 (i : grid0.Coords) (v1985 : BitVec 32) (v1988 : BitVec 32) (v2090 : BitVec 32) : Prop :=
  (∀ a, (k0_off1180 i v1985 v1988 v2090) a + S1x128.size a ≤ S8224x128.size a)
theorem k0_off1180_inb : ∀ (i : grid0.Coords) (v1985 : BitVec 32) (v1988 : BitVec 32) (v2090 : BitVec 32) (k0_hw589 : k0_chk589 i v1985 v1988 v2090), ∀ a, (k0_off1180 i v1985 v1988 v2090) a + S1x128.size a ≤ S8224x128.size a := fun i v1985 v1988 v2090 k0_hw589 => k0_hw589

def k0_off1181 (v1985 : BitVec 32) : Fin 1 → Nat :=
  let c7_i32_771 : BitVec 32 := 7#32
  let v2101 : BitVec 32 := Scalar.addi v1985 c7_i32_771
  let v2104 : Index := Scalar.indexCast v2101
  ![v2104.toNat]
def k0_off1182 (i : grid0.Coords) (v1985 : BitVec 32) (v1988 : BitVec 32) (v2105 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_772 : BitVec 32 := 7#32
  let v2102 : BitVec 32 := Scalar.addi v1985 c7_i32_772
  let v2103 : BitVec 1 := Scalar.cmpi .slt v2102 v1988
  let c65535_i32_773 : BitVec 32 := 65535#32
  let v2106 : BitVec 32 := Scalar.andi v2105 c65535_i32_773
  let c2048_i32_774 : BitVec 32 := 2048#32
  let v2107 : BitVec 32 := Scalar.select v2103 v2106 c2048_i32_774
  let v2108 : BitVec 32 := Scalar.addi v1470 v2107
  let v2111 : Index := Scalar.indexCast v2108
  let c0_776 : Index := 0#32
  ![v2111.toNat, 0]

def k0_chk590 (i : grid0.Coords) (v1985 : BitVec 32) (v1988 : BitVec 32) (v2105 : BitVec 32) : Prop :=
  (∀ a, (k0_off1182 i v1985 v1988 v2105) a + S1x128.size a ≤ S8224x128.size a)
theorem k0_off1182_inb : ∀ (i : grid0.Coords) (v1985 : BitVec 32) (v1988 : BitVec 32) (v2105 : BitVec 32) (k0_hw590 : k0_chk590 i v1985 v1988 v2105), ∀ a, (k0_off1182 i v1985 v1988 v2105) a + S1x128.size a ≤ S8224x128.size a := fun i v1985 v1988 v2105 k0_hw590 => k0_hw590

def k0_off1183 (v1985 : BitVec 32) : Fin 1 → Nat :=
  let c8_i32_777 : BitVec 32 := 8#32
  let v2116 : BitVec 32 := Scalar.addi v1985 c8_i32_777
  let v2119 : Index := Scalar.indexCast v2116
  ![v2119.toNat]
def k0_off1184 (i : grid0.Coords) (v1985 : BitVec 32) (v1988 : BitVec 32) (v2120 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_778 : BitVec 32 := 8#32
  let v2117 : BitVec 32 := Scalar.addi v1985 c8_i32_778
  let v2118 : BitVec 1 := Scalar.cmpi .slt v2117 v1988
  let c65535_i32_779 : BitVec 32 := 65535#32
  let v2121 : BitVec 32 := Scalar.andi v2120 c65535_i32_779
  let c2048_i32_780 : BitVec 32 := 2048#32
  let v2122 : BitVec 32 := Scalar.select v2118 v2121 c2048_i32_780
  let v2123 : BitVec 32 := Scalar.addi v1470 v2122
  let v2126 : Index := Scalar.indexCast v2123
  let c0_782 : Index := 0#32
  ![v2126.toNat, 0]

def k0_chk591 (i : grid0.Coords) (v1985 : BitVec 32) (v1988 : BitVec 32) (v2120 : BitVec 32) : Prop :=
  (∀ a, (k0_off1184 i v1985 v1988 v2120) a + S1x128.size a ≤ S8224x128.size a)
theorem k0_off1184_inb : ∀ (i : grid0.Coords) (v1985 : BitVec 32) (v1988 : BitVec 32) (v2120 : BitVec 32) (k0_hw591 : k0_chk591 i v1985 v1988 v2120), ∀ a, (k0_off1184 i v1985 v1988 v2120) a + S1x128.size a ≤ S8224x128.size a := fun i v1985 v1988 v2120 k0_hw591 => k0_hw591

def k0_off1185 (v1985 : BitVec 32) : Fin 1 → Nat :=
  let c9_i32_783 : BitVec 32 := 9#32
  let v2131 : BitVec 32 := Scalar.addi v1985 c9_i32_783
  let v2134 : Index := Scalar.indexCast v2131
  ![v2134.toNat]
def k0_off1186 (i : grid0.Coords) (v1985 : BitVec 32) (v1988 : BitVec 32) (v2135 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_784 : BitVec 32 := 9#32
  let v2132 : BitVec 32 := Scalar.addi v1985 c9_i32_784
  let v2133 : BitVec 1 := Scalar.cmpi .slt v2132 v1988
  let c65535_i32_785 : BitVec 32 := 65535#32
  let v2136 : BitVec 32 := Scalar.andi v2135 c65535_i32_785
  let c2048_i32_786 : BitVec 32 := 2048#32
  let v2137 : BitVec 32 := Scalar.select v2133 v2136 c2048_i32_786
  let v2138 : BitVec 32 := Scalar.addi v1470 v2137
  let v2141 : Index := Scalar.indexCast v2138
  let c0_788 : Index := 0#32
  ![v2141.toNat, 0]

def k0_chk592 (i : grid0.Coords) (v1985 : BitVec 32) (v1988 : BitVec 32) (v2135 : BitVec 32) : Prop :=
  (∀ a, (k0_off1186 i v1985 v1988 v2135) a + S1x128.size a ≤ S8224x128.size a)
theorem k0_off1186_inb : ∀ (i : grid0.Coords) (v1985 : BitVec 32) (v1988 : BitVec 32) (v2135 : BitVec 32) (k0_hw592 : k0_chk592 i v1985 v1988 v2135), ∀ a, (k0_off1186 i v1985 v1988 v2135) a + S1x128.size a ≤ S8224x128.size a := fun i v1985 v1988 v2135 k0_hw592 => k0_hw592

def k0_off1187 (v1985 : BitVec 32) : Fin 1 → Nat :=
  let c10_i32_789 : BitVec 32 := 10#32
  let v2146 : BitVec 32 := Scalar.addi v1985 c10_i32_789
  let v2149 : Index := Scalar.indexCast v2146
  ![v2149.toNat]
def k0_off1188 (i : grid0.Coords) (v1985 : BitVec 32) (v1988 : BitVec 32) (v2150 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_790 : BitVec 32 := 10#32
  let v2147 : BitVec 32 := Scalar.addi v1985 c10_i32_790
  let v2148 : BitVec 1 := Scalar.cmpi .slt v2147 v1988
  let c65535_i32_791 : BitVec 32 := 65535#32
  let v2151 : BitVec 32 := Scalar.andi v2150 c65535_i32_791
  let c2048_i32_792 : BitVec 32 := 2048#32
  let v2152 : BitVec 32 := Scalar.select v2148 v2151 c2048_i32_792
  let v2153 : BitVec 32 := Scalar.addi v1470 v2152
  let v2156 : Index := Scalar.indexCast v2153
  let c0_794 : Index := 0#32
  ![v2156.toNat, 0]

def k0_chk593 (i : grid0.Coords) (v1985 : BitVec 32) (v1988 : BitVec 32) (v2150 : BitVec 32) : Prop :=
  (∀ a, (k0_off1188 i v1985 v1988 v2150) a + S1x128.size a ≤ S8224x128.size a)
theorem k0_off1188_inb : ∀ (i : grid0.Coords) (v1985 : BitVec 32) (v1988 : BitVec 32) (v2150 : BitVec 32) (k0_hw593 : k0_chk593 i v1985 v1988 v2150), ∀ a, (k0_off1188 i v1985 v1988 v2150) a + S1x128.size a ≤ S8224x128.size a := fun i v1985 v1988 v2150 k0_hw593 => k0_hw593

def k0_off1189 (v1985 : BitVec 32) : Fin 1 → Nat :=
  let c11_i32_795 : BitVec 32 := 11#32
  let v2161 : BitVec 32 := Scalar.addi v1985 c11_i32_795
  let v2164 : Index := Scalar.indexCast v2161
  ![v2164.toNat]
def k0_off1190 (i : grid0.Coords) (v1985 : BitVec 32) (v1988 : BitVec 32) (v2165 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_796 : BitVec 32 := 11#32
  let v2162 : BitVec 32 := Scalar.addi v1985 c11_i32_796
  let v2163 : BitVec 1 := Scalar.cmpi .slt v2162 v1988
  let c65535_i32_797 : BitVec 32 := 65535#32
  let v2166 : BitVec 32 := Scalar.andi v2165 c65535_i32_797
  let c2048_i32_798 : BitVec 32 := 2048#32
  let v2167 : BitVec 32 := Scalar.select v2163 v2166 c2048_i32_798
  let v2168 : BitVec 32 := Scalar.addi v1470 v2167
  let v2171 : Index := Scalar.indexCast v2168
  let c0_800 : Index := 0#32
  ![v2171.toNat, 0]

def k0_chk594 (i : grid0.Coords) (v1985 : BitVec 32) (v1988 : BitVec 32) (v2165 : BitVec 32) : Prop :=
  (∀ a, (k0_off1190 i v1985 v1988 v2165) a + S1x128.size a ≤ S8224x128.size a)
theorem k0_off1190_inb : ∀ (i : grid0.Coords) (v1985 : BitVec 32) (v1988 : BitVec 32) (v2165 : BitVec 32) (k0_hw594 : k0_chk594 i v1985 v1988 v2165), ∀ a, (k0_off1190 i v1985 v1988 v2165) a + S1x128.size a ≤ S8224x128.size a := fun i v1985 v1988 v2165 k0_hw594 => k0_hw594

def k0_off1191 (v1985 : BitVec 32) : Fin 1 → Nat :=
  let c12_i32_801 : BitVec 32 := 12#32
  let v2176 : BitVec 32 := Scalar.addi v1985 c12_i32_801
  let v2179 : Index := Scalar.indexCast v2176
  ![v2179.toNat]
def k0_off1192 (i : grid0.Coords) (v1985 : BitVec 32) (v1988 : BitVec 32) (v2180 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_802 : BitVec 32 := 12#32
  let v2177 : BitVec 32 := Scalar.addi v1985 c12_i32_802
  let v2178 : BitVec 1 := Scalar.cmpi .slt v2177 v1988
  let c65535_i32_803 : BitVec 32 := 65535#32
  let v2181 : BitVec 32 := Scalar.andi v2180 c65535_i32_803
  let c2048_i32_804 : BitVec 32 := 2048#32
  let v2182 : BitVec 32 := Scalar.select v2178 v2181 c2048_i32_804
  let v2183 : BitVec 32 := Scalar.addi v1470 v2182
  let v2186 : Index := Scalar.indexCast v2183
  let c0_806 : Index := 0#32
  ![v2186.toNat, 0]

def k0_chk595 (i : grid0.Coords) (v1985 : BitVec 32) (v1988 : BitVec 32) (v2180 : BitVec 32) : Prop :=
  (∀ a, (k0_off1192 i v1985 v1988 v2180) a + S1x128.size a ≤ S8224x128.size a)
theorem k0_off1192_inb : ∀ (i : grid0.Coords) (v1985 : BitVec 32) (v1988 : BitVec 32) (v2180 : BitVec 32) (k0_hw595 : k0_chk595 i v1985 v1988 v2180), ∀ a, (k0_off1192 i v1985 v1988 v2180) a + S1x128.size a ≤ S8224x128.size a := fun i v1985 v1988 v2180 k0_hw595 => k0_hw595

def k0_off1193 (v1985 : BitVec 32) : Fin 1 → Nat :=
  let c13_i32_807 : BitVec 32 := 13#32
  let v2191 : BitVec 32 := Scalar.addi v1985 c13_i32_807
  let v2194 : Index := Scalar.indexCast v2191
  ![v2194.toNat]
def k0_off1194 (i : grid0.Coords) (v1985 : BitVec 32) (v1988 : BitVec 32) (v2195 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_808 : BitVec 32 := 13#32
  let v2192 : BitVec 32 := Scalar.addi v1985 c13_i32_808
  let v2193 : BitVec 1 := Scalar.cmpi .slt v2192 v1988
  let c65535_i32_809 : BitVec 32 := 65535#32
  let v2196 : BitVec 32 := Scalar.andi v2195 c65535_i32_809
  let c2048_i32_810 : BitVec 32 := 2048#32
  let v2197 : BitVec 32 := Scalar.select v2193 v2196 c2048_i32_810
  let v2198 : BitVec 32 := Scalar.addi v1470 v2197
  let v2201 : Index := Scalar.indexCast v2198
  let c0_812 : Index := 0#32
  ![v2201.toNat, 0]

def k0_chk596 (i : grid0.Coords) (v1985 : BitVec 32) (v1988 : BitVec 32) (v2195 : BitVec 32) : Prop :=
  (∀ a, (k0_off1194 i v1985 v1988 v2195) a + S1x128.size a ≤ S8224x128.size a)
theorem k0_off1194_inb : ∀ (i : grid0.Coords) (v1985 : BitVec 32) (v1988 : BitVec 32) (v2195 : BitVec 32) (k0_hw596 : k0_chk596 i v1985 v1988 v2195), ∀ a, (k0_off1194 i v1985 v1988 v2195) a + S1x128.size a ≤ S8224x128.size a := fun i v1985 v1988 v2195 k0_hw596 => k0_hw596

def k0_off1195 (v1985 : BitVec 32) : Fin 1 → Nat :=
  let c14_i32_813 : BitVec 32 := 14#32
  let v2206 : BitVec 32 := Scalar.addi v1985 c14_i32_813
  let v2209 : Index := Scalar.indexCast v2206
  ![v2209.toNat]
def k0_off1196 (i : grid0.Coords) (v1985 : BitVec 32) (v1988 : BitVec 32) (v2210 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_814 : BitVec 32 := 14#32
  let v2207 : BitVec 32 := Scalar.addi v1985 c14_i32_814
  let v2208 : BitVec 1 := Scalar.cmpi .slt v2207 v1988
  let c65535_i32_815 : BitVec 32 := 65535#32
  let v2211 : BitVec 32 := Scalar.andi v2210 c65535_i32_815
  let c2048_i32_816 : BitVec 32 := 2048#32
  let v2212 : BitVec 32 := Scalar.select v2208 v2211 c2048_i32_816
  let v2213 : BitVec 32 := Scalar.addi v1470 v2212
  let v2216 : Index := Scalar.indexCast v2213
  let c0_818 : Index := 0#32
  ![v2216.toNat, 0]

def k0_chk597 (i : grid0.Coords) (v1985 : BitVec 32) (v1988 : BitVec 32) (v2210 : BitVec 32) : Prop :=
  (∀ a, (k0_off1196 i v1985 v1988 v2210) a + S1x128.size a ≤ S8224x128.size a)
theorem k0_off1196_inb : ∀ (i : grid0.Coords) (v1985 : BitVec 32) (v1988 : BitVec 32) (v2210 : BitVec 32) (k0_hw597 : k0_chk597 i v1985 v1988 v2210), ∀ a, (k0_off1196 i v1985 v1988 v2210) a + S1x128.size a ≤ S8224x128.size a := fun i v1985 v1988 v2210 k0_hw597 => k0_hw597

def k0_off1197 (v1985 : BitVec 32) : Fin 1 → Nat :=
  let c15_i32_819 : BitVec 32 := 15#32
  let v2221 : BitVec 32 := Scalar.addi v1985 c15_i32_819
  let v2224 : Index := Scalar.indexCast v2221
  ![v2224.toNat]

def k0_chk582 (v1985 : BitVec 32) : Prop :=
  (∀ a, (k0_off1167 v1985) a + S1.size a ≤ S51920.size a) ∧
  (∀ a, (k0_off1169 v1985) a + S1.size a ≤ S51920.size a) ∧
  (∀ a, (k0_off1171 v1985) a + S1.size a ≤ S51920.size a) ∧
  (∀ a, (k0_off1173 v1985) a + S1.size a ≤ S51920.size a) ∧
  (∀ a, (k0_off1175 v1985) a + S1.size a ≤ S51920.size a) ∧
  (∀ a, (k0_off1177 v1985) a + S1.size a ≤ S51920.size a) ∧
  (∀ a, (k0_off1179 v1985) a + S1.size a ≤ S51920.size a) ∧
  (∀ a, (k0_off1181 v1985) a + S1.size a ≤ S51920.size a) ∧
  (∀ a, (k0_off1183 v1985) a + S1.size a ≤ S51920.size a) ∧
  (∀ a, (k0_off1185 v1985) a + S1.size a ≤ S51920.size a) ∧
  (∀ a, (k0_off1187 v1985) a + S1.size a ≤ S51920.size a) ∧
  (∀ a, (k0_off1189 v1985) a + S1.size a ≤ S51920.size a) ∧
  (∀ a, (k0_off1191 v1985) a + S1.size a ≤ S51920.size a) ∧
  (∀ a, (k0_off1193 v1985) a + S1.size a ≤ S51920.size a) ∧
  (∀ a, (k0_off1195 v1985) a + S1.size a ≤ S51920.size a) ∧
  (∀ a, (k0_off1197 v1985) a + S1.size a ≤ S51920.size a)
theorem k0_off1167_inb : ∀ (v1985 : BitVec 32) (k0_hw582 : k0_chk582 v1985), ∀ a, (k0_off1167 v1985) a + S1.size a ≤ S51920.size a := fun v1985 k0_hw582 => k0_hw582.1
theorem k0_off1169_inb : ∀ (v1985 : BitVec 32) (k0_hw582 : k0_chk582 v1985), ∀ a, (k0_off1169 v1985) a + S1.size a ≤ S51920.size a := fun v1985 k0_hw582 => k0_hw582.2.1
theorem k0_off1171_inb : ∀ (v1985 : BitVec 32) (k0_hw582 : k0_chk582 v1985), ∀ a, (k0_off1171 v1985) a + S1.size a ≤ S51920.size a := fun v1985 k0_hw582 => k0_hw582.2.2.1
theorem k0_off1173_inb : ∀ (v1985 : BitVec 32) (k0_hw582 : k0_chk582 v1985), ∀ a, (k0_off1173 v1985) a + S1.size a ≤ S51920.size a := fun v1985 k0_hw582 => k0_hw582.2.2.2.1
theorem k0_off1175_inb : ∀ (v1985 : BitVec 32) (k0_hw582 : k0_chk582 v1985), ∀ a, (k0_off1175 v1985) a + S1.size a ≤ S51920.size a := fun v1985 k0_hw582 => k0_hw582.2.2.2.2.1
theorem k0_off1177_inb : ∀ (v1985 : BitVec 32) (k0_hw582 : k0_chk582 v1985), ∀ a, (k0_off1177 v1985) a + S1.size a ≤ S51920.size a := fun v1985 k0_hw582 => k0_hw582.2.2.2.2.2.1
theorem k0_off1179_inb : ∀ (v1985 : BitVec 32) (k0_hw582 : k0_chk582 v1985), ∀ a, (k0_off1179 v1985) a + S1.size a ≤ S51920.size a := fun v1985 k0_hw582 => k0_hw582.2.2.2.2.2.2.1
theorem k0_off1181_inb : ∀ (v1985 : BitVec 32) (k0_hw582 : k0_chk582 v1985), ∀ a, (k0_off1181 v1985) a + S1.size a ≤ S51920.size a := fun v1985 k0_hw582 => k0_hw582.2.2.2.2.2.2.2.1
theorem k0_off1183_inb : ∀ (v1985 : BitVec 32) (k0_hw582 : k0_chk582 v1985), ∀ a, (k0_off1183 v1985) a + S1.size a ≤ S51920.size a := fun v1985 k0_hw582 => k0_hw582.2.2.2.2.2.2.2.2.1
theorem k0_off1185_inb : ∀ (v1985 : BitVec 32) (k0_hw582 : k0_chk582 v1985), ∀ a, (k0_off1185 v1985) a + S1.size a ≤ S51920.size a := fun v1985 k0_hw582 => k0_hw582.2.2.2.2.2.2.2.2.2.1
theorem k0_off1187_inb : ∀ (v1985 : BitVec 32) (k0_hw582 : k0_chk582 v1985), ∀ a, (k0_off1187 v1985) a + S1.size a ≤ S51920.size a := fun v1985 k0_hw582 => k0_hw582.2.2.2.2.2.2.2.2.2.2.1
theorem k0_off1189_inb : ∀ (v1985 : BitVec 32) (k0_hw582 : k0_chk582 v1985), ∀ a, (k0_off1189 v1985) a + S1.size a ≤ S51920.size a := fun v1985 k0_hw582 => k0_hw582.2.2.2.2.2.2.2.2.2.2.2.1
theorem k0_off1191_inb : ∀ (v1985 : BitVec 32) (k0_hw582 : k0_chk582 v1985), ∀ a, (k0_off1191 v1985) a + S1.size a ≤ S51920.size a := fun v1985 k0_hw582 => k0_hw582.2.2.2.2.2.2.2.2.2.2.2.2.1
theorem k0_off1193_inb : ∀ (v1985 : BitVec 32) (k0_hw582 : k0_chk582 v1985), ∀ a, (k0_off1193 v1985) a + S1.size a ≤ S51920.size a := fun v1985 k0_hw582 => k0_hw582.2.2.2.2.2.2.2.2.2.2.2.2.2.1
theorem k0_off1195_inb : ∀ (v1985 : BitVec 32) (k0_hw582 : k0_chk582 v1985), ∀ a, (k0_off1195 v1985) a + S1.size a ≤ S51920.size a := fun v1985 k0_hw582 => k0_hw582.2.2.2.2.2.2.2.2.2.2.2.2.2.2.1
theorem k0_off1197_inb : ∀ (v1985 : BitVec 32) (k0_hw582 : k0_chk582 v1985), ∀ a, (k0_off1197 v1985) a + S1.size a ≤ S51920.size a := fun v1985 k0_hw582 => k0_hw582.2.2.2.2.2.2.2.2.2.2.2.2.2.2.2

def k0_off1198 (i : grid0.Coords) (v1985 : BitVec 32) (v1988 : BitVec 32) (v2225 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_820 : BitVec 32 := 15#32
  let v2222 : BitVec 32 := Scalar.addi v1985 c15_i32_820
  let v2223 : BitVec 1 := Scalar.cmpi .slt v2222 v1988
  let c65535_i32_821 : BitVec 32 := 65535#32
  let v2226 : BitVec 32 := Scalar.andi v2225 c65535_i32_821
  let c2048_i32_822 : BitVec 32 := 2048#32
  let v2227 : BitVec 32 := Scalar.select v2223 v2226 c2048_i32_822
  let v2228 : BitVec 32 := Scalar.addi v1470 v2227
  let v2231 : Index := Scalar.indexCast v2228
  let c0_824 : Index := 0#32
  ![v2231.toNat, 0]

def k0_chk598 (i : grid0.Coords) (v1985 : BitVec 32) (v1988 : BitVec 32) (v2225 : BitVec 32) : Prop :=
  (∀ a, (k0_off1198 i v1985 v1988 v2225) a + S1x128.size a ≤ S8224x128.size a)
theorem k0_off1198_inb : ∀ (i : grid0.Coords) (v1985 : BitVec 32) (v1988 : BitVec 32) (v2225 : BitVec 32) (k0_hw598 : k0_chk598 i v1985 v1988 v2225), ∀ a, (k0_off1198 i v1985 v1988 v2225) a + S1x128.size a ≤ S8224x128.size a := fun i v1985 v1988 v2225 k0_hw598 => k0_hw598

def k0_off1199 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_825 : BitVec 32 := 512#32
  let v2236 : BitVec 32 := Scalar.muli v24 c512_i32_825
  let arg1 : BitVec 32 := BitVec.ofNat 32 (i 1).val
  let c32_i32 : BitVec 32 := 32#32
  let v1452 : BitVec 32 := Scalar.muli arg1 c32_i32
  let v2237 : BitVec 32 := Scalar.addi v2236 v1452
  let c3_i32_826 : BitVec 32 := 3#32
  let v2238 : BitVec 32 := Scalar.addi v2237 c3_i32_826
  let v2239 : Index := Scalar.indexCast v2238
  ![v2239.toNat]
def k0_off1200 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_825 : BitVec 32 := 512#32
  let v2236 : BitVec 32 := Scalar.muli v24 c512_i32_825
  let arg1 : BitVec 32 := BitVec.ofNat 32 (i 1).val
  let c32_i32 : BitVec 32 := 32#32
  let v1452 : BitVec 32 := Scalar.muli arg1 c32_i32
  let v2237 : BitVec 32 := Scalar.addi v2236 v1452
  let c3_i32_826 : BitVec 32 := 3#32
  let v2238 : BitVec 32 := Scalar.addi v2237 c3_i32_826
  let c1_i32_827 : BitVec 32 := 1#32
  let v2241 : BitVec 32 := Scalar.addi v2238 c1_i32_827
  let v2242 : Index := Scalar.indexCast v2241
  ![v2242.toNat]
def k0_off1201 (v2240 : BitVec 32) : Fin 1 → Nat :=
  let c0_i32_830 : BitVec 32 := 0#32
  let v2251 : BitVec 32 := Scalar.addi v2240 c0_i32_830
  let v2254 : Index := Scalar.indexCast v2251
  ![v2254.toNat]

def k0_off1202 (i : grid0.Coords) (v2240 : BitVec 32) (v2243 : BitVec 32) (v2255 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_831 : BitVec 32 := 0#32
  let v2252 : BitVec 32 := Scalar.addi v2240 c0_i32_831
  let v2253 : BitVec 1 := Scalar.cmpi .slt v2252 v2243
  let c65535_i32_832 : BitVec 32 := 65535#32
  let v2256 : BitVec 32 := Scalar.andi v2255 c65535_i32_832
  let c2048_i32_833 : BitVec 32 := 2048#32
  let v2257 : BitVec 32 := Scalar.select v2253 v2256 c2048_i32_833
  let v2258 : BitVec 32 := Scalar.addi v1470 v2257
  let v2261 : Index := Scalar.indexCast v2258
  let c0_835 : Index := 0#32
  ![v2261.toNat, 0]

def k0_chk600 (i : grid0.Coords) (v2240 : BitVec 32) (v2243 : BitVec 32) (v2255 : BitVec 32) : Prop :=
  (∀ a, (k0_off1202 i v2240 v2243 v2255) a + S1x128.size a ≤ S8224x128.size a)
theorem k0_off1202_inb : ∀ (i : grid0.Coords) (v2240 : BitVec 32) (v2243 : BitVec 32) (v2255 : BitVec 32) (k0_hw600 : k0_chk600 i v2240 v2243 v2255), ∀ a, (k0_off1202 i v2240 v2243 v2255) a + S1x128.size a ≤ S8224x128.size a := fun i v2240 v2243 v2255 k0_hw600 => k0_hw600

def k0_off1203 (v2240 : BitVec 32) : Fin 1 → Nat :=
  let c1_i32_836 : BitVec 32 := 1#32
  let v2266 : BitVec 32 := Scalar.addi v2240 c1_i32_836
  let v2269 : Index := Scalar.indexCast v2266
  ![v2269.toNat]
def k0_off1204 (i : grid0.Coords) (v2240 : BitVec 32) (v2243 : BitVec 32) (v2270 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_837 : BitVec 32 := 1#32
  let v2267 : BitVec 32 := Scalar.addi v2240 c1_i32_837
  let v2268 : BitVec 1 := Scalar.cmpi .slt v2267 v2243
  let c65535_i32_838 : BitVec 32 := 65535#32
  let v2271 : BitVec 32 := Scalar.andi v2270 c65535_i32_838
  let c2048_i32_839 : BitVec 32 := 2048#32
  let v2272 : BitVec 32 := Scalar.select v2268 v2271 c2048_i32_839
  let v2273 : BitVec 32 := Scalar.addi v1470 v2272
  let v2276 : Index := Scalar.indexCast v2273
  let c0_841 : Index := 0#32
  ![v2276.toNat, 0]

def k0_chk601 (i : grid0.Coords) (v2240 : BitVec 32) (v2243 : BitVec 32) (v2270 : BitVec 32) : Prop :=
  (∀ a, (k0_off1204 i v2240 v2243 v2270) a + S1x128.size a ≤ S8224x128.size a)
theorem k0_off1204_inb : ∀ (i : grid0.Coords) (v2240 : BitVec 32) (v2243 : BitVec 32) (v2270 : BitVec 32) (k0_hw601 : k0_chk601 i v2240 v2243 v2270), ∀ a, (k0_off1204 i v2240 v2243 v2270) a + S1x128.size a ≤ S8224x128.size a := fun i v2240 v2243 v2270 k0_hw601 => k0_hw601

def k0_off1205 (v2240 : BitVec 32) : Fin 1 → Nat :=
  let c2_i32_842 : BitVec 32 := 2#32
  let v2281 : BitVec 32 := Scalar.addi v2240 c2_i32_842
  let v2284 : Index := Scalar.indexCast v2281
  ![v2284.toNat]
def k0_off1206 (i : grid0.Coords) (v2240 : BitVec 32) (v2243 : BitVec 32) (v2285 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_843 : BitVec 32 := 2#32
  let v2282 : BitVec 32 := Scalar.addi v2240 c2_i32_843
  let v2283 : BitVec 1 := Scalar.cmpi .slt v2282 v2243
  let c65535_i32_844 : BitVec 32 := 65535#32
  let v2286 : BitVec 32 := Scalar.andi v2285 c65535_i32_844
  let c2048_i32_845 : BitVec 32 := 2048#32
  let v2287 : BitVec 32 := Scalar.select v2283 v2286 c2048_i32_845
  let v2288 : BitVec 32 := Scalar.addi v1470 v2287
  let v2291 : Index := Scalar.indexCast v2288
  let c0_847 : Index := 0#32
  ![v2291.toNat, 0]

def k0_chk602 (i : grid0.Coords) (v2240 : BitVec 32) (v2243 : BitVec 32) (v2285 : BitVec 32) : Prop :=
  (∀ a, (k0_off1206 i v2240 v2243 v2285) a + S1x128.size a ≤ S8224x128.size a)
theorem k0_off1206_inb : ∀ (i : grid0.Coords) (v2240 : BitVec 32) (v2243 : BitVec 32) (v2285 : BitVec 32) (k0_hw602 : k0_chk602 i v2240 v2243 v2285), ∀ a, (k0_off1206 i v2240 v2243 v2285) a + S1x128.size a ≤ S8224x128.size a := fun i v2240 v2243 v2285 k0_hw602 => k0_hw602

def k0_off1207 (v2240 : BitVec 32) : Fin 1 → Nat :=
  let c3_i32_848 : BitVec 32 := 3#32
  let v2296 : BitVec 32 := Scalar.addi v2240 c3_i32_848
  let v2299 : Index := Scalar.indexCast v2296
  ![v2299.toNat]
def k0_off1208 (i : grid0.Coords) (v2240 : BitVec 32) (v2243 : BitVec 32) (v2300 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_849 : BitVec 32 := 3#32
  let v2297 : BitVec 32 := Scalar.addi v2240 c3_i32_849
  let v2298 : BitVec 1 := Scalar.cmpi .slt v2297 v2243
  let c65535_i32_850 : BitVec 32 := 65535#32
  let v2301 : BitVec 32 := Scalar.andi v2300 c65535_i32_850
  let c2048_i32_851 : BitVec 32 := 2048#32
  let v2302 : BitVec 32 := Scalar.select v2298 v2301 c2048_i32_851
  let v2303 : BitVec 32 := Scalar.addi v1470 v2302
  let v2306 : Index := Scalar.indexCast v2303
  let c0_853 : Index := 0#32
  ![v2306.toNat, 0]

def k0_chk603 (i : grid0.Coords) (v2240 : BitVec 32) (v2243 : BitVec 32) (v2300 : BitVec 32) : Prop :=
  (∀ a, (k0_off1208 i v2240 v2243 v2300) a + S1x128.size a ≤ S8224x128.size a)
theorem k0_off1208_inb : ∀ (i : grid0.Coords) (v2240 : BitVec 32) (v2243 : BitVec 32) (v2300 : BitVec 32) (k0_hw603 : k0_chk603 i v2240 v2243 v2300), ∀ a, (k0_off1208 i v2240 v2243 v2300) a + S1x128.size a ≤ S8224x128.size a := fun i v2240 v2243 v2300 k0_hw603 => k0_hw603

def k0_off1209 (v2240 : BitVec 32) : Fin 1 → Nat :=
  let c4_i32_854 : BitVec 32 := 4#32
  let v2311 : BitVec 32 := Scalar.addi v2240 c4_i32_854
  let v2314 : Index := Scalar.indexCast v2311
  ![v2314.toNat]
def k0_off1210 (i : grid0.Coords) (v2240 : BitVec 32) (v2243 : BitVec 32) (v2315 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_855 : BitVec 32 := 4#32
  let v2312 : BitVec 32 := Scalar.addi v2240 c4_i32_855
  let v2313 : BitVec 1 := Scalar.cmpi .slt v2312 v2243
  let c65535_i32_856 : BitVec 32 := 65535#32
  let v2316 : BitVec 32 := Scalar.andi v2315 c65535_i32_856
  let c2048_i32_857 : BitVec 32 := 2048#32
  let v2317 : BitVec 32 := Scalar.select v2313 v2316 c2048_i32_857
  let v2318 : BitVec 32 := Scalar.addi v1470 v2317
  let v2321 : Index := Scalar.indexCast v2318
  let c0_859 : Index := 0#32
  ![v2321.toNat, 0]

def k0_chk604 (i : grid0.Coords) (v2240 : BitVec 32) (v2243 : BitVec 32) (v2315 : BitVec 32) : Prop :=
  (∀ a, (k0_off1210 i v2240 v2243 v2315) a + S1x128.size a ≤ S8224x128.size a)
theorem k0_off1210_inb : ∀ (i : grid0.Coords) (v2240 : BitVec 32) (v2243 : BitVec 32) (v2315 : BitVec 32) (k0_hw604 : k0_chk604 i v2240 v2243 v2315), ∀ a, (k0_off1210 i v2240 v2243 v2315) a + S1x128.size a ≤ S8224x128.size a := fun i v2240 v2243 v2315 k0_hw604 => k0_hw604

def k0_off1211 (v2240 : BitVec 32) : Fin 1 → Nat :=
  let c5_i32_860 : BitVec 32 := 5#32
  let v2326 : BitVec 32 := Scalar.addi v2240 c5_i32_860
  let v2329 : Index := Scalar.indexCast v2326
  ![v2329.toNat]
def k0_off1212 (i : grid0.Coords) (v2240 : BitVec 32) (v2243 : BitVec 32) (v2330 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_861 : BitVec 32 := 5#32
  let v2327 : BitVec 32 := Scalar.addi v2240 c5_i32_861
  let v2328 : BitVec 1 := Scalar.cmpi .slt v2327 v2243
  let c65535_i32_862 : BitVec 32 := 65535#32
  let v2331 : BitVec 32 := Scalar.andi v2330 c65535_i32_862
  let c2048_i32_863 : BitVec 32 := 2048#32
  let v2332 : BitVec 32 := Scalar.select v2328 v2331 c2048_i32_863
  let v2333 : BitVec 32 := Scalar.addi v1470 v2332
  let v2336 : Index := Scalar.indexCast v2333
  let c0_865 : Index := 0#32
  ![v2336.toNat, 0]

def k0_chk605 (i : grid0.Coords) (v2240 : BitVec 32) (v2243 : BitVec 32) (v2330 : BitVec 32) : Prop :=
  (∀ a, (k0_off1212 i v2240 v2243 v2330) a + S1x128.size a ≤ S8224x128.size a)
theorem k0_off1212_inb : ∀ (i : grid0.Coords) (v2240 : BitVec 32) (v2243 : BitVec 32) (v2330 : BitVec 32) (k0_hw605 : k0_chk605 i v2240 v2243 v2330), ∀ a, (k0_off1212 i v2240 v2243 v2330) a + S1x128.size a ≤ S8224x128.size a := fun i v2240 v2243 v2330 k0_hw605 => k0_hw605

def k0_off1213 (v2240 : BitVec 32) : Fin 1 → Nat :=
  let c6_i32_866 : BitVec 32 := 6#32
  let v2341 : BitVec 32 := Scalar.addi v2240 c6_i32_866
  let v2344 : Index := Scalar.indexCast v2341
  ![v2344.toNat]
def k0_off1214 (i : grid0.Coords) (v2240 : BitVec 32) (v2243 : BitVec 32) (v2345 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_867 : BitVec 32 := 6#32
  let v2342 : BitVec 32 := Scalar.addi v2240 c6_i32_867
  let v2343 : BitVec 1 := Scalar.cmpi .slt v2342 v2243
  let c65535_i32_868 : BitVec 32 := 65535#32
  let v2346 : BitVec 32 := Scalar.andi v2345 c65535_i32_868
  let c2048_i32_869 : BitVec 32 := 2048#32
  let v2347 : BitVec 32 := Scalar.select v2343 v2346 c2048_i32_869
  let v2348 : BitVec 32 := Scalar.addi v1470 v2347
  let v2351 : Index := Scalar.indexCast v2348
  let c0_871 : Index := 0#32
  ![v2351.toNat, 0]

def k0_chk606 (i : grid0.Coords) (v2240 : BitVec 32) (v2243 : BitVec 32) (v2345 : BitVec 32) : Prop :=
  (∀ a, (k0_off1214 i v2240 v2243 v2345) a + S1x128.size a ≤ S8224x128.size a)
theorem k0_off1214_inb : ∀ (i : grid0.Coords) (v2240 : BitVec 32) (v2243 : BitVec 32) (v2345 : BitVec 32) (k0_hw606 : k0_chk606 i v2240 v2243 v2345), ∀ a, (k0_off1214 i v2240 v2243 v2345) a + S1x128.size a ≤ S8224x128.size a := fun i v2240 v2243 v2345 k0_hw606 => k0_hw606

def k0_off1215 (v2240 : BitVec 32) : Fin 1 → Nat :=
  let c7_i32_872 : BitVec 32 := 7#32
  let v2356 : BitVec 32 := Scalar.addi v2240 c7_i32_872
  let v2359 : Index := Scalar.indexCast v2356
  ![v2359.toNat]
def k0_off1216 (i : grid0.Coords) (v2240 : BitVec 32) (v2243 : BitVec 32) (v2360 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_873 : BitVec 32 := 7#32
  let v2357 : BitVec 32 := Scalar.addi v2240 c7_i32_873
  let v2358 : BitVec 1 := Scalar.cmpi .slt v2357 v2243
  let c65535_i32_874 : BitVec 32 := 65535#32
  let v2361 : BitVec 32 := Scalar.andi v2360 c65535_i32_874
  let c2048_i32_875 : BitVec 32 := 2048#32
  let v2362 : BitVec 32 := Scalar.select v2358 v2361 c2048_i32_875
  let v2363 : BitVec 32 := Scalar.addi v1470 v2362
  let v2366 : Index := Scalar.indexCast v2363
  let c0_877 : Index := 0#32
  ![v2366.toNat, 0]

def k0_chk607 (i : grid0.Coords) (v2240 : BitVec 32) (v2243 : BitVec 32) (v2360 : BitVec 32) : Prop :=
  (∀ a, (k0_off1216 i v2240 v2243 v2360) a + S1x128.size a ≤ S8224x128.size a)
theorem k0_off1216_inb : ∀ (i : grid0.Coords) (v2240 : BitVec 32) (v2243 : BitVec 32) (v2360 : BitVec 32) (k0_hw607 : k0_chk607 i v2240 v2243 v2360), ∀ a, (k0_off1216 i v2240 v2243 v2360) a + S1x128.size a ≤ S8224x128.size a := fun i v2240 v2243 v2360 k0_hw607 => k0_hw607

def k0_off1217 (v2240 : BitVec 32) : Fin 1 → Nat :=
  let c8_i32_878 : BitVec 32 := 8#32
  let v2371 : BitVec 32 := Scalar.addi v2240 c8_i32_878
  let v2374 : Index := Scalar.indexCast v2371
  ![v2374.toNat]
def k0_off1218 (i : grid0.Coords) (v2240 : BitVec 32) (v2243 : BitVec 32) (v2375 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_879 : BitVec 32 := 8#32
  let v2372 : BitVec 32 := Scalar.addi v2240 c8_i32_879
  let v2373 : BitVec 1 := Scalar.cmpi .slt v2372 v2243
  let c65535_i32_880 : BitVec 32 := 65535#32
  let v2376 : BitVec 32 := Scalar.andi v2375 c65535_i32_880
  let c2048_i32_881 : BitVec 32 := 2048#32
  let v2377 : BitVec 32 := Scalar.select v2373 v2376 c2048_i32_881
  let v2378 : BitVec 32 := Scalar.addi v1470 v2377
  let v2381 : Index := Scalar.indexCast v2378
  let c0_883 : Index := 0#32
  ![v2381.toNat, 0]

def k0_chk608 (i : grid0.Coords) (v2240 : BitVec 32) (v2243 : BitVec 32) (v2375 : BitVec 32) : Prop :=
  (∀ a, (k0_off1218 i v2240 v2243 v2375) a + S1x128.size a ≤ S8224x128.size a)
theorem k0_off1218_inb : ∀ (i : grid0.Coords) (v2240 : BitVec 32) (v2243 : BitVec 32) (v2375 : BitVec 32) (k0_hw608 : k0_chk608 i v2240 v2243 v2375), ∀ a, (k0_off1218 i v2240 v2243 v2375) a + S1x128.size a ≤ S8224x128.size a := fun i v2240 v2243 v2375 k0_hw608 => k0_hw608

def k0_off1219 (v2240 : BitVec 32) : Fin 1 → Nat :=
  let c9_i32_884 : BitVec 32 := 9#32
  let v2386 : BitVec 32 := Scalar.addi v2240 c9_i32_884
  let v2389 : Index := Scalar.indexCast v2386
  ![v2389.toNat]
def k0_off1220 (i : grid0.Coords) (v2240 : BitVec 32) (v2243 : BitVec 32) (v2390 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_885 : BitVec 32 := 9#32
  let v2387 : BitVec 32 := Scalar.addi v2240 c9_i32_885
  let v2388 : BitVec 1 := Scalar.cmpi .slt v2387 v2243
  let c65535_i32_886 : BitVec 32 := 65535#32
  let v2391 : BitVec 32 := Scalar.andi v2390 c65535_i32_886
  let c2048_i32_887 : BitVec 32 := 2048#32
  let v2392 : BitVec 32 := Scalar.select v2388 v2391 c2048_i32_887
  let v2393 : BitVec 32 := Scalar.addi v1470 v2392
  let v2396 : Index := Scalar.indexCast v2393
  let c0_889 : Index := 0#32
  ![v2396.toNat, 0]

def k0_chk609 (i : grid0.Coords) (v2240 : BitVec 32) (v2243 : BitVec 32) (v2390 : BitVec 32) : Prop :=
  (∀ a, (k0_off1220 i v2240 v2243 v2390) a + S1x128.size a ≤ S8224x128.size a)
theorem k0_off1220_inb : ∀ (i : grid0.Coords) (v2240 : BitVec 32) (v2243 : BitVec 32) (v2390 : BitVec 32) (k0_hw609 : k0_chk609 i v2240 v2243 v2390), ∀ a, (k0_off1220 i v2240 v2243 v2390) a + S1x128.size a ≤ S8224x128.size a := fun i v2240 v2243 v2390 k0_hw609 => k0_hw609

def k0_off1221 (v2240 : BitVec 32) : Fin 1 → Nat :=
  let c10_i32_890 : BitVec 32 := 10#32
  let v2401 : BitVec 32 := Scalar.addi v2240 c10_i32_890
  let v2404 : Index := Scalar.indexCast v2401
  ![v2404.toNat]
def k0_off1222 (i : grid0.Coords) (v2240 : BitVec 32) (v2243 : BitVec 32) (v2405 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_891 : BitVec 32 := 10#32
  let v2402 : BitVec 32 := Scalar.addi v2240 c10_i32_891
  let v2403 : BitVec 1 := Scalar.cmpi .slt v2402 v2243
  let c65535_i32_892 : BitVec 32 := 65535#32
  let v2406 : BitVec 32 := Scalar.andi v2405 c65535_i32_892
  let c2048_i32_893 : BitVec 32 := 2048#32
  let v2407 : BitVec 32 := Scalar.select v2403 v2406 c2048_i32_893
  let v2408 : BitVec 32 := Scalar.addi v1470 v2407
  let v2411 : Index := Scalar.indexCast v2408
  let c0_895 : Index := 0#32
  ![v2411.toNat, 0]

def k0_chk610 (i : grid0.Coords) (v2240 : BitVec 32) (v2243 : BitVec 32) (v2405 : BitVec 32) : Prop :=
  (∀ a, (k0_off1222 i v2240 v2243 v2405) a + S1x128.size a ≤ S8224x128.size a)
theorem k0_off1222_inb : ∀ (i : grid0.Coords) (v2240 : BitVec 32) (v2243 : BitVec 32) (v2405 : BitVec 32) (k0_hw610 : k0_chk610 i v2240 v2243 v2405), ∀ a, (k0_off1222 i v2240 v2243 v2405) a + S1x128.size a ≤ S8224x128.size a := fun i v2240 v2243 v2405 k0_hw610 => k0_hw610

def k0_off1223 (v2240 : BitVec 32) : Fin 1 → Nat :=
  let c11_i32_896 : BitVec 32 := 11#32
  let v2416 : BitVec 32 := Scalar.addi v2240 c11_i32_896
  let v2419 : Index := Scalar.indexCast v2416
  ![v2419.toNat]
def k0_off1224 (i : grid0.Coords) (v2240 : BitVec 32) (v2243 : BitVec 32) (v2420 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_897 : BitVec 32 := 11#32
  let v2417 : BitVec 32 := Scalar.addi v2240 c11_i32_897
  let v2418 : BitVec 1 := Scalar.cmpi .slt v2417 v2243
  let c65535_i32_898 : BitVec 32 := 65535#32
  let v2421 : BitVec 32 := Scalar.andi v2420 c65535_i32_898
  let c2048_i32_899 : BitVec 32 := 2048#32
  let v2422 : BitVec 32 := Scalar.select v2418 v2421 c2048_i32_899
  let v2423 : BitVec 32 := Scalar.addi v1470 v2422
  let v2426 : Index := Scalar.indexCast v2423
  let c0_901 : Index := 0#32
  ![v2426.toNat, 0]

def k0_chk611 (i : grid0.Coords) (v2240 : BitVec 32) (v2243 : BitVec 32) (v2420 : BitVec 32) : Prop :=
  (∀ a, (k0_off1224 i v2240 v2243 v2420) a + S1x128.size a ≤ S8224x128.size a)
theorem k0_off1224_inb : ∀ (i : grid0.Coords) (v2240 : BitVec 32) (v2243 : BitVec 32) (v2420 : BitVec 32) (k0_hw611 : k0_chk611 i v2240 v2243 v2420), ∀ a, (k0_off1224 i v2240 v2243 v2420) a + S1x128.size a ≤ S8224x128.size a := fun i v2240 v2243 v2420 k0_hw611 => k0_hw611

def k0_off1225 (v2240 : BitVec 32) : Fin 1 → Nat :=
  let c12_i32_902 : BitVec 32 := 12#32
  let v2431 : BitVec 32 := Scalar.addi v2240 c12_i32_902
  let v2434 : Index := Scalar.indexCast v2431
  ![v2434.toNat]
def k0_off1226 (i : grid0.Coords) (v2240 : BitVec 32) (v2243 : BitVec 32) (v2435 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_903 : BitVec 32 := 12#32
  let v2432 : BitVec 32 := Scalar.addi v2240 c12_i32_903
  let v2433 : BitVec 1 := Scalar.cmpi .slt v2432 v2243
  let c65535_i32_904 : BitVec 32 := 65535#32
  let v2436 : BitVec 32 := Scalar.andi v2435 c65535_i32_904
  let c2048_i32_905 : BitVec 32 := 2048#32
  let v2437 : BitVec 32 := Scalar.select v2433 v2436 c2048_i32_905
  let v2438 : BitVec 32 := Scalar.addi v1470 v2437
  let v2441 : Index := Scalar.indexCast v2438
  let c0_907 : Index := 0#32
  ![v2441.toNat, 0]

def k0_chk612 (i : grid0.Coords) (v2240 : BitVec 32) (v2243 : BitVec 32) (v2435 : BitVec 32) : Prop :=
  (∀ a, (k0_off1226 i v2240 v2243 v2435) a + S1x128.size a ≤ S8224x128.size a)
theorem k0_off1226_inb : ∀ (i : grid0.Coords) (v2240 : BitVec 32) (v2243 : BitVec 32) (v2435 : BitVec 32) (k0_hw612 : k0_chk612 i v2240 v2243 v2435), ∀ a, (k0_off1226 i v2240 v2243 v2435) a + S1x128.size a ≤ S8224x128.size a := fun i v2240 v2243 v2435 k0_hw612 => k0_hw612

def k0_off1227 (v2240 : BitVec 32) : Fin 1 → Nat :=
  let c13_i32_908 : BitVec 32 := 13#32
  let v2446 : BitVec 32 := Scalar.addi v2240 c13_i32_908
  let v2449 : Index := Scalar.indexCast v2446
  ![v2449.toNat]
def k0_off1228 (i : grid0.Coords) (v2240 : BitVec 32) (v2243 : BitVec 32) (v2450 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_909 : BitVec 32 := 13#32
  let v2447 : BitVec 32 := Scalar.addi v2240 c13_i32_909
  let v2448 : BitVec 1 := Scalar.cmpi .slt v2447 v2243
  let c65535_i32_910 : BitVec 32 := 65535#32
  let v2451 : BitVec 32 := Scalar.andi v2450 c65535_i32_910
  let c2048_i32_911 : BitVec 32 := 2048#32
  let v2452 : BitVec 32 := Scalar.select v2448 v2451 c2048_i32_911
  let v2453 : BitVec 32 := Scalar.addi v1470 v2452
  let v2456 : Index := Scalar.indexCast v2453
  let c0_913 : Index := 0#32
  ![v2456.toNat, 0]

def k0_chk613 (i : grid0.Coords) (v2240 : BitVec 32) (v2243 : BitVec 32) (v2450 : BitVec 32) : Prop :=
  (∀ a, (k0_off1228 i v2240 v2243 v2450) a + S1x128.size a ≤ S8224x128.size a)
theorem k0_off1228_inb : ∀ (i : grid0.Coords) (v2240 : BitVec 32) (v2243 : BitVec 32) (v2450 : BitVec 32) (k0_hw613 : k0_chk613 i v2240 v2243 v2450), ∀ a, (k0_off1228 i v2240 v2243 v2450) a + S1x128.size a ≤ S8224x128.size a := fun i v2240 v2243 v2450 k0_hw613 => k0_hw613

def k0_off1229 (v2240 : BitVec 32) : Fin 1 → Nat :=
  let c14_i32_914 : BitVec 32 := 14#32
  let v2461 : BitVec 32 := Scalar.addi v2240 c14_i32_914
  let v2464 : Index := Scalar.indexCast v2461
  ![v2464.toNat]
def k0_off1230 (i : grid0.Coords) (v2240 : BitVec 32) (v2243 : BitVec 32) (v2465 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_915 : BitVec 32 := 14#32
  let v2462 : BitVec 32 := Scalar.addi v2240 c14_i32_915
  let v2463 : BitVec 1 := Scalar.cmpi .slt v2462 v2243
  let c65535_i32_916 : BitVec 32 := 65535#32
  let v2466 : BitVec 32 := Scalar.andi v2465 c65535_i32_916
  let c2048_i32_917 : BitVec 32 := 2048#32
  let v2467 : BitVec 32 := Scalar.select v2463 v2466 c2048_i32_917
  let v2468 : BitVec 32 := Scalar.addi v1470 v2467
  let v2471 : Index := Scalar.indexCast v2468
  let c0_919 : Index := 0#32
  ![v2471.toNat, 0]

def k0_chk614 (i : grid0.Coords) (v2240 : BitVec 32) (v2243 : BitVec 32) (v2465 : BitVec 32) : Prop :=
  (∀ a, (k0_off1230 i v2240 v2243 v2465) a + S1x128.size a ≤ S8224x128.size a)
theorem k0_off1230_inb : ∀ (i : grid0.Coords) (v2240 : BitVec 32) (v2243 : BitVec 32) (v2465 : BitVec 32) (k0_hw614 : k0_chk614 i v2240 v2243 v2465), ∀ a, (k0_off1230 i v2240 v2243 v2465) a + S1x128.size a ≤ S8224x128.size a := fun i v2240 v2243 v2465 k0_hw614 => k0_hw614

def k0_off1231 (v2240 : BitVec 32) : Fin 1 → Nat :=
  let c15_i32_920 : BitVec 32 := 15#32
  let v2476 : BitVec 32 := Scalar.addi v2240 c15_i32_920
  let v2479 : Index := Scalar.indexCast v2476
  ![v2479.toNat]

def k0_chk599 (v2240 : BitVec 32) : Prop :=
  (∀ a, (k0_off1201 v2240) a + S1.size a ≤ S51920.size a) ∧
  (∀ a, (k0_off1203 v2240) a + S1.size a ≤ S51920.size a) ∧
  (∀ a, (k0_off1205 v2240) a + S1.size a ≤ S51920.size a) ∧
  (∀ a, (k0_off1207 v2240) a + S1.size a ≤ S51920.size a) ∧
  (∀ a, (k0_off1209 v2240) a + S1.size a ≤ S51920.size a) ∧
  (∀ a, (k0_off1211 v2240) a + S1.size a ≤ S51920.size a) ∧
  (∀ a, (k0_off1213 v2240) a + S1.size a ≤ S51920.size a) ∧
  (∀ a, (k0_off1215 v2240) a + S1.size a ≤ S51920.size a) ∧
  (∀ a, (k0_off1217 v2240) a + S1.size a ≤ S51920.size a) ∧
  (∀ a, (k0_off1219 v2240) a + S1.size a ≤ S51920.size a) ∧
  (∀ a, (k0_off1221 v2240) a + S1.size a ≤ S51920.size a) ∧
  (∀ a, (k0_off1223 v2240) a + S1.size a ≤ S51920.size a) ∧
  (∀ a, (k0_off1225 v2240) a + S1.size a ≤ S51920.size a) ∧
  (∀ a, (k0_off1227 v2240) a + S1.size a ≤ S51920.size a) ∧
  (∀ a, (k0_off1229 v2240) a + S1.size a ≤ S51920.size a) ∧
  (∀ a, (k0_off1231 v2240) a + S1.size a ≤ S51920.size a)
theorem k0_off1201_inb : ∀ (v2240 : BitVec 32) (k0_hw599 : k0_chk599 v2240), ∀ a, (k0_off1201 v2240) a + S1.size a ≤ S51920.size a := fun v2240 k0_hw599 => k0_hw599.1
theorem k0_off1203_inb : ∀ (v2240 : BitVec 32) (k0_hw599 : k0_chk599 v2240), ∀ a, (k0_off1203 v2240) a + S1.size a ≤ S51920.size a := fun v2240 k0_hw599 => k0_hw599.2.1
theorem k0_off1205_inb : ∀ (v2240 : BitVec 32) (k0_hw599 : k0_chk599 v2240), ∀ a, (k0_off1205 v2240) a + S1.size a ≤ S51920.size a := fun v2240 k0_hw599 => k0_hw599.2.2.1
theorem k0_off1207_inb : ∀ (v2240 : BitVec 32) (k0_hw599 : k0_chk599 v2240), ∀ a, (k0_off1207 v2240) a + S1.size a ≤ S51920.size a := fun v2240 k0_hw599 => k0_hw599.2.2.2.1
theorem k0_off1209_inb : ∀ (v2240 : BitVec 32) (k0_hw599 : k0_chk599 v2240), ∀ a, (k0_off1209 v2240) a + S1.size a ≤ S51920.size a := fun v2240 k0_hw599 => k0_hw599.2.2.2.2.1
theorem k0_off1211_inb : ∀ (v2240 : BitVec 32) (k0_hw599 : k0_chk599 v2240), ∀ a, (k0_off1211 v2240) a + S1.size a ≤ S51920.size a := fun v2240 k0_hw599 => k0_hw599.2.2.2.2.2.1
theorem k0_off1213_inb : ∀ (v2240 : BitVec 32) (k0_hw599 : k0_chk599 v2240), ∀ a, (k0_off1213 v2240) a + S1.size a ≤ S51920.size a := fun v2240 k0_hw599 => k0_hw599.2.2.2.2.2.2.1
theorem k0_off1215_inb : ∀ (v2240 : BitVec 32) (k0_hw599 : k0_chk599 v2240), ∀ a, (k0_off1215 v2240) a + S1.size a ≤ S51920.size a := fun v2240 k0_hw599 => k0_hw599.2.2.2.2.2.2.2.1
theorem k0_off1217_inb : ∀ (v2240 : BitVec 32) (k0_hw599 : k0_chk599 v2240), ∀ a, (k0_off1217 v2240) a + S1.size a ≤ S51920.size a := fun v2240 k0_hw599 => k0_hw599.2.2.2.2.2.2.2.2.1
theorem k0_off1219_inb : ∀ (v2240 : BitVec 32) (k0_hw599 : k0_chk599 v2240), ∀ a, (k0_off1219 v2240) a + S1.size a ≤ S51920.size a := fun v2240 k0_hw599 => k0_hw599.2.2.2.2.2.2.2.2.2.1
theorem k0_off1221_inb : ∀ (v2240 : BitVec 32) (k0_hw599 : k0_chk599 v2240), ∀ a, (k0_off1221 v2240) a + S1.size a ≤ S51920.size a := fun v2240 k0_hw599 => k0_hw599.2.2.2.2.2.2.2.2.2.2.1
theorem k0_off1223_inb : ∀ (v2240 : BitVec 32) (k0_hw599 : k0_chk599 v2240), ∀ a, (k0_off1223 v2240) a + S1.size a ≤ S51920.size a := fun v2240 k0_hw599 => k0_hw599.2.2.2.2.2.2.2.2.2.2.2.1
theorem k0_off1225_inb : ∀ (v2240 : BitVec 32) (k0_hw599 : k0_chk599 v2240), ∀ a, (k0_off1225 v2240) a + S1.size a ≤ S51920.size a := fun v2240 k0_hw599 => k0_hw599.2.2.2.2.2.2.2.2.2.2.2.2.1
theorem k0_off1227_inb : ∀ (v2240 : BitVec 32) (k0_hw599 : k0_chk599 v2240), ∀ a, (k0_off1227 v2240) a + S1.size a ≤ S51920.size a := fun v2240 k0_hw599 => k0_hw599.2.2.2.2.2.2.2.2.2.2.2.2.2.1
theorem k0_off1229_inb : ∀ (v2240 : BitVec 32) (k0_hw599 : k0_chk599 v2240), ∀ a, (k0_off1229 v2240) a + S1.size a ≤ S51920.size a := fun v2240 k0_hw599 => k0_hw599.2.2.2.2.2.2.2.2.2.2.2.2.2.2.1
theorem k0_off1231_inb : ∀ (v2240 : BitVec 32) (k0_hw599 : k0_chk599 v2240), ∀ a, (k0_off1231 v2240) a + S1.size a ≤ S51920.size a := fun v2240 k0_hw599 => k0_hw599.2.2.2.2.2.2.2.2.2.2.2.2.2.2.2

def k0_off1232 (i : grid0.Coords) (v2240 : BitVec 32) (v2243 : BitVec 32) (v2480 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_921 : BitVec 32 := 15#32
  let v2477 : BitVec 32 := Scalar.addi v2240 c15_i32_921
  let v2478 : BitVec 1 := Scalar.cmpi .slt v2477 v2243
  let c65535_i32_922 : BitVec 32 := 65535#32
  let v2481 : BitVec 32 := Scalar.andi v2480 c65535_i32_922
  let c2048_i32_923 : BitVec 32 := 2048#32
  let v2482 : BitVec 32 := Scalar.select v2478 v2481 c2048_i32_923
  let v2483 : BitVec 32 := Scalar.addi v1470 v2482
  let v2486 : Index := Scalar.indexCast v2483
  let c0_925 : Index := 0#32
  ![v2486.toNat, 0]

def k0_chk615 (i : grid0.Coords) (v2240 : BitVec 32) (v2243 : BitVec 32) (v2480 : BitVec 32) : Prop :=
  (∀ a, (k0_off1232 i v2240 v2243 v2480) a + S1x128.size a ≤ S8224x128.size a)
theorem k0_off1232_inb : ∀ (i : grid0.Coords) (v2240 : BitVec 32) (v2243 : BitVec 32) (v2480 : BitVec 32) (k0_hw615 : k0_chk615 i v2240 v2243 v2480), ∀ a, (k0_off1232 i v2240 v2243 v2480) a + S1x128.size a ≤ S8224x128.size a := fun i v2240 v2243 v2480 k0_hw615 => k0_hw615

def k0_off1233 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_926 : BitVec 32 := 512#32
  let v2491 : BitVec 32 := Scalar.muli v24 c512_i32_926
  let arg1 : BitVec 32 := BitVec.ofNat 32 (i 1).val
  let c32_i32 : BitVec 32 := 32#32
  let v1452 : BitVec 32 := Scalar.muli arg1 c32_i32
  let v2492 : BitVec 32 := Scalar.addi v2491 v1452
  let c4_i32_927 : BitVec 32 := 4#32
  let v2493 : BitVec 32 := Scalar.addi v2492 c4_i32_927
  let v2494 : Index := Scalar.indexCast v2493
  ![v2494.toNat]
def k0_off1234 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_926 : BitVec 32 := 512#32
  let v2491 : BitVec 32 := Scalar.muli v24 c512_i32_926
  let arg1 : BitVec 32 := BitVec.ofNat 32 (i 1).val
  let c32_i32 : BitVec 32 := 32#32
  let v1452 : BitVec 32 := Scalar.muli arg1 c32_i32
  let v2492 : BitVec 32 := Scalar.addi v2491 v1452
  let c4_i32_927 : BitVec 32 := 4#32
  let v2493 : BitVec 32 := Scalar.addi v2492 c4_i32_927
  let c1_i32_928 : BitVec 32 := 1#32
  let v2496 : BitVec 32 := Scalar.addi v2493 c1_i32_928
  let v2497 : Index := Scalar.indexCast v2496
  ![v2497.toNat]
def k0_off1235 (v2495 : BitVec 32) : Fin 1 → Nat :=
  let c0_i32_931 : BitVec 32 := 0#32
  let v2506 : BitVec 32 := Scalar.addi v2495 c0_i32_931
  let v2509 : Index := Scalar.indexCast v2506
  ![v2509.toNat]

def k0_off1236 (i : grid0.Coords) (v2495 : BitVec 32) (v2498 : BitVec 32) (v2510 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_932 : BitVec 32 := 0#32
  let v2507 : BitVec 32 := Scalar.addi v2495 c0_i32_932
  let v2508 : BitVec 1 := Scalar.cmpi .slt v2507 v2498
  let c65535_i32_933 : BitVec 32 := 65535#32
  let v2511 : BitVec 32 := Scalar.andi v2510 c65535_i32_933
  let c2048_i32_934 : BitVec 32 := 2048#32
  let v2512 : BitVec 32 := Scalar.select v2508 v2511 c2048_i32_934
  let v2513 : BitVec 32 := Scalar.addi v1470 v2512
  let v2516 : Index := Scalar.indexCast v2513
  let c0_936 : Index := 0#32
  ![v2516.toNat, 0]

def k0_chk617 (i : grid0.Coords) (v2495 : BitVec 32) (v2498 : BitVec 32) (v2510 : BitVec 32) : Prop :=
  (∀ a, (k0_off1236 i v2495 v2498 v2510) a + S1x128.size a ≤ S8224x128.size a)
theorem k0_off1236_inb : ∀ (i : grid0.Coords) (v2495 : BitVec 32) (v2498 : BitVec 32) (v2510 : BitVec 32) (k0_hw617 : k0_chk617 i v2495 v2498 v2510), ∀ a, (k0_off1236 i v2495 v2498 v2510) a + S1x128.size a ≤ S8224x128.size a := fun i v2495 v2498 v2510 k0_hw617 => k0_hw617

def k0_off1237 (v2495 : BitVec 32) : Fin 1 → Nat :=
  let c1_i32_937 : BitVec 32 := 1#32
  let v2521 : BitVec 32 := Scalar.addi v2495 c1_i32_937
  let v2524 : Index := Scalar.indexCast v2521
  ![v2524.toNat]
def k0_off1238 (i : grid0.Coords) (v2495 : BitVec 32) (v2498 : BitVec 32) (v2525 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_938 : BitVec 32 := 1#32
  let v2522 : BitVec 32 := Scalar.addi v2495 c1_i32_938
  let v2523 : BitVec 1 := Scalar.cmpi .slt v2522 v2498
  let c65535_i32_939 : BitVec 32 := 65535#32
  let v2526 : BitVec 32 := Scalar.andi v2525 c65535_i32_939
  let c2048_i32_940 : BitVec 32 := 2048#32
  let v2527 : BitVec 32 := Scalar.select v2523 v2526 c2048_i32_940
  let v2528 : BitVec 32 := Scalar.addi v1470 v2527
  let v2531 : Index := Scalar.indexCast v2528
  let c0_942 : Index := 0#32
  ![v2531.toNat, 0]

def k0_chk618 (i : grid0.Coords) (v2495 : BitVec 32) (v2498 : BitVec 32) (v2525 : BitVec 32) : Prop :=
  (∀ a, (k0_off1238 i v2495 v2498 v2525) a + S1x128.size a ≤ S8224x128.size a)
theorem k0_off1238_inb : ∀ (i : grid0.Coords) (v2495 : BitVec 32) (v2498 : BitVec 32) (v2525 : BitVec 32) (k0_hw618 : k0_chk618 i v2495 v2498 v2525), ∀ a, (k0_off1238 i v2495 v2498 v2525) a + S1x128.size a ≤ S8224x128.size a := fun i v2495 v2498 v2525 k0_hw618 => k0_hw618

def k0_off1239 (v2495 : BitVec 32) : Fin 1 → Nat :=
  let c2_i32_943 : BitVec 32 := 2#32
  let v2536 : BitVec 32 := Scalar.addi v2495 c2_i32_943
  let v2539 : Index := Scalar.indexCast v2536
  ![v2539.toNat]
def k0_off1240 (i : grid0.Coords) (v2495 : BitVec 32) (v2498 : BitVec 32) (v2540 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_944 : BitVec 32 := 2#32
  let v2537 : BitVec 32 := Scalar.addi v2495 c2_i32_944
  let v2538 : BitVec 1 := Scalar.cmpi .slt v2537 v2498
  let c65535_i32_945 : BitVec 32 := 65535#32
  let v2541 : BitVec 32 := Scalar.andi v2540 c65535_i32_945
  let c2048_i32_946 : BitVec 32 := 2048#32
  let v2542 : BitVec 32 := Scalar.select v2538 v2541 c2048_i32_946
  let v2543 : BitVec 32 := Scalar.addi v1470 v2542
  let v2546 : Index := Scalar.indexCast v2543
  let c0_948 : Index := 0#32
  ![v2546.toNat, 0]

def k0_chk619 (i : grid0.Coords) (v2495 : BitVec 32) (v2498 : BitVec 32) (v2540 : BitVec 32) : Prop :=
  (∀ a, (k0_off1240 i v2495 v2498 v2540) a + S1x128.size a ≤ S8224x128.size a)
theorem k0_off1240_inb : ∀ (i : grid0.Coords) (v2495 : BitVec 32) (v2498 : BitVec 32) (v2540 : BitVec 32) (k0_hw619 : k0_chk619 i v2495 v2498 v2540), ∀ a, (k0_off1240 i v2495 v2498 v2540) a + S1x128.size a ≤ S8224x128.size a := fun i v2495 v2498 v2540 k0_hw619 => k0_hw619

def k0_off1241 (v2495 : BitVec 32) : Fin 1 → Nat :=
  let c3_i32_949 : BitVec 32 := 3#32
  let v2551 : BitVec 32 := Scalar.addi v2495 c3_i32_949
  let v2554 : Index := Scalar.indexCast v2551
  ![v2554.toNat]
def k0_off1242 (i : grid0.Coords) (v2495 : BitVec 32) (v2498 : BitVec 32) (v2555 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_950 : BitVec 32 := 3#32
  let v2552 : BitVec 32 := Scalar.addi v2495 c3_i32_950
  let v2553 : BitVec 1 := Scalar.cmpi .slt v2552 v2498
  let c65535_i32_951 : BitVec 32 := 65535#32
  let v2556 : BitVec 32 := Scalar.andi v2555 c65535_i32_951
  let c2048_i32_952 : BitVec 32 := 2048#32
  let v2557 : BitVec 32 := Scalar.select v2553 v2556 c2048_i32_952
  let v2558 : BitVec 32 := Scalar.addi v1470 v2557
  let v2561 : Index := Scalar.indexCast v2558
  let c0_954 : Index := 0#32
  ![v2561.toNat, 0]

def k0_chk620 (i : grid0.Coords) (v2495 : BitVec 32) (v2498 : BitVec 32) (v2555 : BitVec 32) : Prop :=
  (∀ a, (k0_off1242 i v2495 v2498 v2555) a + S1x128.size a ≤ S8224x128.size a)
theorem k0_off1242_inb : ∀ (i : grid0.Coords) (v2495 : BitVec 32) (v2498 : BitVec 32) (v2555 : BitVec 32) (k0_hw620 : k0_chk620 i v2495 v2498 v2555), ∀ a, (k0_off1242 i v2495 v2498 v2555) a + S1x128.size a ≤ S8224x128.size a := fun i v2495 v2498 v2555 k0_hw620 => k0_hw620

def k0_off1243 (v2495 : BitVec 32) : Fin 1 → Nat :=
  let c4_i32_955 : BitVec 32 := 4#32
  let v2566 : BitVec 32 := Scalar.addi v2495 c4_i32_955
  let v2569 : Index := Scalar.indexCast v2566
  ![v2569.toNat]
def k0_off1244 (i : grid0.Coords) (v2495 : BitVec 32) (v2498 : BitVec 32) (v2570 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_956 : BitVec 32 := 4#32
  let v2567 : BitVec 32 := Scalar.addi v2495 c4_i32_956
  let v2568 : BitVec 1 := Scalar.cmpi .slt v2567 v2498
  let c65535_i32_957 : BitVec 32 := 65535#32
  let v2571 : BitVec 32 := Scalar.andi v2570 c65535_i32_957
  let c2048_i32_958 : BitVec 32 := 2048#32
  let v2572 : BitVec 32 := Scalar.select v2568 v2571 c2048_i32_958
  let v2573 : BitVec 32 := Scalar.addi v1470 v2572
  let v2576 : Index := Scalar.indexCast v2573
  let c0_960 : Index := 0#32
  ![v2576.toNat, 0]

def k0_chk621 (i : grid0.Coords) (v2495 : BitVec 32) (v2498 : BitVec 32) (v2570 : BitVec 32) : Prop :=
  (∀ a, (k0_off1244 i v2495 v2498 v2570) a + S1x128.size a ≤ S8224x128.size a)
theorem k0_off1244_inb : ∀ (i : grid0.Coords) (v2495 : BitVec 32) (v2498 : BitVec 32) (v2570 : BitVec 32) (k0_hw621 : k0_chk621 i v2495 v2498 v2570), ∀ a, (k0_off1244 i v2495 v2498 v2570) a + S1x128.size a ≤ S8224x128.size a := fun i v2495 v2498 v2570 k0_hw621 => k0_hw621

def k0_off1245 (v2495 : BitVec 32) : Fin 1 → Nat :=
  let c5_i32_961 : BitVec 32 := 5#32
  let v2581 : BitVec 32 := Scalar.addi v2495 c5_i32_961
  let v2584 : Index := Scalar.indexCast v2581
  ![v2584.toNat]
def k0_off1246 (i : grid0.Coords) (v2495 : BitVec 32) (v2498 : BitVec 32) (v2585 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_962 : BitVec 32 := 5#32
  let v2582 : BitVec 32 := Scalar.addi v2495 c5_i32_962
  let v2583 : BitVec 1 := Scalar.cmpi .slt v2582 v2498
  let c65535_i32_963 : BitVec 32 := 65535#32
  let v2586 : BitVec 32 := Scalar.andi v2585 c65535_i32_963
  let c2048_i32_964 : BitVec 32 := 2048#32
  let v2587 : BitVec 32 := Scalar.select v2583 v2586 c2048_i32_964
  let v2588 : BitVec 32 := Scalar.addi v1470 v2587
  let v2591 : Index := Scalar.indexCast v2588
  let c0_966 : Index := 0#32
  ![v2591.toNat, 0]

def k0_chk622 (i : grid0.Coords) (v2495 : BitVec 32) (v2498 : BitVec 32) (v2585 : BitVec 32) : Prop :=
  (∀ a, (k0_off1246 i v2495 v2498 v2585) a + S1x128.size a ≤ S8224x128.size a)
theorem k0_off1246_inb : ∀ (i : grid0.Coords) (v2495 : BitVec 32) (v2498 : BitVec 32) (v2585 : BitVec 32) (k0_hw622 : k0_chk622 i v2495 v2498 v2585), ∀ a, (k0_off1246 i v2495 v2498 v2585) a + S1x128.size a ≤ S8224x128.size a := fun i v2495 v2498 v2585 k0_hw622 => k0_hw622

def k0_off1247 (v2495 : BitVec 32) : Fin 1 → Nat :=
  let c6_i32_967 : BitVec 32 := 6#32
  let v2596 : BitVec 32 := Scalar.addi v2495 c6_i32_967
  let v2599 : Index := Scalar.indexCast v2596
  ![v2599.toNat]
def k0_off1248 (i : grid0.Coords) (v2495 : BitVec 32) (v2498 : BitVec 32) (v2600 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_968 : BitVec 32 := 6#32
  let v2597 : BitVec 32 := Scalar.addi v2495 c6_i32_968
  let v2598 : BitVec 1 := Scalar.cmpi .slt v2597 v2498
  let c65535_i32_969 : BitVec 32 := 65535#32
  let v2601 : BitVec 32 := Scalar.andi v2600 c65535_i32_969
  let c2048_i32_970 : BitVec 32 := 2048#32
  let v2602 : BitVec 32 := Scalar.select v2598 v2601 c2048_i32_970
  let v2603 : BitVec 32 := Scalar.addi v1470 v2602
  let v2606 : Index := Scalar.indexCast v2603
  let c0_972 : Index := 0#32
  ![v2606.toNat, 0]

def k0_chk623 (i : grid0.Coords) (v2495 : BitVec 32) (v2498 : BitVec 32) (v2600 : BitVec 32) : Prop :=
  (∀ a, (k0_off1248 i v2495 v2498 v2600) a + S1x128.size a ≤ S8224x128.size a)
theorem k0_off1248_inb : ∀ (i : grid0.Coords) (v2495 : BitVec 32) (v2498 : BitVec 32) (v2600 : BitVec 32) (k0_hw623 : k0_chk623 i v2495 v2498 v2600), ∀ a, (k0_off1248 i v2495 v2498 v2600) a + S1x128.size a ≤ S8224x128.size a := fun i v2495 v2498 v2600 k0_hw623 => k0_hw623

def k0_off1249 (v2495 : BitVec 32) : Fin 1 → Nat :=
  let c7_i32_973 : BitVec 32 := 7#32
  let v2611 : BitVec 32 := Scalar.addi v2495 c7_i32_973
  let v2614 : Index := Scalar.indexCast v2611
  ![v2614.toNat]
def k0_off1250 (i : grid0.Coords) (v2495 : BitVec 32) (v2498 : BitVec 32) (v2615 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_974 : BitVec 32 := 7#32
  let v2612 : BitVec 32 := Scalar.addi v2495 c7_i32_974
  let v2613 : BitVec 1 := Scalar.cmpi .slt v2612 v2498
  let c65535_i32_975 : BitVec 32 := 65535#32
  let v2616 : BitVec 32 := Scalar.andi v2615 c65535_i32_975
  let c2048_i32_976 : BitVec 32 := 2048#32
  let v2617 : BitVec 32 := Scalar.select v2613 v2616 c2048_i32_976
  let v2618 : BitVec 32 := Scalar.addi v1470 v2617
  let v2621 : Index := Scalar.indexCast v2618
  let c0_978 : Index := 0#32
  ![v2621.toNat, 0]

def k0_chk624 (i : grid0.Coords) (v2495 : BitVec 32) (v2498 : BitVec 32) (v2615 : BitVec 32) : Prop :=
  (∀ a, (k0_off1250 i v2495 v2498 v2615) a + S1x128.size a ≤ S8224x128.size a)
theorem k0_off1250_inb : ∀ (i : grid0.Coords) (v2495 : BitVec 32) (v2498 : BitVec 32) (v2615 : BitVec 32) (k0_hw624 : k0_chk624 i v2495 v2498 v2615), ∀ a, (k0_off1250 i v2495 v2498 v2615) a + S1x128.size a ≤ S8224x128.size a := fun i v2495 v2498 v2615 k0_hw624 => k0_hw624

def k0_off1251 (v2495 : BitVec 32) : Fin 1 → Nat :=
  let c8_i32_979 : BitVec 32 := 8#32
  let v2626 : BitVec 32 := Scalar.addi v2495 c8_i32_979
  let v2629 : Index := Scalar.indexCast v2626
  ![v2629.toNat]
def k0_off1252 (i : grid0.Coords) (v2495 : BitVec 32) (v2498 : BitVec 32) (v2630 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_980 : BitVec 32 := 8#32
  let v2627 : BitVec 32 := Scalar.addi v2495 c8_i32_980
  let v2628 : BitVec 1 := Scalar.cmpi .slt v2627 v2498
  let c65535_i32_981 : BitVec 32 := 65535#32
  let v2631 : BitVec 32 := Scalar.andi v2630 c65535_i32_981
  let c2048_i32_982 : BitVec 32 := 2048#32
  let v2632 : BitVec 32 := Scalar.select v2628 v2631 c2048_i32_982
  let v2633 : BitVec 32 := Scalar.addi v1470 v2632
  let v2636 : Index := Scalar.indexCast v2633
  let c0_984 : Index := 0#32
  ![v2636.toNat, 0]

def k0_chk625 (i : grid0.Coords) (v2495 : BitVec 32) (v2498 : BitVec 32) (v2630 : BitVec 32) : Prop :=
  (∀ a, (k0_off1252 i v2495 v2498 v2630) a + S1x128.size a ≤ S8224x128.size a)
theorem k0_off1252_inb : ∀ (i : grid0.Coords) (v2495 : BitVec 32) (v2498 : BitVec 32) (v2630 : BitVec 32) (k0_hw625 : k0_chk625 i v2495 v2498 v2630), ∀ a, (k0_off1252 i v2495 v2498 v2630) a + S1x128.size a ≤ S8224x128.size a := fun i v2495 v2498 v2630 k0_hw625 => k0_hw625

def k0_off1253 (v2495 : BitVec 32) : Fin 1 → Nat :=
  let c9_i32_985 : BitVec 32 := 9#32
  let v2641 : BitVec 32 := Scalar.addi v2495 c9_i32_985
  let v2644 : Index := Scalar.indexCast v2641
  ![v2644.toNat]
def k0_off1254 (i : grid0.Coords) (v2495 : BitVec 32) (v2498 : BitVec 32) (v2645 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_986 : BitVec 32 := 9#32
  let v2642 : BitVec 32 := Scalar.addi v2495 c9_i32_986
  let v2643 : BitVec 1 := Scalar.cmpi .slt v2642 v2498
  let c65535_i32_987 : BitVec 32 := 65535#32
  let v2646 : BitVec 32 := Scalar.andi v2645 c65535_i32_987
  let c2048_i32_988 : BitVec 32 := 2048#32
  let v2647 : BitVec 32 := Scalar.select v2643 v2646 c2048_i32_988
  let v2648 : BitVec 32 := Scalar.addi v1470 v2647
  let v2651 : Index := Scalar.indexCast v2648
  let c0_990 : Index := 0#32
  ![v2651.toNat, 0]

def k0_chk626 (i : grid0.Coords) (v2495 : BitVec 32) (v2498 : BitVec 32) (v2645 : BitVec 32) : Prop :=
  (∀ a, (k0_off1254 i v2495 v2498 v2645) a + S1x128.size a ≤ S8224x128.size a)
theorem k0_off1254_inb : ∀ (i : grid0.Coords) (v2495 : BitVec 32) (v2498 : BitVec 32) (v2645 : BitVec 32) (k0_hw626 : k0_chk626 i v2495 v2498 v2645), ∀ a, (k0_off1254 i v2495 v2498 v2645) a + S1x128.size a ≤ S8224x128.size a := fun i v2495 v2498 v2645 k0_hw626 => k0_hw626

def k0_off1255 (v2495 : BitVec 32) : Fin 1 → Nat :=
  let c10_i32_991 : BitVec 32 := 10#32
  let v2656 : BitVec 32 := Scalar.addi v2495 c10_i32_991
  let v2659 : Index := Scalar.indexCast v2656
  ![v2659.toNat]
def k0_off1256 (i : grid0.Coords) (v2495 : BitVec 32) (v2498 : BitVec 32) (v2660 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_992 : BitVec 32 := 10#32
  let v2657 : BitVec 32 := Scalar.addi v2495 c10_i32_992
  let v2658 : BitVec 1 := Scalar.cmpi .slt v2657 v2498
  let c65535_i32_993 : BitVec 32 := 65535#32
  let v2661 : BitVec 32 := Scalar.andi v2660 c65535_i32_993
  let c2048_i32_994 : BitVec 32 := 2048#32
  let v2662 : BitVec 32 := Scalar.select v2658 v2661 c2048_i32_994
  let v2663 : BitVec 32 := Scalar.addi v1470 v2662
  let v2666 : Index := Scalar.indexCast v2663
  let c0_996 : Index := 0#32
  ![v2666.toNat, 0]

def k0_chk627 (i : grid0.Coords) (v2495 : BitVec 32) (v2498 : BitVec 32) (v2660 : BitVec 32) : Prop :=
  (∀ a, (k0_off1256 i v2495 v2498 v2660) a + S1x128.size a ≤ S8224x128.size a)
theorem k0_off1256_inb : ∀ (i : grid0.Coords) (v2495 : BitVec 32) (v2498 : BitVec 32) (v2660 : BitVec 32) (k0_hw627 : k0_chk627 i v2495 v2498 v2660), ∀ a, (k0_off1256 i v2495 v2498 v2660) a + S1x128.size a ≤ S8224x128.size a := fun i v2495 v2498 v2660 k0_hw627 => k0_hw627

def k0_off1257 (v2495 : BitVec 32) : Fin 1 → Nat :=
  let c11_i32_997 : BitVec 32 := 11#32
  let v2671 : BitVec 32 := Scalar.addi v2495 c11_i32_997
  let v2674 : Index := Scalar.indexCast v2671
  ![v2674.toNat]
def k0_off1258 (i : grid0.Coords) (v2495 : BitVec 32) (v2498 : BitVec 32) (v2675 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_998 : BitVec 32 := 11#32
  let v2672 : BitVec 32 := Scalar.addi v2495 c11_i32_998
  let v2673 : BitVec 1 := Scalar.cmpi .slt v2672 v2498
  let c65535_i32_999 : BitVec 32 := 65535#32
  let v2676 : BitVec 32 := Scalar.andi v2675 c65535_i32_999
  let c2048_i32_1000 : BitVec 32 := 2048#32
  let v2677 : BitVec 32 := Scalar.select v2673 v2676 c2048_i32_1000
  let v2678 : BitVec 32 := Scalar.addi v1470 v2677
  let v2681 : Index := Scalar.indexCast v2678
  let c0_1002 : Index := 0#32
  ![v2681.toNat, 0]

def k0_chk628 (i : grid0.Coords) (v2495 : BitVec 32) (v2498 : BitVec 32) (v2675 : BitVec 32) : Prop :=
  (∀ a, (k0_off1258 i v2495 v2498 v2675) a + S1x128.size a ≤ S8224x128.size a)
theorem k0_off1258_inb : ∀ (i : grid0.Coords) (v2495 : BitVec 32) (v2498 : BitVec 32) (v2675 : BitVec 32) (k0_hw628 : k0_chk628 i v2495 v2498 v2675), ∀ a, (k0_off1258 i v2495 v2498 v2675) a + S1x128.size a ≤ S8224x128.size a := fun i v2495 v2498 v2675 k0_hw628 => k0_hw628

def k0_off1259 (v2495 : BitVec 32) : Fin 1 → Nat :=
  let c12_i32_1003 : BitVec 32 := 12#32
  let v2686 : BitVec 32 := Scalar.addi v2495 c12_i32_1003
  let v2689 : Index := Scalar.indexCast v2686
  ![v2689.toNat]
def k0_off1260 (i : grid0.Coords) (v2495 : BitVec 32) (v2498 : BitVec 32) (v2690 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_1004 : BitVec 32 := 12#32
  let v2687 : BitVec 32 := Scalar.addi v2495 c12_i32_1004
  let v2688 : BitVec 1 := Scalar.cmpi .slt v2687 v2498
  let c65535_i32_1005 : BitVec 32 := 65535#32
  let v2691 : BitVec 32 := Scalar.andi v2690 c65535_i32_1005
  let c2048_i32_1006 : BitVec 32 := 2048#32
  let v2692 : BitVec 32 := Scalar.select v2688 v2691 c2048_i32_1006
  let v2693 : BitVec 32 := Scalar.addi v1470 v2692
  let v2696 : Index := Scalar.indexCast v2693
  let c0_1008 : Index := 0#32
  ![v2696.toNat, 0]

def k0_chk629 (i : grid0.Coords) (v2495 : BitVec 32) (v2498 : BitVec 32) (v2690 : BitVec 32) : Prop :=
  (∀ a, (k0_off1260 i v2495 v2498 v2690) a + S1x128.size a ≤ S8224x128.size a)
theorem k0_off1260_inb : ∀ (i : grid0.Coords) (v2495 : BitVec 32) (v2498 : BitVec 32) (v2690 : BitVec 32) (k0_hw629 : k0_chk629 i v2495 v2498 v2690), ∀ a, (k0_off1260 i v2495 v2498 v2690) a + S1x128.size a ≤ S8224x128.size a := fun i v2495 v2498 v2690 k0_hw629 => k0_hw629

def k0_off1261 (v2495 : BitVec 32) : Fin 1 → Nat :=
  let c13_i32_1009 : BitVec 32 := 13#32
  let v2701 : BitVec 32 := Scalar.addi v2495 c13_i32_1009
  let v2704 : Index := Scalar.indexCast v2701
  ![v2704.toNat]
def k0_off1262 (i : grid0.Coords) (v2495 : BitVec 32) (v2498 : BitVec 32) (v2705 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_1010 : BitVec 32 := 13#32
  let v2702 : BitVec 32 := Scalar.addi v2495 c13_i32_1010
  let v2703 : BitVec 1 := Scalar.cmpi .slt v2702 v2498
  let c65535_i32_1011 : BitVec 32 := 65535#32
  let v2706 : BitVec 32 := Scalar.andi v2705 c65535_i32_1011
  let c2048_i32_1012 : BitVec 32 := 2048#32
  let v2707 : BitVec 32 := Scalar.select v2703 v2706 c2048_i32_1012
  let v2708 : BitVec 32 := Scalar.addi v1470 v2707
  let v2711 : Index := Scalar.indexCast v2708
  let c0_1014 : Index := 0#32
  ![v2711.toNat, 0]

def k0_chk630 (i : grid0.Coords) (v2495 : BitVec 32) (v2498 : BitVec 32) (v2705 : BitVec 32) : Prop :=
  (∀ a, (k0_off1262 i v2495 v2498 v2705) a + S1x128.size a ≤ S8224x128.size a)
theorem k0_off1262_inb : ∀ (i : grid0.Coords) (v2495 : BitVec 32) (v2498 : BitVec 32) (v2705 : BitVec 32) (k0_hw630 : k0_chk630 i v2495 v2498 v2705), ∀ a, (k0_off1262 i v2495 v2498 v2705) a + S1x128.size a ≤ S8224x128.size a := fun i v2495 v2498 v2705 k0_hw630 => k0_hw630

def k0_off1263 (v2495 : BitVec 32) : Fin 1 → Nat :=
  let c14_i32_1015 : BitVec 32 := 14#32
  let v2716 : BitVec 32 := Scalar.addi v2495 c14_i32_1015
  let v2719 : Index := Scalar.indexCast v2716
  ![v2719.toNat]
def k0_off1264 (i : grid0.Coords) (v2495 : BitVec 32) (v2498 : BitVec 32) (v2720 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_1016 : BitVec 32 := 14#32
  let v2717 : BitVec 32 := Scalar.addi v2495 c14_i32_1016
  let v2718 : BitVec 1 := Scalar.cmpi .slt v2717 v2498
  let c65535_i32_1017 : BitVec 32 := 65535#32
  let v2721 : BitVec 32 := Scalar.andi v2720 c65535_i32_1017
  let c2048_i32_1018 : BitVec 32 := 2048#32
  let v2722 : BitVec 32 := Scalar.select v2718 v2721 c2048_i32_1018
  let v2723 : BitVec 32 := Scalar.addi v1470 v2722
  let v2726 : Index := Scalar.indexCast v2723
  let c0_1020 : Index := 0#32
  ![v2726.toNat, 0]

def k0_chk631 (i : grid0.Coords) (v2495 : BitVec 32) (v2498 : BitVec 32) (v2720 : BitVec 32) : Prop :=
  (∀ a, (k0_off1264 i v2495 v2498 v2720) a + S1x128.size a ≤ S8224x128.size a)
theorem k0_off1264_inb : ∀ (i : grid0.Coords) (v2495 : BitVec 32) (v2498 : BitVec 32) (v2720 : BitVec 32) (k0_hw631 : k0_chk631 i v2495 v2498 v2720), ∀ a, (k0_off1264 i v2495 v2498 v2720) a + S1x128.size a ≤ S8224x128.size a := fun i v2495 v2498 v2720 k0_hw631 => k0_hw631

def k0_off1265 (v2495 : BitVec 32) : Fin 1 → Nat :=
  let c15_i32_1021 : BitVec 32 := 15#32
  let v2731 : BitVec 32 := Scalar.addi v2495 c15_i32_1021
  let v2734 : Index := Scalar.indexCast v2731
  ![v2734.toNat]

def k0_chk616 (v2495 : BitVec 32) : Prop :=
  (∀ a, (k0_off1235 v2495) a + S1.size a ≤ S51920.size a) ∧
  (∀ a, (k0_off1237 v2495) a + S1.size a ≤ S51920.size a) ∧
  (∀ a, (k0_off1239 v2495) a + S1.size a ≤ S51920.size a) ∧
  (∀ a, (k0_off1241 v2495) a + S1.size a ≤ S51920.size a) ∧
  (∀ a, (k0_off1243 v2495) a + S1.size a ≤ S51920.size a) ∧
  (∀ a, (k0_off1245 v2495) a + S1.size a ≤ S51920.size a) ∧
  (∀ a, (k0_off1247 v2495) a + S1.size a ≤ S51920.size a) ∧
  (∀ a, (k0_off1249 v2495) a + S1.size a ≤ S51920.size a) ∧
  (∀ a, (k0_off1251 v2495) a + S1.size a ≤ S51920.size a) ∧
  (∀ a, (k0_off1253 v2495) a + S1.size a ≤ S51920.size a) ∧
  (∀ a, (k0_off1255 v2495) a + S1.size a ≤ S51920.size a) ∧
  (∀ a, (k0_off1257 v2495) a + S1.size a ≤ S51920.size a) ∧
  (∀ a, (k0_off1259 v2495) a + S1.size a ≤ S51920.size a) ∧
  (∀ a, (k0_off1261 v2495) a + S1.size a ≤ S51920.size a) ∧
  (∀ a, (k0_off1263 v2495) a + S1.size a ≤ S51920.size a) ∧
  (∀ a, (k0_off1265 v2495) a + S1.size a ≤ S51920.size a)
theorem k0_off1235_inb : ∀ (v2495 : BitVec 32) (k0_hw616 : k0_chk616 v2495), ∀ a, (k0_off1235 v2495) a + S1.size a ≤ S51920.size a := fun v2495 k0_hw616 => k0_hw616.1
theorem k0_off1237_inb : ∀ (v2495 : BitVec 32) (k0_hw616 : k0_chk616 v2495), ∀ a, (k0_off1237 v2495) a + S1.size a ≤ S51920.size a := fun v2495 k0_hw616 => k0_hw616.2.1
theorem k0_off1239_inb : ∀ (v2495 : BitVec 32) (k0_hw616 : k0_chk616 v2495), ∀ a, (k0_off1239 v2495) a + S1.size a ≤ S51920.size a := fun v2495 k0_hw616 => k0_hw616.2.2.1
theorem k0_off1241_inb : ∀ (v2495 : BitVec 32) (k0_hw616 : k0_chk616 v2495), ∀ a, (k0_off1241 v2495) a + S1.size a ≤ S51920.size a := fun v2495 k0_hw616 => k0_hw616.2.2.2.1
theorem k0_off1243_inb : ∀ (v2495 : BitVec 32) (k0_hw616 : k0_chk616 v2495), ∀ a, (k0_off1243 v2495) a + S1.size a ≤ S51920.size a := fun v2495 k0_hw616 => k0_hw616.2.2.2.2.1
theorem k0_off1245_inb : ∀ (v2495 : BitVec 32) (k0_hw616 : k0_chk616 v2495), ∀ a, (k0_off1245 v2495) a + S1.size a ≤ S51920.size a := fun v2495 k0_hw616 => k0_hw616.2.2.2.2.2.1
theorem k0_off1247_inb : ∀ (v2495 : BitVec 32) (k0_hw616 : k0_chk616 v2495), ∀ a, (k0_off1247 v2495) a + S1.size a ≤ S51920.size a := fun v2495 k0_hw616 => k0_hw616.2.2.2.2.2.2.1
theorem k0_off1249_inb : ∀ (v2495 : BitVec 32) (k0_hw616 : k0_chk616 v2495), ∀ a, (k0_off1249 v2495) a + S1.size a ≤ S51920.size a := fun v2495 k0_hw616 => k0_hw616.2.2.2.2.2.2.2.1
theorem k0_off1251_inb : ∀ (v2495 : BitVec 32) (k0_hw616 : k0_chk616 v2495), ∀ a, (k0_off1251 v2495) a + S1.size a ≤ S51920.size a := fun v2495 k0_hw616 => k0_hw616.2.2.2.2.2.2.2.2.1
theorem k0_off1253_inb : ∀ (v2495 : BitVec 32) (k0_hw616 : k0_chk616 v2495), ∀ a, (k0_off1253 v2495) a + S1.size a ≤ S51920.size a := fun v2495 k0_hw616 => k0_hw616.2.2.2.2.2.2.2.2.2.1
theorem k0_off1255_inb : ∀ (v2495 : BitVec 32) (k0_hw616 : k0_chk616 v2495), ∀ a, (k0_off1255 v2495) a + S1.size a ≤ S51920.size a := fun v2495 k0_hw616 => k0_hw616.2.2.2.2.2.2.2.2.2.2.1
theorem k0_off1257_inb : ∀ (v2495 : BitVec 32) (k0_hw616 : k0_chk616 v2495), ∀ a, (k0_off1257 v2495) a + S1.size a ≤ S51920.size a := fun v2495 k0_hw616 => k0_hw616.2.2.2.2.2.2.2.2.2.2.2.1
theorem k0_off1259_inb : ∀ (v2495 : BitVec 32) (k0_hw616 : k0_chk616 v2495), ∀ a, (k0_off1259 v2495) a + S1.size a ≤ S51920.size a := fun v2495 k0_hw616 => k0_hw616.2.2.2.2.2.2.2.2.2.2.2.2.1
theorem k0_off1261_inb : ∀ (v2495 : BitVec 32) (k0_hw616 : k0_chk616 v2495), ∀ a, (k0_off1261 v2495) a + S1.size a ≤ S51920.size a := fun v2495 k0_hw616 => k0_hw616.2.2.2.2.2.2.2.2.2.2.2.2.2.1
theorem k0_off1263_inb : ∀ (v2495 : BitVec 32) (k0_hw616 : k0_chk616 v2495), ∀ a, (k0_off1263 v2495) a + S1.size a ≤ S51920.size a := fun v2495 k0_hw616 => k0_hw616.2.2.2.2.2.2.2.2.2.2.2.2.2.2.1
theorem k0_off1265_inb : ∀ (v2495 : BitVec 32) (k0_hw616 : k0_chk616 v2495), ∀ a, (k0_off1265 v2495) a + S1.size a ≤ S51920.size a := fun v2495 k0_hw616 => k0_hw616.2.2.2.2.2.2.2.2.2.2.2.2.2.2.2

def k0_off1266 (i : grid0.Coords) (v2495 : BitVec 32) (v2498 : BitVec 32) (v2735 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_1022 : BitVec 32 := 15#32
  let v2732 : BitVec 32 := Scalar.addi v2495 c15_i32_1022
  let v2733 : BitVec 1 := Scalar.cmpi .slt v2732 v2498
  let c65535_i32_1023 : BitVec 32 := 65535#32
  let v2736 : BitVec 32 := Scalar.andi v2735 c65535_i32_1023
  let c2048_i32_1024 : BitVec 32 := 2048#32
  let v2737 : BitVec 32 := Scalar.select v2733 v2736 c2048_i32_1024
  let v2738 : BitVec 32 := Scalar.addi v1470 v2737
  let v2741 : Index := Scalar.indexCast v2738
  let c0_1026 : Index := 0#32
  ![v2741.toNat, 0]

def k0_chk632 (i : grid0.Coords) (v2495 : BitVec 32) (v2498 : BitVec 32) (v2735 : BitVec 32) : Prop :=
  (∀ a, (k0_off1266 i v2495 v2498 v2735) a + S1x128.size a ≤ S8224x128.size a)
theorem k0_off1266_inb : ∀ (i : grid0.Coords) (v2495 : BitVec 32) (v2498 : BitVec 32) (v2735 : BitVec 32) (k0_hw632 : k0_chk632 i v2495 v2498 v2735), ∀ a, (k0_off1266 i v2495 v2498 v2735) a + S1x128.size a ≤ S8224x128.size a := fun i v2495 v2498 v2735 k0_hw632 => k0_hw632

def k0_off1267 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1027 : BitVec 32 := 512#32
  let v2746 : BitVec 32 := Scalar.muli v24 c512_i32_1027
  let arg1 : BitVec 32 := BitVec.ofNat 32 (i 1).val
  let c32_i32 : BitVec 32 := 32#32
  let v1452 : BitVec 32 := Scalar.muli arg1 c32_i32
  let v2747 : BitVec 32 := Scalar.addi v2746 v1452
  let c5_i32_1028 : BitVec 32 := 5#32
  let v2748 : BitVec 32 := Scalar.addi v2747 c5_i32_1028
  let v2749 : Index := Scalar.indexCast v2748
  ![v2749.toNat]
def k0_off1268 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1027 : BitVec 32 := 512#32
  let v2746 : BitVec 32 := Scalar.muli v24 c512_i32_1027
  let arg1 : BitVec 32 := BitVec.ofNat 32 (i 1).val
  let c32_i32 : BitVec 32 := 32#32
  let v1452 : BitVec 32 := Scalar.muli arg1 c32_i32
  let v2747 : BitVec 32 := Scalar.addi v2746 v1452
  let c5_i32_1028 : BitVec 32 := 5#32
  let v2748 : BitVec 32 := Scalar.addi v2747 c5_i32_1028
  let c1_i32_1029 : BitVec 32 := 1#32
  let v2751 : BitVec 32 := Scalar.addi v2748 c1_i32_1029
  let v2752 : Index := Scalar.indexCast v2751
  ![v2752.toNat]
def k0_off1269 (v2750 : BitVec 32) : Fin 1 → Nat :=
  let c0_i32_1032 : BitVec 32 := 0#32
  let v2761 : BitVec 32 := Scalar.addi v2750 c0_i32_1032
  let v2764 : Index := Scalar.indexCast v2761
  ![v2764.toNat]

def k0_off1270 (i : grid0.Coords) (v2750 : BitVec 32) (v2753 : BitVec 32) (v2765 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_1033 : BitVec 32 := 0#32
  let v2762 : BitVec 32 := Scalar.addi v2750 c0_i32_1033
  let v2763 : BitVec 1 := Scalar.cmpi .slt v2762 v2753
  let c65535_i32_1034 : BitVec 32 := 65535#32
  let v2766 : BitVec 32 := Scalar.andi v2765 c65535_i32_1034
  let c2048_i32_1035 : BitVec 32 := 2048#32
  let v2767 : BitVec 32 := Scalar.select v2763 v2766 c2048_i32_1035
  let v2768 : BitVec 32 := Scalar.addi v1470 v2767
  let v2771 : Index := Scalar.indexCast v2768
  let c0_1037 : Index := 0#32
  ![v2771.toNat, 0]

def k0_chk634 (i : grid0.Coords) (v2750 : BitVec 32) (v2753 : BitVec 32) (v2765 : BitVec 32) : Prop :=
  (∀ a, (k0_off1270 i v2750 v2753 v2765) a + S1x128.size a ≤ S8224x128.size a)
theorem k0_off1270_inb : ∀ (i : grid0.Coords) (v2750 : BitVec 32) (v2753 : BitVec 32) (v2765 : BitVec 32) (k0_hw634 : k0_chk634 i v2750 v2753 v2765), ∀ a, (k0_off1270 i v2750 v2753 v2765) a + S1x128.size a ≤ S8224x128.size a := fun i v2750 v2753 v2765 k0_hw634 => k0_hw634

def k0_off1271 (v2750 : BitVec 32) : Fin 1 → Nat :=
  let c1_i32_1038 : BitVec 32 := 1#32
  let v2776 : BitVec 32 := Scalar.addi v2750 c1_i32_1038
  let v2779 : Index := Scalar.indexCast v2776
  ![v2779.toNat]
def k0_off1272 (i : grid0.Coords) (v2750 : BitVec 32) (v2753 : BitVec 32) (v2780 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_1039 : BitVec 32 := 1#32
  let v2777 : BitVec 32 := Scalar.addi v2750 c1_i32_1039
  let v2778 : BitVec 1 := Scalar.cmpi .slt v2777 v2753
  let c65535_i32_1040 : BitVec 32 := 65535#32
  let v2781 : BitVec 32 := Scalar.andi v2780 c65535_i32_1040
  let c2048_i32_1041 : BitVec 32 := 2048#32
  let v2782 : BitVec 32 := Scalar.select v2778 v2781 c2048_i32_1041
  let v2783 : BitVec 32 := Scalar.addi v1470 v2782
  let v2786 : Index := Scalar.indexCast v2783
  let c0_1043 : Index := 0#32
  ![v2786.toNat, 0]

def k0_chk635 (i : grid0.Coords) (v2750 : BitVec 32) (v2753 : BitVec 32) (v2780 : BitVec 32) : Prop :=
  (∀ a, (k0_off1272 i v2750 v2753 v2780) a + S1x128.size a ≤ S8224x128.size a)
theorem k0_off1272_inb : ∀ (i : grid0.Coords) (v2750 : BitVec 32) (v2753 : BitVec 32) (v2780 : BitVec 32) (k0_hw635 : k0_chk635 i v2750 v2753 v2780), ∀ a, (k0_off1272 i v2750 v2753 v2780) a + S1x128.size a ≤ S8224x128.size a := fun i v2750 v2753 v2780 k0_hw635 => k0_hw635

def k0_off1273 (v2750 : BitVec 32) : Fin 1 → Nat :=
  let c2_i32_1044 : BitVec 32 := 2#32
  let v2791 : BitVec 32 := Scalar.addi v2750 c2_i32_1044
  let v2794 : Index := Scalar.indexCast v2791
  ![v2794.toNat]
def k0_off1274 (i : grid0.Coords) (v2750 : BitVec 32) (v2753 : BitVec 32) (v2795 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_1045 : BitVec 32 := 2#32
  let v2792 : BitVec 32 := Scalar.addi v2750 c2_i32_1045
  let v2793 : BitVec 1 := Scalar.cmpi .slt v2792 v2753
  let c65535_i32_1046 : BitVec 32 := 65535#32
  let v2796 : BitVec 32 := Scalar.andi v2795 c65535_i32_1046
  let c2048_i32_1047 : BitVec 32 := 2048#32
  let v2797 : BitVec 32 := Scalar.select v2793 v2796 c2048_i32_1047
  let v2798 : BitVec 32 := Scalar.addi v1470 v2797
  let v2801 : Index := Scalar.indexCast v2798
  let c0_1049 : Index := 0#32
  ![v2801.toNat, 0]

def k0_chk636 (i : grid0.Coords) (v2750 : BitVec 32) (v2753 : BitVec 32) (v2795 : BitVec 32) : Prop :=
  (∀ a, (k0_off1274 i v2750 v2753 v2795) a + S1x128.size a ≤ S8224x128.size a)
theorem k0_off1274_inb : ∀ (i : grid0.Coords) (v2750 : BitVec 32) (v2753 : BitVec 32) (v2795 : BitVec 32) (k0_hw636 : k0_chk636 i v2750 v2753 v2795), ∀ a, (k0_off1274 i v2750 v2753 v2795) a + S1x128.size a ≤ S8224x128.size a := fun i v2750 v2753 v2795 k0_hw636 => k0_hw636

def k0_off1275 (v2750 : BitVec 32) : Fin 1 → Nat :=
  let c3_i32_1050 : BitVec 32 := 3#32
  let v2806 : BitVec 32 := Scalar.addi v2750 c3_i32_1050
  let v2809 : Index := Scalar.indexCast v2806
  ![v2809.toNat]
def k0_off1276 (i : grid0.Coords) (v2750 : BitVec 32) (v2753 : BitVec 32) (v2810 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_1051 : BitVec 32 := 3#32
  let v2807 : BitVec 32 := Scalar.addi v2750 c3_i32_1051
  let v2808 : BitVec 1 := Scalar.cmpi .slt v2807 v2753
  let c65535_i32_1052 : BitVec 32 := 65535#32
  let v2811 : BitVec 32 := Scalar.andi v2810 c65535_i32_1052
  let c2048_i32_1053 : BitVec 32 := 2048#32
  let v2812 : BitVec 32 := Scalar.select v2808 v2811 c2048_i32_1053
  let v2813 : BitVec 32 := Scalar.addi v1470 v2812
  let v2816 : Index := Scalar.indexCast v2813
  let c0_1055 : Index := 0#32
  ![v2816.toNat, 0]

def k0_chk637 (i : grid0.Coords) (v2750 : BitVec 32) (v2753 : BitVec 32) (v2810 : BitVec 32) : Prop :=
  (∀ a, (k0_off1276 i v2750 v2753 v2810) a + S1x128.size a ≤ S8224x128.size a)
theorem k0_off1276_inb : ∀ (i : grid0.Coords) (v2750 : BitVec 32) (v2753 : BitVec 32) (v2810 : BitVec 32) (k0_hw637 : k0_chk637 i v2750 v2753 v2810), ∀ a, (k0_off1276 i v2750 v2753 v2810) a + S1x128.size a ≤ S8224x128.size a := fun i v2750 v2753 v2810 k0_hw637 => k0_hw637

def k0_off1277 (v2750 : BitVec 32) : Fin 1 → Nat :=
  let c4_i32_1056 : BitVec 32 := 4#32
  let v2821 : BitVec 32 := Scalar.addi v2750 c4_i32_1056
  let v2824 : Index := Scalar.indexCast v2821
  ![v2824.toNat]
def k0_off1278 (i : grid0.Coords) (v2750 : BitVec 32) (v2753 : BitVec 32) (v2825 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_1057 : BitVec 32 := 4#32
  let v2822 : BitVec 32 := Scalar.addi v2750 c4_i32_1057
  let v2823 : BitVec 1 := Scalar.cmpi .slt v2822 v2753
  let c65535_i32_1058 : BitVec 32 := 65535#32
  let v2826 : BitVec 32 := Scalar.andi v2825 c65535_i32_1058
  let c2048_i32_1059 : BitVec 32 := 2048#32
  let v2827 : BitVec 32 := Scalar.select v2823 v2826 c2048_i32_1059
  let v2828 : BitVec 32 := Scalar.addi v1470 v2827
  let v2831 : Index := Scalar.indexCast v2828
  let c0_1061 : Index := 0#32
  ![v2831.toNat, 0]

def k0_chk638 (i : grid0.Coords) (v2750 : BitVec 32) (v2753 : BitVec 32) (v2825 : BitVec 32) : Prop :=
  (∀ a, (k0_off1278 i v2750 v2753 v2825) a + S1x128.size a ≤ S8224x128.size a)
theorem k0_off1278_inb : ∀ (i : grid0.Coords) (v2750 : BitVec 32) (v2753 : BitVec 32) (v2825 : BitVec 32) (k0_hw638 : k0_chk638 i v2750 v2753 v2825), ∀ a, (k0_off1278 i v2750 v2753 v2825) a + S1x128.size a ≤ S8224x128.size a := fun i v2750 v2753 v2825 k0_hw638 => k0_hw638

def k0_off1279 (v2750 : BitVec 32) : Fin 1 → Nat :=
  let c5_i32_1062 : BitVec 32 := 5#32
  let v2836 : BitVec 32 := Scalar.addi v2750 c5_i32_1062
  let v2839 : Index := Scalar.indexCast v2836
  ![v2839.toNat]
def k0_off1280 (i : grid0.Coords) (v2750 : BitVec 32) (v2753 : BitVec 32) (v2840 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_1063 : BitVec 32 := 5#32
  let v2837 : BitVec 32 := Scalar.addi v2750 c5_i32_1063
  let v2838 : BitVec 1 := Scalar.cmpi .slt v2837 v2753
  let c65535_i32_1064 : BitVec 32 := 65535#32
  let v2841 : BitVec 32 := Scalar.andi v2840 c65535_i32_1064
  let c2048_i32_1065 : BitVec 32 := 2048#32
  let v2842 : BitVec 32 := Scalar.select v2838 v2841 c2048_i32_1065
  let v2843 : BitVec 32 := Scalar.addi v1470 v2842
  let v2846 : Index := Scalar.indexCast v2843
  let c0_1067 : Index := 0#32
  ![v2846.toNat, 0]

def k0_chk639 (i : grid0.Coords) (v2750 : BitVec 32) (v2753 : BitVec 32) (v2840 : BitVec 32) : Prop :=
  (∀ a, (k0_off1280 i v2750 v2753 v2840) a + S1x128.size a ≤ S8224x128.size a)
theorem k0_off1280_inb : ∀ (i : grid0.Coords) (v2750 : BitVec 32) (v2753 : BitVec 32) (v2840 : BitVec 32) (k0_hw639 : k0_chk639 i v2750 v2753 v2840), ∀ a, (k0_off1280 i v2750 v2753 v2840) a + S1x128.size a ≤ S8224x128.size a := fun i v2750 v2753 v2840 k0_hw639 => k0_hw639

def k0_off1281 (v2750 : BitVec 32) : Fin 1 → Nat :=
  let c6_i32_1068 : BitVec 32 := 6#32
  let v2851 : BitVec 32 := Scalar.addi v2750 c6_i32_1068
  let v2854 : Index := Scalar.indexCast v2851
  ![v2854.toNat]
def k0_off1282 (i : grid0.Coords) (v2750 : BitVec 32) (v2753 : BitVec 32) (v2855 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_1069 : BitVec 32 := 6#32
  let v2852 : BitVec 32 := Scalar.addi v2750 c6_i32_1069
  let v2853 : BitVec 1 := Scalar.cmpi .slt v2852 v2753
  let c65535_i32_1070 : BitVec 32 := 65535#32
  let v2856 : BitVec 32 := Scalar.andi v2855 c65535_i32_1070
  let c2048_i32_1071 : BitVec 32 := 2048#32
  let v2857 : BitVec 32 := Scalar.select v2853 v2856 c2048_i32_1071
  let v2858 : BitVec 32 := Scalar.addi v1470 v2857
  let v2861 : Index := Scalar.indexCast v2858
  let c0_1073 : Index := 0#32
  ![v2861.toNat, 0]

def k0_chk640 (i : grid0.Coords) (v2750 : BitVec 32) (v2753 : BitVec 32) (v2855 : BitVec 32) : Prop :=
  (∀ a, (k0_off1282 i v2750 v2753 v2855) a + S1x128.size a ≤ S8224x128.size a)
theorem k0_off1282_inb : ∀ (i : grid0.Coords) (v2750 : BitVec 32) (v2753 : BitVec 32) (v2855 : BitVec 32) (k0_hw640 : k0_chk640 i v2750 v2753 v2855), ∀ a, (k0_off1282 i v2750 v2753 v2855) a + S1x128.size a ≤ S8224x128.size a := fun i v2750 v2753 v2855 k0_hw640 => k0_hw640

def k0_off1283 (v2750 : BitVec 32) : Fin 1 → Nat :=
  let c7_i32_1074 : BitVec 32 := 7#32
  let v2866 : BitVec 32 := Scalar.addi v2750 c7_i32_1074
  let v2869 : Index := Scalar.indexCast v2866
  ![v2869.toNat]
def k0_off1284 (i : grid0.Coords) (v2750 : BitVec 32) (v2753 : BitVec 32) (v2870 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_1075 : BitVec 32 := 7#32
  let v2867 : BitVec 32 := Scalar.addi v2750 c7_i32_1075
  let v2868 : BitVec 1 := Scalar.cmpi .slt v2867 v2753
  let c65535_i32_1076 : BitVec 32 := 65535#32
  let v2871 : BitVec 32 := Scalar.andi v2870 c65535_i32_1076
  let c2048_i32_1077 : BitVec 32 := 2048#32
  let v2872 : BitVec 32 := Scalar.select v2868 v2871 c2048_i32_1077
  let v2873 : BitVec 32 := Scalar.addi v1470 v2872
  let v2876 : Index := Scalar.indexCast v2873
  let c0_1079 : Index := 0#32
  ![v2876.toNat, 0]

def k0_chk641 (i : grid0.Coords) (v2750 : BitVec 32) (v2753 : BitVec 32) (v2870 : BitVec 32) : Prop :=
  (∀ a, (k0_off1284 i v2750 v2753 v2870) a + S1x128.size a ≤ S8224x128.size a)
theorem k0_off1284_inb : ∀ (i : grid0.Coords) (v2750 : BitVec 32) (v2753 : BitVec 32) (v2870 : BitVec 32) (k0_hw641 : k0_chk641 i v2750 v2753 v2870), ∀ a, (k0_off1284 i v2750 v2753 v2870) a + S1x128.size a ≤ S8224x128.size a := fun i v2750 v2753 v2870 k0_hw641 => k0_hw641

def k0_off1285 (v2750 : BitVec 32) : Fin 1 → Nat :=
  let c8_i32_1080 : BitVec 32 := 8#32
  let v2881 : BitVec 32 := Scalar.addi v2750 c8_i32_1080
  let v2884 : Index := Scalar.indexCast v2881
  ![v2884.toNat]
def k0_off1286 (i : grid0.Coords) (v2750 : BitVec 32) (v2753 : BitVec 32) (v2885 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_1081 : BitVec 32 := 8#32
  let v2882 : BitVec 32 := Scalar.addi v2750 c8_i32_1081
  let v2883 : BitVec 1 := Scalar.cmpi .slt v2882 v2753
  let c65535_i32_1082 : BitVec 32 := 65535#32
  let v2886 : BitVec 32 := Scalar.andi v2885 c65535_i32_1082
  let c2048_i32_1083 : BitVec 32 := 2048#32
  let v2887 : BitVec 32 := Scalar.select v2883 v2886 c2048_i32_1083
  let v2888 : BitVec 32 := Scalar.addi v1470 v2887
  let v2891 : Index := Scalar.indexCast v2888
  let c0_1085 : Index := 0#32
  ![v2891.toNat, 0]

def k0_chk642 (i : grid0.Coords) (v2750 : BitVec 32) (v2753 : BitVec 32) (v2885 : BitVec 32) : Prop :=
  (∀ a, (k0_off1286 i v2750 v2753 v2885) a + S1x128.size a ≤ S8224x128.size a)
theorem k0_off1286_inb : ∀ (i : grid0.Coords) (v2750 : BitVec 32) (v2753 : BitVec 32) (v2885 : BitVec 32) (k0_hw642 : k0_chk642 i v2750 v2753 v2885), ∀ a, (k0_off1286 i v2750 v2753 v2885) a + S1x128.size a ≤ S8224x128.size a := fun i v2750 v2753 v2885 k0_hw642 => k0_hw642

def k0_off1287 (v2750 : BitVec 32) : Fin 1 → Nat :=
  let c9_i32_1086 : BitVec 32 := 9#32
  let v2896 : BitVec 32 := Scalar.addi v2750 c9_i32_1086
  let v2899 : Index := Scalar.indexCast v2896
  ![v2899.toNat]
def k0_off1288 (i : grid0.Coords) (v2750 : BitVec 32) (v2753 : BitVec 32) (v2900 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_1087 : BitVec 32 := 9#32
  let v2897 : BitVec 32 := Scalar.addi v2750 c9_i32_1087
  let v2898 : BitVec 1 := Scalar.cmpi .slt v2897 v2753
  let c65535_i32_1088 : BitVec 32 := 65535#32
  let v2901 : BitVec 32 := Scalar.andi v2900 c65535_i32_1088
  let c2048_i32_1089 : BitVec 32 := 2048#32
  let v2902 : BitVec 32 := Scalar.select v2898 v2901 c2048_i32_1089
  let v2903 : BitVec 32 := Scalar.addi v1470 v2902
  let v2906 : Index := Scalar.indexCast v2903
  let c0_1091 : Index := 0#32
  ![v2906.toNat, 0]

def k0_chk643 (i : grid0.Coords) (v2750 : BitVec 32) (v2753 : BitVec 32) (v2900 : BitVec 32) : Prop :=
  (∀ a, (k0_off1288 i v2750 v2753 v2900) a + S1x128.size a ≤ S8224x128.size a)
theorem k0_off1288_inb : ∀ (i : grid0.Coords) (v2750 : BitVec 32) (v2753 : BitVec 32) (v2900 : BitVec 32) (k0_hw643 : k0_chk643 i v2750 v2753 v2900), ∀ a, (k0_off1288 i v2750 v2753 v2900) a + S1x128.size a ≤ S8224x128.size a := fun i v2750 v2753 v2900 k0_hw643 => k0_hw643

def k0_off1289 (v2750 : BitVec 32) : Fin 1 → Nat :=
  let c10_i32_1092 : BitVec 32 := 10#32
  let v2911 : BitVec 32 := Scalar.addi v2750 c10_i32_1092
  let v2914 : Index := Scalar.indexCast v2911
  ![v2914.toNat]
def k0_off1290 (i : grid0.Coords) (v2750 : BitVec 32) (v2753 : BitVec 32) (v2915 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_1093 : BitVec 32 := 10#32
  let v2912 : BitVec 32 := Scalar.addi v2750 c10_i32_1093
  let v2913 : BitVec 1 := Scalar.cmpi .slt v2912 v2753
  let c65535_i32_1094 : BitVec 32 := 65535#32
  let v2916 : BitVec 32 := Scalar.andi v2915 c65535_i32_1094
  let c2048_i32_1095 : BitVec 32 := 2048#32
  let v2917 : BitVec 32 := Scalar.select v2913 v2916 c2048_i32_1095
  let v2918 : BitVec 32 := Scalar.addi v1470 v2917
  let v2921 : Index := Scalar.indexCast v2918
  let c0_1097 : Index := 0#32
  ![v2921.toNat, 0]

def k0_chk644 (i : grid0.Coords) (v2750 : BitVec 32) (v2753 : BitVec 32) (v2915 : BitVec 32) : Prop :=
  (∀ a, (k0_off1290 i v2750 v2753 v2915) a + S1x128.size a ≤ S8224x128.size a)
theorem k0_off1290_inb : ∀ (i : grid0.Coords) (v2750 : BitVec 32) (v2753 : BitVec 32) (v2915 : BitVec 32) (k0_hw644 : k0_chk644 i v2750 v2753 v2915), ∀ a, (k0_off1290 i v2750 v2753 v2915) a + S1x128.size a ≤ S8224x128.size a := fun i v2750 v2753 v2915 k0_hw644 => k0_hw644

def k0_off1291 (v2750 : BitVec 32) : Fin 1 → Nat :=
  let c11_i32_1098 : BitVec 32 := 11#32
  let v2926 : BitVec 32 := Scalar.addi v2750 c11_i32_1098
  let v2929 : Index := Scalar.indexCast v2926
  ![v2929.toNat]
def k0_off1292 (i : grid0.Coords) (v2750 : BitVec 32) (v2753 : BitVec 32) (v2930 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_1099 : BitVec 32 := 11#32
  let v2927 : BitVec 32 := Scalar.addi v2750 c11_i32_1099
  let v2928 : BitVec 1 := Scalar.cmpi .slt v2927 v2753
  let c65535_i32_1100 : BitVec 32 := 65535#32
  let v2931 : BitVec 32 := Scalar.andi v2930 c65535_i32_1100
  let c2048_i32_1101 : BitVec 32 := 2048#32
  let v2932 : BitVec 32 := Scalar.select v2928 v2931 c2048_i32_1101
  let v2933 : BitVec 32 := Scalar.addi v1470 v2932
  let v2936 : Index := Scalar.indexCast v2933
  let c0_1103 : Index := 0#32
  ![v2936.toNat, 0]

def k0_chk645 (i : grid0.Coords) (v2750 : BitVec 32) (v2753 : BitVec 32) (v2930 : BitVec 32) : Prop :=
  (∀ a, (k0_off1292 i v2750 v2753 v2930) a + S1x128.size a ≤ S8224x128.size a)
theorem k0_off1292_inb : ∀ (i : grid0.Coords) (v2750 : BitVec 32) (v2753 : BitVec 32) (v2930 : BitVec 32) (k0_hw645 : k0_chk645 i v2750 v2753 v2930), ∀ a, (k0_off1292 i v2750 v2753 v2930) a + S1x128.size a ≤ S8224x128.size a := fun i v2750 v2753 v2930 k0_hw645 => k0_hw645

def k0_off1293 (v2750 : BitVec 32) : Fin 1 → Nat :=
  let c12_i32_1104 : BitVec 32 := 12#32
  let v2941 : BitVec 32 := Scalar.addi v2750 c12_i32_1104
  let v2944 : Index := Scalar.indexCast v2941
  ![v2944.toNat]
def k0_off1294 (i : grid0.Coords) (v2750 : BitVec 32) (v2753 : BitVec 32) (v2945 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_1105 : BitVec 32 := 12#32
  let v2942 : BitVec 32 := Scalar.addi v2750 c12_i32_1105
  let v2943 : BitVec 1 := Scalar.cmpi .slt v2942 v2753
  let c65535_i32_1106 : BitVec 32 := 65535#32
  let v2946 : BitVec 32 := Scalar.andi v2945 c65535_i32_1106
  let c2048_i32_1107 : BitVec 32 := 2048#32
  let v2947 : BitVec 32 := Scalar.select v2943 v2946 c2048_i32_1107
  let v2948 : BitVec 32 := Scalar.addi v1470 v2947
  let v2951 : Index := Scalar.indexCast v2948
  let c0_1109 : Index := 0#32
  ![v2951.toNat, 0]

def k0_chk646 (i : grid0.Coords) (v2750 : BitVec 32) (v2753 : BitVec 32) (v2945 : BitVec 32) : Prop :=
  (∀ a, (k0_off1294 i v2750 v2753 v2945) a + S1x128.size a ≤ S8224x128.size a)
theorem k0_off1294_inb : ∀ (i : grid0.Coords) (v2750 : BitVec 32) (v2753 : BitVec 32) (v2945 : BitVec 32) (k0_hw646 : k0_chk646 i v2750 v2753 v2945), ∀ a, (k0_off1294 i v2750 v2753 v2945) a + S1x128.size a ≤ S8224x128.size a := fun i v2750 v2753 v2945 k0_hw646 => k0_hw646

def k0_off1295 (v2750 : BitVec 32) : Fin 1 → Nat :=
  let c13_i32_1110 : BitVec 32 := 13#32
  let v2956 : BitVec 32 := Scalar.addi v2750 c13_i32_1110
  let v2959 : Index := Scalar.indexCast v2956
  ![v2959.toNat]
def k0_off1296 (i : grid0.Coords) (v2750 : BitVec 32) (v2753 : BitVec 32) (v2960 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_1111 : BitVec 32 := 13#32
  let v2957 : BitVec 32 := Scalar.addi v2750 c13_i32_1111
  let v2958 : BitVec 1 := Scalar.cmpi .slt v2957 v2753
  let c65535_i32_1112 : BitVec 32 := 65535#32
  let v2961 : BitVec 32 := Scalar.andi v2960 c65535_i32_1112
  let c2048_i32_1113 : BitVec 32 := 2048#32
  let v2962 : BitVec 32 := Scalar.select v2958 v2961 c2048_i32_1113
  let v2963 : BitVec 32 := Scalar.addi v1470 v2962
  let v2966 : Index := Scalar.indexCast v2963
  let c0_1115 : Index := 0#32
  ![v2966.toNat, 0]

def k0_chk647 (i : grid0.Coords) (v2750 : BitVec 32) (v2753 : BitVec 32) (v2960 : BitVec 32) : Prop :=
  (∀ a, (k0_off1296 i v2750 v2753 v2960) a + S1x128.size a ≤ S8224x128.size a)
theorem k0_off1296_inb : ∀ (i : grid0.Coords) (v2750 : BitVec 32) (v2753 : BitVec 32) (v2960 : BitVec 32) (k0_hw647 : k0_chk647 i v2750 v2753 v2960), ∀ a, (k0_off1296 i v2750 v2753 v2960) a + S1x128.size a ≤ S8224x128.size a := fun i v2750 v2753 v2960 k0_hw647 => k0_hw647

def k0_off1297 (v2750 : BitVec 32) : Fin 1 → Nat :=
  let c14_i32_1116 : BitVec 32 := 14#32
  let v2971 : BitVec 32 := Scalar.addi v2750 c14_i32_1116
  let v2974 : Index := Scalar.indexCast v2971
  ![v2974.toNat]
def k0_off1298 (i : grid0.Coords) (v2750 : BitVec 32) (v2753 : BitVec 32) (v2975 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_1117 : BitVec 32 := 14#32
  let v2972 : BitVec 32 := Scalar.addi v2750 c14_i32_1117
  let v2973 : BitVec 1 := Scalar.cmpi .slt v2972 v2753
  let c65535_i32_1118 : BitVec 32 := 65535#32
  let v2976 : BitVec 32 := Scalar.andi v2975 c65535_i32_1118
  let c2048_i32_1119 : BitVec 32 := 2048#32
  let v2977 : BitVec 32 := Scalar.select v2973 v2976 c2048_i32_1119
  let v2978 : BitVec 32 := Scalar.addi v1470 v2977
  let v2981 : Index := Scalar.indexCast v2978
  let c0_1121 : Index := 0#32
  ![v2981.toNat, 0]

def k0_chk648 (i : grid0.Coords) (v2750 : BitVec 32) (v2753 : BitVec 32) (v2975 : BitVec 32) : Prop :=
  (∀ a, (k0_off1298 i v2750 v2753 v2975) a + S1x128.size a ≤ S8224x128.size a)
theorem k0_off1298_inb : ∀ (i : grid0.Coords) (v2750 : BitVec 32) (v2753 : BitVec 32) (v2975 : BitVec 32) (k0_hw648 : k0_chk648 i v2750 v2753 v2975), ∀ a, (k0_off1298 i v2750 v2753 v2975) a + S1x128.size a ≤ S8224x128.size a := fun i v2750 v2753 v2975 k0_hw648 => k0_hw648

def k0_off1299 (v2750 : BitVec 32) : Fin 1 → Nat :=
  let c15_i32_1122 : BitVec 32 := 15#32
  let v2986 : BitVec 32 := Scalar.addi v2750 c15_i32_1122
  let v2989 : Index := Scalar.indexCast v2986
  ![v2989.toNat]

def k0_chk633 (v2750 : BitVec 32) : Prop :=
  (∀ a, (k0_off1269 v2750) a + S1.size a ≤ S51920.size a) ∧
  (∀ a, (k0_off1271 v2750) a + S1.size a ≤ S51920.size a) ∧
  (∀ a, (k0_off1273 v2750) a + S1.size a ≤ S51920.size a) ∧
  (∀ a, (k0_off1275 v2750) a + S1.size a ≤ S51920.size a) ∧
  (∀ a, (k0_off1277 v2750) a + S1.size a ≤ S51920.size a) ∧
  (∀ a, (k0_off1279 v2750) a + S1.size a ≤ S51920.size a) ∧
  (∀ a, (k0_off1281 v2750) a + S1.size a ≤ S51920.size a) ∧
  (∀ a, (k0_off1283 v2750) a + S1.size a ≤ S51920.size a) ∧
  (∀ a, (k0_off1285 v2750) a + S1.size a ≤ S51920.size a) ∧
  (∀ a, (k0_off1287 v2750) a + S1.size a ≤ S51920.size a) ∧
  (∀ a, (k0_off1289 v2750) a + S1.size a ≤ S51920.size a) ∧
  (∀ a, (k0_off1291 v2750) a + S1.size a ≤ S51920.size a) ∧
  (∀ a, (k0_off1293 v2750) a + S1.size a ≤ S51920.size a) ∧
  (∀ a, (k0_off1295 v2750) a + S1.size a ≤ S51920.size a) ∧
  (∀ a, (k0_off1297 v2750) a + S1.size a ≤ S51920.size a) ∧
  (∀ a, (k0_off1299 v2750) a + S1.size a ≤ S51920.size a)
theorem k0_off1269_inb : ∀ (v2750 : BitVec 32) (k0_hw633 : k0_chk633 v2750), ∀ a, (k0_off1269 v2750) a + S1.size a ≤ S51920.size a := fun v2750 k0_hw633 => k0_hw633.1
theorem k0_off1271_inb : ∀ (v2750 : BitVec 32) (k0_hw633 : k0_chk633 v2750), ∀ a, (k0_off1271 v2750) a + S1.size a ≤ S51920.size a := fun v2750 k0_hw633 => k0_hw633.2.1
theorem k0_off1273_inb : ∀ (v2750 : BitVec 32) (k0_hw633 : k0_chk633 v2750), ∀ a, (k0_off1273 v2750) a + S1.size a ≤ S51920.size a := fun v2750 k0_hw633 => k0_hw633.2.2.1
theorem k0_off1275_inb : ∀ (v2750 : BitVec 32) (k0_hw633 : k0_chk633 v2750), ∀ a, (k0_off1275 v2750) a + S1.size a ≤ S51920.size a := fun v2750 k0_hw633 => k0_hw633.2.2.2.1
theorem k0_off1277_inb : ∀ (v2750 : BitVec 32) (k0_hw633 : k0_chk633 v2750), ∀ a, (k0_off1277 v2750) a + S1.size a ≤ S51920.size a := fun v2750 k0_hw633 => k0_hw633.2.2.2.2.1
theorem k0_off1279_inb : ∀ (v2750 : BitVec 32) (k0_hw633 : k0_chk633 v2750), ∀ a, (k0_off1279 v2750) a + S1.size a ≤ S51920.size a := fun v2750 k0_hw633 => k0_hw633.2.2.2.2.2.1
theorem k0_off1281_inb : ∀ (v2750 : BitVec 32) (k0_hw633 : k0_chk633 v2750), ∀ a, (k0_off1281 v2750) a + S1.size a ≤ S51920.size a := fun v2750 k0_hw633 => k0_hw633.2.2.2.2.2.2.1
theorem k0_off1283_inb : ∀ (v2750 : BitVec 32) (k0_hw633 : k0_chk633 v2750), ∀ a, (k0_off1283 v2750) a + S1.size a ≤ S51920.size a := fun v2750 k0_hw633 => k0_hw633.2.2.2.2.2.2.2.1
theorem k0_off1285_inb : ∀ (v2750 : BitVec 32) (k0_hw633 : k0_chk633 v2750), ∀ a, (k0_off1285 v2750) a + S1.size a ≤ S51920.size a := fun v2750 k0_hw633 => k0_hw633.2.2.2.2.2.2.2.2.1
theorem k0_off1287_inb : ∀ (v2750 : BitVec 32) (k0_hw633 : k0_chk633 v2750), ∀ a, (k0_off1287 v2750) a + S1.size a ≤ S51920.size a := fun v2750 k0_hw633 => k0_hw633.2.2.2.2.2.2.2.2.2.1
theorem k0_off1289_inb : ∀ (v2750 : BitVec 32) (k0_hw633 : k0_chk633 v2750), ∀ a, (k0_off1289 v2750) a + S1.size a ≤ S51920.size a := fun v2750 k0_hw633 => k0_hw633.2.2.2.2.2.2.2.2.2.2.1
theorem k0_off1291_inb : ∀ (v2750 : BitVec 32) (k0_hw633 : k0_chk633 v2750), ∀ a, (k0_off1291 v2750) a + S1.size a ≤ S51920.size a := fun v2750 k0_hw633 => k0_hw633.2.2.2.2.2.2.2.2.2.2.2.1
theorem k0_off1293_inb : ∀ (v2750 : BitVec 32) (k0_hw633 : k0_chk633 v2750), ∀ a, (k0_off1293 v2750) a + S1.size a ≤ S51920.size a := fun v2750 k0_hw633 => k0_hw633.2.2.2.2.2.2.2.2.2.2.2.2.1
theorem k0_off1295_inb : ∀ (v2750 : BitVec 32) (k0_hw633 : k0_chk633 v2750), ∀ a, (k0_off1295 v2750) a + S1.size a ≤ S51920.size a := fun v2750 k0_hw633 => k0_hw633.2.2.2.2.2.2.2.2.2.2.2.2.2.1
theorem k0_off1297_inb : ∀ (v2750 : BitVec 32) (k0_hw633 : k0_chk633 v2750), ∀ a, (k0_off1297 v2750) a + S1.size a ≤ S51920.size a := fun v2750 k0_hw633 => k0_hw633.2.2.2.2.2.2.2.2.2.2.2.2.2.2.1
theorem k0_off1299_inb : ∀ (v2750 : BitVec 32) (k0_hw633 : k0_chk633 v2750), ∀ a, (k0_off1299 v2750) a + S1.size a ≤ S51920.size a := fun v2750 k0_hw633 => k0_hw633.2.2.2.2.2.2.2.2.2.2.2.2.2.2.2

def k0_off1300 (i : grid0.Coords) (v2750 : BitVec 32) (v2753 : BitVec 32) (v2990 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_1123 : BitVec 32 := 15#32
  let v2987 : BitVec 32 := Scalar.addi v2750 c15_i32_1123
  let v2988 : BitVec 1 := Scalar.cmpi .slt v2987 v2753
  let c65535_i32_1124 : BitVec 32 := 65535#32
  let v2991 : BitVec 32 := Scalar.andi v2990 c65535_i32_1124
  let c2048_i32_1125 : BitVec 32 := 2048#32
  let v2992 : BitVec 32 := Scalar.select v2988 v2991 c2048_i32_1125
  let v2993 : BitVec 32 := Scalar.addi v1470 v2992
  let v2996 : Index := Scalar.indexCast v2993
  let c0_1127 : Index := 0#32
  ![v2996.toNat, 0]

def k0_chk649 (i : grid0.Coords) (v2750 : BitVec 32) (v2753 : BitVec 32) (v2990 : BitVec 32) : Prop :=
  (∀ a, (k0_off1300 i v2750 v2753 v2990) a + S1x128.size a ≤ S8224x128.size a)
theorem k0_off1300_inb : ∀ (i : grid0.Coords) (v2750 : BitVec 32) (v2753 : BitVec 32) (v2990 : BitVec 32) (k0_hw649 : k0_chk649 i v2750 v2753 v2990), ∀ a, (k0_off1300 i v2750 v2753 v2990) a + S1x128.size a ≤ S8224x128.size a := fun i v2750 v2753 v2990 k0_hw649 => k0_hw649

def k0_off1301 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1128 : BitVec 32 := 512#32
  let v3001 : BitVec 32 := Scalar.muli v24 c512_i32_1128
  let arg1 : BitVec 32 := BitVec.ofNat 32 (i 1).val
  let c32_i32 : BitVec 32 := 32#32
  let v1452 : BitVec 32 := Scalar.muli arg1 c32_i32
  let v3002 : BitVec 32 := Scalar.addi v3001 v1452
  let c6_i32_1129 : BitVec 32 := 6#32
  let v3003 : BitVec 32 := Scalar.addi v3002 c6_i32_1129
  let v3004 : Index := Scalar.indexCast v3003
  ![v3004.toNat]
def k0_off1302 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1128 : BitVec 32 := 512#32
  let v3001 : BitVec 32 := Scalar.muli v24 c512_i32_1128
  let arg1 : BitVec 32 := BitVec.ofNat 32 (i 1).val
  let c32_i32 : BitVec 32 := 32#32
  let v1452 : BitVec 32 := Scalar.muli arg1 c32_i32
  let v3002 : BitVec 32 := Scalar.addi v3001 v1452
  let c6_i32_1129 : BitVec 32 := 6#32
  let v3003 : BitVec 32 := Scalar.addi v3002 c6_i32_1129
  let c1_i32_1130 : BitVec 32 := 1#32
  let v3006 : BitVec 32 := Scalar.addi v3003 c1_i32_1130
  let v3007 : Index := Scalar.indexCast v3006
  ![v3007.toNat]
def k0_off1303 (v3005 : BitVec 32) : Fin 1 → Nat :=
  let c0_i32_1133 : BitVec 32 := 0#32
  let v3016 : BitVec 32 := Scalar.addi v3005 c0_i32_1133
  let v3019 : Index := Scalar.indexCast v3016
  ![v3019.toNat]

def k0_off1304 (i : grid0.Coords) (v3005 : BitVec 32) (v3008 : BitVec 32) (v3020 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_1134 : BitVec 32 := 0#32
  let v3017 : BitVec 32 := Scalar.addi v3005 c0_i32_1134
  let v3018 : BitVec 1 := Scalar.cmpi .slt v3017 v3008
  let c65535_i32_1135 : BitVec 32 := 65535#32
  let v3021 : BitVec 32 := Scalar.andi v3020 c65535_i32_1135
  let c2048_i32_1136 : BitVec 32 := 2048#32
  let v3022 : BitVec 32 := Scalar.select v3018 v3021 c2048_i32_1136
  let v3023 : BitVec 32 := Scalar.addi v1470 v3022
  let v3026 : Index := Scalar.indexCast v3023
  let c0_1138 : Index := 0#32
  ![v3026.toNat, 0]

def k0_chk651 (i : grid0.Coords) (v3005 : BitVec 32) (v3008 : BitVec 32) (v3020 : BitVec 32) : Prop :=
  (∀ a, (k0_off1304 i v3005 v3008 v3020) a + S1x128.size a ≤ S8224x128.size a)
theorem k0_off1304_inb : ∀ (i : grid0.Coords) (v3005 : BitVec 32) (v3008 : BitVec 32) (v3020 : BitVec 32) (k0_hw651 : k0_chk651 i v3005 v3008 v3020), ∀ a, (k0_off1304 i v3005 v3008 v3020) a + S1x128.size a ≤ S8224x128.size a := fun i v3005 v3008 v3020 k0_hw651 => k0_hw651

def k0_off1305 (v3005 : BitVec 32) : Fin 1 → Nat :=
  let c1_i32_1139 : BitVec 32 := 1#32
  let v3031 : BitVec 32 := Scalar.addi v3005 c1_i32_1139
  let v3034 : Index := Scalar.indexCast v3031
  ![v3034.toNat]
def k0_off1306 (i : grid0.Coords) (v3005 : BitVec 32) (v3008 : BitVec 32) (v3035 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_1140 : BitVec 32 := 1#32
  let v3032 : BitVec 32 := Scalar.addi v3005 c1_i32_1140
  let v3033 : BitVec 1 := Scalar.cmpi .slt v3032 v3008
  let c65535_i32_1141 : BitVec 32 := 65535#32
  let v3036 : BitVec 32 := Scalar.andi v3035 c65535_i32_1141
  let c2048_i32_1142 : BitVec 32 := 2048#32
  let v3037 : BitVec 32 := Scalar.select v3033 v3036 c2048_i32_1142
  let v3038 : BitVec 32 := Scalar.addi v1470 v3037
  let v3041 : Index := Scalar.indexCast v3038
  let c0_1144 : Index := 0#32
  ![v3041.toNat, 0]

def k0_chk652 (i : grid0.Coords) (v3005 : BitVec 32) (v3008 : BitVec 32) (v3035 : BitVec 32) : Prop :=
  (∀ a, (k0_off1306 i v3005 v3008 v3035) a + S1x128.size a ≤ S8224x128.size a)
theorem k0_off1306_inb : ∀ (i : grid0.Coords) (v3005 : BitVec 32) (v3008 : BitVec 32) (v3035 : BitVec 32) (k0_hw652 : k0_chk652 i v3005 v3008 v3035), ∀ a, (k0_off1306 i v3005 v3008 v3035) a + S1x128.size a ≤ S8224x128.size a := fun i v3005 v3008 v3035 k0_hw652 => k0_hw652

def k0_off1307 (v3005 : BitVec 32) : Fin 1 → Nat :=
  let c2_i32_1145 : BitVec 32 := 2#32
  let v3046 : BitVec 32 := Scalar.addi v3005 c2_i32_1145
  let v3049 : Index := Scalar.indexCast v3046
  ![v3049.toNat]
def k0_off1308 (i : grid0.Coords) (v3005 : BitVec 32) (v3008 : BitVec 32) (v3050 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_1146 : BitVec 32 := 2#32
  let v3047 : BitVec 32 := Scalar.addi v3005 c2_i32_1146
  let v3048 : BitVec 1 := Scalar.cmpi .slt v3047 v3008
  let c65535_i32_1147 : BitVec 32 := 65535#32
  let v3051 : BitVec 32 := Scalar.andi v3050 c65535_i32_1147
  let c2048_i32_1148 : BitVec 32 := 2048#32
  let v3052 : BitVec 32 := Scalar.select v3048 v3051 c2048_i32_1148
  let v3053 : BitVec 32 := Scalar.addi v1470 v3052
  let v3056 : Index := Scalar.indexCast v3053
  let c0_1150 : Index := 0#32
  ![v3056.toNat, 0]

def k0_chk653 (i : grid0.Coords) (v3005 : BitVec 32) (v3008 : BitVec 32) (v3050 : BitVec 32) : Prop :=
  (∀ a, (k0_off1308 i v3005 v3008 v3050) a + S1x128.size a ≤ S8224x128.size a)
theorem k0_off1308_inb : ∀ (i : grid0.Coords) (v3005 : BitVec 32) (v3008 : BitVec 32) (v3050 : BitVec 32) (k0_hw653 : k0_chk653 i v3005 v3008 v3050), ∀ a, (k0_off1308 i v3005 v3008 v3050) a + S1x128.size a ≤ S8224x128.size a := fun i v3005 v3008 v3050 k0_hw653 => k0_hw653

def k0_off1309 (v3005 : BitVec 32) : Fin 1 → Nat :=
  let c3_i32_1151 : BitVec 32 := 3#32
  let v3061 : BitVec 32 := Scalar.addi v3005 c3_i32_1151
  let v3064 : Index := Scalar.indexCast v3061
  ![v3064.toNat]
def k0_off1310 (i : grid0.Coords) (v3005 : BitVec 32) (v3008 : BitVec 32) (v3065 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_1152 : BitVec 32 := 3#32
  let v3062 : BitVec 32 := Scalar.addi v3005 c3_i32_1152
  let v3063 : BitVec 1 := Scalar.cmpi .slt v3062 v3008
  let c65535_i32_1153 : BitVec 32 := 65535#32
  let v3066 : BitVec 32 := Scalar.andi v3065 c65535_i32_1153
  let c2048_i32_1154 : BitVec 32 := 2048#32
  let v3067 : BitVec 32 := Scalar.select v3063 v3066 c2048_i32_1154
  let v3068 : BitVec 32 := Scalar.addi v1470 v3067
  let v3071 : Index := Scalar.indexCast v3068
  let c0_1156 : Index := 0#32
  ![v3071.toNat, 0]

def k0_chk654 (i : grid0.Coords) (v3005 : BitVec 32) (v3008 : BitVec 32) (v3065 : BitVec 32) : Prop :=
  (∀ a, (k0_off1310 i v3005 v3008 v3065) a + S1x128.size a ≤ S8224x128.size a)
theorem k0_off1310_inb : ∀ (i : grid0.Coords) (v3005 : BitVec 32) (v3008 : BitVec 32) (v3065 : BitVec 32) (k0_hw654 : k0_chk654 i v3005 v3008 v3065), ∀ a, (k0_off1310 i v3005 v3008 v3065) a + S1x128.size a ≤ S8224x128.size a := fun i v3005 v3008 v3065 k0_hw654 => k0_hw654

def k0_off1311 (v3005 : BitVec 32) : Fin 1 → Nat :=
  let c4_i32_1157 : BitVec 32 := 4#32
  let v3076 : BitVec 32 := Scalar.addi v3005 c4_i32_1157
  let v3079 : Index := Scalar.indexCast v3076
  ![v3079.toNat]
def k0_off1312 (i : grid0.Coords) (v3005 : BitVec 32) (v3008 : BitVec 32) (v3080 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_1158 : BitVec 32 := 4#32
  let v3077 : BitVec 32 := Scalar.addi v3005 c4_i32_1158
  let v3078 : BitVec 1 := Scalar.cmpi .slt v3077 v3008
  let c65535_i32_1159 : BitVec 32 := 65535#32
  let v3081 : BitVec 32 := Scalar.andi v3080 c65535_i32_1159
  let c2048_i32_1160 : BitVec 32 := 2048#32
  let v3082 : BitVec 32 := Scalar.select v3078 v3081 c2048_i32_1160
  let v3083 : BitVec 32 := Scalar.addi v1470 v3082
  let v3086 : Index := Scalar.indexCast v3083
  let c0_1162 : Index := 0#32
  ![v3086.toNat, 0]

def k0_chk655 (i : grid0.Coords) (v3005 : BitVec 32) (v3008 : BitVec 32) (v3080 : BitVec 32) : Prop :=
  (∀ a, (k0_off1312 i v3005 v3008 v3080) a + S1x128.size a ≤ S8224x128.size a)
theorem k0_off1312_inb : ∀ (i : grid0.Coords) (v3005 : BitVec 32) (v3008 : BitVec 32) (v3080 : BitVec 32) (k0_hw655 : k0_chk655 i v3005 v3008 v3080), ∀ a, (k0_off1312 i v3005 v3008 v3080) a + S1x128.size a ≤ S8224x128.size a := fun i v3005 v3008 v3080 k0_hw655 => k0_hw655

def k0_off1313 (v3005 : BitVec 32) : Fin 1 → Nat :=
  let c5_i32_1163 : BitVec 32 := 5#32
  let v3091 : BitVec 32 := Scalar.addi v3005 c5_i32_1163
  let v3094 : Index := Scalar.indexCast v3091
  ![v3094.toNat]
def k0_off1314 (i : grid0.Coords) (v3005 : BitVec 32) (v3008 : BitVec 32) (v3095 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_1164 : BitVec 32 := 5#32
  let v3092 : BitVec 32 := Scalar.addi v3005 c5_i32_1164
  let v3093 : BitVec 1 := Scalar.cmpi .slt v3092 v3008
  let c65535_i32_1165 : BitVec 32 := 65535#32
  let v3096 : BitVec 32 := Scalar.andi v3095 c65535_i32_1165
  let c2048_i32_1166 : BitVec 32 := 2048#32
  let v3097 : BitVec 32 := Scalar.select v3093 v3096 c2048_i32_1166
  let v3098 : BitVec 32 := Scalar.addi v1470 v3097
  let v3101 : Index := Scalar.indexCast v3098
  let c0_1168 : Index := 0#32
  ![v3101.toNat, 0]

def k0_chk656 (i : grid0.Coords) (v3005 : BitVec 32) (v3008 : BitVec 32) (v3095 : BitVec 32) : Prop :=
  (∀ a, (k0_off1314 i v3005 v3008 v3095) a + S1x128.size a ≤ S8224x128.size a)
theorem k0_off1314_inb : ∀ (i : grid0.Coords) (v3005 : BitVec 32) (v3008 : BitVec 32) (v3095 : BitVec 32) (k0_hw656 : k0_chk656 i v3005 v3008 v3095), ∀ a, (k0_off1314 i v3005 v3008 v3095) a + S1x128.size a ≤ S8224x128.size a := fun i v3005 v3008 v3095 k0_hw656 => k0_hw656

def k0_off1315 (v3005 : BitVec 32) : Fin 1 → Nat :=
  let c6_i32_1169 : BitVec 32 := 6#32
  let v3106 : BitVec 32 := Scalar.addi v3005 c6_i32_1169
  let v3109 : Index := Scalar.indexCast v3106
  ![v3109.toNat]
def k0_off1316 (i : grid0.Coords) (v3005 : BitVec 32) (v3008 : BitVec 32) (v3110 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_1170 : BitVec 32 := 6#32
  let v3107 : BitVec 32 := Scalar.addi v3005 c6_i32_1170
  let v3108 : BitVec 1 := Scalar.cmpi .slt v3107 v3008
  let c65535_i32_1171 : BitVec 32 := 65535#32
  let v3111 : BitVec 32 := Scalar.andi v3110 c65535_i32_1171
  let c2048_i32_1172 : BitVec 32 := 2048#32
  let v3112 : BitVec 32 := Scalar.select v3108 v3111 c2048_i32_1172
  let v3113 : BitVec 32 := Scalar.addi v1470 v3112
  let v3116 : Index := Scalar.indexCast v3113
  let c0_1174 : Index := 0#32
  ![v3116.toNat, 0]

def k0_chk657 (i : grid0.Coords) (v3005 : BitVec 32) (v3008 : BitVec 32) (v3110 : BitVec 32) : Prop :=
  (∀ a, (k0_off1316 i v3005 v3008 v3110) a + S1x128.size a ≤ S8224x128.size a)
theorem k0_off1316_inb : ∀ (i : grid0.Coords) (v3005 : BitVec 32) (v3008 : BitVec 32) (v3110 : BitVec 32) (k0_hw657 : k0_chk657 i v3005 v3008 v3110), ∀ a, (k0_off1316 i v3005 v3008 v3110) a + S1x128.size a ≤ S8224x128.size a := fun i v3005 v3008 v3110 k0_hw657 => k0_hw657

def k0_off1317 (v3005 : BitVec 32) : Fin 1 → Nat :=
  let c7_i32_1175 : BitVec 32 := 7#32
  let v3121 : BitVec 32 := Scalar.addi v3005 c7_i32_1175
  let v3124 : Index := Scalar.indexCast v3121
  ![v3124.toNat]
def k0_off1318 (i : grid0.Coords) (v3005 : BitVec 32) (v3008 : BitVec 32) (v3125 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_1176 : BitVec 32 := 7#32
  let v3122 : BitVec 32 := Scalar.addi v3005 c7_i32_1176
  let v3123 : BitVec 1 := Scalar.cmpi .slt v3122 v3008
  let c65535_i32_1177 : BitVec 32 := 65535#32
  let v3126 : BitVec 32 := Scalar.andi v3125 c65535_i32_1177
  let c2048_i32_1178 : BitVec 32 := 2048#32
  let v3127 : BitVec 32 := Scalar.select v3123 v3126 c2048_i32_1178
  let v3128 : BitVec 32 := Scalar.addi v1470 v3127
  let v3131 : Index := Scalar.indexCast v3128
  let c0_1180 : Index := 0#32
  ![v3131.toNat, 0]

def k0_chk658 (i : grid0.Coords) (v3005 : BitVec 32) (v3008 : BitVec 32) (v3125 : BitVec 32) : Prop :=
  (∀ a, (k0_off1318 i v3005 v3008 v3125) a + S1x128.size a ≤ S8224x128.size a)
theorem k0_off1318_inb : ∀ (i : grid0.Coords) (v3005 : BitVec 32) (v3008 : BitVec 32) (v3125 : BitVec 32) (k0_hw658 : k0_chk658 i v3005 v3008 v3125), ∀ a, (k0_off1318 i v3005 v3008 v3125) a + S1x128.size a ≤ S8224x128.size a := fun i v3005 v3008 v3125 k0_hw658 => k0_hw658

def k0_off1319 (v3005 : BitVec 32) : Fin 1 → Nat :=
  let c8_i32_1181 : BitVec 32 := 8#32
  let v3136 : BitVec 32 := Scalar.addi v3005 c8_i32_1181
  let v3139 : Index := Scalar.indexCast v3136
  ![v3139.toNat]
def k0_off1320 (i : grid0.Coords) (v3005 : BitVec 32) (v3008 : BitVec 32) (v3140 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_1182 : BitVec 32 := 8#32
  let v3137 : BitVec 32 := Scalar.addi v3005 c8_i32_1182
  let v3138 : BitVec 1 := Scalar.cmpi .slt v3137 v3008
  let c65535_i32_1183 : BitVec 32 := 65535#32
  let v3141 : BitVec 32 := Scalar.andi v3140 c65535_i32_1183
  let c2048_i32_1184 : BitVec 32 := 2048#32
  let v3142 : BitVec 32 := Scalar.select v3138 v3141 c2048_i32_1184
  let v3143 : BitVec 32 := Scalar.addi v1470 v3142
  let v3146 : Index := Scalar.indexCast v3143
  let c0_1186 : Index := 0#32
  ![v3146.toNat, 0]

def k0_chk659 (i : grid0.Coords) (v3005 : BitVec 32) (v3008 : BitVec 32) (v3140 : BitVec 32) : Prop :=
  (∀ a, (k0_off1320 i v3005 v3008 v3140) a + S1x128.size a ≤ S8224x128.size a)
theorem k0_off1320_inb : ∀ (i : grid0.Coords) (v3005 : BitVec 32) (v3008 : BitVec 32) (v3140 : BitVec 32) (k0_hw659 : k0_chk659 i v3005 v3008 v3140), ∀ a, (k0_off1320 i v3005 v3008 v3140) a + S1x128.size a ≤ S8224x128.size a := fun i v3005 v3008 v3140 k0_hw659 => k0_hw659

def k0_off1321 (v3005 : BitVec 32) : Fin 1 → Nat :=
  let c9_i32_1187 : BitVec 32 := 9#32
  let v3151 : BitVec 32 := Scalar.addi v3005 c9_i32_1187
  let v3154 : Index := Scalar.indexCast v3151
  ![v3154.toNat]
def k0_off1322 (i : grid0.Coords) (v3005 : BitVec 32) (v3008 : BitVec 32) (v3155 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_1188 : BitVec 32 := 9#32
  let v3152 : BitVec 32 := Scalar.addi v3005 c9_i32_1188
  let v3153 : BitVec 1 := Scalar.cmpi .slt v3152 v3008
  let c65535_i32_1189 : BitVec 32 := 65535#32
  let v3156 : BitVec 32 := Scalar.andi v3155 c65535_i32_1189
  let c2048_i32_1190 : BitVec 32 := 2048#32
  let v3157 : BitVec 32 := Scalar.select v3153 v3156 c2048_i32_1190
  let v3158 : BitVec 32 := Scalar.addi v1470 v3157
  let v3161 : Index := Scalar.indexCast v3158
  let c0_1192 : Index := 0#32
  ![v3161.toNat, 0]

def k0_chk660 (i : grid0.Coords) (v3005 : BitVec 32) (v3008 : BitVec 32) (v3155 : BitVec 32) : Prop :=
  (∀ a, (k0_off1322 i v3005 v3008 v3155) a + S1x128.size a ≤ S8224x128.size a)
theorem k0_off1322_inb : ∀ (i : grid0.Coords) (v3005 : BitVec 32) (v3008 : BitVec 32) (v3155 : BitVec 32) (k0_hw660 : k0_chk660 i v3005 v3008 v3155), ∀ a, (k0_off1322 i v3005 v3008 v3155) a + S1x128.size a ≤ S8224x128.size a := fun i v3005 v3008 v3155 k0_hw660 => k0_hw660

def k0_off1323 (v3005 : BitVec 32) : Fin 1 → Nat :=
  let c10_i32_1193 : BitVec 32 := 10#32
  let v3166 : BitVec 32 := Scalar.addi v3005 c10_i32_1193
  let v3169 : Index := Scalar.indexCast v3166
  ![v3169.toNat]
def k0_off1324 (i : grid0.Coords) (v3005 : BitVec 32) (v3008 : BitVec 32) (v3170 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_1194 : BitVec 32 := 10#32
  let v3167 : BitVec 32 := Scalar.addi v3005 c10_i32_1194
  let v3168 : BitVec 1 := Scalar.cmpi .slt v3167 v3008
  let c65535_i32_1195 : BitVec 32 := 65535#32
  let v3171 : BitVec 32 := Scalar.andi v3170 c65535_i32_1195
  let c2048_i32_1196 : BitVec 32 := 2048#32
  let v3172 : BitVec 32 := Scalar.select v3168 v3171 c2048_i32_1196
  let v3173 : BitVec 32 := Scalar.addi v1470 v3172
  let v3176 : Index := Scalar.indexCast v3173
  let c0_1198 : Index := 0#32
  ![v3176.toNat, 0]

def k0_chk661 (i : grid0.Coords) (v3005 : BitVec 32) (v3008 : BitVec 32) (v3170 : BitVec 32) : Prop :=
  (∀ a, (k0_off1324 i v3005 v3008 v3170) a + S1x128.size a ≤ S8224x128.size a)
theorem k0_off1324_inb : ∀ (i : grid0.Coords) (v3005 : BitVec 32) (v3008 : BitVec 32) (v3170 : BitVec 32) (k0_hw661 : k0_chk661 i v3005 v3008 v3170), ∀ a, (k0_off1324 i v3005 v3008 v3170) a + S1x128.size a ≤ S8224x128.size a := fun i v3005 v3008 v3170 k0_hw661 => k0_hw661

def k0_off1325 (v3005 : BitVec 32) : Fin 1 → Nat :=
  let c11_i32_1199 : BitVec 32 := 11#32
  let v3181 : BitVec 32 := Scalar.addi v3005 c11_i32_1199
  let v3184 : Index := Scalar.indexCast v3181
  ![v3184.toNat]
def k0_off1326 (i : grid0.Coords) (v3005 : BitVec 32) (v3008 : BitVec 32) (v3185 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_1200 : BitVec 32 := 11#32
  let v3182 : BitVec 32 := Scalar.addi v3005 c11_i32_1200
  let v3183 : BitVec 1 := Scalar.cmpi .slt v3182 v3008
  let c65535_i32_1201 : BitVec 32 := 65535#32
  let v3186 : BitVec 32 := Scalar.andi v3185 c65535_i32_1201
  let c2048_i32_1202 : BitVec 32 := 2048#32
  let v3187 : BitVec 32 := Scalar.select v3183 v3186 c2048_i32_1202
  let v3188 : BitVec 32 := Scalar.addi v1470 v3187
  let v3191 : Index := Scalar.indexCast v3188
  let c0_1204 : Index := 0#32
  ![v3191.toNat, 0]

def k0_chk662 (i : grid0.Coords) (v3005 : BitVec 32) (v3008 : BitVec 32) (v3185 : BitVec 32) : Prop :=
  (∀ a, (k0_off1326 i v3005 v3008 v3185) a + S1x128.size a ≤ S8224x128.size a)
theorem k0_off1326_inb : ∀ (i : grid0.Coords) (v3005 : BitVec 32) (v3008 : BitVec 32) (v3185 : BitVec 32) (k0_hw662 : k0_chk662 i v3005 v3008 v3185), ∀ a, (k0_off1326 i v3005 v3008 v3185) a + S1x128.size a ≤ S8224x128.size a := fun i v3005 v3008 v3185 k0_hw662 => k0_hw662

def k0_off1327 (v3005 : BitVec 32) : Fin 1 → Nat :=
  let c12_i32_1205 : BitVec 32 := 12#32
  let v3196 : BitVec 32 := Scalar.addi v3005 c12_i32_1205
  let v3199 : Index := Scalar.indexCast v3196
  ![v3199.toNat]
def k0_off1328 (i : grid0.Coords) (v3005 : BitVec 32) (v3008 : BitVec 32) (v3200 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_1206 : BitVec 32 := 12#32
  let v3197 : BitVec 32 := Scalar.addi v3005 c12_i32_1206
  let v3198 : BitVec 1 := Scalar.cmpi .slt v3197 v3008
  let c65535_i32_1207 : BitVec 32 := 65535#32
  let v3201 : BitVec 32 := Scalar.andi v3200 c65535_i32_1207
  let c2048_i32_1208 : BitVec 32 := 2048#32
  let v3202 : BitVec 32 := Scalar.select v3198 v3201 c2048_i32_1208
  let v3203 : BitVec 32 := Scalar.addi v1470 v3202
  let v3206 : Index := Scalar.indexCast v3203
  let c0_1210 : Index := 0#32
  ![v3206.toNat, 0]

def k0_chk663 (i : grid0.Coords) (v3005 : BitVec 32) (v3008 : BitVec 32) (v3200 : BitVec 32) : Prop :=
  (∀ a, (k0_off1328 i v3005 v3008 v3200) a + S1x128.size a ≤ S8224x128.size a)
theorem k0_off1328_inb : ∀ (i : grid0.Coords) (v3005 : BitVec 32) (v3008 : BitVec 32) (v3200 : BitVec 32) (k0_hw663 : k0_chk663 i v3005 v3008 v3200), ∀ a, (k0_off1328 i v3005 v3008 v3200) a + S1x128.size a ≤ S8224x128.size a := fun i v3005 v3008 v3200 k0_hw663 => k0_hw663

def k0_off1329 (v3005 : BitVec 32) : Fin 1 → Nat :=
  let c13_i32_1211 : BitVec 32 := 13#32
  let v3211 : BitVec 32 := Scalar.addi v3005 c13_i32_1211
  let v3214 : Index := Scalar.indexCast v3211
  ![v3214.toNat]
def k0_off1330 (i : grid0.Coords) (v3005 : BitVec 32) (v3008 : BitVec 32) (v3215 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_1212 : BitVec 32 := 13#32
  let v3212 : BitVec 32 := Scalar.addi v3005 c13_i32_1212
  let v3213 : BitVec 1 := Scalar.cmpi .slt v3212 v3008
  let c65535_i32_1213 : BitVec 32 := 65535#32
  let v3216 : BitVec 32 := Scalar.andi v3215 c65535_i32_1213
  let c2048_i32_1214 : BitVec 32 := 2048#32
  let v3217 : BitVec 32 := Scalar.select v3213 v3216 c2048_i32_1214
  let v3218 : BitVec 32 := Scalar.addi v1470 v3217
  let v3221 : Index := Scalar.indexCast v3218
  let c0_1216 : Index := 0#32
  ![v3221.toNat, 0]

def k0_chk664 (i : grid0.Coords) (v3005 : BitVec 32) (v3008 : BitVec 32) (v3215 : BitVec 32) : Prop :=
  (∀ a, (k0_off1330 i v3005 v3008 v3215) a + S1x128.size a ≤ S8224x128.size a)
theorem k0_off1330_inb : ∀ (i : grid0.Coords) (v3005 : BitVec 32) (v3008 : BitVec 32) (v3215 : BitVec 32) (k0_hw664 : k0_chk664 i v3005 v3008 v3215), ∀ a, (k0_off1330 i v3005 v3008 v3215) a + S1x128.size a ≤ S8224x128.size a := fun i v3005 v3008 v3215 k0_hw664 => k0_hw664

def k0_off1331 (v3005 : BitVec 32) : Fin 1 → Nat :=
  let c14_i32_1217 : BitVec 32 := 14#32
  let v3226 : BitVec 32 := Scalar.addi v3005 c14_i32_1217
  let v3229 : Index := Scalar.indexCast v3226
  ![v3229.toNat]
def k0_off1332 (i : grid0.Coords) (v3005 : BitVec 32) (v3008 : BitVec 32) (v3230 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_1218 : BitVec 32 := 14#32
  let v3227 : BitVec 32 := Scalar.addi v3005 c14_i32_1218
  let v3228 : BitVec 1 := Scalar.cmpi .slt v3227 v3008
  let c65535_i32_1219 : BitVec 32 := 65535#32
  let v3231 : BitVec 32 := Scalar.andi v3230 c65535_i32_1219
  let c2048_i32_1220 : BitVec 32 := 2048#32
  let v3232 : BitVec 32 := Scalar.select v3228 v3231 c2048_i32_1220
  let v3233 : BitVec 32 := Scalar.addi v1470 v3232
  let v3236 : Index := Scalar.indexCast v3233
  let c0_1222 : Index := 0#32
  ![v3236.toNat, 0]

def k0_chk665 (i : grid0.Coords) (v3005 : BitVec 32) (v3008 : BitVec 32) (v3230 : BitVec 32) : Prop :=
  (∀ a, (k0_off1332 i v3005 v3008 v3230) a + S1x128.size a ≤ S8224x128.size a)
theorem k0_off1332_inb : ∀ (i : grid0.Coords) (v3005 : BitVec 32) (v3008 : BitVec 32) (v3230 : BitVec 32) (k0_hw665 : k0_chk665 i v3005 v3008 v3230), ∀ a, (k0_off1332 i v3005 v3008 v3230) a + S1x128.size a ≤ S8224x128.size a := fun i v3005 v3008 v3230 k0_hw665 => k0_hw665

def k0_off1333 (v3005 : BitVec 32) : Fin 1 → Nat :=
  let c15_i32_1223 : BitVec 32 := 15#32
  let v3241 : BitVec 32 := Scalar.addi v3005 c15_i32_1223
  let v3244 : Index := Scalar.indexCast v3241
  ![v3244.toNat]

def k0_chk650 (v3005 : BitVec 32) : Prop :=
  (∀ a, (k0_off1303 v3005) a + S1.size a ≤ S51920.size a) ∧
  (∀ a, (k0_off1305 v3005) a + S1.size a ≤ S51920.size a) ∧
  (∀ a, (k0_off1307 v3005) a + S1.size a ≤ S51920.size a) ∧
  (∀ a, (k0_off1309 v3005) a + S1.size a ≤ S51920.size a) ∧
  (∀ a, (k0_off1311 v3005) a + S1.size a ≤ S51920.size a) ∧
  (∀ a, (k0_off1313 v3005) a + S1.size a ≤ S51920.size a) ∧
  (∀ a, (k0_off1315 v3005) a + S1.size a ≤ S51920.size a) ∧
  (∀ a, (k0_off1317 v3005) a + S1.size a ≤ S51920.size a) ∧
  (∀ a, (k0_off1319 v3005) a + S1.size a ≤ S51920.size a) ∧
  (∀ a, (k0_off1321 v3005) a + S1.size a ≤ S51920.size a) ∧
  (∀ a, (k0_off1323 v3005) a + S1.size a ≤ S51920.size a) ∧
  (∀ a, (k0_off1325 v3005) a + S1.size a ≤ S51920.size a) ∧
  (∀ a, (k0_off1327 v3005) a + S1.size a ≤ S51920.size a) ∧
  (∀ a, (k0_off1329 v3005) a + S1.size a ≤ S51920.size a) ∧
  (∀ a, (k0_off1331 v3005) a + S1.size a ≤ S51920.size a) ∧
  (∀ a, (k0_off1333 v3005) a + S1.size a ≤ S51920.size a)
theorem k0_off1303_inb : ∀ (v3005 : BitVec 32) (k0_hw650 : k0_chk650 v3005), ∀ a, (k0_off1303 v3005) a + S1.size a ≤ S51920.size a := fun v3005 k0_hw650 => k0_hw650.1
theorem k0_off1305_inb : ∀ (v3005 : BitVec 32) (k0_hw650 : k0_chk650 v3005), ∀ a, (k0_off1305 v3005) a + S1.size a ≤ S51920.size a := fun v3005 k0_hw650 => k0_hw650.2.1
theorem k0_off1307_inb : ∀ (v3005 : BitVec 32) (k0_hw650 : k0_chk650 v3005), ∀ a, (k0_off1307 v3005) a + S1.size a ≤ S51920.size a := fun v3005 k0_hw650 => k0_hw650.2.2.1
theorem k0_off1309_inb : ∀ (v3005 : BitVec 32) (k0_hw650 : k0_chk650 v3005), ∀ a, (k0_off1309 v3005) a + S1.size a ≤ S51920.size a := fun v3005 k0_hw650 => k0_hw650.2.2.2.1
theorem k0_off1311_inb : ∀ (v3005 : BitVec 32) (k0_hw650 : k0_chk650 v3005), ∀ a, (k0_off1311 v3005) a + S1.size a ≤ S51920.size a := fun v3005 k0_hw650 => k0_hw650.2.2.2.2.1
theorem k0_off1313_inb : ∀ (v3005 : BitVec 32) (k0_hw650 : k0_chk650 v3005), ∀ a, (k0_off1313 v3005) a + S1.size a ≤ S51920.size a := fun v3005 k0_hw650 => k0_hw650.2.2.2.2.2.1
theorem k0_off1315_inb : ∀ (v3005 : BitVec 32) (k0_hw650 : k0_chk650 v3005), ∀ a, (k0_off1315 v3005) a + S1.size a ≤ S51920.size a := fun v3005 k0_hw650 => k0_hw650.2.2.2.2.2.2.1
theorem k0_off1317_inb : ∀ (v3005 : BitVec 32) (k0_hw650 : k0_chk650 v3005), ∀ a, (k0_off1317 v3005) a + S1.size a ≤ S51920.size a := fun v3005 k0_hw650 => k0_hw650.2.2.2.2.2.2.2.1
theorem k0_off1319_inb : ∀ (v3005 : BitVec 32) (k0_hw650 : k0_chk650 v3005), ∀ a, (k0_off1319 v3005) a + S1.size a ≤ S51920.size a := fun v3005 k0_hw650 => k0_hw650.2.2.2.2.2.2.2.2.1
theorem k0_off1321_inb : ∀ (v3005 : BitVec 32) (k0_hw650 : k0_chk650 v3005), ∀ a, (k0_off1321 v3005) a + S1.size a ≤ S51920.size a := fun v3005 k0_hw650 => k0_hw650.2.2.2.2.2.2.2.2.2.1
theorem k0_off1323_inb : ∀ (v3005 : BitVec 32) (k0_hw650 : k0_chk650 v3005), ∀ a, (k0_off1323 v3005) a + S1.size a ≤ S51920.size a := fun v3005 k0_hw650 => k0_hw650.2.2.2.2.2.2.2.2.2.2.1
theorem k0_off1325_inb : ∀ (v3005 : BitVec 32) (k0_hw650 : k0_chk650 v3005), ∀ a, (k0_off1325 v3005) a + S1.size a ≤ S51920.size a := fun v3005 k0_hw650 => k0_hw650.2.2.2.2.2.2.2.2.2.2.2.1
theorem k0_off1327_inb : ∀ (v3005 : BitVec 32) (k0_hw650 : k0_chk650 v3005), ∀ a, (k0_off1327 v3005) a + S1.size a ≤ S51920.size a := fun v3005 k0_hw650 => k0_hw650.2.2.2.2.2.2.2.2.2.2.2.2.1
theorem k0_off1329_inb : ∀ (v3005 : BitVec 32) (k0_hw650 : k0_chk650 v3005), ∀ a, (k0_off1329 v3005) a + S1.size a ≤ S51920.size a := fun v3005 k0_hw650 => k0_hw650.2.2.2.2.2.2.2.2.2.2.2.2.2.1
theorem k0_off1331_inb : ∀ (v3005 : BitVec 32) (k0_hw650 : k0_chk650 v3005), ∀ a, (k0_off1331 v3005) a + S1.size a ≤ S51920.size a := fun v3005 k0_hw650 => k0_hw650.2.2.2.2.2.2.2.2.2.2.2.2.2.2.1
theorem k0_off1333_inb : ∀ (v3005 : BitVec 32) (k0_hw650 : k0_chk650 v3005), ∀ a, (k0_off1333 v3005) a + S1.size a ≤ S51920.size a := fun v3005 k0_hw650 => k0_hw650.2.2.2.2.2.2.2.2.2.2.2.2.2.2.2

def k0_off1334 (i : grid0.Coords) (v3005 : BitVec 32) (v3008 : BitVec 32) (v3245 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_1224 : BitVec 32 := 15#32
  let v3242 : BitVec 32 := Scalar.addi v3005 c15_i32_1224
  let v3243 : BitVec 1 := Scalar.cmpi .slt v3242 v3008
  let c65535_i32_1225 : BitVec 32 := 65535#32
  let v3246 : BitVec 32 := Scalar.andi v3245 c65535_i32_1225
  let c2048_i32_1226 : BitVec 32 := 2048#32
  let v3247 : BitVec 32 := Scalar.select v3243 v3246 c2048_i32_1226
  let v3248 : BitVec 32 := Scalar.addi v1470 v3247
  let v3251 : Index := Scalar.indexCast v3248
  let c0_1228 : Index := 0#32
  ![v3251.toNat, 0]

def k0_chk666 (i : grid0.Coords) (v3005 : BitVec 32) (v3008 : BitVec 32) (v3245 : BitVec 32) : Prop :=
  (∀ a, (k0_off1334 i v3005 v3008 v3245) a + S1x128.size a ≤ S8224x128.size a)
theorem k0_off1334_inb : ∀ (i : grid0.Coords) (v3005 : BitVec 32) (v3008 : BitVec 32) (v3245 : BitVec 32) (k0_hw666 : k0_chk666 i v3005 v3008 v3245), ∀ a, (k0_off1334 i v3005 v3008 v3245) a + S1x128.size a ≤ S8224x128.size a := fun i v3005 v3008 v3245 k0_hw666 => k0_hw666

def k0_off1335 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1229 : BitVec 32 := 512#32
  let v3256 : BitVec 32 := Scalar.muli v24 c512_i32_1229
  let arg1 : BitVec 32 := BitVec.ofNat 32 (i 1).val
  let c32_i32 : BitVec 32 := 32#32
  let v1452 : BitVec 32 := Scalar.muli arg1 c32_i32
  let v3257 : BitVec 32 := Scalar.addi v3256 v1452
  let c7_i32_1230 : BitVec 32 := 7#32
  let v3258 : BitVec 32 := Scalar.addi v3257 c7_i32_1230
  let v3259 : Index := Scalar.indexCast v3258
  ![v3259.toNat]
def k0_off1336 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1229 : BitVec 32 := 512#32
  let v3256 : BitVec 32 := Scalar.muli v24 c512_i32_1229
  let arg1 : BitVec 32 := BitVec.ofNat 32 (i 1).val
  let c32_i32 : BitVec 32 := 32#32
  let v1452 : BitVec 32 := Scalar.muli arg1 c32_i32
  let v3257 : BitVec 32 := Scalar.addi v3256 v1452
  let c7_i32_1230 : BitVec 32 := 7#32
  let v3258 : BitVec 32 := Scalar.addi v3257 c7_i32_1230
  let c1_i32_1231 : BitVec 32 := 1#32
  let v3261 : BitVec 32 := Scalar.addi v3258 c1_i32_1231
  let v3262 : Index := Scalar.indexCast v3261
  ![v3262.toNat]
def k0_off1337 (v3260 : BitVec 32) : Fin 1 → Nat :=
  let c0_i32_1234 : BitVec 32 := 0#32
  let v3271 : BitVec 32 := Scalar.addi v3260 c0_i32_1234
  let v3274 : Index := Scalar.indexCast v3271
  ![v3274.toNat]

def k0_off1338 (i : grid0.Coords) (v3260 : BitVec 32) (v3263 : BitVec 32) (v3275 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_1235 : BitVec 32 := 0#32
  let v3272 : BitVec 32 := Scalar.addi v3260 c0_i32_1235
  let v3273 : BitVec 1 := Scalar.cmpi .slt v3272 v3263
  let c65535_i32_1236 : BitVec 32 := 65535#32
  let v3276 : BitVec 32 := Scalar.andi v3275 c65535_i32_1236
  let c2048_i32_1237 : BitVec 32 := 2048#32
  let v3277 : BitVec 32 := Scalar.select v3273 v3276 c2048_i32_1237
  let v3278 : BitVec 32 := Scalar.addi v1470 v3277
  let v3281 : Index := Scalar.indexCast v3278
  let c0_1239 : Index := 0#32
  ![v3281.toNat, 0]

def k0_chk668 (i : grid0.Coords) (v3260 : BitVec 32) (v3263 : BitVec 32) (v3275 : BitVec 32) : Prop :=
  (∀ a, (k0_off1338 i v3260 v3263 v3275) a + S1x128.size a ≤ S8224x128.size a)
theorem k0_off1338_inb : ∀ (i : grid0.Coords) (v3260 : BitVec 32) (v3263 : BitVec 32) (v3275 : BitVec 32) (k0_hw668 : k0_chk668 i v3260 v3263 v3275), ∀ a, (k0_off1338 i v3260 v3263 v3275) a + S1x128.size a ≤ S8224x128.size a := fun i v3260 v3263 v3275 k0_hw668 => k0_hw668

def k0_off1339 (v3260 : BitVec 32) : Fin 1 → Nat :=
  let c1_i32_1240 : BitVec 32 := 1#32
  let v3286 : BitVec 32 := Scalar.addi v3260 c1_i32_1240
  let v3289 : Index := Scalar.indexCast v3286
  ![v3289.toNat]
def k0_off1340 (i : grid0.Coords) (v3260 : BitVec 32) (v3263 : BitVec 32) (v3290 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_1241 : BitVec 32 := 1#32
  let v3287 : BitVec 32 := Scalar.addi v3260 c1_i32_1241
  let v3288 : BitVec 1 := Scalar.cmpi .slt v3287 v3263
  let c65535_i32_1242 : BitVec 32 := 65535#32
  let v3291 : BitVec 32 := Scalar.andi v3290 c65535_i32_1242
  let c2048_i32_1243 : BitVec 32 := 2048#32
  let v3292 : BitVec 32 := Scalar.select v3288 v3291 c2048_i32_1243
  let v3293 : BitVec 32 := Scalar.addi v1470 v3292
  let v3296 : Index := Scalar.indexCast v3293
  let c0_1245 : Index := 0#32
  ![v3296.toNat, 0]

def k0_chk669 (i : grid0.Coords) (v3260 : BitVec 32) (v3263 : BitVec 32) (v3290 : BitVec 32) : Prop :=
  (∀ a, (k0_off1340 i v3260 v3263 v3290) a + S1x128.size a ≤ S8224x128.size a)
theorem k0_off1340_inb : ∀ (i : grid0.Coords) (v3260 : BitVec 32) (v3263 : BitVec 32) (v3290 : BitVec 32) (k0_hw669 : k0_chk669 i v3260 v3263 v3290), ∀ a, (k0_off1340 i v3260 v3263 v3290) a + S1x128.size a ≤ S8224x128.size a := fun i v3260 v3263 v3290 k0_hw669 => k0_hw669

def k0_off1341 (v3260 : BitVec 32) : Fin 1 → Nat :=
  let c2_i32_1246 : BitVec 32 := 2#32
  let v3301 : BitVec 32 := Scalar.addi v3260 c2_i32_1246
  let v3304 : Index := Scalar.indexCast v3301
  ![v3304.toNat]
def k0_off1342 (i : grid0.Coords) (v3260 : BitVec 32) (v3263 : BitVec 32) (v3305 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_1247 : BitVec 32 := 2#32
  let v3302 : BitVec 32 := Scalar.addi v3260 c2_i32_1247
  let v3303 : BitVec 1 := Scalar.cmpi .slt v3302 v3263
  let c65535_i32_1248 : BitVec 32 := 65535#32
  let v3306 : BitVec 32 := Scalar.andi v3305 c65535_i32_1248
  let c2048_i32_1249 : BitVec 32 := 2048#32
  let v3307 : BitVec 32 := Scalar.select v3303 v3306 c2048_i32_1249
  let v3308 : BitVec 32 := Scalar.addi v1470 v3307
  let v3311 : Index := Scalar.indexCast v3308
  let c0_1251 : Index := 0#32
  ![v3311.toNat, 0]

def k0_chk670 (i : grid0.Coords) (v3260 : BitVec 32) (v3263 : BitVec 32) (v3305 : BitVec 32) : Prop :=
  (∀ a, (k0_off1342 i v3260 v3263 v3305) a + S1x128.size a ≤ S8224x128.size a)
theorem k0_off1342_inb : ∀ (i : grid0.Coords) (v3260 : BitVec 32) (v3263 : BitVec 32) (v3305 : BitVec 32) (k0_hw670 : k0_chk670 i v3260 v3263 v3305), ∀ a, (k0_off1342 i v3260 v3263 v3305) a + S1x128.size a ≤ S8224x128.size a := fun i v3260 v3263 v3305 k0_hw670 => k0_hw670

def k0_off1343 (v3260 : BitVec 32) : Fin 1 → Nat :=
  let c3_i32_1252 : BitVec 32 := 3#32
  let v3316 : BitVec 32 := Scalar.addi v3260 c3_i32_1252
  let v3319 : Index := Scalar.indexCast v3316
  ![v3319.toNat]
def k0_off1344 (i : grid0.Coords) (v3260 : BitVec 32) (v3263 : BitVec 32) (v3320 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_1253 : BitVec 32 := 3#32
  let v3317 : BitVec 32 := Scalar.addi v3260 c3_i32_1253
  let v3318 : BitVec 1 := Scalar.cmpi .slt v3317 v3263
  let c65535_i32_1254 : BitVec 32 := 65535#32
  let v3321 : BitVec 32 := Scalar.andi v3320 c65535_i32_1254
  let c2048_i32_1255 : BitVec 32 := 2048#32
  let v3322 : BitVec 32 := Scalar.select v3318 v3321 c2048_i32_1255
  let v3323 : BitVec 32 := Scalar.addi v1470 v3322
  let v3326 : Index := Scalar.indexCast v3323
  let c0_1257 : Index := 0#32
  ![v3326.toNat, 0]

def k0_chk671 (i : grid0.Coords) (v3260 : BitVec 32) (v3263 : BitVec 32) (v3320 : BitVec 32) : Prop :=
  (∀ a, (k0_off1344 i v3260 v3263 v3320) a + S1x128.size a ≤ S8224x128.size a)
theorem k0_off1344_inb : ∀ (i : grid0.Coords) (v3260 : BitVec 32) (v3263 : BitVec 32) (v3320 : BitVec 32) (k0_hw671 : k0_chk671 i v3260 v3263 v3320), ∀ a, (k0_off1344 i v3260 v3263 v3320) a + S1x128.size a ≤ S8224x128.size a := fun i v3260 v3263 v3320 k0_hw671 => k0_hw671

def k0_off1345 (v3260 : BitVec 32) : Fin 1 → Nat :=
  let c4_i32_1258 : BitVec 32 := 4#32
  let v3331 : BitVec 32 := Scalar.addi v3260 c4_i32_1258
  let v3334 : Index := Scalar.indexCast v3331
  ![v3334.toNat]
def k0_off1346 (i : grid0.Coords) (v3260 : BitVec 32) (v3263 : BitVec 32) (v3335 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_1259 : BitVec 32 := 4#32
  let v3332 : BitVec 32 := Scalar.addi v3260 c4_i32_1259
  let v3333 : BitVec 1 := Scalar.cmpi .slt v3332 v3263
  let c65535_i32_1260 : BitVec 32 := 65535#32
  let v3336 : BitVec 32 := Scalar.andi v3335 c65535_i32_1260
  let c2048_i32_1261 : BitVec 32 := 2048#32
  let v3337 : BitVec 32 := Scalar.select v3333 v3336 c2048_i32_1261
  let v3338 : BitVec 32 := Scalar.addi v1470 v3337
  let v3341 : Index := Scalar.indexCast v3338
  let c0_1263 : Index := 0#32
  ![v3341.toNat, 0]

def k0_chk672 (i : grid0.Coords) (v3260 : BitVec 32) (v3263 : BitVec 32) (v3335 : BitVec 32) : Prop :=
  (∀ a, (k0_off1346 i v3260 v3263 v3335) a + S1x128.size a ≤ S8224x128.size a)
theorem k0_off1346_inb : ∀ (i : grid0.Coords) (v3260 : BitVec 32) (v3263 : BitVec 32) (v3335 : BitVec 32) (k0_hw672 : k0_chk672 i v3260 v3263 v3335), ∀ a, (k0_off1346 i v3260 v3263 v3335) a + S1x128.size a ≤ S8224x128.size a := fun i v3260 v3263 v3335 k0_hw672 => k0_hw672

def k0_off1347 (v3260 : BitVec 32) : Fin 1 → Nat :=
  let c5_i32_1264 : BitVec 32 := 5#32
  let v3346 : BitVec 32 := Scalar.addi v3260 c5_i32_1264
  let v3349 : Index := Scalar.indexCast v3346
  ![v3349.toNat]
def k0_off1348 (i : grid0.Coords) (v3260 : BitVec 32) (v3263 : BitVec 32) (v3350 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_1265 : BitVec 32 := 5#32
  let v3347 : BitVec 32 := Scalar.addi v3260 c5_i32_1265
  let v3348 : BitVec 1 := Scalar.cmpi .slt v3347 v3263
  let c65535_i32_1266 : BitVec 32 := 65535#32
  let v3351 : BitVec 32 := Scalar.andi v3350 c65535_i32_1266
  let c2048_i32_1267 : BitVec 32 := 2048#32
  let v3352 : BitVec 32 := Scalar.select v3348 v3351 c2048_i32_1267
  let v3353 : BitVec 32 := Scalar.addi v1470 v3352
  let v3356 : Index := Scalar.indexCast v3353
  let c0_1269 : Index := 0#32
  ![v3356.toNat, 0]

def k0_chk673 (i : grid0.Coords) (v3260 : BitVec 32) (v3263 : BitVec 32) (v3350 : BitVec 32) : Prop :=
  (∀ a, (k0_off1348 i v3260 v3263 v3350) a + S1x128.size a ≤ S8224x128.size a)
theorem k0_off1348_inb : ∀ (i : grid0.Coords) (v3260 : BitVec 32) (v3263 : BitVec 32) (v3350 : BitVec 32) (k0_hw673 : k0_chk673 i v3260 v3263 v3350), ∀ a, (k0_off1348 i v3260 v3263 v3350) a + S1x128.size a ≤ S8224x128.size a := fun i v3260 v3263 v3350 k0_hw673 => k0_hw673

def k0_off1349 (v3260 : BitVec 32) : Fin 1 → Nat :=
  let c6_i32_1270 : BitVec 32 := 6#32
  let v3361 : BitVec 32 := Scalar.addi v3260 c6_i32_1270
  let v3364 : Index := Scalar.indexCast v3361
  ![v3364.toNat]
def k0_off1350 (i : grid0.Coords) (v3260 : BitVec 32) (v3263 : BitVec 32) (v3365 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_1271 : BitVec 32 := 6#32
  let v3362 : BitVec 32 := Scalar.addi v3260 c6_i32_1271
  let v3363 : BitVec 1 := Scalar.cmpi .slt v3362 v3263
  let c65535_i32_1272 : BitVec 32 := 65535#32
  let v3366 : BitVec 32 := Scalar.andi v3365 c65535_i32_1272
  let c2048_i32_1273 : BitVec 32 := 2048#32
  let v3367 : BitVec 32 := Scalar.select v3363 v3366 c2048_i32_1273
  let v3368 : BitVec 32 := Scalar.addi v1470 v3367
  let v3371 : Index := Scalar.indexCast v3368
  let c0_1275 : Index := 0#32
  ![v3371.toNat, 0]

def k0_chk674 (i : grid0.Coords) (v3260 : BitVec 32) (v3263 : BitVec 32) (v3365 : BitVec 32) : Prop :=
  (∀ a, (k0_off1350 i v3260 v3263 v3365) a + S1x128.size a ≤ S8224x128.size a)
theorem k0_off1350_inb : ∀ (i : grid0.Coords) (v3260 : BitVec 32) (v3263 : BitVec 32) (v3365 : BitVec 32) (k0_hw674 : k0_chk674 i v3260 v3263 v3365), ∀ a, (k0_off1350 i v3260 v3263 v3365) a + S1x128.size a ≤ S8224x128.size a := fun i v3260 v3263 v3365 k0_hw674 => k0_hw674

def k0_off1351 (v3260 : BitVec 32) : Fin 1 → Nat :=
  let c7_i32_1276 : BitVec 32 := 7#32
  let v3376 : BitVec 32 := Scalar.addi v3260 c7_i32_1276
  let v3379 : Index := Scalar.indexCast v3376
  ![v3379.toNat]
def k0_off1352 (i : grid0.Coords) (v3260 : BitVec 32) (v3263 : BitVec 32) (v3380 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_1277 : BitVec 32 := 7#32
  let v3377 : BitVec 32 := Scalar.addi v3260 c7_i32_1277
  let v3378 : BitVec 1 := Scalar.cmpi .slt v3377 v3263
  let c65535_i32_1278 : BitVec 32 := 65535#32
  let v3381 : BitVec 32 := Scalar.andi v3380 c65535_i32_1278
  let c2048_i32_1279 : BitVec 32 := 2048#32
  let v3382 : BitVec 32 := Scalar.select v3378 v3381 c2048_i32_1279
  let v3383 : BitVec 32 := Scalar.addi v1470 v3382
  let v3386 : Index := Scalar.indexCast v3383
  let c0_1281 : Index := 0#32
  ![v3386.toNat, 0]

def k0_chk675 (i : grid0.Coords) (v3260 : BitVec 32) (v3263 : BitVec 32) (v3380 : BitVec 32) : Prop :=
  (∀ a, (k0_off1352 i v3260 v3263 v3380) a + S1x128.size a ≤ S8224x128.size a)
theorem k0_off1352_inb : ∀ (i : grid0.Coords) (v3260 : BitVec 32) (v3263 : BitVec 32) (v3380 : BitVec 32) (k0_hw675 : k0_chk675 i v3260 v3263 v3380), ∀ a, (k0_off1352 i v3260 v3263 v3380) a + S1x128.size a ≤ S8224x128.size a := fun i v3260 v3263 v3380 k0_hw675 => k0_hw675

def k0_off1353 (v3260 : BitVec 32) : Fin 1 → Nat :=
  let c8_i32_1282 : BitVec 32 := 8#32
  let v3391 : BitVec 32 := Scalar.addi v3260 c8_i32_1282
  let v3394 : Index := Scalar.indexCast v3391
  ![v3394.toNat]
def k0_off1354 (i : grid0.Coords) (v3260 : BitVec 32) (v3263 : BitVec 32) (v3395 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_1283 : BitVec 32 := 8#32
  let v3392 : BitVec 32 := Scalar.addi v3260 c8_i32_1283
  let v3393 : BitVec 1 := Scalar.cmpi .slt v3392 v3263
  let c65535_i32_1284 : BitVec 32 := 65535#32
  let v3396 : BitVec 32 := Scalar.andi v3395 c65535_i32_1284
  let c2048_i32_1285 : BitVec 32 := 2048#32
  let v3397 : BitVec 32 := Scalar.select v3393 v3396 c2048_i32_1285
  let v3398 : BitVec 32 := Scalar.addi v1470 v3397
  let v3401 : Index := Scalar.indexCast v3398
  let c0_1287 : Index := 0#32
  ![v3401.toNat, 0]

def k0_chk676 (i : grid0.Coords) (v3260 : BitVec 32) (v3263 : BitVec 32) (v3395 : BitVec 32) : Prop :=
  (∀ a, (k0_off1354 i v3260 v3263 v3395) a + S1x128.size a ≤ S8224x128.size a)
theorem k0_off1354_inb : ∀ (i : grid0.Coords) (v3260 : BitVec 32) (v3263 : BitVec 32) (v3395 : BitVec 32) (k0_hw676 : k0_chk676 i v3260 v3263 v3395), ∀ a, (k0_off1354 i v3260 v3263 v3395) a + S1x128.size a ≤ S8224x128.size a := fun i v3260 v3263 v3395 k0_hw676 => k0_hw676

def k0_off1355 (v3260 : BitVec 32) : Fin 1 → Nat :=
  let c9_i32_1288 : BitVec 32 := 9#32
  let v3406 : BitVec 32 := Scalar.addi v3260 c9_i32_1288
  let v3409 : Index := Scalar.indexCast v3406
  ![v3409.toNat]
def k0_off1356 (i : grid0.Coords) (v3260 : BitVec 32) (v3263 : BitVec 32) (v3410 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_1289 : BitVec 32 := 9#32
  let v3407 : BitVec 32 := Scalar.addi v3260 c9_i32_1289
  let v3408 : BitVec 1 := Scalar.cmpi .slt v3407 v3263
  let c65535_i32_1290 : BitVec 32 := 65535#32
  let v3411 : BitVec 32 := Scalar.andi v3410 c65535_i32_1290
  let c2048_i32_1291 : BitVec 32 := 2048#32
  let v3412 : BitVec 32 := Scalar.select v3408 v3411 c2048_i32_1291
  let v3413 : BitVec 32 := Scalar.addi v1470 v3412
  let v3416 : Index := Scalar.indexCast v3413
  let c0_1293 : Index := 0#32
  ![v3416.toNat, 0]

def k0_chk677 (i : grid0.Coords) (v3260 : BitVec 32) (v3263 : BitVec 32) (v3410 : BitVec 32) : Prop :=
  (∀ a, (k0_off1356 i v3260 v3263 v3410) a + S1x128.size a ≤ S8224x128.size a)
theorem k0_off1356_inb : ∀ (i : grid0.Coords) (v3260 : BitVec 32) (v3263 : BitVec 32) (v3410 : BitVec 32) (k0_hw677 : k0_chk677 i v3260 v3263 v3410), ∀ a, (k0_off1356 i v3260 v3263 v3410) a + S1x128.size a ≤ S8224x128.size a := fun i v3260 v3263 v3410 k0_hw677 => k0_hw677

def k0_off1357 (v3260 : BitVec 32) : Fin 1 → Nat :=
  let c10_i32_1294 : BitVec 32 := 10#32
  let v3421 : BitVec 32 := Scalar.addi v3260 c10_i32_1294
  let v3424 : Index := Scalar.indexCast v3421
  ![v3424.toNat]
def k0_off1358 (i : grid0.Coords) (v3260 : BitVec 32) (v3263 : BitVec 32) (v3425 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_1295 : BitVec 32 := 10#32
  let v3422 : BitVec 32 := Scalar.addi v3260 c10_i32_1295
  let v3423 : BitVec 1 := Scalar.cmpi .slt v3422 v3263
  let c65535_i32_1296 : BitVec 32 := 65535#32
  let v3426 : BitVec 32 := Scalar.andi v3425 c65535_i32_1296
  let c2048_i32_1297 : BitVec 32 := 2048#32
  let v3427 : BitVec 32 := Scalar.select v3423 v3426 c2048_i32_1297
  let v3428 : BitVec 32 := Scalar.addi v1470 v3427
  let v3431 : Index := Scalar.indexCast v3428
  let c0_1299 : Index := 0#32
  ![v3431.toNat, 0]

def k0_chk678 (i : grid0.Coords) (v3260 : BitVec 32) (v3263 : BitVec 32) (v3425 : BitVec 32) : Prop :=
  (∀ a, (k0_off1358 i v3260 v3263 v3425) a + S1x128.size a ≤ S8224x128.size a)
theorem k0_off1358_inb : ∀ (i : grid0.Coords) (v3260 : BitVec 32) (v3263 : BitVec 32) (v3425 : BitVec 32) (k0_hw678 : k0_chk678 i v3260 v3263 v3425), ∀ a, (k0_off1358 i v3260 v3263 v3425) a + S1x128.size a ≤ S8224x128.size a := fun i v3260 v3263 v3425 k0_hw678 => k0_hw678

def k0_off1359 (v3260 : BitVec 32) : Fin 1 → Nat :=
  let c11_i32_1300 : BitVec 32 := 11#32
  let v3436 : BitVec 32 := Scalar.addi v3260 c11_i32_1300
  let v3439 : Index := Scalar.indexCast v3436
  ![v3439.toNat]
def k0_off1360 (i : grid0.Coords) (v3260 : BitVec 32) (v3263 : BitVec 32) (v3440 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_1301 : BitVec 32 := 11#32
  let v3437 : BitVec 32 := Scalar.addi v3260 c11_i32_1301
  let v3438 : BitVec 1 := Scalar.cmpi .slt v3437 v3263
  let c65535_i32_1302 : BitVec 32 := 65535#32
  let v3441 : BitVec 32 := Scalar.andi v3440 c65535_i32_1302
  let c2048_i32_1303 : BitVec 32 := 2048#32
  let v3442 : BitVec 32 := Scalar.select v3438 v3441 c2048_i32_1303
  let v3443 : BitVec 32 := Scalar.addi v1470 v3442
  let v3446 : Index := Scalar.indexCast v3443
  let c0_1305 : Index := 0#32
  ![v3446.toNat, 0]

def k0_chk679 (i : grid0.Coords) (v3260 : BitVec 32) (v3263 : BitVec 32) (v3440 : BitVec 32) : Prop :=
  (∀ a, (k0_off1360 i v3260 v3263 v3440) a + S1x128.size a ≤ S8224x128.size a)
theorem k0_off1360_inb : ∀ (i : grid0.Coords) (v3260 : BitVec 32) (v3263 : BitVec 32) (v3440 : BitVec 32) (k0_hw679 : k0_chk679 i v3260 v3263 v3440), ∀ a, (k0_off1360 i v3260 v3263 v3440) a + S1x128.size a ≤ S8224x128.size a := fun i v3260 v3263 v3440 k0_hw679 => k0_hw679

def k0_off1361 (v3260 : BitVec 32) : Fin 1 → Nat :=
  let c12_i32_1306 : BitVec 32 := 12#32
  let v3451 : BitVec 32 := Scalar.addi v3260 c12_i32_1306
  let v3454 : Index := Scalar.indexCast v3451
  ![v3454.toNat]
def k0_off1362 (i : grid0.Coords) (v3260 : BitVec 32) (v3263 : BitVec 32) (v3455 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_1307 : BitVec 32 := 12#32
  let v3452 : BitVec 32 := Scalar.addi v3260 c12_i32_1307
  let v3453 : BitVec 1 := Scalar.cmpi .slt v3452 v3263
  let c65535_i32_1308 : BitVec 32 := 65535#32
  let v3456 : BitVec 32 := Scalar.andi v3455 c65535_i32_1308
  let c2048_i32_1309 : BitVec 32 := 2048#32
  let v3457 : BitVec 32 := Scalar.select v3453 v3456 c2048_i32_1309
  let v3458 : BitVec 32 := Scalar.addi v1470 v3457
  let v3461 : Index := Scalar.indexCast v3458
  let c0_1311 : Index := 0#32
  ![v3461.toNat, 0]

def k0_chk680 (i : grid0.Coords) (v3260 : BitVec 32) (v3263 : BitVec 32) (v3455 : BitVec 32) : Prop :=
  (∀ a, (k0_off1362 i v3260 v3263 v3455) a + S1x128.size a ≤ S8224x128.size a)
theorem k0_off1362_inb : ∀ (i : grid0.Coords) (v3260 : BitVec 32) (v3263 : BitVec 32) (v3455 : BitVec 32) (k0_hw680 : k0_chk680 i v3260 v3263 v3455), ∀ a, (k0_off1362 i v3260 v3263 v3455) a + S1x128.size a ≤ S8224x128.size a := fun i v3260 v3263 v3455 k0_hw680 => k0_hw680

def k0_off1363 (v3260 : BitVec 32) : Fin 1 → Nat :=
  let c13_i32_1312 : BitVec 32 := 13#32
  let v3466 : BitVec 32 := Scalar.addi v3260 c13_i32_1312
  let v3469 : Index := Scalar.indexCast v3466
  ![v3469.toNat]
def k0_off1364 (i : grid0.Coords) (v3260 : BitVec 32) (v3263 : BitVec 32) (v3470 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_1313 : BitVec 32 := 13#32
  let v3467 : BitVec 32 := Scalar.addi v3260 c13_i32_1313
  let v3468 : BitVec 1 := Scalar.cmpi .slt v3467 v3263
  let c65535_i32_1314 : BitVec 32 := 65535#32
  let v3471 : BitVec 32 := Scalar.andi v3470 c65535_i32_1314
  let c2048_i32_1315 : BitVec 32 := 2048#32
  let v3472 : BitVec 32 := Scalar.select v3468 v3471 c2048_i32_1315
  let v3473 : BitVec 32 := Scalar.addi v1470 v3472
  let v3476 : Index := Scalar.indexCast v3473
  let c0_1317 : Index := 0#32
  ![v3476.toNat, 0]

def k0_chk681 (i : grid0.Coords) (v3260 : BitVec 32) (v3263 : BitVec 32) (v3470 : BitVec 32) : Prop :=
  (∀ a, (k0_off1364 i v3260 v3263 v3470) a + S1x128.size a ≤ S8224x128.size a)
theorem k0_off1364_inb : ∀ (i : grid0.Coords) (v3260 : BitVec 32) (v3263 : BitVec 32) (v3470 : BitVec 32) (k0_hw681 : k0_chk681 i v3260 v3263 v3470), ∀ a, (k0_off1364 i v3260 v3263 v3470) a + S1x128.size a ≤ S8224x128.size a := fun i v3260 v3263 v3470 k0_hw681 => k0_hw681

def k0_off1365 (v3260 : BitVec 32) : Fin 1 → Nat :=
  let c14_i32_1318 : BitVec 32 := 14#32
  let v3481 : BitVec 32 := Scalar.addi v3260 c14_i32_1318
  let v3484 : Index := Scalar.indexCast v3481
  ![v3484.toNat]
def k0_off1366 (i : grid0.Coords) (v3260 : BitVec 32) (v3263 : BitVec 32) (v3485 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_1319 : BitVec 32 := 14#32
  let v3482 : BitVec 32 := Scalar.addi v3260 c14_i32_1319
  let v3483 : BitVec 1 := Scalar.cmpi .slt v3482 v3263
  let c65535_i32_1320 : BitVec 32 := 65535#32
  let v3486 : BitVec 32 := Scalar.andi v3485 c65535_i32_1320
  let c2048_i32_1321 : BitVec 32 := 2048#32
  let v3487 : BitVec 32 := Scalar.select v3483 v3486 c2048_i32_1321
  let v3488 : BitVec 32 := Scalar.addi v1470 v3487
  let v3491 : Index := Scalar.indexCast v3488
  let c0_1323 : Index := 0#32
  ![v3491.toNat, 0]

def k0_chk682 (i : grid0.Coords) (v3260 : BitVec 32) (v3263 : BitVec 32) (v3485 : BitVec 32) : Prop :=
  (∀ a, (k0_off1366 i v3260 v3263 v3485) a + S1x128.size a ≤ S8224x128.size a)
theorem k0_off1366_inb : ∀ (i : grid0.Coords) (v3260 : BitVec 32) (v3263 : BitVec 32) (v3485 : BitVec 32) (k0_hw682 : k0_chk682 i v3260 v3263 v3485), ∀ a, (k0_off1366 i v3260 v3263 v3485) a + S1x128.size a ≤ S8224x128.size a := fun i v3260 v3263 v3485 k0_hw682 => k0_hw682

def k0_off1367 (v3260 : BitVec 32) : Fin 1 → Nat :=
  let c15_i32_1324 : BitVec 32 := 15#32
  let v3496 : BitVec 32 := Scalar.addi v3260 c15_i32_1324
  let v3499 : Index := Scalar.indexCast v3496
  ![v3499.toNat]

def k0_chk667 (v3260 : BitVec 32) : Prop :=
  (∀ a, (k0_off1337 v3260) a + S1.size a ≤ S51920.size a) ∧
  (∀ a, (k0_off1339 v3260) a + S1.size a ≤ S51920.size a) ∧
  (∀ a, (k0_off1341 v3260) a + S1.size a ≤ S51920.size a) ∧
  (∀ a, (k0_off1343 v3260) a + S1.size a ≤ S51920.size a) ∧
  (∀ a, (k0_off1345 v3260) a + S1.size a ≤ S51920.size a) ∧
  (∀ a, (k0_off1347 v3260) a + S1.size a ≤ S51920.size a) ∧
  (∀ a, (k0_off1349 v3260) a + S1.size a ≤ S51920.size a) ∧
  (∀ a, (k0_off1351 v3260) a + S1.size a ≤ S51920.size a) ∧
  (∀ a, (k0_off1353 v3260) a + S1.size a ≤ S51920.size a) ∧
  (∀ a, (k0_off1355 v3260) a + S1.size a ≤ S51920.size a) ∧
  (∀ a, (k0_off1357 v3260) a + S1.size a ≤ S51920.size a) ∧
  (∀ a, (k0_off1359 v3260) a + S1.size a ≤ S51920.size a) ∧
  (∀ a, (k0_off1361 v3260) a + S1.size a ≤ S51920.size a) ∧
  (∀ a, (k0_off1363 v3260) a + S1.size a ≤ S51920.size a) ∧
  (∀ a, (k0_off1365 v3260) a + S1.size a ≤ S51920.size a) ∧
  (∀ a, (k0_off1367 v3260) a + S1.size a ≤ S51920.size a)
theorem k0_off1337_inb : ∀ (v3260 : BitVec 32) (k0_hw667 : k0_chk667 v3260), ∀ a, (k0_off1337 v3260) a + S1.size a ≤ S51920.size a := fun v3260 k0_hw667 => k0_hw667.1
theorem k0_off1339_inb : ∀ (v3260 : BitVec 32) (k0_hw667 : k0_chk667 v3260), ∀ a, (k0_off1339 v3260) a + S1.size a ≤ S51920.size a := fun v3260 k0_hw667 => k0_hw667.2.1
theorem k0_off1341_inb : ∀ (v3260 : BitVec 32) (k0_hw667 : k0_chk667 v3260), ∀ a, (k0_off1341 v3260) a + S1.size a ≤ S51920.size a := fun v3260 k0_hw667 => k0_hw667.2.2.1
theorem k0_off1343_inb : ∀ (v3260 : BitVec 32) (k0_hw667 : k0_chk667 v3260), ∀ a, (k0_off1343 v3260) a + S1.size a ≤ S51920.size a := fun v3260 k0_hw667 => k0_hw667.2.2.2.1
theorem k0_off1345_inb : ∀ (v3260 : BitVec 32) (k0_hw667 : k0_chk667 v3260), ∀ a, (k0_off1345 v3260) a + S1.size a ≤ S51920.size a := fun v3260 k0_hw667 => k0_hw667.2.2.2.2.1
theorem k0_off1347_inb : ∀ (v3260 : BitVec 32) (k0_hw667 : k0_chk667 v3260), ∀ a, (k0_off1347 v3260) a + S1.size a ≤ S51920.size a := fun v3260 k0_hw667 => k0_hw667.2.2.2.2.2.1
theorem k0_off1349_inb : ∀ (v3260 : BitVec 32) (k0_hw667 : k0_chk667 v3260), ∀ a, (k0_off1349 v3260) a + S1.size a ≤ S51920.size a := fun v3260 k0_hw667 => k0_hw667.2.2.2.2.2.2.1
theorem k0_off1351_inb : ∀ (v3260 : BitVec 32) (k0_hw667 : k0_chk667 v3260), ∀ a, (k0_off1351 v3260) a + S1.size a ≤ S51920.size a := fun v3260 k0_hw667 => k0_hw667.2.2.2.2.2.2.2.1
theorem k0_off1353_inb : ∀ (v3260 : BitVec 32) (k0_hw667 : k0_chk667 v3260), ∀ a, (k0_off1353 v3260) a + S1.size a ≤ S51920.size a := fun v3260 k0_hw667 => k0_hw667.2.2.2.2.2.2.2.2.1
theorem k0_off1355_inb : ∀ (v3260 : BitVec 32) (k0_hw667 : k0_chk667 v3260), ∀ a, (k0_off1355 v3260) a + S1.size a ≤ S51920.size a := fun v3260 k0_hw667 => k0_hw667.2.2.2.2.2.2.2.2.2.1
theorem k0_off1357_inb : ∀ (v3260 : BitVec 32) (k0_hw667 : k0_chk667 v3260), ∀ a, (k0_off1357 v3260) a + S1.size a ≤ S51920.size a := fun v3260 k0_hw667 => k0_hw667.2.2.2.2.2.2.2.2.2.2.1
theorem k0_off1359_inb : ∀ (v3260 : BitVec 32) (k0_hw667 : k0_chk667 v3260), ∀ a, (k0_off1359 v3260) a + S1.size a ≤ S51920.size a := fun v3260 k0_hw667 => k0_hw667.2.2.2.2.2.2.2.2.2.2.2.1
theorem k0_off1361_inb : ∀ (v3260 : BitVec 32) (k0_hw667 : k0_chk667 v3260), ∀ a, (k0_off1361 v3260) a + S1.size a ≤ S51920.size a := fun v3260 k0_hw667 => k0_hw667.2.2.2.2.2.2.2.2.2.2.2.2.1
theorem k0_off1363_inb : ∀ (v3260 : BitVec 32) (k0_hw667 : k0_chk667 v3260), ∀ a, (k0_off1363 v3260) a + S1.size a ≤ S51920.size a := fun v3260 k0_hw667 => k0_hw667.2.2.2.2.2.2.2.2.2.2.2.2.2.1
theorem k0_off1365_inb : ∀ (v3260 : BitVec 32) (k0_hw667 : k0_chk667 v3260), ∀ a, (k0_off1365 v3260) a + S1.size a ≤ S51920.size a := fun v3260 k0_hw667 => k0_hw667.2.2.2.2.2.2.2.2.2.2.2.2.2.2.1
theorem k0_off1367_inb : ∀ (v3260 : BitVec 32) (k0_hw667 : k0_chk667 v3260), ∀ a, (k0_off1367 v3260) a + S1.size a ≤ S51920.size a := fun v3260 k0_hw667 => k0_hw667.2.2.2.2.2.2.2.2.2.2.2.2.2.2.2

def k0_off1368 (i : grid0.Coords) (v3260 : BitVec 32) (v3263 : BitVec 32) (v3500 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_1325 : BitVec 32 := 15#32
  let v3497 : BitVec 32 := Scalar.addi v3260 c15_i32_1325
  let v3498 : BitVec 1 := Scalar.cmpi .slt v3497 v3263
  let c65535_i32_1326 : BitVec 32 := 65535#32
  let v3501 : BitVec 32 := Scalar.andi v3500 c65535_i32_1326
  let c2048_i32_1327 : BitVec 32 := 2048#32
  let v3502 : BitVec 32 := Scalar.select v3498 v3501 c2048_i32_1327
  let v3503 : BitVec 32 := Scalar.addi v1470 v3502
  let v3506 : Index := Scalar.indexCast v3503
  let c0_1329 : Index := 0#32
  ![v3506.toNat, 0]

def k0_chk683 (i : grid0.Coords) (v3260 : BitVec 32) (v3263 : BitVec 32) (v3500 : BitVec 32) : Prop :=
  (∀ a, (k0_off1368 i v3260 v3263 v3500) a + S1x128.size a ≤ S8224x128.size a)
theorem k0_off1368_inb : ∀ (i : grid0.Coords) (v3260 : BitVec 32) (v3263 : BitVec 32) (v3500 : BitVec 32) (k0_hw683 : k0_chk683 i v3260 v3263 v3500), ∀ a, (k0_off1368 i v3260 v3263 v3500) a + S1x128.size a ≤ S8224x128.size a := fun i v3260 v3263 v3500 k0_hw683 => k0_hw683

def k0_off1369 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1330 : BitVec 32 := 512#32
  let v3511 : BitVec 32 := Scalar.muli v24 c512_i32_1330
  let arg1 : BitVec 32 := BitVec.ofNat 32 (i 1).val
  let c32_i32 : BitVec 32 := 32#32
  let v1452 : BitVec 32 := Scalar.muli arg1 c32_i32
  let v3512 : BitVec 32 := Scalar.addi v3511 v1452
  let c8_i32_1331 : BitVec 32 := 8#32
  let v3513 : BitVec 32 := Scalar.addi v3512 c8_i32_1331
  let v3514 : Index := Scalar.indexCast v3513
  ![v3514.toNat]
def k0_off1370 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1330 : BitVec 32 := 512#32
  let v3511 : BitVec 32 := Scalar.muli v24 c512_i32_1330
  let arg1 : BitVec 32 := BitVec.ofNat 32 (i 1).val
  let c32_i32 : BitVec 32 := 32#32
  let v1452 : BitVec 32 := Scalar.muli arg1 c32_i32
  let v3512 : BitVec 32 := Scalar.addi v3511 v1452
  let c8_i32_1331 : BitVec 32 := 8#32
  let v3513 : BitVec 32 := Scalar.addi v3512 c8_i32_1331
  let c1_i32_1332 : BitVec 32 := 1#32
  let v3516 : BitVec 32 := Scalar.addi v3513 c1_i32_1332
  let v3517 : Index := Scalar.indexCast v3516
  ![v3517.toNat]
def k0_off1371 (v3515 : BitVec 32) : Fin 1 → Nat :=
  let c0_i32_1335 : BitVec 32 := 0#32
  let v3526 : BitVec 32 := Scalar.addi v3515 c0_i32_1335
  let v3529 : Index := Scalar.indexCast v3526
  ![v3529.toNat]

def k0_off1372 (i : grid0.Coords) (v3515 : BitVec 32) (v3518 : BitVec 32) (v3530 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_1336 : BitVec 32 := 0#32
  let v3527 : BitVec 32 := Scalar.addi v3515 c0_i32_1336
  let v3528 : BitVec 1 := Scalar.cmpi .slt v3527 v3518
  let c65535_i32_1337 : BitVec 32 := 65535#32
  let v3531 : BitVec 32 := Scalar.andi v3530 c65535_i32_1337
  let c2048_i32_1338 : BitVec 32 := 2048#32
  let v3532 : BitVec 32 := Scalar.select v3528 v3531 c2048_i32_1338
  let v3533 : BitVec 32 := Scalar.addi v1470 v3532
  let v3536 : Index := Scalar.indexCast v3533
  let c0_1340 : Index := 0#32
  ![v3536.toNat, 0]

def k0_chk685 (i : grid0.Coords) (v3515 : BitVec 32) (v3518 : BitVec 32) (v3530 : BitVec 32) : Prop :=
  (∀ a, (k0_off1372 i v3515 v3518 v3530) a + S1x128.size a ≤ S8224x128.size a)
theorem k0_off1372_inb : ∀ (i : grid0.Coords) (v3515 : BitVec 32) (v3518 : BitVec 32) (v3530 : BitVec 32) (k0_hw685 : k0_chk685 i v3515 v3518 v3530), ∀ a, (k0_off1372 i v3515 v3518 v3530) a + S1x128.size a ≤ S8224x128.size a := fun i v3515 v3518 v3530 k0_hw685 => k0_hw685

def k0_off1373 (v3515 : BitVec 32) : Fin 1 → Nat :=
  let c1_i32_1341 : BitVec 32 := 1#32
  let v3541 : BitVec 32 := Scalar.addi v3515 c1_i32_1341
  let v3544 : Index := Scalar.indexCast v3541
  ![v3544.toNat]
def k0_off1374 (i : grid0.Coords) (v3515 : BitVec 32) (v3518 : BitVec 32) (v3545 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_1342 : BitVec 32 := 1#32
  let v3542 : BitVec 32 := Scalar.addi v3515 c1_i32_1342
  let v3543 : BitVec 1 := Scalar.cmpi .slt v3542 v3518
  let c65535_i32_1343 : BitVec 32 := 65535#32
  let v3546 : BitVec 32 := Scalar.andi v3545 c65535_i32_1343
  let c2048_i32_1344 : BitVec 32 := 2048#32
  let v3547 : BitVec 32 := Scalar.select v3543 v3546 c2048_i32_1344
  let v3548 : BitVec 32 := Scalar.addi v1470 v3547
  let v3551 : Index := Scalar.indexCast v3548
  let c0_1346 : Index := 0#32
  ![v3551.toNat, 0]

def k0_chk686 (i : grid0.Coords) (v3515 : BitVec 32) (v3518 : BitVec 32) (v3545 : BitVec 32) : Prop :=
  (∀ a, (k0_off1374 i v3515 v3518 v3545) a + S1x128.size a ≤ S8224x128.size a)
theorem k0_off1374_inb : ∀ (i : grid0.Coords) (v3515 : BitVec 32) (v3518 : BitVec 32) (v3545 : BitVec 32) (k0_hw686 : k0_chk686 i v3515 v3518 v3545), ∀ a, (k0_off1374 i v3515 v3518 v3545) a + S1x128.size a ≤ S8224x128.size a := fun i v3515 v3518 v3545 k0_hw686 => k0_hw686

def k0_off1375 (v3515 : BitVec 32) : Fin 1 → Nat :=
  let c2_i32_1347 : BitVec 32 := 2#32
  let v3556 : BitVec 32 := Scalar.addi v3515 c2_i32_1347
  let v3559 : Index := Scalar.indexCast v3556
  ![v3559.toNat]
def k0_off1376 (i : grid0.Coords) (v3515 : BitVec 32) (v3518 : BitVec 32) (v3560 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_1348 : BitVec 32 := 2#32
  let v3557 : BitVec 32 := Scalar.addi v3515 c2_i32_1348
  let v3558 : BitVec 1 := Scalar.cmpi .slt v3557 v3518
  let c65535_i32_1349 : BitVec 32 := 65535#32
  let v3561 : BitVec 32 := Scalar.andi v3560 c65535_i32_1349
  let c2048_i32_1350 : BitVec 32 := 2048#32
  let v3562 : BitVec 32 := Scalar.select v3558 v3561 c2048_i32_1350
  let v3563 : BitVec 32 := Scalar.addi v1470 v3562
  let v3566 : Index := Scalar.indexCast v3563
  let c0_1352 : Index := 0#32
  ![v3566.toNat, 0]

def k0_chk687 (i : grid0.Coords) (v3515 : BitVec 32) (v3518 : BitVec 32) (v3560 : BitVec 32) : Prop :=
  (∀ a, (k0_off1376 i v3515 v3518 v3560) a + S1x128.size a ≤ S8224x128.size a)
theorem k0_off1376_inb : ∀ (i : grid0.Coords) (v3515 : BitVec 32) (v3518 : BitVec 32) (v3560 : BitVec 32) (k0_hw687 : k0_chk687 i v3515 v3518 v3560), ∀ a, (k0_off1376 i v3515 v3518 v3560) a + S1x128.size a ≤ S8224x128.size a := fun i v3515 v3518 v3560 k0_hw687 => k0_hw687

def k0_off1377 (v3515 : BitVec 32) : Fin 1 → Nat :=
  let c3_i32_1353 : BitVec 32 := 3#32
  let v3571 : BitVec 32 := Scalar.addi v3515 c3_i32_1353
  let v3574 : Index := Scalar.indexCast v3571
  ![v3574.toNat]
def k0_off1378 (i : grid0.Coords) (v3515 : BitVec 32) (v3518 : BitVec 32) (v3575 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_1354 : BitVec 32 := 3#32
  let v3572 : BitVec 32 := Scalar.addi v3515 c3_i32_1354
  let v3573 : BitVec 1 := Scalar.cmpi .slt v3572 v3518
  let c65535_i32_1355 : BitVec 32 := 65535#32
  let v3576 : BitVec 32 := Scalar.andi v3575 c65535_i32_1355
  let c2048_i32_1356 : BitVec 32 := 2048#32
  let v3577 : BitVec 32 := Scalar.select v3573 v3576 c2048_i32_1356
  let v3578 : BitVec 32 := Scalar.addi v1470 v3577
  let v3581 : Index := Scalar.indexCast v3578
  let c0_1358 : Index := 0#32
  ![v3581.toNat, 0]

def k0_chk688 (i : grid0.Coords) (v3515 : BitVec 32) (v3518 : BitVec 32) (v3575 : BitVec 32) : Prop :=
  (∀ a, (k0_off1378 i v3515 v3518 v3575) a + S1x128.size a ≤ S8224x128.size a)
theorem k0_off1378_inb : ∀ (i : grid0.Coords) (v3515 : BitVec 32) (v3518 : BitVec 32) (v3575 : BitVec 32) (k0_hw688 : k0_chk688 i v3515 v3518 v3575), ∀ a, (k0_off1378 i v3515 v3518 v3575) a + S1x128.size a ≤ S8224x128.size a := fun i v3515 v3518 v3575 k0_hw688 => k0_hw688

def k0_off1379 (v3515 : BitVec 32) : Fin 1 → Nat :=
  let c4_i32_1359 : BitVec 32 := 4#32
  let v3586 : BitVec 32 := Scalar.addi v3515 c4_i32_1359
  let v3589 : Index := Scalar.indexCast v3586
  ![v3589.toNat]
def k0_off1380 (i : grid0.Coords) (v3515 : BitVec 32) (v3518 : BitVec 32) (v3590 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_1360 : BitVec 32 := 4#32
  let v3587 : BitVec 32 := Scalar.addi v3515 c4_i32_1360
  let v3588 : BitVec 1 := Scalar.cmpi .slt v3587 v3518
  let c65535_i32_1361 : BitVec 32 := 65535#32
  let v3591 : BitVec 32 := Scalar.andi v3590 c65535_i32_1361
  let c2048_i32_1362 : BitVec 32 := 2048#32
  let v3592 : BitVec 32 := Scalar.select v3588 v3591 c2048_i32_1362
  let v3593 : BitVec 32 := Scalar.addi v1470 v3592
  let v3596 : Index := Scalar.indexCast v3593
  let c0_1364 : Index := 0#32
  ![v3596.toNat, 0]

def k0_chk689 (i : grid0.Coords) (v3515 : BitVec 32) (v3518 : BitVec 32) (v3590 : BitVec 32) : Prop :=
  (∀ a, (k0_off1380 i v3515 v3518 v3590) a + S1x128.size a ≤ S8224x128.size a)
theorem k0_off1380_inb : ∀ (i : grid0.Coords) (v3515 : BitVec 32) (v3518 : BitVec 32) (v3590 : BitVec 32) (k0_hw689 : k0_chk689 i v3515 v3518 v3590), ∀ a, (k0_off1380 i v3515 v3518 v3590) a + S1x128.size a ≤ S8224x128.size a := fun i v3515 v3518 v3590 k0_hw689 => k0_hw689

def k0_off1381 (v3515 : BitVec 32) : Fin 1 → Nat :=
  let c5_i32_1365 : BitVec 32 := 5#32
  let v3601 : BitVec 32 := Scalar.addi v3515 c5_i32_1365
  let v3604 : Index := Scalar.indexCast v3601
  ![v3604.toNat]
def k0_off1382 (i : grid0.Coords) (v3515 : BitVec 32) (v3518 : BitVec 32) (v3605 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_1366 : BitVec 32 := 5#32
  let v3602 : BitVec 32 := Scalar.addi v3515 c5_i32_1366
  let v3603 : BitVec 1 := Scalar.cmpi .slt v3602 v3518
  let c65535_i32_1367 : BitVec 32 := 65535#32
  let v3606 : BitVec 32 := Scalar.andi v3605 c65535_i32_1367
  let c2048_i32_1368 : BitVec 32 := 2048#32
  let v3607 : BitVec 32 := Scalar.select v3603 v3606 c2048_i32_1368
  let v3608 : BitVec 32 := Scalar.addi v1470 v3607
  let v3611 : Index := Scalar.indexCast v3608
  let c0_1370 : Index := 0#32
  ![v3611.toNat, 0]

def k0_chk690 (i : grid0.Coords) (v3515 : BitVec 32) (v3518 : BitVec 32) (v3605 : BitVec 32) : Prop :=
  (∀ a, (k0_off1382 i v3515 v3518 v3605) a + S1x128.size a ≤ S8224x128.size a)
theorem k0_off1382_inb : ∀ (i : grid0.Coords) (v3515 : BitVec 32) (v3518 : BitVec 32) (v3605 : BitVec 32) (k0_hw690 : k0_chk690 i v3515 v3518 v3605), ∀ a, (k0_off1382 i v3515 v3518 v3605) a + S1x128.size a ≤ S8224x128.size a := fun i v3515 v3518 v3605 k0_hw690 => k0_hw690

def k0_off1383 (v3515 : BitVec 32) : Fin 1 → Nat :=
  let c6_i32_1371 : BitVec 32 := 6#32
  let v3616 : BitVec 32 := Scalar.addi v3515 c6_i32_1371
  let v3619 : Index := Scalar.indexCast v3616
  ![v3619.toNat]
def k0_off1384 (i : grid0.Coords) (v3515 : BitVec 32) (v3518 : BitVec 32) (v3620 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_1372 : BitVec 32 := 6#32
  let v3617 : BitVec 32 := Scalar.addi v3515 c6_i32_1372
  let v3618 : BitVec 1 := Scalar.cmpi .slt v3617 v3518
  let c65535_i32_1373 : BitVec 32 := 65535#32
  let v3621 : BitVec 32 := Scalar.andi v3620 c65535_i32_1373
  let c2048_i32_1374 : BitVec 32 := 2048#32
  let v3622 : BitVec 32 := Scalar.select v3618 v3621 c2048_i32_1374
  let v3623 : BitVec 32 := Scalar.addi v1470 v3622
  let v3626 : Index := Scalar.indexCast v3623
  let c0_1376 : Index := 0#32
  ![v3626.toNat, 0]

def k0_chk691 (i : grid0.Coords) (v3515 : BitVec 32) (v3518 : BitVec 32) (v3620 : BitVec 32) : Prop :=
  (∀ a, (k0_off1384 i v3515 v3518 v3620) a + S1x128.size a ≤ S8224x128.size a)
theorem k0_off1384_inb : ∀ (i : grid0.Coords) (v3515 : BitVec 32) (v3518 : BitVec 32) (v3620 : BitVec 32) (k0_hw691 : k0_chk691 i v3515 v3518 v3620), ∀ a, (k0_off1384 i v3515 v3518 v3620) a + S1x128.size a ≤ S8224x128.size a := fun i v3515 v3518 v3620 k0_hw691 => k0_hw691

def k0_off1385 (v3515 : BitVec 32) : Fin 1 → Nat :=
  let c7_i32_1377 : BitVec 32 := 7#32
  let v3631 : BitVec 32 := Scalar.addi v3515 c7_i32_1377
  let v3634 : Index := Scalar.indexCast v3631
  ![v3634.toNat]
def k0_off1386 (i : grid0.Coords) (v3515 : BitVec 32) (v3518 : BitVec 32) (v3635 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_1378 : BitVec 32 := 7#32
  let v3632 : BitVec 32 := Scalar.addi v3515 c7_i32_1378
  let v3633 : BitVec 1 := Scalar.cmpi .slt v3632 v3518
  let c65535_i32_1379 : BitVec 32 := 65535#32
  let v3636 : BitVec 32 := Scalar.andi v3635 c65535_i32_1379
  let c2048_i32_1380 : BitVec 32 := 2048#32
  let v3637 : BitVec 32 := Scalar.select v3633 v3636 c2048_i32_1380
  let v3638 : BitVec 32 := Scalar.addi v1470 v3637
  let v3641 : Index := Scalar.indexCast v3638
  let c0_1382 : Index := 0#32
  ![v3641.toNat, 0]

def k0_chk692 (i : grid0.Coords) (v3515 : BitVec 32) (v3518 : BitVec 32) (v3635 : BitVec 32) : Prop :=
  (∀ a, (k0_off1386 i v3515 v3518 v3635) a + S1x128.size a ≤ S8224x128.size a)
theorem k0_off1386_inb : ∀ (i : grid0.Coords) (v3515 : BitVec 32) (v3518 : BitVec 32) (v3635 : BitVec 32) (k0_hw692 : k0_chk692 i v3515 v3518 v3635), ∀ a, (k0_off1386 i v3515 v3518 v3635) a + S1x128.size a ≤ S8224x128.size a := fun i v3515 v3518 v3635 k0_hw692 => k0_hw692

def k0_off1387 (v3515 : BitVec 32) : Fin 1 → Nat :=
  let c8_i32_1383 : BitVec 32 := 8#32
  let v3646 : BitVec 32 := Scalar.addi v3515 c8_i32_1383
  let v3649 : Index := Scalar.indexCast v3646
  ![v3649.toNat]
def k0_off1388 (i : grid0.Coords) (v3515 : BitVec 32) (v3518 : BitVec 32) (v3650 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_1384 : BitVec 32 := 8#32
  let v3647 : BitVec 32 := Scalar.addi v3515 c8_i32_1384
  let v3648 : BitVec 1 := Scalar.cmpi .slt v3647 v3518
  let c65535_i32_1385 : BitVec 32 := 65535#32
  let v3651 : BitVec 32 := Scalar.andi v3650 c65535_i32_1385
  let c2048_i32_1386 : BitVec 32 := 2048#32
  let v3652 : BitVec 32 := Scalar.select v3648 v3651 c2048_i32_1386
  let v3653 : BitVec 32 := Scalar.addi v1470 v3652
  let v3656 : Index := Scalar.indexCast v3653
  let c0_1388 : Index := 0#32
  ![v3656.toNat, 0]

def k0_chk693 (i : grid0.Coords) (v3515 : BitVec 32) (v3518 : BitVec 32) (v3650 : BitVec 32) : Prop :=
  (∀ a, (k0_off1388 i v3515 v3518 v3650) a + S1x128.size a ≤ S8224x128.size a)
theorem k0_off1388_inb : ∀ (i : grid0.Coords) (v3515 : BitVec 32) (v3518 : BitVec 32) (v3650 : BitVec 32) (k0_hw693 : k0_chk693 i v3515 v3518 v3650), ∀ a, (k0_off1388 i v3515 v3518 v3650) a + S1x128.size a ≤ S8224x128.size a := fun i v3515 v3518 v3650 k0_hw693 => k0_hw693

def k0_off1389 (v3515 : BitVec 32) : Fin 1 → Nat :=
  let c9_i32_1389 : BitVec 32 := 9#32
  let v3661 : BitVec 32 := Scalar.addi v3515 c9_i32_1389
  let v3664 : Index := Scalar.indexCast v3661
  ![v3664.toNat]
def k0_off1390 (i : grid0.Coords) (v3515 : BitVec 32) (v3518 : BitVec 32) (v3665 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_1390 : BitVec 32 := 9#32
  let v3662 : BitVec 32 := Scalar.addi v3515 c9_i32_1390
  let v3663 : BitVec 1 := Scalar.cmpi .slt v3662 v3518
  let c65535_i32_1391 : BitVec 32 := 65535#32
  let v3666 : BitVec 32 := Scalar.andi v3665 c65535_i32_1391
  let c2048_i32_1392 : BitVec 32 := 2048#32
  let v3667 : BitVec 32 := Scalar.select v3663 v3666 c2048_i32_1392
  let v3668 : BitVec 32 := Scalar.addi v1470 v3667
  let v3671 : Index := Scalar.indexCast v3668
  let c0_1394 : Index := 0#32
  ![v3671.toNat, 0]

def k0_chk694 (i : grid0.Coords) (v3515 : BitVec 32) (v3518 : BitVec 32) (v3665 : BitVec 32) : Prop :=
  (∀ a, (k0_off1390 i v3515 v3518 v3665) a + S1x128.size a ≤ S8224x128.size a)
theorem k0_off1390_inb : ∀ (i : grid0.Coords) (v3515 : BitVec 32) (v3518 : BitVec 32) (v3665 : BitVec 32) (k0_hw694 : k0_chk694 i v3515 v3518 v3665), ∀ a, (k0_off1390 i v3515 v3518 v3665) a + S1x128.size a ≤ S8224x128.size a := fun i v3515 v3518 v3665 k0_hw694 => k0_hw694

def k0_off1391 (v3515 : BitVec 32) : Fin 1 → Nat :=
  let c10_i32_1395 : BitVec 32 := 10#32
  let v3676 : BitVec 32 := Scalar.addi v3515 c10_i32_1395
  let v3679 : Index := Scalar.indexCast v3676
  ![v3679.toNat]
def k0_off1392 (i : grid0.Coords) (v3515 : BitVec 32) (v3518 : BitVec 32) (v3680 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_1396 : BitVec 32 := 10#32
  let v3677 : BitVec 32 := Scalar.addi v3515 c10_i32_1396
  let v3678 : BitVec 1 := Scalar.cmpi .slt v3677 v3518
  let c65535_i32_1397 : BitVec 32 := 65535#32
  let v3681 : BitVec 32 := Scalar.andi v3680 c65535_i32_1397
  let c2048_i32_1398 : BitVec 32 := 2048#32
  let v3682 : BitVec 32 := Scalar.select v3678 v3681 c2048_i32_1398
  let v3683 : BitVec 32 := Scalar.addi v1470 v3682
  let v3686 : Index := Scalar.indexCast v3683
  let c0_1400 : Index := 0#32
  ![v3686.toNat, 0]

def k0_chk695 (i : grid0.Coords) (v3515 : BitVec 32) (v3518 : BitVec 32) (v3680 : BitVec 32) : Prop :=
  (∀ a, (k0_off1392 i v3515 v3518 v3680) a + S1x128.size a ≤ S8224x128.size a)
theorem k0_off1392_inb : ∀ (i : grid0.Coords) (v3515 : BitVec 32) (v3518 : BitVec 32) (v3680 : BitVec 32) (k0_hw695 : k0_chk695 i v3515 v3518 v3680), ∀ a, (k0_off1392 i v3515 v3518 v3680) a + S1x128.size a ≤ S8224x128.size a := fun i v3515 v3518 v3680 k0_hw695 => k0_hw695

def k0_off1393 (v3515 : BitVec 32) : Fin 1 → Nat :=
  let c11_i32_1401 : BitVec 32 := 11#32
  let v3691 : BitVec 32 := Scalar.addi v3515 c11_i32_1401
  let v3694 : Index := Scalar.indexCast v3691
  ![v3694.toNat]
def k0_off1394 (i : grid0.Coords) (v3515 : BitVec 32) (v3518 : BitVec 32) (v3695 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_1402 : BitVec 32 := 11#32
  let v3692 : BitVec 32 := Scalar.addi v3515 c11_i32_1402
  let v3693 : BitVec 1 := Scalar.cmpi .slt v3692 v3518
  let c65535_i32_1403 : BitVec 32 := 65535#32
  let v3696 : BitVec 32 := Scalar.andi v3695 c65535_i32_1403
  let c2048_i32_1404 : BitVec 32 := 2048#32
  let v3697 : BitVec 32 := Scalar.select v3693 v3696 c2048_i32_1404
  let v3698 : BitVec 32 := Scalar.addi v1470 v3697
  let v3701 : Index := Scalar.indexCast v3698
  let c0_1406 : Index := 0#32
  ![v3701.toNat, 0]

def k0_chk696 (i : grid0.Coords) (v3515 : BitVec 32) (v3518 : BitVec 32) (v3695 : BitVec 32) : Prop :=
  (∀ a, (k0_off1394 i v3515 v3518 v3695) a + S1x128.size a ≤ S8224x128.size a)
theorem k0_off1394_inb : ∀ (i : grid0.Coords) (v3515 : BitVec 32) (v3518 : BitVec 32) (v3695 : BitVec 32) (k0_hw696 : k0_chk696 i v3515 v3518 v3695), ∀ a, (k0_off1394 i v3515 v3518 v3695) a + S1x128.size a ≤ S8224x128.size a := fun i v3515 v3518 v3695 k0_hw696 => k0_hw696

def k0_off1395 (v3515 : BitVec 32) : Fin 1 → Nat :=
  let c12_i32_1407 : BitVec 32 := 12#32
  let v3706 : BitVec 32 := Scalar.addi v3515 c12_i32_1407
  let v3709 : Index := Scalar.indexCast v3706
  ![v3709.toNat]
def k0_off1396 (i : grid0.Coords) (v3515 : BitVec 32) (v3518 : BitVec 32) (v3710 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_1408 : BitVec 32 := 12#32
  let v3707 : BitVec 32 := Scalar.addi v3515 c12_i32_1408
  let v3708 : BitVec 1 := Scalar.cmpi .slt v3707 v3518
  let c65535_i32_1409 : BitVec 32 := 65535#32
  let v3711 : BitVec 32 := Scalar.andi v3710 c65535_i32_1409
  let c2048_i32_1410 : BitVec 32 := 2048#32
  let v3712 : BitVec 32 := Scalar.select v3708 v3711 c2048_i32_1410
  let v3713 : BitVec 32 := Scalar.addi v1470 v3712
  let v3716 : Index := Scalar.indexCast v3713
  let c0_1412 : Index := 0#32
  ![v3716.toNat, 0]

def k0_chk697 (i : grid0.Coords) (v3515 : BitVec 32) (v3518 : BitVec 32) (v3710 : BitVec 32) : Prop :=
  (∀ a, (k0_off1396 i v3515 v3518 v3710) a + S1x128.size a ≤ S8224x128.size a)
theorem k0_off1396_inb : ∀ (i : grid0.Coords) (v3515 : BitVec 32) (v3518 : BitVec 32) (v3710 : BitVec 32) (k0_hw697 : k0_chk697 i v3515 v3518 v3710), ∀ a, (k0_off1396 i v3515 v3518 v3710) a + S1x128.size a ≤ S8224x128.size a := fun i v3515 v3518 v3710 k0_hw697 => k0_hw697

def k0_off1397 (v3515 : BitVec 32) : Fin 1 → Nat :=
  let c13_i32_1413 : BitVec 32 := 13#32
  let v3721 : BitVec 32 := Scalar.addi v3515 c13_i32_1413
  let v3724 : Index := Scalar.indexCast v3721
  ![v3724.toNat]
def k0_off1398 (i : grid0.Coords) (v3515 : BitVec 32) (v3518 : BitVec 32) (v3725 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_1414 : BitVec 32 := 13#32
  let v3722 : BitVec 32 := Scalar.addi v3515 c13_i32_1414
  let v3723 : BitVec 1 := Scalar.cmpi .slt v3722 v3518
  let c65535_i32_1415 : BitVec 32 := 65535#32
  let v3726 : BitVec 32 := Scalar.andi v3725 c65535_i32_1415
  let c2048_i32_1416 : BitVec 32 := 2048#32
  let v3727 : BitVec 32 := Scalar.select v3723 v3726 c2048_i32_1416
  let v3728 : BitVec 32 := Scalar.addi v1470 v3727
  let v3731 : Index := Scalar.indexCast v3728
  let c0_1418 : Index := 0#32
  ![v3731.toNat, 0]

def k0_chk698 (i : grid0.Coords) (v3515 : BitVec 32) (v3518 : BitVec 32) (v3725 : BitVec 32) : Prop :=
  (∀ a, (k0_off1398 i v3515 v3518 v3725) a + S1x128.size a ≤ S8224x128.size a)
theorem k0_off1398_inb : ∀ (i : grid0.Coords) (v3515 : BitVec 32) (v3518 : BitVec 32) (v3725 : BitVec 32) (k0_hw698 : k0_chk698 i v3515 v3518 v3725), ∀ a, (k0_off1398 i v3515 v3518 v3725) a + S1x128.size a ≤ S8224x128.size a := fun i v3515 v3518 v3725 k0_hw698 => k0_hw698

def k0_off1399 (v3515 : BitVec 32) : Fin 1 → Nat :=
  let c14_i32_1419 : BitVec 32 := 14#32
  let v3736 : BitVec 32 := Scalar.addi v3515 c14_i32_1419
  let v3739 : Index := Scalar.indexCast v3736
  ![v3739.toNat]
def k0_off1400 (i : grid0.Coords) (v3515 : BitVec 32) (v3518 : BitVec 32) (v3740 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_1420 : BitVec 32 := 14#32
  let v3737 : BitVec 32 := Scalar.addi v3515 c14_i32_1420
  let v3738 : BitVec 1 := Scalar.cmpi .slt v3737 v3518
  let c65535_i32_1421 : BitVec 32 := 65535#32
  let v3741 : BitVec 32 := Scalar.andi v3740 c65535_i32_1421
  let c2048_i32_1422 : BitVec 32 := 2048#32
  let v3742 : BitVec 32 := Scalar.select v3738 v3741 c2048_i32_1422
  let v3743 : BitVec 32 := Scalar.addi v1470 v3742
  let v3746 : Index := Scalar.indexCast v3743
  let c0_1424 : Index := 0#32
  ![v3746.toNat, 0]

def k0_chk699 (i : grid0.Coords) (v3515 : BitVec 32) (v3518 : BitVec 32) (v3740 : BitVec 32) : Prop :=
  (∀ a, (k0_off1400 i v3515 v3518 v3740) a + S1x128.size a ≤ S8224x128.size a)
theorem k0_off1400_inb : ∀ (i : grid0.Coords) (v3515 : BitVec 32) (v3518 : BitVec 32) (v3740 : BitVec 32) (k0_hw699 : k0_chk699 i v3515 v3518 v3740), ∀ a, (k0_off1400 i v3515 v3518 v3740) a + S1x128.size a ≤ S8224x128.size a := fun i v3515 v3518 v3740 k0_hw699 => k0_hw699

def k0_off1401 (v3515 : BitVec 32) : Fin 1 → Nat :=
  let c15_i32_1425 : BitVec 32 := 15#32
  let v3751 : BitVec 32 := Scalar.addi v3515 c15_i32_1425
  let v3754 : Index := Scalar.indexCast v3751
  ![v3754.toNat]

def k0_chk684 (v3515 : BitVec 32) : Prop :=
  (∀ a, (k0_off1371 v3515) a + S1.size a ≤ S51920.size a) ∧
  (∀ a, (k0_off1373 v3515) a + S1.size a ≤ S51920.size a) ∧
  (∀ a, (k0_off1375 v3515) a + S1.size a ≤ S51920.size a) ∧
  (∀ a, (k0_off1377 v3515) a + S1.size a ≤ S51920.size a) ∧
  (∀ a, (k0_off1379 v3515) a + S1.size a ≤ S51920.size a) ∧
  (∀ a, (k0_off1381 v3515) a + S1.size a ≤ S51920.size a) ∧
  (∀ a, (k0_off1383 v3515) a + S1.size a ≤ S51920.size a) ∧
  (∀ a, (k0_off1385 v3515) a + S1.size a ≤ S51920.size a) ∧
  (∀ a, (k0_off1387 v3515) a + S1.size a ≤ S51920.size a) ∧
  (∀ a, (k0_off1389 v3515) a + S1.size a ≤ S51920.size a) ∧
  (∀ a, (k0_off1391 v3515) a + S1.size a ≤ S51920.size a) ∧
  (∀ a, (k0_off1393 v3515) a + S1.size a ≤ S51920.size a) ∧
  (∀ a, (k0_off1395 v3515) a + S1.size a ≤ S51920.size a) ∧
  (∀ a, (k0_off1397 v3515) a + S1.size a ≤ S51920.size a) ∧
  (∀ a, (k0_off1399 v3515) a + S1.size a ≤ S51920.size a) ∧
  (∀ a, (k0_off1401 v3515) a + S1.size a ≤ S51920.size a)
theorem k0_off1371_inb : ∀ (v3515 : BitVec 32) (k0_hw684 : k0_chk684 v3515), ∀ a, (k0_off1371 v3515) a + S1.size a ≤ S51920.size a := fun v3515 k0_hw684 => k0_hw684.1
theorem k0_off1373_inb : ∀ (v3515 : BitVec 32) (k0_hw684 : k0_chk684 v3515), ∀ a, (k0_off1373 v3515) a + S1.size a ≤ S51920.size a := fun v3515 k0_hw684 => k0_hw684.2.1
theorem k0_off1375_inb : ∀ (v3515 : BitVec 32) (k0_hw684 : k0_chk684 v3515), ∀ a, (k0_off1375 v3515) a + S1.size a ≤ S51920.size a := fun v3515 k0_hw684 => k0_hw684.2.2.1
theorem k0_off1377_inb : ∀ (v3515 : BitVec 32) (k0_hw684 : k0_chk684 v3515), ∀ a, (k0_off1377 v3515) a + S1.size a ≤ S51920.size a := fun v3515 k0_hw684 => k0_hw684.2.2.2.1
theorem k0_off1379_inb : ∀ (v3515 : BitVec 32) (k0_hw684 : k0_chk684 v3515), ∀ a, (k0_off1379 v3515) a + S1.size a ≤ S51920.size a := fun v3515 k0_hw684 => k0_hw684.2.2.2.2.1
theorem k0_off1381_inb : ∀ (v3515 : BitVec 32) (k0_hw684 : k0_chk684 v3515), ∀ a, (k0_off1381 v3515) a + S1.size a ≤ S51920.size a := fun v3515 k0_hw684 => k0_hw684.2.2.2.2.2.1
theorem k0_off1383_inb : ∀ (v3515 : BitVec 32) (k0_hw684 : k0_chk684 v3515), ∀ a, (k0_off1383 v3515) a + S1.size a ≤ S51920.size a := fun v3515 k0_hw684 => k0_hw684.2.2.2.2.2.2.1
theorem k0_off1385_inb : ∀ (v3515 : BitVec 32) (k0_hw684 : k0_chk684 v3515), ∀ a, (k0_off1385 v3515) a + S1.size a ≤ S51920.size a := fun v3515 k0_hw684 => k0_hw684.2.2.2.2.2.2.2.1
theorem k0_off1387_inb : ∀ (v3515 : BitVec 32) (k0_hw684 : k0_chk684 v3515), ∀ a, (k0_off1387 v3515) a + S1.size a ≤ S51920.size a := fun v3515 k0_hw684 => k0_hw684.2.2.2.2.2.2.2.2.1
theorem k0_off1389_inb : ∀ (v3515 : BitVec 32) (k0_hw684 : k0_chk684 v3515), ∀ a, (k0_off1389 v3515) a + S1.size a ≤ S51920.size a := fun v3515 k0_hw684 => k0_hw684.2.2.2.2.2.2.2.2.2.1
theorem k0_off1391_inb : ∀ (v3515 : BitVec 32) (k0_hw684 : k0_chk684 v3515), ∀ a, (k0_off1391 v3515) a + S1.size a ≤ S51920.size a := fun v3515 k0_hw684 => k0_hw684.2.2.2.2.2.2.2.2.2.2.1
theorem k0_off1393_inb : ∀ (v3515 : BitVec 32) (k0_hw684 : k0_chk684 v3515), ∀ a, (k0_off1393 v3515) a + S1.size a ≤ S51920.size a := fun v3515 k0_hw684 => k0_hw684.2.2.2.2.2.2.2.2.2.2.2.1
theorem k0_off1395_inb : ∀ (v3515 : BitVec 32) (k0_hw684 : k0_chk684 v3515), ∀ a, (k0_off1395 v3515) a + S1.size a ≤ S51920.size a := fun v3515 k0_hw684 => k0_hw684.2.2.2.2.2.2.2.2.2.2.2.2.1
theorem k0_off1397_inb : ∀ (v3515 : BitVec 32) (k0_hw684 : k0_chk684 v3515), ∀ a, (k0_off1397 v3515) a + S1.size a ≤ S51920.size a := fun v3515 k0_hw684 => k0_hw684.2.2.2.2.2.2.2.2.2.2.2.2.2.1
theorem k0_off1399_inb : ∀ (v3515 : BitVec 32) (k0_hw684 : k0_chk684 v3515), ∀ a, (k0_off1399 v3515) a + S1.size a ≤ S51920.size a := fun v3515 k0_hw684 => k0_hw684.2.2.2.2.2.2.2.2.2.2.2.2.2.2.1
theorem k0_off1401_inb : ∀ (v3515 : BitVec 32) (k0_hw684 : k0_chk684 v3515), ∀ a, (k0_off1401 v3515) a + S1.size a ≤ S51920.size a := fun v3515 k0_hw684 => k0_hw684.2.2.2.2.2.2.2.2.2.2.2.2.2.2.2

def k0_off1402 (i : grid0.Coords) (v3515 : BitVec 32) (v3518 : BitVec 32) (v3755 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_1426 : BitVec 32 := 15#32
  let v3752 : BitVec 32 := Scalar.addi v3515 c15_i32_1426
  let v3753 : BitVec 1 := Scalar.cmpi .slt v3752 v3518
  let c65535_i32_1427 : BitVec 32 := 65535#32
  let v3756 : BitVec 32 := Scalar.andi v3755 c65535_i32_1427
  let c2048_i32_1428 : BitVec 32 := 2048#32
  let v3757 : BitVec 32 := Scalar.select v3753 v3756 c2048_i32_1428
  let v3758 : BitVec 32 := Scalar.addi v1470 v3757
  let v3761 : Index := Scalar.indexCast v3758
  let c0_1430 : Index := 0#32
  ![v3761.toNat, 0]

def k0_chk700 (i : grid0.Coords) (v3515 : BitVec 32) (v3518 : BitVec 32) (v3755 : BitVec 32) : Prop :=
  (∀ a, (k0_off1402 i v3515 v3518 v3755) a + S1x128.size a ≤ S8224x128.size a)
theorem k0_off1402_inb : ∀ (i : grid0.Coords) (v3515 : BitVec 32) (v3518 : BitVec 32) (v3755 : BitVec 32) (k0_hw700 : k0_chk700 i v3515 v3518 v3755), ∀ a, (k0_off1402 i v3515 v3518 v3755) a + S1x128.size a ≤ S8224x128.size a := fun i v3515 v3518 v3755 k0_hw700 => k0_hw700

def k0_off1403 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1431 : BitVec 32 := 512#32
  let v3766 : BitVec 32 := Scalar.muli v24 c512_i32_1431
  let arg1 : BitVec 32 := BitVec.ofNat 32 (i 1).val
  let c32_i32 : BitVec 32 := 32#32
  let v1452 : BitVec 32 := Scalar.muli arg1 c32_i32
  let v3767 : BitVec 32 := Scalar.addi v3766 v1452
  let c9_i32_1432 : BitVec 32 := 9#32
  let v3768 : BitVec 32 := Scalar.addi v3767 c9_i32_1432
  let v3769 : Index := Scalar.indexCast v3768
  ![v3769.toNat]
def k0_off1404 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1431 : BitVec 32 := 512#32
  let v3766 : BitVec 32 := Scalar.muli v24 c512_i32_1431
  let arg1 : BitVec 32 := BitVec.ofNat 32 (i 1).val
  let c32_i32 : BitVec 32 := 32#32
  let v1452 : BitVec 32 := Scalar.muli arg1 c32_i32
  let v3767 : BitVec 32 := Scalar.addi v3766 v1452
  let c9_i32_1432 : BitVec 32 := 9#32
  let v3768 : BitVec 32 := Scalar.addi v3767 c9_i32_1432
  let c1_i32_1433 : BitVec 32 := 1#32
  let v3771 : BitVec 32 := Scalar.addi v3768 c1_i32_1433
  let v3772 : Index := Scalar.indexCast v3771
  ![v3772.toNat]
def k0_off1405 (v3770 : BitVec 32) : Fin 1 → Nat :=
  let c0_i32_1436 : BitVec 32 := 0#32
  let v3781 : BitVec 32 := Scalar.addi v3770 c0_i32_1436
  let v3784 : Index := Scalar.indexCast v3781
  ![v3784.toNat]

def k0_off1406 (i : grid0.Coords) (v3770 : BitVec 32) (v3773 : BitVec 32) (v3785 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_1437 : BitVec 32 := 0#32
  let v3782 : BitVec 32 := Scalar.addi v3770 c0_i32_1437
  let v3783 : BitVec 1 := Scalar.cmpi .slt v3782 v3773
  let c65535_i32_1438 : BitVec 32 := 65535#32
  let v3786 : BitVec 32 := Scalar.andi v3785 c65535_i32_1438
  let c2048_i32_1439 : BitVec 32 := 2048#32
  let v3787 : BitVec 32 := Scalar.select v3783 v3786 c2048_i32_1439
  let v3788 : BitVec 32 := Scalar.addi v1470 v3787
  let v3791 : Index := Scalar.indexCast v3788
  let c0_1441 : Index := 0#32
  ![v3791.toNat, 0]

def k0_chk702 (i : grid0.Coords) (v3770 : BitVec 32) (v3773 : BitVec 32) (v3785 : BitVec 32) : Prop :=
  (∀ a, (k0_off1406 i v3770 v3773 v3785) a + S1x128.size a ≤ S8224x128.size a)
theorem k0_off1406_inb : ∀ (i : grid0.Coords) (v3770 : BitVec 32) (v3773 : BitVec 32) (v3785 : BitVec 32) (k0_hw702 : k0_chk702 i v3770 v3773 v3785), ∀ a, (k0_off1406 i v3770 v3773 v3785) a + S1x128.size a ≤ S8224x128.size a := fun i v3770 v3773 v3785 k0_hw702 => k0_hw702

def k0_off1407 (v3770 : BitVec 32) : Fin 1 → Nat :=
  let c1_i32_1442 : BitVec 32 := 1#32
  let v3796 : BitVec 32 := Scalar.addi v3770 c1_i32_1442
  let v3799 : Index := Scalar.indexCast v3796
  ![v3799.toNat]
def k0_off1408 (i : grid0.Coords) (v3770 : BitVec 32) (v3773 : BitVec 32) (v3800 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_1443 : BitVec 32 := 1#32
  let v3797 : BitVec 32 := Scalar.addi v3770 c1_i32_1443
  let v3798 : BitVec 1 := Scalar.cmpi .slt v3797 v3773
  let c65535_i32_1444 : BitVec 32 := 65535#32
  let v3801 : BitVec 32 := Scalar.andi v3800 c65535_i32_1444
  let c2048_i32_1445 : BitVec 32 := 2048#32
  let v3802 : BitVec 32 := Scalar.select v3798 v3801 c2048_i32_1445
  let v3803 : BitVec 32 := Scalar.addi v1470 v3802
  let v3806 : Index := Scalar.indexCast v3803
  let c0_1447 : Index := 0#32
  ![v3806.toNat, 0]

def k0_chk703 (i : grid0.Coords) (v3770 : BitVec 32) (v3773 : BitVec 32) (v3800 : BitVec 32) : Prop :=
  (∀ a, (k0_off1408 i v3770 v3773 v3800) a + S1x128.size a ≤ S8224x128.size a)
theorem k0_off1408_inb : ∀ (i : grid0.Coords) (v3770 : BitVec 32) (v3773 : BitVec 32) (v3800 : BitVec 32) (k0_hw703 : k0_chk703 i v3770 v3773 v3800), ∀ a, (k0_off1408 i v3770 v3773 v3800) a + S1x128.size a ≤ S8224x128.size a := fun i v3770 v3773 v3800 k0_hw703 => k0_hw703

def k0_off1409 (v3770 : BitVec 32) : Fin 1 → Nat :=
  let c2_i32_1448 : BitVec 32 := 2#32
  let v3811 : BitVec 32 := Scalar.addi v3770 c2_i32_1448
  let v3814 : Index := Scalar.indexCast v3811
  ![v3814.toNat]
def k0_off1410 (i : grid0.Coords) (v3770 : BitVec 32) (v3773 : BitVec 32) (v3815 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_1449 : BitVec 32 := 2#32
  let v3812 : BitVec 32 := Scalar.addi v3770 c2_i32_1449
  let v3813 : BitVec 1 := Scalar.cmpi .slt v3812 v3773
  let c65535_i32_1450 : BitVec 32 := 65535#32
  let v3816 : BitVec 32 := Scalar.andi v3815 c65535_i32_1450
  let c2048_i32_1451 : BitVec 32 := 2048#32
  let v3817 : BitVec 32 := Scalar.select v3813 v3816 c2048_i32_1451
  let v3818 : BitVec 32 := Scalar.addi v1470 v3817
  let v3821 : Index := Scalar.indexCast v3818
  let c0_1453 : Index := 0#32
  ![v3821.toNat, 0]

def k0_chk704 (i : grid0.Coords) (v3770 : BitVec 32) (v3773 : BitVec 32) (v3815 : BitVec 32) : Prop :=
  (∀ a, (k0_off1410 i v3770 v3773 v3815) a + S1x128.size a ≤ S8224x128.size a)
theorem k0_off1410_inb : ∀ (i : grid0.Coords) (v3770 : BitVec 32) (v3773 : BitVec 32) (v3815 : BitVec 32) (k0_hw704 : k0_chk704 i v3770 v3773 v3815), ∀ a, (k0_off1410 i v3770 v3773 v3815) a + S1x128.size a ≤ S8224x128.size a := fun i v3770 v3773 v3815 k0_hw704 => k0_hw704

def k0_off1411 (v3770 : BitVec 32) : Fin 1 → Nat :=
  let c3_i32_1454 : BitVec 32 := 3#32
  let v3826 : BitVec 32 := Scalar.addi v3770 c3_i32_1454
  let v3829 : Index := Scalar.indexCast v3826
  ![v3829.toNat]
def k0_off1412 (i : grid0.Coords) (v3770 : BitVec 32) (v3773 : BitVec 32) (v3830 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_1455 : BitVec 32 := 3#32
  let v3827 : BitVec 32 := Scalar.addi v3770 c3_i32_1455
  let v3828 : BitVec 1 := Scalar.cmpi .slt v3827 v3773
  let c65535_i32_1456 : BitVec 32 := 65535#32
  let v3831 : BitVec 32 := Scalar.andi v3830 c65535_i32_1456
  let c2048_i32_1457 : BitVec 32 := 2048#32
  let v3832 : BitVec 32 := Scalar.select v3828 v3831 c2048_i32_1457
  let v3833 : BitVec 32 := Scalar.addi v1470 v3832
  let v3836 : Index := Scalar.indexCast v3833
  let c0_1459 : Index := 0#32
  ![v3836.toNat, 0]

def k0_chk705 (i : grid0.Coords) (v3770 : BitVec 32) (v3773 : BitVec 32) (v3830 : BitVec 32) : Prop :=
  (∀ a, (k0_off1412 i v3770 v3773 v3830) a + S1x128.size a ≤ S8224x128.size a)
theorem k0_off1412_inb : ∀ (i : grid0.Coords) (v3770 : BitVec 32) (v3773 : BitVec 32) (v3830 : BitVec 32) (k0_hw705 : k0_chk705 i v3770 v3773 v3830), ∀ a, (k0_off1412 i v3770 v3773 v3830) a + S1x128.size a ≤ S8224x128.size a := fun i v3770 v3773 v3830 k0_hw705 => k0_hw705

def k0_off1413 (v3770 : BitVec 32) : Fin 1 → Nat :=
  let c4_i32_1460 : BitVec 32 := 4#32
  let v3841 : BitVec 32 := Scalar.addi v3770 c4_i32_1460
  let v3844 : Index := Scalar.indexCast v3841
  ![v3844.toNat]
def k0_off1414 (i : grid0.Coords) (v3770 : BitVec 32) (v3773 : BitVec 32) (v3845 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_1461 : BitVec 32 := 4#32
  let v3842 : BitVec 32 := Scalar.addi v3770 c4_i32_1461
  let v3843 : BitVec 1 := Scalar.cmpi .slt v3842 v3773
  let c65535_i32_1462 : BitVec 32 := 65535#32
  let v3846 : BitVec 32 := Scalar.andi v3845 c65535_i32_1462
  let c2048_i32_1463 : BitVec 32 := 2048#32
  let v3847 : BitVec 32 := Scalar.select v3843 v3846 c2048_i32_1463
  let v3848 : BitVec 32 := Scalar.addi v1470 v3847
  let v3851 : Index := Scalar.indexCast v3848
  let c0_1465 : Index := 0#32
  ![v3851.toNat, 0]

def k0_chk706 (i : grid0.Coords) (v3770 : BitVec 32) (v3773 : BitVec 32) (v3845 : BitVec 32) : Prop :=
  (∀ a, (k0_off1414 i v3770 v3773 v3845) a + S1x128.size a ≤ S8224x128.size a)
theorem k0_off1414_inb : ∀ (i : grid0.Coords) (v3770 : BitVec 32) (v3773 : BitVec 32) (v3845 : BitVec 32) (k0_hw706 : k0_chk706 i v3770 v3773 v3845), ∀ a, (k0_off1414 i v3770 v3773 v3845) a + S1x128.size a ≤ S8224x128.size a := fun i v3770 v3773 v3845 k0_hw706 => k0_hw706

def k0_off1415 (v3770 : BitVec 32) : Fin 1 → Nat :=
  let c5_i32_1466 : BitVec 32 := 5#32
  let v3856 : BitVec 32 := Scalar.addi v3770 c5_i32_1466
  let v3859 : Index := Scalar.indexCast v3856
  ![v3859.toNat]
def k0_off1416 (i : grid0.Coords) (v3770 : BitVec 32) (v3773 : BitVec 32) (v3860 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_1467 : BitVec 32 := 5#32
  let v3857 : BitVec 32 := Scalar.addi v3770 c5_i32_1467
  let v3858 : BitVec 1 := Scalar.cmpi .slt v3857 v3773
  let c65535_i32_1468 : BitVec 32 := 65535#32
  let v3861 : BitVec 32 := Scalar.andi v3860 c65535_i32_1468
  let c2048_i32_1469 : BitVec 32 := 2048#32
  let v3862 : BitVec 32 := Scalar.select v3858 v3861 c2048_i32_1469
  let v3863 : BitVec 32 := Scalar.addi v1470 v3862
  let v3866 : Index := Scalar.indexCast v3863
  let c0_1471 : Index := 0#32
  ![v3866.toNat, 0]

def k0_chk707 (i : grid0.Coords) (v3770 : BitVec 32) (v3773 : BitVec 32) (v3860 : BitVec 32) : Prop :=
  (∀ a, (k0_off1416 i v3770 v3773 v3860) a + S1x128.size a ≤ S8224x128.size a)
theorem k0_off1416_inb : ∀ (i : grid0.Coords) (v3770 : BitVec 32) (v3773 : BitVec 32) (v3860 : BitVec 32) (k0_hw707 : k0_chk707 i v3770 v3773 v3860), ∀ a, (k0_off1416 i v3770 v3773 v3860) a + S1x128.size a ≤ S8224x128.size a := fun i v3770 v3773 v3860 k0_hw707 => k0_hw707

def k0_off1417 (v3770 : BitVec 32) : Fin 1 → Nat :=
  let c6_i32_1472 : BitVec 32 := 6#32
  let v3871 : BitVec 32 := Scalar.addi v3770 c6_i32_1472
  let v3874 : Index := Scalar.indexCast v3871
  ![v3874.toNat]
def k0_off1418 (i : grid0.Coords) (v3770 : BitVec 32) (v3773 : BitVec 32) (v3875 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_1473 : BitVec 32 := 6#32
  let v3872 : BitVec 32 := Scalar.addi v3770 c6_i32_1473
  let v3873 : BitVec 1 := Scalar.cmpi .slt v3872 v3773
  let c65535_i32_1474 : BitVec 32 := 65535#32
  let v3876 : BitVec 32 := Scalar.andi v3875 c65535_i32_1474
  let c2048_i32_1475 : BitVec 32 := 2048#32
  let v3877 : BitVec 32 := Scalar.select v3873 v3876 c2048_i32_1475
  let v3878 : BitVec 32 := Scalar.addi v1470 v3877
  let v3881 : Index := Scalar.indexCast v3878
  let c0_1477 : Index := 0#32
  ![v3881.toNat, 0]

def k0_chk708 (i : grid0.Coords) (v3770 : BitVec 32) (v3773 : BitVec 32) (v3875 : BitVec 32) : Prop :=
  (∀ a, (k0_off1418 i v3770 v3773 v3875) a + S1x128.size a ≤ S8224x128.size a)
theorem k0_off1418_inb : ∀ (i : grid0.Coords) (v3770 : BitVec 32) (v3773 : BitVec 32) (v3875 : BitVec 32) (k0_hw708 : k0_chk708 i v3770 v3773 v3875), ∀ a, (k0_off1418 i v3770 v3773 v3875) a + S1x128.size a ≤ S8224x128.size a := fun i v3770 v3773 v3875 k0_hw708 => k0_hw708

def k0_off1419 (v3770 : BitVec 32) : Fin 1 → Nat :=
  let c7_i32_1478 : BitVec 32 := 7#32
  let v3886 : BitVec 32 := Scalar.addi v3770 c7_i32_1478
  let v3889 : Index := Scalar.indexCast v3886
  ![v3889.toNat]
def k0_off1420 (i : grid0.Coords) (v3770 : BitVec 32) (v3773 : BitVec 32) (v3890 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_1479 : BitVec 32 := 7#32
  let v3887 : BitVec 32 := Scalar.addi v3770 c7_i32_1479
  let v3888 : BitVec 1 := Scalar.cmpi .slt v3887 v3773
  let c65535_i32_1480 : BitVec 32 := 65535#32
  let v3891 : BitVec 32 := Scalar.andi v3890 c65535_i32_1480
  let c2048_i32_1481 : BitVec 32 := 2048#32
  let v3892 : BitVec 32 := Scalar.select v3888 v3891 c2048_i32_1481
  let v3893 : BitVec 32 := Scalar.addi v1470 v3892
  let v3896 : Index := Scalar.indexCast v3893
  let c0_1483 : Index := 0#32
  ![v3896.toNat, 0]

def k0_chk709 (i : grid0.Coords) (v3770 : BitVec 32) (v3773 : BitVec 32) (v3890 : BitVec 32) : Prop :=
  (∀ a, (k0_off1420 i v3770 v3773 v3890) a + S1x128.size a ≤ S8224x128.size a)
theorem k0_off1420_inb : ∀ (i : grid0.Coords) (v3770 : BitVec 32) (v3773 : BitVec 32) (v3890 : BitVec 32) (k0_hw709 : k0_chk709 i v3770 v3773 v3890), ∀ a, (k0_off1420 i v3770 v3773 v3890) a + S1x128.size a ≤ S8224x128.size a := fun i v3770 v3773 v3890 k0_hw709 => k0_hw709

def k0_off1421 (v3770 : BitVec 32) : Fin 1 → Nat :=
  let c8_i32_1484 : BitVec 32 := 8#32
  let v3901 : BitVec 32 := Scalar.addi v3770 c8_i32_1484
  let v3904 : Index := Scalar.indexCast v3901
  ![v3904.toNat]
def k0_off1422 (i : grid0.Coords) (v3770 : BitVec 32) (v3773 : BitVec 32) (v3905 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_1485 : BitVec 32 := 8#32
  let v3902 : BitVec 32 := Scalar.addi v3770 c8_i32_1485
  let v3903 : BitVec 1 := Scalar.cmpi .slt v3902 v3773
  let c65535_i32_1486 : BitVec 32 := 65535#32
  let v3906 : BitVec 32 := Scalar.andi v3905 c65535_i32_1486
  let c2048_i32_1487 : BitVec 32 := 2048#32
  let v3907 : BitVec 32 := Scalar.select v3903 v3906 c2048_i32_1487
  let v3908 : BitVec 32 := Scalar.addi v1470 v3907
  let v3911 : Index := Scalar.indexCast v3908
  let c0_1489 : Index := 0#32
  ![v3911.toNat, 0]

def k0_chk710 (i : grid0.Coords) (v3770 : BitVec 32) (v3773 : BitVec 32) (v3905 : BitVec 32) : Prop :=
  (∀ a, (k0_off1422 i v3770 v3773 v3905) a + S1x128.size a ≤ S8224x128.size a)
theorem k0_off1422_inb : ∀ (i : grid0.Coords) (v3770 : BitVec 32) (v3773 : BitVec 32) (v3905 : BitVec 32) (k0_hw710 : k0_chk710 i v3770 v3773 v3905), ∀ a, (k0_off1422 i v3770 v3773 v3905) a + S1x128.size a ≤ S8224x128.size a := fun i v3770 v3773 v3905 k0_hw710 => k0_hw710

def k0_off1423 (v3770 : BitVec 32) : Fin 1 → Nat :=
  let c9_i32_1490 : BitVec 32 := 9#32
  let v3916 : BitVec 32 := Scalar.addi v3770 c9_i32_1490
  let v3919 : Index := Scalar.indexCast v3916
  ![v3919.toNat]
def k0_off1424 (i : grid0.Coords) (v3770 : BitVec 32) (v3773 : BitVec 32) (v3920 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_1491 : BitVec 32 := 9#32
  let v3917 : BitVec 32 := Scalar.addi v3770 c9_i32_1491
  let v3918 : BitVec 1 := Scalar.cmpi .slt v3917 v3773
  let c65535_i32_1492 : BitVec 32 := 65535#32
  let v3921 : BitVec 32 := Scalar.andi v3920 c65535_i32_1492
  let c2048_i32_1493 : BitVec 32 := 2048#32
  let v3922 : BitVec 32 := Scalar.select v3918 v3921 c2048_i32_1493
  let v3923 : BitVec 32 := Scalar.addi v1470 v3922
  let v3926 : Index := Scalar.indexCast v3923
  let c0_1495 : Index := 0#32
  ![v3926.toNat, 0]

def k0_chk711 (i : grid0.Coords) (v3770 : BitVec 32) (v3773 : BitVec 32) (v3920 : BitVec 32) : Prop :=
  (∀ a, (k0_off1424 i v3770 v3773 v3920) a + S1x128.size a ≤ S8224x128.size a)
theorem k0_off1424_inb : ∀ (i : grid0.Coords) (v3770 : BitVec 32) (v3773 : BitVec 32) (v3920 : BitVec 32) (k0_hw711 : k0_chk711 i v3770 v3773 v3920), ∀ a, (k0_off1424 i v3770 v3773 v3920) a + S1x128.size a ≤ S8224x128.size a := fun i v3770 v3773 v3920 k0_hw711 => k0_hw711

def k0_off1425 (v3770 : BitVec 32) : Fin 1 → Nat :=
  let c10_i32_1496 : BitVec 32 := 10#32
  let v3931 : BitVec 32 := Scalar.addi v3770 c10_i32_1496
  let v3934 : Index := Scalar.indexCast v3931
  ![v3934.toNat]
def k0_off1426 (i : grid0.Coords) (v3770 : BitVec 32) (v3773 : BitVec 32) (v3935 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_1497 : BitVec 32 := 10#32
  let v3932 : BitVec 32 := Scalar.addi v3770 c10_i32_1497
  let v3933 : BitVec 1 := Scalar.cmpi .slt v3932 v3773
  let c65535_i32_1498 : BitVec 32 := 65535#32
  let v3936 : BitVec 32 := Scalar.andi v3935 c65535_i32_1498
  let c2048_i32_1499 : BitVec 32 := 2048#32
  let v3937 : BitVec 32 := Scalar.select v3933 v3936 c2048_i32_1499
  let v3938 : BitVec 32 := Scalar.addi v1470 v3937
  let v3941 : Index := Scalar.indexCast v3938
  let c0_1501 : Index := 0#32
  ![v3941.toNat, 0]

def k0_chk712 (i : grid0.Coords) (v3770 : BitVec 32) (v3773 : BitVec 32) (v3935 : BitVec 32) : Prop :=
  (∀ a, (k0_off1426 i v3770 v3773 v3935) a + S1x128.size a ≤ S8224x128.size a)
theorem k0_off1426_inb : ∀ (i : grid0.Coords) (v3770 : BitVec 32) (v3773 : BitVec 32) (v3935 : BitVec 32) (k0_hw712 : k0_chk712 i v3770 v3773 v3935), ∀ a, (k0_off1426 i v3770 v3773 v3935) a + S1x128.size a ≤ S8224x128.size a := fun i v3770 v3773 v3935 k0_hw712 => k0_hw712

def k0_off1427 (v3770 : BitVec 32) : Fin 1 → Nat :=
  let c11_i32_1502 : BitVec 32 := 11#32
  let v3946 : BitVec 32 := Scalar.addi v3770 c11_i32_1502
  let v3949 : Index := Scalar.indexCast v3946
  ![v3949.toNat]
def k0_off1428 (i : grid0.Coords) (v3770 : BitVec 32) (v3773 : BitVec 32) (v3950 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_1503 : BitVec 32 := 11#32
  let v3947 : BitVec 32 := Scalar.addi v3770 c11_i32_1503
  let v3948 : BitVec 1 := Scalar.cmpi .slt v3947 v3773
  let c65535_i32_1504 : BitVec 32 := 65535#32
  let v3951 : BitVec 32 := Scalar.andi v3950 c65535_i32_1504
  let c2048_i32_1505 : BitVec 32 := 2048#32
  let v3952 : BitVec 32 := Scalar.select v3948 v3951 c2048_i32_1505
  let v3953 : BitVec 32 := Scalar.addi v1470 v3952
  let v3956 : Index := Scalar.indexCast v3953
  let c0_1507 : Index := 0#32
  ![v3956.toNat, 0]

def k0_chk713 (i : grid0.Coords) (v3770 : BitVec 32) (v3773 : BitVec 32) (v3950 : BitVec 32) : Prop :=
  (∀ a, (k0_off1428 i v3770 v3773 v3950) a + S1x128.size a ≤ S8224x128.size a)
theorem k0_off1428_inb : ∀ (i : grid0.Coords) (v3770 : BitVec 32) (v3773 : BitVec 32) (v3950 : BitVec 32) (k0_hw713 : k0_chk713 i v3770 v3773 v3950), ∀ a, (k0_off1428 i v3770 v3773 v3950) a + S1x128.size a ≤ S8224x128.size a := fun i v3770 v3773 v3950 k0_hw713 => k0_hw713

def k0_off1429 (v3770 : BitVec 32) : Fin 1 → Nat :=
  let c12_i32_1508 : BitVec 32 := 12#32
  let v3961 : BitVec 32 := Scalar.addi v3770 c12_i32_1508
  let v3964 : Index := Scalar.indexCast v3961
  ![v3964.toNat]
def k0_off1430 (i : grid0.Coords) (v3770 : BitVec 32) (v3773 : BitVec 32) (v3965 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_1509 : BitVec 32 := 12#32
  let v3962 : BitVec 32 := Scalar.addi v3770 c12_i32_1509
  let v3963 : BitVec 1 := Scalar.cmpi .slt v3962 v3773
  let c65535_i32_1510 : BitVec 32 := 65535#32
  let v3966 : BitVec 32 := Scalar.andi v3965 c65535_i32_1510
  let c2048_i32_1511 : BitVec 32 := 2048#32
  let v3967 : BitVec 32 := Scalar.select v3963 v3966 c2048_i32_1511
  let v3968 : BitVec 32 := Scalar.addi v1470 v3967
  let v3971 : Index := Scalar.indexCast v3968
  let c0_1513 : Index := 0#32
  ![v3971.toNat, 0]

def k0_chk714 (i : grid0.Coords) (v3770 : BitVec 32) (v3773 : BitVec 32) (v3965 : BitVec 32) : Prop :=
  (∀ a, (k0_off1430 i v3770 v3773 v3965) a + S1x128.size a ≤ S8224x128.size a)
theorem k0_off1430_inb : ∀ (i : grid0.Coords) (v3770 : BitVec 32) (v3773 : BitVec 32) (v3965 : BitVec 32) (k0_hw714 : k0_chk714 i v3770 v3773 v3965), ∀ a, (k0_off1430 i v3770 v3773 v3965) a + S1x128.size a ≤ S8224x128.size a := fun i v3770 v3773 v3965 k0_hw714 => k0_hw714

def k0_off1431 (v3770 : BitVec 32) : Fin 1 → Nat :=
  let c13_i32_1514 : BitVec 32 := 13#32
  let v3976 : BitVec 32 := Scalar.addi v3770 c13_i32_1514
  let v3979 : Index := Scalar.indexCast v3976
  ![v3979.toNat]
def k0_off1432 (i : grid0.Coords) (v3770 : BitVec 32) (v3773 : BitVec 32) (v3980 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_1515 : BitVec 32 := 13#32
  let v3977 : BitVec 32 := Scalar.addi v3770 c13_i32_1515
  let v3978 : BitVec 1 := Scalar.cmpi .slt v3977 v3773
  let c65535_i32_1516 : BitVec 32 := 65535#32
  let v3981 : BitVec 32 := Scalar.andi v3980 c65535_i32_1516
  let c2048_i32_1517 : BitVec 32 := 2048#32
  let v3982 : BitVec 32 := Scalar.select v3978 v3981 c2048_i32_1517
  let v3983 : BitVec 32 := Scalar.addi v1470 v3982
  let v3986 : Index := Scalar.indexCast v3983
  let c0_1519 : Index := 0#32
  ![v3986.toNat, 0]

def k0_chk715 (i : grid0.Coords) (v3770 : BitVec 32) (v3773 : BitVec 32) (v3980 : BitVec 32) : Prop :=
  (∀ a, (k0_off1432 i v3770 v3773 v3980) a + S1x128.size a ≤ S8224x128.size a)
theorem k0_off1432_inb : ∀ (i : grid0.Coords) (v3770 : BitVec 32) (v3773 : BitVec 32) (v3980 : BitVec 32) (k0_hw715 : k0_chk715 i v3770 v3773 v3980), ∀ a, (k0_off1432 i v3770 v3773 v3980) a + S1x128.size a ≤ S8224x128.size a := fun i v3770 v3773 v3980 k0_hw715 => k0_hw715

def k0_off1433 (v3770 : BitVec 32) : Fin 1 → Nat :=
  let c14_i32_1520 : BitVec 32 := 14#32
  let v3991 : BitVec 32 := Scalar.addi v3770 c14_i32_1520
  let v3994 : Index := Scalar.indexCast v3991
  ![v3994.toNat]
def k0_off1434 (i : grid0.Coords) (v3770 : BitVec 32) (v3773 : BitVec 32) (v3995 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_1521 : BitVec 32 := 14#32
  let v3992 : BitVec 32 := Scalar.addi v3770 c14_i32_1521
  let v3993 : BitVec 1 := Scalar.cmpi .slt v3992 v3773
  let c65535_i32_1522 : BitVec 32 := 65535#32
  let v3996 : BitVec 32 := Scalar.andi v3995 c65535_i32_1522
  let c2048_i32_1523 : BitVec 32 := 2048#32
  let v3997 : BitVec 32 := Scalar.select v3993 v3996 c2048_i32_1523
  let v3998 : BitVec 32 := Scalar.addi v1470 v3997
  let v4001 : Index := Scalar.indexCast v3998
  let c0_1525 : Index := 0#32
  ![v4001.toNat, 0]

def k0_chk716 (i : grid0.Coords) (v3770 : BitVec 32) (v3773 : BitVec 32) (v3995 : BitVec 32) : Prop :=
  (∀ a, (k0_off1434 i v3770 v3773 v3995) a + S1x128.size a ≤ S8224x128.size a)
theorem k0_off1434_inb : ∀ (i : grid0.Coords) (v3770 : BitVec 32) (v3773 : BitVec 32) (v3995 : BitVec 32) (k0_hw716 : k0_chk716 i v3770 v3773 v3995), ∀ a, (k0_off1434 i v3770 v3773 v3995) a + S1x128.size a ≤ S8224x128.size a := fun i v3770 v3773 v3995 k0_hw716 => k0_hw716

def k0_off1435 (v3770 : BitVec 32) : Fin 1 → Nat :=
  let c15_i32_1526 : BitVec 32 := 15#32
  let v4006 : BitVec 32 := Scalar.addi v3770 c15_i32_1526
  let v4009 : Index := Scalar.indexCast v4006
  ![v4009.toNat]

def k0_chk701 (v3770 : BitVec 32) : Prop :=
  (∀ a, (k0_off1405 v3770) a + S1.size a ≤ S51920.size a) ∧
  (∀ a, (k0_off1407 v3770) a + S1.size a ≤ S51920.size a) ∧
  (∀ a, (k0_off1409 v3770) a + S1.size a ≤ S51920.size a) ∧
  (∀ a, (k0_off1411 v3770) a + S1.size a ≤ S51920.size a) ∧
  (∀ a, (k0_off1413 v3770) a + S1.size a ≤ S51920.size a) ∧
  (∀ a, (k0_off1415 v3770) a + S1.size a ≤ S51920.size a) ∧
  (∀ a, (k0_off1417 v3770) a + S1.size a ≤ S51920.size a) ∧
  (∀ a, (k0_off1419 v3770) a + S1.size a ≤ S51920.size a) ∧
  (∀ a, (k0_off1421 v3770) a + S1.size a ≤ S51920.size a) ∧
  (∀ a, (k0_off1423 v3770) a + S1.size a ≤ S51920.size a) ∧
  (∀ a, (k0_off1425 v3770) a + S1.size a ≤ S51920.size a) ∧
  (∀ a, (k0_off1427 v3770) a + S1.size a ≤ S51920.size a) ∧
  (∀ a, (k0_off1429 v3770) a + S1.size a ≤ S51920.size a) ∧
  (∀ a, (k0_off1431 v3770) a + S1.size a ≤ S51920.size a) ∧
  (∀ a, (k0_off1433 v3770) a + S1.size a ≤ S51920.size a) ∧
  (∀ a, (k0_off1435 v3770) a + S1.size a ≤ S51920.size a)
theorem k0_off1405_inb : ∀ (v3770 : BitVec 32) (k0_hw701 : k0_chk701 v3770), ∀ a, (k0_off1405 v3770) a + S1.size a ≤ S51920.size a := fun v3770 k0_hw701 => k0_hw701.1
theorem k0_off1407_inb : ∀ (v3770 : BitVec 32) (k0_hw701 : k0_chk701 v3770), ∀ a, (k0_off1407 v3770) a + S1.size a ≤ S51920.size a := fun v3770 k0_hw701 => k0_hw701.2.1
theorem k0_off1409_inb : ∀ (v3770 : BitVec 32) (k0_hw701 : k0_chk701 v3770), ∀ a, (k0_off1409 v3770) a + S1.size a ≤ S51920.size a := fun v3770 k0_hw701 => k0_hw701.2.2.1
theorem k0_off1411_inb : ∀ (v3770 : BitVec 32) (k0_hw701 : k0_chk701 v3770), ∀ a, (k0_off1411 v3770) a + S1.size a ≤ S51920.size a := fun v3770 k0_hw701 => k0_hw701.2.2.2.1
theorem k0_off1413_inb : ∀ (v3770 : BitVec 32) (k0_hw701 : k0_chk701 v3770), ∀ a, (k0_off1413 v3770) a + S1.size a ≤ S51920.size a := fun v3770 k0_hw701 => k0_hw701.2.2.2.2.1
theorem k0_off1415_inb : ∀ (v3770 : BitVec 32) (k0_hw701 : k0_chk701 v3770), ∀ a, (k0_off1415 v3770) a + S1.size a ≤ S51920.size a := fun v3770 k0_hw701 => k0_hw701.2.2.2.2.2.1
theorem k0_off1417_inb : ∀ (v3770 : BitVec 32) (k0_hw701 : k0_chk701 v3770), ∀ a, (k0_off1417 v3770) a + S1.size a ≤ S51920.size a := fun v3770 k0_hw701 => k0_hw701.2.2.2.2.2.2.1
theorem k0_off1419_inb : ∀ (v3770 : BitVec 32) (k0_hw701 : k0_chk701 v3770), ∀ a, (k0_off1419 v3770) a + S1.size a ≤ S51920.size a := fun v3770 k0_hw701 => k0_hw701.2.2.2.2.2.2.2.1
theorem k0_off1421_inb : ∀ (v3770 : BitVec 32) (k0_hw701 : k0_chk701 v3770), ∀ a, (k0_off1421 v3770) a + S1.size a ≤ S51920.size a := fun v3770 k0_hw701 => k0_hw701.2.2.2.2.2.2.2.2.1
theorem k0_off1423_inb : ∀ (v3770 : BitVec 32) (k0_hw701 : k0_chk701 v3770), ∀ a, (k0_off1423 v3770) a + S1.size a ≤ S51920.size a := fun v3770 k0_hw701 => k0_hw701.2.2.2.2.2.2.2.2.2.1
theorem k0_off1425_inb : ∀ (v3770 : BitVec 32) (k0_hw701 : k0_chk701 v3770), ∀ a, (k0_off1425 v3770) a + S1.size a ≤ S51920.size a := fun v3770 k0_hw701 => k0_hw701.2.2.2.2.2.2.2.2.2.2.1
theorem k0_off1427_inb : ∀ (v3770 : BitVec 32) (k0_hw701 : k0_chk701 v3770), ∀ a, (k0_off1427 v3770) a + S1.size a ≤ S51920.size a := fun v3770 k0_hw701 => k0_hw701.2.2.2.2.2.2.2.2.2.2.2.1
theorem k0_off1429_inb : ∀ (v3770 : BitVec 32) (k0_hw701 : k0_chk701 v3770), ∀ a, (k0_off1429 v3770) a + S1.size a ≤ S51920.size a := fun v3770 k0_hw701 => k0_hw701.2.2.2.2.2.2.2.2.2.2.2.2.1
theorem k0_off1431_inb : ∀ (v3770 : BitVec 32) (k0_hw701 : k0_chk701 v3770), ∀ a, (k0_off1431 v3770) a + S1.size a ≤ S51920.size a := fun v3770 k0_hw701 => k0_hw701.2.2.2.2.2.2.2.2.2.2.2.2.2.1
theorem k0_off1433_inb : ∀ (v3770 : BitVec 32) (k0_hw701 : k0_chk701 v3770), ∀ a, (k0_off1433 v3770) a + S1.size a ≤ S51920.size a := fun v3770 k0_hw701 => k0_hw701.2.2.2.2.2.2.2.2.2.2.2.2.2.2.1
theorem k0_off1435_inb : ∀ (v3770 : BitVec 32) (k0_hw701 : k0_chk701 v3770), ∀ a, (k0_off1435 v3770) a + S1.size a ≤ S51920.size a := fun v3770 k0_hw701 => k0_hw701.2.2.2.2.2.2.2.2.2.2.2.2.2.2.2

def k0_off1436 (i : grid0.Coords) (v3770 : BitVec 32) (v3773 : BitVec 32) (v4010 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_1527 : BitVec 32 := 15#32
  let v4007 : BitVec 32 := Scalar.addi v3770 c15_i32_1527
  let v4008 : BitVec 1 := Scalar.cmpi .slt v4007 v3773
  let c65535_i32_1528 : BitVec 32 := 65535#32
  let v4011 : BitVec 32 := Scalar.andi v4010 c65535_i32_1528
  let c2048_i32_1529 : BitVec 32 := 2048#32
  let v4012 : BitVec 32 := Scalar.select v4008 v4011 c2048_i32_1529
  let v4013 : BitVec 32 := Scalar.addi v1470 v4012
  let v4016 : Index := Scalar.indexCast v4013
  let c0_1531 : Index := 0#32
  ![v4016.toNat, 0]

def k0_chk717 (i : grid0.Coords) (v3770 : BitVec 32) (v3773 : BitVec 32) (v4010 : BitVec 32) : Prop :=
  (∀ a, (k0_off1436 i v3770 v3773 v4010) a + S1x128.size a ≤ S8224x128.size a)
theorem k0_off1436_inb : ∀ (i : grid0.Coords) (v3770 : BitVec 32) (v3773 : BitVec 32) (v4010 : BitVec 32) (k0_hw717 : k0_chk717 i v3770 v3773 v4010), ∀ a, (k0_off1436 i v3770 v3773 v4010) a + S1x128.size a ≤ S8224x128.size a := fun i v3770 v3773 v4010 k0_hw717 => k0_hw717

def k0_off1437 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1532 : BitVec 32 := 512#32
  let v4021 : BitVec 32 := Scalar.muli v24 c512_i32_1532
  let arg1 : BitVec 32 := BitVec.ofNat 32 (i 1).val
  let c32_i32 : BitVec 32 := 32#32
  let v1452 : BitVec 32 := Scalar.muli arg1 c32_i32
  let v4022 : BitVec 32 := Scalar.addi v4021 v1452
  let c10_i32_1533 : BitVec 32 := 10#32
  let v4023 : BitVec 32 := Scalar.addi v4022 c10_i32_1533
  let v4024 : Index := Scalar.indexCast v4023
  ![v4024.toNat]
def k0_off1438 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1532 : BitVec 32 := 512#32
  let v4021 : BitVec 32 := Scalar.muli v24 c512_i32_1532
  let arg1 : BitVec 32 := BitVec.ofNat 32 (i 1).val
  let c32_i32 : BitVec 32 := 32#32
  let v1452 : BitVec 32 := Scalar.muli arg1 c32_i32
  let v4022 : BitVec 32 := Scalar.addi v4021 v1452
  let c10_i32_1533 : BitVec 32 := 10#32
  let v4023 : BitVec 32 := Scalar.addi v4022 c10_i32_1533
  let c1_i32_1534 : BitVec 32 := 1#32
  let v4026 : BitVec 32 := Scalar.addi v4023 c1_i32_1534
  let v4027 : Index := Scalar.indexCast v4026
  ![v4027.toNat]
def k0_off1439 (v4025 : BitVec 32) : Fin 1 → Nat :=
  let c0_i32_1537 : BitVec 32 := 0#32
  let v4036 : BitVec 32 := Scalar.addi v4025 c0_i32_1537
  let v4039 : Index := Scalar.indexCast v4036
  ![v4039.toNat]

def k0_off1440 (i : grid0.Coords) (v4025 : BitVec 32) (v4028 : BitVec 32) (v4040 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_1538 : BitVec 32 := 0#32
  let v4037 : BitVec 32 := Scalar.addi v4025 c0_i32_1538
  let v4038 : BitVec 1 := Scalar.cmpi .slt v4037 v4028
  let c65535_i32_1539 : BitVec 32 := 65535#32
  let v4041 : BitVec 32 := Scalar.andi v4040 c65535_i32_1539
  let c2048_i32_1540 : BitVec 32 := 2048#32
  let v4042 : BitVec 32 := Scalar.select v4038 v4041 c2048_i32_1540
  let v4043 : BitVec 32 := Scalar.addi v1470 v4042
  let v4046 : Index := Scalar.indexCast v4043
  let c0_1542 : Index := 0#32
  ![v4046.toNat, 0]

def k0_chk719 (i : grid0.Coords) (v4025 : BitVec 32) (v4028 : BitVec 32) (v4040 : BitVec 32) : Prop :=
  (∀ a, (k0_off1440 i v4025 v4028 v4040) a + S1x128.size a ≤ S8224x128.size a)
theorem k0_off1440_inb : ∀ (i : grid0.Coords) (v4025 : BitVec 32) (v4028 : BitVec 32) (v4040 : BitVec 32) (k0_hw719 : k0_chk719 i v4025 v4028 v4040), ∀ a, (k0_off1440 i v4025 v4028 v4040) a + S1x128.size a ≤ S8224x128.size a := fun i v4025 v4028 v4040 k0_hw719 => k0_hw719

def k0_off1441 (v4025 : BitVec 32) : Fin 1 → Nat :=
  let c1_i32_1543 : BitVec 32 := 1#32
  let v4051 : BitVec 32 := Scalar.addi v4025 c1_i32_1543
  let v4054 : Index := Scalar.indexCast v4051
  ![v4054.toNat]
def k0_off1442 (i : grid0.Coords) (v4025 : BitVec 32) (v4028 : BitVec 32) (v4055 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_1544 : BitVec 32 := 1#32
  let v4052 : BitVec 32 := Scalar.addi v4025 c1_i32_1544
  let v4053 : BitVec 1 := Scalar.cmpi .slt v4052 v4028
  let c65535_i32_1545 : BitVec 32 := 65535#32
  let v4056 : BitVec 32 := Scalar.andi v4055 c65535_i32_1545
  let c2048_i32_1546 : BitVec 32 := 2048#32
  let v4057 : BitVec 32 := Scalar.select v4053 v4056 c2048_i32_1546
  let v4058 : BitVec 32 := Scalar.addi v1470 v4057
  let v4061 : Index := Scalar.indexCast v4058
  let c0_1548 : Index := 0#32
  ![v4061.toNat, 0]

def k0_chk720 (i : grid0.Coords) (v4025 : BitVec 32) (v4028 : BitVec 32) (v4055 : BitVec 32) : Prop :=
  (∀ a, (k0_off1442 i v4025 v4028 v4055) a + S1x128.size a ≤ S8224x128.size a)
theorem k0_off1442_inb : ∀ (i : grid0.Coords) (v4025 : BitVec 32) (v4028 : BitVec 32) (v4055 : BitVec 32) (k0_hw720 : k0_chk720 i v4025 v4028 v4055), ∀ a, (k0_off1442 i v4025 v4028 v4055) a + S1x128.size a ≤ S8224x128.size a := fun i v4025 v4028 v4055 k0_hw720 => k0_hw720

def k0_off1443 (v4025 : BitVec 32) : Fin 1 → Nat :=
  let c2_i32_1549 : BitVec 32 := 2#32
  let v4066 : BitVec 32 := Scalar.addi v4025 c2_i32_1549
  let v4069 : Index := Scalar.indexCast v4066
  ![v4069.toNat]
def k0_off1444 (i : grid0.Coords) (v4025 : BitVec 32) (v4028 : BitVec 32) (v4070 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_1550 : BitVec 32 := 2#32
  let v4067 : BitVec 32 := Scalar.addi v4025 c2_i32_1550
  let v4068 : BitVec 1 := Scalar.cmpi .slt v4067 v4028
  let c65535_i32_1551 : BitVec 32 := 65535#32
  let v4071 : BitVec 32 := Scalar.andi v4070 c65535_i32_1551
  let c2048_i32_1552 : BitVec 32 := 2048#32
  let v4072 : BitVec 32 := Scalar.select v4068 v4071 c2048_i32_1552
  let v4073 : BitVec 32 := Scalar.addi v1470 v4072
  let v4076 : Index := Scalar.indexCast v4073
  let c0_1554 : Index := 0#32
  ![v4076.toNat, 0]

def k0_chk721 (i : grid0.Coords) (v4025 : BitVec 32) (v4028 : BitVec 32) (v4070 : BitVec 32) : Prop :=
  (∀ a, (k0_off1444 i v4025 v4028 v4070) a + S1x128.size a ≤ S8224x128.size a)
theorem k0_off1444_inb : ∀ (i : grid0.Coords) (v4025 : BitVec 32) (v4028 : BitVec 32) (v4070 : BitVec 32) (k0_hw721 : k0_chk721 i v4025 v4028 v4070), ∀ a, (k0_off1444 i v4025 v4028 v4070) a + S1x128.size a ≤ S8224x128.size a := fun i v4025 v4028 v4070 k0_hw721 => k0_hw721

def k0_off1445 (v4025 : BitVec 32) : Fin 1 → Nat :=
  let c3_i32_1555 : BitVec 32 := 3#32
  let v4081 : BitVec 32 := Scalar.addi v4025 c3_i32_1555
  let v4084 : Index := Scalar.indexCast v4081
  ![v4084.toNat]
def k0_off1446 (i : grid0.Coords) (v4025 : BitVec 32) (v4028 : BitVec 32) (v4085 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_1556 : BitVec 32 := 3#32
  let v4082 : BitVec 32 := Scalar.addi v4025 c3_i32_1556
  let v4083 : BitVec 1 := Scalar.cmpi .slt v4082 v4028
  let c65535_i32_1557 : BitVec 32 := 65535#32
  let v4086 : BitVec 32 := Scalar.andi v4085 c65535_i32_1557
  let c2048_i32_1558 : BitVec 32 := 2048#32
  let v4087 : BitVec 32 := Scalar.select v4083 v4086 c2048_i32_1558
  let v4088 : BitVec 32 := Scalar.addi v1470 v4087
  let v4091 : Index := Scalar.indexCast v4088
  let c0_1560 : Index := 0#32
  ![v4091.toNat, 0]

def k0_chk722 (i : grid0.Coords) (v4025 : BitVec 32) (v4028 : BitVec 32) (v4085 : BitVec 32) : Prop :=
  (∀ a, (k0_off1446 i v4025 v4028 v4085) a + S1x128.size a ≤ S8224x128.size a)
theorem k0_off1446_inb : ∀ (i : grid0.Coords) (v4025 : BitVec 32) (v4028 : BitVec 32) (v4085 : BitVec 32) (k0_hw722 : k0_chk722 i v4025 v4028 v4085), ∀ a, (k0_off1446 i v4025 v4028 v4085) a + S1x128.size a ≤ S8224x128.size a := fun i v4025 v4028 v4085 k0_hw722 => k0_hw722

def k0_off1447 (v4025 : BitVec 32) : Fin 1 → Nat :=
  let c4_i32_1561 : BitVec 32 := 4#32
  let v4096 : BitVec 32 := Scalar.addi v4025 c4_i32_1561
  let v4099 : Index := Scalar.indexCast v4096
  ![v4099.toNat]
def k0_off1448 (i : grid0.Coords) (v4025 : BitVec 32) (v4028 : BitVec 32) (v4100 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_1562 : BitVec 32 := 4#32
  let v4097 : BitVec 32 := Scalar.addi v4025 c4_i32_1562
  let v4098 : BitVec 1 := Scalar.cmpi .slt v4097 v4028
  let c65535_i32_1563 : BitVec 32 := 65535#32
  let v4101 : BitVec 32 := Scalar.andi v4100 c65535_i32_1563
  let c2048_i32_1564 : BitVec 32 := 2048#32
  let v4102 : BitVec 32 := Scalar.select v4098 v4101 c2048_i32_1564
  let v4103 : BitVec 32 := Scalar.addi v1470 v4102
  let v4106 : Index := Scalar.indexCast v4103
  let c0_1566 : Index := 0#32
  ![v4106.toNat, 0]

def k0_chk723 (i : grid0.Coords) (v4025 : BitVec 32) (v4028 : BitVec 32) (v4100 : BitVec 32) : Prop :=
  (∀ a, (k0_off1448 i v4025 v4028 v4100) a + S1x128.size a ≤ S8224x128.size a)
theorem k0_off1448_inb : ∀ (i : grid0.Coords) (v4025 : BitVec 32) (v4028 : BitVec 32) (v4100 : BitVec 32) (k0_hw723 : k0_chk723 i v4025 v4028 v4100), ∀ a, (k0_off1448 i v4025 v4028 v4100) a + S1x128.size a ≤ S8224x128.size a := fun i v4025 v4028 v4100 k0_hw723 => k0_hw723

def k0_off1449 (v4025 : BitVec 32) : Fin 1 → Nat :=
  let c5_i32_1567 : BitVec 32 := 5#32
  let v4111 : BitVec 32 := Scalar.addi v4025 c5_i32_1567
  let v4114 : Index := Scalar.indexCast v4111
  ![v4114.toNat]
def k0_off1450 (i : grid0.Coords) (v4025 : BitVec 32) (v4028 : BitVec 32) (v4115 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_1568 : BitVec 32 := 5#32
  let v4112 : BitVec 32 := Scalar.addi v4025 c5_i32_1568
  let v4113 : BitVec 1 := Scalar.cmpi .slt v4112 v4028
  let c65535_i32_1569 : BitVec 32 := 65535#32
  let v4116 : BitVec 32 := Scalar.andi v4115 c65535_i32_1569
  let c2048_i32_1570 : BitVec 32 := 2048#32
  let v4117 : BitVec 32 := Scalar.select v4113 v4116 c2048_i32_1570
  let v4118 : BitVec 32 := Scalar.addi v1470 v4117
  let v4121 : Index := Scalar.indexCast v4118
  let c0_1572 : Index := 0#32
  ![v4121.toNat, 0]

def k0_chk724 (i : grid0.Coords) (v4025 : BitVec 32) (v4028 : BitVec 32) (v4115 : BitVec 32) : Prop :=
  (∀ a, (k0_off1450 i v4025 v4028 v4115) a + S1x128.size a ≤ S8224x128.size a)
theorem k0_off1450_inb : ∀ (i : grid0.Coords) (v4025 : BitVec 32) (v4028 : BitVec 32) (v4115 : BitVec 32) (k0_hw724 : k0_chk724 i v4025 v4028 v4115), ∀ a, (k0_off1450 i v4025 v4028 v4115) a + S1x128.size a ≤ S8224x128.size a := fun i v4025 v4028 v4115 k0_hw724 => k0_hw724

def k0_off1451 (v4025 : BitVec 32) : Fin 1 → Nat :=
  let c6_i32_1573 : BitVec 32 := 6#32
  let v4126 : BitVec 32 := Scalar.addi v4025 c6_i32_1573
  let v4129 : Index := Scalar.indexCast v4126
  ![v4129.toNat]
def k0_off1452 (i : grid0.Coords) (v4025 : BitVec 32) (v4028 : BitVec 32) (v4130 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_1574 : BitVec 32 := 6#32
  let v4127 : BitVec 32 := Scalar.addi v4025 c6_i32_1574
  let v4128 : BitVec 1 := Scalar.cmpi .slt v4127 v4028
  let c65535_i32_1575 : BitVec 32 := 65535#32
  let v4131 : BitVec 32 := Scalar.andi v4130 c65535_i32_1575
  let c2048_i32_1576 : BitVec 32 := 2048#32
  let v4132 : BitVec 32 := Scalar.select v4128 v4131 c2048_i32_1576
  let v4133 : BitVec 32 := Scalar.addi v1470 v4132
  let v4136 : Index := Scalar.indexCast v4133
  let c0_1578 : Index := 0#32
  ![v4136.toNat, 0]

def k0_chk725 (i : grid0.Coords) (v4025 : BitVec 32) (v4028 : BitVec 32) (v4130 : BitVec 32) : Prop :=
  (∀ a, (k0_off1452 i v4025 v4028 v4130) a + S1x128.size a ≤ S8224x128.size a)
theorem k0_off1452_inb : ∀ (i : grid0.Coords) (v4025 : BitVec 32) (v4028 : BitVec 32) (v4130 : BitVec 32) (k0_hw725 : k0_chk725 i v4025 v4028 v4130), ∀ a, (k0_off1452 i v4025 v4028 v4130) a + S1x128.size a ≤ S8224x128.size a := fun i v4025 v4028 v4130 k0_hw725 => k0_hw725

def k0_off1453 (v4025 : BitVec 32) : Fin 1 → Nat :=
  let c7_i32_1579 : BitVec 32 := 7#32
  let v4141 : BitVec 32 := Scalar.addi v4025 c7_i32_1579
  let v4144 : Index := Scalar.indexCast v4141
  ![v4144.toNat]
def k0_off1454 (i : grid0.Coords) (v4025 : BitVec 32) (v4028 : BitVec 32) (v4145 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_1580 : BitVec 32 := 7#32
  let v4142 : BitVec 32 := Scalar.addi v4025 c7_i32_1580
  let v4143 : BitVec 1 := Scalar.cmpi .slt v4142 v4028
  let c65535_i32_1581 : BitVec 32 := 65535#32
  let v4146 : BitVec 32 := Scalar.andi v4145 c65535_i32_1581
  let c2048_i32_1582 : BitVec 32 := 2048#32
  let v4147 : BitVec 32 := Scalar.select v4143 v4146 c2048_i32_1582
  let v4148 : BitVec 32 := Scalar.addi v1470 v4147
  let v4151 : Index := Scalar.indexCast v4148
  let c0_1584 : Index := 0#32
  ![v4151.toNat, 0]

def k0_chk726 (i : grid0.Coords) (v4025 : BitVec 32) (v4028 : BitVec 32) (v4145 : BitVec 32) : Prop :=
  (∀ a, (k0_off1454 i v4025 v4028 v4145) a + S1x128.size a ≤ S8224x128.size a)
theorem k0_off1454_inb : ∀ (i : grid0.Coords) (v4025 : BitVec 32) (v4028 : BitVec 32) (v4145 : BitVec 32) (k0_hw726 : k0_chk726 i v4025 v4028 v4145), ∀ a, (k0_off1454 i v4025 v4028 v4145) a + S1x128.size a ≤ S8224x128.size a := fun i v4025 v4028 v4145 k0_hw726 => k0_hw726

def k0_off1455 (v4025 : BitVec 32) : Fin 1 → Nat :=
  let c8_i32_1585 : BitVec 32 := 8#32
  let v4156 : BitVec 32 := Scalar.addi v4025 c8_i32_1585
  let v4159 : Index := Scalar.indexCast v4156
  ![v4159.toNat]
def k0_off1456 (i : grid0.Coords) (v4025 : BitVec 32) (v4028 : BitVec 32) (v4160 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_1586 : BitVec 32 := 8#32
  let v4157 : BitVec 32 := Scalar.addi v4025 c8_i32_1586
  let v4158 : BitVec 1 := Scalar.cmpi .slt v4157 v4028
  let c65535_i32_1587 : BitVec 32 := 65535#32
  let v4161 : BitVec 32 := Scalar.andi v4160 c65535_i32_1587
  let c2048_i32_1588 : BitVec 32 := 2048#32
  let v4162 : BitVec 32 := Scalar.select v4158 v4161 c2048_i32_1588
  let v4163 : BitVec 32 := Scalar.addi v1470 v4162
  let v4166 : Index := Scalar.indexCast v4163
  let c0_1590 : Index := 0#32
  ![v4166.toNat, 0]

def k0_chk727 (i : grid0.Coords) (v4025 : BitVec 32) (v4028 : BitVec 32) (v4160 : BitVec 32) : Prop :=
  (∀ a, (k0_off1456 i v4025 v4028 v4160) a + S1x128.size a ≤ S8224x128.size a)
theorem k0_off1456_inb : ∀ (i : grid0.Coords) (v4025 : BitVec 32) (v4028 : BitVec 32) (v4160 : BitVec 32) (k0_hw727 : k0_chk727 i v4025 v4028 v4160), ∀ a, (k0_off1456 i v4025 v4028 v4160) a + S1x128.size a ≤ S8224x128.size a := fun i v4025 v4028 v4160 k0_hw727 => k0_hw727

def k0_off1457 (v4025 : BitVec 32) : Fin 1 → Nat :=
  let c9_i32_1591 : BitVec 32 := 9#32
  let v4171 : BitVec 32 := Scalar.addi v4025 c9_i32_1591
  let v4174 : Index := Scalar.indexCast v4171
  ![v4174.toNat]
def k0_off1458 (i : grid0.Coords) (v4025 : BitVec 32) (v4028 : BitVec 32) (v4175 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_1592 : BitVec 32 := 9#32
  let v4172 : BitVec 32 := Scalar.addi v4025 c9_i32_1592
  let v4173 : BitVec 1 := Scalar.cmpi .slt v4172 v4028
  let c65535_i32_1593 : BitVec 32 := 65535#32
  let v4176 : BitVec 32 := Scalar.andi v4175 c65535_i32_1593
  let c2048_i32_1594 : BitVec 32 := 2048#32
  let v4177 : BitVec 32 := Scalar.select v4173 v4176 c2048_i32_1594
  let v4178 : BitVec 32 := Scalar.addi v1470 v4177
  let v4181 : Index := Scalar.indexCast v4178
  let c0_1596 : Index := 0#32
  ![v4181.toNat, 0]

def k0_chk728 (i : grid0.Coords) (v4025 : BitVec 32) (v4028 : BitVec 32) (v4175 : BitVec 32) : Prop :=
  (∀ a, (k0_off1458 i v4025 v4028 v4175) a + S1x128.size a ≤ S8224x128.size a)
theorem k0_off1458_inb : ∀ (i : grid0.Coords) (v4025 : BitVec 32) (v4028 : BitVec 32) (v4175 : BitVec 32) (k0_hw728 : k0_chk728 i v4025 v4028 v4175), ∀ a, (k0_off1458 i v4025 v4028 v4175) a + S1x128.size a ≤ S8224x128.size a := fun i v4025 v4028 v4175 k0_hw728 => k0_hw728

def k0_off1459 (v4025 : BitVec 32) : Fin 1 → Nat :=
  let c10_i32_1597 : BitVec 32 := 10#32
  let v4186 : BitVec 32 := Scalar.addi v4025 c10_i32_1597
  let v4189 : Index := Scalar.indexCast v4186
  ![v4189.toNat]
def k0_off1460 (i : grid0.Coords) (v4025 : BitVec 32) (v4028 : BitVec 32) (v4190 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_1598 : BitVec 32 := 10#32
  let v4187 : BitVec 32 := Scalar.addi v4025 c10_i32_1598
  let v4188 : BitVec 1 := Scalar.cmpi .slt v4187 v4028
  let c65535_i32_1599 : BitVec 32 := 65535#32
  let v4191 : BitVec 32 := Scalar.andi v4190 c65535_i32_1599
  let c2048_i32_1600 : BitVec 32 := 2048#32
  let v4192 : BitVec 32 := Scalar.select v4188 v4191 c2048_i32_1600
  let v4193 : BitVec 32 := Scalar.addi v1470 v4192
  let v4196 : Index := Scalar.indexCast v4193
  let c0_1602 : Index := 0#32
  ![v4196.toNat, 0]

def k0_chk729 (i : grid0.Coords) (v4025 : BitVec 32) (v4028 : BitVec 32) (v4190 : BitVec 32) : Prop :=
  (∀ a, (k0_off1460 i v4025 v4028 v4190) a + S1x128.size a ≤ S8224x128.size a)
theorem k0_off1460_inb : ∀ (i : grid0.Coords) (v4025 : BitVec 32) (v4028 : BitVec 32) (v4190 : BitVec 32) (k0_hw729 : k0_chk729 i v4025 v4028 v4190), ∀ a, (k0_off1460 i v4025 v4028 v4190) a + S1x128.size a ≤ S8224x128.size a := fun i v4025 v4028 v4190 k0_hw729 => k0_hw729

def k0_off1461 (v4025 : BitVec 32) : Fin 1 → Nat :=
  let c11_i32_1603 : BitVec 32 := 11#32
  let v4201 : BitVec 32 := Scalar.addi v4025 c11_i32_1603
  let v4204 : Index := Scalar.indexCast v4201
  ![v4204.toNat]
def k0_off1462 (i : grid0.Coords) (v4025 : BitVec 32) (v4028 : BitVec 32) (v4205 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_1604 : BitVec 32 := 11#32
  let v4202 : BitVec 32 := Scalar.addi v4025 c11_i32_1604
  let v4203 : BitVec 1 := Scalar.cmpi .slt v4202 v4028
  let c65535_i32_1605 : BitVec 32 := 65535#32
  let v4206 : BitVec 32 := Scalar.andi v4205 c65535_i32_1605
  let c2048_i32_1606 : BitVec 32 := 2048#32
  let v4207 : BitVec 32 := Scalar.select v4203 v4206 c2048_i32_1606
  let v4208 : BitVec 32 := Scalar.addi v1470 v4207
  let v4211 : Index := Scalar.indexCast v4208
  let c0_1608 : Index := 0#32
  ![v4211.toNat, 0]

def k0_chk730 (i : grid0.Coords) (v4025 : BitVec 32) (v4028 : BitVec 32) (v4205 : BitVec 32) : Prop :=
  (∀ a, (k0_off1462 i v4025 v4028 v4205) a + S1x128.size a ≤ S8224x128.size a)
theorem k0_off1462_inb : ∀ (i : grid0.Coords) (v4025 : BitVec 32) (v4028 : BitVec 32) (v4205 : BitVec 32) (k0_hw730 : k0_chk730 i v4025 v4028 v4205), ∀ a, (k0_off1462 i v4025 v4028 v4205) a + S1x128.size a ≤ S8224x128.size a := fun i v4025 v4028 v4205 k0_hw730 => k0_hw730

def k0_off1463 (v4025 : BitVec 32) : Fin 1 → Nat :=
  let c12_i32_1609 : BitVec 32 := 12#32
  let v4216 : BitVec 32 := Scalar.addi v4025 c12_i32_1609
  let v4219 : Index := Scalar.indexCast v4216
  ![v4219.toNat]
def k0_off1464 (i : grid0.Coords) (v4025 : BitVec 32) (v4028 : BitVec 32) (v4220 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_1610 : BitVec 32 := 12#32
  let v4217 : BitVec 32 := Scalar.addi v4025 c12_i32_1610
  let v4218 : BitVec 1 := Scalar.cmpi .slt v4217 v4028
  let c65535_i32_1611 : BitVec 32 := 65535#32
  let v4221 : BitVec 32 := Scalar.andi v4220 c65535_i32_1611
  let c2048_i32_1612 : BitVec 32 := 2048#32
  let v4222 : BitVec 32 := Scalar.select v4218 v4221 c2048_i32_1612
  let v4223 : BitVec 32 := Scalar.addi v1470 v4222
  let v4226 : Index := Scalar.indexCast v4223
  let c0_1614 : Index := 0#32
  ![v4226.toNat, 0]

def k0_chk731 (i : grid0.Coords) (v4025 : BitVec 32) (v4028 : BitVec 32) (v4220 : BitVec 32) : Prop :=
  (∀ a, (k0_off1464 i v4025 v4028 v4220) a + S1x128.size a ≤ S8224x128.size a)
theorem k0_off1464_inb : ∀ (i : grid0.Coords) (v4025 : BitVec 32) (v4028 : BitVec 32) (v4220 : BitVec 32) (k0_hw731 : k0_chk731 i v4025 v4028 v4220), ∀ a, (k0_off1464 i v4025 v4028 v4220) a + S1x128.size a ≤ S8224x128.size a := fun i v4025 v4028 v4220 k0_hw731 => k0_hw731

def k0_off1465 (v4025 : BitVec 32) : Fin 1 → Nat :=
  let c13_i32_1615 : BitVec 32 := 13#32
  let v4231 : BitVec 32 := Scalar.addi v4025 c13_i32_1615
  let v4234 : Index := Scalar.indexCast v4231
  ![v4234.toNat]
def k0_off1466 (i : grid0.Coords) (v4025 : BitVec 32) (v4028 : BitVec 32) (v4235 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_1616 : BitVec 32 := 13#32
  let v4232 : BitVec 32 := Scalar.addi v4025 c13_i32_1616
  let v4233 : BitVec 1 := Scalar.cmpi .slt v4232 v4028
  let c65535_i32_1617 : BitVec 32 := 65535#32
  let v4236 : BitVec 32 := Scalar.andi v4235 c65535_i32_1617
  let c2048_i32_1618 : BitVec 32 := 2048#32
  let v4237 : BitVec 32 := Scalar.select v4233 v4236 c2048_i32_1618
  let v4238 : BitVec 32 := Scalar.addi v1470 v4237
  let v4241 : Index := Scalar.indexCast v4238
  let c0_1620 : Index := 0#32
  ![v4241.toNat, 0]

def k0_chk732 (i : grid0.Coords) (v4025 : BitVec 32) (v4028 : BitVec 32) (v4235 : BitVec 32) : Prop :=
  (∀ a, (k0_off1466 i v4025 v4028 v4235) a + S1x128.size a ≤ S8224x128.size a)
theorem k0_off1466_inb : ∀ (i : grid0.Coords) (v4025 : BitVec 32) (v4028 : BitVec 32) (v4235 : BitVec 32) (k0_hw732 : k0_chk732 i v4025 v4028 v4235), ∀ a, (k0_off1466 i v4025 v4028 v4235) a + S1x128.size a ≤ S8224x128.size a := fun i v4025 v4028 v4235 k0_hw732 => k0_hw732

def k0_off1467 (v4025 : BitVec 32) : Fin 1 → Nat :=
  let c14_i32_1621 : BitVec 32 := 14#32
  let v4246 : BitVec 32 := Scalar.addi v4025 c14_i32_1621
  let v4249 : Index := Scalar.indexCast v4246
  ![v4249.toNat]
def k0_off1468 (i : grid0.Coords) (v4025 : BitVec 32) (v4028 : BitVec 32) (v4250 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_1622 : BitVec 32 := 14#32
  let v4247 : BitVec 32 := Scalar.addi v4025 c14_i32_1622
  let v4248 : BitVec 1 := Scalar.cmpi .slt v4247 v4028
  let c65535_i32_1623 : BitVec 32 := 65535#32
  let v4251 : BitVec 32 := Scalar.andi v4250 c65535_i32_1623
  let c2048_i32_1624 : BitVec 32 := 2048#32
  let v4252 : BitVec 32 := Scalar.select v4248 v4251 c2048_i32_1624
  let v4253 : BitVec 32 := Scalar.addi v1470 v4252
  let v4256 : Index := Scalar.indexCast v4253
  let c0_1626 : Index := 0#32
  ![v4256.toNat, 0]

def k0_chk733 (i : grid0.Coords) (v4025 : BitVec 32) (v4028 : BitVec 32) (v4250 : BitVec 32) : Prop :=
  (∀ a, (k0_off1468 i v4025 v4028 v4250) a + S1x128.size a ≤ S8224x128.size a)
theorem k0_off1468_inb : ∀ (i : grid0.Coords) (v4025 : BitVec 32) (v4028 : BitVec 32) (v4250 : BitVec 32) (k0_hw733 : k0_chk733 i v4025 v4028 v4250), ∀ a, (k0_off1468 i v4025 v4028 v4250) a + S1x128.size a ≤ S8224x128.size a := fun i v4025 v4028 v4250 k0_hw733 => k0_hw733

def k0_off1469 (v4025 : BitVec 32) : Fin 1 → Nat :=
  let c15_i32_1627 : BitVec 32 := 15#32
  let v4261 : BitVec 32 := Scalar.addi v4025 c15_i32_1627
  let v4264 : Index := Scalar.indexCast v4261
  ![v4264.toNat]

def k0_chk718 (v4025 : BitVec 32) : Prop :=
  (∀ a, (k0_off1439 v4025) a + S1.size a ≤ S51920.size a) ∧
  (∀ a, (k0_off1441 v4025) a + S1.size a ≤ S51920.size a) ∧
  (∀ a, (k0_off1443 v4025) a + S1.size a ≤ S51920.size a) ∧
  (∀ a, (k0_off1445 v4025) a + S1.size a ≤ S51920.size a) ∧
  (∀ a, (k0_off1447 v4025) a + S1.size a ≤ S51920.size a) ∧
  (∀ a, (k0_off1449 v4025) a + S1.size a ≤ S51920.size a) ∧
  (∀ a, (k0_off1451 v4025) a + S1.size a ≤ S51920.size a) ∧
  (∀ a, (k0_off1453 v4025) a + S1.size a ≤ S51920.size a) ∧
  (∀ a, (k0_off1455 v4025) a + S1.size a ≤ S51920.size a) ∧
  (∀ a, (k0_off1457 v4025) a + S1.size a ≤ S51920.size a) ∧
  (∀ a, (k0_off1459 v4025) a + S1.size a ≤ S51920.size a) ∧
  (∀ a, (k0_off1461 v4025) a + S1.size a ≤ S51920.size a) ∧
  (∀ a, (k0_off1463 v4025) a + S1.size a ≤ S51920.size a) ∧
  (∀ a, (k0_off1465 v4025) a + S1.size a ≤ S51920.size a) ∧
  (∀ a, (k0_off1467 v4025) a + S1.size a ≤ S51920.size a) ∧
  (∀ a, (k0_off1469 v4025) a + S1.size a ≤ S51920.size a)
theorem k0_off1439_inb : ∀ (v4025 : BitVec 32) (k0_hw718 : k0_chk718 v4025), ∀ a, (k0_off1439 v4025) a + S1.size a ≤ S51920.size a := fun v4025 k0_hw718 => k0_hw718.1
theorem k0_off1441_inb : ∀ (v4025 : BitVec 32) (k0_hw718 : k0_chk718 v4025), ∀ a, (k0_off1441 v4025) a + S1.size a ≤ S51920.size a := fun v4025 k0_hw718 => k0_hw718.2.1
theorem k0_off1443_inb : ∀ (v4025 : BitVec 32) (k0_hw718 : k0_chk718 v4025), ∀ a, (k0_off1443 v4025) a + S1.size a ≤ S51920.size a := fun v4025 k0_hw718 => k0_hw718.2.2.1
theorem k0_off1445_inb : ∀ (v4025 : BitVec 32) (k0_hw718 : k0_chk718 v4025), ∀ a, (k0_off1445 v4025) a + S1.size a ≤ S51920.size a := fun v4025 k0_hw718 => k0_hw718.2.2.2.1
theorem k0_off1447_inb : ∀ (v4025 : BitVec 32) (k0_hw718 : k0_chk718 v4025), ∀ a, (k0_off1447 v4025) a + S1.size a ≤ S51920.size a := fun v4025 k0_hw718 => k0_hw718.2.2.2.2.1
theorem k0_off1449_inb : ∀ (v4025 : BitVec 32) (k0_hw718 : k0_chk718 v4025), ∀ a, (k0_off1449 v4025) a + S1.size a ≤ S51920.size a := fun v4025 k0_hw718 => k0_hw718.2.2.2.2.2.1
theorem k0_off1451_inb : ∀ (v4025 : BitVec 32) (k0_hw718 : k0_chk718 v4025), ∀ a, (k0_off1451 v4025) a + S1.size a ≤ S51920.size a := fun v4025 k0_hw718 => k0_hw718.2.2.2.2.2.2.1
theorem k0_off1453_inb : ∀ (v4025 : BitVec 32) (k0_hw718 : k0_chk718 v4025), ∀ a, (k0_off1453 v4025) a + S1.size a ≤ S51920.size a := fun v4025 k0_hw718 => k0_hw718.2.2.2.2.2.2.2.1
theorem k0_off1455_inb : ∀ (v4025 : BitVec 32) (k0_hw718 : k0_chk718 v4025), ∀ a, (k0_off1455 v4025) a + S1.size a ≤ S51920.size a := fun v4025 k0_hw718 => k0_hw718.2.2.2.2.2.2.2.2.1
theorem k0_off1457_inb : ∀ (v4025 : BitVec 32) (k0_hw718 : k0_chk718 v4025), ∀ a, (k0_off1457 v4025) a + S1.size a ≤ S51920.size a := fun v4025 k0_hw718 => k0_hw718.2.2.2.2.2.2.2.2.2.1
theorem k0_off1459_inb : ∀ (v4025 : BitVec 32) (k0_hw718 : k0_chk718 v4025), ∀ a, (k0_off1459 v4025) a + S1.size a ≤ S51920.size a := fun v4025 k0_hw718 => k0_hw718.2.2.2.2.2.2.2.2.2.2.1
theorem k0_off1461_inb : ∀ (v4025 : BitVec 32) (k0_hw718 : k0_chk718 v4025), ∀ a, (k0_off1461 v4025) a + S1.size a ≤ S51920.size a := fun v4025 k0_hw718 => k0_hw718.2.2.2.2.2.2.2.2.2.2.2.1
theorem k0_off1463_inb : ∀ (v4025 : BitVec 32) (k0_hw718 : k0_chk718 v4025), ∀ a, (k0_off1463 v4025) a + S1.size a ≤ S51920.size a := fun v4025 k0_hw718 => k0_hw718.2.2.2.2.2.2.2.2.2.2.2.2.1
theorem k0_off1465_inb : ∀ (v4025 : BitVec 32) (k0_hw718 : k0_chk718 v4025), ∀ a, (k0_off1465 v4025) a + S1.size a ≤ S51920.size a := fun v4025 k0_hw718 => k0_hw718.2.2.2.2.2.2.2.2.2.2.2.2.2.1
theorem k0_off1467_inb : ∀ (v4025 : BitVec 32) (k0_hw718 : k0_chk718 v4025), ∀ a, (k0_off1467 v4025) a + S1.size a ≤ S51920.size a := fun v4025 k0_hw718 => k0_hw718.2.2.2.2.2.2.2.2.2.2.2.2.2.2.1
theorem k0_off1469_inb : ∀ (v4025 : BitVec 32) (k0_hw718 : k0_chk718 v4025), ∀ a, (k0_off1469 v4025) a + S1.size a ≤ S51920.size a := fun v4025 k0_hw718 => k0_hw718.2.2.2.2.2.2.2.2.2.2.2.2.2.2.2

def k0_off1470 (i : grid0.Coords) (v4025 : BitVec 32) (v4028 : BitVec 32) (v4265 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_1628 : BitVec 32 := 15#32
  let v4262 : BitVec 32 := Scalar.addi v4025 c15_i32_1628
  let v4263 : BitVec 1 := Scalar.cmpi .slt v4262 v4028
  let c65535_i32_1629 : BitVec 32 := 65535#32
  let v4266 : BitVec 32 := Scalar.andi v4265 c65535_i32_1629
  let c2048_i32_1630 : BitVec 32 := 2048#32
  let v4267 : BitVec 32 := Scalar.select v4263 v4266 c2048_i32_1630
  let v4268 : BitVec 32 := Scalar.addi v1470 v4267
  let v4271 : Index := Scalar.indexCast v4268
  let c0_1632 : Index := 0#32
  ![v4271.toNat, 0]

def k0_chk734 (i : grid0.Coords) (v4025 : BitVec 32) (v4028 : BitVec 32) (v4265 : BitVec 32) : Prop :=
  (∀ a, (k0_off1470 i v4025 v4028 v4265) a + S1x128.size a ≤ S8224x128.size a)
theorem k0_off1470_inb : ∀ (i : grid0.Coords) (v4025 : BitVec 32) (v4028 : BitVec 32) (v4265 : BitVec 32) (k0_hw734 : k0_chk734 i v4025 v4028 v4265), ∀ a, (k0_off1470 i v4025 v4028 v4265) a + S1x128.size a ≤ S8224x128.size a := fun i v4025 v4028 v4265 k0_hw734 => k0_hw734

def k0_off1471 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1633 : BitVec 32 := 512#32
  let v4276 : BitVec 32 := Scalar.muli v24 c512_i32_1633
  let arg1 : BitVec 32 := BitVec.ofNat 32 (i 1).val
  let c32_i32 : BitVec 32 := 32#32
  let v1452 : BitVec 32 := Scalar.muli arg1 c32_i32
  let v4277 : BitVec 32 := Scalar.addi v4276 v1452
  let c11_i32_1634 : BitVec 32 := 11#32
  let v4278 : BitVec 32 := Scalar.addi v4277 c11_i32_1634
  let v4279 : Index := Scalar.indexCast v4278
  ![v4279.toNat]
def k0_off1472 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1633 : BitVec 32 := 512#32
  let v4276 : BitVec 32 := Scalar.muli v24 c512_i32_1633
  let arg1 : BitVec 32 := BitVec.ofNat 32 (i 1).val
  let c32_i32 : BitVec 32 := 32#32
  let v1452 : BitVec 32 := Scalar.muli arg1 c32_i32
  let v4277 : BitVec 32 := Scalar.addi v4276 v1452
  let c11_i32_1634 : BitVec 32 := 11#32
  let v4278 : BitVec 32 := Scalar.addi v4277 c11_i32_1634
  let c1_i32_1635 : BitVec 32 := 1#32
  let v4281 : BitVec 32 := Scalar.addi v4278 c1_i32_1635
  let v4282 : Index := Scalar.indexCast v4281
  ![v4282.toNat]
def k0_off1473 (v4280 : BitVec 32) : Fin 1 → Nat :=
  let c0_i32_1638 : BitVec 32 := 0#32
  let v4291 : BitVec 32 := Scalar.addi v4280 c0_i32_1638
  let v4294 : Index := Scalar.indexCast v4291
  ![v4294.toNat]

def k0_off1474 (i : grid0.Coords) (v4280 : BitVec 32) (v4283 : BitVec 32) (v4295 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_1639 : BitVec 32 := 0#32
  let v4292 : BitVec 32 := Scalar.addi v4280 c0_i32_1639
  let v4293 : BitVec 1 := Scalar.cmpi .slt v4292 v4283
  let c65535_i32_1640 : BitVec 32 := 65535#32
  let v4296 : BitVec 32 := Scalar.andi v4295 c65535_i32_1640
  let c2048_i32_1641 : BitVec 32 := 2048#32
  let v4297 : BitVec 32 := Scalar.select v4293 v4296 c2048_i32_1641
  let v4298 : BitVec 32 := Scalar.addi v1470 v4297
  let v4301 : Index := Scalar.indexCast v4298
  let c0_1643 : Index := 0#32
  ![v4301.toNat, 0]

def k0_chk736 (i : grid0.Coords) (v4280 : BitVec 32) (v4283 : BitVec 32) (v4295 : BitVec 32) : Prop :=
  (∀ a, (k0_off1474 i v4280 v4283 v4295) a + S1x128.size a ≤ S8224x128.size a)
theorem k0_off1474_inb : ∀ (i : grid0.Coords) (v4280 : BitVec 32) (v4283 : BitVec 32) (v4295 : BitVec 32) (k0_hw736 : k0_chk736 i v4280 v4283 v4295), ∀ a, (k0_off1474 i v4280 v4283 v4295) a + S1x128.size a ≤ S8224x128.size a := fun i v4280 v4283 v4295 k0_hw736 => k0_hw736

def k0_off1475 (v4280 : BitVec 32) : Fin 1 → Nat :=
  let c1_i32_1644 : BitVec 32 := 1#32
  let v4306 : BitVec 32 := Scalar.addi v4280 c1_i32_1644
  let v4309 : Index := Scalar.indexCast v4306
  ![v4309.toNat]
def k0_off1476 (i : grid0.Coords) (v4280 : BitVec 32) (v4283 : BitVec 32) (v4310 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_1645 : BitVec 32 := 1#32
  let v4307 : BitVec 32 := Scalar.addi v4280 c1_i32_1645
  let v4308 : BitVec 1 := Scalar.cmpi .slt v4307 v4283
  let c65535_i32_1646 : BitVec 32 := 65535#32
  let v4311 : BitVec 32 := Scalar.andi v4310 c65535_i32_1646
  let c2048_i32_1647 : BitVec 32 := 2048#32
  let v4312 : BitVec 32 := Scalar.select v4308 v4311 c2048_i32_1647
  let v4313 : BitVec 32 := Scalar.addi v1470 v4312
  let v4316 : Index := Scalar.indexCast v4313
  let c0_1649 : Index := 0#32
  ![v4316.toNat, 0]

def k0_chk737 (i : grid0.Coords) (v4280 : BitVec 32) (v4283 : BitVec 32) (v4310 : BitVec 32) : Prop :=
  (∀ a, (k0_off1476 i v4280 v4283 v4310) a + S1x128.size a ≤ S8224x128.size a)
theorem k0_off1476_inb : ∀ (i : grid0.Coords) (v4280 : BitVec 32) (v4283 : BitVec 32) (v4310 : BitVec 32) (k0_hw737 : k0_chk737 i v4280 v4283 v4310), ∀ a, (k0_off1476 i v4280 v4283 v4310) a + S1x128.size a ≤ S8224x128.size a := fun i v4280 v4283 v4310 k0_hw737 => k0_hw737

def k0_off1477 (v4280 : BitVec 32) : Fin 1 → Nat :=
  let c2_i32_1650 : BitVec 32 := 2#32
  let v4321 : BitVec 32 := Scalar.addi v4280 c2_i32_1650
  let v4324 : Index := Scalar.indexCast v4321
  ![v4324.toNat]
def k0_off1478 (i : grid0.Coords) (v4280 : BitVec 32) (v4283 : BitVec 32) (v4325 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_1651 : BitVec 32 := 2#32
  let v4322 : BitVec 32 := Scalar.addi v4280 c2_i32_1651
  let v4323 : BitVec 1 := Scalar.cmpi .slt v4322 v4283
  let c65535_i32_1652 : BitVec 32 := 65535#32
  let v4326 : BitVec 32 := Scalar.andi v4325 c65535_i32_1652
  let c2048_i32_1653 : BitVec 32 := 2048#32
  let v4327 : BitVec 32 := Scalar.select v4323 v4326 c2048_i32_1653
  let v4328 : BitVec 32 := Scalar.addi v1470 v4327
  let v4331 : Index := Scalar.indexCast v4328
  let c0_1655 : Index := 0#32
  ![v4331.toNat, 0]

def k0_chk738 (i : grid0.Coords) (v4280 : BitVec 32) (v4283 : BitVec 32) (v4325 : BitVec 32) : Prop :=
  (∀ a, (k0_off1478 i v4280 v4283 v4325) a + S1x128.size a ≤ S8224x128.size a)
theorem k0_off1478_inb : ∀ (i : grid0.Coords) (v4280 : BitVec 32) (v4283 : BitVec 32) (v4325 : BitVec 32) (k0_hw738 : k0_chk738 i v4280 v4283 v4325), ∀ a, (k0_off1478 i v4280 v4283 v4325) a + S1x128.size a ≤ S8224x128.size a := fun i v4280 v4283 v4325 k0_hw738 => k0_hw738

def k0_off1479 (v4280 : BitVec 32) : Fin 1 → Nat :=
  let c3_i32_1656 : BitVec 32 := 3#32
  let v4336 : BitVec 32 := Scalar.addi v4280 c3_i32_1656
  let v4339 : Index := Scalar.indexCast v4336
  ![v4339.toNat]
def k0_off1480 (i : grid0.Coords) (v4280 : BitVec 32) (v4283 : BitVec 32) (v4340 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_1657 : BitVec 32 := 3#32
  let v4337 : BitVec 32 := Scalar.addi v4280 c3_i32_1657
  let v4338 : BitVec 1 := Scalar.cmpi .slt v4337 v4283
  let c65535_i32_1658 : BitVec 32 := 65535#32
  let v4341 : BitVec 32 := Scalar.andi v4340 c65535_i32_1658
  let c2048_i32_1659 : BitVec 32 := 2048#32
  let v4342 : BitVec 32 := Scalar.select v4338 v4341 c2048_i32_1659
  let v4343 : BitVec 32 := Scalar.addi v1470 v4342
  let v4346 : Index := Scalar.indexCast v4343
  let c0_1661 : Index := 0#32
  ![v4346.toNat, 0]

def k0_chk739 (i : grid0.Coords) (v4280 : BitVec 32) (v4283 : BitVec 32) (v4340 : BitVec 32) : Prop :=
  (∀ a, (k0_off1480 i v4280 v4283 v4340) a + S1x128.size a ≤ S8224x128.size a)
theorem k0_off1480_inb : ∀ (i : grid0.Coords) (v4280 : BitVec 32) (v4283 : BitVec 32) (v4340 : BitVec 32) (k0_hw739 : k0_chk739 i v4280 v4283 v4340), ∀ a, (k0_off1480 i v4280 v4283 v4340) a + S1x128.size a ≤ S8224x128.size a := fun i v4280 v4283 v4340 k0_hw739 => k0_hw739

def k0_off1481 (v4280 : BitVec 32) : Fin 1 → Nat :=
  let c4_i32_1662 : BitVec 32 := 4#32
  let v4351 : BitVec 32 := Scalar.addi v4280 c4_i32_1662
  let v4354 : Index := Scalar.indexCast v4351
  ![v4354.toNat]
def k0_off1482 (i : grid0.Coords) (v4280 : BitVec 32) (v4283 : BitVec 32) (v4355 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_1663 : BitVec 32 := 4#32
  let v4352 : BitVec 32 := Scalar.addi v4280 c4_i32_1663
  let v4353 : BitVec 1 := Scalar.cmpi .slt v4352 v4283
  let c65535_i32_1664 : BitVec 32 := 65535#32
  let v4356 : BitVec 32 := Scalar.andi v4355 c65535_i32_1664
  let c2048_i32_1665 : BitVec 32 := 2048#32
  let v4357 : BitVec 32 := Scalar.select v4353 v4356 c2048_i32_1665
  let v4358 : BitVec 32 := Scalar.addi v1470 v4357
  let v4361 : Index := Scalar.indexCast v4358
  let c0_1667 : Index := 0#32
  ![v4361.toNat, 0]

def k0_chk740 (i : grid0.Coords) (v4280 : BitVec 32) (v4283 : BitVec 32) (v4355 : BitVec 32) : Prop :=
  (∀ a, (k0_off1482 i v4280 v4283 v4355) a + S1x128.size a ≤ S8224x128.size a)
theorem k0_off1482_inb : ∀ (i : grid0.Coords) (v4280 : BitVec 32) (v4283 : BitVec 32) (v4355 : BitVec 32) (k0_hw740 : k0_chk740 i v4280 v4283 v4355), ∀ a, (k0_off1482 i v4280 v4283 v4355) a + S1x128.size a ≤ S8224x128.size a := fun i v4280 v4283 v4355 k0_hw740 => k0_hw740

def k0_off1483 (v4280 : BitVec 32) : Fin 1 → Nat :=
  let c5_i32_1668 : BitVec 32 := 5#32
  let v4366 : BitVec 32 := Scalar.addi v4280 c5_i32_1668
  let v4369 : Index := Scalar.indexCast v4366
  ![v4369.toNat]
def k0_off1484 (i : grid0.Coords) (v4280 : BitVec 32) (v4283 : BitVec 32) (v4370 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_1669 : BitVec 32 := 5#32
  let v4367 : BitVec 32 := Scalar.addi v4280 c5_i32_1669
  let v4368 : BitVec 1 := Scalar.cmpi .slt v4367 v4283
  let c65535_i32_1670 : BitVec 32 := 65535#32
  let v4371 : BitVec 32 := Scalar.andi v4370 c65535_i32_1670
  let c2048_i32_1671 : BitVec 32 := 2048#32
  let v4372 : BitVec 32 := Scalar.select v4368 v4371 c2048_i32_1671
  let v4373 : BitVec 32 := Scalar.addi v1470 v4372
  let v4376 : Index := Scalar.indexCast v4373
  let c0_1673 : Index := 0#32
  ![v4376.toNat, 0]

def k0_chk741 (i : grid0.Coords) (v4280 : BitVec 32) (v4283 : BitVec 32) (v4370 : BitVec 32) : Prop :=
  (∀ a, (k0_off1484 i v4280 v4283 v4370) a + S1x128.size a ≤ S8224x128.size a)
theorem k0_off1484_inb : ∀ (i : grid0.Coords) (v4280 : BitVec 32) (v4283 : BitVec 32) (v4370 : BitVec 32) (k0_hw741 : k0_chk741 i v4280 v4283 v4370), ∀ a, (k0_off1484 i v4280 v4283 v4370) a + S1x128.size a ≤ S8224x128.size a := fun i v4280 v4283 v4370 k0_hw741 => k0_hw741

def k0_off1485 (v4280 : BitVec 32) : Fin 1 → Nat :=
  let c6_i32_1674 : BitVec 32 := 6#32
  let v4381 : BitVec 32 := Scalar.addi v4280 c6_i32_1674
  let v4384 : Index := Scalar.indexCast v4381
  ![v4384.toNat]
def k0_off1486 (i : grid0.Coords) (v4280 : BitVec 32) (v4283 : BitVec 32) (v4385 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_1675 : BitVec 32 := 6#32
  let v4382 : BitVec 32 := Scalar.addi v4280 c6_i32_1675
  let v4383 : BitVec 1 := Scalar.cmpi .slt v4382 v4283
  let c65535_i32_1676 : BitVec 32 := 65535#32
  let v4386 : BitVec 32 := Scalar.andi v4385 c65535_i32_1676
  let c2048_i32_1677 : BitVec 32 := 2048#32
  let v4387 : BitVec 32 := Scalar.select v4383 v4386 c2048_i32_1677
  let v4388 : BitVec 32 := Scalar.addi v1470 v4387
  let v4391 : Index := Scalar.indexCast v4388
  let c0_1679 : Index := 0#32
  ![v4391.toNat, 0]

def k0_chk742 (i : grid0.Coords) (v4280 : BitVec 32) (v4283 : BitVec 32) (v4385 : BitVec 32) : Prop :=
  (∀ a, (k0_off1486 i v4280 v4283 v4385) a + S1x128.size a ≤ S8224x128.size a)
theorem k0_off1486_inb : ∀ (i : grid0.Coords) (v4280 : BitVec 32) (v4283 : BitVec 32) (v4385 : BitVec 32) (k0_hw742 : k0_chk742 i v4280 v4283 v4385), ∀ a, (k0_off1486 i v4280 v4283 v4385) a + S1x128.size a ≤ S8224x128.size a := fun i v4280 v4283 v4385 k0_hw742 => k0_hw742

def k0_off1487 (v4280 : BitVec 32) : Fin 1 → Nat :=
  let c7_i32_1680 : BitVec 32 := 7#32
  let v4396 : BitVec 32 := Scalar.addi v4280 c7_i32_1680
  let v4399 : Index := Scalar.indexCast v4396
  ![v4399.toNat]
def k0_off1488 (i : grid0.Coords) (v4280 : BitVec 32) (v4283 : BitVec 32) (v4400 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_1681 : BitVec 32 := 7#32
  let v4397 : BitVec 32 := Scalar.addi v4280 c7_i32_1681
  let v4398 : BitVec 1 := Scalar.cmpi .slt v4397 v4283
  let c65535_i32_1682 : BitVec 32 := 65535#32
  let v4401 : BitVec 32 := Scalar.andi v4400 c65535_i32_1682
  let c2048_i32_1683 : BitVec 32 := 2048#32
  let v4402 : BitVec 32 := Scalar.select v4398 v4401 c2048_i32_1683
  let v4403 : BitVec 32 := Scalar.addi v1470 v4402
  let v4406 : Index := Scalar.indexCast v4403
  let c0_1685 : Index := 0#32
  ![v4406.toNat, 0]

def k0_chk743 (i : grid0.Coords) (v4280 : BitVec 32) (v4283 : BitVec 32) (v4400 : BitVec 32) : Prop :=
  (∀ a, (k0_off1488 i v4280 v4283 v4400) a + S1x128.size a ≤ S8224x128.size a)
theorem k0_off1488_inb : ∀ (i : grid0.Coords) (v4280 : BitVec 32) (v4283 : BitVec 32) (v4400 : BitVec 32) (k0_hw743 : k0_chk743 i v4280 v4283 v4400), ∀ a, (k0_off1488 i v4280 v4283 v4400) a + S1x128.size a ≤ S8224x128.size a := fun i v4280 v4283 v4400 k0_hw743 => k0_hw743

def k0_off1489 (v4280 : BitVec 32) : Fin 1 → Nat :=
  let c8_i32_1686 : BitVec 32 := 8#32
  let v4411 : BitVec 32 := Scalar.addi v4280 c8_i32_1686
  let v4414 : Index := Scalar.indexCast v4411
  ![v4414.toNat]
def k0_off1490 (i : grid0.Coords) (v4280 : BitVec 32) (v4283 : BitVec 32) (v4415 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_1687 : BitVec 32 := 8#32
  let v4412 : BitVec 32 := Scalar.addi v4280 c8_i32_1687
  let v4413 : BitVec 1 := Scalar.cmpi .slt v4412 v4283
  let c65535_i32_1688 : BitVec 32 := 65535#32
  let v4416 : BitVec 32 := Scalar.andi v4415 c65535_i32_1688
  let c2048_i32_1689 : BitVec 32 := 2048#32
  let v4417 : BitVec 32 := Scalar.select v4413 v4416 c2048_i32_1689
  let v4418 : BitVec 32 := Scalar.addi v1470 v4417
  let v4421 : Index := Scalar.indexCast v4418
  let c0_1691 : Index := 0#32
  ![v4421.toNat, 0]

def k0_chk744 (i : grid0.Coords) (v4280 : BitVec 32) (v4283 : BitVec 32) (v4415 : BitVec 32) : Prop :=
  (∀ a, (k0_off1490 i v4280 v4283 v4415) a + S1x128.size a ≤ S8224x128.size a)
theorem k0_off1490_inb : ∀ (i : grid0.Coords) (v4280 : BitVec 32) (v4283 : BitVec 32) (v4415 : BitVec 32) (k0_hw744 : k0_chk744 i v4280 v4283 v4415), ∀ a, (k0_off1490 i v4280 v4283 v4415) a + S1x128.size a ≤ S8224x128.size a := fun i v4280 v4283 v4415 k0_hw744 => k0_hw744

def k0_off1491 (v4280 : BitVec 32) : Fin 1 → Nat :=
  let c9_i32_1692 : BitVec 32 := 9#32
  let v4426 : BitVec 32 := Scalar.addi v4280 c9_i32_1692
  let v4429 : Index := Scalar.indexCast v4426
  ![v4429.toNat]
def k0_off1492 (i : grid0.Coords) (v4280 : BitVec 32) (v4283 : BitVec 32) (v4430 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_1693 : BitVec 32 := 9#32
  let v4427 : BitVec 32 := Scalar.addi v4280 c9_i32_1693
  let v4428 : BitVec 1 := Scalar.cmpi .slt v4427 v4283
  let c65535_i32_1694 : BitVec 32 := 65535#32
  let v4431 : BitVec 32 := Scalar.andi v4430 c65535_i32_1694
  let c2048_i32_1695 : BitVec 32 := 2048#32
  let v4432 : BitVec 32 := Scalar.select v4428 v4431 c2048_i32_1695
  let v4433 : BitVec 32 := Scalar.addi v1470 v4432
  let v4436 : Index := Scalar.indexCast v4433
  let c0_1697 : Index := 0#32
  ![v4436.toNat, 0]

def k0_chk745 (i : grid0.Coords) (v4280 : BitVec 32) (v4283 : BitVec 32) (v4430 : BitVec 32) : Prop :=
  (∀ a, (k0_off1492 i v4280 v4283 v4430) a + S1x128.size a ≤ S8224x128.size a)
theorem k0_off1492_inb : ∀ (i : grid0.Coords) (v4280 : BitVec 32) (v4283 : BitVec 32) (v4430 : BitVec 32) (k0_hw745 : k0_chk745 i v4280 v4283 v4430), ∀ a, (k0_off1492 i v4280 v4283 v4430) a + S1x128.size a ≤ S8224x128.size a := fun i v4280 v4283 v4430 k0_hw745 => k0_hw745

def k0_off1493 (v4280 : BitVec 32) : Fin 1 → Nat :=
  let c10_i32_1698 : BitVec 32 := 10#32
  let v4441 : BitVec 32 := Scalar.addi v4280 c10_i32_1698
  let v4444 : Index := Scalar.indexCast v4441
  ![v4444.toNat]
def k0_off1494 (i : grid0.Coords) (v4280 : BitVec 32) (v4283 : BitVec 32) (v4445 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_1699 : BitVec 32 := 10#32
  let v4442 : BitVec 32 := Scalar.addi v4280 c10_i32_1699
  let v4443 : BitVec 1 := Scalar.cmpi .slt v4442 v4283
  let c65535_i32_1700 : BitVec 32 := 65535#32
  let v4446 : BitVec 32 := Scalar.andi v4445 c65535_i32_1700
  let c2048_i32_1701 : BitVec 32 := 2048#32
  let v4447 : BitVec 32 := Scalar.select v4443 v4446 c2048_i32_1701
  let v4448 : BitVec 32 := Scalar.addi v1470 v4447
  let v4451 : Index := Scalar.indexCast v4448
  let c0_1703 : Index := 0#32
  ![v4451.toNat, 0]

def k0_chk746 (i : grid0.Coords) (v4280 : BitVec 32) (v4283 : BitVec 32) (v4445 : BitVec 32) : Prop :=
  (∀ a, (k0_off1494 i v4280 v4283 v4445) a + S1x128.size a ≤ S8224x128.size a)
theorem k0_off1494_inb : ∀ (i : grid0.Coords) (v4280 : BitVec 32) (v4283 : BitVec 32) (v4445 : BitVec 32) (k0_hw746 : k0_chk746 i v4280 v4283 v4445), ∀ a, (k0_off1494 i v4280 v4283 v4445) a + S1x128.size a ≤ S8224x128.size a := fun i v4280 v4283 v4445 k0_hw746 => k0_hw746

def k0_off1495 (v4280 : BitVec 32) : Fin 1 → Nat :=
  let c11_i32_1704 : BitVec 32 := 11#32
  let v4456 : BitVec 32 := Scalar.addi v4280 c11_i32_1704
  let v4459 : Index := Scalar.indexCast v4456
  ![v4459.toNat]
def k0_off1496 (i : grid0.Coords) (v4280 : BitVec 32) (v4283 : BitVec 32) (v4460 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_1705 : BitVec 32 := 11#32
  let v4457 : BitVec 32 := Scalar.addi v4280 c11_i32_1705
  let v4458 : BitVec 1 := Scalar.cmpi .slt v4457 v4283
  let c65535_i32_1706 : BitVec 32 := 65535#32
  let v4461 : BitVec 32 := Scalar.andi v4460 c65535_i32_1706
  let c2048_i32_1707 : BitVec 32 := 2048#32
  let v4462 : BitVec 32 := Scalar.select v4458 v4461 c2048_i32_1707
  let v4463 : BitVec 32 := Scalar.addi v1470 v4462
  let v4466 : Index := Scalar.indexCast v4463
  let c0_1709 : Index := 0#32
  ![v4466.toNat, 0]

def k0_chk747 (i : grid0.Coords) (v4280 : BitVec 32) (v4283 : BitVec 32) (v4460 : BitVec 32) : Prop :=
  (∀ a, (k0_off1496 i v4280 v4283 v4460) a + S1x128.size a ≤ S8224x128.size a)
theorem k0_off1496_inb : ∀ (i : grid0.Coords) (v4280 : BitVec 32) (v4283 : BitVec 32) (v4460 : BitVec 32) (k0_hw747 : k0_chk747 i v4280 v4283 v4460), ∀ a, (k0_off1496 i v4280 v4283 v4460) a + S1x128.size a ≤ S8224x128.size a := fun i v4280 v4283 v4460 k0_hw747 => k0_hw747

def k0_off1497 (v4280 : BitVec 32) : Fin 1 → Nat :=
  let c12_i32_1710 : BitVec 32 := 12#32
  let v4471 : BitVec 32 := Scalar.addi v4280 c12_i32_1710
  let v4474 : Index := Scalar.indexCast v4471
  ![v4474.toNat]
def k0_off1498 (i : grid0.Coords) (v4280 : BitVec 32) (v4283 : BitVec 32) (v4475 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_1711 : BitVec 32 := 12#32
  let v4472 : BitVec 32 := Scalar.addi v4280 c12_i32_1711
  let v4473 : BitVec 1 := Scalar.cmpi .slt v4472 v4283
  let c65535_i32_1712 : BitVec 32 := 65535#32
  let v4476 : BitVec 32 := Scalar.andi v4475 c65535_i32_1712
  let c2048_i32_1713 : BitVec 32 := 2048#32
  let v4477 : BitVec 32 := Scalar.select v4473 v4476 c2048_i32_1713
  let v4478 : BitVec 32 := Scalar.addi v1470 v4477
  let v4481 : Index := Scalar.indexCast v4478
  let c0_1715 : Index := 0#32
  ![v4481.toNat, 0]

def k0_chk748 (i : grid0.Coords) (v4280 : BitVec 32) (v4283 : BitVec 32) (v4475 : BitVec 32) : Prop :=
  (∀ a, (k0_off1498 i v4280 v4283 v4475) a + S1x128.size a ≤ S8224x128.size a)
theorem k0_off1498_inb : ∀ (i : grid0.Coords) (v4280 : BitVec 32) (v4283 : BitVec 32) (v4475 : BitVec 32) (k0_hw748 : k0_chk748 i v4280 v4283 v4475), ∀ a, (k0_off1498 i v4280 v4283 v4475) a + S1x128.size a ≤ S8224x128.size a := fun i v4280 v4283 v4475 k0_hw748 => k0_hw748

def k0_off1499 (v4280 : BitVec 32) : Fin 1 → Nat :=
  let c13_i32_1716 : BitVec 32 := 13#32
  let v4486 : BitVec 32 := Scalar.addi v4280 c13_i32_1716
  let v4489 : Index := Scalar.indexCast v4486
  ![v4489.toNat]
def k0_off1500 (i : grid0.Coords) (v4280 : BitVec 32) (v4283 : BitVec 32) (v4490 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_1717 : BitVec 32 := 13#32
  let v4487 : BitVec 32 := Scalar.addi v4280 c13_i32_1717
  let v4488 : BitVec 1 := Scalar.cmpi .slt v4487 v4283
  let c65535_i32_1718 : BitVec 32 := 65535#32
  let v4491 : BitVec 32 := Scalar.andi v4490 c65535_i32_1718
  let c2048_i32_1719 : BitVec 32 := 2048#32
  let v4492 : BitVec 32 := Scalar.select v4488 v4491 c2048_i32_1719
  let v4493 : BitVec 32 := Scalar.addi v1470 v4492
  let v4496 : Index := Scalar.indexCast v4493
  let c0_1721 : Index := 0#32
  ![v4496.toNat, 0]

def k0_chk749 (i : grid0.Coords) (v4280 : BitVec 32) (v4283 : BitVec 32) (v4490 : BitVec 32) : Prop :=
  (∀ a, (k0_off1500 i v4280 v4283 v4490) a + S1x128.size a ≤ S8224x128.size a)
theorem k0_off1500_inb : ∀ (i : grid0.Coords) (v4280 : BitVec 32) (v4283 : BitVec 32) (v4490 : BitVec 32) (k0_hw749 : k0_chk749 i v4280 v4283 v4490), ∀ a, (k0_off1500 i v4280 v4283 v4490) a + S1x128.size a ≤ S8224x128.size a := fun i v4280 v4283 v4490 k0_hw749 => k0_hw749

def k0_off1501 (v4280 : BitVec 32) : Fin 1 → Nat :=
  let c14_i32_1722 : BitVec 32 := 14#32
  let v4501 : BitVec 32 := Scalar.addi v4280 c14_i32_1722
  let v4504 : Index := Scalar.indexCast v4501
  ![v4504.toNat]
def k0_off1502 (i : grid0.Coords) (v4280 : BitVec 32) (v4283 : BitVec 32) (v4505 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_1723 : BitVec 32 := 14#32
  let v4502 : BitVec 32 := Scalar.addi v4280 c14_i32_1723
  let v4503 : BitVec 1 := Scalar.cmpi .slt v4502 v4283
  let c65535_i32_1724 : BitVec 32 := 65535#32
  let v4506 : BitVec 32 := Scalar.andi v4505 c65535_i32_1724
  let c2048_i32_1725 : BitVec 32 := 2048#32
  let v4507 : BitVec 32 := Scalar.select v4503 v4506 c2048_i32_1725
  let v4508 : BitVec 32 := Scalar.addi v1470 v4507
  let v4511 : Index := Scalar.indexCast v4508
  let c0_1727 : Index := 0#32
  ![v4511.toNat, 0]

def k0_chk750 (i : grid0.Coords) (v4280 : BitVec 32) (v4283 : BitVec 32) (v4505 : BitVec 32) : Prop :=
  (∀ a, (k0_off1502 i v4280 v4283 v4505) a + S1x128.size a ≤ S8224x128.size a)
theorem k0_off1502_inb : ∀ (i : grid0.Coords) (v4280 : BitVec 32) (v4283 : BitVec 32) (v4505 : BitVec 32) (k0_hw750 : k0_chk750 i v4280 v4283 v4505), ∀ a, (k0_off1502 i v4280 v4283 v4505) a + S1x128.size a ≤ S8224x128.size a := fun i v4280 v4283 v4505 k0_hw750 => k0_hw750

def k0_off1503 (v4280 : BitVec 32) : Fin 1 → Nat :=
  let c15_i32_1728 : BitVec 32 := 15#32
  let v4516 : BitVec 32 := Scalar.addi v4280 c15_i32_1728
  let v4519 : Index := Scalar.indexCast v4516
  ![v4519.toNat]

def k0_chk735 (v4280 : BitVec 32) : Prop :=
  (∀ a, (k0_off1473 v4280) a + S1.size a ≤ S51920.size a) ∧
  (∀ a, (k0_off1475 v4280) a + S1.size a ≤ S51920.size a) ∧
  (∀ a, (k0_off1477 v4280) a + S1.size a ≤ S51920.size a) ∧
  (∀ a, (k0_off1479 v4280) a + S1.size a ≤ S51920.size a) ∧
  (∀ a, (k0_off1481 v4280) a + S1.size a ≤ S51920.size a) ∧
  (∀ a, (k0_off1483 v4280) a + S1.size a ≤ S51920.size a) ∧
  (∀ a, (k0_off1485 v4280) a + S1.size a ≤ S51920.size a) ∧
  (∀ a, (k0_off1487 v4280) a + S1.size a ≤ S51920.size a) ∧
  (∀ a, (k0_off1489 v4280) a + S1.size a ≤ S51920.size a) ∧
  (∀ a, (k0_off1491 v4280) a + S1.size a ≤ S51920.size a) ∧
  (∀ a, (k0_off1493 v4280) a + S1.size a ≤ S51920.size a) ∧
  (∀ a, (k0_off1495 v4280) a + S1.size a ≤ S51920.size a) ∧
  (∀ a, (k0_off1497 v4280) a + S1.size a ≤ S51920.size a) ∧
  (∀ a, (k0_off1499 v4280) a + S1.size a ≤ S51920.size a) ∧
  (∀ a, (k0_off1501 v4280) a + S1.size a ≤ S51920.size a) ∧
  (∀ a, (k0_off1503 v4280) a + S1.size a ≤ S51920.size a)
theorem k0_off1473_inb : ∀ (v4280 : BitVec 32) (k0_hw735 : k0_chk735 v4280), ∀ a, (k0_off1473 v4280) a + S1.size a ≤ S51920.size a := fun v4280 k0_hw735 => k0_hw735.1
theorem k0_off1475_inb : ∀ (v4280 : BitVec 32) (k0_hw735 : k0_chk735 v4280), ∀ a, (k0_off1475 v4280) a + S1.size a ≤ S51920.size a := fun v4280 k0_hw735 => k0_hw735.2.1
theorem k0_off1477_inb : ∀ (v4280 : BitVec 32) (k0_hw735 : k0_chk735 v4280), ∀ a, (k0_off1477 v4280) a + S1.size a ≤ S51920.size a := fun v4280 k0_hw735 => k0_hw735.2.2.1
theorem k0_off1479_inb : ∀ (v4280 : BitVec 32) (k0_hw735 : k0_chk735 v4280), ∀ a, (k0_off1479 v4280) a + S1.size a ≤ S51920.size a := fun v4280 k0_hw735 => k0_hw735.2.2.2.1
theorem k0_off1481_inb : ∀ (v4280 : BitVec 32) (k0_hw735 : k0_chk735 v4280), ∀ a, (k0_off1481 v4280) a + S1.size a ≤ S51920.size a := fun v4280 k0_hw735 => k0_hw735.2.2.2.2.1
theorem k0_off1483_inb : ∀ (v4280 : BitVec 32) (k0_hw735 : k0_chk735 v4280), ∀ a, (k0_off1483 v4280) a + S1.size a ≤ S51920.size a := fun v4280 k0_hw735 => k0_hw735.2.2.2.2.2.1
theorem k0_off1485_inb : ∀ (v4280 : BitVec 32) (k0_hw735 : k0_chk735 v4280), ∀ a, (k0_off1485 v4280) a + S1.size a ≤ S51920.size a := fun v4280 k0_hw735 => k0_hw735.2.2.2.2.2.2.1
theorem k0_off1487_inb : ∀ (v4280 : BitVec 32) (k0_hw735 : k0_chk735 v4280), ∀ a, (k0_off1487 v4280) a + S1.size a ≤ S51920.size a := fun v4280 k0_hw735 => k0_hw735.2.2.2.2.2.2.2.1
theorem k0_off1489_inb : ∀ (v4280 : BitVec 32) (k0_hw735 : k0_chk735 v4280), ∀ a, (k0_off1489 v4280) a + S1.size a ≤ S51920.size a := fun v4280 k0_hw735 => k0_hw735.2.2.2.2.2.2.2.2.1
theorem k0_off1491_inb : ∀ (v4280 : BitVec 32) (k0_hw735 : k0_chk735 v4280), ∀ a, (k0_off1491 v4280) a + S1.size a ≤ S51920.size a := fun v4280 k0_hw735 => k0_hw735.2.2.2.2.2.2.2.2.2.1
theorem k0_off1493_inb : ∀ (v4280 : BitVec 32) (k0_hw735 : k0_chk735 v4280), ∀ a, (k0_off1493 v4280) a + S1.size a ≤ S51920.size a := fun v4280 k0_hw735 => k0_hw735.2.2.2.2.2.2.2.2.2.2.1
theorem k0_off1495_inb : ∀ (v4280 : BitVec 32) (k0_hw735 : k0_chk735 v4280), ∀ a, (k0_off1495 v4280) a + S1.size a ≤ S51920.size a := fun v4280 k0_hw735 => k0_hw735.2.2.2.2.2.2.2.2.2.2.2.1
theorem k0_off1497_inb : ∀ (v4280 : BitVec 32) (k0_hw735 : k0_chk735 v4280), ∀ a, (k0_off1497 v4280) a + S1.size a ≤ S51920.size a := fun v4280 k0_hw735 => k0_hw735.2.2.2.2.2.2.2.2.2.2.2.2.1
theorem k0_off1499_inb : ∀ (v4280 : BitVec 32) (k0_hw735 : k0_chk735 v4280), ∀ a, (k0_off1499 v4280) a + S1.size a ≤ S51920.size a := fun v4280 k0_hw735 => k0_hw735.2.2.2.2.2.2.2.2.2.2.2.2.2.1
theorem k0_off1501_inb : ∀ (v4280 : BitVec 32) (k0_hw735 : k0_chk735 v4280), ∀ a, (k0_off1501 v4280) a + S1.size a ≤ S51920.size a := fun v4280 k0_hw735 => k0_hw735.2.2.2.2.2.2.2.2.2.2.2.2.2.2.1
theorem k0_off1503_inb : ∀ (v4280 : BitVec 32) (k0_hw735 : k0_chk735 v4280), ∀ a, (k0_off1503 v4280) a + S1.size a ≤ S51920.size a := fun v4280 k0_hw735 => k0_hw735.2.2.2.2.2.2.2.2.2.2.2.2.2.2.2

def k0_off1504 (i : grid0.Coords) (v4280 : BitVec 32) (v4283 : BitVec 32) (v4520 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_1729 : BitVec 32 := 15#32
  let v4517 : BitVec 32 := Scalar.addi v4280 c15_i32_1729
  let v4518 : BitVec 1 := Scalar.cmpi .slt v4517 v4283
  let c65535_i32_1730 : BitVec 32 := 65535#32
  let v4521 : BitVec 32 := Scalar.andi v4520 c65535_i32_1730
  let c2048_i32_1731 : BitVec 32 := 2048#32
  let v4522 : BitVec 32 := Scalar.select v4518 v4521 c2048_i32_1731
  let v4523 : BitVec 32 := Scalar.addi v1470 v4522
  let v4526 : Index := Scalar.indexCast v4523
  let c0_1733 : Index := 0#32
  ![v4526.toNat, 0]

def k0_chk751 (i : grid0.Coords) (v4280 : BitVec 32) (v4283 : BitVec 32) (v4520 : BitVec 32) : Prop :=
  (∀ a, (k0_off1504 i v4280 v4283 v4520) a + S1x128.size a ≤ S8224x128.size a)
theorem k0_off1504_inb : ∀ (i : grid0.Coords) (v4280 : BitVec 32) (v4283 : BitVec 32) (v4520 : BitVec 32) (k0_hw751 : k0_chk751 i v4280 v4283 v4520), ∀ a, (k0_off1504 i v4280 v4283 v4520) a + S1x128.size a ≤ S8224x128.size a := fun i v4280 v4283 v4520 k0_hw751 => k0_hw751

def k0_off1505 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1734 : BitVec 32 := 512#32
  let v4531 : BitVec 32 := Scalar.muli v24 c512_i32_1734
  let arg1 : BitVec 32 := BitVec.ofNat 32 (i 1).val
  let c32_i32 : BitVec 32 := 32#32
  let v1452 : BitVec 32 := Scalar.muli arg1 c32_i32
  let v4532 : BitVec 32 := Scalar.addi v4531 v1452
  let c12_i32_1735 : BitVec 32 := 12#32
  let v4533 : BitVec 32 := Scalar.addi v4532 c12_i32_1735
  let v4534 : Index := Scalar.indexCast v4533
  ![v4534.toNat]
def k0_off1506 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1734 : BitVec 32 := 512#32
  let v4531 : BitVec 32 := Scalar.muli v24 c512_i32_1734
  let arg1 : BitVec 32 := BitVec.ofNat 32 (i 1).val
  let c32_i32 : BitVec 32 := 32#32
  let v1452 : BitVec 32 := Scalar.muli arg1 c32_i32
  let v4532 : BitVec 32 := Scalar.addi v4531 v1452
  let c12_i32_1735 : BitVec 32 := 12#32
  let v4533 : BitVec 32 := Scalar.addi v4532 c12_i32_1735
  let c1_i32_1736 : BitVec 32 := 1#32
  let v4536 : BitVec 32 := Scalar.addi v4533 c1_i32_1736
  let v4537 : Index := Scalar.indexCast v4536
  ![v4537.toNat]
def k0_off1507 (v4535 : BitVec 32) : Fin 1 → Nat :=
  let c0_i32_1739 : BitVec 32 := 0#32
  let v4546 : BitVec 32 := Scalar.addi v4535 c0_i32_1739
  let v4549 : Index := Scalar.indexCast v4546
  ![v4549.toNat]

def k0_off1508 (i : grid0.Coords) (v4535 : BitVec 32) (v4538 : BitVec 32) (v4550 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_1740 : BitVec 32 := 0#32
  let v4547 : BitVec 32 := Scalar.addi v4535 c0_i32_1740
  let v4548 : BitVec 1 := Scalar.cmpi .slt v4547 v4538
  let c65535_i32_1741 : BitVec 32 := 65535#32
  let v4551 : BitVec 32 := Scalar.andi v4550 c65535_i32_1741
  let c2048_i32_1742 : BitVec 32 := 2048#32
  let v4552 : BitVec 32 := Scalar.select v4548 v4551 c2048_i32_1742
  let v4553 : BitVec 32 := Scalar.addi v1470 v4552
  let v4556 : Index := Scalar.indexCast v4553
  let c0_1744 : Index := 0#32
  ![v4556.toNat, 0]

def k0_chk753 (i : grid0.Coords) (v4535 : BitVec 32) (v4538 : BitVec 32) (v4550 : BitVec 32) : Prop :=
  (∀ a, (k0_off1508 i v4535 v4538 v4550) a + S1x128.size a ≤ S8224x128.size a)
theorem k0_off1508_inb : ∀ (i : grid0.Coords) (v4535 : BitVec 32) (v4538 : BitVec 32) (v4550 : BitVec 32) (k0_hw753 : k0_chk753 i v4535 v4538 v4550), ∀ a, (k0_off1508 i v4535 v4538 v4550) a + S1x128.size a ≤ S8224x128.size a := fun i v4535 v4538 v4550 k0_hw753 => k0_hw753

def k0_off1509 (v4535 : BitVec 32) : Fin 1 → Nat :=
  let c1_i32_1745 : BitVec 32 := 1#32
  let v4561 : BitVec 32 := Scalar.addi v4535 c1_i32_1745
  let v4564 : Index := Scalar.indexCast v4561
  ![v4564.toNat]
def k0_off1510 (i : grid0.Coords) (v4535 : BitVec 32) (v4538 : BitVec 32) (v4565 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_1746 : BitVec 32 := 1#32
  let v4562 : BitVec 32 := Scalar.addi v4535 c1_i32_1746
  let v4563 : BitVec 1 := Scalar.cmpi .slt v4562 v4538
  let c65535_i32_1747 : BitVec 32 := 65535#32
  let v4566 : BitVec 32 := Scalar.andi v4565 c65535_i32_1747
  let c2048_i32_1748 : BitVec 32 := 2048#32
  let v4567 : BitVec 32 := Scalar.select v4563 v4566 c2048_i32_1748
  let v4568 : BitVec 32 := Scalar.addi v1470 v4567
  let v4571 : Index := Scalar.indexCast v4568
  let c0_1750 : Index := 0#32
  ![v4571.toNat, 0]

def k0_chk754 (i : grid0.Coords) (v4535 : BitVec 32) (v4538 : BitVec 32) (v4565 : BitVec 32) : Prop :=
  (∀ a, (k0_off1510 i v4535 v4538 v4565) a + S1x128.size a ≤ S8224x128.size a)
theorem k0_off1510_inb : ∀ (i : grid0.Coords) (v4535 : BitVec 32) (v4538 : BitVec 32) (v4565 : BitVec 32) (k0_hw754 : k0_chk754 i v4535 v4538 v4565), ∀ a, (k0_off1510 i v4535 v4538 v4565) a + S1x128.size a ≤ S8224x128.size a := fun i v4535 v4538 v4565 k0_hw754 => k0_hw754

def k0_off1511 (v4535 : BitVec 32) : Fin 1 → Nat :=
  let c2_i32_1751 : BitVec 32 := 2#32
  let v4576 : BitVec 32 := Scalar.addi v4535 c2_i32_1751
  let v4579 : Index := Scalar.indexCast v4576
  ![v4579.toNat]
def k0_off1512 (i : grid0.Coords) (v4535 : BitVec 32) (v4538 : BitVec 32) (v4580 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_1752 : BitVec 32 := 2#32
  let v4577 : BitVec 32 := Scalar.addi v4535 c2_i32_1752
  let v4578 : BitVec 1 := Scalar.cmpi .slt v4577 v4538
  let c65535_i32_1753 : BitVec 32 := 65535#32
  let v4581 : BitVec 32 := Scalar.andi v4580 c65535_i32_1753
  let c2048_i32_1754 : BitVec 32 := 2048#32
  let v4582 : BitVec 32 := Scalar.select v4578 v4581 c2048_i32_1754
  let v4583 : BitVec 32 := Scalar.addi v1470 v4582
  let v4586 : Index := Scalar.indexCast v4583
  let c0_1756 : Index := 0#32
  ![v4586.toNat, 0]

def k0_chk755 (i : grid0.Coords) (v4535 : BitVec 32) (v4538 : BitVec 32) (v4580 : BitVec 32) : Prop :=
  (∀ a, (k0_off1512 i v4535 v4538 v4580) a + S1x128.size a ≤ S8224x128.size a)
theorem k0_off1512_inb : ∀ (i : grid0.Coords) (v4535 : BitVec 32) (v4538 : BitVec 32) (v4580 : BitVec 32) (k0_hw755 : k0_chk755 i v4535 v4538 v4580), ∀ a, (k0_off1512 i v4535 v4538 v4580) a + S1x128.size a ≤ S8224x128.size a := fun i v4535 v4538 v4580 k0_hw755 => k0_hw755

def k0_off1513 (v4535 : BitVec 32) : Fin 1 → Nat :=
  let c3_i32_1757 : BitVec 32 := 3#32
  let v4591 : BitVec 32 := Scalar.addi v4535 c3_i32_1757
  let v4594 : Index := Scalar.indexCast v4591
  ![v4594.toNat]
def k0_off1514 (i : grid0.Coords) (v4535 : BitVec 32) (v4538 : BitVec 32) (v4595 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_1758 : BitVec 32 := 3#32
  let v4592 : BitVec 32 := Scalar.addi v4535 c3_i32_1758
  let v4593 : BitVec 1 := Scalar.cmpi .slt v4592 v4538
  let c65535_i32_1759 : BitVec 32 := 65535#32
  let v4596 : BitVec 32 := Scalar.andi v4595 c65535_i32_1759
  let c2048_i32_1760 : BitVec 32 := 2048#32
  let v4597 : BitVec 32 := Scalar.select v4593 v4596 c2048_i32_1760
  let v4598 : BitVec 32 := Scalar.addi v1470 v4597
  let v4601 : Index := Scalar.indexCast v4598
  let c0_1762 : Index := 0#32
  ![v4601.toNat, 0]

def k0_chk756 (i : grid0.Coords) (v4535 : BitVec 32) (v4538 : BitVec 32) (v4595 : BitVec 32) : Prop :=
  (∀ a, (k0_off1514 i v4535 v4538 v4595) a + S1x128.size a ≤ S8224x128.size a)
theorem k0_off1514_inb : ∀ (i : grid0.Coords) (v4535 : BitVec 32) (v4538 : BitVec 32) (v4595 : BitVec 32) (k0_hw756 : k0_chk756 i v4535 v4538 v4595), ∀ a, (k0_off1514 i v4535 v4538 v4595) a + S1x128.size a ≤ S8224x128.size a := fun i v4535 v4538 v4595 k0_hw756 => k0_hw756

def k0_off1515 (v4535 : BitVec 32) : Fin 1 → Nat :=
  let c4_i32_1763 : BitVec 32 := 4#32
  let v4606 : BitVec 32 := Scalar.addi v4535 c4_i32_1763
  let v4609 : Index := Scalar.indexCast v4606
  ![v4609.toNat]
def k0_off1516 (i : grid0.Coords) (v4535 : BitVec 32) (v4538 : BitVec 32) (v4610 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_1764 : BitVec 32 := 4#32
  let v4607 : BitVec 32 := Scalar.addi v4535 c4_i32_1764
  let v4608 : BitVec 1 := Scalar.cmpi .slt v4607 v4538
  let c65535_i32_1765 : BitVec 32 := 65535#32
  let v4611 : BitVec 32 := Scalar.andi v4610 c65535_i32_1765
  let c2048_i32_1766 : BitVec 32 := 2048#32
  let v4612 : BitVec 32 := Scalar.select v4608 v4611 c2048_i32_1766
  let v4613 : BitVec 32 := Scalar.addi v1470 v4612
  let v4616 : Index := Scalar.indexCast v4613
  let c0_1768 : Index := 0#32
  ![v4616.toNat, 0]

def k0_chk757 (i : grid0.Coords) (v4535 : BitVec 32) (v4538 : BitVec 32) (v4610 : BitVec 32) : Prop :=
  (∀ a, (k0_off1516 i v4535 v4538 v4610) a + S1x128.size a ≤ S8224x128.size a)
theorem k0_off1516_inb : ∀ (i : grid0.Coords) (v4535 : BitVec 32) (v4538 : BitVec 32) (v4610 : BitVec 32) (k0_hw757 : k0_chk757 i v4535 v4538 v4610), ∀ a, (k0_off1516 i v4535 v4538 v4610) a + S1x128.size a ≤ S8224x128.size a := fun i v4535 v4538 v4610 k0_hw757 => k0_hw757

def k0_off1517 (v4535 : BitVec 32) : Fin 1 → Nat :=
  let c5_i32_1769 : BitVec 32 := 5#32
  let v4621 : BitVec 32 := Scalar.addi v4535 c5_i32_1769
  let v4624 : Index := Scalar.indexCast v4621
  ![v4624.toNat]
def k0_off1518 (i : grid0.Coords) (v4535 : BitVec 32) (v4538 : BitVec 32) (v4625 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_1770 : BitVec 32 := 5#32
  let v4622 : BitVec 32 := Scalar.addi v4535 c5_i32_1770
  let v4623 : BitVec 1 := Scalar.cmpi .slt v4622 v4538
  let c65535_i32_1771 : BitVec 32 := 65535#32
  let v4626 : BitVec 32 := Scalar.andi v4625 c65535_i32_1771
  let c2048_i32_1772 : BitVec 32 := 2048#32
  let v4627 : BitVec 32 := Scalar.select v4623 v4626 c2048_i32_1772
  let v4628 : BitVec 32 := Scalar.addi v1470 v4627
  let v4631 : Index := Scalar.indexCast v4628
  let c0_1774 : Index := 0#32
  ![v4631.toNat, 0]

def k0_chk758 (i : grid0.Coords) (v4535 : BitVec 32) (v4538 : BitVec 32) (v4625 : BitVec 32) : Prop :=
  (∀ a, (k0_off1518 i v4535 v4538 v4625) a + S1x128.size a ≤ S8224x128.size a)
theorem k0_off1518_inb : ∀ (i : grid0.Coords) (v4535 : BitVec 32) (v4538 : BitVec 32) (v4625 : BitVec 32) (k0_hw758 : k0_chk758 i v4535 v4538 v4625), ∀ a, (k0_off1518 i v4535 v4538 v4625) a + S1x128.size a ≤ S8224x128.size a := fun i v4535 v4538 v4625 k0_hw758 => k0_hw758

def k0_off1519 (v4535 : BitVec 32) : Fin 1 → Nat :=
  let c6_i32_1775 : BitVec 32 := 6#32
  let v4636 : BitVec 32 := Scalar.addi v4535 c6_i32_1775
  let v4639 : Index := Scalar.indexCast v4636
  ![v4639.toNat]
def k0_off1520 (i : grid0.Coords) (v4535 : BitVec 32) (v4538 : BitVec 32) (v4640 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_1776 : BitVec 32 := 6#32
  let v4637 : BitVec 32 := Scalar.addi v4535 c6_i32_1776
  let v4638 : BitVec 1 := Scalar.cmpi .slt v4637 v4538
  let c65535_i32_1777 : BitVec 32 := 65535#32
  let v4641 : BitVec 32 := Scalar.andi v4640 c65535_i32_1777
  let c2048_i32_1778 : BitVec 32 := 2048#32
  let v4642 : BitVec 32 := Scalar.select v4638 v4641 c2048_i32_1778
  let v4643 : BitVec 32 := Scalar.addi v1470 v4642
  let v4646 : Index := Scalar.indexCast v4643
  let c0_1780 : Index := 0#32
  ![v4646.toNat, 0]

def k0_chk759 (i : grid0.Coords) (v4535 : BitVec 32) (v4538 : BitVec 32) (v4640 : BitVec 32) : Prop :=
  (∀ a, (k0_off1520 i v4535 v4538 v4640) a + S1x128.size a ≤ S8224x128.size a)
theorem k0_off1520_inb : ∀ (i : grid0.Coords) (v4535 : BitVec 32) (v4538 : BitVec 32) (v4640 : BitVec 32) (k0_hw759 : k0_chk759 i v4535 v4538 v4640), ∀ a, (k0_off1520 i v4535 v4538 v4640) a + S1x128.size a ≤ S8224x128.size a := fun i v4535 v4538 v4640 k0_hw759 => k0_hw759

def k0_off1521 (v4535 : BitVec 32) : Fin 1 → Nat :=
  let c7_i32_1781 : BitVec 32 := 7#32
  let v4651 : BitVec 32 := Scalar.addi v4535 c7_i32_1781
  let v4654 : Index := Scalar.indexCast v4651
  ![v4654.toNat]
def k0_off1522 (i : grid0.Coords) (v4535 : BitVec 32) (v4538 : BitVec 32) (v4655 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_1782 : BitVec 32 := 7#32
  let v4652 : BitVec 32 := Scalar.addi v4535 c7_i32_1782
  let v4653 : BitVec 1 := Scalar.cmpi .slt v4652 v4538
  let c65535_i32_1783 : BitVec 32 := 65535#32
  let v4656 : BitVec 32 := Scalar.andi v4655 c65535_i32_1783
  let c2048_i32_1784 : BitVec 32 := 2048#32
  let v4657 : BitVec 32 := Scalar.select v4653 v4656 c2048_i32_1784
  let v4658 : BitVec 32 := Scalar.addi v1470 v4657
  let v4661 : Index := Scalar.indexCast v4658
  let c0_1786 : Index := 0#32
  ![v4661.toNat, 0]

def k0_chk760 (i : grid0.Coords) (v4535 : BitVec 32) (v4538 : BitVec 32) (v4655 : BitVec 32) : Prop :=
  (∀ a, (k0_off1522 i v4535 v4538 v4655) a + S1x128.size a ≤ S8224x128.size a)
theorem k0_off1522_inb : ∀ (i : grid0.Coords) (v4535 : BitVec 32) (v4538 : BitVec 32) (v4655 : BitVec 32) (k0_hw760 : k0_chk760 i v4535 v4538 v4655), ∀ a, (k0_off1522 i v4535 v4538 v4655) a + S1x128.size a ≤ S8224x128.size a := fun i v4535 v4538 v4655 k0_hw760 => k0_hw760

def k0_off1523 (v4535 : BitVec 32) : Fin 1 → Nat :=
  let c8_i32_1787 : BitVec 32 := 8#32
  let v4666 : BitVec 32 := Scalar.addi v4535 c8_i32_1787
  let v4669 : Index := Scalar.indexCast v4666
  ![v4669.toNat]
def k0_off1524 (i : grid0.Coords) (v4535 : BitVec 32) (v4538 : BitVec 32) (v4670 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_1788 : BitVec 32 := 8#32
  let v4667 : BitVec 32 := Scalar.addi v4535 c8_i32_1788
  let v4668 : BitVec 1 := Scalar.cmpi .slt v4667 v4538
  let c65535_i32_1789 : BitVec 32 := 65535#32
  let v4671 : BitVec 32 := Scalar.andi v4670 c65535_i32_1789
  let c2048_i32_1790 : BitVec 32 := 2048#32
  let v4672 : BitVec 32 := Scalar.select v4668 v4671 c2048_i32_1790
  let v4673 : BitVec 32 := Scalar.addi v1470 v4672
  let v4676 : Index := Scalar.indexCast v4673
  let c0_1792 : Index := 0#32
  ![v4676.toNat, 0]

def k0_chk761 (i : grid0.Coords) (v4535 : BitVec 32) (v4538 : BitVec 32) (v4670 : BitVec 32) : Prop :=
  (∀ a, (k0_off1524 i v4535 v4538 v4670) a + S1x128.size a ≤ S8224x128.size a)
theorem k0_off1524_inb : ∀ (i : grid0.Coords) (v4535 : BitVec 32) (v4538 : BitVec 32) (v4670 : BitVec 32) (k0_hw761 : k0_chk761 i v4535 v4538 v4670), ∀ a, (k0_off1524 i v4535 v4538 v4670) a + S1x128.size a ≤ S8224x128.size a := fun i v4535 v4538 v4670 k0_hw761 => k0_hw761

def k0_off1525 (v4535 : BitVec 32) : Fin 1 → Nat :=
  let c9_i32_1793 : BitVec 32 := 9#32
  let v4681 : BitVec 32 := Scalar.addi v4535 c9_i32_1793
  let v4684 : Index := Scalar.indexCast v4681
  ![v4684.toNat]
def k0_off1526 (i : grid0.Coords) (v4535 : BitVec 32) (v4538 : BitVec 32) (v4685 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_1794 : BitVec 32 := 9#32
  let v4682 : BitVec 32 := Scalar.addi v4535 c9_i32_1794
  let v4683 : BitVec 1 := Scalar.cmpi .slt v4682 v4538
  let c65535_i32_1795 : BitVec 32 := 65535#32
  let v4686 : BitVec 32 := Scalar.andi v4685 c65535_i32_1795
  let c2048_i32_1796 : BitVec 32 := 2048#32
  let v4687 : BitVec 32 := Scalar.select v4683 v4686 c2048_i32_1796
  let v4688 : BitVec 32 := Scalar.addi v1470 v4687
  let v4691 : Index := Scalar.indexCast v4688
  let c0_1798 : Index := 0#32
  ![v4691.toNat, 0]

def k0_chk762 (i : grid0.Coords) (v4535 : BitVec 32) (v4538 : BitVec 32) (v4685 : BitVec 32) : Prop :=
  (∀ a, (k0_off1526 i v4535 v4538 v4685) a + S1x128.size a ≤ S8224x128.size a)
theorem k0_off1526_inb : ∀ (i : grid0.Coords) (v4535 : BitVec 32) (v4538 : BitVec 32) (v4685 : BitVec 32) (k0_hw762 : k0_chk762 i v4535 v4538 v4685), ∀ a, (k0_off1526 i v4535 v4538 v4685) a + S1x128.size a ≤ S8224x128.size a := fun i v4535 v4538 v4685 k0_hw762 => k0_hw762

def k0_off1527 (v4535 : BitVec 32) : Fin 1 → Nat :=
  let c10_i32_1799 : BitVec 32 := 10#32
  let v4696 : BitVec 32 := Scalar.addi v4535 c10_i32_1799
  let v4699 : Index := Scalar.indexCast v4696
  ![v4699.toNat]
def k0_off1528 (i : grid0.Coords) (v4535 : BitVec 32) (v4538 : BitVec 32) (v4700 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_1800 : BitVec 32 := 10#32
  let v4697 : BitVec 32 := Scalar.addi v4535 c10_i32_1800
  let v4698 : BitVec 1 := Scalar.cmpi .slt v4697 v4538
  let c65535_i32_1801 : BitVec 32 := 65535#32
  let v4701 : BitVec 32 := Scalar.andi v4700 c65535_i32_1801
  let c2048_i32_1802 : BitVec 32 := 2048#32
  let v4702 : BitVec 32 := Scalar.select v4698 v4701 c2048_i32_1802
  let v4703 : BitVec 32 := Scalar.addi v1470 v4702
  let v4706 : Index := Scalar.indexCast v4703
  let c0_1804 : Index := 0#32
  ![v4706.toNat, 0]

def k0_chk763 (i : grid0.Coords) (v4535 : BitVec 32) (v4538 : BitVec 32) (v4700 : BitVec 32) : Prop :=
  (∀ a, (k0_off1528 i v4535 v4538 v4700) a + S1x128.size a ≤ S8224x128.size a)
theorem k0_off1528_inb : ∀ (i : grid0.Coords) (v4535 : BitVec 32) (v4538 : BitVec 32) (v4700 : BitVec 32) (k0_hw763 : k0_chk763 i v4535 v4538 v4700), ∀ a, (k0_off1528 i v4535 v4538 v4700) a + S1x128.size a ≤ S8224x128.size a := fun i v4535 v4538 v4700 k0_hw763 => k0_hw763

def k0_off1529 (v4535 : BitVec 32) : Fin 1 → Nat :=
  let c11_i32_1805 : BitVec 32 := 11#32
  let v4711 : BitVec 32 := Scalar.addi v4535 c11_i32_1805
  let v4714 : Index := Scalar.indexCast v4711
  ![v4714.toNat]
def k0_off1530 (i : grid0.Coords) (v4535 : BitVec 32) (v4538 : BitVec 32) (v4715 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_1806 : BitVec 32 := 11#32
  let v4712 : BitVec 32 := Scalar.addi v4535 c11_i32_1806
  let v4713 : BitVec 1 := Scalar.cmpi .slt v4712 v4538
  let c65535_i32_1807 : BitVec 32 := 65535#32
  let v4716 : BitVec 32 := Scalar.andi v4715 c65535_i32_1807
  let c2048_i32_1808 : BitVec 32 := 2048#32
  let v4717 : BitVec 32 := Scalar.select v4713 v4716 c2048_i32_1808
  let v4718 : BitVec 32 := Scalar.addi v1470 v4717
  let v4721 : Index := Scalar.indexCast v4718
  let c0_1810 : Index := 0#32
  ![v4721.toNat, 0]

def k0_chk764 (i : grid0.Coords) (v4535 : BitVec 32) (v4538 : BitVec 32) (v4715 : BitVec 32) : Prop :=
  (∀ a, (k0_off1530 i v4535 v4538 v4715) a + S1x128.size a ≤ S8224x128.size a)
theorem k0_off1530_inb : ∀ (i : grid0.Coords) (v4535 : BitVec 32) (v4538 : BitVec 32) (v4715 : BitVec 32) (k0_hw764 : k0_chk764 i v4535 v4538 v4715), ∀ a, (k0_off1530 i v4535 v4538 v4715) a + S1x128.size a ≤ S8224x128.size a := fun i v4535 v4538 v4715 k0_hw764 => k0_hw764

def k0_off1531 (v4535 : BitVec 32) : Fin 1 → Nat :=
  let c12_i32_1811 : BitVec 32 := 12#32
  let v4726 : BitVec 32 := Scalar.addi v4535 c12_i32_1811
  let v4729 : Index := Scalar.indexCast v4726
  ![v4729.toNat]
def k0_off1532 (i : grid0.Coords) (v4535 : BitVec 32) (v4538 : BitVec 32) (v4730 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_1812 : BitVec 32 := 12#32
  let v4727 : BitVec 32 := Scalar.addi v4535 c12_i32_1812
  let v4728 : BitVec 1 := Scalar.cmpi .slt v4727 v4538
  let c65535_i32_1813 : BitVec 32 := 65535#32
  let v4731 : BitVec 32 := Scalar.andi v4730 c65535_i32_1813
  let c2048_i32_1814 : BitVec 32 := 2048#32
  let v4732 : BitVec 32 := Scalar.select v4728 v4731 c2048_i32_1814
  let v4733 : BitVec 32 := Scalar.addi v1470 v4732
  let v4736 : Index := Scalar.indexCast v4733
  let c0_1816 : Index := 0#32
  ![v4736.toNat, 0]

def k0_chk765 (i : grid0.Coords) (v4535 : BitVec 32) (v4538 : BitVec 32) (v4730 : BitVec 32) : Prop :=
  (∀ a, (k0_off1532 i v4535 v4538 v4730) a + S1x128.size a ≤ S8224x128.size a)
theorem k0_off1532_inb : ∀ (i : grid0.Coords) (v4535 : BitVec 32) (v4538 : BitVec 32) (v4730 : BitVec 32) (k0_hw765 : k0_chk765 i v4535 v4538 v4730), ∀ a, (k0_off1532 i v4535 v4538 v4730) a + S1x128.size a ≤ S8224x128.size a := fun i v4535 v4538 v4730 k0_hw765 => k0_hw765

def k0_off1533 (v4535 : BitVec 32) : Fin 1 → Nat :=
  let c13_i32_1817 : BitVec 32 := 13#32
  let v4741 : BitVec 32 := Scalar.addi v4535 c13_i32_1817
  let v4744 : Index := Scalar.indexCast v4741
  ![v4744.toNat]
def k0_off1534 (i : grid0.Coords) (v4535 : BitVec 32) (v4538 : BitVec 32) (v4745 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_1818 : BitVec 32 := 13#32
  let v4742 : BitVec 32 := Scalar.addi v4535 c13_i32_1818
  let v4743 : BitVec 1 := Scalar.cmpi .slt v4742 v4538
  let c65535_i32_1819 : BitVec 32 := 65535#32
  let v4746 : BitVec 32 := Scalar.andi v4745 c65535_i32_1819
  let c2048_i32_1820 : BitVec 32 := 2048#32
  let v4747 : BitVec 32 := Scalar.select v4743 v4746 c2048_i32_1820
  let v4748 : BitVec 32 := Scalar.addi v1470 v4747
  let v4751 : Index := Scalar.indexCast v4748
  let c0_1822 : Index := 0#32
  ![v4751.toNat, 0]

def k0_chk766 (i : grid0.Coords) (v4535 : BitVec 32) (v4538 : BitVec 32) (v4745 : BitVec 32) : Prop :=
  (∀ a, (k0_off1534 i v4535 v4538 v4745) a + S1x128.size a ≤ S8224x128.size a)
theorem k0_off1534_inb : ∀ (i : grid0.Coords) (v4535 : BitVec 32) (v4538 : BitVec 32) (v4745 : BitVec 32) (k0_hw766 : k0_chk766 i v4535 v4538 v4745), ∀ a, (k0_off1534 i v4535 v4538 v4745) a + S1x128.size a ≤ S8224x128.size a := fun i v4535 v4538 v4745 k0_hw766 => k0_hw766

def k0_off1535 (v4535 : BitVec 32) : Fin 1 → Nat :=
  let c14_i32_1823 : BitVec 32 := 14#32
  let v4756 : BitVec 32 := Scalar.addi v4535 c14_i32_1823
  let v4759 : Index := Scalar.indexCast v4756
  ![v4759.toNat]
def k0_off1536 (i : grid0.Coords) (v4535 : BitVec 32) (v4538 : BitVec 32) (v4760 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_1824 : BitVec 32 := 14#32
  let v4757 : BitVec 32 := Scalar.addi v4535 c14_i32_1824
  let v4758 : BitVec 1 := Scalar.cmpi .slt v4757 v4538
  let c65535_i32_1825 : BitVec 32 := 65535#32
  let v4761 : BitVec 32 := Scalar.andi v4760 c65535_i32_1825
  let c2048_i32_1826 : BitVec 32 := 2048#32
  let v4762 : BitVec 32 := Scalar.select v4758 v4761 c2048_i32_1826
  let v4763 : BitVec 32 := Scalar.addi v1470 v4762
  let v4766 : Index := Scalar.indexCast v4763
  let c0_1828 : Index := 0#32
  ![v4766.toNat, 0]

def k0_chk767 (i : grid0.Coords) (v4535 : BitVec 32) (v4538 : BitVec 32) (v4760 : BitVec 32) : Prop :=
  (∀ a, (k0_off1536 i v4535 v4538 v4760) a + S1x128.size a ≤ S8224x128.size a)
theorem k0_off1536_inb : ∀ (i : grid0.Coords) (v4535 : BitVec 32) (v4538 : BitVec 32) (v4760 : BitVec 32) (k0_hw767 : k0_chk767 i v4535 v4538 v4760), ∀ a, (k0_off1536 i v4535 v4538 v4760) a + S1x128.size a ≤ S8224x128.size a := fun i v4535 v4538 v4760 k0_hw767 => k0_hw767

def k0_off1537 (v4535 : BitVec 32) : Fin 1 → Nat :=
  let c15_i32_1829 : BitVec 32 := 15#32
  let v4771 : BitVec 32 := Scalar.addi v4535 c15_i32_1829
  let v4774 : Index := Scalar.indexCast v4771
  ![v4774.toNat]

def k0_chk752 (v4535 : BitVec 32) : Prop :=
  (∀ a, (k0_off1507 v4535) a + S1.size a ≤ S51920.size a) ∧
  (∀ a, (k0_off1509 v4535) a + S1.size a ≤ S51920.size a) ∧
  (∀ a, (k0_off1511 v4535) a + S1.size a ≤ S51920.size a) ∧
  (∀ a, (k0_off1513 v4535) a + S1.size a ≤ S51920.size a) ∧
  (∀ a, (k0_off1515 v4535) a + S1.size a ≤ S51920.size a) ∧
  (∀ a, (k0_off1517 v4535) a + S1.size a ≤ S51920.size a) ∧
  (∀ a, (k0_off1519 v4535) a + S1.size a ≤ S51920.size a) ∧
  (∀ a, (k0_off1521 v4535) a + S1.size a ≤ S51920.size a) ∧
  (∀ a, (k0_off1523 v4535) a + S1.size a ≤ S51920.size a) ∧
  (∀ a, (k0_off1525 v4535) a + S1.size a ≤ S51920.size a) ∧
  (∀ a, (k0_off1527 v4535) a + S1.size a ≤ S51920.size a) ∧
  (∀ a, (k0_off1529 v4535) a + S1.size a ≤ S51920.size a) ∧
  (∀ a, (k0_off1531 v4535) a + S1.size a ≤ S51920.size a) ∧
  (∀ a, (k0_off1533 v4535) a + S1.size a ≤ S51920.size a) ∧
  (∀ a, (k0_off1535 v4535) a + S1.size a ≤ S51920.size a) ∧
  (∀ a, (k0_off1537 v4535) a + S1.size a ≤ S51920.size a)
theorem k0_off1507_inb : ∀ (v4535 : BitVec 32) (k0_hw752 : k0_chk752 v4535), ∀ a, (k0_off1507 v4535) a + S1.size a ≤ S51920.size a := fun v4535 k0_hw752 => k0_hw752.1
theorem k0_off1509_inb : ∀ (v4535 : BitVec 32) (k0_hw752 : k0_chk752 v4535), ∀ a, (k0_off1509 v4535) a + S1.size a ≤ S51920.size a := fun v4535 k0_hw752 => k0_hw752.2.1
theorem k0_off1511_inb : ∀ (v4535 : BitVec 32) (k0_hw752 : k0_chk752 v4535), ∀ a, (k0_off1511 v4535) a + S1.size a ≤ S51920.size a := fun v4535 k0_hw752 => k0_hw752.2.2.1
theorem k0_off1513_inb : ∀ (v4535 : BitVec 32) (k0_hw752 : k0_chk752 v4535), ∀ a, (k0_off1513 v4535) a + S1.size a ≤ S51920.size a := fun v4535 k0_hw752 => k0_hw752.2.2.2.1
theorem k0_off1515_inb : ∀ (v4535 : BitVec 32) (k0_hw752 : k0_chk752 v4535), ∀ a, (k0_off1515 v4535) a + S1.size a ≤ S51920.size a := fun v4535 k0_hw752 => k0_hw752.2.2.2.2.1
theorem k0_off1517_inb : ∀ (v4535 : BitVec 32) (k0_hw752 : k0_chk752 v4535), ∀ a, (k0_off1517 v4535) a + S1.size a ≤ S51920.size a := fun v4535 k0_hw752 => k0_hw752.2.2.2.2.2.1
theorem k0_off1519_inb : ∀ (v4535 : BitVec 32) (k0_hw752 : k0_chk752 v4535), ∀ a, (k0_off1519 v4535) a + S1.size a ≤ S51920.size a := fun v4535 k0_hw752 => k0_hw752.2.2.2.2.2.2.1
theorem k0_off1521_inb : ∀ (v4535 : BitVec 32) (k0_hw752 : k0_chk752 v4535), ∀ a, (k0_off1521 v4535) a + S1.size a ≤ S51920.size a := fun v4535 k0_hw752 => k0_hw752.2.2.2.2.2.2.2.1
theorem k0_off1523_inb : ∀ (v4535 : BitVec 32) (k0_hw752 : k0_chk752 v4535), ∀ a, (k0_off1523 v4535) a + S1.size a ≤ S51920.size a := fun v4535 k0_hw752 => k0_hw752.2.2.2.2.2.2.2.2.1
theorem k0_off1525_inb : ∀ (v4535 : BitVec 32) (k0_hw752 : k0_chk752 v4535), ∀ a, (k0_off1525 v4535) a + S1.size a ≤ S51920.size a := fun v4535 k0_hw752 => k0_hw752.2.2.2.2.2.2.2.2.2.1
theorem k0_off1527_inb : ∀ (v4535 : BitVec 32) (k0_hw752 : k0_chk752 v4535), ∀ a, (k0_off1527 v4535) a + S1.size a ≤ S51920.size a := fun v4535 k0_hw752 => k0_hw752.2.2.2.2.2.2.2.2.2.2.1
theorem k0_off1529_inb : ∀ (v4535 : BitVec 32) (k0_hw752 : k0_chk752 v4535), ∀ a, (k0_off1529 v4535) a + S1.size a ≤ S51920.size a := fun v4535 k0_hw752 => k0_hw752.2.2.2.2.2.2.2.2.2.2.2.1
theorem k0_off1531_inb : ∀ (v4535 : BitVec 32) (k0_hw752 : k0_chk752 v4535), ∀ a, (k0_off1531 v4535) a + S1.size a ≤ S51920.size a := fun v4535 k0_hw752 => k0_hw752.2.2.2.2.2.2.2.2.2.2.2.2.1
theorem k0_off1533_inb : ∀ (v4535 : BitVec 32) (k0_hw752 : k0_chk752 v4535), ∀ a, (k0_off1533 v4535) a + S1.size a ≤ S51920.size a := fun v4535 k0_hw752 => k0_hw752.2.2.2.2.2.2.2.2.2.2.2.2.2.1
theorem k0_off1535_inb : ∀ (v4535 : BitVec 32) (k0_hw752 : k0_chk752 v4535), ∀ a, (k0_off1535 v4535) a + S1.size a ≤ S51920.size a := fun v4535 k0_hw752 => k0_hw752.2.2.2.2.2.2.2.2.2.2.2.2.2.2.1
theorem k0_off1537_inb : ∀ (v4535 : BitVec 32) (k0_hw752 : k0_chk752 v4535), ∀ a, (k0_off1537 v4535) a + S1.size a ≤ S51920.size a := fun v4535 k0_hw752 => k0_hw752.2.2.2.2.2.2.2.2.2.2.2.2.2.2.2

def k0_off1538 (i : grid0.Coords) (v4535 : BitVec 32) (v4538 : BitVec 32) (v4775 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_1830 : BitVec 32 := 15#32
  let v4772 : BitVec 32 := Scalar.addi v4535 c15_i32_1830
  let v4773 : BitVec 1 := Scalar.cmpi .slt v4772 v4538
  let c65535_i32_1831 : BitVec 32 := 65535#32
  let v4776 : BitVec 32 := Scalar.andi v4775 c65535_i32_1831
  let c2048_i32_1832 : BitVec 32 := 2048#32
  let v4777 : BitVec 32 := Scalar.select v4773 v4776 c2048_i32_1832
  let v4778 : BitVec 32 := Scalar.addi v1470 v4777
  let v4781 : Index := Scalar.indexCast v4778
  let c0_1834 : Index := 0#32
  ![v4781.toNat, 0]

def k0_chk768 (i : grid0.Coords) (v4535 : BitVec 32) (v4538 : BitVec 32) (v4775 : BitVec 32) : Prop :=
  (∀ a, (k0_off1538 i v4535 v4538 v4775) a + S1x128.size a ≤ S8224x128.size a)
theorem k0_off1538_inb : ∀ (i : grid0.Coords) (v4535 : BitVec 32) (v4538 : BitVec 32) (v4775 : BitVec 32) (k0_hw768 : k0_chk768 i v4535 v4538 v4775), ∀ a, (k0_off1538 i v4535 v4538 v4775) a + S1x128.size a ≤ S8224x128.size a := fun i v4535 v4538 v4775 k0_hw768 => k0_hw768

def k0_off1539 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1835 : BitVec 32 := 512#32
  let v4786 : BitVec 32 := Scalar.muli v24 c512_i32_1835
  let arg1 : BitVec 32 := BitVec.ofNat 32 (i 1).val
  let c32_i32 : BitVec 32 := 32#32
  let v1452 : BitVec 32 := Scalar.muli arg1 c32_i32
  let v4787 : BitVec 32 := Scalar.addi v4786 v1452
  let c13_i32_1836 : BitVec 32 := 13#32
  let v4788 : BitVec 32 := Scalar.addi v4787 c13_i32_1836
  let v4789 : Index := Scalar.indexCast v4788
  ![v4789.toNat]
def k0_off1540 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1835 : BitVec 32 := 512#32
  let v4786 : BitVec 32 := Scalar.muli v24 c512_i32_1835
  let arg1 : BitVec 32 := BitVec.ofNat 32 (i 1).val
  let c32_i32 : BitVec 32 := 32#32
  let v1452 : BitVec 32 := Scalar.muli arg1 c32_i32
  let v4787 : BitVec 32 := Scalar.addi v4786 v1452
  let c13_i32_1836 : BitVec 32 := 13#32
  let v4788 : BitVec 32 := Scalar.addi v4787 c13_i32_1836
  let c1_i32_1837 : BitVec 32 := 1#32
  let v4791 : BitVec 32 := Scalar.addi v4788 c1_i32_1837
  let v4792 : Index := Scalar.indexCast v4791
  ![v4792.toNat]
def k0_off1541 (v4790 : BitVec 32) : Fin 1 → Nat :=
  let c0_i32_1840 : BitVec 32 := 0#32
  let v4801 : BitVec 32 := Scalar.addi v4790 c0_i32_1840
  let v4804 : Index := Scalar.indexCast v4801
  ![v4804.toNat]

def k0_off1542 (i : grid0.Coords) (v4790 : BitVec 32) (v4793 : BitVec 32) (v4805 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_1841 : BitVec 32 := 0#32
  let v4802 : BitVec 32 := Scalar.addi v4790 c0_i32_1841
  let v4803 : BitVec 1 := Scalar.cmpi .slt v4802 v4793
  let c65535_i32_1842 : BitVec 32 := 65535#32
  let v4806 : BitVec 32 := Scalar.andi v4805 c65535_i32_1842
  let c2048_i32_1843 : BitVec 32 := 2048#32
  let v4807 : BitVec 32 := Scalar.select v4803 v4806 c2048_i32_1843
  let v4808 : BitVec 32 := Scalar.addi v1470 v4807
  let v4811 : Index := Scalar.indexCast v4808
  let c0_1845 : Index := 0#32
  ![v4811.toNat, 0]

def k0_chk770 (i : grid0.Coords) (v4790 : BitVec 32) (v4793 : BitVec 32) (v4805 : BitVec 32) : Prop :=
  (∀ a, (k0_off1542 i v4790 v4793 v4805) a + S1x128.size a ≤ S8224x128.size a)
theorem k0_off1542_inb : ∀ (i : grid0.Coords) (v4790 : BitVec 32) (v4793 : BitVec 32) (v4805 : BitVec 32) (k0_hw770 : k0_chk770 i v4790 v4793 v4805), ∀ a, (k0_off1542 i v4790 v4793 v4805) a + S1x128.size a ≤ S8224x128.size a := fun i v4790 v4793 v4805 k0_hw770 => k0_hw770

def k0_off1543 (v4790 : BitVec 32) : Fin 1 → Nat :=
  let c1_i32_1846 : BitVec 32 := 1#32
  let v4816 : BitVec 32 := Scalar.addi v4790 c1_i32_1846
  let v4819 : Index := Scalar.indexCast v4816
  ![v4819.toNat]
def k0_off1544 (i : grid0.Coords) (v4790 : BitVec 32) (v4793 : BitVec 32) (v4820 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_1847 : BitVec 32 := 1#32
  let v4817 : BitVec 32 := Scalar.addi v4790 c1_i32_1847
  let v4818 : BitVec 1 := Scalar.cmpi .slt v4817 v4793
  let c65535_i32_1848 : BitVec 32 := 65535#32
  let v4821 : BitVec 32 := Scalar.andi v4820 c65535_i32_1848
  let c2048_i32_1849 : BitVec 32 := 2048#32
  let v4822 : BitVec 32 := Scalar.select v4818 v4821 c2048_i32_1849
  let v4823 : BitVec 32 := Scalar.addi v1470 v4822
  let v4826 : Index := Scalar.indexCast v4823
  let c0_1851 : Index := 0#32
  ![v4826.toNat, 0]

def k0_chk771 (i : grid0.Coords) (v4790 : BitVec 32) (v4793 : BitVec 32) (v4820 : BitVec 32) : Prop :=
  (∀ a, (k0_off1544 i v4790 v4793 v4820) a + S1x128.size a ≤ S8224x128.size a)
theorem k0_off1544_inb : ∀ (i : grid0.Coords) (v4790 : BitVec 32) (v4793 : BitVec 32) (v4820 : BitVec 32) (k0_hw771 : k0_chk771 i v4790 v4793 v4820), ∀ a, (k0_off1544 i v4790 v4793 v4820) a + S1x128.size a ≤ S8224x128.size a := fun i v4790 v4793 v4820 k0_hw771 => k0_hw771

def k0_off1545 (v4790 : BitVec 32) : Fin 1 → Nat :=
  let c2_i32_1852 : BitVec 32 := 2#32
  let v4831 : BitVec 32 := Scalar.addi v4790 c2_i32_1852
  let v4834 : Index := Scalar.indexCast v4831
  ![v4834.toNat]
def k0_off1546 (i : grid0.Coords) (v4790 : BitVec 32) (v4793 : BitVec 32) (v4835 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_1853 : BitVec 32 := 2#32
  let v4832 : BitVec 32 := Scalar.addi v4790 c2_i32_1853
  let v4833 : BitVec 1 := Scalar.cmpi .slt v4832 v4793
  let c65535_i32_1854 : BitVec 32 := 65535#32
  let v4836 : BitVec 32 := Scalar.andi v4835 c65535_i32_1854
  let c2048_i32_1855 : BitVec 32 := 2048#32
  let v4837 : BitVec 32 := Scalar.select v4833 v4836 c2048_i32_1855
  let v4838 : BitVec 32 := Scalar.addi v1470 v4837
  let v4841 : Index := Scalar.indexCast v4838
  let c0_1857 : Index := 0#32
  ![v4841.toNat, 0]

def k0_chk772 (i : grid0.Coords) (v4790 : BitVec 32) (v4793 : BitVec 32) (v4835 : BitVec 32) : Prop :=
  (∀ a, (k0_off1546 i v4790 v4793 v4835) a + S1x128.size a ≤ S8224x128.size a)
theorem k0_off1546_inb : ∀ (i : grid0.Coords) (v4790 : BitVec 32) (v4793 : BitVec 32) (v4835 : BitVec 32) (k0_hw772 : k0_chk772 i v4790 v4793 v4835), ∀ a, (k0_off1546 i v4790 v4793 v4835) a + S1x128.size a ≤ S8224x128.size a := fun i v4790 v4793 v4835 k0_hw772 => k0_hw772

def k0_off1547 (v4790 : BitVec 32) : Fin 1 → Nat :=
  let c3_i32_1858 : BitVec 32 := 3#32
  let v4846 : BitVec 32 := Scalar.addi v4790 c3_i32_1858
  let v4849 : Index := Scalar.indexCast v4846
  ![v4849.toNat]
def k0_off1548 (i : grid0.Coords) (v4790 : BitVec 32) (v4793 : BitVec 32) (v4850 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_1859 : BitVec 32 := 3#32
  let v4847 : BitVec 32 := Scalar.addi v4790 c3_i32_1859
  let v4848 : BitVec 1 := Scalar.cmpi .slt v4847 v4793
  let c65535_i32_1860 : BitVec 32 := 65535#32
  let v4851 : BitVec 32 := Scalar.andi v4850 c65535_i32_1860
  let c2048_i32_1861 : BitVec 32 := 2048#32
  let v4852 : BitVec 32 := Scalar.select v4848 v4851 c2048_i32_1861
  let v4853 : BitVec 32 := Scalar.addi v1470 v4852
  let v4856 : Index := Scalar.indexCast v4853
  let c0_1863 : Index := 0#32
  ![v4856.toNat, 0]

def k0_chk773 (i : grid0.Coords) (v4790 : BitVec 32) (v4793 : BitVec 32) (v4850 : BitVec 32) : Prop :=
  (∀ a, (k0_off1548 i v4790 v4793 v4850) a + S1x128.size a ≤ S8224x128.size a)
theorem k0_off1548_inb : ∀ (i : grid0.Coords) (v4790 : BitVec 32) (v4793 : BitVec 32) (v4850 : BitVec 32) (k0_hw773 : k0_chk773 i v4790 v4793 v4850), ∀ a, (k0_off1548 i v4790 v4793 v4850) a + S1x128.size a ≤ S8224x128.size a := fun i v4790 v4793 v4850 k0_hw773 => k0_hw773

def k0_off1549 (v4790 : BitVec 32) : Fin 1 → Nat :=
  let c4_i32_1864 : BitVec 32 := 4#32
  let v4861 : BitVec 32 := Scalar.addi v4790 c4_i32_1864
  let v4864 : Index := Scalar.indexCast v4861
  ![v4864.toNat]
def k0_off1550 (i : grid0.Coords) (v4790 : BitVec 32) (v4793 : BitVec 32) (v4865 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_1865 : BitVec 32 := 4#32
  let v4862 : BitVec 32 := Scalar.addi v4790 c4_i32_1865
  let v4863 : BitVec 1 := Scalar.cmpi .slt v4862 v4793
  let c65535_i32_1866 : BitVec 32 := 65535#32
  let v4866 : BitVec 32 := Scalar.andi v4865 c65535_i32_1866
  let c2048_i32_1867 : BitVec 32 := 2048#32
  let v4867 : BitVec 32 := Scalar.select v4863 v4866 c2048_i32_1867
  let v4868 : BitVec 32 := Scalar.addi v1470 v4867
  let v4871 : Index := Scalar.indexCast v4868
  let c0_1869 : Index := 0#32
  ![v4871.toNat, 0]

def k0_chk774 (i : grid0.Coords) (v4790 : BitVec 32) (v4793 : BitVec 32) (v4865 : BitVec 32) : Prop :=
  (∀ a, (k0_off1550 i v4790 v4793 v4865) a + S1x128.size a ≤ S8224x128.size a)
theorem k0_off1550_inb : ∀ (i : grid0.Coords) (v4790 : BitVec 32) (v4793 : BitVec 32) (v4865 : BitVec 32) (k0_hw774 : k0_chk774 i v4790 v4793 v4865), ∀ a, (k0_off1550 i v4790 v4793 v4865) a + S1x128.size a ≤ S8224x128.size a := fun i v4790 v4793 v4865 k0_hw774 => k0_hw774

def k0_off1551 (v4790 : BitVec 32) : Fin 1 → Nat :=
  let c5_i32_1870 : BitVec 32 := 5#32
  let v4876 : BitVec 32 := Scalar.addi v4790 c5_i32_1870
  let v4879 : Index := Scalar.indexCast v4876
  ![v4879.toNat]
def k0_off1552 (i : grid0.Coords) (v4790 : BitVec 32) (v4793 : BitVec 32) (v4880 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_1871 : BitVec 32 := 5#32
  let v4877 : BitVec 32 := Scalar.addi v4790 c5_i32_1871
  let v4878 : BitVec 1 := Scalar.cmpi .slt v4877 v4793
  let c65535_i32_1872 : BitVec 32 := 65535#32
  let v4881 : BitVec 32 := Scalar.andi v4880 c65535_i32_1872
  let c2048_i32_1873 : BitVec 32 := 2048#32
  let v4882 : BitVec 32 := Scalar.select v4878 v4881 c2048_i32_1873
  let v4883 : BitVec 32 := Scalar.addi v1470 v4882
  let v4886 : Index := Scalar.indexCast v4883
  let c0_1875 : Index := 0#32
  ![v4886.toNat, 0]

def k0_chk775 (i : grid0.Coords) (v4790 : BitVec 32) (v4793 : BitVec 32) (v4880 : BitVec 32) : Prop :=
  (∀ a, (k0_off1552 i v4790 v4793 v4880) a + S1x128.size a ≤ S8224x128.size a)
theorem k0_off1552_inb : ∀ (i : grid0.Coords) (v4790 : BitVec 32) (v4793 : BitVec 32) (v4880 : BitVec 32) (k0_hw775 : k0_chk775 i v4790 v4793 v4880), ∀ a, (k0_off1552 i v4790 v4793 v4880) a + S1x128.size a ≤ S8224x128.size a := fun i v4790 v4793 v4880 k0_hw775 => k0_hw775

def k0_off1553 (v4790 : BitVec 32) : Fin 1 → Nat :=
  let c6_i32_1876 : BitVec 32 := 6#32
  let v4891 : BitVec 32 := Scalar.addi v4790 c6_i32_1876
  let v4894 : Index := Scalar.indexCast v4891
  ![v4894.toNat]
def k0_off1554 (i : grid0.Coords) (v4790 : BitVec 32) (v4793 : BitVec 32) (v4895 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_1877 : BitVec 32 := 6#32
  let v4892 : BitVec 32 := Scalar.addi v4790 c6_i32_1877
  let v4893 : BitVec 1 := Scalar.cmpi .slt v4892 v4793
  let c65535_i32_1878 : BitVec 32 := 65535#32
  let v4896 : BitVec 32 := Scalar.andi v4895 c65535_i32_1878
  let c2048_i32_1879 : BitVec 32 := 2048#32
  let v4897 : BitVec 32 := Scalar.select v4893 v4896 c2048_i32_1879
  let v4898 : BitVec 32 := Scalar.addi v1470 v4897
  let v4901 : Index := Scalar.indexCast v4898
  let c0_1881 : Index := 0#32
  ![v4901.toNat, 0]

def k0_chk776 (i : grid0.Coords) (v4790 : BitVec 32) (v4793 : BitVec 32) (v4895 : BitVec 32) : Prop :=
  (∀ a, (k0_off1554 i v4790 v4793 v4895) a + S1x128.size a ≤ S8224x128.size a)
theorem k0_off1554_inb : ∀ (i : grid0.Coords) (v4790 : BitVec 32) (v4793 : BitVec 32) (v4895 : BitVec 32) (k0_hw776 : k0_chk776 i v4790 v4793 v4895), ∀ a, (k0_off1554 i v4790 v4793 v4895) a + S1x128.size a ≤ S8224x128.size a := fun i v4790 v4793 v4895 k0_hw776 => k0_hw776

def k0_off1555 (v4790 : BitVec 32) : Fin 1 → Nat :=
  let c7_i32_1882 : BitVec 32 := 7#32
  let v4906 : BitVec 32 := Scalar.addi v4790 c7_i32_1882
  let v4909 : Index := Scalar.indexCast v4906
  ![v4909.toNat]
def k0_off1556 (i : grid0.Coords) (v4790 : BitVec 32) (v4793 : BitVec 32) (v4910 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_1883 : BitVec 32 := 7#32
  let v4907 : BitVec 32 := Scalar.addi v4790 c7_i32_1883
  let v4908 : BitVec 1 := Scalar.cmpi .slt v4907 v4793
  let c65535_i32_1884 : BitVec 32 := 65535#32
  let v4911 : BitVec 32 := Scalar.andi v4910 c65535_i32_1884
  let c2048_i32_1885 : BitVec 32 := 2048#32
  let v4912 : BitVec 32 := Scalar.select v4908 v4911 c2048_i32_1885
  let v4913 : BitVec 32 := Scalar.addi v1470 v4912
  let v4916 : Index := Scalar.indexCast v4913
  let c0_1887 : Index := 0#32
  ![v4916.toNat, 0]

def k0_chk777 (i : grid0.Coords) (v4790 : BitVec 32) (v4793 : BitVec 32) (v4910 : BitVec 32) : Prop :=
  (∀ a, (k0_off1556 i v4790 v4793 v4910) a + S1x128.size a ≤ S8224x128.size a)
theorem k0_off1556_inb : ∀ (i : grid0.Coords) (v4790 : BitVec 32) (v4793 : BitVec 32) (v4910 : BitVec 32) (k0_hw777 : k0_chk777 i v4790 v4793 v4910), ∀ a, (k0_off1556 i v4790 v4793 v4910) a + S1x128.size a ≤ S8224x128.size a := fun i v4790 v4793 v4910 k0_hw777 => k0_hw777

def k0_off1557 (v4790 : BitVec 32) : Fin 1 → Nat :=
  let c8_i32_1888 : BitVec 32 := 8#32
  let v4921 : BitVec 32 := Scalar.addi v4790 c8_i32_1888
  let v4924 : Index := Scalar.indexCast v4921
  ![v4924.toNat]
def k0_off1558 (i : grid0.Coords) (v4790 : BitVec 32) (v4793 : BitVec 32) (v4925 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_1889 : BitVec 32 := 8#32
  let v4922 : BitVec 32 := Scalar.addi v4790 c8_i32_1889
  let v4923 : BitVec 1 := Scalar.cmpi .slt v4922 v4793
  let c65535_i32_1890 : BitVec 32 := 65535#32
  let v4926 : BitVec 32 := Scalar.andi v4925 c65535_i32_1890
  let c2048_i32_1891 : BitVec 32 := 2048#32
  let v4927 : BitVec 32 := Scalar.select v4923 v4926 c2048_i32_1891
  let v4928 : BitVec 32 := Scalar.addi v1470 v4927
  let v4931 : Index := Scalar.indexCast v4928
  let c0_1893 : Index := 0#32
  ![v4931.toNat, 0]

def k0_chk778 (i : grid0.Coords) (v4790 : BitVec 32) (v4793 : BitVec 32) (v4925 : BitVec 32) : Prop :=
  (∀ a, (k0_off1558 i v4790 v4793 v4925) a + S1x128.size a ≤ S8224x128.size a)
theorem k0_off1558_inb : ∀ (i : grid0.Coords) (v4790 : BitVec 32) (v4793 : BitVec 32) (v4925 : BitVec 32) (k0_hw778 : k0_chk778 i v4790 v4793 v4925), ∀ a, (k0_off1558 i v4790 v4793 v4925) a + S1x128.size a ≤ S8224x128.size a := fun i v4790 v4793 v4925 k0_hw778 => k0_hw778

def k0_off1559 (v4790 : BitVec 32) : Fin 1 → Nat :=
  let c9_i32_1894 : BitVec 32 := 9#32
  let v4936 : BitVec 32 := Scalar.addi v4790 c9_i32_1894
  let v4939 : Index := Scalar.indexCast v4936
  ![v4939.toNat]
def k0_off1560 (i : grid0.Coords) (v4790 : BitVec 32) (v4793 : BitVec 32) (v4940 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_1895 : BitVec 32 := 9#32
  let v4937 : BitVec 32 := Scalar.addi v4790 c9_i32_1895
  let v4938 : BitVec 1 := Scalar.cmpi .slt v4937 v4793
  let c65535_i32_1896 : BitVec 32 := 65535#32
  let v4941 : BitVec 32 := Scalar.andi v4940 c65535_i32_1896
  let c2048_i32_1897 : BitVec 32 := 2048#32
  let v4942 : BitVec 32 := Scalar.select v4938 v4941 c2048_i32_1897
  let v4943 : BitVec 32 := Scalar.addi v1470 v4942
  let v4946 : Index := Scalar.indexCast v4943
  let c0_1899 : Index := 0#32
  ![v4946.toNat, 0]

def k0_chk779 (i : grid0.Coords) (v4790 : BitVec 32) (v4793 : BitVec 32) (v4940 : BitVec 32) : Prop :=
  (∀ a, (k0_off1560 i v4790 v4793 v4940) a + S1x128.size a ≤ S8224x128.size a)
theorem k0_off1560_inb : ∀ (i : grid0.Coords) (v4790 : BitVec 32) (v4793 : BitVec 32) (v4940 : BitVec 32) (k0_hw779 : k0_chk779 i v4790 v4793 v4940), ∀ a, (k0_off1560 i v4790 v4793 v4940) a + S1x128.size a ≤ S8224x128.size a := fun i v4790 v4793 v4940 k0_hw779 => k0_hw779

def k0_off1561 (v4790 : BitVec 32) : Fin 1 → Nat :=
  let c10_i32_1900 : BitVec 32 := 10#32
  let v4951 : BitVec 32 := Scalar.addi v4790 c10_i32_1900
  let v4954 : Index := Scalar.indexCast v4951
  ![v4954.toNat]
def k0_off1562 (i : grid0.Coords) (v4790 : BitVec 32) (v4793 : BitVec 32) (v4955 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_1901 : BitVec 32 := 10#32
  let v4952 : BitVec 32 := Scalar.addi v4790 c10_i32_1901
  let v4953 : BitVec 1 := Scalar.cmpi .slt v4952 v4793
  let c65535_i32_1902 : BitVec 32 := 65535#32
  let v4956 : BitVec 32 := Scalar.andi v4955 c65535_i32_1902
  let c2048_i32_1903 : BitVec 32 := 2048#32
  let v4957 : BitVec 32 := Scalar.select v4953 v4956 c2048_i32_1903
  let v4958 : BitVec 32 := Scalar.addi v1470 v4957
  let v4961 : Index := Scalar.indexCast v4958
  let c0_1905 : Index := 0#32
  ![v4961.toNat, 0]

def k0_chk780 (i : grid0.Coords) (v4790 : BitVec 32) (v4793 : BitVec 32) (v4955 : BitVec 32) : Prop :=
  (∀ a, (k0_off1562 i v4790 v4793 v4955) a + S1x128.size a ≤ S8224x128.size a)
theorem k0_off1562_inb : ∀ (i : grid0.Coords) (v4790 : BitVec 32) (v4793 : BitVec 32) (v4955 : BitVec 32) (k0_hw780 : k0_chk780 i v4790 v4793 v4955), ∀ a, (k0_off1562 i v4790 v4793 v4955) a + S1x128.size a ≤ S8224x128.size a := fun i v4790 v4793 v4955 k0_hw780 => k0_hw780

def k0_off1563 (v4790 : BitVec 32) : Fin 1 → Nat :=
  let c11_i32_1906 : BitVec 32 := 11#32
  let v4966 : BitVec 32 := Scalar.addi v4790 c11_i32_1906
  let v4969 : Index := Scalar.indexCast v4966
  ![v4969.toNat]
def k0_off1564 (i : grid0.Coords) (v4790 : BitVec 32) (v4793 : BitVec 32) (v4970 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_1907 : BitVec 32 := 11#32
  let v4967 : BitVec 32 := Scalar.addi v4790 c11_i32_1907
  let v4968 : BitVec 1 := Scalar.cmpi .slt v4967 v4793
  let c65535_i32_1908 : BitVec 32 := 65535#32
  let v4971 : BitVec 32 := Scalar.andi v4970 c65535_i32_1908
  let c2048_i32_1909 : BitVec 32 := 2048#32
  let v4972 : BitVec 32 := Scalar.select v4968 v4971 c2048_i32_1909
  let v4973 : BitVec 32 := Scalar.addi v1470 v4972
  let v4976 : Index := Scalar.indexCast v4973
  let c0_1911 : Index := 0#32
  ![v4976.toNat, 0]

def k0_chk781 (i : grid0.Coords) (v4790 : BitVec 32) (v4793 : BitVec 32) (v4970 : BitVec 32) : Prop :=
  (∀ a, (k0_off1564 i v4790 v4793 v4970) a + S1x128.size a ≤ S8224x128.size a)
theorem k0_off1564_inb : ∀ (i : grid0.Coords) (v4790 : BitVec 32) (v4793 : BitVec 32) (v4970 : BitVec 32) (k0_hw781 : k0_chk781 i v4790 v4793 v4970), ∀ a, (k0_off1564 i v4790 v4793 v4970) a + S1x128.size a ≤ S8224x128.size a := fun i v4790 v4793 v4970 k0_hw781 => k0_hw781

def k0_off1565 (v4790 : BitVec 32) : Fin 1 → Nat :=
  let c12_i32_1912 : BitVec 32 := 12#32
  let v4981 : BitVec 32 := Scalar.addi v4790 c12_i32_1912
  let v4984 : Index := Scalar.indexCast v4981
  ![v4984.toNat]
def k0_off1566 (i : grid0.Coords) (v4790 : BitVec 32) (v4793 : BitVec 32) (v4985 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_1913 : BitVec 32 := 12#32
  let v4982 : BitVec 32 := Scalar.addi v4790 c12_i32_1913
  let v4983 : BitVec 1 := Scalar.cmpi .slt v4982 v4793
  let c65535_i32_1914 : BitVec 32 := 65535#32
  let v4986 : BitVec 32 := Scalar.andi v4985 c65535_i32_1914
  let c2048_i32_1915 : BitVec 32 := 2048#32
  let v4987 : BitVec 32 := Scalar.select v4983 v4986 c2048_i32_1915
  let v4988 : BitVec 32 := Scalar.addi v1470 v4987
  let v4991 : Index := Scalar.indexCast v4988
  let c0_1917 : Index := 0#32
  ![v4991.toNat, 0]

def k0_chk782 (i : grid0.Coords) (v4790 : BitVec 32) (v4793 : BitVec 32) (v4985 : BitVec 32) : Prop :=
  (∀ a, (k0_off1566 i v4790 v4793 v4985) a + S1x128.size a ≤ S8224x128.size a)
theorem k0_off1566_inb : ∀ (i : grid0.Coords) (v4790 : BitVec 32) (v4793 : BitVec 32) (v4985 : BitVec 32) (k0_hw782 : k0_chk782 i v4790 v4793 v4985), ∀ a, (k0_off1566 i v4790 v4793 v4985) a + S1x128.size a ≤ S8224x128.size a := fun i v4790 v4793 v4985 k0_hw782 => k0_hw782

def k0_off1567 (v4790 : BitVec 32) : Fin 1 → Nat :=
  let c13_i32_1918 : BitVec 32 := 13#32
  let v4996 : BitVec 32 := Scalar.addi v4790 c13_i32_1918
  let v4999 : Index := Scalar.indexCast v4996
  ![v4999.toNat]
def k0_off1568 (i : grid0.Coords) (v4790 : BitVec 32) (v4793 : BitVec 32) (v5000 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_1919 : BitVec 32 := 13#32
  let v4997 : BitVec 32 := Scalar.addi v4790 c13_i32_1919
  let v4998 : BitVec 1 := Scalar.cmpi .slt v4997 v4793
  let c65535_i32_1920 : BitVec 32 := 65535#32
  let v5001 : BitVec 32 := Scalar.andi v5000 c65535_i32_1920
  let c2048_i32_1921 : BitVec 32 := 2048#32
  let v5002 : BitVec 32 := Scalar.select v4998 v5001 c2048_i32_1921
  let v5003 : BitVec 32 := Scalar.addi v1470 v5002
  let v5006 : Index := Scalar.indexCast v5003
  let c0_1923 : Index := 0#32
  ![v5006.toNat, 0]

def k0_chk783 (i : grid0.Coords) (v4790 : BitVec 32) (v4793 : BitVec 32) (v5000 : BitVec 32) : Prop :=
  (∀ a, (k0_off1568 i v4790 v4793 v5000) a + S1x128.size a ≤ S8224x128.size a)
theorem k0_off1568_inb : ∀ (i : grid0.Coords) (v4790 : BitVec 32) (v4793 : BitVec 32) (v5000 : BitVec 32) (k0_hw783 : k0_chk783 i v4790 v4793 v5000), ∀ a, (k0_off1568 i v4790 v4793 v5000) a + S1x128.size a ≤ S8224x128.size a := fun i v4790 v4793 v5000 k0_hw783 => k0_hw783

def k0_off1569 (v4790 : BitVec 32) : Fin 1 → Nat :=
  let c14_i32_1924 : BitVec 32 := 14#32
  let v5011 : BitVec 32 := Scalar.addi v4790 c14_i32_1924
  let v5014 : Index := Scalar.indexCast v5011
  ![v5014.toNat]
def k0_off1570 (i : grid0.Coords) (v4790 : BitVec 32) (v4793 : BitVec 32) (v5015 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_1925 : BitVec 32 := 14#32
  let v5012 : BitVec 32 := Scalar.addi v4790 c14_i32_1925
  let v5013 : BitVec 1 := Scalar.cmpi .slt v5012 v4793
  let c65535_i32_1926 : BitVec 32 := 65535#32
  let v5016 : BitVec 32 := Scalar.andi v5015 c65535_i32_1926
  let c2048_i32_1927 : BitVec 32 := 2048#32
  let v5017 : BitVec 32 := Scalar.select v5013 v5016 c2048_i32_1927
  let v5018 : BitVec 32 := Scalar.addi v1470 v5017
  let v5021 : Index := Scalar.indexCast v5018
  let c0_1929 : Index := 0#32
  ![v5021.toNat, 0]

def k0_chk784 (i : grid0.Coords) (v4790 : BitVec 32) (v4793 : BitVec 32) (v5015 : BitVec 32) : Prop :=
  (∀ a, (k0_off1570 i v4790 v4793 v5015) a + S1x128.size a ≤ S8224x128.size a)
theorem k0_off1570_inb : ∀ (i : grid0.Coords) (v4790 : BitVec 32) (v4793 : BitVec 32) (v5015 : BitVec 32) (k0_hw784 : k0_chk784 i v4790 v4793 v5015), ∀ a, (k0_off1570 i v4790 v4793 v5015) a + S1x128.size a ≤ S8224x128.size a := fun i v4790 v4793 v5015 k0_hw784 => k0_hw784

def k0_off1571 (v4790 : BitVec 32) : Fin 1 → Nat :=
  let c15_i32_1930 : BitVec 32 := 15#32
  let v5026 : BitVec 32 := Scalar.addi v4790 c15_i32_1930
  let v5029 : Index := Scalar.indexCast v5026
  ![v5029.toNat]

def k0_chk769 (v4790 : BitVec 32) : Prop :=
  (∀ a, (k0_off1541 v4790) a + S1.size a ≤ S51920.size a) ∧
  (∀ a, (k0_off1543 v4790) a + S1.size a ≤ S51920.size a) ∧
  (∀ a, (k0_off1545 v4790) a + S1.size a ≤ S51920.size a) ∧
  (∀ a, (k0_off1547 v4790) a + S1.size a ≤ S51920.size a) ∧
  (∀ a, (k0_off1549 v4790) a + S1.size a ≤ S51920.size a) ∧
  (∀ a, (k0_off1551 v4790) a + S1.size a ≤ S51920.size a) ∧
  (∀ a, (k0_off1553 v4790) a + S1.size a ≤ S51920.size a) ∧
  (∀ a, (k0_off1555 v4790) a + S1.size a ≤ S51920.size a) ∧
  (∀ a, (k0_off1557 v4790) a + S1.size a ≤ S51920.size a) ∧
  (∀ a, (k0_off1559 v4790) a + S1.size a ≤ S51920.size a) ∧
  (∀ a, (k0_off1561 v4790) a + S1.size a ≤ S51920.size a) ∧
  (∀ a, (k0_off1563 v4790) a + S1.size a ≤ S51920.size a) ∧
  (∀ a, (k0_off1565 v4790) a + S1.size a ≤ S51920.size a) ∧
  (∀ a, (k0_off1567 v4790) a + S1.size a ≤ S51920.size a) ∧
  (∀ a, (k0_off1569 v4790) a + S1.size a ≤ S51920.size a) ∧
  (∀ a, (k0_off1571 v4790) a + S1.size a ≤ S51920.size a)
theorem k0_off1541_inb : ∀ (v4790 : BitVec 32) (k0_hw769 : k0_chk769 v4790), ∀ a, (k0_off1541 v4790) a + S1.size a ≤ S51920.size a := fun v4790 k0_hw769 => k0_hw769.1
theorem k0_off1543_inb : ∀ (v4790 : BitVec 32) (k0_hw769 : k0_chk769 v4790), ∀ a, (k0_off1543 v4790) a + S1.size a ≤ S51920.size a := fun v4790 k0_hw769 => k0_hw769.2.1
theorem k0_off1545_inb : ∀ (v4790 : BitVec 32) (k0_hw769 : k0_chk769 v4790), ∀ a, (k0_off1545 v4790) a + S1.size a ≤ S51920.size a := fun v4790 k0_hw769 => k0_hw769.2.2.1
theorem k0_off1547_inb : ∀ (v4790 : BitVec 32) (k0_hw769 : k0_chk769 v4790), ∀ a, (k0_off1547 v4790) a + S1.size a ≤ S51920.size a := fun v4790 k0_hw769 => k0_hw769.2.2.2.1
theorem k0_off1549_inb : ∀ (v4790 : BitVec 32) (k0_hw769 : k0_chk769 v4790), ∀ a, (k0_off1549 v4790) a + S1.size a ≤ S51920.size a := fun v4790 k0_hw769 => k0_hw769.2.2.2.2.1
theorem k0_off1551_inb : ∀ (v4790 : BitVec 32) (k0_hw769 : k0_chk769 v4790), ∀ a, (k0_off1551 v4790) a + S1.size a ≤ S51920.size a := fun v4790 k0_hw769 => k0_hw769.2.2.2.2.2.1
theorem k0_off1553_inb : ∀ (v4790 : BitVec 32) (k0_hw769 : k0_chk769 v4790), ∀ a, (k0_off1553 v4790) a + S1.size a ≤ S51920.size a := fun v4790 k0_hw769 => k0_hw769.2.2.2.2.2.2.1
theorem k0_off1555_inb : ∀ (v4790 : BitVec 32) (k0_hw769 : k0_chk769 v4790), ∀ a, (k0_off1555 v4790) a + S1.size a ≤ S51920.size a := fun v4790 k0_hw769 => k0_hw769.2.2.2.2.2.2.2.1
theorem k0_off1557_inb : ∀ (v4790 : BitVec 32) (k0_hw769 : k0_chk769 v4790), ∀ a, (k0_off1557 v4790) a + S1.size a ≤ S51920.size a := fun v4790 k0_hw769 => k0_hw769.2.2.2.2.2.2.2.2.1
theorem k0_off1559_inb : ∀ (v4790 : BitVec 32) (k0_hw769 : k0_chk769 v4790), ∀ a, (k0_off1559 v4790) a + S1.size a ≤ S51920.size a := fun v4790 k0_hw769 => k0_hw769.2.2.2.2.2.2.2.2.2.1
theorem k0_off1561_inb : ∀ (v4790 : BitVec 32) (k0_hw769 : k0_chk769 v4790), ∀ a, (k0_off1561 v4790) a + S1.size a ≤ S51920.size a := fun v4790 k0_hw769 => k0_hw769.2.2.2.2.2.2.2.2.2.2.1
theorem k0_off1563_inb : ∀ (v4790 : BitVec 32) (k0_hw769 : k0_chk769 v4790), ∀ a, (k0_off1563 v4790) a + S1.size a ≤ S51920.size a := fun v4790 k0_hw769 => k0_hw769.2.2.2.2.2.2.2.2.2.2.2.1
theorem k0_off1565_inb : ∀ (v4790 : BitVec 32) (k0_hw769 : k0_chk769 v4790), ∀ a, (k0_off1565 v4790) a + S1.size a ≤ S51920.size a := fun v4790 k0_hw769 => k0_hw769.2.2.2.2.2.2.2.2.2.2.2.2.1
theorem k0_off1567_inb : ∀ (v4790 : BitVec 32) (k0_hw769 : k0_chk769 v4790), ∀ a, (k0_off1567 v4790) a + S1.size a ≤ S51920.size a := fun v4790 k0_hw769 => k0_hw769.2.2.2.2.2.2.2.2.2.2.2.2.2.1
theorem k0_off1569_inb : ∀ (v4790 : BitVec 32) (k0_hw769 : k0_chk769 v4790), ∀ a, (k0_off1569 v4790) a + S1.size a ≤ S51920.size a := fun v4790 k0_hw769 => k0_hw769.2.2.2.2.2.2.2.2.2.2.2.2.2.2.1
theorem k0_off1571_inb : ∀ (v4790 : BitVec 32) (k0_hw769 : k0_chk769 v4790), ∀ a, (k0_off1571 v4790) a + S1.size a ≤ S51920.size a := fun v4790 k0_hw769 => k0_hw769.2.2.2.2.2.2.2.2.2.2.2.2.2.2.2

def k0_off1572 (i : grid0.Coords) (v4790 : BitVec 32) (v4793 : BitVec 32) (v5030 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_1931 : BitVec 32 := 15#32
  let v5027 : BitVec 32 := Scalar.addi v4790 c15_i32_1931
  let v5028 : BitVec 1 := Scalar.cmpi .slt v5027 v4793
  let c65535_i32_1932 : BitVec 32 := 65535#32
  let v5031 : BitVec 32 := Scalar.andi v5030 c65535_i32_1932
  let c2048_i32_1933 : BitVec 32 := 2048#32
  let v5032 : BitVec 32 := Scalar.select v5028 v5031 c2048_i32_1933
  let v5033 : BitVec 32 := Scalar.addi v1470 v5032
  let v5036 : Index := Scalar.indexCast v5033
  let c0_1935 : Index := 0#32
  ![v5036.toNat, 0]

def k0_chk785 (i : grid0.Coords) (v4790 : BitVec 32) (v4793 : BitVec 32) (v5030 : BitVec 32) : Prop :=
  (∀ a, (k0_off1572 i v4790 v4793 v5030) a + S1x128.size a ≤ S8224x128.size a)
theorem k0_off1572_inb : ∀ (i : grid0.Coords) (v4790 : BitVec 32) (v4793 : BitVec 32) (v5030 : BitVec 32) (k0_hw785 : k0_chk785 i v4790 v4793 v5030), ∀ a, (k0_off1572 i v4790 v4793 v5030) a + S1x128.size a ≤ S8224x128.size a := fun i v4790 v4793 v5030 k0_hw785 => k0_hw785

def k0_off1573 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1936 : BitVec 32 := 512#32
  let v5041 : BitVec 32 := Scalar.muli v24 c512_i32_1936
  let arg1 : BitVec 32 := BitVec.ofNat 32 (i 1).val
  let c32_i32 : BitVec 32 := 32#32
  let v1452 : BitVec 32 := Scalar.muli arg1 c32_i32
  let v5042 : BitVec 32 := Scalar.addi v5041 v1452
  let c14_i32_1937 : BitVec 32 := 14#32
  let v5043 : BitVec 32 := Scalar.addi v5042 c14_i32_1937
  let v5044 : Index := Scalar.indexCast v5043
  ![v5044.toNat]
def k0_off1574 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_1936 : BitVec 32 := 512#32
  let v5041 : BitVec 32 := Scalar.muli v24 c512_i32_1936
  let arg1 : BitVec 32 := BitVec.ofNat 32 (i 1).val
  let c32_i32 : BitVec 32 := 32#32
  let v1452 : BitVec 32 := Scalar.muli arg1 c32_i32
  let v5042 : BitVec 32 := Scalar.addi v5041 v1452
  let c14_i32_1937 : BitVec 32 := 14#32
  let v5043 : BitVec 32 := Scalar.addi v5042 c14_i32_1937
  let c1_i32_1938 : BitVec 32 := 1#32
  let v5046 : BitVec 32 := Scalar.addi v5043 c1_i32_1938
  let v5047 : Index := Scalar.indexCast v5046
  ![v5047.toNat]
def k0_off1575 (v5045 : BitVec 32) : Fin 1 → Nat :=
  let c0_i32_1941 : BitVec 32 := 0#32
  let v5056 : BitVec 32 := Scalar.addi v5045 c0_i32_1941
  let v5059 : Index := Scalar.indexCast v5056
  ![v5059.toNat]

def k0_off1576 (i : grid0.Coords) (v5045 : BitVec 32) (v5048 : BitVec 32) (v5060 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_1942 : BitVec 32 := 0#32
  let v5057 : BitVec 32 := Scalar.addi v5045 c0_i32_1942
  let v5058 : BitVec 1 := Scalar.cmpi .slt v5057 v5048
  let c65535_i32_1943 : BitVec 32 := 65535#32
  let v5061 : BitVec 32 := Scalar.andi v5060 c65535_i32_1943
  let c2048_i32_1944 : BitVec 32 := 2048#32
  let v5062 : BitVec 32 := Scalar.select v5058 v5061 c2048_i32_1944
  let v5063 : BitVec 32 := Scalar.addi v1470 v5062
  let v5066 : Index := Scalar.indexCast v5063
  let c0_1946 : Index := 0#32
  ![v5066.toNat, 0]

def k0_chk787 (i : grid0.Coords) (v5045 : BitVec 32) (v5048 : BitVec 32) (v5060 : BitVec 32) : Prop :=
  (∀ a, (k0_off1576 i v5045 v5048 v5060) a + S1x128.size a ≤ S8224x128.size a)
theorem k0_off1576_inb : ∀ (i : grid0.Coords) (v5045 : BitVec 32) (v5048 : BitVec 32) (v5060 : BitVec 32) (k0_hw787 : k0_chk787 i v5045 v5048 v5060), ∀ a, (k0_off1576 i v5045 v5048 v5060) a + S1x128.size a ≤ S8224x128.size a := fun i v5045 v5048 v5060 k0_hw787 => k0_hw787

def k0_off1577 (v5045 : BitVec 32) : Fin 1 → Nat :=
  let c1_i32_1947 : BitVec 32 := 1#32
  let v5071 : BitVec 32 := Scalar.addi v5045 c1_i32_1947
  let v5074 : Index := Scalar.indexCast v5071
  ![v5074.toNat]
def k0_off1578 (i : grid0.Coords) (v5045 : BitVec 32) (v5048 : BitVec 32) (v5075 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_1948 : BitVec 32 := 1#32
  let v5072 : BitVec 32 := Scalar.addi v5045 c1_i32_1948
  let v5073 : BitVec 1 := Scalar.cmpi .slt v5072 v5048
  let c65535_i32_1949 : BitVec 32 := 65535#32
  let v5076 : BitVec 32 := Scalar.andi v5075 c65535_i32_1949
  let c2048_i32_1950 : BitVec 32 := 2048#32
  let v5077 : BitVec 32 := Scalar.select v5073 v5076 c2048_i32_1950
  let v5078 : BitVec 32 := Scalar.addi v1470 v5077
  let v5081 : Index := Scalar.indexCast v5078
  let c0_1952 : Index := 0#32
  ![v5081.toNat, 0]

def k0_chk788 (i : grid0.Coords) (v5045 : BitVec 32) (v5048 : BitVec 32) (v5075 : BitVec 32) : Prop :=
  (∀ a, (k0_off1578 i v5045 v5048 v5075) a + S1x128.size a ≤ S8224x128.size a)
theorem k0_off1578_inb : ∀ (i : grid0.Coords) (v5045 : BitVec 32) (v5048 : BitVec 32) (v5075 : BitVec 32) (k0_hw788 : k0_chk788 i v5045 v5048 v5075), ∀ a, (k0_off1578 i v5045 v5048 v5075) a + S1x128.size a ≤ S8224x128.size a := fun i v5045 v5048 v5075 k0_hw788 => k0_hw788

def k0_off1579 (v5045 : BitVec 32) : Fin 1 → Nat :=
  let c2_i32_1953 : BitVec 32 := 2#32
  let v5086 : BitVec 32 := Scalar.addi v5045 c2_i32_1953
  let v5089 : Index := Scalar.indexCast v5086
  ![v5089.toNat]
def k0_off1580 (i : grid0.Coords) (v5045 : BitVec 32) (v5048 : BitVec 32) (v5090 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_1954 : BitVec 32 := 2#32
  let v5087 : BitVec 32 := Scalar.addi v5045 c2_i32_1954
  let v5088 : BitVec 1 := Scalar.cmpi .slt v5087 v5048
  let c65535_i32_1955 : BitVec 32 := 65535#32
  let v5091 : BitVec 32 := Scalar.andi v5090 c65535_i32_1955
  let c2048_i32_1956 : BitVec 32 := 2048#32
  let v5092 : BitVec 32 := Scalar.select v5088 v5091 c2048_i32_1956
  let v5093 : BitVec 32 := Scalar.addi v1470 v5092
  let v5096 : Index := Scalar.indexCast v5093
  let c0_1958 : Index := 0#32
  ![v5096.toNat, 0]

def k0_chk789 (i : grid0.Coords) (v5045 : BitVec 32) (v5048 : BitVec 32) (v5090 : BitVec 32) : Prop :=
  (∀ a, (k0_off1580 i v5045 v5048 v5090) a + S1x128.size a ≤ S8224x128.size a)
theorem k0_off1580_inb : ∀ (i : grid0.Coords) (v5045 : BitVec 32) (v5048 : BitVec 32) (v5090 : BitVec 32) (k0_hw789 : k0_chk789 i v5045 v5048 v5090), ∀ a, (k0_off1580 i v5045 v5048 v5090) a + S1x128.size a ≤ S8224x128.size a := fun i v5045 v5048 v5090 k0_hw789 => k0_hw789

def k0_off1581 (v5045 : BitVec 32) : Fin 1 → Nat :=
  let c3_i32_1959 : BitVec 32 := 3#32
  let v5101 : BitVec 32 := Scalar.addi v5045 c3_i32_1959
  let v5104 : Index := Scalar.indexCast v5101
  ![v5104.toNat]
def k0_off1582 (i : grid0.Coords) (v5045 : BitVec 32) (v5048 : BitVec 32) (v5105 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_1960 : BitVec 32 := 3#32
  let v5102 : BitVec 32 := Scalar.addi v5045 c3_i32_1960
  let v5103 : BitVec 1 := Scalar.cmpi .slt v5102 v5048
  let c65535_i32_1961 : BitVec 32 := 65535#32
  let v5106 : BitVec 32 := Scalar.andi v5105 c65535_i32_1961
  let c2048_i32_1962 : BitVec 32 := 2048#32
  let v5107 : BitVec 32 := Scalar.select v5103 v5106 c2048_i32_1962
  let v5108 : BitVec 32 := Scalar.addi v1470 v5107
  let v5111 : Index := Scalar.indexCast v5108
  let c0_1964 : Index := 0#32
  ![v5111.toNat, 0]

def k0_chk790 (i : grid0.Coords) (v5045 : BitVec 32) (v5048 : BitVec 32) (v5105 : BitVec 32) : Prop :=
  (∀ a, (k0_off1582 i v5045 v5048 v5105) a + S1x128.size a ≤ S8224x128.size a)
theorem k0_off1582_inb : ∀ (i : grid0.Coords) (v5045 : BitVec 32) (v5048 : BitVec 32) (v5105 : BitVec 32) (k0_hw790 : k0_chk790 i v5045 v5048 v5105), ∀ a, (k0_off1582 i v5045 v5048 v5105) a + S1x128.size a ≤ S8224x128.size a := fun i v5045 v5048 v5105 k0_hw790 => k0_hw790

def k0_off1583 (v5045 : BitVec 32) : Fin 1 → Nat :=
  let c4_i32_1965 : BitVec 32 := 4#32
  let v5116 : BitVec 32 := Scalar.addi v5045 c4_i32_1965
  let v5119 : Index := Scalar.indexCast v5116
  ![v5119.toNat]
def k0_off1584 (i : grid0.Coords) (v5045 : BitVec 32) (v5048 : BitVec 32) (v5120 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_1966 : BitVec 32 := 4#32
  let v5117 : BitVec 32 := Scalar.addi v5045 c4_i32_1966
  let v5118 : BitVec 1 := Scalar.cmpi .slt v5117 v5048
  let c65535_i32_1967 : BitVec 32 := 65535#32
  let v5121 : BitVec 32 := Scalar.andi v5120 c65535_i32_1967
  let c2048_i32_1968 : BitVec 32 := 2048#32
  let v5122 : BitVec 32 := Scalar.select v5118 v5121 c2048_i32_1968
  let v5123 : BitVec 32 := Scalar.addi v1470 v5122
  let v5126 : Index := Scalar.indexCast v5123
  let c0_1970 : Index := 0#32
  ![v5126.toNat, 0]

def k0_chk791 (i : grid0.Coords) (v5045 : BitVec 32) (v5048 : BitVec 32) (v5120 : BitVec 32) : Prop :=
  (∀ a, (k0_off1584 i v5045 v5048 v5120) a + S1x128.size a ≤ S8224x128.size a)
theorem k0_off1584_inb : ∀ (i : grid0.Coords) (v5045 : BitVec 32) (v5048 : BitVec 32) (v5120 : BitVec 32) (k0_hw791 : k0_chk791 i v5045 v5048 v5120), ∀ a, (k0_off1584 i v5045 v5048 v5120) a + S1x128.size a ≤ S8224x128.size a := fun i v5045 v5048 v5120 k0_hw791 => k0_hw791

def k0_off1585 (v5045 : BitVec 32) : Fin 1 → Nat :=
  let c5_i32_1971 : BitVec 32 := 5#32
  let v5131 : BitVec 32 := Scalar.addi v5045 c5_i32_1971
  let v5134 : Index := Scalar.indexCast v5131
  ![v5134.toNat]
def k0_off1586 (i : grid0.Coords) (v5045 : BitVec 32) (v5048 : BitVec 32) (v5135 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_1972 : BitVec 32 := 5#32
  let v5132 : BitVec 32 := Scalar.addi v5045 c5_i32_1972
  let v5133 : BitVec 1 := Scalar.cmpi .slt v5132 v5048
  let c65535_i32_1973 : BitVec 32 := 65535#32
  let v5136 : BitVec 32 := Scalar.andi v5135 c65535_i32_1973
  let c2048_i32_1974 : BitVec 32 := 2048#32
  let v5137 : BitVec 32 := Scalar.select v5133 v5136 c2048_i32_1974
  let v5138 : BitVec 32 := Scalar.addi v1470 v5137
  let v5141 : Index := Scalar.indexCast v5138
  let c0_1976 : Index := 0#32
  ![v5141.toNat, 0]

def k0_chk792 (i : grid0.Coords) (v5045 : BitVec 32) (v5048 : BitVec 32) (v5135 : BitVec 32) : Prop :=
  (∀ a, (k0_off1586 i v5045 v5048 v5135) a + S1x128.size a ≤ S8224x128.size a)
theorem k0_off1586_inb : ∀ (i : grid0.Coords) (v5045 : BitVec 32) (v5048 : BitVec 32) (v5135 : BitVec 32) (k0_hw792 : k0_chk792 i v5045 v5048 v5135), ∀ a, (k0_off1586 i v5045 v5048 v5135) a + S1x128.size a ≤ S8224x128.size a := fun i v5045 v5048 v5135 k0_hw792 => k0_hw792

def k0_off1587 (v5045 : BitVec 32) : Fin 1 → Nat :=
  let c6_i32_1977 : BitVec 32 := 6#32
  let v5146 : BitVec 32 := Scalar.addi v5045 c6_i32_1977
  let v5149 : Index := Scalar.indexCast v5146
  ![v5149.toNat]
def k0_off1588 (i : grid0.Coords) (v5045 : BitVec 32) (v5048 : BitVec 32) (v5150 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_1978 : BitVec 32 := 6#32
  let v5147 : BitVec 32 := Scalar.addi v5045 c6_i32_1978
  let v5148 : BitVec 1 := Scalar.cmpi .slt v5147 v5048
  let c65535_i32_1979 : BitVec 32 := 65535#32
  let v5151 : BitVec 32 := Scalar.andi v5150 c65535_i32_1979
  let c2048_i32_1980 : BitVec 32 := 2048#32
  let v5152 : BitVec 32 := Scalar.select v5148 v5151 c2048_i32_1980
  let v5153 : BitVec 32 := Scalar.addi v1470 v5152
  let v5156 : Index := Scalar.indexCast v5153
  let c0_1982 : Index := 0#32
  ![v5156.toNat, 0]

def k0_chk793 (i : grid0.Coords) (v5045 : BitVec 32) (v5048 : BitVec 32) (v5150 : BitVec 32) : Prop :=
  (∀ a, (k0_off1588 i v5045 v5048 v5150) a + S1x128.size a ≤ S8224x128.size a)
theorem k0_off1588_inb : ∀ (i : grid0.Coords) (v5045 : BitVec 32) (v5048 : BitVec 32) (v5150 : BitVec 32) (k0_hw793 : k0_chk793 i v5045 v5048 v5150), ∀ a, (k0_off1588 i v5045 v5048 v5150) a + S1x128.size a ≤ S8224x128.size a := fun i v5045 v5048 v5150 k0_hw793 => k0_hw793

def k0_off1589 (v5045 : BitVec 32) : Fin 1 → Nat :=
  let c7_i32_1983 : BitVec 32 := 7#32
  let v5161 : BitVec 32 := Scalar.addi v5045 c7_i32_1983
  let v5164 : Index := Scalar.indexCast v5161
  ![v5164.toNat]
def k0_off1590 (i : grid0.Coords) (v5045 : BitVec 32) (v5048 : BitVec 32) (v5165 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_1984 : BitVec 32 := 7#32
  let v5162 : BitVec 32 := Scalar.addi v5045 c7_i32_1984
  let v5163 : BitVec 1 := Scalar.cmpi .slt v5162 v5048
  let c65535_i32_1985 : BitVec 32 := 65535#32
  let v5166 : BitVec 32 := Scalar.andi v5165 c65535_i32_1985
  let c2048_i32_1986 : BitVec 32 := 2048#32
  let v5167 : BitVec 32 := Scalar.select v5163 v5166 c2048_i32_1986
  let v5168 : BitVec 32 := Scalar.addi v1470 v5167
  let v5171 : Index := Scalar.indexCast v5168
  let c0_1988 : Index := 0#32
  ![v5171.toNat, 0]

def k0_chk794 (i : grid0.Coords) (v5045 : BitVec 32) (v5048 : BitVec 32) (v5165 : BitVec 32) : Prop :=
  (∀ a, (k0_off1590 i v5045 v5048 v5165) a + S1x128.size a ≤ S8224x128.size a)
theorem k0_off1590_inb : ∀ (i : grid0.Coords) (v5045 : BitVec 32) (v5048 : BitVec 32) (v5165 : BitVec 32) (k0_hw794 : k0_chk794 i v5045 v5048 v5165), ∀ a, (k0_off1590 i v5045 v5048 v5165) a + S1x128.size a ≤ S8224x128.size a := fun i v5045 v5048 v5165 k0_hw794 => k0_hw794

def k0_off1591 (v5045 : BitVec 32) : Fin 1 → Nat :=
  let c8_i32_1989 : BitVec 32 := 8#32
  let v5176 : BitVec 32 := Scalar.addi v5045 c8_i32_1989
  let v5179 : Index := Scalar.indexCast v5176
  ![v5179.toNat]
def k0_off1592 (i : grid0.Coords) (v5045 : BitVec 32) (v5048 : BitVec 32) (v5180 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_1990 : BitVec 32 := 8#32
  let v5177 : BitVec 32 := Scalar.addi v5045 c8_i32_1990
  let v5178 : BitVec 1 := Scalar.cmpi .slt v5177 v5048
  let c65535_i32_1991 : BitVec 32 := 65535#32
  let v5181 : BitVec 32 := Scalar.andi v5180 c65535_i32_1991
  let c2048_i32_1992 : BitVec 32 := 2048#32
  let v5182 : BitVec 32 := Scalar.select v5178 v5181 c2048_i32_1992
  let v5183 : BitVec 32 := Scalar.addi v1470 v5182
  let v5186 : Index := Scalar.indexCast v5183
  let c0_1994 : Index := 0#32
  ![v5186.toNat, 0]

def k0_chk795 (i : grid0.Coords) (v5045 : BitVec 32) (v5048 : BitVec 32) (v5180 : BitVec 32) : Prop :=
  (∀ a, (k0_off1592 i v5045 v5048 v5180) a + S1x128.size a ≤ S8224x128.size a)
theorem k0_off1592_inb : ∀ (i : grid0.Coords) (v5045 : BitVec 32) (v5048 : BitVec 32) (v5180 : BitVec 32) (k0_hw795 : k0_chk795 i v5045 v5048 v5180), ∀ a, (k0_off1592 i v5045 v5048 v5180) a + S1x128.size a ≤ S8224x128.size a := fun i v5045 v5048 v5180 k0_hw795 => k0_hw795

def k0_off1593 (v5045 : BitVec 32) : Fin 1 → Nat :=
  let c9_i32_1995 : BitVec 32 := 9#32
  let v5191 : BitVec 32 := Scalar.addi v5045 c9_i32_1995
  let v5194 : Index := Scalar.indexCast v5191
  ![v5194.toNat]
def k0_off1594 (i : grid0.Coords) (v5045 : BitVec 32) (v5048 : BitVec 32) (v5195 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_1996 : BitVec 32 := 9#32
  let v5192 : BitVec 32 := Scalar.addi v5045 c9_i32_1996
  let v5193 : BitVec 1 := Scalar.cmpi .slt v5192 v5048
  let c65535_i32_1997 : BitVec 32 := 65535#32
  let v5196 : BitVec 32 := Scalar.andi v5195 c65535_i32_1997
  let c2048_i32_1998 : BitVec 32 := 2048#32
  let v5197 : BitVec 32 := Scalar.select v5193 v5196 c2048_i32_1998
  let v5198 : BitVec 32 := Scalar.addi v1470 v5197
  let v5201 : Index := Scalar.indexCast v5198
  let c0_2000 : Index := 0#32
  ![v5201.toNat, 0]

def k0_chk796 (i : grid0.Coords) (v5045 : BitVec 32) (v5048 : BitVec 32) (v5195 : BitVec 32) : Prop :=
  (∀ a, (k0_off1594 i v5045 v5048 v5195) a + S1x128.size a ≤ S8224x128.size a)
theorem k0_off1594_inb : ∀ (i : grid0.Coords) (v5045 : BitVec 32) (v5048 : BitVec 32) (v5195 : BitVec 32) (k0_hw796 : k0_chk796 i v5045 v5048 v5195), ∀ a, (k0_off1594 i v5045 v5048 v5195) a + S1x128.size a ≤ S8224x128.size a := fun i v5045 v5048 v5195 k0_hw796 => k0_hw796

def k0_off1595 (v5045 : BitVec 32) : Fin 1 → Nat :=
  let c10_i32_2001 : BitVec 32 := 10#32
  let v5206 : BitVec 32 := Scalar.addi v5045 c10_i32_2001
  let v5209 : Index := Scalar.indexCast v5206
  ![v5209.toNat]
def k0_off1596 (i : grid0.Coords) (v5045 : BitVec 32) (v5048 : BitVec 32) (v5210 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_2002 : BitVec 32 := 10#32
  let v5207 : BitVec 32 := Scalar.addi v5045 c10_i32_2002
  let v5208 : BitVec 1 := Scalar.cmpi .slt v5207 v5048
  let c65535_i32_2003 : BitVec 32 := 65535#32
  let v5211 : BitVec 32 := Scalar.andi v5210 c65535_i32_2003
  let c2048_i32_2004 : BitVec 32 := 2048#32
  let v5212 : BitVec 32 := Scalar.select v5208 v5211 c2048_i32_2004
  let v5213 : BitVec 32 := Scalar.addi v1470 v5212
  let v5216 : Index := Scalar.indexCast v5213
  let c0_2006 : Index := 0#32
  ![v5216.toNat, 0]

def k0_chk797 (i : grid0.Coords) (v5045 : BitVec 32) (v5048 : BitVec 32) (v5210 : BitVec 32) : Prop :=
  (∀ a, (k0_off1596 i v5045 v5048 v5210) a + S1x128.size a ≤ S8224x128.size a)
theorem k0_off1596_inb : ∀ (i : grid0.Coords) (v5045 : BitVec 32) (v5048 : BitVec 32) (v5210 : BitVec 32) (k0_hw797 : k0_chk797 i v5045 v5048 v5210), ∀ a, (k0_off1596 i v5045 v5048 v5210) a + S1x128.size a ≤ S8224x128.size a := fun i v5045 v5048 v5210 k0_hw797 => k0_hw797

def k0_off1597 (v5045 : BitVec 32) : Fin 1 → Nat :=
  let c11_i32_2007 : BitVec 32 := 11#32
  let v5221 : BitVec 32 := Scalar.addi v5045 c11_i32_2007
  let v5224 : Index := Scalar.indexCast v5221
  ![v5224.toNat]
def k0_off1598 (i : grid0.Coords) (v5045 : BitVec 32) (v5048 : BitVec 32) (v5225 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_2008 : BitVec 32 := 11#32
  let v5222 : BitVec 32 := Scalar.addi v5045 c11_i32_2008
  let v5223 : BitVec 1 := Scalar.cmpi .slt v5222 v5048
  let c65535_i32_2009 : BitVec 32 := 65535#32
  let v5226 : BitVec 32 := Scalar.andi v5225 c65535_i32_2009
  let c2048_i32_2010 : BitVec 32 := 2048#32
  let v5227 : BitVec 32 := Scalar.select v5223 v5226 c2048_i32_2010
  let v5228 : BitVec 32 := Scalar.addi v1470 v5227
  let v5231 : Index := Scalar.indexCast v5228
  let c0_2012 : Index := 0#32
  ![v5231.toNat, 0]

def k0_chk798 (i : grid0.Coords) (v5045 : BitVec 32) (v5048 : BitVec 32) (v5225 : BitVec 32) : Prop :=
  (∀ a, (k0_off1598 i v5045 v5048 v5225) a + S1x128.size a ≤ S8224x128.size a)
theorem k0_off1598_inb : ∀ (i : grid0.Coords) (v5045 : BitVec 32) (v5048 : BitVec 32) (v5225 : BitVec 32) (k0_hw798 : k0_chk798 i v5045 v5048 v5225), ∀ a, (k0_off1598 i v5045 v5048 v5225) a + S1x128.size a ≤ S8224x128.size a := fun i v5045 v5048 v5225 k0_hw798 => k0_hw798

def k0_off1599 (v5045 : BitVec 32) : Fin 1 → Nat :=
  let c12_i32_2013 : BitVec 32 := 12#32
  let v5236 : BitVec 32 := Scalar.addi v5045 c12_i32_2013
  let v5239 : Index := Scalar.indexCast v5236
  ![v5239.toNat]
def k0_off1600 (i : grid0.Coords) (v5045 : BitVec 32) (v5048 : BitVec 32) (v5240 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_2014 : BitVec 32 := 12#32
  let v5237 : BitVec 32 := Scalar.addi v5045 c12_i32_2014
  let v5238 : BitVec 1 := Scalar.cmpi .slt v5237 v5048
  let c65535_i32_2015 : BitVec 32 := 65535#32
  let v5241 : BitVec 32 := Scalar.andi v5240 c65535_i32_2015
  let c2048_i32_2016 : BitVec 32 := 2048#32
  let v5242 : BitVec 32 := Scalar.select v5238 v5241 c2048_i32_2016
  let v5243 : BitVec 32 := Scalar.addi v1470 v5242
  let v5246 : Index := Scalar.indexCast v5243
  let c0_2018 : Index := 0#32
  ![v5246.toNat, 0]

def k0_chk799 (i : grid0.Coords) (v5045 : BitVec 32) (v5048 : BitVec 32) (v5240 : BitVec 32) : Prop :=
  (∀ a, (k0_off1600 i v5045 v5048 v5240) a + S1x128.size a ≤ S8224x128.size a)
theorem k0_off1600_inb : ∀ (i : grid0.Coords) (v5045 : BitVec 32) (v5048 : BitVec 32) (v5240 : BitVec 32) (k0_hw799 : k0_chk799 i v5045 v5048 v5240), ∀ a, (k0_off1600 i v5045 v5048 v5240) a + S1x128.size a ≤ S8224x128.size a := fun i v5045 v5048 v5240 k0_hw799 => k0_hw799

def k0_off1601 (v5045 : BitVec 32) : Fin 1 → Nat :=
  let c13_i32_2019 : BitVec 32 := 13#32
  let v5251 : BitVec 32 := Scalar.addi v5045 c13_i32_2019
  let v5254 : Index := Scalar.indexCast v5251
  ![v5254.toNat]
def k0_off1602 (i : grid0.Coords) (v5045 : BitVec 32) (v5048 : BitVec 32) (v5255 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_2020 : BitVec 32 := 13#32
  let v5252 : BitVec 32 := Scalar.addi v5045 c13_i32_2020
  let v5253 : BitVec 1 := Scalar.cmpi .slt v5252 v5048
  let c65535_i32_2021 : BitVec 32 := 65535#32
  let v5256 : BitVec 32 := Scalar.andi v5255 c65535_i32_2021
  let c2048_i32_2022 : BitVec 32 := 2048#32
  let v5257 : BitVec 32 := Scalar.select v5253 v5256 c2048_i32_2022
  let v5258 : BitVec 32 := Scalar.addi v1470 v5257
  let v5261 : Index := Scalar.indexCast v5258
  let c0_2024 : Index := 0#32
  ![v5261.toNat, 0]

def k0_chk800 (i : grid0.Coords) (v5045 : BitVec 32) (v5048 : BitVec 32) (v5255 : BitVec 32) : Prop :=
  (∀ a, (k0_off1602 i v5045 v5048 v5255) a + S1x128.size a ≤ S8224x128.size a)
theorem k0_off1602_inb : ∀ (i : grid0.Coords) (v5045 : BitVec 32) (v5048 : BitVec 32) (v5255 : BitVec 32) (k0_hw800 : k0_chk800 i v5045 v5048 v5255), ∀ a, (k0_off1602 i v5045 v5048 v5255) a + S1x128.size a ≤ S8224x128.size a := fun i v5045 v5048 v5255 k0_hw800 => k0_hw800

def k0_off1603 (v5045 : BitVec 32) : Fin 1 → Nat :=
  let c14_i32_2025 : BitVec 32 := 14#32
  let v5266 : BitVec 32 := Scalar.addi v5045 c14_i32_2025
  let v5269 : Index := Scalar.indexCast v5266
  ![v5269.toNat]
def k0_off1604 (i : grid0.Coords) (v5045 : BitVec 32) (v5048 : BitVec 32) (v5270 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_2026 : BitVec 32 := 14#32
  let v5267 : BitVec 32 := Scalar.addi v5045 c14_i32_2026
  let v5268 : BitVec 1 := Scalar.cmpi .slt v5267 v5048
  let c65535_i32_2027 : BitVec 32 := 65535#32
  let v5271 : BitVec 32 := Scalar.andi v5270 c65535_i32_2027
  let c2048_i32_2028 : BitVec 32 := 2048#32
  let v5272 : BitVec 32 := Scalar.select v5268 v5271 c2048_i32_2028
  let v5273 : BitVec 32 := Scalar.addi v1470 v5272
  let v5276 : Index := Scalar.indexCast v5273
  let c0_2030 : Index := 0#32
  ![v5276.toNat, 0]

def k0_chk801 (i : grid0.Coords) (v5045 : BitVec 32) (v5048 : BitVec 32) (v5270 : BitVec 32) : Prop :=
  (∀ a, (k0_off1604 i v5045 v5048 v5270) a + S1x128.size a ≤ S8224x128.size a)
theorem k0_off1604_inb : ∀ (i : grid0.Coords) (v5045 : BitVec 32) (v5048 : BitVec 32) (v5270 : BitVec 32) (k0_hw801 : k0_chk801 i v5045 v5048 v5270), ∀ a, (k0_off1604 i v5045 v5048 v5270) a + S1x128.size a ≤ S8224x128.size a := fun i v5045 v5048 v5270 k0_hw801 => k0_hw801

def k0_off1605 (v5045 : BitVec 32) : Fin 1 → Nat :=
  let c15_i32_2031 : BitVec 32 := 15#32
  let v5281 : BitVec 32 := Scalar.addi v5045 c15_i32_2031
  let v5284 : Index := Scalar.indexCast v5281
  ![v5284.toNat]

def k0_chk786 (v5045 : BitVec 32) : Prop :=
  (∀ a, (k0_off1575 v5045) a + S1.size a ≤ S51920.size a) ∧
  (∀ a, (k0_off1577 v5045) a + S1.size a ≤ S51920.size a) ∧
  (∀ a, (k0_off1579 v5045) a + S1.size a ≤ S51920.size a) ∧
  (∀ a, (k0_off1581 v5045) a + S1.size a ≤ S51920.size a) ∧
  (∀ a, (k0_off1583 v5045) a + S1.size a ≤ S51920.size a) ∧
  (∀ a, (k0_off1585 v5045) a + S1.size a ≤ S51920.size a) ∧
  (∀ a, (k0_off1587 v5045) a + S1.size a ≤ S51920.size a) ∧
  (∀ a, (k0_off1589 v5045) a + S1.size a ≤ S51920.size a) ∧
  (∀ a, (k0_off1591 v5045) a + S1.size a ≤ S51920.size a) ∧
  (∀ a, (k0_off1593 v5045) a + S1.size a ≤ S51920.size a) ∧
  (∀ a, (k0_off1595 v5045) a + S1.size a ≤ S51920.size a) ∧
  (∀ a, (k0_off1597 v5045) a + S1.size a ≤ S51920.size a) ∧
  (∀ a, (k0_off1599 v5045) a + S1.size a ≤ S51920.size a) ∧
  (∀ a, (k0_off1601 v5045) a + S1.size a ≤ S51920.size a) ∧
  (∀ a, (k0_off1603 v5045) a + S1.size a ≤ S51920.size a) ∧
  (∀ a, (k0_off1605 v5045) a + S1.size a ≤ S51920.size a)
theorem k0_off1575_inb : ∀ (v5045 : BitVec 32) (k0_hw786 : k0_chk786 v5045), ∀ a, (k0_off1575 v5045) a + S1.size a ≤ S51920.size a := fun v5045 k0_hw786 => k0_hw786.1
theorem k0_off1577_inb : ∀ (v5045 : BitVec 32) (k0_hw786 : k0_chk786 v5045), ∀ a, (k0_off1577 v5045) a + S1.size a ≤ S51920.size a := fun v5045 k0_hw786 => k0_hw786.2.1
theorem k0_off1579_inb : ∀ (v5045 : BitVec 32) (k0_hw786 : k0_chk786 v5045), ∀ a, (k0_off1579 v5045) a + S1.size a ≤ S51920.size a := fun v5045 k0_hw786 => k0_hw786.2.2.1
theorem k0_off1581_inb : ∀ (v5045 : BitVec 32) (k0_hw786 : k0_chk786 v5045), ∀ a, (k0_off1581 v5045) a + S1.size a ≤ S51920.size a := fun v5045 k0_hw786 => k0_hw786.2.2.2.1
theorem k0_off1583_inb : ∀ (v5045 : BitVec 32) (k0_hw786 : k0_chk786 v5045), ∀ a, (k0_off1583 v5045) a + S1.size a ≤ S51920.size a := fun v5045 k0_hw786 => k0_hw786.2.2.2.2.1
theorem k0_off1585_inb : ∀ (v5045 : BitVec 32) (k0_hw786 : k0_chk786 v5045), ∀ a, (k0_off1585 v5045) a + S1.size a ≤ S51920.size a := fun v5045 k0_hw786 => k0_hw786.2.2.2.2.2.1
theorem k0_off1587_inb : ∀ (v5045 : BitVec 32) (k0_hw786 : k0_chk786 v5045), ∀ a, (k0_off1587 v5045) a + S1.size a ≤ S51920.size a := fun v5045 k0_hw786 => k0_hw786.2.2.2.2.2.2.1
theorem k0_off1589_inb : ∀ (v5045 : BitVec 32) (k0_hw786 : k0_chk786 v5045), ∀ a, (k0_off1589 v5045) a + S1.size a ≤ S51920.size a := fun v5045 k0_hw786 => k0_hw786.2.2.2.2.2.2.2.1
theorem k0_off1591_inb : ∀ (v5045 : BitVec 32) (k0_hw786 : k0_chk786 v5045), ∀ a, (k0_off1591 v5045) a + S1.size a ≤ S51920.size a := fun v5045 k0_hw786 => k0_hw786.2.2.2.2.2.2.2.2.1
theorem k0_off1593_inb : ∀ (v5045 : BitVec 32) (k0_hw786 : k0_chk786 v5045), ∀ a, (k0_off1593 v5045) a + S1.size a ≤ S51920.size a := fun v5045 k0_hw786 => k0_hw786.2.2.2.2.2.2.2.2.2.1
theorem k0_off1595_inb : ∀ (v5045 : BitVec 32) (k0_hw786 : k0_chk786 v5045), ∀ a, (k0_off1595 v5045) a + S1.size a ≤ S51920.size a := fun v5045 k0_hw786 => k0_hw786.2.2.2.2.2.2.2.2.2.2.1
theorem k0_off1597_inb : ∀ (v5045 : BitVec 32) (k0_hw786 : k0_chk786 v5045), ∀ a, (k0_off1597 v5045) a + S1.size a ≤ S51920.size a := fun v5045 k0_hw786 => k0_hw786.2.2.2.2.2.2.2.2.2.2.2.1
theorem k0_off1599_inb : ∀ (v5045 : BitVec 32) (k0_hw786 : k0_chk786 v5045), ∀ a, (k0_off1599 v5045) a + S1.size a ≤ S51920.size a := fun v5045 k0_hw786 => k0_hw786.2.2.2.2.2.2.2.2.2.2.2.2.1
theorem k0_off1601_inb : ∀ (v5045 : BitVec 32) (k0_hw786 : k0_chk786 v5045), ∀ a, (k0_off1601 v5045) a + S1.size a ≤ S51920.size a := fun v5045 k0_hw786 => k0_hw786.2.2.2.2.2.2.2.2.2.2.2.2.2.1
theorem k0_off1603_inb : ∀ (v5045 : BitVec 32) (k0_hw786 : k0_chk786 v5045), ∀ a, (k0_off1603 v5045) a + S1.size a ≤ S51920.size a := fun v5045 k0_hw786 => k0_hw786.2.2.2.2.2.2.2.2.2.2.2.2.2.2.1
theorem k0_off1605_inb : ∀ (v5045 : BitVec 32) (k0_hw786 : k0_chk786 v5045), ∀ a, (k0_off1605 v5045) a + S1.size a ≤ S51920.size a := fun v5045 k0_hw786 => k0_hw786.2.2.2.2.2.2.2.2.2.2.2.2.2.2.2

def k0_off1606 (i : grid0.Coords) (v5045 : BitVec 32) (v5048 : BitVec 32) (v5285 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_2032 : BitVec 32 := 15#32
  let v5282 : BitVec 32 := Scalar.addi v5045 c15_i32_2032
  let v5283 : BitVec 1 := Scalar.cmpi .slt v5282 v5048
  let c65535_i32_2033 : BitVec 32 := 65535#32
  let v5286 : BitVec 32 := Scalar.andi v5285 c65535_i32_2033
  let c2048_i32_2034 : BitVec 32 := 2048#32
  let v5287 : BitVec 32 := Scalar.select v5283 v5286 c2048_i32_2034
  let v5288 : BitVec 32 := Scalar.addi v1470 v5287
  let v5291 : Index := Scalar.indexCast v5288
  let c0_2036 : Index := 0#32
  ![v5291.toNat, 0]

def k0_chk802 (i : grid0.Coords) (v5045 : BitVec 32) (v5048 : BitVec 32) (v5285 : BitVec 32) : Prop :=
  (∀ a, (k0_off1606 i v5045 v5048 v5285) a + S1x128.size a ≤ S8224x128.size a)
theorem k0_off1606_inb : ∀ (i : grid0.Coords) (v5045 : BitVec 32) (v5048 : BitVec 32) (v5285 : BitVec 32) (k0_hw802 : k0_chk802 i v5045 v5048 v5285), ∀ a, (k0_off1606 i v5045 v5048 v5285) a + S1x128.size a ≤ S8224x128.size a := fun i v5045 v5048 v5285 k0_hw802 => k0_hw802

def k0_off1607 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2037 : BitVec 32 := 512#32
  let v5296 : BitVec 32 := Scalar.muli v24 c512_i32_2037
  let arg1 : BitVec 32 := BitVec.ofNat 32 (i 1).val
  let c32_i32 : BitVec 32 := 32#32
  let v1452 : BitVec 32 := Scalar.muli arg1 c32_i32
  let v5297 : BitVec 32 := Scalar.addi v5296 v1452
  let c15_i32_2038 : BitVec 32 := 15#32
  let v5298 : BitVec 32 := Scalar.addi v5297 c15_i32_2038
  let v5299 : Index := Scalar.indexCast v5298
  ![v5299.toNat]
def k0_off1608 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2037 : BitVec 32 := 512#32
  let v5296 : BitVec 32 := Scalar.muli v24 c512_i32_2037
  let arg1 : BitVec 32 := BitVec.ofNat 32 (i 1).val
  let c32_i32 : BitVec 32 := 32#32
  let v1452 : BitVec 32 := Scalar.muli arg1 c32_i32
  let v5297 : BitVec 32 := Scalar.addi v5296 v1452
  let c15_i32_2038 : BitVec 32 := 15#32
  let v5298 : BitVec 32 := Scalar.addi v5297 c15_i32_2038
  let c1_i32_2039 : BitVec 32 := 1#32
  let v5301 : BitVec 32 := Scalar.addi v5298 c1_i32_2039
  let v5302 : Index := Scalar.indexCast v5301
  ![v5302.toNat]
def k0_off1609 (v5300 : BitVec 32) : Fin 1 → Nat :=
  let c0_i32_2042 : BitVec 32 := 0#32
  let v5311 : BitVec 32 := Scalar.addi v5300 c0_i32_2042
  let v5314 : Index := Scalar.indexCast v5311
  ![v5314.toNat]

def k0_off1610 (i : grid0.Coords) (v5300 : BitVec 32) (v5303 : BitVec 32) (v5315 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_2043 : BitVec 32 := 0#32
  let v5312 : BitVec 32 := Scalar.addi v5300 c0_i32_2043
  let v5313 : BitVec 1 := Scalar.cmpi .slt v5312 v5303
  let c65535_i32_2044 : BitVec 32 := 65535#32
  let v5316 : BitVec 32 := Scalar.andi v5315 c65535_i32_2044
  let c2048_i32_2045 : BitVec 32 := 2048#32
  let v5317 : BitVec 32 := Scalar.select v5313 v5316 c2048_i32_2045
  let v5318 : BitVec 32 := Scalar.addi v1470 v5317
  let v5321 : Index := Scalar.indexCast v5318
  let c0_2047 : Index := 0#32
  ![v5321.toNat, 0]

def k0_chk804 (i : grid0.Coords) (v5300 : BitVec 32) (v5303 : BitVec 32) (v5315 : BitVec 32) : Prop :=
  (∀ a, (k0_off1610 i v5300 v5303 v5315) a + S1x128.size a ≤ S8224x128.size a)
theorem k0_off1610_inb : ∀ (i : grid0.Coords) (v5300 : BitVec 32) (v5303 : BitVec 32) (v5315 : BitVec 32) (k0_hw804 : k0_chk804 i v5300 v5303 v5315), ∀ a, (k0_off1610 i v5300 v5303 v5315) a + S1x128.size a ≤ S8224x128.size a := fun i v5300 v5303 v5315 k0_hw804 => k0_hw804

def k0_off1611 (v5300 : BitVec 32) : Fin 1 → Nat :=
  let c1_i32_2048 : BitVec 32 := 1#32
  let v5326 : BitVec 32 := Scalar.addi v5300 c1_i32_2048
  let v5329 : Index := Scalar.indexCast v5326
  ![v5329.toNat]
def k0_off1612 (i : grid0.Coords) (v5300 : BitVec 32) (v5303 : BitVec 32) (v5330 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_2049 : BitVec 32 := 1#32
  let v5327 : BitVec 32 := Scalar.addi v5300 c1_i32_2049
  let v5328 : BitVec 1 := Scalar.cmpi .slt v5327 v5303
  let c65535_i32_2050 : BitVec 32 := 65535#32
  let v5331 : BitVec 32 := Scalar.andi v5330 c65535_i32_2050
  let c2048_i32_2051 : BitVec 32 := 2048#32
  let v5332 : BitVec 32 := Scalar.select v5328 v5331 c2048_i32_2051
  let v5333 : BitVec 32 := Scalar.addi v1470 v5332
  let v5336 : Index := Scalar.indexCast v5333
  let c0_2053 : Index := 0#32
  ![v5336.toNat, 0]

def k0_chk805 (i : grid0.Coords) (v5300 : BitVec 32) (v5303 : BitVec 32) (v5330 : BitVec 32) : Prop :=
  (∀ a, (k0_off1612 i v5300 v5303 v5330) a + S1x128.size a ≤ S8224x128.size a)
theorem k0_off1612_inb : ∀ (i : grid0.Coords) (v5300 : BitVec 32) (v5303 : BitVec 32) (v5330 : BitVec 32) (k0_hw805 : k0_chk805 i v5300 v5303 v5330), ∀ a, (k0_off1612 i v5300 v5303 v5330) a + S1x128.size a ≤ S8224x128.size a := fun i v5300 v5303 v5330 k0_hw805 => k0_hw805

def k0_off1613 (v5300 : BitVec 32) : Fin 1 → Nat :=
  let c2_i32_2054 : BitVec 32 := 2#32
  let v5341 : BitVec 32 := Scalar.addi v5300 c2_i32_2054
  let v5344 : Index := Scalar.indexCast v5341
  ![v5344.toNat]
def k0_off1614 (i : grid0.Coords) (v5300 : BitVec 32) (v5303 : BitVec 32) (v5345 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_2055 : BitVec 32 := 2#32
  let v5342 : BitVec 32 := Scalar.addi v5300 c2_i32_2055
  let v5343 : BitVec 1 := Scalar.cmpi .slt v5342 v5303
  let c65535_i32_2056 : BitVec 32 := 65535#32
  let v5346 : BitVec 32 := Scalar.andi v5345 c65535_i32_2056
  let c2048_i32_2057 : BitVec 32 := 2048#32
  let v5347 : BitVec 32 := Scalar.select v5343 v5346 c2048_i32_2057
  let v5348 : BitVec 32 := Scalar.addi v1470 v5347
  let v5351 : Index := Scalar.indexCast v5348
  let c0_2059 : Index := 0#32
  ![v5351.toNat, 0]

def k0_chk806 (i : grid0.Coords) (v5300 : BitVec 32) (v5303 : BitVec 32) (v5345 : BitVec 32) : Prop :=
  (∀ a, (k0_off1614 i v5300 v5303 v5345) a + S1x128.size a ≤ S8224x128.size a)
theorem k0_off1614_inb : ∀ (i : grid0.Coords) (v5300 : BitVec 32) (v5303 : BitVec 32) (v5345 : BitVec 32) (k0_hw806 : k0_chk806 i v5300 v5303 v5345), ∀ a, (k0_off1614 i v5300 v5303 v5345) a + S1x128.size a ≤ S8224x128.size a := fun i v5300 v5303 v5345 k0_hw806 => k0_hw806

def k0_off1615 (v5300 : BitVec 32) : Fin 1 → Nat :=
  let c3_i32_2060 : BitVec 32 := 3#32
  let v5356 : BitVec 32 := Scalar.addi v5300 c3_i32_2060
  let v5359 : Index := Scalar.indexCast v5356
  ![v5359.toNat]
def k0_off1616 (i : grid0.Coords) (v5300 : BitVec 32) (v5303 : BitVec 32) (v5360 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_2061 : BitVec 32 := 3#32
  let v5357 : BitVec 32 := Scalar.addi v5300 c3_i32_2061
  let v5358 : BitVec 1 := Scalar.cmpi .slt v5357 v5303
  let c65535_i32_2062 : BitVec 32 := 65535#32
  let v5361 : BitVec 32 := Scalar.andi v5360 c65535_i32_2062
  let c2048_i32_2063 : BitVec 32 := 2048#32
  let v5362 : BitVec 32 := Scalar.select v5358 v5361 c2048_i32_2063
  let v5363 : BitVec 32 := Scalar.addi v1470 v5362
  let v5366 : Index := Scalar.indexCast v5363
  let c0_2065 : Index := 0#32
  ![v5366.toNat, 0]

def k0_chk807 (i : grid0.Coords) (v5300 : BitVec 32) (v5303 : BitVec 32) (v5360 : BitVec 32) : Prop :=
  (∀ a, (k0_off1616 i v5300 v5303 v5360) a + S1x128.size a ≤ S8224x128.size a)
theorem k0_off1616_inb : ∀ (i : grid0.Coords) (v5300 : BitVec 32) (v5303 : BitVec 32) (v5360 : BitVec 32) (k0_hw807 : k0_chk807 i v5300 v5303 v5360), ∀ a, (k0_off1616 i v5300 v5303 v5360) a + S1x128.size a ≤ S8224x128.size a := fun i v5300 v5303 v5360 k0_hw807 => k0_hw807

def k0_off1617 (v5300 : BitVec 32) : Fin 1 → Nat :=
  let c4_i32_2066 : BitVec 32 := 4#32
  let v5371 : BitVec 32 := Scalar.addi v5300 c4_i32_2066
  let v5374 : Index := Scalar.indexCast v5371
  ![v5374.toNat]
def k0_off1618 (i : grid0.Coords) (v5300 : BitVec 32) (v5303 : BitVec 32) (v5375 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_2067 : BitVec 32 := 4#32
  let v5372 : BitVec 32 := Scalar.addi v5300 c4_i32_2067
  let v5373 : BitVec 1 := Scalar.cmpi .slt v5372 v5303
  let c65535_i32_2068 : BitVec 32 := 65535#32
  let v5376 : BitVec 32 := Scalar.andi v5375 c65535_i32_2068
  let c2048_i32_2069 : BitVec 32 := 2048#32
  let v5377 : BitVec 32 := Scalar.select v5373 v5376 c2048_i32_2069
  let v5378 : BitVec 32 := Scalar.addi v1470 v5377
  let v5381 : Index := Scalar.indexCast v5378
  let c0_2071 : Index := 0#32
  ![v5381.toNat, 0]

def k0_chk808 (i : grid0.Coords) (v5300 : BitVec 32) (v5303 : BitVec 32) (v5375 : BitVec 32) : Prop :=
  (∀ a, (k0_off1618 i v5300 v5303 v5375) a + S1x128.size a ≤ S8224x128.size a)
theorem k0_off1618_inb : ∀ (i : grid0.Coords) (v5300 : BitVec 32) (v5303 : BitVec 32) (v5375 : BitVec 32) (k0_hw808 : k0_chk808 i v5300 v5303 v5375), ∀ a, (k0_off1618 i v5300 v5303 v5375) a + S1x128.size a ≤ S8224x128.size a := fun i v5300 v5303 v5375 k0_hw808 => k0_hw808

def k0_off1619 (v5300 : BitVec 32) : Fin 1 → Nat :=
  let c5_i32_2072 : BitVec 32 := 5#32
  let v5386 : BitVec 32 := Scalar.addi v5300 c5_i32_2072
  let v5389 : Index := Scalar.indexCast v5386
  ![v5389.toNat]
def k0_off1620 (i : grid0.Coords) (v5300 : BitVec 32) (v5303 : BitVec 32) (v5390 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_2073 : BitVec 32 := 5#32
  let v5387 : BitVec 32 := Scalar.addi v5300 c5_i32_2073
  let v5388 : BitVec 1 := Scalar.cmpi .slt v5387 v5303
  let c65535_i32_2074 : BitVec 32 := 65535#32
  let v5391 : BitVec 32 := Scalar.andi v5390 c65535_i32_2074
  let c2048_i32_2075 : BitVec 32 := 2048#32
  let v5392 : BitVec 32 := Scalar.select v5388 v5391 c2048_i32_2075
  let v5393 : BitVec 32 := Scalar.addi v1470 v5392
  let v5396 : Index := Scalar.indexCast v5393
  let c0_2077 : Index := 0#32
  ![v5396.toNat, 0]

def k0_chk809 (i : grid0.Coords) (v5300 : BitVec 32) (v5303 : BitVec 32) (v5390 : BitVec 32) : Prop :=
  (∀ a, (k0_off1620 i v5300 v5303 v5390) a + S1x128.size a ≤ S8224x128.size a)
theorem k0_off1620_inb : ∀ (i : grid0.Coords) (v5300 : BitVec 32) (v5303 : BitVec 32) (v5390 : BitVec 32) (k0_hw809 : k0_chk809 i v5300 v5303 v5390), ∀ a, (k0_off1620 i v5300 v5303 v5390) a + S1x128.size a ≤ S8224x128.size a := fun i v5300 v5303 v5390 k0_hw809 => k0_hw809

def k0_off1621 (v5300 : BitVec 32) : Fin 1 → Nat :=
  let c6_i32_2078 : BitVec 32 := 6#32
  let v5401 : BitVec 32 := Scalar.addi v5300 c6_i32_2078
  let v5404 : Index := Scalar.indexCast v5401
  ![v5404.toNat]
def k0_off1622 (i : grid0.Coords) (v5300 : BitVec 32) (v5303 : BitVec 32) (v5405 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_2079 : BitVec 32 := 6#32
  let v5402 : BitVec 32 := Scalar.addi v5300 c6_i32_2079
  let v5403 : BitVec 1 := Scalar.cmpi .slt v5402 v5303
  let c65535_i32_2080 : BitVec 32 := 65535#32
  let v5406 : BitVec 32 := Scalar.andi v5405 c65535_i32_2080
  let c2048_i32_2081 : BitVec 32 := 2048#32
  let v5407 : BitVec 32 := Scalar.select v5403 v5406 c2048_i32_2081
  let v5408 : BitVec 32 := Scalar.addi v1470 v5407
  let v5411 : Index := Scalar.indexCast v5408
  let c0_2083 : Index := 0#32
  ![v5411.toNat, 0]

def k0_chk810 (i : grid0.Coords) (v5300 : BitVec 32) (v5303 : BitVec 32) (v5405 : BitVec 32) : Prop :=
  (∀ a, (k0_off1622 i v5300 v5303 v5405) a + S1x128.size a ≤ S8224x128.size a)
theorem k0_off1622_inb : ∀ (i : grid0.Coords) (v5300 : BitVec 32) (v5303 : BitVec 32) (v5405 : BitVec 32) (k0_hw810 : k0_chk810 i v5300 v5303 v5405), ∀ a, (k0_off1622 i v5300 v5303 v5405) a + S1x128.size a ≤ S8224x128.size a := fun i v5300 v5303 v5405 k0_hw810 => k0_hw810

def k0_off1623 (v5300 : BitVec 32) : Fin 1 → Nat :=
  let c7_i32_2084 : BitVec 32 := 7#32
  let v5416 : BitVec 32 := Scalar.addi v5300 c7_i32_2084
  let v5419 : Index := Scalar.indexCast v5416
  ![v5419.toNat]
def k0_off1624 (i : grid0.Coords) (v5300 : BitVec 32) (v5303 : BitVec 32) (v5420 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_2085 : BitVec 32 := 7#32
  let v5417 : BitVec 32 := Scalar.addi v5300 c7_i32_2085
  let v5418 : BitVec 1 := Scalar.cmpi .slt v5417 v5303
  let c65535_i32_2086 : BitVec 32 := 65535#32
  let v5421 : BitVec 32 := Scalar.andi v5420 c65535_i32_2086
  let c2048_i32_2087 : BitVec 32 := 2048#32
  let v5422 : BitVec 32 := Scalar.select v5418 v5421 c2048_i32_2087
  let v5423 : BitVec 32 := Scalar.addi v1470 v5422
  let v5426 : Index := Scalar.indexCast v5423
  let c0_2089 : Index := 0#32
  ![v5426.toNat, 0]

def k0_chk811 (i : grid0.Coords) (v5300 : BitVec 32) (v5303 : BitVec 32) (v5420 : BitVec 32) : Prop :=
  (∀ a, (k0_off1624 i v5300 v5303 v5420) a + S1x128.size a ≤ S8224x128.size a)
theorem k0_off1624_inb : ∀ (i : grid0.Coords) (v5300 : BitVec 32) (v5303 : BitVec 32) (v5420 : BitVec 32) (k0_hw811 : k0_chk811 i v5300 v5303 v5420), ∀ a, (k0_off1624 i v5300 v5303 v5420) a + S1x128.size a ≤ S8224x128.size a := fun i v5300 v5303 v5420 k0_hw811 => k0_hw811

def k0_off1625 (v5300 : BitVec 32) : Fin 1 → Nat :=
  let c8_i32_2090 : BitVec 32 := 8#32
  let v5431 : BitVec 32 := Scalar.addi v5300 c8_i32_2090
  let v5434 : Index := Scalar.indexCast v5431
  ![v5434.toNat]
def k0_off1626 (i : grid0.Coords) (v5300 : BitVec 32) (v5303 : BitVec 32) (v5435 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_2091 : BitVec 32 := 8#32
  let v5432 : BitVec 32 := Scalar.addi v5300 c8_i32_2091
  let v5433 : BitVec 1 := Scalar.cmpi .slt v5432 v5303
  let c65535_i32_2092 : BitVec 32 := 65535#32
  let v5436 : BitVec 32 := Scalar.andi v5435 c65535_i32_2092
  let c2048_i32_2093 : BitVec 32 := 2048#32
  let v5437 : BitVec 32 := Scalar.select v5433 v5436 c2048_i32_2093
  let v5438 : BitVec 32 := Scalar.addi v1470 v5437
  let v5441 : Index := Scalar.indexCast v5438
  let c0_2095 : Index := 0#32
  ![v5441.toNat, 0]

def k0_chk812 (i : grid0.Coords) (v5300 : BitVec 32) (v5303 : BitVec 32) (v5435 : BitVec 32) : Prop :=
  (∀ a, (k0_off1626 i v5300 v5303 v5435) a + S1x128.size a ≤ S8224x128.size a)
theorem k0_off1626_inb : ∀ (i : grid0.Coords) (v5300 : BitVec 32) (v5303 : BitVec 32) (v5435 : BitVec 32) (k0_hw812 : k0_chk812 i v5300 v5303 v5435), ∀ a, (k0_off1626 i v5300 v5303 v5435) a + S1x128.size a ≤ S8224x128.size a := fun i v5300 v5303 v5435 k0_hw812 => k0_hw812

def k0_off1627 (v5300 : BitVec 32) : Fin 1 → Nat :=
  let c9_i32_2096 : BitVec 32 := 9#32
  let v5446 : BitVec 32 := Scalar.addi v5300 c9_i32_2096
  let v5449 : Index := Scalar.indexCast v5446
  ![v5449.toNat]
def k0_off1628 (i : grid0.Coords) (v5300 : BitVec 32) (v5303 : BitVec 32) (v5450 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_2097 : BitVec 32 := 9#32
  let v5447 : BitVec 32 := Scalar.addi v5300 c9_i32_2097
  let v5448 : BitVec 1 := Scalar.cmpi .slt v5447 v5303
  let c65535_i32_2098 : BitVec 32 := 65535#32
  let v5451 : BitVec 32 := Scalar.andi v5450 c65535_i32_2098
  let c2048_i32_2099 : BitVec 32 := 2048#32
  let v5452 : BitVec 32 := Scalar.select v5448 v5451 c2048_i32_2099
  let v5453 : BitVec 32 := Scalar.addi v1470 v5452
  let v5456 : Index := Scalar.indexCast v5453
  let c0_2101 : Index := 0#32
  ![v5456.toNat, 0]

def k0_chk813 (i : grid0.Coords) (v5300 : BitVec 32) (v5303 : BitVec 32) (v5450 : BitVec 32) : Prop :=
  (∀ a, (k0_off1628 i v5300 v5303 v5450) a + S1x128.size a ≤ S8224x128.size a)
theorem k0_off1628_inb : ∀ (i : grid0.Coords) (v5300 : BitVec 32) (v5303 : BitVec 32) (v5450 : BitVec 32) (k0_hw813 : k0_chk813 i v5300 v5303 v5450), ∀ a, (k0_off1628 i v5300 v5303 v5450) a + S1x128.size a ≤ S8224x128.size a := fun i v5300 v5303 v5450 k0_hw813 => k0_hw813

def k0_off1629 (v5300 : BitVec 32) : Fin 1 → Nat :=
  let c10_i32_2102 : BitVec 32 := 10#32
  let v5461 : BitVec 32 := Scalar.addi v5300 c10_i32_2102
  let v5464 : Index := Scalar.indexCast v5461
  ![v5464.toNat]
def k0_off1630 (i : grid0.Coords) (v5300 : BitVec 32) (v5303 : BitVec 32) (v5465 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_2103 : BitVec 32 := 10#32
  let v5462 : BitVec 32 := Scalar.addi v5300 c10_i32_2103
  let v5463 : BitVec 1 := Scalar.cmpi .slt v5462 v5303
  let c65535_i32_2104 : BitVec 32 := 65535#32
  let v5466 : BitVec 32 := Scalar.andi v5465 c65535_i32_2104
  let c2048_i32_2105 : BitVec 32 := 2048#32
  let v5467 : BitVec 32 := Scalar.select v5463 v5466 c2048_i32_2105
  let v5468 : BitVec 32 := Scalar.addi v1470 v5467
  let v5471 : Index := Scalar.indexCast v5468
  let c0_2107 : Index := 0#32
  ![v5471.toNat, 0]

def k0_chk814 (i : grid0.Coords) (v5300 : BitVec 32) (v5303 : BitVec 32) (v5465 : BitVec 32) : Prop :=
  (∀ a, (k0_off1630 i v5300 v5303 v5465) a + S1x128.size a ≤ S8224x128.size a)
theorem k0_off1630_inb : ∀ (i : grid0.Coords) (v5300 : BitVec 32) (v5303 : BitVec 32) (v5465 : BitVec 32) (k0_hw814 : k0_chk814 i v5300 v5303 v5465), ∀ a, (k0_off1630 i v5300 v5303 v5465) a + S1x128.size a ≤ S8224x128.size a := fun i v5300 v5303 v5465 k0_hw814 => k0_hw814

def k0_off1631 (v5300 : BitVec 32) : Fin 1 → Nat :=
  let c11_i32_2108 : BitVec 32 := 11#32
  let v5476 : BitVec 32 := Scalar.addi v5300 c11_i32_2108
  let v5479 : Index := Scalar.indexCast v5476
  ![v5479.toNat]
def k0_off1632 (i : grid0.Coords) (v5300 : BitVec 32) (v5303 : BitVec 32) (v5480 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_2109 : BitVec 32 := 11#32
  let v5477 : BitVec 32 := Scalar.addi v5300 c11_i32_2109
  let v5478 : BitVec 1 := Scalar.cmpi .slt v5477 v5303
  let c65535_i32_2110 : BitVec 32 := 65535#32
  let v5481 : BitVec 32 := Scalar.andi v5480 c65535_i32_2110
  let c2048_i32_2111 : BitVec 32 := 2048#32
  let v5482 : BitVec 32 := Scalar.select v5478 v5481 c2048_i32_2111
  let v5483 : BitVec 32 := Scalar.addi v1470 v5482
  let v5486 : Index := Scalar.indexCast v5483
  let c0_2113 : Index := 0#32
  ![v5486.toNat, 0]

def k0_chk815 (i : grid0.Coords) (v5300 : BitVec 32) (v5303 : BitVec 32) (v5480 : BitVec 32) : Prop :=
  (∀ a, (k0_off1632 i v5300 v5303 v5480) a + S1x128.size a ≤ S8224x128.size a)
theorem k0_off1632_inb : ∀ (i : grid0.Coords) (v5300 : BitVec 32) (v5303 : BitVec 32) (v5480 : BitVec 32) (k0_hw815 : k0_chk815 i v5300 v5303 v5480), ∀ a, (k0_off1632 i v5300 v5303 v5480) a + S1x128.size a ≤ S8224x128.size a := fun i v5300 v5303 v5480 k0_hw815 => k0_hw815

def k0_off1633 (v5300 : BitVec 32) : Fin 1 → Nat :=
  let c12_i32_2114 : BitVec 32 := 12#32
  let v5491 : BitVec 32 := Scalar.addi v5300 c12_i32_2114
  let v5494 : Index := Scalar.indexCast v5491
  ![v5494.toNat]
def k0_off1634 (i : grid0.Coords) (v5300 : BitVec 32) (v5303 : BitVec 32) (v5495 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_2115 : BitVec 32 := 12#32
  let v5492 : BitVec 32 := Scalar.addi v5300 c12_i32_2115
  let v5493 : BitVec 1 := Scalar.cmpi .slt v5492 v5303
  let c65535_i32_2116 : BitVec 32 := 65535#32
  let v5496 : BitVec 32 := Scalar.andi v5495 c65535_i32_2116
  let c2048_i32_2117 : BitVec 32 := 2048#32
  let v5497 : BitVec 32 := Scalar.select v5493 v5496 c2048_i32_2117
  let v5498 : BitVec 32 := Scalar.addi v1470 v5497
  let v5501 : Index := Scalar.indexCast v5498
  let c0_2119 : Index := 0#32
  ![v5501.toNat, 0]

def k0_chk816 (i : grid0.Coords) (v5300 : BitVec 32) (v5303 : BitVec 32) (v5495 : BitVec 32) : Prop :=
  (∀ a, (k0_off1634 i v5300 v5303 v5495) a + S1x128.size a ≤ S8224x128.size a)
theorem k0_off1634_inb : ∀ (i : grid0.Coords) (v5300 : BitVec 32) (v5303 : BitVec 32) (v5495 : BitVec 32) (k0_hw816 : k0_chk816 i v5300 v5303 v5495), ∀ a, (k0_off1634 i v5300 v5303 v5495) a + S1x128.size a ≤ S8224x128.size a := fun i v5300 v5303 v5495 k0_hw816 => k0_hw816

def k0_off1635 (v5300 : BitVec 32) : Fin 1 → Nat :=
  let c13_i32_2120 : BitVec 32 := 13#32
  let v5506 : BitVec 32 := Scalar.addi v5300 c13_i32_2120
  let v5509 : Index := Scalar.indexCast v5506
  ![v5509.toNat]
def k0_off1636 (i : grid0.Coords) (v5300 : BitVec 32) (v5303 : BitVec 32) (v5510 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_2121 : BitVec 32 := 13#32
  let v5507 : BitVec 32 := Scalar.addi v5300 c13_i32_2121
  let v5508 : BitVec 1 := Scalar.cmpi .slt v5507 v5303
  let c65535_i32_2122 : BitVec 32 := 65535#32
  let v5511 : BitVec 32 := Scalar.andi v5510 c65535_i32_2122
  let c2048_i32_2123 : BitVec 32 := 2048#32
  let v5512 : BitVec 32 := Scalar.select v5508 v5511 c2048_i32_2123
  let v5513 : BitVec 32 := Scalar.addi v1470 v5512
  let v5516 : Index := Scalar.indexCast v5513
  let c0_2125 : Index := 0#32
  ![v5516.toNat, 0]

def k0_chk817 (i : grid0.Coords) (v5300 : BitVec 32) (v5303 : BitVec 32) (v5510 : BitVec 32) : Prop :=
  (∀ a, (k0_off1636 i v5300 v5303 v5510) a + S1x128.size a ≤ S8224x128.size a)
theorem k0_off1636_inb : ∀ (i : grid0.Coords) (v5300 : BitVec 32) (v5303 : BitVec 32) (v5510 : BitVec 32) (k0_hw817 : k0_chk817 i v5300 v5303 v5510), ∀ a, (k0_off1636 i v5300 v5303 v5510) a + S1x128.size a ≤ S8224x128.size a := fun i v5300 v5303 v5510 k0_hw817 => k0_hw817

def k0_off1637 (v5300 : BitVec 32) : Fin 1 → Nat :=
  let c14_i32_2126 : BitVec 32 := 14#32
  let v5521 : BitVec 32 := Scalar.addi v5300 c14_i32_2126
  let v5524 : Index := Scalar.indexCast v5521
  ![v5524.toNat]
def k0_off1638 (i : grid0.Coords) (v5300 : BitVec 32) (v5303 : BitVec 32) (v5525 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_2127 : BitVec 32 := 14#32
  let v5522 : BitVec 32 := Scalar.addi v5300 c14_i32_2127
  let v5523 : BitVec 1 := Scalar.cmpi .slt v5522 v5303
  let c65535_i32_2128 : BitVec 32 := 65535#32
  let v5526 : BitVec 32 := Scalar.andi v5525 c65535_i32_2128
  let c2048_i32_2129 : BitVec 32 := 2048#32
  let v5527 : BitVec 32 := Scalar.select v5523 v5526 c2048_i32_2129
  let v5528 : BitVec 32 := Scalar.addi v1470 v5527
  let v5531 : Index := Scalar.indexCast v5528
  let c0_2131 : Index := 0#32
  ![v5531.toNat, 0]

def k0_chk818 (i : grid0.Coords) (v5300 : BitVec 32) (v5303 : BitVec 32) (v5525 : BitVec 32) : Prop :=
  (∀ a, (k0_off1638 i v5300 v5303 v5525) a + S1x128.size a ≤ S8224x128.size a)
theorem k0_off1638_inb : ∀ (i : grid0.Coords) (v5300 : BitVec 32) (v5303 : BitVec 32) (v5525 : BitVec 32) (k0_hw818 : k0_chk818 i v5300 v5303 v5525), ∀ a, (k0_off1638 i v5300 v5303 v5525) a + S1x128.size a ≤ S8224x128.size a := fun i v5300 v5303 v5525 k0_hw818 => k0_hw818

def k0_off1639 (v5300 : BitVec 32) : Fin 1 → Nat :=
  let c15_i32_2132 : BitVec 32 := 15#32
  let v5536 : BitVec 32 := Scalar.addi v5300 c15_i32_2132
  let v5539 : Index := Scalar.indexCast v5536
  ![v5539.toNat]

def k0_chk803 (v5300 : BitVec 32) : Prop :=
  (∀ a, (k0_off1609 v5300) a + S1.size a ≤ S51920.size a) ∧
  (∀ a, (k0_off1611 v5300) a + S1.size a ≤ S51920.size a) ∧
  (∀ a, (k0_off1613 v5300) a + S1.size a ≤ S51920.size a) ∧
  (∀ a, (k0_off1615 v5300) a + S1.size a ≤ S51920.size a) ∧
  (∀ a, (k0_off1617 v5300) a + S1.size a ≤ S51920.size a) ∧
  (∀ a, (k0_off1619 v5300) a + S1.size a ≤ S51920.size a) ∧
  (∀ a, (k0_off1621 v5300) a + S1.size a ≤ S51920.size a) ∧
  (∀ a, (k0_off1623 v5300) a + S1.size a ≤ S51920.size a) ∧
  (∀ a, (k0_off1625 v5300) a + S1.size a ≤ S51920.size a) ∧
  (∀ a, (k0_off1627 v5300) a + S1.size a ≤ S51920.size a) ∧
  (∀ a, (k0_off1629 v5300) a + S1.size a ≤ S51920.size a) ∧
  (∀ a, (k0_off1631 v5300) a + S1.size a ≤ S51920.size a) ∧
  (∀ a, (k0_off1633 v5300) a + S1.size a ≤ S51920.size a) ∧
  (∀ a, (k0_off1635 v5300) a + S1.size a ≤ S51920.size a) ∧
  (∀ a, (k0_off1637 v5300) a + S1.size a ≤ S51920.size a) ∧
  (∀ a, (k0_off1639 v5300) a + S1.size a ≤ S51920.size a)
theorem k0_off1609_inb : ∀ (v5300 : BitVec 32) (k0_hw803 : k0_chk803 v5300), ∀ a, (k0_off1609 v5300) a + S1.size a ≤ S51920.size a := fun v5300 k0_hw803 => k0_hw803.1
theorem k0_off1611_inb : ∀ (v5300 : BitVec 32) (k0_hw803 : k0_chk803 v5300), ∀ a, (k0_off1611 v5300) a + S1.size a ≤ S51920.size a := fun v5300 k0_hw803 => k0_hw803.2.1
theorem k0_off1613_inb : ∀ (v5300 : BitVec 32) (k0_hw803 : k0_chk803 v5300), ∀ a, (k0_off1613 v5300) a + S1.size a ≤ S51920.size a := fun v5300 k0_hw803 => k0_hw803.2.2.1
theorem k0_off1615_inb : ∀ (v5300 : BitVec 32) (k0_hw803 : k0_chk803 v5300), ∀ a, (k0_off1615 v5300) a + S1.size a ≤ S51920.size a := fun v5300 k0_hw803 => k0_hw803.2.2.2.1
theorem k0_off1617_inb : ∀ (v5300 : BitVec 32) (k0_hw803 : k0_chk803 v5300), ∀ a, (k0_off1617 v5300) a + S1.size a ≤ S51920.size a := fun v5300 k0_hw803 => k0_hw803.2.2.2.2.1
theorem k0_off1619_inb : ∀ (v5300 : BitVec 32) (k0_hw803 : k0_chk803 v5300), ∀ a, (k0_off1619 v5300) a + S1.size a ≤ S51920.size a := fun v5300 k0_hw803 => k0_hw803.2.2.2.2.2.1
theorem k0_off1621_inb : ∀ (v5300 : BitVec 32) (k0_hw803 : k0_chk803 v5300), ∀ a, (k0_off1621 v5300) a + S1.size a ≤ S51920.size a := fun v5300 k0_hw803 => k0_hw803.2.2.2.2.2.2.1
theorem k0_off1623_inb : ∀ (v5300 : BitVec 32) (k0_hw803 : k0_chk803 v5300), ∀ a, (k0_off1623 v5300) a + S1.size a ≤ S51920.size a := fun v5300 k0_hw803 => k0_hw803.2.2.2.2.2.2.2.1
theorem k0_off1625_inb : ∀ (v5300 : BitVec 32) (k0_hw803 : k0_chk803 v5300), ∀ a, (k0_off1625 v5300) a + S1.size a ≤ S51920.size a := fun v5300 k0_hw803 => k0_hw803.2.2.2.2.2.2.2.2.1
theorem k0_off1627_inb : ∀ (v5300 : BitVec 32) (k0_hw803 : k0_chk803 v5300), ∀ a, (k0_off1627 v5300) a + S1.size a ≤ S51920.size a := fun v5300 k0_hw803 => k0_hw803.2.2.2.2.2.2.2.2.2.1
theorem k0_off1629_inb : ∀ (v5300 : BitVec 32) (k0_hw803 : k0_chk803 v5300), ∀ a, (k0_off1629 v5300) a + S1.size a ≤ S51920.size a := fun v5300 k0_hw803 => k0_hw803.2.2.2.2.2.2.2.2.2.2.1
theorem k0_off1631_inb : ∀ (v5300 : BitVec 32) (k0_hw803 : k0_chk803 v5300), ∀ a, (k0_off1631 v5300) a + S1.size a ≤ S51920.size a := fun v5300 k0_hw803 => k0_hw803.2.2.2.2.2.2.2.2.2.2.2.1
theorem k0_off1633_inb : ∀ (v5300 : BitVec 32) (k0_hw803 : k0_chk803 v5300), ∀ a, (k0_off1633 v5300) a + S1.size a ≤ S51920.size a := fun v5300 k0_hw803 => k0_hw803.2.2.2.2.2.2.2.2.2.2.2.2.1
theorem k0_off1635_inb : ∀ (v5300 : BitVec 32) (k0_hw803 : k0_chk803 v5300), ∀ a, (k0_off1635 v5300) a + S1.size a ≤ S51920.size a := fun v5300 k0_hw803 => k0_hw803.2.2.2.2.2.2.2.2.2.2.2.2.2.1
theorem k0_off1637_inb : ∀ (v5300 : BitVec 32) (k0_hw803 : k0_chk803 v5300), ∀ a, (k0_off1637 v5300) a + S1.size a ≤ S51920.size a := fun v5300 k0_hw803 => k0_hw803.2.2.2.2.2.2.2.2.2.2.2.2.2.2.1
theorem k0_off1639_inb : ∀ (v5300 : BitVec 32) (k0_hw803 : k0_chk803 v5300), ∀ a, (k0_off1639 v5300) a + S1.size a ≤ S51920.size a := fun v5300 k0_hw803 => k0_hw803.2.2.2.2.2.2.2.2.2.2.2.2.2.2.2

def k0_off1640 (i : grid0.Coords) (v5300 : BitVec 32) (v5303 : BitVec 32) (v5540 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_2133 : BitVec 32 := 15#32
  let v5537 : BitVec 32 := Scalar.addi v5300 c15_i32_2133
  let v5538 : BitVec 1 := Scalar.cmpi .slt v5537 v5303
  let c65535_i32_2134 : BitVec 32 := 65535#32
  let v5541 : BitVec 32 := Scalar.andi v5540 c65535_i32_2134
  let c2048_i32_2135 : BitVec 32 := 2048#32
  let v5542 : BitVec 32 := Scalar.select v5538 v5541 c2048_i32_2135
  let v5543 : BitVec 32 := Scalar.addi v1470 v5542
  let v5546 : Index := Scalar.indexCast v5543
  let c0_2137 : Index := 0#32
  ![v5546.toNat, 0]

def k0_chk819 (i : grid0.Coords) (v5300 : BitVec 32) (v5303 : BitVec 32) (v5540 : BitVec 32) : Prop :=
  (∀ a, (k0_off1640 i v5300 v5303 v5540) a + S1x128.size a ≤ S8224x128.size a)
theorem k0_off1640_inb : ∀ (i : grid0.Coords) (v5300 : BitVec 32) (v5303 : BitVec 32) (v5540 : BitVec 32) (k0_hw819 : k0_chk819 i v5300 v5303 v5540), ∀ a, (k0_off1640 i v5300 v5303 v5540) a + S1x128.size a ≤ S8224x128.size a := fun i v5300 v5303 v5540 k0_hw819 => k0_hw819

def k0_off1641 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2138 : BitVec 32 := 512#32
  let v5551 : BitVec 32 := Scalar.muli v24 c512_i32_2138
  let arg1 : BitVec 32 := BitVec.ofNat 32 (i 1).val
  let c32_i32 : BitVec 32 := 32#32
  let v1452 : BitVec 32 := Scalar.muli arg1 c32_i32
  let v5552 : BitVec 32 := Scalar.addi v5551 v1452
  let c16_i32_2139 : BitVec 32 := 16#32
  let v5553 : BitVec 32 := Scalar.addi v5552 c16_i32_2139
  let v5554 : Index := Scalar.indexCast v5553
  ![v5554.toNat]
def k0_off1642 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2138 : BitVec 32 := 512#32
  let v5551 : BitVec 32 := Scalar.muli v24 c512_i32_2138
  let arg1 : BitVec 32 := BitVec.ofNat 32 (i 1).val
  let c32_i32 : BitVec 32 := 32#32
  let v1452 : BitVec 32 := Scalar.muli arg1 c32_i32
  let v5552 : BitVec 32 := Scalar.addi v5551 v1452
  let c16_i32_2139 : BitVec 32 := 16#32
  let v5553 : BitVec 32 := Scalar.addi v5552 c16_i32_2139
  let c1_i32_2140 : BitVec 32 := 1#32
  let v5556 : BitVec 32 := Scalar.addi v5553 c1_i32_2140
  let v5557 : Index := Scalar.indexCast v5556
  ![v5557.toNat]
def k0_off1643 (v5555 : BitVec 32) : Fin 1 → Nat :=
  let c0_i32_2143 : BitVec 32 := 0#32
  let v5566 : BitVec 32 := Scalar.addi v5555 c0_i32_2143
  let v5569 : Index := Scalar.indexCast v5566
  ![v5569.toNat]

def k0_off1644 (i : grid0.Coords) (v5555 : BitVec 32) (v5558 : BitVec 32) (v5570 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_2144 : BitVec 32 := 0#32
  let v5567 : BitVec 32 := Scalar.addi v5555 c0_i32_2144
  let v5568 : BitVec 1 := Scalar.cmpi .slt v5567 v5558
  let c65535_i32_2145 : BitVec 32 := 65535#32
  let v5571 : BitVec 32 := Scalar.andi v5570 c65535_i32_2145
  let c2048_i32_2146 : BitVec 32 := 2048#32
  let v5572 : BitVec 32 := Scalar.select v5568 v5571 c2048_i32_2146
  let v5573 : BitVec 32 := Scalar.addi v1470 v5572
  let v5576 : Index := Scalar.indexCast v5573
  let c0_2148 : Index := 0#32
  ![v5576.toNat, 0]

def k0_chk821 (i : grid0.Coords) (v5555 : BitVec 32) (v5558 : BitVec 32) (v5570 : BitVec 32) : Prop :=
  (∀ a, (k0_off1644 i v5555 v5558 v5570) a + S1x128.size a ≤ S8224x128.size a)
theorem k0_off1644_inb : ∀ (i : grid0.Coords) (v5555 : BitVec 32) (v5558 : BitVec 32) (v5570 : BitVec 32) (k0_hw821 : k0_chk821 i v5555 v5558 v5570), ∀ a, (k0_off1644 i v5555 v5558 v5570) a + S1x128.size a ≤ S8224x128.size a := fun i v5555 v5558 v5570 k0_hw821 => k0_hw821

def k0_off1645 (v5555 : BitVec 32) : Fin 1 → Nat :=
  let c1_i32_2149 : BitVec 32 := 1#32
  let v5581 : BitVec 32 := Scalar.addi v5555 c1_i32_2149
  let v5584 : Index := Scalar.indexCast v5581
  ![v5584.toNat]
def k0_off1646 (i : grid0.Coords) (v5555 : BitVec 32) (v5558 : BitVec 32) (v5585 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_2150 : BitVec 32 := 1#32
  let v5582 : BitVec 32 := Scalar.addi v5555 c1_i32_2150
  let v5583 : BitVec 1 := Scalar.cmpi .slt v5582 v5558
  let c65535_i32_2151 : BitVec 32 := 65535#32
  let v5586 : BitVec 32 := Scalar.andi v5585 c65535_i32_2151
  let c2048_i32_2152 : BitVec 32 := 2048#32
  let v5587 : BitVec 32 := Scalar.select v5583 v5586 c2048_i32_2152
  let v5588 : BitVec 32 := Scalar.addi v1470 v5587
  let v5591 : Index := Scalar.indexCast v5588
  let c0_2154 : Index := 0#32
  ![v5591.toNat, 0]

def k0_chk822 (i : grid0.Coords) (v5555 : BitVec 32) (v5558 : BitVec 32) (v5585 : BitVec 32) : Prop :=
  (∀ a, (k0_off1646 i v5555 v5558 v5585) a + S1x128.size a ≤ S8224x128.size a)
theorem k0_off1646_inb : ∀ (i : grid0.Coords) (v5555 : BitVec 32) (v5558 : BitVec 32) (v5585 : BitVec 32) (k0_hw822 : k0_chk822 i v5555 v5558 v5585), ∀ a, (k0_off1646 i v5555 v5558 v5585) a + S1x128.size a ≤ S8224x128.size a := fun i v5555 v5558 v5585 k0_hw822 => k0_hw822

def k0_off1647 (v5555 : BitVec 32) : Fin 1 → Nat :=
  let c2_i32_2155 : BitVec 32 := 2#32
  let v5596 : BitVec 32 := Scalar.addi v5555 c2_i32_2155
  let v5599 : Index := Scalar.indexCast v5596
  ![v5599.toNat]
def k0_off1648 (i : grid0.Coords) (v5555 : BitVec 32) (v5558 : BitVec 32) (v5600 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_2156 : BitVec 32 := 2#32
  let v5597 : BitVec 32 := Scalar.addi v5555 c2_i32_2156
  let v5598 : BitVec 1 := Scalar.cmpi .slt v5597 v5558
  let c65535_i32_2157 : BitVec 32 := 65535#32
  let v5601 : BitVec 32 := Scalar.andi v5600 c65535_i32_2157
  let c2048_i32_2158 : BitVec 32 := 2048#32
  let v5602 : BitVec 32 := Scalar.select v5598 v5601 c2048_i32_2158
  let v5603 : BitVec 32 := Scalar.addi v1470 v5602
  let v5606 : Index := Scalar.indexCast v5603
  let c0_2160 : Index := 0#32
  ![v5606.toNat, 0]

def k0_chk823 (i : grid0.Coords) (v5555 : BitVec 32) (v5558 : BitVec 32) (v5600 : BitVec 32) : Prop :=
  (∀ a, (k0_off1648 i v5555 v5558 v5600) a + S1x128.size a ≤ S8224x128.size a)
theorem k0_off1648_inb : ∀ (i : grid0.Coords) (v5555 : BitVec 32) (v5558 : BitVec 32) (v5600 : BitVec 32) (k0_hw823 : k0_chk823 i v5555 v5558 v5600), ∀ a, (k0_off1648 i v5555 v5558 v5600) a + S1x128.size a ≤ S8224x128.size a := fun i v5555 v5558 v5600 k0_hw823 => k0_hw823

def k0_off1649 (v5555 : BitVec 32) : Fin 1 → Nat :=
  let c3_i32_2161 : BitVec 32 := 3#32
  let v5611 : BitVec 32 := Scalar.addi v5555 c3_i32_2161
  let v5614 : Index := Scalar.indexCast v5611
  ![v5614.toNat]
def k0_off1650 (i : grid0.Coords) (v5555 : BitVec 32) (v5558 : BitVec 32) (v5615 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_2162 : BitVec 32 := 3#32
  let v5612 : BitVec 32 := Scalar.addi v5555 c3_i32_2162
  let v5613 : BitVec 1 := Scalar.cmpi .slt v5612 v5558
  let c65535_i32_2163 : BitVec 32 := 65535#32
  let v5616 : BitVec 32 := Scalar.andi v5615 c65535_i32_2163
  let c2048_i32_2164 : BitVec 32 := 2048#32
  let v5617 : BitVec 32 := Scalar.select v5613 v5616 c2048_i32_2164
  let v5618 : BitVec 32 := Scalar.addi v1470 v5617
  let v5621 : Index := Scalar.indexCast v5618
  let c0_2166 : Index := 0#32
  ![v5621.toNat, 0]

def k0_chk824 (i : grid0.Coords) (v5555 : BitVec 32) (v5558 : BitVec 32) (v5615 : BitVec 32) : Prop :=
  (∀ a, (k0_off1650 i v5555 v5558 v5615) a + S1x128.size a ≤ S8224x128.size a)
theorem k0_off1650_inb : ∀ (i : grid0.Coords) (v5555 : BitVec 32) (v5558 : BitVec 32) (v5615 : BitVec 32) (k0_hw824 : k0_chk824 i v5555 v5558 v5615), ∀ a, (k0_off1650 i v5555 v5558 v5615) a + S1x128.size a ≤ S8224x128.size a := fun i v5555 v5558 v5615 k0_hw824 => k0_hw824

def k0_off1651 (v5555 : BitVec 32) : Fin 1 → Nat :=
  let c4_i32_2167 : BitVec 32 := 4#32
  let v5626 : BitVec 32 := Scalar.addi v5555 c4_i32_2167
  let v5629 : Index := Scalar.indexCast v5626
  ![v5629.toNat]
def k0_off1652 (i : grid0.Coords) (v5555 : BitVec 32) (v5558 : BitVec 32) (v5630 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_2168 : BitVec 32 := 4#32
  let v5627 : BitVec 32 := Scalar.addi v5555 c4_i32_2168
  let v5628 : BitVec 1 := Scalar.cmpi .slt v5627 v5558
  let c65535_i32_2169 : BitVec 32 := 65535#32
  let v5631 : BitVec 32 := Scalar.andi v5630 c65535_i32_2169
  let c2048_i32_2170 : BitVec 32 := 2048#32
  let v5632 : BitVec 32 := Scalar.select v5628 v5631 c2048_i32_2170
  let v5633 : BitVec 32 := Scalar.addi v1470 v5632
  let v5636 : Index := Scalar.indexCast v5633
  let c0_2172 : Index := 0#32
  ![v5636.toNat, 0]

def k0_chk825 (i : grid0.Coords) (v5555 : BitVec 32) (v5558 : BitVec 32) (v5630 : BitVec 32) : Prop :=
  (∀ a, (k0_off1652 i v5555 v5558 v5630) a + S1x128.size a ≤ S8224x128.size a)
theorem k0_off1652_inb : ∀ (i : grid0.Coords) (v5555 : BitVec 32) (v5558 : BitVec 32) (v5630 : BitVec 32) (k0_hw825 : k0_chk825 i v5555 v5558 v5630), ∀ a, (k0_off1652 i v5555 v5558 v5630) a + S1x128.size a ≤ S8224x128.size a := fun i v5555 v5558 v5630 k0_hw825 => k0_hw825

def k0_off1653 (v5555 : BitVec 32) : Fin 1 → Nat :=
  let c5_i32_2173 : BitVec 32 := 5#32
  let v5641 : BitVec 32 := Scalar.addi v5555 c5_i32_2173
  let v5644 : Index := Scalar.indexCast v5641
  ![v5644.toNat]
def k0_off1654 (i : grid0.Coords) (v5555 : BitVec 32) (v5558 : BitVec 32) (v5645 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_2174 : BitVec 32 := 5#32
  let v5642 : BitVec 32 := Scalar.addi v5555 c5_i32_2174
  let v5643 : BitVec 1 := Scalar.cmpi .slt v5642 v5558
  let c65535_i32_2175 : BitVec 32 := 65535#32
  let v5646 : BitVec 32 := Scalar.andi v5645 c65535_i32_2175
  let c2048_i32_2176 : BitVec 32 := 2048#32
  let v5647 : BitVec 32 := Scalar.select v5643 v5646 c2048_i32_2176
  let v5648 : BitVec 32 := Scalar.addi v1470 v5647
  let v5651 : Index := Scalar.indexCast v5648
  let c0_2178 : Index := 0#32
  ![v5651.toNat, 0]

def k0_chk826 (i : grid0.Coords) (v5555 : BitVec 32) (v5558 : BitVec 32) (v5645 : BitVec 32) : Prop :=
  (∀ a, (k0_off1654 i v5555 v5558 v5645) a + S1x128.size a ≤ S8224x128.size a)
theorem k0_off1654_inb : ∀ (i : grid0.Coords) (v5555 : BitVec 32) (v5558 : BitVec 32) (v5645 : BitVec 32) (k0_hw826 : k0_chk826 i v5555 v5558 v5645), ∀ a, (k0_off1654 i v5555 v5558 v5645) a + S1x128.size a ≤ S8224x128.size a := fun i v5555 v5558 v5645 k0_hw826 => k0_hw826

def k0_off1655 (v5555 : BitVec 32) : Fin 1 → Nat :=
  let c6_i32_2179 : BitVec 32 := 6#32
  let v5656 : BitVec 32 := Scalar.addi v5555 c6_i32_2179
  let v5659 : Index := Scalar.indexCast v5656
  ![v5659.toNat]
def k0_off1656 (i : grid0.Coords) (v5555 : BitVec 32) (v5558 : BitVec 32) (v5660 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_2180 : BitVec 32 := 6#32
  let v5657 : BitVec 32 := Scalar.addi v5555 c6_i32_2180
  let v5658 : BitVec 1 := Scalar.cmpi .slt v5657 v5558
  let c65535_i32_2181 : BitVec 32 := 65535#32
  let v5661 : BitVec 32 := Scalar.andi v5660 c65535_i32_2181
  let c2048_i32_2182 : BitVec 32 := 2048#32
  let v5662 : BitVec 32 := Scalar.select v5658 v5661 c2048_i32_2182
  let v5663 : BitVec 32 := Scalar.addi v1470 v5662
  let v5666 : Index := Scalar.indexCast v5663
  let c0_2184 : Index := 0#32
  ![v5666.toNat, 0]

def k0_chk827 (i : grid0.Coords) (v5555 : BitVec 32) (v5558 : BitVec 32) (v5660 : BitVec 32) : Prop :=
  (∀ a, (k0_off1656 i v5555 v5558 v5660) a + S1x128.size a ≤ S8224x128.size a)
theorem k0_off1656_inb : ∀ (i : grid0.Coords) (v5555 : BitVec 32) (v5558 : BitVec 32) (v5660 : BitVec 32) (k0_hw827 : k0_chk827 i v5555 v5558 v5660), ∀ a, (k0_off1656 i v5555 v5558 v5660) a + S1x128.size a ≤ S8224x128.size a := fun i v5555 v5558 v5660 k0_hw827 => k0_hw827

def k0_off1657 (v5555 : BitVec 32) : Fin 1 → Nat :=
  let c7_i32_2185 : BitVec 32 := 7#32
  let v5671 : BitVec 32 := Scalar.addi v5555 c7_i32_2185
  let v5674 : Index := Scalar.indexCast v5671
  ![v5674.toNat]
def k0_off1658 (i : grid0.Coords) (v5555 : BitVec 32) (v5558 : BitVec 32) (v5675 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_2186 : BitVec 32 := 7#32
  let v5672 : BitVec 32 := Scalar.addi v5555 c7_i32_2186
  let v5673 : BitVec 1 := Scalar.cmpi .slt v5672 v5558
  let c65535_i32_2187 : BitVec 32 := 65535#32
  let v5676 : BitVec 32 := Scalar.andi v5675 c65535_i32_2187
  let c2048_i32_2188 : BitVec 32 := 2048#32
  let v5677 : BitVec 32 := Scalar.select v5673 v5676 c2048_i32_2188
  let v5678 : BitVec 32 := Scalar.addi v1470 v5677
  let v5681 : Index := Scalar.indexCast v5678
  let c0_2190 : Index := 0#32
  ![v5681.toNat, 0]

def k0_chk828 (i : grid0.Coords) (v5555 : BitVec 32) (v5558 : BitVec 32) (v5675 : BitVec 32) : Prop :=
  (∀ a, (k0_off1658 i v5555 v5558 v5675) a + S1x128.size a ≤ S8224x128.size a)
theorem k0_off1658_inb : ∀ (i : grid0.Coords) (v5555 : BitVec 32) (v5558 : BitVec 32) (v5675 : BitVec 32) (k0_hw828 : k0_chk828 i v5555 v5558 v5675), ∀ a, (k0_off1658 i v5555 v5558 v5675) a + S1x128.size a ≤ S8224x128.size a := fun i v5555 v5558 v5675 k0_hw828 => k0_hw828

def k0_off1659 (v5555 : BitVec 32) : Fin 1 → Nat :=
  let c8_i32_2191 : BitVec 32 := 8#32
  let v5686 : BitVec 32 := Scalar.addi v5555 c8_i32_2191
  let v5689 : Index := Scalar.indexCast v5686
  ![v5689.toNat]
def k0_off1660 (i : grid0.Coords) (v5555 : BitVec 32) (v5558 : BitVec 32) (v5690 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_2192 : BitVec 32 := 8#32
  let v5687 : BitVec 32 := Scalar.addi v5555 c8_i32_2192
  let v5688 : BitVec 1 := Scalar.cmpi .slt v5687 v5558
  let c65535_i32_2193 : BitVec 32 := 65535#32
  let v5691 : BitVec 32 := Scalar.andi v5690 c65535_i32_2193
  let c2048_i32_2194 : BitVec 32 := 2048#32
  let v5692 : BitVec 32 := Scalar.select v5688 v5691 c2048_i32_2194
  let v5693 : BitVec 32 := Scalar.addi v1470 v5692
  let v5696 : Index := Scalar.indexCast v5693
  let c0_2196 : Index := 0#32
  ![v5696.toNat, 0]

def k0_chk829 (i : grid0.Coords) (v5555 : BitVec 32) (v5558 : BitVec 32) (v5690 : BitVec 32) : Prop :=
  (∀ a, (k0_off1660 i v5555 v5558 v5690) a + S1x128.size a ≤ S8224x128.size a)
theorem k0_off1660_inb : ∀ (i : grid0.Coords) (v5555 : BitVec 32) (v5558 : BitVec 32) (v5690 : BitVec 32) (k0_hw829 : k0_chk829 i v5555 v5558 v5690), ∀ a, (k0_off1660 i v5555 v5558 v5690) a + S1x128.size a ≤ S8224x128.size a := fun i v5555 v5558 v5690 k0_hw829 => k0_hw829

def k0_off1661 (v5555 : BitVec 32) : Fin 1 → Nat :=
  let c9_i32_2197 : BitVec 32 := 9#32
  let v5701 : BitVec 32 := Scalar.addi v5555 c9_i32_2197
  let v5704 : Index := Scalar.indexCast v5701
  ![v5704.toNat]
def k0_off1662 (i : grid0.Coords) (v5555 : BitVec 32) (v5558 : BitVec 32) (v5705 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_2198 : BitVec 32 := 9#32
  let v5702 : BitVec 32 := Scalar.addi v5555 c9_i32_2198
  let v5703 : BitVec 1 := Scalar.cmpi .slt v5702 v5558
  let c65535_i32_2199 : BitVec 32 := 65535#32
  let v5706 : BitVec 32 := Scalar.andi v5705 c65535_i32_2199
  let c2048_i32_2200 : BitVec 32 := 2048#32
  let v5707 : BitVec 32 := Scalar.select v5703 v5706 c2048_i32_2200
  let v5708 : BitVec 32 := Scalar.addi v1470 v5707
  let v5711 : Index := Scalar.indexCast v5708
  let c0_2202 : Index := 0#32
  ![v5711.toNat, 0]

def k0_chk830 (i : grid0.Coords) (v5555 : BitVec 32) (v5558 : BitVec 32) (v5705 : BitVec 32) : Prop :=
  (∀ a, (k0_off1662 i v5555 v5558 v5705) a + S1x128.size a ≤ S8224x128.size a)
theorem k0_off1662_inb : ∀ (i : grid0.Coords) (v5555 : BitVec 32) (v5558 : BitVec 32) (v5705 : BitVec 32) (k0_hw830 : k0_chk830 i v5555 v5558 v5705), ∀ a, (k0_off1662 i v5555 v5558 v5705) a + S1x128.size a ≤ S8224x128.size a := fun i v5555 v5558 v5705 k0_hw830 => k0_hw830

def k0_off1663 (v5555 : BitVec 32) : Fin 1 → Nat :=
  let c10_i32_2203 : BitVec 32 := 10#32
  let v5716 : BitVec 32 := Scalar.addi v5555 c10_i32_2203
  let v5719 : Index := Scalar.indexCast v5716
  ![v5719.toNat]
def k0_off1664 (i : grid0.Coords) (v5555 : BitVec 32) (v5558 : BitVec 32) (v5720 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_2204 : BitVec 32 := 10#32
  let v5717 : BitVec 32 := Scalar.addi v5555 c10_i32_2204
  let v5718 : BitVec 1 := Scalar.cmpi .slt v5717 v5558
  let c65535_i32_2205 : BitVec 32 := 65535#32
  let v5721 : BitVec 32 := Scalar.andi v5720 c65535_i32_2205
  let c2048_i32_2206 : BitVec 32 := 2048#32
  let v5722 : BitVec 32 := Scalar.select v5718 v5721 c2048_i32_2206
  let v5723 : BitVec 32 := Scalar.addi v1470 v5722
  let v5726 : Index := Scalar.indexCast v5723
  let c0_2208 : Index := 0#32
  ![v5726.toNat, 0]

def k0_chk831 (i : grid0.Coords) (v5555 : BitVec 32) (v5558 : BitVec 32) (v5720 : BitVec 32) : Prop :=
  (∀ a, (k0_off1664 i v5555 v5558 v5720) a + S1x128.size a ≤ S8224x128.size a)
theorem k0_off1664_inb : ∀ (i : grid0.Coords) (v5555 : BitVec 32) (v5558 : BitVec 32) (v5720 : BitVec 32) (k0_hw831 : k0_chk831 i v5555 v5558 v5720), ∀ a, (k0_off1664 i v5555 v5558 v5720) a + S1x128.size a ≤ S8224x128.size a := fun i v5555 v5558 v5720 k0_hw831 => k0_hw831

def k0_off1665 (v5555 : BitVec 32) : Fin 1 → Nat :=
  let c11_i32_2209 : BitVec 32 := 11#32
  let v5731 : BitVec 32 := Scalar.addi v5555 c11_i32_2209
  let v5734 : Index := Scalar.indexCast v5731
  ![v5734.toNat]
def k0_off1666 (i : grid0.Coords) (v5555 : BitVec 32) (v5558 : BitVec 32) (v5735 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_2210 : BitVec 32 := 11#32
  let v5732 : BitVec 32 := Scalar.addi v5555 c11_i32_2210
  let v5733 : BitVec 1 := Scalar.cmpi .slt v5732 v5558
  let c65535_i32_2211 : BitVec 32 := 65535#32
  let v5736 : BitVec 32 := Scalar.andi v5735 c65535_i32_2211
  let c2048_i32_2212 : BitVec 32 := 2048#32
  let v5737 : BitVec 32 := Scalar.select v5733 v5736 c2048_i32_2212
  let v5738 : BitVec 32 := Scalar.addi v1470 v5737
  let v5741 : Index := Scalar.indexCast v5738
  let c0_2214 : Index := 0#32
  ![v5741.toNat, 0]

def k0_chk832 (i : grid0.Coords) (v5555 : BitVec 32) (v5558 : BitVec 32) (v5735 : BitVec 32) : Prop :=
  (∀ a, (k0_off1666 i v5555 v5558 v5735) a + S1x128.size a ≤ S8224x128.size a)
theorem k0_off1666_inb : ∀ (i : grid0.Coords) (v5555 : BitVec 32) (v5558 : BitVec 32) (v5735 : BitVec 32) (k0_hw832 : k0_chk832 i v5555 v5558 v5735), ∀ a, (k0_off1666 i v5555 v5558 v5735) a + S1x128.size a ≤ S8224x128.size a := fun i v5555 v5558 v5735 k0_hw832 => k0_hw832

def k0_off1667 (v5555 : BitVec 32) : Fin 1 → Nat :=
  let c12_i32_2215 : BitVec 32 := 12#32
  let v5746 : BitVec 32 := Scalar.addi v5555 c12_i32_2215
  let v5749 : Index := Scalar.indexCast v5746
  ![v5749.toNat]
def k0_off1668 (i : grid0.Coords) (v5555 : BitVec 32) (v5558 : BitVec 32) (v5750 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_2216 : BitVec 32 := 12#32
  let v5747 : BitVec 32 := Scalar.addi v5555 c12_i32_2216
  let v5748 : BitVec 1 := Scalar.cmpi .slt v5747 v5558
  let c65535_i32_2217 : BitVec 32 := 65535#32
  let v5751 : BitVec 32 := Scalar.andi v5750 c65535_i32_2217
  let c2048_i32_2218 : BitVec 32 := 2048#32
  let v5752 : BitVec 32 := Scalar.select v5748 v5751 c2048_i32_2218
  let v5753 : BitVec 32 := Scalar.addi v1470 v5752
  let v5756 : Index := Scalar.indexCast v5753
  let c0_2220 : Index := 0#32
  ![v5756.toNat, 0]

def k0_chk833 (i : grid0.Coords) (v5555 : BitVec 32) (v5558 : BitVec 32) (v5750 : BitVec 32) : Prop :=
  (∀ a, (k0_off1668 i v5555 v5558 v5750) a + S1x128.size a ≤ S8224x128.size a)
theorem k0_off1668_inb : ∀ (i : grid0.Coords) (v5555 : BitVec 32) (v5558 : BitVec 32) (v5750 : BitVec 32) (k0_hw833 : k0_chk833 i v5555 v5558 v5750), ∀ a, (k0_off1668 i v5555 v5558 v5750) a + S1x128.size a ≤ S8224x128.size a := fun i v5555 v5558 v5750 k0_hw833 => k0_hw833

def k0_off1669 (v5555 : BitVec 32) : Fin 1 → Nat :=
  let c13_i32_2221 : BitVec 32 := 13#32
  let v5761 : BitVec 32 := Scalar.addi v5555 c13_i32_2221
  let v5764 : Index := Scalar.indexCast v5761
  ![v5764.toNat]
def k0_off1670 (i : grid0.Coords) (v5555 : BitVec 32) (v5558 : BitVec 32) (v5765 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_2222 : BitVec 32 := 13#32
  let v5762 : BitVec 32 := Scalar.addi v5555 c13_i32_2222
  let v5763 : BitVec 1 := Scalar.cmpi .slt v5762 v5558
  let c65535_i32_2223 : BitVec 32 := 65535#32
  let v5766 : BitVec 32 := Scalar.andi v5765 c65535_i32_2223
  let c2048_i32_2224 : BitVec 32 := 2048#32
  let v5767 : BitVec 32 := Scalar.select v5763 v5766 c2048_i32_2224
  let v5768 : BitVec 32 := Scalar.addi v1470 v5767
  let v5771 : Index := Scalar.indexCast v5768
  let c0_2226 : Index := 0#32
  ![v5771.toNat, 0]

def k0_chk834 (i : grid0.Coords) (v5555 : BitVec 32) (v5558 : BitVec 32) (v5765 : BitVec 32) : Prop :=
  (∀ a, (k0_off1670 i v5555 v5558 v5765) a + S1x128.size a ≤ S8224x128.size a)
theorem k0_off1670_inb : ∀ (i : grid0.Coords) (v5555 : BitVec 32) (v5558 : BitVec 32) (v5765 : BitVec 32) (k0_hw834 : k0_chk834 i v5555 v5558 v5765), ∀ a, (k0_off1670 i v5555 v5558 v5765) a + S1x128.size a ≤ S8224x128.size a := fun i v5555 v5558 v5765 k0_hw834 => k0_hw834

def k0_off1671 (v5555 : BitVec 32) : Fin 1 → Nat :=
  let c14_i32_2227 : BitVec 32 := 14#32
  let v5776 : BitVec 32 := Scalar.addi v5555 c14_i32_2227
  let v5779 : Index := Scalar.indexCast v5776
  ![v5779.toNat]
def k0_off1672 (i : grid0.Coords) (v5555 : BitVec 32) (v5558 : BitVec 32) (v5780 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_2228 : BitVec 32 := 14#32
  let v5777 : BitVec 32 := Scalar.addi v5555 c14_i32_2228
  let v5778 : BitVec 1 := Scalar.cmpi .slt v5777 v5558
  let c65535_i32_2229 : BitVec 32 := 65535#32
  let v5781 : BitVec 32 := Scalar.andi v5780 c65535_i32_2229
  let c2048_i32_2230 : BitVec 32 := 2048#32
  let v5782 : BitVec 32 := Scalar.select v5778 v5781 c2048_i32_2230
  let v5783 : BitVec 32 := Scalar.addi v1470 v5782
  let v5786 : Index := Scalar.indexCast v5783
  let c0_2232 : Index := 0#32
  ![v5786.toNat, 0]

def k0_chk835 (i : grid0.Coords) (v5555 : BitVec 32) (v5558 : BitVec 32) (v5780 : BitVec 32) : Prop :=
  (∀ a, (k0_off1672 i v5555 v5558 v5780) a + S1x128.size a ≤ S8224x128.size a)
theorem k0_off1672_inb : ∀ (i : grid0.Coords) (v5555 : BitVec 32) (v5558 : BitVec 32) (v5780 : BitVec 32) (k0_hw835 : k0_chk835 i v5555 v5558 v5780), ∀ a, (k0_off1672 i v5555 v5558 v5780) a + S1x128.size a ≤ S8224x128.size a := fun i v5555 v5558 v5780 k0_hw835 => k0_hw835

def k0_off1673 (v5555 : BitVec 32) : Fin 1 → Nat :=
  let c15_i32_2233 : BitVec 32 := 15#32
  let v5791 : BitVec 32 := Scalar.addi v5555 c15_i32_2233
  let v5794 : Index := Scalar.indexCast v5791
  ![v5794.toNat]

def k0_chk820 (v5555 : BitVec 32) : Prop :=
  (∀ a, (k0_off1643 v5555) a + S1.size a ≤ S51920.size a) ∧
  (∀ a, (k0_off1645 v5555) a + S1.size a ≤ S51920.size a) ∧
  (∀ a, (k0_off1647 v5555) a + S1.size a ≤ S51920.size a) ∧
  (∀ a, (k0_off1649 v5555) a + S1.size a ≤ S51920.size a) ∧
  (∀ a, (k0_off1651 v5555) a + S1.size a ≤ S51920.size a) ∧
  (∀ a, (k0_off1653 v5555) a + S1.size a ≤ S51920.size a) ∧
  (∀ a, (k0_off1655 v5555) a + S1.size a ≤ S51920.size a) ∧
  (∀ a, (k0_off1657 v5555) a + S1.size a ≤ S51920.size a) ∧
  (∀ a, (k0_off1659 v5555) a + S1.size a ≤ S51920.size a) ∧
  (∀ a, (k0_off1661 v5555) a + S1.size a ≤ S51920.size a) ∧
  (∀ a, (k0_off1663 v5555) a + S1.size a ≤ S51920.size a) ∧
  (∀ a, (k0_off1665 v5555) a + S1.size a ≤ S51920.size a) ∧
  (∀ a, (k0_off1667 v5555) a + S1.size a ≤ S51920.size a) ∧
  (∀ a, (k0_off1669 v5555) a + S1.size a ≤ S51920.size a) ∧
  (∀ a, (k0_off1671 v5555) a + S1.size a ≤ S51920.size a) ∧
  (∀ a, (k0_off1673 v5555) a + S1.size a ≤ S51920.size a)
theorem k0_off1643_inb : ∀ (v5555 : BitVec 32) (k0_hw820 : k0_chk820 v5555), ∀ a, (k0_off1643 v5555) a + S1.size a ≤ S51920.size a := fun v5555 k0_hw820 => k0_hw820.1
theorem k0_off1645_inb : ∀ (v5555 : BitVec 32) (k0_hw820 : k0_chk820 v5555), ∀ a, (k0_off1645 v5555) a + S1.size a ≤ S51920.size a := fun v5555 k0_hw820 => k0_hw820.2.1
theorem k0_off1647_inb : ∀ (v5555 : BitVec 32) (k0_hw820 : k0_chk820 v5555), ∀ a, (k0_off1647 v5555) a + S1.size a ≤ S51920.size a := fun v5555 k0_hw820 => k0_hw820.2.2.1
theorem k0_off1649_inb : ∀ (v5555 : BitVec 32) (k0_hw820 : k0_chk820 v5555), ∀ a, (k0_off1649 v5555) a + S1.size a ≤ S51920.size a := fun v5555 k0_hw820 => k0_hw820.2.2.2.1
theorem k0_off1651_inb : ∀ (v5555 : BitVec 32) (k0_hw820 : k0_chk820 v5555), ∀ a, (k0_off1651 v5555) a + S1.size a ≤ S51920.size a := fun v5555 k0_hw820 => k0_hw820.2.2.2.2.1
theorem k0_off1653_inb : ∀ (v5555 : BitVec 32) (k0_hw820 : k0_chk820 v5555), ∀ a, (k0_off1653 v5555) a + S1.size a ≤ S51920.size a := fun v5555 k0_hw820 => k0_hw820.2.2.2.2.2.1
theorem k0_off1655_inb : ∀ (v5555 : BitVec 32) (k0_hw820 : k0_chk820 v5555), ∀ a, (k0_off1655 v5555) a + S1.size a ≤ S51920.size a := fun v5555 k0_hw820 => k0_hw820.2.2.2.2.2.2.1
theorem k0_off1657_inb : ∀ (v5555 : BitVec 32) (k0_hw820 : k0_chk820 v5555), ∀ a, (k0_off1657 v5555) a + S1.size a ≤ S51920.size a := fun v5555 k0_hw820 => k0_hw820.2.2.2.2.2.2.2.1
theorem k0_off1659_inb : ∀ (v5555 : BitVec 32) (k0_hw820 : k0_chk820 v5555), ∀ a, (k0_off1659 v5555) a + S1.size a ≤ S51920.size a := fun v5555 k0_hw820 => k0_hw820.2.2.2.2.2.2.2.2.1
theorem k0_off1661_inb : ∀ (v5555 : BitVec 32) (k0_hw820 : k0_chk820 v5555), ∀ a, (k0_off1661 v5555) a + S1.size a ≤ S51920.size a := fun v5555 k0_hw820 => k0_hw820.2.2.2.2.2.2.2.2.2.1
theorem k0_off1663_inb : ∀ (v5555 : BitVec 32) (k0_hw820 : k0_chk820 v5555), ∀ a, (k0_off1663 v5555) a + S1.size a ≤ S51920.size a := fun v5555 k0_hw820 => k0_hw820.2.2.2.2.2.2.2.2.2.2.1
theorem k0_off1665_inb : ∀ (v5555 : BitVec 32) (k0_hw820 : k0_chk820 v5555), ∀ a, (k0_off1665 v5555) a + S1.size a ≤ S51920.size a := fun v5555 k0_hw820 => k0_hw820.2.2.2.2.2.2.2.2.2.2.2.1
theorem k0_off1667_inb : ∀ (v5555 : BitVec 32) (k0_hw820 : k0_chk820 v5555), ∀ a, (k0_off1667 v5555) a + S1.size a ≤ S51920.size a := fun v5555 k0_hw820 => k0_hw820.2.2.2.2.2.2.2.2.2.2.2.2.1
theorem k0_off1669_inb : ∀ (v5555 : BitVec 32) (k0_hw820 : k0_chk820 v5555), ∀ a, (k0_off1669 v5555) a + S1.size a ≤ S51920.size a := fun v5555 k0_hw820 => k0_hw820.2.2.2.2.2.2.2.2.2.2.2.2.2.1
theorem k0_off1671_inb : ∀ (v5555 : BitVec 32) (k0_hw820 : k0_chk820 v5555), ∀ a, (k0_off1671 v5555) a + S1.size a ≤ S51920.size a := fun v5555 k0_hw820 => k0_hw820.2.2.2.2.2.2.2.2.2.2.2.2.2.2.1
theorem k0_off1673_inb : ∀ (v5555 : BitVec 32) (k0_hw820 : k0_chk820 v5555), ∀ a, (k0_off1673 v5555) a + S1.size a ≤ S51920.size a := fun v5555 k0_hw820 => k0_hw820.2.2.2.2.2.2.2.2.2.2.2.2.2.2.2

def k0_off1674 (i : grid0.Coords) (v5555 : BitVec 32) (v5558 : BitVec 32) (v5795 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_2234 : BitVec 32 := 15#32
  let v5792 : BitVec 32 := Scalar.addi v5555 c15_i32_2234
  let v5793 : BitVec 1 := Scalar.cmpi .slt v5792 v5558
  let c65535_i32_2235 : BitVec 32 := 65535#32
  let v5796 : BitVec 32 := Scalar.andi v5795 c65535_i32_2235
  let c2048_i32_2236 : BitVec 32 := 2048#32
  let v5797 : BitVec 32 := Scalar.select v5793 v5796 c2048_i32_2236
  let v5798 : BitVec 32 := Scalar.addi v1470 v5797
  let v5801 : Index := Scalar.indexCast v5798
  let c0_2238 : Index := 0#32
  ![v5801.toNat, 0]

def k0_chk836 (i : grid0.Coords) (v5555 : BitVec 32) (v5558 : BitVec 32) (v5795 : BitVec 32) : Prop :=
  (∀ a, (k0_off1674 i v5555 v5558 v5795) a + S1x128.size a ≤ S8224x128.size a)
theorem k0_off1674_inb : ∀ (i : grid0.Coords) (v5555 : BitVec 32) (v5558 : BitVec 32) (v5795 : BitVec 32) (k0_hw836 : k0_chk836 i v5555 v5558 v5795), ∀ a, (k0_off1674 i v5555 v5558 v5795) a + S1x128.size a ≤ S8224x128.size a := fun i v5555 v5558 v5795 k0_hw836 => k0_hw836

def k0_off1675 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2239 : BitVec 32 := 512#32
  let v5806 : BitVec 32 := Scalar.muli v24 c512_i32_2239
  let arg1 : BitVec 32 := BitVec.ofNat 32 (i 1).val
  let c32_i32 : BitVec 32 := 32#32
  let v1452 : BitVec 32 := Scalar.muli arg1 c32_i32
  let v5807 : BitVec 32 := Scalar.addi v5806 v1452
  let c17_i32 : BitVec 32 := 17#32
  let v5808 : BitVec 32 := Scalar.addi v5807 c17_i32
  let v5809 : Index := Scalar.indexCast v5808
  ![v5809.toNat]
def k0_off1676 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2239 : BitVec 32 := 512#32
  let v5806 : BitVec 32 := Scalar.muli v24 c512_i32_2239
  let arg1 : BitVec 32 := BitVec.ofNat 32 (i 1).val
  let c32_i32 : BitVec 32 := 32#32
  let v1452 : BitVec 32 := Scalar.muli arg1 c32_i32
  let v5807 : BitVec 32 := Scalar.addi v5806 v1452
  let c17_i32 : BitVec 32 := 17#32
  let v5808 : BitVec 32 := Scalar.addi v5807 c17_i32
  let c1_i32_2240 : BitVec 32 := 1#32
  let v5811 : BitVec 32 := Scalar.addi v5808 c1_i32_2240
  let v5812 : Index := Scalar.indexCast v5811
  ![v5812.toNat]
def k0_off1677 (v5810 : BitVec 32) : Fin 1 → Nat :=
  let c0_i32_2243 : BitVec 32 := 0#32
  let v5821 : BitVec 32 := Scalar.addi v5810 c0_i32_2243
  let v5824 : Index := Scalar.indexCast v5821
  ![v5824.toNat]

def k0_off1678 (i : grid0.Coords) (v5810 : BitVec 32) (v5813 : BitVec 32) (v5825 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_2244 : BitVec 32 := 0#32
  let v5822 : BitVec 32 := Scalar.addi v5810 c0_i32_2244
  let v5823 : BitVec 1 := Scalar.cmpi .slt v5822 v5813
  let c65535_i32_2245 : BitVec 32 := 65535#32
  let v5826 : BitVec 32 := Scalar.andi v5825 c65535_i32_2245
  let c2048_i32_2246 : BitVec 32 := 2048#32
  let v5827 : BitVec 32 := Scalar.select v5823 v5826 c2048_i32_2246
  let v5828 : BitVec 32 := Scalar.addi v1470 v5827
  let v5831 : Index := Scalar.indexCast v5828
  let c0_2248 : Index := 0#32
  ![v5831.toNat, 0]

def k0_chk838 (i : grid0.Coords) (v5810 : BitVec 32) (v5813 : BitVec 32) (v5825 : BitVec 32) : Prop :=
  (∀ a, (k0_off1678 i v5810 v5813 v5825) a + S1x128.size a ≤ S8224x128.size a)
theorem k0_off1678_inb : ∀ (i : grid0.Coords) (v5810 : BitVec 32) (v5813 : BitVec 32) (v5825 : BitVec 32) (k0_hw838 : k0_chk838 i v5810 v5813 v5825), ∀ a, (k0_off1678 i v5810 v5813 v5825) a + S1x128.size a ≤ S8224x128.size a := fun i v5810 v5813 v5825 k0_hw838 => k0_hw838

def k0_off1679 (v5810 : BitVec 32) : Fin 1 → Nat :=
  let c1_i32_2249 : BitVec 32 := 1#32
  let v5836 : BitVec 32 := Scalar.addi v5810 c1_i32_2249
  let v5839 : Index := Scalar.indexCast v5836
  ![v5839.toNat]
def k0_off1680 (i : grid0.Coords) (v5810 : BitVec 32) (v5813 : BitVec 32) (v5840 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_2250 : BitVec 32 := 1#32
  let v5837 : BitVec 32 := Scalar.addi v5810 c1_i32_2250
  let v5838 : BitVec 1 := Scalar.cmpi .slt v5837 v5813
  let c65535_i32_2251 : BitVec 32 := 65535#32
  let v5841 : BitVec 32 := Scalar.andi v5840 c65535_i32_2251
  let c2048_i32_2252 : BitVec 32 := 2048#32
  let v5842 : BitVec 32 := Scalar.select v5838 v5841 c2048_i32_2252
  let v5843 : BitVec 32 := Scalar.addi v1470 v5842
  let v5846 : Index := Scalar.indexCast v5843
  let c0_2254 : Index := 0#32
  ![v5846.toNat, 0]

def k0_chk839 (i : grid0.Coords) (v5810 : BitVec 32) (v5813 : BitVec 32) (v5840 : BitVec 32) : Prop :=
  (∀ a, (k0_off1680 i v5810 v5813 v5840) a + S1x128.size a ≤ S8224x128.size a)
theorem k0_off1680_inb : ∀ (i : grid0.Coords) (v5810 : BitVec 32) (v5813 : BitVec 32) (v5840 : BitVec 32) (k0_hw839 : k0_chk839 i v5810 v5813 v5840), ∀ a, (k0_off1680 i v5810 v5813 v5840) a + S1x128.size a ≤ S8224x128.size a := fun i v5810 v5813 v5840 k0_hw839 => k0_hw839

def k0_off1681 (v5810 : BitVec 32) : Fin 1 → Nat :=
  let c2_i32_2255 : BitVec 32 := 2#32
  let v5851 : BitVec 32 := Scalar.addi v5810 c2_i32_2255
  let v5854 : Index := Scalar.indexCast v5851
  ![v5854.toNat]
def k0_off1682 (i : grid0.Coords) (v5810 : BitVec 32) (v5813 : BitVec 32) (v5855 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_2256 : BitVec 32 := 2#32
  let v5852 : BitVec 32 := Scalar.addi v5810 c2_i32_2256
  let v5853 : BitVec 1 := Scalar.cmpi .slt v5852 v5813
  let c65535_i32_2257 : BitVec 32 := 65535#32
  let v5856 : BitVec 32 := Scalar.andi v5855 c65535_i32_2257
  let c2048_i32_2258 : BitVec 32 := 2048#32
  let v5857 : BitVec 32 := Scalar.select v5853 v5856 c2048_i32_2258
  let v5858 : BitVec 32 := Scalar.addi v1470 v5857
  let v5861 : Index := Scalar.indexCast v5858
  let c0_2260 : Index := 0#32
  ![v5861.toNat, 0]

def k0_chk840 (i : grid0.Coords) (v5810 : BitVec 32) (v5813 : BitVec 32) (v5855 : BitVec 32) : Prop :=
  (∀ a, (k0_off1682 i v5810 v5813 v5855) a + S1x128.size a ≤ S8224x128.size a)
theorem k0_off1682_inb : ∀ (i : grid0.Coords) (v5810 : BitVec 32) (v5813 : BitVec 32) (v5855 : BitVec 32) (k0_hw840 : k0_chk840 i v5810 v5813 v5855), ∀ a, (k0_off1682 i v5810 v5813 v5855) a + S1x128.size a ≤ S8224x128.size a := fun i v5810 v5813 v5855 k0_hw840 => k0_hw840

def k0_off1683 (v5810 : BitVec 32) : Fin 1 → Nat :=
  let c3_i32_2261 : BitVec 32 := 3#32
  let v5866 : BitVec 32 := Scalar.addi v5810 c3_i32_2261
  let v5869 : Index := Scalar.indexCast v5866
  ![v5869.toNat]
def k0_off1684 (i : grid0.Coords) (v5810 : BitVec 32) (v5813 : BitVec 32) (v5870 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_2262 : BitVec 32 := 3#32
  let v5867 : BitVec 32 := Scalar.addi v5810 c3_i32_2262
  let v5868 : BitVec 1 := Scalar.cmpi .slt v5867 v5813
  let c65535_i32_2263 : BitVec 32 := 65535#32
  let v5871 : BitVec 32 := Scalar.andi v5870 c65535_i32_2263
  let c2048_i32_2264 : BitVec 32 := 2048#32
  let v5872 : BitVec 32 := Scalar.select v5868 v5871 c2048_i32_2264
  let v5873 : BitVec 32 := Scalar.addi v1470 v5872
  let v5876 : Index := Scalar.indexCast v5873
  let c0_2266 : Index := 0#32
  ![v5876.toNat, 0]

def k0_chk841 (i : grid0.Coords) (v5810 : BitVec 32) (v5813 : BitVec 32) (v5870 : BitVec 32) : Prop :=
  (∀ a, (k0_off1684 i v5810 v5813 v5870) a + S1x128.size a ≤ S8224x128.size a)
theorem k0_off1684_inb : ∀ (i : grid0.Coords) (v5810 : BitVec 32) (v5813 : BitVec 32) (v5870 : BitVec 32) (k0_hw841 : k0_chk841 i v5810 v5813 v5870), ∀ a, (k0_off1684 i v5810 v5813 v5870) a + S1x128.size a ≤ S8224x128.size a := fun i v5810 v5813 v5870 k0_hw841 => k0_hw841

def k0_off1685 (v5810 : BitVec 32) : Fin 1 → Nat :=
  let c4_i32_2267 : BitVec 32 := 4#32
  let v5881 : BitVec 32 := Scalar.addi v5810 c4_i32_2267
  let v5884 : Index := Scalar.indexCast v5881
  ![v5884.toNat]
def k0_off1686 (i : grid0.Coords) (v5810 : BitVec 32) (v5813 : BitVec 32) (v5885 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_2268 : BitVec 32 := 4#32
  let v5882 : BitVec 32 := Scalar.addi v5810 c4_i32_2268
  let v5883 : BitVec 1 := Scalar.cmpi .slt v5882 v5813
  let c65535_i32_2269 : BitVec 32 := 65535#32
  let v5886 : BitVec 32 := Scalar.andi v5885 c65535_i32_2269
  let c2048_i32_2270 : BitVec 32 := 2048#32
  let v5887 : BitVec 32 := Scalar.select v5883 v5886 c2048_i32_2270
  let v5888 : BitVec 32 := Scalar.addi v1470 v5887
  let v5891 : Index := Scalar.indexCast v5888
  let c0_2272 : Index := 0#32
  ![v5891.toNat, 0]

def k0_chk842 (i : grid0.Coords) (v5810 : BitVec 32) (v5813 : BitVec 32) (v5885 : BitVec 32) : Prop :=
  (∀ a, (k0_off1686 i v5810 v5813 v5885) a + S1x128.size a ≤ S8224x128.size a)
theorem k0_off1686_inb : ∀ (i : grid0.Coords) (v5810 : BitVec 32) (v5813 : BitVec 32) (v5885 : BitVec 32) (k0_hw842 : k0_chk842 i v5810 v5813 v5885), ∀ a, (k0_off1686 i v5810 v5813 v5885) a + S1x128.size a ≤ S8224x128.size a := fun i v5810 v5813 v5885 k0_hw842 => k0_hw842

def k0_off1687 (v5810 : BitVec 32) : Fin 1 → Nat :=
  let c5_i32_2273 : BitVec 32 := 5#32
  let v5896 : BitVec 32 := Scalar.addi v5810 c5_i32_2273
  let v5899 : Index := Scalar.indexCast v5896
  ![v5899.toNat]
def k0_off1688 (i : grid0.Coords) (v5810 : BitVec 32) (v5813 : BitVec 32) (v5900 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_2274 : BitVec 32 := 5#32
  let v5897 : BitVec 32 := Scalar.addi v5810 c5_i32_2274
  let v5898 : BitVec 1 := Scalar.cmpi .slt v5897 v5813
  let c65535_i32_2275 : BitVec 32 := 65535#32
  let v5901 : BitVec 32 := Scalar.andi v5900 c65535_i32_2275
  let c2048_i32_2276 : BitVec 32 := 2048#32
  let v5902 : BitVec 32 := Scalar.select v5898 v5901 c2048_i32_2276
  let v5903 : BitVec 32 := Scalar.addi v1470 v5902
  let v5906 : Index := Scalar.indexCast v5903
  let c0_2278 : Index := 0#32
  ![v5906.toNat, 0]

def k0_chk843 (i : grid0.Coords) (v5810 : BitVec 32) (v5813 : BitVec 32) (v5900 : BitVec 32) : Prop :=
  (∀ a, (k0_off1688 i v5810 v5813 v5900) a + S1x128.size a ≤ S8224x128.size a)
theorem k0_off1688_inb : ∀ (i : grid0.Coords) (v5810 : BitVec 32) (v5813 : BitVec 32) (v5900 : BitVec 32) (k0_hw843 : k0_chk843 i v5810 v5813 v5900), ∀ a, (k0_off1688 i v5810 v5813 v5900) a + S1x128.size a ≤ S8224x128.size a := fun i v5810 v5813 v5900 k0_hw843 => k0_hw843

def k0_off1689 (v5810 : BitVec 32) : Fin 1 → Nat :=
  let c6_i32_2279 : BitVec 32 := 6#32
  let v5911 : BitVec 32 := Scalar.addi v5810 c6_i32_2279
  let v5914 : Index := Scalar.indexCast v5911
  ![v5914.toNat]
def k0_off1690 (i : grid0.Coords) (v5810 : BitVec 32) (v5813 : BitVec 32) (v5915 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_2280 : BitVec 32 := 6#32
  let v5912 : BitVec 32 := Scalar.addi v5810 c6_i32_2280
  let v5913 : BitVec 1 := Scalar.cmpi .slt v5912 v5813
  let c65535_i32_2281 : BitVec 32 := 65535#32
  let v5916 : BitVec 32 := Scalar.andi v5915 c65535_i32_2281
  let c2048_i32_2282 : BitVec 32 := 2048#32
  let v5917 : BitVec 32 := Scalar.select v5913 v5916 c2048_i32_2282
  let v5918 : BitVec 32 := Scalar.addi v1470 v5917
  let v5921 : Index := Scalar.indexCast v5918
  let c0_2284 : Index := 0#32
  ![v5921.toNat, 0]

def k0_chk844 (i : grid0.Coords) (v5810 : BitVec 32) (v5813 : BitVec 32) (v5915 : BitVec 32) : Prop :=
  (∀ a, (k0_off1690 i v5810 v5813 v5915) a + S1x128.size a ≤ S8224x128.size a)
theorem k0_off1690_inb : ∀ (i : grid0.Coords) (v5810 : BitVec 32) (v5813 : BitVec 32) (v5915 : BitVec 32) (k0_hw844 : k0_chk844 i v5810 v5813 v5915), ∀ a, (k0_off1690 i v5810 v5813 v5915) a + S1x128.size a ≤ S8224x128.size a := fun i v5810 v5813 v5915 k0_hw844 => k0_hw844

def k0_off1691 (v5810 : BitVec 32) : Fin 1 → Nat :=
  let c7_i32_2285 : BitVec 32 := 7#32
  let v5926 : BitVec 32 := Scalar.addi v5810 c7_i32_2285
  let v5929 : Index := Scalar.indexCast v5926
  ![v5929.toNat]
def k0_off1692 (i : grid0.Coords) (v5810 : BitVec 32) (v5813 : BitVec 32) (v5930 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_2286 : BitVec 32 := 7#32
  let v5927 : BitVec 32 := Scalar.addi v5810 c7_i32_2286
  let v5928 : BitVec 1 := Scalar.cmpi .slt v5927 v5813
  let c65535_i32_2287 : BitVec 32 := 65535#32
  let v5931 : BitVec 32 := Scalar.andi v5930 c65535_i32_2287
  let c2048_i32_2288 : BitVec 32 := 2048#32
  let v5932 : BitVec 32 := Scalar.select v5928 v5931 c2048_i32_2288
  let v5933 : BitVec 32 := Scalar.addi v1470 v5932
  let v5936 : Index := Scalar.indexCast v5933
  let c0_2290 : Index := 0#32
  ![v5936.toNat, 0]

def k0_chk845 (i : grid0.Coords) (v5810 : BitVec 32) (v5813 : BitVec 32) (v5930 : BitVec 32) : Prop :=
  (∀ a, (k0_off1692 i v5810 v5813 v5930) a + S1x128.size a ≤ S8224x128.size a)
theorem k0_off1692_inb : ∀ (i : grid0.Coords) (v5810 : BitVec 32) (v5813 : BitVec 32) (v5930 : BitVec 32) (k0_hw845 : k0_chk845 i v5810 v5813 v5930), ∀ a, (k0_off1692 i v5810 v5813 v5930) a + S1x128.size a ≤ S8224x128.size a := fun i v5810 v5813 v5930 k0_hw845 => k0_hw845

def k0_off1693 (v5810 : BitVec 32) : Fin 1 → Nat :=
  let c8_i32_2291 : BitVec 32 := 8#32
  let v5941 : BitVec 32 := Scalar.addi v5810 c8_i32_2291
  let v5944 : Index := Scalar.indexCast v5941
  ![v5944.toNat]
def k0_off1694 (i : grid0.Coords) (v5810 : BitVec 32) (v5813 : BitVec 32) (v5945 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_2292 : BitVec 32 := 8#32
  let v5942 : BitVec 32 := Scalar.addi v5810 c8_i32_2292
  let v5943 : BitVec 1 := Scalar.cmpi .slt v5942 v5813
  let c65535_i32_2293 : BitVec 32 := 65535#32
  let v5946 : BitVec 32 := Scalar.andi v5945 c65535_i32_2293
  let c2048_i32_2294 : BitVec 32 := 2048#32
  let v5947 : BitVec 32 := Scalar.select v5943 v5946 c2048_i32_2294
  let v5948 : BitVec 32 := Scalar.addi v1470 v5947
  let v5951 : Index := Scalar.indexCast v5948
  let c0_2296 : Index := 0#32
  ![v5951.toNat, 0]

def k0_chk846 (i : grid0.Coords) (v5810 : BitVec 32) (v5813 : BitVec 32) (v5945 : BitVec 32) : Prop :=
  (∀ a, (k0_off1694 i v5810 v5813 v5945) a + S1x128.size a ≤ S8224x128.size a)
theorem k0_off1694_inb : ∀ (i : grid0.Coords) (v5810 : BitVec 32) (v5813 : BitVec 32) (v5945 : BitVec 32) (k0_hw846 : k0_chk846 i v5810 v5813 v5945), ∀ a, (k0_off1694 i v5810 v5813 v5945) a + S1x128.size a ≤ S8224x128.size a := fun i v5810 v5813 v5945 k0_hw846 => k0_hw846

def k0_off1695 (v5810 : BitVec 32) : Fin 1 → Nat :=
  let c9_i32_2297 : BitVec 32 := 9#32
  let v5956 : BitVec 32 := Scalar.addi v5810 c9_i32_2297
  let v5959 : Index := Scalar.indexCast v5956
  ![v5959.toNat]
def k0_off1696 (i : grid0.Coords) (v5810 : BitVec 32) (v5813 : BitVec 32) (v5960 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_2298 : BitVec 32 := 9#32
  let v5957 : BitVec 32 := Scalar.addi v5810 c9_i32_2298
  let v5958 : BitVec 1 := Scalar.cmpi .slt v5957 v5813
  let c65535_i32_2299 : BitVec 32 := 65535#32
  let v5961 : BitVec 32 := Scalar.andi v5960 c65535_i32_2299
  let c2048_i32_2300 : BitVec 32 := 2048#32
  let v5962 : BitVec 32 := Scalar.select v5958 v5961 c2048_i32_2300
  let v5963 : BitVec 32 := Scalar.addi v1470 v5962
  let v5966 : Index := Scalar.indexCast v5963
  let c0_2302 : Index := 0#32
  ![v5966.toNat, 0]

def k0_chk847 (i : grid0.Coords) (v5810 : BitVec 32) (v5813 : BitVec 32) (v5960 : BitVec 32) : Prop :=
  (∀ a, (k0_off1696 i v5810 v5813 v5960) a + S1x128.size a ≤ S8224x128.size a)
theorem k0_off1696_inb : ∀ (i : grid0.Coords) (v5810 : BitVec 32) (v5813 : BitVec 32) (v5960 : BitVec 32) (k0_hw847 : k0_chk847 i v5810 v5813 v5960), ∀ a, (k0_off1696 i v5810 v5813 v5960) a + S1x128.size a ≤ S8224x128.size a := fun i v5810 v5813 v5960 k0_hw847 => k0_hw847

def k0_off1697 (v5810 : BitVec 32) : Fin 1 → Nat :=
  let c10_i32_2303 : BitVec 32 := 10#32
  let v5971 : BitVec 32 := Scalar.addi v5810 c10_i32_2303
  let v5974 : Index := Scalar.indexCast v5971
  ![v5974.toNat]
def k0_off1698 (i : grid0.Coords) (v5810 : BitVec 32) (v5813 : BitVec 32) (v5975 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_2304 : BitVec 32 := 10#32
  let v5972 : BitVec 32 := Scalar.addi v5810 c10_i32_2304
  let v5973 : BitVec 1 := Scalar.cmpi .slt v5972 v5813
  let c65535_i32_2305 : BitVec 32 := 65535#32
  let v5976 : BitVec 32 := Scalar.andi v5975 c65535_i32_2305
  let c2048_i32_2306 : BitVec 32 := 2048#32
  let v5977 : BitVec 32 := Scalar.select v5973 v5976 c2048_i32_2306
  let v5978 : BitVec 32 := Scalar.addi v1470 v5977
  let v5981 : Index := Scalar.indexCast v5978
  let c0_2308 : Index := 0#32
  ![v5981.toNat, 0]

def k0_chk848 (i : grid0.Coords) (v5810 : BitVec 32) (v5813 : BitVec 32) (v5975 : BitVec 32) : Prop :=
  (∀ a, (k0_off1698 i v5810 v5813 v5975) a + S1x128.size a ≤ S8224x128.size a)
theorem k0_off1698_inb : ∀ (i : grid0.Coords) (v5810 : BitVec 32) (v5813 : BitVec 32) (v5975 : BitVec 32) (k0_hw848 : k0_chk848 i v5810 v5813 v5975), ∀ a, (k0_off1698 i v5810 v5813 v5975) a + S1x128.size a ≤ S8224x128.size a := fun i v5810 v5813 v5975 k0_hw848 => k0_hw848

def k0_off1699 (v5810 : BitVec 32) : Fin 1 → Nat :=
  let c11_i32_2309 : BitVec 32 := 11#32
  let v5986 : BitVec 32 := Scalar.addi v5810 c11_i32_2309
  let v5989 : Index := Scalar.indexCast v5986
  ![v5989.toNat]
def k0_off1700 (i : grid0.Coords) (v5810 : BitVec 32) (v5813 : BitVec 32) (v5990 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_2310 : BitVec 32 := 11#32
  let v5987 : BitVec 32 := Scalar.addi v5810 c11_i32_2310
  let v5988 : BitVec 1 := Scalar.cmpi .slt v5987 v5813
  let c65535_i32_2311 : BitVec 32 := 65535#32
  let v5991 : BitVec 32 := Scalar.andi v5990 c65535_i32_2311
  let c2048_i32_2312 : BitVec 32 := 2048#32
  let v5992 : BitVec 32 := Scalar.select v5988 v5991 c2048_i32_2312
  let v5993 : BitVec 32 := Scalar.addi v1470 v5992
  let v5996 : Index := Scalar.indexCast v5993
  let c0_2314 : Index := 0#32
  ![v5996.toNat, 0]

def k0_chk849 (i : grid0.Coords) (v5810 : BitVec 32) (v5813 : BitVec 32) (v5990 : BitVec 32) : Prop :=
  (∀ a, (k0_off1700 i v5810 v5813 v5990) a + S1x128.size a ≤ S8224x128.size a)
theorem k0_off1700_inb : ∀ (i : grid0.Coords) (v5810 : BitVec 32) (v5813 : BitVec 32) (v5990 : BitVec 32) (k0_hw849 : k0_chk849 i v5810 v5813 v5990), ∀ a, (k0_off1700 i v5810 v5813 v5990) a + S1x128.size a ≤ S8224x128.size a := fun i v5810 v5813 v5990 k0_hw849 => k0_hw849

def k0_off1701 (v5810 : BitVec 32) : Fin 1 → Nat :=
  let c12_i32_2315 : BitVec 32 := 12#32
  let v6001 : BitVec 32 := Scalar.addi v5810 c12_i32_2315
  let v6004 : Index := Scalar.indexCast v6001
  ![v6004.toNat]
def k0_off1702 (i : grid0.Coords) (v5810 : BitVec 32) (v5813 : BitVec 32) (v6005 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_2316 : BitVec 32 := 12#32
  let v6002 : BitVec 32 := Scalar.addi v5810 c12_i32_2316
  let v6003 : BitVec 1 := Scalar.cmpi .slt v6002 v5813
  let c65535_i32_2317 : BitVec 32 := 65535#32
  let v6006 : BitVec 32 := Scalar.andi v6005 c65535_i32_2317
  let c2048_i32_2318 : BitVec 32 := 2048#32
  let v6007 : BitVec 32 := Scalar.select v6003 v6006 c2048_i32_2318
  let v6008 : BitVec 32 := Scalar.addi v1470 v6007
  let v6011 : Index := Scalar.indexCast v6008
  let c0_2320 : Index := 0#32
  ![v6011.toNat, 0]

def k0_chk850 (i : grid0.Coords) (v5810 : BitVec 32) (v5813 : BitVec 32) (v6005 : BitVec 32) : Prop :=
  (∀ a, (k0_off1702 i v5810 v5813 v6005) a + S1x128.size a ≤ S8224x128.size a)
theorem k0_off1702_inb : ∀ (i : grid0.Coords) (v5810 : BitVec 32) (v5813 : BitVec 32) (v6005 : BitVec 32) (k0_hw850 : k0_chk850 i v5810 v5813 v6005), ∀ a, (k0_off1702 i v5810 v5813 v6005) a + S1x128.size a ≤ S8224x128.size a := fun i v5810 v5813 v6005 k0_hw850 => k0_hw850

def k0_off1703 (v5810 : BitVec 32) : Fin 1 → Nat :=
  let c13_i32_2321 : BitVec 32 := 13#32
  let v6016 : BitVec 32 := Scalar.addi v5810 c13_i32_2321
  let v6019 : Index := Scalar.indexCast v6016
  ![v6019.toNat]
def k0_off1704 (i : grid0.Coords) (v5810 : BitVec 32) (v5813 : BitVec 32) (v6020 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_2322 : BitVec 32 := 13#32
  let v6017 : BitVec 32 := Scalar.addi v5810 c13_i32_2322
  let v6018 : BitVec 1 := Scalar.cmpi .slt v6017 v5813
  let c65535_i32_2323 : BitVec 32 := 65535#32
  let v6021 : BitVec 32 := Scalar.andi v6020 c65535_i32_2323
  let c2048_i32_2324 : BitVec 32 := 2048#32
  let v6022 : BitVec 32 := Scalar.select v6018 v6021 c2048_i32_2324
  let v6023 : BitVec 32 := Scalar.addi v1470 v6022
  let v6026 : Index := Scalar.indexCast v6023
  let c0_2326 : Index := 0#32
  ![v6026.toNat, 0]

def k0_chk851 (i : grid0.Coords) (v5810 : BitVec 32) (v5813 : BitVec 32) (v6020 : BitVec 32) : Prop :=
  (∀ a, (k0_off1704 i v5810 v5813 v6020) a + S1x128.size a ≤ S8224x128.size a)
theorem k0_off1704_inb : ∀ (i : grid0.Coords) (v5810 : BitVec 32) (v5813 : BitVec 32) (v6020 : BitVec 32) (k0_hw851 : k0_chk851 i v5810 v5813 v6020), ∀ a, (k0_off1704 i v5810 v5813 v6020) a + S1x128.size a ≤ S8224x128.size a := fun i v5810 v5813 v6020 k0_hw851 => k0_hw851

def k0_off1705 (v5810 : BitVec 32) : Fin 1 → Nat :=
  let c14_i32_2327 : BitVec 32 := 14#32
  let v6031 : BitVec 32 := Scalar.addi v5810 c14_i32_2327
  let v6034 : Index := Scalar.indexCast v6031
  ![v6034.toNat]
def k0_off1706 (i : grid0.Coords) (v5810 : BitVec 32) (v5813 : BitVec 32) (v6035 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_2328 : BitVec 32 := 14#32
  let v6032 : BitVec 32 := Scalar.addi v5810 c14_i32_2328
  let v6033 : BitVec 1 := Scalar.cmpi .slt v6032 v5813
  let c65535_i32_2329 : BitVec 32 := 65535#32
  let v6036 : BitVec 32 := Scalar.andi v6035 c65535_i32_2329
  let c2048_i32_2330 : BitVec 32 := 2048#32
  let v6037 : BitVec 32 := Scalar.select v6033 v6036 c2048_i32_2330
  let v6038 : BitVec 32 := Scalar.addi v1470 v6037
  let v6041 : Index := Scalar.indexCast v6038
  let c0_2332 : Index := 0#32
  ![v6041.toNat, 0]

def k0_chk852 (i : grid0.Coords) (v5810 : BitVec 32) (v5813 : BitVec 32) (v6035 : BitVec 32) : Prop :=
  (∀ a, (k0_off1706 i v5810 v5813 v6035) a + S1x128.size a ≤ S8224x128.size a)
theorem k0_off1706_inb : ∀ (i : grid0.Coords) (v5810 : BitVec 32) (v5813 : BitVec 32) (v6035 : BitVec 32) (k0_hw852 : k0_chk852 i v5810 v5813 v6035), ∀ a, (k0_off1706 i v5810 v5813 v6035) a + S1x128.size a ≤ S8224x128.size a := fun i v5810 v5813 v6035 k0_hw852 => k0_hw852

def k0_off1707 (v5810 : BitVec 32) : Fin 1 → Nat :=
  let c15_i32_2333 : BitVec 32 := 15#32
  let v6046 : BitVec 32 := Scalar.addi v5810 c15_i32_2333
  let v6049 : Index := Scalar.indexCast v6046
  ![v6049.toNat]

def k0_chk837 (v5810 : BitVec 32) : Prop :=
  (∀ a, (k0_off1677 v5810) a + S1.size a ≤ S51920.size a) ∧
  (∀ a, (k0_off1679 v5810) a + S1.size a ≤ S51920.size a) ∧
  (∀ a, (k0_off1681 v5810) a + S1.size a ≤ S51920.size a) ∧
  (∀ a, (k0_off1683 v5810) a + S1.size a ≤ S51920.size a) ∧
  (∀ a, (k0_off1685 v5810) a + S1.size a ≤ S51920.size a) ∧
  (∀ a, (k0_off1687 v5810) a + S1.size a ≤ S51920.size a) ∧
  (∀ a, (k0_off1689 v5810) a + S1.size a ≤ S51920.size a) ∧
  (∀ a, (k0_off1691 v5810) a + S1.size a ≤ S51920.size a) ∧
  (∀ a, (k0_off1693 v5810) a + S1.size a ≤ S51920.size a) ∧
  (∀ a, (k0_off1695 v5810) a + S1.size a ≤ S51920.size a) ∧
  (∀ a, (k0_off1697 v5810) a + S1.size a ≤ S51920.size a) ∧
  (∀ a, (k0_off1699 v5810) a + S1.size a ≤ S51920.size a) ∧
  (∀ a, (k0_off1701 v5810) a + S1.size a ≤ S51920.size a) ∧
  (∀ a, (k0_off1703 v5810) a + S1.size a ≤ S51920.size a) ∧
  (∀ a, (k0_off1705 v5810) a + S1.size a ≤ S51920.size a) ∧
  (∀ a, (k0_off1707 v5810) a + S1.size a ≤ S51920.size a)
theorem k0_off1677_inb : ∀ (v5810 : BitVec 32) (k0_hw837 : k0_chk837 v5810), ∀ a, (k0_off1677 v5810) a + S1.size a ≤ S51920.size a := fun v5810 k0_hw837 => k0_hw837.1
theorem k0_off1679_inb : ∀ (v5810 : BitVec 32) (k0_hw837 : k0_chk837 v5810), ∀ a, (k0_off1679 v5810) a + S1.size a ≤ S51920.size a := fun v5810 k0_hw837 => k0_hw837.2.1
theorem k0_off1681_inb : ∀ (v5810 : BitVec 32) (k0_hw837 : k0_chk837 v5810), ∀ a, (k0_off1681 v5810) a + S1.size a ≤ S51920.size a := fun v5810 k0_hw837 => k0_hw837.2.2.1
theorem k0_off1683_inb : ∀ (v5810 : BitVec 32) (k0_hw837 : k0_chk837 v5810), ∀ a, (k0_off1683 v5810) a + S1.size a ≤ S51920.size a := fun v5810 k0_hw837 => k0_hw837.2.2.2.1
theorem k0_off1685_inb : ∀ (v5810 : BitVec 32) (k0_hw837 : k0_chk837 v5810), ∀ a, (k0_off1685 v5810) a + S1.size a ≤ S51920.size a := fun v5810 k0_hw837 => k0_hw837.2.2.2.2.1
theorem k0_off1687_inb : ∀ (v5810 : BitVec 32) (k0_hw837 : k0_chk837 v5810), ∀ a, (k0_off1687 v5810) a + S1.size a ≤ S51920.size a := fun v5810 k0_hw837 => k0_hw837.2.2.2.2.2.1
theorem k0_off1689_inb : ∀ (v5810 : BitVec 32) (k0_hw837 : k0_chk837 v5810), ∀ a, (k0_off1689 v5810) a + S1.size a ≤ S51920.size a := fun v5810 k0_hw837 => k0_hw837.2.2.2.2.2.2.1
theorem k0_off1691_inb : ∀ (v5810 : BitVec 32) (k0_hw837 : k0_chk837 v5810), ∀ a, (k0_off1691 v5810) a + S1.size a ≤ S51920.size a := fun v5810 k0_hw837 => k0_hw837.2.2.2.2.2.2.2.1
theorem k0_off1693_inb : ∀ (v5810 : BitVec 32) (k0_hw837 : k0_chk837 v5810), ∀ a, (k0_off1693 v5810) a + S1.size a ≤ S51920.size a := fun v5810 k0_hw837 => k0_hw837.2.2.2.2.2.2.2.2.1
theorem k0_off1695_inb : ∀ (v5810 : BitVec 32) (k0_hw837 : k0_chk837 v5810), ∀ a, (k0_off1695 v5810) a + S1.size a ≤ S51920.size a := fun v5810 k0_hw837 => k0_hw837.2.2.2.2.2.2.2.2.2.1
theorem k0_off1697_inb : ∀ (v5810 : BitVec 32) (k0_hw837 : k0_chk837 v5810), ∀ a, (k0_off1697 v5810) a + S1.size a ≤ S51920.size a := fun v5810 k0_hw837 => k0_hw837.2.2.2.2.2.2.2.2.2.2.1
theorem k0_off1699_inb : ∀ (v5810 : BitVec 32) (k0_hw837 : k0_chk837 v5810), ∀ a, (k0_off1699 v5810) a + S1.size a ≤ S51920.size a := fun v5810 k0_hw837 => k0_hw837.2.2.2.2.2.2.2.2.2.2.2.1
theorem k0_off1701_inb : ∀ (v5810 : BitVec 32) (k0_hw837 : k0_chk837 v5810), ∀ a, (k0_off1701 v5810) a + S1.size a ≤ S51920.size a := fun v5810 k0_hw837 => k0_hw837.2.2.2.2.2.2.2.2.2.2.2.2.1
theorem k0_off1703_inb : ∀ (v5810 : BitVec 32) (k0_hw837 : k0_chk837 v5810), ∀ a, (k0_off1703 v5810) a + S1.size a ≤ S51920.size a := fun v5810 k0_hw837 => k0_hw837.2.2.2.2.2.2.2.2.2.2.2.2.2.1
theorem k0_off1705_inb : ∀ (v5810 : BitVec 32) (k0_hw837 : k0_chk837 v5810), ∀ a, (k0_off1705 v5810) a + S1.size a ≤ S51920.size a := fun v5810 k0_hw837 => k0_hw837.2.2.2.2.2.2.2.2.2.2.2.2.2.2.1
theorem k0_off1707_inb : ∀ (v5810 : BitVec 32) (k0_hw837 : k0_chk837 v5810), ∀ a, (k0_off1707 v5810) a + S1.size a ≤ S51920.size a := fun v5810 k0_hw837 => k0_hw837.2.2.2.2.2.2.2.2.2.2.2.2.2.2.2

def k0_off1708 (i : grid0.Coords) (v5810 : BitVec 32) (v5813 : BitVec 32) (v6050 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_2334 : BitVec 32 := 15#32
  let v6047 : BitVec 32 := Scalar.addi v5810 c15_i32_2334
  let v6048 : BitVec 1 := Scalar.cmpi .slt v6047 v5813
  let c65535_i32_2335 : BitVec 32 := 65535#32
  let v6051 : BitVec 32 := Scalar.andi v6050 c65535_i32_2335
  let c2048_i32_2336 : BitVec 32 := 2048#32
  let v6052 : BitVec 32 := Scalar.select v6048 v6051 c2048_i32_2336
  let v6053 : BitVec 32 := Scalar.addi v1470 v6052
  let v6056 : Index := Scalar.indexCast v6053
  let c0_2338 : Index := 0#32
  ![v6056.toNat, 0]

def k0_chk853 (i : grid0.Coords) (v5810 : BitVec 32) (v5813 : BitVec 32) (v6050 : BitVec 32) : Prop :=
  (∀ a, (k0_off1708 i v5810 v5813 v6050) a + S1x128.size a ≤ S8224x128.size a)
theorem k0_off1708_inb : ∀ (i : grid0.Coords) (v5810 : BitVec 32) (v5813 : BitVec 32) (v6050 : BitVec 32) (k0_hw853 : k0_chk853 i v5810 v5813 v6050), ∀ a, (k0_off1708 i v5810 v5813 v6050) a + S1x128.size a ≤ S8224x128.size a := fun i v5810 v5813 v6050 k0_hw853 => k0_hw853

def k0_off1709 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2339 : BitVec 32 := 512#32
  let v6061 : BitVec 32 := Scalar.muli v24 c512_i32_2339
  let arg1 : BitVec 32 := BitVec.ofNat 32 (i 1).val
  let c32_i32 : BitVec 32 := 32#32
  let v1452 : BitVec 32 := Scalar.muli arg1 c32_i32
  let v6062 : BitVec 32 := Scalar.addi v6061 v1452
  let c18_i32 : BitVec 32 := 18#32
  let v6063 : BitVec 32 := Scalar.addi v6062 c18_i32
  let v6064 : Index := Scalar.indexCast v6063
  ![v6064.toNat]
def k0_off1710 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2339 : BitVec 32 := 512#32
  let v6061 : BitVec 32 := Scalar.muli v24 c512_i32_2339
  let arg1 : BitVec 32 := BitVec.ofNat 32 (i 1).val
  let c32_i32 : BitVec 32 := 32#32
  let v1452 : BitVec 32 := Scalar.muli arg1 c32_i32
  let v6062 : BitVec 32 := Scalar.addi v6061 v1452
  let c18_i32 : BitVec 32 := 18#32
  let v6063 : BitVec 32 := Scalar.addi v6062 c18_i32
  let c1_i32_2340 : BitVec 32 := 1#32
  let v6066 : BitVec 32 := Scalar.addi v6063 c1_i32_2340
  let v6067 : Index := Scalar.indexCast v6066
  ![v6067.toNat]
def k0_off1711 (v6065 : BitVec 32) : Fin 1 → Nat :=
  let c0_i32_2343 : BitVec 32 := 0#32
  let v6076 : BitVec 32 := Scalar.addi v6065 c0_i32_2343
  let v6079 : Index := Scalar.indexCast v6076
  ![v6079.toNat]

def k0_off1712 (i : grid0.Coords) (v6065 : BitVec 32) (v6068 : BitVec 32) (v6080 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_2344 : BitVec 32 := 0#32
  let v6077 : BitVec 32 := Scalar.addi v6065 c0_i32_2344
  let v6078 : BitVec 1 := Scalar.cmpi .slt v6077 v6068
  let c65535_i32_2345 : BitVec 32 := 65535#32
  let v6081 : BitVec 32 := Scalar.andi v6080 c65535_i32_2345
  let c2048_i32_2346 : BitVec 32 := 2048#32
  let v6082 : BitVec 32 := Scalar.select v6078 v6081 c2048_i32_2346
  let v6083 : BitVec 32 := Scalar.addi v1470 v6082
  let v6086 : Index := Scalar.indexCast v6083
  let c0_2348 : Index := 0#32
  ![v6086.toNat, 0]

def k0_chk855 (i : grid0.Coords) (v6065 : BitVec 32) (v6068 : BitVec 32) (v6080 : BitVec 32) : Prop :=
  (∀ a, (k0_off1712 i v6065 v6068 v6080) a + S1x128.size a ≤ S8224x128.size a)
theorem k0_off1712_inb : ∀ (i : grid0.Coords) (v6065 : BitVec 32) (v6068 : BitVec 32) (v6080 : BitVec 32) (k0_hw855 : k0_chk855 i v6065 v6068 v6080), ∀ a, (k0_off1712 i v6065 v6068 v6080) a + S1x128.size a ≤ S8224x128.size a := fun i v6065 v6068 v6080 k0_hw855 => k0_hw855

def k0_off1713 (v6065 : BitVec 32) : Fin 1 → Nat :=
  let c1_i32_2349 : BitVec 32 := 1#32
  let v6091 : BitVec 32 := Scalar.addi v6065 c1_i32_2349
  let v6094 : Index := Scalar.indexCast v6091
  ![v6094.toNat]
def k0_off1714 (i : grid0.Coords) (v6065 : BitVec 32) (v6068 : BitVec 32) (v6095 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_2350 : BitVec 32 := 1#32
  let v6092 : BitVec 32 := Scalar.addi v6065 c1_i32_2350
  let v6093 : BitVec 1 := Scalar.cmpi .slt v6092 v6068
  let c65535_i32_2351 : BitVec 32 := 65535#32
  let v6096 : BitVec 32 := Scalar.andi v6095 c65535_i32_2351
  let c2048_i32_2352 : BitVec 32 := 2048#32
  let v6097 : BitVec 32 := Scalar.select v6093 v6096 c2048_i32_2352
  let v6098 : BitVec 32 := Scalar.addi v1470 v6097
  let v6101 : Index := Scalar.indexCast v6098
  let c0_2354 : Index := 0#32
  ![v6101.toNat, 0]

def k0_chk856 (i : grid0.Coords) (v6065 : BitVec 32) (v6068 : BitVec 32) (v6095 : BitVec 32) : Prop :=
  (∀ a, (k0_off1714 i v6065 v6068 v6095) a + S1x128.size a ≤ S8224x128.size a)
theorem k0_off1714_inb : ∀ (i : grid0.Coords) (v6065 : BitVec 32) (v6068 : BitVec 32) (v6095 : BitVec 32) (k0_hw856 : k0_chk856 i v6065 v6068 v6095), ∀ a, (k0_off1714 i v6065 v6068 v6095) a + S1x128.size a ≤ S8224x128.size a := fun i v6065 v6068 v6095 k0_hw856 => k0_hw856

def k0_off1715 (v6065 : BitVec 32) : Fin 1 → Nat :=
  let c2_i32_2355 : BitVec 32 := 2#32
  let v6106 : BitVec 32 := Scalar.addi v6065 c2_i32_2355
  let v6109 : Index := Scalar.indexCast v6106
  ![v6109.toNat]
def k0_off1716 (i : grid0.Coords) (v6065 : BitVec 32) (v6068 : BitVec 32) (v6110 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_2356 : BitVec 32 := 2#32
  let v6107 : BitVec 32 := Scalar.addi v6065 c2_i32_2356
  let v6108 : BitVec 1 := Scalar.cmpi .slt v6107 v6068
  let c65535_i32_2357 : BitVec 32 := 65535#32
  let v6111 : BitVec 32 := Scalar.andi v6110 c65535_i32_2357
  let c2048_i32_2358 : BitVec 32 := 2048#32
  let v6112 : BitVec 32 := Scalar.select v6108 v6111 c2048_i32_2358
  let v6113 : BitVec 32 := Scalar.addi v1470 v6112
  let v6116 : Index := Scalar.indexCast v6113
  let c0_2360 : Index := 0#32
  ![v6116.toNat, 0]

def k0_chk857 (i : grid0.Coords) (v6065 : BitVec 32) (v6068 : BitVec 32) (v6110 : BitVec 32) : Prop :=
  (∀ a, (k0_off1716 i v6065 v6068 v6110) a + S1x128.size a ≤ S8224x128.size a)
theorem k0_off1716_inb : ∀ (i : grid0.Coords) (v6065 : BitVec 32) (v6068 : BitVec 32) (v6110 : BitVec 32) (k0_hw857 : k0_chk857 i v6065 v6068 v6110), ∀ a, (k0_off1716 i v6065 v6068 v6110) a + S1x128.size a ≤ S8224x128.size a := fun i v6065 v6068 v6110 k0_hw857 => k0_hw857

def k0_off1717 (v6065 : BitVec 32) : Fin 1 → Nat :=
  let c3_i32_2361 : BitVec 32 := 3#32
  let v6121 : BitVec 32 := Scalar.addi v6065 c3_i32_2361
  let v6124 : Index := Scalar.indexCast v6121
  ![v6124.toNat]
def k0_off1718 (i : grid0.Coords) (v6065 : BitVec 32) (v6068 : BitVec 32) (v6125 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_2362 : BitVec 32 := 3#32
  let v6122 : BitVec 32 := Scalar.addi v6065 c3_i32_2362
  let v6123 : BitVec 1 := Scalar.cmpi .slt v6122 v6068
  let c65535_i32_2363 : BitVec 32 := 65535#32
  let v6126 : BitVec 32 := Scalar.andi v6125 c65535_i32_2363
  let c2048_i32_2364 : BitVec 32 := 2048#32
  let v6127 : BitVec 32 := Scalar.select v6123 v6126 c2048_i32_2364
  let v6128 : BitVec 32 := Scalar.addi v1470 v6127
  let v6131 : Index := Scalar.indexCast v6128
  let c0_2366 : Index := 0#32
  ![v6131.toNat, 0]

def k0_chk858 (i : grid0.Coords) (v6065 : BitVec 32) (v6068 : BitVec 32) (v6125 : BitVec 32) : Prop :=
  (∀ a, (k0_off1718 i v6065 v6068 v6125) a + S1x128.size a ≤ S8224x128.size a)
theorem k0_off1718_inb : ∀ (i : grid0.Coords) (v6065 : BitVec 32) (v6068 : BitVec 32) (v6125 : BitVec 32) (k0_hw858 : k0_chk858 i v6065 v6068 v6125), ∀ a, (k0_off1718 i v6065 v6068 v6125) a + S1x128.size a ≤ S8224x128.size a := fun i v6065 v6068 v6125 k0_hw858 => k0_hw858

def k0_off1719 (v6065 : BitVec 32) : Fin 1 → Nat :=
  let c4_i32_2367 : BitVec 32 := 4#32
  let v6136 : BitVec 32 := Scalar.addi v6065 c4_i32_2367
  let v6139 : Index := Scalar.indexCast v6136
  ![v6139.toNat]
def k0_off1720 (i : grid0.Coords) (v6065 : BitVec 32) (v6068 : BitVec 32) (v6140 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_2368 : BitVec 32 := 4#32
  let v6137 : BitVec 32 := Scalar.addi v6065 c4_i32_2368
  let v6138 : BitVec 1 := Scalar.cmpi .slt v6137 v6068
  let c65535_i32_2369 : BitVec 32 := 65535#32
  let v6141 : BitVec 32 := Scalar.andi v6140 c65535_i32_2369
  let c2048_i32_2370 : BitVec 32 := 2048#32
  let v6142 : BitVec 32 := Scalar.select v6138 v6141 c2048_i32_2370
  let v6143 : BitVec 32 := Scalar.addi v1470 v6142
  let v6146 : Index := Scalar.indexCast v6143
  let c0_2372 : Index := 0#32
  ![v6146.toNat, 0]

def k0_chk859 (i : grid0.Coords) (v6065 : BitVec 32) (v6068 : BitVec 32) (v6140 : BitVec 32) : Prop :=
  (∀ a, (k0_off1720 i v6065 v6068 v6140) a + S1x128.size a ≤ S8224x128.size a)
theorem k0_off1720_inb : ∀ (i : grid0.Coords) (v6065 : BitVec 32) (v6068 : BitVec 32) (v6140 : BitVec 32) (k0_hw859 : k0_chk859 i v6065 v6068 v6140), ∀ a, (k0_off1720 i v6065 v6068 v6140) a + S1x128.size a ≤ S8224x128.size a := fun i v6065 v6068 v6140 k0_hw859 => k0_hw859

def k0_off1721 (v6065 : BitVec 32) : Fin 1 → Nat :=
  let c5_i32_2373 : BitVec 32 := 5#32
  let v6151 : BitVec 32 := Scalar.addi v6065 c5_i32_2373
  let v6154 : Index := Scalar.indexCast v6151
  ![v6154.toNat]
def k0_off1722 (i : grid0.Coords) (v6065 : BitVec 32) (v6068 : BitVec 32) (v6155 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_2374 : BitVec 32 := 5#32
  let v6152 : BitVec 32 := Scalar.addi v6065 c5_i32_2374
  let v6153 : BitVec 1 := Scalar.cmpi .slt v6152 v6068
  let c65535_i32_2375 : BitVec 32 := 65535#32
  let v6156 : BitVec 32 := Scalar.andi v6155 c65535_i32_2375
  let c2048_i32_2376 : BitVec 32 := 2048#32
  let v6157 : BitVec 32 := Scalar.select v6153 v6156 c2048_i32_2376
  let v6158 : BitVec 32 := Scalar.addi v1470 v6157
  let v6161 : Index := Scalar.indexCast v6158
  let c0_2378 : Index := 0#32
  ![v6161.toNat, 0]

def k0_chk860 (i : grid0.Coords) (v6065 : BitVec 32) (v6068 : BitVec 32) (v6155 : BitVec 32) : Prop :=
  (∀ a, (k0_off1722 i v6065 v6068 v6155) a + S1x128.size a ≤ S8224x128.size a)
theorem k0_off1722_inb : ∀ (i : grid0.Coords) (v6065 : BitVec 32) (v6068 : BitVec 32) (v6155 : BitVec 32) (k0_hw860 : k0_chk860 i v6065 v6068 v6155), ∀ a, (k0_off1722 i v6065 v6068 v6155) a + S1x128.size a ≤ S8224x128.size a := fun i v6065 v6068 v6155 k0_hw860 => k0_hw860

def k0_off1723 (v6065 : BitVec 32) : Fin 1 → Nat :=
  let c6_i32_2379 : BitVec 32 := 6#32
  let v6166 : BitVec 32 := Scalar.addi v6065 c6_i32_2379
  let v6169 : Index := Scalar.indexCast v6166
  ![v6169.toNat]
def k0_off1724 (i : grid0.Coords) (v6065 : BitVec 32) (v6068 : BitVec 32) (v6170 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_2380 : BitVec 32 := 6#32
  let v6167 : BitVec 32 := Scalar.addi v6065 c6_i32_2380
  let v6168 : BitVec 1 := Scalar.cmpi .slt v6167 v6068
  let c65535_i32_2381 : BitVec 32 := 65535#32
  let v6171 : BitVec 32 := Scalar.andi v6170 c65535_i32_2381
  let c2048_i32_2382 : BitVec 32 := 2048#32
  let v6172 : BitVec 32 := Scalar.select v6168 v6171 c2048_i32_2382
  let v6173 : BitVec 32 := Scalar.addi v1470 v6172
  let v6176 : Index := Scalar.indexCast v6173
  let c0_2384 : Index := 0#32
  ![v6176.toNat, 0]

def k0_chk861 (i : grid0.Coords) (v6065 : BitVec 32) (v6068 : BitVec 32) (v6170 : BitVec 32) : Prop :=
  (∀ a, (k0_off1724 i v6065 v6068 v6170) a + S1x128.size a ≤ S8224x128.size a)
theorem k0_off1724_inb : ∀ (i : grid0.Coords) (v6065 : BitVec 32) (v6068 : BitVec 32) (v6170 : BitVec 32) (k0_hw861 : k0_chk861 i v6065 v6068 v6170), ∀ a, (k0_off1724 i v6065 v6068 v6170) a + S1x128.size a ≤ S8224x128.size a := fun i v6065 v6068 v6170 k0_hw861 => k0_hw861

def k0_off1725 (v6065 : BitVec 32) : Fin 1 → Nat :=
  let c7_i32_2385 : BitVec 32 := 7#32
  let v6181 : BitVec 32 := Scalar.addi v6065 c7_i32_2385
  let v6184 : Index := Scalar.indexCast v6181
  ![v6184.toNat]
def k0_off1726 (i : grid0.Coords) (v6065 : BitVec 32) (v6068 : BitVec 32) (v6185 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_2386 : BitVec 32 := 7#32
  let v6182 : BitVec 32 := Scalar.addi v6065 c7_i32_2386
  let v6183 : BitVec 1 := Scalar.cmpi .slt v6182 v6068
  let c65535_i32_2387 : BitVec 32 := 65535#32
  let v6186 : BitVec 32 := Scalar.andi v6185 c65535_i32_2387
  let c2048_i32_2388 : BitVec 32 := 2048#32
  let v6187 : BitVec 32 := Scalar.select v6183 v6186 c2048_i32_2388
  let v6188 : BitVec 32 := Scalar.addi v1470 v6187
  let v6191 : Index := Scalar.indexCast v6188
  let c0_2390 : Index := 0#32
  ![v6191.toNat, 0]

def k0_chk862 (i : grid0.Coords) (v6065 : BitVec 32) (v6068 : BitVec 32) (v6185 : BitVec 32) : Prop :=
  (∀ a, (k0_off1726 i v6065 v6068 v6185) a + S1x128.size a ≤ S8224x128.size a)
theorem k0_off1726_inb : ∀ (i : grid0.Coords) (v6065 : BitVec 32) (v6068 : BitVec 32) (v6185 : BitVec 32) (k0_hw862 : k0_chk862 i v6065 v6068 v6185), ∀ a, (k0_off1726 i v6065 v6068 v6185) a + S1x128.size a ≤ S8224x128.size a := fun i v6065 v6068 v6185 k0_hw862 => k0_hw862

def k0_off1727 (v6065 : BitVec 32) : Fin 1 → Nat :=
  let c8_i32_2391 : BitVec 32 := 8#32
  let v6196 : BitVec 32 := Scalar.addi v6065 c8_i32_2391
  let v6199 : Index := Scalar.indexCast v6196
  ![v6199.toNat]
def k0_off1728 (i : grid0.Coords) (v6065 : BitVec 32) (v6068 : BitVec 32) (v6200 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_2392 : BitVec 32 := 8#32
  let v6197 : BitVec 32 := Scalar.addi v6065 c8_i32_2392
  let v6198 : BitVec 1 := Scalar.cmpi .slt v6197 v6068
  let c65535_i32_2393 : BitVec 32 := 65535#32
  let v6201 : BitVec 32 := Scalar.andi v6200 c65535_i32_2393
  let c2048_i32_2394 : BitVec 32 := 2048#32
  let v6202 : BitVec 32 := Scalar.select v6198 v6201 c2048_i32_2394
  let v6203 : BitVec 32 := Scalar.addi v1470 v6202
  let v6206 : Index := Scalar.indexCast v6203
  let c0_2396 : Index := 0#32
  ![v6206.toNat, 0]

def k0_chk863 (i : grid0.Coords) (v6065 : BitVec 32) (v6068 : BitVec 32) (v6200 : BitVec 32) : Prop :=
  (∀ a, (k0_off1728 i v6065 v6068 v6200) a + S1x128.size a ≤ S8224x128.size a)
theorem k0_off1728_inb : ∀ (i : grid0.Coords) (v6065 : BitVec 32) (v6068 : BitVec 32) (v6200 : BitVec 32) (k0_hw863 : k0_chk863 i v6065 v6068 v6200), ∀ a, (k0_off1728 i v6065 v6068 v6200) a + S1x128.size a ≤ S8224x128.size a := fun i v6065 v6068 v6200 k0_hw863 => k0_hw863

def k0_off1729 (v6065 : BitVec 32) : Fin 1 → Nat :=
  let c9_i32_2397 : BitVec 32 := 9#32
  let v6211 : BitVec 32 := Scalar.addi v6065 c9_i32_2397
  let v6214 : Index := Scalar.indexCast v6211
  ![v6214.toNat]
def k0_off1730 (i : grid0.Coords) (v6065 : BitVec 32) (v6068 : BitVec 32) (v6215 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_2398 : BitVec 32 := 9#32
  let v6212 : BitVec 32 := Scalar.addi v6065 c9_i32_2398
  let v6213 : BitVec 1 := Scalar.cmpi .slt v6212 v6068
  let c65535_i32_2399 : BitVec 32 := 65535#32
  let v6216 : BitVec 32 := Scalar.andi v6215 c65535_i32_2399
  let c2048_i32_2400 : BitVec 32 := 2048#32
  let v6217 : BitVec 32 := Scalar.select v6213 v6216 c2048_i32_2400
  let v6218 : BitVec 32 := Scalar.addi v1470 v6217
  let v6221 : Index := Scalar.indexCast v6218
  let c0_2402 : Index := 0#32
  ![v6221.toNat, 0]

def k0_chk864 (i : grid0.Coords) (v6065 : BitVec 32) (v6068 : BitVec 32) (v6215 : BitVec 32) : Prop :=
  (∀ a, (k0_off1730 i v6065 v6068 v6215) a + S1x128.size a ≤ S8224x128.size a)
theorem k0_off1730_inb : ∀ (i : grid0.Coords) (v6065 : BitVec 32) (v6068 : BitVec 32) (v6215 : BitVec 32) (k0_hw864 : k0_chk864 i v6065 v6068 v6215), ∀ a, (k0_off1730 i v6065 v6068 v6215) a + S1x128.size a ≤ S8224x128.size a := fun i v6065 v6068 v6215 k0_hw864 => k0_hw864

def k0_off1731 (v6065 : BitVec 32) : Fin 1 → Nat :=
  let c10_i32_2403 : BitVec 32 := 10#32
  let v6226 : BitVec 32 := Scalar.addi v6065 c10_i32_2403
  let v6229 : Index := Scalar.indexCast v6226
  ![v6229.toNat]
def k0_off1732 (i : grid0.Coords) (v6065 : BitVec 32) (v6068 : BitVec 32) (v6230 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_2404 : BitVec 32 := 10#32
  let v6227 : BitVec 32 := Scalar.addi v6065 c10_i32_2404
  let v6228 : BitVec 1 := Scalar.cmpi .slt v6227 v6068
  let c65535_i32_2405 : BitVec 32 := 65535#32
  let v6231 : BitVec 32 := Scalar.andi v6230 c65535_i32_2405
  let c2048_i32_2406 : BitVec 32 := 2048#32
  let v6232 : BitVec 32 := Scalar.select v6228 v6231 c2048_i32_2406
  let v6233 : BitVec 32 := Scalar.addi v1470 v6232
  let v6236 : Index := Scalar.indexCast v6233
  let c0_2408 : Index := 0#32
  ![v6236.toNat, 0]

def k0_chk865 (i : grid0.Coords) (v6065 : BitVec 32) (v6068 : BitVec 32) (v6230 : BitVec 32) : Prop :=
  (∀ a, (k0_off1732 i v6065 v6068 v6230) a + S1x128.size a ≤ S8224x128.size a)
theorem k0_off1732_inb : ∀ (i : grid0.Coords) (v6065 : BitVec 32) (v6068 : BitVec 32) (v6230 : BitVec 32) (k0_hw865 : k0_chk865 i v6065 v6068 v6230), ∀ a, (k0_off1732 i v6065 v6068 v6230) a + S1x128.size a ≤ S8224x128.size a := fun i v6065 v6068 v6230 k0_hw865 => k0_hw865

def k0_off1733 (v6065 : BitVec 32) : Fin 1 → Nat :=
  let c11_i32_2409 : BitVec 32 := 11#32
  let v6241 : BitVec 32 := Scalar.addi v6065 c11_i32_2409
  let v6244 : Index := Scalar.indexCast v6241
  ![v6244.toNat]
def k0_off1734 (i : grid0.Coords) (v6065 : BitVec 32) (v6068 : BitVec 32) (v6245 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_2410 : BitVec 32 := 11#32
  let v6242 : BitVec 32 := Scalar.addi v6065 c11_i32_2410
  let v6243 : BitVec 1 := Scalar.cmpi .slt v6242 v6068
  let c65535_i32_2411 : BitVec 32 := 65535#32
  let v6246 : BitVec 32 := Scalar.andi v6245 c65535_i32_2411
  let c2048_i32_2412 : BitVec 32 := 2048#32
  let v6247 : BitVec 32 := Scalar.select v6243 v6246 c2048_i32_2412
  let v6248 : BitVec 32 := Scalar.addi v1470 v6247
  let v6251 : Index := Scalar.indexCast v6248
  let c0_2414 : Index := 0#32
  ![v6251.toNat, 0]

def k0_chk866 (i : grid0.Coords) (v6065 : BitVec 32) (v6068 : BitVec 32) (v6245 : BitVec 32) : Prop :=
  (∀ a, (k0_off1734 i v6065 v6068 v6245) a + S1x128.size a ≤ S8224x128.size a)
theorem k0_off1734_inb : ∀ (i : grid0.Coords) (v6065 : BitVec 32) (v6068 : BitVec 32) (v6245 : BitVec 32) (k0_hw866 : k0_chk866 i v6065 v6068 v6245), ∀ a, (k0_off1734 i v6065 v6068 v6245) a + S1x128.size a ≤ S8224x128.size a := fun i v6065 v6068 v6245 k0_hw866 => k0_hw866

def k0_off1735 (v6065 : BitVec 32) : Fin 1 → Nat :=
  let c12_i32_2415 : BitVec 32 := 12#32
  let v6256 : BitVec 32 := Scalar.addi v6065 c12_i32_2415
  let v6259 : Index := Scalar.indexCast v6256
  ![v6259.toNat]
def k0_off1736 (i : grid0.Coords) (v6065 : BitVec 32) (v6068 : BitVec 32) (v6260 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_2416 : BitVec 32 := 12#32
  let v6257 : BitVec 32 := Scalar.addi v6065 c12_i32_2416
  let v6258 : BitVec 1 := Scalar.cmpi .slt v6257 v6068
  let c65535_i32_2417 : BitVec 32 := 65535#32
  let v6261 : BitVec 32 := Scalar.andi v6260 c65535_i32_2417
  let c2048_i32_2418 : BitVec 32 := 2048#32
  let v6262 : BitVec 32 := Scalar.select v6258 v6261 c2048_i32_2418
  let v6263 : BitVec 32 := Scalar.addi v1470 v6262
  let v6266 : Index := Scalar.indexCast v6263
  let c0_2420 : Index := 0#32
  ![v6266.toNat, 0]

def k0_chk867 (i : grid0.Coords) (v6065 : BitVec 32) (v6068 : BitVec 32) (v6260 : BitVec 32) : Prop :=
  (∀ a, (k0_off1736 i v6065 v6068 v6260) a + S1x128.size a ≤ S8224x128.size a)
theorem k0_off1736_inb : ∀ (i : grid0.Coords) (v6065 : BitVec 32) (v6068 : BitVec 32) (v6260 : BitVec 32) (k0_hw867 : k0_chk867 i v6065 v6068 v6260), ∀ a, (k0_off1736 i v6065 v6068 v6260) a + S1x128.size a ≤ S8224x128.size a := fun i v6065 v6068 v6260 k0_hw867 => k0_hw867

def k0_off1737 (v6065 : BitVec 32) : Fin 1 → Nat :=
  let c13_i32_2421 : BitVec 32 := 13#32
  let v6271 : BitVec 32 := Scalar.addi v6065 c13_i32_2421
  let v6274 : Index := Scalar.indexCast v6271
  ![v6274.toNat]
def k0_off1738 (i : grid0.Coords) (v6065 : BitVec 32) (v6068 : BitVec 32) (v6275 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_2422 : BitVec 32 := 13#32
  let v6272 : BitVec 32 := Scalar.addi v6065 c13_i32_2422
  let v6273 : BitVec 1 := Scalar.cmpi .slt v6272 v6068
  let c65535_i32_2423 : BitVec 32 := 65535#32
  let v6276 : BitVec 32 := Scalar.andi v6275 c65535_i32_2423
  let c2048_i32_2424 : BitVec 32 := 2048#32
  let v6277 : BitVec 32 := Scalar.select v6273 v6276 c2048_i32_2424
  let v6278 : BitVec 32 := Scalar.addi v1470 v6277
  let v6281 : Index := Scalar.indexCast v6278
  let c0_2426 : Index := 0#32
  ![v6281.toNat, 0]

def k0_chk868 (i : grid0.Coords) (v6065 : BitVec 32) (v6068 : BitVec 32) (v6275 : BitVec 32) : Prop :=
  (∀ a, (k0_off1738 i v6065 v6068 v6275) a + S1x128.size a ≤ S8224x128.size a)
theorem k0_off1738_inb : ∀ (i : grid0.Coords) (v6065 : BitVec 32) (v6068 : BitVec 32) (v6275 : BitVec 32) (k0_hw868 : k0_chk868 i v6065 v6068 v6275), ∀ a, (k0_off1738 i v6065 v6068 v6275) a + S1x128.size a ≤ S8224x128.size a := fun i v6065 v6068 v6275 k0_hw868 => k0_hw868

def k0_off1739 (v6065 : BitVec 32) : Fin 1 → Nat :=
  let c14_i32_2427 : BitVec 32 := 14#32
  let v6286 : BitVec 32 := Scalar.addi v6065 c14_i32_2427
  let v6289 : Index := Scalar.indexCast v6286
  ![v6289.toNat]
def k0_off1740 (i : grid0.Coords) (v6065 : BitVec 32) (v6068 : BitVec 32) (v6290 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_2428 : BitVec 32 := 14#32
  let v6287 : BitVec 32 := Scalar.addi v6065 c14_i32_2428
  let v6288 : BitVec 1 := Scalar.cmpi .slt v6287 v6068
  let c65535_i32_2429 : BitVec 32 := 65535#32
  let v6291 : BitVec 32 := Scalar.andi v6290 c65535_i32_2429
  let c2048_i32_2430 : BitVec 32 := 2048#32
  let v6292 : BitVec 32 := Scalar.select v6288 v6291 c2048_i32_2430
  let v6293 : BitVec 32 := Scalar.addi v1470 v6292
  let v6296 : Index := Scalar.indexCast v6293
  let c0_2432 : Index := 0#32
  ![v6296.toNat, 0]

def k0_chk869 (i : grid0.Coords) (v6065 : BitVec 32) (v6068 : BitVec 32) (v6290 : BitVec 32) : Prop :=
  (∀ a, (k0_off1740 i v6065 v6068 v6290) a + S1x128.size a ≤ S8224x128.size a)
theorem k0_off1740_inb : ∀ (i : grid0.Coords) (v6065 : BitVec 32) (v6068 : BitVec 32) (v6290 : BitVec 32) (k0_hw869 : k0_chk869 i v6065 v6068 v6290), ∀ a, (k0_off1740 i v6065 v6068 v6290) a + S1x128.size a ≤ S8224x128.size a := fun i v6065 v6068 v6290 k0_hw869 => k0_hw869

def k0_off1741 (v6065 : BitVec 32) : Fin 1 → Nat :=
  let c15_i32_2433 : BitVec 32 := 15#32
  let v6301 : BitVec 32 := Scalar.addi v6065 c15_i32_2433
  let v6304 : Index := Scalar.indexCast v6301
  ![v6304.toNat]

def k0_chk854 (v6065 : BitVec 32) : Prop :=
  (∀ a, (k0_off1711 v6065) a + S1.size a ≤ S51920.size a) ∧
  (∀ a, (k0_off1713 v6065) a + S1.size a ≤ S51920.size a) ∧
  (∀ a, (k0_off1715 v6065) a + S1.size a ≤ S51920.size a) ∧
  (∀ a, (k0_off1717 v6065) a + S1.size a ≤ S51920.size a) ∧
  (∀ a, (k0_off1719 v6065) a + S1.size a ≤ S51920.size a) ∧
  (∀ a, (k0_off1721 v6065) a + S1.size a ≤ S51920.size a) ∧
  (∀ a, (k0_off1723 v6065) a + S1.size a ≤ S51920.size a) ∧
  (∀ a, (k0_off1725 v6065) a + S1.size a ≤ S51920.size a) ∧
  (∀ a, (k0_off1727 v6065) a + S1.size a ≤ S51920.size a) ∧
  (∀ a, (k0_off1729 v6065) a + S1.size a ≤ S51920.size a) ∧
  (∀ a, (k0_off1731 v6065) a + S1.size a ≤ S51920.size a) ∧
  (∀ a, (k0_off1733 v6065) a + S1.size a ≤ S51920.size a) ∧
  (∀ a, (k0_off1735 v6065) a + S1.size a ≤ S51920.size a) ∧
  (∀ a, (k0_off1737 v6065) a + S1.size a ≤ S51920.size a) ∧
  (∀ a, (k0_off1739 v6065) a + S1.size a ≤ S51920.size a) ∧
  (∀ a, (k0_off1741 v6065) a + S1.size a ≤ S51920.size a)
theorem k0_off1711_inb : ∀ (v6065 : BitVec 32) (k0_hw854 : k0_chk854 v6065), ∀ a, (k0_off1711 v6065) a + S1.size a ≤ S51920.size a := fun v6065 k0_hw854 => k0_hw854.1
theorem k0_off1713_inb : ∀ (v6065 : BitVec 32) (k0_hw854 : k0_chk854 v6065), ∀ a, (k0_off1713 v6065) a + S1.size a ≤ S51920.size a := fun v6065 k0_hw854 => k0_hw854.2.1
theorem k0_off1715_inb : ∀ (v6065 : BitVec 32) (k0_hw854 : k0_chk854 v6065), ∀ a, (k0_off1715 v6065) a + S1.size a ≤ S51920.size a := fun v6065 k0_hw854 => k0_hw854.2.2.1
theorem k0_off1717_inb : ∀ (v6065 : BitVec 32) (k0_hw854 : k0_chk854 v6065), ∀ a, (k0_off1717 v6065) a + S1.size a ≤ S51920.size a := fun v6065 k0_hw854 => k0_hw854.2.2.2.1
theorem k0_off1719_inb : ∀ (v6065 : BitVec 32) (k0_hw854 : k0_chk854 v6065), ∀ a, (k0_off1719 v6065) a + S1.size a ≤ S51920.size a := fun v6065 k0_hw854 => k0_hw854.2.2.2.2.1
theorem k0_off1721_inb : ∀ (v6065 : BitVec 32) (k0_hw854 : k0_chk854 v6065), ∀ a, (k0_off1721 v6065) a + S1.size a ≤ S51920.size a := fun v6065 k0_hw854 => k0_hw854.2.2.2.2.2.1
theorem k0_off1723_inb : ∀ (v6065 : BitVec 32) (k0_hw854 : k0_chk854 v6065), ∀ a, (k0_off1723 v6065) a + S1.size a ≤ S51920.size a := fun v6065 k0_hw854 => k0_hw854.2.2.2.2.2.2.1
theorem k0_off1725_inb : ∀ (v6065 : BitVec 32) (k0_hw854 : k0_chk854 v6065), ∀ a, (k0_off1725 v6065) a + S1.size a ≤ S51920.size a := fun v6065 k0_hw854 => k0_hw854.2.2.2.2.2.2.2.1
theorem k0_off1727_inb : ∀ (v6065 : BitVec 32) (k0_hw854 : k0_chk854 v6065), ∀ a, (k0_off1727 v6065) a + S1.size a ≤ S51920.size a := fun v6065 k0_hw854 => k0_hw854.2.2.2.2.2.2.2.2.1
theorem k0_off1729_inb : ∀ (v6065 : BitVec 32) (k0_hw854 : k0_chk854 v6065), ∀ a, (k0_off1729 v6065) a + S1.size a ≤ S51920.size a := fun v6065 k0_hw854 => k0_hw854.2.2.2.2.2.2.2.2.2.1
theorem k0_off1731_inb : ∀ (v6065 : BitVec 32) (k0_hw854 : k0_chk854 v6065), ∀ a, (k0_off1731 v6065) a + S1.size a ≤ S51920.size a := fun v6065 k0_hw854 => k0_hw854.2.2.2.2.2.2.2.2.2.2.1
theorem k0_off1733_inb : ∀ (v6065 : BitVec 32) (k0_hw854 : k0_chk854 v6065), ∀ a, (k0_off1733 v6065) a + S1.size a ≤ S51920.size a := fun v6065 k0_hw854 => k0_hw854.2.2.2.2.2.2.2.2.2.2.2.1
theorem k0_off1735_inb : ∀ (v6065 : BitVec 32) (k0_hw854 : k0_chk854 v6065), ∀ a, (k0_off1735 v6065) a + S1.size a ≤ S51920.size a := fun v6065 k0_hw854 => k0_hw854.2.2.2.2.2.2.2.2.2.2.2.2.1
theorem k0_off1737_inb : ∀ (v6065 : BitVec 32) (k0_hw854 : k0_chk854 v6065), ∀ a, (k0_off1737 v6065) a + S1.size a ≤ S51920.size a := fun v6065 k0_hw854 => k0_hw854.2.2.2.2.2.2.2.2.2.2.2.2.2.1
theorem k0_off1739_inb : ∀ (v6065 : BitVec 32) (k0_hw854 : k0_chk854 v6065), ∀ a, (k0_off1739 v6065) a + S1.size a ≤ S51920.size a := fun v6065 k0_hw854 => k0_hw854.2.2.2.2.2.2.2.2.2.2.2.2.2.2.1
theorem k0_off1741_inb : ∀ (v6065 : BitVec 32) (k0_hw854 : k0_chk854 v6065), ∀ a, (k0_off1741 v6065) a + S1.size a ≤ S51920.size a := fun v6065 k0_hw854 => k0_hw854.2.2.2.2.2.2.2.2.2.2.2.2.2.2.2

def k0_off1742 (i : grid0.Coords) (v6065 : BitVec 32) (v6068 : BitVec 32) (v6305 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_2434 : BitVec 32 := 15#32
  let v6302 : BitVec 32 := Scalar.addi v6065 c15_i32_2434
  let v6303 : BitVec 1 := Scalar.cmpi .slt v6302 v6068
  let c65535_i32_2435 : BitVec 32 := 65535#32
  let v6306 : BitVec 32 := Scalar.andi v6305 c65535_i32_2435
  let c2048_i32_2436 : BitVec 32 := 2048#32
  let v6307 : BitVec 32 := Scalar.select v6303 v6306 c2048_i32_2436
  let v6308 : BitVec 32 := Scalar.addi v1470 v6307
  let v6311 : Index := Scalar.indexCast v6308
  let c0_2438 : Index := 0#32
  ![v6311.toNat, 0]

def k0_chk870 (i : grid0.Coords) (v6065 : BitVec 32) (v6068 : BitVec 32) (v6305 : BitVec 32) : Prop :=
  (∀ a, (k0_off1742 i v6065 v6068 v6305) a + S1x128.size a ≤ S8224x128.size a)
theorem k0_off1742_inb : ∀ (i : grid0.Coords) (v6065 : BitVec 32) (v6068 : BitVec 32) (v6305 : BitVec 32) (k0_hw870 : k0_chk870 i v6065 v6068 v6305), ∀ a, (k0_off1742 i v6065 v6068 v6305) a + S1x128.size a ≤ S8224x128.size a := fun i v6065 v6068 v6305 k0_hw870 => k0_hw870

def k0_off1743 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2439 : BitVec 32 := 512#32
  let v6316 : BitVec 32 := Scalar.muli v24 c512_i32_2439
  let arg1 : BitVec 32 := BitVec.ofNat 32 (i 1).val
  let c32_i32 : BitVec 32 := 32#32
  let v1452 : BitVec 32 := Scalar.muli arg1 c32_i32
  let v6317 : BitVec 32 := Scalar.addi v6316 v1452
  let c19_i32 : BitVec 32 := 19#32
  let v6318 : BitVec 32 := Scalar.addi v6317 c19_i32
  let v6319 : Index := Scalar.indexCast v6318
  ![v6319.toNat]
def k0_off1744 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2439 : BitVec 32 := 512#32
  let v6316 : BitVec 32 := Scalar.muli v24 c512_i32_2439
  let arg1 : BitVec 32 := BitVec.ofNat 32 (i 1).val
  let c32_i32 : BitVec 32 := 32#32
  let v1452 : BitVec 32 := Scalar.muli arg1 c32_i32
  let v6317 : BitVec 32 := Scalar.addi v6316 v1452
  let c19_i32 : BitVec 32 := 19#32
  let v6318 : BitVec 32 := Scalar.addi v6317 c19_i32
  let c1_i32_2440 : BitVec 32 := 1#32
  let v6321 : BitVec 32 := Scalar.addi v6318 c1_i32_2440
  let v6322 : Index := Scalar.indexCast v6321
  ![v6322.toNat]
def k0_off1745 (v6320 : BitVec 32) : Fin 1 → Nat :=
  let c0_i32_2443 : BitVec 32 := 0#32
  let v6331 : BitVec 32 := Scalar.addi v6320 c0_i32_2443
  let v6334 : Index := Scalar.indexCast v6331
  ![v6334.toNat]

def k0_off1746 (i : grid0.Coords) (v6320 : BitVec 32) (v6323 : BitVec 32) (v6335 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_2444 : BitVec 32 := 0#32
  let v6332 : BitVec 32 := Scalar.addi v6320 c0_i32_2444
  let v6333 : BitVec 1 := Scalar.cmpi .slt v6332 v6323
  let c65535_i32_2445 : BitVec 32 := 65535#32
  let v6336 : BitVec 32 := Scalar.andi v6335 c65535_i32_2445
  let c2048_i32_2446 : BitVec 32 := 2048#32
  let v6337 : BitVec 32 := Scalar.select v6333 v6336 c2048_i32_2446
  let v6338 : BitVec 32 := Scalar.addi v1470 v6337
  let v6341 : Index := Scalar.indexCast v6338
  let c0_2448 : Index := 0#32
  ![v6341.toNat, 0]

def k0_chk872 (i : grid0.Coords) (v6320 : BitVec 32) (v6323 : BitVec 32) (v6335 : BitVec 32) : Prop :=
  (∀ a, (k0_off1746 i v6320 v6323 v6335) a + S1x128.size a ≤ S8224x128.size a)
theorem k0_off1746_inb : ∀ (i : grid0.Coords) (v6320 : BitVec 32) (v6323 : BitVec 32) (v6335 : BitVec 32) (k0_hw872 : k0_chk872 i v6320 v6323 v6335), ∀ a, (k0_off1746 i v6320 v6323 v6335) a + S1x128.size a ≤ S8224x128.size a := fun i v6320 v6323 v6335 k0_hw872 => k0_hw872

def k0_off1747 (v6320 : BitVec 32) : Fin 1 → Nat :=
  let c1_i32_2449 : BitVec 32 := 1#32
  let v6346 : BitVec 32 := Scalar.addi v6320 c1_i32_2449
  let v6349 : Index := Scalar.indexCast v6346
  ![v6349.toNat]
def k0_off1748 (i : grid0.Coords) (v6320 : BitVec 32) (v6323 : BitVec 32) (v6350 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_2450 : BitVec 32 := 1#32
  let v6347 : BitVec 32 := Scalar.addi v6320 c1_i32_2450
  let v6348 : BitVec 1 := Scalar.cmpi .slt v6347 v6323
  let c65535_i32_2451 : BitVec 32 := 65535#32
  let v6351 : BitVec 32 := Scalar.andi v6350 c65535_i32_2451
  let c2048_i32_2452 : BitVec 32 := 2048#32
  let v6352 : BitVec 32 := Scalar.select v6348 v6351 c2048_i32_2452
  let v6353 : BitVec 32 := Scalar.addi v1470 v6352
  let v6356 : Index := Scalar.indexCast v6353
  let c0_2454 : Index := 0#32
  ![v6356.toNat, 0]

def k0_chk873 (i : grid0.Coords) (v6320 : BitVec 32) (v6323 : BitVec 32) (v6350 : BitVec 32) : Prop :=
  (∀ a, (k0_off1748 i v6320 v6323 v6350) a + S1x128.size a ≤ S8224x128.size a)
theorem k0_off1748_inb : ∀ (i : grid0.Coords) (v6320 : BitVec 32) (v6323 : BitVec 32) (v6350 : BitVec 32) (k0_hw873 : k0_chk873 i v6320 v6323 v6350), ∀ a, (k0_off1748 i v6320 v6323 v6350) a + S1x128.size a ≤ S8224x128.size a := fun i v6320 v6323 v6350 k0_hw873 => k0_hw873

def k0_off1749 (v6320 : BitVec 32) : Fin 1 → Nat :=
  let c2_i32_2455 : BitVec 32 := 2#32
  let v6361 : BitVec 32 := Scalar.addi v6320 c2_i32_2455
  let v6364 : Index := Scalar.indexCast v6361
  ![v6364.toNat]
def k0_off1750 (i : grid0.Coords) (v6320 : BitVec 32) (v6323 : BitVec 32) (v6365 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_2456 : BitVec 32 := 2#32
  let v6362 : BitVec 32 := Scalar.addi v6320 c2_i32_2456
  let v6363 : BitVec 1 := Scalar.cmpi .slt v6362 v6323
  let c65535_i32_2457 : BitVec 32 := 65535#32
  let v6366 : BitVec 32 := Scalar.andi v6365 c65535_i32_2457
  let c2048_i32_2458 : BitVec 32 := 2048#32
  let v6367 : BitVec 32 := Scalar.select v6363 v6366 c2048_i32_2458
  let v6368 : BitVec 32 := Scalar.addi v1470 v6367
  let v6371 : Index := Scalar.indexCast v6368
  let c0_2460 : Index := 0#32
  ![v6371.toNat, 0]

def k0_chk874 (i : grid0.Coords) (v6320 : BitVec 32) (v6323 : BitVec 32) (v6365 : BitVec 32) : Prop :=
  (∀ a, (k0_off1750 i v6320 v6323 v6365) a + S1x128.size a ≤ S8224x128.size a)
theorem k0_off1750_inb : ∀ (i : grid0.Coords) (v6320 : BitVec 32) (v6323 : BitVec 32) (v6365 : BitVec 32) (k0_hw874 : k0_chk874 i v6320 v6323 v6365), ∀ a, (k0_off1750 i v6320 v6323 v6365) a + S1x128.size a ≤ S8224x128.size a := fun i v6320 v6323 v6365 k0_hw874 => k0_hw874

def k0_off1751 (v6320 : BitVec 32) : Fin 1 → Nat :=
  let c3_i32_2461 : BitVec 32 := 3#32
  let v6376 : BitVec 32 := Scalar.addi v6320 c3_i32_2461
  let v6379 : Index := Scalar.indexCast v6376
  ![v6379.toNat]
def k0_off1752 (i : grid0.Coords) (v6320 : BitVec 32) (v6323 : BitVec 32) (v6380 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_2462 : BitVec 32 := 3#32
  let v6377 : BitVec 32 := Scalar.addi v6320 c3_i32_2462
  let v6378 : BitVec 1 := Scalar.cmpi .slt v6377 v6323
  let c65535_i32_2463 : BitVec 32 := 65535#32
  let v6381 : BitVec 32 := Scalar.andi v6380 c65535_i32_2463
  let c2048_i32_2464 : BitVec 32 := 2048#32
  let v6382 : BitVec 32 := Scalar.select v6378 v6381 c2048_i32_2464
  let v6383 : BitVec 32 := Scalar.addi v1470 v6382
  let v6386 : Index := Scalar.indexCast v6383
  let c0_2466 : Index := 0#32
  ![v6386.toNat, 0]

def k0_chk875 (i : grid0.Coords) (v6320 : BitVec 32) (v6323 : BitVec 32) (v6380 : BitVec 32) : Prop :=
  (∀ a, (k0_off1752 i v6320 v6323 v6380) a + S1x128.size a ≤ S8224x128.size a)
theorem k0_off1752_inb : ∀ (i : grid0.Coords) (v6320 : BitVec 32) (v6323 : BitVec 32) (v6380 : BitVec 32) (k0_hw875 : k0_chk875 i v6320 v6323 v6380), ∀ a, (k0_off1752 i v6320 v6323 v6380) a + S1x128.size a ≤ S8224x128.size a := fun i v6320 v6323 v6380 k0_hw875 => k0_hw875

def k0_off1753 (v6320 : BitVec 32) : Fin 1 → Nat :=
  let c4_i32_2467 : BitVec 32 := 4#32
  let v6391 : BitVec 32 := Scalar.addi v6320 c4_i32_2467
  let v6394 : Index := Scalar.indexCast v6391
  ![v6394.toNat]
def k0_off1754 (i : grid0.Coords) (v6320 : BitVec 32) (v6323 : BitVec 32) (v6395 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_2468 : BitVec 32 := 4#32
  let v6392 : BitVec 32 := Scalar.addi v6320 c4_i32_2468
  let v6393 : BitVec 1 := Scalar.cmpi .slt v6392 v6323
  let c65535_i32_2469 : BitVec 32 := 65535#32
  let v6396 : BitVec 32 := Scalar.andi v6395 c65535_i32_2469
  let c2048_i32_2470 : BitVec 32 := 2048#32
  let v6397 : BitVec 32 := Scalar.select v6393 v6396 c2048_i32_2470
  let v6398 : BitVec 32 := Scalar.addi v1470 v6397
  let v6401 : Index := Scalar.indexCast v6398
  let c0_2472 : Index := 0#32
  ![v6401.toNat, 0]

def k0_chk876 (i : grid0.Coords) (v6320 : BitVec 32) (v6323 : BitVec 32) (v6395 : BitVec 32) : Prop :=
  (∀ a, (k0_off1754 i v6320 v6323 v6395) a + S1x128.size a ≤ S8224x128.size a)
theorem k0_off1754_inb : ∀ (i : grid0.Coords) (v6320 : BitVec 32) (v6323 : BitVec 32) (v6395 : BitVec 32) (k0_hw876 : k0_chk876 i v6320 v6323 v6395), ∀ a, (k0_off1754 i v6320 v6323 v6395) a + S1x128.size a ≤ S8224x128.size a := fun i v6320 v6323 v6395 k0_hw876 => k0_hw876

def k0_off1755 (v6320 : BitVec 32) : Fin 1 → Nat :=
  let c5_i32_2473 : BitVec 32 := 5#32
  let v6406 : BitVec 32 := Scalar.addi v6320 c5_i32_2473
  let v6409 : Index := Scalar.indexCast v6406
  ![v6409.toNat]
def k0_off1756 (i : grid0.Coords) (v6320 : BitVec 32) (v6323 : BitVec 32) (v6410 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_2474 : BitVec 32 := 5#32
  let v6407 : BitVec 32 := Scalar.addi v6320 c5_i32_2474
  let v6408 : BitVec 1 := Scalar.cmpi .slt v6407 v6323
  let c65535_i32_2475 : BitVec 32 := 65535#32
  let v6411 : BitVec 32 := Scalar.andi v6410 c65535_i32_2475
  let c2048_i32_2476 : BitVec 32 := 2048#32
  let v6412 : BitVec 32 := Scalar.select v6408 v6411 c2048_i32_2476
  let v6413 : BitVec 32 := Scalar.addi v1470 v6412
  let v6416 : Index := Scalar.indexCast v6413
  let c0_2478 : Index := 0#32
  ![v6416.toNat, 0]

def k0_chk877 (i : grid0.Coords) (v6320 : BitVec 32) (v6323 : BitVec 32) (v6410 : BitVec 32) : Prop :=
  (∀ a, (k0_off1756 i v6320 v6323 v6410) a + S1x128.size a ≤ S8224x128.size a)
theorem k0_off1756_inb : ∀ (i : grid0.Coords) (v6320 : BitVec 32) (v6323 : BitVec 32) (v6410 : BitVec 32) (k0_hw877 : k0_chk877 i v6320 v6323 v6410), ∀ a, (k0_off1756 i v6320 v6323 v6410) a + S1x128.size a ≤ S8224x128.size a := fun i v6320 v6323 v6410 k0_hw877 => k0_hw877

def k0_off1757 (v6320 : BitVec 32) : Fin 1 → Nat :=
  let c6_i32_2479 : BitVec 32 := 6#32
  let v6421 : BitVec 32 := Scalar.addi v6320 c6_i32_2479
  let v6424 : Index := Scalar.indexCast v6421
  ![v6424.toNat]
def k0_off1758 (i : grid0.Coords) (v6320 : BitVec 32) (v6323 : BitVec 32) (v6425 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_2480 : BitVec 32 := 6#32
  let v6422 : BitVec 32 := Scalar.addi v6320 c6_i32_2480
  let v6423 : BitVec 1 := Scalar.cmpi .slt v6422 v6323
  let c65535_i32_2481 : BitVec 32 := 65535#32
  let v6426 : BitVec 32 := Scalar.andi v6425 c65535_i32_2481
  let c2048_i32_2482 : BitVec 32 := 2048#32
  let v6427 : BitVec 32 := Scalar.select v6423 v6426 c2048_i32_2482
  let v6428 : BitVec 32 := Scalar.addi v1470 v6427
  let v6431 : Index := Scalar.indexCast v6428
  let c0_2484 : Index := 0#32
  ![v6431.toNat, 0]

def k0_chk878 (i : grid0.Coords) (v6320 : BitVec 32) (v6323 : BitVec 32) (v6425 : BitVec 32) : Prop :=
  (∀ a, (k0_off1758 i v6320 v6323 v6425) a + S1x128.size a ≤ S8224x128.size a)
theorem k0_off1758_inb : ∀ (i : grid0.Coords) (v6320 : BitVec 32) (v6323 : BitVec 32) (v6425 : BitVec 32) (k0_hw878 : k0_chk878 i v6320 v6323 v6425), ∀ a, (k0_off1758 i v6320 v6323 v6425) a + S1x128.size a ≤ S8224x128.size a := fun i v6320 v6323 v6425 k0_hw878 => k0_hw878

def k0_off1759 (v6320 : BitVec 32) : Fin 1 → Nat :=
  let c7_i32_2485 : BitVec 32 := 7#32
  let v6436 : BitVec 32 := Scalar.addi v6320 c7_i32_2485
  let v6439 : Index := Scalar.indexCast v6436
  ![v6439.toNat]
def k0_off1760 (i : grid0.Coords) (v6320 : BitVec 32) (v6323 : BitVec 32) (v6440 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_2486 : BitVec 32 := 7#32
  let v6437 : BitVec 32 := Scalar.addi v6320 c7_i32_2486
  let v6438 : BitVec 1 := Scalar.cmpi .slt v6437 v6323
  let c65535_i32_2487 : BitVec 32 := 65535#32
  let v6441 : BitVec 32 := Scalar.andi v6440 c65535_i32_2487
  let c2048_i32_2488 : BitVec 32 := 2048#32
  let v6442 : BitVec 32 := Scalar.select v6438 v6441 c2048_i32_2488
  let v6443 : BitVec 32 := Scalar.addi v1470 v6442
  let v6446 : Index := Scalar.indexCast v6443
  let c0_2490 : Index := 0#32
  ![v6446.toNat, 0]

def k0_chk879 (i : grid0.Coords) (v6320 : BitVec 32) (v6323 : BitVec 32) (v6440 : BitVec 32) : Prop :=
  (∀ a, (k0_off1760 i v6320 v6323 v6440) a + S1x128.size a ≤ S8224x128.size a)
theorem k0_off1760_inb : ∀ (i : grid0.Coords) (v6320 : BitVec 32) (v6323 : BitVec 32) (v6440 : BitVec 32) (k0_hw879 : k0_chk879 i v6320 v6323 v6440), ∀ a, (k0_off1760 i v6320 v6323 v6440) a + S1x128.size a ≤ S8224x128.size a := fun i v6320 v6323 v6440 k0_hw879 => k0_hw879

def k0_off1761 (v6320 : BitVec 32) : Fin 1 → Nat :=
  let c8_i32_2491 : BitVec 32 := 8#32
  let v6451 : BitVec 32 := Scalar.addi v6320 c8_i32_2491
  let v6454 : Index := Scalar.indexCast v6451
  ![v6454.toNat]
def k0_off1762 (i : grid0.Coords) (v6320 : BitVec 32) (v6323 : BitVec 32) (v6455 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_2492 : BitVec 32 := 8#32
  let v6452 : BitVec 32 := Scalar.addi v6320 c8_i32_2492
  let v6453 : BitVec 1 := Scalar.cmpi .slt v6452 v6323
  let c65535_i32_2493 : BitVec 32 := 65535#32
  let v6456 : BitVec 32 := Scalar.andi v6455 c65535_i32_2493
  let c2048_i32_2494 : BitVec 32 := 2048#32
  let v6457 : BitVec 32 := Scalar.select v6453 v6456 c2048_i32_2494
  let v6458 : BitVec 32 := Scalar.addi v1470 v6457
  let v6461 : Index := Scalar.indexCast v6458
  let c0_2496 : Index := 0#32
  ![v6461.toNat, 0]

def k0_chk880 (i : grid0.Coords) (v6320 : BitVec 32) (v6323 : BitVec 32) (v6455 : BitVec 32) : Prop :=
  (∀ a, (k0_off1762 i v6320 v6323 v6455) a + S1x128.size a ≤ S8224x128.size a)
theorem k0_off1762_inb : ∀ (i : grid0.Coords) (v6320 : BitVec 32) (v6323 : BitVec 32) (v6455 : BitVec 32) (k0_hw880 : k0_chk880 i v6320 v6323 v6455), ∀ a, (k0_off1762 i v6320 v6323 v6455) a + S1x128.size a ≤ S8224x128.size a := fun i v6320 v6323 v6455 k0_hw880 => k0_hw880

def k0_off1763 (v6320 : BitVec 32) : Fin 1 → Nat :=
  let c9_i32_2497 : BitVec 32 := 9#32
  let v6466 : BitVec 32 := Scalar.addi v6320 c9_i32_2497
  let v6469 : Index := Scalar.indexCast v6466
  ![v6469.toNat]
def k0_off1764 (i : grid0.Coords) (v6320 : BitVec 32) (v6323 : BitVec 32) (v6470 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_2498 : BitVec 32 := 9#32
  let v6467 : BitVec 32 := Scalar.addi v6320 c9_i32_2498
  let v6468 : BitVec 1 := Scalar.cmpi .slt v6467 v6323
  let c65535_i32_2499 : BitVec 32 := 65535#32
  let v6471 : BitVec 32 := Scalar.andi v6470 c65535_i32_2499
  let c2048_i32_2500 : BitVec 32 := 2048#32
  let v6472 : BitVec 32 := Scalar.select v6468 v6471 c2048_i32_2500
  let v6473 : BitVec 32 := Scalar.addi v1470 v6472
  let v6476 : Index := Scalar.indexCast v6473
  let c0_2502 : Index := 0#32
  ![v6476.toNat, 0]

def k0_chk881 (i : grid0.Coords) (v6320 : BitVec 32) (v6323 : BitVec 32) (v6470 : BitVec 32) : Prop :=
  (∀ a, (k0_off1764 i v6320 v6323 v6470) a + S1x128.size a ≤ S8224x128.size a)
theorem k0_off1764_inb : ∀ (i : grid0.Coords) (v6320 : BitVec 32) (v6323 : BitVec 32) (v6470 : BitVec 32) (k0_hw881 : k0_chk881 i v6320 v6323 v6470), ∀ a, (k0_off1764 i v6320 v6323 v6470) a + S1x128.size a ≤ S8224x128.size a := fun i v6320 v6323 v6470 k0_hw881 => k0_hw881

def k0_off1765 (v6320 : BitVec 32) : Fin 1 → Nat :=
  let c10_i32_2503 : BitVec 32 := 10#32
  let v6481 : BitVec 32 := Scalar.addi v6320 c10_i32_2503
  let v6484 : Index := Scalar.indexCast v6481
  ![v6484.toNat]
def k0_off1766 (i : grid0.Coords) (v6320 : BitVec 32) (v6323 : BitVec 32) (v6485 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_2504 : BitVec 32 := 10#32
  let v6482 : BitVec 32 := Scalar.addi v6320 c10_i32_2504
  let v6483 : BitVec 1 := Scalar.cmpi .slt v6482 v6323
  let c65535_i32_2505 : BitVec 32 := 65535#32
  let v6486 : BitVec 32 := Scalar.andi v6485 c65535_i32_2505
  let c2048_i32_2506 : BitVec 32 := 2048#32
  let v6487 : BitVec 32 := Scalar.select v6483 v6486 c2048_i32_2506
  let v6488 : BitVec 32 := Scalar.addi v1470 v6487
  let v6491 : Index := Scalar.indexCast v6488
  let c0_2508 : Index := 0#32
  ![v6491.toNat, 0]

def k0_chk882 (i : grid0.Coords) (v6320 : BitVec 32) (v6323 : BitVec 32) (v6485 : BitVec 32) : Prop :=
  (∀ a, (k0_off1766 i v6320 v6323 v6485) a + S1x128.size a ≤ S8224x128.size a)
theorem k0_off1766_inb : ∀ (i : grid0.Coords) (v6320 : BitVec 32) (v6323 : BitVec 32) (v6485 : BitVec 32) (k0_hw882 : k0_chk882 i v6320 v6323 v6485), ∀ a, (k0_off1766 i v6320 v6323 v6485) a + S1x128.size a ≤ S8224x128.size a := fun i v6320 v6323 v6485 k0_hw882 => k0_hw882

def k0_off1767 (v6320 : BitVec 32) : Fin 1 → Nat :=
  let c11_i32_2509 : BitVec 32 := 11#32
  let v6496 : BitVec 32 := Scalar.addi v6320 c11_i32_2509
  let v6499 : Index := Scalar.indexCast v6496
  ![v6499.toNat]
def k0_off1768 (i : grid0.Coords) (v6320 : BitVec 32) (v6323 : BitVec 32) (v6500 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_2510 : BitVec 32 := 11#32
  let v6497 : BitVec 32 := Scalar.addi v6320 c11_i32_2510
  let v6498 : BitVec 1 := Scalar.cmpi .slt v6497 v6323
  let c65535_i32_2511 : BitVec 32 := 65535#32
  let v6501 : BitVec 32 := Scalar.andi v6500 c65535_i32_2511
  let c2048_i32_2512 : BitVec 32 := 2048#32
  let v6502 : BitVec 32 := Scalar.select v6498 v6501 c2048_i32_2512
  let v6503 : BitVec 32 := Scalar.addi v1470 v6502
  let v6506 : Index := Scalar.indexCast v6503
  let c0_2514 : Index := 0#32
  ![v6506.toNat, 0]

def k0_chk883 (i : grid0.Coords) (v6320 : BitVec 32) (v6323 : BitVec 32) (v6500 : BitVec 32) : Prop :=
  (∀ a, (k0_off1768 i v6320 v6323 v6500) a + S1x128.size a ≤ S8224x128.size a)
theorem k0_off1768_inb : ∀ (i : grid0.Coords) (v6320 : BitVec 32) (v6323 : BitVec 32) (v6500 : BitVec 32) (k0_hw883 : k0_chk883 i v6320 v6323 v6500), ∀ a, (k0_off1768 i v6320 v6323 v6500) a + S1x128.size a ≤ S8224x128.size a := fun i v6320 v6323 v6500 k0_hw883 => k0_hw883

def k0_off1769 (v6320 : BitVec 32) : Fin 1 → Nat :=
  let c12_i32_2515 : BitVec 32 := 12#32
  let v6511 : BitVec 32 := Scalar.addi v6320 c12_i32_2515
  let v6514 : Index := Scalar.indexCast v6511
  ![v6514.toNat]
def k0_off1770 (i : grid0.Coords) (v6320 : BitVec 32) (v6323 : BitVec 32) (v6515 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_2516 : BitVec 32 := 12#32
  let v6512 : BitVec 32 := Scalar.addi v6320 c12_i32_2516
  let v6513 : BitVec 1 := Scalar.cmpi .slt v6512 v6323
  let c65535_i32_2517 : BitVec 32 := 65535#32
  let v6516 : BitVec 32 := Scalar.andi v6515 c65535_i32_2517
  let c2048_i32_2518 : BitVec 32 := 2048#32
  let v6517 : BitVec 32 := Scalar.select v6513 v6516 c2048_i32_2518
  let v6518 : BitVec 32 := Scalar.addi v1470 v6517
  let v6521 : Index := Scalar.indexCast v6518
  let c0_2520 : Index := 0#32
  ![v6521.toNat, 0]

def k0_chk884 (i : grid0.Coords) (v6320 : BitVec 32) (v6323 : BitVec 32) (v6515 : BitVec 32) : Prop :=
  (∀ a, (k0_off1770 i v6320 v6323 v6515) a + S1x128.size a ≤ S8224x128.size a)
theorem k0_off1770_inb : ∀ (i : grid0.Coords) (v6320 : BitVec 32) (v6323 : BitVec 32) (v6515 : BitVec 32) (k0_hw884 : k0_chk884 i v6320 v6323 v6515), ∀ a, (k0_off1770 i v6320 v6323 v6515) a + S1x128.size a ≤ S8224x128.size a := fun i v6320 v6323 v6515 k0_hw884 => k0_hw884

def k0_off1771 (v6320 : BitVec 32) : Fin 1 → Nat :=
  let c13_i32_2521 : BitVec 32 := 13#32
  let v6526 : BitVec 32 := Scalar.addi v6320 c13_i32_2521
  let v6529 : Index := Scalar.indexCast v6526
  ![v6529.toNat]
def k0_off1772 (i : grid0.Coords) (v6320 : BitVec 32) (v6323 : BitVec 32) (v6530 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_2522 : BitVec 32 := 13#32
  let v6527 : BitVec 32 := Scalar.addi v6320 c13_i32_2522
  let v6528 : BitVec 1 := Scalar.cmpi .slt v6527 v6323
  let c65535_i32_2523 : BitVec 32 := 65535#32
  let v6531 : BitVec 32 := Scalar.andi v6530 c65535_i32_2523
  let c2048_i32_2524 : BitVec 32 := 2048#32
  let v6532 : BitVec 32 := Scalar.select v6528 v6531 c2048_i32_2524
  let v6533 : BitVec 32 := Scalar.addi v1470 v6532
  let v6536 : Index := Scalar.indexCast v6533
  let c0_2526 : Index := 0#32
  ![v6536.toNat, 0]

def k0_chk885 (i : grid0.Coords) (v6320 : BitVec 32) (v6323 : BitVec 32) (v6530 : BitVec 32) : Prop :=
  (∀ a, (k0_off1772 i v6320 v6323 v6530) a + S1x128.size a ≤ S8224x128.size a)
theorem k0_off1772_inb : ∀ (i : grid0.Coords) (v6320 : BitVec 32) (v6323 : BitVec 32) (v6530 : BitVec 32) (k0_hw885 : k0_chk885 i v6320 v6323 v6530), ∀ a, (k0_off1772 i v6320 v6323 v6530) a + S1x128.size a ≤ S8224x128.size a := fun i v6320 v6323 v6530 k0_hw885 => k0_hw885

def k0_off1773 (v6320 : BitVec 32) : Fin 1 → Nat :=
  let c14_i32_2527 : BitVec 32 := 14#32
  let v6541 : BitVec 32 := Scalar.addi v6320 c14_i32_2527
  let v6544 : Index := Scalar.indexCast v6541
  ![v6544.toNat]
def k0_off1774 (i : grid0.Coords) (v6320 : BitVec 32) (v6323 : BitVec 32) (v6545 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_2528 : BitVec 32 := 14#32
  let v6542 : BitVec 32 := Scalar.addi v6320 c14_i32_2528
  let v6543 : BitVec 1 := Scalar.cmpi .slt v6542 v6323
  let c65535_i32_2529 : BitVec 32 := 65535#32
  let v6546 : BitVec 32 := Scalar.andi v6545 c65535_i32_2529
  let c2048_i32_2530 : BitVec 32 := 2048#32
  let v6547 : BitVec 32 := Scalar.select v6543 v6546 c2048_i32_2530
  let v6548 : BitVec 32 := Scalar.addi v1470 v6547
  let v6551 : Index := Scalar.indexCast v6548
  let c0_2532 : Index := 0#32
  ![v6551.toNat, 0]

def k0_chk886 (i : grid0.Coords) (v6320 : BitVec 32) (v6323 : BitVec 32) (v6545 : BitVec 32) : Prop :=
  (∀ a, (k0_off1774 i v6320 v6323 v6545) a + S1x128.size a ≤ S8224x128.size a)
theorem k0_off1774_inb : ∀ (i : grid0.Coords) (v6320 : BitVec 32) (v6323 : BitVec 32) (v6545 : BitVec 32) (k0_hw886 : k0_chk886 i v6320 v6323 v6545), ∀ a, (k0_off1774 i v6320 v6323 v6545) a + S1x128.size a ≤ S8224x128.size a := fun i v6320 v6323 v6545 k0_hw886 => k0_hw886

def k0_off1775 (v6320 : BitVec 32) : Fin 1 → Nat :=
  let c15_i32_2533 : BitVec 32 := 15#32
  let v6556 : BitVec 32 := Scalar.addi v6320 c15_i32_2533
  let v6559 : Index := Scalar.indexCast v6556
  ![v6559.toNat]

def k0_chk871 (v6320 : BitVec 32) : Prop :=
  (∀ a, (k0_off1745 v6320) a + S1.size a ≤ S51920.size a) ∧
  (∀ a, (k0_off1747 v6320) a + S1.size a ≤ S51920.size a) ∧
  (∀ a, (k0_off1749 v6320) a + S1.size a ≤ S51920.size a) ∧
  (∀ a, (k0_off1751 v6320) a + S1.size a ≤ S51920.size a) ∧
  (∀ a, (k0_off1753 v6320) a + S1.size a ≤ S51920.size a) ∧
  (∀ a, (k0_off1755 v6320) a + S1.size a ≤ S51920.size a) ∧
  (∀ a, (k0_off1757 v6320) a + S1.size a ≤ S51920.size a) ∧
  (∀ a, (k0_off1759 v6320) a + S1.size a ≤ S51920.size a) ∧
  (∀ a, (k0_off1761 v6320) a + S1.size a ≤ S51920.size a) ∧
  (∀ a, (k0_off1763 v6320) a + S1.size a ≤ S51920.size a) ∧
  (∀ a, (k0_off1765 v6320) a + S1.size a ≤ S51920.size a) ∧
  (∀ a, (k0_off1767 v6320) a + S1.size a ≤ S51920.size a) ∧
  (∀ a, (k0_off1769 v6320) a + S1.size a ≤ S51920.size a) ∧
  (∀ a, (k0_off1771 v6320) a + S1.size a ≤ S51920.size a) ∧
  (∀ a, (k0_off1773 v6320) a + S1.size a ≤ S51920.size a) ∧
  (∀ a, (k0_off1775 v6320) a + S1.size a ≤ S51920.size a)
theorem k0_off1745_inb : ∀ (v6320 : BitVec 32) (k0_hw871 : k0_chk871 v6320), ∀ a, (k0_off1745 v6320) a + S1.size a ≤ S51920.size a := fun v6320 k0_hw871 => k0_hw871.1
theorem k0_off1747_inb : ∀ (v6320 : BitVec 32) (k0_hw871 : k0_chk871 v6320), ∀ a, (k0_off1747 v6320) a + S1.size a ≤ S51920.size a := fun v6320 k0_hw871 => k0_hw871.2.1
theorem k0_off1749_inb : ∀ (v6320 : BitVec 32) (k0_hw871 : k0_chk871 v6320), ∀ a, (k0_off1749 v6320) a + S1.size a ≤ S51920.size a := fun v6320 k0_hw871 => k0_hw871.2.2.1
theorem k0_off1751_inb : ∀ (v6320 : BitVec 32) (k0_hw871 : k0_chk871 v6320), ∀ a, (k0_off1751 v6320) a + S1.size a ≤ S51920.size a := fun v6320 k0_hw871 => k0_hw871.2.2.2.1
theorem k0_off1753_inb : ∀ (v6320 : BitVec 32) (k0_hw871 : k0_chk871 v6320), ∀ a, (k0_off1753 v6320) a + S1.size a ≤ S51920.size a := fun v6320 k0_hw871 => k0_hw871.2.2.2.2.1
theorem k0_off1755_inb : ∀ (v6320 : BitVec 32) (k0_hw871 : k0_chk871 v6320), ∀ a, (k0_off1755 v6320) a + S1.size a ≤ S51920.size a := fun v6320 k0_hw871 => k0_hw871.2.2.2.2.2.1
theorem k0_off1757_inb : ∀ (v6320 : BitVec 32) (k0_hw871 : k0_chk871 v6320), ∀ a, (k0_off1757 v6320) a + S1.size a ≤ S51920.size a := fun v6320 k0_hw871 => k0_hw871.2.2.2.2.2.2.1
theorem k0_off1759_inb : ∀ (v6320 : BitVec 32) (k0_hw871 : k0_chk871 v6320), ∀ a, (k0_off1759 v6320) a + S1.size a ≤ S51920.size a := fun v6320 k0_hw871 => k0_hw871.2.2.2.2.2.2.2.1
theorem k0_off1761_inb : ∀ (v6320 : BitVec 32) (k0_hw871 : k0_chk871 v6320), ∀ a, (k0_off1761 v6320) a + S1.size a ≤ S51920.size a := fun v6320 k0_hw871 => k0_hw871.2.2.2.2.2.2.2.2.1
theorem k0_off1763_inb : ∀ (v6320 : BitVec 32) (k0_hw871 : k0_chk871 v6320), ∀ a, (k0_off1763 v6320) a + S1.size a ≤ S51920.size a := fun v6320 k0_hw871 => k0_hw871.2.2.2.2.2.2.2.2.2.1
theorem k0_off1765_inb : ∀ (v6320 : BitVec 32) (k0_hw871 : k0_chk871 v6320), ∀ a, (k0_off1765 v6320) a + S1.size a ≤ S51920.size a := fun v6320 k0_hw871 => k0_hw871.2.2.2.2.2.2.2.2.2.2.1
theorem k0_off1767_inb : ∀ (v6320 : BitVec 32) (k0_hw871 : k0_chk871 v6320), ∀ a, (k0_off1767 v6320) a + S1.size a ≤ S51920.size a := fun v6320 k0_hw871 => k0_hw871.2.2.2.2.2.2.2.2.2.2.2.1
theorem k0_off1769_inb : ∀ (v6320 : BitVec 32) (k0_hw871 : k0_chk871 v6320), ∀ a, (k0_off1769 v6320) a + S1.size a ≤ S51920.size a := fun v6320 k0_hw871 => k0_hw871.2.2.2.2.2.2.2.2.2.2.2.2.1
theorem k0_off1771_inb : ∀ (v6320 : BitVec 32) (k0_hw871 : k0_chk871 v6320), ∀ a, (k0_off1771 v6320) a + S1.size a ≤ S51920.size a := fun v6320 k0_hw871 => k0_hw871.2.2.2.2.2.2.2.2.2.2.2.2.2.1
theorem k0_off1773_inb : ∀ (v6320 : BitVec 32) (k0_hw871 : k0_chk871 v6320), ∀ a, (k0_off1773 v6320) a + S1.size a ≤ S51920.size a := fun v6320 k0_hw871 => k0_hw871.2.2.2.2.2.2.2.2.2.2.2.2.2.2.1
theorem k0_off1775_inb : ∀ (v6320 : BitVec 32) (k0_hw871 : k0_chk871 v6320), ∀ a, (k0_off1775 v6320) a + S1.size a ≤ S51920.size a := fun v6320 k0_hw871 => k0_hw871.2.2.2.2.2.2.2.2.2.2.2.2.2.2.2

def k0_off1776 (i : grid0.Coords) (v6320 : BitVec 32) (v6323 : BitVec 32) (v6560 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_2534 : BitVec 32 := 15#32
  let v6557 : BitVec 32 := Scalar.addi v6320 c15_i32_2534
  let v6558 : BitVec 1 := Scalar.cmpi .slt v6557 v6323
  let c65535_i32_2535 : BitVec 32 := 65535#32
  let v6561 : BitVec 32 := Scalar.andi v6560 c65535_i32_2535
  let c2048_i32_2536 : BitVec 32 := 2048#32
  let v6562 : BitVec 32 := Scalar.select v6558 v6561 c2048_i32_2536
  let v6563 : BitVec 32 := Scalar.addi v1470 v6562
  let v6566 : Index := Scalar.indexCast v6563
  let c0_2538 : Index := 0#32
  ![v6566.toNat, 0]

def k0_chk887 (i : grid0.Coords) (v6320 : BitVec 32) (v6323 : BitVec 32) (v6560 : BitVec 32) : Prop :=
  (∀ a, (k0_off1776 i v6320 v6323 v6560) a + S1x128.size a ≤ S8224x128.size a)
theorem k0_off1776_inb : ∀ (i : grid0.Coords) (v6320 : BitVec 32) (v6323 : BitVec 32) (v6560 : BitVec 32) (k0_hw887 : k0_chk887 i v6320 v6323 v6560), ∀ a, (k0_off1776 i v6320 v6323 v6560) a + S1x128.size a ≤ S8224x128.size a := fun i v6320 v6323 v6560 k0_hw887 => k0_hw887

def k0_off1777 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2539 : BitVec 32 := 512#32
  let v6571 : BitVec 32 := Scalar.muli v24 c512_i32_2539
  let arg1 : BitVec 32 := BitVec.ofNat 32 (i 1).val
  let c32_i32 : BitVec 32 := 32#32
  let v1452 : BitVec 32 := Scalar.muli arg1 c32_i32
  let v6572 : BitVec 32 := Scalar.addi v6571 v1452
  let c20_i32 : BitVec 32 := 20#32
  let v6573 : BitVec 32 := Scalar.addi v6572 c20_i32
  let v6574 : Index := Scalar.indexCast v6573
  ![v6574.toNat]
def k0_off1778 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2539 : BitVec 32 := 512#32
  let v6571 : BitVec 32 := Scalar.muli v24 c512_i32_2539
  let arg1 : BitVec 32 := BitVec.ofNat 32 (i 1).val
  let c32_i32 : BitVec 32 := 32#32
  let v1452 : BitVec 32 := Scalar.muli arg1 c32_i32
  let v6572 : BitVec 32 := Scalar.addi v6571 v1452
  let c20_i32 : BitVec 32 := 20#32
  let v6573 : BitVec 32 := Scalar.addi v6572 c20_i32
  let c1_i32_2540 : BitVec 32 := 1#32
  let v6576 : BitVec 32 := Scalar.addi v6573 c1_i32_2540
  let v6577 : Index := Scalar.indexCast v6576
  ![v6577.toNat]
def k0_off1779 (v6575 : BitVec 32) : Fin 1 → Nat :=
  let c0_i32_2543 : BitVec 32 := 0#32
  let v6586 : BitVec 32 := Scalar.addi v6575 c0_i32_2543
  let v6589 : Index := Scalar.indexCast v6586
  ![v6589.toNat]

def k0_off1780 (i : grid0.Coords) (v6575 : BitVec 32) (v6578 : BitVec 32) (v6590 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_2544 : BitVec 32 := 0#32
  let v6587 : BitVec 32 := Scalar.addi v6575 c0_i32_2544
  let v6588 : BitVec 1 := Scalar.cmpi .slt v6587 v6578
  let c65535_i32_2545 : BitVec 32 := 65535#32
  let v6591 : BitVec 32 := Scalar.andi v6590 c65535_i32_2545
  let c2048_i32_2546 : BitVec 32 := 2048#32
  let v6592 : BitVec 32 := Scalar.select v6588 v6591 c2048_i32_2546
  let v6593 : BitVec 32 := Scalar.addi v1470 v6592
  let v6596 : Index := Scalar.indexCast v6593
  let c0_2548 : Index := 0#32
  ![v6596.toNat, 0]

def k0_chk889 (i : grid0.Coords) (v6575 : BitVec 32) (v6578 : BitVec 32) (v6590 : BitVec 32) : Prop :=
  (∀ a, (k0_off1780 i v6575 v6578 v6590) a + S1x128.size a ≤ S8224x128.size a)
theorem k0_off1780_inb : ∀ (i : grid0.Coords) (v6575 : BitVec 32) (v6578 : BitVec 32) (v6590 : BitVec 32) (k0_hw889 : k0_chk889 i v6575 v6578 v6590), ∀ a, (k0_off1780 i v6575 v6578 v6590) a + S1x128.size a ≤ S8224x128.size a := fun i v6575 v6578 v6590 k0_hw889 => k0_hw889

def k0_off1781 (v6575 : BitVec 32) : Fin 1 → Nat :=
  let c1_i32_2549 : BitVec 32 := 1#32
  let v6601 : BitVec 32 := Scalar.addi v6575 c1_i32_2549
  let v6604 : Index := Scalar.indexCast v6601
  ![v6604.toNat]
def k0_off1782 (i : grid0.Coords) (v6575 : BitVec 32) (v6578 : BitVec 32) (v6605 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_2550 : BitVec 32 := 1#32
  let v6602 : BitVec 32 := Scalar.addi v6575 c1_i32_2550
  let v6603 : BitVec 1 := Scalar.cmpi .slt v6602 v6578
  let c65535_i32_2551 : BitVec 32 := 65535#32
  let v6606 : BitVec 32 := Scalar.andi v6605 c65535_i32_2551
  let c2048_i32_2552 : BitVec 32 := 2048#32
  let v6607 : BitVec 32 := Scalar.select v6603 v6606 c2048_i32_2552
  let v6608 : BitVec 32 := Scalar.addi v1470 v6607
  let v6611 : Index := Scalar.indexCast v6608
  let c0_2554 : Index := 0#32
  ![v6611.toNat, 0]

def k0_chk890 (i : grid0.Coords) (v6575 : BitVec 32) (v6578 : BitVec 32) (v6605 : BitVec 32) : Prop :=
  (∀ a, (k0_off1782 i v6575 v6578 v6605) a + S1x128.size a ≤ S8224x128.size a)
theorem k0_off1782_inb : ∀ (i : grid0.Coords) (v6575 : BitVec 32) (v6578 : BitVec 32) (v6605 : BitVec 32) (k0_hw890 : k0_chk890 i v6575 v6578 v6605), ∀ a, (k0_off1782 i v6575 v6578 v6605) a + S1x128.size a ≤ S8224x128.size a := fun i v6575 v6578 v6605 k0_hw890 => k0_hw890

def k0_off1783 (v6575 : BitVec 32) : Fin 1 → Nat :=
  let c2_i32_2555 : BitVec 32 := 2#32
  let v6616 : BitVec 32 := Scalar.addi v6575 c2_i32_2555
  let v6619 : Index := Scalar.indexCast v6616
  ![v6619.toNat]
def k0_off1784 (i : grid0.Coords) (v6575 : BitVec 32) (v6578 : BitVec 32) (v6620 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_2556 : BitVec 32 := 2#32
  let v6617 : BitVec 32 := Scalar.addi v6575 c2_i32_2556
  let v6618 : BitVec 1 := Scalar.cmpi .slt v6617 v6578
  let c65535_i32_2557 : BitVec 32 := 65535#32
  let v6621 : BitVec 32 := Scalar.andi v6620 c65535_i32_2557
  let c2048_i32_2558 : BitVec 32 := 2048#32
  let v6622 : BitVec 32 := Scalar.select v6618 v6621 c2048_i32_2558
  let v6623 : BitVec 32 := Scalar.addi v1470 v6622
  let v6626 : Index := Scalar.indexCast v6623
  let c0_2560 : Index := 0#32
  ![v6626.toNat, 0]

def k0_chk891 (i : grid0.Coords) (v6575 : BitVec 32) (v6578 : BitVec 32) (v6620 : BitVec 32) : Prop :=
  (∀ a, (k0_off1784 i v6575 v6578 v6620) a + S1x128.size a ≤ S8224x128.size a)
theorem k0_off1784_inb : ∀ (i : grid0.Coords) (v6575 : BitVec 32) (v6578 : BitVec 32) (v6620 : BitVec 32) (k0_hw891 : k0_chk891 i v6575 v6578 v6620), ∀ a, (k0_off1784 i v6575 v6578 v6620) a + S1x128.size a ≤ S8224x128.size a := fun i v6575 v6578 v6620 k0_hw891 => k0_hw891

def k0_off1785 (v6575 : BitVec 32) : Fin 1 → Nat :=
  let c3_i32_2561 : BitVec 32 := 3#32
  let v6631 : BitVec 32 := Scalar.addi v6575 c3_i32_2561
  let v6634 : Index := Scalar.indexCast v6631
  ![v6634.toNat]
def k0_off1786 (i : grid0.Coords) (v6575 : BitVec 32) (v6578 : BitVec 32) (v6635 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_2562 : BitVec 32 := 3#32
  let v6632 : BitVec 32 := Scalar.addi v6575 c3_i32_2562
  let v6633 : BitVec 1 := Scalar.cmpi .slt v6632 v6578
  let c65535_i32_2563 : BitVec 32 := 65535#32
  let v6636 : BitVec 32 := Scalar.andi v6635 c65535_i32_2563
  let c2048_i32_2564 : BitVec 32 := 2048#32
  let v6637 : BitVec 32 := Scalar.select v6633 v6636 c2048_i32_2564
  let v6638 : BitVec 32 := Scalar.addi v1470 v6637
  let v6641 : Index := Scalar.indexCast v6638
  let c0_2566 : Index := 0#32
  ![v6641.toNat, 0]

def k0_chk892 (i : grid0.Coords) (v6575 : BitVec 32) (v6578 : BitVec 32) (v6635 : BitVec 32) : Prop :=
  (∀ a, (k0_off1786 i v6575 v6578 v6635) a + S1x128.size a ≤ S8224x128.size a)
theorem k0_off1786_inb : ∀ (i : grid0.Coords) (v6575 : BitVec 32) (v6578 : BitVec 32) (v6635 : BitVec 32) (k0_hw892 : k0_chk892 i v6575 v6578 v6635), ∀ a, (k0_off1786 i v6575 v6578 v6635) a + S1x128.size a ≤ S8224x128.size a := fun i v6575 v6578 v6635 k0_hw892 => k0_hw892

def k0_off1787 (v6575 : BitVec 32) : Fin 1 → Nat :=
  let c4_i32_2567 : BitVec 32 := 4#32
  let v6646 : BitVec 32 := Scalar.addi v6575 c4_i32_2567
  let v6649 : Index := Scalar.indexCast v6646
  ![v6649.toNat]
def k0_off1788 (i : grid0.Coords) (v6575 : BitVec 32) (v6578 : BitVec 32) (v6650 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_2568 : BitVec 32 := 4#32
  let v6647 : BitVec 32 := Scalar.addi v6575 c4_i32_2568
  let v6648 : BitVec 1 := Scalar.cmpi .slt v6647 v6578
  let c65535_i32_2569 : BitVec 32 := 65535#32
  let v6651 : BitVec 32 := Scalar.andi v6650 c65535_i32_2569
  let c2048_i32_2570 : BitVec 32 := 2048#32
  let v6652 : BitVec 32 := Scalar.select v6648 v6651 c2048_i32_2570
  let v6653 : BitVec 32 := Scalar.addi v1470 v6652
  let v6656 : Index := Scalar.indexCast v6653
  let c0_2572 : Index := 0#32
  ![v6656.toNat, 0]

def k0_chk893 (i : grid0.Coords) (v6575 : BitVec 32) (v6578 : BitVec 32) (v6650 : BitVec 32) : Prop :=
  (∀ a, (k0_off1788 i v6575 v6578 v6650) a + S1x128.size a ≤ S8224x128.size a)
theorem k0_off1788_inb : ∀ (i : grid0.Coords) (v6575 : BitVec 32) (v6578 : BitVec 32) (v6650 : BitVec 32) (k0_hw893 : k0_chk893 i v6575 v6578 v6650), ∀ a, (k0_off1788 i v6575 v6578 v6650) a + S1x128.size a ≤ S8224x128.size a := fun i v6575 v6578 v6650 k0_hw893 => k0_hw893

def k0_off1789 (v6575 : BitVec 32) : Fin 1 → Nat :=
  let c5_i32_2573 : BitVec 32 := 5#32
  let v6661 : BitVec 32 := Scalar.addi v6575 c5_i32_2573
  let v6664 : Index := Scalar.indexCast v6661
  ![v6664.toNat]
def k0_off1790 (i : grid0.Coords) (v6575 : BitVec 32) (v6578 : BitVec 32) (v6665 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_2574 : BitVec 32 := 5#32
  let v6662 : BitVec 32 := Scalar.addi v6575 c5_i32_2574
  let v6663 : BitVec 1 := Scalar.cmpi .slt v6662 v6578
  let c65535_i32_2575 : BitVec 32 := 65535#32
  let v6666 : BitVec 32 := Scalar.andi v6665 c65535_i32_2575
  let c2048_i32_2576 : BitVec 32 := 2048#32
  let v6667 : BitVec 32 := Scalar.select v6663 v6666 c2048_i32_2576
  let v6668 : BitVec 32 := Scalar.addi v1470 v6667
  let v6671 : Index := Scalar.indexCast v6668
  let c0_2578 : Index := 0#32
  ![v6671.toNat, 0]

def k0_chk894 (i : grid0.Coords) (v6575 : BitVec 32) (v6578 : BitVec 32) (v6665 : BitVec 32) : Prop :=
  (∀ a, (k0_off1790 i v6575 v6578 v6665) a + S1x128.size a ≤ S8224x128.size a)
theorem k0_off1790_inb : ∀ (i : grid0.Coords) (v6575 : BitVec 32) (v6578 : BitVec 32) (v6665 : BitVec 32) (k0_hw894 : k0_chk894 i v6575 v6578 v6665), ∀ a, (k0_off1790 i v6575 v6578 v6665) a + S1x128.size a ≤ S8224x128.size a := fun i v6575 v6578 v6665 k0_hw894 => k0_hw894

def k0_off1791 (v6575 : BitVec 32) : Fin 1 → Nat :=
  let c6_i32_2579 : BitVec 32 := 6#32
  let v6676 : BitVec 32 := Scalar.addi v6575 c6_i32_2579
  let v6679 : Index := Scalar.indexCast v6676
  ![v6679.toNat]
def k0_off1792 (i : grid0.Coords) (v6575 : BitVec 32) (v6578 : BitVec 32) (v6680 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_2580 : BitVec 32 := 6#32
  let v6677 : BitVec 32 := Scalar.addi v6575 c6_i32_2580
  let v6678 : BitVec 1 := Scalar.cmpi .slt v6677 v6578
  let c65535_i32_2581 : BitVec 32 := 65535#32
  let v6681 : BitVec 32 := Scalar.andi v6680 c65535_i32_2581
  let c2048_i32_2582 : BitVec 32 := 2048#32
  let v6682 : BitVec 32 := Scalar.select v6678 v6681 c2048_i32_2582
  let v6683 : BitVec 32 := Scalar.addi v1470 v6682
  let v6686 : Index := Scalar.indexCast v6683
  let c0_2584 : Index := 0#32
  ![v6686.toNat, 0]

def k0_chk895 (i : grid0.Coords) (v6575 : BitVec 32) (v6578 : BitVec 32) (v6680 : BitVec 32) : Prop :=
  (∀ a, (k0_off1792 i v6575 v6578 v6680) a + S1x128.size a ≤ S8224x128.size a)
theorem k0_off1792_inb : ∀ (i : grid0.Coords) (v6575 : BitVec 32) (v6578 : BitVec 32) (v6680 : BitVec 32) (k0_hw895 : k0_chk895 i v6575 v6578 v6680), ∀ a, (k0_off1792 i v6575 v6578 v6680) a + S1x128.size a ≤ S8224x128.size a := fun i v6575 v6578 v6680 k0_hw895 => k0_hw895

def k0_off1793 (v6575 : BitVec 32) : Fin 1 → Nat :=
  let c7_i32_2585 : BitVec 32 := 7#32
  let v6691 : BitVec 32 := Scalar.addi v6575 c7_i32_2585
  let v6694 : Index := Scalar.indexCast v6691
  ![v6694.toNat]
def k0_off1794 (i : grid0.Coords) (v6575 : BitVec 32) (v6578 : BitVec 32) (v6695 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_2586 : BitVec 32 := 7#32
  let v6692 : BitVec 32 := Scalar.addi v6575 c7_i32_2586
  let v6693 : BitVec 1 := Scalar.cmpi .slt v6692 v6578
  let c65535_i32_2587 : BitVec 32 := 65535#32
  let v6696 : BitVec 32 := Scalar.andi v6695 c65535_i32_2587
  let c2048_i32_2588 : BitVec 32 := 2048#32
  let v6697 : BitVec 32 := Scalar.select v6693 v6696 c2048_i32_2588
  let v6698 : BitVec 32 := Scalar.addi v1470 v6697
  let v6701 : Index := Scalar.indexCast v6698
  let c0_2590 : Index := 0#32
  ![v6701.toNat, 0]

def k0_chk896 (i : grid0.Coords) (v6575 : BitVec 32) (v6578 : BitVec 32) (v6695 : BitVec 32) : Prop :=
  (∀ a, (k0_off1794 i v6575 v6578 v6695) a + S1x128.size a ≤ S8224x128.size a)
theorem k0_off1794_inb : ∀ (i : grid0.Coords) (v6575 : BitVec 32) (v6578 : BitVec 32) (v6695 : BitVec 32) (k0_hw896 : k0_chk896 i v6575 v6578 v6695), ∀ a, (k0_off1794 i v6575 v6578 v6695) a + S1x128.size a ≤ S8224x128.size a := fun i v6575 v6578 v6695 k0_hw896 => k0_hw896

def k0_off1795 (v6575 : BitVec 32) : Fin 1 → Nat :=
  let c8_i32_2591 : BitVec 32 := 8#32
  let v6706 : BitVec 32 := Scalar.addi v6575 c8_i32_2591
  let v6709 : Index := Scalar.indexCast v6706
  ![v6709.toNat]
def k0_off1796 (i : grid0.Coords) (v6575 : BitVec 32) (v6578 : BitVec 32) (v6710 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_2592 : BitVec 32 := 8#32
  let v6707 : BitVec 32 := Scalar.addi v6575 c8_i32_2592
  let v6708 : BitVec 1 := Scalar.cmpi .slt v6707 v6578
  let c65535_i32_2593 : BitVec 32 := 65535#32
  let v6711 : BitVec 32 := Scalar.andi v6710 c65535_i32_2593
  let c2048_i32_2594 : BitVec 32 := 2048#32
  let v6712 : BitVec 32 := Scalar.select v6708 v6711 c2048_i32_2594
  let v6713 : BitVec 32 := Scalar.addi v1470 v6712
  let v6716 : Index := Scalar.indexCast v6713
  let c0_2596 : Index := 0#32
  ![v6716.toNat, 0]

def k0_chk897 (i : grid0.Coords) (v6575 : BitVec 32) (v6578 : BitVec 32) (v6710 : BitVec 32) : Prop :=
  (∀ a, (k0_off1796 i v6575 v6578 v6710) a + S1x128.size a ≤ S8224x128.size a)
theorem k0_off1796_inb : ∀ (i : grid0.Coords) (v6575 : BitVec 32) (v6578 : BitVec 32) (v6710 : BitVec 32) (k0_hw897 : k0_chk897 i v6575 v6578 v6710), ∀ a, (k0_off1796 i v6575 v6578 v6710) a + S1x128.size a ≤ S8224x128.size a := fun i v6575 v6578 v6710 k0_hw897 => k0_hw897

def k0_off1797 (v6575 : BitVec 32) : Fin 1 → Nat :=
  let c9_i32_2597 : BitVec 32 := 9#32
  let v6721 : BitVec 32 := Scalar.addi v6575 c9_i32_2597
  let v6724 : Index := Scalar.indexCast v6721
  ![v6724.toNat]
def k0_off1798 (i : grid0.Coords) (v6575 : BitVec 32) (v6578 : BitVec 32) (v6725 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_2598 : BitVec 32 := 9#32
  let v6722 : BitVec 32 := Scalar.addi v6575 c9_i32_2598
  let v6723 : BitVec 1 := Scalar.cmpi .slt v6722 v6578
  let c65535_i32_2599 : BitVec 32 := 65535#32
  let v6726 : BitVec 32 := Scalar.andi v6725 c65535_i32_2599
  let c2048_i32_2600 : BitVec 32 := 2048#32
  let v6727 : BitVec 32 := Scalar.select v6723 v6726 c2048_i32_2600
  let v6728 : BitVec 32 := Scalar.addi v1470 v6727
  let v6731 : Index := Scalar.indexCast v6728
  let c0_2602 : Index := 0#32
  ![v6731.toNat, 0]

def k0_chk898 (i : grid0.Coords) (v6575 : BitVec 32) (v6578 : BitVec 32) (v6725 : BitVec 32) : Prop :=
  (∀ a, (k0_off1798 i v6575 v6578 v6725) a + S1x128.size a ≤ S8224x128.size a)
theorem k0_off1798_inb : ∀ (i : grid0.Coords) (v6575 : BitVec 32) (v6578 : BitVec 32) (v6725 : BitVec 32) (k0_hw898 : k0_chk898 i v6575 v6578 v6725), ∀ a, (k0_off1798 i v6575 v6578 v6725) a + S1x128.size a ≤ S8224x128.size a := fun i v6575 v6578 v6725 k0_hw898 => k0_hw898

def k0_off1799 (v6575 : BitVec 32) : Fin 1 → Nat :=
  let c10_i32_2603 : BitVec 32 := 10#32
  let v6736 : BitVec 32 := Scalar.addi v6575 c10_i32_2603
  let v6739 : Index := Scalar.indexCast v6736
  ![v6739.toNat]
def k0_off1800 (i : grid0.Coords) (v6575 : BitVec 32) (v6578 : BitVec 32) (v6740 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_2604 : BitVec 32 := 10#32
  let v6737 : BitVec 32 := Scalar.addi v6575 c10_i32_2604
  let v6738 : BitVec 1 := Scalar.cmpi .slt v6737 v6578
  let c65535_i32_2605 : BitVec 32 := 65535#32
  let v6741 : BitVec 32 := Scalar.andi v6740 c65535_i32_2605
  let c2048_i32_2606 : BitVec 32 := 2048#32
  let v6742 : BitVec 32 := Scalar.select v6738 v6741 c2048_i32_2606
  let v6743 : BitVec 32 := Scalar.addi v1470 v6742
  let v6746 : Index := Scalar.indexCast v6743
  let c0_2608 : Index := 0#32
  ![v6746.toNat, 0]

def k0_chk899 (i : grid0.Coords) (v6575 : BitVec 32) (v6578 : BitVec 32) (v6740 : BitVec 32) : Prop :=
  (∀ a, (k0_off1800 i v6575 v6578 v6740) a + S1x128.size a ≤ S8224x128.size a)
theorem k0_off1800_inb : ∀ (i : grid0.Coords) (v6575 : BitVec 32) (v6578 : BitVec 32) (v6740 : BitVec 32) (k0_hw899 : k0_chk899 i v6575 v6578 v6740), ∀ a, (k0_off1800 i v6575 v6578 v6740) a + S1x128.size a ≤ S8224x128.size a := fun i v6575 v6578 v6740 k0_hw899 => k0_hw899

def k0_off1801 (v6575 : BitVec 32) : Fin 1 → Nat :=
  let c11_i32_2609 : BitVec 32 := 11#32
  let v6751 : BitVec 32 := Scalar.addi v6575 c11_i32_2609
  let v6754 : Index := Scalar.indexCast v6751
  ![v6754.toNat]
def k0_off1802 (i : grid0.Coords) (v6575 : BitVec 32) (v6578 : BitVec 32) (v6755 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_2610 : BitVec 32 := 11#32
  let v6752 : BitVec 32 := Scalar.addi v6575 c11_i32_2610
  let v6753 : BitVec 1 := Scalar.cmpi .slt v6752 v6578
  let c65535_i32_2611 : BitVec 32 := 65535#32
  let v6756 : BitVec 32 := Scalar.andi v6755 c65535_i32_2611
  let c2048_i32_2612 : BitVec 32 := 2048#32
  let v6757 : BitVec 32 := Scalar.select v6753 v6756 c2048_i32_2612
  let v6758 : BitVec 32 := Scalar.addi v1470 v6757
  let v6761 : Index := Scalar.indexCast v6758
  let c0_2614 : Index := 0#32
  ![v6761.toNat, 0]

def k0_chk900 (i : grid0.Coords) (v6575 : BitVec 32) (v6578 : BitVec 32) (v6755 : BitVec 32) : Prop :=
  (∀ a, (k0_off1802 i v6575 v6578 v6755) a + S1x128.size a ≤ S8224x128.size a)
theorem k0_off1802_inb : ∀ (i : grid0.Coords) (v6575 : BitVec 32) (v6578 : BitVec 32) (v6755 : BitVec 32) (k0_hw900 : k0_chk900 i v6575 v6578 v6755), ∀ a, (k0_off1802 i v6575 v6578 v6755) a + S1x128.size a ≤ S8224x128.size a := fun i v6575 v6578 v6755 k0_hw900 => k0_hw900

def k0_off1803 (v6575 : BitVec 32) : Fin 1 → Nat :=
  let c12_i32_2615 : BitVec 32 := 12#32
  let v6766 : BitVec 32 := Scalar.addi v6575 c12_i32_2615
  let v6769 : Index := Scalar.indexCast v6766
  ![v6769.toNat]
def k0_off1804 (i : grid0.Coords) (v6575 : BitVec 32) (v6578 : BitVec 32) (v6770 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_2616 : BitVec 32 := 12#32
  let v6767 : BitVec 32 := Scalar.addi v6575 c12_i32_2616
  let v6768 : BitVec 1 := Scalar.cmpi .slt v6767 v6578
  let c65535_i32_2617 : BitVec 32 := 65535#32
  let v6771 : BitVec 32 := Scalar.andi v6770 c65535_i32_2617
  let c2048_i32_2618 : BitVec 32 := 2048#32
  let v6772 : BitVec 32 := Scalar.select v6768 v6771 c2048_i32_2618
  let v6773 : BitVec 32 := Scalar.addi v1470 v6772
  let v6776 : Index := Scalar.indexCast v6773
  let c0_2620 : Index := 0#32
  ![v6776.toNat, 0]

def k0_chk901 (i : grid0.Coords) (v6575 : BitVec 32) (v6578 : BitVec 32) (v6770 : BitVec 32) : Prop :=
  (∀ a, (k0_off1804 i v6575 v6578 v6770) a + S1x128.size a ≤ S8224x128.size a)
theorem k0_off1804_inb : ∀ (i : grid0.Coords) (v6575 : BitVec 32) (v6578 : BitVec 32) (v6770 : BitVec 32) (k0_hw901 : k0_chk901 i v6575 v6578 v6770), ∀ a, (k0_off1804 i v6575 v6578 v6770) a + S1x128.size a ≤ S8224x128.size a := fun i v6575 v6578 v6770 k0_hw901 => k0_hw901

def k0_off1805 (v6575 : BitVec 32) : Fin 1 → Nat :=
  let c13_i32_2621 : BitVec 32 := 13#32
  let v6781 : BitVec 32 := Scalar.addi v6575 c13_i32_2621
  let v6784 : Index := Scalar.indexCast v6781
  ![v6784.toNat]
def k0_off1806 (i : grid0.Coords) (v6575 : BitVec 32) (v6578 : BitVec 32) (v6785 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_2622 : BitVec 32 := 13#32
  let v6782 : BitVec 32 := Scalar.addi v6575 c13_i32_2622
  let v6783 : BitVec 1 := Scalar.cmpi .slt v6782 v6578
  let c65535_i32_2623 : BitVec 32 := 65535#32
  let v6786 : BitVec 32 := Scalar.andi v6785 c65535_i32_2623
  let c2048_i32_2624 : BitVec 32 := 2048#32
  let v6787 : BitVec 32 := Scalar.select v6783 v6786 c2048_i32_2624
  let v6788 : BitVec 32 := Scalar.addi v1470 v6787
  let v6791 : Index := Scalar.indexCast v6788
  let c0_2626 : Index := 0#32
  ![v6791.toNat, 0]

def k0_chk902 (i : grid0.Coords) (v6575 : BitVec 32) (v6578 : BitVec 32) (v6785 : BitVec 32) : Prop :=
  (∀ a, (k0_off1806 i v6575 v6578 v6785) a + S1x128.size a ≤ S8224x128.size a)
theorem k0_off1806_inb : ∀ (i : grid0.Coords) (v6575 : BitVec 32) (v6578 : BitVec 32) (v6785 : BitVec 32) (k0_hw902 : k0_chk902 i v6575 v6578 v6785), ∀ a, (k0_off1806 i v6575 v6578 v6785) a + S1x128.size a ≤ S8224x128.size a := fun i v6575 v6578 v6785 k0_hw902 => k0_hw902

def k0_off1807 (v6575 : BitVec 32) : Fin 1 → Nat :=
  let c14_i32_2627 : BitVec 32 := 14#32
  let v6796 : BitVec 32 := Scalar.addi v6575 c14_i32_2627
  let v6799 : Index := Scalar.indexCast v6796
  ![v6799.toNat]
def k0_off1808 (i : grid0.Coords) (v6575 : BitVec 32) (v6578 : BitVec 32) (v6800 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_2628 : BitVec 32 := 14#32
  let v6797 : BitVec 32 := Scalar.addi v6575 c14_i32_2628
  let v6798 : BitVec 1 := Scalar.cmpi .slt v6797 v6578
  let c65535_i32_2629 : BitVec 32 := 65535#32
  let v6801 : BitVec 32 := Scalar.andi v6800 c65535_i32_2629
  let c2048_i32_2630 : BitVec 32 := 2048#32
  let v6802 : BitVec 32 := Scalar.select v6798 v6801 c2048_i32_2630
  let v6803 : BitVec 32 := Scalar.addi v1470 v6802
  let v6806 : Index := Scalar.indexCast v6803
  let c0_2632 : Index := 0#32
  ![v6806.toNat, 0]

def k0_chk903 (i : grid0.Coords) (v6575 : BitVec 32) (v6578 : BitVec 32) (v6800 : BitVec 32) : Prop :=
  (∀ a, (k0_off1808 i v6575 v6578 v6800) a + S1x128.size a ≤ S8224x128.size a)
theorem k0_off1808_inb : ∀ (i : grid0.Coords) (v6575 : BitVec 32) (v6578 : BitVec 32) (v6800 : BitVec 32) (k0_hw903 : k0_chk903 i v6575 v6578 v6800), ∀ a, (k0_off1808 i v6575 v6578 v6800) a + S1x128.size a ≤ S8224x128.size a := fun i v6575 v6578 v6800 k0_hw903 => k0_hw903

def k0_off1809 (v6575 : BitVec 32) : Fin 1 → Nat :=
  let c15_i32_2633 : BitVec 32 := 15#32
  let v6811 : BitVec 32 := Scalar.addi v6575 c15_i32_2633
  let v6814 : Index := Scalar.indexCast v6811
  ![v6814.toNat]

def k0_chk888 (v6575 : BitVec 32) : Prop :=
  (∀ a, (k0_off1779 v6575) a + S1.size a ≤ S51920.size a) ∧
  (∀ a, (k0_off1781 v6575) a + S1.size a ≤ S51920.size a) ∧
  (∀ a, (k0_off1783 v6575) a + S1.size a ≤ S51920.size a) ∧
  (∀ a, (k0_off1785 v6575) a + S1.size a ≤ S51920.size a) ∧
  (∀ a, (k0_off1787 v6575) a + S1.size a ≤ S51920.size a) ∧
  (∀ a, (k0_off1789 v6575) a + S1.size a ≤ S51920.size a) ∧
  (∀ a, (k0_off1791 v6575) a + S1.size a ≤ S51920.size a) ∧
  (∀ a, (k0_off1793 v6575) a + S1.size a ≤ S51920.size a) ∧
  (∀ a, (k0_off1795 v6575) a + S1.size a ≤ S51920.size a) ∧
  (∀ a, (k0_off1797 v6575) a + S1.size a ≤ S51920.size a) ∧
  (∀ a, (k0_off1799 v6575) a + S1.size a ≤ S51920.size a) ∧
  (∀ a, (k0_off1801 v6575) a + S1.size a ≤ S51920.size a) ∧
  (∀ a, (k0_off1803 v6575) a + S1.size a ≤ S51920.size a) ∧
  (∀ a, (k0_off1805 v6575) a + S1.size a ≤ S51920.size a) ∧
  (∀ a, (k0_off1807 v6575) a + S1.size a ≤ S51920.size a) ∧
  (∀ a, (k0_off1809 v6575) a + S1.size a ≤ S51920.size a)
theorem k0_off1779_inb : ∀ (v6575 : BitVec 32) (k0_hw888 : k0_chk888 v6575), ∀ a, (k0_off1779 v6575) a + S1.size a ≤ S51920.size a := fun v6575 k0_hw888 => k0_hw888.1
theorem k0_off1781_inb : ∀ (v6575 : BitVec 32) (k0_hw888 : k0_chk888 v6575), ∀ a, (k0_off1781 v6575) a + S1.size a ≤ S51920.size a := fun v6575 k0_hw888 => k0_hw888.2.1
theorem k0_off1783_inb : ∀ (v6575 : BitVec 32) (k0_hw888 : k0_chk888 v6575), ∀ a, (k0_off1783 v6575) a + S1.size a ≤ S51920.size a := fun v6575 k0_hw888 => k0_hw888.2.2.1
theorem k0_off1785_inb : ∀ (v6575 : BitVec 32) (k0_hw888 : k0_chk888 v6575), ∀ a, (k0_off1785 v6575) a + S1.size a ≤ S51920.size a := fun v6575 k0_hw888 => k0_hw888.2.2.2.1
theorem k0_off1787_inb : ∀ (v6575 : BitVec 32) (k0_hw888 : k0_chk888 v6575), ∀ a, (k0_off1787 v6575) a + S1.size a ≤ S51920.size a := fun v6575 k0_hw888 => k0_hw888.2.2.2.2.1
theorem k0_off1789_inb : ∀ (v6575 : BitVec 32) (k0_hw888 : k0_chk888 v6575), ∀ a, (k0_off1789 v6575) a + S1.size a ≤ S51920.size a := fun v6575 k0_hw888 => k0_hw888.2.2.2.2.2.1
theorem k0_off1791_inb : ∀ (v6575 : BitVec 32) (k0_hw888 : k0_chk888 v6575), ∀ a, (k0_off1791 v6575) a + S1.size a ≤ S51920.size a := fun v6575 k0_hw888 => k0_hw888.2.2.2.2.2.2.1
theorem k0_off1793_inb : ∀ (v6575 : BitVec 32) (k0_hw888 : k0_chk888 v6575), ∀ a, (k0_off1793 v6575) a + S1.size a ≤ S51920.size a := fun v6575 k0_hw888 => k0_hw888.2.2.2.2.2.2.2.1
theorem k0_off1795_inb : ∀ (v6575 : BitVec 32) (k0_hw888 : k0_chk888 v6575), ∀ a, (k0_off1795 v6575) a + S1.size a ≤ S51920.size a := fun v6575 k0_hw888 => k0_hw888.2.2.2.2.2.2.2.2.1
theorem k0_off1797_inb : ∀ (v6575 : BitVec 32) (k0_hw888 : k0_chk888 v6575), ∀ a, (k0_off1797 v6575) a + S1.size a ≤ S51920.size a := fun v6575 k0_hw888 => k0_hw888.2.2.2.2.2.2.2.2.2.1
theorem k0_off1799_inb : ∀ (v6575 : BitVec 32) (k0_hw888 : k0_chk888 v6575), ∀ a, (k0_off1799 v6575) a + S1.size a ≤ S51920.size a := fun v6575 k0_hw888 => k0_hw888.2.2.2.2.2.2.2.2.2.2.1
theorem k0_off1801_inb : ∀ (v6575 : BitVec 32) (k0_hw888 : k0_chk888 v6575), ∀ a, (k0_off1801 v6575) a + S1.size a ≤ S51920.size a := fun v6575 k0_hw888 => k0_hw888.2.2.2.2.2.2.2.2.2.2.2.1
theorem k0_off1803_inb : ∀ (v6575 : BitVec 32) (k0_hw888 : k0_chk888 v6575), ∀ a, (k0_off1803 v6575) a + S1.size a ≤ S51920.size a := fun v6575 k0_hw888 => k0_hw888.2.2.2.2.2.2.2.2.2.2.2.2.1
theorem k0_off1805_inb : ∀ (v6575 : BitVec 32) (k0_hw888 : k0_chk888 v6575), ∀ a, (k0_off1805 v6575) a + S1.size a ≤ S51920.size a := fun v6575 k0_hw888 => k0_hw888.2.2.2.2.2.2.2.2.2.2.2.2.2.1
theorem k0_off1807_inb : ∀ (v6575 : BitVec 32) (k0_hw888 : k0_chk888 v6575), ∀ a, (k0_off1807 v6575) a + S1.size a ≤ S51920.size a := fun v6575 k0_hw888 => k0_hw888.2.2.2.2.2.2.2.2.2.2.2.2.2.2.1
theorem k0_off1809_inb : ∀ (v6575 : BitVec 32) (k0_hw888 : k0_chk888 v6575), ∀ a, (k0_off1809 v6575) a + S1.size a ≤ S51920.size a := fun v6575 k0_hw888 => k0_hw888.2.2.2.2.2.2.2.2.2.2.2.2.2.2.2

def k0_off1810 (i : grid0.Coords) (v6575 : BitVec 32) (v6578 : BitVec 32) (v6815 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_2634 : BitVec 32 := 15#32
  let v6812 : BitVec 32 := Scalar.addi v6575 c15_i32_2634
  let v6813 : BitVec 1 := Scalar.cmpi .slt v6812 v6578
  let c65535_i32_2635 : BitVec 32 := 65535#32
  let v6816 : BitVec 32 := Scalar.andi v6815 c65535_i32_2635
  let c2048_i32_2636 : BitVec 32 := 2048#32
  let v6817 : BitVec 32 := Scalar.select v6813 v6816 c2048_i32_2636
  let v6818 : BitVec 32 := Scalar.addi v1470 v6817
  let v6821 : Index := Scalar.indexCast v6818
  let c0_2638 : Index := 0#32
  ![v6821.toNat, 0]

def k0_chk904 (i : grid0.Coords) (v6575 : BitVec 32) (v6578 : BitVec 32) (v6815 : BitVec 32) : Prop :=
  (∀ a, (k0_off1810 i v6575 v6578 v6815) a + S1x128.size a ≤ S8224x128.size a)
theorem k0_off1810_inb : ∀ (i : grid0.Coords) (v6575 : BitVec 32) (v6578 : BitVec 32) (v6815 : BitVec 32) (k0_hw904 : k0_chk904 i v6575 v6578 v6815), ∀ a, (k0_off1810 i v6575 v6578 v6815) a + S1x128.size a ≤ S8224x128.size a := fun i v6575 v6578 v6815 k0_hw904 => k0_hw904

def k0_off1811 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2639 : BitVec 32 := 512#32
  let v6826 : BitVec 32 := Scalar.muli v24 c512_i32_2639
  let arg1 : BitVec 32 := BitVec.ofNat 32 (i 1).val
  let c32_i32 : BitVec 32 := 32#32
  let v1452 : BitVec 32 := Scalar.muli arg1 c32_i32
  let v6827 : BitVec 32 := Scalar.addi v6826 v1452
  let c21_i32 : BitVec 32 := 21#32
  let v6828 : BitVec 32 := Scalar.addi v6827 c21_i32
  let v6829 : Index := Scalar.indexCast v6828
  ![v6829.toNat]
def k0_off1812 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2639 : BitVec 32 := 512#32
  let v6826 : BitVec 32 := Scalar.muli v24 c512_i32_2639
  let arg1 : BitVec 32 := BitVec.ofNat 32 (i 1).val
  let c32_i32 : BitVec 32 := 32#32
  let v1452 : BitVec 32 := Scalar.muli arg1 c32_i32
  let v6827 : BitVec 32 := Scalar.addi v6826 v1452
  let c21_i32 : BitVec 32 := 21#32
  let v6828 : BitVec 32 := Scalar.addi v6827 c21_i32
  let c1_i32_2640 : BitVec 32 := 1#32
  let v6831 : BitVec 32 := Scalar.addi v6828 c1_i32_2640
  let v6832 : Index := Scalar.indexCast v6831
  ![v6832.toNat]
def k0_off1813 (v6830 : BitVec 32) : Fin 1 → Nat :=
  let c0_i32_2643 : BitVec 32 := 0#32
  let v6841 : BitVec 32 := Scalar.addi v6830 c0_i32_2643
  let v6844 : Index := Scalar.indexCast v6841
  ![v6844.toNat]

def k0_off1814 (i : grid0.Coords) (v6830 : BitVec 32) (v6833 : BitVec 32) (v6845 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_2644 : BitVec 32 := 0#32
  let v6842 : BitVec 32 := Scalar.addi v6830 c0_i32_2644
  let v6843 : BitVec 1 := Scalar.cmpi .slt v6842 v6833
  let c65535_i32_2645 : BitVec 32 := 65535#32
  let v6846 : BitVec 32 := Scalar.andi v6845 c65535_i32_2645
  let c2048_i32_2646 : BitVec 32 := 2048#32
  let v6847 : BitVec 32 := Scalar.select v6843 v6846 c2048_i32_2646
  let v6848 : BitVec 32 := Scalar.addi v1470 v6847
  let v6851 : Index := Scalar.indexCast v6848
  let c0_2648 : Index := 0#32
  ![v6851.toNat, 0]

def k0_chk906 (i : grid0.Coords) (v6830 : BitVec 32) (v6833 : BitVec 32) (v6845 : BitVec 32) : Prop :=
  (∀ a, (k0_off1814 i v6830 v6833 v6845) a + S1x128.size a ≤ S8224x128.size a)
theorem k0_off1814_inb : ∀ (i : grid0.Coords) (v6830 : BitVec 32) (v6833 : BitVec 32) (v6845 : BitVec 32) (k0_hw906 : k0_chk906 i v6830 v6833 v6845), ∀ a, (k0_off1814 i v6830 v6833 v6845) a + S1x128.size a ≤ S8224x128.size a := fun i v6830 v6833 v6845 k0_hw906 => k0_hw906

def k0_off1815 (v6830 : BitVec 32) : Fin 1 → Nat :=
  let c1_i32_2649 : BitVec 32 := 1#32
  let v6856 : BitVec 32 := Scalar.addi v6830 c1_i32_2649
  let v6859 : Index := Scalar.indexCast v6856
  ![v6859.toNat]
def k0_off1816 (i : grid0.Coords) (v6830 : BitVec 32) (v6833 : BitVec 32) (v6860 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_2650 : BitVec 32 := 1#32
  let v6857 : BitVec 32 := Scalar.addi v6830 c1_i32_2650
  let v6858 : BitVec 1 := Scalar.cmpi .slt v6857 v6833
  let c65535_i32_2651 : BitVec 32 := 65535#32
  let v6861 : BitVec 32 := Scalar.andi v6860 c65535_i32_2651
  let c2048_i32_2652 : BitVec 32 := 2048#32
  let v6862 : BitVec 32 := Scalar.select v6858 v6861 c2048_i32_2652
  let v6863 : BitVec 32 := Scalar.addi v1470 v6862
  let v6866 : Index := Scalar.indexCast v6863
  let c0_2654 : Index := 0#32
  ![v6866.toNat, 0]

def k0_chk907 (i : grid0.Coords) (v6830 : BitVec 32) (v6833 : BitVec 32) (v6860 : BitVec 32) : Prop :=
  (∀ a, (k0_off1816 i v6830 v6833 v6860) a + S1x128.size a ≤ S8224x128.size a)
theorem k0_off1816_inb : ∀ (i : grid0.Coords) (v6830 : BitVec 32) (v6833 : BitVec 32) (v6860 : BitVec 32) (k0_hw907 : k0_chk907 i v6830 v6833 v6860), ∀ a, (k0_off1816 i v6830 v6833 v6860) a + S1x128.size a ≤ S8224x128.size a := fun i v6830 v6833 v6860 k0_hw907 => k0_hw907

def k0_off1817 (v6830 : BitVec 32) : Fin 1 → Nat :=
  let c2_i32_2655 : BitVec 32 := 2#32
  let v6871 : BitVec 32 := Scalar.addi v6830 c2_i32_2655
  let v6874 : Index := Scalar.indexCast v6871
  ![v6874.toNat]
def k0_off1818 (i : grid0.Coords) (v6830 : BitVec 32) (v6833 : BitVec 32) (v6875 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_2656 : BitVec 32 := 2#32
  let v6872 : BitVec 32 := Scalar.addi v6830 c2_i32_2656
  let v6873 : BitVec 1 := Scalar.cmpi .slt v6872 v6833
  let c65535_i32_2657 : BitVec 32 := 65535#32
  let v6876 : BitVec 32 := Scalar.andi v6875 c65535_i32_2657
  let c2048_i32_2658 : BitVec 32 := 2048#32
  let v6877 : BitVec 32 := Scalar.select v6873 v6876 c2048_i32_2658
  let v6878 : BitVec 32 := Scalar.addi v1470 v6877
  let v6881 : Index := Scalar.indexCast v6878
  let c0_2660 : Index := 0#32
  ![v6881.toNat, 0]

def k0_chk908 (i : grid0.Coords) (v6830 : BitVec 32) (v6833 : BitVec 32) (v6875 : BitVec 32) : Prop :=
  (∀ a, (k0_off1818 i v6830 v6833 v6875) a + S1x128.size a ≤ S8224x128.size a)
theorem k0_off1818_inb : ∀ (i : grid0.Coords) (v6830 : BitVec 32) (v6833 : BitVec 32) (v6875 : BitVec 32) (k0_hw908 : k0_chk908 i v6830 v6833 v6875), ∀ a, (k0_off1818 i v6830 v6833 v6875) a + S1x128.size a ≤ S8224x128.size a := fun i v6830 v6833 v6875 k0_hw908 => k0_hw908

def k0_off1819 (v6830 : BitVec 32) : Fin 1 → Nat :=
  let c3_i32_2661 : BitVec 32 := 3#32
  let v6886 : BitVec 32 := Scalar.addi v6830 c3_i32_2661
  let v6889 : Index := Scalar.indexCast v6886
  ![v6889.toNat]
def k0_off1820 (i : grid0.Coords) (v6830 : BitVec 32) (v6833 : BitVec 32) (v6890 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_2662 : BitVec 32 := 3#32
  let v6887 : BitVec 32 := Scalar.addi v6830 c3_i32_2662
  let v6888 : BitVec 1 := Scalar.cmpi .slt v6887 v6833
  let c65535_i32_2663 : BitVec 32 := 65535#32
  let v6891 : BitVec 32 := Scalar.andi v6890 c65535_i32_2663
  let c2048_i32_2664 : BitVec 32 := 2048#32
  let v6892 : BitVec 32 := Scalar.select v6888 v6891 c2048_i32_2664
  let v6893 : BitVec 32 := Scalar.addi v1470 v6892
  let v6896 : Index := Scalar.indexCast v6893
  let c0_2666 : Index := 0#32
  ![v6896.toNat, 0]

def k0_chk909 (i : grid0.Coords) (v6830 : BitVec 32) (v6833 : BitVec 32) (v6890 : BitVec 32) : Prop :=
  (∀ a, (k0_off1820 i v6830 v6833 v6890) a + S1x128.size a ≤ S8224x128.size a)
theorem k0_off1820_inb : ∀ (i : grid0.Coords) (v6830 : BitVec 32) (v6833 : BitVec 32) (v6890 : BitVec 32) (k0_hw909 : k0_chk909 i v6830 v6833 v6890), ∀ a, (k0_off1820 i v6830 v6833 v6890) a + S1x128.size a ≤ S8224x128.size a := fun i v6830 v6833 v6890 k0_hw909 => k0_hw909

def k0_off1821 (v6830 : BitVec 32) : Fin 1 → Nat :=
  let c4_i32_2667 : BitVec 32 := 4#32
  let v6901 : BitVec 32 := Scalar.addi v6830 c4_i32_2667
  let v6904 : Index := Scalar.indexCast v6901
  ![v6904.toNat]
def k0_off1822 (i : grid0.Coords) (v6830 : BitVec 32) (v6833 : BitVec 32) (v6905 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_2668 : BitVec 32 := 4#32
  let v6902 : BitVec 32 := Scalar.addi v6830 c4_i32_2668
  let v6903 : BitVec 1 := Scalar.cmpi .slt v6902 v6833
  let c65535_i32_2669 : BitVec 32 := 65535#32
  let v6906 : BitVec 32 := Scalar.andi v6905 c65535_i32_2669
  let c2048_i32_2670 : BitVec 32 := 2048#32
  let v6907 : BitVec 32 := Scalar.select v6903 v6906 c2048_i32_2670
  let v6908 : BitVec 32 := Scalar.addi v1470 v6907
  let v6911 : Index := Scalar.indexCast v6908
  let c0_2672 : Index := 0#32
  ![v6911.toNat, 0]

def k0_chk910 (i : grid0.Coords) (v6830 : BitVec 32) (v6833 : BitVec 32) (v6905 : BitVec 32) : Prop :=
  (∀ a, (k0_off1822 i v6830 v6833 v6905) a + S1x128.size a ≤ S8224x128.size a)
theorem k0_off1822_inb : ∀ (i : grid0.Coords) (v6830 : BitVec 32) (v6833 : BitVec 32) (v6905 : BitVec 32) (k0_hw910 : k0_chk910 i v6830 v6833 v6905), ∀ a, (k0_off1822 i v6830 v6833 v6905) a + S1x128.size a ≤ S8224x128.size a := fun i v6830 v6833 v6905 k0_hw910 => k0_hw910

def k0_off1823 (v6830 : BitVec 32) : Fin 1 → Nat :=
  let c5_i32_2673 : BitVec 32 := 5#32
  let v6916 : BitVec 32 := Scalar.addi v6830 c5_i32_2673
  let v6919 : Index := Scalar.indexCast v6916
  ![v6919.toNat]
def k0_off1824 (i : grid0.Coords) (v6830 : BitVec 32) (v6833 : BitVec 32) (v6920 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_2674 : BitVec 32 := 5#32
  let v6917 : BitVec 32 := Scalar.addi v6830 c5_i32_2674
  let v6918 : BitVec 1 := Scalar.cmpi .slt v6917 v6833
  let c65535_i32_2675 : BitVec 32 := 65535#32
  let v6921 : BitVec 32 := Scalar.andi v6920 c65535_i32_2675
  let c2048_i32_2676 : BitVec 32 := 2048#32
  let v6922 : BitVec 32 := Scalar.select v6918 v6921 c2048_i32_2676
  let v6923 : BitVec 32 := Scalar.addi v1470 v6922
  let v6926 : Index := Scalar.indexCast v6923
  let c0_2678 : Index := 0#32
  ![v6926.toNat, 0]

def k0_chk911 (i : grid0.Coords) (v6830 : BitVec 32) (v6833 : BitVec 32) (v6920 : BitVec 32) : Prop :=
  (∀ a, (k0_off1824 i v6830 v6833 v6920) a + S1x128.size a ≤ S8224x128.size a)
theorem k0_off1824_inb : ∀ (i : grid0.Coords) (v6830 : BitVec 32) (v6833 : BitVec 32) (v6920 : BitVec 32) (k0_hw911 : k0_chk911 i v6830 v6833 v6920), ∀ a, (k0_off1824 i v6830 v6833 v6920) a + S1x128.size a ≤ S8224x128.size a := fun i v6830 v6833 v6920 k0_hw911 => k0_hw911

def k0_off1825 (v6830 : BitVec 32) : Fin 1 → Nat :=
  let c6_i32_2679 : BitVec 32 := 6#32
  let v6931 : BitVec 32 := Scalar.addi v6830 c6_i32_2679
  let v6934 : Index := Scalar.indexCast v6931
  ![v6934.toNat]
def k0_off1826 (i : grid0.Coords) (v6830 : BitVec 32) (v6833 : BitVec 32) (v6935 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_2680 : BitVec 32 := 6#32
  let v6932 : BitVec 32 := Scalar.addi v6830 c6_i32_2680
  let v6933 : BitVec 1 := Scalar.cmpi .slt v6932 v6833
  let c65535_i32_2681 : BitVec 32 := 65535#32
  let v6936 : BitVec 32 := Scalar.andi v6935 c65535_i32_2681
  let c2048_i32_2682 : BitVec 32 := 2048#32
  let v6937 : BitVec 32 := Scalar.select v6933 v6936 c2048_i32_2682
  let v6938 : BitVec 32 := Scalar.addi v1470 v6937
  let v6941 : Index := Scalar.indexCast v6938
  let c0_2684 : Index := 0#32
  ![v6941.toNat, 0]

def k0_chk912 (i : grid0.Coords) (v6830 : BitVec 32) (v6833 : BitVec 32) (v6935 : BitVec 32) : Prop :=
  (∀ a, (k0_off1826 i v6830 v6833 v6935) a + S1x128.size a ≤ S8224x128.size a)
theorem k0_off1826_inb : ∀ (i : grid0.Coords) (v6830 : BitVec 32) (v6833 : BitVec 32) (v6935 : BitVec 32) (k0_hw912 : k0_chk912 i v6830 v6833 v6935), ∀ a, (k0_off1826 i v6830 v6833 v6935) a + S1x128.size a ≤ S8224x128.size a := fun i v6830 v6833 v6935 k0_hw912 => k0_hw912

def k0_off1827 (v6830 : BitVec 32) : Fin 1 → Nat :=
  let c7_i32_2685 : BitVec 32 := 7#32
  let v6946 : BitVec 32 := Scalar.addi v6830 c7_i32_2685
  let v6949 : Index := Scalar.indexCast v6946
  ![v6949.toNat]
def k0_off1828 (i : grid0.Coords) (v6830 : BitVec 32) (v6833 : BitVec 32) (v6950 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_2686 : BitVec 32 := 7#32
  let v6947 : BitVec 32 := Scalar.addi v6830 c7_i32_2686
  let v6948 : BitVec 1 := Scalar.cmpi .slt v6947 v6833
  let c65535_i32_2687 : BitVec 32 := 65535#32
  let v6951 : BitVec 32 := Scalar.andi v6950 c65535_i32_2687
  let c2048_i32_2688 : BitVec 32 := 2048#32
  let v6952 : BitVec 32 := Scalar.select v6948 v6951 c2048_i32_2688
  let v6953 : BitVec 32 := Scalar.addi v1470 v6952
  let v6956 : Index := Scalar.indexCast v6953
  let c0_2690 : Index := 0#32
  ![v6956.toNat, 0]

def k0_chk913 (i : grid0.Coords) (v6830 : BitVec 32) (v6833 : BitVec 32) (v6950 : BitVec 32) : Prop :=
  (∀ a, (k0_off1828 i v6830 v6833 v6950) a + S1x128.size a ≤ S8224x128.size a)
theorem k0_off1828_inb : ∀ (i : grid0.Coords) (v6830 : BitVec 32) (v6833 : BitVec 32) (v6950 : BitVec 32) (k0_hw913 : k0_chk913 i v6830 v6833 v6950), ∀ a, (k0_off1828 i v6830 v6833 v6950) a + S1x128.size a ≤ S8224x128.size a := fun i v6830 v6833 v6950 k0_hw913 => k0_hw913

def k0_off1829 (v6830 : BitVec 32) : Fin 1 → Nat :=
  let c8_i32_2691 : BitVec 32 := 8#32
  let v6961 : BitVec 32 := Scalar.addi v6830 c8_i32_2691
  let v6964 : Index := Scalar.indexCast v6961
  ![v6964.toNat]
def k0_off1830 (i : grid0.Coords) (v6830 : BitVec 32) (v6833 : BitVec 32) (v6965 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_2692 : BitVec 32 := 8#32
  let v6962 : BitVec 32 := Scalar.addi v6830 c8_i32_2692
  let v6963 : BitVec 1 := Scalar.cmpi .slt v6962 v6833
  let c65535_i32_2693 : BitVec 32 := 65535#32
  let v6966 : BitVec 32 := Scalar.andi v6965 c65535_i32_2693
  let c2048_i32_2694 : BitVec 32 := 2048#32
  let v6967 : BitVec 32 := Scalar.select v6963 v6966 c2048_i32_2694
  let v6968 : BitVec 32 := Scalar.addi v1470 v6967
  let v6971 : Index := Scalar.indexCast v6968
  let c0_2696 : Index := 0#32
  ![v6971.toNat, 0]

def k0_chk914 (i : grid0.Coords) (v6830 : BitVec 32) (v6833 : BitVec 32) (v6965 : BitVec 32) : Prop :=
  (∀ a, (k0_off1830 i v6830 v6833 v6965) a + S1x128.size a ≤ S8224x128.size a)
theorem k0_off1830_inb : ∀ (i : grid0.Coords) (v6830 : BitVec 32) (v6833 : BitVec 32) (v6965 : BitVec 32) (k0_hw914 : k0_chk914 i v6830 v6833 v6965), ∀ a, (k0_off1830 i v6830 v6833 v6965) a + S1x128.size a ≤ S8224x128.size a := fun i v6830 v6833 v6965 k0_hw914 => k0_hw914

def k0_off1831 (v6830 : BitVec 32) : Fin 1 → Nat :=
  let c9_i32_2697 : BitVec 32 := 9#32
  let v6976 : BitVec 32 := Scalar.addi v6830 c9_i32_2697
  let v6979 : Index := Scalar.indexCast v6976
  ![v6979.toNat]
def k0_off1832 (i : grid0.Coords) (v6830 : BitVec 32) (v6833 : BitVec 32) (v6980 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_2698 : BitVec 32 := 9#32
  let v6977 : BitVec 32 := Scalar.addi v6830 c9_i32_2698
  let v6978 : BitVec 1 := Scalar.cmpi .slt v6977 v6833
  let c65535_i32_2699 : BitVec 32 := 65535#32
  let v6981 : BitVec 32 := Scalar.andi v6980 c65535_i32_2699
  let c2048_i32_2700 : BitVec 32 := 2048#32
  let v6982 : BitVec 32 := Scalar.select v6978 v6981 c2048_i32_2700
  let v6983 : BitVec 32 := Scalar.addi v1470 v6982
  let v6986 : Index := Scalar.indexCast v6983
  let c0_2702 : Index := 0#32
  ![v6986.toNat, 0]

def k0_chk915 (i : grid0.Coords) (v6830 : BitVec 32) (v6833 : BitVec 32) (v6980 : BitVec 32) : Prop :=
  (∀ a, (k0_off1832 i v6830 v6833 v6980) a + S1x128.size a ≤ S8224x128.size a)
theorem k0_off1832_inb : ∀ (i : grid0.Coords) (v6830 : BitVec 32) (v6833 : BitVec 32) (v6980 : BitVec 32) (k0_hw915 : k0_chk915 i v6830 v6833 v6980), ∀ a, (k0_off1832 i v6830 v6833 v6980) a + S1x128.size a ≤ S8224x128.size a := fun i v6830 v6833 v6980 k0_hw915 => k0_hw915

def k0_off1833 (v6830 : BitVec 32) : Fin 1 → Nat :=
  let c10_i32_2703 : BitVec 32 := 10#32
  let v6991 : BitVec 32 := Scalar.addi v6830 c10_i32_2703
  let v6994 : Index := Scalar.indexCast v6991
  ![v6994.toNat]
def k0_off1834 (i : grid0.Coords) (v6830 : BitVec 32) (v6833 : BitVec 32) (v6995 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_2704 : BitVec 32 := 10#32
  let v6992 : BitVec 32 := Scalar.addi v6830 c10_i32_2704
  let v6993 : BitVec 1 := Scalar.cmpi .slt v6992 v6833
  let c65535_i32_2705 : BitVec 32 := 65535#32
  let v6996 : BitVec 32 := Scalar.andi v6995 c65535_i32_2705
  let c2048_i32_2706 : BitVec 32 := 2048#32
  let v6997 : BitVec 32 := Scalar.select v6993 v6996 c2048_i32_2706
  let v6998 : BitVec 32 := Scalar.addi v1470 v6997
  let v7001 : Index := Scalar.indexCast v6998
  let c0_2708 : Index := 0#32
  ![v7001.toNat, 0]

def k0_chk916 (i : grid0.Coords) (v6830 : BitVec 32) (v6833 : BitVec 32) (v6995 : BitVec 32) : Prop :=
  (∀ a, (k0_off1834 i v6830 v6833 v6995) a + S1x128.size a ≤ S8224x128.size a)
theorem k0_off1834_inb : ∀ (i : grid0.Coords) (v6830 : BitVec 32) (v6833 : BitVec 32) (v6995 : BitVec 32) (k0_hw916 : k0_chk916 i v6830 v6833 v6995), ∀ a, (k0_off1834 i v6830 v6833 v6995) a + S1x128.size a ≤ S8224x128.size a := fun i v6830 v6833 v6995 k0_hw916 => k0_hw916

def k0_off1835 (v6830 : BitVec 32) : Fin 1 → Nat :=
  let c11_i32_2709 : BitVec 32 := 11#32
  let v7006 : BitVec 32 := Scalar.addi v6830 c11_i32_2709
  let v7009 : Index := Scalar.indexCast v7006
  ![v7009.toNat]
def k0_off1836 (i : grid0.Coords) (v6830 : BitVec 32) (v6833 : BitVec 32) (v7010 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_2710 : BitVec 32 := 11#32
  let v7007 : BitVec 32 := Scalar.addi v6830 c11_i32_2710
  let v7008 : BitVec 1 := Scalar.cmpi .slt v7007 v6833
  let c65535_i32_2711 : BitVec 32 := 65535#32
  let v7011 : BitVec 32 := Scalar.andi v7010 c65535_i32_2711
  let c2048_i32_2712 : BitVec 32 := 2048#32
  let v7012 : BitVec 32 := Scalar.select v7008 v7011 c2048_i32_2712
  let v7013 : BitVec 32 := Scalar.addi v1470 v7012
  let v7016 : Index := Scalar.indexCast v7013
  let c0_2714 : Index := 0#32
  ![v7016.toNat, 0]

def k0_chk917 (i : grid0.Coords) (v6830 : BitVec 32) (v6833 : BitVec 32) (v7010 : BitVec 32) : Prop :=
  (∀ a, (k0_off1836 i v6830 v6833 v7010) a + S1x128.size a ≤ S8224x128.size a)
theorem k0_off1836_inb : ∀ (i : grid0.Coords) (v6830 : BitVec 32) (v6833 : BitVec 32) (v7010 : BitVec 32) (k0_hw917 : k0_chk917 i v6830 v6833 v7010), ∀ a, (k0_off1836 i v6830 v6833 v7010) a + S1x128.size a ≤ S8224x128.size a := fun i v6830 v6833 v7010 k0_hw917 => k0_hw917

def k0_off1837 (v6830 : BitVec 32) : Fin 1 → Nat :=
  let c12_i32_2715 : BitVec 32 := 12#32
  let v7021 : BitVec 32 := Scalar.addi v6830 c12_i32_2715
  let v7024 : Index := Scalar.indexCast v7021
  ![v7024.toNat]
def k0_off1838 (i : grid0.Coords) (v6830 : BitVec 32) (v6833 : BitVec 32) (v7025 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_2716 : BitVec 32 := 12#32
  let v7022 : BitVec 32 := Scalar.addi v6830 c12_i32_2716
  let v7023 : BitVec 1 := Scalar.cmpi .slt v7022 v6833
  let c65535_i32_2717 : BitVec 32 := 65535#32
  let v7026 : BitVec 32 := Scalar.andi v7025 c65535_i32_2717
  let c2048_i32_2718 : BitVec 32 := 2048#32
  let v7027 : BitVec 32 := Scalar.select v7023 v7026 c2048_i32_2718
  let v7028 : BitVec 32 := Scalar.addi v1470 v7027
  let v7031 : Index := Scalar.indexCast v7028
  let c0_2720 : Index := 0#32
  ![v7031.toNat, 0]

def k0_chk918 (i : grid0.Coords) (v6830 : BitVec 32) (v6833 : BitVec 32) (v7025 : BitVec 32) : Prop :=
  (∀ a, (k0_off1838 i v6830 v6833 v7025) a + S1x128.size a ≤ S8224x128.size a)
theorem k0_off1838_inb : ∀ (i : grid0.Coords) (v6830 : BitVec 32) (v6833 : BitVec 32) (v7025 : BitVec 32) (k0_hw918 : k0_chk918 i v6830 v6833 v7025), ∀ a, (k0_off1838 i v6830 v6833 v7025) a + S1x128.size a ≤ S8224x128.size a := fun i v6830 v6833 v7025 k0_hw918 => k0_hw918

def k0_off1839 (v6830 : BitVec 32) : Fin 1 → Nat :=
  let c13_i32_2721 : BitVec 32 := 13#32
  let v7036 : BitVec 32 := Scalar.addi v6830 c13_i32_2721
  let v7039 : Index := Scalar.indexCast v7036
  ![v7039.toNat]
def k0_off1840 (i : grid0.Coords) (v6830 : BitVec 32) (v6833 : BitVec 32) (v7040 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_2722 : BitVec 32 := 13#32
  let v7037 : BitVec 32 := Scalar.addi v6830 c13_i32_2722
  let v7038 : BitVec 1 := Scalar.cmpi .slt v7037 v6833
  let c65535_i32_2723 : BitVec 32 := 65535#32
  let v7041 : BitVec 32 := Scalar.andi v7040 c65535_i32_2723
  let c2048_i32_2724 : BitVec 32 := 2048#32
  let v7042 : BitVec 32 := Scalar.select v7038 v7041 c2048_i32_2724
  let v7043 : BitVec 32 := Scalar.addi v1470 v7042
  let v7046 : Index := Scalar.indexCast v7043
  let c0_2726 : Index := 0#32
  ![v7046.toNat, 0]

def k0_chk919 (i : grid0.Coords) (v6830 : BitVec 32) (v6833 : BitVec 32) (v7040 : BitVec 32) : Prop :=
  (∀ a, (k0_off1840 i v6830 v6833 v7040) a + S1x128.size a ≤ S8224x128.size a)
theorem k0_off1840_inb : ∀ (i : grid0.Coords) (v6830 : BitVec 32) (v6833 : BitVec 32) (v7040 : BitVec 32) (k0_hw919 : k0_chk919 i v6830 v6833 v7040), ∀ a, (k0_off1840 i v6830 v6833 v7040) a + S1x128.size a ≤ S8224x128.size a := fun i v6830 v6833 v7040 k0_hw919 => k0_hw919

def k0_off1841 (v6830 : BitVec 32) : Fin 1 → Nat :=
  let c14_i32_2727 : BitVec 32 := 14#32
  let v7051 : BitVec 32 := Scalar.addi v6830 c14_i32_2727
  let v7054 : Index := Scalar.indexCast v7051
  ![v7054.toNat]
def k0_off1842 (i : grid0.Coords) (v6830 : BitVec 32) (v6833 : BitVec 32) (v7055 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_2728 : BitVec 32 := 14#32
  let v7052 : BitVec 32 := Scalar.addi v6830 c14_i32_2728
  let v7053 : BitVec 1 := Scalar.cmpi .slt v7052 v6833
  let c65535_i32_2729 : BitVec 32 := 65535#32
  let v7056 : BitVec 32 := Scalar.andi v7055 c65535_i32_2729
  let c2048_i32_2730 : BitVec 32 := 2048#32
  let v7057 : BitVec 32 := Scalar.select v7053 v7056 c2048_i32_2730
  let v7058 : BitVec 32 := Scalar.addi v1470 v7057
  let v7061 : Index := Scalar.indexCast v7058
  let c0_2732 : Index := 0#32
  ![v7061.toNat, 0]

def k0_chk920 (i : grid0.Coords) (v6830 : BitVec 32) (v6833 : BitVec 32) (v7055 : BitVec 32) : Prop :=
  (∀ a, (k0_off1842 i v6830 v6833 v7055) a + S1x128.size a ≤ S8224x128.size a)
theorem k0_off1842_inb : ∀ (i : grid0.Coords) (v6830 : BitVec 32) (v6833 : BitVec 32) (v7055 : BitVec 32) (k0_hw920 : k0_chk920 i v6830 v6833 v7055), ∀ a, (k0_off1842 i v6830 v6833 v7055) a + S1x128.size a ≤ S8224x128.size a := fun i v6830 v6833 v7055 k0_hw920 => k0_hw920

def k0_off1843 (v6830 : BitVec 32) : Fin 1 → Nat :=
  let c15_i32_2733 : BitVec 32 := 15#32
  let v7066 : BitVec 32 := Scalar.addi v6830 c15_i32_2733
  let v7069 : Index := Scalar.indexCast v7066
  ![v7069.toNat]

def k0_chk905 (v6830 : BitVec 32) : Prop :=
  (∀ a, (k0_off1813 v6830) a + S1.size a ≤ S51920.size a) ∧
  (∀ a, (k0_off1815 v6830) a + S1.size a ≤ S51920.size a) ∧
  (∀ a, (k0_off1817 v6830) a + S1.size a ≤ S51920.size a) ∧
  (∀ a, (k0_off1819 v6830) a + S1.size a ≤ S51920.size a) ∧
  (∀ a, (k0_off1821 v6830) a + S1.size a ≤ S51920.size a) ∧
  (∀ a, (k0_off1823 v6830) a + S1.size a ≤ S51920.size a) ∧
  (∀ a, (k0_off1825 v6830) a + S1.size a ≤ S51920.size a) ∧
  (∀ a, (k0_off1827 v6830) a + S1.size a ≤ S51920.size a) ∧
  (∀ a, (k0_off1829 v6830) a + S1.size a ≤ S51920.size a) ∧
  (∀ a, (k0_off1831 v6830) a + S1.size a ≤ S51920.size a) ∧
  (∀ a, (k0_off1833 v6830) a + S1.size a ≤ S51920.size a) ∧
  (∀ a, (k0_off1835 v6830) a + S1.size a ≤ S51920.size a) ∧
  (∀ a, (k0_off1837 v6830) a + S1.size a ≤ S51920.size a) ∧
  (∀ a, (k0_off1839 v6830) a + S1.size a ≤ S51920.size a) ∧
  (∀ a, (k0_off1841 v6830) a + S1.size a ≤ S51920.size a) ∧
  (∀ a, (k0_off1843 v6830) a + S1.size a ≤ S51920.size a)
theorem k0_off1813_inb : ∀ (v6830 : BitVec 32) (k0_hw905 : k0_chk905 v6830), ∀ a, (k0_off1813 v6830) a + S1.size a ≤ S51920.size a := fun v6830 k0_hw905 => k0_hw905.1
theorem k0_off1815_inb : ∀ (v6830 : BitVec 32) (k0_hw905 : k0_chk905 v6830), ∀ a, (k0_off1815 v6830) a + S1.size a ≤ S51920.size a := fun v6830 k0_hw905 => k0_hw905.2.1
theorem k0_off1817_inb : ∀ (v6830 : BitVec 32) (k0_hw905 : k0_chk905 v6830), ∀ a, (k0_off1817 v6830) a + S1.size a ≤ S51920.size a := fun v6830 k0_hw905 => k0_hw905.2.2.1
theorem k0_off1819_inb : ∀ (v6830 : BitVec 32) (k0_hw905 : k0_chk905 v6830), ∀ a, (k0_off1819 v6830) a + S1.size a ≤ S51920.size a := fun v6830 k0_hw905 => k0_hw905.2.2.2.1
theorem k0_off1821_inb : ∀ (v6830 : BitVec 32) (k0_hw905 : k0_chk905 v6830), ∀ a, (k0_off1821 v6830) a + S1.size a ≤ S51920.size a := fun v6830 k0_hw905 => k0_hw905.2.2.2.2.1
theorem k0_off1823_inb : ∀ (v6830 : BitVec 32) (k0_hw905 : k0_chk905 v6830), ∀ a, (k0_off1823 v6830) a + S1.size a ≤ S51920.size a := fun v6830 k0_hw905 => k0_hw905.2.2.2.2.2.1
theorem k0_off1825_inb : ∀ (v6830 : BitVec 32) (k0_hw905 : k0_chk905 v6830), ∀ a, (k0_off1825 v6830) a + S1.size a ≤ S51920.size a := fun v6830 k0_hw905 => k0_hw905.2.2.2.2.2.2.1
theorem k0_off1827_inb : ∀ (v6830 : BitVec 32) (k0_hw905 : k0_chk905 v6830), ∀ a, (k0_off1827 v6830) a + S1.size a ≤ S51920.size a := fun v6830 k0_hw905 => k0_hw905.2.2.2.2.2.2.2.1
theorem k0_off1829_inb : ∀ (v6830 : BitVec 32) (k0_hw905 : k0_chk905 v6830), ∀ a, (k0_off1829 v6830) a + S1.size a ≤ S51920.size a := fun v6830 k0_hw905 => k0_hw905.2.2.2.2.2.2.2.2.1
theorem k0_off1831_inb : ∀ (v6830 : BitVec 32) (k0_hw905 : k0_chk905 v6830), ∀ a, (k0_off1831 v6830) a + S1.size a ≤ S51920.size a := fun v6830 k0_hw905 => k0_hw905.2.2.2.2.2.2.2.2.2.1
theorem k0_off1833_inb : ∀ (v6830 : BitVec 32) (k0_hw905 : k0_chk905 v6830), ∀ a, (k0_off1833 v6830) a + S1.size a ≤ S51920.size a := fun v6830 k0_hw905 => k0_hw905.2.2.2.2.2.2.2.2.2.2.1
theorem k0_off1835_inb : ∀ (v6830 : BitVec 32) (k0_hw905 : k0_chk905 v6830), ∀ a, (k0_off1835 v6830) a + S1.size a ≤ S51920.size a := fun v6830 k0_hw905 => k0_hw905.2.2.2.2.2.2.2.2.2.2.2.1
theorem k0_off1837_inb : ∀ (v6830 : BitVec 32) (k0_hw905 : k0_chk905 v6830), ∀ a, (k0_off1837 v6830) a + S1.size a ≤ S51920.size a := fun v6830 k0_hw905 => k0_hw905.2.2.2.2.2.2.2.2.2.2.2.2.1
theorem k0_off1839_inb : ∀ (v6830 : BitVec 32) (k0_hw905 : k0_chk905 v6830), ∀ a, (k0_off1839 v6830) a + S1.size a ≤ S51920.size a := fun v6830 k0_hw905 => k0_hw905.2.2.2.2.2.2.2.2.2.2.2.2.2.1
theorem k0_off1841_inb : ∀ (v6830 : BitVec 32) (k0_hw905 : k0_chk905 v6830), ∀ a, (k0_off1841 v6830) a + S1.size a ≤ S51920.size a := fun v6830 k0_hw905 => k0_hw905.2.2.2.2.2.2.2.2.2.2.2.2.2.2.1
theorem k0_off1843_inb : ∀ (v6830 : BitVec 32) (k0_hw905 : k0_chk905 v6830), ∀ a, (k0_off1843 v6830) a + S1.size a ≤ S51920.size a := fun v6830 k0_hw905 => k0_hw905.2.2.2.2.2.2.2.2.2.2.2.2.2.2.2

def k0_off1844 (i : grid0.Coords) (v6830 : BitVec 32) (v6833 : BitVec 32) (v7070 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_2734 : BitVec 32 := 15#32
  let v7067 : BitVec 32 := Scalar.addi v6830 c15_i32_2734
  let v7068 : BitVec 1 := Scalar.cmpi .slt v7067 v6833
  let c65535_i32_2735 : BitVec 32 := 65535#32
  let v7071 : BitVec 32 := Scalar.andi v7070 c65535_i32_2735
  let c2048_i32_2736 : BitVec 32 := 2048#32
  let v7072 : BitVec 32 := Scalar.select v7068 v7071 c2048_i32_2736
  let v7073 : BitVec 32 := Scalar.addi v1470 v7072
  let v7076 : Index := Scalar.indexCast v7073
  let c0_2738 : Index := 0#32
  ![v7076.toNat, 0]

def k0_chk921 (i : grid0.Coords) (v6830 : BitVec 32) (v6833 : BitVec 32) (v7070 : BitVec 32) : Prop :=
  (∀ a, (k0_off1844 i v6830 v6833 v7070) a + S1x128.size a ≤ S8224x128.size a)
theorem k0_off1844_inb : ∀ (i : grid0.Coords) (v6830 : BitVec 32) (v6833 : BitVec 32) (v7070 : BitVec 32) (k0_hw921 : k0_chk921 i v6830 v6833 v7070), ∀ a, (k0_off1844 i v6830 v6833 v7070) a + S1x128.size a ≤ S8224x128.size a := fun i v6830 v6833 v7070 k0_hw921 => k0_hw921

def k0_off1845 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2739 : BitVec 32 := 512#32
  let v7081 : BitVec 32 := Scalar.muli v24 c512_i32_2739
  let arg1 : BitVec 32 := BitVec.ofNat 32 (i 1).val
  let c32_i32 : BitVec 32 := 32#32
  let v1452 : BitVec 32 := Scalar.muli arg1 c32_i32
  let v7082 : BitVec 32 := Scalar.addi v7081 v1452
  let c22_i32 : BitVec 32 := 22#32
  let v7083 : BitVec 32 := Scalar.addi v7082 c22_i32
  let v7084 : Index := Scalar.indexCast v7083
  ![v7084.toNat]
def k0_off1846 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2739 : BitVec 32 := 512#32
  let v7081 : BitVec 32 := Scalar.muli v24 c512_i32_2739
  let arg1 : BitVec 32 := BitVec.ofNat 32 (i 1).val
  let c32_i32 : BitVec 32 := 32#32
  let v1452 : BitVec 32 := Scalar.muli arg1 c32_i32
  let v7082 : BitVec 32 := Scalar.addi v7081 v1452
  let c22_i32 : BitVec 32 := 22#32
  let v7083 : BitVec 32 := Scalar.addi v7082 c22_i32
  let c1_i32_2740 : BitVec 32 := 1#32
  let v7086 : BitVec 32 := Scalar.addi v7083 c1_i32_2740
  let v7087 : Index := Scalar.indexCast v7086
  ![v7087.toNat]
def k0_off1847 (v7085 : BitVec 32) : Fin 1 → Nat :=
  let c0_i32_2743 : BitVec 32 := 0#32
  let v7096 : BitVec 32 := Scalar.addi v7085 c0_i32_2743
  let v7099 : Index := Scalar.indexCast v7096
  ![v7099.toNat]

def k0_off1848 (i : grid0.Coords) (v7085 : BitVec 32) (v7088 : BitVec 32) (v7100 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_2744 : BitVec 32 := 0#32
  let v7097 : BitVec 32 := Scalar.addi v7085 c0_i32_2744
  let v7098 : BitVec 1 := Scalar.cmpi .slt v7097 v7088
  let c65535_i32_2745 : BitVec 32 := 65535#32
  let v7101 : BitVec 32 := Scalar.andi v7100 c65535_i32_2745
  let c2048_i32_2746 : BitVec 32 := 2048#32
  let v7102 : BitVec 32 := Scalar.select v7098 v7101 c2048_i32_2746
  let v7103 : BitVec 32 := Scalar.addi v1470 v7102
  let v7106 : Index := Scalar.indexCast v7103
  let c0_2748 : Index := 0#32
  ![v7106.toNat, 0]

def k0_chk923 (i : grid0.Coords) (v7085 : BitVec 32) (v7088 : BitVec 32) (v7100 : BitVec 32) : Prop :=
  (∀ a, (k0_off1848 i v7085 v7088 v7100) a + S1x128.size a ≤ S8224x128.size a)
theorem k0_off1848_inb : ∀ (i : grid0.Coords) (v7085 : BitVec 32) (v7088 : BitVec 32) (v7100 : BitVec 32) (k0_hw923 : k0_chk923 i v7085 v7088 v7100), ∀ a, (k0_off1848 i v7085 v7088 v7100) a + S1x128.size a ≤ S8224x128.size a := fun i v7085 v7088 v7100 k0_hw923 => k0_hw923

def k0_off1849 (v7085 : BitVec 32) : Fin 1 → Nat :=
  let c1_i32_2749 : BitVec 32 := 1#32
  let v7111 : BitVec 32 := Scalar.addi v7085 c1_i32_2749
  let v7114 : Index := Scalar.indexCast v7111
  ![v7114.toNat]
def k0_off1850 (i : grid0.Coords) (v7085 : BitVec 32) (v7088 : BitVec 32) (v7115 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_2750 : BitVec 32 := 1#32
  let v7112 : BitVec 32 := Scalar.addi v7085 c1_i32_2750
  let v7113 : BitVec 1 := Scalar.cmpi .slt v7112 v7088
  let c65535_i32_2751 : BitVec 32 := 65535#32
  let v7116 : BitVec 32 := Scalar.andi v7115 c65535_i32_2751
  let c2048_i32_2752 : BitVec 32 := 2048#32
  let v7117 : BitVec 32 := Scalar.select v7113 v7116 c2048_i32_2752
  let v7118 : BitVec 32 := Scalar.addi v1470 v7117
  let v7121 : Index := Scalar.indexCast v7118
  let c0_2754 : Index := 0#32
  ![v7121.toNat, 0]

def k0_chk924 (i : grid0.Coords) (v7085 : BitVec 32) (v7088 : BitVec 32) (v7115 : BitVec 32) : Prop :=
  (∀ a, (k0_off1850 i v7085 v7088 v7115) a + S1x128.size a ≤ S8224x128.size a)
theorem k0_off1850_inb : ∀ (i : grid0.Coords) (v7085 : BitVec 32) (v7088 : BitVec 32) (v7115 : BitVec 32) (k0_hw924 : k0_chk924 i v7085 v7088 v7115), ∀ a, (k0_off1850 i v7085 v7088 v7115) a + S1x128.size a ≤ S8224x128.size a := fun i v7085 v7088 v7115 k0_hw924 => k0_hw924

def k0_off1851 (v7085 : BitVec 32) : Fin 1 → Nat :=
  let c2_i32_2755 : BitVec 32 := 2#32
  let v7126 : BitVec 32 := Scalar.addi v7085 c2_i32_2755
  let v7129 : Index := Scalar.indexCast v7126
  ![v7129.toNat]
def k0_off1852 (i : grid0.Coords) (v7085 : BitVec 32) (v7088 : BitVec 32) (v7130 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_2756 : BitVec 32 := 2#32
  let v7127 : BitVec 32 := Scalar.addi v7085 c2_i32_2756
  let v7128 : BitVec 1 := Scalar.cmpi .slt v7127 v7088
  let c65535_i32_2757 : BitVec 32 := 65535#32
  let v7131 : BitVec 32 := Scalar.andi v7130 c65535_i32_2757
  let c2048_i32_2758 : BitVec 32 := 2048#32
  let v7132 : BitVec 32 := Scalar.select v7128 v7131 c2048_i32_2758
  let v7133 : BitVec 32 := Scalar.addi v1470 v7132
  let v7136 : Index := Scalar.indexCast v7133
  let c0_2760 : Index := 0#32
  ![v7136.toNat, 0]

def k0_chk925 (i : grid0.Coords) (v7085 : BitVec 32) (v7088 : BitVec 32) (v7130 : BitVec 32) : Prop :=
  (∀ a, (k0_off1852 i v7085 v7088 v7130) a + S1x128.size a ≤ S8224x128.size a)
theorem k0_off1852_inb : ∀ (i : grid0.Coords) (v7085 : BitVec 32) (v7088 : BitVec 32) (v7130 : BitVec 32) (k0_hw925 : k0_chk925 i v7085 v7088 v7130), ∀ a, (k0_off1852 i v7085 v7088 v7130) a + S1x128.size a ≤ S8224x128.size a := fun i v7085 v7088 v7130 k0_hw925 => k0_hw925

def k0_off1853 (v7085 : BitVec 32) : Fin 1 → Nat :=
  let c3_i32_2761 : BitVec 32 := 3#32
  let v7141 : BitVec 32 := Scalar.addi v7085 c3_i32_2761
  let v7144 : Index := Scalar.indexCast v7141
  ![v7144.toNat]
def k0_off1854 (i : grid0.Coords) (v7085 : BitVec 32) (v7088 : BitVec 32) (v7145 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_2762 : BitVec 32 := 3#32
  let v7142 : BitVec 32 := Scalar.addi v7085 c3_i32_2762
  let v7143 : BitVec 1 := Scalar.cmpi .slt v7142 v7088
  let c65535_i32_2763 : BitVec 32 := 65535#32
  let v7146 : BitVec 32 := Scalar.andi v7145 c65535_i32_2763
  let c2048_i32_2764 : BitVec 32 := 2048#32
  let v7147 : BitVec 32 := Scalar.select v7143 v7146 c2048_i32_2764
  let v7148 : BitVec 32 := Scalar.addi v1470 v7147
  let v7151 : Index := Scalar.indexCast v7148
  let c0_2766 : Index := 0#32
  ![v7151.toNat, 0]

def k0_chk926 (i : grid0.Coords) (v7085 : BitVec 32) (v7088 : BitVec 32) (v7145 : BitVec 32) : Prop :=
  (∀ a, (k0_off1854 i v7085 v7088 v7145) a + S1x128.size a ≤ S8224x128.size a)
theorem k0_off1854_inb : ∀ (i : grid0.Coords) (v7085 : BitVec 32) (v7088 : BitVec 32) (v7145 : BitVec 32) (k0_hw926 : k0_chk926 i v7085 v7088 v7145), ∀ a, (k0_off1854 i v7085 v7088 v7145) a + S1x128.size a ≤ S8224x128.size a := fun i v7085 v7088 v7145 k0_hw926 => k0_hw926

def k0_off1855 (v7085 : BitVec 32) : Fin 1 → Nat :=
  let c4_i32_2767 : BitVec 32 := 4#32
  let v7156 : BitVec 32 := Scalar.addi v7085 c4_i32_2767
  let v7159 : Index := Scalar.indexCast v7156
  ![v7159.toNat]
def k0_off1856 (i : grid0.Coords) (v7085 : BitVec 32) (v7088 : BitVec 32) (v7160 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_2768 : BitVec 32 := 4#32
  let v7157 : BitVec 32 := Scalar.addi v7085 c4_i32_2768
  let v7158 : BitVec 1 := Scalar.cmpi .slt v7157 v7088
  let c65535_i32_2769 : BitVec 32 := 65535#32
  let v7161 : BitVec 32 := Scalar.andi v7160 c65535_i32_2769
  let c2048_i32_2770 : BitVec 32 := 2048#32
  let v7162 : BitVec 32 := Scalar.select v7158 v7161 c2048_i32_2770
  let v7163 : BitVec 32 := Scalar.addi v1470 v7162
  let v7166 : Index := Scalar.indexCast v7163
  let c0_2772 : Index := 0#32
  ![v7166.toNat, 0]

def k0_chk927 (i : grid0.Coords) (v7085 : BitVec 32) (v7088 : BitVec 32) (v7160 : BitVec 32) : Prop :=
  (∀ a, (k0_off1856 i v7085 v7088 v7160) a + S1x128.size a ≤ S8224x128.size a)
theorem k0_off1856_inb : ∀ (i : grid0.Coords) (v7085 : BitVec 32) (v7088 : BitVec 32) (v7160 : BitVec 32) (k0_hw927 : k0_chk927 i v7085 v7088 v7160), ∀ a, (k0_off1856 i v7085 v7088 v7160) a + S1x128.size a ≤ S8224x128.size a := fun i v7085 v7088 v7160 k0_hw927 => k0_hw927

def k0_off1857 (v7085 : BitVec 32) : Fin 1 → Nat :=
  let c5_i32_2773 : BitVec 32 := 5#32
  let v7171 : BitVec 32 := Scalar.addi v7085 c5_i32_2773
  let v7174 : Index := Scalar.indexCast v7171
  ![v7174.toNat]
def k0_off1858 (i : grid0.Coords) (v7085 : BitVec 32) (v7088 : BitVec 32) (v7175 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_2774 : BitVec 32 := 5#32
  let v7172 : BitVec 32 := Scalar.addi v7085 c5_i32_2774
  let v7173 : BitVec 1 := Scalar.cmpi .slt v7172 v7088
  let c65535_i32_2775 : BitVec 32 := 65535#32
  let v7176 : BitVec 32 := Scalar.andi v7175 c65535_i32_2775
  let c2048_i32_2776 : BitVec 32 := 2048#32
  let v7177 : BitVec 32 := Scalar.select v7173 v7176 c2048_i32_2776
  let v7178 : BitVec 32 := Scalar.addi v1470 v7177
  let v7181 : Index := Scalar.indexCast v7178
  let c0_2778 : Index := 0#32
  ![v7181.toNat, 0]

def k0_chk928 (i : grid0.Coords) (v7085 : BitVec 32) (v7088 : BitVec 32) (v7175 : BitVec 32) : Prop :=
  (∀ a, (k0_off1858 i v7085 v7088 v7175) a + S1x128.size a ≤ S8224x128.size a)
theorem k0_off1858_inb : ∀ (i : grid0.Coords) (v7085 : BitVec 32) (v7088 : BitVec 32) (v7175 : BitVec 32) (k0_hw928 : k0_chk928 i v7085 v7088 v7175), ∀ a, (k0_off1858 i v7085 v7088 v7175) a + S1x128.size a ≤ S8224x128.size a := fun i v7085 v7088 v7175 k0_hw928 => k0_hw928

def k0_off1859 (v7085 : BitVec 32) : Fin 1 → Nat :=
  let c6_i32_2779 : BitVec 32 := 6#32
  let v7186 : BitVec 32 := Scalar.addi v7085 c6_i32_2779
  let v7189 : Index := Scalar.indexCast v7186
  ![v7189.toNat]
def k0_off1860 (i : grid0.Coords) (v7085 : BitVec 32) (v7088 : BitVec 32) (v7190 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_2780 : BitVec 32 := 6#32
  let v7187 : BitVec 32 := Scalar.addi v7085 c6_i32_2780
  let v7188 : BitVec 1 := Scalar.cmpi .slt v7187 v7088
  let c65535_i32_2781 : BitVec 32 := 65535#32
  let v7191 : BitVec 32 := Scalar.andi v7190 c65535_i32_2781
  let c2048_i32_2782 : BitVec 32 := 2048#32
  let v7192 : BitVec 32 := Scalar.select v7188 v7191 c2048_i32_2782
  let v7193 : BitVec 32 := Scalar.addi v1470 v7192
  let v7196 : Index := Scalar.indexCast v7193
  let c0_2784 : Index := 0#32
  ![v7196.toNat, 0]

def k0_chk929 (i : grid0.Coords) (v7085 : BitVec 32) (v7088 : BitVec 32) (v7190 : BitVec 32) : Prop :=
  (∀ a, (k0_off1860 i v7085 v7088 v7190) a + S1x128.size a ≤ S8224x128.size a)
theorem k0_off1860_inb : ∀ (i : grid0.Coords) (v7085 : BitVec 32) (v7088 : BitVec 32) (v7190 : BitVec 32) (k0_hw929 : k0_chk929 i v7085 v7088 v7190), ∀ a, (k0_off1860 i v7085 v7088 v7190) a + S1x128.size a ≤ S8224x128.size a := fun i v7085 v7088 v7190 k0_hw929 => k0_hw929

def k0_off1861 (v7085 : BitVec 32) : Fin 1 → Nat :=
  let c7_i32_2785 : BitVec 32 := 7#32
  let v7201 : BitVec 32 := Scalar.addi v7085 c7_i32_2785
  let v7204 : Index := Scalar.indexCast v7201
  ![v7204.toNat]
def k0_off1862 (i : grid0.Coords) (v7085 : BitVec 32) (v7088 : BitVec 32) (v7205 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_2786 : BitVec 32 := 7#32
  let v7202 : BitVec 32 := Scalar.addi v7085 c7_i32_2786
  let v7203 : BitVec 1 := Scalar.cmpi .slt v7202 v7088
  let c65535_i32_2787 : BitVec 32 := 65535#32
  let v7206 : BitVec 32 := Scalar.andi v7205 c65535_i32_2787
  let c2048_i32_2788 : BitVec 32 := 2048#32
  let v7207 : BitVec 32 := Scalar.select v7203 v7206 c2048_i32_2788
  let v7208 : BitVec 32 := Scalar.addi v1470 v7207
  let v7211 : Index := Scalar.indexCast v7208
  let c0_2790 : Index := 0#32
  ![v7211.toNat, 0]

def k0_chk930 (i : grid0.Coords) (v7085 : BitVec 32) (v7088 : BitVec 32) (v7205 : BitVec 32) : Prop :=
  (∀ a, (k0_off1862 i v7085 v7088 v7205) a + S1x128.size a ≤ S8224x128.size a)
theorem k0_off1862_inb : ∀ (i : grid0.Coords) (v7085 : BitVec 32) (v7088 : BitVec 32) (v7205 : BitVec 32) (k0_hw930 : k0_chk930 i v7085 v7088 v7205), ∀ a, (k0_off1862 i v7085 v7088 v7205) a + S1x128.size a ≤ S8224x128.size a := fun i v7085 v7088 v7205 k0_hw930 => k0_hw930

def k0_off1863 (v7085 : BitVec 32) : Fin 1 → Nat :=
  let c8_i32_2791 : BitVec 32 := 8#32
  let v7216 : BitVec 32 := Scalar.addi v7085 c8_i32_2791
  let v7219 : Index := Scalar.indexCast v7216
  ![v7219.toNat]
def k0_off1864 (i : grid0.Coords) (v7085 : BitVec 32) (v7088 : BitVec 32) (v7220 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_2792 : BitVec 32 := 8#32
  let v7217 : BitVec 32 := Scalar.addi v7085 c8_i32_2792
  let v7218 : BitVec 1 := Scalar.cmpi .slt v7217 v7088
  let c65535_i32_2793 : BitVec 32 := 65535#32
  let v7221 : BitVec 32 := Scalar.andi v7220 c65535_i32_2793
  let c2048_i32_2794 : BitVec 32 := 2048#32
  let v7222 : BitVec 32 := Scalar.select v7218 v7221 c2048_i32_2794
  let v7223 : BitVec 32 := Scalar.addi v1470 v7222
  let v7226 : Index := Scalar.indexCast v7223
  let c0_2796 : Index := 0#32
  ![v7226.toNat, 0]

def k0_chk931 (i : grid0.Coords) (v7085 : BitVec 32) (v7088 : BitVec 32) (v7220 : BitVec 32) : Prop :=
  (∀ a, (k0_off1864 i v7085 v7088 v7220) a + S1x128.size a ≤ S8224x128.size a)
theorem k0_off1864_inb : ∀ (i : grid0.Coords) (v7085 : BitVec 32) (v7088 : BitVec 32) (v7220 : BitVec 32) (k0_hw931 : k0_chk931 i v7085 v7088 v7220), ∀ a, (k0_off1864 i v7085 v7088 v7220) a + S1x128.size a ≤ S8224x128.size a := fun i v7085 v7088 v7220 k0_hw931 => k0_hw931

def k0_off1865 (v7085 : BitVec 32) : Fin 1 → Nat :=
  let c9_i32_2797 : BitVec 32 := 9#32
  let v7231 : BitVec 32 := Scalar.addi v7085 c9_i32_2797
  let v7234 : Index := Scalar.indexCast v7231
  ![v7234.toNat]
def k0_off1866 (i : grid0.Coords) (v7085 : BitVec 32) (v7088 : BitVec 32) (v7235 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_2798 : BitVec 32 := 9#32
  let v7232 : BitVec 32 := Scalar.addi v7085 c9_i32_2798
  let v7233 : BitVec 1 := Scalar.cmpi .slt v7232 v7088
  let c65535_i32_2799 : BitVec 32 := 65535#32
  let v7236 : BitVec 32 := Scalar.andi v7235 c65535_i32_2799
  let c2048_i32_2800 : BitVec 32 := 2048#32
  let v7237 : BitVec 32 := Scalar.select v7233 v7236 c2048_i32_2800
  let v7238 : BitVec 32 := Scalar.addi v1470 v7237
  let v7241 : Index := Scalar.indexCast v7238
  let c0_2802 : Index := 0#32
  ![v7241.toNat, 0]

def k0_chk932 (i : grid0.Coords) (v7085 : BitVec 32) (v7088 : BitVec 32) (v7235 : BitVec 32) : Prop :=
  (∀ a, (k0_off1866 i v7085 v7088 v7235) a + S1x128.size a ≤ S8224x128.size a)
theorem k0_off1866_inb : ∀ (i : grid0.Coords) (v7085 : BitVec 32) (v7088 : BitVec 32) (v7235 : BitVec 32) (k0_hw932 : k0_chk932 i v7085 v7088 v7235), ∀ a, (k0_off1866 i v7085 v7088 v7235) a + S1x128.size a ≤ S8224x128.size a := fun i v7085 v7088 v7235 k0_hw932 => k0_hw932

def k0_off1867 (v7085 : BitVec 32) : Fin 1 → Nat :=
  let c10_i32_2803 : BitVec 32 := 10#32
  let v7246 : BitVec 32 := Scalar.addi v7085 c10_i32_2803
  let v7249 : Index := Scalar.indexCast v7246
  ![v7249.toNat]
def k0_off1868 (i : grid0.Coords) (v7085 : BitVec 32) (v7088 : BitVec 32) (v7250 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_2804 : BitVec 32 := 10#32
  let v7247 : BitVec 32 := Scalar.addi v7085 c10_i32_2804
  let v7248 : BitVec 1 := Scalar.cmpi .slt v7247 v7088
  let c65535_i32_2805 : BitVec 32 := 65535#32
  let v7251 : BitVec 32 := Scalar.andi v7250 c65535_i32_2805
  let c2048_i32_2806 : BitVec 32 := 2048#32
  let v7252 : BitVec 32 := Scalar.select v7248 v7251 c2048_i32_2806
  let v7253 : BitVec 32 := Scalar.addi v1470 v7252
  let v7256 : Index := Scalar.indexCast v7253
  let c0_2808 : Index := 0#32
  ![v7256.toNat, 0]

def k0_chk933 (i : grid0.Coords) (v7085 : BitVec 32) (v7088 : BitVec 32) (v7250 : BitVec 32) : Prop :=
  (∀ a, (k0_off1868 i v7085 v7088 v7250) a + S1x128.size a ≤ S8224x128.size a)
theorem k0_off1868_inb : ∀ (i : grid0.Coords) (v7085 : BitVec 32) (v7088 : BitVec 32) (v7250 : BitVec 32) (k0_hw933 : k0_chk933 i v7085 v7088 v7250), ∀ a, (k0_off1868 i v7085 v7088 v7250) a + S1x128.size a ≤ S8224x128.size a := fun i v7085 v7088 v7250 k0_hw933 => k0_hw933

def k0_off1869 (v7085 : BitVec 32) : Fin 1 → Nat :=
  let c11_i32_2809 : BitVec 32 := 11#32
  let v7261 : BitVec 32 := Scalar.addi v7085 c11_i32_2809
  let v7264 : Index := Scalar.indexCast v7261
  ![v7264.toNat]
def k0_off1870 (i : grid0.Coords) (v7085 : BitVec 32) (v7088 : BitVec 32) (v7265 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_2810 : BitVec 32 := 11#32
  let v7262 : BitVec 32 := Scalar.addi v7085 c11_i32_2810
  let v7263 : BitVec 1 := Scalar.cmpi .slt v7262 v7088
  let c65535_i32_2811 : BitVec 32 := 65535#32
  let v7266 : BitVec 32 := Scalar.andi v7265 c65535_i32_2811
  let c2048_i32_2812 : BitVec 32 := 2048#32
  let v7267 : BitVec 32 := Scalar.select v7263 v7266 c2048_i32_2812
  let v7268 : BitVec 32 := Scalar.addi v1470 v7267
  let v7271 : Index := Scalar.indexCast v7268
  let c0_2814 : Index := 0#32
  ![v7271.toNat, 0]

def k0_chk934 (i : grid0.Coords) (v7085 : BitVec 32) (v7088 : BitVec 32) (v7265 : BitVec 32) : Prop :=
  (∀ a, (k0_off1870 i v7085 v7088 v7265) a + S1x128.size a ≤ S8224x128.size a)
theorem k0_off1870_inb : ∀ (i : grid0.Coords) (v7085 : BitVec 32) (v7088 : BitVec 32) (v7265 : BitVec 32) (k0_hw934 : k0_chk934 i v7085 v7088 v7265), ∀ a, (k0_off1870 i v7085 v7088 v7265) a + S1x128.size a ≤ S8224x128.size a := fun i v7085 v7088 v7265 k0_hw934 => k0_hw934

def k0_off1871 (v7085 : BitVec 32) : Fin 1 → Nat :=
  let c12_i32_2815 : BitVec 32 := 12#32
  let v7276 : BitVec 32 := Scalar.addi v7085 c12_i32_2815
  let v7279 : Index := Scalar.indexCast v7276
  ![v7279.toNat]
def k0_off1872 (i : grid0.Coords) (v7085 : BitVec 32) (v7088 : BitVec 32) (v7280 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_2816 : BitVec 32 := 12#32
  let v7277 : BitVec 32 := Scalar.addi v7085 c12_i32_2816
  let v7278 : BitVec 1 := Scalar.cmpi .slt v7277 v7088
  let c65535_i32_2817 : BitVec 32 := 65535#32
  let v7281 : BitVec 32 := Scalar.andi v7280 c65535_i32_2817
  let c2048_i32_2818 : BitVec 32 := 2048#32
  let v7282 : BitVec 32 := Scalar.select v7278 v7281 c2048_i32_2818
  let v7283 : BitVec 32 := Scalar.addi v1470 v7282
  let v7286 : Index := Scalar.indexCast v7283
  let c0_2820 : Index := 0#32
  ![v7286.toNat, 0]

def k0_chk935 (i : grid0.Coords) (v7085 : BitVec 32) (v7088 : BitVec 32) (v7280 : BitVec 32) : Prop :=
  (∀ a, (k0_off1872 i v7085 v7088 v7280) a + S1x128.size a ≤ S8224x128.size a)
theorem k0_off1872_inb : ∀ (i : grid0.Coords) (v7085 : BitVec 32) (v7088 : BitVec 32) (v7280 : BitVec 32) (k0_hw935 : k0_chk935 i v7085 v7088 v7280), ∀ a, (k0_off1872 i v7085 v7088 v7280) a + S1x128.size a ≤ S8224x128.size a := fun i v7085 v7088 v7280 k0_hw935 => k0_hw935

def k0_off1873 (v7085 : BitVec 32) : Fin 1 → Nat :=
  let c13_i32_2821 : BitVec 32 := 13#32
  let v7291 : BitVec 32 := Scalar.addi v7085 c13_i32_2821
  let v7294 : Index := Scalar.indexCast v7291
  ![v7294.toNat]
def k0_off1874 (i : grid0.Coords) (v7085 : BitVec 32) (v7088 : BitVec 32) (v7295 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_2822 : BitVec 32 := 13#32
  let v7292 : BitVec 32 := Scalar.addi v7085 c13_i32_2822
  let v7293 : BitVec 1 := Scalar.cmpi .slt v7292 v7088
  let c65535_i32_2823 : BitVec 32 := 65535#32
  let v7296 : BitVec 32 := Scalar.andi v7295 c65535_i32_2823
  let c2048_i32_2824 : BitVec 32 := 2048#32
  let v7297 : BitVec 32 := Scalar.select v7293 v7296 c2048_i32_2824
  let v7298 : BitVec 32 := Scalar.addi v1470 v7297
  let v7301 : Index := Scalar.indexCast v7298
  let c0_2826 : Index := 0#32
  ![v7301.toNat, 0]

def k0_chk936 (i : grid0.Coords) (v7085 : BitVec 32) (v7088 : BitVec 32) (v7295 : BitVec 32) : Prop :=
  (∀ a, (k0_off1874 i v7085 v7088 v7295) a + S1x128.size a ≤ S8224x128.size a)
theorem k0_off1874_inb : ∀ (i : grid0.Coords) (v7085 : BitVec 32) (v7088 : BitVec 32) (v7295 : BitVec 32) (k0_hw936 : k0_chk936 i v7085 v7088 v7295), ∀ a, (k0_off1874 i v7085 v7088 v7295) a + S1x128.size a ≤ S8224x128.size a := fun i v7085 v7088 v7295 k0_hw936 => k0_hw936

def k0_off1875 (v7085 : BitVec 32) : Fin 1 → Nat :=
  let c14_i32_2827 : BitVec 32 := 14#32
  let v7306 : BitVec 32 := Scalar.addi v7085 c14_i32_2827
  let v7309 : Index := Scalar.indexCast v7306
  ![v7309.toNat]
def k0_off1876 (i : grid0.Coords) (v7085 : BitVec 32) (v7088 : BitVec 32) (v7310 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_2828 : BitVec 32 := 14#32
  let v7307 : BitVec 32 := Scalar.addi v7085 c14_i32_2828
  let v7308 : BitVec 1 := Scalar.cmpi .slt v7307 v7088
  let c65535_i32_2829 : BitVec 32 := 65535#32
  let v7311 : BitVec 32 := Scalar.andi v7310 c65535_i32_2829
  let c2048_i32_2830 : BitVec 32 := 2048#32
  let v7312 : BitVec 32 := Scalar.select v7308 v7311 c2048_i32_2830
  let v7313 : BitVec 32 := Scalar.addi v1470 v7312
  let v7316 : Index := Scalar.indexCast v7313
  let c0_2832 : Index := 0#32
  ![v7316.toNat, 0]

def k0_chk937 (i : grid0.Coords) (v7085 : BitVec 32) (v7088 : BitVec 32) (v7310 : BitVec 32) : Prop :=
  (∀ a, (k0_off1876 i v7085 v7088 v7310) a + S1x128.size a ≤ S8224x128.size a)
theorem k0_off1876_inb : ∀ (i : grid0.Coords) (v7085 : BitVec 32) (v7088 : BitVec 32) (v7310 : BitVec 32) (k0_hw937 : k0_chk937 i v7085 v7088 v7310), ∀ a, (k0_off1876 i v7085 v7088 v7310) a + S1x128.size a ≤ S8224x128.size a := fun i v7085 v7088 v7310 k0_hw937 => k0_hw937

def k0_off1877 (v7085 : BitVec 32) : Fin 1 → Nat :=
  let c15_i32_2833 : BitVec 32 := 15#32
  let v7321 : BitVec 32 := Scalar.addi v7085 c15_i32_2833
  let v7324 : Index := Scalar.indexCast v7321
  ![v7324.toNat]

def k0_chk922 (v7085 : BitVec 32) : Prop :=
  (∀ a, (k0_off1847 v7085) a + S1.size a ≤ S51920.size a) ∧
  (∀ a, (k0_off1849 v7085) a + S1.size a ≤ S51920.size a) ∧
  (∀ a, (k0_off1851 v7085) a + S1.size a ≤ S51920.size a) ∧
  (∀ a, (k0_off1853 v7085) a + S1.size a ≤ S51920.size a) ∧
  (∀ a, (k0_off1855 v7085) a + S1.size a ≤ S51920.size a) ∧
  (∀ a, (k0_off1857 v7085) a + S1.size a ≤ S51920.size a) ∧
  (∀ a, (k0_off1859 v7085) a + S1.size a ≤ S51920.size a) ∧
  (∀ a, (k0_off1861 v7085) a + S1.size a ≤ S51920.size a) ∧
  (∀ a, (k0_off1863 v7085) a + S1.size a ≤ S51920.size a) ∧
  (∀ a, (k0_off1865 v7085) a + S1.size a ≤ S51920.size a) ∧
  (∀ a, (k0_off1867 v7085) a + S1.size a ≤ S51920.size a) ∧
  (∀ a, (k0_off1869 v7085) a + S1.size a ≤ S51920.size a) ∧
  (∀ a, (k0_off1871 v7085) a + S1.size a ≤ S51920.size a) ∧
  (∀ a, (k0_off1873 v7085) a + S1.size a ≤ S51920.size a) ∧
  (∀ a, (k0_off1875 v7085) a + S1.size a ≤ S51920.size a) ∧
  (∀ a, (k0_off1877 v7085) a + S1.size a ≤ S51920.size a)
theorem k0_off1847_inb : ∀ (v7085 : BitVec 32) (k0_hw922 : k0_chk922 v7085), ∀ a, (k0_off1847 v7085) a + S1.size a ≤ S51920.size a := fun v7085 k0_hw922 => k0_hw922.1
theorem k0_off1849_inb : ∀ (v7085 : BitVec 32) (k0_hw922 : k0_chk922 v7085), ∀ a, (k0_off1849 v7085) a + S1.size a ≤ S51920.size a := fun v7085 k0_hw922 => k0_hw922.2.1
theorem k0_off1851_inb : ∀ (v7085 : BitVec 32) (k0_hw922 : k0_chk922 v7085), ∀ a, (k0_off1851 v7085) a + S1.size a ≤ S51920.size a := fun v7085 k0_hw922 => k0_hw922.2.2.1
theorem k0_off1853_inb : ∀ (v7085 : BitVec 32) (k0_hw922 : k0_chk922 v7085), ∀ a, (k0_off1853 v7085) a + S1.size a ≤ S51920.size a := fun v7085 k0_hw922 => k0_hw922.2.2.2.1
theorem k0_off1855_inb : ∀ (v7085 : BitVec 32) (k0_hw922 : k0_chk922 v7085), ∀ a, (k0_off1855 v7085) a + S1.size a ≤ S51920.size a := fun v7085 k0_hw922 => k0_hw922.2.2.2.2.1
theorem k0_off1857_inb : ∀ (v7085 : BitVec 32) (k0_hw922 : k0_chk922 v7085), ∀ a, (k0_off1857 v7085) a + S1.size a ≤ S51920.size a := fun v7085 k0_hw922 => k0_hw922.2.2.2.2.2.1
theorem k0_off1859_inb : ∀ (v7085 : BitVec 32) (k0_hw922 : k0_chk922 v7085), ∀ a, (k0_off1859 v7085) a + S1.size a ≤ S51920.size a := fun v7085 k0_hw922 => k0_hw922.2.2.2.2.2.2.1
theorem k0_off1861_inb : ∀ (v7085 : BitVec 32) (k0_hw922 : k0_chk922 v7085), ∀ a, (k0_off1861 v7085) a + S1.size a ≤ S51920.size a := fun v7085 k0_hw922 => k0_hw922.2.2.2.2.2.2.2.1
theorem k0_off1863_inb : ∀ (v7085 : BitVec 32) (k0_hw922 : k0_chk922 v7085), ∀ a, (k0_off1863 v7085) a + S1.size a ≤ S51920.size a := fun v7085 k0_hw922 => k0_hw922.2.2.2.2.2.2.2.2.1
theorem k0_off1865_inb : ∀ (v7085 : BitVec 32) (k0_hw922 : k0_chk922 v7085), ∀ a, (k0_off1865 v7085) a + S1.size a ≤ S51920.size a := fun v7085 k0_hw922 => k0_hw922.2.2.2.2.2.2.2.2.2.1
theorem k0_off1867_inb : ∀ (v7085 : BitVec 32) (k0_hw922 : k0_chk922 v7085), ∀ a, (k0_off1867 v7085) a + S1.size a ≤ S51920.size a := fun v7085 k0_hw922 => k0_hw922.2.2.2.2.2.2.2.2.2.2.1
theorem k0_off1869_inb : ∀ (v7085 : BitVec 32) (k0_hw922 : k0_chk922 v7085), ∀ a, (k0_off1869 v7085) a + S1.size a ≤ S51920.size a := fun v7085 k0_hw922 => k0_hw922.2.2.2.2.2.2.2.2.2.2.2.1
theorem k0_off1871_inb : ∀ (v7085 : BitVec 32) (k0_hw922 : k0_chk922 v7085), ∀ a, (k0_off1871 v7085) a + S1.size a ≤ S51920.size a := fun v7085 k0_hw922 => k0_hw922.2.2.2.2.2.2.2.2.2.2.2.2.1
theorem k0_off1873_inb : ∀ (v7085 : BitVec 32) (k0_hw922 : k0_chk922 v7085), ∀ a, (k0_off1873 v7085) a + S1.size a ≤ S51920.size a := fun v7085 k0_hw922 => k0_hw922.2.2.2.2.2.2.2.2.2.2.2.2.2.1
theorem k0_off1875_inb : ∀ (v7085 : BitVec 32) (k0_hw922 : k0_chk922 v7085), ∀ a, (k0_off1875 v7085) a + S1.size a ≤ S51920.size a := fun v7085 k0_hw922 => k0_hw922.2.2.2.2.2.2.2.2.2.2.2.2.2.2.1
theorem k0_off1877_inb : ∀ (v7085 : BitVec 32) (k0_hw922 : k0_chk922 v7085), ∀ a, (k0_off1877 v7085) a + S1.size a ≤ S51920.size a := fun v7085 k0_hw922 => k0_hw922.2.2.2.2.2.2.2.2.2.2.2.2.2.2.2

def k0_off1878 (i : grid0.Coords) (v7085 : BitVec 32) (v7088 : BitVec 32) (v7325 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_2834 : BitVec 32 := 15#32
  let v7322 : BitVec 32 := Scalar.addi v7085 c15_i32_2834
  let v7323 : BitVec 1 := Scalar.cmpi .slt v7322 v7088
  let c65535_i32_2835 : BitVec 32 := 65535#32
  let v7326 : BitVec 32 := Scalar.andi v7325 c65535_i32_2835
  let c2048_i32_2836 : BitVec 32 := 2048#32
  let v7327 : BitVec 32 := Scalar.select v7323 v7326 c2048_i32_2836
  let v7328 : BitVec 32 := Scalar.addi v1470 v7327
  let v7331 : Index := Scalar.indexCast v7328
  let c0_2838 : Index := 0#32
  ![v7331.toNat, 0]

def k0_chk938 (i : grid0.Coords) (v7085 : BitVec 32) (v7088 : BitVec 32) (v7325 : BitVec 32) : Prop :=
  (∀ a, (k0_off1878 i v7085 v7088 v7325) a + S1x128.size a ≤ S8224x128.size a)
theorem k0_off1878_inb : ∀ (i : grid0.Coords) (v7085 : BitVec 32) (v7088 : BitVec 32) (v7325 : BitVec 32) (k0_hw938 : k0_chk938 i v7085 v7088 v7325), ∀ a, (k0_off1878 i v7085 v7088 v7325) a + S1x128.size a ≤ S8224x128.size a := fun i v7085 v7088 v7325 k0_hw938 => k0_hw938

def k0_off1879 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2839 : BitVec 32 := 512#32
  let v7336 : BitVec 32 := Scalar.muli v24 c512_i32_2839
  let arg1 : BitVec 32 := BitVec.ofNat 32 (i 1).val
  let c32_i32 : BitVec 32 := 32#32
  let v1452 : BitVec 32 := Scalar.muli arg1 c32_i32
  let v7337 : BitVec 32 := Scalar.addi v7336 v1452
  let c23_i32 : BitVec 32 := 23#32
  let v7338 : BitVec 32 := Scalar.addi v7337 c23_i32
  let v7339 : Index := Scalar.indexCast v7338
  ![v7339.toNat]
def k0_off1880 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2839 : BitVec 32 := 512#32
  let v7336 : BitVec 32 := Scalar.muli v24 c512_i32_2839
  let arg1 : BitVec 32 := BitVec.ofNat 32 (i 1).val
  let c32_i32 : BitVec 32 := 32#32
  let v1452 : BitVec 32 := Scalar.muli arg1 c32_i32
  let v7337 : BitVec 32 := Scalar.addi v7336 v1452
  let c23_i32 : BitVec 32 := 23#32
  let v7338 : BitVec 32 := Scalar.addi v7337 c23_i32
  let c1_i32_2840 : BitVec 32 := 1#32
  let v7341 : BitVec 32 := Scalar.addi v7338 c1_i32_2840
  let v7342 : Index := Scalar.indexCast v7341
  ![v7342.toNat]
def k0_off1881 (v7340 : BitVec 32) : Fin 1 → Nat :=
  let c0_i32_2843 : BitVec 32 := 0#32
  let v7351 : BitVec 32 := Scalar.addi v7340 c0_i32_2843
  let v7354 : Index := Scalar.indexCast v7351
  ![v7354.toNat]

def k0_off1882 (i : grid0.Coords) (v7340 : BitVec 32) (v7343 : BitVec 32) (v7355 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_2844 : BitVec 32 := 0#32
  let v7352 : BitVec 32 := Scalar.addi v7340 c0_i32_2844
  let v7353 : BitVec 1 := Scalar.cmpi .slt v7352 v7343
  let c65535_i32_2845 : BitVec 32 := 65535#32
  let v7356 : BitVec 32 := Scalar.andi v7355 c65535_i32_2845
  let c2048_i32_2846 : BitVec 32 := 2048#32
  let v7357 : BitVec 32 := Scalar.select v7353 v7356 c2048_i32_2846
  let v7358 : BitVec 32 := Scalar.addi v1470 v7357
  let v7361 : Index := Scalar.indexCast v7358
  let c0_2848 : Index := 0#32
  ![v7361.toNat, 0]

def k0_chk940 (i : grid0.Coords) (v7340 : BitVec 32) (v7343 : BitVec 32) (v7355 : BitVec 32) : Prop :=
  (∀ a, (k0_off1882 i v7340 v7343 v7355) a + S1x128.size a ≤ S8224x128.size a)
theorem k0_off1882_inb : ∀ (i : grid0.Coords) (v7340 : BitVec 32) (v7343 : BitVec 32) (v7355 : BitVec 32) (k0_hw940 : k0_chk940 i v7340 v7343 v7355), ∀ a, (k0_off1882 i v7340 v7343 v7355) a + S1x128.size a ≤ S8224x128.size a := fun i v7340 v7343 v7355 k0_hw940 => k0_hw940

def k0_off1883 (v7340 : BitVec 32) : Fin 1 → Nat :=
  let c1_i32_2849 : BitVec 32 := 1#32
  let v7366 : BitVec 32 := Scalar.addi v7340 c1_i32_2849
  let v7369 : Index := Scalar.indexCast v7366
  ![v7369.toNat]
def k0_off1884 (i : grid0.Coords) (v7340 : BitVec 32) (v7343 : BitVec 32) (v7370 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_2850 : BitVec 32 := 1#32
  let v7367 : BitVec 32 := Scalar.addi v7340 c1_i32_2850
  let v7368 : BitVec 1 := Scalar.cmpi .slt v7367 v7343
  let c65535_i32_2851 : BitVec 32 := 65535#32
  let v7371 : BitVec 32 := Scalar.andi v7370 c65535_i32_2851
  let c2048_i32_2852 : BitVec 32 := 2048#32
  let v7372 : BitVec 32 := Scalar.select v7368 v7371 c2048_i32_2852
  let v7373 : BitVec 32 := Scalar.addi v1470 v7372
  let v7376 : Index := Scalar.indexCast v7373
  let c0_2854 : Index := 0#32
  ![v7376.toNat, 0]

def k0_chk941 (i : grid0.Coords) (v7340 : BitVec 32) (v7343 : BitVec 32) (v7370 : BitVec 32) : Prop :=
  (∀ a, (k0_off1884 i v7340 v7343 v7370) a + S1x128.size a ≤ S8224x128.size a)
theorem k0_off1884_inb : ∀ (i : grid0.Coords) (v7340 : BitVec 32) (v7343 : BitVec 32) (v7370 : BitVec 32) (k0_hw941 : k0_chk941 i v7340 v7343 v7370), ∀ a, (k0_off1884 i v7340 v7343 v7370) a + S1x128.size a ≤ S8224x128.size a := fun i v7340 v7343 v7370 k0_hw941 => k0_hw941

def k0_off1885 (v7340 : BitVec 32) : Fin 1 → Nat :=
  let c2_i32_2855 : BitVec 32 := 2#32
  let v7381 : BitVec 32 := Scalar.addi v7340 c2_i32_2855
  let v7384 : Index := Scalar.indexCast v7381
  ![v7384.toNat]
def k0_off1886 (i : grid0.Coords) (v7340 : BitVec 32) (v7343 : BitVec 32) (v7385 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_2856 : BitVec 32 := 2#32
  let v7382 : BitVec 32 := Scalar.addi v7340 c2_i32_2856
  let v7383 : BitVec 1 := Scalar.cmpi .slt v7382 v7343
  let c65535_i32_2857 : BitVec 32 := 65535#32
  let v7386 : BitVec 32 := Scalar.andi v7385 c65535_i32_2857
  let c2048_i32_2858 : BitVec 32 := 2048#32
  let v7387 : BitVec 32 := Scalar.select v7383 v7386 c2048_i32_2858
  let v7388 : BitVec 32 := Scalar.addi v1470 v7387
  let v7391 : Index := Scalar.indexCast v7388
  let c0_2860 : Index := 0#32
  ![v7391.toNat, 0]

def k0_chk942 (i : grid0.Coords) (v7340 : BitVec 32) (v7343 : BitVec 32) (v7385 : BitVec 32) : Prop :=
  (∀ a, (k0_off1886 i v7340 v7343 v7385) a + S1x128.size a ≤ S8224x128.size a)
theorem k0_off1886_inb : ∀ (i : grid0.Coords) (v7340 : BitVec 32) (v7343 : BitVec 32) (v7385 : BitVec 32) (k0_hw942 : k0_chk942 i v7340 v7343 v7385), ∀ a, (k0_off1886 i v7340 v7343 v7385) a + S1x128.size a ≤ S8224x128.size a := fun i v7340 v7343 v7385 k0_hw942 => k0_hw942

def k0_off1887 (v7340 : BitVec 32) : Fin 1 → Nat :=
  let c3_i32_2861 : BitVec 32 := 3#32
  let v7396 : BitVec 32 := Scalar.addi v7340 c3_i32_2861
  let v7399 : Index := Scalar.indexCast v7396
  ![v7399.toNat]
def k0_off1888 (i : grid0.Coords) (v7340 : BitVec 32) (v7343 : BitVec 32) (v7400 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_2862 : BitVec 32 := 3#32
  let v7397 : BitVec 32 := Scalar.addi v7340 c3_i32_2862
  let v7398 : BitVec 1 := Scalar.cmpi .slt v7397 v7343
  let c65535_i32_2863 : BitVec 32 := 65535#32
  let v7401 : BitVec 32 := Scalar.andi v7400 c65535_i32_2863
  let c2048_i32_2864 : BitVec 32 := 2048#32
  let v7402 : BitVec 32 := Scalar.select v7398 v7401 c2048_i32_2864
  let v7403 : BitVec 32 := Scalar.addi v1470 v7402
  let v7406 : Index := Scalar.indexCast v7403
  let c0_2866 : Index := 0#32
  ![v7406.toNat, 0]

def k0_chk943 (i : grid0.Coords) (v7340 : BitVec 32) (v7343 : BitVec 32) (v7400 : BitVec 32) : Prop :=
  (∀ a, (k0_off1888 i v7340 v7343 v7400) a + S1x128.size a ≤ S8224x128.size a)
theorem k0_off1888_inb : ∀ (i : grid0.Coords) (v7340 : BitVec 32) (v7343 : BitVec 32) (v7400 : BitVec 32) (k0_hw943 : k0_chk943 i v7340 v7343 v7400), ∀ a, (k0_off1888 i v7340 v7343 v7400) a + S1x128.size a ≤ S8224x128.size a := fun i v7340 v7343 v7400 k0_hw943 => k0_hw943

def k0_off1889 (v7340 : BitVec 32) : Fin 1 → Nat :=
  let c4_i32_2867 : BitVec 32 := 4#32
  let v7411 : BitVec 32 := Scalar.addi v7340 c4_i32_2867
  let v7414 : Index := Scalar.indexCast v7411
  ![v7414.toNat]
def k0_off1890 (i : grid0.Coords) (v7340 : BitVec 32) (v7343 : BitVec 32) (v7415 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_2868 : BitVec 32 := 4#32
  let v7412 : BitVec 32 := Scalar.addi v7340 c4_i32_2868
  let v7413 : BitVec 1 := Scalar.cmpi .slt v7412 v7343
  let c65535_i32_2869 : BitVec 32 := 65535#32
  let v7416 : BitVec 32 := Scalar.andi v7415 c65535_i32_2869
  let c2048_i32_2870 : BitVec 32 := 2048#32
  let v7417 : BitVec 32 := Scalar.select v7413 v7416 c2048_i32_2870
  let v7418 : BitVec 32 := Scalar.addi v1470 v7417
  let v7421 : Index := Scalar.indexCast v7418
  let c0_2872 : Index := 0#32
  ![v7421.toNat, 0]

def k0_chk944 (i : grid0.Coords) (v7340 : BitVec 32) (v7343 : BitVec 32) (v7415 : BitVec 32) : Prop :=
  (∀ a, (k0_off1890 i v7340 v7343 v7415) a + S1x128.size a ≤ S8224x128.size a)
theorem k0_off1890_inb : ∀ (i : grid0.Coords) (v7340 : BitVec 32) (v7343 : BitVec 32) (v7415 : BitVec 32) (k0_hw944 : k0_chk944 i v7340 v7343 v7415), ∀ a, (k0_off1890 i v7340 v7343 v7415) a + S1x128.size a ≤ S8224x128.size a := fun i v7340 v7343 v7415 k0_hw944 => k0_hw944

def k0_off1891 (v7340 : BitVec 32) : Fin 1 → Nat :=
  let c5_i32_2873 : BitVec 32 := 5#32
  let v7426 : BitVec 32 := Scalar.addi v7340 c5_i32_2873
  let v7429 : Index := Scalar.indexCast v7426
  ![v7429.toNat]
def k0_off1892 (i : grid0.Coords) (v7340 : BitVec 32) (v7343 : BitVec 32) (v7430 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_2874 : BitVec 32 := 5#32
  let v7427 : BitVec 32 := Scalar.addi v7340 c5_i32_2874
  let v7428 : BitVec 1 := Scalar.cmpi .slt v7427 v7343
  let c65535_i32_2875 : BitVec 32 := 65535#32
  let v7431 : BitVec 32 := Scalar.andi v7430 c65535_i32_2875
  let c2048_i32_2876 : BitVec 32 := 2048#32
  let v7432 : BitVec 32 := Scalar.select v7428 v7431 c2048_i32_2876
  let v7433 : BitVec 32 := Scalar.addi v1470 v7432
  let v7436 : Index := Scalar.indexCast v7433
  let c0_2878 : Index := 0#32
  ![v7436.toNat, 0]

def k0_chk945 (i : grid0.Coords) (v7340 : BitVec 32) (v7343 : BitVec 32) (v7430 : BitVec 32) : Prop :=
  (∀ a, (k0_off1892 i v7340 v7343 v7430) a + S1x128.size a ≤ S8224x128.size a)
theorem k0_off1892_inb : ∀ (i : grid0.Coords) (v7340 : BitVec 32) (v7343 : BitVec 32) (v7430 : BitVec 32) (k0_hw945 : k0_chk945 i v7340 v7343 v7430), ∀ a, (k0_off1892 i v7340 v7343 v7430) a + S1x128.size a ≤ S8224x128.size a := fun i v7340 v7343 v7430 k0_hw945 => k0_hw945

def k0_off1893 (v7340 : BitVec 32) : Fin 1 → Nat :=
  let c6_i32_2879 : BitVec 32 := 6#32
  let v7441 : BitVec 32 := Scalar.addi v7340 c6_i32_2879
  let v7444 : Index := Scalar.indexCast v7441
  ![v7444.toNat]
def k0_off1894 (i : grid0.Coords) (v7340 : BitVec 32) (v7343 : BitVec 32) (v7445 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_2880 : BitVec 32 := 6#32
  let v7442 : BitVec 32 := Scalar.addi v7340 c6_i32_2880
  let v7443 : BitVec 1 := Scalar.cmpi .slt v7442 v7343
  let c65535_i32_2881 : BitVec 32 := 65535#32
  let v7446 : BitVec 32 := Scalar.andi v7445 c65535_i32_2881
  let c2048_i32_2882 : BitVec 32 := 2048#32
  let v7447 : BitVec 32 := Scalar.select v7443 v7446 c2048_i32_2882
  let v7448 : BitVec 32 := Scalar.addi v1470 v7447
  let v7451 : Index := Scalar.indexCast v7448
  let c0_2884 : Index := 0#32
  ![v7451.toNat, 0]

def k0_chk946 (i : grid0.Coords) (v7340 : BitVec 32) (v7343 : BitVec 32) (v7445 : BitVec 32) : Prop :=
  (∀ a, (k0_off1894 i v7340 v7343 v7445) a + S1x128.size a ≤ S8224x128.size a)
theorem k0_off1894_inb : ∀ (i : grid0.Coords) (v7340 : BitVec 32) (v7343 : BitVec 32) (v7445 : BitVec 32) (k0_hw946 : k0_chk946 i v7340 v7343 v7445), ∀ a, (k0_off1894 i v7340 v7343 v7445) a + S1x128.size a ≤ S8224x128.size a := fun i v7340 v7343 v7445 k0_hw946 => k0_hw946

def k0_off1895 (v7340 : BitVec 32) : Fin 1 → Nat :=
  let c7_i32_2885 : BitVec 32 := 7#32
  let v7456 : BitVec 32 := Scalar.addi v7340 c7_i32_2885
  let v7459 : Index := Scalar.indexCast v7456
  ![v7459.toNat]
def k0_off1896 (i : grid0.Coords) (v7340 : BitVec 32) (v7343 : BitVec 32) (v7460 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_2886 : BitVec 32 := 7#32
  let v7457 : BitVec 32 := Scalar.addi v7340 c7_i32_2886
  let v7458 : BitVec 1 := Scalar.cmpi .slt v7457 v7343
  let c65535_i32_2887 : BitVec 32 := 65535#32
  let v7461 : BitVec 32 := Scalar.andi v7460 c65535_i32_2887
  let c2048_i32_2888 : BitVec 32 := 2048#32
  let v7462 : BitVec 32 := Scalar.select v7458 v7461 c2048_i32_2888
  let v7463 : BitVec 32 := Scalar.addi v1470 v7462
  let v7466 : Index := Scalar.indexCast v7463
  let c0_2890 : Index := 0#32
  ![v7466.toNat, 0]

def k0_chk947 (i : grid0.Coords) (v7340 : BitVec 32) (v7343 : BitVec 32) (v7460 : BitVec 32) : Prop :=
  (∀ a, (k0_off1896 i v7340 v7343 v7460) a + S1x128.size a ≤ S8224x128.size a)
theorem k0_off1896_inb : ∀ (i : grid0.Coords) (v7340 : BitVec 32) (v7343 : BitVec 32) (v7460 : BitVec 32) (k0_hw947 : k0_chk947 i v7340 v7343 v7460), ∀ a, (k0_off1896 i v7340 v7343 v7460) a + S1x128.size a ≤ S8224x128.size a := fun i v7340 v7343 v7460 k0_hw947 => k0_hw947

def k0_off1897 (v7340 : BitVec 32) : Fin 1 → Nat :=
  let c8_i32_2891 : BitVec 32 := 8#32
  let v7471 : BitVec 32 := Scalar.addi v7340 c8_i32_2891
  let v7474 : Index := Scalar.indexCast v7471
  ![v7474.toNat]
def k0_off1898 (i : grid0.Coords) (v7340 : BitVec 32) (v7343 : BitVec 32) (v7475 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_2892 : BitVec 32 := 8#32
  let v7472 : BitVec 32 := Scalar.addi v7340 c8_i32_2892
  let v7473 : BitVec 1 := Scalar.cmpi .slt v7472 v7343
  let c65535_i32_2893 : BitVec 32 := 65535#32
  let v7476 : BitVec 32 := Scalar.andi v7475 c65535_i32_2893
  let c2048_i32_2894 : BitVec 32 := 2048#32
  let v7477 : BitVec 32 := Scalar.select v7473 v7476 c2048_i32_2894
  let v7478 : BitVec 32 := Scalar.addi v1470 v7477
  let v7481 : Index := Scalar.indexCast v7478
  let c0_2896 : Index := 0#32
  ![v7481.toNat, 0]

def k0_chk948 (i : grid0.Coords) (v7340 : BitVec 32) (v7343 : BitVec 32) (v7475 : BitVec 32) : Prop :=
  (∀ a, (k0_off1898 i v7340 v7343 v7475) a + S1x128.size a ≤ S8224x128.size a)
theorem k0_off1898_inb : ∀ (i : grid0.Coords) (v7340 : BitVec 32) (v7343 : BitVec 32) (v7475 : BitVec 32) (k0_hw948 : k0_chk948 i v7340 v7343 v7475), ∀ a, (k0_off1898 i v7340 v7343 v7475) a + S1x128.size a ≤ S8224x128.size a := fun i v7340 v7343 v7475 k0_hw948 => k0_hw948

def k0_off1899 (v7340 : BitVec 32) : Fin 1 → Nat :=
  let c9_i32_2897 : BitVec 32 := 9#32
  let v7486 : BitVec 32 := Scalar.addi v7340 c9_i32_2897
  let v7489 : Index := Scalar.indexCast v7486
  ![v7489.toNat]
def k0_off1900 (i : grid0.Coords) (v7340 : BitVec 32) (v7343 : BitVec 32) (v7490 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_2898 : BitVec 32 := 9#32
  let v7487 : BitVec 32 := Scalar.addi v7340 c9_i32_2898
  let v7488 : BitVec 1 := Scalar.cmpi .slt v7487 v7343
  let c65535_i32_2899 : BitVec 32 := 65535#32
  let v7491 : BitVec 32 := Scalar.andi v7490 c65535_i32_2899
  let c2048_i32_2900 : BitVec 32 := 2048#32
  let v7492 : BitVec 32 := Scalar.select v7488 v7491 c2048_i32_2900
  let v7493 : BitVec 32 := Scalar.addi v1470 v7492
  let v7496 : Index := Scalar.indexCast v7493
  let c0_2902 : Index := 0#32
  ![v7496.toNat, 0]

def k0_chk949 (i : grid0.Coords) (v7340 : BitVec 32) (v7343 : BitVec 32) (v7490 : BitVec 32) : Prop :=
  (∀ a, (k0_off1900 i v7340 v7343 v7490) a + S1x128.size a ≤ S8224x128.size a)
theorem k0_off1900_inb : ∀ (i : grid0.Coords) (v7340 : BitVec 32) (v7343 : BitVec 32) (v7490 : BitVec 32) (k0_hw949 : k0_chk949 i v7340 v7343 v7490), ∀ a, (k0_off1900 i v7340 v7343 v7490) a + S1x128.size a ≤ S8224x128.size a := fun i v7340 v7343 v7490 k0_hw949 => k0_hw949

def k0_off1901 (v7340 : BitVec 32) : Fin 1 → Nat :=
  let c10_i32_2903 : BitVec 32 := 10#32
  let v7501 : BitVec 32 := Scalar.addi v7340 c10_i32_2903
  let v7504 : Index := Scalar.indexCast v7501
  ![v7504.toNat]
def k0_off1902 (i : grid0.Coords) (v7340 : BitVec 32) (v7343 : BitVec 32) (v7505 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_2904 : BitVec 32 := 10#32
  let v7502 : BitVec 32 := Scalar.addi v7340 c10_i32_2904
  let v7503 : BitVec 1 := Scalar.cmpi .slt v7502 v7343
  let c65535_i32_2905 : BitVec 32 := 65535#32
  let v7506 : BitVec 32 := Scalar.andi v7505 c65535_i32_2905
  let c2048_i32_2906 : BitVec 32 := 2048#32
  let v7507 : BitVec 32 := Scalar.select v7503 v7506 c2048_i32_2906
  let v7508 : BitVec 32 := Scalar.addi v1470 v7507
  let v7511 : Index := Scalar.indexCast v7508
  let c0_2908 : Index := 0#32
  ![v7511.toNat, 0]

def k0_chk950 (i : grid0.Coords) (v7340 : BitVec 32) (v7343 : BitVec 32) (v7505 : BitVec 32) : Prop :=
  (∀ a, (k0_off1902 i v7340 v7343 v7505) a + S1x128.size a ≤ S8224x128.size a)
theorem k0_off1902_inb : ∀ (i : grid0.Coords) (v7340 : BitVec 32) (v7343 : BitVec 32) (v7505 : BitVec 32) (k0_hw950 : k0_chk950 i v7340 v7343 v7505), ∀ a, (k0_off1902 i v7340 v7343 v7505) a + S1x128.size a ≤ S8224x128.size a := fun i v7340 v7343 v7505 k0_hw950 => k0_hw950

def k0_off1903 (v7340 : BitVec 32) : Fin 1 → Nat :=
  let c11_i32_2909 : BitVec 32 := 11#32
  let v7516 : BitVec 32 := Scalar.addi v7340 c11_i32_2909
  let v7519 : Index := Scalar.indexCast v7516
  ![v7519.toNat]
def k0_off1904 (i : grid0.Coords) (v7340 : BitVec 32) (v7343 : BitVec 32) (v7520 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_2910 : BitVec 32 := 11#32
  let v7517 : BitVec 32 := Scalar.addi v7340 c11_i32_2910
  let v7518 : BitVec 1 := Scalar.cmpi .slt v7517 v7343
  let c65535_i32_2911 : BitVec 32 := 65535#32
  let v7521 : BitVec 32 := Scalar.andi v7520 c65535_i32_2911
  let c2048_i32_2912 : BitVec 32 := 2048#32
  let v7522 : BitVec 32 := Scalar.select v7518 v7521 c2048_i32_2912
  let v7523 : BitVec 32 := Scalar.addi v1470 v7522
  let v7526 : Index := Scalar.indexCast v7523
  let c0_2914 : Index := 0#32
  ![v7526.toNat, 0]

def k0_chk951 (i : grid0.Coords) (v7340 : BitVec 32) (v7343 : BitVec 32) (v7520 : BitVec 32) : Prop :=
  (∀ a, (k0_off1904 i v7340 v7343 v7520) a + S1x128.size a ≤ S8224x128.size a)
theorem k0_off1904_inb : ∀ (i : grid0.Coords) (v7340 : BitVec 32) (v7343 : BitVec 32) (v7520 : BitVec 32) (k0_hw951 : k0_chk951 i v7340 v7343 v7520), ∀ a, (k0_off1904 i v7340 v7343 v7520) a + S1x128.size a ≤ S8224x128.size a := fun i v7340 v7343 v7520 k0_hw951 => k0_hw951

def k0_off1905 (v7340 : BitVec 32) : Fin 1 → Nat :=
  let c12_i32_2915 : BitVec 32 := 12#32
  let v7531 : BitVec 32 := Scalar.addi v7340 c12_i32_2915
  let v7534 : Index := Scalar.indexCast v7531
  ![v7534.toNat]
def k0_off1906 (i : grid0.Coords) (v7340 : BitVec 32) (v7343 : BitVec 32) (v7535 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_2916 : BitVec 32 := 12#32
  let v7532 : BitVec 32 := Scalar.addi v7340 c12_i32_2916
  let v7533 : BitVec 1 := Scalar.cmpi .slt v7532 v7343
  let c65535_i32_2917 : BitVec 32 := 65535#32
  let v7536 : BitVec 32 := Scalar.andi v7535 c65535_i32_2917
  let c2048_i32_2918 : BitVec 32 := 2048#32
  let v7537 : BitVec 32 := Scalar.select v7533 v7536 c2048_i32_2918
  let v7538 : BitVec 32 := Scalar.addi v1470 v7537
  let v7541 : Index := Scalar.indexCast v7538
  let c0_2920 : Index := 0#32
  ![v7541.toNat, 0]

def k0_chk952 (i : grid0.Coords) (v7340 : BitVec 32) (v7343 : BitVec 32) (v7535 : BitVec 32) : Prop :=
  (∀ a, (k0_off1906 i v7340 v7343 v7535) a + S1x128.size a ≤ S8224x128.size a)
theorem k0_off1906_inb : ∀ (i : grid0.Coords) (v7340 : BitVec 32) (v7343 : BitVec 32) (v7535 : BitVec 32) (k0_hw952 : k0_chk952 i v7340 v7343 v7535), ∀ a, (k0_off1906 i v7340 v7343 v7535) a + S1x128.size a ≤ S8224x128.size a := fun i v7340 v7343 v7535 k0_hw952 => k0_hw952

def k0_off1907 (v7340 : BitVec 32) : Fin 1 → Nat :=
  let c13_i32_2921 : BitVec 32 := 13#32
  let v7546 : BitVec 32 := Scalar.addi v7340 c13_i32_2921
  let v7549 : Index := Scalar.indexCast v7546
  ![v7549.toNat]
def k0_off1908 (i : grid0.Coords) (v7340 : BitVec 32) (v7343 : BitVec 32) (v7550 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_2922 : BitVec 32 := 13#32
  let v7547 : BitVec 32 := Scalar.addi v7340 c13_i32_2922
  let v7548 : BitVec 1 := Scalar.cmpi .slt v7547 v7343
  let c65535_i32_2923 : BitVec 32 := 65535#32
  let v7551 : BitVec 32 := Scalar.andi v7550 c65535_i32_2923
  let c2048_i32_2924 : BitVec 32 := 2048#32
  let v7552 : BitVec 32 := Scalar.select v7548 v7551 c2048_i32_2924
  let v7553 : BitVec 32 := Scalar.addi v1470 v7552
  let v7556 : Index := Scalar.indexCast v7553
  let c0_2926 : Index := 0#32
  ![v7556.toNat, 0]

def k0_chk953 (i : grid0.Coords) (v7340 : BitVec 32) (v7343 : BitVec 32) (v7550 : BitVec 32) : Prop :=
  (∀ a, (k0_off1908 i v7340 v7343 v7550) a + S1x128.size a ≤ S8224x128.size a)
theorem k0_off1908_inb : ∀ (i : grid0.Coords) (v7340 : BitVec 32) (v7343 : BitVec 32) (v7550 : BitVec 32) (k0_hw953 : k0_chk953 i v7340 v7343 v7550), ∀ a, (k0_off1908 i v7340 v7343 v7550) a + S1x128.size a ≤ S8224x128.size a := fun i v7340 v7343 v7550 k0_hw953 => k0_hw953

def k0_off1909 (v7340 : BitVec 32) : Fin 1 → Nat :=
  let c14_i32_2927 : BitVec 32 := 14#32
  let v7561 : BitVec 32 := Scalar.addi v7340 c14_i32_2927
  let v7564 : Index := Scalar.indexCast v7561
  ![v7564.toNat]
def k0_off1910 (i : grid0.Coords) (v7340 : BitVec 32) (v7343 : BitVec 32) (v7565 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_2928 : BitVec 32 := 14#32
  let v7562 : BitVec 32 := Scalar.addi v7340 c14_i32_2928
  let v7563 : BitVec 1 := Scalar.cmpi .slt v7562 v7343
  let c65535_i32_2929 : BitVec 32 := 65535#32
  let v7566 : BitVec 32 := Scalar.andi v7565 c65535_i32_2929
  let c2048_i32_2930 : BitVec 32 := 2048#32
  let v7567 : BitVec 32 := Scalar.select v7563 v7566 c2048_i32_2930
  let v7568 : BitVec 32 := Scalar.addi v1470 v7567
  let v7571 : Index := Scalar.indexCast v7568
  let c0_2932 : Index := 0#32
  ![v7571.toNat, 0]

def k0_chk954 (i : grid0.Coords) (v7340 : BitVec 32) (v7343 : BitVec 32) (v7565 : BitVec 32) : Prop :=
  (∀ a, (k0_off1910 i v7340 v7343 v7565) a + S1x128.size a ≤ S8224x128.size a)
theorem k0_off1910_inb : ∀ (i : grid0.Coords) (v7340 : BitVec 32) (v7343 : BitVec 32) (v7565 : BitVec 32) (k0_hw954 : k0_chk954 i v7340 v7343 v7565), ∀ a, (k0_off1910 i v7340 v7343 v7565) a + S1x128.size a ≤ S8224x128.size a := fun i v7340 v7343 v7565 k0_hw954 => k0_hw954

def k0_off1911 (v7340 : BitVec 32) : Fin 1 → Nat :=
  let c15_i32_2933 : BitVec 32 := 15#32
  let v7576 : BitVec 32 := Scalar.addi v7340 c15_i32_2933
  let v7579 : Index := Scalar.indexCast v7576
  ![v7579.toNat]

def k0_chk939 (v7340 : BitVec 32) : Prop :=
  (∀ a, (k0_off1881 v7340) a + S1.size a ≤ S51920.size a) ∧
  (∀ a, (k0_off1883 v7340) a + S1.size a ≤ S51920.size a) ∧
  (∀ a, (k0_off1885 v7340) a + S1.size a ≤ S51920.size a) ∧
  (∀ a, (k0_off1887 v7340) a + S1.size a ≤ S51920.size a) ∧
  (∀ a, (k0_off1889 v7340) a + S1.size a ≤ S51920.size a) ∧
  (∀ a, (k0_off1891 v7340) a + S1.size a ≤ S51920.size a) ∧
  (∀ a, (k0_off1893 v7340) a + S1.size a ≤ S51920.size a) ∧
  (∀ a, (k0_off1895 v7340) a + S1.size a ≤ S51920.size a) ∧
  (∀ a, (k0_off1897 v7340) a + S1.size a ≤ S51920.size a) ∧
  (∀ a, (k0_off1899 v7340) a + S1.size a ≤ S51920.size a) ∧
  (∀ a, (k0_off1901 v7340) a + S1.size a ≤ S51920.size a) ∧
  (∀ a, (k0_off1903 v7340) a + S1.size a ≤ S51920.size a) ∧
  (∀ a, (k0_off1905 v7340) a + S1.size a ≤ S51920.size a) ∧
  (∀ a, (k0_off1907 v7340) a + S1.size a ≤ S51920.size a) ∧
  (∀ a, (k0_off1909 v7340) a + S1.size a ≤ S51920.size a) ∧
  (∀ a, (k0_off1911 v7340) a + S1.size a ≤ S51920.size a)
theorem k0_off1881_inb : ∀ (v7340 : BitVec 32) (k0_hw939 : k0_chk939 v7340), ∀ a, (k0_off1881 v7340) a + S1.size a ≤ S51920.size a := fun v7340 k0_hw939 => k0_hw939.1
theorem k0_off1883_inb : ∀ (v7340 : BitVec 32) (k0_hw939 : k0_chk939 v7340), ∀ a, (k0_off1883 v7340) a + S1.size a ≤ S51920.size a := fun v7340 k0_hw939 => k0_hw939.2.1
theorem k0_off1885_inb : ∀ (v7340 : BitVec 32) (k0_hw939 : k0_chk939 v7340), ∀ a, (k0_off1885 v7340) a + S1.size a ≤ S51920.size a := fun v7340 k0_hw939 => k0_hw939.2.2.1
theorem k0_off1887_inb : ∀ (v7340 : BitVec 32) (k0_hw939 : k0_chk939 v7340), ∀ a, (k0_off1887 v7340) a + S1.size a ≤ S51920.size a := fun v7340 k0_hw939 => k0_hw939.2.2.2.1
theorem k0_off1889_inb : ∀ (v7340 : BitVec 32) (k0_hw939 : k0_chk939 v7340), ∀ a, (k0_off1889 v7340) a + S1.size a ≤ S51920.size a := fun v7340 k0_hw939 => k0_hw939.2.2.2.2.1
theorem k0_off1891_inb : ∀ (v7340 : BitVec 32) (k0_hw939 : k0_chk939 v7340), ∀ a, (k0_off1891 v7340) a + S1.size a ≤ S51920.size a := fun v7340 k0_hw939 => k0_hw939.2.2.2.2.2.1
theorem k0_off1893_inb : ∀ (v7340 : BitVec 32) (k0_hw939 : k0_chk939 v7340), ∀ a, (k0_off1893 v7340) a + S1.size a ≤ S51920.size a := fun v7340 k0_hw939 => k0_hw939.2.2.2.2.2.2.1
theorem k0_off1895_inb : ∀ (v7340 : BitVec 32) (k0_hw939 : k0_chk939 v7340), ∀ a, (k0_off1895 v7340) a + S1.size a ≤ S51920.size a := fun v7340 k0_hw939 => k0_hw939.2.2.2.2.2.2.2.1
theorem k0_off1897_inb : ∀ (v7340 : BitVec 32) (k0_hw939 : k0_chk939 v7340), ∀ a, (k0_off1897 v7340) a + S1.size a ≤ S51920.size a := fun v7340 k0_hw939 => k0_hw939.2.2.2.2.2.2.2.2.1
theorem k0_off1899_inb : ∀ (v7340 : BitVec 32) (k0_hw939 : k0_chk939 v7340), ∀ a, (k0_off1899 v7340) a + S1.size a ≤ S51920.size a := fun v7340 k0_hw939 => k0_hw939.2.2.2.2.2.2.2.2.2.1
theorem k0_off1901_inb : ∀ (v7340 : BitVec 32) (k0_hw939 : k0_chk939 v7340), ∀ a, (k0_off1901 v7340) a + S1.size a ≤ S51920.size a := fun v7340 k0_hw939 => k0_hw939.2.2.2.2.2.2.2.2.2.2.1
theorem k0_off1903_inb : ∀ (v7340 : BitVec 32) (k0_hw939 : k0_chk939 v7340), ∀ a, (k0_off1903 v7340) a + S1.size a ≤ S51920.size a := fun v7340 k0_hw939 => k0_hw939.2.2.2.2.2.2.2.2.2.2.2.1
theorem k0_off1905_inb : ∀ (v7340 : BitVec 32) (k0_hw939 : k0_chk939 v7340), ∀ a, (k0_off1905 v7340) a + S1.size a ≤ S51920.size a := fun v7340 k0_hw939 => k0_hw939.2.2.2.2.2.2.2.2.2.2.2.2.1
theorem k0_off1907_inb : ∀ (v7340 : BitVec 32) (k0_hw939 : k0_chk939 v7340), ∀ a, (k0_off1907 v7340) a + S1.size a ≤ S51920.size a := fun v7340 k0_hw939 => k0_hw939.2.2.2.2.2.2.2.2.2.2.2.2.2.1
theorem k0_off1909_inb : ∀ (v7340 : BitVec 32) (k0_hw939 : k0_chk939 v7340), ∀ a, (k0_off1909 v7340) a + S1.size a ≤ S51920.size a := fun v7340 k0_hw939 => k0_hw939.2.2.2.2.2.2.2.2.2.2.2.2.2.2.1
theorem k0_off1911_inb : ∀ (v7340 : BitVec 32) (k0_hw939 : k0_chk939 v7340), ∀ a, (k0_off1911 v7340) a + S1.size a ≤ S51920.size a := fun v7340 k0_hw939 => k0_hw939.2.2.2.2.2.2.2.2.2.2.2.2.2.2.2

def k0_off1912 (i : grid0.Coords) (v7340 : BitVec 32) (v7343 : BitVec 32) (v7580 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_2934 : BitVec 32 := 15#32
  let v7577 : BitVec 32 := Scalar.addi v7340 c15_i32_2934
  let v7578 : BitVec 1 := Scalar.cmpi .slt v7577 v7343
  let c65535_i32_2935 : BitVec 32 := 65535#32
  let v7581 : BitVec 32 := Scalar.andi v7580 c65535_i32_2935
  let c2048_i32_2936 : BitVec 32 := 2048#32
  let v7582 : BitVec 32 := Scalar.select v7578 v7581 c2048_i32_2936
  let v7583 : BitVec 32 := Scalar.addi v1470 v7582
  let v7586 : Index := Scalar.indexCast v7583
  let c0_2938 : Index := 0#32
  ![v7586.toNat, 0]

def k0_chk955 (i : grid0.Coords) (v7340 : BitVec 32) (v7343 : BitVec 32) (v7580 : BitVec 32) : Prop :=
  (∀ a, (k0_off1912 i v7340 v7343 v7580) a + S1x128.size a ≤ S8224x128.size a)
theorem k0_off1912_inb : ∀ (i : grid0.Coords) (v7340 : BitVec 32) (v7343 : BitVec 32) (v7580 : BitVec 32) (k0_hw955 : k0_chk955 i v7340 v7343 v7580), ∀ a, (k0_off1912 i v7340 v7343 v7580) a + S1x128.size a ≤ S8224x128.size a := fun i v7340 v7343 v7580 k0_hw955 => k0_hw955

def k0_off1913 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2939 : BitVec 32 := 512#32
  let v7591 : BitVec 32 := Scalar.muli v24 c512_i32_2939
  let arg1 : BitVec 32 := BitVec.ofNat 32 (i 1).val
  let c32_i32 : BitVec 32 := 32#32
  let v1452 : BitVec 32 := Scalar.muli arg1 c32_i32
  let v7592 : BitVec 32 := Scalar.addi v7591 v1452
  let c24_i32 : BitVec 32 := 24#32
  let v7593 : BitVec 32 := Scalar.addi v7592 c24_i32
  let v7594 : Index := Scalar.indexCast v7593
  ![v7594.toNat]
def k0_off1914 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_2939 : BitVec 32 := 512#32
  let v7591 : BitVec 32 := Scalar.muli v24 c512_i32_2939
  let arg1 : BitVec 32 := BitVec.ofNat 32 (i 1).val
  let c32_i32 : BitVec 32 := 32#32
  let v1452 : BitVec 32 := Scalar.muli arg1 c32_i32
  let v7592 : BitVec 32 := Scalar.addi v7591 v1452
  let c24_i32 : BitVec 32 := 24#32
  let v7593 : BitVec 32 := Scalar.addi v7592 c24_i32
  let c1_i32_2940 : BitVec 32 := 1#32
  let v7596 : BitVec 32 := Scalar.addi v7593 c1_i32_2940
  let v7597 : Index := Scalar.indexCast v7596
  ![v7597.toNat]
def k0_off1915 (v7595 : BitVec 32) : Fin 1 → Nat :=
  let c0_i32_2943 : BitVec 32 := 0#32
  let v7606 : BitVec 32 := Scalar.addi v7595 c0_i32_2943
  let v7609 : Index := Scalar.indexCast v7606
  ![v7609.toNat]

def k0_off1916 (i : grid0.Coords) (v7595 : BitVec 32) (v7598 : BitVec 32) (v7610 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_2944 : BitVec 32 := 0#32
  let v7607 : BitVec 32 := Scalar.addi v7595 c0_i32_2944
  let v7608 : BitVec 1 := Scalar.cmpi .slt v7607 v7598
  let c65535_i32_2945 : BitVec 32 := 65535#32
  let v7611 : BitVec 32 := Scalar.andi v7610 c65535_i32_2945
  let c2048_i32_2946 : BitVec 32 := 2048#32
  let v7612 : BitVec 32 := Scalar.select v7608 v7611 c2048_i32_2946
  let v7613 : BitVec 32 := Scalar.addi v1470 v7612
  let v7616 : Index := Scalar.indexCast v7613
  let c0_2948 : Index := 0#32
  ![v7616.toNat, 0]

def k0_chk957 (i : grid0.Coords) (v7595 : BitVec 32) (v7598 : BitVec 32) (v7610 : BitVec 32) : Prop :=
  (∀ a, (k0_off1916 i v7595 v7598 v7610) a + S1x128.size a ≤ S8224x128.size a)
theorem k0_off1916_inb : ∀ (i : grid0.Coords) (v7595 : BitVec 32) (v7598 : BitVec 32) (v7610 : BitVec 32) (k0_hw957 : k0_chk957 i v7595 v7598 v7610), ∀ a, (k0_off1916 i v7595 v7598 v7610) a + S1x128.size a ≤ S8224x128.size a := fun i v7595 v7598 v7610 k0_hw957 => k0_hw957

def k0_off1917 (v7595 : BitVec 32) : Fin 1 → Nat :=
  let c1_i32_2949 : BitVec 32 := 1#32
  let v7621 : BitVec 32 := Scalar.addi v7595 c1_i32_2949
  let v7624 : Index := Scalar.indexCast v7621
  ![v7624.toNat]
def k0_off1918 (i : grid0.Coords) (v7595 : BitVec 32) (v7598 : BitVec 32) (v7625 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_2950 : BitVec 32 := 1#32
  let v7622 : BitVec 32 := Scalar.addi v7595 c1_i32_2950
  let v7623 : BitVec 1 := Scalar.cmpi .slt v7622 v7598
  let c65535_i32_2951 : BitVec 32 := 65535#32
  let v7626 : BitVec 32 := Scalar.andi v7625 c65535_i32_2951
  let c2048_i32_2952 : BitVec 32 := 2048#32
  let v7627 : BitVec 32 := Scalar.select v7623 v7626 c2048_i32_2952
  let v7628 : BitVec 32 := Scalar.addi v1470 v7627
  let v7631 : Index := Scalar.indexCast v7628
  let c0_2954 : Index := 0#32
  ![v7631.toNat, 0]

def k0_chk958 (i : grid0.Coords) (v7595 : BitVec 32) (v7598 : BitVec 32) (v7625 : BitVec 32) : Prop :=
  (∀ a, (k0_off1918 i v7595 v7598 v7625) a + S1x128.size a ≤ S8224x128.size a)
theorem k0_off1918_inb : ∀ (i : grid0.Coords) (v7595 : BitVec 32) (v7598 : BitVec 32) (v7625 : BitVec 32) (k0_hw958 : k0_chk958 i v7595 v7598 v7625), ∀ a, (k0_off1918 i v7595 v7598 v7625) a + S1x128.size a ≤ S8224x128.size a := fun i v7595 v7598 v7625 k0_hw958 => k0_hw958

def k0_off1919 (v7595 : BitVec 32) : Fin 1 → Nat :=
  let c2_i32_2955 : BitVec 32 := 2#32
  let v7636 : BitVec 32 := Scalar.addi v7595 c2_i32_2955
  let v7639 : Index := Scalar.indexCast v7636
  ![v7639.toNat]
def k0_off1920 (i : grid0.Coords) (v7595 : BitVec 32) (v7598 : BitVec 32) (v7640 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_2956 : BitVec 32 := 2#32
  let v7637 : BitVec 32 := Scalar.addi v7595 c2_i32_2956
  let v7638 : BitVec 1 := Scalar.cmpi .slt v7637 v7598
  let c65535_i32_2957 : BitVec 32 := 65535#32
  let v7641 : BitVec 32 := Scalar.andi v7640 c65535_i32_2957
  let c2048_i32_2958 : BitVec 32 := 2048#32
  let v7642 : BitVec 32 := Scalar.select v7638 v7641 c2048_i32_2958
  let v7643 : BitVec 32 := Scalar.addi v1470 v7642
  let v7646 : Index := Scalar.indexCast v7643
  let c0_2960 : Index := 0#32
  ![v7646.toNat, 0]

def k0_chk959 (i : grid0.Coords) (v7595 : BitVec 32) (v7598 : BitVec 32) (v7640 : BitVec 32) : Prop :=
  (∀ a, (k0_off1920 i v7595 v7598 v7640) a + S1x128.size a ≤ S8224x128.size a)
theorem k0_off1920_inb : ∀ (i : grid0.Coords) (v7595 : BitVec 32) (v7598 : BitVec 32) (v7640 : BitVec 32) (k0_hw959 : k0_chk959 i v7595 v7598 v7640), ∀ a, (k0_off1920 i v7595 v7598 v7640) a + S1x128.size a ≤ S8224x128.size a := fun i v7595 v7598 v7640 k0_hw959 => k0_hw959

def k0_off1921 (v7595 : BitVec 32) : Fin 1 → Nat :=
  let c3_i32_2961 : BitVec 32 := 3#32
  let v7651 : BitVec 32 := Scalar.addi v7595 c3_i32_2961
  let v7654 : Index := Scalar.indexCast v7651
  ![v7654.toNat]
def k0_off1922 (i : grid0.Coords) (v7595 : BitVec 32) (v7598 : BitVec 32) (v7655 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_2962 : BitVec 32 := 3#32
  let v7652 : BitVec 32 := Scalar.addi v7595 c3_i32_2962
  let v7653 : BitVec 1 := Scalar.cmpi .slt v7652 v7598
  let c65535_i32_2963 : BitVec 32 := 65535#32
  let v7656 : BitVec 32 := Scalar.andi v7655 c65535_i32_2963
  let c2048_i32_2964 : BitVec 32 := 2048#32
  let v7657 : BitVec 32 := Scalar.select v7653 v7656 c2048_i32_2964
  let v7658 : BitVec 32 := Scalar.addi v1470 v7657
  let v7661 : Index := Scalar.indexCast v7658
  let c0_2966 : Index := 0#32
  ![v7661.toNat, 0]

def k0_chk960 (i : grid0.Coords) (v7595 : BitVec 32) (v7598 : BitVec 32) (v7655 : BitVec 32) : Prop :=
  (∀ a, (k0_off1922 i v7595 v7598 v7655) a + S1x128.size a ≤ S8224x128.size a)
theorem k0_off1922_inb : ∀ (i : grid0.Coords) (v7595 : BitVec 32) (v7598 : BitVec 32) (v7655 : BitVec 32) (k0_hw960 : k0_chk960 i v7595 v7598 v7655), ∀ a, (k0_off1922 i v7595 v7598 v7655) a + S1x128.size a ≤ S8224x128.size a := fun i v7595 v7598 v7655 k0_hw960 => k0_hw960

def k0_off1923 (v7595 : BitVec 32) : Fin 1 → Nat :=
  let c4_i32_2967 : BitVec 32 := 4#32
  let v7666 : BitVec 32 := Scalar.addi v7595 c4_i32_2967
  let v7669 : Index := Scalar.indexCast v7666
  ![v7669.toNat]
def k0_off1924 (i : grid0.Coords) (v7595 : BitVec 32) (v7598 : BitVec 32) (v7670 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_2968 : BitVec 32 := 4#32
  let v7667 : BitVec 32 := Scalar.addi v7595 c4_i32_2968
  let v7668 : BitVec 1 := Scalar.cmpi .slt v7667 v7598
  let c65535_i32_2969 : BitVec 32 := 65535#32
  let v7671 : BitVec 32 := Scalar.andi v7670 c65535_i32_2969
  let c2048_i32_2970 : BitVec 32 := 2048#32
  let v7672 : BitVec 32 := Scalar.select v7668 v7671 c2048_i32_2970
  let v7673 : BitVec 32 := Scalar.addi v1470 v7672
  let v7676 : Index := Scalar.indexCast v7673
  let c0_2972 : Index := 0#32
  ![v7676.toNat, 0]

def k0_chk961 (i : grid0.Coords) (v7595 : BitVec 32) (v7598 : BitVec 32) (v7670 : BitVec 32) : Prop :=
  (∀ a, (k0_off1924 i v7595 v7598 v7670) a + S1x128.size a ≤ S8224x128.size a)
theorem k0_off1924_inb : ∀ (i : grid0.Coords) (v7595 : BitVec 32) (v7598 : BitVec 32) (v7670 : BitVec 32) (k0_hw961 : k0_chk961 i v7595 v7598 v7670), ∀ a, (k0_off1924 i v7595 v7598 v7670) a + S1x128.size a ≤ S8224x128.size a := fun i v7595 v7598 v7670 k0_hw961 => k0_hw961

def k0_off1925 (v7595 : BitVec 32) : Fin 1 → Nat :=
  let c5_i32_2973 : BitVec 32 := 5#32
  let v7681 : BitVec 32 := Scalar.addi v7595 c5_i32_2973
  let v7684 : Index := Scalar.indexCast v7681
  ![v7684.toNat]
def k0_off1926 (i : grid0.Coords) (v7595 : BitVec 32) (v7598 : BitVec 32) (v7685 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_2974 : BitVec 32 := 5#32
  let v7682 : BitVec 32 := Scalar.addi v7595 c5_i32_2974
  let v7683 : BitVec 1 := Scalar.cmpi .slt v7682 v7598
  let c65535_i32_2975 : BitVec 32 := 65535#32
  let v7686 : BitVec 32 := Scalar.andi v7685 c65535_i32_2975
  let c2048_i32_2976 : BitVec 32 := 2048#32
  let v7687 : BitVec 32 := Scalar.select v7683 v7686 c2048_i32_2976
  let v7688 : BitVec 32 := Scalar.addi v1470 v7687
  let v7691 : Index := Scalar.indexCast v7688
  let c0_2978 : Index := 0#32
  ![v7691.toNat, 0]

def k0_chk962 (i : grid0.Coords) (v7595 : BitVec 32) (v7598 : BitVec 32) (v7685 : BitVec 32) : Prop :=
  (∀ a, (k0_off1926 i v7595 v7598 v7685) a + S1x128.size a ≤ S8224x128.size a)
theorem k0_off1926_inb : ∀ (i : grid0.Coords) (v7595 : BitVec 32) (v7598 : BitVec 32) (v7685 : BitVec 32) (k0_hw962 : k0_chk962 i v7595 v7598 v7685), ∀ a, (k0_off1926 i v7595 v7598 v7685) a + S1x128.size a ≤ S8224x128.size a := fun i v7595 v7598 v7685 k0_hw962 => k0_hw962

def k0_off1927 (v7595 : BitVec 32) : Fin 1 → Nat :=
  let c6_i32_2979 : BitVec 32 := 6#32
  let v7696 : BitVec 32 := Scalar.addi v7595 c6_i32_2979
  let v7699 : Index := Scalar.indexCast v7696
  ![v7699.toNat]
def k0_off1928 (i : grid0.Coords) (v7595 : BitVec 32) (v7598 : BitVec 32) (v7700 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_2980 : BitVec 32 := 6#32
  let v7697 : BitVec 32 := Scalar.addi v7595 c6_i32_2980
  let v7698 : BitVec 1 := Scalar.cmpi .slt v7697 v7598
  let c65535_i32_2981 : BitVec 32 := 65535#32
  let v7701 : BitVec 32 := Scalar.andi v7700 c65535_i32_2981
  let c2048_i32_2982 : BitVec 32 := 2048#32
  let v7702 : BitVec 32 := Scalar.select v7698 v7701 c2048_i32_2982
  let v7703 : BitVec 32 := Scalar.addi v1470 v7702
  let v7706 : Index := Scalar.indexCast v7703
  let c0_2984 : Index := 0#32
  ![v7706.toNat, 0]

def k0_chk963 (i : grid0.Coords) (v7595 : BitVec 32) (v7598 : BitVec 32) (v7700 : BitVec 32) : Prop :=
  (∀ a, (k0_off1928 i v7595 v7598 v7700) a + S1x128.size a ≤ S8224x128.size a)
theorem k0_off1928_inb : ∀ (i : grid0.Coords) (v7595 : BitVec 32) (v7598 : BitVec 32) (v7700 : BitVec 32) (k0_hw963 : k0_chk963 i v7595 v7598 v7700), ∀ a, (k0_off1928 i v7595 v7598 v7700) a + S1x128.size a ≤ S8224x128.size a := fun i v7595 v7598 v7700 k0_hw963 => k0_hw963

def k0_off1929 (v7595 : BitVec 32) : Fin 1 → Nat :=
  let c7_i32_2985 : BitVec 32 := 7#32
  let v7711 : BitVec 32 := Scalar.addi v7595 c7_i32_2985
  let v7714 : Index := Scalar.indexCast v7711
  ![v7714.toNat]
def k0_off1930 (i : grid0.Coords) (v7595 : BitVec 32) (v7598 : BitVec 32) (v7715 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_2986 : BitVec 32 := 7#32
  let v7712 : BitVec 32 := Scalar.addi v7595 c7_i32_2986
  let v7713 : BitVec 1 := Scalar.cmpi .slt v7712 v7598
  let c65535_i32_2987 : BitVec 32 := 65535#32
  let v7716 : BitVec 32 := Scalar.andi v7715 c65535_i32_2987
  let c2048_i32_2988 : BitVec 32 := 2048#32
  let v7717 : BitVec 32 := Scalar.select v7713 v7716 c2048_i32_2988
  let v7718 : BitVec 32 := Scalar.addi v1470 v7717
  let v7721 : Index := Scalar.indexCast v7718
  let c0_2990 : Index := 0#32
  ![v7721.toNat, 0]

def k0_chk964 (i : grid0.Coords) (v7595 : BitVec 32) (v7598 : BitVec 32) (v7715 : BitVec 32) : Prop :=
  (∀ a, (k0_off1930 i v7595 v7598 v7715) a + S1x128.size a ≤ S8224x128.size a)
theorem k0_off1930_inb : ∀ (i : grid0.Coords) (v7595 : BitVec 32) (v7598 : BitVec 32) (v7715 : BitVec 32) (k0_hw964 : k0_chk964 i v7595 v7598 v7715), ∀ a, (k0_off1930 i v7595 v7598 v7715) a + S1x128.size a ≤ S8224x128.size a := fun i v7595 v7598 v7715 k0_hw964 => k0_hw964

def k0_off1931 (v7595 : BitVec 32) : Fin 1 → Nat :=
  let c8_i32_2991 : BitVec 32 := 8#32
  let v7726 : BitVec 32 := Scalar.addi v7595 c8_i32_2991
  let v7729 : Index := Scalar.indexCast v7726
  ![v7729.toNat]
def k0_off1932 (i : grid0.Coords) (v7595 : BitVec 32) (v7598 : BitVec 32) (v7730 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_2992 : BitVec 32 := 8#32
  let v7727 : BitVec 32 := Scalar.addi v7595 c8_i32_2992
  let v7728 : BitVec 1 := Scalar.cmpi .slt v7727 v7598
  let c65535_i32_2993 : BitVec 32 := 65535#32
  let v7731 : BitVec 32 := Scalar.andi v7730 c65535_i32_2993
  let c2048_i32_2994 : BitVec 32 := 2048#32
  let v7732 : BitVec 32 := Scalar.select v7728 v7731 c2048_i32_2994
  let v7733 : BitVec 32 := Scalar.addi v1470 v7732
  let v7736 : Index := Scalar.indexCast v7733
  let c0_2996 : Index := 0#32
  ![v7736.toNat, 0]

def k0_chk965 (i : grid0.Coords) (v7595 : BitVec 32) (v7598 : BitVec 32) (v7730 : BitVec 32) : Prop :=
  (∀ a, (k0_off1932 i v7595 v7598 v7730) a + S1x128.size a ≤ S8224x128.size a)
theorem k0_off1932_inb : ∀ (i : grid0.Coords) (v7595 : BitVec 32) (v7598 : BitVec 32) (v7730 : BitVec 32) (k0_hw965 : k0_chk965 i v7595 v7598 v7730), ∀ a, (k0_off1932 i v7595 v7598 v7730) a + S1x128.size a ≤ S8224x128.size a := fun i v7595 v7598 v7730 k0_hw965 => k0_hw965

def k0_off1933 (v7595 : BitVec 32) : Fin 1 → Nat :=
  let c9_i32_2997 : BitVec 32 := 9#32
  let v7741 : BitVec 32 := Scalar.addi v7595 c9_i32_2997
  let v7744 : Index := Scalar.indexCast v7741
  ![v7744.toNat]
def k0_off1934 (i : grid0.Coords) (v7595 : BitVec 32) (v7598 : BitVec 32) (v7745 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_2998 : BitVec 32 := 9#32
  let v7742 : BitVec 32 := Scalar.addi v7595 c9_i32_2998
  let v7743 : BitVec 1 := Scalar.cmpi .slt v7742 v7598
  let c65535_i32_2999 : BitVec 32 := 65535#32
  let v7746 : BitVec 32 := Scalar.andi v7745 c65535_i32_2999
  let c2048_i32_3000 : BitVec 32 := 2048#32
  let v7747 : BitVec 32 := Scalar.select v7743 v7746 c2048_i32_3000
  let v7748 : BitVec 32 := Scalar.addi v1470 v7747
  let v7751 : Index := Scalar.indexCast v7748
  let c0_3002 : Index := 0#32
  ![v7751.toNat, 0]

variable {F : FTy → Type} [FloatOps F]

def k0_chk966 (i : grid0.Coords) (v7595 : BitVec 32) (v7598 : BitVec 32) (v7745 : BitVec 32) : Prop :=
  (∀ a, (k0_off1934 i v7595 v7598 v7745) a + S1x128.size a ≤ S8224x128.size a)
theorem k0_off1934_inb : ∀ (i : grid0.Coords) (v7595 : BitVec 32) (v7598 : BitVec 32) (v7745 : BitVec 32) (k0_hw966 : k0_chk966 i v7595 v7598 v7745), ∀ a, (k0_off1934 i v7595 v7598 v7745) a + S1x128.size a ≤ S8224x128.size a := fun i v7595 v7598 v7745 k0_hw966 => k0_hw966

def k0_off1935 (v7595 : BitVec 32) : Fin 1 → Nat :=
  let c10_i32_3003 : BitVec 32 := 10#32
  let v7756 : BitVec 32 := Scalar.addi v7595 c10_i32_3003
  let v7759 : Index := Scalar.indexCast v7756
  ![v7759.toNat]
def k0_off1936 (i : grid0.Coords) (v7595 : BitVec 32) (v7598 : BitVec 32) (v7760 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_3004 : BitVec 32 := 10#32
  let v7757 : BitVec 32 := Scalar.addi v7595 c10_i32_3004
  let v7758 : BitVec 1 := Scalar.cmpi .slt v7757 v7598
  let c65535_i32_3005 : BitVec 32 := 65535#32
  let v7761 : BitVec 32 := Scalar.andi v7760 c65535_i32_3005
  let c2048_i32_3006 : BitVec 32 := 2048#32
  let v7762 : BitVec 32 := Scalar.select v7758 v7761 c2048_i32_3006
  let v7763 : BitVec 32 := Scalar.addi v1470 v7762
  let v7766 : Index := Scalar.indexCast v7763
  let c0_3008 : Index := 0#32
  ![v7766.toNat, 0]

def k0_chk967 (i : grid0.Coords) (v7595 : BitVec 32) (v7598 : BitVec 32) (v7760 : BitVec 32) : Prop :=
  (∀ a, (k0_off1936 i v7595 v7598 v7760) a + S1x128.size a ≤ S8224x128.size a)
theorem k0_off1936_inb : ∀ (i : grid0.Coords) (v7595 : BitVec 32) (v7598 : BitVec 32) (v7760 : BitVec 32) (k0_hw967 : k0_chk967 i v7595 v7598 v7760), ∀ a, (k0_off1936 i v7595 v7598 v7760) a + S1x128.size a ≤ S8224x128.size a := fun i v7595 v7598 v7760 k0_hw967 => k0_hw967

def k0_off1937 (v7595 : BitVec 32) : Fin 1 → Nat :=
  let c11_i32_3009 : BitVec 32 := 11#32
  let v7771 : BitVec 32 := Scalar.addi v7595 c11_i32_3009
  let v7774 : Index := Scalar.indexCast v7771
  ![v7774.toNat]
def k0_off1938 (i : grid0.Coords) (v7595 : BitVec 32) (v7598 : BitVec 32) (v7775 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_3010 : BitVec 32 := 11#32
  let v7772 : BitVec 32 := Scalar.addi v7595 c11_i32_3010
  let v7773 : BitVec 1 := Scalar.cmpi .slt v7772 v7598
  let c65535_i32_3011 : BitVec 32 := 65535#32
  let v7776 : BitVec 32 := Scalar.andi v7775 c65535_i32_3011
  let c2048_i32_3012 : BitVec 32 := 2048#32
  let v7777 : BitVec 32 := Scalar.select v7773 v7776 c2048_i32_3012
  let v7778 : BitVec 32 := Scalar.addi v1470 v7777
  let v7781 : Index := Scalar.indexCast v7778
  let c0_3014 : Index := 0#32
  ![v7781.toNat, 0]

def k0_chk968 (i : grid0.Coords) (v7595 : BitVec 32) (v7598 : BitVec 32) (v7775 : BitVec 32) : Prop :=
  (∀ a, (k0_off1938 i v7595 v7598 v7775) a + S1x128.size a ≤ S8224x128.size a)
theorem k0_off1938_inb : ∀ (i : grid0.Coords) (v7595 : BitVec 32) (v7598 : BitVec 32) (v7775 : BitVec 32) (k0_hw968 : k0_chk968 i v7595 v7598 v7775), ∀ a, (k0_off1938 i v7595 v7598 v7775) a + S1x128.size a ≤ S8224x128.size a := fun i v7595 v7598 v7775 k0_hw968 => k0_hw968

def k0_off1939 (v7595 : BitVec 32) : Fin 1 → Nat :=
  let c12_i32_3015 : BitVec 32 := 12#32
  let v7786 : BitVec 32 := Scalar.addi v7595 c12_i32_3015
  let v7789 : Index := Scalar.indexCast v7786
  ![v7789.toNat]
def k0_off1940 (i : grid0.Coords) (v7595 : BitVec 32) (v7598 : BitVec 32) (v7790 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_3016 : BitVec 32 := 12#32
  let v7787 : BitVec 32 := Scalar.addi v7595 c12_i32_3016
  let v7788 : BitVec 1 := Scalar.cmpi .slt v7787 v7598
  let c65535_i32_3017 : BitVec 32 := 65535#32
  let v7791 : BitVec 32 := Scalar.andi v7790 c65535_i32_3017
  let c2048_i32_3018 : BitVec 32 := 2048#32
  let v7792 : BitVec 32 := Scalar.select v7788 v7791 c2048_i32_3018
  let v7793 : BitVec 32 := Scalar.addi v1470 v7792
  let v7796 : Index := Scalar.indexCast v7793
  let c0_3020 : Index := 0#32
  ![v7796.toNat, 0]

def k0_chk969 (i : grid0.Coords) (v7595 : BitVec 32) (v7598 : BitVec 32) (v7790 : BitVec 32) : Prop :=
  (∀ a, (k0_off1940 i v7595 v7598 v7790) a + S1x128.size a ≤ S8224x128.size a)
theorem k0_off1940_inb : ∀ (i : grid0.Coords) (v7595 : BitVec 32) (v7598 : BitVec 32) (v7790 : BitVec 32) (k0_hw969 : k0_chk969 i v7595 v7598 v7790), ∀ a, (k0_off1940 i v7595 v7598 v7790) a + S1x128.size a ≤ S8224x128.size a := fun i v7595 v7598 v7790 k0_hw969 => k0_hw969

def k0_off1941 (v7595 : BitVec 32) : Fin 1 → Nat :=
  let c13_i32_3021 : BitVec 32 := 13#32
  let v7801 : BitVec 32 := Scalar.addi v7595 c13_i32_3021
  let v7804 : Index := Scalar.indexCast v7801
  ![v7804.toNat]
def k0_off1942 (i : grid0.Coords) (v7595 : BitVec 32) (v7598 : BitVec 32) (v7805 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_3022 : BitVec 32 := 13#32
  let v7802 : BitVec 32 := Scalar.addi v7595 c13_i32_3022
  let v7803 : BitVec 1 := Scalar.cmpi .slt v7802 v7598
  let c65535_i32_3023 : BitVec 32 := 65535#32
  let v7806 : BitVec 32 := Scalar.andi v7805 c65535_i32_3023
  let c2048_i32_3024 : BitVec 32 := 2048#32
  let v7807 : BitVec 32 := Scalar.select v7803 v7806 c2048_i32_3024
  let v7808 : BitVec 32 := Scalar.addi v1470 v7807
  let v7811 : Index := Scalar.indexCast v7808
  let c0_3026 : Index := 0#32
  ![v7811.toNat, 0]

def k0_chk970 (i : grid0.Coords) (v7595 : BitVec 32) (v7598 : BitVec 32) (v7805 : BitVec 32) : Prop :=
  (∀ a, (k0_off1942 i v7595 v7598 v7805) a + S1x128.size a ≤ S8224x128.size a)
theorem k0_off1942_inb : ∀ (i : grid0.Coords) (v7595 : BitVec 32) (v7598 : BitVec 32) (v7805 : BitVec 32) (k0_hw970 : k0_chk970 i v7595 v7598 v7805), ∀ a, (k0_off1942 i v7595 v7598 v7805) a + S1x128.size a ≤ S8224x128.size a := fun i v7595 v7598 v7805 k0_hw970 => k0_hw970

def k0_off1943 (v7595 : BitVec 32) : Fin 1 → Nat :=
  let c14_i32_3027 : BitVec 32 := 14#32
  let v7816 : BitVec 32 := Scalar.addi v7595 c14_i32_3027
  let v7819 : Index := Scalar.indexCast v7816
  ![v7819.toNat]
def k0_off1944 (i : grid0.Coords) (v7595 : BitVec 32) (v7598 : BitVec 32) (v7820 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_3028 : BitVec 32 := 14#32
  let v7817 : BitVec 32 := Scalar.addi v7595 c14_i32_3028
  let v7818 : BitVec 1 := Scalar.cmpi .slt v7817 v7598
  let c65535_i32_3029 : BitVec 32 := 65535#32
  let v7821 : BitVec 32 := Scalar.andi v7820 c65535_i32_3029
  let c2048_i32_3030 : BitVec 32 := 2048#32
  let v7822 : BitVec 32 := Scalar.select v7818 v7821 c2048_i32_3030
  let v7823 : BitVec 32 := Scalar.addi v1470 v7822
  let v7826 : Index := Scalar.indexCast v7823
  let c0_3032 : Index := 0#32
  ![v7826.toNat, 0]

def k0_chk971 (i : grid0.Coords) (v7595 : BitVec 32) (v7598 : BitVec 32) (v7820 : BitVec 32) : Prop :=
  (∀ a, (k0_off1944 i v7595 v7598 v7820) a + S1x128.size a ≤ S8224x128.size a)
theorem k0_off1944_inb : ∀ (i : grid0.Coords) (v7595 : BitVec 32) (v7598 : BitVec 32) (v7820 : BitVec 32) (k0_hw971 : k0_chk971 i v7595 v7598 v7820), ∀ a, (k0_off1944 i v7595 v7598 v7820) a + S1x128.size a ≤ S8224x128.size a := fun i v7595 v7598 v7820 k0_hw971 => k0_hw971

def k0_off1945 (v7595 : BitVec 32) : Fin 1 → Nat :=
  let c15_i32_3033 : BitVec 32 := 15#32
  let v7831 : BitVec 32 := Scalar.addi v7595 c15_i32_3033
  let v7834 : Index := Scalar.indexCast v7831
  ![v7834.toNat]

def k0_chk956 (v7595 : BitVec 32) : Prop :=
  (∀ a, (k0_off1915 v7595) a + S1.size a ≤ S51920.size a) ∧
  (∀ a, (k0_off1917 v7595) a + S1.size a ≤ S51920.size a) ∧
  (∀ a, (k0_off1919 v7595) a + S1.size a ≤ S51920.size a) ∧
  (∀ a, (k0_off1921 v7595) a + S1.size a ≤ S51920.size a) ∧
  (∀ a, (k0_off1923 v7595) a + S1.size a ≤ S51920.size a) ∧
  (∀ a, (k0_off1925 v7595) a + S1.size a ≤ S51920.size a) ∧
  (∀ a, (k0_off1927 v7595) a + S1.size a ≤ S51920.size a) ∧
  (∀ a, (k0_off1929 v7595) a + S1.size a ≤ S51920.size a) ∧
  (∀ a, (k0_off1931 v7595) a + S1.size a ≤ S51920.size a) ∧
  (∀ a, (k0_off1933 v7595) a + S1.size a ≤ S51920.size a) ∧
  (∀ a, (k0_off1935 v7595) a + S1.size a ≤ S51920.size a) ∧
  (∀ a, (k0_off1937 v7595) a + S1.size a ≤ S51920.size a) ∧
  (∀ a, (k0_off1939 v7595) a + S1.size a ≤ S51920.size a) ∧
  (∀ a, (k0_off1941 v7595) a + S1.size a ≤ S51920.size a) ∧
  (∀ a, (k0_off1943 v7595) a + S1.size a ≤ S51920.size a) ∧
  (∀ a, (k0_off1945 v7595) a + S1.size a ≤ S51920.size a)
theorem k0_off1915_inb : ∀ (v7595 : BitVec 32) (k0_hw956 : k0_chk956 v7595), ∀ a, (k0_off1915 v7595) a + S1.size a ≤ S51920.size a := fun v7595 k0_hw956 => k0_hw956.1
theorem k0_off1917_inb : ∀ (v7595 : BitVec 32) (k0_hw956 : k0_chk956 v7595), ∀ a, (k0_off1917 v7595) a + S1.size a ≤ S51920.size a := fun v7595 k0_hw956 => k0_hw956.2.1
theorem k0_off1919_inb : ∀ (v7595 : BitVec 32) (k0_hw956 : k0_chk956 v7595), ∀ a, (k0_off1919 v7595) a + S1.size a ≤ S51920.size a := fun v7595 k0_hw956 => k0_hw956.2.2.1
theorem k0_off1921_inb : ∀ (v7595 : BitVec 32) (k0_hw956 : k0_chk956 v7595), ∀ a, (k0_off1921 v7595) a + S1.size a ≤ S51920.size a := fun v7595 k0_hw956 => k0_hw956.2.2.2.1
theorem k0_off1923_inb : ∀ (v7595 : BitVec 32) (k0_hw956 : k0_chk956 v7595), ∀ a, (k0_off1923 v7595) a + S1.size a ≤ S51920.size a := fun v7595 k0_hw956 => k0_hw956.2.2.2.2.1
theorem k0_off1925_inb : ∀ (v7595 : BitVec 32) (k0_hw956 : k0_chk956 v7595), ∀ a, (k0_off1925 v7595) a + S1.size a ≤ S51920.size a := fun v7595 k0_hw956 => k0_hw956.2.2.2.2.2.1
theorem k0_off1927_inb : ∀ (v7595 : BitVec 32) (k0_hw956 : k0_chk956 v7595), ∀ a, (k0_off1927 v7595) a + S1.size a ≤ S51920.size a := fun v7595 k0_hw956 => k0_hw956.2.2.2.2.2.2.1
theorem k0_off1929_inb : ∀ (v7595 : BitVec 32) (k0_hw956 : k0_chk956 v7595), ∀ a, (k0_off1929 v7595) a + S1.size a ≤ S51920.size a := fun v7595 k0_hw956 => k0_hw956.2.2.2.2.2.2.2.1
theorem k0_off1931_inb : ∀ (v7595 : BitVec 32) (k0_hw956 : k0_chk956 v7595), ∀ a, (k0_off1931 v7595) a + S1.size a ≤ S51920.size a := fun v7595 k0_hw956 => k0_hw956.2.2.2.2.2.2.2.2.1
theorem k0_off1933_inb : ∀ (v7595 : BitVec 32) (k0_hw956 : k0_chk956 v7595), ∀ a, (k0_off1933 v7595) a + S1.size a ≤ S51920.size a := fun v7595 k0_hw956 => k0_hw956.2.2.2.2.2.2.2.2.2.1
theorem k0_off1935_inb : ∀ (v7595 : BitVec 32) (k0_hw956 : k0_chk956 v7595), ∀ a, (k0_off1935 v7595) a + S1.size a ≤ S51920.size a := fun v7595 k0_hw956 => k0_hw956.2.2.2.2.2.2.2.2.2.2.1
theorem k0_off1937_inb : ∀ (v7595 : BitVec 32) (k0_hw956 : k0_chk956 v7595), ∀ a, (k0_off1937 v7595) a + S1.size a ≤ S51920.size a := fun v7595 k0_hw956 => k0_hw956.2.2.2.2.2.2.2.2.2.2.2.1
theorem k0_off1939_inb : ∀ (v7595 : BitVec 32) (k0_hw956 : k0_chk956 v7595), ∀ a, (k0_off1939 v7595) a + S1.size a ≤ S51920.size a := fun v7595 k0_hw956 => k0_hw956.2.2.2.2.2.2.2.2.2.2.2.2.1
theorem k0_off1941_inb : ∀ (v7595 : BitVec 32) (k0_hw956 : k0_chk956 v7595), ∀ a, (k0_off1941 v7595) a + S1.size a ≤ S51920.size a := fun v7595 k0_hw956 => k0_hw956.2.2.2.2.2.2.2.2.2.2.2.2.2.1
theorem k0_off1943_inb : ∀ (v7595 : BitVec 32) (k0_hw956 : k0_chk956 v7595), ∀ a, (k0_off1943 v7595) a + S1.size a ≤ S51920.size a := fun v7595 k0_hw956 => k0_hw956.2.2.2.2.2.2.2.2.2.2.2.2.2.2.1
theorem k0_off1945_inb : ∀ (v7595 : BitVec 32) (k0_hw956 : k0_chk956 v7595), ∀ a, (k0_off1945 v7595) a + S1.size a ≤ S51920.size a := fun v7595 k0_hw956 => k0_hw956.2.2.2.2.2.2.2.2.2.2.2.2.2.2.2

def k0_off1946 (i : grid0.Coords) (v7595 : BitVec 32) (v7598 : BitVec 32) (v7835 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_3034 : BitVec 32 := 15#32
  let v7832 : BitVec 32 := Scalar.addi v7595 c15_i32_3034
  let v7833 : BitVec 1 := Scalar.cmpi .slt v7832 v7598
  let c65535_i32_3035 : BitVec 32 := 65535#32
  let v7836 : BitVec 32 := Scalar.andi v7835 c65535_i32_3035
  let c2048_i32_3036 : BitVec 32 := 2048#32
  let v7837 : BitVec 32 := Scalar.select v7833 v7836 c2048_i32_3036
  let v7838 : BitVec 32 := Scalar.addi v1470 v7837
  let v7841 : Index := Scalar.indexCast v7838
  let c0_3038 : Index := 0#32
  ![v7841.toNat, 0]

def k0_chk972 (i : grid0.Coords) (v7595 : BitVec 32) (v7598 : BitVec 32) (v7835 : BitVec 32) : Prop :=
  (∀ a, (k0_off1946 i v7595 v7598 v7835) a + S1x128.size a ≤ S8224x128.size a)
theorem k0_off1946_inb : ∀ (i : grid0.Coords) (v7595 : BitVec 32) (v7598 : BitVec 32) (v7835 : BitVec 32) (k0_hw972 : k0_chk972 i v7595 v7598 v7835), ∀ a, (k0_off1946 i v7595 v7598 v7835) a + S1x128.size a ≤ S8224x128.size a := fun i v7595 v7598 v7835 k0_hw972 => k0_hw972

def k0_off1947 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3039 : BitVec 32 := 512#32
  let v7846 : BitVec 32 := Scalar.muli v24 c512_i32_3039
  let arg1 : BitVec 32 := BitVec.ofNat 32 (i 1).val
  let c32_i32 : BitVec 32 := 32#32
  let v1452 : BitVec 32 := Scalar.muli arg1 c32_i32
  let v7847 : BitVec 32 := Scalar.addi v7846 v1452
  let c25_i32 : BitVec 32 := 25#32
  let v7848 : BitVec 32 := Scalar.addi v7847 c25_i32
  let v7849 : Index := Scalar.indexCast v7848
  ![v7849.toNat]
def k0_off1948 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3039 : BitVec 32 := 512#32
  let v7846 : BitVec 32 := Scalar.muli v24 c512_i32_3039
  let arg1 : BitVec 32 := BitVec.ofNat 32 (i 1).val
  let c32_i32 : BitVec 32 := 32#32
  let v1452 : BitVec 32 := Scalar.muli arg1 c32_i32
  let v7847 : BitVec 32 := Scalar.addi v7846 v1452
  let c25_i32 : BitVec 32 := 25#32
  let v7848 : BitVec 32 := Scalar.addi v7847 c25_i32
  let c1_i32_3040 : BitVec 32 := 1#32
  let v7851 : BitVec 32 := Scalar.addi v7848 c1_i32_3040
  let v7852 : Index := Scalar.indexCast v7851
  ![v7852.toNat]
def k0_off1949 (v7850 : BitVec 32) : Fin 1 → Nat :=
  let c0_i32_3043 : BitVec 32 := 0#32
  let v7861 : BitVec 32 := Scalar.addi v7850 c0_i32_3043
  let v7864 : Index := Scalar.indexCast v7861
  ![v7864.toNat]

def k0_off1950 (i : grid0.Coords) (v7850 : BitVec 32) (v7853 : BitVec 32) (v7865 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_3044 : BitVec 32 := 0#32
  let v7862 : BitVec 32 := Scalar.addi v7850 c0_i32_3044
  let v7863 : BitVec 1 := Scalar.cmpi .slt v7862 v7853
  let c65535_i32_3045 : BitVec 32 := 65535#32
  let v7866 : BitVec 32 := Scalar.andi v7865 c65535_i32_3045
  let c2048_i32_3046 : BitVec 32 := 2048#32
  let v7867 : BitVec 32 := Scalar.select v7863 v7866 c2048_i32_3046
  let v7868 : BitVec 32 := Scalar.addi v1470 v7867
  let v7871 : Index := Scalar.indexCast v7868
  let c0_3048 : Index := 0#32
  ![v7871.toNat, 0]

def k0_chk974 (i : grid0.Coords) (v7850 : BitVec 32) (v7853 : BitVec 32) (v7865 : BitVec 32) : Prop :=
  (∀ a, (k0_off1950 i v7850 v7853 v7865) a + S1x128.size a ≤ S8224x128.size a)
theorem k0_off1950_inb : ∀ (i : grid0.Coords) (v7850 : BitVec 32) (v7853 : BitVec 32) (v7865 : BitVec 32) (k0_hw974 : k0_chk974 i v7850 v7853 v7865), ∀ a, (k0_off1950 i v7850 v7853 v7865) a + S1x128.size a ≤ S8224x128.size a := fun i v7850 v7853 v7865 k0_hw974 => k0_hw974

def k0_off1951 (v7850 : BitVec 32) : Fin 1 → Nat :=
  let c1_i32_3049 : BitVec 32 := 1#32
  let v7876 : BitVec 32 := Scalar.addi v7850 c1_i32_3049
  let v7879 : Index := Scalar.indexCast v7876
  ![v7879.toNat]
def k0_off1952 (i : grid0.Coords) (v7850 : BitVec 32) (v7853 : BitVec 32) (v7880 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_3050 : BitVec 32 := 1#32
  let v7877 : BitVec 32 := Scalar.addi v7850 c1_i32_3050
  let v7878 : BitVec 1 := Scalar.cmpi .slt v7877 v7853
  let c65535_i32_3051 : BitVec 32 := 65535#32
  let v7881 : BitVec 32 := Scalar.andi v7880 c65535_i32_3051
  let c2048_i32_3052 : BitVec 32 := 2048#32
  let v7882 : BitVec 32 := Scalar.select v7878 v7881 c2048_i32_3052
  let v7883 : BitVec 32 := Scalar.addi v1470 v7882
  let v7886 : Index := Scalar.indexCast v7883
  let c0_3054 : Index := 0#32
  ![v7886.toNat, 0]

def k0_chk975 (i : grid0.Coords) (v7850 : BitVec 32) (v7853 : BitVec 32) (v7880 : BitVec 32) : Prop :=
  (∀ a, (k0_off1952 i v7850 v7853 v7880) a + S1x128.size a ≤ S8224x128.size a)
theorem k0_off1952_inb : ∀ (i : grid0.Coords) (v7850 : BitVec 32) (v7853 : BitVec 32) (v7880 : BitVec 32) (k0_hw975 : k0_chk975 i v7850 v7853 v7880), ∀ a, (k0_off1952 i v7850 v7853 v7880) a + S1x128.size a ≤ S8224x128.size a := fun i v7850 v7853 v7880 k0_hw975 => k0_hw975

def k0_off1953 (v7850 : BitVec 32) : Fin 1 → Nat :=
  let c2_i32_3055 : BitVec 32 := 2#32
  let v7891 : BitVec 32 := Scalar.addi v7850 c2_i32_3055
  let v7894 : Index := Scalar.indexCast v7891
  ![v7894.toNat]
def k0_off1954 (i : grid0.Coords) (v7850 : BitVec 32) (v7853 : BitVec 32) (v7895 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_3056 : BitVec 32 := 2#32
  let v7892 : BitVec 32 := Scalar.addi v7850 c2_i32_3056
  let v7893 : BitVec 1 := Scalar.cmpi .slt v7892 v7853
  let c65535_i32_3057 : BitVec 32 := 65535#32
  let v7896 : BitVec 32 := Scalar.andi v7895 c65535_i32_3057
  let c2048_i32_3058 : BitVec 32 := 2048#32
  let v7897 : BitVec 32 := Scalar.select v7893 v7896 c2048_i32_3058
  let v7898 : BitVec 32 := Scalar.addi v1470 v7897
  let v7901 : Index := Scalar.indexCast v7898
  let c0_3060 : Index := 0#32
  ![v7901.toNat, 0]

def k0_chk976 (i : grid0.Coords) (v7850 : BitVec 32) (v7853 : BitVec 32) (v7895 : BitVec 32) : Prop :=
  (∀ a, (k0_off1954 i v7850 v7853 v7895) a + S1x128.size a ≤ S8224x128.size a)
theorem k0_off1954_inb : ∀ (i : grid0.Coords) (v7850 : BitVec 32) (v7853 : BitVec 32) (v7895 : BitVec 32) (k0_hw976 : k0_chk976 i v7850 v7853 v7895), ∀ a, (k0_off1954 i v7850 v7853 v7895) a + S1x128.size a ≤ S8224x128.size a := fun i v7850 v7853 v7895 k0_hw976 => k0_hw976

def k0_off1955 (v7850 : BitVec 32) : Fin 1 → Nat :=
  let c3_i32_3061 : BitVec 32 := 3#32
  let v7906 : BitVec 32 := Scalar.addi v7850 c3_i32_3061
  let v7909 : Index := Scalar.indexCast v7906
  ![v7909.toNat]
def k0_off1956 (i : grid0.Coords) (v7850 : BitVec 32) (v7853 : BitVec 32) (v7910 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_3062 : BitVec 32 := 3#32
  let v7907 : BitVec 32 := Scalar.addi v7850 c3_i32_3062
  let v7908 : BitVec 1 := Scalar.cmpi .slt v7907 v7853
  let c65535_i32_3063 : BitVec 32 := 65535#32
  let v7911 : BitVec 32 := Scalar.andi v7910 c65535_i32_3063
  let c2048_i32_3064 : BitVec 32 := 2048#32
  let v7912 : BitVec 32 := Scalar.select v7908 v7911 c2048_i32_3064
  let v7913 : BitVec 32 := Scalar.addi v1470 v7912
  let v7916 : Index := Scalar.indexCast v7913
  let c0_3066 : Index := 0#32
  ![v7916.toNat, 0]

def k0_chk977 (i : grid0.Coords) (v7850 : BitVec 32) (v7853 : BitVec 32) (v7910 : BitVec 32) : Prop :=
  (∀ a, (k0_off1956 i v7850 v7853 v7910) a + S1x128.size a ≤ S8224x128.size a)
theorem k0_off1956_inb : ∀ (i : grid0.Coords) (v7850 : BitVec 32) (v7853 : BitVec 32) (v7910 : BitVec 32) (k0_hw977 : k0_chk977 i v7850 v7853 v7910), ∀ a, (k0_off1956 i v7850 v7853 v7910) a + S1x128.size a ≤ S8224x128.size a := fun i v7850 v7853 v7910 k0_hw977 => k0_hw977

def k0_off1957 (v7850 : BitVec 32) : Fin 1 → Nat :=
  let c4_i32_3067 : BitVec 32 := 4#32
  let v7921 : BitVec 32 := Scalar.addi v7850 c4_i32_3067
  let v7924 : Index := Scalar.indexCast v7921
  ![v7924.toNat]
def k0_off1958 (i : grid0.Coords) (v7850 : BitVec 32) (v7853 : BitVec 32) (v7925 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_3068 : BitVec 32 := 4#32
  let v7922 : BitVec 32 := Scalar.addi v7850 c4_i32_3068
  let v7923 : BitVec 1 := Scalar.cmpi .slt v7922 v7853
  let c65535_i32_3069 : BitVec 32 := 65535#32
  let v7926 : BitVec 32 := Scalar.andi v7925 c65535_i32_3069
  let c2048_i32_3070 : BitVec 32 := 2048#32
  let v7927 : BitVec 32 := Scalar.select v7923 v7926 c2048_i32_3070
  let v7928 : BitVec 32 := Scalar.addi v1470 v7927
  let v7931 : Index := Scalar.indexCast v7928
  let c0_3072 : Index := 0#32
  ![v7931.toNat, 0]

def k0_chk978 (i : grid0.Coords) (v7850 : BitVec 32) (v7853 : BitVec 32) (v7925 : BitVec 32) : Prop :=
  (∀ a, (k0_off1958 i v7850 v7853 v7925) a + S1x128.size a ≤ S8224x128.size a)
theorem k0_off1958_inb : ∀ (i : grid0.Coords) (v7850 : BitVec 32) (v7853 : BitVec 32) (v7925 : BitVec 32) (k0_hw978 : k0_chk978 i v7850 v7853 v7925), ∀ a, (k0_off1958 i v7850 v7853 v7925) a + S1x128.size a ≤ S8224x128.size a := fun i v7850 v7853 v7925 k0_hw978 => k0_hw978

def k0_off1959 (v7850 : BitVec 32) : Fin 1 → Nat :=
  let c5_i32_3073 : BitVec 32 := 5#32
  let v7936 : BitVec 32 := Scalar.addi v7850 c5_i32_3073
  let v7939 : Index := Scalar.indexCast v7936
  ![v7939.toNat]
def k0_off1960 (i : grid0.Coords) (v7850 : BitVec 32) (v7853 : BitVec 32) (v7940 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_3074 : BitVec 32 := 5#32
  let v7937 : BitVec 32 := Scalar.addi v7850 c5_i32_3074
  let v7938 : BitVec 1 := Scalar.cmpi .slt v7937 v7853
  let c65535_i32_3075 : BitVec 32 := 65535#32
  let v7941 : BitVec 32 := Scalar.andi v7940 c65535_i32_3075
  let c2048_i32_3076 : BitVec 32 := 2048#32
  let v7942 : BitVec 32 := Scalar.select v7938 v7941 c2048_i32_3076
  let v7943 : BitVec 32 := Scalar.addi v1470 v7942
  let v7946 : Index := Scalar.indexCast v7943
  let c0_3078 : Index := 0#32
  ![v7946.toNat, 0]

def k0_chk979 (i : grid0.Coords) (v7850 : BitVec 32) (v7853 : BitVec 32) (v7940 : BitVec 32) : Prop :=
  (∀ a, (k0_off1960 i v7850 v7853 v7940) a + S1x128.size a ≤ S8224x128.size a)
theorem k0_off1960_inb : ∀ (i : grid0.Coords) (v7850 : BitVec 32) (v7853 : BitVec 32) (v7940 : BitVec 32) (k0_hw979 : k0_chk979 i v7850 v7853 v7940), ∀ a, (k0_off1960 i v7850 v7853 v7940) a + S1x128.size a ≤ S8224x128.size a := fun i v7850 v7853 v7940 k0_hw979 => k0_hw979

def k0_off1961 (v7850 : BitVec 32) : Fin 1 → Nat :=
  let c6_i32_3079 : BitVec 32 := 6#32
  let v7951 : BitVec 32 := Scalar.addi v7850 c6_i32_3079
  let v7954 : Index := Scalar.indexCast v7951
  ![v7954.toNat]
def k0_off1962 (i : grid0.Coords) (v7850 : BitVec 32) (v7853 : BitVec 32) (v7955 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_3080 : BitVec 32 := 6#32
  let v7952 : BitVec 32 := Scalar.addi v7850 c6_i32_3080
  let v7953 : BitVec 1 := Scalar.cmpi .slt v7952 v7853
  let c65535_i32_3081 : BitVec 32 := 65535#32
  let v7956 : BitVec 32 := Scalar.andi v7955 c65535_i32_3081
  let c2048_i32_3082 : BitVec 32 := 2048#32
  let v7957 : BitVec 32 := Scalar.select v7953 v7956 c2048_i32_3082
  let v7958 : BitVec 32 := Scalar.addi v1470 v7957
  let v7961 : Index := Scalar.indexCast v7958
  let c0_3084 : Index := 0#32
  ![v7961.toNat, 0]

def k0_chk980 (i : grid0.Coords) (v7850 : BitVec 32) (v7853 : BitVec 32) (v7955 : BitVec 32) : Prop :=
  (∀ a, (k0_off1962 i v7850 v7853 v7955) a + S1x128.size a ≤ S8224x128.size a)
theorem k0_off1962_inb : ∀ (i : grid0.Coords) (v7850 : BitVec 32) (v7853 : BitVec 32) (v7955 : BitVec 32) (k0_hw980 : k0_chk980 i v7850 v7853 v7955), ∀ a, (k0_off1962 i v7850 v7853 v7955) a + S1x128.size a ≤ S8224x128.size a := fun i v7850 v7853 v7955 k0_hw980 => k0_hw980

def k0_off1963 (v7850 : BitVec 32) : Fin 1 → Nat :=
  let c7_i32_3085 : BitVec 32 := 7#32
  let v7966 : BitVec 32 := Scalar.addi v7850 c7_i32_3085
  let v7969 : Index := Scalar.indexCast v7966
  ![v7969.toNat]
def k0_off1964 (i : grid0.Coords) (v7850 : BitVec 32) (v7853 : BitVec 32) (v7970 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_3086 : BitVec 32 := 7#32
  let v7967 : BitVec 32 := Scalar.addi v7850 c7_i32_3086
  let v7968 : BitVec 1 := Scalar.cmpi .slt v7967 v7853
  let c65535_i32_3087 : BitVec 32 := 65535#32
  let v7971 : BitVec 32 := Scalar.andi v7970 c65535_i32_3087
  let c2048_i32_3088 : BitVec 32 := 2048#32
  let v7972 : BitVec 32 := Scalar.select v7968 v7971 c2048_i32_3088
  let v7973 : BitVec 32 := Scalar.addi v1470 v7972
  let v7976 : Index := Scalar.indexCast v7973
  let c0_3090 : Index := 0#32
  ![v7976.toNat, 0]

def k0_chk981 (i : grid0.Coords) (v7850 : BitVec 32) (v7853 : BitVec 32) (v7970 : BitVec 32) : Prop :=
  (∀ a, (k0_off1964 i v7850 v7853 v7970) a + S1x128.size a ≤ S8224x128.size a)
theorem k0_off1964_inb : ∀ (i : grid0.Coords) (v7850 : BitVec 32) (v7853 : BitVec 32) (v7970 : BitVec 32) (k0_hw981 : k0_chk981 i v7850 v7853 v7970), ∀ a, (k0_off1964 i v7850 v7853 v7970) a + S1x128.size a ≤ S8224x128.size a := fun i v7850 v7853 v7970 k0_hw981 => k0_hw981

def k0_off1965 (v7850 : BitVec 32) : Fin 1 → Nat :=
  let c8_i32_3091 : BitVec 32 := 8#32
  let v7981 : BitVec 32 := Scalar.addi v7850 c8_i32_3091
  let v7984 : Index := Scalar.indexCast v7981
  ![v7984.toNat]
def k0_off1966 (i : grid0.Coords) (v7850 : BitVec 32) (v7853 : BitVec 32) (v7985 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_3092 : BitVec 32 := 8#32
  let v7982 : BitVec 32 := Scalar.addi v7850 c8_i32_3092
  let v7983 : BitVec 1 := Scalar.cmpi .slt v7982 v7853
  let c65535_i32_3093 : BitVec 32 := 65535#32
  let v7986 : BitVec 32 := Scalar.andi v7985 c65535_i32_3093
  let c2048_i32_3094 : BitVec 32 := 2048#32
  let v7987 : BitVec 32 := Scalar.select v7983 v7986 c2048_i32_3094
  let v7988 : BitVec 32 := Scalar.addi v1470 v7987
  let v7991 : Index := Scalar.indexCast v7988
  let c0_3096 : Index := 0#32
  ![v7991.toNat, 0]

def k0_chk982 (i : grid0.Coords) (v7850 : BitVec 32) (v7853 : BitVec 32) (v7985 : BitVec 32) : Prop :=
  (∀ a, (k0_off1966 i v7850 v7853 v7985) a + S1x128.size a ≤ S8224x128.size a)
theorem k0_off1966_inb : ∀ (i : grid0.Coords) (v7850 : BitVec 32) (v7853 : BitVec 32) (v7985 : BitVec 32) (k0_hw982 : k0_chk982 i v7850 v7853 v7985), ∀ a, (k0_off1966 i v7850 v7853 v7985) a + S1x128.size a ≤ S8224x128.size a := fun i v7850 v7853 v7985 k0_hw982 => k0_hw982

def k0_off1967 (v7850 : BitVec 32) : Fin 1 → Nat :=
  let c9_i32_3097 : BitVec 32 := 9#32
  let v7996 : BitVec 32 := Scalar.addi v7850 c9_i32_3097
  let v7999 : Index := Scalar.indexCast v7996
  ![v7999.toNat]
def k0_off1968 (i : grid0.Coords) (v7850 : BitVec 32) (v7853 : BitVec 32) (v8000 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_3098 : BitVec 32 := 9#32
  let v7997 : BitVec 32 := Scalar.addi v7850 c9_i32_3098
  let v7998 : BitVec 1 := Scalar.cmpi .slt v7997 v7853
  let c65535_i32_3099 : BitVec 32 := 65535#32
  let v8001 : BitVec 32 := Scalar.andi v8000 c65535_i32_3099
  let c2048_i32_3100 : BitVec 32 := 2048#32
  let v8002 : BitVec 32 := Scalar.select v7998 v8001 c2048_i32_3100
  let v8003 : BitVec 32 := Scalar.addi v1470 v8002
  let v8006 : Index := Scalar.indexCast v8003
  let c0_3102 : Index := 0#32
  ![v8006.toNat, 0]

def k0_chk983 (i : grid0.Coords) (v7850 : BitVec 32) (v7853 : BitVec 32) (v8000 : BitVec 32) : Prop :=
  (∀ a, (k0_off1968 i v7850 v7853 v8000) a + S1x128.size a ≤ S8224x128.size a)
theorem k0_off1968_inb : ∀ (i : grid0.Coords) (v7850 : BitVec 32) (v7853 : BitVec 32) (v8000 : BitVec 32) (k0_hw983 : k0_chk983 i v7850 v7853 v8000), ∀ a, (k0_off1968 i v7850 v7853 v8000) a + S1x128.size a ≤ S8224x128.size a := fun i v7850 v7853 v8000 k0_hw983 => k0_hw983

def k0_off1969 (v7850 : BitVec 32) : Fin 1 → Nat :=
  let c10_i32_3103 : BitVec 32 := 10#32
  let v8011 : BitVec 32 := Scalar.addi v7850 c10_i32_3103
  let v8014 : Index := Scalar.indexCast v8011
  ![v8014.toNat]
def k0_off1970 (i : grid0.Coords) (v7850 : BitVec 32) (v7853 : BitVec 32) (v8015 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_3104 : BitVec 32 := 10#32
  let v8012 : BitVec 32 := Scalar.addi v7850 c10_i32_3104
  let v8013 : BitVec 1 := Scalar.cmpi .slt v8012 v7853
  let c65535_i32_3105 : BitVec 32 := 65535#32
  let v8016 : BitVec 32 := Scalar.andi v8015 c65535_i32_3105
  let c2048_i32_3106 : BitVec 32 := 2048#32
  let v8017 : BitVec 32 := Scalar.select v8013 v8016 c2048_i32_3106
  let v8018 : BitVec 32 := Scalar.addi v1470 v8017
  let v8021 : Index := Scalar.indexCast v8018
  let c0_3108 : Index := 0#32
  ![v8021.toNat, 0]

def k0_chk984 (i : grid0.Coords) (v7850 : BitVec 32) (v7853 : BitVec 32) (v8015 : BitVec 32) : Prop :=
  (∀ a, (k0_off1970 i v7850 v7853 v8015) a + S1x128.size a ≤ S8224x128.size a)
theorem k0_off1970_inb : ∀ (i : grid0.Coords) (v7850 : BitVec 32) (v7853 : BitVec 32) (v8015 : BitVec 32) (k0_hw984 : k0_chk984 i v7850 v7853 v8015), ∀ a, (k0_off1970 i v7850 v7853 v8015) a + S1x128.size a ≤ S8224x128.size a := fun i v7850 v7853 v8015 k0_hw984 => k0_hw984

def k0_off1971 (v7850 : BitVec 32) : Fin 1 → Nat :=
  let c11_i32_3109 : BitVec 32 := 11#32
  let v8026 : BitVec 32 := Scalar.addi v7850 c11_i32_3109
  let v8029 : Index := Scalar.indexCast v8026
  ![v8029.toNat]
def k0_off1972 (i : grid0.Coords) (v7850 : BitVec 32) (v7853 : BitVec 32) (v8030 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_3110 : BitVec 32 := 11#32
  let v8027 : BitVec 32 := Scalar.addi v7850 c11_i32_3110
  let v8028 : BitVec 1 := Scalar.cmpi .slt v8027 v7853
  let c65535_i32_3111 : BitVec 32 := 65535#32
  let v8031 : BitVec 32 := Scalar.andi v8030 c65535_i32_3111
  let c2048_i32_3112 : BitVec 32 := 2048#32
  let v8032 : BitVec 32 := Scalar.select v8028 v8031 c2048_i32_3112
  let v8033 : BitVec 32 := Scalar.addi v1470 v8032
  let v8036 : Index := Scalar.indexCast v8033
  let c0_3114 : Index := 0#32
  ![v8036.toNat, 0]

def k0_chk985 (i : grid0.Coords) (v7850 : BitVec 32) (v7853 : BitVec 32) (v8030 : BitVec 32) : Prop :=
  (∀ a, (k0_off1972 i v7850 v7853 v8030) a + S1x128.size a ≤ S8224x128.size a)
theorem k0_off1972_inb : ∀ (i : grid0.Coords) (v7850 : BitVec 32) (v7853 : BitVec 32) (v8030 : BitVec 32) (k0_hw985 : k0_chk985 i v7850 v7853 v8030), ∀ a, (k0_off1972 i v7850 v7853 v8030) a + S1x128.size a ≤ S8224x128.size a := fun i v7850 v7853 v8030 k0_hw985 => k0_hw985

def k0_off1973 (v7850 : BitVec 32) : Fin 1 → Nat :=
  let c12_i32_3115 : BitVec 32 := 12#32
  let v8041 : BitVec 32 := Scalar.addi v7850 c12_i32_3115
  let v8044 : Index := Scalar.indexCast v8041
  ![v8044.toNat]
def k0_off1974 (i : grid0.Coords) (v7850 : BitVec 32) (v7853 : BitVec 32) (v8045 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_3116 : BitVec 32 := 12#32
  let v8042 : BitVec 32 := Scalar.addi v7850 c12_i32_3116
  let v8043 : BitVec 1 := Scalar.cmpi .slt v8042 v7853
  let c65535_i32_3117 : BitVec 32 := 65535#32
  let v8046 : BitVec 32 := Scalar.andi v8045 c65535_i32_3117
  let c2048_i32_3118 : BitVec 32 := 2048#32
  let v8047 : BitVec 32 := Scalar.select v8043 v8046 c2048_i32_3118
  let v8048 : BitVec 32 := Scalar.addi v1470 v8047
  let v8051 : Index := Scalar.indexCast v8048
  let c0_3120 : Index := 0#32
  ![v8051.toNat, 0]

def k0_chk986 (i : grid0.Coords) (v7850 : BitVec 32) (v7853 : BitVec 32) (v8045 : BitVec 32) : Prop :=
  (∀ a, (k0_off1974 i v7850 v7853 v8045) a + S1x128.size a ≤ S8224x128.size a)
theorem k0_off1974_inb : ∀ (i : grid0.Coords) (v7850 : BitVec 32) (v7853 : BitVec 32) (v8045 : BitVec 32) (k0_hw986 : k0_chk986 i v7850 v7853 v8045), ∀ a, (k0_off1974 i v7850 v7853 v8045) a + S1x128.size a ≤ S8224x128.size a := fun i v7850 v7853 v8045 k0_hw986 => k0_hw986

def k0_off1975 (v7850 : BitVec 32) : Fin 1 → Nat :=
  let c13_i32_3121 : BitVec 32 := 13#32
  let v8056 : BitVec 32 := Scalar.addi v7850 c13_i32_3121
  let v8059 : Index := Scalar.indexCast v8056
  ![v8059.toNat]
def k0_off1976 (i : grid0.Coords) (v7850 : BitVec 32) (v7853 : BitVec 32) (v8060 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_3122 : BitVec 32 := 13#32
  let v8057 : BitVec 32 := Scalar.addi v7850 c13_i32_3122
  let v8058 : BitVec 1 := Scalar.cmpi .slt v8057 v7853
  let c65535_i32_3123 : BitVec 32 := 65535#32
  let v8061 : BitVec 32 := Scalar.andi v8060 c65535_i32_3123
  let c2048_i32_3124 : BitVec 32 := 2048#32
  let v8062 : BitVec 32 := Scalar.select v8058 v8061 c2048_i32_3124
  let v8063 : BitVec 32 := Scalar.addi v1470 v8062
  let v8066 : Index := Scalar.indexCast v8063
  let c0_3126 : Index := 0#32
  ![v8066.toNat, 0]

def k0_chk987 (i : grid0.Coords) (v7850 : BitVec 32) (v7853 : BitVec 32) (v8060 : BitVec 32) : Prop :=
  (∀ a, (k0_off1976 i v7850 v7853 v8060) a + S1x128.size a ≤ S8224x128.size a)
theorem k0_off1976_inb : ∀ (i : grid0.Coords) (v7850 : BitVec 32) (v7853 : BitVec 32) (v8060 : BitVec 32) (k0_hw987 : k0_chk987 i v7850 v7853 v8060), ∀ a, (k0_off1976 i v7850 v7853 v8060) a + S1x128.size a ≤ S8224x128.size a := fun i v7850 v7853 v8060 k0_hw987 => k0_hw987

def k0_off1977 (v7850 : BitVec 32) : Fin 1 → Nat :=
  let c14_i32_3127 : BitVec 32 := 14#32
  let v8071 : BitVec 32 := Scalar.addi v7850 c14_i32_3127
  let v8074 : Index := Scalar.indexCast v8071
  ![v8074.toNat]
def k0_off1978 (i : grid0.Coords) (v7850 : BitVec 32) (v7853 : BitVec 32) (v8075 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_3128 : BitVec 32 := 14#32
  let v8072 : BitVec 32 := Scalar.addi v7850 c14_i32_3128
  let v8073 : BitVec 1 := Scalar.cmpi .slt v8072 v7853
  let c65535_i32_3129 : BitVec 32 := 65535#32
  let v8076 : BitVec 32 := Scalar.andi v8075 c65535_i32_3129
  let c2048_i32_3130 : BitVec 32 := 2048#32
  let v8077 : BitVec 32 := Scalar.select v8073 v8076 c2048_i32_3130
  let v8078 : BitVec 32 := Scalar.addi v1470 v8077
  let v8081 : Index := Scalar.indexCast v8078
  let c0_3132 : Index := 0#32
  ![v8081.toNat, 0]

def k0_chk988 (i : grid0.Coords) (v7850 : BitVec 32) (v7853 : BitVec 32) (v8075 : BitVec 32) : Prop :=
  (∀ a, (k0_off1978 i v7850 v7853 v8075) a + S1x128.size a ≤ S8224x128.size a)
theorem k0_off1978_inb : ∀ (i : grid0.Coords) (v7850 : BitVec 32) (v7853 : BitVec 32) (v8075 : BitVec 32) (k0_hw988 : k0_chk988 i v7850 v7853 v8075), ∀ a, (k0_off1978 i v7850 v7853 v8075) a + S1x128.size a ≤ S8224x128.size a := fun i v7850 v7853 v8075 k0_hw988 => k0_hw988

def k0_off1979 (v7850 : BitVec 32) : Fin 1 → Nat :=
  let c15_i32_3133 : BitVec 32 := 15#32
  let v8086 : BitVec 32 := Scalar.addi v7850 c15_i32_3133
  let v8089 : Index := Scalar.indexCast v8086
  ![v8089.toNat]

def k0_chk973 (v7850 : BitVec 32) : Prop :=
  (∀ a, (k0_off1949 v7850) a + S1.size a ≤ S51920.size a) ∧
  (∀ a, (k0_off1951 v7850) a + S1.size a ≤ S51920.size a) ∧
  (∀ a, (k0_off1953 v7850) a + S1.size a ≤ S51920.size a) ∧
  (∀ a, (k0_off1955 v7850) a + S1.size a ≤ S51920.size a) ∧
  (∀ a, (k0_off1957 v7850) a + S1.size a ≤ S51920.size a) ∧
  (∀ a, (k0_off1959 v7850) a + S1.size a ≤ S51920.size a) ∧
  (∀ a, (k0_off1961 v7850) a + S1.size a ≤ S51920.size a) ∧
  (∀ a, (k0_off1963 v7850) a + S1.size a ≤ S51920.size a) ∧
  (∀ a, (k0_off1965 v7850) a + S1.size a ≤ S51920.size a) ∧
  (∀ a, (k0_off1967 v7850) a + S1.size a ≤ S51920.size a) ∧
  (∀ a, (k0_off1969 v7850) a + S1.size a ≤ S51920.size a) ∧
  (∀ a, (k0_off1971 v7850) a + S1.size a ≤ S51920.size a) ∧
  (∀ a, (k0_off1973 v7850) a + S1.size a ≤ S51920.size a) ∧
  (∀ a, (k0_off1975 v7850) a + S1.size a ≤ S51920.size a) ∧
  (∀ a, (k0_off1977 v7850) a + S1.size a ≤ S51920.size a) ∧
  (∀ a, (k0_off1979 v7850) a + S1.size a ≤ S51920.size a)
theorem k0_off1949_inb : ∀ (v7850 : BitVec 32) (k0_hw973 : k0_chk973 v7850), ∀ a, (k0_off1949 v7850) a + S1.size a ≤ S51920.size a := fun v7850 k0_hw973 => k0_hw973.1
theorem k0_off1951_inb : ∀ (v7850 : BitVec 32) (k0_hw973 : k0_chk973 v7850), ∀ a, (k0_off1951 v7850) a + S1.size a ≤ S51920.size a := fun v7850 k0_hw973 => k0_hw973.2.1
theorem k0_off1953_inb : ∀ (v7850 : BitVec 32) (k0_hw973 : k0_chk973 v7850), ∀ a, (k0_off1953 v7850) a + S1.size a ≤ S51920.size a := fun v7850 k0_hw973 => k0_hw973.2.2.1
theorem k0_off1955_inb : ∀ (v7850 : BitVec 32) (k0_hw973 : k0_chk973 v7850), ∀ a, (k0_off1955 v7850) a + S1.size a ≤ S51920.size a := fun v7850 k0_hw973 => k0_hw973.2.2.2.1
theorem k0_off1957_inb : ∀ (v7850 : BitVec 32) (k0_hw973 : k0_chk973 v7850), ∀ a, (k0_off1957 v7850) a + S1.size a ≤ S51920.size a := fun v7850 k0_hw973 => k0_hw973.2.2.2.2.1
theorem k0_off1959_inb : ∀ (v7850 : BitVec 32) (k0_hw973 : k0_chk973 v7850), ∀ a, (k0_off1959 v7850) a + S1.size a ≤ S51920.size a := fun v7850 k0_hw973 => k0_hw973.2.2.2.2.2.1
theorem k0_off1961_inb : ∀ (v7850 : BitVec 32) (k0_hw973 : k0_chk973 v7850), ∀ a, (k0_off1961 v7850) a + S1.size a ≤ S51920.size a := fun v7850 k0_hw973 => k0_hw973.2.2.2.2.2.2.1
theorem k0_off1963_inb : ∀ (v7850 : BitVec 32) (k0_hw973 : k0_chk973 v7850), ∀ a, (k0_off1963 v7850) a + S1.size a ≤ S51920.size a := fun v7850 k0_hw973 => k0_hw973.2.2.2.2.2.2.2.1
theorem k0_off1965_inb : ∀ (v7850 : BitVec 32) (k0_hw973 : k0_chk973 v7850), ∀ a, (k0_off1965 v7850) a + S1.size a ≤ S51920.size a := fun v7850 k0_hw973 => k0_hw973.2.2.2.2.2.2.2.2.1
theorem k0_off1967_inb : ∀ (v7850 : BitVec 32) (k0_hw973 : k0_chk973 v7850), ∀ a, (k0_off1967 v7850) a + S1.size a ≤ S51920.size a := fun v7850 k0_hw973 => k0_hw973.2.2.2.2.2.2.2.2.2.1
theorem k0_off1969_inb : ∀ (v7850 : BitVec 32) (k0_hw973 : k0_chk973 v7850), ∀ a, (k0_off1969 v7850) a + S1.size a ≤ S51920.size a := fun v7850 k0_hw973 => k0_hw973.2.2.2.2.2.2.2.2.2.2.1
theorem k0_off1971_inb : ∀ (v7850 : BitVec 32) (k0_hw973 : k0_chk973 v7850), ∀ a, (k0_off1971 v7850) a + S1.size a ≤ S51920.size a := fun v7850 k0_hw973 => k0_hw973.2.2.2.2.2.2.2.2.2.2.2.1
theorem k0_off1973_inb : ∀ (v7850 : BitVec 32) (k0_hw973 : k0_chk973 v7850), ∀ a, (k0_off1973 v7850) a + S1.size a ≤ S51920.size a := fun v7850 k0_hw973 => k0_hw973.2.2.2.2.2.2.2.2.2.2.2.2.1
theorem k0_off1975_inb : ∀ (v7850 : BitVec 32) (k0_hw973 : k0_chk973 v7850), ∀ a, (k0_off1975 v7850) a + S1.size a ≤ S51920.size a := fun v7850 k0_hw973 => k0_hw973.2.2.2.2.2.2.2.2.2.2.2.2.2.1
theorem k0_off1977_inb : ∀ (v7850 : BitVec 32) (k0_hw973 : k0_chk973 v7850), ∀ a, (k0_off1977 v7850) a + S1.size a ≤ S51920.size a := fun v7850 k0_hw973 => k0_hw973.2.2.2.2.2.2.2.2.2.2.2.2.2.2.1
theorem k0_off1979_inb : ∀ (v7850 : BitVec 32) (k0_hw973 : k0_chk973 v7850), ∀ a, (k0_off1979 v7850) a + S1.size a ≤ S51920.size a := fun v7850 k0_hw973 => k0_hw973.2.2.2.2.2.2.2.2.2.2.2.2.2.2.2

def k0_off1980 (i : grid0.Coords) (v7850 : BitVec 32) (v7853 : BitVec 32) (v8090 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_3134 : BitVec 32 := 15#32
  let v8087 : BitVec 32 := Scalar.addi v7850 c15_i32_3134
  let v8088 : BitVec 1 := Scalar.cmpi .slt v8087 v7853
  let c65535_i32_3135 : BitVec 32 := 65535#32
  let v8091 : BitVec 32 := Scalar.andi v8090 c65535_i32_3135
  let c2048_i32_3136 : BitVec 32 := 2048#32
  let v8092 : BitVec 32 := Scalar.select v8088 v8091 c2048_i32_3136
  let v8093 : BitVec 32 := Scalar.addi v1470 v8092
  let v8096 : Index := Scalar.indexCast v8093
  let c0_3138 : Index := 0#32
  ![v8096.toNat, 0]

def k0_chk989 (i : grid0.Coords) (v7850 : BitVec 32) (v7853 : BitVec 32) (v8090 : BitVec 32) : Prop :=
  (∀ a, (k0_off1980 i v7850 v7853 v8090) a + S1x128.size a ≤ S8224x128.size a)
theorem k0_off1980_inb : ∀ (i : grid0.Coords) (v7850 : BitVec 32) (v7853 : BitVec 32) (v8090 : BitVec 32) (k0_hw989 : k0_chk989 i v7850 v7853 v8090), ∀ a, (k0_off1980 i v7850 v7853 v8090) a + S1x128.size a ≤ S8224x128.size a := fun i v7850 v7853 v8090 k0_hw989 => k0_hw989

def k0_off1981 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3139 : BitVec 32 := 512#32
  let v8101 : BitVec 32 := Scalar.muli v24 c512_i32_3139
  let arg1 : BitVec 32 := BitVec.ofNat 32 (i 1).val
  let c32_i32 : BitVec 32 := 32#32
  let v1452 : BitVec 32 := Scalar.muli arg1 c32_i32
  let v8102 : BitVec 32 := Scalar.addi v8101 v1452
  let c26_i32 : BitVec 32 := 26#32
  let v8103 : BitVec 32 := Scalar.addi v8102 c26_i32
  let v8104 : Index := Scalar.indexCast v8103
  ![v8104.toNat]
def k0_off1982 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3139 : BitVec 32 := 512#32
  let v8101 : BitVec 32 := Scalar.muli v24 c512_i32_3139
  let arg1 : BitVec 32 := BitVec.ofNat 32 (i 1).val
  let c32_i32 : BitVec 32 := 32#32
  let v1452 : BitVec 32 := Scalar.muli arg1 c32_i32
  let v8102 : BitVec 32 := Scalar.addi v8101 v1452
  let c26_i32 : BitVec 32 := 26#32
  let v8103 : BitVec 32 := Scalar.addi v8102 c26_i32
  let c1_i32_3140 : BitVec 32 := 1#32
  let v8106 : BitVec 32 := Scalar.addi v8103 c1_i32_3140
  let v8107 : Index := Scalar.indexCast v8106
  ![v8107.toNat]
def k0_off1983 (v8105 : BitVec 32) : Fin 1 → Nat :=
  let c0_i32_3143 : BitVec 32 := 0#32
  let v8116 : BitVec 32 := Scalar.addi v8105 c0_i32_3143
  let v8119 : Index := Scalar.indexCast v8116
  ![v8119.toNat]

def k0_off1984 (i : grid0.Coords) (v8105 : BitVec 32) (v8108 : BitVec 32) (v8120 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_3144 : BitVec 32 := 0#32
  let v8117 : BitVec 32 := Scalar.addi v8105 c0_i32_3144
  let v8118 : BitVec 1 := Scalar.cmpi .slt v8117 v8108
  let c65535_i32_3145 : BitVec 32 := 65535#32
  let v8121 : BitVec 32 := Scalar.andi v8120 c65535_i32_3145
  let c2048_i32_3146 : BitVec 32 := 2048#32
  let v8122 : BitVec 32 := Scalar.select v8118 v8121 c2048_i32_3146
  let v8123 : BitVec 32 := Scalar.addi v1470 v8122
  let v8126 : Index := Scalar.indexCast v8123
  let c0_3148 : Index := 0#32
  ![v8126.toNat, 0]

def k0_chk991 (i : grid0.Coords) (v8105 : BitVec 32) (v8108 : BitVec 32) (v8120 : BitVec 32) : Prop :=
  (∀ a, (k0_off1984 i v8105 v8108 v8120) a + S1x128.size a ≤ S8224x128.size a)
theorem k0_off1984_inb : ∀ (i : grid0.Coords) (v8105 : BitVec 32) (v8108 : BitVec 32) (v8120 : BitVec 32) (k0_hw991 : k0_chk991 i v8105 v8108 v8120), ∀ a, (k0_off1984 i v8105 v8108 v8120) a + S1x128.size a ≤ S8224x128.size a := fun i v8105 v8108 v8120 k0_hw991 => k0_hw991

def k0_off1985 (v8105 : BitVec 32) : Fin 1 → Nat :=
  let c1_i32_3149 : BitVec 32 := 1#32
  let v8131 : BitVec 32 := Scalar.addi v8105 c1_i32_3149
  let v8134 : Index := Scalar.indexCast v8131
  ![v8134.toNat]
def k0_off1986 (i : grid0.Coords) (v8105 : BitVec 32) (v8108 : BitVec 32) (v8135 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_3150 : BitVec 32 := 1#32
  let v8132 : BitVec 32 := Scalar.addi v8105 c1_i32_3150
  let v8133 : BitVec 1 := Scalar.cmpi .slt v8132 v8108
  let c65535_i32_3151 : BitVec 32 := 65535#32
  let v8136 : BitVec 32 := Scalar.andi v8135 c65535_i32_3151
  let c2048_i32_3152 : BitVec 32 := 2048#32
  let v8137 : BitVec 32 := Scalar.select v8133 v8136 c2048_i32_3152
  let v8138 : BitVec 32 := Scalar.addi v1470 v8137
  let v8141 : Index := Scalar.indexCast v8138
  let c0_3154 : Index := 0#32
  ![v8141.toNat, 0]

def k0_chk992 (i : grid0.Coords) (v8105 : BitVec 32) (v8108 : BitVec 32) (v8135 : BitVec 32) : Prop :=
  (∀ a, (k0_off1986 i v8105 v8108 v8135) a + S1x128.size a ≤ S8224x128.size a)
theorem k0_off1986_inb : ∀ (i : grid0.Coords) (v8105 : BitVec 32) (v8108 : BitVec 32) (v8135 : BitVec 32) (k0_hw992 : k0_chk992 i v8105 v8108 v8135), ∀ a, (k0_off1986 i v8105 v8108 v8135) a + S1x128.size a ≤ S8224x128.size a := fun i v8105 v8108 v8135 k0_hw992 => k0_hw992

def k0_off1987 (v8105 : BitVec 32) : Fin 1 → Nat :=
  let c2_i32_3155 : BitVec 32 := 2#32
  let v8146 : BitVec 32 := Scalar.addi v8105 c2_i32_3155
  let v8149 : Index := Scalar.indexCast v8146
  ![v8149.toNat]
def k0_off1988 (i : grid0.Coords) (v8105 : BitVec 32) (v8108 : BitVec 32) (v8150 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_3156 : BitVec 32 := 2#32
  let v8147 : BitVec 32 := Scalar.addi v8105 c2_i32_3156
  let v8148 : BitVec 1 := Scalar.cmpi .slt v8147 v8108
  let c65535_i32_3157 : BitVec 32 := 65535#32
  let v8151 : BitVec 32 := Scalar.andi v8150 c65535_i32_3157
  let c2048_i32_3158 : BitVec 32 := 2048#32
  let v8152 : BitVec 32 := Scalar.select v8148 v8151 c2048_i32_3158
  let v8153 : BitVec 32 := Scalar.addi v1470 v8152
  let v8156 : Index := Scalar.indexCast v8153
  let c0_3160 : Index := 0#32
  ![v8156.toNat, 0]

def k0_chk993 (i : grid0.Coords) (v8105 : BitVec 32) (v8108 : BitVec 32) (v8150 : BitVec 32) : Prop :=
  (∀ a, (k0_off1988 i v8105 v8108 v8150) a + S1x128.size a ≤ S8224x128.size a)
theorem k0_off1988_inb : ∀ (i : grid0.Coords) (v8105 : BitVec 32) (v8108 : BitVec 32) (v8150 : BitVec 32) (k0_hw993 : k0_chk993 i v8105 v8108 v8150), ∀ a, (k0_off1988 i v8105 v8108 v8150) a + S1x128.size a ≤ S8224x128.size a := fun i v8105 v8108 v8150 k0_hw993 => k0_hw993

def k0_off1989 (v8105 : BitVec 32) : Fin 1 → Nat :=
  let c3_i32_3161 : BitVec 32 := 3#32
  let v8161 : BitVec 32 := Scalar.addi v8105 c3_i32_3161
  let v8164 : Index := Scalar.indexCast v8161
  ![v8164.toNat]
def k0_off1990 (i : grid0.Coords) (v8105 : BitVec 32) (v8108 : BitVec 32) (v8165 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_3162 : BitVec 32 := 3#32
  let v8162 : BitVec 32 := Scalar.addi v8105 c3_i32_3162
  let v8163 : BitVec 1 := Scalar.cmpi .slt v8162 v8108
  let c65535_i32_3163 : BitVec 32 := 65535#32
  let v8166 : BitVec 32 := Scalar.andi v8165 c65535_i32_3163
  let c2048_i32_3164 : BitVec 32 := 2048#32
  let v8167 : BitVec 32 := Scalar.select v8163 v8166 c2048_i32_3164
  let v8168 : BitVec 32 := Scalar.addi v1470 v8167
  let v8171 : Index := Scalar.indexCast v8168
  let c0_3166 : Index := 0#32
  ![v8171.toNat, 0]

def k0_chk994 (i : grid0.Coords) (v8105 : BitVec 32) (v8108 : BitVec 32) (v8165 : BitVec 32) : Prop :=
  (∀ a, (k0_off1990 i v8105 v8108 v8165) a + S1x128.size a ≤ S8224x128.size a)
theorem k0_off1990_inb : ∀ (i : grid0.Coords) (v8105 : BitVec 32) (v8108 : BitVec 32) (v8165 : BitVec 32) (k0_hw994 : k0_chk994 i v8105 v8108 v8165), ∀ a, (k0_off1990 i v8105 v8108 v8165) a + S1x128.size a ≤ S8224x128.size a := fun i v8105 v8108 v8165 k0_hw994 => k0_hw994

def k0_off1991 (v8105 : BitVec 32) : Fin 1 → Nat :=
  let c4_i32_3167 : BitVec 32 := 4#32
  let v8176 : BitVec 32 := Scalar.addi v8105 c4_i32_3167
  let v8179 : Index := Scalar.indexCast v8176
  ![v8179.toNat]
def k0_off1992 (i : grid0.Coords) (v8105 : BitVec 32) (v8108 : BitVec 32) (v8180 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_3168 : BitVec 32 := 4#32
  let v8177 : BitVec 32 := Scalar.addi v8105 c4_i32_3168
  let v8178 : BitVec 1 := Scalar.cmpi .slt v8177 v8108
  let c65535_i32_3169 : BitVec 32 := 65535#32
  let v8181 : BitVec 32 := Scalar.andi v8180 c65535_i32_3169
  let c2048_i32_3170 : BitVec 32 := 2048#32
  let v8182 : BitVec 32 := Scalar.select v8178 v8181 c2048_i32_3170
  let v8183 : BitVec 32 := Scalar.addi v1470 v8182
  let v8186 : Index := Scalar.indexCast v8183
  let c0_3172 : Index := 0#32
  ![v8186.toNat, 0]

def k0_chk995 (i : grid0.Coords) (v8105 : BitVec 32) (v8108 : BitVec 32) (v8180 : BitVec 32) : Prop :=
  (∀ a, (k0_off1992 i v8105 v8108 v8180) a + S1x128.size a ≤ S8224x128.size a)
theorem k0_off1992_inb : ∀ (i : grid0.Coords) (v8105 : BitVec 32) (v8108 : BitVec 32) (v8180 : BitVec 32) (k0_hw995 : k0_chk995 i v8105 v8108 v8180), ∀ a, (k0_off1992 i v8105 v8108 v8180) a + S1x128.size a ≤ S8224x128.size a := fun i v8105 v8108 v8180 k0_hw995 => k0_hw995

def k0_off1993 (v8105 : BitVec 32) : Fin 1 → Nat :=
  let c5_i32_3173 : BitVec 32 := 5#32
  let v8191 : BitVec 32 := Scalar.addi v8105 c5_i32_3173
  let v8194 : Index := Scalar.indexCast v8191
  ![v8194.toNat]
def k0_off1994 (i : grid0.Coords) (v8105 : BitVec 32) (v8108 : BitVec 32) (v8195 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_3174 : BitVec 32 := 5#32
  let v8192 : BitVec 32 := Scalar.addi v8105 c5_i32_3174
  let v8193 : BitVec 1 := Scalar.cmpi .slt v8192 v8108
  let c65535_i32_3175 : BitVec 32 := 65535#32
  let v8196 : BitVec 32 := Scalar.andi v8195 c65535_i32_3175
  let c2048_i32_3176 : BitVec 32 := 2048#32
  let v8197 : BitVec 32 := Scalar.select v8193 v8196 c2048_i32_3176
  let v8198 : BitVec 32 := Scalar.addi v1470 v8197
  let v8201 : Index := Scalar.indexCast v8198
  let c0_3178 : Index := 0#32
  ![v8201.toNat, 0]

def k0_chk996 (i : grid0.Coords) (v8105 : BitVec 32) (v8108 : BitVec 32) (v8195 : BitVec 32) : Prop :=
  (∀ a, (k0_off1994 i v8105 v8108 v8195) a + S1x128.size a ≤ S8224x128.size a)
theorem k0_off1994_inb : ∀ (i : grid0.Coords) (v8105 : BitVec 32) (v8108 : BitVec 32) (v8195 : BitVec 32) (k0_hw996 : k0_chk996 i v8105 v8108 v8195), ∀ a, (k0_off1994 i v8105 v8108 v8195) a + S1x128.size a ≤ S8224x128.size a := fun i v8105 v8108 v8195 k0_hw996 => k0_hw996

def k0_off1995 (v8105 : BitVec 32) : Fin 1 → Nat :=
  let c6_i32_3179 : BitVec 32 := 6#32
  let v8206 : BitVec 32 := Scalar.addi v8105 c6_i32_3179
  let v8209 : Index := Scalar.indexCast v8206
  ![v8209.toNat]
def k0_off1996 (i : grid0.Coords) (v8105 : BitVec 32) (v8108 : BitVec 32) (v8210 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_3180 : BitVec 32 := 6#32
  let v8207 : BitVec 32 := Scalar.addi v8105 c6_i32_3180
  let v8208 : BitVec 1 := Scalar.cmpi .slt v8207 v8108
  let c65535_i32_3181 : BitVec 32 := 65535#32
  let v8211 : BitVec 32 := Scalar.andi v8210 c65535_i32_3181
  let c2048_i32_3182 : BitVec 32 := 2048#32
  let v8212 : BitVec 32 := Scalar.select v8208 v8211 c2048_i32_3182
  let v8213 : BitVec 32 := Scalar.addi v1470 v8212
  let v8216 : Index := Scalar.indexCast v8213
  let c0_3184 : Index := 0#32
  ![v8216.toNat, 0]

def k0_chk997 (i : grid0.Coords) (v8105 : BitVec 32) (v8108 : BitVec 32) (v8210 : BitVec 32) : Prop :=
  (∀ a, (k0_off1996 i v8105 v8108 v8210) a + S1x128.size a ≤ S8224x128.size a)
theorem k0_off1996_inb : ∀ (i : grid0.Coords) (v8105 : BitVec 32) (v8108 : BitVec 32) (v8210 : BitVec 32) (k0_hw997 : k0_chk997 i v8105 v8108 v8210), ∀ a, (k0_off1996 i v8105 v8108 v8210) a + S1x128.size a ≤ S8224x128.size a := fun i v8105 v8108 v8210 k0_hw997 => k0_hw997

def k0_off1997 (v8105 : BitVec 32) : Fin 1 → Nat :=
  let c7_i32_3185 : BitVec 32 := 7#32
  let v8221 : BitVec 32 := Scalar.addi v8105 c7_i32_3185
  let v8224 : Index := Scalar.indexCast v8221
  ![v8224.toNat]
def k0_off1998 (i : grid0.Coords) (v8105 : BitVec 32) (v8108 : BitVec 32) (v8225 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_3186 : BitVec 32 := 7#32
  let v8222 : BitVec 32 := Scalar.addi v8105 c7_i32_3186
  let v8223 : BitVec 1 := Scalar.cmpi .slt v8222 v8108
  let c65535_i32_3187 : BitVec 32 := 65535#32
  let v8226 : BitVec 32 := Scalar.andi v8225 c65535_i32_3187
  let c2048_i32_3188 : BitVec 32 := 2048#32
  let v8227 : BitVec 32 := Scalar.select v8223 v8226 c2048_i32_3188
  let v8228 : BitVec 32 := Scalar.addi v1470 v8227
  let v8231 : Index := Scalar.indexCast v8228
  let c0_3190 : Index := 0#32
  ![v8231.toNat, 0]

def k0_chk998 (i : grid0.Coords) (v8105 : BitVec 32) (v8108 : BitVec 32) (v8225 : BitVec 32) : Prop :=
  (∀ a, (k0_off1998 i v8105 v8108 v8225) a + S1x128.size a ≤ S8224x128.size a)
theorem k0_off1998_inb : ∀ (i : grid0.Coords) (v8105 : BitVec 32) (v8108 : BitVec 32) (v8225 : BitVec 32) (k0_hw998 : k0_chk998 i v8105 v8108 v8225), ∀ a, (k0_off1998 i v8105 v8108 v8225) a + S1x128.size a ≤ S8224x128.size a := fun i v8105 v8108 v8225 k0_hw998 => k0_hw998

def k0_off1999 (v8105 : BitVec 32) : Fin 1 → Nat :=
  let c8_i32_3191 : BitVec 32 := 8#32
  let v8236 : BitVec 32 := Scalar.addi v8105 c8_i32_3191
  let v8239 : Index := Scalar.indexCast v8236
  ![v8239.toNat]
def k0_off2000 (i : grid0.Coords) (v8105 : BitVec 32) (v8108 : BitVec 32) (v8240 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_3192 : BitVec 32 := 8#32
  let v8237 : BitVec 32 := Scalar.addi v8105 c8_i32_3192
  let v8238 : BitVec 1 := Scalar.cmpi .slt v8237 v8108
  let c65535_i32_3193 : BitVec 32 := 65535#32
  let v8241 : BitVec 32 := Scalar.andi v8240 c65535_i32_3193
  let c2048_i32_3194 : BitVec 32 := 2048#32
  let v8242 : BitVec 32 := Scalar.select v8238 v8241 c2048_i32_3194
  let v8243 : BitVec 32 := Scalar.addi v1470 v8242
  let v8246 : Index := Scalar.indexCast v8243
  let c0_3196 : Index := 0#32
  ![v8246.toNat, 0]

def k0_chk999 (i : grid0.Coords) (v8105 : BitVec 32) (v8108 : BitVec 32) (v8240 : BitVec 32) : Prop :=
  (∀ a, (k0_off2000 i v8105 v8108 v8240) a + S1x128.size a ≤ S8224x128.size a)
theorem k0_off2000_inb : ∀ (i : grid0.Coords) (v8105 : BitVec 32) (v8108 : BitVec 32) (v8240 : BitVec 32) (k0_hw999 : k0_chk999 i v8105 v8108 v8240), ∀ a, (k0_off2000 i v8105 v8108 v8240) a + S1x128.size a ≤ S8224x128.size a := fun i v8105 v8108 v8240 k0_hw999 => k0_hw999

def k0_off2001 (v8105 : BitVec 32) : Fin 1 → Nat :=
  let c9_i32_3197 : BitVec 32 := 9#32
  let v8251 : BitVec 32 := Scalar.addi v8105 c9_i32_3197
  let v8254 : Index := Scalar.indexCast v8251
  ![v8254.toNat]
def k0_off2002 (i : grid0.Coords) (v8105 : BitVec 32) (v8108 : BitVec 32) (v8255 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_3198 : BitVec 32 := 9#32
  let v8252 : BitVec 32 := Scalar.addi v8105 c9_i32_3198
  let v8253 : BitVec 1 := Scalar.cmpi .slt v8252 v8108
  let c65535_i32_3199 : BitVec 32 := 65535#32
  let v8256 : BitVec 32 := Scalar.andi v8255 c65535_i32_3199
  let c2048_i32_3200 : BitVec 32 := 2048#32
  let v8257 : BitVec 32 := Scalar.select v8253 v8256 c2048_i32_3200
  let v8258 : BitVec 32 := Scalar.addi v1470 v8257
  let v8261 : Index := Scalar.indexCast v8258
  let c0_3202 : Index := 0#32
  ![v8261.toNat, 0]

def k0_chk1000 (i : grid0.Coords) (v8105 : BitVec 32) (v8108 : BitVec 32) (v8255 : BitVec 32) : Prop :=
  (∀ a, (k0_off2002 i v8105 v8108 v8255) a + S1x128.size a ≤ S8224x128.size a)
theorem k0_off2002_inb : ∀ (i : grid0.Coords) (v8105 : BitVec 32) (v8108 : BitVec 32) (v8255 : BitVec 32) (k0_hw1000 : k0_chk1000 i v8105 v8108 v8255), ∀ a, (k0_off2002 i v8105 v8108 v8255) a + S1x128.size a ≤ S8224x128.size a := fun i v8105 v8108 v8255 k0_hw1000 => k0_hw1000

def k0_off2003 (v8105 : BitVec 32) : Fin 1 → Nat :=
  let c10_i32_3203 : BitVec 32 := 10#32
  let v8266 : BitVec 32 := Scalar.addi v8105 c10_i32_3203
  let v8269 : Index := Scalar.indexCast v8266
  ![v8269.toNat]
def k0_off2004 (i : grid0.Coords) (v8105 : BitVec 32) (v8108 : BitVec 32) (v8270 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_3204 : BitVec 32 := 10#32
  let v8267 : BitVec 32 := Scalar.addi v8105 c10_i32_3204
  let v8268 : BitVec 1 := Scalar.cmpi .slt v8267 v8108
  let c65535_i32_3205 : BitVec 32 := 65535#32
  let v8271 : BitVec 32 := Scalar.andi v8270 c65535_i32_3205
  let c2048_i32_3206 : BitVec 32 := 2048#32
  let v8272 : BitVec 32 := Scalar.select v8268 v8271 c2048_i32_3206
  let v8273 : BitVec 32 := Scalar.addi v1470 v8272
  let v8276 : Index := Scalar.indexCast v8273
  let c0_3208 : Index := 0#32
  ![v8276.toNat, 0]

def k0_chk1001 (i : grid0.Coords) (v8105 : BitVec 32) (v8108 : BitVec 32) (v8270 : BitVec 32) : Prop :=
  (∀ a, (k0_off2004 i v8105 v8108 v8270) a + S1x128.size a ≤ S8224x128.size a)
theorem k0_off2004_inb : ∀ (i : grid0.Coords) (v8105 : BitVec 32) (v8108 : BitVec 32) (v8270 : BitVec 32) (k0_hw1001 : k0_chk1001 i v8105 v8108 v8270), ∀ a, (k0_off2004 i v8105 v8108 v8270) a + S1x128.size a ≤ S8224x128.size a := fun i v8105 v8108 v8270 k0_hw1001 => k0_hw1001

def k0_off2005 (v8105 : BitVec 32) : Fin 1 → Nat :=
  let c11_i32_3209 : BitVec 32 := 11#32
  let v8281 : BitVec 32 := Scalar.addi v8105 c11_i32_3209
  let v8284 : Index := Scalar.indexCast v8281
  ![v8284.toNat]
def k0_off2006 (i : grid0.Coords) (v8105 : BitVec 32) (v8108 : BitVec 32) (v8285 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_3210 : BitVec 32 := 11#32
  let v8282 : BitVec 32 := Scalar.addi v8105 c11_i32_3210
  let v8283 : BitVec 1 := Scalar.cmpi .slt v8282 v8108
  let c65535_i32_3211 : BitVec 32 := 65535#32
  let v8286 : BitVec 32 := Scalar.andi v8285 c65535_i32_3211
  let c2048_i32_3212 : BitVec 32 := 2048#32
  let v8287 : BitVec 32 := Scalar.select v8283 v8286 c2048_i32_3212
  let v8288 : BitVec 32 := Scalar.addi v1470 v8287
  let v8291 : Index := Scalar.indexCast v8288
  let c0_3214 : Index := 0#32
  ![v8291.toNat, 0]

def k0_chk1002 (i : grid0.Coords) (v8105 : BitVec 32) (v8108 : BitVec 32) (v8285 : BitVec 32) : Prop :=
  (∀ a, (k0_off2006 i v8105 v8108 v8285) a + S1x128.size a ≤ S8224x128.size a)
theorem k0_off2006_inb : ∀ (i : grid0.Coords) (v8105 : BitVec 32) (v8108 : BitVec 32) (v8285 : BitVec 32) (k0_hw1002 : k0_chk1002 i v8105 v8108 v8285), ∀ a, (k0_off2006 i v8105 v8108 v8285) a + S1x128.size a ≤ S8224x128.size a := fun i v8105 v8108 v8285 k0_hw1002 => k0_hw1002

def k0_off2007 (v8105 : BitVec 32) : Fin 1 → Nat :=
  let c12_i32_3215 : BitVec 32 := 12#32
  let v8296 : BitVec 32 := Scalar.addi v8105 c12_i32_3215
  let v8299 : Index := Scalar.indexCast v8296
  ![v8299.toNat]
def k0_off2008 (i : grid0.Coords) (v8105 : BitVec 32) (v8108 : BitVec 32) (v8300 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_3216 : BitVec 32 := 12#32
  let v8297 : BitVec 32 := Scalar.addi v8105 c12_i32_3216
  let v8298 : BitVec 1 := Scalar.cmpi .slt v8297 v8108
  let c65535_i32_3217 : BitVec 32 := 65535#32
  let v8301 : BitVec 32 := Scalar.andi v8300 c65535_i32_3217
  let c2048_i32_3218 : BitVec 32 := 2048#32
  let v8302 : BitVec 32 := Scalar.select v8298 v8301 c2048_i32_3218
  let v8303 : BitVec 32 := Scalar.addi v1470 v8302
  let v8306 : Index := Scalar.indexCast v8303
  let c0_3220 : Index := 0#32
  ![v8306.toNat, 0]

def k0_chk1003 (i : grid0.Coords) (v8105 : BitVec 32) (v8108 : BitVec 32) (v8300 : BitVec 32) : Prop :=
  (∀ a, (k0_off2008 i v8105 v8108 v8300) a + S1x128.size a ≤ S8224x128.size a)
theorem k0_off2008_inb : ∀ (i : grid0.Coords) (v8105 : BitVec 32) (v8108 : BitVec 32) (v8300 : BitVec 32) (k0_hw1003 : k0_chk1003 i v8105 v8108 v8300), ∀ a, (k0_off2008 i v8105 v8108 v8300) a + S1x128.size a ≤ S8224x128.size a := fun i v8105 v8108 v8300 k0_hw1003 => k0_hw1003

def k0_off2009 (v8105 : BitVec 32) : Fin 1 → Nat :=
  let c13_i32_3221 : BitVec 32 := 13#32
  let v8311 : BitVec 32 := Scalar.addi v8105 c13_i32_3221
  let v8314 : Index := Scalar.indexCast v8311
  ![v8314.toNat]
def k0_off2010 (i : grid0.Coords) (v8105 : BitVec 32) (v8108 : BitVec 32) (v8315 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_3222 : BitVec 32 := 13#32
  let v8312 : BitVec 32 := Scalar.addi v8105 c13_i32_3222
  let v8313 : BitVec 1 := Scalar.cmpi .slt v8312 v8108
  let c65535_i32_3223 : BitVec 32 := 65535#32
  let v8316 : BitVec 32 := Scalar.andi v8315 c65535_i32_3223
  let c2048_i32_3224 : BitVec 32 := 2048#32
  let v8317 : BitVec 32 := Scalar.select v8313 v8316 c2048_i32_3224
  let v8318 : BitVec 32 := Scalar.addi v1470 v8317
  let v8321 : Index := Scalar.indexCast v8318
  let c0_3226 : Index := 0#32
  ![v8321.toNat, 0]

def k0_chk1004 (i : grid0.Coords) (v8105 : BitVec 32) (v8108 : BitVec 32) (v8315 : BitVec 32) : Prop :=
  (∀ a, (k0_off2010 i v8105 v8108 v8315) a + S1x128.size a ≤ S8224x128.size a)
theorem k0_off2010_inb : ∀ (i : grid0.Coords) (v8105 : BitVec 32) (v8108 : BitVec 32) (v8315 : BitVec 32) (k0_hw1004 : k0_chk1004 i v8105 v8108 v8315), ∀ a, (k0_off2010 i v8105 v8108 v8315) a + S1x128.size a ≤ S8224x128.size a := fun i v8105 v8108 v8315 k0_hw1004 => k0_hw1004

def k0_off2011 (v8105 : BitVec 32) : Fin 1 → Nat :=
  let c14_i32_3227 : BitVec 32 := 14#32
  let v8326 : BitVec 32 := Scalar.addi v8105 c14_i32_3227
  let v8329 : Index := Scalar.indexCast v8326
  ![v8329.toNat]
def k0_off2012 (i : grid0.Coords) (v8105 : BitVec 32) (v8108 : BitVec 32) (v8330 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_3228 : BitVec 32 := 14#32
  let v8327 : BitVec 32 := Scalar.addi v8105 c14_i32_3228
  let v8328 : BitVec 1 := Scalar.cmpi .slt v8327 v8108
  let c65535_i32_3229 : BitVec 32 := 65535#32
  let v8331 : BitVec 32 := Scalar.andi v8330 c65535_i32_3229
  let c2048_i32_3230 : BitVec 32 := 2048#32
  let v8332 : BitVec 32 := Scalar.select v8328 v8331 c2048_i32_3230
  let v8333 : BitVec 32 := Scalar.addi v1470 v8332
  let v8336 : Index := Scalar.indexCast v8333
  let c0_3232 : Index := 0#32
  ![v8336.toNat, 0]

def k0_chk1005 (i : grid0.Coords) (v8105 : BitVec 32) (v8108 : BitVec 32) (v8330 : BitVec 32) : Prop :=
  (∀ a, (k0_off2012 i v8105 v8108 v8330) a + S1x128.size a ≤ S8224x128.size a)
theorem k0_off2012_inb : ∀ (i : grid0.Coords) (v8105 : BitVec 32) (v8108 : BitVec 32) (v8330 : BitVec 32) (k0_hw1005 : k0_chk1005 i v8105 v8108 v8330), ∀ a, (k0_off2012 i v8105 v8108 v8330) a + S1x128.size a ≤ S8224x128.size a := fun i v8105 v8108 v8330 k0_hw1005 => k0_hw1005

def k0_off2013 (v8105 : BitVec 32) : Fin 1 → Nat :=
  let c15_i32_3233 : BitVec 32 := 15#32
  let v8341 : BitVec 32 := Scalar.addi v8105 c15_i32_3233
  let v8344 : Index := Scalar.indexCast v8341
  ![v8344.toNat]

def k0_chk990 (v8105 : BitVec 32) : Prop :=
  (∀ a, (k0_off1983 v8105) a + S1.size a ≤ S51920.size a) ∧
  (∀ a, (k0_off1985 v8105) a + S1.size a ≤ S51920.size a) ∧
  (∀ a, (k0_off1987 v8105) a + S1.size a ≤ S51920.size a) ∧
  (∀ a, (k0_off1989 v8105) a + S1.size a ≤ S51920.size a) ∧
  (∀ a, (k0_off1991 v8105) a + S1.size a ≤ S51920.size a) ∧
  (∀ a, (k0_off1993 v8105) a + S1.size a ≤ S51920.size a) ∧
  (∀ a, (k0_off1995 v8105) a + S1.size a ≤ S51920.size a) ∧
  (∀ a, (k0_off1997 v8105) a + S1.size a ≤ S51920.size a) ∧
  (∀ a, (k0_off1999 v8105) a + S1.size a ≤ S51920.size a) ∧
  (∀ a, (k0_off2001 v8105) a + S1.size a ≤ S51920.size a) ∧
  (∀ a, (k0_off2003 v8105) a + S1.size a ≤ S51920.size a) ∧
  (∀ a, (k0_off2005 v8105) a + S1.size a ≤ S51920.size a) ∧
  (∀ a, (k0_off2007 v8105) a + S1.size a ≤ S51920.size a) ∧
  (∀ a, (k0_off2009 v8105) a + S1.size a ≤ S51920.size a) ∧
  (∀ a, (k0_off2011 v8105) a + S1.size a ≤ S51920.size a) ∧
  (∀ a, (k0_off2013 v8105) a + S1.size a ≤ S51920.size a)
theorem k0_off1983_inb : ∀ (v8105 : BitVec 32) (k0_hw990 : k0_chk990 v8105), ∀ a, (k0_off1983 v8105) a + S1.size a ≤ S51920.size a := fun v8105 k0_hw990 => k0_hw990.1
theorem k0_off1985_inb : ∀ (v8105 : BitVec 32) (k0_hw990 : k0_chk990 v8105), ∀ a, (k0_off1985 v8105) a + S1.size a ≤ S51920.size a := fun v8105 k0_hw990 => k0_hw990.2.1
theorem k0_off1987_inb : ∀ (v8105 : BitVec 32) (k0_hw990 : k0_chk990 v8105), ∀ a, (k0_off1987 v8105) a + S1.size a ≤ S51920.size a := fun v8105 k0_hw990 => k0_hw990.2.2.1
theorem k0_off1989_inb : ∀ (v8105 : BitVec 32) (k0_hw990 : k0_chk990 v8105), ∀ a, (k0_off1989 v8105) a + S1.size a ≤ S51920.size a := fun v8105 k0_hw990 => k0_hw990.2.2.2.1
theorem k0_off1991_inb : ∀ (v8105 : BitVec 32) (k0_hw990 : k0_chk990 v8105), ∀ a, (k0_off1991 v8105) a + S1.size a ≤ S51920.size a := fun v8105 k0_hw990 => k0_hw990.2.2.2.2.1
theorem k0_off1993_inb : ∀ (v8105 : BitVec 32) (k0_hw990 : k0_chk990 v8105), ∀ a, (k0_off1993 v8105) a + S1.size a ≤ S51920.size a := fun v8105 k0_hw990 => k0_hw990.2.2.2.2.2.1
theorem k0_off1995_inb : ∀ (v8105 : BitVec 32) (k0_hw990 : k0_chk990 v8105), ∀ a, (k0_off1995 v8105) a + S1.size a ≤ S51920.size a := fun v8105 k0_hw990 => k0_hw990.2.2.2.2.2.2.1
theorem k0_off1997_inb : ∀ (v8105 : BitVec 32) (k0_hw990 : k0_chk990 v8105), ∀ a, (k0_off1997 v8105) a + S1.size a ≤ S51920.size a := fun v8105 k0_hw990 => k0_hw990.2.2.2.2.2.2.2.1
theorem k0_off1999_inb : ∀ (v8105 : BitVec 32) (k0_hw990 : k0_chk990 v8105), ∀ a, (k0_off1999 v8105) a + S1.size a ≤ S51920.size a := fun v8105 k0_hw990 => k0_hw990.2.2.2.2.2.2.2.2.1
theorem k0_off2001_inb : ∀ (v8105 : BitVec 32) (k0_hw990 : k0_chk990 v8105), ∀ a, (k0_off2001 v8105) a + S1.size a ≤ S51920.size a := fun v8105 k0_hw990 => k0_hw990.2.2.2.2.2.2.2.2.2.1
theorem k0_off2003_inb : ∀ (v8105 : BitVec 32) (k0_hw990 : k0_chk990 v8105), ∀ a, (k0_off2003 v8105) a + S1.size a ≤ S51920.size a := fun v8105 k0_hw990 => k0_hw990.2.2.2.2.2.2.2.2.2.2.1
theorem k0_off2005_inb : ∀ (v8105 : BitVec 32) (k0_hw990 : k0_chk990 v8105), ∀ a, (k0_off2005 v8105) a + S1.size a ≤ S51920.size a := fun v8105 k0_hw990 => k0_hw990.2.2.2.2.2.2.2.2.2.2.2.1
theorem k0_off2007_inb : ∀ (v8105 : BitVec 32) (k0_hw990 : k0_chk990 v8105), ∀ a, (k0_off2007 v8105) a + S1.size a ≤ S51920.size a := fun v8105 k0_hw990 => k0_hw990.2.2.2.2.2.2.2.2.2.2.2.2.1
theorem k0_off2009_inb : ∀ (v8105 : BitVec 32) (k0_hw990 : k0_chk990 v8105), ∀ a, (k0_off2009 v8105) a + S1.size a ≤ S51920.size a := fun v8105 k0_hw990 => k0_hw990.2.2.2.2.2.2.2.2.2.2.2.2.2.1
theorem k0_off2011_inb : ∀ (v8105 : BitVec 32) (k0_hw990 : k0_chk990 v8105), ∀ a, (k0_off2011 v8105) a + S1.size a ≤ S51920.size a := fun v8105 k0_hw990 => k0_hw990.2.2.2.2.2.2.2.2.2.2.2.2.2.2.1
theorem k0_off2013_inb : ∀ (v8105 : BitVec 32) (k0_hw990 : k0_chk990 v8105), ∀ a, (k0_off2013 v8105) a + S1.size a ≤ S51920.size a := fun v8105 k0_hw990 => k0_hw990.2.2.2.2.2.2.2.2.2.2.2.2.2.2.2

def k0_off2014 (i : grid0.Coords) (v8105 : BitVec 32) (v8108 : BitVec 32) (v8345 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_3234 : BitVec 32 := 15#32
  let v8342 : BitVec 32 := Scalar.addi v8105 c15_i32_3234
  let v8343 : BitVec 1 := Scalar.cmpi .slt v8342 v8108
  let c65535_i32_3235 : BitVec 32 := 65535#32
  let v8346 : BitVec 32 := Scalar.andi v8345 c65535_i32_3235
  let c2048_i32_3236 : BitVec 32 := 2048#32
  let v8347 : BitVec 32 := Scalar.select v8343 v8346 c2048_i32_3236
  let v8348 : BitVec 32 := Scalar.addi v1470 v8347
  let v8351 : Index := Scalar.indexCast v8348
  let c0_3238 : Index := 0#32
  ![v8351.toNat, 0]

def k0_chk1006 (i : grid0.Coords) (v8105 : BitVec 32) (v8108 : BitVec 32) (v8345 : BitVec 32) : Prop :=
  (∀ a, (k0_off2014 i v8105 v8108 v8345) a + S1x128.size a ≤ S8224x128.size a)
theorem k0_off2014_inb : ∀ (i : grid0.Coords) (v8105 : BitVec 32) (v8108 : BitVec 32) (v8345 : BitVec 32) (k0_hw1006 : k0_chk1006 i v8105 v8108 v8345), ∀ a, (k0_off2014 i v8105 v8108 v8345) a + S1x128.size a ≤ S8224x128.size a := fun i v8105 v8108 v8345 k0_hw1006 => k0_hw1006

def k0_off2015 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3239 : BitVec 32 := 512#32
  let v8356 : BitVec 32 := Scalar.muli v24 c512_i32_3239
  let arg1 : BitVec 32 := BitVec.ofNat 32 (i 1).val
  let c32_i32 : BitVec 32 := 32#32
  let v1452 : BitVec 32 := Scalar.muli arg1 c32_i32
  let v8357 : BitVec 32 := Scalar.addi v8356 v1452
  let c27_i32 : BitVec 32 := 27#32
  let v8358 : BitVec 32 := Scalar.addi v8357 c27_i32
  let v8359 : Index := Scalar.indexCast v8358
  ![v8359.toNat]
def k0_off2016 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3239 : BitVec 32 := 512#32
  let v8356 : BitVec 32 := Scalar.muli v24 c512_i32_3239
  let arg1 : BitVec 32 := BitVec.ofNat 32 (i 1).val
  let c32_i32 : BitVec 32 := 32#32
  let v1452 : BitVec 32 := Scalar.muli arg1 c32_i32
  let v8357 : BitVec 32 := Scalar.addi v8356 v1452
  let c27_i32 : BitVec 32 := 27#32
  let v8358 : BitVec 32 := Scalar.addi v8357 c27_i32
  let c1_i32_3240 : BitVec 32 := 1#32
  let v8361 : BitVec 32 := Scalar.addi v8358 c1_i32_3240
  let v8362 : Index := Scalar.indexCast v8361
  ![v8362.toNat]
def k0_off2017 (v8360 : BitVec 32) : Fin 1 → Nat :=
  let c0_i32_3243 : BitVec 32 := 0#32
  let v8371 : BitVec 32 := Scalar.addi v8360 c0_i32_3243
  let v8374 : Index := Scalar.indexCast v8371
  ![v8374.toNat]

def k0_off2018 (i : grid0.Coords) (v8360 : BitVec 32) (v8363 : BitVec 32) (v8375 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_3244 : BitVec 32 := 0#32
  let v8372 : BitVec 32 := Scalar.addi v8360 c0_i32_3244
  let v8373 : BitVec 1 := Scalar.cmpi .slt v8372 v8363
  let c65535_i32_3245 : BitVec 32 := 65535#32
  let v8376 : BitVec 32 := Scalar.andi v8375 c65535_i32_3245
  let c2048_i32_3246 : BitVec 32 := 2048#32
  let v8377 : BitVec 32 := Scalar.select v8373 v8376 c2048_i32_3246
  let v8378 : BitVec 32 := Scalar.addi v1470 v8377
  let v8381 : Index := Scalar.indexCast v8378
  let c0_3248 : Index := 0#32
  ![v8381.toNat, 0]

def k0_chk1008 (i : grid0.Coords) (v8360 : BitVec 32) (v8363 : BitVec 32) (v8375 : BitVec 32) : Prop :=
  (∀ a, (k0_off2018 i v8360 v8363 v8375) a + S1x128.size a ≤ S8224x128.size a)
theorem k0_off2018_inb : ∀ (i : grid0.Coords) (v8360 : BitVec 32) (v8363 : BitVec 32) (v8375 : BitVec 32) (k0_hw1008 : k0_chk1008 i v8360 v8363 v8375), ∀ a, (k0_off2018 i v8360 v8363 v8375) a + S1x128.size a ≤ S8224x128.size a := fun i v8360 v8363 v8375 k0_hw1008 => k0_hw1008

def k0_off2019 (v8360 : BitVec 32) : Fin 1 → Nat :=
  let c1_i32_3249 : BitVec 32 := 1#32
  let v8386 : BitVec 32 := Scalar.addi v8360 c1_i32_3249
  let v8389 : Index := Scalar.indexCast v8386
  ![v8389.toNat]
def k0_off2020 (i : grid0.Coords) (v8360 : BitVec 32) (v8363 : BitVec 32) (v8390 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_3250 : BitVec 32 := 1#32
  let v8387 : BitVec 32 := Scalar.addi v8360 c1_i32_3250
  let v8388 : BitVec 1 := Scalar.cmpi .slt v8387 v8363
  let c65535_i32_3251 : BitVec 32 := 65535#32
  let v8391 : BitVec 32 := Scalar.andi v8390 c65535_i32_3251
  let c2048_i32_3252 : BitVec 32 := 2048#32
  let v8392 : BitVec 32 := Scalar.select v8388 v8391 c2048_i32_3252
  let v8393 : BitVec 32 := Scalar.addi v1470 v8392
  let v8396 : Index := Scalar.indexCast v8393
  let c0_3254 : Index := 0#32
  ![v8396.toNat, 0]

def k0_chk1009 (i : grid0.Coords) (v8360 : BitVec 32) (v8363 : BitVec 32) (v8390 : BitVec 32) : Prop :=
  (∀ a, (k0_off2020 i v8360 v8363 v8390) a + S1x128.size a ≤ S8224x128.size a)
theorem k0_off2020_inb : ∀ (i : grid0.Coords) (v8360 : BitVec 32) (v8363 : BitVec 32) (v8390 : BitVec 32) (k0_hw1009 : k0_chk1009 i v8360 v8363 v8390), ∀ a, (k0_off2020 i v8360 v8363 v8390) a + S1x128.size a ≤ S8224x128.size a := fun i v8360 v8363 v8390 k0_hw1009 => k0_hw1009

def k0_off2021 (v8360 : BitVec 32) : Fin 1 → Nat :=
  let c2_i32_3255 : BitVec 32 := 2#32
  let v8401 : BitVec 32 := Scalar.addi v8360 c2_i32_3255
  let v8404 : Index := Scalar.indexCast v8401
  ![v8404.toNat]
def k0_off2022 (i : grid0.Coords) (v8360 : BitVec 32) (v8363 : BitVec 32) (v8405 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_3256 : BitVec 32 := 2#32
  let v8402 : BitVec 32 := Scalar.addi v8360 c2_i32_3256
  let v8403 : BitVec 1 := Scalar.cmpi .slt v8402 v8363
  let c65535_i32_3257 : BitVec 32 := 65535#32
  let v8406 : BitVec 32 := Scalar.andi v8405 c65535_i32_3257
  let c2048_i32_3258 : BitVec 32 := 2048#32
  let v8407 : BitVec 32 := Scalar.select v8403 v8406 c2048_i32_3258
  let v8408 : BitVec 32 := Scalar.addi v1470 v8407
  let v8411 : Index := Scalar.indexCast v8408
  let c0_3260 : Index := 0#32
  ![v8411.toNat, 0]

def k0_chk1010 (i : grid0.Coords) (v8360 : BitVec 32) (v8363 : BitVec 32) (v8405 : BitVec 32) : Prop :=
  (∀ a, (k0_off2022 i v8360 v8363 v8405) a + S1x128.size a ≤ S8224x128.size a)
theorem k0_off2022_inb : ∀ (i : grid0.Coords) (v8360 : BitVec 32) (v8363 : BitVec 32) (v8405 : BitVec 32) (k0_hw1010 : k0_chk1010 i v8360 v8363 v8405), ∀ a, (k0_off2022 i v8360 v8363 v8405) a + S1x128.size a ≤ S8224x128.size a := fun i v8360 v8363 v8405 k0_hw1010 => k0_hw1010

def k0_off2023 (v8360 : BitVec 32) : Fin 1 → Nat :=
  let c3_i32_3261 : BitVec 32 := 3#32
  let v8416 : BitVec 32 := Scalar.addi v8360 c3_i32_3261
  let v8419 : Index := Scalar.indexCast v8416
  ![v8419.toNat]
def k0_off2024 (i : grid0.Coords) (v8360 : BitVec 32) (v8363 : BitVec 32) (v8420 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_3262 : BitVec 32 := 3#32
  let v8417 : BitVec 32 := Scalar.addi v8360 c3_i32_3262
  let v8418 : BitVec 1 := Scalar.cmpi .slt v8417 v8363
  let c65535_i32_3263 : BitVec 32 := 65535#32
  let v8421 : BitVec 32 := Scalar.andi v8420 c65535_i32_3263
  let c2048_i32_3264 : BitVec 32 := 2048#32
  let v8422 : BitVec 32 := Scalar.select v8418 v8421 c2048_i32_3264
  let v8423 : BitVec 32 := Scalar.addi v1470 v8422
  let v8426 : Index := Scalar.indexCast v8423
  let c0_3266 : Index := 0#32
  ![v8426.toNat, 0]

def k0_chk1011 (i : grid0.Coords) (v8360 : BitVec 32) (v8363 : BitVec 32) (v8420 : BitVec 32) : Prop :=
  (∀ a, (k0_off2024 i v8360 v8363 v8420) a + S1x128.size a ≤ S8224x128.size a)
theorem k0_off2024_inb : ∀ (i : grid0.Coords) (v8360 : BitVec 32) (v8363 : BitVec 32) (v8420 : BitVec 32) (k0_hw1011 : k0_chk1011 i v8360 v8363 v8420), ∀ a, (k0_off2024 i v8360 v8363 v8420) a + S1x128.size a ≤ S8224x128.size a := fun i v8360 v8363 v8420 k0_hw1011 => k0_hw1011

def k0_off2025 (v8360 : BitVec 32) : Fin 1 → Nat :=
  let c4_i32_3267 : BitVec 32 := 4#32
  let v8431 : BitVec 32 := Scalar.addi v8360 c4_i32_3267
  let v8434 : Index := Scalar.indexCast v8431
  ![v8434.toNat]
def k0_off2026 (i : grid0.Coords) (v8360 : BitVec 32) (v8363 : BitVec 32) (v8435 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_3268 : BitVec 32 := 4#32
  let v8432 : BitVec 32 := Scalar.addi v8360 c4_i32_3268
  let v8433 : BitVec 1 := Scalar.cmpi .slt v8432 v8363
  let c65535_i32_3269 : BitVec 32 := 65535#32
  let v8436 : BitVec 32 := Scalar.andi v8435 c65535_i32_3269
  let c2048_i32_3270 : BitVec 32 := 2048#32
  let v8437 : BitVec 32 := Scalar.select v8433 v8436 c2048_i32_3270
  let v8438 : BitVec 32 := Scalar.addi v1470 v8437
  let v8441 : Index := Scalar.indexCast v8438
  let c0_3272 : Index := 0#32
  ![v8441.toNat, 0]

def k0_chk1012 (i : grid0.Coords) (v8360 : BitVec 32) (v8363 : BitVec 32) (v8435 : BitVec 32) : Prop :=
  (∀ a, (k0_off2026 i v8360 v8363 v8435) a + S1x128.size a ≤ S8224x128.size a)
theorem k0_off2026_inb : ∀ (i : grid0.Coords) (v8360 : BitVec 32) (v8363 : BitVec 32) (v8435 : BitVec 32) (k0_hw1012 : k0_chk1012 i v8360 v8363 v8435), ∀ a, (k0_off2026 i v8360 v8363 v8435) a + S1x128.size a ≤ S8224x128.size a := fun i v8360 v8363 v8435 k0_hw1012 => k0_hw1012

def k0_off2027 (v8360 : BitVec 32) : Fin 1 → Nat :=
  let c5_i32_3273 : BitVec 32 := 5#32
  let v8446 : BitVec 32 := Scalar.addi v8360 c5_i32_3273
  let v8449 : Index := Scalar.indexCast v8446
  ![v8449.toNat]
def k0_off2028 (i : grid0.Coords) (v8360 : BitVec 32) (v8363 : BitVec 32) (v8450 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_3274 : BitVec 32 := 5#32
  let v8447 : BitVec 32 := Scalar.addi v8360 c5_i32_3274
  let v8448 : BitVec 1 := Scalar.cmpi .slt v8447 v8363
  let c65535_i32_3275 : BitVec 32 := 65535#32
  let v8451 : BitVec 32 := Scalar.andi v8450 c65535_i32_3275
  let c2048_i32_3276 : BitVec 32 := 2048#32
  let v8452 : BitVec 32 := Scalar.select v8448 v8451 c2048_i32_3276
  let v8453 : BitVec 32 := Scalar.addi v1470 v8452
  let v8456 : Index := Scalar.indexCast v8453
  let c0_3278 : Index := 0#32
  ![v8456.toNat, 0]

def k0_chk1013 (i : grid0.Coords) (v8360 : BitVec 32) (v8363 : BitVec 32) (v8450 : BitVec 32) : Prop :=
  (∀ a, (k0_off2028 i v8360 v8363 v8450) a + S1x128.size a ≤ S8224x128.size a)
theorem k0_off2028_inb : ∀ (i : grid0.Coords) (v8360 : BitVec 32) (v8363 : BitVec 32) (v8450 : BitVec 32) (k0_hw1013 : k0_chk1013 i v8360 v8363 v8450), ∀ a, (k0_off2028 i v8360 v8363 v8450) a + S1x128.size a ≤ S8224x128.size a := fun i v8360 v8363 v8450 k0_hw1013 => k0_hw1013

def k0_off2029 (v8360 : BitVec 32) : Fin 1 → Nat :=
  let c6_i32_3279 : BitVec 32 := 6#32
  let v8461 : BitVec 32 := Scalar.addi v8360 c6_i32_3279
  let v8464 : Index := Scalar.indexCast v8461
  ![v8464.toNat]
def k0_off2030 (i : grid0.Coords) (v8360 : BitVec 32) (v8363 : BitVec 32) (v8465 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_3280 : BitVec 32 := 6#32
  let v8462 : BitVec 32 := Scalar.addi v8360 c6_i32_3280
  let v8463 : BitVec 1 := Scalar.cmpi .slt v8462 v8363
  let c65535_i32_3281 : BitVec 32 := 65535#32
  let v8466 : BitVec 32 := Scalar.andi v8465 c65535_i32_3281
  let c2048_i32_3282 : BitVec 32 := 2048#32
  let v8467 : BitVec 32 := Scalar.select v8463 v8466 c2048_i32_3282
  let v8468 : BitVec 32 := Scalar.addi v1470 v8467
  let v8471 : Index := Scalar.indexCast v8468
  let c0_3284 : Index := 0#32
  ![v8471.toNat, 0]

def k0_chk1014 (i : grid0.Coords) (v8360 : BitVec 32) (v8363 : BitVec 32) (v8465 : BitVec 32) : Prop :=
  (∀ a, (k0_off2030 i v8360 v8363 v8465) a + S1x128.size a ≤ S8224x128.size a)
theorem k0_off2030_inb : ∀ (i : grid0.Coords) (v8360 : BitVec 32) (v8363 : BitVec 32) (v8465 : BitVec 32) (k0_hw1014 : k0_chk1014 i v8360 v8363 v8465), ∀ a, (k0_off2030 i v8360 v8363 v8465) a + S1x128.size a ≤ S8224x128.size a := fun i v8360 v8363 v8465 k0_hw1014 => k0_hw1014

def k0_off2031 (v8360 : BitVec 32) : Fin 1 → Nat :=
  let c7_i32_3285 : BitVec 32 := 7#32
  let v8476 : BitVec 32 := Scalar.addi v8360 c7_i32_3285
  let v8479 : Index := Scalar.indexCast v8476
  ![v8479.toNat]
def k0_off2032 (i : grid0.Coords) (v8360 : BitVec 32) (v8363 : BitVec 32) (v8480 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_3286 : BitVec 32 := 7#32
  let v8477 : BitVec 32 := Scalar.addi v8360 c7_i32_3286
  let v8478 : BitVec 1 := Scalar.cmpi .slt v8477 v8363
  let c65535_i32_3287 : BitVec 32 := 65535#32
  let v8481 : BitVec 32 := Scalar.andi v8480 c65535_i32_3287
  let c2048_i32_3288 : BitVec 32 := 2048#32
  let v8482 : BitVec 32 := Scalar.select v8478 v8481 c2048_i32_3288
  let v8483 : BitVec 32 := Scalar.addi v1470 v8482
  let v8486 : Index := Scalar.indexCast v8483
  let c0_3290 : Index := 0#32
  ![v8486.toNat, 0]

def k0_chk1015 (i : grid0.Coords) (v8360 : BitVec 32) (v8363 : BitVec 32) (v8480 : BitVec 32) : Prop :=
  (∀ a, (k0_off2032 i v8360 v8363 v8480) a + S1x128.size a ≤ S8224x128.size a)
theorem k0_off2032_inb : ∀ (i : grid0.Coords) (v8360 : BitVec 32) (v8363 : BitVec 32) (v8480 : BitVec 32) (k0_hw1015 : k0_chk1015 i v8360 v8363 v8480), ∀ a, (k0_off2032 i v8360 v8363 v8480) a + S1x128.size a ≤ S8224x128.size a := fun i v8360 v8363 v8480 k0_hw1015 => k0_hw1015

def k0_off2033 (v8360 : BitVec 32) : Fin 1 → Nat :=
  let c8_i32_3291 : BitVec 32 := 8#32
  let v8491 : BitVec 32 := Scalar.addi v8360 c8_i32_3291
  let v8494 : Index := Scalar.indexCast v8491
  ![v8494.toNat]
def k0_off2034 (i : grid0.Coords) (v8360 : BitVec 32) (v8363 : BitVec 32) (v8495 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_3292 : BitVec 32 := 8#32
  let v8492 : BitVec 32 := Scalar.addi v8360 c8_i32_3292
  let v8493 : BitVec 1 := Scalar.cmpi .slt v8492 v8363
  let c65535_i32_3293 : BitVec 32 := 65535#32
  let v8496 : BitVec 32 := Scalar.andi v8495 c65535_i32_3293
  let c2048_i32_3294 : BitVec 32 := 2048#32
  let v8497 : BitVec 32 := Scalar.select v8493 v8496 c2048_i32_3294
  let v8498 : BitVec 32 := Scalar.addi v1470 v8497
  let v8501 : Index := Scalar.indexCast v8498
  let c0_3296 : Index := 0#32
  ![v8501.toNat, 0]

def k0_chk1016 (i : grid0.Coords) (v8360 : BitVec 32) (v8363 : BitVec 32) (v8495 : BitVec 32) : Prop :=
  (∀ a, (k0_off2034 i v8360 v8363 v8495) a + S1x128.size a ≤ S8224x128.size a)
theorem k0_off2034_inb : ∀ (i : grid0.Coords) (v8360 : BitVec 32) (v8363 : BitVec 32) (v8495 : BitVec 32) (k0_hw1016 : k0_chk1016 i v8360 v8363 v8495), ∀ a, (k0_off2034 i v8360 v8363 v8495) a + S1x128.size a ≤ S8224x128.size a := fun i v8360 v8363 v8495 k0_hw1016 => k0_hw1016

def k0_off2035 (v8360 : BitVec 32) : Fin 1 → Nat :=
  let c9_i32_3297 : BitVec 32 := 9#32
  let v8506 : BitVec 32 := Scalar.addi v8360 c9_i32_3297
  let v8509 : Index := Scalar.indexCast v8506
  ![v8509.toNat]
def k0_off2036 (i : grid0.Coords) (v8360 : BitVec 32) (v8363 : BitVec 32) (v8510 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_3298 : BitVec 32 := 9#32
  let v8507 : BitVec 32 := Scalar.addi v8360 c9_i32_3298
  let v8508 : BitVec 1 := Scalar.cmpi .slt v8507 v8363
  let c65535_i32_3299 : BitVec 32 := 65535#32
  let v8511 : BitVec 32 := Scalar.andi v8510 c65535_i32_3299
  let c2048_i32_3300 : BitVec 32 := 2048#32
  let v8512 : BitVec 32 := Scalar.select v8508 v8511 c2048_i32_3300
  let v8513 : BitVec 32 := Scalar.addi v1470 v8512
  let v8516 : Index := Scalar.indexCast v8513
  let c0_3302 : Index := 0#32
  ![v8516.toNat, 0]

def k0_chk1017 (i : grid0.Coords) (v8360 : BitVec 32) (v8363 : BitVec 32) (v8510 : BitVec 32) : Prop :=
  (∀ a, (k0_off2036 i v8360 v8363 v8510) a + S1x128.size a ≤ S8224x128.size a)
theorem k0_off2036_inb : ∀ (i : grid0.Coords) (v8360 : BitVec 32) (v8363 : BitVec 32) (v8510 : BitVec 32) (k0_hw1017 : k0_chk1017 i v8360 v8363 v8510), ∀ a, (k0_off2036 i v8360 v8363 v8510) a + S1x128.size a ≤ S8224x128.size a := fun i v8360 v8363 v8510 k0_hw1017 => k0_hw1017

def k0_off2037 (v8360 : BitVec 32) : Fin 1 → Nat :=
  let c10_i32_3303 : BitVec 32 := 10#32
  let v8521 : BitVec 32 := Scalar.addi v8360 c10_i32_3303
  let v8524 : Index := Scalar.indexCast v8521
  ![v8524.toNat]
def k0_off2038 (i : grid0.Coords) (v8360 : BitVec 32) (v8363 : BitVec 32) (v8525 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_3304 : BitVec 32 := 10#32
  let v8522 : BitVec 32 := Scalar.addi v8360 c10_i32_3304
  let v8523 : BitVec 1 := Scalar.cmpi .slt v8522 v8363
  let c65535_i32_3305 : BitVec 32 := 65535#32
  let v8526 : BitVec 32 := Scalar.andi v8525 c65535_i32_3305
  let c2048_i32_3306 : BitVec 32 := 2048#32
  let v8527 : BitVec 32 := Scalar.select v8523 v8526 c2048_i32_3306
  let v8528 : BitVec 32 := Scalar.addi v1470 v8527
  let v8531 : Index := Scalar.indexCast v8528
  let c0_3308 : Index := 0#32
  ![v8531.toNat, 0]

def k0_chk1018 (i : grid0.Coords) (v8360 : BitVec 32) (v8363 : BitVec 32) (v8525 : BitVec 32) : Prop :=
  (∀ a, (k0_off2038 i v8360 v8363 v8525) a + S1x128.size a ≤ S8224x128.size a)
theorem k0_off2038_inb : ∀ (i : grid0.Coords) (v8360 : BitVec 32) (v8363 : BitVec 32) (v8525 : BitVec 32) (k0_hw1018 : k0_chk1018 i v8360 v8363 v8525), ∀ a, (k0_off2038 i v8360 v8363 v8525) a + S1x128.size a ≤ S8224x128.size a := fun i v8360 v8363 v8525 k0_hw1018 => k0_hw1018

def k0_off2039 (v8360 : BitVec 32) : Fin 1 → Nat :=
  let c11_i32_3309 : BitVec 32 := 11#32
  let v8536 : BitVec 32 := Scalar.addi v8360 c11_i32_3309
  let v8539 : Index := Scalar.indexCast v8536
  ![v8539.toNat]
def k0_off2040 (i : grid0.Coords) (v8360 : BitVec 32) (v8363 : BitVec 32) (v8540 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_3310 : BitVec 32 := 11#32
  let v8537 : BitVec 32 := Scalar.addi v8360 c11_i32_3310
  let v8538 : BitVec 1 := Scalar.cmpi .slt v8537 v8363
  let c65535_i32_3311 : BitVec 32 := 65535#32
  let v8541 : BitVec 32 := Scalar.andi v8540 c65535_i32_3311
  let c2048_i32_3312 : BitVec 32 := 2048#32
  let v8542 : BitVec 32 := Scalar.select v8538 v8541 c2048_i32_3312
  let v8543 : BitVec 32 := Scalar.addi v1470 v8542
  let v8546 : Index := Scalar.indexCast v8543
  let c0_3314 : Index := 0#32
  ![v8546.toNat, 0]

def k0_chk1019 (i : grid0.Coords) (v8360 : BitVec 32) (v8363 : BitVec 32) (v8540 : BitVec 32) : Prop :=
  (∀ a, (k0_off2040 i v8360 v8363 v8540) a + S1x128.size a ≤ S8224x128.size a)
theorem k0_off2040_inb : ∀ (i : grid0.Coords) (v8360 : BitVec 32) (v8363 : BitVec 32) (v8540 : BitVec 32) (k0_hw1019 : k0_chk1019 i v8360 v8363 v8540), ∀ a, (k0_off2040 i v8360 v8363 v8540) a + S1x128.size a ≤ S8224x128.size a := fun i v8360 v8363 v8540 k0_hw1019 => k0_hw1019

def k0_off2041 (v8360 : BitVec 32) : Fin 1 → Nat :=
  let c12_i32_3315 : BitVec 32 := 12#32
  let v8551 : BitVec 32 := Scalar.addi v8360 c12_i32_3315
  let v8554 : Index := Scalar.indexCast v8551
  ![v8554.toNat]
def k0_off2042 (i : grid0.Coords) (v8360 : BitVec 32) (v8363 : BitVec 32) (v8555 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_3316 : BitVec 32 := 12#32
  let v8552 : BitVec 32 := Scalar.addi v8360 c12_i32_3316
  let v8553 : BitVec 1 := Scalar.cmpi .slt v8552 v8363
  let c65535_i32_3317 : BitVec 32 := 65535#32
  let v8556 : BitVec 32 := Scalar.andi v8555 c65535_i32_3317
  let c2048_i32_3318 : BitVec 32 := 2048#32
  let v8557 : BitVec 32 := Scalar.select v8553 v8556 c2048_i32_3318
  let v8558 : BitVec 32 := Scalar.addi v1470 v8557
  let v8561 : Index := Scalar.indexCast v8558
  let c0_3320 : Index := 0#32
  ![v8561.toNat, 0]

def k0_chk1020 (i : grid0.Coords) (v8360 : BitVec 32) (v8363 : BitVec 32) (v8555 : BitVec 32) : Prop :=
  (∀ a, (k0_off2042 i v8360 v8363 v8555) a + S1x128.size a ≤ S8224x128.size a)
theorem k0_off2042_inb : ∀ (i : grid0.Coords) (v8360 : BitVec 32) (v8363 : BitVec 32) (v8555 : BitVec 32) (k0_hw1020 : k0_chk1020 i v8360 v8363 v8555), ∀ a, (k0_off2042 i v8360 v8363 v8555) a + S1x128.size a ≤ S8224x128.size a := fun i v8360 v8363 v8555 k0_hw1020 => k0_hw1020

def k0_off2043 (v8360 : BitVec 32) : Fin 1 → Nat :=
  let c13_i32_3321 : BitVec 32 := 13#32
  let v8566 : BitVec 32 := Scalar.addi v8360 c13_i32_3321
  let v8569 : Index := Scalar.indexCast v8566
  ![v8569.toNat]
def k0_off2044 (i : grid0.Coords) (v8360 : BitVec 32) (v8363 : BitVec 32) (v8570 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_3322 : BitVec 32 := 13#32
  let v8567 : BitVec 32 := Scalar.addi v8360 c13_i32_3322
  let v8568 : BitVec 1 := Scalar.cmpi .slt v8567 v8363
  let c65535_i32_3323 : BitVec 32 := 65535#32
  let v8571 : BitVec 32 := Scalar.andi v8570 c65535_i32_3323
  let c2048_i32_3324 : BitVec 32 := 2048#32
  let v8572 : BitVec 32 := Scalar.select v8568 v8571 c2048_i32_3324
  let v8573 : BitVec 32 := Scalar.addi v1470 v8572
  let v8576 : Index := Scalar.indexCast v8573
  let c0_3326 : Index := 0#32
  ![v8576.toNat, 0]

def k0_chk1021 (i : grid0.Coords) (v8360 : BitVec 32) (v8363 : BitVec 32) (v8570 : BitVec 32) : Prop :=
  (∀ a, (k0_off2044 i v8360 v8363 v8570) a + S1x128.size a ≤ S8224x128.size a)
theorem k0_off2044_inb : ∀ (i : grid0.Coords) (v8360 : BitVec 32) (v8363 : BitVec 32) (v8570 : BitVec 32) (k0_hw1021 : k0_chk1021 i v8360 v8363 v8570), ∀ a, (k0_off2044 i v8360 v8363 v8570) a + S1x128.size a ≤ S8224x128.size a := fun i v8360 v8363 v8570 k0_hw1021 => k0_hw1021

def k0_off2045 (v8360 : BitVec 32) : Fin 1 → Nat :=
  let c14_i32_3327 : BitVec 32 := 14#32
  let v8581 : BitVec 32 := Scalar.addi v8360 c14_i32_3327
  let v8584 : Index := Scalar.indexCast v8581
  ![v8584.toNat]
def k0_off2046 (i : grid0.Coords) (v8360 : BitVec 32) (v8363 : BitVec 32) (v8585 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_3328 : BitVec 32 := 14#32
  let v8582 : BitVec 32 := Scalar.addi v8360 c14_i32_3328
  let v8583 : BitVec 1 := Scalar.cmpi .slt v8582 v8363
  let c65535_i32_3329 : BitVec 32 := 65535#32
  let v8586 : BitVec 32 := Scalar.andi v8585 c65535_i32_3329
  let c2048_i32_3330 : BitVec 32 := 2048#32
  let v8587 : BitVec 32 := Scalar.select v8583 v8586 c2048_i32_3330
  let v8588 : BitVec 32 := Scalar.addi v1470 v8587
  let v8591 : Index := Scalar.indexCast v8588
  let c0_3332 : Index := 0#32
  ![v8591.toNat, 0]

def k0_chk1022 (i : grid0.Coords) (v8360 : BitVec 32) (v8363 : BitVec 32) (v8585 : BitVec 32) : Prop :=
  (∀ a, (k0_off2046 i v8360 v8363 v8585) a + S1x128.size a ≤ S8224x128.size a)
theorem k0_off2046_inb : ∀ (i : grid0.Coords) (v8360 : BitVec 32) (v8363 : BitVec 32) (v8585 : BitVec 32) (k0_hw1022 : k0_chk1022 i v8360 v8363 v8585), ∀ a, (k0_off2046 i v8360 v8363 v8585) a + S1x128.size a ≤ S8224x128.size a := fun i v8360 v8363 v8585 k0_hw1022 => k0_hw1022

def k0_off2047 (v8360 : BitVec 32) : Fin 1 → Nat :=
  let c15_i32_3333 : BitVec 32 := 15#32
  let v8596 : BitVec 32 := Scalar.addi v8360 c15_i32_3333
  let v8599 : Index := Scalar.indexCast v8596
  ![v8599.toNat]

def k0_chk1007 (v8360 : BitVec 32) : Prop :=
  (∀ a, (k0_off2017 v8360) a + S1.size a ≤ S51920.size a) ∧
  (∀ a, (k0_off2019 v8360) a + S1.size a ≤ S51920.size a) ∧
  (∀ a, (k0_off2021 v8360) a + S1.size a ≤ S51920.size a) ∧
  (∀ a, (k0_off2023 v8360) a + S1.size a ≤ S51920.size a) ∧
  (∀ a, (k0_off2025 v8360) a + S1.size a ≤ S51920.size a) ∧
  (∀ a, (k0_off2027 v8360) a + S1.size a ≤ S51920.size a) ∧
  (∀ a, (k0_off2029 v8360) a + S1.size a ≤ S51920.size a) ∧
  (∀ a, (k0_off2031 v8360) a + S1.size a ≤ S51920.size a) ∧
  (∀ a, (k0_off2033 v8360) a + S1.size a ≤ S51920.size a) ∧
  (∀ a, (k0_off2035 v8360) a + S1.size a ≤ S51920.size a) ∧
  (∀ a, (k0_off2037 v8360) a + S1.size a ≤ S51920.size a) ∧
  (∀ a, (k0_off2039 v8360) a + S1.size a ≤ S51920.size a) ∧
  (∀ a, (k0_off2041 v8360) a + S1.size a ≤ S51920.size a) ∧
  (∀ a, (k0_off2043 v8360) a + S1.size a ≤ S51920.size a) ∧
  (∀ a, (k0_off2045 v8360) a + S1.size a ≤ S51920.size a) ∧
  (∀ a, (k0_off2047 v8360) a + S1.size a ≤ S51920.size a)
theorem k0_off2017_inb : ∀ (v8360 : BitVec 32) (k0_hw1007 : k0_chk1007 v8360), ∀ a, (k0_off2017 v8360) a + S1.size a ≤ S51920.size a := fun v8360 k0_hw1007 => k0_hw1007.1
theorem k0_off2019_inb : ∀ (v8360 : BitVec 32) (k0_hw1007 : k0_chk1007 v8360), ∀ a, (k0_off2019 v8360) a + S1.size a ≤ S51920.size a := fun v8360 k0_hw1007 => k0_hw1007.2.1
theorem k0_off2021_inb : ∀ (v8360 : BitVec 32) (k0_hw1007 : k0_chk1007 v8360), ∀ a, (k0_off2021 v8360) a + S1.size a ≤ S51920.size a := fun v8360 k0_hw1007 => k0_hw1007.2.2.1
theorem k0_off2023_inb : ∀ (v8360 : BitVec 32) (k0_hw1007 : k0_chk1007 v8360), ∀ a, (k0_off2023 v8360) a + S1.size a ≤ S51920.size a := fun v8360 k0_hw1007 => k0_hw1007.2.2.2.1
theorem k0_off2025_inb : ∀ (v8360 : BitVec 32) (k0_hw1007 : k0_chk1007 v8360), ∀ a, (k0_off2025 v8360) a + S1.size a ≤ S51920.size a := fun v8360 k0_hw1007 => k0_hw1007.2.2.2.2.1
theorem k0_off2027_inb : ∀ (v8360 : BitVec 32) (k0_hw1007 : k0_chk1007 v8360), ∀ a, (k0_off2027 v8360) a + S1.size a ≤ S51920.size a := fun v8360 k0_hw1007 => k0_hw1007.2.2.2.2.2.1
theorem k0_off2029_inb : ∀ (v8360 : BitVec 32) (k0_hw1007 : k0_chk1007 v8360), ∀ a, (k0_off2029 v8360) a + S1.size a ≤ S51920.size a := fun v8360 k0_hw1007 => k0_hw1007.2.2.2.2.2.2.1
theorem k0_off2031_inb : ∀ (v8360 : BitVec 32) (k0_hw1007 : k0_chk1007 v8360), ∀ a, (k0_off2031 v8360) a + S1.size a ≤ S51920.size a := fun v8360 k0_hw1007 => k0_hw1007.2.2.2.2.2.2.2.1
theorem k0_off2033_inb : ∀ (v8360 : BitVec 32) (k0_hw1007 : k0_chk1007 v8360), ∀ a, (k0_off2033 v8360) a + S1.size a ≤ S51920.size a := fun v8360 k0_hw1007 => k0_hw1007.2.2.2.2.2.2.2.2.1
theorem k0_off2035_inb : ∀ (v8360 : BitVec 32) (k0_hw1007 : k0_chk1007 v8360), ∀ a, (k0_off2035 v8360) a + S1.size a ≤ S51920.size a := fun v8360 k0_hw1007 => k0_hw1007.2.2.2.2.2.2.2.2.2.1
theorem k0_off2037_inb : ∀ (v8360 : BitVec 32) (k0_hw1007 : k0_chk1007 v8360), ∀ a, (k0_off2037 v8360) a + S1.size a ≤ S51920.size a := fun v8360 k0_hw1007 => k0_hw1007.2.2.2.2.2.2.2.2.2.2.1
theorem k0_off2039_inb : ∀ (v8360 : BitVec 32) (k0_hw1007 : k0_chk1007 v8360), ∀ a, (k0_off2039 v8360) a + S1.size a ≤ S51920.size a := fun v8360 k0_hw1007 => k0_hw1007.2.2.2.2.2.2.2.2.2.2.2.1
theorem k0_off2041_inb : ∀ (v8360 : BitVec 32) (k0_hw1007 : k0_chk1007 v8360), ∀ a, (k0_off2041 v8360) a + S1.size a ≤ S51920.size a := fun v8360 k0_hw1007 => k0_hw1007.2.2.2.2.2.2.2.2.2.2.2.2.1
theorem k0_off2043_inb : ∀ (v8360 : BitVec 32) (k0_hw1007 : k0_chk1007 v8360), ∀ a, (k0_off2043 v8360) a + S1.size a ≤ S51920.size a := fun v8360 k0_hw1007 => k0_hw1007.2.2.2.2.2.2.2.2.2.2.2.2.2.1
theorem k0_off2045_inb : ∀ (v8360 : BitVec 32) (k0_hw1007 : k0_chk1007 v8360), ∀ a, (k0_off2045 v8360) a + S1.size a ≤ S51920.size a := fun v8360 k0_hw1007 => k0_hw1007.2.2.2.2.2.2.2.2.2.2.2.2.2.2.1
theorem k0_off2047_inb : ∀ (v8360 : BitVec 32) (k0_hw1007 : k0_chk1007 v8360), ∀ a, (k0_off2047 v8360) a + S1.size a ≤ S51920.size a := fun v8360 k0_hw1007 => k0_hw1007.2.2.2.2.2.2.2.2.2.2.2.2.2.2.2

def k0_off2048 (i : grid0.Coords) (v8360 : BitVec 32) (v8363 : BitVec 32) (v8600 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_3334 : BitVec 32 := 15#32
  let v8597 : BitVec 32 := Scalar.addi v8360 c15_i32_3334
  let v8598 : BitVec 1 := Scalar.cmpi .slt v8597 v8363
  let c65535_i32_3335 : BitVec 32 := 65535#32
  let v8601 : BitVec 32 := Scalar.andi v8600 c65535_i32_3335
  let c2048_i32_3336 : BitVec 32 := 2048#32
  let v8602 : BitVec 32 := Scalar.select v8598 v8601 c2048_i32_3336
  let v8603 : BitVec 32 := Scalar.addi v1470 v8602
  let v8606 : Index := Scalar.indexCast v8603
  let c0_3338 : Index := 0#32
  ![v8606.toNat, 0]

def k0_chk1023 (i : grid0.Coords) (v8360 : BitVec 32) (v8363 : BitVec 32) (v8600 : BitVec 32) : Prop :=
  (∀ a, (k0_off2048 i v8360 v8363 v8600) a + S1x128.size a ≤ S8224x128.size a)
theorem k0_off2048_inb : ∀ (i : grid0.Coords) (v8360 : BitVec 32) (v8363 : BitVec 32) (v8600 : BitVec 32) (k0_hw1023 : k0_chk1023 i v8360 v8363 v8600), ∀ a, (k0_off2048 i v8360 v8363 v8600) a + S1x128.size a ≤ S8224x128.size a := fun i v8360 v8363 v8600 k0_hw1023 => k0_hw1023

def k0_off2049 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3339 : BitVec 32 := 512#32
  let v8611 : BitVec 32 := Scalar.muli v24 c512_i32_3339
  let arg1 : BitVec 32 := BitVec.ofNat 32 (i 1).val
  let c32_i32 : BitVec 32 := 32#32
  let v1452 : BitVec 32 := Scalar.muli arg1 c32_i32
  let v8612 : BitVec 32 := Scalar.addi v8611 v1452
  let c28_i32 : BitVec 32 := 28#32
  let v8613 : BitVec 32 := Scalar.addi v8612 c28_i32
  let v8614 : Index := Scalar.indexCast v8613
  ![v8614.toNat]
def k0_off2050 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3339 : BitVec 32 := 512#32
  let v8611 : BitVec 32 := Scalar.muli v24 c512_i32_3339
  let arg1 : BitVec 32 := BitVec.ofNat 32 (i 1).val
  let c32_i32 : BitVec 32 := 32#32
  let v1452 : BitVec 32 := Scalar.muli arg1 c32_i32
  let v8612 : BitVec 32 := Scalar.addi v8611 v1452
  let c28_i32 : BitVec 32 := 28#32
  let v8613 : BitVec 32 := Scalar.addi v8612 c28_i32
  let c1_i32_3340 : BitVec 32 := 1#32
  let v8616 : BitVec 32 := Scalar.addi v8613 c1_i32_3340
  let v8617 : Index := Scalar.indexCast v8616
  ![v8617.toNat]
def k0_off2051 (v8615 : BitVec 32) : Fin 1 → Nat :=
  let c0_i32_3343 : BitVec 32 := 0#32
  let v8626 : BitVec 32 := Scalar.addi v8615 c0_i32_3343
  let v8629 : Index := Scalar.indexCast v8626
  ![v8629.toNat]

def k0_off2052 (i : grid0.Coords) (v8615 : BitVec 32) (v8618 : BitVec 32) (v8630 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_3344 : BitVec 32 := 0#32
  let v8627 : BitVec 32 := Scalar.addi v8615 c0_i32_3344
  let v8628 : BitVec 1 := Scalar.cmpi .slt v8627 v8618
  let c65535_i32_3345 : BitVec 32 := 65535#32
  let v8631 : BitVec 32 := Scalar.andi v8630 c65535_i32_3345
  let c2048_i32_3346 : BitVec 32 := 2048#32
  let v8632 : BitVec 32 := Scalar.select v8628 v8631 c2048_i32_3346
  let v8633 : BitVec 32 := Scalar.addi v1470 v8632
  let v8636 : Index := Scalar.indexCast v8633
  let c0_3348 : Index := 0#32
  ![v8636.toNat, 0]

def k0_chk1025 (i : grid0.Coords) (v8615 : BitVec 32) (v8618 : BitVec 32) (v8630 : BitVec 32) : Prop :=
  (∀ a, (k0_off2052 i v8615 v8618 v8630) a + S1x128.size a ≤ S8224x128.size a)
theorem k0_off2052_inb : ∀ (i : grid0.Coords) (v8615 : BitVec 32) (v8618 : BitVec 32) (v8630 : BitVec 32) (k0_hw1025 : k0_chk1025 i v8615 v8618 v8630), ∀ a, (k0_off2052 i v8615 v8618 v8630) a + S1x128.size a ≤ S8224x128.size a := fun i v8615 v8618 v8630 k0_hw1025 => k0_hw1025

def k0_off2053 (v8615 : BitVec 32) : Fin 1 → Nat :=
  let c1_i32_3349 : BitVec 32 := 1#32
  let v8641 : BitVec 32 := Scalar.addi v8615 c1_i32_3349
  let v8644 : Index := Scalar.indexCast v8641
  ![v8644.toNat]
def k0_off2054 (i : grid0.Coords) (v8615 : BitVec 32) (v8618 : BitVec 32) (v8645 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_3350 : BitVec 32 := 1#32
  let v8642 : BitVec 32 := Scalar.addi v8615 c1_i32_3350
  let v8643 : BitVec 1 := Scalar.cmpi .slt v8642 v8618
  let c65535_i32_3351 : BitVec 32 := 65535#32
  let v8646 : BitVec 32 := Scalar.andi v8645 c65535_i32_3351
  let c2048_i32_3352 : BitVec 32 := 2048#32
  let v8647 : BitVec 32 := Scalar.select v8643 v8646 c2048_i32_3352
  let v8648 : BitVec 32 := Scalar.addi v1470 v8647
  let v8651 : Index := Scalar.indexCast v8648
  let c0_3354 : Index := 0#32
  ![v8651.toNat, 0]

def k0_chk1026 (i : grid0.Coords) (v8615 : BitVec 32) (v8618 : BitVec 32) (v8645 : BitVec 32) : Prop :=
  (∀ a, (k0_off2054 i v8615 v8618 v8645) a + S1x128.size a ≤ S8224x128.size a)
theorem k0_off2054_inb : ∀ (i : grid0.Coords) (v8615 : BitVec 32) (v8618 : BitVec 32) (v8645 : BitVec 32) (k0_hw1026 : k0_chk1026 i v8615 v8618 v8645), ∀ a, (k0_off2054 i v8615 v8618 v8645) a + S1x128.size a ≤ S8224x128.size a := fun i v8615 v8618 v8645 k0_hw1026 => k0_hw1026

def k0_off2055 (v8615 : BitVec 32) : Fin 1 → Nat :=
  let c2_i32_3355 : BitVec 32 := 2#32
  let v8656 : BitVec 32 := Scalar.addi v8615 c2_i32_3355
  let v8659 : Index := Scalar.indexCast v8656
  ![v8659.toNat]
def k0_off2056 (i : grid0.Coords) (v8615 : BitVec 32) (v8618 : BitVec 32) (v8660 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_3356 : BitVec 32 := 2#32
  let v8657 : BitVec 32 := Scalar.addi v8615 c2_i32_3356
  let v8658 : BitVec 1 := Scalar.cmpi .slt v8657 v8618
  let c65535_i32_3357 : BitVec 32 := 65535#32
  let v8661 : BitVec 32 := Scalar.andi v8660 c65535_i32_3357
  let c2048_i32_3358 : BitVec 32 := 2048#32
  let v8662 : BitVec 32 := Scalar.select v8658 v8661 c2048_i32_3358
  let v8663 : BitVec 32 := Scalar.addi v1470 v8662
  let v8666 : Index := Scalar.indexCast v8663
  let c0_3360 : Index := 0#32
  ![v8666.toNat, 0]

def k0_chk1027 (i : grid0.Coords) (v8615 : BitVec 32) (v8618 : BitVec 32) (v8660 : BitVec 32) : Prop :=
  (∀ a, (k0_off2056 i v8615 v8618 v8660) a + S1x128.size a ≤ S8224x128.size a)
theorem k0_off2056_inb : ∀ (i : grid0.Coords) (v8615 : BitVec 32) (v8618 : BitVec 32) (v8660 : BitVec 32) (k0_hw1027 : k0_chk1027 i v8615 v8618 v8660), ∀ a, (k0_off2056 i v8615 v8618 v8660) a + S1x128.size a ≤ S8224x128.size a := fun i v8615 v8618 v8660 k0_hw1027 => k0_hw1027

def k0_off2057 (v8615 : BitVec 32) : Fin 1 → Nat :=
  let c3_i32_3361 : BitVec 32 := 3#32
  let v8671 : BitVec 32 := Scalar.addi v8615 c3_i32_3361
  let v8674 : Index := Scalar.indexCast v8671
  ![v8674.toNat]
def k0_off2058 (i : grid0.Coords) (v8615 : BitVec 32) (v8618 : BitVec 32) (v8675 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_3362 : BitVec 32 := 3#32
  let v8672 : BitVec 32 := Scalar.addi v8615 c3_i32_3362
  let v8673 : BitVec 1 := Scalar.cmpi .slt v8672 v8618
  let c65535_i32_3363 : BitVec 32 := 65535#32
  let v8676 : BitVec 32 := Scalar.andi v8675 c65535_i32_3363
  let c2048_i32_3364 : BitVec 32 := 2048#32
  let v8677 : BitVec 32 := Scalar.select v8673 v8676 c2048_i32_3364
  let v8678 : BitVec 32 := Scalar.addi v1470 v8677
  let v8681 : Index := Scalar.indexCast v8678
  let c0_3366 : Index := 0#32
  ![v8681.toNat, 0]

def k0_chk1028 (i : grid0.Coords) (v8615 : BitVec 32) (v8618 : BitVec 32) (v8675 : BitVec 32) : Prop :=
  (∀ a, (k0_off2058 i v8615 v8618 v8675) a + S1x128.size a ≤ S8224x128.size a)
theorem k0_off2058_inb : ∀ (i : grid0.Coords) (v8615 : BitVec 32) (v8618 : BitVec 32) (v8675 : BitVec 32) (k0_hw1028 : k0_chk1028 i v8615 v8618 v8675), ∀ a, (k0_off2058 i v8615 v8618 v8675) a + S1x128.size a ≤ S8224x128.size a := fun i v8615 v8618 v8675 k0_hw1028 => k0_hw1028

def k0_off2059 (v8615 : BitVec 32) : Fin 1 → Nat :=
  let c4_i32_3367 : BitVec 32 := 4#32
  let v8686 : BitVec 32 := Scalar.addi v8615 c4_i32_3367
  let v8689 : Index := Scalar.indexCast v8686
  ![v8689.toNat]
def k0_off2060 (i : grid0.Coords) (v8615 : BitVec 32) (v8618 : BitVec 32) (v8690 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_3368 : BitVec 32 := 4#32
  let v8687 : BitVec 32 := Scalar.addi v8615 c4_i32_3368
  let v8688 : BitVec 1 := Scalar.cmpi .slt v8687 v8618
  let c65535_i32_3369 : BitVec 32 := 65535#32
  let v8691 : BitVec 32 := Scalar.andi v8690 c65535_i32_3369
  let c2048_i32_3370 : BitVec 32 := 2048#32
  let v8692 : BitVec 32 := Scalar.select v8688 v8691 c2048_i32_3370
  let v8693 : BitVec 32 := Scalar.addi v1470 v8692
  let v8696 : Index := Scalar.indexCast v8693
  let c0_3372 : Index := 0#32
  ![v8696.toNat, 0]

def k0_chk1029 (i : grid0.Coords) (v8615 : BitVec 32) (v8618 : BitVec 32) (v8690 : BitVec 32) : Prop :=
  (∀ a, (k0_off2060 i v8615 v8618 v8690) a + S1x128.size a ≤ S8224x128.size a)
theorem k0_off2060_inb : ∀ (i : grid0.Coords) (v8615 : BitVec 32) (v8618 : BitVec 32) (v8690 : BitVec 32) (k0_hw1029 : k0_chk1029 i v8615 v8618 v8690), ∀ a, (k0_off2060 i v8615 v8618 v8690) a + S1x128.size a ≤ S8224x128.size a := fun i v8615 v8618 v8690 k0_hw1029 => k0_hw1029

def k0_off2061 (v8615 : BitVec 32) : Fin 1 → Nat :=
  let c5_i32_3373 : BitVec 32 := 5#32
  let v8701 : BitVec 32 := Scalar.addi v8615 c5_i32_3373
  let v8704 : Index := Scalar.indexCast v8701
  ![v8704.toNat]
def k0_off2062 (i : grid0.Coords) (v8615 : BitVec 32) (v8618 : BitVec 32) (v8705 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_3374 : BitVec 32 := 5#32
  let v8702 : BitVec 32 := Scalar.addi v8615 c5_i32_3374
  let v8703 : BitVec 1 := Scalar.cmpi .slt v8702 v8618
  let c65535_i32_3375 : BitVec 32 := 65535#32
  let v8706 : BitVec 32 := Scalar.andi v8705 c65535_i32_3375
  let c2048_i32_3376 : BitVec 32 := 2048#32
  let v8707 : BitVec 32 := Scalar.select v8703 v8706 c2048_i32_3376
  let v8708 : BitVec 32 := Scalar.addi v1470 v8707
  let v8711 : Index := Scalar.indexCast v8708
  let c0_3378 : Index := 0#32
  ![v8711.toNat, 0]

def k0_chk1030 (i : grid0.Coords) (v8615 : BitVec 32) (v8618 : BitVec 32) (v8705 : BitVec 32) : Prop :=
  (∀ a, (k0_off2062 i v8615 v8618 v8705) a + S1x128.size a ≤ S8224x128.size a)
theorem k0_off2062_inb : ∀ (i : grid0.Coords) (v8615 : BitVec 32) (v8618 : BitVec 32) (v8705 : BitVec 32) (k0_hw1030 : k0_chk1030 i v8615 v8618 v8705), ∀ a, (k0_off2062 i v8615 v8618 v8705) a + S1x128.size a ≤ S8224x128.size a := fun i v8615 v8618 v8705 k0_hw1030 => k0_hw1030

def k0_off2063 (v8615 : BitVec 32) : Fin 1 → Nat :=
  let c6_i32_3379 : BitVec 32 := 6#32
  let v8716 : BitVec 32 := Scalar.addi v8615 c6_i32_3379
  let v8719 : Index := Scalar.indexCast v8716
  ![v8719.toNat]
def k0_off2064 (i : grid0.Coords) (v8615 : BitVec 32) (v8618 : BitVec 32) (v8720 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_3380 : BitVec 32 := 6#32
  let v8717 : BitVec 32 := Scalar.addi v8615 c6_i32_3380
  let v8718 : BitVec 1 := Scalar.cmpi .slt v8717 v8618
  let c65535_i32_3381 : BitVec 32 := 65535#32
  let v8721 : BitVec 32 := Scalar.andi v8720 c65535_i32_3381
  let c2048_i32_3382 : BitVec 32 := 2048#32
  let v8722 : BitVec 32 := Scalar.select v8718 v8721 c2048_i32_3382
  let v8723 : BitVec 32 := Scalar.addi v1470 v8722
  let v8726 : Index := Scalar.indexCast v8723
  let c0_3384 : Index := 0#32
  ![v8726.toNat, 0]

def k0_chk1031 (i : grid0.Coords) (v8615 : BitVec 32) (v8618 : BitVec 32) (v8720 : BitVec 32) : Prop :=
  (∀ a, (k0_off2064 i v8615 v8618 v8720) a + S1x128.size a ≤ S8224x128.size a)
theorem k0_off2064_inb : ∀ (i : grid0.Coords) (v8615 : BitVec 32) (v8618 : BitVec 32) (v8720 : BitVec 32) (k0_hw1031 : k0_chk1031 i v8615 v8618 v8720), ∀ a, (k0_off2064 i v8615 v8618 v8720) a + S1x128.size a ≤ S8224x128.size a := fun i v8615 v8618 v8720 k0_hw1031 => k0_hw1031

def k0_off2065 (v8615 : BitVec 32) : Fin 1 → Nat :=
  let c7_i32_3385 : BitVec 32 := 7#32
  let v8731 : BitVec 32 := Scalar.addi v8615 c7_i32_3385
  let v8734 : Index := Scalar.indexCast v8731
  ![v8734.toNat]
def k0_off2066 (i : grid0.Coords) (v8615 : BitVec 32) (v8618 : BitVec 32) (v8735 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_3386 : BitVec 32 := 7#32
  let v8732 : BitVec 32 := Scalar.addi v8615 c7_i32_3386
  let v8733 : BitVec 1 := Scalar.cmpi .slt v8732 v8618
  let c65535_i32_3387 : BitVec 32 := 65535#32
  let v8736 : BitVec 32 := Scalar.andi v8735 c65535_i32_3387
  let c2048_i32_3388 : BitVec 32 := 2048#32
  let v8737 : BitVec 32 := Scalar.select v8733 v8736 c2048_i32_3388
  let v8738 : BitVec 32 := Scalar.addi v1470 v8737
  let v8741 : Index := Scalar.indexCast v8738
  let c0_3390 : Index := 0#32
  ![v8741.toNat, 0]

def k0_chk1032 (i : grid0.Coords) (v8615 : BitVec 32) (v8618 : BitVec 32) (v8735 : BitVec 32) : Prop :=
  (∀ a, (k0_off2066 i v8615 v8618 v8735) a + S1x128.size a ≤ S8224x128.size a)
theorem k0_off2066_inb : ∀ (i : grid0.Coords) (v8615 : BitVec 32) (v8618 : BitVec 32) (v8735 : BitVec 32) (k0_hw1032 : k0_chk1032 i v8615 v8618 v8735), ∀ a, (k0_off2066 i v8615 v8618 v8735) a + S1x128.size a ≤ S8224x128.size a := fun i v8615 v8618 v8735 k0_hw1032 => k0_hw1032

def k0_off2067 (v8615 : BitVec 32) : Fin 1 → Nat :=
  let c8_i32_3391 : BitVec 32 := 8#32
  let v8746 : BitVec 32 := Scalar.addi v8615 c8_i32_3391
  let v8749 : Index := Scalar.indexCast v8746
  ![v8749.toNat]
def k0_off2068 (i : grid0.Coords) (v8615 : BitVec 32) (v8618 : BitVec 32) (v8750 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_3392 : BitVec 32 := 8#32
  let v8747 : BitVec 32 := Scalar.addi v8615 c8_i32_3392
  let v8748 : BitVec 1 := Scalar.cmpi .slt v8747 v8618
  let c65535_i32_3393 : BitVec 32 := 65535#32
  let v8751 : BitVec 32 := Scalar.andi v8750 c65535_i32_3393
  let c2048_i32_3394 : BitVec 32 := 2048#32
  let v8752 : BitVec 32 := Scalar.select v8748 v8751 c2048_i32_3394
  let v8753 : BitVec 32 := Scalar.addi v1470 v8752
  let v8756 : Index := Scalar.indexCast v8753
  let c0_3396 : Index := 0#32
  ![v8756.toNat, 0]

def k0_chk1033 (i : grid0.Coords) (v8615 : BitVec 32) (v8618 : BitVec 32) (v8750 : BitVec 32) : Prop :=
  (∀ a, (k0_off2068 i v8615 v8618 v8750) a + S1x128.size a ≤ S8224x128.size a)
theorem k0_off2068_inb : ∀ (i : grid0.Coords) (v8615 : BitVec 32) (v8618 : BitVec 32) (v8750 : BitVec 32) (k0_hw1033 : k0_chk1033 i v8615 v8618 v8750), ∀ a, (k0_off2068 i v8615 v8618 v8750) a + S1x128.size a ≤ S8224x128.size a := fun i v8615 v8618 v8750 k0_hw1033 => k0_hw1033

def k0_off2069 (v8615 : BitVec 32) : Fin 1 → Nat :=
  let c9_i32_3397 : BitVec 32 := 9#32
  let v8761 : BitVec 32 := Scalar.addi v8615 c9_i32_3397
  let v8764 : Index := Scalar.indexCast v8761
  ![v8764.toNat]
def k0_off2070 (i : grid0.Coords) (v8615 : BitVec 32) (v8618 : BitVec 32) (v8765 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_3398 : BitVec 32 := 9#32
  let v8762 : BitVec 32 := Scalar.addi v8615 c9_i32_3398
  let v8763 : BitVec 1 := Scalar.cmpi .slt v8762 v8618
  let c65535_i32_3399 : BitVec 32 := 65535#32
  let v8766 : BitVec 32 := Scalar.andi v8765 c65535_i32_3399
  let c2048_i32_3400 : BitVec 32 := 2048#32
  let v8767 : BitVec 32 := Scalar.select v8763 v8766 c2048_i32_3400
  let v8768 : BitVec 32 := Scalar.addi v1470 v8767
  let v8771 : Index := Scalar.indexCast v8768
  let c0_3402 : Index := 0#32
  ![v8771.toNat, 0]

def k0_chk1034 (i : grid0.Coords) (v8615 : BitVec 32) (v8618 : BitVec 32) (v8765 : BitVec 32) : Prop :=
  (∀ a, (k0_off2070 i v8615 v8618 v8765) a + S1x128.size a ≤ S8224x128.size a)
theorem k0_off2070_inb : ∀ (i : grid0.Coords) (v8615 : BitVec 32) (v8618 : BitVec 32) (v8765 : BitVec 32) (k0_hw1034 : k0_chk1034 i v8615 v8618 v8765), ∀ a, (k0_off2070 i v8615 v8618 v8765) a + S1x128.size a ≤ S8224x128.size a := fun i v8615 v8618 v8765 k0_hw1034 => k0_hw1034

def k0_off2071 (v8615 : BitVec 32) : Fin 1 → Nat :=
  let c10_i32_3403 : BitVec 32 := 10#32
  let v8776 : BitVec 32 := Scalar.addi v8615 c10_i32_3403
  let v8779 : Index := Scalar.indexCast v8776
  ![v8779.toNat]
def k0_off2072 (i : grid0.Coords) (v8615 : BitVec 32) (v8618 : BitVec 32) (v8780 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_3404 : BitVec 32 := 10#32
  let v8777 : BitVec 32 := Scalar.addi v8615 c10_i32_3404
  let v8778 : BitVec 1 := Scalar.cmpi .slt v8777 v8618
  let c65535_i32_3405 : BitVec 32 := 65535#32
  let v8781 : BitVec 32 := Scalar.andi v8780 c65535_i32_3405
  let c2048_i32_3406 : BitVec 32 := 2048#32
  let v8782 : BitVec 32 := Scalar.select v8778 v8781 c2048_i32_3406
  let v8783 : BitVec 32 := Scalar.addi v1470 v8782
  let v8786 : Index := Scalar.indexCast v8783
  let c0_3408 : Index := 0#32
  ![v8786.toNat, 0]

def k0_chk1035 (i : grid0.Coords) (v8615 : BitVec 32) (v8618 : BitVec 32) (v8780 : BitVec 32) : Prop :=
  (∀ a, (k0_off2072 i v8615 v8618 v8780) a + S1x128.size a ≤ S8224x128.size a)
theorem k0_off2072_inb : ∀ (i : grid0.Coords) (v8615 : BitVec 32) (v8618 : BitVec 32) (v8780 : BitVec 32) (k0_hw1035 : k0_chk1035 i v8615 v8618 v8780), ∀ a, (k0_off2072 i v8615 v8618 v8780) a + S1x128.size a ≤ S8224x128.size a := fun i v8615 v8618 v8780 k0_hw1035 => k0_hw1035

def k0_off2073 (v8615 : BitVec 32) : Fin 1 → Nat :=
  let c11_i32_3409 : BitVec 32 := 11#32
  let v8791 : BitVec 32 := Scalar.addi v8615 c11_i32_3409
  let v8794 : Index := Scalar.indexCast v8791
  ![v8794.toNat]
def k0_off2074 (i : grid0.Coords) (v8615 : BitVec 32) (v8618 : BitVec 32) (v8795 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_3410 : BitVec 32 := 11#32
  let v8792 : BitVec 32 := Scalar.addi v8615 c11_i32_3410
  let v8793 : BitVec 1 := Scalar.cmpi .slt v8792 v8618
  let c65535_i32_3411 : BitVec 32 := 65535#32
  let v8796 : BitVec 32 := Scalar.andi v8795 c65535_i32_3411
  let c2048_i32_3412 : BitVec 32 := 2048#32
  let v8797 : BitVec 32 := Scalar.select v8793 v8796 c2048_i32_3412
  let v8798 : BitVec 32 := Scalar.addi v1470 v8797
  let v8801 : Index := Scalar.indexCast v8798
  let c0_3414 : Index := 0#32
  ![v8801.toNat, 0]

def k0_chk1036 (i : grid0.Coords) (v8615 : BitVec 32) (v8618 : BitVec 32) (v8795 : BitVec 32) : Prop :=
  (∀ a, (k0_off2074 i v8615 v8618 v8795) a + S1x128.size a ≤ S8224x128.size a)
theorem k0_off2074_inb : ∀ (i : grid0.Coords) (v8615 : BitVec 32) (v8618 : BitVec 32) (v8795 : BitVec 32) (k0_hw1036 : k0_chk1036 i v8615 v8618 v8795), ∀ a, (k0_off2074 i v8615 v8618 v8795) a + S1x128.size a ≤ S8224x128.size a := fun i v8615 v8618 v8795 k0_hw1036 => k0_hw1036

def k0_off2075 (v8615 : BitVec 32) : Fin 1 → Nat :=
  let c12_i32_3415 : BitVec 32 := 12#32
  let v8806 : BitVec 32 := Scalar.addi v8615 c12_i32_3415
  let v8809 : Index := Scalar.indexCast v8806
  ![v8809.toNat]
def k0_off2076 (i : grid0.Coords) (v8615 : BitVec 32) (v8618 : BitVec 32) (v8810 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_3416 : BitVec 32 := 12#32
  let v8807 : BitVec 32 := Scalar.addi v8615 c12_i32_3416
  let v8808 : BitVec 1 := Scalar.cmpi .slt v8807 v8618
  let c65535_i32_3417 : BitVec 32 := 65535#32
  let v8811 : BitVec 32 := Scalar.andi v8810 c65535_i32_3417
  let c2048_i32_3418 : BitVec 32 := 2048#32
  let v8812 : BitVec 32 := Scalar.select v8808 v8811 c2048_i32_3418
  let v8813 : BitVec 32 := Scalar.addi v1470 v8812
  let v8816 : Index := Scalar.indexCast v8813
  let c0_3420 : Index := 0#32
  ![v8816.toNat, 0]

def k0_chk1037 (i : grid0.Coords) (v8615 : BitVec 32) (v8618 : BitVec 32) (v8810 : BitVec 32) : Prop :=
  (∀ a, (k0_off2076 i v8615 v8618 v8810) a + S1x128.size a ≤ S8224x128.size a)
theorem k0_off2076_inb : ∀ (i : grid0.Coords) (v8615 : BitVec 32) (v8618 : BitVec 32) (v8810 : BitVec 32) (k0_hw1037 : k0_chk1037 i v8615 v8618 v8810), ∀ a, (k0_off2076 i v8615 v8618 v8810) a + S1x128.size a ≤ S8224x128.size a := fun i v8615 v8618 v8810 k0_hw1037 => k0_hw1037

def k0_off2077 (v8615 : BitVec 32) : Fin 1 → Nat :=
  let c13_i32_3421 : BitVec 32 := 13#32
  let v8821 : BitVec 32 := Scalar.addi v8615 c13_i32_3421
  let v8824 : Index := Scalar.indexCast v8821
  ![v8824.toNat]
def k0_off2078 (i : grid0.Coords) (v8615 : BitVec 32) (v8618 : BitVec 32) (v8825 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_3422 : BitVec 32 := 13#32
  let v8822 : BitVec 32 := Scalar.addi v8615 c13_i32_3422
  let v8823 : BitVec 1 := Scalar.cmpi .slt v8822 v8618
  let c65535_i32_3423 : BitVec 32 := 65535#32
  let v8826 : BitVec 32 := Scalar.andi v8825 c65535_i32_3423
  let c2048_i32_3424 : BitVec 32 := 2048#32
  let v8827 : BitVec 32 := Scalar.select v8823 v8826 c2048_i32_3424
  let v8828 : BitVec 32 := Scalar.addi v1470 v8827
  let v8831 : Index := Scalar.indexCast v8828
  let c0_3426 : Index := 0#32
  ![v8831.toNat, 0]

def k0_chk1038 (i : grid0.Coords) (v8615 : BitVec 32) (v8618 : BitVec 32) (v8825 : BitVec 32) : Prop :=
  (∀ a, (k0_off2078 i v8615 v8618 v8825) a + S1x128.size a ≤ S8224x128.size a)
theorem k0_off2078_inb : ∀ (i : grid0.Coords) (v8615 : BitVec 32) (v8618 : BitVec 32) (v8825 : BitVec 32) (k0_hw1038 : k0_chk1038 i v8615 v8618 v8825), ∀ a, (k0_off2078 i v8615 v8618 v8825) a + S1x128.size a ≤ S8224x128.size a := fun i v8615 v8618 v8825 k0_hw1038 => k0_hw1038

def k0_off2079 (v8615 : BitVec 32) : Fin 1 → Nat :=
  let c14_i32_3427 : BitVec 32 := 14#32
  let v8836 : BitVec 32 := Scalar.addi v8615 c14_i32_3427
  let v8839 : Index := Scalar.indexCast v8836
  ![v8839.toNat]
def k0_off2080 (i : grid0.Coords) (v8615 : BitVec 32) (v8618 : BitVec 32) (v8840 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_3428 : BitVec 32 := 14#32
  let v8837 : BitVec 32 := Scalar.addi v8615 c14_i32_3428
  let v8838 : BitVec 1 := Scalar.cmpi .slt v8837 v8618
  let c65535_i32_3429 : BitVec 32 := 65535#32
  let v8841 : BitVec 32 := Scalar.andi v8840 c65535_i32_3429
  let c2048_i32_3430 : BitVec 32 := 2048#32
  let v8842 : BitVec 32 := Scalar.select v8838 v8841 c2048_i32_3430
  let v8843 : BitVec 32 := Scalar.addi v1470 v8842
  let v8846 : Index := Scalar.indexCast v8843
  let c0_3432 : Index := 0#32
  ![v8846.toNat, 0]

def k0_chk1039 (i : grid0.Coords) (v8615 : BitVec 32) (v8618 : BitVec 32) (v8840 : BitVec 32) : Prop :=
  (∀ a, (k0_off2080 i v8615 v8618 v8840) a + S1x128.size a ≤ S8224x128.size a)
theorem k0_off2080_inb : ∀ (i : grid0.Coords) (v8615 : BitVec 32) (v8618 : BitVec 32) (v8840 : BitVec 32) (k0_hw1039 : k0_chk1039 i v8615 v8618 v8840), ∀ a, (k0_off2080 i v8615 v8618 v8840) a + S1x128.size a ≤ S8224x128.size a := fun i v8615 v8618 v8840 k0_hw1039 => k0_hw1039

def k0_off2081 (v8615 : BitVec 32) : Fin 1 → Nat :=
  let c15_i32_3433 : BitVec 32 := 15#32
  let v8851 : BitVec 32 := Scalar.addi v8615 c15_i32_3433
  let v8854 : Index := Scalar.indexCast v8851
  ![v8854.toNat]

def k0_chk1024 (v8615 : BitVec 32) : Prop :=
  (∀ a, (k0_off2051 v8615) a + S1.size a ≤ S51920.size a) ∧
  (∀ a, (k0_off2053 v8615) a + S1.size a ≤ S51920.size a) ∧
  (∀ a, (k0_off2055 v8615) a + S1.size a ≤ S51920.size a) ∧
  (∀ a, (k0_off2057 v8615) a + S1.size a ≤ S51920.size a) ∧
  (∀ a, (k0_off2059 v8615) a + S1.size a ≤ S51920.size a) ∧
  (∀ a, (k0_off2061 v8615) a + S1.size a ≤ S51920.size a) ∧
  (∀ a, (k0_off2063 v8615) a + S1.size a ≤ S51920.size a) ∧
  (∀ a, (k0_off2065 v8615) a + S1.size a ≤ S51920.size a) ∧
  (∀ a, (k0_off2067 v8615) a + S1.size a ≤ S51920.size a) ∧
  (∀ a, (k0_off2069 v8615) a + S1.size a ≤ S51920.size a) ∧
  (∀ a, (k0_off2071 v8615) a + S1.size a ≤ S51920.size a) ∧
  (∀ a, (k0_off2073 v8615) a + S1.size a ≤ S51920.size a) ∧
  (∀ a, (k0_off2075 v8615) a + S1.size a ≤ S51920.size a) ∧
  (∀ a, (k0_off2077 v8615) a + S1.size a ≤ S51920.size a) ∧
  (∀ a, (k0_off2079 v8615) a + S1.size a ≤ S51920.size a) ∧
  (∀ a, (k0_off2081 v8615) a + S1.size a ≤ S51920.size a)
theorem k0_off2051_inb : ∀ (v8615 : BitVec 32) (k0_hw1024 : k0_chk1024 v8615), ∀ a, (k0_off2051 v8615) a + S1.size a ≤ S51920.size a := fun v8615 k0_hw1024 => k0_hw1024.1
theorem k0_off2053_inb : ∀ (v8615 : BitVec 32) (k0_hw1024 : k0_chk1024 v8615), ∀ a, (k0_off2053 v8615) a + S1.size a ≤ S51920.size a := fun v8615 k0_hw1024 => k0_hw1024.2.1
theorem k0_off2055_inb : ∀ (v8615 : BitVec 32) (k0_hw1024 : k0_chk1024 v8615), ∀ a, (k0_off2055 v8615) a + S1.size a ≤ S51920.size a := fun v8615 k0_hw1024 => k0_hw1024.2.2.1
theorem k0_off2057_inb : ∀ (v8615 : BitVec 32) (k0_hw1024 : k0_chk1024 v8615), ∀ a, (k0_off2057 v8615) a + S1.size a ≤ S51920.size a := fun v8615 k0_hw1024 => k0_hw1024.2.2.2.1
theorem k0_off2059_inb : ∀ (v8615 : BitVec 32) (k0_hw1024 : k0_chk1024 v8615), ∀ a, (k0_off2059 v8615) a + S1.size a ≤ S51920.size a := fun v8615 k0_hw1024 => k0_hw1024.2.2.2.2.1
theorem k0_off2061_inb : ∀ (v8615 : BitVec 32) (k0_hw1024 : k0_chk1024 v8615), ∀ a, (k0_off2061 v8615) a + S1.size a ≤ S51920.size a := fun v8615 k0_hw1024 => k0_hw1024.2.2.2.2.2.1
theorem k0_off2063_inb : ∀ (v8615 : BitVec 32) (k0_hw1024 : k0_chk1024 v8615), ∀ a, (k0_off2063 v8615) a + S1.size a ≤ S51920.size a := fun v8615 k0_hw1024 => k0_hw1024.2.2.2.2.2.2.1
theorem k0_off2065_inb : ∀ (v8615 : BitVec 32) (k0_hw1024 : k0_chk1024 v8615), ∀ a, (k0_off2065 v8615) a + S1.size a ≤ S51920.size a := fun v8615 k0_hw1024 => k0_hw1024.2.2.2.2.2.2.2.1
theorem k0_off2067_inb : ∀ (v8615 : BitVec 32) (k0_hw1024 : k0_chk1024 v8615), ∀ a, (k0_off2067 v8615) a + S1.size a ≤ S51920.size a := fun v8615 k0_hw1024 => k0_hw1024.2.2.2.2.2.2.2.2.1
theorem k0_off2069_inb : ∀ (v8615 : BitVec 32) (k0_hw1024 : k0_chk1024 v8615), ∀ a, (k0_off2069 v8615) a + S1.size a ≤ S51920.size a := fun v8615 k0_hw1024 => k0_hw1024.2.2.2.2.2.2.2.2.2.1
theorem k0_off2071_inb : ∀ (v8615 : BitVec 32) (k0_hw1024 : k0_chk1024 v8615), ∀ a, (k0_off2071 v8615) a + S1.size a ≤ S51920.size a := fun v8615 k0_hw1024 => k0_hw1024.2.2.2.2.2.2.2.2.2.2.1
theorem k0_off2073_inb : ∀ (v8615 : BitVec 32) (k0_hw1024 : k0_chk1024 v8615), ∀ a, (k0_off2073 v8615) a + S1.size a ≤ S51920.size a := fun v8615 k0_hw1024 => k0_hw1024.2.2.2.2.2.2.2.2.2.2.2.1
theorem k0_off2075_inb : ∀ (v8615 : BitVec 32) (k0_hw1024 : k0_chk1024 v8615), ∀ a, (k0_off2075 v8615) a + S1.size a ≤ S51920.size a := fun v8615 k0_hw1024 => k0_hw1024.2.2.2.2.2.2.2.2.2.2.2.2.1
theorem k0_off2077_inb : ∀ (v8615 : BitVec 32) (k0_hw1024 : k0_chk1024 v8615), ∀ a, (k0_off2077 v8615) a + S1.size a ≤ S51920.size a := fun v8615 k0_hw1024 => k0_hw1024.2.2.2.2.2.2.2.2.2.2.2.2.2.1
theorem k0_off2079_inb : ∀ (v8615 : BitVec 32) (k0_hw1024 : k0_chk1024 v8615), ∀ a, (k0_off2079 v8615) a + S1.size a ≤ S51920.size a := fun v8615 k0_hw1024 => k0_hw1024.2.2.2.2.2.2.2.2.2.2.2.2.2.2.1
theorem k0_off2081_inb : ∀ (v8615 : BitVec 32) (k0_hw1024 : k0_chk1024 v8615), ∀ a, (k0_off2081 v8615) a + S1.size a ≤ S51920.size a := fun v8615 k0_hw1024 => k0_hw1024.2.2.2.2.2.2.2.2.2.2.2.2.2.2.2

def k0_off2082 (i : grid0.Coords) (v8615 : BitVec 32) (v8618 : BitVec 32) (v8855 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_3434 : BitVec 32 := 15#32
  let v8852 : BitVec 32 := Scalar.addi v8615 c15_i32_3434
  let v8853 : BitVec 1 := Scalar.cmpi .slt v8852 v8618
  let c65535_i32_3435 : BitVec 32 := 65535#32
  let v8856 : BitVec 32 := Scalar.andi v8855 c65535_i32_3435
  let c2048_i32_3436 : BitVec 32 := 2048#32
  let v8857 : BitVec 32 := Scalar.select v8853 v8856 c2048_i32_3436
  let v8858 : BitVec 32 := Scalar.addi v1470 v8857
  let v8861 : Index := Scalar.indexCast v8858
  let c0_3438 : Index := 0#32
  ![v8861.toNat, 0]

def k0_chk1040 (i : grid0.Coords) (v8615 : BitVec 32) (v8618 : BitVec 32) (v8855 : BitVec 32) : Prop :=
  (∀ a, (k0_off2082 i v8615 v8618 v8855) a + S1x128.size a ≤ S8224x128.size a)
theorem k0_off2082_inb : ∀ (i : grid0.Coords) (v8615 : BitVec 32) (v8618 : BitVec 32) (v8855 : BitVec 32) (k0_hw1040 : k0_chk1040 i v8615 v8618 v8855), ∀ a, (k0_off2082 i v8615 v8618 v8855) a + S1x128.size a ≤ S8224x128.size a := fun i v8615 v8618 v8855 k0_hw1040 => k0_hw1040

def k0_off2083 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3439 : BitVec 32 := 512#32
  let v8866 : BitVec 32 := Scalar.muli v24 c512_i32_3439
  let arg1 : BitVec 32 := BitVec.ofNat 32 (i 1).val
  let c32_i32 : BitVec 32 := 32#32
  let v1452 : BitVec 32 := Scalar.muli arg1 c32_i32
  let v8867 : BitVec 32 := Scalar.addi v8866 v1452
  let c29_i32 : BitVec 32 := 29#32
  let v8868 : BitVec 32 := Scalar.addi v8867 c29_i32
  let v8869 : Index := Scalar.indexCast v8868
  ![v8869.toNat]
def k0_off2084 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3439 : BitVec 32 := 512#32
  let v8866 : BitVec 32 := Scalar.muli v24 c512_i32_3439
  let arg1 : BitVec 32 := BitVec.ofNat 32 (i 1).val
  let c32_i32 : BitVec 32 := 32#32
  let v1452 : BitVec 32 := Scalar.muli arg1 c32_i32
  let v8867 : BitVec 32 := Scalar.addi v8866 v1452
  let c29_i32 : BitVec 32 := 29#32
  let v8868 : BitVec 32 := Scalar.addi v8867 c29_i32
  let c1_i32_3440 : BitVec 32 := 1#32
  let v8871 : BitVec 32 := Scalar.addi v8868 c1_i32_3440
  let v8872 : Index := Scalar.indexCast v8871
  ![v8872.toNat]
def k0_off2085 (v8870 : BitVec 32) : Fin 1 → Nat :=
  let c0_i32_3443 : BitVec 32 := 0#32
  let v8881 : BitVec 32 := Scalar.addi v8870 c0_i32_3443
  let v8884 : Index := Scalar.indexCast v8881
  ![v8884.toNat]

def k0_off2086 (i : grid0.Coords) (v8870 : BitVec 32) (v8873 : BitVec 32) (v8885 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_3444 : BitVec 32 := 0#32
  let v8882 : BitVec 32 := Scalar.addi v8870 c0_i32_3444
  let v8883 : BitVec 1 := Scalar.cmpi .slt v8882 v8873
  let c65535_i32_3445 : BitVec 32 := 65535#32
  let v8886 : BitVec 32 := Scalar.andi v8885 c65535_i32_3445
  let c2048_i32_3446 : BitVec 32 := 2048#32
  let v8887 : BitVec 32 := Scalar.select v8883 v8886 c2048_i32_3446
  let v8888 : BitVec 32 := Scalar.addi v1470 v8887
  let v8891 : Index := Scalar.indexCast v8888
  let c0_3448 : Index := 0#32
  ![v8891.toNat, 0]

def k0_chk1042 (i : grid0.Coords) (v8870 : BitVec 32) (v8873 : BitVec 32) (v8885 : BitVec 32) : Prop :=
  (∀ a, (k0_off2086 i v8870 v8873 v8885) a + S1x128.size a ≤ S8224x128.size a)
theorem k0_off2086_inb : ∀ (i : grid0.Coords) (v8870 : BitVec 32) (v8873 : BitVec 32) (v8885 : BitVec 32) (k0_hw1042 : k0_chk1042 i v8870 v8873 v8885), ∀ a, (k0_off2086 i v8870 v8873 v8885) a + S1x128.size a ≤ S8224x128.size a := fun i v8870 v8873 v8885 k0_hw1042 => k0_hw1042

def k0_off2087 (v8870 : BitVec 32) : Fin 1 → Nat :=
  let c1_i32_3449 : BitVec 32 := 1#32
  let v8896 : BitVec 32 := Scalar.addi v8870 c1_i32_3449
  let v8899 : Index := Scalar.indexCast v8896
  ![v8899.toNat]
def k0_off2088 (i : grid0.Coords) (v8870 : BitVec 32) (v8873 : BitVec 32) (v8900 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_3450 : BitVec 32 := 1#32
  let v8897 : BitVec 32 := Scalar.addi v8870 c1_i32_3450
  let v8898 : BitVec 1 := Scalar.cmpi .slt v8897 v8873
  let c65535_i32_3451 : BitVec 32 := 65535#32
  let v8901 : BitVec 32 := Scalar.andi v8900 c65535_i32_3451
  let c2048_i32_3452 : BitVec 32 := 2048#32
  let v8902 : BitVec 32 := Scalar.select v8898 v8901 c2048_i32_3452
  let v8903 : BitVec 32 := Scalar.addi v1470 v8902
  let v8906 : Index := Scalar.indexCast v8903
  let c0_3454 : Index := 0#32
  ![v8906.toNat, 0]

def k0_chk1043 (i : grid0.Coords) (v8870 : BitVec 32) (v8873 : BitVec 32) (v8900 : BitVec 32) : Prop :=
  (∀ a, (k0_off2088 i v8870 v8873 v8900) a + S1x128.size a ≤ S8224x128.size a)
theorem k0_off2088_inb : ∀ (i : grid0.Coords) (v8870 : BitVec 32) (v8873 : BitVec 32) (v8900 : BitVec 32) (k0_hw1043 : k0_chk1043 i v8870 v8873 v8900), ∀ a, (k0_off2088 i v8870 v8873 v8900) a + S1x128.size a ≤ S8224x128.size a := fun i v8870 v8873 v8900 k0_hw1043 => k0_hw1043

def k0_off2089 (v8870 : BitVec 32) : Fin 1 → Nat :=
  let c2_i32_3455 : BitVec 32 := 2#32
  let v8911 : BitVec 32 := Scalar.addi v8870 c2_i32_3455
  let v8914 : Index := Scalar.indexCast v8911
  ![v8914.toNat]
def k0_off2090 (i : grid0.Coords) (v8870 : BitVec 32) (v8873 : BitVec 32) (v8915 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_3456 : BitVec 32 := 2#32
  let v8912 : BitVec 32 := Scalar.addi v8870 c2_i32_3456
  let v8913 : BitVec 1 := Scalar.cmpi .slt v8912 v8873
  let c65535_i32_3457 : BitVec 32 := 65535#32
  let v8916 : BitVec 32 := Scalar.andi v8915 c65535_i32_3457
  let c2048_i32_3458 : BitVec 32 := 2048#32
  let v8917 : BitVec 32 := Scalar.select v8913 v8916 c2048_i32_3458
  let v8918 : BitVec 32 := Scalar.addi v1470 v8917
  let v8921 : Index := Scalar.indexCast v8918
  let c0_3460 : Index := 0#32
  ![v8921.toNat, 0]

def k0_chk1044 (i : grid0.Coords) (v8870 : BitVec 32) (v8873 : BitVec 32) (v8915 : BitVec 32) : Prop :=
  (∀ a, (k0_off2090 i v8870 v8873 v8915) a + S1x128.size a ≤ S8224x128.size a)
theorem k0_off2090_inb : ∀ (i : grid0.Coords) (v8870 : BitVec 32) (v8873 : BitVec 32) (v8915 : BitVec 32) (k0_hw1044 : k0_chk1044 i v8870 v8873 v8915), ∀ a, (k0_off2090 i v8870 v8873 v8915) a + S1x128.size a ≤ S8224x128.size a := fun i v8870 v8873 v8915 k0_hw1044 => k0_hw1044

def k0_off2091 (v8870 : BitVec 32) : Fin 1 → Nat :=
  let c3_i32_3461 : BitVec 32 := 3#32
  let v8926 : BitVec 32 := Scalar.addi v8870 c3_i32_3461
  let v8929 : Index := Scalar.indexCast v8926
  ![v8929.toNat]
def k0_off2092 (i : grid0.Coords) (v8870 : BitVec 32) (v8873 : BitVec 32) (v8930 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_3462 : BitVec 32 := 3#32
  let v8927 : BitVec 32 := Scalar.addi v8870 c3_i32_3462
  let v8928 : BitVec 1 := Scalar.cmpi .slt v8927 v8873
  let c65535_i32_3463 : BitVec 32 := 65535#32
  let v8931 : BitVec 32 := Scalar.andi v8930 c65535_i32_3463
  let c2048_i32_3464 : BitVec 32 := 2048#32
  let v8932 : BitVec 32 := Scalar.select v8928 v8931 c2048_i32_3464
  let v8933 : BitVec 32 := Scalar.addi v1470 v8932
  let v8936 : Index := Scalar.indexCast v8933
  let c0_3466 : Index := 0#32
  ![v8936.toNat, 0]

def k0_chk1045 (i : grid0.Coords) (v8870 : BitVec 32) (v8873 : BitVec 32) (v8930 : BitVec 32) : Prop :=
  (∀ a, (k0_off2092 i v8870 v8873 v8930) a + S1x128.size a ≤ S8224x128.size a)
theorem k0_off2092_inb : ∀ (i : grid0.Coords) (v8870 : BitVec 32) (v8873 : BitVec 32) (v8930 : BitVec 32) (k0_hw1045 : k0_chk1045 i v8870 v8873 v8930), ∀ a, (k0_off2092 i v8870 v8873 v8930) a + S1x128.size a ≤ S8224x128.size a := fun i v8870 v8873 v8930 k0_hw1045 => k0_hw1045

def k0_off2093 (v8870 : BitVec 32) : Fin 1 → Nat :=
  let c4_i32_3467 : BitVec 32 := 4#32
  let v8941 : BitVec 32 := Scalar.addi v8870 c4_i32_3467
  let v8944 : Index := Scalar.indexCast v8941
  ![v8944.toNat]
def k0_off2094 (i : grid0.Coords) (v8870 : BitVec 32) (v8873 : BitVec 32) (v8945 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_3468 : BitVec 32 := 4#32
  let v8942 : BitVec 32 := Scalar.addi v8870 c4_i32_3468
  let v8943 : BitVec 1 := Scalar.cmpi .slt v8942 v8873
  let c65535_i32_3469 : BitVec 32 := 65535#32
  let v8946 : BitVec 32 := Scalar.andi v8945 c65535_i32_3469
  let c2048_i32_3470 : BitVec 32 := 2048#32
  let v8947 : BitVec 32 := Scalar.select v8943 v8946 c2048_i32_3470
  let v8948 : BitVec 32 := Scalar.addi v1470 v8947
  let v8951 : Index := Scalar.indexCast v8948
  let c0_3472 : Index := 0#32
  ![v8951.toNat, 0]

def k0_chk1046 (i : grid0.Coords) (v8870 : BitVec 32) (v8873 : BitVec 32) (v8945 : BitVec 32) : Prop :=
  (∀ a, (k0_off2094 i v8870 v8873 v8945) a + S1x128.size a ≤ S8224x128.size a)
theorem k0_off2094_inb : ∀ (i : grid0.Coords) (v8870 : BitVec 32) (v8873 : BitVec 32) (v8945 : BitVec 32) (k0_hw1046 : k0_chk1046 i v8870 v8873 v8945), ∀ a, (k0_off2094 i v8870 v8873 v8945) a + S1x128.size a ≤ S8224x128.size a := fun i v8870 v8873 v8945 k0_hw1046 => k0_hw1046

def k0_off2095 (v8870 : BitVec 32) : Fin 1 → Nat :=
  let c5_i32_3473 : BitVec 32 := 5#32
  let v8956 : BitVec 32 := Scalar.addi v8870 c5_i32_3473
  let v8959 : Index := Scalar.indexCast v8956
  ![v8959.toNat]
def k0_off2096 (i : grid0.Coords) (v8870 : BitVec 32) (v8873 : BitVec 32) (v8960 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_3474 : BitVec 32 := 5#32
  let v8957 : BitVec 32 := Scalar.addi v8870 c5_i32_3474
  let v8958 : BitVec 1 := Scalar.cmpi .slt v8957 v8873
  let c65535_i32_3475 : BitVec 32 := 65535#32
  let v8961 : BitVec 32 := Scalar.andi v8960 c65535_i32_3475
  let c2048_i32_3476 : BitVec 32 := 2048#32
  let v8962 : BitVec 32 := Scalar.select v8958 v8961 c2048_i32_3476
  let v8963 : BitVec 32 := Scalar.addi v1470 v8962
  let v8966 : Index := Scalar.indexCast v8963
  let c0_3478 : Index := 0#32
  ![v8966.toNat, 0]

def k0_chk1047 (i : grid0.Coords) (v8870 : BitVec 32) (v8873 : BitVec 32) (v8960 : BitVec 32) : Prop :=
  (∀ a, (k0_off2096 i v8870 v8873 v8960) a + S1x128.size a ≤ S8224x128.size a)
theorem k0_off2096_inb : ∀ (i : grid0.Coords) (v8870 : BitVec 32) (v8873 : BitVec 32) (v8960 : BitVec 32) (k0_hw1047 : k0_chk1047 i v8870 v8873 v8960), ∀ a, (k0_off2096 i v8870 v8873 v8960) a + S1x128.size a ≤ S8224x128.size a := fun i v8870 v8873 v8960 k0_hw1047 => k0_hw1047

def k0_off2097 (v8870 : BitVec 32) : Fin 1 → Nat :=
  let c6_i32_3479 : BitVec 32 := 6#32
  let v8971 : BitVec 32 := Scalar.addi v8870 c6_i32_3479
  let v8974 : Index := Scalar.indexCast v8971
  ![v8974.toNat]
def k0_off2098 (i : grid0.Coords) (v8870 : BitVec 32) (v8873 : BitVec 32) (v8975 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_3480 : BitVec 32 := 6#32
  let v8972 : BitVec 32 := Scalar.addi v8870 c6_i32_3480
  let v8973 : BitVec 1 := Scalar.cmpi .slt v8972 v8873
  let c65535_i32_3481 : BitVec 32 := 65535#32
  let v8976 : BitVec 32 := Scalar.andi v8975 c65535_i32_3481
  let c2048_i32_3482 : BitVec 32 := 2048#32
  let v8977 : BitVec 32 := Scalar.select v8973 v8976 c2048_i32_3482
  let v8978 : BitVec 32 := Scalar.addi v1470 v8977
  let v8981 : Index := Scalar.indexCast v8978
  let c0_3484 : Index := 0#32
  ![v8981.toNat, 0]

def k0_chk1048 (i : grid0.Coords) (v8870 : BitVec 32) (v8873 : BitVec 32) (v8975 : BitVec 32) : Prop :=
  (∀ a, (k0_off2098 i v8870 v8873 v8975) a + S1x128.size a ≤ S8224x128.size a)
theorem k0_off2098_inb : ∀ (i : grid0.Coords) (v8870 : BitVec 32) (v8873 : BitVec 32) (v8975 : BitVec 32) (k0_hw1048 : k0_chk1048 i v8870 v8873 v8975), ∀ a, (k0_off2098 i v8870 v8873 v8975) a + S1x128.size a ≤ S8224x128.size a := fun i v8870 v8873 v8975 k0_hw1048 => k0_hw1048

def k0_off2099 (v8870 : BitVec 32) : Fin 1 → Nat :=
  let c7_i32_3485 : BitVec 32 := 7#32
  let v8986 : BitVec 32 := Scalar.addi v8870 c7_i32_3485
  let v8989 : Index := Scalar.indexCast v8986
  ![v8989.toNat]
def k0_off2100 (i : grid0.Coords) (v8870 : BitVec 32) (v8873 : BitVec 32) (v8990 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_3486 : BitVec 32 := 7#32
  let v8987 : BitVec 32 := Scalar.addi v8870 c7_i32_3486
  let v8988 : BitVec 1 := Scalar.cmpi .slt v8987 v8873
  let c65535_i32_3487 : BitVec 32 := 65535#32
  let v8991 : BitVec 32 := Scalar.andi v8990 c65535_i32_3487
  let c2048_i32_3488 : BitVec 32 := 2048#32
  let v8992 : BitVec 32 := Scalar.select v8988 v8991 c2048_i32_3488
  let v8993 : BitVec 32 := Scalar.addi v1470 v8992
  let v8996 : Index := Scalar.indexCast v8993
  let c0_3490 : Index := 0#32
  ![v8996.toNat, 0]

def k0_chk1049 (i : grid0.Coords) (v8870 : BitVec 32) (v8873 : BitVec 32) (v8990 : BitVec 32) : Prop :=
  (∀ a, (k0_off2100 i v8870 v8873 v8990) a + S1x128.size a ≤ S8224x128.size a)
theorem k0_off2100_inb : ∀ (i : grid0.Coords) (v8870 : BitVec 32) (v8873 : BitVec 32) (v8990 : BitVec 32) (k0_hw1049 : k0_chk1049 i v8870 v8873 v8990), ∀ a, (k0_off2100 i v8870 v8873 v8990) a + S1x128.size a ≤ S8224x128.size a := fun i v8870 v8873 v8990 k0_hw1049 => k0_hw1049

def k0_off2101 (v8870 : BitVec 32) : Fin 1 → Nat :=
  let c8_i32_3491 : BitVec 32 := 8#32
  let v9001 : BitVec 32 := Scalar.addi v8870 c8_i32_3491
  let v9004 : Index := Scalar.indexCast v9001
  ![v9004.toNat]
def k0_off2102 (i : grid0.Coords) (v8870 : BitVec 32) (v8873 : BitVec 32) (v9005 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_3492 : BitVec 32 := 8#32
  let v9002 : BitVec 32 := Scalar.addi v8870 c8_i32_3492
  let v9003 : BitVec 1 := Scalar.cmpi .slt v9002 v8873
  let c65535_i32_3493 : BitVec 32 := 65535#32
  let v9006 : BitVec 32 := Scalar.andi v9005 c65535_i32_3493
  let c2048_i32_3494 : BitVec 32 := 2048#32
  let v9007 : BitVec 32 := Scalar.select v9003 v9006 c2048_i32_3494
  let v9008 : BitVec 32 := Scalar.addi v1470 v9007
  let v9011 : Index := Scalar.indexCast v9008
  let c0_3496 : Index := 0#32
  ![v9011.toNat, 0]

def k0_chk1050 (i : grid0.Coords) (v8870 : BitVec 32) (v8873 : BitVec 32) (v9005 : BitVec 32) : Prop :=
  (∀ a, (k0_off2102 i v8870 v8873 v9005) a + S1x128.size a ≤ S8224x128.size a)
theorem k0_off2102_inb : ∀ (i : grid0.Coords) (v8870 : BitVec 32) (v8873 : BitVec 32) (v9005 : BitVec 32) (k0_hw1050 : k0_chk1050 i v8870 v8873 v9005), ∀ a, (k0_off2102 i v8870 v8873 v9005) a + S1x128.size a ≤ S8224x128.size a := fun i v8870 v8873 v9005 k0_hw1050 => k0_hw1050

def k0_off2103 (v8870 : BitVec 32) : Fin 1 → Nat :=
  let c9_i32_3497 : BitVec 32 := 9#32
  let v9016 : BitVec 32 := Scalar.addi v8870 c9_i32_3497
  let v9019 : Index := Scalar.indexCast v9016
  ![v9019.toNat]
def k0_off2104 (i : grid0.Coords) (v8870 : BitVec 32) (v8873 : BitVec 32) (v9020 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_3498 : BitVec 32 := 9#32
  let v9017 : BitVec 32 := Scalar.addi v8870 c9_i32_3498
  let v9018 : BitVec 1 := Scalar.cmpi .slt v9017 v8873
  let c65535_i32_3499 : BitVec 32 := 65535#32
  let v9021 : BitVec 32 := Scalar.andi v9020 c65535_i32_3499
  let c2048_i32_3500 : BitVec 32 := 2048#32
  let v9022 : BitVec 32 := Scalar.select v9018 v9021 c2048_i32_3500
  let v9023 : BitVec 32 := Scalar.addi v1470 v9022
  let v9026 : Index := Scalar.indexCast v9023
  let c0_3502 : Index := 0#32
  ![v9026.toNat, 0]

def k0_chk1051 (i : grid0.Coords) (v8870 : BitVec 32) (v8873 : BitVec 32) (v9020 : BitVec 32) : Prop :=
  (∀ a, (k0_off2104 i v8870 v8873 v9020) a + S1x128.size a ≤ S8224x128.size a)
theorem k0_off2104_inb : ∀ (i : grid0.Coords) (v8870 : BitVec 32) (v8873 : BitVec 32) (v9020 : BitVec 32) (k0_hw1051 : k0_chk1051 i v8870 v8873 v9020), ∀ a, (k0_off2104 i v8870 v8873 v9020) a + S1x128.size a ≤ S8224x128.size a := fun i v8870 v8873 v9020 k0_hw1051 => k0_hw1051

def k0_off2105 (v8870 : BitVec 32) : Fin 1 → Nat :=
  let c10_i32_3503 : BitVec 32 := 10#32
  let v9031 : BitVec 32 := Scalar.addi v8870 c10_i32_3503
  let v9034 : Index := Scalar.indexCast v9031
  ![v9034.toNat]
def k0_off2106 (i : grid0.Coords) (v8870 : BitVec 32) (v8873 : BitVec 32) (v9035 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_3504 : BitVec 32 := 10#32
  let v9032 : BitVec 32 := Scalar.addi v8870 c10_i32_3504
  let v9033 : BitVec 1 := Scalar.cmpi .slt v9032 v8873
  let c65535_i32_3505 : BitVec 32 := 65535#32
  let v9036 : BitVec 32 := Scalar.andi v9035 c65535_i32_3505
  let c2048_i32_3506 : BitVec 32 := 2048#32
  let v9037 : BitVec 32 := Scalar.select v9033 v9036 c2048_i32_3506
  let v9038 : BitVec 32 := Scalar.addi v1470 v9037
  let v9041 : Index := Scalar.indexCast v9038
  let c0_3508 : Index := 0#32
  ![v9041.toNat, 0]

def k0_chk1052 (i : grid0.Coords) (v8870 : BitVec 32) (v8873 : BitVec 32) (v9035 : BitVec 32) : Prop :=
  (∀ a, (k0_off2106 i v8870 v8873 v9035) a + S1x128.size a ≤ S8224x128.size a)
theorem k0_off2106_inb : ∀ (i : grid0.Coords) (v8870 : BitVec 32) (v8873 : BitVec 32) (v9035 : BitVec 32) (k0_hw1052 : k0_chk1052 i v8870 v8873 v9035), ∀ a, (k0_off2106 i v8870 v8873 v9035) a + S1x128.size a ≤ S8224x128.size a := fun i v8870 v8873 v9035 k0_hw1052 => k0_hw1052

def k0_off2107 (v8870 : BitVec 32) : Fin 1 → Nat :=
  let c11_i32_3509 : BitVec 32 := 11#32
  let v9046 : BitVec 32 := Scalar.addi v8870 c11_i32_3509
  let v9049 : Index := Scalar.indexCast v9046
  ![v9049.toNat]
def k0_off2108 (i : grid0.Coords) (v8870 : BitVec 32) (v8873 : BitVec 32) (v9050 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_3510 : BitVec 32 := 11#32
  let v9047 : BitVec 32 := Scalar.addi v8870 c11_i32_3510
  let v9048 : BitVec 1 := Scalar.cmpi .slt v9047 v8873
  let c65535_i32_3511 : BitVec 32 := 65535#32
  let v9051 : BitVec 32 := Scalar.andi v9050 c65535_i32_3511
  let c2048_i32_3512 : BitVec 32 := 2048#32
  let v9052 : BitVec 32 := Scalar.select v9048 v9051 c2048_i32_3512
  let v9053 : BitVec 32 := Scalar.addi v1470 v9052
  let v9056 : Index := Scalar.indexCast v9053
  let c0_3514 : Index := 0#32
  ![v9056.toNat, 0]

def k0_chk1053 (i : grid0.Coords) (v8870 : BitVec 32) (v8873 : BitVec 32) (v9050 : BitVec 32) : Prop :=
  (∀ a, (k0_off2108 i v8870 v8873 v9050) a + S1x128.size a ≤ S8224x128.size a)
theorem k0_off2108_inb : ∀ (i : grid0.Coords) (v8870 : BitVec 32) (v8873 : BitVec 32) (v9050 : BitVec 32) (k0_hw1053 : k0_chk1053 i v8870 v8873 v9050), ∀ a, (k0_off2108 i v8870 v8873 v9050) a + S1x128.size a ≤ S8224x128.size a := fun i v8870 v8873 v9050 k0_hw1053 => k0_hw1053

def k0_off2109 (v8870 : BitVec 32) : Fin 1 → Nat :=
  let c12_i32_3515 : BitVec 32 := 12#32
  let v9061 : BitVec 32 := Scalar.addi v8870 c12_i32_3515
  let v9064 : Index := Scalar.indexCast v9061
  ![v9064.toNat]
def k0_off2110 (i : grid0.Coords) (v8870 : BitVec 32) (v8873 : BitVec 32) (v9065 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_3516 : BitVec 32 := 12#32
  let v9062 : BitVec 32 := Scalar.addi v8870 c12_i32_3516
  let v9063 : BitVec 1 := Scalar.cmpi .slt v9062 v8873
  let c65535_i32_3517 : BitVec 32 := 65535#32
  let v9066 : BitVec 32 := Scalar.andi v9065 c65535_i32_3517
  let c2048_i32_3518 : BitVec 32 := 2048#32
  let v9067 : BitVec 32 := Scalar.select v9063 v9066 c2048_i32_3518
  let v9068 : BitVec 32 := Scalar.addi v1470 v9067
  let v9071 : Index := Scalar.indexCast v9068
  let c0_3520 : Index := 0#32
  ![v9071.toNat, 0]

def k0_chk1054 (i : grid0.Coords) (v8870 : BitVec 32) (v8873 : BitVec 32) (v9065 : BitVec 32) : Prop :=
  (∀ a, (k0_off2110 i v8870 v8873 v9065) a + S1x128.size a ≤ S8224x128.size a)
theorem k0_off2110_inb : ∀ (i : grid0.Coords) (v8870 : BitVec 32) (v8873 : BitVec 32) (v9065 : BitVec 32) (k0_hw1054 : k0_chk1054 i v8870 v8873 v9065), ∀ a, (k0_off2110 i v8870 v8873 v9065) a + S1x128.size a ≤ S8224x128.size a := fun i v8870 v8873 v9065 k0_hw1054 => k0_hw1054

def k0_off2111 (v8870 : BitVec 32) : Fin 1 → Nat :=
  let c13_i32_3521 : BitVec 32 := 13#32
  let v9076 : BitVec 32 := Scalar.addi v8870 c13_i32_3521
  let v9079 : Index := Scalar.indexCast v9076
  ![v9079.toNat]
def k0_off2112 (i : grid0.Coords) (v8870 : BitVec 32) (v8873 : BitVec 32) (v9080 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_3522 : BitVec 32 := 13#32
  let v9077 : BitVec 32 := Scalar.addi v8870 c13_i32_3522
  let v9078 : BitVec 1 := Scalar.cmpi .slt v9077 v8873
  let c65535_i32_3523 : BitVec 32 := 65535#32
  let v9081 : BitVec 32 := Scalar.andi v9080 c65535_i32_3523
  let c2048_i32_3524 : BitVec 32 := 2048#32
  let v9082 : BitVec 32 := Scalar.select v9078 v9081 c2048_i32_3524
  let v9083 : BitVec 32 := Scalar.addi v1470 v9082
  let v9086 : Index := Scalar.indexCast v9083
  let c0_3526 : Index := 0#32
  ![v9086.toNat, 0]

def k0_chk1055 (i : grid0.Coords) (v8870 : BitVec 32) (v8873 : BitVec 32) (v9080 : BitVec 32) : Prop :=
  (∀ a, (k0_off2112 i v8870 v8873 v9080) a + S1x128.size a ≤ S8224x128.size a)
theorem k0_off2112_inb : ∀ (i : grid0.Coords) (v8870 : BitVec 32) (v8873 : BitVec 32) (v9080 : BitVec 32) (k0_hw1055 : k0_chk1055 i v8870 v8873 v9080), ∀ a, (k0_off2112 i v8870 v8873 v9080) a + S1x128.size a ≤ S8224x128.size a := fun i v8870 v8873 v9080 k0_hw1055 => k0_hw1055

def k0_off2113 (v8870 : BitVec 32) : Fin 1 → Nat :=
  let c14_i32_3527 : BitVec 32 := 14#32
  let v9091 : BitVec 32 := Scalar.addi v8870 c14_i32_3527
  let v9094 : Index := Scalar.indexCast v9091
  ![v9094.toNat]
def k0_off2114 (i : grid0.Coords) (v8870 : BitVec 32) (v8873 : BitVec 32) (v9095 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_3528 : BitVec 32 := 14#32
  let v9092 : BitVec 32 := Scalar.addi v8870 c14_i32_3528
  let v9093 : BitVec 1 := Scalar.cmpi .slt v9092 v8873
  let c65535_i32_3529 : BitVec 32 := 65535#32
  let v9096 : BitVec 32 := Scalar.andi v9095 c65535_i32_3529
  let c2048_i32_3530 : BitVec 32 := 2048#32
  let v9097 : BitVec 32 := Scalar.select v9093 v9096 c2048_i32_3530
  let v9098 : BitVec 32 := Scalar.addi v1470 v9097
  let v9101 : Index := Scalar.indexCast v9098
  let c0_3532 : Index := 0#32
  ![v9101.toNat, 0]

def k0_chk1056 (i : grid0.Coords) (v8870 : BitVec 32) (v8873 : BitVec 32) (v9095 : BitVec 32) : Prop :=
  (∀ a, (k0_off2114 i v8870 v8873 v9095) a + S1x128.size a ≤ S8224x128.size a)
theorem k0_off2114_inb : ∀ (i : grid0.Coords) (v8870 : BitVec 32) (v8873 : BitVec 32) (v9095 : BitVec 32) (k0_hw1056 : k0_chk1056 i v8870 v8873 v9095), ∀ a, (k0_off2114 i v8870 v8873 v9095) a + S1x128.size a ≤ S8224x128.size a := fun i v8870 v8873 v9095 k0_hw1056 => k0_hw1056

def k0_off2115 (v8870 : BitVec 32) : Fin 1 → Nat :=
  let c15_i32_3533 : BitVec 32 := 15#32
  let v9106 : BitVec 32 := Scalar.addi v8870 c15_i32_3533
  let v9109 : Index := Scalar.indexCast v9106
  ![v9109.toNat]

def k0_chk1041 (v8870 : BitVec 32) : Prop :=
  (∀ a, (k0_off2085 v8870) a + S1.size a ≤ S51920.size a) ∧
  (∀ a, (k0_off2087 v8870) a + S1.size a ≤ S51920.size a) ∧
  (∀ a, (k0_off2089 v8870) a + S1.size a ≤ S51920.size a) ∧
  (∀ a, (k0_off2091 v8870) a + S1.size a ≤ S51920.size a) ∧
  (∀ a, (k0_off2093 v8870) a + S1.size a ≤ S51920.size a) ∧
  (∀ a, (k0_off2095 v8870) a + S1.size a ≤ S51920.size a) ∧
  (∀ a, (k0_off2097 v8870) a + S1.size a ≤ S51920.size a) ∧
  (∀ a, (k0_off2099 v8870) a + S1.size a ≤ S51920.size a) ∧
  (∀ a, (k0_off2101 v8870) a + S1.size a ≤ S51920.size a) ∧
  (∀ a, (k0_off2103 v8870) a + S1.size a ≤ S51920.size a) ∧
  (∀ a, (k0_off2105 v8870) a + S1.size a ≤ S51920.size a) ∧
  (∀ a, (k0_off2107 v8870) a + S1.size a ≤ S51920.size a) ∧
  (∀ a, (k0_off2109 v8870) a + S1.size a ≤ S51920.size a) ∧
  (∀ a, (k0_off2111 v8870) a + S1.size a ≤ S51920.size a) ∧
  (∀ a, (k0_off2113 v8870) a + S1.size a ≤ S51920.size a) ∧
  (∀ a, (k0_off2115 v8870) a + S1.size a ≤ S51920.size a)
theorem k0_off2085_inb : ∀ (v8870 : BitVec 32) (k0_hw1041 : k0_chk1041 v8870), ∀ a, (k0_off2085 v8870) a + S1.size a ≤ S51920.size a := fun v8870 k0_hw1041 => k0_hw1041.1
theorem k0_off2087_inb : ∀ (v8870 : BitVec 32) (k0_hw1041 : k0_chk1041 v8870), ∀ a, (k0_off2087 v8870) a + S1.size a ≤ S51920.size a := fun v8870 k0_hw1041 => k0_hw1041.2.1
theorem k0_off2089_inb : ∀ (v8870 : BitVec 32) (k0_hw1041 : k0_chk1041 v8870), ∀ a, (k0_off2089 v8870) a + S1.size a ≤ S51920.size a := fun v8870 k0_hw1041 => k0_hw1041.2.2.1
theorem k0_off2091_inb : ∀ (v8870 : BitVec 32) (k0_hw1041 : k0_chk1041 v8870), ∀ a, (k0_off2091 v8870) a + S1.size a ≤ S51920.size a := fun v8870 k0_hw1041 => k0_hw1041.2.2.2.1
theorem k0_off2093_inb : ∀ (v8870 : BitVec 32) (k0_hw1041 : k0_chk1041 v8870), ∀ a, (k0_off2093 v8870) a + S1.size a ≤ S51920.size a := fun v8870 k0_hw1041 => k0_hw1041.2.2.2.2.1
theorem k0_off2095_inb : ∀ (v8870 : BitVec 32) (k0_hw1041 : k0_chk1041 v8870), ∀ a, (k0_off2095 v8870) a + S1.size a ≤ S51920.size a := fun v8870 k0_hw1041 => k0_hw1041.2.2.2.2.2.1
theorem k0_off2097_inb : ∀ (v8870 : BitVec 32) (k0_hw1041 : k0_chk1041 v8870), ∀ a, (k0_off2097 v8870) a + S1.size a ≤ S51920.size a := fun v8870 k0_hw1041 => k0_hw1041.2.2.2.2.2.2.1
theorem k0_off2099_inb : ∀ (v8870 : BitVec 32) (k0_hw1041 : k0_chk1041 v8870), ∀ a, (k0_off2099 v8870) a + S1.size a ≤ S51920.size a := fun v8870 k0_hw1041 => k0_hw1041.2.2.2.2.2.2.2.1
theorem k0_off2101_inb : ∀ (v8870 : BitVec 32) (k0_hw1041 : k0_chk1041 v8870), ∀ a, (k0_off2101 v8870) a + S1.size a ≤ S51920.size a := fun v8870 k0_hw1041 => k0_hw1041.2.2.2.2.2.2.2.2.1
theorem k0_off2103_inb : ∀ (v8870 : BitVec 32) (k0_hw1041 : k0_chk1041 v8870), ∀ a, (k0_off2103 v8870) a + S1.size a ≤ S51920.size a := fun v8870 k0_hw1041 => k0_hw1041.2.2.2.2.2.2.2.2.2.1
theorem k0_off2105_inb : ∀ (v8870 : BitVec 32) (k0_hw1041 : k0_chk1041 v8870), ∀ a, (k0_off2105 v8870) a + S1.size a ≤ S51920.size a := fun v8870 k0_hw1041 => k0_hw1041.2.2.2.2.2.2.2.2.2.2.1
theorem k0_off2107_inb : ∀ (v8870 : BitVec 32) (k0_hw1041 : k0_chk1041 v8870), ∀ a, (k0_off2107 v8870) a + S1.size a ≤ S51920.size a := fun v8870 k0_hw1041 => k0_hw1041.2.2.2.2.2.2.2.2.2.2.2.1
theorem k0_off2109_inb : ∀ (v8870 : BitVec 32) (k0_hw1041 : k0_chk1041 v8870), ∀ a, (k0_off2109 v8870) a + S1.size a ≤ S51920.size a := fun v8870 k0_hw1041 => k0_hw1041.2.2.2.2.2.2.2.2.2.2.2.2.1
theorem k0_off2111_inb : ∀ (v8870 : BitVec 32) (k0_hw1041 : k0_chk1041 v8870), ∀ a, (k0_off2111 v8870) a + S1.size a ≤ S51920.size a := fun v8870 k0_hw1041 => k0_hw1041.2.2.2.2.2.2.2.2.2.2.2.2.2.1
theorem k0_off2113_inb : ∀ (v8870 : BitVec 32) (k0_hw1041 : k0_chk1041 v8870), ∀ a, (k0_off2113 v8870) a + S1.size a ≤ S51920.size a := fun v8870 k0_hw1041 => k0_hw1041.2.2.2.2.2.2.2.2.2.2.2.2.2.2.1
theorem k0_off2115_inb : ∀ (v8870 : BitVec 32) (k0_hw1041 : k0_chk1041 v8870), ∀ a, (k0_off2115 v8870) a + S1.size a ≤ S51920.size a := fun v8870 k0_hw1041 => k0_hw1041.2.2.2.2.2.2.2.2.2.2.2.2.2.2.2

def k0_off2116 (i : grid0.Coords) (v8870 : BitVec 32) (v8873 : BitVec 32) (v9110 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_3534 : BitVec 32 := 15#32
  let v9107 : BitVec 32 := Scalar.addi v8870 c15_i32_3534
  let v9108 : BitVec 1 := Scalar.cmpi .slt v9107 v8873
  let c65535_i32_3535 : BitVec 32 := 65535#32
  let v9111 : BitVec 32 := Scalar.andi v9110 c65535_i32_3535
  let c2048_i32_3536 : BitVec 32 := 2048#32
  let v9112 : BitVec 32 := Scalar.select v9108 v9111 c2048_i32_3536
  let v9113 : BitVec 32 := Scalar.addi v1470 v9112
  let v9116 : Index := Scalar.indexCast v9113
  let c0_3538 : Index := 0#32
  ![v9116.toNat, 0]

def k0_chk1057 (i : grid0.Coords) (v8870 : BitVec 32) (v8873 : BitVec 32) (v9110 : BitVec 32) : Prop :=
  (∀ a, (k0_off2116 i v8870 v8873 v9110) a + S1x128.size a ≤ S8224x128.size a)
theorem k0_off2116_inb : ∀ (i : grid0.Coords) (v8870 : BitVec 32) (v8873 : BitVec 32) (v9110 : BitVec 32) (k0_hw1057 : k0_chk1057 i v8870 v8873 v9110), ∀ a, (k0_off2116 i v8870 v8873 v9110) a + S1x128.size a ≤ S8224x128.size a := fun i v8870 v8873 v9110 k0_hw1057 => k0_hw1057

def k0_off2117 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3539 : BitVec 32 := 512#32
  let v9121 : BitVec 32 := Scalar.muli v24 c512_i32_3539
  let arg1 : BitVec 32 := BitVec.ofNat 32 (i 1).val
  let c32_i32 : BitVec 32 := 32#32
  let v1452 : BitVec 32 := Scalar.muli arg1 c32_i32
  let v9122 : BitVec 32 := Scalar.addi v9121 v1452
  let c30_i32 : BitVec 32 := 30#32
  let v9123 : BitVec 32 := Scalar.addi v9122 c30_i32
  let v9124 : Index := Scalar.indexCast v9123
  ![v9124.toNat]
def k0_off2118 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3539 : BitVec 32 := 512#32
  let v9121 : BitVec 32 := Scalar.muli v24 c512_i32_3539
  let arg1 : BitVec 32 := BitVec.ofNat 32 (i 1).val
  let c32_i32 : BitVec 32 := 32#32
  let v1452 : BitVec 32 := Scalar.muli arg1 c32_i32
  let v9122 : BitVec 32 := Scalar.addi v9121 v1452
  let c30_i32 : BitVec 32 := 30#32
  let v9123 : BitVec 32 := Scalar.addi v9122 c30_i32
  let c1_i32_3540 : BitVec 32 := 1#32
  let v9126 : BitVec 32 := Scalar.addi v9123 c1_i32_3540
  let v9127 : Index := Scalar.indexCast v9126
  ![v9127.toNat]
def k0_off2119 (v9125 : BitVec 32) : Fin 1 → Nat :=
  let c0_i32_3543 : BitVec 32 := 0#32
  let v9136 : BitVec 32 := Scalar.addi v9125 c0_i32_3543
  let v9139 : Index := Scalar.indexCast v9136
  ![v9139.toNat]

def k0_off2120 (i : grid0.Coords) (v9125 : BitVec 32) (v9128 : BitVec 32) (v9140 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_3544 : BitVec 32 := 0#32
  let v9137 : BitVec 32 := Scalar.addi v9125 c0_i32_3544
  let v9138 : BitVec 1 := Scalar.cmpi .slt v9137 v9128
  let c65535_i32_3545 : BitVec 32 := 65535#32
  let v9141 : BitVec 32 := Scalar.andi v9140 c65535_i32_3545
  let c2048_i32_3546 : BitVec 32 := 2048#32
  let v9142 : BitVec 32 := Scalar.select v9138 v9141 c2048_i32_3546
  let v9143 : BitVec 32 := Scalar.addi v1470 v9142
  let v9146 : Index := Scalar.indexCast v9143
  let c0_3548 : Index := 0#32
  ![v9146.toNat, 0]

def k0_chk1059 (i : grid0.Coords) (v9125 : BitVec 32) (v9128 : BitVec 32) (v9140 : BitVec 32) : Prop :=
  (∀ a, (k0_off2120 i v9125 v9128 v9140) a + S1x128.size a ≤ S8224x128.size a)
theorem k0_off2120_inb : ∀ (i : grid0.Coords) (v9125 : BitVec 32) (v9128 : BitVec 32) (v9140 : BitVec 32) (k0_hw1059 : k0_chk1059 i v9125 v9128 v9140), ∀ a, (k0_off2120 i v9125 v9128 v9140) a + S1x128.size a ≤ S8224x128.size a := fun i v9125 v9128 v9140 k0_hw1059 => k0_hw1059

def k0_off2121 (v9125 : BitVec 32) : Fin 1 → Nat :=
  let c1_i32_3549 : BitVec 32 := 1#32
  let v9151 : BitVec 32 := Scalar.addi v9125 c1_i32_3549
  let v9154 : Index := Scalar.indexCast v9151
  ![v9154.toNat]
def k0_off2122 (i : grid0.Coords) (v9125 : BitVec 32) (v9128 : BitVec 32) (v9155 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_3550 : BitVec 32 := 1#32
  let v9152 : BitVec 32 := Scalar.addi v9125 c1_i32_3550
  let v9153 : BitVec 1 := Scalar.cmpi .slt v9152 v9128
  let c65535_i32_3551 : BitVec 32 := 65535#32
  let v9156 : BitVec 32 := Scalar.andi v9155 c65535_i32_3551
  let c2048_i32_3552 : BitVec 32 := 2048#32
  let v9157 : BitVec 32 := Scalar.select v9153 v9156 c2048_i32_3552
  let v9158 : BitVec 32 := Scalar.addi v1470 v9157
  let v9161 : Index := Scalar.indexCast v9158
  let c0_3554 : Index := 0#32
  ![v9161.toNat, 0]

def k0_chk1060 (i : grid0.Coords) (v9125 : BitVec 32) (v9128 : BitVec 32) (v9155 : BitVec 32) : Prop :=
  (∀ a, (k0_off2122 i v9125 v9128 v9155) a + S1x128.size a ≤ S8224x128.size a)
theorem k0_off2122_inb : ∀ (i : grid0.Coords) (v9125 : BitVec 32) (v9128 : BitVec 32) (v9155 : BitVec 32) (k0_hw1060 : k0_chk1060 i v9125 v9128 v9155), ∀ a, (k0_off2122 i v9125 v9128 v9155) a + S1x128.size a ≤ S8224x128.size a := fun i v9125 v9128 v9155 k0_hw1060 => k0_hw1060

def k0_off2123 (v9125 : BitVec 32) : Fin 1 → Nat :=
  let c2_i32_3555 : BitVec 32 := 2#32
  let v9166 : BitVec 32 := Scalar.addi v9125 c2_i32_3555
  let v9169 : Index := Scalar.indexCast v9166
  ![v9169.toNat]
def k0_off2124 (i : grid0.Coords) (v9125 : BitVec 32) (v9128 : BitVec 32) (v9170 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_3556 : BitVec 32 := 2#32
  let v9167 : BitVec 32 := Scalar.addi v9125 c2_i32_3556
  let v9168 : BitVec 1 := Scalar.cmpi .slt v9167 v9128
  let c65535_i32_3557 : BitVec 32 := 65535#32
  let v9171 : BitVec 32 := Scalar.andi v9170 c65535_i32_3557
  let c2048_i32_3558 : BitVec 32 := 2048#32
  let v9172 : BitVec 32 := Scalar.select v9168 v9171 c2048_i32_3558
  let v9173 : BitVec 32 := Scalar.addi v1470 v9172
  let v9176 : Index := Scalar.indexCast v9173
  let c0_3560 : Index := 0#32
  ![v9176.toNat, 0]

def k0_chk1061 (i : grid0.Coords) (v9125 : BitVec 32) (v9128 : BitVec 32) (v9170 : BitVec 32) : Prop :=
  (∀ a, (k0_off2124 i v9125 v9128 v9170) a + S1x128.size a ≤ S8224x128.size a)
theorem k0_off2124_inb : ∀ (i : grid0.Coords) (v9125 : BitVec 32) (v9128 : BitVec 32) (v9170 : BitVec 32) (k0_hw1061 : k0_chk1061 i v9125 v9128 v9170), ∀ a, (k0_off2124 i v9125 v9128 v9170) a + S1x128.size a ≤ S8224x128.size a := fun i v9125 v9128 v9170 k0_hw1061 => k0_hw1061

def k0_off2125 (v9125 : BitVec 32) : Fin 1 → Nat :=
  let c3_i32_3561 : BitVec 32 := 3#32
  let v9181 : BitVec 32 := Scalar.addi v9125 c3_i32_3561
  let v9184 : Index := Scalar.indexCast v9181
  ![v9184.toNat]
def k0_off2126 (i : grid0.Coords) (v9125 : BitVec 32) (v9128 : BitVec 32) (v9185 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_3562 : BitVec 32 := 3#32
  let v9182 : BitVec 32 := Scalar.addi v9125 c3_i32_3562
  let v9183 : BitVec 1 := Scalar.cmpi .slt v9182 v9128
  let c65535_i32_3563 : BitVec 32 := 65535#32
  let v9186 : BitVec 32 := Scalar.andi v9185 c65535_i32_3563
  let c2048_i32_3564 : BitVec 32 := 2048#32
  let v9187 : BitVec 32 := Scalar.select v9183 v9186 c2048_i32_3564
  let v9188 : BitVec 32 := Scalar.addi v1470 v9187
  let v9191 : Index := Scalar.indexCast v9188
  let c0_3566 : Index := 0#32
  ![v9191.toNat, 0]

def k0_chk1062 (i : grid0.Coords) (v9125 : BitVec 32) (v9128 : BitVec 32) (v9185 : BitVec 32) : Prop :=
  (∀ a, (k0_off2126 i v9125 v9128 v9185) a + S1x128.size a ≤ S8224x128.size a)
theorem k0_off2126_inb : ∀ (i : grid0.Coords) (v9125 : BitVec 32) (v9128 : BitVec 32) (v9185 : BitVec 32) (k0_hw1062 : k0_chk1062 i v9125 v9128 v9185), ∀ a, (k0_off2126 i v9125 v9128 v9185) a + S1x128.size a ≤ S8224x128.size a := fun i v9125 v9128 v9185 k0_hw1062 => k0_hw1062

def k0_off2127 (v9125 : BitVec 32) : Fin 1 → Nat :=
  let c4_i32_3567 : BitVec 32 := 4#32
  let v9196 : BitVec 32 := Scalar.addi v9125 c4_i32_3567
  let v9199 : Index := Scalar.indexCast v9196
  ![v9199.toNat]
def k0_off2128 (i : grid0.Coords) (v9125 : BitVec 32) (v9128 : BitVec 32) (v9200 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_3568 : BitVec 32 := 4#32
  let v9197 : BitVec 32 := Scalar.addi v9125 c4_i32_3568
  let v9198 : BitVec 1 := Scalar.cmpi .slt v9197 v9128
  let c65535_i32_3569 : BitVec 32 := 65535#32
  let v9201 : BitVec 32 := Scalar.andi v9200 c65535_i32_3569
  let c2048_i32_3570 : BitVec 32 := 2048#32
  let v9202 : BitVec 32 := Scalar.select v9198 v9201 c2048_i32_3570
  let v9203 : BitVec 32 := Scalar.addi v1470 v9202
  let v9206 : Index := Scalar.indexCast v9203
  let c0_3572 : Index := 0#32
  ![v9206.toNat, 0]

def k0_chk1063 (i : grid0.Coords) (v9125 : BitVec 32) (v9128 : BitVec 32) (v9200 : BitVec 32) : Prop :=
  (∀ a, (k0_off2128 i v9125 v9128 v9200) a + S1x128.size a ≤ S8224x128.size a)
theorem k0_off2128_inb : ∀ (i : grid0.Coords) (v9125 : BitVec 32) (v9128 : BitVec 32) (v9200 : BitVec 32) (k0_hw1063 : k0_chk1063 i v9125 v9128 v9200), ∀ a, (k0_off2128 i v9125 v9128 v9200) a + S1x128.size a ≤ S8224x128.size a := fun i v9125 v9128 v9200 k0_hw1063 => k0_hw1063

def k0_off2129 (v9125 : BitVec 32) : Fin 1 → Nat :=
  let c5_i32_3573 : BitVec 32 := 5#32
  let v9211 : BitVec 32 := Scalar.addi v9125 c5_i32_3573
  let v9214 : Index := Scalar.indexCast v9211
  ![v9214.toNat]
def k0_off2130 (i : grid0.Coords) (v9125 : BitVec 32) (v9128 : BitVec 32) (v9215 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_3574 : BitVec 32 := 5#32
  let v9212 : BitVec 32 := Scalar.addi v9125 c5_i32_3574
  let v9213 : BitVec 1 := Scalar.cmpi .slt v9212 v9128
  let c65535_i32_3575 : BitVec 32 := 65535#32
  let v9216 : BitVec 32 := Scalar.andi v9215 c65535_i32_3575
  let c2048_i32_3576 : BitVec 32 := 2048#32
  let v9217 : BitVec 32 := Scalar.select v9213 v9216 c2048_i32_3576
  let v9218 : BitVec 32 := Scalar.addi v1470 v9217
  let v9221 : Index := Scalar.indexCast v9218
  let c0_3578 : Index := 0#32
  ![v9221.toNat, 0]

def k0_chk1064 (i : grid0.Coords) (v9125 : BitVec 32) (v9128 : BitVec 32) (v9215 : BitVec 32) : Prop :=
  (∀ a, (k0_off2130 i v9125 v9128 v9215) a + S1x128.size a ≤ S8224x128.size a)
theorem k0_off2130_inb : ∀ (i : grid0.Coords) (v9125 : BitVec 32) (v9128 : BitVec 32) (v9215 : BitVec 32) (k0_hw1064 : k0_chk1064 i v9125 v9128 v9215), ∀ a, (k0_off2130 i v9125 v9128 v9215) a + S1x128.size a ≤ S8224x128.size a := fun i v9125 v9128 v9215 k0_hw1064 => k0_hw1064

def k0_off2131 (v9125 : BitVec 32) : Fin 1 → Nat :=
  let c6_i32_3579 : BitVec 32 := 6#32
  let v9226 : BitVec 32 := Scalar.addi v9125 c6_i32_3579
  let v9229 : Index := Scalar.indexCast v9226
  ![v9229.toNat]
def k0_off2132 (i : grid0.Coords) (v9125 : BitVec 32) (v9128 : BitVec 32) (v9230 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_3580 : BitVec 32 := 6#32
  let v9227 : BitVec 32 := Scalar.addi v9125 c6_i32_3580
  let v9228 : BitVec 1 := Scalar.cmpi .slt v9227 v9128
  let c65535_i32_3581 : BitVec 32 := 65535#32
  let v9231 : BitVec 32 := Scalar.andi v9230 c65535_i32_3581
  let c2048_i32_3582 : BitVec 32 := 2048#32
  let v9232 : BitVec 32 := Scalar.select v9228 v9231 c2048_i32_3582
  let v9233 : BitVec 32 := Scalar.addi v1470 v9232
  let v9236 : Index := Scalar.indexCast v9233
  let c0_3584 : Index := 0#32
  ![v9236.toNat, 0]

def k0_chk1065 (i : grid0.Coords) (v9125 : BitVec 32) (v9128 : BitVec 32) (v9230 : BitVec 32) : Prop :=
  (∀ a, (k0_off2132 i v9125 v9128 v9230) a + S1x128.size a ≤ S8224x128.size a)
theorem k0_off2132_inb : ∀ (i : grid0.Coords) (v9125 : BitVec 32) (v9128 : BitVec 32) (v9230 : BitVec 32) (k0_hw1065 : k0_chk1065 i v9125 v9128 v9230), ∀ a, (k0_off2132 i v9125 v9128 v9230) a + S1x128.size a ≤ S8224x128.size a := fun i v9125 v9128 v9230 k0_hw1065 => k0_hw1065

def k0_off2133 (v9125 : BitVec 32) : Fin 1 → Nat :=
  let c7_i32_3585 : BitVec 32 := 7#32
  let v9241 : BitVec 32 := Scalar.addi v9125 c7_i32_3585
  let v9244 : Index := Scalar.indexCast v9241
  ![v9244.toNat]
def k0_off2134 (i : grid0.Coords) (v9125 : BitVec 32) (v9128 : BitVec 32) (v9245 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_3586 : BitVec 32 := 7#32
  let v9242 : BitVec 32 := Scalar.addi v9125 c7_i32_3586
  let v9243 : BitVec 1 := Scalar.cmpi .slt v9242 v9128
  let c65535_i32_3587 : BitVec 32 := 65535#32
  let v9246 : BitVec 32 := Scalar.andi v9245 c65535_i32_3587
  let c2048_i32_3588 : BitVec 32 := 2048#32
  let v9247 : BitVec 32 := Scalar.select v9243 v9246 c2048_i32_3588
  let v9248 : BitVec 32 := Scalar.addi v1470 v9247
  let v9251 : Index := Scalar.indexCast v9248
  let c0_3590 : Index := 0#32
  ![v9251.toNat, 0]

def k0_chk1066 (i : grid0.Coords) (v9125 : BitVec 32) (v9128 : BitVec 32) (v9245 : BitVec 32) : Prop :=
  (∀ a, (k0_off2134 i v9125 v9128 v9245) a + S1x128.size a ≤ S8224x128.size a)
theorem k0_off2134_inb : ∀ (i : grid0.Coords) (v9125 : BitVec 32) (v9128 : BitVec 32) (v9245 : BitVec 32) (k0_hw1066 : k0_chk1066 i v9125 v9128 v9245), ∀ a, (k0_off2134 i v9125 v9128 v9245) a + S1x128.size a ≤ S8224x128.size a := fun i v9125 v9128 v9245 k0_hw1066 => k0_hw1066

def k0_off2135 (v9125 : BitVec 32) : Fin 1 → Nat :=
  let c8_i32_3591 : BitVec 32 := 8#32
  let v9256 : BitVec 32 := Scalar.addi v9125 c8_i32_3591
  let v9259 : Index := Scalar.indexCast v9256
  ![v9259.toNat]
def k0_off2136 (i : grid0.Coords) (v9125 : BitVec 32) (v9128 : BitVec 32) (v9260 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_3592 : BitVec 32 := 8#32
  let v9257 : BitVec 32 := Scalar.addi v9125 c8_i32_3592
  let v9258 : BitVec 1 := Scalar.cmpi .slt v9257 v9128
  let c65535_i32_3593 : BitVec 32 := 65535#32
  let v9261 : BitVec 32 := Scalar.andi v9260 c65535_i32_3593
  let c2048_i32_3594 : BitVec 32 := 2048#32
  let v9262 : BitVec 32 := Scalar.select v9258 v9261 c2048_i32_3594
  let v9263 : BitVec 32 := Scalar.addi v1470 v9262
  let v9266 : Index := Scalar.indexCast v9263
  let c0_3596 : Index := 0#32
  ![v9266.toNat, 0]

def k0_chk1067 (i : grid0.Coords) (v9125 : BitVec 32) (v9128 : BitVec 32) (v9260 : BitVec 32) : Prop :=
  (∀ a, (k0_off2136 i v9125 v9128 v9260) a + S1x128.size a ≤ S8224x128.size a)
theorem k0_off2136_inb : ∀ (i : grid0.Coords) (v9125 : BitVec 32) (v9128 : BitVec 32) (v9260 : BitVec 32) (k0_hw1067 : k0_chk1067 i v9125 v9128 v9260), ∀ a, (k0_off2136 i v9125 v9128 v9260) a + S1x128.size a ≤ S8224x128.size a := fun i v9125 v9128 v9260 k0_hw1067 => k0_hw1067

def k0_off2137 (v9125 : BitVec 32) : Fin 1 → Nat :=
  let c9_i32_3597 : BitVec 32 := 9#32
  let v9271 : BitVec 32 := Scalar.addi v9125 c9_i32_3597
  let v9274 : Index := Scalar.indexCast v9271
  ![v9274.toNat]
def k0_off2138 (i : grid0.Coords) (v9125 : BitVec 32) (v9128 : BitVec 32) (v9275 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_3598 : BitVec 32 := 9#32
  let v9272 : BitVec 32 := Scalar.addi v9125 c9_i32_3598
  let v9273 : BitVec 1 := Scalar.cmpi .slt v9272 v9128
  let c65535_i32_3599 : BitVec 32 := 65535#32
  let v9276 : BitVec 32 := Scalar.andi v9275 c65535_i32_3599
  let c2048_i32_3600 : BitVec 32 := 2048#32
  let v9277 : BitVec 32 := Scalar.select v9273 v9276 c2048_i32_3600
  let v9278 : BitVec 32 := Scalar.addi v1470 v9277
  let v9281 : Index := Scalar.indexCast v9278
  let c0_3602 : Index := 0#32
  ![v9281.toNat, 0]

def k0_chk1068 (i : grid0.Coords) (v9125 : BitVec 32) (v9128 : BitVec 32) (v9275 : BitVec 32) : Prop :=
  (∀ a, (k0_off2138 i v9125 v9128 v9275) a + S1x128.size a ≤ S8224x128.size a)
theorem k0_off2138_inb : ∀ (i : grid0.Coords) (v9125 : BitVec 32) (v9128 : BitVec 32) (v9275 : BitVec 32) (k0_hw1068 : k0_chk1068 i v9125 v9128 v9275), ∀ a, (k0_off2138 i v9125 v9128 v9275) a + S1x128.size a ≤ S8224x128.size a := fun i v9125 v9128 v9275 k0_hw1068 => k0_hw1068

def k0_off2139 (v9125 : BitVec 32) : Fin 1 → Nat :=
  let c10_i32_3603 : BitVec 32 := 10#32
  let v9286 : BitVec 32 := Scalar.addi v9125 c10_i32_3603
  let v9289 : Index := Scalar.indexCast v9286
  ![v9289.toNat]
def k0_off2140 (i : grid0.Coords) (v9125 : BitVec 32) (v9128 : BitVec 32) (v9290 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_3604 : BitVec 32 := 10#32
  let v9287 : BitVec 32 := Scalar.addi v9125 c10_i32_3604
  let v9288 : BitVec 1 := Scalar.cmpi .slt v9287 v9128
  let c65535_i32_3605 : BitVec 32 := 65535#32
  let v9291 : BitVec 32 := Scalar.andi v9290 c65535_i32_3605
  let c2048_i32_3606 : BitVec 32 := 2048#32
  let v9292 : BitVec 32 := Scalar.select v9288 v9291 c2048_i32_3606
  let v9293 : BitVec 32 := Scalar.addi v1470 v9292
  let v9296 : Index := Scalar.indexCast v9293
  let c0_3608 : Index := 0#32
  ![v9296.toNat, 0]

def k0_chk1069 (i : grid0.Coords) (v9125 : BitVec 32) (v9128 : BitVec 32) (v9290 : BitVec 32) : Prop :=
  (∀ a, (k0_off2140 i v9125 v9128 v9290) a + S1x128.size a ≤ S8224x128.size a)
theorem k0_off2140_inb : ∀ (i : grid0.Coords) (v9125 : BitVec 32) (v9128 : BitVec 32) (v9290 : BitVec 32) (k0_hw1069 : k0_chk1069 i v9125 v9128 v9290), ∀ a, (k0_off2140 i v9125 v9128 v9290) a + S1x128.size a ≤ S8224x128.size a := fun i v9125 v9128 v9290 k0_hw1069 => k0_hw1069

def k0_off2141 (v9125 : BitVec 32) : Fin 1 → Nat :=
  let c11_i32_3609 : BitVec 32 := 11#32
  let v9301 : BitVec 32 := Scalar.addi v9125 c11_i32_3609
  let v9304 : Index := Scalar.indexCast v9301
  ![v9304.toNat]
def k0_off2142 (i : grid0.Coords) (v9125 : BitVec 32) (v9128 : BitVec 32) (v9305 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_3610 : BitVec 32 := 11#32
  let v9302 : BitVec 32 := Scalar.addi v9125 c11_i32_3610
  let v9303 : BitVec 1 := Scalar.cmpi .slt v9302 v9128
  let c65535_i32_3611 : BitVec 32 := 65535#32
  let v9306 : BitVec 32 := Scalar.andi v9305 c65535_i32_3611
  let c2048_i32_3612 : BitVec 32 := 2048#32
  let v9307 : BitVec 32 := Scalar.select v9303 v9306 c2048_i32_3612
  let v9308 : BitVec 32 := Scalar.addi v1470 v9307
  let v9311 : Index := Scalar.indexCast v9308
  let c0_3614 : Index := 0#32
  ![v9311.toNat, 0]

def k0_chk1070 (i : grid0.Coords) (v9125 : BitVec 32) (v9128 : BitVec 32) (v9305 : BitVec 32) : Prop :=
  (∀ a, (k0_off2142 i v9125 v9128 v9305) a + S1x128.size a ≤ S8224x128.size a)
theorem k0_off2142_inb : ∀ (i : grid0.Coords) (v9125 : BitVec 32) (v9128 : BitVec 32) (v9305 : BitVec 32) (k0_hw1070 : k0_chk1070 i v9125 v9128 v9305), ∀ a, (k0_off2142 i v9125 v9128 v9305) a + S1x128.size a ≤ S8224x128.size a := fun i v9125 v9128 v9305 k0_hw1070 => k0_hw1070

def k0_off2143 (v9125 : BitVec 32) : Fin 1 → Nat :=
  let c12_i32_3615 : BitVec 32 := 12#32
  let v9316 : BitVec 32 := Scalar.addi v9125 c12_i32_3615
  let v9319 : Index := Scalar.indexCast v9316
  ![v9319.toNat]
def k0_off2144 (i : grid0.Coords) (v9125 : BitVec 32) (v9128 : BitVec 32) (v9320 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_3616 : BitVec 32 := 12#32
  let v9317 : BitVec 32 := Scalar.addi v9125 c12_i32_3616
  let v9318 : BitVec 1 := Scalar.cmpi .slt v9317 v9128
  let c65535_i32_3617 : BitVec 32 := 65535#32
  let v9321 : BitVec 32 := Scalar.andi v9320 c65535_i32_3617
  let c2048_i32_3618 : BitVec 32 := 2048#32
  let v9322 : BitVec 32 := Scalar.select v9318 v9321 c2048_i32_3618
  let v9323 : BitVec 32 := Scalar.addi v1470 v9322
  let v9326 : Index := Scalar.indexCast v9323
  let c0_3620 : Index := 0#32
  ![v9326.toNat, 0]

def k0_chk1071 (i : grid0.Coords) (v9125 : BitVec 32) (v9128 : BitVec 32) (v9320 : BitVec 32) : Prop :=
  (∀ a, (k0_off2144 i v9125 v9128 v9320) a + S1x128.size a ≤ S8224x128.size a)
theorem k0_off2144_inb : ∀ (i : grid0.Coords) (v9125 : BitVec 32) (v9128 : BitVec 32) (v9320 : BitVec 32) (k0_hw1071 : k0_chk1071 i v9125 v9128 v9320), ∀ a, (k0_off2144 i v9125 v9128 v9320) a + S1x128.size a ≤ S8224x128.size a := fun i v9125 v9128 v9320 k0_hw1071 => k0_hw1071

def k0_off2145 (v9125 : BitVec 32) : Fin 1 → Nat :=
  let c13_i32_3621 : BitVec 32 := 13#32
  let v9331 : BitVec 32 := Scalar.addi v9125 c13_i32_3621
  let v9334 : Index := Scalar.indexCast v9331
  ![v9334.toNat]
def k0_off2146 (i : grid0.Coords) (v9125 : BitVec 32) (v9128 : BitVec 32) (v9335 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_3622 : BitVec 32 := 13#32
  let v9332 : BitVec 32 := Scalar.addi v9125 c13_i32_3622
  let v9333 : BitVec 1 := Scalar.cmpi .slt v9332 v9128
  let c65535_i32_3623 : BitVec 32 := 65535#32
  let v9336 : BitVec 32 := Scalar.andi v9335 c65535_i32_3623
  let c2048_i32_3624 : BitVec 32 := 2048#32
  let v9337 : BitVec 32 := Scalar.select v9333 v9336 c2048_i32_3624
  let v9338 : BitVec 32 := Scalar.addi v1470 v9337
  let v9341 : Index := Scalar.indexCast v9338
  let c0_3626 : Index := 0#32
  ![v9341.toNat, 0]

def k0_chk1072 (i : grid0.Coords) (v9125 : BitVec 32) (v9128 : BitVec 32) (v9335 : BitVec 32) : Prop :=
  (∀ a, (k0_off2146 i v9125 v9128 v9335) a + S1x128.size a ≤ S8224x128.size a)
theorem k0_off2146_inb : ∀ (i : grid0.Coords) (v9125 : BitVec 32) (v9128 : BitVec 32) (v9335 : BitVec 32) (k0_hw1072 : k0_chk1072 i v9125 v9128 v9335), ∀ a, (k0_off2146 i v9125 v9128 v9335) a + S1x128.size a ≤ S8224x128.size a := fun i v9125 v9128 v9335 k0_hw1072 => k0_hw1072

def k0_off2147 (v9125 : BitVec 32) : Fin 1 → Nat :=
  let c14_i32_3627 : BitVec 32 := 14#32
  let v9346 : BitVec 32 := Scalar.addi v9125 c14_i32_3627
  let v9349 : Index := Scalar.indexCast v9346
  ![v9349.toNat]
def k0_off2148 (i : grid0.Coords) (v9125 : BitVec 32) (v9128 : BitVec 32) (v9350 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_3628 : BitVec 32 := 14#32
  let v9347 : BitVec 32 := Scalar.addi v9125 c14_i32_3628
  let v9348 : BitVec 1 := Scalar.cmpi .slt v9347 v9128
  let c65535_i32_3629 : BitVec 32 := 65535#32
  let v9351 : BitVec 32 := Scalar.andi v9350 c65535_i32_3629
  let c2048_i32_3630 : BitVec 32 := 2048#32
  let v9352 : BitVec 32 := Scalar.select v9348 v9351 c2048_i32_3630
  let v9353 : BitVec 32 := Scalar.addi v1470 v9352
  let v9356 : Index := Scalar.indexCast v9353
  let c0_3632 : Index := 0#32
  ![v9356.toNat, 0]

def k0_chk1073 (i : grid0.Coords) (v9125 : BitVec 32) (v9128 : BitVec 32) (v9350 : BitVec 32) : Prop :=
  (∀ a, (k0_off2148 i v9125 v9128 v9350) a + S1x128.size a ≤ S8224x128.size a)
theorem k0_off2148_inb : ∀ (i : grid0.Coords) (v9125 : BitVec 32) (v9128 : BitVec 32) (v9350 : BitVec 32) (k0_hw1073 : k0_chk1073 i v9125 v9128 v9350), ∀ a, (k0_off2148 i v9125 v9128 v9350) a + S1x128.size a ≤ S8224x128.size a := fun i v9125 v9128 v9350 k0_hw1073 => k0_hw1073

def k0_off2149 (v9125 : BitVec 32) : Fin 1 → Nat :=
  let c15_i32_3633 : BitVec 32 := 15#32
  let v9361 : BitVec 32 := Scalar.addi v9125 c15_i32_3633
  let v9364 : Index := Scalar.indexCast v9361
  ![v9364.toNat]

def k0_chk1058 (v9125 : BitVec 32) : Prop :=
  (∀ a, (k0_off2119 v9125) a + S1.size a ≤ S51920.size a) ∧
  (∀ a, (k0_off2121 v9125) a + S1.size a ≤ S51920.size a) ∧
  (∀ a, (k0_off2123 v9125) a + S1.size a ≤ S51920.size a) ∧
  (∀ a, (k0_off2125 v9125) a + S1.size a ≤ S51920.size a) ∧
  (∀ a, (k0_off2127 v9125) a + S1.size a ≤ S51920.size a) ∧
  (∀ a, (k0_off2129 v9125) a + S1.size a ≤ S51920.size a) ∧
  (∀ a, (k0_off2131 v9125) a + S1.size a ≤ S51920.size a) ∧
  (∀ a, (k0_off2133 v9125) a + S1.size a ≤ S51920.size a) ∧
  (∀ a, (k0_off2135 v9125) a + S1.size a ≤ S51920.size a) ∧
  (∀ a, (k0_off2137 v9125) a + S1.size a ≤ S51920.size a) ∧
  (∀ a, (k0_off2139 v9125) a + S1.size a ≤ S51920.size a) ∧
  (∀ a, (k0_off2141 v9125) a + S1.size a ≤ S51920.size a) ∧
  (∀ a, (k0_off2143 v9125) a + S1.size a ≤ S51920.size a) ∧
  (∀ a, (k0_off2145 v9125) a + S1.size a ≤ S51920.size a) ∧
  (∀ a, (k0_off2147 v9125) a + S1.size a ≤ S51920.size a) ∧
  (∀ a, (k0_off2149 v9125) a + S1.size a ≤ S51920.size a)
theorem k0_off2119_inb : ∀ (v9125 : BitVec 32) (k0_hw1058 : k0_chk1058 v9125), ∀ a, (k0_off2119 v9125) a + S1.size a ≤ S51920.size a := fun v9125 k0_hw1058 => k0_hw1058.1
theorem k0_off2121_inb : ∀ (v9125 : BitVec 32) (k0_hw1058 : k0_chk1058 v9125), ∀ a, (k0_off2121 v9125) a + S1.size a ≤ S51920.size a := fun v9125 k0_hw1058 => k0_hw1058.2.1
theorem k0_off2123_inb : ∀ (v9125 : BitVec 32) (k0_hw1058 : k0_chk1058 v9125), ∀ a, (k0_off2123 v9125) a + S1.size a ≤ S51920.size a := fun v9125 k0_hw1058 => k0_hw1058.2.2.1
theorem k0_off2125_inb : ∀ (v9125 : BitVec 32) (k0_hw1058 : k0_chk1058 v9125), ∀ a, (k0_off2125 v9125) a + S1.size a ≤ S51920.size a := fun v9125 k0_hw1058 => k0_hw1058.2.2.2.1
theorem k0_off2127_inb : ∀ (v9125 : BitVec 32) (k0_hw1058 : k0_chk1058 v9125), ∀ a, (k0_off2127 v9125) a + S1.size a ≤ S51920.size a := fun v9125 k0_hw1058 => k0_hw1058.2.2.2.2.1
theorem k0_off2129_inb : ∀ (v9125 : BitVec 32) (k0_hw1058 : k0_chk1058 v9125), ∀ a, (k0_off2129 v9125) a + S1.size a ≤ S51920.size a := fun v9125 k0_hw1058 => k0_hw1058.2.2.2.2.2.1
theorem k0_off2131_inb : ∀ (v9125 : BitVec 32) (k0_hw1058 : k0_chk1058 v9125), ∀ a, (k0_off2131 v9125) a + S1.size a ≤ S51920.size a := fun v9125 k0_hw1058 => k0_hw1058.2.2.2.2.2.2.1
theorem k0_off2133_inb : ∀ (v9125 : BitVec 32) (k0_hw1058 : k0_chk1058 v9125), ∀ a, (k0_off2133 v9125) a + S1.size a ≤ S51920.size a := fun v9125 k0_hw1058 => k0_hw1058.2.2.2.2.2.2.2.1
theorem k0_off2135_inb : ∀ (v9125 : BitVec 32) (k0_hw1058 : k0_chk1058 v9125), ∀ a, (k0_off2135 v9125) a + S1.size a ≤ S51920.size a := fun v9125 k0_hw1058 => k0_hw1058.2.2.2.2.2.2.2.2.1
theorem k0_off2137_inb : ∀ (v9125 : BitVec 32) (k0_hw1058 : k0_chk1058 v9125), ∀ a, (k0_off2137 v9125) a + S1.size a ≤ S51920.size a := fun v9125 k0_hw1058 => k0_hw1058.2.2.2.2.2.2.2.2.2.1
theorem k0_off2139_inb : ∀ (v9125 : BitVec 32) (k0_hw1058 : k0_chk1058 v9125), ∀ a, (k0_off2139 v9125) a + S1.size a ≤ S51920.size a := fun v9125 k0_hw1058 => k0_hw1058.2.2.2.2.2.2.2.2.2.2.1
theorem k0_off2141_inb : ∀ (v9125 : BitVec 32) (k0_hw1058 : k0_chk1058 v9125), ∀ a, (k0_off2141 v9125) a + S1.size a ≤ S51920.size a := fun v9125 k0_hw1058 => k0_hw1058.2.2.2.2.2.2.2.2.2.2.2.1
theorem k0_off2143_inb : ∀ (v9125 : BitVec 32) (k0_hw1058 : k0_chk1058 v9125), ∀ a, (k0_off2143 v9125) a + S1.size a ≤ S51920.size a := fun v9125 k0_hw1058 => k0_hw1058.2.2.2.2.2.2.2.2.2.2.2.2.1
theorem k0_off2145_inb : ∀ (v9125 : BitVec 32) (k0_hw1058 : k0_chk1058 v9125), ∀ a, (k0_off2145 v9125) a + S1.size a ≤ S51920.size a := fun v9125 k0_hw1058 => k0_hw1058.2.2.2.2.2.2.2.2.2.2.2.2.2.1
theorem k0_off2147_inb : ∀ (v9125 : BitVec 32) (k0_hw1058 : k0_chk1058 v9125), ∀ a, (k0_off2147 v9125) a + S1.size a ≤ S51920.size a := fun v9125 k0_hw1058 => k0_hw1058.2.2.2.2.2.2.2.2.2.2.2.2.2.2.1
theorem k0_off2149_inb : ∀ (v9125 : BitVec 32) (k0_hw1058 : k0_chk1058 v9125), ∀ a, (k0_off2149 v9125) a + S1.size a ≤ S51920.size a := fun v9125 k0_hw1058 => k0_hw1058.2.2.2.2.2.2.2.2.2.2.2.2.2.2.2

def k0_off2150 (i : grid0.Coords) (v9125 : BitVec 32) (v9128 : BitVec 32) (v9365 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_3634 : BitVec 32 := 15#32
  let v9362 : BitVec 32 := Scalar.addi v9125 c15_i32_3634
  let v9363 : BitVec 1 := Scalar.cmpi .slt v9362 v9128
  let c65535_i32_3635 : BitVec 32 := 65535#32
  let v9366 : BitVec 32 := Scalar.andi v9365 c65535_i32_3635
  let c2048_i32_3636 : BitVec 32 := 2048#32
  let v9367 : BitVec 32 := Scalar.select v9363 v9366 c2048_i32_3636
  let v9368 : BitVec 32 := Scalar.addi v1470 v9367
  let v9371 : Index := Scalar.indexCast v9368
  let c0_3638 : Index := 0#32
  ![v9371.toNat, 0]

def k0_chk1074 (i : grid0.Coords) (v9125 : BitVec 32) (v9128 : BitVec 32) (v9365 : BitVec 32) : Prop :=
  (∀ a, (k0_off2150 i v9125 v9128 v9365) a + S1x128.size a ≤ S8224x128.size a)
theorem k0_off2150_inb : ∀ (i : grid0.Coords) (v9125 : BitVec 32) (v9128 : BitVec 32) (v9365 : BitVec 32) (k0_hw1074 : k0_chk1074 i v9125 v9128 v9365), ∀ a, (k0_off2150 i v9125 v9128 v9365) a + S1x128.size a ≤ S8224x128.size a := fun i v9125 v9128 v9365 k0_hw1074 => k0_hw1074

def k0_off2151 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3639 : BitVec 32 := 512#32
  let v9376 : BitVec 32 := Scalar.muli v24 c512_i32_3639
  let arg1 : BitVec 32 := BitVec.ofNat 32 (i 1).val
  let c32_i32 : BitVec 32 := 32#32
  let v1452 : BitVec 32 := Scalar.muli arg1 c32_i32
  let v9377 : BitVec 32 := Scalar.addi v9376 v1452
  let c31_i32 : BitVec 32 := 31#32
  let v9378 : BitVec 32 := Scalar.addi v9377 c31_i32
  let v9379 : Index := Scalar.indexCast v9378
  ![v9379.toNat]
def k0_off2152 (i : grid0.Coords) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3639 : BitVec 32 := 512#32
  let v9376 : BitVec 32 := Scalar.muli v24 c512_i32_3639
  let arg1 : BitVec 32 := BitVec.ofNat 32 (i 1).val
  let c32_i32 : BitVec 32 := 32#32
  let v1452 : BitVec 32 := Scalar.muli arg1 c32_i32
  let v9377 : BitVec 32 := Scalar.addi v9376 v1452
  let c31_i32 : BitVec 32 := 31#32
  let v9378 : BitVec 32 := Scalar.addi v9377 c31_i32
  let c1_i32_3640 : BitVec 32 := 1#32
  let v9381 : BitVec 32 := Scalar.addi v9378 c1_i32_3640
  let v9382 : Index := Scalar.indexCast v9381
  ![v9382.toNat]
def k0_off2153 (v9380 : BitVec 32) : Fin 1 → Nat :=
  let c0_i32_3643 : BitVec 32 := 0#32
  let v9391 : BitVec 32 := Scalar.addi v9380 c0_i32_3643
  let v9394 : Index := Scalar.indexCast v9391
  ![v9394.toNat]

def k0_off2154 (i : grid0.Coords) (v9380 : BitVec 32) (v9383 : BitVec 32) (v9395 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c0_i32_3644 : BitVec 32 := 0#32
  let v9392 : BitVec 32 := Scalar.addi v9380 c0_i32_3644
  let v9393 : BitVec 1 := Scalar.cmpi .slt v9392 v9383
  let c65535_i32_3645 : BitVec 32 := 65535#32
  let v9396 : BitVec 32 := Scalar.andi v9395 c65535_i32_3645
  let c2048_i32_3646 : BitVec 32 := 2048#32
  let v9397 : BitVec 32 := Scalar.select v9393 v9396 c2048_i32_3646
  let v9398 : BitVec 32 := Scalar.addi v1470 v9397
  let v9401 : Index := Scalar.indexCast v9398
  let c0_3648 : Index := 0#32
  ![v9401.toNat, 0]

def k0_chk1076 (i : grid0.Coords) (v9380 : BitVec 32) (v9383 : BitVec 32) (v9395 : BitVec 32) : Prop :=
  (∀ a, (k0_off2154 i v9380 v9383 v9395) a + S1x128.size a ≤ S8224x128.size a)
theorem k0_off2154_inb : ∀ (i : grid0.Coords) (v9380 : BitVec 32) (v9383 : BitVec 32) (v9395 : BitVec 32) (k0_hw1076 : k0_chk1076 i v9380 v9383 v9395), ∀ a, (k0_off2154 i v9380 v9383 v9395) a + S1x128.size a ≤ S8224x128.size a := fun i v9380 v9383 v9395 k0_hw1076 => k0_hw1076

def k0_off2155 (v9380 : BitVec 32) : Fin 1 → Nat :=
  let c1_i32_3649 : BitVec 32 := 1#32
  let v9406 : BitVec 32 := Scalar.addi v9380 c1_i32_3649
  let v9409 : Index := Scalar.indexCast v9406
  ![v9409.toNat]
def k0_off2156 (i : grid0.Coords) (v9380 : BitVec 32) (v9383 : BitVec 32) (v9410 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c1_i32_3650 : BitVec 32 := 1#32
  let v9407 : BitVec 32 := Scalar.addi v9380 c1_i32_3650
  let v9408 : BitVec 1 := Scalar.cmpi .slt v9407 v9383
  let c65535_i32_3651 : BitVec 32 := 65535#32
  let v9411 : BitVec 32 := Scalar.andi v9410 c65535_i32_3651
  let c2048_i32_3652 : BitVec 32 := 2048#32
  let v9412 : BitVec 32 := Scalar.select v9408 v9411 c2048_i32_3652
  let v9413 : BitVec 32 := Scalar.addi v1470 v9412
  let v9416 : Index := Scalar.indexCast v9413
  let c0_3654 : Index := 0#32
  ![v9416.toNat, 0]

def k0_chk1077 (i : grid0.Coords) (v9380 : BitVec 32) (v9383 : BitVec 32) (v9410 : BitVec 32) : Prop :=
  (∀ a, (k0_off2156 i v9380 v9383 v9410) a + S1x128.size a ≤ S8224x128.size a)
theorem k0_off2156_inb : ∀ (i : grid0.Coords) (v9380 : BitVec 32) (v9383 : BitVec 32) (v9410 : BitVec 32) (k0_hw1077 : k0_chk1077 i v9380 v9383 v9410), ∀ a, (k0_off2156 i v9380 v9383 v9410) a + S1x128.size a ≤ S8224x128.size a := fun i v9380 v9383 v9410 k0_hw1077 => k0_hw1077

def k0_off2157 (v9380 : BitVec 32) : Fin 1 → Nat :=
  let c2_i32_3655 : BitVec 32 := 2#32
  let v9421 : BitVec 32 := Scalar.addi v9380 c2_i32_3655
  let v9424 : Index := Scalar.indexCast v9421
  ![v9424.toNat]
def k0_off2158 (i : grid0.Coords) (v9380 : BitVec 32) (v9383 : BitVec 32) (v9425 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c2_i32_3656 : BitVec 32 := 2#32
  let v9422 : BitVec 32 := Scalar.addi v9380 c2_i32_3656
  let v9423 : BitVec 1 := Scalar.cmpi .slt v9422 v9383
  let c65535_i32_3657 : BitVec 32 := 65535#32
  let v9426 : BitVec 32 := Scalar.andi v9425 c65535_i32_3657
  let c2048_i32_3658 : BitVec 32 := 2048#32
  let v9427 : BitVec 32 := Scalar.select v9423 v9426 c2048_i32_3658
  let v9428 : BitVec 32 := Scalar.addi v1470 v9427
  let v9431 : Index := Scalar.indexCast v9428
  let c0_3660 : Index := 0#32
  ![v9431.toNat, 0]

def k0_chk1078 (i : grid0.Coords) (v9380 : BitVec 32) (v9383 : BitVec 32) (v9425 : BitVec 32) : Prop :=
  (∀ a, (k0_off2158 i v9380 v9383 v9425) a + S1x128.size a ≤ S8224x128.size a)
theorem k0_off2158_inb : ∀ (i : grid0.Coords) (v9380 : BitVec 32) (v9383 : BitVec 32) (v9425 : BitVec 32) (k0_hw1078 : k0_chk1078 i v9380 v9383 v9425), ∀ a, (k0_off2158 i v9380 v9383 v9425) a + S1x128.size a ≤ S8224x128.size a := fun i v9380 v9383 v9425 k0_hw1078 => k0_hw1078

def k0_off2159 (v9380 : BitVec 32) : Fin 1 → Nat :=
  let c3_i32_3661 : BitVec 32 := 3#32
  let v9436 : BitVec 32 := Scalar.addi v9380 c3_i32_3661
  let v9439 : Index := Scalar.indexCast v9436
  ![v9439.toNat]
def k0_off2160 (i : grid0.Coords) (v9380 : BitVec 32) (v9383 : BitVec 32) (v9440 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c3_i32_3662 : BitVec 32 := 3#32
  let v9437 : BitVec 32 := Scalar.addi v9380 c3_i32_3662
  let v9438 : BitVec 1 := Scalar.cmpi .slt v9437 v9383
  let c65535_i32_3663 : BitVec 32 := 65535#32
  let v9441 : BitVec 32 := Scalar.andi v9440 c65535_i32_3663
  let c2048_i32_3664 : BitVec 32 := 2048#32
  let v9442 : BitVec 32 := Scalar.select v9438 v9441 c2048_i32_3664
  let v9443 : BitVec 32 := Scalar.addi v1470 v9442
  let v9446 : Index := Scalar.indexCast v9443
  let c0_3666 : Index := 0#32
  ![v9446.toNat, 0]

def k0_chk1079 (i : grid0.Coords) (v9380 : BitVec 32) (v9383 : BitVec 32) (v9440 : BitVec 32) : Prop :=
  (∀ a, (k0_off2160 i v9380 v9383 v9440) a + S1x128.size a ≤ S8224x128.size a)
theorem k0_off2160_inb : ∀ (i : grid0.Coords) (v9380 : BitVec 32) (v9383 : BitVec 32) (v9440 : BitVec 32) (k0_hw1079 : k0_chk1079 i v9380 v9383 v9440), ∀ a, (k0_off2160 i v9380 v9383 v9440) a + S1x128.size a ≤ S8224x128.size a := fun i v9380 v9383 v9440 k0_hw1079 => k0_hw1079

def k0_off2161 (v9380 : BitVec 32) : Fin 1 → Nat :=
  let c4_i32_3667 : BitVec 32 := 4#32
  let v9451 : BitVec 32 := Scalar.addi v9380 c4_i32_3667
  let v9454 : Index := Scalar.indexCast v9451
  ![v9454.toNat]
def k0_off2162 (i : grid0.Coords) (v9380 : BitVec 32) (v9383 : BitVec 32) (v9455 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c4_i32_3668 : BitVec 32 := 4#32
  let v9452 : BitVec 32 := Scalar.addi v9380 c4_i32_3668
  let v9453 : BitVec 1 := Scalar.cmpi .slt v9452 v9383
  let c65535_i32_3669 : BitVec 32 := 65535#32
  let v9456 : BitVec 32 := Scalar.andi v9455 c65535_i32_3669
  let c2048_i32_3670 : BitVec 32 := 2048#32
  let v9457 : BitVec 32 := Scalar.select v9453 v9456 c2048_i32_3670
  let v9458 : BitVec 32 := Scalar.addi v1470 v9457
  let v9461 : Index := Scalar.indexCast v9458
  let c0_3672 : Index := 0#32
  ![v9461.toNat, 0]

def k0_chk1080 (i : grid0.Coords) (v9380 : BitVec 32) (v9383 : BitVec 32) (v9455 : BitVec 32) : Prop :=
  (∀ a, (k0_off2162 i v9380 v9383 v9455) a + S1x128.size a ≤ S8224x128.size a)
theorem k0_off2162_inb : ∀ (i : grid0.Coords) (v9380 : BitVec 32) (v9383 : BitVec 32) (v9455 : BitVec 32) (k0_hw1080 : k0_chk1080 i v9380 v9383 v9455), ∀ a, (k0_off2162 i v9380 v9383 v9455) a + S1x128.size a ≤ S8224x128.size a := fun i v9380 v9383 v9455 k0_hw1080 => k0_hw1080

def k0_off2163 (v9380 : BitVec 32) : Fin 1 → Nat :=
  let c5_i32_3673 : BitVec 32 := 5#32
  let v9466 : BitVec 32 := Scalar.addi v9380 c5_i32_3673
  let v9469 : Index := Scalar.indexCast v9466
  ![v9469.toNat]
def k0_off2164 (i : grid0.Coords) (v9380 : BitVec 32) (v9383 : BitVec 32) (v9470 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c5_i32_3674 : BitVec 32 := 5#32
  let v9467 : BitVec 32 := Scalar.addi v9380 c5_i32_3674
  let v9468 : BitVec 1 := Scalar.cmpi .slt v9467 v9383
  let c65535_i32_3675 : BitVec 32 := 65535#32
  let v9471 : BitVec 32 := Scalar.andi v9470 c65535_i32_3675
  let c2048_i32_3676 : BitVec 32 := 2048#32
  let v9472 : BitVec 32 := Scalar.select v9468 v9471 c2048_i32_3676
  let v9473 : BitVec 32 := Scalar.addi v1470 v9472
  let v9476 : Index := Scalar.indexCast v9473
  let c0_3678 : Index := 0#32
  ![v9476.toNat, 0]

def k0_chk1081 (i : grid0.Coords) (v9380 : BitVec 32) (v9383 : BitVec 32) (v9470 : BitVec 32) : Prop :=
  (∀ a, (k0_off2164 i v9380 v9383 v9470) a + S1x128.size a ≤ S8224x128.size a)
theorem k0_off2164_inb : ∀ (i : grid0.Coords) (v9380 : BitVec 32) (v9383 : BitVec 32) (v9470 : BitVec 32) (k0_hw1081 : k0_chk1081 i v9380 v9383 v9470), ∀ a, (k0_off2164 i v9380 v9383 v9470) a + S1x128.size a ≤ S8224x128.size a := fun i v9380 v9383 v9470 k0_hw1081 => k0_hw1081

def k0_off2165 (v9380 : BitVec 32) : Fin 1 → Nat :=
  let c6_i32_3679 : BitVec 32 := 6#32
  let v9481 : BitVec 32 := Scalar.addi v9380 c6_i32_3679
  let v9484 : Index := Scalar.indexCast v9481
  ![v9484.toNat]
def k0_off2166 (i : grid0.Coords) (v9380 : BitVec 32) (v9383 : BitVec 32) (v9485 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c6_i32_3680 : BitVec 32 := 6#32
  let v9482 : BitVec 32 := Scalar.addi v9380 c6_i32_3680
  let v9483 : BitVec 1 := Scalar.cmpi .slt v9482 v9383
  let c65535_i32_3681 : BitVec 32 := 65535#32
  let v9486 : BitVec 32 := Scalar.andi v9485 c65535_i32_3681
  let c2048_i32_3682 : BitVec 32 := 2048#32
  let v9487 : BitVec 32 := Scalar.select v9483 v9486 c2048_i32_3682
  let v9488 : BitVec 32 := Scalar.addi v1470 v9487
  let v9491 : Index := Scalar.indexCast v9488
  let c0_3684 : Index := 0#32
  ![v9491.toNat, 0]

def k0_chk1082 (i : grid0.Coords) (v9380 : BitVec 32) (v9383 : BitVec 32) (v9485 : BitVec 32) : Prop :=
  (∀ a, (k0_off2166 i v9380 v9383 v9485) a + S1x128.size a ≤ S8224x128.size a)
theorem k0_off2166_inb : ∀ (i : grid0.Coords) (v9380 : BitVec 32) (v9383 : BitVec 32) (v9485 : BitVec 32) (k0_hw1082 : k0_chk1082 i v9380 v9383 v9485), ∀ a, (k0_off2166 i v9380 v9383 v9485) a + S1x128.size a ≤ S8224x128.size a := fun i v9380 v9383 v9485 k0_hw1082 => k0_hw1082

def k0_off2167 (v9380 : BitVec 32) : Fin 1 → Nat :=
  let c7_i32_3685 : BitVec 32 := 7#32
  let v9496 : BitVec 32 := Scalar.addi v9380 c7_i32_3685
  let v9499 : Index := Scalar.indexCast v9496
  ![v9499.toNat]
def k0_off2168 (i : grid0.Coords) (v9380 : BitVec 32) (v9383 : BitVec 32) (v9500 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c7_i32_3686 : BitVec 32 := 7#32
  let v9497 : BitVec 32 := Scalar.addi v9380 c7_i32_3686
  let v9498 : BitVec 1 := Scalar.cmpi .slt v9497 v9383
  let c65535_i32_3687 : BitVec 32 := 65535#32
  let v9501 : BitVec 32 := Scalar.andi v9500 c65535_i32_3687
  let c2048_i32_3688 : BitVec 32 := 2048#32
  let v9502 : BitVec 32 := Scalar.select v9498 v9501 c2048_i32_3688
  let v9503 : BitVec 32 := Scalar.addi v1470 v9502
  let v9506 : Index := Scalar.indexCast v9503
  let c0_3690 : Index := 0#32
  ![v9506.toNat, 0]

def k0_chk1083 (i : grid0.Coords) (v9380 : BitVec 32) (v9383 : BitVec 32) (v9500 : BitVec 32) : Prop :=
  (∀ a, (k0_off2168 i v9380 v9383 v9500) a + S1x128.size a ≤ S8224x128.size a)
theorem k0_off2168_inb : ∀ (i : grid0.Coords) (v9380 : BitVec 32) (v9383 : BitVec 32) (v9500 : BitVec 32) (k0_hw1083 : k0_chk1083 i v9380 v9383 v9500), ∀ a, (k0_off2168 i v9380 v9383 v9500) a + S1x128.size a ≤ S8224x128.size a := fun i v9380 v9383 v9500 k0_hw1083 => k0_hw1083

def k0_off2169 (v9380 : BitVec 32) : Fin 1 → Nat :=
  let c8_i32_3691 : BitVec 32 := 8#32
  let v9511 : BitVec 32 := Scalar.addi v9380 c8_i32_3691
  let v9514 : Index := Scalar.indexCast v9511
  ![v9514.toNat]
def k0_off2170 (i : grid0.Coords) (v9380 : BitVec 32) (v9383 : BitVec 32) (v9515 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c8_i32_3692 : BitVec 32 := 8#32
  let v9512 : BitVec 32 := Scalar.addi v9380 c8_i32_3692
  let v9513 : BitVec 1 := Scalar.cmpi .slt v9512 v9383
  let c65535_i32_3693 : BitVec 32 := 65535#32
  let v9516 : BitVec 32 := Scalar.andi v9515 c65535_i32_3693
  let c2048_i32_3694 : BitVec 32 := 2048#32
  let v9517 : BitVec 32 := Scalar.select v9513 v9516 c2048_i32_3694
  let v9518 : BitVec 32 := Scalar.addi v1470 v9517
  let v9521 : Index := Scalar.indexCast v9518
  let c0_3696 : Index := 0#32
  ![v9521.toNat, 0]

def k0_chk1084 (i : grid0.Coords) (v9380 : BitVec 32) (v9383 : BitVec 32) (v9515 : BitVec 32) : Prop :=
  (∀ a, (k0_off2170 i v9380 v9383 v9515) a + S1x128.size a ≤ S8224x128.size a)
theorem k0_off2170_inb : ∀ (i : grid0.Coords) (v9380 : BitVec 32) (v9383 : BitVec 32) (v9515 : BitVec 32) (k0_hw1084 : k0_chk1084 i v9380 v9383 v9515), ∀ a, (k0_off2170 i v9380 v9383 v9515) a + S1x128.size a ≤ S8224x128.size a := fun i v9380 v9383 v9515 k0_hw1084 => k0_hw1084

def k0_off2171 (v9380 : BitVec 32) : Fin 1 → Nat :=
  let c9_i32_3697 : BitVec 32 := 9#32
  let v9526 : BitVec 32 := Scalar.addi v9380 c9_i32_3697
  let v9529 : Index := Scalar.indexCast v9526
  ![v9529.toNat]
def k0_off2172 (i : grid0.Coords) (v9380 : BitVec 32) (v9383 : BitVec 32) (v9530 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c9_i32_3698 : BitVec 32 := 9#32
  let v9527 : BitVec 32 := Scalar.addi v9380 c9_i32_3698
  let v9528 : BitVec 1 := Scalar.cmpi .slt v9527 v9383
  let c65535_i32_3699 : BitVec 32 := 65535#32
  let v9531 : BitVec 32 := Scalar.andi v9530 c65535_i32_3699
  let c2048_i32_3700 : BitVec 32 := 2048#32
  let v9532 : BitVec 32 := Scalar.select v9528 v9531 c2048_i32_3700
  let v9533 : BitVec 32 := Scalar.addi v1470 v9532
  let v9536 : Index := Scalar.indexCast v9533
  let c0_3702 : Index := 0#32
  ![v9536.toNat, 0]

def k0_chk1085 (i : grid0.Coords) (v9380 : BitVec 32) (v9383 : BitVec 32) (v9530 : BitVec 32) : Prop :=
  (∀ a, (k0_off2172 i v9380 v9383 v9530) a + S1x128.size a ≤ S8224x128.size a)
theorem k0_off2172_inb : ∀ (i : grid0.Coords) (v9380 : BitVec 32) (v9383 : BitVec 32) (v9530 : BitVec 32) (k0_hw1085 : k0_chk1085 i v9380 v9383 v9530), ∀ a, (k0_off2172 i v9380 v9383 v9530) a + S1x128.size a ≤ S8224x128.size a := fun i v9380 v9383 v9530 k0_hw1085 => k0_hw1085

def k0_off2173 (v9380 : BitVec 32) : Fin 1 → Nat :=
  let c10_i32_3703 : BitVec 32 := 10#32
  let v9541 : BitVec 32 := Scalar.addi v9380 c10_i32_3703
  let v9544 : Index := Scalar.indexCast v9541
  ![v9544.toNat]
def k0_off2174 (i : grid0.Coords) (v9380 : BitVec 32) (v9383 : BitVec 32) (v9545 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c10_i32_3704 : BitVec 32 := 10#32
  let v9542 : BitVec 32 := Scalar.addi v9380 c10_i32_3704
  let v9543 : BitVec 1 := Scalar.cmpi .slt v9542 v9383
  let c65535_i32_3705 : BitVec 32 := 65535#32
  let v9546 : BitVec 32 := Scalar.andi v9545 c65535_i32_3705
  let c2048_i32_3706 : BitVec 32 := 2048#32
  let v9547 : BitVec 32 := Scalar.select v9543 v9546 c2048_i32_3706
  let v9548 : BitVec 32 := Scalar.addi v1470 v9547
  let v9551 : Index := Scalar.indexCast v9548
  let c0_3708 : Index := 0#32
  ![v9551.toNat, 0]

def k0_chk1086 (i : grid0.Coords) (v9380 : BitVec 32) (v9383 : BitVec 32) (v9545 : BitVec 32) : Prop :=
  (∀ a, (k0_off2174 i v9380 v9383 v9545) a + S1x128.size a ≤ S8224x128.size a)
theorem k0_off2174_inb : ∀ (i : grid0.Coords) (v9380 : BitVec 32) (v9383 : BitVec 32) (v9545 : BitVec 32) (k0_hw1086 : k0_chk1086 i v9380 v9383 v9545), ∀ a, (k0_off2174 i v9380 v9383 v9545) a + S1x128.size a ≤ S8224x128.size a := fun i v9380 v9383 v9545 k0_hw1086 => k0_hw1086

def k0_off2175 (v9380 : BitVec 32) : Fin 1 → Nat :=
  let c11_i32_3709 : BitVec 32 := 11#32
  let v9556 : BitVec 32 := Scalar.addi v9380 c11_i32_3709
  let v9559 : Index := Scalar.indexCast v9556
  ![v9559.toNat]
def k0_off2176 (i : grid0.Coords) (v9380 : BitVec 32) (v9383 : BitVec 32) (v9560 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c11_i32_3710 : BitVec 32 := 11#32
  let v9557 : BitVec 32 := Scalar.addi v9380 c11_i32_3710
  let v9558 : BitVec 1 := Scalar.cmpi .slt v9557 v9383
  let c65535_i32_3711 : BitVec 32 := 65535#32
  let v9561 : BitVec 32 := Scalar.andi v9560 c65535_i32_3711
  let c2048_i32_3712 : BitVec 32 := 2048#32
  let v9562 : BitVec 32 := Scalar.select v9558 v9561 c2048_i32_3712
  let v9563 : BitVec 32 := Scalar.addi v1470 v9562
  let v9566 : Index := Scalar.indexCast v9563
  let c0_3714 : Index := 0#32
  ![v9566.toNat, 0]

def k0_chk1087 (i : grid0.Coords) (v9380 : BitVec 32) (v9383 : BitVec 32) (v9560 : BitVec 32) : Prop :=
  (∀ a, (k0_off2176 i v9380 v9383 v9560) a + S1x128.size a ≤ S8224x128.size a)
theorem k0_off2176_inb : ∀ (i : grid0.Coords) (v9380 : BitVec 32) (v9383 : BitVec 32) (v9560 : BitVec 32) (k0_hw1087 : k0_chk1087 i v9380 v9383 v9560), ∀ a, (k0_off2176 i v9380 v9383 v9560) a + S1x128.size a ≤ S8224x128.size a := fun i v9380 v9383 v9560 k0_hw1087 => k0_hw1087

def k0_off2177 (v9380 : BitVec 32) : Fin 1 → Nat :=
  let c12_i32_3715 : BitVec 32 := 12#32
  let v9571 : BitVec 32 := Scalar.addi v9380 c12_i32_3715
  let v9574 : Index := Scalar.indexCast v9571
  ![v9574.toNat]
def k0_off2178 (i : grid0.Coords) (v9380 : BitVec 32) (v9383 : BitVec 32) (v9575 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c12_i32_3716 : BitVec 32 := 12#32
  let v9572 : BitVec 32 := Scalar.addi v9380 c12_i32_3716
  let v9573 : BitVec 1 := Scalar.cmpi .slt v9572 v9383
  let c65535_i32_3717 : BitVec 32 := 65535#32
  let v9576 : BitVec 32 := Scalar.andi v9575 c65535_i32_3717
  let c2048_i32_3718 : BitVec 32 := 2048#32
  let v9577 : BitVec 32 := Scalar.select v9573 v9576 c2048_i32_3718
  let v9578 : BitVec 32 := Scalar.addi v1470 v9577
  let v9581 : Index := Scalar.indexCast v9578
  let c0_3720 : Index := 0#32
  ![v9581.toNat, 0]

def k0_chk1088 (i : grid0.Coords) (v9380 : BitVec 32) (v9383 : BitVec 32) (v9575 : BitVec 32) : Prop :=
  (∀ a, (k0_off2178 i v9380 v9383 v9575) a + S1x128.size a ≤ S8224x128.size a)
theorem k0_off2178_inb : ∀ (i : grid0.Coords) (v9380 : BitVec 32) (v9383 : BitVec 32) (v9575 : BitVec 32) (k0_hw1088 : k0_chk1088 i v9380 v9383 v9575), ∀ a, (k0_off2178 i v9380 v9383 v9575) a + S1x128.size a ≤ S8224x128.size a := fun i v9380 v9383 v9575 k0_hw1088 => k0_hw1088

def k0_off2179 (v9380 : BitVec 32) : Fin 1 → Nat :=
  let c13_i32_3721 : BitVec 32 := 13#32
  let v9586 : BitVec 32 := Scalar.addi v9380 c13_i32_3721
  let v9589 : Index := Scalar.indexCast v9586
  ![v9589.toNat]
def k0_off2180 (i : grid0.Coords) (v9380 : BitVec 32) (v9383 : BitVec 32) (v9590 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c13_i32_3722 : BitVec 32 := 13#32
  let v9587 : BitVec 32 := Scalar.addi v9380 c13_i32_3722
  let v9588 : BitVec 1 := Scalar.cmpi .slt v9587 v9383
  let c65535_i32_3723 : BitVec 32 := 65535#32
  let v9591 : BitVec 32 := Scalar.andi v9590 c65535_i32_3723
  let c2048_i32_3724 : BitVec 32 := 2048#32
  let v9592 : BitVec 32 := Scalar.select v9588 v9591 c2048_i32_3724
  let v9593 : BitVec 32 := Scalar.addi v1470 v9592
  let v9596 : Index := Scalar.indexCast v9593
  let c0_3726 : Index := 0#32
  ![v9596.toNat, 0]

def k0_chk1089 (i : grid0.Coords) (v9380 : BitVec 32) (v9383 : BitVec 32) (v9590 : BitVec 32) : Prop :=
  (∀ a, (k0_off2180 i v9380 v9383 v9590) a + S1x128.size a ≤ S8224x128.size a)
theorem k0_off2180_inb : ∀ (i : grid0.Coords) (v9380 : BitVec 32) (v9383 : BitVec 32) (v9590 : BitVec 32) (k0_hw1089 : k0_chk1089 i v9380 v9383 v9590), ∀ a, (k0_off2180 i v9380 v9383 v9590) a + S1x128.size a ≤ S8224x128.size a := fun i v9380 v9383 v9590 k0_hw1089 => k0_hw1089

def k0_off2181 (v9380 : BitVec 32) : Fin 1 → Nat :=
  let c14_i32_3727 : BitVec 32 := 14#32
  let v9601 : BitVec 32 := Scalar.addi v9380 c14_i32_3727
  let v9604 : Index := Scalar.indexCast v9601
  ![v9604.toNat]
def k0_off2182 (i : grid0.Coords) (v9380 : BitVec 32) (v9383 : BitVec 32) (v9605 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c14_i32_3728 : BitVec 32 := 14#32
  let v9602 : BitVec 32 := Scalar.addi v9380 c14_i32_3728
  let v9603 : BitVec 1 := Scalar.cmpi .slt v9602 v9383
  let c65535_i32_3729 : BitVec 32 := 65535#32
  let v9606 : BitVec 32 := Scalar.andi v9605 c65535_i32_3729
  let c2048_i32_3730 : BitVec 32 := 2048#32
  let v9607 : BitVec 32 := Scalar.select v9603 v9606 c2048_i32_3730
  let v9608 : BitVec 32 := Scalar.addi v1470 v9607
  let v9611 : Index := Scalar.indexCast v9608
  let c0_3732 : Index := 0#32
  ![v9611.toNat, 0]

def k0_chk1090 (i : grid0.Coords) (v9380 : BitVec 32) (v9383 : BitVec 32) (v9605 : BitVec 32) : Prop :=
  (∀ a, (k0_off2182 i v9380 v9383 v9605) a + S1x128.size a ≤ S8224x128.size a)
theorem k0_off2182_inb : ∀ (i : grid0.Coords) (v9380 : BitVec 32) (v9383 : BitVec 32) (v9605 : BitVec 32) (k0_hw1090 : k0_chk1090 i v9380 v9383 v9605), ∀ a, (k0_off2182 i v9380 v9383 v9605) a + S1x128.size a ≤ S8224x128.size a := fun i v9380 v9383 v9605 k0_hw1090 => k0_hw1090

def k0_off2183 (v9380 : BitVec 32) : Fin 1 → Nat :=
  let c15_i32_3733 : BitVec 32 := 15#32
  let v9616 : BitVec 32 := Scalar.addi v9380 c15_i32_3733
  let v9619 : Index := Scalar.indexCast v9616
  ![v9619.toNat]

def k0_chk1075 (v9380 : BitVec 32) : Prop :=
  (∀ a, (k0_off2153 v9380) a + S1.size a ≤ S51920.size a) ∧
  (∀ a, (k0_off2155 v9380) a + S1.size a ≤ S51920.size a) ∧
  (∀ a, (k0_off2157 v9380) a + S1.size a ≤ S51920.size a) ∧
  (∀ a, (k0_off2159 v9380) a + S1.size a ≤ S51920.size a) ∧
  (∀ a, (k0_off2161 v9380) a + S1.size a ≤ S51920.size a) ∧
  (∀ a, (k0_off2163 v9380) a + S1.size a ≤ S51920.size a) ∧
  (∀ a, (k0_off2165 v9380) a + S1.size a ≤ S51920.size a) ∧
  (∀ a, (k0_off2167 v9380) a + S1.size a ≤ S51920.size a) ∧
  (∀ a, (k0_off2169 v9380) a + S1.size a ≤ S51920.size a) ∧
  (∀ a, (k0_off2171 v9380) a + S1.size a ≤ S51920.size a) ∧
  (∀ a, (k0_off2173 v9380) a + S1.size a ≤ S51920.size a) ∧
  (∀ a, (k0_off2175 v9380) a + S1.size a ≤ S51920.size a) ∧
  (∀ a, (k0_off2177 v9380) a + S1.size a ≤ S51920.size a) ∧
  (∀ a, (k0_off2179 v9380) a + S1.size a ≤ S51920.size a) ∧
  (∀ a, (k0_off2181 v9380) a + S1.size a ≤ S51920.size a) ∧
  (∀ a, (k0_off2183 v9380) a + S1.size a ≤ S51920.size a)
theorem k0_off2153_inb : ∀ (v9380 : BitVec 32) (k0_hw1075 : k0_chk1075 v9380), ∀ a, (k0_off2153 v9380) a + S1.size a ≤ S51920.size a := fun v9380 k0_hw1075 => k0_hw1075.1
theorem k0_off2155_inb : ∀ (v9380 : BitVec 32) (k0_hw1075 : k0_chk1075 v9380), ∀ a, (k0_off2155 v9380) a + S1.size a ≤ S51920.size a := fun v9380 k0_hw1075 => k0_hw1075.2.1
theorem k0_off2157_inb : ∀ (v9380 : BitVec 32) (k0_hw1075 : k0_chk1075 v9380), ∀ a, (k0_off2157 v9380) a + S1.size a ≤ S51920.size a := fun v9380 k0_hw1075 => k0_hw1075.2.2.1
theorem k0_off2159_inb : ∀ (v9380 : BitVec 32) (k0_hw1075 : k0_chk1075 v9380), ∀ a, (k0_off2159 v9380) a + S1.size a ≤ S51920.size a := fun v9380 k0_hw1075 => k0_hw1075.2.2.2.1
theorem k0_off2161_inb : ∀ (v9380 : BitVec 32) (k0_hw1075 : k0_chk1075 v9380), ∀ a, (k0_off2161 v9380) a + S1.size a ≤ S51920.size a := fun v9380 k0_hw1075 => k0_hw1075.2.2.2.2.1
theorem k0_off2163_inb : ∀ (v9380 : BitVec 32) (k0_hw1075 : k0_chk1075 v9380), ∀ a, (k0_off2163 v9380) a + S1.size a ≤ S51920.size a := fun v9380 k0_hw1075 => k0_hw1075.2.2.2.2.2.1
theorem k0_off2165_inb : ∀ (v9380 : BitVec 32) (k0_hw1075 : k0_chk1075 v9380), ∀ a, (k0_off2165 v9380) a + S1.size a ≤ S51920.size a := fun v9380 k0_hw1075 => k0_hw1075.2.2.2.2.2.2.1
theorem k0_off2167_inb : ∀ (v9380 : BitVec 32) (k0_hw1075 : k0_chk1075 v9380), ∀ a, (k0_off2167 v9380) a + S1.size a ≤ S51920.size a := fun v9380 k0_hw1075 => k0_hw1075.2.2.2.2.2.2.2.1
theorem k0_off2169_inb : ∀ (v9380 : BitVec 32) (k0_hw1075 : k0_chk1075 v9380), ∀ a, (k0_off2169 v9380) a + S1.size a ≤ S51920.size a := fun v9380 k0_hw1075 => k0_hw1075.2.2.2.2.2.2.2.2.1
theorem k0_off2171_inb : ∀ (v9380 : BitVec 32) (k0_hw1075 : k0_chk1075 v9380), ∀ a, (k0_off2171 v9380) a + S1.size a ≤ S51920.size a := fun v9380 k0_hw1075 => k0_hw1075.2.2.2.2.2.2.2.2.2.1
theorem k0_off2173_inb : ∀ (v9380 : BitVec 32) (k0_hw1075 : k0_chk1075 v9380), ∀ a, (k0_off2173 v9380) a + S1.size a ≤ S51920.size a := fun v9380 k0_hw1075 => k0_hw1075.2.2.2.2.2.2.2.2.2.2.1
theorem k0_off2175_inb : ∀ (v9380 : BitVec 32) (k0_hw1075 : k0_chk1075 v9380), ∀ a, (k0_off2175 v9380) a + S1.size a ≤ S51920.size a := fun v9380 k0_hw1075 => k0_hw1075.2.2.2.2.2.2.2.2.2.2.2.1
theorem k0_off2177_inb : ∀ (v9380 : BitVec 32) (k0_hw1075 : k0_chk1075 v9380), ∀ a, (k0_off2177 v9380) a + S1.size a ≤ S51920.size a := fun v9380 k0_hw1075 => k0_hw1075.2.2.2.2.2.2.2.2.2.2.2.2.1
theorem k0_off2179_inb : ∀ (v9380 : BitVec 32) (k0_hw1075 : k0_chk1075 v9380), ∀ a, (k0_off2179 v9380) a + S1.size a ≤ S51920.size a := fun v9380 k0_hw1075 => k0_hw1075.2.2.2.2.2.2.2.2.2.2.2.2.2.1
theorem k0_off2181_inb : ∀ (v9380 : BitVec 32) (k0_hw1075 : k0_chk1075 v9380), ∀ a, (k0_off2181 v9380) a + S1.size a ≤ S51920.size a := fun v9380 k0_hw1075 => k0_hw1075.2.2.2.2.2.2.2.2.2.2.2.2.2.2.1
theorem k0_off2183_inb : ∀ (v9380 : BitVec 32) (k0_hw1075 : k0_chk1075 v9380), ∀ a, (k0_off2183 v9380) a + S1.size a ≤ S51920.size a := fun v9380 k0_hw1075 => k0_hw1075.2.2.2.2.2.2.2.2.2.2.2.2.2.2.2

def k0_off2184 (i : grid0.Coords) (v9380 : BitVec 32) (v9383 : BitVec 32) (v9620 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let c15_i32_3734 : BitVec 32 := 15#32
  let v9617 : BitVec 32 := Scalar.addi v9380 c15_i32_3734
  let v9618 : BitVec 1 := Scalar.cmpi .slt v9617 v9383
  let c65535_i32_3735 : BitVec 32 := 65535#32
  let v9621 : BitVec 32 := Scalar.andi v9620 c65535_i32_3735
  let c2048_i32_3736 : BitVec 32 := 2048#32
  let v9622 : BitVec 32 := Scalar.select v9618 v9621 c2048_i32_3736
  let v9623 : BitVec 32 := Scalar.addi v1470 v9622
  let v9626 : Index := Scalar.indexCast v9623
  let c0_3738 : Index := 0#32
  ![v9626.toNat, 0]

def k0_chk1091 (i : grid0.Coords) (v9380 : BitVec 32) (v9383 : BitVec 32) (v9620 : BitVec 32) : Prop :=
  (∀ a, (k0_off2184 i v9380 v9383 v9620) a + S1x128.size a ≤ S8224x128.size a)
theorem k0_off2184_inb : ∀ (i : grid0.Coords) (v9380 : BitVec 32) (v9383 : BitVec 32) (v9620 : BitVec 32) (k0_hw1091 : k0_chk1091 i v9380 v9383 v9620), ∀ a, (k0_off2184 i v9380 v9383 v9620) a + S1x128.size a ≤ S8224x128.size a := fun i v9380 v9383 v9620 k0_hw1091 => k0_hw1091

@[reducible] def k0_t5_loop : Scf.Loop 32 :=
  let c0_i32_3741 : BitVec 32 := 0#32
  let c32_i32_3742 : BitVec 32 := 32#32
  let v9634 : BitVec 32 := Scalar.addi c0_i32_3741 c32_i32_3742
  let c1_i32_3743 : BitVec 32 := 1#32
  ⟨c0_i32_3741, v9634, c1_i32_3743⟩
def k0_off2185 (i : grid0.Coords) (k0_t5 : Fin k0_t5_loop.trips) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3745 : BitVec 32 := 512#32
  let v9635 : BitVec 32 := Scalar.muli v24 c512_i32_3745
  let arg1 : BitVec 32 := BitVec.ofNat 32 (i 1).val
  let c32_i32 : BitVec 32 := 32#32
  let v1452 : BitVec 32 := Scalar.muli arg1 c32_i32
  let v9636 : BitVec 32 := Scalar.addi v9635 v1452
  let c0_i32_3741 : BitVec 32 := 0#32
  let c1_i32_3743 : BitVec 32 := 1#32
  let arg15 : BitVec 32 := Scf.iv c0_i32_3741 c1_i32_3743 k0_t5
  let v9637 : BitVec 32 := Scalar.addi v9636 arg15
  let v9643 : Index := Scalar.indexCast v9637
  ![v9643.toNat]
def k0_off2186 (i : grid0.Coords) (k0_t5 : Fin k0_t5_loop.trips) : Fin 1 → Nat :=
  let arg0 : BitVec 32 := BitVec.ofNat 32 (i 0).val
  let c1_i32 : BitVec 32 := 1#32
  let v23 : BitVec 32 := Scalar.addi arg0 c1_i32
  let c10_i32 : BitVec 32 := 10#32
  let v24 : BitVec 32 := Scalar.minsi v23 c10_i32
  let c512_i32_3745 : BitVec 32 := 512#32
  let v9635 : BitVec 32 := Scalar.muli v24 c512_i32_3745
  let arg1 : BitVec 32 := BitVec.ofNat 32 (i 1).val
  let c32_i32 : BitVec 32 := 32#32
  let v1452 : BitVec 32 := Scalar.muli arg1 c32_i32
  let v9636 : BitVec 32 := Scalar.addi v9635 v1452
  let c0_i32_3741 : BitVec 32 := 0#32
  let c1_i32_3743 : BitVec 32 := 1#32
  let arg15 : BitVec 32 := Scf.iv c0_i32_3741 c1_i32_3743 k0_t5
  let v9637 : BitVec 32 := Scalar.addi v9636 arg15
  let c1_i32_3748 : BitVec 32 := 1#32
  let v9646 : BitVec 32 := Scalar.addi v9637 c1_i32_3748
  let v9647 : Index := Scalar.indexCast v9646
  ![v9647.toNat]
@[reducible] def k0_t6_loop (v9644 : BitVec 32) (v9648 : BitVec 32) : Scf.Loop 32 :=
  let c16_i32_3747 : BitVec 32 := 16#32
  let v9645 : BitVec 32 := Scalar.addi v9644 c16_i32_3747
  let v9649 : BitVec 32 := Scalar.subi v9648 v9645
  let c1_i32_3750 : BitVec 32 := 1#32
  let v9651 : BitVec 32 := Scalar.divsi v9649 c1_i32_3750
  let v9652 : BitVec 32 := Scalar.muli v9651 c1_i32_3750
  let v9653 : BitVec 32 := Scalar.addi v9645 v9652
  let c1_i32_3751 : BitVec 32 := 1#32
  ⟨v9645, v9653, c1_i32_3751⟩
def k0_cond4 (v1475 : BitVec 32) (v1478 : BitVec 32) (v1730 : BitVec 32) (v1733 : BitVec 32) (v1985 : BitVec 32) (v1988 : BitVec 32) (v2240 : BitVec 32) (v2243 : BitVec 32) (v2495 : BitVec 32) (v2498 : BitVec 32) (v2750 : BitVec 32) (v2753 : BitVec 32) (v3005 : BitVec 32) (v3008 : BitVec 32) (v3260 : BitVec 32) (v3263 : BitVec 32) (v3515 : BitVec 32) (v3518 : BitVec 32) (v3770 : BitVec 32) (v3773 : BitVec 32) (v4025 : BitVec 32) (v4028 : BitVec 32) (v4280 : BitVec 32) (v4283 : BitVec 32) (v4535 : BitVec 32) (v4538 : BitVec 32) (v4790 : BitVec 32) (v4793 : BitVec 32) (v5045 : BitVec 32) (v5048 : BitVec 32) (v5300 : BitVec 32) (v5303 : BitVec 32) (v5555 : BitVec 32) (v5558 : BitVec 32) (v5810 : BitVec 32) (v5813 : BitVec 32) (v6065 : BitVec 32) (v6068 : BitVec 32) (v6320 : BitVec 32) (v6323 : BitVec 32) (v6575 : BitVec 32) (v6578 : BitVec 32) (v6830 : BitVec 32) (v6833 : BitVec 32) (v7085 : BitVec 32) (v7088 : BitVec 32) (v7340 : BitVec 32) (v7343 : BitVec 32) (v7595 : BitVec 32) (v7598 : BitVec 32) (v7850 : BitVec 32) (v7853 : BitVec 32) (v8105 : BitVec 32) (v8108 : BitVec 32) (v8360 : BitVec 32) (v8363 : BitVec 32) (v8615 : BitVec 32) (v8618 : BitVec 32) (v8870 : BitVec 32) (v8873 : BitVec 32) (v9125 : BitVec 32) (v9128 : BitVec 32) (v9380 : BitVec 32) (v9383 : BitVec 32) : BitVec 1 :=
  let c0_i32_535 : BitVec 32 := 0#32
  let v1479 : BitVec 32 := Scalar.subi v1478 v1475
  let v1480 : BitVec 32 := Scalar.maxsi c0_i32_535 v1479
  let v1734 : BitVec 32 := Scalar.subi v1733 v1730
  let v1735 : BitVec 32 := Scalar.maxsi v1480 v1734
  let v1989 : BitVec 32 := Scalar.subi v1988 v1985
  let v1990 : BitVec 32 := Scalar.maxsi v1735 v1989
  let v2244 : BitVec 32 := Scalar.subi v2243 v2240
  let v2245 : BitVec 32 := Scalar.maxsi v1990 v2244
  let v2499 : BitVec 32 := Scalar.subi v2498 v2495
  let v2500 : BitVec 32 := Scalar.maxsi v2245 v2499
  let v2754 : BitVec 32 := Scalar.subi v2753 v2750
  let v2755 : BitVec 32 := Scalar.maxsi v2500 v2754
  let v3009 : BitVec 32 := Scalar.subi v3008 v3005
  let v3010 : BitVec 32 := Scalar.maxsi v2755 v3009
  let v3264 : BitVec 32 := Scalar.subi v3263 v3260
  let v3265 : BitVec 32 := Scalar.maxsi v3010 v3264
  let v3519 : BitVec 32 := Scalar.subi v3518 v3515
  let v3520 : BitVec 32 := Scalar.maxsi v3265 v3519
  let v3774 : BitVec 32 := Scalar.subi v3773 v3770
  let v3775 : BitVec 32 := Scalar.maxsi v3520 v3774
  let v4029 : BitVec 32 := Scalar.subi v4028 v4025
  let v4030 : BitVec 32 := Scalar.maxsi v3775 v4029
  let v4284 : BitVec 32 := Scalar.subi v4283 v4280
  let v4285 : BitVec 32 := Scalar.maxsi v4030 v4284
  let v4539 : BitVec 32 := Scalar.subi v4538 v4535
  let v4540 : BitVec 32 := Scalar.maxsi v4285 v4539
  let v4794 : BitVec 32 := Scalar.subi v4793 v4790
  let v4795 : BitVec 32 := Scalar.maxsi v4540 v4794
  let v5049 : BitVec 32 := Scalar.subi v5048 v5045
  let v5050 : BitVec 32 := Scalar.maxsi v4795 v5049
  let v5304 : BitVec 32 := Scalar.subi v5303 v5300
  let v5305 : BitVec 32 := Scalar.maxsi v5050 v5304
  let v5559 : BitVec 32 := Scalar.subi v5558 v5555
  let v5560 : BitVec 32 := Scalar.maxsi v5305 v5559
  let v5814 : BitVec 32 := Scalar.subi v5813 v5810
  let v5815 : BitVec 32 := Scalar.maxsi v5560 v5814
  let v6069 : BitVec 32 := Scalar.subi v6068 v6065
  let v6070 : BitVec 32 := Scalar.maxsi v5815 v6069
  let v6324 : BitVec 32 := Scalar.subi v6323 v6320
  let v6325 : BitVec 32 := Scalar.maxsi v6070 v6324
  let v6579 : BitVec 32 := Scalar.subi v6578 v6575
  let v6580 : BitVec 32 := Scalar.maxsi v6325 v6579
  let v6834 : BitVec 32 := Scalar.subi v6833 v6830
  let v6835 : BitVec 32 := Scalar.maxsi v6580 v6834
  let v7089 : BitVec 32 := Scalar.subi v7088 v7085
  let v7090 : BitVec 32 := Scalar.maxsi v6835 v7089
  let v7344 : BitVec 32 := Scalar.subi v7343 v7340
  let v7345 : BitVec 32 := Scalar.maxsi v7090 v7344
  let v7599 : BitVec 32 := Scalar.subi v7598 v7595
  let v7600 : BitVec 32 := Scalar.maxsi v7345 v7599
  let v7854 : BitVec 32 := Scalar.subi v7853 v7850
  let v7855 : BitVec 32 := Scalar.maxsi v7600 v7854
  let v8109 : BitVec 32 := Scalar.subi v8108 v8105
  let v8110 : BitVec 32 := Scalar.maxsi v7855 v8109
  let v8364 : BitVec 32 := Scalar.subi v8363 v8360
  let v8365 : BitVec 32 := Scalar.maxsi v8110 v8364
  let v8619 : BitVec 32 := Scalar.subi v8618 v8615
  let v8620 : BitVec 32 := Scalar.maxsi v8365 v8619
  let v8874 : BitVec 32 := Scalar.subi v8873 v8870
  let v8875 : BitVec 32 := Scalar.maxsi v8620 v8874
  let v9129 : BitVec 32 := Scalar.subi v9128 v9125
  let v9130 : BitVec 32 := Scalar.maxsi v8875 v9129
  let v9384 : BitVec 32 := Scalar.subi v9383 v9380
  let v9385 : BitVec 32 := Scalar.maxsi v9130 v9384
  let c16_i32_3739 : BitVec 32 := 16#32
  let v9631 : BitVec 1 := Scalar.cmpi .sgt v9385 c16_i32_3739
  let v9632 : BitVec 32 := Scalar.extui v9631
  let c0_i32_3740 : BitVec 32 := 0#32
  let v9633 : BitVec 1 := Scalar.cmpi .ne v9632 c0_i32_3740
  v9633

def k0_off2187 (v9644 : BitVec 32) (v9648 : BitVec 32) (k0_t6 : Fin (k0_t6_loop v9644 v9648).trips) : Fin 1 → Nat :=
  let c16_i32_3747 : BitVec 32 := 16#32
  let v9645 : BitVec 32 := Scalar.addi v9644 c16_i32_3747
  let c1_i32_3751 : BitVec 32 := 1#32
  let arg16 : BitVec 32 := Scf.iv v9645 c1_i32_3751 k0_t6
  let v9656 : Index := Scalar.indexCast arg16
  ![v9656.toNat]
def k0_off2188 (i : grid0.Coords) (v9657 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let v_true : BitVec 1 := 1#1
  let c65535_i32_3753 : BitVec 32 := 65535#32
  let v9658 : BitVec 32 := Scalar.andi v9657 c65535_i32_3753
  let c2048_i32_3754 : BitVec 32 := 2048#32
  let v9659 : BitVec 32 := Scalar.select v_true v9658 c2048_i32_3754
  let v9660 : BitVec 32 := Scalar.addi v1470 v9659
  let v9663 : Index := Scalar.indexCast v9660
  let c0_3756 : Index := 0#32
  ![v9663.toNat, 0]

def k0_chk1093 (i : grid0.Coords) (v1475 : BitVec 32) (v1478 : BitVec 32) (v1730 : BitVec 32) (v1733 : BitVec 32) (v1985 : BitVec 32) (v1988 : BitVec 32) (v2240 : BitVec 32) (v2243 : BitVec 32) (v2495 : BitVec 32) (v2498 : BitVec 32) (v2750 : BitVec 32) (v2753 : BitVec 32) (v3005 : BitVec 32) (v3008 : BitVec 32) (v3260 : BitVec 32) (v3263 : BitVec 32) (v3515 : BitVec 32) (v3518 : BitVec 32) (v3770 : BitVec 32) (v3773 : BitVec 32) (v4025 : BitVec 32) (v4028 : BitVec 32) (v4280 : BitVec 32) (v4283 : BitVec 32) (v4535 : BitVec 32) (v4538 : BitVec 32) (v4790 : BitVec 32) (v4793 : BitVec 32) (v5045 : BitVec 32) (v5048 : BitVec 32) (v5300 : BitVec 32) (v5303 : BitVec 32) (v5555 : BitVec 32) (v5558 : BitVec 32) (v5810 : BitVec 32) (v5813 : BitVec 32) (v6065 : BitVec 32) (v6068 : BitVec 32) (v6320 : BitVec 32) (v6323 : BitVec 32) (v6575 : BitVec 32) (v6578 : BitVec 32) (v6830 : BitVec 32) (v6833 : BitVec 32) (v7085 : BitVec 32) (v7088 : BitVec 32) (v7340 : BitVec 32) (v7343 : BitVec 32) (v7595 : BitVec 32) (v7598 : BitVec 32) (v7850 : BitVec 32) (v7853 : BitVec 32) (v8105 : BitVec 32) (v8108 : BitVec 32) (v8360 : BitVec 32) (v8363 : BitVec 32) (v8615 : BitVec 32) (v8618 : BitVec 32) (v8870 : BitVec 32) (v8873 : BitVec 32) (v9125 : BitVec 32) (v9128 : BitVec 32) (v9380 : BitVec 32) (v9383 : BitVec 32) (v9657 : BitVec 32) : Prop :=
  (∀ (k0_h4 : k0_cond4 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 = 1#1), ∀ a, (k0_off2188 i v9657) a + S1x128.size a ≤ S8224x128.size a)
theorem k0_off2188_inb : ∀ (i : grid0.Coords) (v1475 : BitVec 32) (v1478 : BitVec 32) (v1730 : BitVec 32) (v1733 : BitVec 32) (v1985 : BitVec 32) (v1988 : BitVec 32) (v2240 : BitVec 32) (v2243 : BitVec 32) (v2495 : BitVec 32) (v2498 : BitVec 32) (v2750 : BitVec 32) (v2753 : BitVec 32) (v3005 : BitVec 32) (v3008 : BitVec 32) (v3260 : BitVec 32) (v3263 : BitVec 32) (v3515 : BitVec 32) (v3518 : BitVec 32) (v3770 : BitVec 32) (v3773 : BitVec 32) (v4025 : BitVec 32) (v4028 : BitVec 32) (v4280 : BitVec 32) (v4283 : BitVec 32) (v4535 : BitVec 32) (v4538 : BitVec 32) (v4790 : BitVec 32) (v4793 : BitVec 32) (v5045 : BitVec 32) (v5048 : BitVec 32) (v5300 : BitVec 32) (v5303 : BitVec 32) (v5555 : BitVec 32) (v5558 : BitVec 32) (v5810 : BitVec 32) (v5813 : BitVec 32) (v6065 : BitVec 32) (v6068 : BitVec 32) (v6320 : BitVec 32) (v6323 : BitVec 32) (v6575 : BitVec 32) (v6578 : BitVec 32) (v6830 : BitVec 32) (v6833 : BitVec 32) (v7085 : BitVec 32) (v7088 : BitVec 32) (v7340 : BitVec 32) (v7343 : BitVec 32) (v7595 : BitVec 32) (v7598 : BitVec 32) (v7850 : BitVec 32) (v7853 : BitVec 32) (v8105 : BitVec 32) (v8108 : BitVec 32) (v8360 : BitVec 32) (v8363 : BitVec 32) (v8615 : BitVec 32) (v8618 : BitVec 32) (v8870 : BitVec 32) (v8873 : BitVec 32) (v9125 : BitVec 32) (v9128 : BitVec 32) (v9380 : BitVec 32) (v9383 : BitVec 32) (v9657 : BitVec 32) (k0_hw1093 : k0_chk1093 i v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 v9657), ∀ (k0_h4 : k0_cond4 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 = 1#1), ∀ a, (k0_off2188 i v9657) a + S1x128.size a ≤ S8224x128.size a := fun i v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 v9657 k0_hw1093 k0_h4 => k0_hw1093 k0_h4

@[reducible] def k0_t7_loop (v9644 : BitVec 32) (v9648 : BitVec 32) : Scf.Loop 32 :=
  let c16_i32_3747 : BitVec 32 := 16#32
  let v9645 : BitVec 32 := Scalar.addi v9644 c16_i32_3747
  let v9649 : BitVec 32 := Scalar.subi v9648 v9645
  let c1_i32_3750 : BitVec 32 := 1#32
  let v9651 : BitVec 32 := Scalar.divsi v9649 c1_i32_3750
  let v9652 : BitVec 32 := Scalar.muli v9651 c1_i32_3750
  let v9653 : BitVec 32 := Scalar.addi v9645 v9652
  let v9650 : BitVec 32 := Scalar.addi v9645 v9649
  let c1_i32_3752 : BitVec 32 := 1#32
  ⟨v9653, v9650, c1_i32_3752⟩
def k0_off2189 (v9644 : BitVec 32) (v9648 : BitVec 32) (k0_t7 : Fin (k0_t7_loop v9644 v9648).trips) : Fin 1 → Nat :=
  let c16_i32_3747 : BitVec 32 := 16#32
  let v9645 : BitVec 32 := Scalar.addi v9644 c16_i32_3747
  let v9649 : BitVec 32 := Scalar.subi v9648 v9645
  let c1_i32_3750 : BitVec 32 := 1#32
  let v9651 : BitVec 32 := Scalar.divsi v9649 c1_i32_3750
  let v9652 : BitVec 32 := Scalar.muli v9651 c1_i32_3750
  let v9653 : BitVec 32 := Scalar.addi v9645 v9652
  let c1_i32_3752 : BitVec 32 := 1#32
  let arg16 : BitVec 32 := Scf.iv v9653 c1_i32_3752 k0_t7
  let v9656 : Index := Scalar.indexCast arg16
  ![v9656.toNat]

def k0_chk1092 (v1475 : BitVec 32) (v1478 : BitVec 32) (v1730 : BitVec 32) (v1733 : BitVec 32) (v1985 : BitVec 32) (v1988 : BitVec 32) (v2240 : BitVec 32) (v2243 : BitVec 32) (v2495 : BitVec 32) (v2498 : BitVec 32) (v2750 : BitVec 32) (v2753 : BitVec 32) (v3005 : BitVec 32) (v3008 : BitVec 32) (v3260 : BitVec 32) (v3263 : BitVec 32) (v3515 : BitVec 32) (v3518 : BitVec 32) (v3770 : BitVec 32) (v3773 : BitVec 32) (v4025 : BitVec 32) (v4028 : BitVec 32) (v4280 : BitVec 32) (v4283 : BitVec 32) (v4535 : BitVec 32) (v4538 : BitVec 32) (v4790 : BitVec 32) (v4793 : BitVec 32) (v5045 : BitVec 32) (v5048 : BitVec 32) (v5300 : BitVec 32) (v5303 : BitVec 32) (v5555 : BitVec 32) (v5558 : BitVec 32) (v5810 : BitVec 32) (v5813 : BitVec 32) (v6065 : BitVec 32) (v6068 : BitVec 32) (v6320 : BitVec 32) (v6323 : BitVec 32) (v6575 : BitVec 32) (v6578 : BitVec 32) (v6830 : BitVec 32) (v6833 : BitVec 32) (v7085 : BitVec 32) (v7088 : BitVec 32) (v7340 : BitVec 32) (v7343 : BitVec 32) (v7595 : BitVec 32) (v7598 : BitVec 32) (v7850 : BitVec 32) (v7853 : BitVec 32) (v8105 : BitVec 32) (v8108 : BitVec 32) (v8360 : BitVec 32) (v8363 : BitVec 32) (v8615 : BitVec 32) (v8618 : BitVec 32) (v8870 : BitVec 32) (v8873 : BitVec 32) (v9125 : BitVec 32) (v9128 : BitVec 32) (v9380 : BitVec 32) (v9383 : BitVec 32) (v9644 : BitVec 32) (v9648 : BitVec 32) : Prop :=
  (∀ (k0_h4 : k0_cond4 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 = 1#1), (k0_t6_loop v9644 v9648).OK) ∧
  (∀ k0_t6 : Fin (k0_t6_loop v9644 v9648).trips, ∀ (k0_h4 : k0_cond4 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 = 1#1), ∀ a, (k0_off2187 v9644 v9648 k0_t6) a + S1.size a ≤ S51920.size a) ∧
  (∀ (k0_h4 : k0_cond4 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 = 1#1), (k0_t7_loop v9644 v9648).OK) ∧
  (∀ k0_t7 : Fin (k0_t7_loop v9644 v9648).trips, ∀ (k0_h4 : k0_cond4 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 = 1#1), ∀ a, (k0_off2189 v9644 v9648 k0_t7) a + S1.size a ≤ S51920.size a)
theorem k0_t6_ok : ∀ (v1475 : BitVec 32) (v1478 : BitVec 32) (v1730 : BitVec 32) (v1733 : BitVec 32) (v1985 : BitVec 32) (v1988 : BitVec 32) (v2240 : BitVec 32) (v2243 : BitVec 32) (v2495 : BitVec 32) (v2498 : BitVec 32) (v2750 : BitVec 32) (v2753 : BitVec 32) (v3005 : BitVec 32) (v3008 : BitVec 32) (v3260 : BitVec 32) (v3263 : BitVec 32) (v3515 : BitVec 32) (v3518 : BitVec 32) (v3770 : BitVec 32) (v3773 : BitVec 32) (v4025 : BitVec 32) (v4028 : BitVec 32) (v4280 : BitVec 32) (v4283 : BitVec 32) (v4535 : BitVec 32) (v4538 : BitVec 32) (v4790 : BitVec 32) (v4793 : BitVec 32) (v5045 : BitVec 32) (v5048 : BitVec 32) (v5300 : BitVec 32) (v5303 : BitVec 32) (v5555 : BitVec 32) (v5558 : BitVec 32) (v5810 : BitVec 32) (v5813 : BitVec 32) (v6065 : BitVec 32) (v6068 : BitVec 32) (v6320 : BitVec 32) (v6323 : BitVec 32) (v6575 : BitVec 32) (v6578 : BitVec 32) (v6830 : BitVec 32) (v6833 : BitVec 32) (v7085 : BitVec 32) (v7088 : BitVec 32) (v7340 : BitVec 32) (v7343 : BitVec 32) (v7595 : BitVec 32) (v7598 : BitVec 32) (v7850 : BitVec 32) (v7853 : BitVec 32) (v8105 : BitVec 32) (v8108 : BitVec 32) (v8360 : BitVec 32) (v8363 : BitVec 32) (v8615 : BitVec 32) (v8618 : BitVec 32) (v8870 : BitVec 32) (v8873 : BitVec 32) (v9125 : BitVec 32) (v9128 : BitVec 32) (v9380 : BitVec 32) (v9383 : BitVec 32) (v9644 : BitVec 32) (v9648 : BitVec 32) (k0_hw1092 : k0_chk1092 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 v9644 v9648), ∀ (k0_h4 : k0_cond4 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 = 1#1), (k0_t6_loop v9644 v9648).OK := fun v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 v9644 v9648 k0_hw1092 k0_h4 => k0_hw1092.1 k0_h4
theorem k0_off2187_inb : ∀ (v1475 : BitVec 32) (v1478 : BitVec 32) (v1730 : BitVec 32) (v1733 : BitVec 32) (v1985 : BitVec 32) (v1988 : BitVec 32) (v2240 : BitVec 32) (v2243 : BitVec 32) (v2495 : BitVec 32) (v2498 : BitVec 32) (v2750 : BitVec 32) (v2753 : BitVec 32) (v3005 : BitVec 32) (v3008 : BitVec 32) (v3260 : BitVec 32) (v3263 : BitVec 32) (v3515 : BitVec 32) (v3518 : BitVec 32) (v3770 : BitVec 32) (v3773 : BitVec 32) (v4025 : BitVec 32) (v4028 : BitVec 32) (v4280 : BitVec 32) (v4283 : BitVec 32) (v4535 : BitVec 32) (v4538 : BitVec 32) (v4790 : BitVec 32) (v4793 : BitVec 32) (v5045 : BitVec 32) (v5048 : BitVec 32) (v5300 : BitVec 32) (v5303 : BitVec 32) (v5555 : BitVec 32) (v5558 : BitVec 32) (v5810 : BitVec 32) (v5813 : BitVec 32) (v6065 : BitVec 32) (v6068 : BitVec 32) (v6320 : BitVec 32) (v6323 : BitVec 32) (v6575 : BitVec 32) (v6578 : BitVec 32) (v6830 : BitVec 32) (v6833 : BitVec 32) (v7085 : BitVec 32) (v7088 : BitVec 32) (v7340 : BitVec 32) (v7343 : BitVec 32) (v7595 : BitVec 32) (v7598 : BitVec 32) (v7850 : BitVec 32) (v7853 : BitVec 32) (v8105 : BitVec 32) (v8108 : BitVec 32) (v8360 : BitVec 32) (v8363 : BitVec 32) (v8615 : BitVec 32) (v8618 : BitVec 32) (v8870 : BitVec 32) (v8873 : BitVec 32) (v9125 : BitVec 32) (v9128 : BitVec 32) (v9380 : BitVec 32) (v9383 : BitVec 32) (v9644 : BitVec 32) (v9648 : BitVec 32) (k0_hw1092 : k0_chk1092 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 v9644 v9648) (k0_t6 : Fin (k0_t6_loop v9644 v9648).trips), ∀ (k0_h4 : k0_cond4 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 = 1#1), ∀ a, (k0_off2187 v9644 v9648 k0_t6) a + S1.size a ≤ S51920.size a := fun v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 v9644 v9648 k0_hw1092 k0_t6 k0_h4 => k0_hw1092.2.1 k0_t6 k0_h4
theorem k0_t7_ok : ∀ (v1475 : BitVec 32) (v1478 : BitVec 32) (v1730 : BitVec 32) (v1733 : BitVec 32) (v1985 : BitVec 32) (v1988 : BitVec 32) (v2240 : BitVec 32) (v2243 : BitVec 32) (v2495 : BitVec 32) (v2498 : BitVec 32) (v2750 : BitVec 32) (v2753 : BitVec 32) (v3005 : BitVec 32) (v3008 : BitVec 32) (v3260 : BitVec 32) (v3263 : BitVec 32) (v3515 : BitVec 32) (v3518 : BitVec 32) (v3770 : BitVec 32) (v3773 : BitVec 32) (v4025 : BitVec 32) (v4028 : BitVec 32) (v4280 : BitVec 32) (v4283 : BitVec 32) (v4535 : BitVec 32) (v4538 : BitVec 32) (v4790 : BitVec 32) (v4793 : BitVec 32) (v5045 : BitVec 32) (v5048 : BitVec 32) (v5300 : BitVec 32) (v5303 : BitVec 32) (v5555 : BitVec 32) (v5558 : BitVec 32) (v5810 : BitVec 32) (v5813 : BitVec 32) (v6065 : BitVec 32) (v6068 : BitVec 32) (v6320 : BitVec 32) (v6323 : BitVec 32) (v6575 : BitVec 32) (v6578 : BitVec 32) (v6830 : BitVec 32) (v6833 : BitVec 32) (v7085 : BitVec 32) (v7088 : BitVec 32) (v7340 : BitVec 32) (v7343 : BitVec 32) (v7595 : BitVec 32) (v7598 : BitVec 32) (v7850 : BitVec 32) (v7853 : BitVec 32) (v8105 : BitVec 32) (v8108 : BitVec 32) (v8360 : BitVec 32) (v8363 : BitVec 32) (v8615 : BitVec 32) (v8618 : BitVec 32) (v8870 : BitVec 32) (v8873 : BitVec 32) (v9125 : BitVec 32) (v9128 : BitVec 32) (v9380 : BitVec 32) (v9383 : BitVec 32) (v9644 : BitVec 32) (v9648 : BitVec 32) (k0_hw1092 : k0_chk1092 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 v9644 v9648), ∀ (k0_h4 : k0_cond4 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 = 1#1), (k0_t7_loop v9644 v9648).OK := fun v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 v9644 v9648 k0_hw1092 k0_h4 => k0_hw1092.2.2.1 k0_h4
theorem k0_off2189_inb : ∀ (v1475 : BitVec 32) (v1478 : BitVec 32) (v1730 : BitVec 32) (v1733 : BitVec 32) (v1985 : BitVec 32) (v1988 : BitVec 32) (v2240 : BitVec 32) (v2243 : BitVec 32) (v2495 : BitVec 32) (v2498 : BitVec 32) (v2750 : BitVec 32) (v2753 : BitVec 32) (v3005 : BitVec 32) (v3008 : BitVec 32) (v3260 : BitVec 32) (v3263 : BitVec 32) (v3515 : BitVec 32) (v3518 : BitVec 32) (v3770 : BitVec 32) (v3773 : BitVec 32) (v4025 : BitVec 32) (v4028 : BitVec 32) (v4280 : BitVec 32) (v4283 : BitVec 32) (v4535 : BitVec 32) (v4538 : BitVec 32) (v4790 : BitVec 32) (v4793 : BitVec 32) (v5045 : BitVec 32) (v5048 : BitVec 32) (v5300 : BitVec 32) (v5303 : BitVec 32) (v5555 : BitVec 32) (v5558 : BitVec 32) (v5810 : BitVec 32) (v5813 : BitVec 32) (v6065 : BitVec 32) (v6068 : BitVec 32) (v6320 : BitVec 32) (v6323 : BitVec 32) (v6575 : BitVec 32) (v6578 : BitVec 32) (v6830 : BitVec 32) (v6833 : BitVec 32) (v7085 : BitVec 32) (v7088 : BitVec 32) (v7340 : BitVec 32) (v7343 : BitVec 32) (v7595 : BitVec 32) (v7598 : BitVec 32) (v7850 : BitVec 32) (v7853 : BitVec 32) (v8105 : BitVec 32) (v8108 : BitVec 32) (v8360 : BitVec 32) (v8363 : BitVec 32) (v8615 : BitVec 32) (v8618 : BitVec 32) (v8870 : BitVec 32) (v8873 : BitVec 32) (v9125 : BitVec 32) (v9128 : BitVec 32) (v9380 : BitVec 32) (v9383 : BitVec 32) (v9644 : BitVec 32) (v9648 : BitVec 32) (k0_hw1092 : k0_chk1092 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 v9644 v9648) (k0_t7 : Fin (k0_t7_loop v9644 v9648).trips), ∀ (k0_h4 : k0_cond4 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 = 1#1), ∀ a, (k0_off2189 v9644 v9648 k0_t7) a + S1.size a ≤ S51920.size a := fun v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 v9644 v9648 k0_hw1092 k0_t7 k0_h4 => k0_hw1092.2.2.2 k0_t7 k0_h4

def k0_off2190 (i : grid0.Coords) (v9657 : BitVec 32) : Fin 2 → Nat :=
  let arg1 : BitVec 32 := BitVec.ofNat 32 (i 1).val
  let c32_i32 : BitVec 32 := 32#32
  let v1452 : BitVec 32 := Scalar.muli arg1 c32_i32
  let c0_i32_527 : BitVec 32 := 0#32
  let v1454 : BitVec 1 := Scalar.cmpi .sgt v1452 c0_i32_527
  let v1455 : BitVec 32 := Scalar.extui v1454
  let c0_i32_528 : BitVec 32 := 0#32
  let v1456 : BitVec 1 := Scalar.cmpi .slt v1452 c0_i32_528
  let v1457 : BitVec 32 := Scalar.extui v1456
  let v1458 : BitVec 32 := Scalar.subi v1455 v1457
  let c128_i32 : BitVec 32 := 128#32
  let c0_i32_529 : BitVec 32 := 0#32
  let v1459 : BitVec 1 := Scalar.cmpi .sgt c128_i32 c0_i32_529
  let v1460 : BitVec 32 := Scalar.extui v1459
  let c0_i32_530 : BitVec 32 := 0#32
  let v1461 : BitVec 1 := Scalar.cmpi .slt c128_i32 c0_i32_530
  let v1462 : BitVec 32 := Scalar.extui v1461
  let v1463 : BitVec 32 := Scalar.subi v1460 v1462
  let v1464 : BitVec 1 := Scalar.cmpi .ne v1458 v1463
  let v1465 : BitVec 32 := Scalar.remsi v1452 c128_i32
  let c0_i32_531 : BitVec 32 := 0#32
  let v1466 : BitVec 1 := Scalar.cmpi .ne v1465 c0_i32_531
  let v1467 : BitVec 1 := Scalar.andi v1464 v1466
  let v1453 : BitVec 32 := Scalar.divsi v1452 c128_i32
  let c1_i32_532 : BitVec 32 := 1#32
  let v1468 : BitVec 32 := Scalar.subi v1453 c1_i32_532
  let v1469 : BitVec 32 := Scalar.select v1467 v1468 v1453
  let c2056_i32 : BitVec 32 := 2056#32
  let v1470 : BitVec 32 := Scalar.muli v1469 c2056_i32
  let v_true : BitVec 1 := 1#1
  let c65535_i32_3753 : BitVec 32 := 65535#32
  let v9658 : BitVec 32 := Scalar.andi v9657 c65535_i32_3753
  let c2048_i32_3754 : BitVec 32 := 2048#32
  let v9659 : BitVec 32 := Scalar.select v_true v9658 c2048_i32_3754
  let v9660 : BitVec 32 := Scalar.addi v1470 v9659
  let v9663 : Index := Scalar.indexCast v9660
  let c0_3756 : Index := 0#32
  ![v9663.toNat, 0]

def k0_chk1094 (i : grid0.Coords) (v1475 : BitVec 32) (v1478 : BitVec 32) (v1730 : BitVec 32) (v1733 : BitVec 32) (v1985 : BitVec 32) (v1988 : BitVec 32) (v2240 : BitVec 32) (v2243 : BitVec 32) (v2495 : BitVec 32) (v2498 : BitVec 32) (v2750 : BitVec 32) (v2753 : BitVec 32) (v3005 : BitVec 32) (v3008 : BitVec 32) (v3260 : BitVec 32) (v3263 : BitVec 32) (v3515 : BitVec 32) (v3518 : BitVec 32) (v3770 : BitVec 32) (v3773 : BitVec 32) (v4025 : BitVec 32) (v4028 : BitVec 32) (v4280 : BitVec 32) (v4283 : BitVec 32) (v4535 : BitVec 32) (v4538 : BitVec 32) (v4790 : BitVec 32) (v4793 : BitVec 32) (v5045 : BitVec 32) (v5048 : BitVec 32) (v5300 : BitVec 32) (v5303 : BitVec 32) (v5555 : BitVec 32) (v5558 : BitVec 32) (v5810 : BitVec 32) (v5813 : BitVec 32) (v6065 : BitVec 32) (v6068 : BitVec 32) (v6320 : BitVec 32) (v6323 : BitVec 32) (v6575 : BitVec 32) (v6578 : BitVec 32) (v6830 : BitVec 32) (v6833 : BitVec 32) (v7085 : BitVec 32) (v7088 : BitVec 32) (v7340 : BitVec 32) (v7343 : BitVec 32) (v7595 : BitVec 32) (v7598 : BitVec 32) (v7850 : BitVec 32) (v7853 : BitVec 32) (v8105 : BitVec 32) (v8108 : BitVec 32) (v8360 : BitVec 32) (v8363 : BitVec 32) (v8615 : BitVec 32) (v8618 : BitVec 32) (v8870 : BitVec 32) (v8873 : BitVec 32) (v9125 : BitVec 32) (v9128 : BitVec 32) (v9380 : BitVec 32) (v9383 : BitVec 32) (v9657 : BitVec 32) : Prop :=
  (∀ (k0_h4 : k0_cond4 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 = 1#1), ∀ a, (k0_off2190 i v9657) a + S1x128.size a ≤ S8224x128.size a)
theorem k0_off2190_inb : ∀ (i : grid0.Coords) (v1475 : BitVec 32) (v1478 : BitVec 32) (v1730 : BitVec 32) (v1733 : BitVec 32) (v1985 : BitVec 32) (v1988 : BitVec 32) (v2240 : BitVec 32) (v2243 : BitVec 32) (v2495 : BitVec 32) (v2498 : BitVec 32) (v2750 : BitVec 32) (v2753 : BitVec 32) (v3005 : BitVec 32) (v3008 : BitVec 32) (v3260 : BitVec 32) (v3263 : BitVec 32) (v3515 : BitVec 32) (v3518 : BitVec 32) (v3770 : BitVec 32) (v3773 : BitVec 32) (v4025 : BitVec 32) (v4028 : BitVec 32) (v4280 : BitVec 32) (v4283 : BitVec 32) (v4535 : BitVec 32) (v4538 : BitVec 32) (v4790 : BitVec 32) (v4793 : BitVec 32) (v5045 : BitVec 32) (v5048 : BitVec 32) (v5300 : BitVec 32) (v5303 : BitVec 32) (v5555 : BitVec 32) (v5558 : BitVec 32) (v5810 : BitVec 32) (v5813 : BitVec 32) (v6065 : BitVec 32) (v6068 : BitVec 32) (v6320 : BitVec 32) (v6323 : BitVec 32) (v6575 : BitVec 32) (v6578 : BitVec 32) (v6830 : BitVec 32) (v6833 : BitVec 32) (v7085 : BitVec 32) (v7088 : BitVec 32) (v7340 : BitVec 32) (v7343 : BitVec 32) (v7595 : BitVec 32) (v7598 : BitVec 32) (v7850 : BitVec 32) (v7853 : BitVec 32) (v8105 : BitVec 32) (v8108 : BitVec 32) (v8360 : BitVec 32) (v8363 : BitVec 32) (v8615 : BitVec 32) (v8618 : BitVec 32) (v8870 : BitVec 32) (v8873 : BitVec 32) (v9125 : BitVec 32) (v9128 : BitVec 32) (v9380 : BitVec 32) (v9383 : BitVec 32) (v9657 : BitVec 32) (k0_hw1094 : k0_chk1094 i v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 v9657), ∀ (k0_h4 : k0_cond4 v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 = 1#1), ∀ a, (k0_off2190 i v9657) a + S1x128.size a ≤ S8224x128.size a := fun i v1475 v1478 v1730 v1733 v1985 v1988 v2240 v2243 v2495 v2498 v2750 v2753 v3005 v3008 v3260 v3263 v3515 v3518 v3770 v3773 v4025 v4028 v4280 v4283 v4535 v4538 v4790 v4793 v5045 v5048 v5300 v5303 v5555 v5558 v5810 v5813 v6065 v6068 v6320 v6323 v6575 v6578 v6830 v6833 v7085 v7088 v7340 v7343 v7595 v7598 v7850 v7853 v8105 v8108 v8360 v8363 v8615 v8618 v8870 v8873 v9125 v9128 v9380 v9383 v9657 k0_hw1094 k0_h4 => k0_hw1094 k0_h4

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c10_i32 : BitVec 32 := 10#32
  let v1 : BitVec 32 := Scalar.minsi v0 c10_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c10_i32 : BitVec 32 := 10#32
  let v1 : BitVec 32 := Scalar.minsi v0 c10_i32
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S5633 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S51920 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x4096x2048 : Shape := ⟨3, ![2, 4096, 2048]⟩
abbrev S1024x5632 : Shape := ⟨2, ![1024, 5632]⟩
abbrev S5632x16 : Shape := ⟨2, ![5632, 16]⟩
abbrev S5633 : Shape := ⟨1, ![5633]⟩
abbrev S51904 : Shape := ⟨1, ![51904]⟩
abbrev S_ : Shape := ⟨0, ![]⟩
abbrev S16x5632 : Shape := ⟨2, ![16, 5632]⟩
abbrev S8x2x1x5632 : Shape := ⟨4, ![8, 2, 1, 5632]⟩
abbrev S8x1x1x5632 : Shape := ⟨4, ![8, 1, 1, 5632]⟩
abbrev S8x1x5632 : Shape := ⟨3, ![8, 1, 5632]⟩
abbrev S8x1024x5632 : Shape := ⟨3, ![8, 1024, 5632]⟩
abbrev S4x2x1024x5632 : Shape := ⟨4, ![4, 2, 1024, 5632]⟩
abbrev S4x1x1024x5632 : Shape := ⟨4, ![4, 1, 1024, 5632]⟩
abbrev S4x1024x5632 : Shape := ⟨3, ![4, 1024, 5632]⟩
abbrev S2x2x1024x5632 : Shape := ⟨4, ![2, 2, 1024, 5632]⟩
abbrev S2x1x1024x5632 : Shape := ⟨4, ![2, 1, 1024, 5632]⟩
abbrev S2x1024x5632 : Shape := ⟨3, ![2, 1024, 5632]⟩
abbrev S1x2x1024x5632 : Shape := ⟨4, ![1, 2, 1024, 5632]⟩
abbrev S1x1x1024x5632 : Shape := ⟨4, ![1, 1, 1024, 5632]⟩
abbrev S1x1024x5632 : Shape := ⟨3, ![1, 1024, 5632]⟩
abbrev S2x4096x1024 : Shape := ⟨3, ![2, 4096, 1024]⟩
abbrev S2x4096x5632 : Shape := ⟨3, ![2, 4096, 5632]⟩
abbrev S51904x1 : Shape := ⟨2, ![51904, 1]⟩
abbrev S5632 : Shape := ⟨1, ![5632]⟩
abbrev S1x5632 : Shape := ⟨2, ![1, 5632]⟩
abbrev S51904x5632 : Shape := ⟨2, ![51904, 5632]⟩
abbrev S2x4096x51904 : Shape := ⟨3, ![2, 4096, 51904]⟩
abbrev S1x1x51904 : Shape := ⟨3, ![1, 1, 51904]⟩

abbrev nBuf : Space → Nat
  | .hbm => 195
  | .vmem => 0
  | .smem => 0
  | _ => 0

abbrev hbmTy0_0 (i : Nat) : BufTy := match i % 128 with
  | 0 => ⟨S2x4096x2048, .bf16⟩
  | 1 => ⟨S1024x5632, .i8⟩
  | 2 => ⟨S5632x16, .i16⟩
  | 3 => ⟨S5633, .i32⟩
  | 4 => ⟨S51904, .i32⟩
  | 5 => ⟨S51904, .i16⟩
  | 6 => ⟨S5632x16, .bf16⟩
  | 7 => ⟨S51904, .bf16⟩
  | 8 => ⟨S1024x5632, .i32⟩
  | 9 => ⟨S_, .i32⟩
  | 10 => ⟨S1024x5632, .i32⟩
  | 11 => ⟨S1024x5632, .i32⟩
  | 12 => ⟨S16x5632, .bf16⟩
  | 13 => ⟨S8x2x1x5632, .bf16⟩
  | 14 => ⟨S_, .i32⟩
  | 15 => ⟨S1024x5632, .i32⟩
  | 16 => ⟨S1024x5632, .i32⟩
  | 17 => ⟨S_, .i32⟩
  | 18 => ⟨S1024x5632, .i32⟩
  | 19 => ⟨S1024x5632, .i32⟩
  | 20 => ⟨S_, .i32⟩
  | 21 => ⟨S1024x5632, .i32⟩
  | 22 => ⟨S1024x5632, .i1⟩
  | 23 => ⟨S1024x5632, .i1⟩
  | 24 => ⟨S8x1x1x5632, .bf16⟩
  | 25 => ⟨S8x1x5632, .bf16⟩
  | 26 => ⟨S8x1x1x5632, .bf16⟩
  | 27 => ⟨S8x1x5632, .bf16⟩
  | 28 => ⟨S8x1024x5632, .i1⟩
  | 29 => ⟨S8x1024x5632, .bf16⟩
  | 30 => ⟨S8x1024x5632, .bf16⟩
  | 31 => ⟨S8x1024x5632, .bf16⟩
  | 32 => ⟨S4x2x1024x5632, .bf16⟩
  | 33 => ⟨S_, .i32⟩
  | 34 => ⟨S1024x5632, .i32⟩
  | 35 => ⟨S1024x5632, .i32⟩
  | 36 => ⟨S_, .i32⟩
  | 37 => ⟨S1024x5632, .i32⟩
  | 38 => ⟨S1024x5632, .i32⟩
  | 39 => ⟨S_, .i32⟩
  | 40 => ⟨S1024x5632, .i32⟩
  | 41 => ⟨S1024x5632, .i1⟩
  | 42 => ⟨S1024x5632, .i1⟩
  | 43 => ⟨S4x1x1024x5632, .bf16⟩
  | 44 => ⟨S4x1024x5632, .bf16⟩
  | 45 => ⟨S4x1x1024x5632, .bf16⟩
  | 46 => ⟨S4x1024x5632, .bf16⟩
  | 47 => ⟨S4x1024x5632, .i1⟩
  | 48 => ⟨S4x1024x5632, .bf16⟩
  | 49 => ⟨S2x2x1024x5632, .bf16⟩
  | 50 => ⟨S_, .i32⟩
  | 51 => ⟨S1024x5632, .i32⟩
  | 52 => ⟨S1024x5632, .i32⟩
  | 53 => ⟨S_, .i32⟩
  | 54 => ⟨S1024x5632, .i32⟩
  | 55 => ⟨S1024x5632, .i32⟩
  | 56 => ⟨S_, .i32⟩
  | 57 => ⟨S1024x5632, .i32⟩
  | 58 => ⟨S1024x5632, .i1⟩
  | 59 => ⟨S1024x5632, .i1⟩
  | 60 => ⟨S2x1x1024x5632, .bf16⟩
  | 61 => ⟨S2x1024x5632, .bf16⟩
  | 62 => ⟨S2x1x1024x5632, .bf16⟩
  | 63 => ⟨S2x1024x5632, .bf16⟩
  | 64 => ⟨S2x1024x5632, .i1⟩
  | 65 => ⟨S2x1024x5632, .bf16⟩
  | 66 => ⟨S1x2x1024x5632, .bf16⟩
  | 67 => ⟨S_, .i32⟩
  | 68 => ⟨S1024x5632, .i32⟩
  | 69 => ⟨S1024x5632, .i32⟩
  | 70 => ⟨S_, .i32⟩
  | 71 => ⟨S1024x5632, .i32⟩
  | 72 => ⟨S1024x5632, .i32⟩
  | 73 => ⟨S_, .i32⟩
  | 74 => ⟨S1024x5632, .i32⟩
  | 75 => ⟨S1024x5632, .i1⟩
  | 76 => ⟨S1024x5632, .i1⟩
  | 77 => ⟨S1x1x1024x5632, .bf16⟩
  | 78 => ⟨S1x1024x5632, .bf16⟩
  | 79 => ⟨S1x1x1024x5632, .bf16⟩
  | 80 => ⟨S1x1024x5632, .bf16⟩
  | 81 => ⟨S1x1024x5632, .i1⟩
  | 82 => ⟨S1x1024x5632, .bf16⟩
  | 83 => ⟨S1024x5632, .bf16⟩
  | 84 => ⟨S_, .i32⟩
  | 85 => ⟨S1024x5632, .i32⟩
  | 86 => ⟨S1024x5632, .i32⟩
  | 87 => ⟨S16x5632, .bf16⟩
  | 88 => ⟨S8x2x1x5632, .bf16⟩
  | 89 => ⟨S_, .i32⟩
  | 90 => ⟨S1024x5632, .i32⟩
  | 91 => ⟨S1024x5632, .i32⟩
  | 92 => ⟨S_, .i32⟩
  | 93 => ⟨S1024x5632, .i32⟩
  | 94 => ⟨S1024x5632, .i32⟩
  | 95 => ⟨S_, .i32⟩
  | 96 => ⟨S1024x5632, .i32⟩
  | 97 => ⟨S1024x5632, .i1⟩
  | 98 => ⟨S1024x5632, .i1⟩
  | 99 => ⟨S8x1x1x5632, .bf16⟩
  | 100 => ⟨S8x1x5632, .bf16⟩
  | 101 => ⟨S8x1x1x5632, .bf16⟩
  | 102 => ⟨S8x1x5632, .bf16⟩
  | 103 => ⟨S8x1024x5632, .i1⟩
  | 104 => ⟨S8x1024x5632, .bf16⟩
  | 105 => ⟨S8x1024x5632, .bf16⟩
  | 106 => ⟨S8x1024x5632, .bf16⟩
  | 107 => ⟨S4x2x1024x5632, .bf16⟩
  | 108 => ⟨S_, .i32⟩
  | 109 => ⟨S1024x5632, .i32⟩
  | 110 => ⟨S1024x5632, .i32⟩
  | 111 => ⟨S_, .i32⟩
  | 112 => ⟨S1024x5632, .i32⟩
  | 113 => ⟨S1024x5632, .i32⟩
  | 114 => ⟨S_, .i32⟩
  | 115 => ⟨S1024x5632, .i32⟩
  | 116 => ⟨S1024x5632, .i1⟩
  | 117 => ⟨S1024x5632, .i1⟩
  | 118 => ⟨S4x1x1024x5632, .bf16⟩
  | 119 => ⟨S4x1024x5632, .bf16⟩
  | 120 => ⟨S4x1x1024x5632, .bf16⟩
  | 121 => ⟨S4x1024x5632, .bf16⟩
  | 122 => ⟨S4x1024x5632, .i1⟩
  | 123 => ⟨S4x1024x5632, .bf16⟩
  | 124 => ⟨S2x2x1024x5632, .bf16⟩
  | 125 => ⟨S_, .i32⟩
  | 126 => ⟨S1024x5632, .i32⟩
  | 127 => ⟨S1024x5632, .i32⟩
  | _ => ⟨S2x4096x2048, .bf16⟩

abbrev hbmTy0_1 (i : Nat) : BufTy := match i % 128 with
  | 0 => ⟨S_, .i32⟩
  | 1 => ⟨S1024x5632, .i32⟩
  | 2 => ⟨S1024x5632, .i32⟩
  | 3 => ⟨S_, .i32⟩
  | 4 => ⟨S1024x5632, .i32⟩
  | 5 => ⟨S1024x5632, .i1⟩
  | 6 => ⟨S1024x5632, .i1⟩
  | 7 => ⟨S2x1x1024x5632, .bf16⟩
  | 8 => ⟨S2x1024x5632, .bf16⟩
  | 9 => ⟨S2x1x1024x5632, .bf16⟩
  | 10 => ⟨S2x1024x5632, .bf16⟩
  | 11 => ⟨S2x1024x5632, .i1⟩
  | 12 => ⟨S2x1024x5632, .bf16⟩
  | 13 => ⟨S1x2x1024x5632, .bf16⟩
  | 14 => ⟨S_, .i32⟩
  | 15 => ⟨S1024x5632, .i32⟩
  | 16 => ⟨S1024x5632, .i32⟩
  | 17 => ⟨S_, .i32⟩
  | 18 => ⟨S1024x5632, .i32⟩
  | 19 => ⟨S1024x5632, .i32⟩
  | 20 => ⟨S_, .i32⟩
  | 21 => ⟨S1024x5632, .i32⟩
  | 22 => ⟨S1024x5632, .i1⟩
  | 23 => ⟨S1024x5632, .i1⟩
  | 24 => ⟨S1x1x1024x5632, .bf16⟩
  | 25 => ⟨S1x1024x5632, .bf16⟩
  | 26 => ⟨S1x1x1024x5632, .bf16⟩
  | 27 => ⟨S1x1024x5632, .bf16⟩
  | 28 => ⟨S1x1024x5632, .i1⟩
  | 29 => ⟨S1x1024x5632, .bf16⟩
  | 30 => ⟨S1024x5632, .bf16⟩
  | 31 => ⟨S2x4096x1024, .bf16⟩
  | 32 => ⟨S2x4096x5632, .f32⟩
  | 33 => ⟨S2x4096x1024, .bf16⟩
  | 34 => ⟨S2x4096x5632, .f32⟩
  | 35 => ⟨S2x4096x5632, .f32⟩
  | 36 => ⟨S51904, .i32⟩
  | 37 => ⟨S51904x1, .i32⟩
  | 38 => ⟨S5632, .i32⟩
  | 39 => ⟨S1x5632, .i32⟩
  | 40 => ⟨S51904x5632, .i32⟩
  | 41 => ⟨S51904x5632, .i32⟩
  | 42 => ⟨S51904x5632, .i1⟩
  | 43 => ⟨S5632, .i32⟩
  | 44 => ⟨S1x5632, .i32⟩
  | 45 => ⟨S51904x5632, .i32⟩
  | 46 => ⟨S51904x5632, .i32⟩
  | 47 => ⟨S51904x5632, .i1⟩
  | 48 => ⟨S51904x5632, .i1⟩
  | 49 => ⟨S51904x5632, .f32⟩
  | 50 => ⟨S_, .i32⟩
  | 51 => ⟨S51904, .i32⟩
  | 52 => ⟨S51904, .i1⟩
  | 53 => ⟨S_, .i32⟩
  | 54 => ⟨S51904, .i32⟩
  | 55 => ⟨S51904, .i32⟩
  | 56 => ⟨S51904, .i32⟩
  | 57 => ⟨S51904x1, .i32⟩
  | 58 => ⟨S2x4096x51904, .bf16⟩
  | 59 => ⟨S2x4096x51904, .f32⟩
  | 60 => ⟨S51904, .f32⟩
  | 61 => ⟨S1x1x51904, .f32⟩
  | 62 => ⟨S2x4096x51904, .f32⟩
  | 63 => ⟨S2x4096x51904, .f32⟩
  | 64 => ⟨S2x4096x5632, .f32⟩
  | 65 => ⟨S2x4096x5632, .f32⟩
  | 66 => ⟨S2x4096x5632, .bf16⟩
  | _ => ⟨S2x4096x2048, .bf16⟩

abbrev hbmTy (i : Nat) : BufTy := match i / 128 with
  | 0 => hbmTy0_0 i
  | 1 => hbmTy0_1 i
  | _ => ⟨S2x4096x2048, .bf16⟩

abbrev bufTy : (tb : Table) → Fin (tcTables nBuf tb) → BufTy
  | .hbm, ⟨i, _⟩ => hbmTy i
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_v0 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call2_v0 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call3_v0 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v74 : Ref sig .tc := ⟨.hbm, 106, rfl⟩
abbrev main_v75 : Ref sig .tc := ⟨.hbm, 107, rfl⟩
abbrev main_c_16 : Ref sig .tc := ⟨.hbm, 108, rfl⟩
abbrev main_v76 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_c_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call5_v0 : Ref sig .tc := ⟨.hbm, 122, rfl⟩
abbrev main_v87 : Ref sig .tc := ⟨.hbm, 123, rfl⟩
abbrev main_v88 : Ref sig .tc := ⟨.hbm, 124, rfl⟩
abbrev main_c_19 : Ref sig .tc := ⟨.hbm, 125, rfl⟩
abbrev main_v89 : Ref sig .tc := ⟨.hbm, 126, rfl⟩
abbrev main_v90 : Ref sig .tc := ⟨.hbm, 127, rfl⟩
abbrev main_c_20 : Ref sig .tc := ⟨.hbm, 128, rfl⟩
abbrev main_v91 : Ref sig .tc := ⟨.hbm, 129, rfl⟩
abbrev main_v92 : Ref sig .tc := ⟨.hbm, 130, rfl⟩
abbrev main_c_21 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_call6_v0 : Ref sig .tc := ⟨.hbm, 139, rfl⟩
abbrev main_v100 : Ref sig .tc := ⟨.hbm, 140, rfl⟩
abbrev main_v101 : Ref sig .tc := ⟨.hbm, 141, rfl⟩
abbrev main_c_22 : Ref sig .tc := ⟨.hbm, 142, rfl⟩
abbrev main_v102 : Ref sig .tc := ⟨.hbm, 143, rfl⟩
abbrev main_v103 : Ref sig .tc := ⟨.hbm, 144, rfl⟩
abbrev main_c_23 : Ref sig .tc := ⟨.hbm, 145, rfl⟩
abbrev main_v104 : Ref sig .tc := ⟨.hbm, 146, rfl⟩
abbrev main_v105 : Ref sig .tc := ⟨.hbm, 147, rfl⟩
abbrev main_c_24 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_call7_v0 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_c_25 : Ref sig .tc := ⟨.hbm, 178, rfl⟩
abbrev main_v134 : Ref sig .tc := ⟨.hbm, 179, rfl⟩
abbrev main_v135 : Ref sig .tc := ⟨.hbm, 180, rfl⟩
abbrev main_c_26 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩

abbrev nD : Nat := 1
abbrev τ : Topo := Topo.v7x

variable {F : FTy → Type} [FloatOps F]
-- ==== Proof.Structured.lean ====
module

public import Idealize.ShloMosaic.Lib.Pipeline
public import Idealize.ShloMosaic.Lib.Scf
public import Idealize.ShloMosaic.Lib.Sig
public import Idealize.ShloMosaic.PureOps

@[expose] public section

/-!
# The kernel's body, written with loops over its channels and slots

The printed body is one long unrolled text. This file says the same program with the repetition
named: `place` writes one sparse entry into the channel plane, `places` does it for a list of slots,
`channel` reads the two row pointers of one output channel and places its first sixteen entries,
`channels` does that for a list of channels, and `rest` is the loop that places what is left of
long channels. `decode` is the lookup of a 64 × 512 tile of code bytes.
-/

noncomputable section

namespace Sparse

open Idealize.ShloMosaic Idealize.SL.Sem

abbrev S5633 : Shape := ⟨1, ![5633]⟩
abbrev S51920 : Shape := ⟨1, ![51920]⟩
abbrev S1 : Shape := ⟨1, ![1]⟩
abbrev S8224x128 : Shape := ⟨2, ![8224, 128]⟩
abbrev S1x128 : Shape := ⟨2, ![1, 128]⟩
abbrev S8x128 : Shape := ⟨2, ![8, 128]⟩
abbrev S8x128x1 : Shape := ⟨3, ![8, 128, 1]⟩
abbrev S64x128 : Shape := ⟨2, ![64, 128]⟩
abbrev S8x512 : Shape := ⟨2, ![8, 512]⟩
abbrev S64x512 : Shape := ⟨2, ![64, 512]⟩
abbrev S1024x512 : Shape := ⟨2, ![1024, 512]⟩
abbrev S1024x128 : Shape := ⟨2, ![1024, 128]⟩
abbrev S2048x512 : Shape := ⟨2, ![2048, 512]⟩
abbrev S512x2048 : Shape := ⟨2, ![512, 2048]⟩
abbrev S512x512 : Shape := ⟨2, ![512, 512]⟩

theorem h_S1x128 : 0 < S1x128.numel := by decide
theorem h_S64x512 : 0 < S64x512.numel := by decide
theorem numel1_S1 : S1.numel = 1 := by decide
theorem iota_ok : S1x128.Iotas .tc 32 [1] := by decide
theorem cast_S1x128 : S1x128.ShapeCasts S1x128 := by decide
theorem cast_S64x512 : S64x512.ShapeCasts S64x512 := by decide

/-! ## Addresses -/

/-- The lane group of a part whose first local channel is `loc`: the floor division by 128,
spelt as the kernel spells it. -/
def group (loc : BitVec 32) : BitVec 32 :=
  Scalar.select
    (Scalar.andi
      (Scalar.cmpi .ne
        (Scalar.subi (Scalar.extui (Scalar.cmpi .sgt loc 0#32)) (Scalar.extui (Scalar.cmpi .slt loc 0#32)))
        (Scalar.subi (Scalar.extui (Scalar.cmpi .sgt 128#32 0#32)) (Scalar.extui (Scalar.cmpi .slt 128#32 0#32))))
      (Scalar.cmpi .ne (Scalar.remsi loc 128#32) 0#32))
    (Scalar.subi (Scalar.divsi loc 128#32) 1#32)
    (Scalar.divsi loc 128#32)

/-- The first plane row of a part's lane group. -/
def row0 (loc : BitVec 32) : BitVec 32 := Scalar.muli (group loc) 2056#32

/-- The lanes of local channel `loc + c`: the one lane of its group that is the channel's. -/
def hits (loc c : BitVec 32) : IVec S1x128 1 :=
  cmpi .eq (iota .tc S1x128 32 [1] iota_ok)
    (broadcast S1x128 (Scalar.subi (Scalar.addi loc c) (Scalar.muli (group loc) 128#32)))

/-- Where the first row pointer of channel `c` of the part is read. -/
def ptrOff (blk loc c : BitVec 32) : Fin 1 → Nat :=
  ![(Scalar.indexCast (Scalar.addi (Scalar.addi blk loc) c)).toNat]

/-- Where the second one is read. -/
def ptrOff1 (blk loc c : BitVec 32) : Fin 1 → Nat :=
  ![(Scalar.indexCast (Scalar.addi (Scalar.addi (Scalar.addi blk loc) c) 1#32)).toNat]

/-- Where slot `k` of a channel starting at entry `e0` is read. -/
def entOff (e0 : BitVec 32) (k : Fin 16) : Fin 1 → Nat :=
  ![(Scalar.indexCast (Scalar.addi e0 (BitVec.ofNat 32 k.val))).toNat]

/-- The plane row slot `k` writes: its entry's row where the slot is one of the channel's entries,
else the group's spare row. -/
def slotOff (loc e0 e1 w : BitVec 32) (k : Fin 16) : Fin 2 → Nat :=
  ![(Scalar.indexCast (Scalar.addi (row0 loc)
      (Scalar.select (Scalar.cmpi .slt (Scalar.addi e0 (BitVec.ofNat 32 k.val)) e1)
        (Scalar.andi w 65535#32) 2048#32))).toNat, 0]

/-- The plane row an entry past the sixteenth writes. -/
def restOff (loc w : BitVec 32) : Fin 2 → Nat :=
  ![(Scalar.indexCast (Scalar.addi (row0 loc)
      (Scalar.select 1#1 (Scalar.andi w 65535#32) 2048#32))).toNat, 0]

/-- The loop over a channel's entries past the sixteenth. -/
@[reducible] def loopA (e0 e1 : BitVec 32) : Scf.Loop 32 :=
  ⟨Scalar.addi e0 16#32,
   Scalar.addi (Scalar.addi e0 16#32)
     (Scalar.muli (Scalar.divsi (Scalar.subi e1 (Scalar.addi e0 16#32)) 1#32) 1#32), 1#32⟩

/-- The loop over what the unrolling leaves (nothing, at step one). -/
@[reducible] def loopB (e0 e1 : BitVec 32) : Scf.Loop 32 :=
  ⟨Scalar.addi (Scalar.addi e0 16#32)
     (Scalar.muli (Scalar.divsi (Scalar.subi e1 (Scalar.addi e0 16#32)) 1#32) 1#32),
   Scalar.addi (Scalar.addi e0 16#32) (Scalar.subi e1 (Scalar.addi e0 16#32)), 1#32⟩

/-- The loop over a part's channels. -/
@[reducible] def loopC : Scf.Loop 32 := ⟨0#32, Scalar.addi 0#32 32#32, 1#32⟩

/-- Where trip `t` of a loop over entries reads its entry. -/
def ivOff (l : Scf.Loop 32) (t : Nat) : Fin 1 → Nat := ![(Scalar.indexCast (Scf.iv l.lb 1#32 t)).toNat]

/-- Whether some channel of a part has more than sixteen entries. -/
def over (longest : BitVec 32) : BitVec 1 :=
  Scalar.cmpi .ne (Scalar.extui (Scalar.cmpi .sgt longest 16#32) : BitVec 32) 0#32

abbrev EntInb (e0 : BitVec 32) (k : Fin 16) : Prop := ∀ a, entOff e0 k a + S1.size a ≤ S51920.size a
abbrev RowInb (o : Fin 2 → Nat) : Prop := ∀ a, o a + S1x128.size a ≤ S8224x128.size a

/-- What the body checks of the words it addresses by, for the unrolled slots: `E` of a channel's
first entry, `R` of an entry read for a slot. -/
structure Checks (loc : BitVec 32) where
  E : BitVec 32 → Prop
  decE : ∀ e, Decidable (E e)
  iffE : ∀ e, E e ↔ ∀ k, EntInb e k
  R : BitVec 32 → BitVec 32 → BitVec 32 → Fin 16 → Prop
  decR : ∀ e0 e1 w k, Decidable (R e0 e1 w k)
  iffR : ∀ e0 e1 w k, R e0 e1 w k ↔ RowInb (slotOff loc e0 e1 w k)

/-- What the loop over the remaining entries checks: `L` of a channel's two row pointers, `R` of an
entry. -/
structure RestChecks (loc : BitVec 32) where
  L : BitVec 32 → BitVec 32 → Prop
  decL : ∀ e0 e1, Decidable (L e0 e1)
  iffL : ∀ e0 e1, L e0 e1 ↔ ((loopA e0 e1).OK ∧
    (∀ t : Fin (loopA e0 e1).trips, ∀ a, ivOff (loopA e0 e1) t a + S1.size a ≤ S51920.size a) ∧
    (loopB e0 e1).OK ∧
    (∀ t : Fin (loopB e0 e1).trips, ∀ a, ivOff (loopB e0 e1) t a + S1.size a ≤ S51920.size a))
  R : BitVec 32 → Prop
  decR : ∀ w, Decidable (R w)
  iffR : ∀ w, R w ↔ RowInb (restOff loc w)

section Programs

variable {F : FTy → Type} [FloatOps F] {nD : Nat} {τ : Topo} {sig : RefSig} {Λ : Labels}
variable (ptr : Memref sig .tc .smem S5633 .i32) (ent : Memref sig .tc .smem S51920 .i32)
  (plane : Memref sig .tc .vmem S8224x128 .i32)

/-- Write the high half of entry `w` at row `o` of the plane, on the lanes of `v`. -/
def put (v : IVec S1x128 1) (w : BitVec 32) (o : Fin 2 → Nat) (h : RowInb o) :
    Prog (TpuEff nD τ sig (Elt F) Λ .tc) PUnit := do
  let _ : Vec F S1x128 .i32 ← Prog.lift (.load plane
    (Rect.unit (s := S8224x128) o S1x128.size h).toLoadRect (View.loadsAt_vmem h_S1x128))
  Prog.lift (.store plane (Rect.unit (s := S8224x128) o S1x128.size h)
    (shapeCast S1x128 (broadcast S1x128 (Scalar.andi w 4294901760#32)) cast_S1x128)
    (IVec.on (shapeCast S1x128 v cast_S1x128))
    (View.stores_vmem_bits h_S1x128 rfl (fun h => nomatch h)) (.inr (fun _ => rfl)))

variable {loc : BitVec 32} (C : Checks loc)

/-- Slot `k` of a channel with entries `e0 … e1`. -/
def place (v : IVec S1x128 1) (e0 e1 : BitVec 32) (he : C.E e0) (k : Fin 16) :
    Prog (TpuEff nD τ sig (Elt F) Λ .tc) PUnit := do
  let w : Elt F .i32 ← smemLoad ent
    (Rect.unit (s := S51920) (entOff e0 k) S1.size ((C.iffE e0).1 he k)) numel1_S1 rfl
  have h : C.R e0 e1 w k := (← Prog.lift (TpuEff.assume (C.R e0 e1 w k) (C.decR e0 e1 w k))).down
  put plane v w (slotOff loc e0 e1 w k) ((C.iffR e0 e1 w k).1 h)

/-- A list of slots in turn. -/
def places (v : IVec S1x128 1) (e0 e1 : BitVec 32) (he : C.E e0) :
    List (Fin 16) → Prog (TpuEff nD τ sig (Elt F) Λ .tc) PUnit
  | [] => pure ⟨⟩
  | k :: ks => do place ent plane C v e0 e1 he k; places v e0 e1 he ks

abbrev slots : List (Fin 16) := [0, 1, 2, 3, 4, 5, 6, 7, 8, 9, 10, 11, 12, 13, 14, 15]

abbrev chans : List (Fin 32) := [0, 1, 2, 3, 4, 5, 6, 7, 8, 9, 10, 11, 12, 13, 14, 15, 16, 17, 18, 19,
  20, 21, 22, 23, 24, 25, 26, 27, 28, 29, 30, 31]

abbrev PtrInb (blk loc : BitVec 32) : Prop :=
  ∀ c : Fin 32, (∀ a, ptrOff blk loc (BitVec.ofNat 32 c.val) a + S1.size a ≤ S5633.size a) ∧
    ∀ a, ptrOff1 blk loc (BitVec.ofNat 32 c.val) a + S1.size a ≤ S5633.size a

/-- The first sixteen entries of each channel of a list, and the largest number of entries any of
them has. -/
def channels (blk : BitVec 32) (hp : PtrInb blk loc) :
    List (Fin 32) → BitVec 32 → Prog (TpuEff nD τ sig (Elt F) Λ .tc) (BitVec 32)
  | [], longest => pure longest
  | c :: cs, longest => do
    let e0 : Elt F .i32 ← smemLoad ptr
      (Rect.unit (s := S5633) (ptrOff blk loc (BitVec.ofNat 32 c.val)) S1.size (hp c).1) numel1_S1 rfl
    have he : C.E e0 := (← Prog.lift (TpuEff.assume (C.E e0) (C.decE e0))).down
    let e1 : Elt F .i32 ← smemLoad ptr
      (Rect.unit (s := S5633) (ptrOff1 blk loc (BitVec.ofNat 32 c.val)) S1.size (hp c).2) numel1_S1 rfl
    places ent plane C (hits loc (BitVec.ofNat 32 c.val)) e0 e1 he slots
    channels blk hp cs (Scalar.maxsi longest (Scalar.subi e1 e0))

/-- The entries past the sixteenth of every channel of the part. -/
def rest (blk : BitVec 32) (hok : loopC.OK)
    (hp : ∀ t : Fin loopC.trips, (∀ a, ptrOff blk loc (Scf.iv 0#32 1#32 t) a + S1.size a ≤ S5633.size a) ∧
      ∀ a, ptrOff1 blk loc (Scf.iv 0#32 1#32 t) a + S1.size a ≤ S5633.size a)
    (D : RestChecks loc) : Prog (TpuEff nD τ sig (Elt F) Λ .tc) PUnit :=
  Scf.Loop.for loopC hok ⟨⟩ fun t _ => do
    let e0 : Elt F .i32 ← smemLoad ptr
      (Rect.unit (s := S5633) (ptrOff blk loc (Scf.iv 0#32 1#32 t)) S1.size (hp t).1) numel1_S1 rfl
    let e1 : Elt F .i32 ← smemLoad ptr
      (Rect.unit (s := S5633) (ptrOff1 blk loc (Scf.iv 0#32 1#32 t)) S1.size (hp t).2) numel1_S1 rfl
    have hl : D.L e0 e1 := (← Prog.lift (TpuEff.assume (D.L e0 e1) (D.decL e0 e1))).down
    let r : BitVec 32 ← Scf.Loop.for (loopA e0 e1) ((D.iffL e0 e1).1 hl).1 0#32 fun u _ => do
      let w : Elt F .i32 ← smemLoad ent
        (Rect.unit (s := S51920) (ivOff (loopA e0 e1) u) S1.size (((D.iffL e0 e1).1 hl).2.1 u)) numel1_S1 rfl
      have h : D.R w := (← Prog.lift (TpuEff.assume (D.R w) (D.decR w))).down
      put plane (hits loc (Scf.iv 0#32 1#32 t)) w (restOff loc w) ((D.iffR w).1 h)
      pure 0#32
    let _ : BitVec 32 ← Scf.Loop.for (loopB e0 e1) ((D.iffL e0 e1).1 hl).2.2.1 r fun u _ => do
      let w : Elt F .i32 ← smemLoad ent
        (Rect.unit (s := S51920) (ivOff (loopB e0 e1) u) S1.size (((D.iffL e0 e1).1 hl).2.2.2 u)) numel1_S1 rfl
      have h : D.R w := (← Prog.lift (TpuEff.assume (D.R w) (D.decR w))).down
      put plane (hits loc (Scf.iv 0#32 1#32 t)) w (restOff loc w) ((D.iffR w).1 h)
      pure 0#32
    pure ⟨⟩

end Programs

/-! ## The checks, at the two places the text makes them -/

/-- The slot checks as stated in the main text. -/
def checks (loc : BitVec 32) : Checks loc where
  E e := EntInb e 0 ∧ EntInb e 1 ∧ EntInb e 2 ∧ EntInb e 3 ∧ EntInb e 4 ∧ EntInb e 5 ∧ EntInb e 6 ∧
    EntInb e 7 ∧ EntInb e 8 ∧ EntInb e 9 ∧ EntInb e 10 ∧ EntInb e 11 ∧ EntInb e 12 ∧ EntInb e 13 ∧
    EntInb e 14 ∧ EntInb e 15
  decE _ := decidable_of_iff' _ Iff.rfl
  iffE e := by
    constructor
    · rintro ⟨h0, h1, h2, h3, h4, h5, h6, h7, h8, h9, h10, h11, h12, h13, h14, h15⟩ k
      fin_cases k <;> assumption
    · intro h; exact ⟨h _, h _, h _, h _, h _, h _, h _, h _, h _, h _, h _, h _, h _, h _, h _, h _⟩
  R e0 e1 w k := RowInb (slotOff loc e0 e1 w k)
  decR _ _ _ _ := decidable_of_iff' _ Iff.rfl
  iffR _ _ _ _ := Iff.rfl

/-- The same under the condition `c` the first point's loop carries. -/
def checksIf (c : Prop) [Decidable c] (hc : c) (loc : BitVec 32) : Checks loc where
  E e := (c → EntInb e 0) ∧ (c → EntInb e 1) ∧ (c → EntInb e 2) ∧ (c → EntInb e 3) ∧ (c → EntInb e 4) ∧
    (c → EntInb e 5) ∧ (c → EntInb e 6) ∧ (c → EntInb e 7) ∧ (c → EntInb e 8) ∧ (c → EntInb e 9) ∧
    (c → EntInb e 10) ∧ (c → EntInb e 11) ∧ (c → EntInb e 12) ∧ (c → EntInb e 13) ∧ (c → EntInb e 14) ∧
    (c → EntInb e 15)
  decE _ := decidable_of_iff' _ Iff.rfl
  iffE e := by
    constructor
    · rintro ⟨h0, h1, h2, h3, h4, h5, h6, h7, h8, h9, h10, h11, h12, h13, h14, h15⟩ k
      fin_cases k <;> simp only [hc, forall_const] at * <;> assumption
    · intro h; exact ⟨fun _ => h _, fun _ => h _, fun _ => h _, fun _ => h _, fun _ => h _, fun _ => h _,
        fun _ => h _, fun _ => h _, fun _ => h _, fun _ => h _, fun _ => h _, fun _ => h _, fun _ => h _,
        fun _ => h _, fun _ => h _, fun _ => h _⟩
  R e0 e1 w k := c → RowInb (slotOff loc e0 e1 w k)
  decR _ _ _ _ := decidable_of_iff' _ Iff.rfl
  iffR _ _ _ _ := ⟨fun h => h hc, fun h _ => h⟩

/-- The checks of the remaining entries, under the condition that some channel is long. -/
def restChecks (loc longest : BitVec 32) (ho : over longest = 1#1) : RestChecks loc where
  L e0 e1 := (∀ _ : over longest = 1#1, (loopA e0 e1).OK) ∧
    (∀ t : Fin (loopA e0 e1).trips, ∀ _ : over longest = 1#1,
      ∀ a, ivOff (loopA e0 e1) t a + S1.size a ≤ S51920.size a) ∧
    (∀ _ : over longest = 1#1, (loopB e0 e1).OK) ∧
    (∀ t : Fin (loopB e0 e1).trips, ∀ _ : over longest = 1#1,
      ∀ a, ivOff (loopB e0 e1) t a + S1.size a ≤ S51920.size a)
  decL _ _ := decidable_of_iff' _ Iff.rfl
  iffL _ _ := ⟨fun h => ⟨h.1 ho, fun t => h.2.1 t ho, h.2.2.1 ho, fun t => h.2.2.2 t ho⟩,
    fun h => ⟨fun _ => h.1, fun t _ => h.2.1 t, fun _ => h.2.2.1, fun t _ => h.2.2.2 t⟩⟩
  R w := ∀ _ : over longest = 1#1, RowInb (restOff loc w)
  decR _ := decidable_of_iff' _ Iff.rfl
  iffR _ := ⟨fun h => h ho, fun h _ => h⟩

/-- The same under the condition `c` the first point's loop carries. -/
def restChecksIf (c : Prop) [Decidable c] (hc : c) (loc longest : BitVec 32) (ho : over longest = 1#1) :
    RestChecks loc where
  L e0 e1 := (c → ∀ _ : over longest = 1#1, (loopA e0 e1).OK) ∧
    (∀ t : Fin (loopA e0 e1).trips, c → ∀ _ : over longest = 1#1,
      ∀ a, ivOff (loopA e0 e1) t a + S1.size a ≤ S51920.size a) ∧
    (c → ∀ _ : over longest = 1#1, (loopB e0 e1).OK) ∧
    (∀ t : Fin (loopB e0 e1).trips, c → ∀ _ : over longest = 1#1,
      ∀ a, ivOff (loopB e0 e1) t a + S1.size a ≤ S51920.size a)
  decL _ _ := decidable_of_iff' _ Iff.rfl
  iffL _ _ := ⟨fun h => ⟨h.1 hc ho, fun t => h.2.1 t hc ho, h.2.2.1 hc ho, fun t => h.2.2.2 t hc ho⟩,
    fun h => ⟨fun _ _ => h.1, fun t _ _ => h.2.1 t, fun _ _ => h.2.2.1, fun t _ _ => h.2.2.2 t⟩⟩
  R w := c → ∀ _ : over longest = 1#1, RowInb (restOff loc w)
  decR _ := decidable_of_iff' _ Iff.rfl
  iffR _ := ⟨fun h => h hc ho, fun h _ _ => h⟩

/-! ## The lookup of a tile of codes -/

/-- The packed word an 8 × 128 block `c` of code bytes names in the table block `t`: the low half
from bits 3..0 of the byte, the high half from bits 7..4. -/
def decode8 (t c : IVec S8x128 32) : IVec S8x128 32 :=
  let one : IVec S8x128 32 := andi (shrsi c (broadcast S8x128 1#32)) (broadcast S8x128 7#32)
  let two : IVec S8x128 32 := andi (shrsi c (broadcast S8x128 5#32)) (broadcast S8x128 7#32)
  let fix (x : IVec S8x128 32) : IVec S8x128 32 :=
    shapeCast S8x128 (shapeCast S8x128x1
      (select (cmpi .slt x (broadcast S8x128 0#32)) (addi x (broadcast S8x128 8#32)) x)
      (by decide : S8x128.ShapeCasts S8x128x1)) (by decide : S8x128x1.ShapeCasts S8x128)
  let a : IVec S8x128 32 := dynamicGather 0 t (fix one)
  let b : IVec S8x128 32 := dynamicGather 0 t (fix two)
  ori
    (select (cmpi .ne (andi c (broadcast S8x128 1#32)) (broadcast S8x128 0#32))
      (shrui a (broadcast S8x128 16#32)) (andi a (broadcast S8x128 65535#32)))
    (select (cmpi .ne (andi c (broadcast S8x128 16#32)) (broadcast S8x128 0#32))
      (andi b (broadcast S8x128 4294901760#32)) (shli b (broadcast S8x128 16#32)))

theorem cat8 : Shape.Concatenates [S8x128, S8x128, S8x128, S8x128, S8x128, S8x128, S8x128, S8x128] S64x128 0 := by
  decide

theorem cat4 : Shape.Concatenates [S64x128, S64x128, S64x128, S64x128] S64x512 1 := by decide

/-- Eight blocks one above the other. -/
def decodeCol (t : IVec S8x512 32) (c : IVec S64x512 32) (g : Nat) (ht : S8x512.Slices ![0, g] S8x128)
    (hc : ∀ r : Fin 8, S64x512.Slices ![8 * r.val, g] S8x128) : IVec S64x128 32 :=
  let f (r : Fin 8) : IVec S8x128 32 :=
    decode8 (extractStridedSlice S8x128 ![0, g] t ht) (extractStridedSlice S8x128 ![8 * r.val, g] c (hc r))
  concatenate S64x128 0 [⟨S8x128, f 0⟩, ⟨S8x128, f 1⟩, ⟨S8x128, f 2⟩, ⟨S8x128, f 3⟩, ⟨S8x128, f 4⟩,
    ⟨S8x128, f 5⟩, ⟨S8x128, f 6⟩, ⟨S8x128, f 7⟩] cat8

/-- A whole 64 × 512 tile. -/
def decode (t : IVec S8x512 32) (c : IVec S64x512 32) : IVec S64x512 32 :=
  concatenate S64x512 1
    [⟨S64x128, decodeCol t c 0 (by decide) (by decide)⟩, ⟨S64x128, decodeCol t c 128 (by decide) (by decide)⟩,
     ⟨S64x128, decodeCol t c 256 (by decide) (by decide)⟩,
     ⟨S64x128, decodeCol t c 384 (by decide) (by decide)⟩] cat4

section Programs

variable {F : FTy → Type} [FloatOps F] {nD : Nat} {τ : Topo} {sig : RefSig} {Λ : Labels}
variable (ptr : Memref sig .tc .smem S5633 .i32) (ent : Memref sig .tc .smem S51920 .i32)
  (wnext : Memref sig .tc .vmem S1024x512 .i32) (plane : Memref sig .tc .vmem S8224x128 .i32)

/-- Store the decoded tile of part `p` in the weight buffer being prepared. -/
def decodeInto (o : Fin 2 → Nat) (ho : ∀ a, o a + S64x512.size a ≤ S1024x512.size a)
    (t : IVec S8x512 32) (c : IVec S64x512 32) : Prog (TpuEff nD τ sig (Elt F) Λ .tc) PUnit := do
  let _ : Vec F S64x512 .i32 ← Prog.lift (.load wnext
    (Rect.unit (s := S1024x512) o S64x512.size ho).toLoadRect (View.loadsAt_vmem h_S64x512))
  Prog.lift (.store wnext (Rect.unit (s := S1024x512) o S64x512.size ho)
    (shapeCast S64x512 (decode t c) cast_S64x512) Finset.univ (View.stores_vmem_bits_univ h_S64x512 rfl) (.inl rfl))

/-- What the main text does after its two products: decode a tile, place the first sixteen entries
of 32 channels, and the remaining entries where some channel has more. -/
def prepare (blk loc : BitVec 32) (o : Fin 2 → Nat) (ho : ∀ a, o a + S64x512.size a ≤ S1024x512.size a)
    (hp : PtrInb blk loc) (hok : loopC.OK)
    (hp' : ∀ t : Fin loopC.trips, (∀ a, ptrOff blk loc (Scf.iv 0#32 1#32 t) a + S1.size a ≤ S5633.size a) ∧
      ∀ a, ptrOff1 blk loc (Scf.iv 0#32 1#32 t) a + S1.size a ≤ S5633.size a)
    (C : Checks loc) (D : ∀ longest, over longest = 1#1 → RestChecks loc)
    (t : IVec S8x512 32) (c : IVec S64x512 32) : Prog (TpuEff nD τ sig (Elt F) Λ .tc) PUnit := do
  decodeInto wnext o ho t c
  let longest ← channels ptr ent plane C blk hp chans 0#32
  if h : over longest = 1#1 then do
    rest ptr ent plane blk hok hp' (D longest h)
    pure ⟨⟩
  else do
    pure ⟨⟩
  pure ⟨⟩

end Programs

/-! ## The start of the body -/

/-- The condition of the first point's work, at the two grid coordinates. -/
def firstCond (a0 a1 : BitVec 32) : BitVec 1 :=
  Scalar.cmpi .ne (Scalar.extui (Scalar.andi (Scalar.cmpi .eq a0 0#32) (Scalar.cmpi .eq a1 0#32)) : BitVec 32) 0#32

/-- The condition of handing the prepared buffers over. -/
def moveCond (a1 : BitVec 32) : BitVec 1 :=
  Scalar.cmpi .ne (Scalar.extui (Scalar.cmpi .eq a1 0#32) : BitVec 32) 0#32

/-- The first point's loop over the sixteen parts of block 0. -/
@[reducible] def loopF : Scf.Loop 32 := ⟨0#32, Scalar.addi 0#32 16#32, 1#32⟩

/-- Where part `a` of the 16 keeps its 64 code rows. -/
def tileOff (a : BitVec 32) : Fin 2 → Nat := ![(Scalar.indexCast (Scalar.muli a 64#32)).toNat, 0]

abbrev TileInb (a : BitVec 32) : Prop := ∀ x, tileOff a x + S64x512.size x ≤ S1024x512.size x

/-- The row pointer reads of a part are in range. -/
abbrev PartInb (blk loc : BitVec 32) : Prop :=
  PtrInb blk loc ∧
  ∀ t : Fin loopC.trips, (∀ a, ptrOff blk loc (Scf.iv 0#32 1#32 t) a + S1.size a ≤ S5633.size a) ∧
    ∀ a, ptrOff1 blk loc (Scf.iv 0#32 1#32 t) a + S1.size a ≤ S5633.size a

theorem loopC_ok : loopC.OK := by decide +kernel
theorem loopF_ok : loopF.OK := by decide +kernel

theorem h_S8224x128 : 0 < S8224x128.numel := by decide
theorem h_S8x512 : 0 < S8x512.numel := by decide
theorem h_S1024x128 : 0 < S1024x128.numel := by decide
theorem h_S1024x512 : 0 < S1024x512.numel := by decide
theorem h_S512x2048 : 0 < S512x2048.numel := by decide
theorem h_S512x512 : 0 < S512x512.numel := by decide
theorem cast_S8224x128 : S8224x128.ShapeCasts S8224x128 := by decide
theorem cast_S8x512 : S8x512.ShapeCasts S8x512 := by decide
theorem cast_S1024x128 : S1024x128.ShapeCasts S1024x128 := by decide
theorem cast_S1024x512 : S1024x512.ShapeCasts S1024x512 := by decide
theorem cast_S512x2048 : S512x2048.ShapeCasts S512x2048 := by decide
theorem cast_S512x512 : S512x512.ShapeCasts S512x512 := by decide
theorem inb_plane : ∀ a, (![0, 0] : Fin 2 → Nat) a + S8224x128.size a ≤ S8224x128.size a := by decide
theorem inb_buf : ∀ a, (![0, 0] : Fin 2 → Nat) a + S1024x512.size a ≤ S1024x512.size a := by decide
theorem inb_table : ∀ a, (![0, 0] : Fin 2 → Nat) a + S8x512.size a ≤ S8x512.size a := by decide
theorem inb_tile : ∀ a, (![0, 0] : Fin 2 → Nat) a + S64x512.size a ≤ S64x512.size a := by decide
theorem inb_x : ∀ a, (![0, 0] : Fin 2 → Nat) a + S512x2048.size a ≤ S512x2048.size a := by decide
theorem inb_out : ∀ a, (![0, 0] : Fin 2 → Nat) a + S512x512.size a ≤ S512x512.size a := by decide
theorem pair_ok : S1024x512.Bitcasts 32 S2048x512 16 := by decide
theorem packed_out : (Rect.unit (s := S512x512) ![0, 0] S512x512.size inb_out).PackedRows (EltTy.packing .bf16) := by
  decide

/-- The contraction of the products: the right axis of `x` against the rows of the weights. -/
def dims : DotDims S512x2048 S2048x512 S512x512 where
  lhsContracting := [1]
  rhsContracting := [0]
  lhsNonContracting := [0]
  rhsNonContracting := [1]
  lhsBatch := []
  rhsBatch := []
  wf := by decide

section Programs

variable {F : FTy → Type} [FloatOps F] {nD : Nat} {τ : Topo} {sig : RefSig} {Λ : Labels}
variable (ptr : Memref sig .tc .smem S5633 .i32) (ent : Memref sig .tc .smem S51920 .i32)
  (codes0 : Memref sig .tc .vmem S1024x512 .i8) (codes : Memref sig .tc .vmem S64x512 .i8)
  (table0 table : Memref sig .tc .vmem S8x512 .i32) (xs : Memref sig .tc .vmem S512x2048 .bf16)
  (y : Memref sig .tc .vmem S512x512 .bf16) (hy : y.IsWhole) (ys : Memref sig .tc .vmem S512x512 .f32)
  (wnext wcur : Memref sig .tc .vmem S1024x512 .i32) (plane : Memref sig .tc .vmem S8224x128 .i32)
  (scur : Memref sig .tc .vmem S1024x512 .i32)

/-- Zero the plane. -/
def clear : Prog (TpuEff nD τ sig (Elt F) Λ .tc) PUnit := do
  let _ : Vec F S8224x128 .i32 ← Prog.lift (.load plane
    (Rect.unit (s := S8224x128) ![0, 0] S8224x128.size inb_plane).toLoadRect (View.loadsAt_vmem h_S8224x128))
  Prog.lift (.store plane (Rect.unit (s := S8224x128) ![0, 0] S8224x128.size inb_plane)
    (shapeCast S8224x128 (broadcast S8224x128 0#32) cast_S8224x128) Finset.univ
    (View.stores_vmem_bits_univ h_S8224x128 rfl) (.inl rfl))

/-- What the first point does before anything else: clear the plane and prepare all of block 0. -/
def firstWork (c : Prop) [Decidable c] (hc : c)
    (ht : ∀ t : Fin loopF.trips, TileInb (Scf.iv 0#32 1#32 t))
    (hp : ∀ t : Fin loopF.trips, PartInb 0#32 (Scalar.muli (Scf.iv 0#32 1#32 t) 32#32)) :
    Prog (TpuEff nD τ sig (Elt F) Λ .tc) PUnit := do
  clear plane
  Scf.Loop.for loopF loopF_ok ⟨⟩ fun t _ => do
    let c : Vec F S64x512 .i8 ← Prog.lift (.load codes0
      (Rect.unit (s := S1024x512) (tileOff (Scf.iv 0#32 1#32 t)) S64x512.size (ht t)).toLoadRect
      (View.loadsAt_vmem h_S64x512))
    let l : Vec F S8x512 .i32 ← Prog.lift (.load table0
      (Rect.unit (s := S8x512) ![0, 0] S8x512.size inb_table).toLoadRect (View.loadsAt_vmem h_S8x512))
    prepare ptr ent wnext plane 0#32 (Scalar.muli (Scf.iv 0#32 1#32 t) 32#32) (tileOff (Scf.iv 0#32 1#32 t)) (ht t)
      (hp t).1 loopC_ok (hp t).2 (checksIf _ hc _) (fun longest ho => restChecksIf _ hc _ longest ho)
      (shapeCast S8x512 l cast_S8x512) (extui 32 c (by decide))

/-- Pack lane group `g` of the plane: the high halves of its first 1024 rows below those of the next
1024, as words of columns `128 g …` of the current sparse block. -/
def pack (lo hi col : Nat) (hlo : ∀ a, (![lo, 0] : Fin 2 → Nat) a + S1024x128.size a ≤ S8224x128.size a)
    (hhi : ∀ a, (![hi, 0] : Fin 2 → Nat) a + S1024x128.size a ≤ S8224x128.size a)
    (hcol : ∀ a, (![0, col] : Fin 2 → Nat) a + S1024x128.size a ≤ S1024x512.size a) :
    Prog (TpuEff nD τ sig (Elt F) Λ .tc) PUnit := do
  let a : Vec F S1024x128 .i32 ← Prog.lift (.load plane
    (Rect.unit (s := S8224x128) ![lo, 0] S1024x128.size hlo).toLoadRect (View.loadsAt_vmem h_S1024x128))
  let b : Vec F S1024x128 .i32 ← Prog.lift (.load plane
    (Rect.unit (s := S8224x128) ![hi, 0] S1024x128.size hhi).toLoadRect (View.loadsAt_vmem h_S1024x128))
  let _ : Vec F S1024x128 .i32 ← Prog.lift (.load scur
    (Rect.unit (s := S1024x512) ![0, col] S1024x128.size hcol).toLoadRect (View.loadsAt_vmem h_S1024x128))
  Prog.lift (.store scur (Rect.unit (s := S1024x512) ![0, col] S1024x128.size hcol)
    (shapeCast S1024x128 (ori (shrui a (broadcast S1024x128 16#32)) b) cast_S1024x128) Finset.univ
    (View.stores_vmem_bits_univ h_S1024x128 rfl) (.inl rfl))

/-- Hand the prepared block over: copy the weights, pack the plane's four lane groups, and clear it. -/
def moves : Prog (TpuEff nD τ sig (Elt F) Λ .tc) PUnit := do
  let a : Vec F S1024x512 .i32 ← Prog.lift (.load wnext
    (Rect.unit (s := S1024x512) ![0, 0] S1024x512.size inb_buf).toLoadRect (View.loadsAt_vmem h_S1024x512))
  let _ : Vec F S1024x512 .i32 ← Prog.lift (.load wcur
    (Rect.unit (s := S1024x512) ![0, 0] S1024x512.size inb_buf).toLoadRect (View.loadsAt_vmem h_S1024x512))
  Prog.lift (.store wcur (Rect.unit (s := S1024x512) ![0, 0] S1024x512.size inb_buf)
    (shapeCast S1024x512 a cast_S1024x512) Finset.univ (View.stores_vmem_bits_univ h_S1024x512 rfl) (.inl rfl))
  pack plane scur 0 1024 0 (by decide) (by decide) (by decide)
  pack plane scur 2056 3080 128 (by decide) (by decide) (by decide)
  pack plane scur 4112 5136 256 (by decide) (by decide) (by decide)
  pack plane scur 6168 7192 384 (by decide) (by decide) (by decide)
  clear plane

/-- The product of a block of `x` with a packed weight block, over an accumulator of zeros. -/
def product (x : Vec F S512x2048 .bf16) (w : IVec S1024x512 32) : FVec F S512x512 .f32 :=
  matmul dims none (shapeCast S512x2048 x cast_S512x2048) (bitcastToFloat .bf16 (bitcast S2048x512 16 w pair_ok))
    (constant S512x512 .f32 0x00000000#32)

/-- The two products of a point and the stores of its two result blocks. -/
def dots : Prog (TpuEff nD τ sig (Elt F) Λ .tc) PUnit := do
  let x : Vec F S512x2048 .bf16 ← Prog.lift (.load xs
    (Rect.unit (s := S512x2048) ![0, 0] S512x2048.size inb_x).toLoadRect (View.loadsAt_vmem h_S512x2048))
  let w : Vec F S1024x512 .i32 ← Prog.lift (.load wcur
    (Rect.unit (s := S1024x512) ![0, 0] S1024x512.size inb_buf).toLoadRect (View.loadsAt_vmem h_S1024x512))
  let v : Vec F S1024x512 .i32 ← Prog.lift (.load scur
    (Rect.unit (s := S1024x512) ![0, 0] S1024x512.size inb_buf).toLoadRect (View.loadsAt_vmem h_S1024x512))
  let _ : Vec F S512x512 .f32 ← Prog.lift (.load ys
    (Rect.unit (s := S512x512) ![0, 0] S512x512.size inb_out).toLoadRect (View.loadsAt_vmem h_S512x512))
  Prog.lift (.store ys (Rect.unit (s := S512x512) ![0, 0] S512x512.size inb_out) (product x v) Finset.univ
    (View.stores_vmem_bits_univ h_S512x512 rfl) (.inl rfl))
  let s : Vec F S512x512 .f32 ← Prog.lift (.load ys
    (Rect.unit (s := S512x512) ![0, 0] S512x512.size inb_out).toLoadRect (View.loadsAt_vmem h_S512x512))
  let _ : Vec F S512x512 .bf16 ← Prog.lift (.load y
    (Rect.unit (s := S512x512) ![0, 0] S512x512.size inb_out).toLoadRect (View.loadsAt_vmem h_S512x512))
  Prog.lift (.store y (Rect.unit (s := S512x512) ![0, 0] S512x512.size inb_out)
    (truncf .bf16 (addf (product x w) (shapeCast S512x512 s cast_S512x512)) (by decide)) Finset.univ
    (View.stores_vmem h_S512x512 (hy.storeExact_slice rfl _ packed_out) (fun _ => rfl)) (.inl rfl))

/-- Everything before the point's own preparation, ending with its tile of codes and its table block.
The values it returns are those the rest of the text names. -/
def head (a0 a1 : BitVec 32) (ht : ∀ t : Fin loopF.trips, TileInb (Scf.iv 0#32 1#32 t))
    (hp : ∀ t : Fin loopF.trips, PartInb 0#32 (Scalar.muli (Scf.iv 0#32 1#32 t) 32#32)) :
    Prog (TpuEff nD τ sig (Elt F) Λ .tc)
      (Σ' (_ : BitVec 32) (_ : IVec S1x128 32) (_ : BitVec 32) (_ : IVec S8x512 32), IVec S64x512 32) := do
  if h1 : firstCond a0 a1 = 1#1 then do
    firstWork ptr ent codes0 table0 wnext plane (firstCond a0 a1 = 1#1) h1 ht hp
    pure ⟨⟩
  else do
    pure ⟨⟩
  if h3 : moveCond a1 = 1#1 then do
    moves wnext wcur plane scur
    pure ⟨⟩
  else do
    pure ⟨⟩
  dots xs y hy ys wcur scur
  let c : Vec F S64x512 .i8 ← Prog.lift (.load codes
    (Rect.unit (s := S64x512) ![0, 0] S64x512.size inb_tile).toLoadRect (View.loadsAt_vmem h_S64x512))
  let l : Vec F S8x512 .i32 ← Prog.lift (.load table
    (Rect.unit (s := S8x512) ![0, 0] S8x512.size inb_table).toLoadRect (View.loadsAt_vmem h_S8x512))
  pure ⟨a1, iota .tc S1x128 32 [1] iota_ok, Scalar.minsi (Scalar.addi a0 1#32) 10#32,
    shapeCast S8x512 l cast_S8x512, extui 32 c (by decide)⟩

end Programs

end Sparse
-- ==== Proof.Rules.lean ====
module

public import proofs.«01_k».proof.Proof.Structured
public import Idealize.ShloMosaic.Lib.LaneScatter.Mask
public import Idealize.ShloMosaic.Lib.LaneScatter.Own
public import Idealize.ShloMosaic.Lib.ValueIdxCore

@[expose] public section

/-!
# One rule per effect of the body

Each rule says what a load, a store or a check does to a buffer owned whole at known contents.
-/

noncomputable section

namespace Sparse

open Idealize.ShloMosaic Idealize.ShloMosaic.TcCoe
open Idealize.SL Idealize.SL.RA Idealize.SL.Sem
open scoped Idealize.SL.BI
open Idealize.SL.BI (sProp)
open Idealize.SL.BI.BIBase Idealize.SL.BI.Laws Idealize.SL.ProofMode

variable {Val : EltTy → Type} {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Dev nD) (bd : Option 𝒱.V) (E : Set Name)

section

variable {sp : CoreSpace} {s : Shape} {e : EltTy}

/-- A load of a rectangle reads the owned contents under it. -/
theorem load_rule (M : Memref sig .tc sp s e) (r : Rect s) (hl : M.view.LoadsAt r.toLoadRect) {q : PosShare TreeShare}
    {x : s.Idx → Val e} {Φ : (r.shape.Idx → Val e) → sProp 𝕄} :
    (owns (c : Thread nD τ) M q x : sProp 𝕄) ⊢ iprop((owns (c : Thread nD τ) M q x -∗ Φ (fun j => x (r.emb j)))
      -∗ wp frame (wpE defs 𝒱 (c : Thread nD τ) bd) E (Prog.lift (.load M r.toLoadRect hl)) Φ) := by
  unfold owns
  iintro ⟨%f, %hf, H⟩ HK
  iapply (wp_load 𝒱 (c : Thread nD τ) bd E (m := M) (r := r.toLoadRect) (hl := hl) (k := .ret) (S := M.view.set)
    (View.setOn_subset_set _ _)) $$ H
  iintro H
  rw [wp_ret]
  imodintro
  have hx : M.view.readAt Val r.toLoadRect f = fun j => x (r.emb j) := by
    funext j; rw [← hf]; rfl
  rw [hx]
  iapply HK
  iexists f
  isplitr
  · ipureintro; exact hf
  · iexact H

/-- A store to a rectangle changes the contents there, on the mask, and nowhere else. -/
theorem store_rule (M : Memref sig .tc sp s e) (r : Rect s) (w : r.shape.Idx → Val e) (Mk : Finset r.shape.Idx)
    (hx : (M.access r).Stores Mk) (hm : Mk = Finset.univ ∨ ∀ a, r.stride a = 1)
    {x y : s.Idx → Val e} (hin : ∀ j ∈ Mk, y (r.emb j) = w j) (hout : ∀ i, (∀ j ∈ Mk, r.emb j ≠ i) → y i = x i)
    {Φ : PUnit → sProp 𝕄} :
    (owns (c : Thread nD τ) M fullShare x : sProp 𝕄) ⊢ iprop((owns (c : Thread nD τ) M fullShare y -∗ Φ ⟨⟩)
      -∗ wp frame (wpE defs 𝒱 (c : Thread nD τ) bd) E (Prog.lift (.store M r w Mk hx hm)) Φ) := by
  unfold owns
  iintro ⟨%f, %hf, H⟩ HK
  iapply (wp_store 𝒱 (c : Thread nD τ) bd E (m := M) (r := r) (w := w) (Mk := Mk) (hx := hx) (hm := hm) (k := .ret)
    (S := M.view.set) ((View.setOn_subset_set _ _).trans (View.set_slice_subset _ _))) $$ H
  iintro H
  rw [wp_ret]
  imodintro
  iapply HK
  iexists ((M.access r).write Val f w Mk)
  isplitr
  · ipureintro
    funext i
    by_cases h : ∃ j ∈ Mk, r.emb j = i
    · obtain ⟨j, hj, rfl⟩ := h
      rw [hin j hj]
      exact View.read_slice_write_emb r f w hj
    · rw [hout i fun j hj he => h ⟨j, hj, he⟩, ← hf]
      refine View.read_slice_write_of_not_mem r f w Mk fun hmem => h ?_
      obtain ⟨j, hj, he⟩ := Finset.mem_map.1 hmem
      exact ⟨j, hj, he⟩
  · iexact H

/-- A checked fact that holds. -/
theorem assume_rule {P : Prop} (dP : Decidable P) (h : P) {Φ : PLift P → sProp 𝕄} :
    Φ ⟨h⟩ ⊢ wp frame (wpE defs 𝒱 (c : Thread nD τ) bd) E
      (Prog.lift (TpuEff.assume P dP : TpuEff nD τ sig Val Λ .tc (PLift P))) Φ := by
  iintro H
  iapply (wp_assume 𝒱 (c : Thread nD τ) bd E (P := P) (d := dP) (k := .ret) h)
  rw [wp_ret]
  imodintro
  iexact H

/-- A word of scalar memory. -/
theorem smem_rule (M : Memref sig .tc .smem s e) (r : Rect s) (h1 : r.shape.numel = 1) (hr)
    {q : PosShare TreeShare} {x : s.Idx → Val e} {v : Val e} (hv : ∀ j, x (r.emb j) = v) {Φ : Val e → sProp 𝕄} :
    (owns (c : Thread nD τ) M q x : sProp 𝕄) ⊢ iprop((owns (c : Thread nD τ) M q x -∗ Φ v)
      -∗ wp frame (wpE defs 𝒱 (c : Thread nD τ) bd) E (smemLoad (nD := nD) (τ := τ) (Λ := Λ) M r h1 hr) Φ) := by
  unfold owns
  iintro ⟨%f, %hf, H⟩ HK
  unfold smemLoad
  iapply (wp_smemLoadElt 𝒱 (c : Thread nD τ) bd E (m := M) (r := r) (k := .ret) (S := M.view.set)
    (View.set_slice_subset _ _)) $$ H
  iintro H
  rw [wp_ret]
  imodintro
  have hx : (M.access r).read Val f (Shape.Idx.first (by rw [h1]; exact Nat.one_pos)) = v := by
    rw [← hv (Shape.Idx.first (by rw [h1]; exact Nat.one_pos)), ← hf]; rfl
  rw [hx]
  iapply HK
  iexists f
  isplitr
  · ipureintro; exact hf
  · iexact H

end

end Sparse
-- ==== Proof.Model.lean ====
module

public import proofs.«01_k».proof.Proof.Structured
public import Idealize.ShloMosaic.Lib.ValueIdxCore
public import Idealize.ShloMosaic.Lib.WordCmp

@[expose] public section

/-!
# What the body computes, as functions of its words

Addresses here are natural numbers. A part of 32 channels starts at channel `n0` of the whole
matrix; its channels are lanes `lane0 … lane0 + 31` of the plane rows from `base` on.
-/

noncomputable section

namespace Sparse

open Idealize.ShloMosaic
open Idealize.ShloMosaic.ValueIdx (ix1 ix2 eq_ix1 eq_ix2)
open Idealize.ShloMosaic.WordCmp

/-- Word `k` of a table. -/
def wordAt {n : ℕ} (X : IVec ⟨1, ![n]⟩ 32) (k : ℕ) : BitVec 32 := if h : k < n then X (ix1 ⟨k, h⟩) else 0#32

/-- Row pointer `n`, as a number. -/
def rp (R : IVec S5633 32) (n : ℕ) : ℕ := (wordAt R n).toNat

/-- The column an entry word names. -/
def low (X : IVec S51920 32) (k : ℕ) : ℕ := (wordAt X k &&& 65535#32).toNat

/-- The value bits of an entry word. -/
def high (w : BitVec 32) : BitVec 32 := w &&& 4294901760#32

/-- What the body needs of its two tables. -/
structure Good (R : IVec S5633 32) (X : IVec S51920 32) : Prop where
  le : ∀ n ≤ 5632, rp R n ≤ 51904
  low_lt : ∀ k < 51920, low X k < 2048

/-- The addresses of a part, read as numbers. -/
structure Part (blk loc : BitVec 32) (n0 base lane0 : ℕ) : Prop where
  row : (row0 loc).toNat = base
  base_le : base + 2056 ≤ 8224
  hit : ∀ c < 32, ∀ x : S1x128.Idx, hits loc (BitVec.ofNat 32 c) x = 1#1 ↔ (x 1).val = lane0 + c
  ptr : ∀ c < 32, ptrOff blk loc (BitVec.ofNat 32 c) = ![n0 + c]
  ptr1 : ∀ c < 32, ptrOff1 blk loc (BitVec.ofNat 32 c) = ![n0 + c + 1]
  n0_le : n0 + 32 ≤ 5632

/-- The plane with the value of entry word `w` at row `row`, lane `lane`. -/
def putAt (row lane : ℕ) (w : BitVec 32) (P : IVec S8224x128 32) : IVec S8224x128 32 :=
  fun i => if (i 0).val = row ∧ (i 1).val = lane then high w else P i

/-- The plane row of slot `k`. -/
def slotRow (X : IVec S51920 32) (e0 e1 k : ℕ) : ℕ := if e0 + k < e1 then low X (e0 + k) else 2048

/-- A list of slots placed in turn. -/
def placesFn (X : IVec S51920 32) (base lane e0 e1 : ℕ) (ks : List (Fin 16)) (P : IVec S8224x128 32) :
    IVec S8224x128 32 :=
  ks.foldl (fun P k => putAt (base + slotRow X e0 e1 k.val) lane (wordAt X (e0 + k.val)) P) P

/-- The first `n` entries past the sixteenth. -/
def restOne (X : IVec S51920 32) (base lane e0 n : ℕ) (P : IVec S8224x128 32) : IVec S8224x128 32 :=
  (List.range n).foldl (fun P j => putAt (base + low X (e0 + 16 + j)) lane (wordAt X (e0 + 16 + j)) P) P

/-- A list of channels, sixteen slots each. -/
def channelsFn (R : IVec S5633 32) (X : IVec S51920 32) (n0 base lane0 : ℕ) (cs : List (Fin 32))
    (P : IVec S8224x128 32) : IVec S8224x128 32 :=
  cs.foldl (fun P c => placesFn X base (lane0 + c.val) (rp R (n0 + c.val)) (rp R (n0 + c.val + 1)) slots P) P

/-- What is left of the first `n` channels. -/
def restFn (R : IVec S5633 32) (X : IVec S51920 32) (n0 base lane0 n : ℕ) (P : IVec S8224x128 32) :
    IVec S8224x128 32 :=
  (List.range n).foldl (fun P c => restOne X base (lane0 + c) (rp R (n0 + c))
    (rp R (n0 + c + 1) - (rp R (n0 + c) + 16)) P) P

/-- A whole part. -/
def partFn (R : IVec S5633 32) (X : IVec S51920 32) (n0 base lane0 : ℕ) (P : IVec S8224x128 32) : IVec S8224x128 32 :=
  restFn R X n0 base lane0 32 (channelsFn R X n0 base lane0 chans P)

/-! ## The body's words as numbers -/

theorem entOff_eq {e0 : BitVec 32} (h : e0.toNat ≤ 51904) (k : Fin 16) : entOff e0 k = ![e0.toNat + k.val] := by
  have hk := k.isLt
  simp only [entOff, Scalar.indexCast, Scalar.addi, IntOp.addi, BitVec.toNat_add, BitVec.toNat_ofNat]
  congr 1
  omega

theorem entInb {e0 : BitVec 32} (h : e0.toNat ≤ 51904) (k : Fin 16) : EntInb e0 k := by
  have hk := k.isLt
  unfold EntInb
  rw [entOff_eq h]
  intro a
  match a with
  | ⟨0, _⟩ => show e0.toNat + k.val + 1 ≤ 51920; omega

theorem toInt_small {x : BitVec 32} (h : x.toNat < 2 ^ 31) : x.toInt = x.toNat := toInt_eq_toNat_of_lt_half h

theorem add_small {x : BitVec 32} {k : ℕ} (h : x.toNat + k < 2 ^ 32) (hk : k < 2 ^ 32) :
    (x + BitVec.ofNat 32 k).toNat = x.toNat + k := by
  rw [BitVec.toNat_add, BitVec.toNat_ofNat]; omega

theorem slt_iff {x y : BitVec 32} (hx : x.toNat < 2 ^ 31) (hy : y.toNat < 2 ^ 31) :
    Scalar.cmpi .slt x y = 1#1 ↔ x.toNat < y.toNat := by
  rw [Scalar.cmpi, cmpi_slt_eq, ofBool_decide_eq_one_iff, toInt_small hx, toInt_small hy]; omega

theorem sgt_iff {x y : BitVec 32} (hx : x.toNat < 2 ^ 31) (hy : y.toNat < 2 ^ 31) :
    Scalar.cmpi .sgt x y = 1#1 ↔ y.toNat < x.toNat := by
  rw [Scalar.cmpi, cmpi_sgt_eq, ofBool_decide_eq_one_iff, toInt_small hx, toInt_small hy]; omega

section

variable {blk loc : BitVec 32} {n0 base lane0 : ℕ} (hP : Part blk loc n0 base lane0)
include hP

theorem slotOff_eq {X : IVec S51920 32} {e0 e1 : BitVec 32} (h0 : e0.toNat ≤ 51904) (h1 : e1.toNat ≤ 51904) (k : Fin 16)
    (hl : low X (e0.toNat + k.val) < 2048) :
    slotOff loc e0 e1 (wordAt X (e0.toNat + k.val)) k = ![base + slotRow X e0.toNat e1.toNat k.val, 0] := by
  have hk := k.isLt
  have hb := hP.base_le
  have hr := hP.row
  have ha : (e0 + BitVec.ofNat 32 k.val).toNat = e0.toNat + k.val := add_small (by omega) (by omega)
  have hc := slt_iff (x := e0 + BitVec.ofNat 32 k.val) (y := e1) (by omega) (by omega)
  unfold slotOff
  congr 1
  unfold low at hl
  unfold slotRow low Scalar.select
  by_cases h : e0.toNat + k.val < e1.toNat
  · rw [if_pos (show Scalar.cmpi .slt (Scalar.addi e0 (BitVec.ofNat 32 k.val)) e1 = 1 from hc.2 (by omega)), if_pos h]
    show (row0 loc + (wordAt X (e0.toNat + k.val) &&& 65535#32)).toNat = _
    rw [BitVec.toNat_add]
    omega
  · rw [if_neg (show ¬Scalar.cmpi .slt (Scalar.addi e0 (BitVec.ofNat 32 k.val)) e1 = 1 from
      fun h' => h (by have := hc.1 h'; omega)), if_neg h]
    show (row0 loc + 2048#32).toNat = _
    rw [BitVec.toNat_add, hr, show (2048#32 : BitVec 32).toNat = 2048 from rfl]
    omega

theorem restOff_eq {X : IVec S51920 32} {j : ℕ} (hl : low X j < 2048) :
    restOff loc (wordAt X j) = ![base + low X j, 0] := by
  have hb := hP.base_le
  have hr := hP.row
  unfold restOff low
  unfold low at hl
  congr 1
  show (row0 loc + (wordAt X j &&& 65535#32)).toNat = _
  rw [BitVec.toNat_add]
  omega

end

theorem rowInb {o : Fin 2 → ℕ} {r : ℕ} (ho : o = ![r, 0]) (hr : r < 8224) : RowInb o := by
  subst ho
  intro a
  match a with
  | ⟨0, _⟩ => show r + 1 ≤ 8224; omega
  | ⟨1, _⟩ => show 0 + 128 ≤ 128; omega

theorem slotRow_lt {X : IVec S51920 32} {e0 e1 k : ℕ} (h : low X (e0 + k) < 2048) : slotRow X e0 e1 k < 2056 := by
  unfold slotRow; split <;> omega

/-! ## The loops over the remaining entries -/

theorem divsi_one (x : BitVec 32) : Scalar.divsi x 1#32 = x := by
  unfold Scalar.divsi IntOp.divsi
  rw [if_neg]
  · exact BitVec.sdiv_one
  · rintro (h | ⟨-, h⟩) <;> revert h <;> decide

theorem sub_small {x y : BitVec 32} (hx : x.toNat ≤ 51904) (hy : y.toNat ≤ 51904) :
    (y - x).toInt = (y.toNat : ℤ) - x.toNat := by
  rw [BitVec.toInt_sub, toInt_small (by omega), toInt_small (by omega)]
  exact Int.bmod_eq_of_le (by omega) (by omega)

/-- The bounds of the loop over the entries past the sixteenth. -/
theorem loopA_ub {e0 e1 : BitVec 32} : (loopA e0 e1).ub = e1 := by
  simp only [loopA, divsi_one]
  simp only [Scalar.addi, Scalar.muli, Scalar.subi, IntOp.addi, IntOp.subi, IntOp.muli]
  rw [BitVec.mul_one, BitVec.add_comm, BitVec.sub_add_cancel]

theorem loopB_bounds {e0 e1 : BitVec 32} : (loopB e0 e1).lb = e1 ∧ (loopB e0 e1).ub = e1 := by
  refine ⟨loopA_ub (e0 := e0), ?_⟩
  simp only [loopB]
  simp only [Scalar.addi, Scalar.subi, IntOp.addi, IntOp.subi]
  rw [BitVec.add_comm, BitVec.sub_add_cancel]

theorem trips_one {lb ub : BitVec 32} (hl : lb.toNat < 2 ^ 30) (hu : ub.toNat < 2 ^ 30) :
    Scf.trips lb ub 1#32 = ub.toNat - lb.toNat := by
  unfold Scf.trips
  rw [toInt_small (x := lb) (by omega), toInt_small (x := ub) (by omega), show (1#32 : BitVec 32).toInt = 1 from rfl]
  omega

theorem ok_one {lb ub : BitVec 32} (hl : lb.toNat < 2 ^ 30) (hu : ub.toNat < 2 ^ 30) : Scf.OK lb ub 1#32 := by
  refine ⟨by decide, ?_⟩
  rw [trips_one hl hu, toInt_small (x := lb) (by omega), show (1#32 : BitVec 32).toInt = 1 from rfl]
  norm_num
  omega

theorem iv_toNat {lb : BitVec 32} {k : ℕ} (h : lb.toNat + k < 2 ^ 32) : (Scf.iv lb 1#32 k).toNat = lb.toNat + k := by
  unfold Scf.iv
  rw [BitVec.mul_one]
  exact add_small h (by omega)

theorem lb_toNat {e0 : BitVec 32} (h : e0.toNat ≤ 51904) (e1 : BitVec 32) : (loopA e0 e1).lb.toNat = e0.toNat + 16 := by
  show (e0 + 16#32).toNat = _
  exact add_small (k := 16) (by omega) (by omega)

theorem tripsA {e0 e1 : BitVec 32} (h0 : e0.toNat ≤ 51904) (h1 : e1.toNat ≤ 51904) :
    (loopA e0 e1).trips = e1.toNat - (e0.toNat + 16) := by
  have hl := lb_toNat h0 e1
  show Scf.trips (loopA e0 e1).lb (loopA e0 e1).ub 1#32 = _
  rw [loopA_ub, trips_one (by omega) (by omega), hl]

theorem tripsB {e0 e1 : BitVec 32} (h1 : e1.toNat ≤ 51904) : (loopB e0 e1).trips = 0 := by
  show Scf.trips (loopB e0 e1).lb (loopB e0 e1).ub 1#32 = _
  rw [loopB_bounds.1, loopB_bounds.2, trips_one (by omega) (by omega)]; omega

theorem okA {e0 e1 : BitVec 32} (h0 : e0.toNat ≤ 51904) (h1 : e1.toNat ≤ 51904) : (loopA e0 e1).OK := by
  have hl := lb_toNat h0 e1
  show Scf.OK (loopA e0 e1).lb (loopA e0 e1).ub 1#32
  rw [loopA_ub]; exact ok_one (by omega) (by omega)

theorem okB {e0 e1 : BitVec 32} (h1 : e1.toNat ≤ 51904) : (loopB e0 e1).OK := by
  show Scf.OK (loopB e0 e1).lb (loopB e0 e1).ub 1#32
  rw [loopB_bounds.1, loopB_bounds.2]; exact ok_one (by omega) (by omega)

theorem ivOffA {e0 e1 : BitVec 32} (h0 : e0.toNat ≤ 51904) (h1 : e1.toNat ≤ 51904) {t : ℕ}
    (ht : t < (loopA e0 e1).trips) : ivOff (loopA e0 e1) t = ![e0.toNat + 16 + t] := by
  rw [tripsA h0 h1] at ht
  have hl := lb_toNat h0 e1
  unfold ivOff
  congr 1
  show (Scf.iv (loopA e0 e1).lb 1#32 t).toNat = _
  rw [iv_toNat (by omega), hl]

/-- The side conditions of the loops hold. -/
theorem rest_checks {e0 e1 : BitVec 32} (h0 : e0.toNat ≤ 51904) (h1 : e1.toNat ≤ 51904) :
    (loopA e0 e1).OK ∧
    (∀ t : Fin (loopA e0 e1).trips, ∀ a, ivOff (loopA e0 e1) t a + S1.size a ≤ S51920.size a) ∧
    (loopB e0 e1).OK ∧
    (∀ t : Fin (loopB e0 e1).trips, ∀ a, ivOff (loopB e0 e1) t a + S1.size a ≤ S51920.size a) := by
  refine ⟨okA h0 h1, fun t a => ?_, okB h1, fun t => absurd t.isLt (by have := tripsB (e0 := e0) h1; omega)⟩
  have ht := t.isLt
  rw [ivOffA h0 h1 ht]
  have hA := tripsA h0 h1
  match a with
  | ⟨0, _⟩ => show e0.toNat + 16 + t.val + 1 ≤ 51920; omega

theorem tripsC : loopC.trips = 32 := by decide +kernel
theorem tripsF : loopF.trips = 16 := by decide +kernel

theorem iv_zero (t : ℕ) : Scf.iv 0#32 1#32 t = BitVec.ofNat 32 t := by
  unfold Scf.iv; rw [BitVec.mul_one, BitVec.zero_add]

/-! ## The parts of a block -/

theorem part_row : ∀ m : Fin 16, (row0 (BitVec.ofNat 32 m.val * 32#32)).toNat = 2056 * (m.val / 4) := by decide +kernel

theorem part_lane : ∀ (m : Fin 16) (c : Fin 32),
    Scalar.subi (Scalar.addi (BitVec.ofNat 32 m.val * 32#32) (BitVec.ofNat 32 c.val))
      (Scalar.muli (group (BitVec.ofNat 32 m.val * 32#32)) 128#32) = BitVec.ofNat 32 (32 * (m.val % 4) + c.val) := by
  decide +kernel

/-- Part `m` of block `n`. -/
theorem part_ok {n m : ℕ} (hn : n < 11) (hm : m < 16) :
    Part (BitVec.ofNat 32 (512 * n)) (BitVec.ofNat 32 m * 32#32) (512 * n + 32 * m) (2056 * (m / 4)) (32 * (m % 4)) where
  row := part_row ⟨m, hm⟩
  base_le := by omega
  hit c hc x := by
    have hx : (x 1).val < 128 := (x 1).isLt
    have hl := part_lane ⟨m, hm⟩ ⟨c, hc⟩
    simp only at hl
    unfold hits
    rw [hl]
    show BitVec.ofBool (BitVec.ofNat 32 (0 * S1x128.size 1 + (x 1).val) == BitVec.ofNat 32 _) = 1#1 ↔ _
    rw [ofBool_eq_one_iff, beq_iff_eq, Nat.zero_mul, Nat.zero_add, ofNat_eq_ofNat_iff (by omega) (by omega)]
  ptr c hc := by
    unfold ptrOff
    congr 1
    simp only [Scalar.indexCast, Scalar.addi, IntOp.addi, BitVec.toNat_add, BitVec.toNat_mul, BitVec.toNat_ofNat]
    omega
  ptr1 c hc := by
    unfold ptrOff1
    congr 1
    simp only [Scalar.indexCast, Scalar.addi, IntOp.addi, BitVec.toNat_add, BitVec.toNat_mul, BitVec.toNat_ofNat]
    omega
  n0_le := by omega

end Sparse
-- ==== Proof.Triples.lean ====
module

public import proofs.«01_k».proof.Proof.Rules
public import proofs.«01_k».proof.Proof.Model
public import Idealize.ShloMosaic.Lib.Pipeline.Value

@[expose] public section

/-!
# What each piece of the body does to the buffers it owns

The two tables are only read; the plane goes through the functions of `Model`.
-/

noncomputable section

namespace Sparse

open Idealize.ShloMosaic Idealize.ShloMosaic.TcCoe
open Idealize.ShloMosaic.ValueIdx (ix1 ix2 eq_ix1 eq_ix2)
open Idealize.SL Idealize.SL.RA Idealize.SL.Sem
open scoped Idealize.SL.BI
open Idealize.SL.BI (sProp)
open Idealize.SL.BI.BIBase Idealize.SL.BI.Laws Idealize.SL.ProofMode

variable {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (𝒱 : Variants) (c : Dev nD) (bd : Option 𝒱.V) (E : Set Name)
variable (ptr : Memref sig .tc .smem S5633 .i32) (ent : Memref sig .tc .smem S51920 .i32)
  (plane : Memref sig .tc .vmem S8224x128 .i32)
variable {R : IVec S5633 32} {X : IVec S51920 32}

/-- A word of a table, read at a one-word rectangle. -/
theorem word_emb {n k : ℕ} (x : IVec ⟨1, ![n]⟩ 32) {o : Fin 1 → ℕ} (ho : o = ![k])
    (h : ∀ a, o a + S1.size a ≤ (⟨1, ![n]⟩ : Shape).size a) (j) :
    x ((Rect.unit (s := ⟨1, ![n]⟩) o S1.size h).emb j) = wordAt x k := by
  subst ho
  have hk : k < n := h 0
  unfold wordAt
  rw [dif_pos hk]
  congr 1
  funext a
  match a with
  | ⟨0, _⟩ =>
    apply Fin.ext
    have hj : (j 0).val < 1 := (j 0).isLt
    show k + 1 * (j 0).val = k
    omega

theorem put_triple (v : IVec S1x128 1) (w : BitVec 32) (o : Fin 2 → ℕ) (h : RowInb o) {row lane : ℕ} (ho : o = ![row, 0])
    (hv : ∀ x, v x = 1#1 ↔ (x 1).val = lane) {P : IVec S8224x128 32} {Φ : PUnit → sProp 𝕄} :
    (owns (c : Thread nD τ) plane fullShare P : sProp 𝕄)
      ⊢ iprop((owns (c : Thread nD τ) plane fullShare (putAt row lane w P) -∗ Φ ⟨⟩)
        -∗ wp frame (wpE defs 𝒱 (c : Thread nD τ) bd) E (put (F := F) (nD := nD) (τ := τ) (Λ := Λ) plane v w o h) Φ) := by
  subst ho
  unfold put
  rw [wp_bind]
  iintro H K
  iapply (load_rule 𝒱 c bd E plane _ _) $$ H
  iintro H
  have e0 : ∀ j, ((Rect.unit (s := S8224x128) ![row, 0] S1x128.size h).emb j 0).val = row := fun j => by
    have hj : (j 0).val < 1 := (j 0).isLt
    show row + 1 * (j 0).val = row; omega
  have e1 : ∀ j, ((Rect.unit (s := S8224x128) ![row, 0] S1x128.size h).emb j 1).val = (j 1).val := fun j => by
    show 0 + 1 * (j 1).val = _; omega
  iapply (store_rule 𝒱 c bd E plane _ _ _ _ _ (y := putAt row lane w P) (by
    intro j hj
    have hj' : (j 1).val = lane := (hv j).1 (by
      have := (Finset.mem_filter.1 hj).2
      rwa [shapeCast_self] at this)
    unfold putAt
    rw [if_pos ⟨e0 j, (e1 j).trans hj'⟩]
    rfl) (by
    intro i hi
    unfold putAt
    rw [if_neg]
    rintro ⟨h0, h1⟩
    refine hi (ix2 0 (i 1)) ?_ ?_
    · refine Finset.mem_filter.2 ⟨Finset.mem_univ _, ?_⟩
      rw [shapeCast_self]
      exact (hv _).2 h1
    · funext a
      match a with
      | ⟨0, _⟩ => exact Fin.ext ((e0 _).trans h0.symm)
      | ⟨1, _⟩ => exact Fin.ext (e1 _))) $$ H
  iexact K

section Part

variable {blk loc : BitVec 32} {n0 base lane0 : ℕ} (hP : Part blk loc n0 base lane0) (hG : Good R X)
include hP hG

theorem place_triple (C : Checks loc) {q : PosShare TreeShare} {ch : ℕ} (hch : ch < 32) (e0 e1 : BitVec 32)
    (h0 : e0.toNat ≤ 51904) (h1 : e1.toNat ≤ 51904) (he : C.E e0) (k : Fin 16) {P : IVec S8224x128 32}
    {Φ : PUnit → sProp 𝕄} :
    iprop(owns (c : Thread nD τ) ent q X ∗ owns (c : Thread nD τ) plane fullShare P : sProp 𝕄)
      ⊢ iprop((owns (c : Thread nD τ) ent q X ∗ owns (c : Thread nD τ) plane fullShare
            (putAt (base + slotRow X e0.toNat e1.toNat k.val) (lane0 + ch) (wordAt X (e0.toNat + k.val)) P) -∗ Φ ⟨⟩)
        -∗ wp frame (wpE defs 𝒱 (c : Thread nD τ) bd) E
          (place (F := F) (nD := nD) (τ := τ) (Λ := Λ) ent plane C (hits loc (BitVec.ofNat 32 ch)) e0 e1 he k) Φ) := by
  have hk := k.isLt
  have hl : low X (e0.toNat + k.val) < 2048 := hG.low_lt _ (by omega)
  have hs := slotRow_lt (e1 := e1.toNat) hl
  have hb := hP.base_le
  unfold place
  rw [wp_bind]
  iintro ⟨HX, HP⟩ K
  iapply (smem_rule 𝒱 c bd E ent _ _ _ (v := wordAt X (e0.toNat + k.val)) (word_emb X (entOff_eq h0 k) _)) $$ HX
  iintro HX
  rw [wp_bind]
  iapply (assume_rule 𝒱 c bd E _ ((C.iffR e0 e1 _ k).2 (rowInb (slotOff_eq hP h0 h1 k hl) (by omega))))
  iapply (put_triple 𝒱 c bd E plane _ _ _ _ (slotOff_eq hP h0 h1 k hl) (hP.hit ch hch)) $$ HP
  iintro HP
  iapply K
  isplitl [HX] <;> iassumption

theorem places_triple (C : Checks loc) {q : PosShare TreeShare} {ch : ℕ} (hch : ch < 32) (e0 e1 : BitVec 32)
    (h0 : e0.toNat ≤ 51904) (h1 : e1.toNat ≤ 51904) (he : C.E e0) {Φ : PUnit → sProp 𝕄} :
    ∀ (ks : List (Fin 16)) (P : IVec S8224x128 32),
    iprop(owns (c : Thread nD τ) ent q X ∗ owns (c : Thread nD τ) plane fullShare P : sProp 𝕄)
      ⊢ iprop((owns (c : Thread nD τ) ent q X ∗ owns (c : Thread nD τ) plane fullShare
            (placesFn X base (lane0 + ch) e0.toNat e1.toNat ks P) -∗ Φ ⟨⟩)
        -∗ wp frame (wpE defs 𝒱 (c : Thread nD τ) bd) E
          (places (F := F) (nD := nD) (τ := τ) (Λ := Λ) ent plane C (hits loc (BitVec.ofNat 32 ch)) e0 e1 he ks) Φ)
  | [], P => by
    iintro H K
    unfold places
    iapply (le_wp_ret)
    iapply K
    iexact H
  | k :: ks, P => by
    iintro H K
    unfold places
    rw [wp_bind]
    iapply (place_triple 𝒱 c bd E ent plane hP hG C hch e0 e1 h0 h1 he k) $$ H
    iintro H
    iapply (places_triple C hch e0 e1 h0 h1 he ks _) $$ H
    iexact K

theorem rp_toNat (n : ℕ) : (wordAt R n).toNat = rp R n := rfl

theorem channels_triple (C : Checks loc) {q q' : PosShare TreeShare} (hp : PtrInb blk loc) {Φ : BitVec 32 → sProp 𝕄} :
    ∀ (cs : List (Fin 32)) (P : IVec S8224x128 32) (longest : BitVec 32),
    iprop(owns (c : Thread nD τ) ptr q' R ∗ owns (c : Thread nD τ) ent q X ∗ owns (c : Thread nD τ) plane fullShare P : sProp 𝕄)
      ⊢ iprop((∀ l : BitVec 32, ⌜longest.toInt ≤ l.toInt ∧ ∀ ch ∈ cs,
            (rp R (n0 + ch.val + 1) : ℤ) - rp R (n0 + ch.val) ≤ l.toInt⌝ -∗
          (owns (c : Thread nD τ) ptr q' R ∗ owns (c : Thread nD τ) ent q X ∗ owns (c : Thread nD τ) plane fullShare
            (channelsFn R X n0 base lane0 cs P)) -∗ Φ l)
        -∗ wp frame (wpE defs 𝒱 (c : Thread nD τ) bd) E
          (channels (F := F) (nD := nD) (τ := τ) (Λ := Λ) ptr ent plane C blk hp cs longest) Φ)
  | [], P, longest => by
    iintro H K
    unfold channels
    iapply (le_wp_ret)
    iapply K $$ %longest
    · ipureintro; exact ⟨le_rfl, fun _ h => absurd h List.not_mem_nil⟩
    · iexact H
  | ch :: cs, P, longest => by
    have hc := ch.isLt
    have hn := hP.n0_le
    have hle0 := hG.le (n0 + ch.val) (by omega)
    have hle1 := hG.le (n0 + ch.val + 1) (by omega)
    iintro ⟨HR, HX, HP⟩ K
    unfold channels
    rw [wp_bind]
    iapply (smem_rule 𝒱 c bd E ptr _ _ _ (v := wordAt R (n0 + ch.val)) (word_emb R (hP.ptr ch.val hc) _)) $$ HR
    iintro HR
    rw [wp_bind]
    iapply (assume_rule 𝒱 c bd E _ ((C.iffE _).2 fun k => entInb hle0 k))
    rw [wp_bind]
    iapply (smem_rule 𝒱 c bd E ptr _ _ _ (v := wordAt R (n0 + ch.val + 1)) (word_emb R (hP.ptr1 ch.val hc) _)) $$ HR
    iintro HR
    rw [wp_bind]
    iapply (places_triple 𝒱 c bd E ent plane hP hG C hc _ _ hle0 hle1 _ slots P) $$ [HX HP]
    · isplitl [HX] <;> iassumption
    iintro ⟨HX, HP⟩
    iapply (channels_triple C hp cs _ _) $$ [HR HX HP]
    · isplitl [HR]; · iexact HR
      isplitl [HX] <;> iassumption
    iintro %l %hl H
    iapply K $$ %l
    · ipureintro
      have hd : (Scalar.subi (wordAt R (n0 + ch.val + 1)) (wordAt R (n0 + ch.val))).toInt
          = (rp R (n0 + ch.val + 1) : ℤ) - rp R (n0 + ch.val) := by
        exact sub_small hle0 hle1
      have hm : longest.toInt ≤ (Scalar.maxsi longest (Scalar.subi (wordAt R (n0 + ch.val + 1)) (wordAt R (n0 + ch.val)))).toInt
          ∧ (Scalar.subi (wordAt R (n0 + ch.val + 1)) (wordAt R (n0 + ch.val))).toInt
            ≤ (Scalar.maxsi longest (Scalar.subi (wordAt R (n0 + ch.val + 1)) (wordAt R (n0 + ch.val)))).toInt := by
        unfold Scalar.maxsi IntOp.maxsi
        split
        · rename_i h
          simp only [BitVec.slt, decide_eq_true_eq] at h
          exact ⟨le_rfl, h.le⟩
        · rename_i h
          simp only [BitVec.slt, decide_eq_true_eq] at h
          exact ⟨by omega, le_rfl⟩
      refine ⟨hm.1.trans hl.1, fun x hx => ?_⟩
      rcases List.mem_cons.1 hx with rfl | hx
      · rw [← hd]; exact hm.2.trans hl.1
      · exact hl.2 x hx
    · iexact H

/-- One entry past the sixteenth. -/
theorem restBody_triple (D : RestChecks loc) {q : PosShare TreeShare} {ch : ℕ} (hch : ch < 32) {j : ℕ} (hj : j < 51920)
    (o : Fin 1 → ℕ) (ho : o = ![j]) (hi : ∀ a, o a + S1.size a ≤ S51920.size a) {P : IVec S8224x128 32}
    {Φ : BitVec 32 → sProp 𝕄} :
    iprop(owns (c : Thread nD τ) ent q X ∗ owns (c : Thread nD τ) plane fullShare P : sProp 𝕄)
      ⊢ iprop((owns (c : Thread nD τ) ent q X ∗ owns (c : Thread nD τ) plane fullShare
            (putAt (base + low X j) (lane0 + ch) (wordAt X j) P) -∗ Φ 0#32)
        -∗ wp frame (wpE defs 𝒱 (c : Thread nD τ) bd) E
          (do
            let w : Elt F .i32 ← smemLoad (nD := nD) (τ := τ) (Λ := Λ) ent (Rect.unit (s := S51920) o S1.size hi) numel1_S1 rfl
            have h : D.R w := (← Prog.lift (TpuEff.assume (D.R w) (D.decR w))).down
            put plane (hits loc (BitVec.ofNat 32 ch)) w (restOff loc w) ((D.iffR w).1 h)
            pure 0#32) Φ) := by
  have hl : low X j < 2048 := hG.low_lt _ hj
  have hb := hP.base_le
  rw [wp_bind]
  iintro ⟨HX, HP⟩ K
  iapply (smem_rule 𝒱 c bd E ent _ _ _ (v := wordAt X j) (word_emb X ho _)) $$ HX
  iintro HX
  rw [wp_bind]
  iapply (assume_rule 𝒱 c bd E _ ((D.iffR _).2 (rowInb (restOff_eq hP hl) (by omega))))
  rw [wp_bind]
  iapply (put_triple 𝒱 c bd E plane _ _ _ _ (restOff_eq hP hl) (hP.hit ch hch)) $$ HP
  iintro HP
  iapply (le_wp_ret)
  iapply K
  isplitl [HX] <;> iassumption

theorem rest_triple (D : RestChecks loc) {q q' : PosShare TreeShare} (hok : loopC.OK)
    (hp : ∀ t : Fin loopC.trips, (∀ a, ptrOff blk loc (Scf.iv 0#32 1#32 t) a + S1.size a ≤ S5633.size a) ∧
      ∀ a, ptrOff1 blk loc (Scf.iv 0#32 1#32 t) a + S1.size a ≤ S5633.size a) {P : IVec S8224x128 32}
    {Φ : PUnit → sProp 𝕄} :
    iprop(owns (c : Thread nD τ) ptr q' R ∗ owns (c : Thread nD τ) ent q X ∗ owns (c : Thread nD τ) plane fullShare P : sProp 𝕄)
      ⊢ iprop((owns (c : Thread nD τ) ptr q' R ∗ owns (c : Thread nD τ) ent q X ∗ owns (c : Thread nD τ) plane fullShare
            (restFn R X n0 base lane0 32 P) -∗ Φ ⟨⟩)
        -∗ wp frame (wpE defs 𝒱 (c : Thread nD τ) bd) E
          (rest (F := F) (nD := nD) (τ := τ) (Λ := Λ) ptr ent plane blk hok hp D) Φ) := by
  iintro H K
  unfold rest
  iapply (Scf.wp_for frame (wpE defs 𝒱 (c : Thread nD τ) bd) E _ _ _ hok _ _
    (fun n _ => iprop(owns (c : Thread nD τ) ptr q' R ∗ owns (c : Thread nD τ) ent q X ∗ owns (c : Thread nD τ) plane fullShare
            (restFn R X n0 base lane0 n P))) ?_)
  · intro t _
    have ht : t.val < 32 := by have h := t.isLt; have h' : Scf.trips loopC.lb loopC.ub loopC.st = 32 := tripsC; omega
    have hn := hP.n0_le
    have hle0 := hG.le (n0 + t.val) (by omega)
    have hle1 := hG.le (n0 + t.val + 1) (by omega)
    iintro ⟨HR, HX, HP⟩
    rw [wp_bind]
    iapply (smem_rule 𝒱 c bd E ptr _ _ _ (v := wordAt R (n0 + t.val))
      (word_emb R ((congrArg _ (iv_zero _)).trans (hP.ptr t.val ht)) _)) $$ HR
    iintro HR
    rw [wp_bind]
    iapply (smem_rule 𝒱 c bd E ptr _ _ _ (v := wordAt R (n0 + t.val + 1))
      (word_emb R ((congrArg _ (iv_zero _)).trans (hP.ptr1 t.val ht)) _)) $$ HR
    iintro HR
    rw [wp_bind]
    iapply (assume_rule 𝒱 c bd E _ ((D.iffL _ _).2 (rest_checks hle0 hle1)))
    rw [wp_bind]
    iapply (Scf.wp_for frame (wpE defs 𝒱 (c : Thread nD τ) bd) E _ _ _ _ _ _
      (fun n _ => iprop(owns (c : Thread nD τ) ent q X ∗ owns (c : Thread nD τ) plane fullShare
            (restOne X base (lane0 + t.val) (rp R (n0 + t.val)) n (restFn R X n0 base lane0 t.val P)))) ?_)
    · intro u _
      have hu := u.isLt
      have huA : Scf.trips (loopA (wordAt R (n0 + t.val)) (wordAt R (n0 + t.val + 1))).lb
          (loopA (wordAt R (n0 + t.val)) (wordAt R (n0 + t.val + 1))).ub
          (loopA (wordAt R (n0 + t.val)) (wordAt R (n0 + t.val + 1))).st = _ := tripsA hle0 hle1
      unfold rp at hle0 hle1
      iintro H
      rw [iv_zero]
      iapply (restBody_triple 𝒱 c bd E ent plane hP hG D ht (j := (wordAt R (n0 + t.val)).toNat + 16 + u.val)
        (by omega) _ (ivOffA hle0 hle1 hu) _) $$ H
      iintro H
      unfold restOne
      rw [List.range_succ, List.foldl_append]
      iexact H
    · isplitl [HX HP]
      · isplitl [HX]
        · iexact HX
        · iexact HP
      iintro %r ⟨HX, HP⟩
      rw [wp_bind]
      iapply (Scf.wp_for frame (wpE defs 𝒱 (c : Thread nD τ) bd) E _ _ _ _ _ _
        (fun n _ => iprop(owns (c : Thread nD τ) ent q X ∗ owns (c : Thread nD τ) plane fullShare
            (restFn R X n0 base lane0 (t.val + 1) P))) ?_)
      · intro u _
        exact absurd u.isLt (by
          have : Scf.trips (loopB (wordAt R (n0 + t.val)) (wordAt R (n0 + t.val + 1))).lb
            (loopB (wordAt R (n0 + t.val)) (wordAt R (n0 + t.val + 1))).ub
            (loopB (wordAt R (n0 + t.val)) (wordAt R (n0 + t.val + 1))).st = 0 := tripsB hle1
          omega)
      · isplitl [HX HP]
        · isplitl [HX]
          · iexact HX
          · have hA := tripsA (e0 := wordAt R (n0 + t.val)) (e1 := wordAt R (n0 + t.val + 1)) hle0 hle1
            unfold restFn
            rw [List.range_succ, List.foldl_append]
            have hA' : Scf.trips (loopA (wordAt R (n0 + t.val)) (wordAt R (n0 + t.val + 1))).lb
                (loopA (wordAt R (n0 + t.val)) (wordAt R (n0 + t.val + 1))).ub 1#32
                  = rp R (n0 + t.val + 1) - (rp R (n0 + t.val) + 16) := hA
            rw [hA']
            iexact HP
        iintro %r ⟨HX, HP⟩
        iapply (le_wp_ret)
        isplitl [HR]; · iexact HR
        isplitl [HX] <;> iassumption
  · isplitl [H]
    · iexact H
    iintro %r H
    iapply K
    rw [show Scf.trips loopC.lb loopC.ub loopC.st = 32 from tripsC]
    iexact H

end Part

end Sparse
-- ==== Proof.Body.lean ====
module

public import proofs.«01_k».proof.Proof.Triples

@[expose] public section

/-!
# What one grid point does

`Point` collects the buffers a point owns. Its four scratch buffers go through `first` (the first
point only), `hand` (the first part of each block) and `next` (always).
-/

noncomputable section

namespace Sparse

open Idealize.ShloMosaic Idealize.ShloMosaic.TcCoe
open Idealize.ShloMosaic.ValueIdx (ix1 ix2 eq_ix1 eq_ix2)
open Idealize.ShloMosaic.WordCmp
open Idealize.SL Idealize.SL.RA Idealize.SL.Sem
open scoped Idealize.SL.BI
open Idealize.SL.BI (sProp)
open Idealize.SL.BI.BIBase Idealize.SL.BI.Laws Idealize.SL.ProofMode

/-! ## The functions -/

/-- A weight buffer with part `m` replaced by the tile `T`. -/
def tileAt (m : ℕ) (T : IVec S64x512 32) (W : IVec S1024x512 32) : IVec S1024x512 32 :=
  fun i => if (i 0).val / 64 = m then T (ix2 ⟨(i 0).val % 64, Nat.mod_lt _ (by decide)⟩ (i 1)) else W i

/-- Part `m` of a block of codes. -/
def tileOf (C : IVec S1024x512 8) (m : ℕ) : IVec S64x512 8 :=
  fun j => C (ix2 ⟨(64 * m + (j 0).val) % 1024, Nat.mod_lt _ (by decide)⟩ (j 1))

/-- A part of block `n` in the plane. -/
def blockPart (R : IVec S5633 32) (X : IVec S51920 32) (n m : ℕ) (P : IVec S8224x128 32) : IVec S8224x128 32 :=
  partFn R X (512 * n + 32 * m) (2056 * (m / 4)) (32 * (m % 4)) P

/-- The first `k` parts of block 0, decoded. -/
def firstW (T : IVec S8x512 32) (C : IVec S1024x512 8) (k : ℕ) (W : IVec S1024x512 32) : IVec S1024x512 32 :=
  (List.range k).foldl (fun W m => tileAt m (decode T (extui 32 (tileOf C m) (by decide))) W) W

/-- The first `k` parts of block 0 in the plane. -/
def firstP (R : IVec S5633 32) (X : IVec S51920 32) (k : ℕ) (P : IVec S8224x128 32) : IVec S8224x128 32 :=
  (List.range k).foldl (fun P m => blockPart R X 0 m P) P

theorem firstW_succ (T : IVec S8x512 32) (C : IVec S1024x512 8) (k : ℕ) (W : IVec S1024x512 32) :
    firstW T C (k + 1) W = tileAt k (decode T (extui 32 (tileOf C k) (by decide))) (firstW T C k W) := by
  unfold firstW; rw [List.range_succ, List.foldl_append, List.foldl_cons, List.foldl_nil]

theorem firstP_succ (R : IVec S5633 32) (X : IVec S51920 32) (k : ℕ) (P : IVec S8224x128 32) :
    firstP R X (k + 1) P = blockPart R X 0 k (firstP R X k P) := by
  unfold firstP; rw [List.range_succ, List.foldl_append, List.foldl_cons, List.foldl_nil]

/-- Two values in one word. -/
def pairWord (a b : BitVec 32) : BitVec 32 := IntOp.ori (IntOp.shrui .vector a 16#32) b

theorem plane_lt {g r k : ℕ} (hg : g < 4) (hr : r < 1024) (hk : k < 2) : 2056 * g + 1024 * k + r < 8224 := by omega

/-- The packed block the plane holds: row `r` of column `128 g + l` pairs plane rows `r` and `1024 + r` of group `g`. -/
def packFn (P : IVec S8224x128 32) : IVec S1024x512 32 := fun i =>
  have h : (i 1).val < 512 := (i 1).isLt
  pairWord
    (P (ix2 ⟨2056 * ((i 1).val / 128) + 1024 * 0 + (i 0).val, plane_lt (by omega) (i 0).isLt (by decide)⟩
      ⟨(i 1).val % 128, Nat.mod_lt _ (by decide)⟩))
    (P (ix2 ⟨2056 * ((i 1).val / 128) + 1024 * 1 + (i 0).val, plane_lt (by omega) (i 0).isLt (by decide)⟩
      ⟨(i 1).val % 128, Nat.mod_lt _ (by decide)⟩))

/-- Column group `g` of a packed block. -/
def packAt (g : ℕ) (P : IVec S8224x128 32) (S : IVec S1024x512 32) : IVec S1024x512 32 :=
  fun i => if (i 1).val / 128 = g then packFn P i else S i

theorem pack_all (P : IVec S8224x128 32) (S : IVec S1024x512 32) :
    packAt 3 P (packAt 2 P (packAt 1 P (packAt 0 P S))) = packFn P := by
  funext i
  have h : (i 1).val < 512 := (i 1).isLt
  unfold packAt
  by_cases h3 : (i 1).val / 128 = 3
  · rw [if_pos h3]
  by_cases h2 : (i 1).val / 128 = 2
  · rw [if_neg h3, if_pos h2]
  by_cases h1 : (i 1).val / 128 = 1
  · rw [if_neg h3, if_neg h2, if_pos h1]
  · rw [if_neg h3, if_neg h2, if_neg h1, if_pos (by omega)]

theorem tileOff_eq {m : ℕ} (hm : m < 16) : tileOff (BitVec.ofNat 32 m) = ![64 * m, 0] := by
  unfold tileOff
  congr 1
  simp only [Scalar.indexCast, Scalar.muli, IntOp.muli, BitVec.toNat_mul, BitVec.toNat_ofNat]
  omega

theorem over_iff (l : BitVec 32) : over l = 1#1 ↔ 16 < l.toInt := by
  have h : Scalar.cmpi .sgt l 16#32 = 1#1 ↔ 16 < l.toInt := by
    rw [Scalar.cmpi, cmpi_sgt_eq, ofBool_decide_eq_one_iff]; rfl
  rw [← h]
  unfold over
  rcases BitVec.eq_zero_or_eq_one (Scalar.cmpi .sgt l 16#32) with e | e <;> rw [e] <;> decide

/-- Nothing is left of channels with at most sixteen entries. -/
theorem restFn_id (R : IVec S5633 32) (X : IVec S51920 32) (n0 base lane0 : ℕ) (P : IVec S8224x128 32) :
    ∀ n, (∀ c < n, rp R (n0 + c + 1) - rp R (n0 + c) ≤ 16) → restFn R X n0 base lane0 n P = P
  | 0, _ => rfl
  | n + 1, h => by
    unfold restFn
    rw [List.range_succ, List.foldl_append]
    have ih := restFn_id R X n0 base lane0 P n fun c hc => h c (by omega)
    unfold restFn at ih
    rw [ih]
    have := h n (by omega)
    show restOne X base (lane0 + n) (rp R (n0 + n)) (rp R (n0 + n + 1) - (rp R (n0 + n) + 16)) P = P
    rw [show rp R (n0 + n + 1) - (rp R (n0 + n) + 16) = 0 by omega]
    rfl

variable {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (𝒱 : Variants) (c : Dev nD) (bd : Option 𝒱.V) (E : Set Name)
variable (ptr : Memref sig .tc .smem S5633 .i32) (ent : Memref sig .tc .smem S51920 .i32)
  (codes0 : Memref sig .tc .vmem S1024x512 .i8) (codes : Memref sig .tc .vmem S64x512 .i8)
  (table0 table : Memref sig .tc .vmem S8x512 .i32) (xs : Memref sig .tc .vmem S512x2048 .bf16)
  (y : Memref sig .tc .vmem S512x512 .bf16) (hy : y.IsWhole) (ys : Memref sig .tc .vmem S512x512 .f32)
  (wnext wcur : Memref sig .tc .vmem S1024x512 .i32) (plane : Memref sig .tc .vmem S8224x128 .i32)
  (scur : Memref sig .tc .vmem S1024x512 .i32)
variable {R : IVec S5633 32} {X : IVec S51920 32}

/-! ## Loads and stores of whole buffers -/

theorem emb_zero {s : Shape} (o : Fin s.rank → ℕ) (ho : ∀ a, o a = 0) (h : ∀ a, o a + s.size a ≤ s.size a) (j : s.Idx) :
    (Rect.unit (s := s) o s.size h).emb j = j := by
  funext a
  apply Fin.ext
  show o a + 1 * (j a).val = (j a).val
  rw [ho a]; omega

theorem off00 : ∀ a : Fin 2, (![0, 0] : Fin 2 → ℕ) a = 0 := by decide

/-- A load of a whole rank-2 buffer. -/
theorem load_whole {sp : CoreSpace} {d : Fin 2 → ℕ} {e : EltTy} (M : Memref sig .tc sp ⟨2, d⟩ e)
    (h : ∀ a, (![0, 0] : Fin 2 → ℕ) a + d a ≤ d a) (hl) {q : PosShare TreeShare}
    {x : Vec F ⟨2, d⟩ e} {Φ : Vec F ⟨2, d⟩ e → sProp 𝕄} :
    (owns (c : Thread nD τ) M q x : sProp 𝕄) ⊢ iprop((owns (c : Thread nD τ) M q x -∗ Φ x)
      -∗ wp frame (wpE defs 𝒱 (c : Thread nD τ) bd) E
        (Prog.lift (.load M (Rect.unit (s := ⟨2, d⟩) ![0, 0] d h).toLoadRect hl)) Φ) := by
  iintro H K
  iapply (load_rule 𝒱 c bd E M (Rect.unit (s := ⟨2, d⟩) ![0, 0] d h) hl) $$ H
  iintro H
  have hx : (fun j => x ((Rect.unit (s := ⟨2, d⟩) ![0, 0] d h).emb j)) = x :=
    funext fun j => congrArg x (emb_zero (s := ⟨2, d⟩) _ off00 h j)
  rw [hx]
  iapply K $$ H

/-- A store over a whole rank-2 buffer. -/
theorem store_whole {sp : CoreSpace} {d : Fin 2 → ℕ} {e : EltTy} (M : Memref sig .tc sp ⟨2, d⟩ e)
    (h : ∀ a, (![0, 0] : Fin 2 → ℕ) a + d a ≤ d a) (w : Vec F ⟨2, d⟩ e) (hx) (hm)
    {x : Vec F ⟨2, d⟩ e} {Φ : PUnit → sProp 𝕄} :
    (owns (c : Thread nD τ) M fullShare x : sProp 𝕄) ⊢ iprop((owns (c : Thread nD τ) M fullShare w -∗ Φ ⟨⟩)
      -∗ wp frame (wpE defs 𝒱 (c : Thread nD τ) bd) E
        (Prog.lift (.store M (Rect.unit (s := ⟨2, d⟩) ![0, 0] d h) w Finset.univ hx hm)) Φ) := by
  iintro H K
  iapply (store_rule 𝒱 c bd E M (Rect.unit (s := ⟨2, d⟩) ![0, 0] d h) w Finset.univ hx hm (y := w)
    (fun j _ => congrArg w (emb_zero (s := ⟨2, d⟩) _ off00 h j))
    (fun i hi => absurd (emb_zero (s := ⟨2, d⟩) _ off00 h i) (hi i (Finset.mem_univ _)))) $$ H
  iexact K

/-! ## The pieces -/

theorem clear_triple {P : IVec S8224x128 32} {Φ : PUnit → sProp 𝕄} :
    (owns (c : Thread nD τ) plane fullShare P : sProp 𝕄)
      ⊢ iprop((owns (c : Thread nD τ) plane fullShare (fun _ => 0#32) -∗ Φ ⟨⟩)
        -∗ wp frame (wpE defs 𝒱 (c : Thread nD τ) bd) E (clear (F := F) (nD := nD) (τ := τ) (Λ := Λ) plane) Φ) := by
  unfold clear
  rw [wp_bind]
  iintro H K
  iapply (load_whole 𝒱 c bd E plane inb_plane _) $$ H
  iintro H
  iapply (store_whole 𝒱 c bd E plane inb_plane _ _ _) $$ H
  rw [shapeCast_self]
  iexact K

theorem decodeInto_triple {m : ℕ} (o : Fin 2 → ℕ) (hoff : o = ![64 * m, 0])
    (ho : ∀ a, o a + S64x512.size a ≤ S1024x512.size a) (t : IVec S8x512 32) (cs : IVec S64x512 32)
    {W : IVec S1024x512 32} {Φ : PUnit → sProp 𝕄} :
    (owns (c : Thread nD τ) wnext fullShare W : sProp 𝕄)
      ⊢ iprop((owns (c : Thread nD τ) wnext fullShare (tileAt m (decode t cs) W) -∗ Φ ⟨⟩)
        -∗ wp frame (wpE defs 𝒱 (c : Thread nD τ) bd) E
          (decodeInto (F := F) (nD := nD) (τ := τ) (Λ := Λ) wnext o ho t cs) Φ) := by
  subst hoff
  unfold decodeInto
  rw [wp_bind]
  iintro H K
  iapply (load_rule 𝒱 c bd E wnext _ _) $$ H
  iintro H
  have e0 : ∀ j : S64x512.Idx, ((Rect.unit (s := S1024x512) ![64 * m, 0] S64x512.size ho).emb j 0).val = 64 * m + (j 0).val :=
    fun j => by show 64 * m + 1 * (j 0).val = _; omega
  have e1 : ∀ j : S64x512.Idx, ((Rect.unit (s := S1024x512) ![64 * m, 0] S64x512.size ho).emb j 1).val = (j 1).val :=
    fun j => by show 0 + 1 * (j 1).val = _; omega
  iapply (store_rule 𝒱 c bd E wnext _ _ _ _ _ (y := tileAt m (decode t cs) W) (by
    intro j _
    have hj : (j 0).val < 64 := (j 0).isLt
    unfold tileAt
    rw [if_pos (show ((Rect.unit (s := S1024x512) ![64 * m, 0] S64x512.size ho).emb j 0).val / 64 = m by rw [e0 j]; omega), shapeCast_self]
    congr 1
    funext a
    match a with
    | ⟨0, _⟩ => apply Fin.ext; show ((Rect.unit (s := S1024x512) ![64 * m, 0] S64x512.size ho).emb j 0).val % 64 = (j 0).val; rw [e0 j]; omega
    | ⟨1, _⟩ => exact Fin.ext (e1 j)) (by
    intro i hi
    unfold tileAt
    rw [if_neg]
    intro h
    refine hi (ix2 ⟨(i 0).val % 64, Nat.mod_lt _ (by decide)⟩ (i 1)) (Finset.mem_univ _) ?_
    funext a
    match a with
    | ⟨0, _⟩ => apply Fin.ext; refine (e0 _).trans ?_; show 64 * m + (i 0).val % 64 = (i 0).val; omega
    | ⟨1, _⟩ => exact Fin.ext (e1 _))) $$ H
  iexact K

/-- A point's own preparation. -/
theorem prepare_triple (hG : Good R X) {n m : ℕ} (hn : n < 11) (hm : m < 16) {blk loc : BitVec 32}
    (hblk : blk = BitVec.ofNat 32 (512 * n)) (hloc : loc = BitVec.ofNat 32 m * 32#32)
    (o : Fin 2 → ℕ) (hoff : o = ![64 * m, 0]) (ho : ∀ a, o a + S64x512.size a ≤ S1024x512.size a)
    (hp : PtrInb blk loc) (hok : loopC.OK)
    (hp' : ∀ t : Fin loopC.trips, (∀ a, ptrOff blk loc (Scf.iv 0#32 1#32 t) a + S1.size a ≤ S5633.size a) ∧
      ∀ a, ptrOff1 blk loc (Scf.iv 0#32 1#32 t) a + S1.size a ≤ S5633.size a)
    (C : Checks loc) (D : ∀ longest, over longest = 1#1 → RestChecks loc)
    (t : IVec S8x512 32) (cs : IVec S64x512 32) {q q' : PosShare TreeShare}
    {W : IVec S1024x512 32} {P : IVec S8224x128 32} {Φ : PUnit → sProp 𝕄} :
    iprop(owns (c : Thread nD τ) ptr q' R ∗ owns (c : Thread nD τ) ent q X ∗ owns (c : Thread nD τ) wnext fullShare W
        ∗ owns (c : Thread nD τ) plane fullShare P : sProp 𝕄)
      ⊢ iprop((owns (c : Thread nD τ) ptr q' R ∗ owns (c : Thread nD τ) ent q X
            ∗ owns (c : Thread nD τ) wnext fullShare (tileAt m (decode t cs) W)
            ∗ owns (c : Thread nD τ) plane fullShare (blockPart R X n m P) -∗ Φ ⟨⟩)
        -∗ wp frame (wpE defs 𝒱 (c : Thread nD τ) bd) E
          (prepare (F := F) (nD := nD) (τ := τ) (Λ := Λ) ptr ent wnext plane blk loc o ho hp hok hp' C D t cs) Φ) := by
  subst hblk hloc
  have hP := part_ok hn hm
  unfold prepare
  rw [wp_bind]
  iintro ⟨HR, HX, HW, HP⟩ K
  iapply (decodeInto_triple 𝒱 c bd E wnext o hoff ho t cs) $$ HW
  iintro HW
  rw [wp_bind]
  iapply (channels_triple 𝒱 c bd E ptr ent plane hP hG C hp chans P 0#32) $$ [HR HX HP]
  · isplitl [HR]; · iexact HR
    isplitl [HX] <;> iassumption
  iintro %l %hl ⟨HR, HX, HP⟩
  by_cases h : over l = 1#1
  · rw [dif_pos h, wp_bind]
    iapply (rest_triple 𝒱 c bd E ptr ent plane hP hG (D l h) hok hp') $$ [HR HX HP]
    · isplitl [HR]; · iexact HR
      isplitl [HX] <;> iassumption
    iintro ⟨HR, HX, HP⟩
    iapply (le_wp_ret)
    iapply K
    isplitl [HR]; · iexact HR
    isplitl [HX]; · iexact HX
    isplitl [HW]; · iexact HW
    iexact HP
  · rw [dif_neg h]
    iapply (le_wp_ret)
    iapply K
    isplitl [HR]; · iexact HR
    isplitl [HX]; · iexact HX
    isplitl [HW]; · iexact HW
    have hid : blockPart R X n m P = channelsFn R X (512 * n + 32 * m) (2056 * (m / 4)) (32 * (m % 4)) chans P := by
      unfold blockPart partFn
      refine restFn_id _ _ _ _ _ _ 32 fun ch hch => ?_
      have h1 := hl.2 ⟨ch, hch⟩ (by
        have : ∀ x : Fin 32, x ∈ chans := by decide
        exact this _)
      have h2 := (over_iff l).not.1 h
      simp only at h1
      omega
    rw [hid]
    iexact HP

/-- The first point's work. -/
theorem firstWork_triple (hG : Good R X) (cnd : Prop) [Decidable cnd] (hc : cnd)
    (ht : ∀ t : Fin loopF.trips, TileInb (Scf.iv 0#32 1#32 t))
    (hp : ∀ t : Fin loopF.trips, PartInb 0#32 (Scalar.muli (Scf.iv 0#32 1#32 t) 32#32))
    {q1 q2 q3 q4 : PosShare TreeShare} {C0 : IVec S1024x512 8} {T0 : IVec S8x512 32}
    {W : IVec S1024x512 32} {P : IVec S8224x128 32} {Φ : PUnit → sProp 𝕄} :
    iprop(owns (c : Thread nD τ) ptr q1 R ∗ owns (c : Thread nD τ) ent q2 X ∗ owns (c : Thread nD τ) codes0 q3 C0
        ∗ owns (c : Thread nD τ) table0 q4 T0
        ∗ owns (c : Thread nD τ) wnext fullShare W ∗ owns (c : Thread nD τ) plane fullShare P : sProp 𝕄)
      ⊢ iprop((owns (c : Thread nD τ) ptr q1 R ∗ owns (c : Thread nD τ) ent q2 X ∗ owns (c : Thread nD τ) codes0 q3 C0
            ∗ owns (c : Thread nD τ) table0 q4 T0
            ∗ owns (c : Thread nD τ) wnext fullShare (firstW T0 C0 16 W)
            ∗ owns (c : Thread nD τ) plane fullShare (firstP R X 16 fun _ => 0#32) -∗ Φ ⟨⟩)
        -∗ wp frame (wpE defs 𝒱 (c : Thread nD τ) bd) E
          (firstWork (F := F) (nD := nD) (τ := τ) (Λ := Λ) ptr ent codes0 table0 wnext plane cnd hc ht hp) Φ) := by
  unfold firstWork
  rw [wp_bind]
  iintro ⟨HR, HX, HC, HT, HW, HP⟩ K
  iapply (clear_triple 𝒱 c bd E plane) $$ HP
  iintro HP
  iapply (Scf.wp_for frame (wpE defs 𝒱 (c : Thread nD τ) bd) E _ _ _ loopF_ok _ _
    (fun n _ => iprop(owns (c : Thread nD τ) ptr q1 R ∗ owns (c : Thread nD τ) ent q2 X ∗ owns (c : Thread nD τ) codes0 q3 C0
        ∗ owns (c : Thread nD τ) table0 q4 T0
        ∗ owns (c : Thread nD τ) wnext fullShare (firstW T0 C0 n W)
        ∗ owns (c : Thread nD τ) plane fullShare (firstP R X n fun _ => 0#32))) ?_)
  · intro t _
    have htl : t.val < 16 := by
      have h := t.isLt; have h' : Scf.trips loopF.lb loopF.ub loopF.st = 16 := tripsF; omega
    have hoff : tileOff (Scf.iv 0#32 1#32 t.val) = ![64 * t.val, 0] := (congrArg _ (iv_zero _)).trans (tileOff_eq htl)
    iintro ⟨HR, HX, HC, HT, HW, HP⟩
    rw [wp_bind]
    iapply (load_rule 𝒱 c bd E codes0 (Rect.unit (s := S1024x512) (tileOff (Scf.iv 0#32 1#32 t.val)) S64x512.size (ht t))
      (View.loadsAt_vmem h_S64x512)) $$ HC
    iintro HC
    have hC : (fun j => C0 ((Rect.unit (s := S1024x512) (tileOff (Scf.iv 0#32 1#32 t.val)) S64x512.size (ht t)).emb j))
        = tileOf C0 t.val := by
      funext j
      have hj : (j 0).val < 64 := (j 0).isLt
      unfold tileOf
      congr 1
      funext a
      match a with
      | ⟨0, _⟩ =>
        apply Fin.ext
        show tileOff (Scf.iv 0#32 1#32 t.val) 0 + 1 * (j 0).val = (64 * t.val + (j 0).val) % 1024
        have h0 : tileOff (Scf.iv 0#32 1#32 t.val) 0 = 64 * t.val := congrFun hoff 0
        omega
      | ⟨1, _⟩ =>
        apply Fin.ext
        show tileOff (Scf.iv 0#32 1#32 t.val) 1 + 1 * (j 1).val = (j 1).val
        have h0 : tileOff (Scf.iv 0#32 1#32 t.val) 1 = 0 := congrFun hoff 1
        omega
    rw [hC, wp_bind]
    iapply (load_whole 𝒱 c bd E table0 inb_table _) $$ HT
    iintro HT
    rw [shapeCast_self]
    iapply (prepare_triple 𝒱 c bd E ptr ent wnext plane hG (n := 0) (m := t.val) (by decide) htl rfl
      (congrArg (Scalar.muli · 32#32) (iv_zero _)) _ hoff _ _ _ _ _ _ _ _) $$ [HR HX HW HP]
    · isplitl [HR]; · iexact HR
      isplitl [HX]; · iexact HX
      isplitl [HW] <;> iassumption
    iintro ⟨HR, HX, HW, HP⟩
    isplitl [HR]; · iexact HR
    isplitl [HX]; · iexact HX
    isplitl [HC]; · iexact HC
    isplitl [HT]; · iexact HT
    rw [firstW_succ, firstP_succ]
    isplitl [HW]; · iexact HW
    iexact HP
  · isplitl [HR HX HC HT HW HP]
    · isplitl [HR]; · iexact HR
      isplitl [HX]; · iexact HX
      isplitl [HC]; · iexact HC
      isplitl [HT]; · iexact HT
      isplitl [HW]; · iexact HW
      iexact HP
    iintro %r H
    iapply K
    rw [show Scf.trips loopF.lb loopF.ub loopF.st = 16 from tripsF]
    iexact H

theorem pack_triple {g : ℕ} (hg : g < 4) (lo hi col : ℕ) (el : lo = 2056 * g + 1024 * 0) (eh : hi = 2056 * g + 1024 * 1)
    (ec : col = 128 * g) (hlo hhi hcol) {P : IVec S8224x128 32} {S : IVec S1024x512 32} {q : PosShare TreeShare}
    {Φ : PUnit → sProp 𝕄} :
    iprop(owns (c : Thread nD τ) plane q P ∗ owns (c : Thread nD τ) scur fullShare S : sProp 𝕄)
      ⊢ iprop((owns (c : Thread nD τ) plane q P ∗ owns (c : Thread nD τ) scur fullShare (packAt g P S) -∗ Φ ⟨⟩)
        -∗ wp frame (wpE defs 𝒱 (c : Thread nD τ) bd) E
          (pack (F := F) (nD := nD) (τ := τ) (Λ := Λ) plane scur lo hi col hlo hhi hcol) Φ) := by
  unfold pack
  rw [wp_bind]
  iintro ⟨HP, HS⟩ K
  iapply (load_rule 𝒱 c bd E plane _ _) $$ HP
  iintro HP
  rw [wp_bind]
  iapply (load_rule 𝒱 c bd E plane _ _) $$ HP
  iintro HP
  rw [wp_bind]
  iapply (load_rule 𝒱 c bd E scur _ _) $$ HS
  iintro HS
  have e0 : ∀ j : S1024x128.Idx, ((Rect.unit (s := S1024x512) ![0, col] S1024x128.size hcol).emb j 0).val = (j 0).val :=
    fun j => by show 0 + 1 * (j 0).val = _; omega
  have e1 : ∀ j : S1024x128.Idx, ((Rect.unit (s := S1024x512) ![0, col] S1024x128.size hcol).emb j 1).val = col + (j 1).val :=
    fun j => by show col + 1 * (j 1).val = _; omega
  iapply (store_rule 𝒱 c bd E scur _ _ _ _ _ (y := packAt g P S) (by
    intro j _
    have hj : (j 1).val < 128 := (j 1).isLt
    unfold packAt
    rw [if_pos (by rw [e1 j]; omega), shapeCast_self]
    show pairWord _ _ = pairWord _ _
    congr 1
    · congr 1
      funext a
      match a with
      | ⟨0, _⟩ =>
        apply Fin.ext
        show 2056 * (((Rect.unit (s := S1024x512) ![0, col] S1024x128.size hcol).emb j 1).val / 128) + 1024 * 0
          + ((Rect.unit (s := S1024x512) ![0, col] S1024x128.size hcol).emb j 0).val = lo + 1 * (j 0).val
        rw [e0, e1]; omega
      | ⟨1, _⟩ =>
        apply Fin.ext
        show ((Rect.unit (s := S1024x512) ![0, col] S1024x128.size hcol).emb j 1).val % 128 = 0 + 1 * (j 1).val
        rw [e1]; omega
    · congr 1
      funext a
      match a with
      | ⟨0, _⟩ =>
        apply Fin.ext
        show 2056 * (((Rect.unit (s := S1024x512) ![0, col] S1024x128.size hcol).emb j 1).val / 128) + 1024 * 1
          + ((Rect.unit (s := S1024x512) ![0, col] S1024x128.size hcol).emb j 0).val = hi + 1 * (j 0).val
        rw [e0, e1]; omega
      | ⟨1, _⟩ =>
        apply Fin.ext
        show ((Rect.unit (s := S1024x512) ![0, col] S1024x128.size hcol).emb j 1).val % 128 = 0 + 1 * (j 1).val
        rw [e1]; omega) (by
    intro i hi'
    unfold packAt
    rw [if_neg]
    intro h
    refine hi' (ix2 (i 0) ⟨(i 1).val % 128, Nat.mod_lt _ (by decide)⟩) (Finset.mem_univ _) ?_
    funext a
    match a with
    | ⟨0, _⟩ => exact Fin.ext (e0 _)
    | ⟨1, _⟩ => apply Fin.ext; refine (e1 _).trans ?_; show col + (i 1).val % 128 = (i 1).val; omega)) $$ HS
  iintro HS
  iapply K
  isplitl [HP] <;> iassumption

theorem moves_triple {W Wc S : IVec S1024x512 32} {P : IVec S8224x128 32} {q : PosShare TreeShare} {Φ : PUnit → sProp 𝕄} :
    iprop(owns (c : Thread nD τ) wnext q W ∗ owns (c : Thread nD τ) wcur fullShare Wc
        ∗ owns (c : Thread nD τ) plane fullShare P ∗ owns (c : Thread nD τ) scur fullShare S : sProp 𝕄)
      ⊢ iprop((owns (c : Thread nD τ) wnext q W ∗ owns (c : Thread nD τ) wcur fullShare W
            ∗ owns (c : Thread nD τ) plane fullShare (fun _ => 0#32)
            ∗ owns (c : Thread nD τ) scur fullShare (packFn P) -∗ Φ ⟨⟩)
        -∗ wp frame (wpE defs 𝒱 (c : Thread nD τ) bd) E
          (moves (F := F) (nD := nD) (τ := τ) (Λ := Λ) wnext wcur plane scur) Φ) := by
  unfold moves
  rw [wp_bind]
  iintro ⟨HW, HC, HP, HS⟩ K
  iapply (load_whole 𝒱 c bd E wnext inb_buf _) $$ HW
  iintro HW
  rw [wp_bind]
  iapply (load_whole 𝒱 c bd E wcur inb_buf _) $$ HC
  iintro HC
  rw [wp_bind]
  iapply (store_whole 𝒱 c bd E wcur inb_buf _ _ _) $$ HC
  rw [shapeCast_self]
  iintro HC
  rw [wp_bind]
  iapply (pack_triple 𝒱 c bd E plane scur (g := 0) (by decide) _ _ _ rfl rfl rfl _ _ _) $$ [HP HS]
  · isplitl [HP] <;> iassumption
  iintro ⟨HP, HS⟩
  rw [wp_bind]
  iapply (pack_triple 𝒱 c bd E plane scur (g := 1) (by decide) _ _ _ rfl rfl rfl _ _ _) $$ [HP HS]
  · isplitl [HP] <;> iassumption
  iintro ⟨HP, HS⟩
  rw [wp_bind]
  iapply (pack_triple 𝒱 c bd E plane scur (g := 2) (by decide) _ _ _ rfl rfl rfl _ _ _) $$ [HP HS]
  · isplitl [HP] <;> iassumption
  iintro ⟨HP, HS⟩
  rw [wp_bind]
  iapply (pack_triple 𝒱 c bd E plane scur (g := 3) (by decide) _ _ _ rfl rfl rfl _ _ _) $$ [HP HS]
  · isplitl [HP] <;> iassumption
  iintro ⟨HP, HS⟩
  rw [pack_all]
  iapply (clear_triple 𝒱 c bd E plane) $$ HP
  iintro HP
  iapply K
  isplitl [HW]; · iexact HW
  isplitl [HC]; · iexact HC
  isplitl [HP] <;> iassumption

/-- The second result block of a point: the product with the sparse block. -/
def outS (x : Vec F S512x2048 .bf16) (S : IVec S1024x512 32) : Vec F S512x512 .f32 := product x S

/-- The first: the product with the weights, the sparse product added, and the result's cast. -/
def outY (x : Vec F S512x2048 .bf16) (W S : IVec S1024x512 32) : Vec F S512x512 .bf16 :=
  truncf .bf16 (addf (product x W) (product x S)) (by decide)

theorem dots_triple {x : Vec F S512x2048 .bf16} {W S : IVec S1024x512 32} {q1 q2 q3 : PosShare TreeShare}
    {a : Vec F S512x512 .bf16} {b : Vec F S512x512 .f32} {Φ : PUnit → sProp 𝕄} :
    iprop(owns (c : Thread nD τ) xs q1 x ∗ owns (c : Thread nD τ) wcur q2 W ∗ owns (c : Thread nD τ) scur q3 S
        ∗ owns (c : Thread nD τ) y fullShare a ∗ owns (c : Thread nD τ) ys fullShare b : sProp 𝕄)
      ⊢ iprop((owns (c : Thread nD τ) xs q1 x ∗ owns (c : Thread nD τ) wcur q2 W ∗ owns (c : Thread nD τ) scur q3 S
            ∗ owns (c : Thread nD τ) y fullShare (outY x W S) ∗ owns (c : Thread nD τ) ys fullShare (outS x S) -∗ Φ ⟨⟩)
        -∗ wp frame (wpE defs 𝒱 (c : Thread nD τ) bd) E
          (dots (F := F) (nD := nD) (τ := τ) (Λ := Λ) xs y hy ys wcur scur) Φ) := by
  unfold dots
  rw [wp_bind]
  iintro ⟨Hx, HW, HS, Hy, Hs⟩ K
  iapply (load_whole 𝒱 c bd E xs inb_x _) $$ Hx
  iintro Hx
  rw [wp_bind]
  iapply (load_whole 𝒱 c bd E wcur inb_buf _) $$ HW
  iintro HW
  rw [wp_bind]
  iapply (load_whole 𝒱 c bd E scur inb_buf _) $$ HS
  iintro HS
  rw [wp_bind]
  iapply (load_whole 𝒱 c bd E ys inb_out _) $$ Hs
  iintro Hs
  rw [wp_bind]
  iapply (store_whole 𝒱 c bd E ys inb_out _ _ _) $$ Hs
  iintro Hs
  rw [wp_bind]
  iapply (load_whole 𝒱 c bd E ys inb_out _) $$ Hs
  iintro Hs
  rw [wp_bind]
  iapply (load_whole 𝒱 c bd E y inb_out _) $$ Hy
  iintro Hy
  iapply (store_whole 𝒱 c bd E y inb_out _ _ _) $$ Hy
  rw [shapeCast_self]
  iintro Hy
  iapply K
  isplitl [Hx]; · iexact Hx
  isplitl [HW]; · iexact HW
  isplitl [HS]; · iexact HS
  isplitl [Hy]; · iexact Hy
  iexact Hs

end Sparse
-- ==== Proof.Point.lean ====
module

public import proofs.«01_k».proof.Proof.Body

@[expose] public section

/-!
# A whole grid point

The four scratch buffers as one state, the state change of a point, and the triple of its program.
-/

noncomputable section

namespace Sparse

open Idealize.ShloMosaic Idealize.ShloMosaic.TcCoe
open Idealize.ShloMosaic.WordCmp
open Idealize.SL Idealize.SL.RA Idealize.SL.Sem
open scoped Idealize.SL.BI
open Idealize.SL.BI (sProp)
open Idealize.SL.BI.BIBase Idealize.SL.BI.Laws Idealize.SL.ProofMode

/-- What the scratch buffers hold: the weights being prepared, those in use, the plane, the packed block in use. -/
structure St where
  wn : IVec S1024x512 32
  wc : IVec S1024x512 32
  p : IVec S8224x128 32
  s : IVec S1024x512 32

/-- The first point prepares block 0. -/
def St.first (R : IVec S5633 32) (X : IVec S51920 32) (T0 : IVec S8x512 32) (C0 : IVec S1024x512 8) (n m : ℕ) (σ : St) : St :=
  if n = 0 ∧ m = 0 then ⟨firstW T0 C0 16 σ.wn, σ.wc, firstP R X 16 fun _ => 0#32, σ.s⟩ else σ

/-- The first part of a block hands the prepared buffers over. -/
def St.hand (m : ℕ) (σ : St) : St :=
  if m = 0 then ⟨σ.wn, σ.wn, fun _ => 0#32, packFn σ.p⟩ else σ

/-- Each point prepares its part of the next block. -/
def St.next (R : IVec S5633 32) (X : IVec S51920 32) (T : IVec S8x512 32) (C : IVec S64x512 8) (n m : ℕ) (σ : St) : St :=
  ⟨tileAt m (decode T (extui 32 C (by decide))) σ.wn, σ.wc, blockPart R X (min (n + 1) 10) m σ.p, σ.s⟩

/-! ## The numbers -/

theorem firstCond_iff {n m : ℕ} (hn : n < 11) (hm : m < 16) :
    firstCond (BitVec.ofNat 32 n) (BitVec.ofNat 32 m) = 1#1 ↔ n = 0 ∧ m = 0 := by
  have h : ∀ n : Fin 11, ∀ m : Fin 16, firstCond (BitVec.ofNat 32 n.val) (BitVec.ofNat 32 m.val) = 1#1 ↔ n.val = 0 ∧ m.val = 0 := by
    decide
  exact h ⟨n, hn⟩ ⟨m, hm⟩

theorem moveCond_iff {m : ℕ} (hm : m < 16) : moveCond (BitVec.ofNat 32 m) = 1#1 ↔ m = 0 := by
  have h : ∀ m : Fin 16, moveCond (BitVec.ofNat 32 m.val) = 1#1 ↔ m.val = 0 := by decide
  exact h ⟨m, hm⟩

/-- The channel block the point prepares. -/
abbrev blkAt (n : ℕ) : BitVec 32 :=
  Scalar.muli (Scalar.minsi (Scalar.addi (BitVec.ofNat 32 n) 1#32) 10#32) 512#32

/-- The first of the point's channels within it. -/
abbrev locAt (m : ℕ) : BitVec 32 := Scalar.muli (BitVec.ofNat 32 m) 32#32

theorem blkAt_eq {n : ℕ} (hn : n < 11) : blkAt n = BitVec.ofNat 32 (512 * min (n + 1) 10) := by
  have h : ∀ n : Fin 11, blkAt n.val = BitVec.ofNat 32 (512 * min (n.val + 1) 10) := by decide
  exact h ⟨n, hn⟩

theorem part_ptr {blk loc : BitVec 32} {n0 base lane0 : ℕ} (h : Part blk loc n0 base lane0) (c : Fin 32) :
    (∀ a, ptrOff blk loc (BitVec.ofNat 32 c.val) a + S1.size a ≤ S5633.size a) ∧
      ∀ a, ptrOff1 blk loc (BitVec.ofNat 32 c.val) a + S1.size a ≤ S5633.size a := by
  rw [h.ptr c c.isLt, h.ptr1 c c.isLt]
  have h1 := h.n0_le
  have h2 := c.isLt
  constructor
  · intro a
    match a with
    | ⟨0, _⟩ => show n0 + c.val + 1 ≤ 5633; omega
  · intro a
    match a with
    | ⟨0, _⟩ => show n0 + c.val + 1 + 1 ≤ 5633; omega

theorem part_inb {blk loc : BitVec 32} {n0 base lane0 : ℕ} (h : Part blk loc n0 base lane0) : PartInb blk loc := by
  refine ⟨fun c => part_ptr h c, fun t => ?_⟩
  have ht : t.val < 32 := Nat.lt_of_lt_of_eq t.isLt tripsC
  have e : Scf.iv 0#32 1#32 t.val = BitVec.ofNat 32 t.val := iv_zero _
  rw [e]
  exact part_ptr h ⟨t.val, ht⟩

theorem at_inb {n m : ℕ} (hn : n < 11) (hm : m < 16) : PartInb (blkAt n) (locAt m) := by
  rw [blkAt_eq hn]
  exact part_inb (part_ok (by omega) hm)

theorem first_inb (t : Fin loopF.trips) : PartInb 0#32 (Scalar.muli (Scf.iv 0#32 1#32 t) 32#32) := by
  have ht : t.val < 16 := Nat.lt_of_lt_of_eq t.isLt tripsF
  have e : Scf.iv 0#32 1#32 t.val = BitVec.ofNat 32 t.val := iv_zero _
  rw [e]
  exact part_inb (part_ok (n := 0) (by decide) ht)

theorem tile_inb {m : ℕ} (hm : m < 16) : ∀ a, tileOff (BitVec.ofNat 32 m) a + S64x512.size a ≤ S1024x512.size a := by
  rw [tileOff_eq hm]
  intro a
  match a with
  | ⟨0, _⟩ => show 64 * m + 64 ≤ 1024; omega
  | ⟨1, _⟩ => show 0 + 512 ≤ 512; omega

theorem first_tile (t : Fin loopF.trips) : TileInb (Scf.iv 0#32 1#32 t) := by
  have ht : t.val < 16 := Nat.lt_of_lt_of_eq t.isLt tripsF
  have e : Scf.iv 0#32 1#32 t.val = BitVec.ofNat 32 t.val := iv_zero _
  rw [e]
  exact tile_inb ht

variable {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (𝒱 : Variants) (c : Dev nD) (bd : Option 𝒱.V) (E : Set Name)
variable (ptr : Memref sig .tc .smem S5633 .i32) (ent : Memref sig .tc .smem S51920 .i32)
  (codes0 : Memref sig .tc .vmem S1024x512 .i8) (codes : Memref sig .tc .vmem S64x512 .i8)
  (table0 table : Memref sig .tc .vmem S8x512 .i32) (xs : Memref sig .tc .vmem S512x2048 .bf16)
  (y : Memref sig .tc .vmem S512x512 .bf16) (hy : y.IsWhole) (ys : Memref sig .tc .vmem S512x512 .f32)
  (wnext wcur : Memref sig .tc .vmem S1024x512 .i32) (plane : Memref sig .tc .vmem S8224x128 .i32)
  (scur : Memref sig .tc .vmem S1024x512 .i32)
variable {R : IVec S5633 32} {X : IVec S51920 32} {C0 : IVec S1024x512 8} {C : IVec S64x512 8}
  {T0 T : IVec S8x512 32} {x : Vec F S512x2048 .bf16}

/-- The windows the point reads. -/
def reads (R : IVec S5633 32) (X : IVec S51920 32) (C0 : IVec S1024x512 8) (C : IVec S64x512 8)
    (T0 T : IVec S8x512 32) (x : Vec F S512x2048 .bf16) : sProp 𝕄 :=
  iprop(owns (c : Thread nD τ) ptr fullShare R ∗ owns (c : Thread nD τ) ent fullShare X
    ∗ owns (c : Thread nD τ) codes0 fullShare C0 ∗ owns (c : Thread nD τ) codes fullShare C
    ∗ owns (c : Thread nD τ) table0 fullShare T0 ∗ owns (c : Thread nD τ) table fullShare T
    ∗ owns (c : Thread nD τ) xs fullShare x)

/-- The scratch buffers. -/
def scratch (σ : St) : sProp 𝕄 :=
  iprop(owns (c : Thread nD τ) wnext fullShare σ.wn ∗ owns (c : Thread nD τ) wcur fullShare σ.wc
    ∗ owns (c : Thread nD τ) plane fullShare σ.p ∗ owns (c : Thread nD τ) scur fullShare σ.s)

/-- The result blocks. -/
def writes (a : Vec F S512x512 .bf16) (b : Vec F S512x512 .f32) : sProp 𝕄 :=
  iprop(owns (c : Thread nD τ) y fullShare a ∗ owns (c : Thread nD τ) ys fullShare b)

/-- The end of `head`. -/
def headTail (a0 a1 : BitVec 32) : Prog (TpuEff nD τ sig (Elt F) Λ .tc)
    (Σ' (_ : BitVec 32) (_ : IVec S1x128 32) (_ : BitVec 32) (_ : IVec S8x512 32), IVec S64x512 32) := do
  dots xs y hy ys wcur scur
  let c : Vec F S64x512 .i8 ← Prog.lift (.load codes
    (Rect.unit (s := S64x512) ![0, 0] S64x512.size inb_tile).toLoadRect (View.loadsAt_vmem h_S64x512))
  let l : Vec F S8x512 .i32 ← Prog.lift (.load table
    (Rect.unit (s := S8x512) ![0, 0] S8x512.size inb_table).toLoadRect (View.loadsAt_vmem h_S8x512))
  pure ⟨a1, iota .tc S1x128 32 [1] iota_ok, Scalar.minsi (Scalar.addi a0 1#32) 10#32,
    shapeCast S8x512 l cast_S8x512, extui 32 c (by decide)⟩

/-- The hand-over and the end of `head`. -/
def headMid (a0 a1 : BitVec 32) : Prog (TpuEff nD τ sig (Elt F) Λ .tc)
    (Σ' (_ : BitVec 32) (_ : IVec S1x128 32) (_ : BitVec 32) (_ : IVec S8x512 32), IVec S64x512 32) := do
  if moveCond a1 = 1#1 then do
    moves wnext wcur plane scur
    headTail codes table xs y hy ys wcur scur a0 a1
  else headTail codes table xs y hy ys wcur scur a0 a1

theorem headTail_triple (a0 a1 : BitVec 32) {σ : St} {a : Vec F S512x512 .bf16} {b : Vec F S512x512 .f32} {Φ : _ → sProp 𝕄} :
    iprop(reads c ptr ent codes0 codes table0 table xs R X C0 C T0 T x ∗ writes c y ys a b
        ∗ scratch c wnext wcur plane scur σ : sProp 𝕄)
      ⊢ iprop((reads c ptr ent codes0 codes table0 table xs R X C0 C T0 T x
            ∗ writes c y ys (outY x σ.wc σ.s) (outS x σ.s) ∗ scratch c wnext wcur plane scur σ -∗
            Φ ⟨a1, iota .tc S1x128 32 [1] iota_ok, Scalar.minsi (Scalar.addi a0 1#32) 10#32, T, extui 32 C (by decide)⟩)
        -∗ wp frame (wpE defs 𝒱 (c : Thread nD τ) bd) E
          (headTail (F := F) (nD := nD) (τ := τ) (Λ := Λ) codes table xs y hy ys wcur scur a0 a1) Φ) := by
  unfold headTail reads writes scratch
  rw [wp_bind]
  iintro ⟨⟨HR, HX, HC0, HC, HT0, HT, Hx⟩, ⟨Hy, Hs⟩, ⟨Hwn, Hwc, Hp, Hsc⟩⟩ K
  iapply (dots_triple 𝒱 c bd E xs y hy ys wcur scur) $$ [Hx Hwc Hsc Hy Hs]
  · isplitl [Hx]; · iexact Hx
    isplitl [Hwc]; · iexact Hwc
    isplitl [Hsc]; · iexact Hsc
    isplitl [Hy]; · iexact Hy
    iexact Hs
  iintro ⟨Hx, Hwc, Hsc, Hy, Hs⟩
  rw [wp_bind]
  iapply (load_whole 𝒱 c bd E codes inb_tile _) $$ HC
  iintro HC
  rw [wp_bind]
  iapply (load_whole 𝒱 c bd E table inb_table _) $$ HT
  iintro HT
  rw [shapeCast_self]
  iapply (le_wp_ret)
  iapply K
  isplitl [HR HX HC0 HC HT0 HT Hx]
  · isplitl [HR]; · iexact HR
    isplitl [HX]; · iexact HX
    isplitl [HC0]; · iexact HC0
    isplitl [HC]; · iexact HC
    isplitl [HT0]; · iexact HT0
    isplitl [HT]; · iexact HT
    iexact Hx
  isplitl [Hy Hs]
  · isplitl [Hy]; · iexact Hy
    iexact Hs
  isplitl [Hwn]; · iexact Hwn
  isplitl [Hwc]; · iexact Hwc
  isplitl [Hp]; · iexact Hp
  iexact Hsc

theorem headMid_triple (a0 : BitVec 32) {m : ℕ} (hm : m < 16) {σ : St} {a : Vec F S512x512 .bf16} {b : Vec F S512x512 .f32}
    {Φ : _ → sProp 𝕄} :
    iprop(reads c ptr ent codes0 codes table0 table xs R X C0 C T0 T x ∗ writes c y ys a b
        ∗ scratch c wnext wcur plane scur σ : sProp 𝕄)
      ⊢ iprop((reads c ptr ent codes0 codes table0 table xs R X C0 C T0 T x
            ∗ writes c y ys (outY x (σ.hand m).wc (σ.hand m).s) (outS x (σ.hand m).s)
            ∗ scratch c wnext wcur plane scur (σ.hand m) -∗
            Φ ⟨BitVec.ofNat 32 m, iota .tc S1x128 32 [1] iota_ok, Scalar.minsi (Scalar.addi a0 1#32) 10#32, T,
              extui 32 C (by decide)⟩)
        -∗ wp frame (wpE defs 𝒱 (c : Thread nD τ) bd) E
          (headMid (F := F) (nD := nD) (τ := τ) (Λ := Λ) codes table xs y hy ys wnext wcur plane scur a0 (BitVec.ofNat 32 m)) Φ) := by
  unfold headMid
  by_cases h : moveCond (BitVec.ofNat 32 m) = 1#1
  · rw [if_pos h, wp_bind]
    have h0 : m = 0 := (moveCond_iff hm).1 h
    have hs : σ.hand m = ⟨σ.wn, σ.wn, fun _ => 0#32, packFn σ.p⟩ := if_pos h0
    rw [hs]
    iintro ⟨HA, HB, HS⟩ K
    unfold scratch
    icases HS with ⟨Hwn, Hwc, Hp, Hsc⟩
    iapply (moves_triple 𝒱 c bd E wnext wcur plane scur) $$ [Hwn Hwc Hp Hsc]
    · isplitl [Hwn]; · iexact Hwn
      isplitl [Hwc]; · iexact Hwc
      isplitl [Hp]; · iexact Hp
      iexact Hsc
    iintro HS
    iapply (headTail_triple 𝒱 c bd E ptr ent codes0 codes table0 table xs y hy ys wnext wcur plane scur a0 (BitVec.ofNat 32 m)
      (σ := ⟨σ.wn, σ.wn, fun _ => 0#32, packFn σ.p⟩)) $$ [HA HB HS]
    · isplitl [HA]; · iexact HA
      isplitl [HB]; · iexact HB
      unfold scratch
      iexact HS
    iexact K
  · rw [if_neg h]
    have hs : σ.hand m = σ := if_neg fun e => h ((moveCond_iff hm).2 e)
    rw [hs]
    exact headTail_triple 𝒱 c bd E ptr ent codes0 codes table0 table xs y hy ys wnext wcur plane scur a0 _

theorem head_triple (hG : Good R X) {n m : ℕ} (hn : n < 11) (hm : m < 16) (ht) (hp) {σ : St} {a : Vec F S512x512 .bf16}
    {b : Vec F S512x512 .f32} {Φ : _ → sProp 𝕄} :
    iprop(reads c ptr ent codes0 codes table0 table xs R X C0 C T0 T x ∗ writes c y ys a b
        ∗ scratch c wnext wcur plane scur σ : sProp 𝕄)
      ⊢ iprop((reads c ptr ent codes0 codes table0 table xs R X C0 C T0 T x
            ∗ writes c y ys (outY x ((σ.first R X T0 C0 n m).hand m).wc ((σ.first R X T0 C0 n m).hand m).s)
              (outS x ((σ.first R X T0 C0 n m).hand m).s)
            ∗ scratch c wnext wcur plane scur ((σ.first R X T0 C0 n m).hand m) -∗
            Φ ⟨BitVec.ofNat 32 m, iota .tc S1x128 32 [1] iota_ok, Scalar.minsi (Scalar.addi (BitVec.ofNat 32 n) 1#32) 10#32, T,
              extui 32 C (by decide)⟩)
        -∗ wp frame (wpE defs 𝒱 (c : Thread nD τ) bd) E
          (head (F := F) (nD := nD) (τ := τ) (Λ := Λ) ptr ent codes0 codes table0 table xs y hy ys wnext wcur plane scur
            (BitVec.ofNat 32 n) (BitVec.ofNat 32 m) ht hp) Φ) := by
  have he : head (F := F) (nD := nD) (τ := τ) (Λ := Λ) ptr ent codes0 codes table0 table xs y hy ys wnext wcur plane scur
      (BitVec.ofNat 32 n) (BitVec.ofNat 32 m) ht hp
      = if h1 : firstCond (BitVec.ofNat 32 n) (BitVec.ofNat 32 m) = 1#1 then
          firstWork ptr ent codes0 table0 wnext plane (firstCond (BitVec.ofNat 32 n) (BitVec.ofNat 32 m) = 1#1) h1 ht hp
            >>= fun _ => headMid codes table xs y hy ys wnext wcur plane scur (BitVec.ofNat 32 n) (BitVec.ofNat 32 m)
        else headMid codes table xs y hy ys wnext wcur plane scur (BitVec.ofNat 32 n) (BitVec.ofNat 32 m) := by
    rfl
  rw [he]
  by_cases h : firstCond (BitVec.ofNat 32 n) (BitVec.ofNat 32 m) = 1#1
  · rw [dif_pos h, wp_bind]
    have hs : σ.first R X T0 C0 n m = ⟨firstW T0 C0 16 σ.wn, σ.wc, firstP R X 16 fun _ => 0#32, σ.s⟩ :=
      if_pos ((firstCond_iff hn hm).1 h)
    rw [hs]
    iintro ⟨HA, HB, HS⟩ K
    unfold scratch reads
    icases HS with ⟨Hwn, Hwc, Hp, Hsc⟩
    icases HA with ⟨HR, HX, HC0, HC, HT0, HT, Hx⟩
    iapply (firstWork_triple 𝒱 c bd E ptr ent codes0 table0 wnext plane hG _ h ht hp) $$ [HR HX HC0 HT0 Hwn Hp]
    · isplitl [HR]; · iexact HR
      isplitl [HX]; · iexact HX
      isplitl [HC0]; · iexact HC0
      isplitl [HT0]; · iexact HT0
      isplitl [Hwn]; · iexact Hwn
      iexact Hp
    iintro ⟨HR, HX, HC0, HT0, Hwn, Hp⟩
    iapply (headMid_triple 𝒱 c bd E ptr ent codes0 codes table0 table xs y hy ys wnext wcur plane scur (BitVec.ofNat 32 n) hm
      (σ := ⟨firstW T0 C0 16 σ.wn, σ.wc, firstP R X 16 fun _ => 0#32, σ.s⟩)) $$ [HR HX HC0 HC HT0 HT Hx HB Hwn Hwc Hp Hsc]
    · isplitl [HR HX HC0 HC HT0 HT Hx]
      · unfold reads
        isplitl [HR]; · iexact HR
        isplitl [HX]; · iexact HX
        isplitl [HC0]; · iexact HC0
        isplitl [HC]; · iexact HC
        isplitl [HT0]; · iexact HT0
        isplitl [HT]; · iexact HT
        iexact Hx
      isplitl [HB]; · iexact HB
      unfold scratch
      isplitl [Hwn]; · iexact Hwn
      isplitl [Hwc]; · iexact Hwc
      isplitl [Hp]; · iexact Hp
      iexact Hsc
    unfold reads scratch
    iexact K
  · rw [dif_neg h]
    have hs : σ.first R X T0 C0 n m = σ := if_neg fun e => h ((firstCond_iff hn hm).2 e)
    rw [hs]
    exact headMid_triple 𝒱 c bd E ptr ent codes0 codes table0 table xs y hy ys wnext wcur plane scur _ hm

/-- A point's program: `head`, then the preparation. -/
theorem point_triple (hG : Good R X) {n m : ℕ} (hn : n < 11) (hm : m < 16) (ht) (hp)
    (o : Fin 2 → ℕ) (hoff : o = ![64 * m, 0]) (ho) (hok) (hp1) (hp2) (CC) (DD)
    (prog : Prog (TpuEff nD τ sig (Elt F) Λ .tc) PUnit) (K : _ → Prog (TpuEff nD τ sig (Elt F) Λ .tc) PUnit)
    (hprog : prog = head (F := F) (nD := nD) (τ := τ) (Λ := Λ) ptr ent codes0 codes table0 table xs y hy ys wnext wcur plane scur
            (BitVec.ofNat 32 n) (BitVec.ofNat 32 m) ht hp >>= K)
    (hK : ∀ t cs, K ⟨BitVec.ofNat 32 m, iota .tc S1x128 32 [1] iota_ok,
      Scalar.minsi (Scalar.addi (BitVec.ofNat 32 n) 1#32) 10#32, t, cs⟩
        = prepare ptr ent wnext plane (blkAt n) (locAt m) o ho hp1 hok hp2 CC DD t cs)
    {σ : St} {a : Vec F S512x512 .bf16} {b : Vec F S512x512 .f32} {Φ : PUnit → sProp 𝕄} :
    iprop(reads c ptr ent codes0 codes table0 table xs R X C0 C T0 T x ∗ writes c y ys a b
        ∗ scratch c wnext wcur plane scur σ : sProp 𝕄)
      ⊢ iprop((reads c ptr ent codes0 codes table0 table xs R X C0 C T0 T x
            ∗ writes c y ys (outY x ((σ.first R X T0 C0 n m).hand m).wc ((σ.first R X T0 C0 n m).hand m).s)
              (outS x ((σ.first R X T0 C0 n m).hand m).s)
            ∗ scratch c wnext wcur plane scur (((σ.first R X T0 C0 n m).hand m).next R X T C n m) -∗ Φ ⟨⟩)
        -∗ wp frame (wpE defs 𝒱 (c : Thread nD τ) bd) E prog Φ) := by
  rw [hprog, wp_bind]
  iintro H HK
  iapply (head_triple 𝒱 c bd E ptr ent codes0 codes table0 table xs y hy ys wnext wcur plane scur hG hn hm ht hp) $$ H
  iintro ⟨HA, HB, HS⟩
  rw [hK]
  unfold scratch reads
  icases HS with ⟨Hwn, Hwc, Hp, Hsc⟩
  icases HA with ⟨HR, HX, HC0, HC, HT0, HT, Hx⟩
  iapply (prepare_triple 𝒱 c bd E ptr ent wnext plane hG (n := min (n + 1) 10) (m := m) (by omega) hm (blkAt_eq hn) rfl
    o hoff ho hp1 hok hp2 CC DD T (extui 32 C (by decide))) $$ [HR HX Hwn Hp]
  · isplitl [HR]; · iexact HR
    isplitl [HX]; · iexact HX
    isplitl [Hwn]; · iexact Hwn
    iexact Hp
  iintro ⟨HR, HX, Hwn, Hp⟩
  iapply HK
  isplitl [HR HX HC0 HC HT0 HT Hx]
  · isplitl [HR]; · iexact HR
    isplitl [HX]; · iexact HX
    isplitl [HC0]; · iexact HC0
    isplitl [HC]; · iexact HC
    isplitl [HT0]; · iexact HT0
    isplitl [HT]; · iexact HT
    iexact Hx
  isplitl [HB]; · iexact HB
  isplitl [Hwn]; · iexact Hwn
  isplitl [Hwc]; · iexact Hwc
  isplitl [Hp]; · iexact Hp
  iexact Hsc

end Sparse
-- ==== Proof.Kernel.Bridge.lean ====
module

public import proofs.«01_k».proof.Proof.Point
public import proofs.«01_k».proof.Proof.Gen.Kernel
public import Idealize.ShloMosaic.Lib.Tactic

@[expose] public section

/-!
# The printed body is the structured one

The printed body runs `Sparse.head`, then `Sparse.prepare` on what it returns.
-/

set_option pp.maxSteps 300

noncomputable section

namespace Cert.Kernel

open Idealize.ShloMosaic Idealize.SL.Sem

variable {F : FTy → Type} [FloatOps F]

theorem blk_lt (i : grid0.Coords) : (i 0).val < 11 := (i 0).isLt
theorem part_lt (i : grid0.Coords) : (i 1).val < 16 := (i 1).isLt

/-- The printed start of the body. -/
theorem head_eq
    (i : grid0.Coords) (arg2 : Memref sig .tc .smem S5633 .i32) (harg2 : arg2.IsWhole)
    (arg3 : Memref sig .tc .smem S51920 .i32) (harg3 : arg3.IsWhole) (arg4 : Memref sig .tc .vmem S1024x512 .i8)
    (harg4 : arg4.IsWhole) (arg5 : Memref sig .tc .vmem S64x512 .i8) (harg5 : arg5.IsWhole)
    (arg6 : Memref sig .tc .vmem S8x512 .i32) (harg6 : arg6.IsWhole) (arg7 : Memref sig .tc .vmem S8x512 .i32)
    (harg7 : arg7.IsWhole) (arg8 : Memref sig .tc .vmem S512x2048 .bf16) (harg8 : arg8.IsWhole)
    (arg9 : Memref sig .tc .vmem S512x512 .bf16) (harg9 : arg9.IsWhole) (arg10 : Memref sig .tc .vmem S512x512 .f32)
    (harg10 : arg10.IsWhole) (arg11 : Memref sig .tc .vmem S1024x512 .i32) (harg11 : arg11.IsWhole)
    (arg12 : Memref sig .tc .vmem S1024x512 .i32) (harg12 : arg12.IsWhole)
    (arg13 : Memref sig .tc .vmem S8224x128 .i32) (harg13 : arg13.IsWhole)
    (arg14 : Memref sig .tc .vmem S1024x512 .i32) (harg14 : arg14.IsWhole) :
    k0_part246 (F := F) i arg2 harg2 arg3 harg3 arg4 harg4 arg5 harg5 arg6 harg6 arg7 harg7 arg8 harg8
      arg9 harg9 arg10 harg10 arg11 harg11 arg12 harg12 arg13 harg13 arg14 harg14
      = Sparse.head arg2 arg3 arg4 arg5 arg6 arg7 arg8 arg9 harg9 arg10 arg11 arg12 arg13 arg14
        (BitVec.ofNat 32 (i 0).val) (BitVec.ofNat 32 (i 1).val) Sparse.first_tile Sparse.first_inb := by
  sl_kernel_rfl

set_option maxRecDepth 100000 in
set_option maxHeartbeats 4000000 in
/-- The printed body, split after its start. -/
theorem body_split
    (i : grid0.Coords) (arg2 : Memref sig .tc .smem S5633 .i32) (harg2 : arg2.IsWhole)
    (arg3 : Memref sig .tc .smem S51920 .i32) (harg3 : arg3.IsWhole) (arg4 : Memref sig .tc .vmem S1024x512 .i8)
    (harg4 : arg4.IsWhole) (arg5 : Memref sig .tc .vmem S64x512 .i8) (harg5 : arg5.IsWhole)
    (arg6 : Memref sig .tc .vmem S8x512 .i32) (harg6 : arg6.IsWhole) (arg7 : Memref sig .tc .vmem S8x512 .i32)
    (harg7 : arg7.IsWhole) (arg8 : Memref sig .tc .vmem S512x2048 .bf16) (harg8 : arg8.IsWhole)
    (arg9 : Memref sig .tc .vmem S512x512 .bf16) (harg9 : arg9.IsWhole) (arg10 : Memref sig .tc .vmem S512x512 .f32)
    (harg10 : arg10.IsWhole) (arg11 : Memref sig .tc .vmem S1024x512 .i32) (harg11 : arg11.IsWhole)
    (arg12 : Memref sig .tc .vmem S1024x512 .i32) (harg12 : arg12.IsWhole)
    (arg13 : Memref sig .tc .vmem S8224x128 .i32) (harg13 : arg13.IsWhole)
    (arg14 : Memref sig .tc .vmem S1024x512 .i32) (harg14 : arg14.IsWhole) :
    ∃ K, cc0_w4_sparse_linear (F := F) i arg2 harg2 arg3 harg3 arg4 harg4 arg5 harg5 arg6 harg6 arg7 harg7 arg8 harg8
      arg9 harg9 arg10 harg10 arg11 harg11 arg12 harg12 arg13 harg13 arg14 harg14
        = (k0_part246 (F := F) i arg2 harg2 arg3 harg3 arg4 harg4 arg5 harg5 arg6 harg6 arg7 harg7 arg8 harg8
      arg9 harg9 arg10 harg10 arg11 harg11 arg12 harg12 arg13 harg13 arg14 harg14) >>= K ∧
      ∀ t cs, K ⟨BitVec.ofNat 32 (i 1).val, iota .tc S1x128 32 [1] Sparse.iota_ok,
          Scalar.minsi (Scalar.addi (BitVec.ofNat 32 (i 0).val) 1#32) 10#32, t, cs⟩
        = Sparse.prepare arg2 arg3 arg11 arg13 (Sparse.blkAt (i 0).val) (Sparse.locAt (i 1).val)
          (Sparse.tileOff (BitVec.ofNat 32 (i 1).val)) (Sparse.tile_inb (part_lt i))
          (Sparse.at_inb (blk_lt i) (part_lt i)).1 Sparse.loopC_ok (Sparse.at_inb (blk_lt i) (part_lt i)).2
          (Sparse.checks _) (Sparse.restChecks _) t cs := by
  refine ⟨?R, ?A, ?B⟩
  case A =>
    unfold cc0_w4_sparse_linear k0_part487
    exact bind_assoc (m := Prog (TpuEff nD τ Cert.Kernel.sig (Elt F) Λ₀ .tc)) _ _ _
  case B =>
    intro t cs
    sl_kernel_rfl

end Cert.Kernel
-- ==== Proof.State.lean ====
module

public import proofs.«01_k».proof.Proof.Point

@[expose] public section

/-!
# What the scratch buffers hold between points

A cell of a channel block is the value of the last entry of its channel that names its row, or zero.
After the point of block `n` and part `p` the buffers in use hold block `n`; those being prepared hold
the first `p + 1` parts of the next block.
-/

noncomputable section

namespace Sparse

open Idealize.ShloMosaic
open Idealize.ShloMosaic.ValueIdx (ix1 ix2 eq_ix1 eq_ix2)

/-! ## Folds -/

theorem foldl_fin {n : ℕ} {β : Type} (l : List (Fin n)) (h : l.map Fin.val = List.range n) (f : β → ℕ → β) (b : β) :
    l.foldl (fun v k => f v k.val) b = (List.range n).foldl f b := by
  rw [← h, List.foldl_map]

theorem slots_range : slots.map Fin.val = List.range 16 := by decide
theorem chans_range : chans.map Fin.val = List.range 32 := by decide

theorem foldl_same {α β : Type} (l : List α) (f : β → α → β) (h : ∀ v, ∀ a ∈ l, f v a = v) (b : β) : l.foldl f b = b := by
  induction l generalizing b with
  | nil => rfl
  | cons a l ih =>
    rw [List.foldl_cons, h b a (List.mem_cons_self ..)]
    exact ih (fun v a ha => h v a (List.mem_cons_of_mem _ ha)) b

theorem foldl_same' {α β : Type} (l : List α) (f g : β → α → β) (h : ∀ v, ∀ a ∈ l, f v a = g v a) (b : β) :
    l.foldl f b = l.foldl g b := by
  induction l generalizing b with
  | nil => rfl
  | cons a l ih =>
    rw [List.foldl_cons, List.foldl_cons, h b a (List.mem_cons_self ..)]
    exact ih (fun v a ha => h v a (List.mem_cons_of_mem _ ha)) _

/-- A guarded fold stops where its guard does. -/
theorem foldl_guard {β : Type} (f : β → ℕ → β) (n : ℕ) (b : β) :
    ∀ N, (List.range N).foldl (fun v k => if k < n then f v k else v) b = (List.range (min N n)).foldl f b
  | 0 => by rw [Nat.zero_min]; rfl
  | N + 1 => by
    rw [List.range_succ, List.foldl_append, List.foldl_cons, List.foldl_nil, foldl_guard f n b N]
    by_cases h : N < n
    · rw [if_pos h, Nat.min_eq_left (Nat.le_of_lt h), Nat.min_eq_left h, List.range_succ, List.foldl_append,
        List.foldl_cons, List.foldl_nil]
    · rw [if_neg h, Nat.min_eq_right (by omega), Nat.min_eq_right (by omega)]

/-- A fold of steps of which one at most applies. -/
theorem foldl_one {β : Type} (g : ℕ → β → β) (x l0 : ℕ) (b : β) :
    ∀ N, (List.range N).foldl (fun v c => if x = l0 + c then g c v else v) b
      = if l0 ≤ x ∧ x < l0 + N then g (x - l0) b else b
  | 0 => by rw [if_neg (by omega)]; rfl
  | N + 1 => by
    rw [List.range_succ, List.foldl_append, List.foldl_cons, List.foldl_nil, foldl_one g x l0 b N]
    by_cases h : x = l0 + N
    · rw [if_pos h, if_neg (by omega), if_pos (by omega)]
      congr 1; omega
    · rw [if_neg h]
      by_cases h' : l0 ≤ x ∧ x < l0 + N
      · rw [if_pos h', if_pos (by omega)]
      · rw [if_neg h', if_neg (by omega)]

/-! ## Cells -/

/-- One entry seen from row `r`. -/
def cellStep (X : IVec S51920 32) (e0 r : ℕ) (v : BitVec 32) (k : ℕ) : BitVec 32 :=
  if low X (e0 + k) = r then high (wordAt X (e0 + k)) else v

/-- Row `r` of channel `o`, starting from `v`. -/
def cellFrom (R : IVec S5633 32) (X : IVec S51920 32) (o r : ℕ) (v : BitVec 32) : BitVec 32 :=
  (List.range (rp R (o + 1) - rp R o)).foldl (cellStep X (rp R o) r) v

/-- Row `r` of channel `o`. -/
def cell (R : IVec S5633 32) (X : IVec S51920 32) (o r : ℕ) : BitVec 32 := cellFrom R X o r 0#32

theorem fold_put {α : Type} (l : List α) (row : α → ℕ) (w : α → BitVec 32) (lane : ℕ) (P : IVec S8224x128 32)
    (i : S8224x128.Idx) :
    l.foldl (fun P a => putAt (row a) lane (w a) P) P i
      = l.foldl (fun v a => if (i 0).val = row a ∧ (i 1).val = lane then high (w a) else v) (P i) := by
  induction l generalizing P with
  | nil => rfl
  | cons a l ih => rw [List.foldl_cons, List.foldl_cons, ih]; rfl

section

variable {R : IVec S5633 32} {X : IVec S51920 32}

/-- The sixteen slots of a channel, seen from one cell of a group. -/
theorem places_cell (hG : Good R X) {g g' r lane e0 e1 : ℕ} (he : e1 ≤ 51904) (hr : r < 2048)
    (P : IVec S8224x128 32) (i : S8224x128.Idx) (hi : (i 0).val = 2056 * g' + r) :
    placesFn X (2056 * g) lane e0 e1 slots P i
      = if (i 1).val = lane then
          (if g' = g then (List.range (min 16 (e1 - e0))).foldl (cellStep X e0 r) (P i) else P i)
        else P i := by
  unfold placesFn
  rw [fold_put]
  by_cases hl : (i 1).val = lane
  · rw [if_pos hl]
    rw [foldl_fin slots slots_range (fun v k => if (i 0).val = 2056 * g + slotRow X e0 e1 k ∧ (i 1).val = lane
      then high (wordAt X (e0 + k)) else v)]
    rw [← foldl_guard]
    by_cases hg : g' = g
    · rw [if_pos hg]
      refine foldl_same' _ _ _ (fun v k hk => ?_) _
      unfold slotRow cellStep
      by_cases hk' : e0 + k < e1
      · rw [if_pos hk', if_pos (show k < e1 - e0 by omega)]
        by_cases h : low X (e0 + k) = r
        · rw [if_pos h, if_pos ⟨by omega, hl⟩]
        · rw [if_neg h, if_neg (by omega)]
      · rw [if_neg hk', if_neg (show ¬k < e1 - e0 by omega), if_neg (by omega)]
    · rw [if_neg hg]
      refine foldl_same _ _ (fun v k hk => ?_) _
      rw [if_neg]
      rintro ⟨h, -⟩
      have hs : slotRow X e0 e1 k ≤ 2048 := by
        unfold slotRow
        split
        · exact Nat.le_of_lt (hG.low_lt _ (by omega))
        · exact Nat.le_refl _
      omega
  · rw [if_neg hl]
    exact foldl_same _ _ (fun v k _ => if_neg fun h => hl h.2) _

/-- The entries past the sixteenth, seen from one cell. -/
theorem restOne_cell (hG : Good R X) {g g' r lane e0 n : ℕ} (he : e0 + 16 + n ≤ 51904 ∨ n = 0) (hr : r < 2048)
    (P : IVec S8224x128 32) (i : S8224x128.Idx) (hi : (i 0).val = 2056 * g' + r) :
    restOne X (2056 * g) lane e0 n P i
      = if (i 1).val = lane then
          (if g' = g then (List.range n).foldl (fun v j => cellStep X e0 r v (16 + j)) (P i) else P i)
        else P i := by
  unfold restOne
  rw [fold_put]
  by_cases hl : (i 1).val = lane
  · rw [if_pos hl]
    by_cases hg : g' = g
    · rw [if_pos hg]
      refine foldl_same' _ _ _ (fun v k _ => ?_) _
      unfold cellStep
      rw [← Nat.add_assoc]
      by_cases h : low X (e0 + 16 + k) = r
      · rw [if_pos h, if_pos ⟨by omega, hl⟩]
      · rw [if_neg h, if_neg (by omega)]
    · rw [if_neg hg]
      refine foldl_same _ _ (fun v k hk => ?_) _
      rw [if_neg]
      rintro ⟨h, -⟩
      have hk := List.mem_range.1 hk
      have hs := hG.low_lt (e0 + 16 + k) (by omega)
      omega
  · rw [if_neg hl]
    exact foldl_same _ _ (fun v k _ => if_neg fun h => hl h.2) _

theorem channels_cell (hG : Good R X) {g g' r n0 lane0 : ℕ} (hn : n0 + 32 ≤ 5632) (hr : r < 2048)
    (P : IVec S8224x128 32) (i : S8224x128.Idx) (hi : (i 0).val = 2056 * g' + r) (cs : List (Fin 32)) :
    channelsFn R X n0 (2056 * g) lane0 cs P i
      = cs.foldl (fun v c => if (i 1).val = lane0 + c.val then
          (if g' = g then (List.range (min 16 (rp R (n0 + c.val + 1) - rp R (n0 + c.val)))).foldl
            (cellStep X (rp R (n0 + c.val)) r) v else v) else v) (P i) := by
  unfold channelsFn
  induction cs generalizing P with
  | nil => rfl
  | cons c cs ih =>
    have hc := c.isLt
    rw [List.foldl_cons, List.foldl_cons, ih, places_cell hG (hG.le _ (by omega)) hr P i hi]

theorem rest_cell (hG : Good R X) {g g' r n0 lane0 : ℕ} (hr : r < 2048)
    (P : IVec S8224x128 32) (i : S8224x128.Idx) (hi : (i 0).val = 2056 * g' + r) (n : ℕ) (hn : n0 + n ≤ 5632) :
    restFn R X n0 (2056 * g) lane0 n P i
      = (List.range n).foldl (fun v c => if (i 1).val = lane0 + c then
          (if g' = g then (List.range (rp R (n0 + c + 1) - (rp R (n0 + c) + 16))).foldl
            (fun v j => cellStep X (rp R (n0 + c)) r v (16 + j)) v else v) else v) (P i) := by
  unfold restFn
  induction n with
  | zero => rfl
  | succ n ih =>
    rw [List.range_succ, List.foldl_append, List.foldl_append, List.foldl_cons, List.foldl_nil, List.foldl_cons,
      List.foldl_nil]
    have h1 := hG.le (n0 + n + 1) (by omega)
    rw [restOne_cell hG (by omega) hr _ i hi, ih (by omega)]

/-- A part, seen from one cell. -/
theorem part_cell (hG : Good R X) {b m g' r : ℕ} (hb : b < 11) (hm : m < 16) (hr : r < 2048)
    (P : IVec S8224x128 32) (i : S8224x128.Idx) (hi : (i 0).val = 2056 * g' + r) :
    blockPart R X b m P i
      = if 32 * m ≤ 128 * g' + (i 1).val ∧ 128 * g' + (i 1).val < 32 * (m + 1) then
          cellFrom R X (512 * b + 128 * g' + (i 1).val) r (P i) else P i := by
  have hl : (i 1).val < 128 := (i 1).isLt
  unfold blockPart partFn
  rw [rest_cell hG hr _ i hi 32 (by omega), channels_cell hG (by omega) hr P i hi,
    foldl_fin chans chans_range (fun v c => if (i 1).val = 32 * (m % 4) + c then
          (if g' = m / 4 then (List.range (min 16 (rp R (512 * b + 32 * m + c + 1) - rp R (512 * b + 32 * m + c)))).foldl
            (cellStep X (rp R (512 * b + 32 * m + c)) r) v else v) else v),
    foldl_one (fun c v => if g' = m / 4 then
      (List.range (min 16 (rp R (512 * b + 32 * m + c + 1) - rp R (512 * b + 32 * m + c)))).foldl
            (cellStep X (rp R (512 * b + 32 * m + c)) r) v else v),
    foldl_one (fun c v => if g' = m / 4 then
      (List.range (rp R (512 * b + 32 * m + c + 1) - (rp R (512 * b + 32 * m + c) + 16))).foldl
            (fun v j => cellStep X (rp R (512 * b + 32 * m + c)) r v (16 + j)) v else v)]
  by_cases hw : 32 * (m % 4) ≤ (i 1).val ∧ (i 1).val < 32 * (m % 4) + 32
  · rw [if_pos hw, if_pos hw]
    by_cases hg : g' = m / 4
    · rw [if_pos hg, if_pos hg, if_pos (by omega)]
      rw [show 512 * b + 32 * m + ((i 1).val - 32 * (m % 4)) = 512 * b + 128 * g' + (i 1).val by omega]
      generalize 512 * b + 128 * g' + (i 1).val = o
      unfold cellFrom
      rcases Nat.le_total (rp R (o + 1) - rp R o) 16 with h | h
      · rw [Nat.min_eq_right h, show rp R (o + 1) - (rp R o + 16) = 0 by omega]; rfl
      · rw [Nat.min_eq_left h]
        have e : rp R (o + 1) - rp R o = 16 + (rp R (o + 1) - (rp R o + 16)) := by omega
        rw [e, List.range_add, List.foldl_append, List.foldl_map]
    · rw [if_neg hg, if_neg hg, if_neg (by omega)]
  · rw [if_neg hw, if_neg hw, if_neg (by omega)]

end

/-! ## Blocks -/

/-- The arrays the kernel reads: row pointers, entries, codes, tables. -/
structure Tables where
  R : IVec S5633 32
  X : IVec S51920 32
  A : IVec ⟨2, ![1024, 5632]⟩ 8
  T : IVec ⟨2, ![8, 5632]⟩ 32

/-- Channel block `b` of the tables. -/
def tblk (D : Tables) (b : ℕ) : IVec S8x512 32 :=
  fun j => D.T (ix2 (j 0) ⟨(512 * b + (j 1).val) % 5632, Nat.mod_lt _ (by decide)⟩)

/-- Part `m` of channel block `b` of the codes. -/
def cblk (D : Tables) (b m : ℕ) : IVec S64x512 8 :=
  fun j => D.A (ix2 ⟨(64 * m + (j 0).val) % 1024, Nat.mod_lt _ (by decide)⟩ ⟨(512 * b + (j 1).val) % 5632, Nat.mod_lt _ (by decide)⟩)

/-- Channel block 0 of the codes. -/
def cblk0 (D : Tables) : IVec S1024x512 8 :=
  fun j => D.A (ix2 (j 0) ⟨(512 * 0 + (j 1).val) % 5632, Nat.mod_lt _ (by decide)⟩)

/-- The decoded channel block `b`: two weights a word. -/
def weights (D : Tables) (b : ℕ) : IVec S1024x512 32 := fun i =>
  decode (tblk D b) (extui 32 (cblk D b ((i 0).val / 64)) (by decide)) (ix2 ⟨(i 0).val % 64, Nat.mod_lt _ (by decide)⟩ (i 1))

/-- The sparse channel block `b`: two cells a word. -/
def packed (D : Tables) (b : ℕ) : IVec S1024x512 32 := fun i =>
  pairWord (cell D.R D.X (512 * b + (i 1).val) (i 0).val) (cell D.R D.X (512 * b + (i 1).val) (1024 + (i 0).val))

/-- The first `k` parts of `W` are block `b`. -/
def WOK (D : Tables) (b k : ℕ) (W : IVec S1024x512 32) : Prop := ∀ i, (i 0).val / 64 < k → W i = weights D b i

/-- The plane holds the first `k` channels of block `b` and zeros after them. -/
def POK (D : Tables) (b k : ℕ) (P : IVec S8224x128 32) : Prop :=
  ∀ (i : S8224x128.Idx) (g r : ℕ), r < 2048 → (i 0).val = 2056 * g + r →
    P i = if 128 * g + (i 1).val < k then cell D.R D.X (512 * b + 128 * g + (i 1).val) r else 0#32

/-- After `k` points. -/
def Inv (D : Tables) (k : ℕ) (σ : St) : Prop :=
  k = 0 ∨ (σ.wc = weights D ((k - 1) / 16) ∧ σ.s = packed D ((k - 1) / 16)
    ∧ WOK D (min ((k - 1) / 16 + 1) 10) ((k - 1) % 16 + 1) σ.wn
    ∧ POK D (min ((k - 1) / 16 + 1) 10) (32 * ((k - 1) % 16 + 1)) σ.p)

theorem pok_part {D : Tables} (hG : Good D.R D.X) {b m : ℕ} (hb : b < 11) (hm : m < 16) {P : IVec S8224x128 32}
    (h : POK D b (32 * m) P) : POK D b (32 * (m + 1)) (blockPart D.R D.X b m P) := by
  intro i g r hr hi
  rw [part_cell hG hb hm hr P i hi, h i g r hr hi]
  by_cases h1 : 128 * g + (i 1).val < 32 * m
  · rw [if_neg (by omega), if_pos h1, if_pos (by omega)]
  · rw [if_neg h1]
    by_cases h2 : 128 * g + (i 1).val < 32 * (m + 1)
    · rw [if_pos (by omega), if_pos h2]; rfl
    · rw [if_neg (by omega), if_neg h2]

theorem wok_part {D : Tables} {b m : ℕ} {W : IVec S1024x512 32} (h : WOK D b m W) :
    WOK D b (m + 1) (tileAt m (decode (tblk D b) (extui 32 (cblk D b m) (by decide))) W) := by
  intro i hi
  unfold tileAt
  by_cases e : (i 0).val / 64 = m
  · rw [if_pos e]; subst e; rfl
  · rw [if_neg e]; exact h i (by omega)

theorem wok_all {D : Tables} {b : ℕ} {W : IVec S1024x512 32} (h : WOK D b 16 W) : W = weights D b :=
  funext fun i => h i (by have h : (i 0).val < 1024 := (i 0).isLt; omega)

theorem pok_all {D : Tables} {b : ℕ} {P : IVec S8224x128 32} (h : POK D b (32 * 16) P) : packFn P = packed D b := by
  funext i
  have h0 : (i 0).val < 1024 := (i 0).isLt
  have h1 : (i 1).val < 512 := (i 1).isLt
  unfold packFn packed
  dsimp only
  rw [h _ ((i 1).val / 128) (i 0).val (by omega) (by show 2056 * _ + 1024 * 0 + _ = _; omega),
    h _ ((i 1).val / 128) (1024 + (i 0).val) (by omega) (by show 2056 * _ + 1024 * 1 + _ = _; omega)]
  show pairWord (if 128 * ((i 1).val / 128) + (i 1).val % 128 < 32 * 16 then
      cell D.R D.X (512 * b + 128 * ((i 1).val / 128) + (i 1).val % 128) (i 0).val else 0#32)
    (if 128 * ((i 1).val / 128) + (i 1).val % 128 < 32 * 16 then
      cell D.R D.X (512 * b + 128 * ((i 1).val / 128) + (i 1).val % 128) (1024 + (i 0).val) else 0#32) = _
  rw [if_pos (by omega), if_pos (by omega),
    show 512 * b + 128 * ((i 1).val / 128) + (i 1).val % 128 = 512 * b + (i 1).val by omega]

theorem tileOf_cblk0 (D : Tables) (m : ℕ) : tileOf (cblk0 D) m = cblk D 0 m := rfl

theorem wok_first (D : Tables) (W : IVec S1024x512 32) : ∀ k, WOK D 0 k (firstW (tblk D 0) (cblk0 D) k W)
  | 0 => fun _ h => absurd h (Nat.not_lt_zero _)
  | k + 1 => by rw [firstW_succ, tileOf_cblk0]; exact wok_part (wok_first D W k)

theorem pok_zero (D : Tables) (b : ℕ) : POK D b 0 (fun _ => 0#32) := fun i g r _ _ => (if_neg (Nat.not_lt_zero _)).symm

theorem pok_first {D : Tables} (hG : Good D.R D.X) : ∀ k ≤ 16, POK D 0 (32 * k) (firstP D.R D.X k fun _ => 0#32)
  | 0, _ => pok_zero D 0
  | k + 1, h => by rw [firstP_succ]; exact pok_part hG (by decide) (by omega) (pok_first hG k (by omega))

/-- One point. -/
theorem inv_step {D : Tables} (hG : Good D.R D.X) {k : ℕ} (hk : k < 176) {σ : St} (h : Inv D k σ) :
    ((σ.first D.R D.X (tblk D 0) (cblk0 D) (k / 16) (k % 16)).hand (k % 16)).wc = weights D (k / 16)
    ∧ ((σ.first D.R D.X (tblk D 0) (cblk0 D) (k / 16) (k % 16)).hand (k % 16)).s = packed D (k / 16)
    ∧ Inv D (k + 1) (((σ.first D.R D.X (tblk D 0) (cblk0 D) (k / 16) (k % 16)).hand (k % 16)).next D.R D.X
        (tblk D (min (k / 16 + 1) 10)) (cblk D (min (k / 16 + 1) 10) (k % 16)) (k / 16) (k % 16)) := by
  have key : ∀ τ : St, WOK D (min (k / 16 + 1) 10) (k % 16) τ.wn → POK D (min (k / 16 + 1) 10) (32 * (k % 16)) τ.p →
      τ.wc = weights D (k / 16) → τ.s = packed D (k / 16) →
      τ.wc = weights D (k / 16) ∧ τ.s = packed D (k / 16) ∧ Inv D (k + 1) (τ.next D.R D.X
        (tblk D (min (k / 16 + 1) 10)) (cblk D (min (k / 16 + 1) 10) (k % 16)) (k / 16) (k % 16)) := by
    intro τ hw hp hc hs
    refine ⟨hc, hs, Or.inr ?_⟩
    rw [Nat.add_sub_cancel]
    exact ⟨hc, hs, wok_part hw, pok_part hG (by omega) (by omega) hp⟩
  by_cases hm : k % 16 = 0
  · have h0 : WOK D (k / 16) 16 (σ.first D.R D.X (tblk D 0) (cblk0 D) (k / 16) (k % 16)).wn
        ∧ POK D (k / 16) (32 * 16) (σ.first D.R D.X (tblk D 0) (cblk0 D) (k / 16) (k % 16)).p := by
      unfold St.first
      by_cases hn : k / 16 = 0
      · rw [if_pos ⟨hn, hm⟩, hn]
        exact ⟨wok_first D _ 16, pok_first hG 16 (by decide)⟩
      · rw [if_neg (by omega)]
        rcases h with h | ⟨-, -, hw, hp⟩
        · omega
        · rw [show min ((k - 1) / 16 + 1) 10 = k / 16 by omega, show (k - 1) % 16 + 1 = 16 by omega] at hw hp
          exact ⟨hw, hp⟩
    generalize (σ.first D.R D.X (tblk D 0) (cblk0 D) (k / 16) (k % 16)) = τ at h0
    refine key (τ.hand (k % 16)) ?_ ?_ ?_ ?_
    · rw [hm]; exact fun _ h => absurd h (Nat.not_lt_zero _)
    · rw [hm]; exact pok_zero D _
    · rw [hm]; exact wok_all h0.1
    · rw [hm]; exact pok_all h0.2
  · have e1 : σ.first D.R D.X (tblk D 0) (cblk0 D) (k / 16) (k % 16) = σ := if_neg (by omega)
    have e2 : σ.hand (k % 16) = σ := if_neg hm
    rw [e1, e2]
    rcases h with h | ⟨hc, hs, hw, hp⟩
    · omega
    · rw [show (k - 1) / 16 = k / 16 by omega] at hc hs hw hp
      rw [show (k - 1) % 16 + 1 = k % 16 by omega] at hw hp
      exact key σ hw hp hc hs

end Sparse
-- ==== Proof.Kernel.Blocks.lean ====
module

public import proofs.«01_k».proof.Proof.State
public import proofs.«01_k».proof.Proof.Gen.Kernel.Frame
public import Idealize.ShloMosaic.Lib.Pipeline.ValueKit

@[expose] public section

/-!
# The blocks a grid point reads

Point `t` works on channel block `t / 16` and token tile `t % 16`; it prepares part `t % 16` of the
next channel block.
-/

set_option pp.maxSteps 300

noncomputable section

namespace Cert.Kernel

open Cert.Kernel.Gen
open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ)

theorem coords_val : ∀ t : Fin cfg0.N, (grid0.coords t 0).val = t.val / 16 ∧ (grid0.coords t 1).val = t.val % 16 := by
  decide +kernel

theorem index0 : ∀ t : Fin cfg0.N, win0_0.index t = ![0] := by decide +kernel
theorem index1 : ∀ t : Fin cfg0.N, win0_1.index t = ![0] := by decide +kernel
theorem index2 : ∀ t : Fin cfg0.N, win0_2.index t = ![0, 0] := by decide +kernel
theorem index3 : ∀ t : Fin cfg0.N, win0_3.index t = ![t.val % 16, min (t.val / 16 + 1) 10] := by decide +kernel
theorem index4 : ∀ t : Fin cfg0.N, win0_4.index t = ![0, 0] := by decide +kernel
theorem index5 : ∀ t : Fin cfg0.N, win0_5.index t = ![0, min (t.val / 16 + 1) 10] := by decide +kernel
theorem index6 : ∀ t : Fin cfg0.N, win0_6.index t = ![t.val % 16, 0] := by decide +kernel
theorem index7 : ∀ t : Fin cfg0.N, win0_7.index t = ![t.val % 16, t.val / 16] := by decide +kernel
theorem index8 : ∀ t : Fin cfg0.N, win0_8.index t = ![t.val % 16, t.val / 16] := by decide +kernel

theorem t_lt (t : Fin cfg0.N) : t.val < 176 := by have := t.isLt; have e : cfg0.N = 176 := N_0; omega

/-- The arrays the kernel reads through its tables. -/
def tables (c : Dev nD) : Sparse.Tables :=
  ⟨V m c main_arg3, V m c main_v16, V m c main_arg1, V m c main_v2⟩

theorem iblk0 (c : Dev nD) (t : Fin cfg0.N) : iblk m c 0 t = (tables m c).R := by
  funext x
  show _ = V m c main_arg3 x
  blk_ext [iblk, index0 t]

theorem iblk1 (c : Dev nD) (t : Fin cfg0.N) : iblk m c 1 t = (tables m c).X := by
  funext x
  show _ = V m c main_v16 x
  blk_ext [iblk, index1 t]

theorem iblk2 (c : Dev nD) (t : Fin cfg0.N) : iblk m c 2 t = Sparse.cblk0 (tables m c) := by
  funext x
  show _ = V m c main_arg1 _
  blk_ext [iblk, index2 t]

theorem iblk3 (c : Dev nD) (t : Fin cfg0.N) :
    iblk m c 3 t = Sparse.cblk (tables m c) (min (t.val / 16 + 1) 10) (t.val % 16) := by
  funext x
  show _ = V m c main_arg1 _
  blk_ext [iblk, index3 t]

theorem iblk4 (c : Dev nD) (t : Fin cfg0.N) : iblk m c 4 t = Sparse.tblk (tables m c) 0 := by
  funext x
  show _ = V m c main_v2 _
  blk_ext [iblk, index4 t]

theorem iblk5 (c : Dev nD) (t : Fin cfg0.N) :
    iblk m c 5 t = Sparse.tblk (tables m c) (min (t.val / 16 + 1) 10) := by
  funext x
  show _ = V m c main_v2 _
  blk_ext [iblk, index5 t]

end Cert.Kernel
-- ==== Proof.Kernel.Launch.lean ====
module

public import proofs.«01_k».proof.Proof.Kernel.Bridge
public import proofs.«01_k».proof.Proof.Kernel.Blocks
public import Idealize.ShloMosaic.Lib.Pipeline.FrameSuffix

@[expose] public section

/-!
# The launch

What every grid point leaves in its result blocks, and the run of the whole program: the scratch
buffers pass from point to point as `Sparse.Inv` describes them.
-/

set_option pp.maxSteps 300

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers at `σ`. -/
abbrev scr (c : Dev nD) (σ : Sparse.St) : sProp 𝕄 :=
  Sparse.scratch c (Memref.whole cc0_scratch0) (Memref.whole cc0_scratch1) (Memref.whole cc0_scratch2)
    (Memref.whole cc0_scratch3) σ

/-- Before point `k`. -/
def phi (c : Dev nD) (k : ℕ) : sProp 𝕄 :=
  iprop((∃ σ, ⌜Sparse.Inv (tables m c) k σ⌝ ∗ scr c σ) ∗ ∃ r, prngReg c r)

/-- The dense result's block at point `t`. -/
def yAt (c : Dev nD) (t : Fin cfg0.N) : Vec F S512x512 .bf16 :=
  Sparse.outY (iblk m c 6 t) (Sparse.weights (tables m c) (t.val / 16)) (Sparse.packed (tables m c) (t.val / 16))

/-- The sparse result's block at point `t`. -/
def sAt (c : Dev nD) (t : Fin cfg0.N) : Vec F S512x512 .f32 :=
  Sparse.outS (iblk m c 6 t) (Sparse.packed (tables m c) (t.val / 16))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yAt m c t
    | ⟨8, _⟩ => sAt m c t
  Φ t := phi m c t.val
  q := Pipeline.shareOf spec0
  owed _ := 0

theorem A_eq (c : Dev nD) (w : Fin cfg0.W) : (dats m 0 c).A w = V m c (Pipeline.arrRef spec0 w) := by
  dsimp only [dats]

theorem phi_in (c : Dev nD) : (Pipeline.ΦA spec0 c : sProp 𝕄) ⊢ phi m c 0 := by
  unfold Pipeline.ΦA phi scr Sparse.scratch
  rw [scopedRest0_eq]
  simp only [owns_whole]
  iintro ⟨⟨⟨%a, Ha⟩, ⟨%b, Hb⟩, ⟨%p, Hp⟩, ⟨%s, Hs⟩⟩, Hg⟩
  isplitr [Hg]
  · iexists (⟨a, b, p, s⟩ : Sparse.St)
    isplitr
    · ipureintro; exact Or.inl rfl
    isplitl [Ha]; · iexact Ha
    isplitl [Hb]; · iexact Hb
    isplitl [Hp]; · iexact Hp
    iexact Hs
  iexact Hg

theorem phi_out (c : Dev nD) (k : ℕ) : phi m c k ⊢ (Pipeline.ΦA spec0 c : sProp 𝕄) := by
  unfold Pipeline.ΦA phi scr Sparse.scratch
  rw [scopedRest0_eq]
  simp only [owns_whole]
  iintro ⟨⟨%σ, -, Ha, Hb, Hp, Hs⟩, Hg⟩
  isplitr [Hg]
  · isplitl [Ha]; · iexists _; iexact Ha
    isplitl [Hb]; · iexists _; iexact Hb
    isplitl [Hp]; · iexists _; iexact Hp
    iexists _; iexact Hs
  iexact Hg

/-- One grid point: what the body does to its blocks and to the scratch buffers. -/
theorem point (c : Dev nD) (hG : Sparse.Good (tables m c).R (tables m c).X) (t : Fin cfg0.N) {σ : Sparse.St}
    (hσ : Sparse.Inv (tables m c) t.val σ) (a : Vec F S512x512 .bf16) (b : Vec F S512x512 .f32) {Φ : PUnit → sProp 𝕄} :
    iprop(Sparse.reads c (st0_0 t) (st0_1 t) (st0_2 t) (st0_3 t) (st0_4 t) (st0_5 t) (st0_6 t)
          (tables m c).R (tables m c).X (Sparse.cblk0 (tables m c))
          (Sparse.cblk (tables m c) (min (t.val / 16 + 1) 10) (t.val % 16)) (Sparse.tblk (tables m c) 0)
          (Sparse.tblk (tables m c) (min (t.val / 16 + 1) 10)) (iblk m c 6 t)
        ∗ Sparse.writes c (st0_7 t) (st0_8 t) a b ∗ scr c σ)
      ⊢ iprop((Sparse.reads c (st0_0 t) (st0_1 t) (st0_2 t) (st0_3 t) (st0_4 t) (st0_5 t) (st0_6 t)
          (tables m c).R (tables m c).X (Sparse.cblk0 (tables m c))
          (Sparse.cblk (tables m c) (min (t.val / 16 + 1) 10) (t.val % 16)) (Sparse.tblk (tables m c) 0)
          (Sparse.tblk (tables m c) (min (t.val / 16 + 1) 10)) (iblk m c 6 t)
          ∗ Sparse.writes c (st0_7 t) (st0_8 t) (yAt m c t) (sAt m c t)
          ∗ (∃ σ', ⌜Sparse.Inv (tables m c) (t.val + 1) σ'⌝ ∗ scr c σ') -∗ Φ ⟨⟩)
        -∗ wp frame (wpE (defs₀ (F := F)) Variants.none (c : Thread nD τ) none) Set.univ (bodyAt0 t) Φ) := by
  obtain ⟨K, hprog, hK⟩ := body_split (F := F) (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (st0_7 t) (hstage0_7 ((cfg0.slots t 7).cast nbuf0_7)) (st0_8 t) (hstage0_8 ((cfg0.slots t 8).cast nbuf0_8))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
  rw [head_eq] at hprog
  have hstep := Sparse.inv_step hG (t_lt t) hσ
  rw [← (coords_val t).1, ← (coords_val t).2] at hstep
  have hP := Sparse.point_triple (𝒱 := Variants.none) (c := c) (bd := none) (E := Set.univ) (defs := defs₀ (F := F))
    (st0_0 t) (st0_1 t) (st0_2 t) (st0_3 t) (st0_4 t) (st0_5 t) (st0_6 t)
    (st0_7 t) (hstage0_7 ((cfg0.slots t 7).cast nbuf0_7)) (st0_8 t)
    (Memref.whole cc0_scratch0) (Memref.whole cc0_scratch1) (Memref.whole cc0_scratch2) (Memref.whole cc0_scratch3)
    hG (blk_lt (grid0.coords t)) (part_lt (grid0.coords t)) Sparse.first_tile Sparse.first_inb
    (Sparse.tileOff (BitVec.ofNat 32 (grid0.coords t 1).val)) (Sparse.tileOff_eq (part_lt (grid0.coords t)))
    _ _ _ _ _ _ (bodyAt0 t) K hprog hK (σ := σ) (a := a) (b := b) (Φ := Φ)
    (x := iblk m c 6 t) (C0 := Sparse.cblk0 (tables m c))
    (C := Sparse.cblk (tables m c) (min ((grid0.coords t 0).val + 1) 10) (grid0.coords t 1).val)
    (T0 := Sparse.tblk (tables m c) 0) (T := Sparse.tblk (tables m c) (min ((grid0.coords t 0).val + 1) 10))
  rw [hstep.1, hstep.2.1] at hP
  unfold yAt sAt
  rw [← (coords_val t).1, ← (coords_val t).2]
  refine hP.trans ?_
  iintro H HΦ
  iapply H
  iintro ⟨Hr, Hw, Hs⟩
  iapply HΦ
  isplitl [Hr]; · iexact Hr
  isplitl [Hw]; · iexact Hw
  iexists _
  isplitr
  · ipureintro; exact hstep.2.2
  iexact Hs

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
theorem sound_body (c : Dev nD) (hG : Sparse.Good (tables m c).R (tables m c).X) (t : Fin cfg0.N) :
    bodyPre m c t ⊢ wp frame (wpE (defs₀ (F := F)) Variants.none (c : Thread nD τ) none) Set.univ (bodyAt0 t)
      (fun _ => bodyPost m c t) := by
  unfold bodyPre bodyPost
  rw [show (dats m 0 c).Φ t.succ = phi m c (t.val + 1) from rfl, show (dats m 0 c).Φ t.castSucc = phi m c t.val from rfl,
    show (dats m 0 c).owesAt () t.succ = (dats m 0 c).owesAt () t.castSucc from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl, show (dats m 0 c).after 5 t = iblk m c 5 t from rfl,
    show (dats m 0 c).after 6 t = iblk m c 6 t from rfl, show (dats m 0 c).after 7 t = yAt m c t from rfl,
    show (dats m 0 c).after 8 t = sAt m c t from rfl]
  simp only [before0_0_of m (dats m 0 c) rfl (fun _ => rfl) t, before0_1_of m (dats m 0 c) rfl (fun _ => rfl) t,
    before0_2_of m (dats m 0 c) rfl (fun _ => rfl) t, before0_3_of m (dats m 0 c) rfl (fun _ => rfl) t,
    before0_4_of m (dats m 0 c) rfl (fun _ => rfl) t, before0_5_of m (dats m 0 c) rfl (fun _ => rfl) t,
    before0_6_of m (dats m 0 c) rfl (fun _ => rfl) t, iblk0, iblk1, iblk2, iblk3, iblk4, iblk5]
  unfold phi
  iintro ⟨⟨⟨%σ, %hσ, Hs⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (point m c hG t hσ ((dats m 0 c).before 7 t d7) ((dats m 0 c).before 8 t d8)) $$ [H0 H1 H2 H3 H4 H5 H6 H7 H8 Hs]
  · isplitl [H0 H1 H2 H3 H4 H5 H6]
    · unfold Sparse.reads
      isplitl [H0]; · iexact H0
      isplitl [H1]; · iexact H1
      isplitl [H2]; · iexact H2
      isplitl [H3]; · iexact H3
      isplitl [H4]; · iexact H4
      isplitl [H5]; · iexact H5
      iexact H6
    isplitl [H7 H8]
    · unfold Sparse.writes
      isplitl [H7]; · iexact H7
      iexact H8
    iexact Hs
  unfold Sparse.reads Sparse.writes
  iintro ⟨⟨H0, H1, H2, H3, H4, H5, H6⟩, ⟨H7, H8⟩, Hs⟩
  isplitl [Hs Hg]
  · isplitl [Hs]; · iexact Hs
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) (hG : Sparse.Good (tables m c).R (tables m c).X) :
    BodyObligation (dats (F := F) m 0 c) (defs₀ (F := F)) Variants.none () Set.univ := fun t => by
  rw [bigSep_W0, bigSep_W0, defs₀_row]
  exact triple_restated (sound_body m c hG t) rfl .rfl fun _ => .rfl

/-- The run of the program. -/
theorem run_main (hG : ∀ c, Sparse.Good (tables m c).R (tables m c).X) :
    θ_run defs (onTc (τ := τ) (main (F := F))) (s₀ m ρ) (fun r =>
      Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c (hG c)).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := fun c => phi_in m c) (hout := fun c => phi_out m c _)

/-- The arguments end unchanged, every semaphore counter at zero. -/
theorem frame (hG : ∀ c, Sparse.Good (tables m c).R (tables m c).X) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
      ((h.1 c).1 3).trans (((dats m 0 c).arrAt_in 3 rfl _).trans (V_main_arg1 m c)),
      ((h.1 c).2 main_arg2 (Pipeline.mem_restRefs_of main_arg2 (by decide) (by decide))).trans (W_main_arg2 m (dats m) c),
      ((h.1 c).1 0).trans (((dats m 0 c).arrAt_in 0 rfl _).trans (V_main_arg3 m c)),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c)⟩, h.2⟩)
    (run_main m ρ hG)

end Cert.Kernel
-- ==== Proof.Csr.lean ====
module

public import proofs.«01_k».proof.Proof.Model
public import proofs.«01_k».proof.Pre_csr
public import proofs.«01_k».proof.Pre_in_range
public import Idealize.ShloMosaic.Lib.StableHlo.Predicate

@[expose] public section

/-!
# The preconditions, read

The row pointers are within the entries and the columns are in range; for the values, the columns
are also strictly increasing within a row.
-/

set_option pp.maxSteps 300

noncomputable section

namespace Sparse

open Idealize.ShloMosaic Idealize.ShloMosaic.ValueIdx Idealize.ShloMosaic.StableHlo.Predicate

/-- What the kernel needs of the row pointers and the columns to run. -/
structure Bounded (R : IVec S5633 32) (C : IVec ⟨1, ![51904]⟩ 32) : Prop where
  le : ∀ n ≤ 5632, rp R n ≤ 51904
  col_lt : ∀ k < 51904, (wordAt C k).toNat < 2048

/-- What it needs of them for its values. -/
structure Csr (R : IVec S5633 32) (C : IVec ⟨1, ![51904]⟩ 32) : Prop extends Bounded R C where
  incr : ∀ n < 5632, ∀ k, rp R n ≤ k → k + 1 < rp R (n + 1) → (wordAt C k).toNat < (wordAt C (k + 1)).toNat

theorem andi_one {a b : BitVec 1} : IntOp.andi a b = 1#1 ↔ a = 1#1 ∧ b = 1#1 := by
  revert a b; decide

theorem noti_ori_one {a b : BitVec 1} (h : IntOp.ori (~~~a) b = 1#1) (ha : a = 1#1) : b = 1#1 := by
  revert a b; decide

theorem wordAt_of_lt {n : ℕ} (X : IVec ⟨1, ![n]⟩ 32) {k : ℕ} (h : k < n) : wordAt X k = X (ix1 ⟨k, h⟩) := dif_pos h

theorem bounded_of {R : IVec S5633 32} {C : IVec ⟨1, ![51904]⟩ 32}
    (hR : ∀ i, IntOp.andi (IntOp.cmpi .sge (R i) 0#32) (IntOp.cmpi .sle (R i) 51904#32) = 1#1)
    (hC : ∀ i, IntOp.andi (IntOp.cmpi .sge (C i) 0#32) (IntOp.cmpi .slt (C i) 2048#32) = 1#1) : Bounded R C where
  le n hn := by
    obtain ⟨a, b⟩ := andi_one.1 (hR (ix1 ⟨n, by omega⟩))
    simp only [IntOp.cmpi, ofBool_eq_one_iff, BitVec.sle, decide_eq_true_eq] at a b
    unfold rp
    rw [wordAt_of_lt R (by omega : n < 5633)]
    rw [show (0#32 : BitVec 32).toInt = 0 from rfl] at a
    rw [show (51904#32 : BitVec 32).toInt = 51904 from rfl] at b
    rw [BitVec.toInt_eq_toNat_cond] at a b
    split at a <;> omega
  col_lt k hk := by
    obtain ⟨a, b⟩ := andi_one.1 (hC (ix1 ⟨k, hk⟩))
    simp only [IntOp.cmpi, ofBool_eq_one_iff, BitVec.sle, BitVec.slt, decide_eq_true_eq] at a b
    rw [wordAt_of_lt C hk]
    rw [show (0#32 : BitVec 32).toInt = 0 from rfl] at a
    rw [show (2048#32 : BitVec 32).toInt = 2048 from rfl] at b
    rw [BitVec.toInt_eq_toNat_cond] at a b
    split at a <;> omega

variable {F : FTy → Type} [FloatOps F]

theorem bounded_of_fn [Cert.Pre_in_range.Facts] (x : FVec F Cert.Pre_in_range.S2x4096x2048 .bf16)
    (q : IVec Cert.Pre_in_range.S1024x5632 8) (l : IVec Cert.Pre_in_range.S5632x16 16) (R : IVec S5633 32)
    (C : IVec ⟨1, ![51904]⟩ 32) (v : IVec ⟨1, ![51904]⟩ 16)
    (h1 : (Cert.Pre_in_range.fn x q l R C v).1 = fun _ => 1#1)
    (h2 : (Cert.Pre_in_range.fn x q l R C v).2 = fun _ => 1#1) : Bounded R C :=
  bounded_of (congrFun h1) (congrFun h2)

theorem csr_of_fn [Cert.Pre_csr.Facts] (x : FVec F Cert.Pre_csr.S2x4096x2048 .bf16) (q : IVec Cert.Pre_csr.S1024x5632 8)
    (l : IVec Cert.Pre_csr.S5632x16 16) (R : IVec S5633 32) (C : IVec ⟨1, ![51904]⟩ 32) (v : IVec ⟨1, ![51904]⟩ 16)
    (h1 : (Cert.Pre_csr.fn x q l R C v).1 = fun _ => 1#1)
    (h2 : (Cert.Pre_csr.fn x q l R C v).2.1 = fun _ => 1#1)
    (h3 : (Cert.Pre_csr.fn x q l R C v).2.2 = fun _ => 1#1) : Csr R C := by
  have hB : Bounded R C := bounded_of (congrFun h1) (congrFun h2)
  have le := hB.le
  have col := hB.col_lt
  refine ⟨hB, ?_⟩
  intro n hn k hk1 hk2
  have hub := le (n + 1) (by omega)
  have hlt : rp R n < 2 ^ 31 := by have := le n (by omega); omega
  have e := congrFun h3 (ix2 ⟨n, hn⟩ ⟨k, by omega⟩)
  have e' : IntOp.ori (~~~(IntOp.andi (IntOp.cmpi .sle (R (ix1 ⟨n, by omega⟩)) (BitVec.ofNat 32 k))
      (IntOp.cmpi .slt (IntOp.addi (BitVec.ofNat 32 k) 1#32) (R (ix1 ⟨n + 1, by omega⟩)))))
      (IntOp.cmpi .slt (C (ix1 ⟨k, by omega⟩)) (C (ix1 ⟨k + 1, by omega⟩))) = 1#1 := by
    refine Eq.trans (congrArg₂ _ (congrArg _ (congrArg₂ _ (congrArg₂ _ (congrArg R (funext fun a => ?_)) rfl)
      (congrArg₂ _ rfl (congrArg R (funext fun a => ?_))))) (congrArg₂ _ (congrArg C (funext fun a => ?_)) (congrArg C (funext fun a => ?_)))) e
    · match a with | ⟨0, _⟩ => exact Fin.ext (by show n = 0 + n; omega)
    · match a with | ⟨0, _⟩ => exact Fin.ext (by show n + 1 = 1 + n; omega)
    · match a with | ⟨0, _⟩ => exact Fin.ext (by show k = 0 + k; omega)
    · match a with | ⟨0, _⟩ => exact Fin.ext (by show k + 1 = 1 + k; omega)
  have hk : (BitVec.ofNat 32 k).toNat = k := by rw [BitVec.toNat_ofNat]; omega
  have hk1' : (IntOp.addi (BitVec.ofNat 32 k) 1#32).toNat = k + 1 := by
    show (BitVec.ofNat 32 k + 1#32).toNat = _
    rw [BitVec.toNat_add, hk]; show (k + 1) % 2 ^ 32 = _; omega
  have e6 := noti_ori_one e' (andi_one.mpr ⟨?_, ?_⟩)
  · rw [wordAt_of_lt C (by omega : k < 51904), wordAt_of_lt C (by omega : k + 1 < 51904)]
    have a := col k (by omega)
    have b := col (k + 1) (by omega)
    rw [wordAt_of_lt C (by omega)] at a b
    exact (slt_iff_toNat (by omega) (by omega)).mp e6
  · rw [← wordAt_of_lt R (by omega : n < 5633)]
    exact (sle_iff_toNat hlt (by omega)).mpr (by rw [hk]; exact hk1)
  · rw [← wordAt_of_lt R (by omega : n + 1 < 5633)]
    refine (slt_iff_toNat (by omega) ?_).mpr (by rw [hk1']; exact hk2)
    show rp R (n + 1) < _; omega

end Sparse
-- ==== Proof.Words.lean ====
module

public import proofs.«01_k».proof.Proof.Csr

@[expose] public section

/-!
# The entry words

An entry word holds the value's sixteen bits above and the plane row below: column `c` goes to row
`c % 2 * 1024 + c / 2`.
-/

noncomputable section

namespace Sparse

open Idealize.ShloMosaic

/-- The word of an entry: its column `c` and its value bits `v`. -/
def entryWord (c : BitVec 32) (v : BitVec 16) : BitVec 32 :=
  IntOp.ori (IntOp.shli .host (v.setWidth 32) 16#32)
    (IntOp.addi (IntOp.muli (IntOp.andi c 1#32) 1024#32) (IntOp.shrsi .host c 1#32))

/-- The plane row of column `c`. -/
def planeRow (c : ℕ) : ℕ := c % 2 * 1024 + c / 2

theorem planeRow_lt {c : ℕ} (h : c < 2048) : planeRow c < 2048 := by unfold planeRow; omega

/-- The lower half of an entry word. -/
def lowHalf (c : BitVec 32) : BitVec 32 :=
  IntOp.addi (IntOp.muli (IntOp.andi c 1#32) 1024#32) (IntOp.shrsi .host c 1#32)

theorem lowHalf_toNat {c : BitVec 32} (h : c.toNat < 2048) : (lowHalf c).toNat = planeRow c.toNat := by
  have e1 : IntOp.shrsi .host c 1#32 = BitVec.ofNat 32 (c.toNat / 2) := by
    unfold IntOp.shrsi
    rw [if_pos (by decide)]
    apply BitVec.eq_of_toInt_eq
    rw [BitVec.sshiftRight_eq', BitVec.toInt_sshiftRight, BitVec.toInt_eq_toNat_of_lt (by omega),
      BitVec.toInt_eq_toNat_of_lt (by rw [BitVec.toNat_ofNat]; omega), BitVec.toNat_ofNat,
      Nat.mod_eq_of_lt (by omega)]
    rw [Int.shiftRight_eq_div_pow, BitVec.toNat_ofNat, Nat.mod_eq_of_lt (by omega)]
    norm_num
  have e2 : (IntOp.andi c 1#32).toNat = c.toNat % 2 := by
    show (c &&& 1#32).toNat = _
    rw [BitVec.toNat_and]
    exact Nat.and_one_is_mod _
  unfold lowHalf planeRow
  rw [e1]
  show (IntOp.andi c 1#32 * 1024#32 + _).toNat = _
  rw [BitVec.toNat_add, BitVec.toNat_mul, e2, BitVec.toNat_ofNat, BitVec.toNat_ofNat]
  omega

theorem entryWord_low {c : BitVec 32} (v : BitVec 16) (h : c.toNat < 2048) :
    (entryWord c v &&& 65535#32).toNat = planeRow c.toNat := by
  have hl := lowHalf_toNat h
  have hp := planeRow_lt h
  have e : entryWord c v &&& 65535#32 = lowHalf c := by
    show (IntOp.shli .host (v.setWidth 32) 16#32 ||| lowHalf c) &&& 65535#32 = _
    unfold IntOp.shli
    rw [if_pos (by decide)]
    ext i hi
    have hb : 16 ≤ i → (lowHalf c)[i] = false := fun h16 => by
      rw [BitVec.getElem_eq_testBit_toNat]
      exact Nat.testBit_lt_two_pow (lt_of_lt_of_le (by omega : (lowHalf c).toNat < 2 ^ 16) (Nat.pow_le_pow_right (by decide) h16))
    have hm : (65535#32)[i] = decide (i < 16) := by
      rw [BitVec.getElem_eq_testBit_toNat]
      exact Nat.testBit_two_pow_sub_one 16 i
    simp only [BitVec.getElem_and, BitVec.getElem_or, hm]
    by_cases h16 : i < 16
    · simp [h16, BitVec.shiftLeft_eq']
    · simp [h16, hb (by omega)]
  rw [e, hl]

theorem highMask (j : Fin 32) : (4294901760#32)[j.val] = decide (16 ≤ j.val) := by
  revert j; decide

theorem entryWord_high {c : BitVec 32} (v : BitVec 16) (h : c.toNat < 2048) :
    high (entryWord c v) = v.setWidth 32 <<< 16 := by
  have hl := lowHalf_toNat h
  have hp := planeRow_lt h
  show (IntOp.shli .host (v.setWidth 32) 16#32 ||| lowHalf c) &&& 4294901760#32 = _
  unfold IntOp.shli
  rw [if_pos (by decide)]
  ext i hi
  have hb : 16 ≤ i → (lowHalf c)[i] = false := fun h16 => by
    rw [BitVec.getElem_eq_testBit_toNat]
    exact Nat.testBit_lt_two_pow (lt_of_lt_of_le (by omega : (lowHalf c).toNat < 2 ^ 16) (Nat.pow_le_pow_right (by decide) h16))
  have hm : (4294901760#32)[i] = decide (16 ≤ i) := highMask ⟨i, hi⟩
  simp only [BitVec.getElem_and, BitVec.getElem_or, hm]
  by_cases h16 : i < 16
  · simp [h16, BitVec.shiftLeft_eq']
  · simp [h16, hb (by omega), BitVec.shiftLeft_eq']
    omega

/-- What the body needs, from an index within bounds and its entry words. -/
theorem Bounded.good {R : IVec S5633 32} {C : IVec ⟨1, ![51904]⟩ 32} (h : Bounded R C) (v : ℕ → BitVec 16) (X : IVec S51920 32)
    (hX : ∀ k < 51904, wordAt X k = entryWord (wordAt C k) (v k)) (hX0 : ∀ k, 51904 ≤ k → wordAt X k = 0#32) :
    Good R X where
  le := h.le
  low_lt k hk := by
    unfold low
    by_cases hk' : k < 51904
    · rw [hX k hk', entryWord_low _ (h.col_lt k hk')]
      exact planeRow_lt (h.col_lt k hk')
    · rw [hX0 k (by omega)]
      decide

end Sparse
-- ==== Proof.Kernel.Entries.lean ====
module

public import proofs.«01_k».proof.Proof.Kernel.Blocks
public import proofs.«01_k».proof.Proof.Words
public import Idealize.ShloMosaic.Lib.Claim

@[expose] public section

/-!
# The entry words the launch is given
-/

set_option pp.maxSteps 300

noncomputable section

namespace Cert.Kernel

open Cert.Kernel.Gen
open Idealize.ShloMosaic Idealize.ShloMosaic.TcCoe Idealize.ShloMosaic.Tactic Idealize.SL.Sem

variable {F : FTy → Type} [FloatOps F]
variable (m : (ℓ : Loc nD τ sig) → Buf (Elt F) ℓ)

/-- The columns and the value bits, as launched. -/
def colsAt (c : Dev nD) : IVec S51904 32 := m (c, Proc.tc.devRef main_arg4)
def valsAt (c : Dev nD) : IVec S51904 16 := m (c, Proc.tc.devRef main_arg5)

/-- The entry words before they are padded. -/
def wordsAt (c : Dev nD) : IVec S51904 32 := fun i => Sparse.entryWord (colsAt m c i) (valsAt m c i)

theorem V_main_v16 (c : Dev nD) : V m c main_v16
    = pad S51920 ![0] ![16] ![0] (wordsAt m c) (constantI S_ 32 0#32) pads_S51904_S51920_0160 h_S_ := by
  simp only [V, V0, hostOps0, hostOps0_1, hostOps0_2, List.flatten_cons, List.flatten_nil, List.append_nil, List.cons_append, List.nil_append]
  entry_read
  rfl

theorem wordAt_lt (c : Dev nD) (k : ℕ) (hk : k < 51904) : Sparse.wordAt (tables m c).X k
    = Sparse.entryWord (colsAt m c (ValueIdx.ix1 ⟨k, hk⟩)) (valsAt m c (ValueIdx.ix1 ⟨k, hk⟩)) := by
  refine (Sparse.wordAt_of_lt _ (by omega : k < 51920)).trans ?_
  show V m c main_v16 (ValueIdx.ix1 ⟨k, by omega⟩) = _
  rw [V_main_v16]
  unfold pad
  rw [dif_pos (fun a => by
    match a with
    | ⟨0, _⟩ => exact ⟨Nat.zero_le _, Nat.mod_one _, by show (k - 0) / 1 < 51904; omega⟩)]
  refine congrArg (wordsAt m c) (funext fun a => ?_)
  match a with
  | ⟨0, _⟩ => exact Fin.ext (by show (k - 0) / 1 = k; omega)

theorem wordAt_ge (c : Dev nD) (k : ℕ) (hk : 51904 ≤ k) : Sparse.wordAt (tables m c).X k = 0#32 := by
  by_cases h : k < 51920
  · refine (Sparse.wordAt_of_lt _ h).trans ?_
    show V m c main_v16 (ValueIdx.ix1 ⟨k, h⟩) = _
    rw [V_main_v16]
    unfold pad
    rw [dif_neg (fun H => by
      have h0 : (k - 0) / 1 < 51904 := (H (0 : Fin 1)).2.2
      omega)]
    rfl
  · exact dif_neg h

/-- Under an index within bounds the tables are what the body needs. -/
theorem good (c : Dev nD) (h : Sparse.Bounded (m ((c : Thread nD τ).loc main_arg3)) (m ((c : Thread nD τ).loc main_arg4))) :
    Sparse.Good (tables m c).R (tables m c).X := by
  have hR : (tables m c).R = m ((c : Thread nD τ).loc main_arg3) := V_main_arg3 m c
  rw [hR]
  refine h.good (fun k => if hk : k < 51904 then valsAt m c (ValueIdx.ix1 ⟨k, hk⟩) else 0#16) _ (fun k hk => ?_) (wordAt_ge m c)
  rw [wordAt_lt m c k hk, dif_pos hk, Sparse.wordAt_of_lt _ hk]
  rfl

end Cert.Kernel
-- ==== Proof.KernelIdeal.Bridge.lean ====
module

public import proofs.«01_k».proof.Proof.Point
public import proofs.«01_k».proof.Proof.Gen.KernelIdeal
public import Idealize.ShloMosaic.Lib.Tactic

@[expose] public section

/-!
# The printed body is the structured one

The printed body runs `Sparse.head`, then `Sparse.prepare` on what it returns.
-/

set_option pp.maxSteps 300

noncomputable section

namespace Cert.KernelIdeal

open Idealize.ShloMosaic Idealize.SL.Sem

variable {F : FTy → Type} [FloatOps F]

theorem blk_lt (i : grid0.Coords) : (i 0).val < 11 := (i 0).isLt
theorem part_lt (i : grid0.Coords) : (i 1).val < 16 := (i 1).isLt

/-- The printed start of the body. -/
theorem head_eq
    (i : grid0.Coords) (arg2 : Memref sig .tc .smem S5633 .i32) (harg2 : arg2.IsWhole)
    (arg3 : Memref sig .tc .smem S51920 .i32) (harg3 : arg3.IsWhole) (arg4 : Memref sig .tc .vmem S1024x512 .i8)
    (harg4 : arg4.IsWhole) (arg5 : Memref sig .tc .vmem S64x512 .i8) (harg5 : arg5.IsWhole)
    (arg6 : Memref sig .tc .vmem S8x512 .i32) (harg6 : arg6.IsWhole) (arg7 : Memref sig .tc .vmem S8x512 .i32)
    (harg7 : arg7.IsWhole) (arg8 : Memref sig .tc .vmem S512x2048 .bf16) (harg8 : arg8.IsWhole)
    (arg9 : Memref sig .tc .vmem S512x512 .bf16) (harg9 : arg9.IsWhole) (arg10 : Memref sig .tc .vmem S512x512 .f32)
    (harg10 : arg10.IsWhole) (arg11 : Memref sig .tc .vmem S1024x512 .i32) (harg11 : arg11.IsWhole)
    (arg12 : Memref sig .tc .vmem S1024x512 .i32) (harg12 : arg12.IsWhole)
    (arg13 : Memref sig .tc .vmem S8224x128 .i32) (harg13 : arg13.IsWhole)
    (arg14 : Memref sig .tc .vmem S1024x512 .i32) (harg14 : arg14.IsWhole) :
    k0_part246 (F := F) i arg2 harg2 arg3 harg3 arg4 harg4 arg5 harg5 arg6 harg6 arg7 harg7 arg8 harg8
      arg9 harg9 arg10 harg10 arg11 harg11 arg12 harg12 arg13 harg13 arg14 harg14
      = Sparse.head arg2 arg3 arg4 arg5 arg6 arg7 arg8 arg9 harg9 arg10 arg11 arg12 arg13 arg14
        (BitVec.ofNat 32 (i 0).val) (BitVec.ofNat 32 (i 1).val) Sparse.first_tile Sparse.first_inb := by
  sl_kernel_rfl

set_option maxRecDepth 100000 in
set_option maxHeartbeats 4000000 in
/-- The printed body, split after its start. -/
theorem body_split
    (i : grid0.Coords) (arg2 : Memref sig .tc .smem S5633 .i32) (harg2 : arg2.IsWhole)
    (arg3 : Memref sig .tc .smem S51920 .i32) (harg3 : arg3.IsWhole) (arg4 : Memref sig .tc .vmem S1024x512 .i8)
    (harg4 : arg4.IsWhole) (arg5 : Memref sig .tc .vmem S64x512 .i8) (harg5 : arg5.IsWhole)
    (arg6 : Memref sig .tc .vmem S8x512 .i32) (harg6 : arg6.IsWhole) (arg7 : Memref sig .tc .vmem S8x512 .i32)
    (harg7 : arg7.IsWhole) (arg8 : Memref sig .tc .vmem S512x2048 .bf16) (harg8 : arg8.IsWhole)
    (arg9 : Memref sig .tc .vmem S512x512 .bf16) (harg9 : arg9.IsWhole) (arg10 : Memref sig .tc .vmem S512x512 .f32)
    (harg10 : arg10.IsWhole) (arg11 : Memref sig .tc .vmem S1024x512 .i32) (harg11 : arg11.IsWhole)
    (arg12 : Memref sig .tc .vmem S1024x512 .i32) (harg12 : arg12.IsWhole)
    (arg13 : Memref sig .tc .vmem S8224x128 .i32) (harg13 : arg13.IsWhole)
    (arg14 : Memref sig .tc .vmem S1024x512 .i32) (harg14 : arg14.IsWhole) :
    ∃ K, cc0_w4_sparse_linear (F := F) i arg2 harg2 arg3 harg3 arg4 harg4 arg5 harg5 arg6 harg6 arg7 harg7 arg8 harg8
      arg9 harg9 arg10 harg10 arg11 harg11 arg12 harg12 arg13 harg13 arg14 harg14
        = (k0_part246 (F := F) i arg2 harg2 arg3 harg3 arg4 harg4 arg5 harg5 arg6 harg6 arg7 harg7 arg8 harg8
      arg9 harg9 arg10 harg10 arg11 harg11 arg12 harg12 arg13 harg13 arg14 harg14) >>= K ∧
      ∀ t cs, K ⟨BitVec.ofNat 32 (i 1).val, iota .tc S1x128 32 [1] Sparse.iota_ok,
          Scalar.minsi (Scalar.addi (BitVec.ofNat 32 (i 0).val) 1#32) 10#32, t, cs⟩
        = Sparse.prepare arg2 arg3 arg11 arg13 (Sparse.blkAt (i 0).val) (Sparse.locAt (i 1).val)
          (Sparse.tileOff (BitVec.ofNat 32 (i 1).val)) (Sparse.tile_inb (part_lt i))
          (Sparse.at_inb (blk_lt i) (part_lt i)).1 Sparse.loopC_ok (Sparse.at_inb (blk_lt i) (part_lt i)).2
          (Sparse.checks _) (Sparse.restChecks _) t cs := by
  refine ⟨?R, ?A, ?B⟩
  case A =>
    unfold cc0_w4_sparse_linear k0_part487
    exact bind_assoc (m := Prog (TpuEff nD τ Cert.KernelIdeal.sig (Elt F) Λ₀ .tc)) _ _ _
  case B =>
    intro t cs
    sl_kernel_rfl

end Cert.KernelIdeal
-- ==== Proof.KernelIdeal.Blocks.lean ====
module

public import proofs.«01_k».proof.Proof.State
public import proofs.«01_k».proof.Proof.Gen.KernelIdeal.Frame
public import Idealize.ShloMosaic.Lib.Pipeline.ValueKit

@[expose] public section

/-!
# The blocks a grid point reads

Point `t` works on channel block `t / 16` and token tile `t % 16`; it prepares part `t % 16` of the
next channel block.
-/

set_option pp.maxSteps 300

noncomputable section

namespace Cert.KernelIdeal

open Cert.KernelIdeal.Gen
open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ)

theorem coords_val : ∀ t : Fin cfg0.N, (grid0.coords t 0).val = t.val / 16 ∧ (grid0.coords t 1).val = t.val % 16 := by
  decide +kernel

theorem index0 : ∀ t : Fin cfg0.N, win0_0.index t = ![0] := by decide +kernel
theorem index1 : ∀ t : Fin cfg0.N, win0_1.index t = ![0] := by decide +kernel
theorem index2 : ∀ t : Fin cfg0.N, win0_2.index t = ![0, 0] := by decide +kernel
theorem index3 : ∀ t : Fin cfg0.N, win0_3.index t = ![t.val % 16, min (t.val / 16 + 1) 10] := by decide +kernel
theorem index4 : ∀ t : Fin cfg0.N, win0_4.index t = ![0, 0] := by decide +kernel
theorem index5 : ∀ t : Fin cfg0.N, win0_5.index t = ![0, min (t.val / 16 + 1) 10] := by decide +kernel
theorem index6 : ∀ t : Fin cfg0.N, win0_6.index t = ![t.val % 16, 0] := by decide +kernel
theorem index7 : ∀ t : Fin cfg0.N, win0_7.index t = ![t.val % 16, t.val / 16] := by decide +kernel
theorem index8 : ∀ t : Fin cfg0.N, win0_8.index t = ![t.val % 16, t.val / 16] := by decide +kernel

theorem t_lt (t : Fin cfg0.N) : t.val < 176 := by have := t.isLt; have e : cfg0.N = 176 := N_0; omega

/-- The arrays the kernel reads through its tables. -/
def tables (c : Dev nD) : Sparse.Tables :=
  ⟨V m c main_arg3, V m c main_v16, V m c main_arg1, V m c main_v2⟩

theorem iblk0 (c : Dev nD) (t : Fin cfg0.N) : iblk m c 0 t = (tables m c).R := by
  funext x
  show _ = V m c main_arg3 x
  blk_ext [iblk, index0 t]

theorem iblk1 (c : Dev nD) (t : Fin cfg0.N) : iblk m c 1 t = (tables m c).X := by
  funext x
  show _ = V m c main_v16 x
  blk_ext [iblk, index1 t]

theorem iblk2 (c : Dev nD) (t : Fin cfg0.N) : iblk m c 2 t = Sparse.cblk0 (tables m c) := by
  funext x
  show _ = V m c main_arg1 _
  blk_ext [iblk, index2 t]

theorem iblk3 (c : Dev nD) (t : Fin cfg0.N) :
    iblk m c 3 t = Sparse.cblk (tables m c) (min (t.val / 16 + 1) 10) (t.val % 16) := by
  funext x
  show _ = V m c main_arg1 _
  blk_ext [iblk, index3 t]

theorem iblk4 (c : Dev nD) (t : Fin cfg0.N) : iblk m c 4 t = Sparse.tblk (tables m c) 0 := by
  funext x
  show _ = V m c main_v2 _
  blk_ext [iblk, index4 t]

theorem iblk5 (c : Dev nD) (t : Fin cfg0.N) :
    iblk m c 5 t = Sparse.tblk (tables m c) (min (t.val / 16 + 1) 10) := by
  funext x
  show _ = V m c main_v2 _
  blk_ext [iblk, index5 t]

end Cert.KernelIdeal
-- ==== Proof.KernelIdeal.Launch.lean ====
module

public import proofs.«01_k».proof.Proof.KernelIdeal.Bridge
public import proofs.«01_k».proof.Proof.KernelIdeal.Blocks
public import Idealize.ShloMosaic.Lib.Pipeline.FrameSuffix

@[expose] public section

/-!
# The launch

What every grid point leaves in its result blocks, and the run of the whole program: the scratch
buffers pass from point to point as `Sparse.Inv` describes them.
-/

set_option pp.maxSteps 300

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers at `σ`. -/
abbrev scr (c : Dev nD) (σ : Sparse.St) : sProp 𝕄 :=
  Sparse.scratch c (Memref.whole cc0_scratch0) (Memref.whole cc0_scratch1) (Memref.whole cc0_scratch2)
    (Memref.whole cc0_scratch3) σ

/-- Before point `k`. -/
def phi (c : Dev nD) (k : ℕ) : sProp 𝕄 :=
  iprop((∃ σ, ⌜Sparse.Inv (tables m c) k σ⌝ ∗ scr c σ) ∗ ∃ r, prngReg c r)

/-- The dense result's block at point `t`. -/
def yAt (c : Dev nD) (t : Fin cfg0.N) : Vec F S512x512 .bf16 :=
  Sparse.outY (iblk m c 6 t) (Sparse.weights (tables m c) (t.val / 16)) (Sparse.packed (tables m c) (t.val / 16))

/-- The sparse result's block at point `t`. -/
def sAt (c : Dev nD) (t : Fin cfg0.N) : Vec F S512x512 .f32 :=
  Sparse.outS (iblk m c 6 t) (Sparse.packed (tables m c) (t.val / 16))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yAt m c t
    | ⟨8, _⟩ => sAt m c t
  Φ t := phi m c t.val
  q := Pipeline.shareOf spec0
  owed _ := 0

theorem A_eq (c : Dev nD) (w : Fin cfg0.W) : (dats m 0 c).A w = V m c (Pipeline.arrRef spec0 w) := by
  dsimp only [dats]

theorem phi_in (c : Dev nD) : (Pipeline.ΦA spec0 c : sProp 𝕄) ⊢ phi m c 0 := by
  unfold Pipeline.ΦA phi scr Sparse.scratch
  rw [scopedRest0_eq]
  simp only [owns_whole]
  iintro ⟨⟨⟨%a, Ha⟩, ⟨%b, Hb⟩, ⟨%p, Hp⟩, ⟨%s, Hs⟩⟩, Hg⟩
  isplitr [Hg]
  · iexists (⟨a, b, p, s⟩ : Sparse.St)
    isplitr
    · ipureintro; exact Or.inl rfl
    isplitl [Ha]; · iexact Ha
    isplitl [Hb]; · iexact Hb
    isplitl [Hp]; · iexact Hp
    iexact Hs
  iexact Hg

theorem phi_out (c : Dev nD) (k : ℕ) : phi m c k ⊢ (Pipeline.ΦA spec0 c : sProp 𝕄) := by
  unfold Pipeline.ΦA phi scr Sparse.scratch
  rw [scopedRest0_eq]
  simp only [owns_whole]
  iintro ⟨⟨%σ, -, Ha, Hb, Hp, Hs⟩, Hg⟩
  isplitr [Hg]
  · isplitl [Ha]; · iexists _; iexact Ha
    isplitl [Hb]; · iexists _; iexact Hb
    isplitl [Hp]; · iexists _; iexact Hp
    iexists _; iexact Hs
  iexact Hg

/-- One grid point: what the body does to its blocks and to the scratch buffers. -/
theorem point (c : Dev nD) (hG : Sparse.Good (tables m c).R (tables m c).X) (t : Fin cfg0.N) {σ : Sparse.St}
    (hσ : Sparse.Inv (tables m c) t.val σ) (a : Vec F S512x512 .bf16) (b : Vec F S512x512 .f32) {Φ : PUnit → sProp 𝕄} :
    iprop(Sparse.reads c (st0_0 t) (st0_1 t) (st0_2 t) (st0_3 t) (st0_4 t) (st0_5 t) (st0_6 t)
          (tables m c).R (tables m c).X (Sparse.cblk0 (tables m c))
          (Sparse.cblk (tables m c) (min (t.val / 16 + 1) 10) (t.val % 16)) (Sparse.tblk (tables m c) 0)
          (Sparse.tblk (tables m c) (min (t.val / 16 + 1) 10)) (iblk m c 6 t)
        ∗ Sparse.writes c (st0_7 t) (st0_8 t) a b ∗ scr c σ)
      ⊢ iprop((Sparse.reads c (st0_0 t) (st0_1 t) (st0_2 t) (st0_3 t) (st0_4 t) (st0_5 t) (st0_6 t)
          (tables m c).R (tables m c).X (Sparse.cblk0 (tables m c))
          (Sparse.cblk (tables m c) (min (t.val / 16 + 1) 10) (t.val % 16)) (Sparse.tblk (tables m c) 0)
          (Sparse.tblk (tables m c) (min (t.val / 16 + 1) 10)) (iblk m c 6 t)
          ∗ Sparse.writes c (st0_7 t) (st0_8 t) (yAt m c t) (sAt m c t)
          ∗ (∃ σ', ⌜Sparse.Inv (tables m c) (t.val + 1) σ'⌝ ∗ scr c σ') -∗ Φ ⟨⟩)
        -∗ wp frame (wpE (defs₀ (F := F)) Variants.none (c : Thread nD τ) none) Set.univ (bodyAt0 t) Φ) := by
  obtain ⟨K, hprog, hK⟩ := body_split (F := F) (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (st0_7 t) (hstage0_7 ((cfg0.slots t 7).cast nbuf0_7)) (st0_8 t) (hstage0_8 ((cfg0.slots t 8).cast nbuf0_8))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
  rw [head_eq] at hprog
  have hstep := Sparse.inv_step hG (t_lt t) hσ
  rw [← (coords_val t).1, ← (coords_val t).2] at hstep
  have hP := Sparse.point_triple (𝒱 := Variants.none) (c := c) (bd := none) (E := Set.univ) (defs := defs₀ (F := F))
    (st0_0 t) (st0_1 t) (st0_2 t) (st0_3 t) (st0_4 t) (st0_5 t) (st0_6 t)
    (st0_7 t) (hstage0_7 ((cfg0.slots t 7).cast nbuf0_7)) (st0_8 t)
    (Memref.whole cc0_scratch0) (Memref.whole cc0_scratch1) (Memref.whole cc0_scratch2) (Memref.whole cc0_scratch3)
    hG (blk_lt (grid0.coords t)) (part_lt (grid0.coords t)) Sparse.first_tile Sparse.first_inb
    (Sparse.tileOff (BitVec.ofNat 32 (grid0.coords t 1).val)) (Sparse.tileOff_eq (part_lt (grid0.coords t)))
    _ _ _ _ _ _ (bodyAt0 t) K hprog hK (σ := σ) (a := a) (b := b) (Φ := Φ)
    (x := iblk m c 6 t) (C0 := Sparse.cblk0 (tables m c))
    (C := Sparse.cblk (tables m c) (min ((grid0.coords t 0).val + 1) 10) (grid0.coords t 1).val)
    (T0 := Sparse.tblk (tables m c) 0) (T := Sparse.tblk (tables m c) (min ((grid0.coords t 0).val + 1) 10))
  rw [hstep.1, hstep.2.1] at hP
  unfold yAt sAt
  rw [← (coords_val t).1, ← (coords_val t).2]
  refine hP.trans ?_
  iintro H HΦ
  iapply H
  iintro ⟨Hr, Hw, Hs⟩
  iapply HΦ
  isplitl [Hr]; · iexact Hr
  isplitl [Hw]; · iexact Hw
  iexists _
  isplitr
  · ipureintro; exact hstep.2.2
  iexact Hs

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
theorem sound_body (c : Dev nD) (hG : Sparse.Good (tables m c).R (tables m c).X) (t : Fin cfg0.N) :
    bodyPre m c t ⊢ wp frame (wpE (defs₀ (F := F)) Variants.none (c : Thread nD τ) none) Set.univ (bodyAt0 t)
      (fun _ => bodyPost m c t) := by
  unfold bodyPre bodyPost
  rw [show (dats m 0 c).Φ t.succ = phi m c (t.val + 1) from rfl, show (dats m 0 c).Φ t.castSucc = phi m c t.val from rfl,
    show (dats m 0 c).owesAt () t.succ = (dats m 0 c).owesAt () t.castSucc from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl, show (dats m 0 c).after 5 t = iblk m c 5 t from rfl,
    show (dats m 0 c).after 6 t = iblk m c 6 t from rfl, show (dats m 0 c).after 7 t = yAt m c t from rfl,
    show (dats m 0 c).after 8 t = sAt m c t from rfl]
  simp only [before0_0_of m (dats m 0 c) rfl (fun _ => rfl) t, before0_1_of m (dats m 0 c) rfl (fun _ => rfl) t,
    before0_2_of m (dats m 0 c) rfl (fun _ => rfl) t, before0_3_of m (dats m 0 c) rfl (fun _ => rfl) t,
    before0_4_of m (dats m 0 c) rfl (fun _ => rfl) t, before0_5_of m (dats m 0 c) rfl (fun _ => rfl) t,
    before0_6_of m (dats m 0 c) rfl (fun _ => rfl) t, iblk0, iblk1, iblk2, iblk3, iblk4, iblk5]
  unfold phi
  iintro ⟨⟨⟨%σ, %hσ, Hs⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (point m c hG t hσ ((dats m 0 c).before 7 t d7) ((dats m 0 c).before 8 t d8)) $$ [H0 H1 H2 H3 H4 H5 H6 H7 H8 Hs]
  · isplitl [H0 H1 H2 H3 H4 H5 H6]
    · unfold Sparse.reads
      isplitl [H0]; · iexact H0
      isplitl [H1]; · iexact H1
      isplitl [H2]; · iexact H2
      isplitl [H3]; · iexact H3
      isplitl [H4]; · iexact H4
      isplitl [H5]; · iexact H5
      iexact H6
    isplitl [H7 H8]
    · unfold Sparse.writes
      isplitl [H7]; · iexact H7
      iexact H8
    iexact Hs
  unfold Sparse.reads Sparse.writes
  iintro ⟨⟨H0, H1, H2, H3, H4, H5, H6⟩, ⟨H7, H8⟩, Hs⟩
  isplitl [Hs Hg]
  · isplitl [Hs]; · iexact Hs
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) (hG : Sparse.Good (tables m c).R (tables m c).X) :
    BodyObligation (dats (F := F) m 0 c) (defs₀ (F := F)) Variants.none () Set.univ := fun t => by
  rw [bigSep_W0, bigSep_W0, defs₀_row]
  exact triple_restated (sound_body m c hG t) rfl .rfl fun _ => .rfl

/-- The run of the program. -/
theorem run_main (hG : ∀ c, Sparse.Good (tables m c).R (tables m c).X) :
    θ_run defs (onTc (τ := τ) (main (F := F))) (s₀ m ρ) (fun r =>
      Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c (hG c)).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := fun c => phi_in m c) (hout := fun c => phi_out m c _)

/-- The arguments end unchanged, every semaphore counter at zero. -/
theorem frame (hG : ∀ c, Sparse.Good (tables m c).R (tables m c).X) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
      ((h.1 c).1 3).trans (((dats m 0 c).arrAt_in 3 rfl _).trans (V_main_arg1 m c)),
      ((h.1 c).2 main_arg2 (Pipeline.mem_restRefs_of main_arg2 (by decide) (by decide))).trans (W_main_arg2 m (dats m) c),
      ((h.1 c).1 0).trans (((dats m 0 c).arrAt_in 0 rfl _).trans (V_main_arg3 m c)),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c)⟩, h.2⟩)
    (run_main m ρ hG)

end Cert.KernelIdeal
-- ==== Proof.KernelIdeal.Entries.lean ====
module

public import proofs.«01_k».proof.Proof.KernelIdeal.Blocks
public import proofs.«01_k».proof.Proof.Words
public import Idealize.ShloMosaic.Lib.Claim

@[expose] public section

/-!
# The entry words the launch is given
-/

set_option pp.maxSteps 300

noncomputable section

namespace Cert.KernelIdeal

open Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ)

/-- The columns and the value bits, as launched. -/
def colsAt (c : Dev nD) : IVec S51904 32 := m (c, Proc.tc.devRef main_arg4)
def valsAt (c : Dev nD) : IVec S51904 16 := m (c, Proc.tc.devRef main_arg5)

/-- The entry words before they are padded. -/
def wordsAt (c : Dev nD) : IVec S51904 32 := fun i => Sparse.entryWord (colsAt m c i) (valsAt m c i)

theorem V_main_v16 (c : Dev nD) : V m c main_v16
    = pad S51920 ![0] ![16] ![0] (wordsAt m c) (constantI S_ 32 0#32) pads_S51904_S51920_0160 h_S_ := by
  simp only [V, V0, hostOps0, hostOps0_1, hostOps0_2, List.flatten_cons, List.flatten_nil, List.append_nil, List.cons_append, List.nil_append]
  entry_read
  rfl

theorem wordAt_lt (c : Dev nD) (k : ℕ) (hk : k < 51904) : Sparse.wordAt (tables m c).X k
    = Sparse.entryWord (colsAt m c (ValueIdx.ix1 ⟨k, hk⟩)) (valsAt m c (ValueIdx.ix1 ⟨k, hk⟩)) := by
  refine (Sparse.wordAt_of_lt _ (by omega : k < 51920)).trans ?_
  show V m c main_v16 (ValueIdx.ix1 ⟨k, by omega⟩) = _
  rw [V_main_v16]
  unfold pad
  rw [dif_pos (fun a => by
    match a with
    | ⟨0, _⟩ => exact ⟨Nat.zero_le _, Nat.mod_one _, by show (k - 0) / 1 < 51904; omega⟩)]
  refine congrArg (wordsAt m c) (funext fun a => ?_)
  match a with
  | ⟨0, _⟩ => exact Fin.ext (by show (k - 0) / 1 = k; omega)

theorem wordAt_ge (c : Dev nD) (k : ℕ) (hk : 51904 ≤ k) : Sparse.wordAt (tables m c).X k = 0#32 := by
  by_cases h : k < 51920
  · refine (Sparse.wordAt_of_lt _ h).trans ?_
    show V m c main_v16 (ValueIdx.ix1 ⟨k, h⟩) = _
    rw [V_main_v16]
    unfold pad
    rw [dif_neg (fun H => by
      have h0 : (k - 0) / 1 < 51904 := (H (0 : Fin 1)).2.2
      omega)]
    rfl
  · exact dif_neg h

/-- Under an index within bounds the tables are what the body needs. -/
theorem good (c : Dev nD) (h : Sparse.Bounded (m ((c : Thread nD τ).loc main_arg3)) (m ((c : Thread nD τ).loc main_arg4))) :
    Sparse.Good (tables m c).R (tables m c).X := by
  have hR : (tables m c).R = m ((c : Thread nD τ).loc main_arg3) := V_main_arg3 m c
  rw [hR]
  refine h.good (fun k => if hk : k < 51904 then valsAt m c (ValueIdx.ix1 ⟨k, hk⟩) else 0#16) _ (fun k hk => ?_) (wordAt_ge m c)
  rw [wordAt_lt m c k hk, dif_pos hk, Sparse.wordAt_of_lt _ hk]
  rfl

end Cert.KernelIdeal
-- ==== Proof.Dense.lean ====
module

public import proofs.«01_k».proof.Proof.State
public import proofs.«01_k».proof.Proof.Words
public import Idealize.ShloMosaic.Lib.Pointwise

@[expose] public section

/-!
# The decoded words

A byte's low four bits name the level of the even row, its high four bits that of the odd row; a
word of the table holds two levels, a word of the result two weights.
-/

set_option pp.maxSteps 300

noncomputable section

namespace Sparse

open Idealize.ShloMosaic

/-- A table index, negative ones counted from the end. -/
def wrap8 (x : BitVec 32) : BitVec 32 := Scalar.select (IntOp.cmpi .slt x 0#32) (IntOp.addi x 8#32) x

/-- The word the code `c` names in the table column `t`. -/
def wordOf (t : Fin 8 → BitVec 32) (c : BitVec 32) : BitVec 32 :=
  let a := t ⟨(wrap8 (IntOp.andi (IntOp.shrsi .vector c 1#32) 7#32)).toNat % 8, Nat.mod_lt _ (by decide)⟩
  let b := t ⟨(wrap8 (IntOp.andi (IntOp.shrsi .vector c 5#32) 7#32)).toNat % 8, Nat.mod_lt _ (by decide)⟩
  IntOp.ori
    (Scalar.select (IntOp.cmpi .ne (IntOp.andi c 1#32) 0#32) (IntOp.shrui .vector a 16#32) (IntOp.andi a 65535#32))
    (Scalar.select (IntOp.cmpi .ne (IntOp.andi c 16#32) 0#32) (IntOp.andi b 4294901760#32) (IntOp.shli .vector b 16#32))

theorem decode8_apply (t c : IVec S8x128 32) (r : Fin 8) (l : Fin 128) :
    decode8 t c (ix2 r l) = wordOf (fun a => t (ix2 a l)) (c (ix2 r l)) := by
  unfold decode8
  dsimp only
  have hg : ∀ (x : IVec S8x128 32) (h : S8x128.ShapeCasts S8x128x1) (h' : S8x128x1.ShapeCasts S8x128),
      dynamicGather 0 t (shapeCast S8x128 (shapeCast S8x128x1 x h) h') (ix2 r l)
        = t (ix2 ⟨(x (ix2 r l)).toNat % 8, Nat.mod_lt _ (by decide)⟩ l) := fun x h h' => by
    have hf : shapeCast S8x128 (shapeCast S8x128x1 x h) h' = x := funext fun i => by pointwise
    rw [hf]
    refine congrArg t (funext fun b => ?_)
    match b with
    | ⟨0, _⟩ => rfl
    | ⟨1, _⟩ => rfl
  show IntOp.ori (Scalar.select _ (IntOp.shrui .vector (dynamicGather 0 t _ (ix2 r l)) 16#32)
      (IntOp.andi (dynamicGather 0 t _ (ix2 r l)) 65535#32))
    (Scalar.select _ (IntOp.andi (dynamicGather 0 t _ (ix2 r l)) 4294901760#32)
      (IntOp.shli .vector (dynamicGather 0 t _ (ix2 r l)) 16#32)) = _
  rw [hg, hg]
  rfl

theorem decodeCol_apply (t : IVec S8x512 32) (c : IVec S64x512 32) (g : Nat) (ht : S8x512.Slices ![0, g] S8x128)
    (hc : ∀ r : Fin 8, S64x512.Slices ![8 * r.val, g] S8x128) (hg : g + 128 ≤ 512) (i : Fin 64) (l : Fin 128) :
    decodeCol t c g ht hc (ix2 i l)
      = wordOf (fun a => t (ix2 a ⟨g + l.val, by omega⟩)) (c (ix2 i ⟨g + l.val, by omega⟩)) := by
  unfold decodeCol
  pointwise
  split_ifs
  all_goals
    rw [decode8_apply]
    pointwise
    try exact congrArg (fun k : Fin 64 => wordOf (fun a => t (ix2 a ⟨g + l.val, by omega⟩)) (c (ix2 k ⟨g + l.val, by omega⟩))) (Fin.ext (by dsimp only; omega))

theorem decode_apply (t : IVec S8x512 32) (c : IVec S64x512 32) (i : Fin 64) (j : Fin 512) :
    decode t c (ix2 i j) = wordOf (fun a => t (ix2 a j)) (c (ix2 i j)) := by
  unfold decode
  pointwise
  split_ifs
  all_goals
    rw [decodeCol_apply _ _ _ _ _ (by decide)]
    exact congrArg (fun k : Fin 512 => wordOf (fun a => t (ix2 a k)) (c (ix2 i k))) (Fin.ext (by dsimp only; omega))

/-- The two levels in word `a` of a table column. -/
def PairsOf (t : Fin 8 → BitVec 32) (L : ℕ → BitVec 16) : Prop :=
  ∀ a : Fin 8, t a = L (2 * a.val + 1) ++ L (2 * a.val)

theorem index_low : ∀ b : BitVec 8,
    (wrap8 (IntOp.andi (IntOp.shrsi .vector (b.setWidth 32) 1#32) 7#32)).toNat % 8 = b.toNat % 16 / 2 := by
  decide +kernel

theorem index_high : ∀ b : BitVec 8,
    (wrap8 (IntOp.andi (IntOp.shrsi .vector (b.setWidth 32) 5#32) 7#32)).toNat % 8 = b.toNat / 16 / 2 := by
  decide +kernel

theorem bit_low : ∀ b : BitVec 8,
    IntOp.cmpi .ne (IntOp.andi (b.setWidth 32) 1#32) 0#32 = BitVec.ofBool (decide (b.toNat % 16 % 2 = 1)) := by
  decide +kernel

theorem bit_high : ∀ b : BitVec 8,
    IntOp.cmpi .ne (IntOp.andi (b.setWidth 32) 16#32) 0#32 = BitVec.ofBool (decide (b.toNat / 16 % 2 = 1)) := by
  decide +kernel

theorem lowMask (j : Fin 32) : (65535#32)[j.val] = decide (j.val < 16) := by
  revert j; decide

theorem take_high (h l : BitVec 16) : IntOp.shrui .vector (h ++ l) 16#32 = h.setWidth 32 := by
  unfold IntOp.shrui
  rw [if_pos (by decide), BitVec.ushiftRight_eq']
  apply BitVec.eq_of_getLsbD_eq
  intro i hi
  rw [BitVec.getLsbD_ushiftRight, BitVec.getLsbD_setWidth]
  refine (BitVec.getLsbD_append (x := h) (y := l) (i := 16 + i)).trans ?_
  simp [show i < 32 by omega]

theorem take_low (h l : BitVec 16) : IntOp.andi (h ++ l) 65535#32 = l.setWidth 32 := by
  show (h ++ l) &&& 65535#32 = _
  apply BitVec.eq_of_getLsbD_eq
  intro i hi
  have := (BitVec.getLsbD_eq_getElem (x := 65535#32) (by omega : i < 32)).trans (lowMask ⟨i, hi⟩)
  rw [BitVec.getLsbD_and, this, BitVec.getLsbD_append, BitVec.getLsbD_setWidth]
  by_cases h16 : i < 16
  · simp [h16, show i < 32 by omega]
  · simp [h16, BitVec.getLsbD_of_ge l i (by omega)]

theorem keep_high (h l : BitVec 16) : IntOp.andi (h ++ l) 4294901760#32 = h ++ 0#16 := by
  show (h ++ l) &&& 4294901760#32 = _
  apply BitVec.eq_of_getLsbD_eq
  intro i hi
  have := (BitVec.getLsbD_eq_getElem (x := 4294901760#32) (by omega : i < 32)).trans (highMask ⟨i, hi⟩)
  rw [BitVec.getLsbD_and, this, BitVec.getLsbD_append, BitVec.getLsbD_append]
  by_cases h16 : i < 16
  · simp [h16]
  · simp [h16, show 16 ≤ i by omega]

theorem raise_low (h l : BitVec 16) : IntOp.shli .vector (h ++ l) 16#32 = l ++ 0#16 := by
  unfold IntOp.shli
  rw [if_pos (by decide), BitVec.shiftLeft_eq']
  apply BitVec.eq_of_getLsbD_eq
  intro i hi
  rw [BitVec.getLsbD_shiftLeft, BitVec.getLsbD_append, BitVec.getLsbD_append]
  by_cases h16 : i < 16
  · simp [h16]
  · simp [h16, show i - 16 < 16 by omega, show i < 32 by omega]

theorem join (a b : BitVec 16) : IntOp.ori (a.setWidth 32) (b ++ 0#16) = b ++ a := by
  show a.setWidth 32 ||| (b ++ 0#16) = _
  apply BitVec.eq_of_getLsbD_eq
  intro i hi
  rw [BitVec.getLsbD_or, BitVec.getLsbD_append, BitVec.getLsbD_append, BitVec.getLsbD_setWidth]
  by_cases h16 : i < 16
  · simp [h16, show i < 32 by omega]
  · simp [h16, show 16 ≤ i by omega]

theorem pick {α : Type} (p : Prop) [Decidable p] (a b : α) : Scalar.select (BitVec.ofBool (decide p)) a b = if p then a else b := by
  by_cases h : p <;> simp [h, Scalar.select]

/-- The word of a byte: its low level below, its high level above. -/
theorem wordOf_pairs {t : Fin 8 → BitVec 32} {L : ℕ → BitVec 16} (h : PairsOf t L) (b : BitVec 8) :
    wordOf t (b.setWidth 32) = L (b.toNat / 16) ++ L (b.toNat % 16) := by
  unfold wordOf
  dsimp only
  rw [h, h]
  dsimp only
  rw [index_low, index_high, bit_low, bit_high, pick, pick, take_high, take_low, keep_high, raise_low]
  have e : ∀ n, (if n % 2 = 1 then L (2 * (n / 2) + 1) else L (2 * (n / 2))) = L n := fun n => by
    split
    · exact congrArg L (by omega)
    · exact congrArg L (by omega)
  rw [← apply_ite (fun v : BitVec 16 => v.setWidth 32), ← apply_ite (fun v : BitVec 16 => v ++ 0#16), join, e, e]

/-- Half `k % 2` of word `k / 2` of the decoded block is the level of column `k`. -/
theorem weights_half {D : Tables} {L : ℕ → ℕ → BitVec 16}
    (hT : ∀ (a : Fin 8) (o : Fin 5632), D.T (ix2 a o) = L o.val (2 * a.val + 1) ++ L o.val (2 * a.val)) {b : ℕ}
    (hb : b < 11) (r : Fin 1024) (j : Fin 512) {k : ℕ} (hk : k / 2 = r.val) :
    (weights D b (ix2 r j)).extractLsb' (16 * (k % 2)) 16
      = L (512 * b + j.val) ((D.A (ix2 r ⟨512 * b + j.val, by omega⟩)).toNat / 16 ^ (k % 2) % 16) := by
  have hr := r.isLt
  have hj := j.isLt
  have e : weights D b (ix2 r j) = wordOf (fun a => tblk D b (ix2 a j))
      ((D.A (ix2 r ⟨512 * b + j.val, by omega⟩)).setWidth 32) := by
    refine (decode_apply _ _ _ _).trans (congrArg (wordOf _) (congrArg (BitVec.setWidth 32) (congrArg D.A ?_)))
    refine funext fun a => ?_
    match a with
    | ⟨0, _⟩ => exact Fin.ext (by show (64 * (r.val / 64) + r.val % 64) % 1024 = r.val; omega)
    | ⟨1, _⟩ => exact Fin.ext (by show (512 * b + j.val) % 5632 = 512 * b + j.val; omega)
  have ht : PairsOf (fun a => tblk D b (ix2 a j)) (L (512 * b + j.val)) := fun a => by
    refine Eq.trans (congrArg D.T ?_) (hT a ⟨512 * b + j.val, by omega⟩)
    refine funext fun a => ?_
    match a with
    | ⟨0, _⟩ => rfl
    | ⟨1, _⟩ => exact Fin.ext (by show (512 * b + j.val) % 5632 = 512 * b + j.val; omega)
  have hc := (D.A (ix2 r ⟨512 * b + j.val, by omega⟩)).isLt
  rw [e, wordOf_pairs ht]
  rcases Nat.mod_two_eq_zero_or_one k with hm | hm
  · rw [hm, pow_zero, Nat.div_one]
    exact BitVec.extractLsb'_append_eq_right
  · rw [hm, pow_one, Nat.mod_eq_of_lt (by omega : _ / 16 < 16)]
    exact BitVec.extractLsb'_append_eq_left

end Sparse
-- ==== Proof.Cells.lean ====
module

public import proofs.«01_k».proof.Proof.Words
public import proofs.«01_k».proof.Proof.State

@[expose] public section

/-!
# What a cell of the sparse block holds

A channel's entries go to different rows, so a row holds the value of its one entry, or zero.
-/

noncomputable section

namespace Sparse

open Idealize.ShloMosaic

theorem fold_miss (X : IVec S51920 32) (e0 r : ℕ) (v : BitVec 32) (n : ℕ) (h : ∀ k < n, low X (e0 + k) ≠ r) :
    (List.range n).foldl (cellStep X e0 r) v = v := by
  induction n with
  | zero => rfl
  | succ n ih =>
    rw [List.range_succ, List.foldl_append, ih fun k hk => h k (by omega)]
    exact if_neg (h n (by omega))

theorem fold_hit (X : IVec S51920 32) (e0 r : ℕ) (v : BitVec 32) (n : ℕ) {k0 : ℕ} (hk : k0 < n) (h0 : low X (e0 + k0) = r)
    (h : ∀ k < n, low X (e0 + k) = r → k = k0) :
    (List.range n).foldl (cellStep X e0 r) v = high (wordAt X (e0 + k0)) := by
  induction n with
  | zero => omega
  | succ n ih =>
    rw [List.range_succ, List.foldl_append]
    by_cases hn : k0 = n
    · subst hn
      exact if_pos h0
    · rw [ih (by omega) fun k hk' => h k (by omega)]
      exact if_neg fun e => hn (h n (by omega) e).symm

theorem planeRow_inj {a b : ℕ} (ha : a < 2048) (hb : b < 2048) (h : planeRow a = planeRow b) : a = b := by
  unfold planeRow at h; omega

/-- Entry `e` belongs to channel `o`. -/
def Owns (R : IVec S5633 32) (o e : ℕ) : Prop := rp R o ≤ e ∧ e < rp R (o + 1)

instance (R : IVec S5633 32) (o e : ℕ) : Decidable (Owns R o e) := inferInstanceAs (Decidable (_ ∧ _))

section

variable {R : IVec S5633 32} {C : IVec ⟨1, ![51904]⟩ 32}

/-- Within a channel the columns increase. -/
theorem Csr.col_lt_col (h : Csr R C) {o : ℕ} (ho : o < 5632) {e e' : ℕ} (he : Owns R o e) (he' : Owns R o e') (hl : e < e') :
    (wordAt C e).toNat < (wordAt C e').toNat := by
  obtain ⟨d, rfl⟩ : ∃ d, e' = e + 1 + d := ⟨e' - (e + 1), by omega⟩
  clear hl
  induction d with
  | zero => exact h.incr o ho e he.1 he'.2
  | succ d ih =>
    have h2 : e + 1 + (d + 1) < rp R (o + 1) := he'.2
    exact (ih ⟨by have := he.1; omega, by omega⟩).trans (h.incr o ho (e + 1 + d) (by have := he.1; omega) h2)

theorem Csr.col_inj (h : Csr R C) {o : ℕ} (ho : o < 5632) {e e' : ℕ} (he : Owns R o e) (he' : Owns R o e')
    (hc : (wordAt C e).toNat = (wordAt C e').toNat) : e = e' := by
  rcases Nat.lt_trichotomy e e' with hl | hl | hl
  · exact absurd hc (h.col_lt_col ho he he' hl).ne
  · exact hl
  · exact absurd hc.symm (h.col_lt_col ho he' he hl).ne

theorem Csr.owns_lt (h : Csr R C) {o : ℕ} (ho : o < 5632) {e : ℕ} (he : Owns R o e) : e < 51904 :=
  he.2.trans_le (h.le (o + 1) (by omega))

variable (v : ℕ → BitVec 16) {X : IVec S51920 32}

/-- The value bits at column `k` of channel `o`. -/
def cellBits (R : IVec S5633 32) (C : IVec ⟨1, ![51904]⟩ 32) (v : ℕ → BitVec 16) (o k : ℕ) : BitVec 16 :=
  open Classical in if h : ∃ e, Owns R o e ∧ (wordAt C e).toNat = k then v h.choose else 0#16

theorem Csr.cellBits_hit (h : Csr R C) {o e : ℕ} (ho : o < 5632) (he : Owns R o e) :
    cellBits R C v o (wordAt C e).toNat = v e := by
  have hx : ∃ e', Owns R o e' ∧ (wordAt C e').toNat = (wordAt C e).toNat := ⟨e, he, rfl⟩
  unfold cellBits
  rw [dif_pos hx]
  exact congrArg v (h.col_inj ho hx.choose_spec.1 he hx.choose_spec.2)

theorem cellBits_miss {o k : ℕ} (h : ∀ e, Owns R o e → (wordAt C e).toNat ≠ k) : cellBits R C v o k = 0#16 :=
  dif_neg fun ⟨e, he, hk⟩ => h e he hk

theorem Csr.cell_eq (h : Csr R C) (hX : ∀ k < 51904, wordAt X k = entryWord (wordAt C k) (v k)) {o k : ℕ} (ho : o < 5632)
    (hk : k < 2048) : cell R X o (planeRow k) = (cellBits R C v o k).setWidth 32 <<< 16 := by
  have hlow : ∀ e < 51904, low X e = planeRow (wordAt C e).toNat := fun e he => by
    unfold low
    rw [hX e he, entryWord_low _ (h.col_lt e he)]
  have hle := h.le (o + 1) (by omega)
  unfold cell cellFrom
  by_cases hx : ∃ e, Owns R o e ∧ (wordAt C e).toNat = k
  · obtain ⟨e, he, hek⟩ := hx
    have h1 := he.1
    have h2 := he.2
    have he' := h.owns_lt ho he
    rw [fold_hit X (rp R o) (planeRow k) 0#32 (rp R (o + 1) - rp R o) (k0 := e - rp R o) (by omega)
      (by rw [show rp R o + (e - rp R o) = e by omega, hlow e he', hek])
      (fun j hj hr => by
        have ho' : Owns R o (rp R o + j) := ⟨by omega, by omega⟩
        have hj' := h.owns_lt ho ho'
        rw [hlow _ hj'] at hr
        have := h.col_inj ho ho' he ((planeRow_inj (h.col_lt _ hj') hk hr).trans hek.symm)
        omega)]
    rw [show rp R o + (e - rp R o) = e by omega, hX e he', entryWord_high _ (h.col_lt e he'), ← hek,
      h.cellBits_hit v ho he]
  · have hx' : ∀ e, Owns R o e → (wordAt C e).toNat ≠ k := fun e he hek => hx ⟨e, he, hek⟩
    rw [cellBits_miss v hx', fold_miss]
    · rfl
    · intro j hj hr
      have ho' : Owns R o (rp R o + j) := ⟨by omega, by omega⟩
      have hj' := h.owns_lt ho ho'
      rw [hlow _ hj'] at hr
      exact hx' _ ho' (planeRow_inj (h.col_lt _ hj') hk hr)

end

theorem pairWord_low (a b : BitVec 16) :
    (pairWord (a.setWidth 32 <<< 16) (b.setWidth 32 <<< 16)).extractLsb' 0 16 = a := by
  unfold pairWord IntOp.shrui
  rw [if_pos (by decide)]
  show (((a.setWidth 32 <<< 16) >>> (16#32 : BitVec 32)) ||| (b.setWidth 32 <<< 16)).extractLsb' 0 16 = a
  ext i hi
  simp [BitVec.ushiftRight_eq', hi]
  simp [show 16 + i < 32 by omega, show i < 32 by omega]

theorem pairWord_high (a b : BitVec 16) :
    (pairWord (a.setWidth 32 <<< 16) (b.setWidth 32 <<< 16)).extractLsb' 16 16 = b := by
  unfold pairWord IntOp.shrui
  rw [if_pos (by decide)]
  show (((a.setWidth 32 <<< 16) >>> (16#32 : BitVec 32)) ||| (b.setWidth 32 <<< 16)).extractLsb' 16 16 = b
  ext i hi
  simp [BitVec.ushiftRight_eq', hi]
  simp [show 16 + i < 32 by omega, show i < 32 by omega]

/-- Half `k % 2` of word `k / 2` of the packed block is column `k`. -/
theorem Csr.packed_half {D : Tables} {C : IVec ⟨1, ![51904]⟩ 32} (h : Csr D.R C) (v : ℕ → BitVec 16)
    (hX : ∀ k < 51904, wordAt D.X k = entryWord (wordAt C k) (v k)) {b : ℕ} (hb : b < 11) (r : Fin 1024) (j : Fin 512)
    {k : ℕ} (hk : k / 2 = r.val) :
    (packed D b (ValueIdx.ix2 r j)).extractLsb' (16 * (k % 2)) 16 = cellBits D.R C v (512 * b + j.val) k := by
  have hr := r.isLt
  have hj := j.isLt
  show (pairWord (cell D.R D.X (512 * b + j.val) r.val) (cell D.R D.X (512 * b + j.val) (1024 + r.val))).extractLsb' _ 16 = _
  have e0 : cell D.R D.X (512 * b + j.val) r.val = _ := (congrArg _ (show r.val = planeRow (2 * r.val) by unfold planeRow; omega)).trans
    (h.cell_eq v hX (by omega) (by omega : 2 * r.val < 2048))
  have e1 : cell D.R D.X (512 * b + j.val) (1024 + r.val) = _ :=
    (congrArg _ (show 1024 + r.val = planeRow (2 * r.val + 1) by unfold planeRow; omega)).trans
    (h.cell_eq v hX (by omega) (by omega : 2 * r.val + 1 < 2048))
  rw [e0, e1]
  rcases Nat.mod_two_eq_zero_or_one k with hm | hm
  · rw [hm, show k = 2 * r.val by omega]
    exact pairWord_low _ _
  · rw [hm, show k = 2 * r.val + 1 by omega]
    exact pairWord_high _ _

end Sparse
-- ==== Proof.Product.lean ====
module

public import proofs.«01_k».proof.Proof.Body
public import Idealize.ShloMosaic.Lib.Pointwise
public import Idealize.ShloMosaic.Lib.BitcastPair

@[expose] public section

/-!
# The products over the extended reals

The weight of row `k` is half `k % 2` of word `k / 2` of its column.
-/

noncomputable section

namespace Sparse

open Idealize.ShloMosaic
open scoped BigOperators

/-- The number sixteen bits stand for. -/
def num (b : BitVec 16) : EReal := FloatOps.ofBits (F := Ideal) .bf16 b

theorem num_zero : num 0#16 = 0 := Ideal.ofBits_zero_bf16

theorem halves_apply (w : IVec S1024x512 32) (k : Fin 2048) (j : Fin 512) :
    bitcast S2048x512 16 w pair_ok (ix2 k j) = (w (ix2 (⟨k.val / 2, by omega⟩ : Fin 1024) j)).extractLsb' (16 * (k.val % 2)) 16 := by
  rw [bitcast_32_16]
  refine congrArg (fun i => (w i).extractLsb' (16 * (k.val % 2)) 16) (funext fun a => ?_)
  match a with
  | ⟨0, _⟩ => rfl
  | ⟨1, _⟩ => rfl

theorem product_apply (x : Vec Ideal S512x2048 .bf16) (w : IVec S1024x512 32) (r j : Fin 512) :
    product (F := Ideal) x w (ix2 r j)
      = ∑ k : Fin 2048, x (ix2 r k) * num ((w (ix2 (⟨k.val / 2, by omega⟩ : Fin 1024) j)).extractLsb' (16 * (k.val % 2)) 16) := by
  unfold product
  have hx : shapeCast S512x2048 x cast_S512x2048 = x := funext fun i => by pointwise
  rw [hx]
  show Ideal.matmul dims _ _ _ (ix2 r j) = _
  rw [Ideal.matmul_apply₁ (K := 2048) dims rfl rfl]
  have h0 : (constant (F := Ideal) S512x512 .f32 0x00000000#32) (ix2 r j) = 0 := Ideal.ofBits_zero_f32
  rw [h0, zero_add]
  refine Finset.sum_congr rfl fun k _ => ?_
  refine congrArg₂ (· * ·) (congrArg x (funext fun a => ?_)) ?_
  · match a with
    | ⟨0, _⟩ => rfl
    | ⟨1, _⟩ => rfl
  · rw [← halves_apply]
    refine congrArg (fun i => num (bitcast S2048x512 16 w pair_ok i)) (funext fun a => ?_)
    match a with
    | ⟨0, _⟩ => rfl
    | ⟨1, _⟩ => rfl

end Sparse
-- ==== Proof.Sums.lean ====
module

public import Mathlib.Data.EReal.Operations
public import Mathlib.Algebra.BigOperators.Fin
public import Mathlib.Algebra.BigOperators.Group.Finset.Basic

@[expose] public section

/-!
# Sums

A sum over columns against a row that holds each entry at its column is the sum over the entries; a
sum over columns splits into the even and the odd ones.
-/

noncomputable section

namespace Sparse

open scoped BigOperators

theorem sum_scatter {m n : ℕ} (x : Fin m → EReal) (s : Fin m → EReal) (col : Fin n → Fin m) (v : Fin n → EReal)
    (p : Fin n → Prop) [DecidablePred p] (hit : ∀ e, p e → s (col e) = v e)
    (miss : ∀ k, (∀ e, p e → col e ≠ k) → s k = 0) (inj : ∀ e e', p e → p e' → col e = col e' → e = e') :
    ∑ k, x k * s k = ∑ e, x (col e) * v e * (if p e then 1 else 0) := by
  have h1 : ∑ e, x (col e) * v e * (if p e then 1 else 0) = ∑ e ∈ Finset.univ.filter p, x (col e) * v e := by
    rw [Finset.sum_filter]
    refine Finset.sum_congr rfl fun e _ => ?_
    by_cases h : p e
    · rw [if_pos h, if_pos h, mul_one]
    · rw [if_neg h, if_neg h, mul_zero]
  rw [h1]
  symm
  refine Finset.sum_of_injOn col ?_ ?_ ?_ ?_
  · intro e he e' he' hc
    exact inj e e' (by simpa using he) (by simpa using he') hc
  · intro e _
    exact Finset.mem_coe.2 (Finset.mem_univ _)
  · intro k _ hk
    have : s k = 0 := miss k fun e he hc => hk ⟨e, by simpa using he, hc⟩
    rw [this, mul_zero]
  · intro e he
    rw [hit e (by simpa using he)]

theorem sum_even_odd {n : ℕ} (f : Fin (2 * n) → EReal) :
    ∑ k, f k = (∑ i : Fin n, f ⟨2 * i.val, by omega⟩) + ∑ i : Fin n, f ⟨2 * i.val + 1, by omega⟩ := by
  rw [← Finset.sum_add_distrib]
  rw [← Equiv.sum_comp (finProdFinEquiv.trans (finCongr (Nat.mul_comm n 2))), Fintype.sum_prod_type]
  refine Finset.sum_congr rfl fun i _ => ?_
  rw [Fin.sum_univ_two]
  congr 1
  · exact congrArg f (Fin.ext (by simp [finProdFinEquiv]))
  · exact congrArg f (Fin.ext (by simp [finProdFinEquiv]; omega))

end Sparse
-- ==== Proof.Spec.lean ====
module

public import proofs.«01_k».proof.Proof.Cells
public import proofs.«01_k».proof.Proof.Product
public import proofs.«01_k».proof.Proof.Sums

@[expose] public section

/-!
# The two results as sums

The sparse result sums the entries of a channel, the dense one the columns at the levels their codes name.
-/

noncomputable section

namespace Sparse

open Idealize.ShloMosaic
open scoped BigOperators

/-- Every column index is in range. -/
def InRange (C : IVec ⟨1, ![51904]⟩ 32) : Prop := ∀ e : Fin 51904, (C (ValueIdx.ix1 e)).toNat < 2048

/-- The sparse result of one token `x` at channel `o`. -/
def sparseSum (x : Fin 2048 → EReal) (R : IVec S5633 32) (C : IVec ⟨1, ![51904]⟩ 32) (hC : InRange C)
    (v : IVec ⟨1, ![51904]⟩ 16) (o : Fin 5632) : EReal :=
  ∑ e : Fin 51904, x ⟨(C (ValueIdx.ix1 e)).toNat, hC e⟩ * num (v (ValueIdx.ix1 e)) * (if Owns R o.val e.val then 1 else 0)

/-- The dense result of one token `x` at channel `o`. -/
def denseSum (x : Fin 2048 → EReal) (q : IVec ⟨2, ![1024, 5632]⟩ 8) (l : IVec ⟨2, ![5632, 16]⟩ 16) (o : Fin 5632) : EReal :=
  (∑ i : Fin 1024, x ⟨2 * i.val, by omega⟩
      * num (l (ix2 o ⟨(q (ix2 i o)).toNat % 16, by omega⟩)))
    + ∑ i : Fin 1024, x ⟨2 * i.val + 1, by omega⟩
      * num (l (ix2 o ⟨(q (ix2 i o)).toNat / 16, by have := (q (ix2 i o)).isLt; omega⟩))

/-- A product with the cells of channel `o` is its sparse result. -/
theorem Csr.sum_cells {R : IVec S5633 32} {C : IVec ⟨1, ![51904]⟩ 32} (h : Csr R C) (hC : InRange C) (v : IVec ⟨1, ![51904]⟩ 16)
    (w : ℕ → BitVec 16) (hw : ∀ e : Fin 51904, w e.val = v (ValueIdx.ix1 e)) (x : Fin 2048 → EReal) (o : Fin 5632) :
    ∑ k : Fin 2048, x k * num (cellBits R C w o.val k.val) = sparseSum x R C hC v o := by
  have hcol : ∀ e : Fin 51904, (C (ValueIdx.ix1 e)).toNat = (wordAt C e.val).toNat := fun e => by
    rw [wordAt_of_lt C e.isLt]
  refine sum_scatter x (fun k => num (cellBits R C w o.val k.val)) (fun e => ⟨(C (ValueIdx.ix1 e)).toNat, hC e⟩)
    (fun e => num (v (ValueIdx.ix1 e))) (fun e => Owns R o.val e.val) (fun e he => ?_) (fun k hk => ?_) (fun e e' he he' hc => ?_)
  · show num (cellBits R C w o.val (C (ValueIdx.ix1 e)).toNat) = _
    rw [hcol e, h.cellBits_hit w o.isLt he, hw]
  · show num (cellBits R C w o.val k.val) = 0
    rw [cellBits_miss w fun e he hek => ?_, num_zero]
    have he' := h.owns_lt o.isLt he
    exact hk ⟨e, he'⟩ he (Fin.ext ((hcol ⟨e, he'⟩).trans hek))
  · refine Fin.ext (h.col_inj o.isLt he he' ?_)
    rw [← hcol e, ← hcol e']
    exact congrArg (fun k : Fin 2048 => k.val) hc

/-- A product with the level bits of channel `o` is its dense result. -/
theorem sum_levels (q : IVec ⟨2, ![1024, 5632]⟩ 8) (l : IVec ⟨2, ![5632, 16]⟩ 16) (x : Fin 2048 → EReal) (o : Fin 5632)
    (L : ℕ → BitVec 16) (hL : ∀ n : Fin 16, L n.val = l (ix2 o n)) :
    ∑ k : Fin 2048, x k * num (L ((q (ix2 (⟨k.val / 2, by omega⟩ : Fin 1024) o)).toNat / 16 ^ (k.val % 2) % 16))
      = denseSum x q l o := by
  refine (sum_even_odd (n := 1024) _).trans (congrArg₂ (· + ·) (Finset.sum_congr rfl fun i _ => ?_) (Finset.sum_congr rfl fun i _ => ?_))
  · have e : (⟨2 * i.val / 2, by omega⟩ : Fin 1024) = i := Fin.ext (by show 2 * i.val / 2 = i.val; omega)
    rw [← hL]
    show _ * num (L ((q (ix2 (⟨2 * i.val / 2, by omega⟩ : Fin 1024) o)).toNat / 16 ^ (2 * i.val % 2) % 16)) = _
    rw [e, show 2 * i.val % 2 = 0 by omega, pow_zero, Nat.div_one]
  · have e : (⟨(2 * i.val + 1) / 2, by omega⟩ : Fin 1024) = i := Fin.ext (by show (2 * i.val + 1) / 2 = i.val; omega)
    have hb := (q (ix2 i o)).isLt
    rw [← hL]
    show _ * num (L ((q (ix2 (⟨(2 * i.val + 1) / 2, by omega⟩ : Fin 1024) o)).toNat / 16 ^ ((2 * i.val + 1) % 2) % 16)) = _
    rw [e, show (2 * i.val + 1) % 2 = 1 by omega, pow_one, Nat.mod_eq_of_lt (by omega)]

end Sparse
-- ==== Proof.KernelIdeal.Result.lean ====
module

public import proofs.«01_k».proof.Proof.KernelIdeal.Launch
public import proofs.«01_k».proof.Proof.KernelIdeal.Entries
public import proofs.«01_k».proof.Proof.Dense
public import proofs.«01_k».proof.Proof.Spec
public import Idealize.ShloMosaic.Lib.BitcastConvert
public import Idealize.ShloMosaic.Lib.Pointwise
public import Idealize.ShloMosaic.Lib.Tactic.CleanTypes

@[expose] public section

/-!
# The kernel's results

Each grid point's result blocks hold the sums of `Spec` at its rows and channels, so the result
arrays hold them everywhere.
-/

set_option pp.maxSteps 400
set_option maxRecDepth 16384

noncomputable section

namespace Cert.KernelIdeal

open Cert.KernelIdeal.Gen
open Idealize.ShloMosaic Idealize.ShloMosaic.TcCoe Idealize.ShloMosaic.Tactic Idealize.SL.Sem
open Idealize.ShloMosaic.Pipeline (Dat Cfg Window)
open scoped BigOperators

variable (m : (ℓ : Loc nD τ sig) → Buf (Elt Ideal) ℓ)

/-- The tokens, the codes, the row pointers and the level bits, as launched. -/
def xAt (c : Dev nD) : FVec Ideal S2x4096x2048 .bf16 := m (c, Proc.tc.devRef main_arg0)
def qAt (c : Dev nD) : IVec S1024x5632 8 := m (c, Proc.tc.devRef main_arg1)
def lutAt (c : Dev nD) : IVec S5632x16 16 := m (c, Proc.tc.devRef main_arg2)
def rowsAt (c : Dev nD) : IVec S5633 32 := m (c, Proc.tc.devRef main_arg3)

/-- The token rows, flat, as the launch is given them. -/
theorem V_main_v17 (c : Dev nD) : V m c main_v17 = shapeCast S8192x2048 (xAt m c) shapeCasts_S2x4096x2048_S8192x2048 := by
  simp only [V, V0, hostOps0, hostOps0_1, hostOps0_2, List.flatten_cons, List.flatten_nil, List.append_nil, List.cons_append, List.nil_append]
  entry_read
  rfl

/-- Flat row `i` is token `i % 4096` of batch `i / 4096`. -/
theorem rows_apply (c : Dev nD) (i : Fin 8192) (k : Fin 2048) :
    (V m c main_v17 : S8192x2048.Idx → EReal) (ix2 i k) = xAt m c (ix3 (⟨i.val / 4096, by omega⟩ : Fin 2) (⟨i.val % 4096, by omega⟩ : Fin 4096) k) := by
  rw [V_main_v17]
  pointwise

/-- The table of packed level pairs, as the launch is given it. -/
theorem V_main_v2 (c : Dev nD) : V m c main_v2
    = transpose S8x5632 [1, 0] (Host.bitcastConvertWiden S5632x8 32
        (shapeCast S5632x8x2 (lutAt m c) shapeCasts_S5632x16_S5632x8x2) splits_S5632x8_w32_S5632x8x2_w16) transposes_S5632x8_S8x5632_1_0 := by
  simp only [V, V0, hostOps0, hostOps0_1, hostOps0_2, List.flatten_cons, List.flatten_nil, List.append_nil, List.cons_append, List.nil_append]
  entry_read
  rfl

/-- The level bits as a table over numbers. -/
def levels (c : Dev nD) (o n : ℕ) : BitVec 16 :=
  if h : o < 5632 ∧ n < 16 then lutAt m c (ix2 ⟨o, h.1⟩ ⟨n, h.2⟩) else 0#16

theorem levels_of (c : Dev nD) (o : Fin 5632) (n : Fin 16) : levels m c o.val n.val = lutAt m c (ix2 o n) :=
  dif_pos ⟨o.isLt, n.isLt⟩

/-- Word `a` of channel `o` holds the levels `2a` and `2a + 1`. -/
theorem T_apply (c : Dev nD) (a : Fin 8) (o : Fin 5632) :
    (tables m c).T (ValueIdx.ix2 a o) = levels m c o.val (2 * a.val + 1) ++ levels m c o.val (2 * a.val) := by
  rw [show levels m c o.val (2 * a.val + 1) = _ from levels_of m c o ⟨2 * a.val + 1, by omega⟩,
    show levels m c o.val (2 * a.val) = _ from levels_of m c o ⟨2 * a.val, by omega⟩]
  show (V m c main_v2 : S8x5632.Idx → BitVec 32) (ix2 a o) = _
  rw [V_main_v2]
  pointwise
  refine congrArg₂ (· ++ ·) (congrArg (lutAt m c) (funext fun b => Fin.ext ?_)) (congrArg (lutAt m c) (funext fun b => Fin.ext ?_))
  · match b with
    | ⟨0, _⟩ => rfl
    | ⟨1, _⟩ => exact congrArg (· + 1) (Nat.mul_comm a.val 2)
  · match b with
    | ⟨0, _⟩ => rfl
    | ⟨1, _⟩ => exact Nat.mul_comm a.val 2

theorem tables_R (c : Dev nD) : (tables m c).R = rowsAt m c := V_main_arg3 m c
theorem tables_A (c : Dev nD) : (tables m c).A = qAt m c := V_main_arg1 m c

/-- The value bits as a table over numbers. -/
def bitsAt (c : Dev nD) (k : ℕ) : BitVec 16 := if hk : k < 51904 then valsAt m c (ValueIdx.ix1 ⟨k, hk⟩) else 0#16

theorem bitsAt_of (c : Dev nD) (e : Fin 51904) : bitsAt m c e.val = valsAt m c (ValueIdx.ix1 e) := dif_pos e.isLt

/-- An entry's word is its column's plane row and its value bits. -/
theorem entries (c : Dev nD) (k : ℕ) (hk : k < 51904) :
    Sparse.wordAt (tables m c).X k = Sparse.entryWord (Sparse.wordAt (colsAt m c) k) (bitsAt m c k) := by
  rw [wordAt_lt m c k hk, Sparse.wordAt_of_lt (colsAt m c) hk, ← bitsAt_of m c ⟨k, hk⟩]

/-- The token at flat row `i`. -/
def token (c : Dev nD) (i : Fin 8192) (k : Fin 2048) : EReal :=
  xAt m c (ix3 (⟨i.val / 4096, by omega⟩ : Fin 2) (⟨i.val % 4096, by omega⟩ : Fin 4096) k)

/-- Point `t` reads the 512 tokens of tile `t % 16`. -/
theorem block_x (c : Dev nD) (t : Fin cfg0.N) (r : Fin 512) (k : Fin 2048) :
    (iblk m c 6 t : S512x2048.Idx → EReal) (ix2 r k) = token m c ⟨512 * (t.val % 16) + r.val, by omega⟩ k := by
  unfold token
  rw [← rows_apply]
  blk_ext [iblk, index6 t]

/-- The row pointers and columns, as launched, are a CSR index. -/
abbrev IsCsr (c : Dev nD) : Prop := Sparse.Csr (rowsAt m c) (colsAt m c)

theorem inRange (c : Dev nD) (h : IsCsr m c) : Sparse.InRange (colsAt m c) := fun e => by
  have := h.col_lt e.val e.isLt
  rwa [Sparse.wordAt_of_lt (colsAt m c) e.isLt] at this

/-- The sparse block of point `t`. -/
theorem sAt_apply (c : Dev nD) (h : IsCsr m c) (t : Fin cfg0.N) (r j : Fin 512) :
    sAt m c t (ix2 r j) = Sparse.sparseSum (token m c ⟨512 * (t.val % 16) + r.val, by omega⟩) (rowsAt m c) (colsAt m c)
      (inRange m c h) (valsAt m c) ⟨512 * (t.val / 16) + j.val, by have := t_lt t; omega⟩ := by
  have hb : t.val / 16 < 11 := by have := t_lt t; omega
  have hT : Sparse.Csr (tables m c).R (colsAt m c) := (tables_R m c).symm ▸ h
  unfold sAt Sparse.outS
  refine (Sparse.product_apply _ _ r j).trans ?_
  refine Eq.trans (Finset.sum_congr rfl fun k _ => ?_)
    (h.sum_cells (inRange m c h) (valsAt m c) (bitsAt m c) (bitsAt_of m c) _ ⟨512 * (t.val / 16) + j.val, by omega⟩)
  refine congrArg₂ (· * ·) (block_x m c t r k) (congrArg Sparse.num ?_)
  rw [← tables_R m c]
  exact hT.packed_half (bitsAt m c) (entries m c) hb ⟨k.val / 2, by omega⟩ j rfl

/-- The dense product of point `t`. -/
theorem dense_apply (c : Dev nD) (t : Fin cfg0.N) (r j : Fin 512) :
    Sparse.product (F := Ideal) (iblk m c 6 t) (Sparse.weights (tables m c) (t.val / 16)) (ix2 r j)
      = Sparse.denseSum (token m c ⟨512 * (t.val % 16) + r.val, by omega⟩) (qAt m c) (lutAt m c)
        ⟨512 * (t.val / 16) + j.val, by have := t_lt t; omega⟩ := by
  have hb : t.val / 16 < 11 := by have := t_lt t; omega
  refine (Sparse.product_apply _ _ r j).trans ?_
  refine Eq.trans (Finset.sum_congr rfl fun k _ => ?_)
    (Sparse.sum_levels (qAt m c) (lutAt m c) _ ⟨512 * (t.val / 16) + j.val, by omega⟩
      (levels m c (512 * (t.val / 16) + j.val)) (levels_of m c ⟨512 * (t.val / 16) + j.val, by omega⟩))
  refine congrArg₂ (· * ·) (block_x m c t r k) (congrArg Sparse.num ?_)
  rw [← tables_A m c]
  exact Sparse.weights_half (L := levels m c) (T_apply m c) hb ⟨k.val / 2, by omega⟩ j rfl

/-- The full result's block of point `t`. -/
theorem yAt_apply (c : Dev nD) (h : IsCsr m c) (t : Fin cfg0.N) (r j : Fin 512) :
    yAt m c t (ix2 r j) = Sparse.denseSum (token m c ⟨512 * (t.val % 16) + r.val, by omega⟩) (qAt m c) (lutAt m c)
        ⟨512 * (t.val / 16) + j.val, by have := t_lt t; omega⟩
      + Sparse.sparseSum (token m c ⟨512 * (t.val % 16) + r.val, by omega⟩) (rowsAt m c) (colsAt m c)
        (inRange m c h) (valsAt m c) ⟨512 * (t.val / 16) + j.val, by have := t_lt t; omega⟩ := by
  rw [← dense_apply m c t r j, ← sAt_apply m c h t r j]
  rfl

/-- The sparse and the full result, over flat token rows. -/
def flatS (c : Dev nD) (h : IsCsr m c) : FVec Ideal S8192x5632 .f32 := fun i =>
  Sparse.sparseSum (token m c (i 0)) (rowsAt m c) (colsAt m c) (inRange m c h) (valsAt m c) (i 1)

def flatY (c : Dev nD) (h : IsCsr m c) : FVec Ideal S8192x5632 .bf16 := fun i =>
  Sparse.denseSum (token m c (i 0)) (qAt m c) (lutAt m c) (i 1)
    + Sparse.sparseSum (token m c (i 0)) (rowsAt m c) (colsAt m c) (inRange m c h) (valsAt m c) (i 1)

/-- After the run the full result's array holds `flatY`: every point's block does, and the blocks cover it. -/
theorem arr7 (c : Dev nD) (h : IsCsr m c) : (dats m 0 c).arrAt 7 cfg0.N = flatY m c h := by
  refine (dats m 0 c).arrAt_eq_of_covers 7 _ (by decide +kernel) fun t hf y => ?_
  blk_simp
  have ht := t_lt t
  have h0 : (y 0).val < 512 := (y 0).isLt
  have h1 : (y 1).val < 512 := (y 1).isLt
  have hy : y = (ix2 (⟨(y 0).val, h0⟩ : Fin 512) (⟨(y 1).val, h1⟩ : Fin 512) : S512x512.Idx) := by
    funext a
    match a with
    | ⟨0, _⟩ => rfl
    | ⟨1, _⟩ => rfl
  have hi : (win0_7.blk t).view.emb y = (ix2 (⟨512 * (t.val % 16) + (y 0).val, by omega⟩ : Fin 8192)
      (⟨512 * (t.val / 16) + (y 1).val, by omega⟩ : Fin 5632) : S8192x5632.Idx) := by
    blk_ext [index7 t]
  rw [hi]
  refine (congrArg (yAt m c t) hy).trans ?_
  exact yAt_apply m c h t _ _

/-- After the run the sparse result's array holds `flatS`. -/
theorem arr8 (c : Dev nD) (h : IsCsr m c) : (dats m 0 c).arrAt 8 cfg0.N = flatS m c h := by
  refine (dats m 0 c).arrAt_eq_of_covers 8 _ (by decide +kernel) fun t hf y => ?_
  blk_simp
  have ht := t_lt t
  have h0 : (y 0).val < 512 := (y 0).isLt
  have h1 : (y 1).val < 512 := (y 1).isLt
  have hy : y = (ix2 (⟨(y 0).val, h0⟩ : Fin 512) (⟨(y 1).val, h1⟩ : Fin 512) : S512x512.Idx) := by
    funext a
    match a with
    | ⟨0, _⟩ => rfl
    | ⟨1, _⟩ => rfl
  have hi : (win0_8.blk t).view.emb y = (ix2 (⟨512 * (t.val % 16) + (y 0).val, by omega⟩ : Fin 8192)
      (⟨512 * (t.val / 16) + (y 1).val, by omega⟩ : Fin 5632) : S8192x5632.Idx) := by
    blk_ext [index8 t]
  rw [hi]
  refine (congrArg (sAt m c t) hy).trans ?_
  exact sAt_apply m c h t _ _

/-- The full and the sparse result, as they are returned. -/
def resultY (c : Dev nD) (h : IsCsr m c) : FVec Ideal S2x4096x5632 .bf16 :=
  shapeCast S2x4096x5632 (flatY m c h) shapeCasts_S8192x5632_S2x4096x5632

def resultS (c : Dev nD) (h : IsCsr m c) : FVec Ideal S2x4096x5632 .f32 :=
  shapeCast S2x4096x5632 (flatS m c h) shapeCasts_S8192x5632_S2x4096x5632

/-- The first array returned is the full result. -/
theorem W_main_v19 (c : Dev nD) (h : IsCsr m c) :
    Pipeline.afterTail₀ cfgs (dats m) 0 (V0 m) [hostOps1] c main_v19 = resultY m c h := by
  unfold Pipeline.afterTail₀
  simp only [hostOps1, List.flatten_cons, List.flatten_nil, List.append_nil, List.cons_append, List.nil_append,
    StableHlo.after_cons, StableHlo.after_nil]
  after_results_steps
  unfold resultY
  rw [← arr7 m c h]
  refine congrArg (fun v : FVec Ideal S8192x5632 .bf16 => shapeCast S2x4096x5632 v shapeCasts_S8192x5632_S2x4096x5632) ?_
  exact (dats m 0 c).withArrays_arrAt launch₀0.sharedIn (V0 m c) (fun w => A_eq m c w) 7

/-- The second array returned is the sparse result. -/
theorem W_main_v20 (c : Dev nD) (h : IsCsr m c) :
    Pipeline.afterTail₀ cfgs (dats m) 0 (V0 m) [hostOps1] c main_v20 = resultS m c h := by
  unfold Pipeline.afterTail₀
  simp only [hostOps1, List.flatten_cons, List.flatten_nil, List.append_nil, List.cons_append, List.nil_append,
    StableHlo.after_cons, StableHlo.after_nil]
  after_results_steps
  unfold resultS
  rw [← arr8 m c h]
  refine congrArg (fun v : FVec Ideal S8192x5632 .f32 => shapeCast S2x4096x5632 v shapeCasts_S8192x5632_S2x4096x5632) ?_
  exact (dats m 0 c).withArrays_arrAt launch₀0.sharedIn (V0 m c) (fun w => A_eq m c w) 8

/-- The sparse result of a token at a channel. -/
theorem resultS_apply (c : Dev nD) (h : IsCsr m c) (b : Fin 2) (s : Fin 4096) (o : Fin 5632) :
    resultS m c h (ix3 b s o) = Sparse.sparseSum (fun k => xAt m c (ix3 b s k)) (rowsAt m c) (colsAt m c)
      (inRange m c h) (valsAt m c) o := by
  have hx : token m c ⟨b.val * 4096 + s.val, by omega⟩ = fun k => xAt m c (ix3 b s k) := funext fun k =>
    congrArg₂ (fun (b' : Fin 2) (s' : Fin 4096) => xAt m c (ix3 b' s' k)) (Fin.ext (by show (b.val * 4096 + s.val) / 4096 = b.val; omega))
      (Fin.ext (by show (b.val * 4096 + s.val) % 4096 = s.val; omega))
  unfold resultS
  pointwise
  rw [← hx]
  rfl

/-- The full result of a token at a channel: the dense sum and the sparse one. -/
theorem resultY_apply (c : Dev nD) (h : IsCsr m c) (b : Fin 2) (s : Fin 4096) (o : Fin 5632) :
    resultY m c h (ix3 b s o) = Sparse.denseSum (fun k => xAt m c (ix3 b s k)) (qAt m c) (lutAt m c) o
      + Sparse.sparseSum (fun k => xAt m c (ix3 b s k)) (rowsAt m c) (colsAt m c) (inRange m c h) (valsAt m c) o := by
  have hx : token m c ⟨b.val * 4096 + s.val, by omega⟩ = fun k => xAt m c (ix3 b s k) := funext fun k =>
    congrArg₂ (fun (b' : Fin 2) (s' : Fin 4096) => xAt m c (ix3 b' s' k)) (Fin.ext (by show (b.val * 4096 + s.val) / 4096 = b.val; omega))
      (Fin.ext (by show (b.val * 4096 + s.val) % 4096 = s.val; omega))
  unfold resultY
  pointwise
  rw [← hx]
  rfl

variable (ρ : Dev nD → PrngReg)

/-- The run: the two results at the sums, the arguments unchanged. -/
theorem run_result (h : ∀ c, IsCsr m c) :
    θ_run defs (onTc (τ := τ) (main (F := Ideal))) ⟨m, fun _ => 0, ρ⟩ (fun r => ∀ c : Dev nD,
      r.2.mem ((c.tc : Thread nD τ).loc main_v19) = resultY m c (h c)
      ∧ r.2.mem ((c.tc : Thread nD τ).loc main_v20) = resultS m c (h c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c =>
      ⟨((hr.1 c).2 main_v19 (Pipeline.mem_restRefs_of main_v19 (by decide) (by decide))).trans (W_main_v19 m c (h c)),
      ((hr.1 c).2 main_v20 (Pipeline.mem_restRefs_of main_v20 (by decide) (by decide))).trans (W_main_v20 m c (h c)),
      ((hr.1 c).2 main_arg0 (Pipeline.mem_restRefs_of main_arg0 (by decide) (by decide))).trans (W_main_arg0 m (dats m) c),
      ((hr.1 c).1 3).trans (((dats m 0 c).arrAt_in 3 rfl _).trans (V_main_arg1 m c)),
      ((hr.1 c).2 main_arg2 (Pipeline.mem_restRefs_of main_arg2 (by decide) (by decide))).trans (W_main_arg2 m (dats m) c),
      ((hr.1 c).1 0).trans (((dats m 0 c).arrAt_in 0 rfl _).trans (V_main_arg3 m c)),
      ((hr.1 c).2 main_arg4 (Pipeline.mem_restRefs_of main_arg4 (by decide) (by decide))).trans (W_main_arg4 m (dats m) c),
      ((hr.1 c).2 main_arg5 (Pipeline.mem_restRefs_of main_arg5 (by decide) (by decide))).trans (W_main_arg5 m (dats m) c)⟩)
    (run_main m ρ fun c => good m c (h c).toBounded)

end Cert.KernelIdeal
-- ==== Proof.RefWeights.lean ====
module

public import proofs.«01_k».proof.Proof.Gen.ReferenceIdeal.Run
public import Idealize.ShloMosaic.Lib.Pointwise
public import Idealize.ShloMosaic.Lib.Tactic.CleanTypes

@[expose] public section

/-!
# The reference's weights

Four selections, one for each bit of a code, name one of the sixteen levels of a channel.
-/

set_option pp.maxSteps 400

noncomputable section

namespace Cert.ReferenceIdeal

open Cert.ReferenceIdeal.Gen Cert.ReferenceIdeal.Value
open Idealize.ShloMosaic

variable (V : Valuation τ sig (Elt Ideal))

/-- Bit `b` of the code `c`. -/
def bit (c : BitVec 32) (b : BitVec 32) : BitVec 1 :=
  IntOp.cmpi .ne (IntOp.andi (IntOp.shrsi .host c b) 1#32) 0#32

/-- Level `n` of channel `o`. -/
def level (o : Fin 5632) (n : ℕ) (h : n < 16) : EReal := (res_main_v0 V : S5632x16.Idx → EReal) (ix2 o ⟨n, h⟩)

/-- The levels left after one bit, after two and after three. -/
def left1 (f : (n : ℕ) → n < 16 → EReal) (c : BitVec 32) (n : ℕ) (h : n < 8) : EReal :=
  Scalar.select (bit c 0#32) (f (2 * n + 1) (by omega)) (f (2 * n) (by omega))
def left2 (f : (n : ℕ) → n < 16 → EReal) (c : BitVec 32) (n : ℕ) (h : n < 4) : EReal :=
  Scalar.select (bit c 1#32) (left1 f c (2 * n + 1) (by omega)) (left1 f c (2 * n) (by omega))
def left3 (f : (n : ℕ) → n < 16 → EReal) (c : BitVec 32) (n : ℕ) (h : n < 2) : EReal :=
  Scalar.select (bit c 2#32) (left2 f c (2 * n + 1) (by omega)) (left2 f c (2 * n) (by omega))
/-- The level the code names. -/
def named (f : (n : ℕ) → n < 16 → EReal) (c : BitVec 32) : EReal :=
  Scalar.select (bit c 3#32) (left3 f c 1 (by omega)) (left3 f c 0 (by omega))

theorem named_eq (f : (n : ℕ) → n < 16 → EReal) (n : Fin 16) : named f (BitVec.ofNat 32 n.val) = f n.val n.isLt := by
  fin_cases n <;> rfl

theorem low_code : ∀ b : BitVec 8, IntOp.andi (b.setWidth 32) 15#32 = BitVec.ofNat 32 (b.toNat % 16) := by decide +kernel
theorem high_code : ∀ b : BitVec 8, IntOp.shrsi .host (b.setWidth 32) 4#32 = BitVec.ofNat 32 (b.toNat / 16) := by
  decide +kernel

theorem v6_apply (a : Fin 8) (b : Fin 2) (o : Fin 5632) :
    (res_main_v6 V : S8x2x1x5632.Idx → EReal) (ix4 a b 0 o) = level V o (2 * a.val + b.val) (by omega) := by
  unfold res_main_v6 level
  clean_types
  pointwise
  exact congrArg (fun n => (res_main_v0 V : S5632x16.Idx → EReal) (ix2 o n)) (Fin.ext (by show a.val * 2 + b.val = 2 * a.val + b.val; omega))

theorem v19_apply (a : Fin 4) (b : Fin 2) (i : Fin 1024) (o : Fin 5632) :
    (res_main_v19 V : S4x2x1024x5632.Idx → EReal) (ix4 a b i o)
      = left1 (level V o) ((res_main_v4 V : S1024x5632.Idx → BitVec 32) (ix2 i o)) (2 * a.val + b.val) (by omega) := by
  unfold res_main_v19
  clean_types
  pointwise
  rw [v6_apply, v6_apply]
  unfold left1
  congr 2 <;> simp <;> omega

theorem v32_apply (a : Fin 2) (b : Fin 2) (i : Fin 1024) (o : Fin 5632) :
    (res_main_v32 V : S2x2x1024x5632.Idx → EReal) (ix4 a b i o)
      = left2 (level V o) ((res_main_v4 V : S1024x5632.Idx → BitVec 32) (ix2 i o)) (2 * a.val + b.val) (by omega) := by
  unfold res_main_v32
  clean_types
  pointwise
  rw [v19_apply, v19_apply]
  unfold left2
  congr 2 <;> simp <;> omega

theorem v45_apply (b : Fin 2) (i : Fin 1024) (o : Fin 5632) :
    (res_main_v45 V : S1x2x1024x5632.Idx → EReal) (ix4 0 b i o)
      = left3 (level V o) ((res_main_v4 V : S1024x5632.Idx → BitVec 32) (ix2 i o)) b.val (by omega) := by
  unfold res_main_v45
  clean_types
  pointwise
  rw [v32_apply, v32_apply]
  unfold left3
  congr 2 <;> simp <;> omega

theorem v62_apply (a : Fin 8) (b : Fin 2) (o : Fin 5632) :
    (res_main_v62 V : S8x2x1x5632.Idx → EReal) (ix4 a b 0 o) = level V o (2 * a.val + b.val) (by omega) := by
  unfold res_main_v62 level
  clean_types
  pointwise
  exact congrArg (fun n => (res_main_v0 V : S5632x16.Idx → EReal) (ix2 o n)) (Fin.ext (by show a.val * 2 + b.val = 2 * a.val + b.val; omega))

theorem v75_apply (a : Fin 4) (b : Fin 2) (i : Fin 1024) (o : Fin 5632) :
    (res_main_v75 V : S4x2x1024x5632.Idx → EReal) (ix4 a b i o)
      = left1 (level V o) ((res_main_v60 V : S1024x5632.Idx → BitVec 32) (ix2 i o)) (2 * a.val + b.val) (by omega) := by
  unfold res_main_v75
  clean_types
  pointwise
  rw [v62_apply, v62_apply]
  unfold left1
  congr 2 <;> simp <;> omega

theorem v88_apply (a : Fin 2) (b : Fin 2) (i : Fin 1024) (o : Fin 5632) :
    (res_main_v88 V : S2x2x1024x5632.Idx → EReal) (ix4 a b i o)
      = left2 (level V o) ((res_main_v60 V : S1024x5632.Idx → BitVec 32) (ix2 i o)) (2 * a.val + b.val) (by omega) := by
  unfold res_main_v88
  clean_types
  pointwise
  rw [v75_apply, v75_apply]
  unfold left2
  congr 2 <;> simp <;> omega

theorem v101_apply (b : Fin 2) (i : Fin 1024) (o : Fin 5632) :
    (res_main_v101 V : S1x2x1024x5632.Idx → EReal) (ix4 0 b i o)
      = left3 (level V o) ((res_main_v60 V : S1024x5632.Idx → BitVec 32) (ix2 i o)) b.val (by omega) := by
  unfold res_main_v101
  clean_types
  pointwise
  rw [v88_apply, v88_apply]
  unfold left3
  congr 2 <;> simp <;> omega

theorem codes_apply (q : IVec S1024x5632 8) (hq : (V (Proc.devRef .tc main_arg1) : S1024x5632.Idx → BitVec 8) = q) (i : Fin 1024) (o : Fin 5632) :
    (res_main_v2 V : S1024x5632.Idx → BitVec 32) (ix2 i o) = (q (ix2 i o)).setWidth 32 := by
  rw [← hq]
  rfl

theorem v4_apply (q : IVec S1024x5632 8) (hq : (V (Proc.devRef .tc main_arg1) : S1024x5632.Idx → BitVec 8) = q) (i : Fin 1024) (o : Fin 5632) :
    (res_main_v4 V : S1024x5632.Idx → BitVec 32) (ix2 i o) = BitVec.ofNat 32 ((q (ix2 i o)).toNat % 16) := by
  rw [← low_code, ← codes_apply V q hq]
  rfl

/-- The weights of the even columns. -/
def wLo : FVec Ideal S1024x5632 .bf16 :=
  shapeCast _ (select (broadcastInDim S1x1024x5632 ![1, 2] bcast_S1024x5632_S1x1024x5632_1_2 (id (cmpi .ne (andi (Host.shrsi (res_main_v4 V) (broadcastInDim S1024x5632 ![] bcast_S_S1024x5632 (constantI S_ 32 3#32))) (broadcastInDim S1024x5632 ![] bcast_S_S1024x5632 (constantI S_ 32 1#32))) (broadcastInDim S1024x5632 ![] bcast_S_S1024x5632 (constantI S_ 32 0#32))))) (shapeCast _ (extractStridedSlice S1x1x1024x5632 ![0, 1, 0, 0] (res_main_v45 V) slices_S1x2x1024x5632_S1x1x1024x5632_0_1_0_0) shapeCasts_S1x1x1024x5632_S1x1024x5632) (shapeCast _ (extractStridedSlice S1x1x1024x5632 ![0, 0, 0, 0] (res_main_v45 V) slices_S1x2x1024x5632_S1x1x1024x5632_0_0_0_0) shapeCasts_S1x1x1024x5632_S1x1024x5632)) shapeCasts_S1x1024x5632_S1024x5632

theorem wLo_apply (q : IVec S1024x5632 8) (hq : (V (Proc.devRef .tc main_arg1) : S1024x5632.Idx → BitVec 8) = q) (i : Fin 1024) (o : Fin 5632) :
    wLo V (ix2 i o) = level V o ((q (ix2 i o)).toNat % 16) (by have := (q (ix2 i o)).isLt; omega) := by
  have hc : (res_main_v4 V : S1024x5632.Idx → BitVec 32) (ix2 i o) = BitVec.ofNat 32 ((q (ix2 i o)).toNat % 16) := by
    exact v4_apply V q hq i o
  have hn : wLo V (ix2 i o) = named (level V o) ((res_main_v4 V : S1024x5632.Idx → BitVec 32) (ix2 i o)) := by
    unfold wLo
    clean_types
    pointwise
    rw [v45_apply, v45_apply]
    rfl
  rw [hn, hc]
  exact named_eq (level V o) ⟨(q (ix2 i o)).toNat % 16, by have := (q (ix2 i o)).isLt; omega⟩

theorem v60_apply (q : IVec S1024x5632 8) (hq : (V (Proc.devRef .tc main_arg1) : S1024x5632.Idx → BitVec 8) = q) (i : Fin 1024) (o : Fin 5632) :
    (res_main_v60 V : S1024x5632.Idx → BitVec 32) (ix2 i o) = BitVec.ofNat 32 ((q (ix2 i o)).toNat / 16) := by
  rw [← high_code, ← codes_apply V q hq]
  rfl

/-- The weights of the odd columns. -/
def wHi : FVec Ideal S1024x5632 .bf16 :=
  shapeCast _ (select (broadcastInDim S1x1024x5632 ![1, 2] bcast_S1024x5632_S1x1024x5632_1_2 (id (cmpi .ne (andi (Host.shrsi (res_main_v60 V) (broadcastInDim S1024x5632 ![] bcast_S_S1024x5632 (constantI S_ 32 3#32))) (broadcastInDim S1024x5632 ![] bcast_S_S1024x5632 (constantI S_ 32 1#32))) (broadcastInDim S1024x5632 ![] bcast_S_S1024x5632 (constantI S_ 32 0#32))))) (shapeCast _ (extractStridedSlice S1x1x1024x5632 ![0, 1, 0, 0] (res_main_v101 V) slices_S1x2x1024x5632_S1x1x1024x5632_0_1_0_0) shapeCasts_S1x1x1024x5632_S1x1024x5632) (shapeCast _ (extractStridedSlice S1x1x1024x5632 ![0, 0, 0, 0] (res_main_v101 V) slices_S1x2x1024x5632_S1x1x1024x5632_0_0_0_0) shapeCasts_S1x1x1024x5632_S1x1024x5632)) shapeCasts_S1x1024x5632_S1024x5632

theorem wHi_apply (q : IVec S1024x5632 8) (hq : (V (Proc.devRef .tc main_arg1) : S1024x5632.Idx → BitVec 8) = q) (i : Fin 1024) (o : Fin 5632) :
    wHi V (ix2 i o) = level V o ((q (ix2 i o)).toNat / 16) (by have := (q (ix2 i o)).isLt; omega) := by
  have hc : (res_main_v60 V : S1024x5632.Idx → BitVec 32) (ix2 i o) = BitVec.ofNat 32 ((q (ix2 i o)).toNat / 16) := by
    exact v60_apply V q hq i o
  have hn : wHi V (ix2 i o) = named (level V o) ((res_main_v60 V : S1024x5632.Idx → BitVec 32) (ix2 i o)) := by
    unfold wHi
    clean_types
    pointwise
    rw [v101_apply, v101_apply]
    rfl
  rw [hn, hc]
  exact named_eq (level V o) ⟨(q (ix2 i o)).toNat / 16, by have := (q (ix2 i o)).isLt; omega⟩

end Cert.ReferenceIdeal
-- ==== Proof.RefValue.lean ====
module

public import proofs.«01_k».proof.Proof.RefWeights
public import proofs.«01_k».proof.Proof.Spec

@[expose] public section

/-!
# The reference's results
-/

set_option pp.maxSteps 400

noncomputable section

namespace Cert.ReferenceIdeal

open Cert.ReferenceIdeal.Gen Cert.ReferenceIdeal.Value
open Idealize.ShloMosaic
open scoped BigOperators

/-- The gather along the last axis, at an entry whose index is `k`. -/
theorem gather_apply {α : Type} (x : S2x4096x2048.Idx → α) (idx : IVec S51904x1 32) (b : Fin 2) (s : Fin 4096) (e : Fin 51904)
    (k : Fin 2048) (hk : idx (ix2 e 0) = BitVec.ofNat 32 k.val) :
    Host.gather gather_S2x4096x2048_S51904x1_S2x4096x51904_01_2_n_n_2_1_240961 x idx (ix3 b s e) = x (ix3 b s k) := by
  let d := gather_S2x4096x2048_S51904x1_S2x4096x51904_01_2_n_n_2_1_240961
  have hkeep : ∀ a : Fin 3, a ∉ d.operandBatchingDims := fun _ => List.not_mem_nil
  have n0 : (0 : Fin 3) ∉ d.startIndexMap := by decide
  have n1 : (1 : Fin 3) ∉ d.startIndexMap := by decide
  have k0 : (0 : Fin 3) ∈ d.sKept := (d.mem_sKept 0).2 ⟨by decide, hkeep 0⟩
  have k1 : (1 : Fin 3) ∈ d.sKept := (d.mem_sKept 1).2 ⟨by decide, hkeep 1⟩
  have k2 : (2 : Fin 3) ∉ d.sKept := fun h => ((d.mem_sKept 2).1 h).1 (by decide)
  have hm : (2 : Fin 3) ∈ d.startIndexMap := by decide
  unfold Host.gather
  refine congrArg x (funext fun a => Fin.ext ?_)
  match a with
  | ⟨0, _⟩ =>
    show d.start (ix3 b s e) idx 0 + d.batchCoord (ix3 b s e) 0 + d.offCoord (ix3 b s e) 0 = b.val
    rw [d.batchCoord_eq_zero _ _ (hkeep 0), Nat.add_zero]
    unfold GatherDims.start GatherDims.offCoord
    rw [dif_neg n0, dif_pos k0, Nat.zero_add]
    rfl
  | ⟨1, _⟩ =>
    show d.start (ix3 b s e) idx 1 + d.batchCoord (ix3 b s e) 1 + d.offCoord (ix3 b s e) 1 = s.val
    rw [d.batchCoord_eq_zero _ _ (hkeep 1), Nat.add_zero]
    unfold GatherDims.start GatherDims.offCoord
    rw [dif_neg n1, dif_pos k1, Nat.zero_add]
    rfl
  | ⟨2, _⟩ =>
    show d.start (ix3 b s e) idx 2 + d.batchCoord (ix3 b s e) 2 + d.offCoord (ix3 b s e) 2 = k.val
    rw [d.batchCoord_eq_zero _ _ (hkeep 2), d.offCoord_eq_zero _ _ k2]
    unfold GatherDims.start
    rw [dif_pos hm]
    have hsi : d.siIdx (ix3 b s e) ⟨d.startIndexMap.idxOf 2, List.idxOf_lt_length_iff.2 hm⟩ = ix2 e (0 : Fin 1) := by
      funext b'
      match b' with
      | ⟨0, _⟩ => rfl
      | ⟨1, _⟩ => rfl
    have hkl := k.isLt
    rw [hsi, hk, StableHlo.Predicate.toInt_ofNat_small _ (by omega)]
    show min ((k.val : Int)).toNat (2048 - 1) + 0 + 0 = k.val
    omega

variable (V : Valuation τ sig (Elt Ideal))

/-- The mask: entry `e` against channel `o`. -/
def owner (R : IVec S5633 32) : IVec S51904x5632 1 :=
  (andi (cmpi .sle (broadcastInDim S51904x5632 ![0, 1] bcast_S1x5632_S51904x5632_0_1 (broadcastInDim S1x5632 ![1] bcast_S5632_S1x5632_1 (extractStridedSlice S5632 ![0] R slices_S5633_S5632_0))) (broadcastInDim S51904x5632 ![0, 1] bcast_S51904x1_S51904x5632_0_1 (res_main_v121 V))) (cmpi .slt (broadcastInDim S51904x5632 ![0, 1] bcast_S51904x1_S51904x5632_0_1 (res_main_v121 V)) (broadcastInDim S51904x5632 ![0, 1] bcast_S1x5632_S51904x5632_0_1 (broadcastInDim S1x5632 ![1] bcast_S5632_S1x5632_1 (extractStridedSlice S5632 ![1] R slices_S5633_S5632_1)))))

/-- As a number the mask is 1 where the channel owns the entry, else 0. -/
theorem owner_apply (R : IVec S5633 32) (hR : ∀ n ≤ 5632, Sparse.rp R n ≤ 51904) (e : Fin 51904) (o : Fin 5632) :
    (FloatOps.uitofp (F := Ideal) .f32 (owner V R (ix2 e o)) : EReal) = if Sparse.Owns R o.val e.val then 1 else 0 := by
  have h0 : (R (ix1 ⟨o.val, by omega⟩)).toNat = Sparse.rp R o.val := by
    unfold Sparse.rp
    rw [Sparse.wordAt_of_lt R (by omega : o.val < 5633)]
    rfl
  have h1 : (R (ix1 ⟨1 + o.val, by omega⟩)).toNat = Sparse.rp R (o.val + 1) := by
    unfold Sparse.rp
    rw [Sparse.wordAt_of_lt R (by omega : o.val + 1 < 5633)]
    refine congrArg (fun n => (R (ix1 n)).toNat) (Fin.ext ?_)
    show 1 + o.val = o.val + 1
    omega
  have l0 := hR o.val (by omega)
  have l1 := hR (o.val + 1) (by omega)
  have he := e.isLt
  have e0 : R (ix1 ⟨o.val, by omega⟩) = BitVec.ofNat 32 (Sparse.rp R o.val) := by rw [← h0, BitVec.ofNat_toNat, BitVec.setWidth_eq]
  have e1 : R (ix1 ⟨1 + o.val, by omega⟩) = BitVec.ofNat 32 (Sparse.rp R (o.val + 1)) := by
    rw [← h1, BitVec.ofNat_toNat, BitVec.setWidth_eq]
  have hv : owner V R (ix2 e o) = IntOp.andi (BitVec.ofBool (decide (Sparse.rp R o.val ≤ e.val)))
      (BitVec.ofBool (decide (e.val < Sparse.rp R (o.val + 1)))) := by
    unfold owner res_main_v121
    clean_types
    pointwise
    rw [e0, e1]
    unfold IntOp.cmpi
    dsimp only
    rw [BitVec.sle_eq_decide, BitVec.slt_eq_decide, StableHlo.Predicate.toInt_ofNat_small _ (by omega),
      StableHlo.Predicate.toInt_ofNat_small _ (by omega), StableHlo.Predicate.toInt_ofNat_small _ (by omega)]
    simp only [Nat.cast_le, Nat.cast_lt]
  rw [hv]
  show (((IntOp.andi _ _ : BitVec 1).toNat : ℝ) : EReal) = _
  by_cases p : Sparse.rp R o.val ≤ e.val <;> by_cases q : e.val < Sparse.rp R (o.val + 1)
  · rw [if_pos (show Sparse.Owns R o.val e.val from ⟨p, q⟩), decide_eq_true p, decide_eq_true q]
    show (((1 : ℕ) : ℝ) : EReal) = 1
    simp
  · rw [if_neg (show ¬Sparse.Owns R o.val e.val from fun h => q h.2), decide_eq_true p, decide_eq_false q]
    show (((0 : ℕ) : ℝ) : EReal) = 0
    simp
  · rw [if_neg (show ¬Sparse.Owns R o.val e.val from fun h => p h.1), decide_eq_false p, decide_eq_true q]
    show (((0 : ℕ) : ℝ) : EReal) = 0
    simp
  · rw [if_neg (show ¬Sparse.Owns R o.val e.val from fun h => p h.1), decide_eq_false p, decide_eq_false q]
    show (((0 : ℕ) : ℝ) : EReal) = 0
    simp

/-- The rows of `x` the columns name. -/
def taken (x : FVec Ideal S2x4096x2048 .bf16) (C : IVec S51904 32) : FVec Ideal S2x4096x51904 .bf16 :=
  Host.gather gather_S2x4096x2048_S51904x1_S2x4096x51904_01_2_n_n_2_1_240961 x (broadcastInDim S51904x1 ![0] bcast_S51904_S51904x1_0 (select (cmpi .slt C (broadcastInDim S51904 ![] bcast_S_S51904 (constantI S_ 32 0#32))) (addi C (broadcastInDim S51904 ![] bcast_S_S51904 (constantI S_ 32 2048#32))) C))

/-- It reads the token at the entry's column. -/
theorem taken_apply (x : FVec Ideal S2x4096x2048 .bf16) (C : IVec S51904 32) (hC : Sparse.InRange C) (b : Fin 2) (s : Fin 4096)
    (e : Fin 51904) : taken x C (ix3 b s e) = x (ix3 b s ⟨(C (ValueIdx.ix1 e)).toNat, hC e⟩) := by
  have hc := hC e
  refine gather_apply x _ b s e ⟨(C (ValueIdx.ix1 e)).toNat, hC e⟩ ?_
  pointwise
  have h : IntOp.cmpi .slt (C (ix1 e)) 0#32 = 0#1 := by
    unfold IntOp.cmpi
    dsimp only
    rw [BitVec.slt_eq_decide, decide_eq_false]
    · rfl
    · have : (C (ix1 e)).toInt = (C (ix1 e)).toNat := BitVec.toInt_eq_toNat_of_lt (by have : (C (ix1 e)).toNat < 2048 := hc; omega)
      rw [this]
      simp
  rw [h]
  show C (ix1 e) = BitVec.ofNat 32 (C (ix1 e)).toNat
  rw [BitVec.ofNat_toNat, BitVec.setWidth_eq]

/-- The sparse result. -/
def ySparse (x : FVec Ideal S2x4096x2048 .bf16) (R : IVec S5633 32) (C : IVec S51904 32) (v : IVec S51904 16) : FVec Ideal S2x4096x5632 .f32 :=
  Host.dotGeneral dot_S2x4096x51904_S51904x5632_S2x4096x5632_2_0_01_1_n_n (some .fp32) (mulf (extf .f32 (taken x C) bitsLt_bf16_f32) (broadcastInDim S2x4096x51904 ![0, 1, 2] bcast_S1x1x51904_S2x4096x51904_0_1_2 (broadcastInDim S1x1x51904 ![2] bcast_S51904_S1x1x51904_2 (extf .f32 (bitcastToFloat (F := Ideal) .bf16 v) bitsLt_bf16_f32)))) (uitofp .f32 (owner V R))

/-- The sparse result of a token at a channel. -/
theorem ySparse_apply (x : FVec Ideal S2x4096x2048 .bf16) (R : IVec S5633 32) (C : IVec S51904 32) (v : IVec S51904 16)
    (hR : ∀ n ≤ 5632, Sparse.rp R n ≤ 51904) (hC : Sparse.InRange C) (b : Fin 2) (s : Fin 4096) (o : Fin 5632) :
    ySparse V x R C v (ix3 b s o) = Sparse.sparseSum (fun k => x (ix3 b s k)) R C hC v o := by
  unfold ySparse
  pointwise
  unfold Sparse.sparseSum
  refine Finset.sum_congr rfl fun e _ => ?_
  rw [taken_apply x C hC, owner_apply V R hR]
  rfl

/-- The dense result. -/
def yDense (x : FVec Ideal S2x4096x2048 .bf16) : FVec Ideal S2x4096x5632 .f32 :=
  addf (Host.dotGeneral dot_S2x4096x1024_S1024x5632_S2x4096x5632_2_0_01_1_n_n none (Host.slice S2x4096x1024 ![0, 0, 0] ![1, 1, 2] x slicesBy_S2x4096x2048_S2x4096x1024_0s1_0s1_0s2) (wLo V))
    (Host.dotGeneral dot_S2x4096x1024_S1024x5632_S2x4096x5632_2_0_01_1_n_n none (Host.slice S2x4096x1024 ![0, 0, 1] ![1, 1, 2] x slicesBy_S2x4096x2048_S2x4096x1024_0s1_0s1_1s2) (wHi V))

/-- The dense result of a token at a channel. -/
theorem yDense_apply (x : FVec Ideal S2x4096x2048 .bf16) (q : IVec S1024x5632 8)
    (hq : (V (Proc.devRef .tc main_arg1) : S1024x5632.Idx → BitVec 8) = q) (l : IVec S5632x16 16)
    (hl : (V (Proc.devRef .tc main_arg2) : S5632x16.Idx → BitVec 16) = l) (b : Fin 2) (s : Fin 4096) (o : Fin 5632) :
    yDense V x (ix3 b s o) = Sparse.denseSum (fun k => x (ix3 b s k)) q l o := by
  have hlev : ∀ n h, level V o n h = Sparse.num (l (ix2 o ⟨n, h⟩)) := fun n h => by
    rw [← hl]
    rfl
  unfold yDense
  pointwise
  unfold Sparse.denseSum
  refine congrArg₂ (· + ·) (Finset.sum_congr rfl fun i _ => ?_) (Finset.sum_congr rfl fun i _ => ?_)
  · rw [wLo_apply V q hq, hlev]
  · rw [wHi_apply V q hq, hlev]
    refine congrArg (fun n => x (ix3 b s n) * _) (Fin.ext ?_)
    show 1 + 2 * i.val = 2 * i.val + 1
    omega

variable (m : (ℓ : Loc nD τ sig) → Buf (Elt Ideal) ℓ) (ρ : Dev nD → PrngReg)

open Idealize.SL.Sem Idealize.ShloMosaic.StableHlo Idealize.ShloMosaic.TcCoe in
/-- The run, its results by name. -/
theorem run_named :
    θ_run defs (onTc (τ := τ) (main (F := Ideal))) ⟨m, fun _ => 0, ρ⟩ fun r => ∀ c : Dev nD,
      r.2.mem ((c.tc : Thread nD τ).loc main_v148) = truncf (F := Ideal) .bf16
          (addf (yDense (launchContents m c) (launchContents m c (Proc.devRef .tc main_arg0)))
            (ySparse (launchContents m c) (launchContents m c (Proc.devRef .tc main_arg0)) (launchContents m c (Proc.devRef .tc main_arg3))
              (launchContents m c (Proc.devRef .tc main_arg4)) (launchContents m c (Proc.devRef .tc main_arg5)))) bitsLt_bf16_f32
      ∧ r.2.mem ((c.tc : Thread nD τ).loc main_v146) = ySparse (launchContents m c) (launchContents m c (Proc.devRef .tc main_arg0))
          (launchContents m c (Proc.devRef .tc main_arg3)) (launchContents m c (Proc.devRef .tc main_arg4))
          (launchContents m c (Proc.devRef .tc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

end Cert.ReferenceIdeal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_csr
public import proofs.«01_k».proof.Proof.Gen.Pre_in_range
public import proofs.«01_k».proof.Proof.Kernel.Launch
public import proofs.«01_k».proof.Proof.Kernel.Entries
public import proofs.«01_k».proof.Proof.KernelIdeal.Launch
public import proofs.«01_k».proof.Proof.KernelIdeal.Entries
public import proofs.«01_k».proof.Proof.KernelIdeal.Result
public import proofs.«01_k».proof.Proof.RefValue

@[expose] public section

/-!
# The certificate
-/

noncomputable section

namespace Cert.Proof

open Idealize.ShloMosaic Idealize.ShloMosaic.StableHlo Idealize.ShloMosaic.TcCoe Idealize.SL.Sem

/-- The kernel runs, leaves its arguments unchanged and ends quiescent. -/
theorem kernel_frame : Cert.quiescent_Kernel (hKernel := Cert.Kernel.Gen.facts) (hPre_in_range := Cert.Pre_in_range.Gen.facts) :=
  fun m g h => Cert.Kernel.frame m g fun c =>
    Cert.Kernel.good m c (Sparse.bounded_of_fn _ _ _ _ _ _ (h c).1 (h c).2)

/-- So does its idealization. -/
theorem ideal_frame :
    Cert.quiescent_KernelIdeal (hKernelIdeal := Cert.KernelIdeal.Gen.facts) (hPre_in_range := Cert.Pre_in_range.Gen.facts) :=
  fun m g h => Cert.KernelIdeal.frame m g fun c =>
    Cert.KernelIdeal.good m c (Sparse.bounded_of_fn _ _ _ _ _ _ (h c).1 (h c).2)

/-- The same, from the stronger precondition. -/
theorem ideal_frame_csr :
    Cert.quiescent_KernelIdeal_pre_csr (hKernelIdeal := Cert.KernelIdeal.Gen.facts) (hPre_csr := Cert.Pre_csr.Gen.facts) :=
  fun m g h => Cert.KernelIdeal.frame m g fun c =>
    Cert.KernelIdeal.good m c (Sparse.csr_of_fn _ _ _ _ _ _ (h c).1 (h c).2.1 (h c).2.2).toBounded

/-- So does the reference. -/
theorem reference_frame :
    Cert.quiescent_ReferenceIdeal (hReferenceIdeal := Cert.ReferenceIdeal.Gen.facts) :=
  fun m g _ => (θ_run Cert.ReferenceIdeal.defs _ _).mono
    (fun r h => ⟨fun c => (h c).2.2, sem_eq_zero_of_no_sems (by decide) _⟩) (Cert.ReferenceIdeal.Value.run m g)

/-- Every result index is a batch, a token and a channel. -/
theorem index_eq (i : Cert.KernelIdeal.S2x4096x5632.Idx) : ∃ (b : Fin 2) (s : Fin 4096) (o : Fin 5632), i = ix3 b s o :=
  ⟨i 0, i 1, i 2, funext fun a => by
    match a with
    | ⟨0, _⟩ => rfl
    | ⟨1, _⟩ => rfl
    | ⟨2, _⟩ => rfl⟩

/-- The two programs' results, from the same arguments, are the same sums. -/
theorem same_sums :
    Cert.algebraic_KernelIdeal_ReferenceIdeal_pre_csr (hKernelIdeal := Cert.KernelIdeal.Gen.facts)
      (hReferenceIdeal := Cert.ReferenceIdeal.Gen.facts) (hPre_csr := Cert.Pre_csr.Gen.facts) := by
  intro m g m' g' h hargs
  have hcsr : ∀ c, Cert.KernelIdeal.IsCsr m c := fun c =>
    Sparse.csr_of_fn _ _ _ _ _ _ (h c).1 (h c).2.1 (h c).2.2
  refine ⟨fun c => Cert.KernelIdeal.resultY m c (hcsr c), fun c => Cert.KernelIdeal.resultS m c (hcsr c),
    Cert.KernelIdeal.run_result m g hcsr, (θ_run Cert.ReferenceIdeal.defs _ _).mono (fun r hr c => ?_)
      (Cert.ReferenceIdeal.run_named m' g')⟩
  obtain ⟨hy, hs, hrest⟩ := hr c
  obtain ⟨a0, a1, a2, a3, a4, a5⟩ := hargs c
  have hS : ∀ (b : Fin 2) (s : Fin 4096) (o : Fin 5632),
      Cert.ReferenceIdeal.ySparse (launchContents m' c) (Cert.KernelIdeal.xAt m c) (Cert.KernelIdeal.rowsAt m c)
        (Cert.KernelIdeal.colsAt m c) (Cert.KernelIdeal.valsAt m c) (ix3 b s o) = Cert.KernelIdeal.resultS m c (hcsr c) (ix3 b s o) :=
    fun b s o => (Cert.ReferenceIdeal.ySparse_apply _ _ _ _ _ (hcsr c).le (Cert.KernelIdeal.inRange m c (hcsr c)) b s o).trans
      (Cert.KernelIdeal.resultS_apply m c (hcsr c) b s o).symm
  have hD : ∀ (b : Fin 2) (s : Fin 4096) (o : Fin 5632),
      Cert.ReferenceIdeal.yDense (launchContents m' c) (Cert.KernelIdeal.xAt m c) (ix3 b s o)
        = Sparse.denseSum (fun k => Cert.KernelIdeal.xAt m c (ix3 b s k)) (Cert.KernelIdeal.qAt m c) (Cert.KernelIdeal.lutAt m c) o :=
    fun b s o => Cert.ReferenceIdeal.yDense_apply _ _ _ a1 _ a2 b s o
  have e0 : launchContents m' c (Proc.devRef .tc Cert.ReferenceIdeal.main_arg0) = Cert.KernelIdeal.xAt m c := a0
  have e3 : launchContents m' c (Proc.devRef .tc Cert.ReferenceIdeal.main_arg3) = Cert.KernelIdeal.rowsAt m c := a3
  have e4 : launchContents m' c (Proc.devRef .tc Cert.ReferenceIdeal.main_arg4) = Cert.KernelIdeal.colsAt m c := a4
  have e5 : launchContents m' c (Proc.devRef .tc Cert.ReferenceIdeal.main_arg5) = Cert.KernelIdeal.valsAt m c := a5
  rw [e0, e3, e4, e5] at hy hs
  refine ⟨hy.trans (funext fun i => ?_), hs.trans (funext fun i => ?_), hrest⟩
  · obtain ⟨b, s, o, rfl⟩ := index_eq i
    exact (congrArg₂ (· + ·) (hD b s o) ((hS b s o).trans (Cert.KernelIdeal.resultS_apply m c (hcsr c) b s o))).trans
      (Cert.KernelIdeal.resultY_apply m c (hcsr c) b s o).symm
  · obtain ⟨b, s, o, rfl⟩ := index_eq i
    exact hS b s o

theorem claim : Cert.Claim := ⟨Cert.Kernel.Gen.facts, Cert.KernelIdeal.Gen.facts, Cert.ReferenceIdeal.Gen.facts, Cert.Pre_in_range.Gen.facts,
  Cert.Pre_csr.Gen.facts, kernel_frame, ideal_frame, ideal_frame_csr, reference_frame, fun m g _ => reference_frame m g trivial, trivial, same_sums⟩

end Cert.Proof

end
